-- ==== Defs.lean ====
def Pre_Kernel [hPre_tables_in_range : Cert.Pre_tables_in_range.Facts] (m : (ℓ : Loc Cert.Kernel.nD Cert.Kernel.τ Cert.Kernel.sig) → Buf (Elt Bits) ℓ) : Prop :=
  ∀ c : Dev Cert.Kernel.nD,
    (Cert.Pre_tables_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).1 = (fun _ => 1#1)
    ∧ (Cert.Pre_tables_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).2.1 = (fun _ => 1#1)
    ∧ (Cert.Pre_tables_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).2.2 = (fun _ => 1#1)

def Pre_KernelIdeal [hPre_tables_in_range : Cert.Pre_tables_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_tables_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_tables_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_tables_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2 = (fun _ => 1#1)

def Pre_KernelIdeal_scales_finite [hPre_scales_finite : Cert.Pre_scales_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scales_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_scales_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_scales_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_scales_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_finite [hPre_scales_finite : Cert.Pre_scales_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_scales_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_scales_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_scales_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2 = (fun _ => 1#1)

def quiescent_Kernel [hKernel : Cert.Kernel.Facts] [hPre_tables_in_range : Cert.Pre_tables_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_tables_in_range : Cert.Pre_tables_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_scales_finite [hKernelIdeal : Cert.KernelIdeal.Facts] [hPre_scales_finite : Cert.Pre_scales_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_scales_finite [hReferenceIdeal : Cert.ReferenceIdeal.Facts] [hPre_scales_finite : Cert.Pre_scales_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_scales_finite [hKernelIdeal : Cert.KernelIdeal.Facts] [hReferenceIdeal : Cert.ReferenceIdeal.Facts] [hPre_scales_finite : Cert.Pre_scales_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v168) = v0 c
          ∧ r.2.mem ((c.tc : Thread Cert.ReferenceIdeal.nD Cert.ReferenceIdeal.τ).loc Cert.ReferenceIdeal.main_v166) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_tables_in_range : Cert.Pre_tables_in_range.Facts) (hPre_scales_finite : Cert.Pre_scales_finite.Facts),
    quiescent_Kernel (hKernel := hKernel) (hPre_tables_in_range := hPre_tables_in_range)
    ∧ quiescent_KernelIdeal (hKernelIdeal := hKernelIdeal) (hPre_tables_in_range := hPre_tables_in_range)
    ∧ quiescent_KernelIdeal_pre_scales_finite (hKernelIdeal := hKernelIdeal) (hPre_scales_finite := hPre_scales_finite)
    ∧ quiescent_ReferenceIdeal (hReferenceIdeal := hReferenceIdeal)
    ∧ quiescent_ReferenceIdeal_pre_scales_finite (hReferenceIdeal := hReferenceIdeal) (hPre_scales_finite := hPre_scales_finite)
    ∧ preserves_Kernel_KernelIdeal
    ∧ algebraic_KernelIdeal_ReferenceIdeal_pre_scales_finite (hKernelIdeal := hKernelIdeal) (hReferenceIdeal := hReferenceIdeal) (hPre_scales_finite := hPre_scales_finite)
-- ==== Pre_scales_finite.lean ====
abbrev S1x128x4096 : Shape := ⟨3, ![1, 128, 4096]⟩
abbrev S512x14336 : Shape := ⟨2, ![512, 14336]⟩
abbrev S128x14336 : Shape := ⟨2, ![128, 14336]⟩
abbrev S900x4096 : Shape := ⟨2, ![900, 4096]⟩
abbrev S900x14336 : Shape := ⟨2, ![900, 14336]⟩
abbrev S11 : Shape := ⟨1, ![11]⟩
abbrev S7 : Shape := ⟨1, ![7]⟩
abbrev S6 : Shape := ⟨1, ![6]⟩
abbrev S_ : Shape := ⟨0, ![]⟩

class Facts : Prop where
  bcast_S_S6 : S_.BroadcastsInDim S6 (![] : Fin 0 → Fin S6.rank)
  bcast_S_S11 : S_.BroadcastsInDim S11 (![] : Fin 0 → Fin S11.rank)
  bcast_S_S128x14336 : S_.BroadcastsInDim S128x14336 (![] : Fin 0 → Fin S128x14336.rank)

variable [Facts]

def fn_part1 {F : FTy → Type} [FloatOps F] (main_arg2 : IVec S128x14336 8) (main_v4 : IVec S6 1) (main_v9 : IVec S11 1) (main_v15 : IVec S11 1) (main_v16 : IVec S128x14336 8) : IVec S6 1 × IVec S11 1 × IVec S11 1 × IVec S128x14336 1 :=
  let main_v17 : IVec S128x14336 1 := cmpi .uge main_arg2 main_v16
  let main_c_6 : IVec S_ 8 := constantI S_ 8 254#8
  let main_v18 : IVec S128x14336 8 := broadcastInDim S128x14336 ![] bcast_S_S128x14336 main_c_6
  let main_v19 : IVec S128x14336 1 := cmpi .ule main_arg2 main_v18
  let main_v20 : IVec S128x14336 1 := andi main_v17 main_v19
  (main_v4, main_v9, main_v15, main_v20)

def fn {F : FTy → Type} [FloatOps F] (main_arg0 : FVec F S1x128x4096 .bf16) (main_arg1 : IVec S512x14336 32) (main_arg2 : IVec S128x14336 8) (main_arg3 : FVec F S900x4096 .bf16) (main_arg4 : FVec F S900x14336 .bf16) (main_arg5 : IVec S11 32) (main_arg6 : IVec S11 32) (main_arg7 : FVec F S11 .f32) (main_arg8 : IVec S7 32) (main_arg9 : IVec S6 32) : IVec S6 1 × IVec S11 1 × IVec S11 1 × IVec S128x14336 1 :=
  let main_c : IVec S_ 32 := constantI S_ 32 0#32
  let main_v0 : IVec S6 32 := broadcastInDim S6 ![] bcast_S_S6 main_c
  let main_v1 : IVec S6 1 := cmpi .sge main_arg9 main_v0
  let main_c_0 : IVec S_ 32 := constantI S_ 32 11#32
  let main_v2 : IVec S6 32 := broadcastInDim S6 ![] bcast_S_S6 main_c_0
  let main_v3 : IVec S6 1 := cmpi .slt main_arg9 main_v2
  let main_v4 : IVec S6 1 := andi main_v1 main_v3
  let main_c_1 : IVec S_ 32 := constantI S_ 32 0#32
  let main_v5 : IVec S11 32 := broadcastInDim S11 ![] bcast_S_S11 main_c_1
  let main_v6 : IVec S11 1 := cmpi .sge main_arg6 main_v5
  let main_c_2 : IVec S_ 32 := constantI S_ 32 64#32
  let main_v7 : IVec S11 32 := broadcastInDim S11 ![] bcast_S_S11 main_c_2
  let main_v8 : IVec S11 1 := cmpi .sle main_arg6 main_v7
  let main_v9 : IVec S11 1 := andi main_v6 main_v8
  let main_c_3 : IVec S_ 32 := constantI S_ 32 0#32
  let main_v10 : IVec S11 32 := broadcastInDim S11 ![] bcast_S_S11 main_c_3
  let main_v11 : IVec S11 1 := cmpi .sge main_arg5 main_v10
  let main_c_4 : IVec S_ 32 := constantI S_ 32 896#32
  let main_v12 : IVec S11 32 := broadcastInDim S11 ![] bcast_S_S11 main_c_4
  let main_v13 : IVec S11 32 := subi main_v12 main_arg6
  let main_v14 : IVec S11 1 := cmpi .sle main_arg5 main_v13
  let main_v15 : IVec S11 1 := andi main_v11 main_v14
  let main_c_5 : IVec S_ 8 := constantI S_ 8 1#8
  let main_v16 : IVec S128x14336 8 := broadcastInDim S128x14336 ![] bcast_S_S128x14336 main_c_5
  fn_part1 (F := F) main_arg2 main_v4 main_v9 main_v15 main_v16
-- ==== Pre_tables_in_range.lean ====
abbrev S1x128x4096 : Shape := ⟨3, ![1, 128, 4096]⟩
abbrev S512x14336 : Shape := ⟨2, ![512, 14336]⟩
abbrev S128x14336 : Shape := ⟨2, ![128, 14336]⟩
abbrev S900x4096 : Shape := ⟨2, ![900, 4096]⟩
abbrev S900x14336 : Shape := ⟨2, ![900, 14336]⟩
abbrev S11 : Shape := ⟨1, ![11]⟩
abbrev S7 : Shape := ⟨1, ![7]⟩
abbrev S6 : Shape := ⟨1, ![6]⟩
abbrev S_ : Shape := ⟨0, ![]⟩

class Facts : Prop where
  bcast_S_S6 : S_.BroadcastsInDim S6 (![] : Fin 0 → Fin S6.rank)
  bcast_S_S11 : S_.BroadcastsInDim S11 (![] : Fin 0 → Fin S11.rank)

variable [Facts]

def fn {F : FTy → Type} [FloatOps F] (main_arg0 : FVec F S1x128x4096 .bf16) (main_arg1 : IVec S512x14336 32) (main_arg2 : IVec S128x14336 8) (main_arg3 : FVec F S900x4096 .bf16) (main_arg4 : FVec F S900x14336 .bf16) (main_arg5 : IVec S11 32) (main_arg6 : IVec S11 32) (main_arg7 : FVec F S11 .f32) (main_arg8 : IVec S7 32) (main_arg9 : IVec S6 32) : IVec S6 1 × IVec S11 1 × IVec S11 1 :=
  let main_c : IVec S_ 32 := constantI S_ 32 0#32
  let main_v0 : IVec S6 32 := broadcastInDim S6 ![] bcast_S_S6 main_c
  let main_v1 : IVec S6 1 := cmpi .sge main_arg9 main_v0
  let main_c_0 : IVec S_ 32 := constantI S_ 32 11#32
  let main_v2 : IVec S6 32 := broadcastInDim S6 ![] bcast_S_S6 main_c_0
  let main_v3 : IVec S6 1 := cmpi .slt main_arg9 main_v2
  let main_v4 : IVec S6 1 := andi main_v1 main_v3
  let main_c_1 : IVec S_ 32 := constantI S_ 32 0#32
  let main_v5 : IVec S11 32 := broadcastInDim S11 ![] bcast_S_S11 main_c_1
  let main_v6 : IVec S11 1 := cmpi .sge main_arg6 main_v5
  let main_c_2 : IVec S_ 32 := constantI S_ 32 64#32
  let main_v7 : IVec S11 32 := broadcastInDim S11 ![] bcast_S_S11 main_c_2
  let main_v8 : IVec S11 1 := cmpi .sle main_arg6 main_v7
  let main_v9 : IVec S11 1 := andi main_v6 main_v8
  let main_c_3 : IVec S_ 32 := constantI S_ 32 0#32
  let main_v10 : IVec S11 32 := broadcastInDim S11 ![] bcast_S_S11 main_c_3
  let main_v11 : IVec S11 1 := cmpi .sge main_arg5 main_v10
  let main_c_4 : IVec S_ 32 := constantI S_ 32 896#32
  let main_v12 : IVec S11 32 := broadcastInDim S11 ![] bcast_S_S11 main_c_4
  let main_v13 : IVec S11 32 := subi main_v12 main_arg6
  let main_v14 : IVec S11 1 := cmpi .sle main_arg5 main_v13
  let main_v15 : IVec S11 1 := andi main_v11 main_v14
  (main_v4, main_v9, main_v15)
-- ==== Kernel.lean ====
abbrev S1x128x4096 : Shape := ⟨3, ![1, 128, 4096]⟩
abbrev S512x14336 : Shape := ⟨2, ![512, 14336]⟩
abbrev S128x14336 : Shape := ⟨2, ![128, 14336]⟩
abbrev S900x4096 : Shape := ⟨2, ![900, 4096]⟩
abbrev S900x14336 : Shape := ⟨2, ![900, 14336]⟩
abbrev S11 : Shape := ⟨1, ![11]⟩
abbrev S7 : Shape := ⟨1, ![7]⟩
abbrev S6 : Shape := ⟨1, ![6]⟩
abbrev S128x4096 : Shape := ⟨2, ![128, 4096]⟩
abbrev S128x64 : Shape := ⟨2, ![128, 64]⟩
abbrev S512x512 : Shape := ⟨2, ![512, 512]⟩
abbrev S128x512 : Shape := ⟨2, ![128, 512]⟩
abbrev S512x4096 : Shape := ⟨2, ![512, 4096]⟩
abbrev S2x512x512 : Shape := ⟨3, ![2, 512, 512]⟩
abbrev S2x6 : Shape := ⟨2, ![2, 6]⟩
abbrev S1 : Shape := ⟨1, ![1]⟩
abbrev S_ : Shape := ⟨0, ![]⟩
abbrev S1x1 : Shape := ⟨2, ![1, 1]⟩
abbrev S128x128 : Shape := ⟨2, ![128, 128]⟩
abbrev S512x8x512 : Shape := ⟨3, ![512, 8, 512]⟩
abbrev S512x1x512 : Shape := ⟨3, ![512, 1, 512]⟩
abbrev S4096x512 : Shape := ⟨2, ![4096, 512]⟩
abbrev S128x1x512 : Shape := ⟨3, ![128, 1, 512]⟩
abbrev S128x16x512 : Shape := ⟨3, ![128, 16, 512]⟩
abbrev S2048x512 : Shape := ⟨2, ![2048, 512]⟩
abbrev S1x512x512 : Shape := ⟨3, ![1, 512, 512]⟩

abbrev nBuf : Space → Nat
  | .hbm => 9
  | .vmem => 11
  | .smem => 5
  | _ => 0

abbrev bufTy : (tb : Table) → Fin (tcTables nBuf tb) → BufTy
  | .hbm, ⟨0, _⟩ => ⟨S1x128x4096, .bf16⟩
  | .hbm, ⟨1, _⟩ => ⟨S512x14336, .i32⟩
  | .hbm, ⟨2, _⟩ => ⟨S128x14336, .i8⟩
  | .hbm, ⟨3, _⟩ => ⟨S900x4096, .bf16⟩
  | .hbm, ⟨4, _⟩ => ⟨S900x14336, .bf16⟩
  | .hbm, ⟨5, _⟩ => ⟨S11, .f32⟩
  | .hbm, ⟨6, _⟩ => ⟨S128x4096, .bf16⟩
  | .hbm, ⟨7, _⟩ => ⟨S128x14336, .bf16⟩
  | .hbm, ⟨8, _⟩ => ⟨S128x64, .bf16⟩
  | .local _ .vmem, ⟨0, _⟩ => ⟨S128x4096, .bf16⟩
  | .local _ .vmem, ⟨1, _⟩ => ⟨S512x512, .i32⟩
  | .local _ .vmem, ⟨2, _⟩ => ⟨S512x512, .i32⟩
  | .local _ .vmem, ⟨3, _⟩ => ⟨S128x512, .i8⟩
  | .local _ .vmem, ⟨4, _⟩ => ⟨S128x512, .i8⟩
  | .local _ .vmem, ⟨5, _⟩ => ⟨S128x512, .bf16⟩
  | .local _ .vmem, ⟨6, _⟩ => ⟨S128x512, .bf16⟩
  | .local _ .vmem, ⟨7, _⟩ => ⟨S128x64, .bf16⟩
  | .local _ .vmem, ⟨8, _⟩ => ⟨S512x4096, .bf16⟩
  | .local _ .vmem, ⟨9, _⟩ => ⟨S2x512x512, .bf16⟩
  | .local _ .vmem, ⟨10, _⟩ => ⟨S128x512, .bf16⟩
  | .local _ .smem, ⟨0, _⟩ => ⟨S11, .i32⟩
  | .local _ .smem, ⟨1, _⟩ => ⟨S11, .i32⟩
  | .local _ .smem, ⟨2, _⟩ => ⟨S7, .i32⟩
  | .local _ .smem, ⟨3, _⟩ => ⟨S6, .i32⟩
  | .local _ .smem, ⟨4, _⟩ => ⟨S11, .f32⟩
  | _, _ => ⟨S1x128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨4, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg7 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_arg5 : Ref sig .tc := ⟨.smem, 0, rfl⟩
abbrev main_arg6 : Ref sig .tc := ⟨.smem, 1, rfl⟩
abbrev main_arg8 : Ref sig .tc := ⟨.smem, 2, rfl⟩
abbrev main_arg9 : Ref sig .tc := ⟨.smem, 3, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_stg0_0 : Ref sig .tc := ⟨.smem, 4, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![28], ![false]⟩

abbrev pre0 : Pipeline.Prefetch sig := ⟨4, ![main_arg5.idx, main_arg6.idx, main_arg8.idx, main_arg9.idx], fun | 0 => main_arg5.names | 1 => main_arg6.names | 2 => main_arg8.names | 3 => main_arg9.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (v0 : BitVec 32) : Fin 1 → Nat :=
  let v3 : Index := Scalar.indexCast v0
  ![v3.toNat]

def k0_off2 (v51 : BitVec 32) : Fin 1 → Nat :=
  let v54 : Index := Scalar.indexCast v51
  ![v54.toNat]

def k0_off3 (v102 : BitVec 32) : Fin 1 → Nat :=
  let v105 : Index := Scalar.indexCast v102
  ![v105.toNat]

def k0_off4 (v153 : BitVec 32) : Fin 1 → Nat :=
  let v156 : Index := Scalar.indexCast v153
  ![v156.toNat]

def k0_off5 (v204 : BitVec 32) : Fin 1 → Nat :=
  let v207 : Index := Scalar.indexCast v204
  ![v207.toNat]

def k0_off6 (v255 : BitVec 32) : Fin 1 → Nat :=
  let v258 : Index := Scalar.indexCast v255
  ![v258.toNat]

def k0_cond1 (i : grid0.Coords) : BitVec 1 :=
  let arg0 : BitVec 32 := BitVec.ofNat 32 (i 0).val
  let c0_i32_124 : BitVec 32 := 0#32
  let v305 : BitVec 1 := Scalar.cmpi .eq arg0 c0_i32_124
  let v306 : BitVec 32 := Scalar.extui v305
  let c0_i32_126 : BitVec 32 := 0#32
  let v307 : BitVec 1 := Scalar.cmpi .ne v306 c0_i32_126
  v307

def k0_mult1 (v1 : BitVec 32) (v2 : BitVec 32) (v4 : BitVec 32) (v6 : BitVec 32) : BitVec 32 :=
  let v26 : BitVec 1 := Scalar.cmpi .sgt v2 v1
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let c8_i32_206 : BitVec 32 := 8#32
  let v450 : BitVec 32 := Scalar.muli v47 c8_i32_206
  v450
def k0_cond2 (v1 : BitVec 32) (v2 : BitVec 32) (v4 : BitVec 32) (v6 : BitVec 32) : BitVec 1 :=
  let v26 : BitVec 1 := Scalar.cmpi .sgt v2 v1
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let c0_i32_182 : BitVec 32 := 0#32
  let v414 : BitVec 1 := Scalar.cmpi .sgt v47 c0_i32_182
  let v415 : BitVec 32 := Scalar.extui v414
  let c0_i32_183 : BitVec 32 := 0#32
  let v416 : BitVec 1 := Scalar.cmpi .ne v415 c0_i32_183
  v416

def k0_mult2 (v4 : BitVec 32) : BitVec 32 :=
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_207 : BitVec 32 := 8#32
  let v452 : BitVec 32 := Scalar.muli v23 c8_i32_207
  v452
def k0_mult3 : BitVec 32 :=
  let c0_i32_125 : BitVec 32 := 0#32
  let c8_i32_208 : BitVec 32 := 8#32
  let v454 : BitVec 32 := Scalar.muli c0_i32_125 c8_i32_208
  v454
def k0_off7 (v1 : BitVec 32) (v2 : BitVec 32) (v4 : BitVec 32) (v6 : BitVec 32) : (Fin 2 → Nat) × (Fin 2 → Nat) :=
  let c0_i32_125 : BitVec 32 := 0#32
  let c8_i32_208 : BitVec 32 := 8#32
  let v454 : BitVec 32 := Scalar.muli c0_i32_125 c8_i32_208
  let v455 : BitVec 32 := v454
  let c0_i32_210 : BitVec 32 := 0#32
  let v26 : BitVec 1 := Scalar.cmpi .sgt v2 v1
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let c8_i32_206 : BitVec 32 := 8#32
  let v450 : BitVec 32 := Scalar.muli v47 c8_i32_206
  let v451 : BitVec 32 := v450
  ⟨![v455.toNat, 0], ![v451.toNat, 4096]⟩
def k0_off8 (v1 : BitVec 32) (v2 : BitVec 32) (v4 : BitVec 32) (v6 : BitVec 32) : (Fin 2 → Nat) × (Fin 2 → Nat) :=
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_207 : BitVec 32 := 8#32
  let v452 : BitVec 32 := Scalar.muli v23 c8_i32_207
  let v453 : BitVec 32 := v452
  let c0_i32_211 : BitVec 32 := 0#32
  let v26 : BitVec 1 := Scalar.cmpi .sgt v2 v1
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let c8_i32_206 : BitVec 32 := 8#32
  let v450 : BitVec 32 := Scalar.muli v47 c8_i32_206
  let v451 : BitVec 32 := v450
  ⟨![v453.toNat, 0], ![v451.toNat, 4096]⟩
def k0_mult4 (v52 : BitVec 32) (v53 : BitVec 32) (v55 : BitVec 32) (v57 : BitVec 32) : BitVec 32 :=
  let v77 : BitVec 1 := Scalar.cmpi .sgt v53 v52
  let c0_i32_22 : BitVec 32 := 0#32
  let v59 : BitVec 1 := Scalar.cmpi .sgt v55 c0_i32_22
  let v60 : BitVec 32 := Scalar.extui v59
  let c0_i32_23 : BitVec 32 := 0#32
  let v61 : BitVec 1 := Scalar.cmpi .slt v55 c0_i32_23
  let v62 : BitVec 32 := Scalar.extui v61
  let v63 : BitVec 32 := Scalar.subi v60 v62
  let c8_i32_21 : BitVec 32 := 8#32
  let c0_i32_24 : BitVec 32 := 0#32
  let v64 : BitVec 1 := Scalar.cmpi .sgt c8_i32_21 c0_i32_24
  let v65 : BitVec 32 := Scalar.extui v64
  let c0_i32_25 : BitVec 32 := 0#32
  let v66 : BitVec 1 := Scalar.cmpi .slt c8_i32_21 c0_i32_25
  let v67 : BitVec 32 := Scalar.extui v66
  let v68 : BitVec 32 := Scalar.subi v65 v67
  let v69 : BitVec 1 := Scalar.cmpi .ne v63 v68
  let v70 : BitVec 32 := Scalar.remsi v55 c8_i32_21
  let c0_i32_26 : BitVec 32 := 0#32
  let v71 : BitVec 1 := Scalar.cmpi .ne v70 c0_i32_26
  let v72 : BitVec 1 := Scalar.andi v69 v71
  let v58 : BitVec 32 := Scalar.divsi v55 c8_i32_21
  let c1_i32_27 : BitVec 32 := 1#32
  let v73 : BitVec 32 := Scalar.subi v58 c1_i32_27
  let v74 : BitVec 32 := Scalar.select v72 v73 v58
  let c8_i32_28 : BitVec 32 := 8#32
  let v75 : BitVec 32 := Scalar.muli v74 c8_i32_28
  let v76 : BitVec 32 := Scalar.subi v55 v75
  let v78 : BitVec 32 := Scalar.addi v76 v57
  let c8_i32_29 : BitVec 32 := 8#32
  let v79 : BitVec 32 := Scalar.addi v78 c8_i32_29
  let c1_i32_30 : BitVec 32 := 1#32
  let v80 : BitVec 32 := Scalar.subi v79 c1_i32_30
  let c0_i32_32 : BitVec 32 := 0#32
  let v82 : BitVec 1 := Scalar.cmpi .sgt v80 c0_i32_32
  let v83 : BitVec 32 := Scalar.extui v82
  let c0_i32_33 : BitVec 32 := 0#32
  let v84 : BitVec 1 := Scalar.cmpi .slt v80 c0_i32_33
  let v85 : BitVec 32 := Scalar.extui v84
  let v86 : BitVec 32 := Scalar.subi v83 v85
  let c8_i32_31 : BitVec 32 := 8#32
  let c0_i32_34 : BitVec 32 := 0#32
  let v87 : BitVec 1 := Scalar.cmpi .sgt c8_i32_31 c0_i32_34
  let v88 : BitVec 32 := Scalar.extui v87
  let c0_i32_35 : BitVec 32 := 0#32
  let v89 : BitVec 1 := Scalar.cmpi .slt c8_i32_31 c0_i32_35
  let v90 : BitVec 32 := Scalar.extui v89
  let v91 : BitVec 32 := Scalar.subi v88 v90
  let v92 : BitVec 1 := Scalar.cmpi .ne v86 v91
  let v93 : BitVec 32 := Scalar.remsi v80 c8_i32_31
  let c0_i32_36 : BitVec 32 := 0#32
  let v94 : BitVec 1 := Scalar.cmpi .ne v93 c0_i32_36
  let v95 : BitVec 1 := Scalar.andi v92 v94
  let v81 : BitVec 32 := Scalar.divsi v80 c8_i32_31
  let c1_i32_37 : BitVec 32 := 1#32
  let v96 : BitVec 32 := Scalar.subi v81 c1_i32_37
  let v97 : BitVec 32 := Scalar.select v95 v96 v81
  let c0_i32_38 : BitVec 32 := 0#32
  let v98 : BitVec 32 := Scalar.select v77 v97 c0_i32_38
  let c8_i32_206 : BitVec 32 := 8#32
  let v450 : BitVec 32 := Scalar.muli v98 c8_i32_206
  v450
def k0_cond3 (v52 : BitVec 32) (v53 : BitVec 32) (v55 : BitVec 32) (v57 : BitVec 32) : BitVec 1 :=
  let v77 : BitVec 1 := Scalar.cmpi .sgt v53 v52
  let c0_i32_22 : BitVec 32 := 0#32
  let v59 : BitVec 1 := Scalar.cmpi .sgt v55 c0_i32_22
  let v60 : BitVec 32 := Scalar.extui v59
  let c0_i32_23 : BitVec 32 := 0#32
  let v61 : BitVec 1 := Scalar.cmpi .slt v55 c0_i32_23
  let v62 : BitVec 32 := Scalar.extui v61
  let v63 : BitVec 32 := Scalar.subi v60 v62
  let c8_i32_21 : BitVec 32 := 8#32
  let c0_i32_24 : BitVec 32 := 0#32
  let v64 : BitVec 1 := Scalar.cmpi .sgt c8_i32_21 c0_i32_24
  let v65 : BitVec 32 := Scalar.extui v64
  let c0_i32_25 : BitVec 32 := 0#32
  let v66 : BitVec 1 := Scalar.cmpi .slt c8_i32_21 c0_i32_25
  let v67 : BitVec 32 := Scalar.extui v66
  let v68 : BitVec 32 := Scalar.subi v65 v67
  let v69 : BitVec 1 := Scalar.cmpi .ne v63 v68
  let v70 : BitVec 32 := Scalar.remsi v55 c8_i32_21
  let c0_i32_26 : BitVec 32 := 0#32
  let v71 : BitVec 1 := Scalar.cmpi .ne v70 c0_i32_26
  let v72 : BitVec 1 := Scalar.andi v69 v71
  let v58 : BitVec 32 := Scalar.divsi v55 c8_i32_21
  let c1_i32_27 : BitVec 32 := 1#32
  let v73 : BitVec 32 := Scalar.subi v58 c1_i32_27
  let v74 : BitVec 32 := Scalar.select v72 v73 v58
  let c8_i32_28 : BitVec 32 := 8#32
  let v75 : BitVec 32 := Scalar.muli v74 c8_i32_28
  let v76 : BitVec 32 := Scalar.subi v55 v75
  let v78 : BitVec 32 := Scalar.addi v76 v57
  let c8_i32_29 : BitVec 32 := 8#32
  let v79 : BitVec 32 := Scalar.addi v78 c8_i32_29
  let c1_i32_30 : BitVec 32 := 1#32
  let v80 : BitVec 32 := Scalar.subi v79 c1_i32_30
  let c0_i32_32 : BitVec 32 := 0#32
  let v82 : BitVec 1 := Scalar.cmpi .sgt v80 c0_i32_32
  let v83 : BitVec 32 := Scalar.extui v82
  let c0_i32_33 : BitVec 32 := 0#32
  let v84 : BitVec 1 := Scalar.cmpi .slt v80 c0_i32_33
  let v85 : BitVec 32 := Scalar.extui v84
  let v86 : BitVec 32 := Scalar.subi v83 v85
  let c8_i32_31 : BitVec 32 := 8#32
  let c0_i32_34 : BitVec 32 := 0#32
  let v87 : BitVec 1 := Scalar.cmpi .sgt c8_i32_31 c0_i32_34
  let v88 : BitVec 32 := Scalar.extui v87
  let c0_i32_35 : BitVec 32 := 0#32
  let v89 : BitVec 1 := Scalar.cmpi .slt c8_i32_31 c0_i32_35
  let v90 : BitVec 32 := Scalar.extui v89
  let v91 : BitVec 32 := Scalar.subi v88 v90
  let v92 : BitVec 1 := Scalar.cmpi .ne v86 v91
  let v93 : BitVec 32 := Scalar.remsi v80 c8_i32_31
  let c0_i32_36 : BitVec 32 := 0#32
  let v94 : BitVec 1 := Scalar.cmpi .ne v93 c0_i32_36
  let v95 : BitVec 1 := Scalar.andi v92 v94
  let v81 : BitVec 32 := Scalar.divsi v80 c8_i32_31
  let c1_i32_37 : BitVec 32 := 1#32
  let v96 : BitVec 32 := Scalar.subi v81 c1_i32_37
  let v97 : BitVec 32 := Scalar.select v95 v96 v81
  let c0_i32_38 : BitVec 32 := 0#32
  let v98 : BitVec 32 := Scalar.select v77 v97 c0_i32_38
  let c0_i32_184 : BitVec 32 := 0#32
  let v417 : BitVec 1 := Scalar.cmpi .sgt v98 c0_i32_184
  let v418 : BitVec 32 := Scalar.extui v417
  let c0_i32_185 : BitVec 32 := 0#32
  let v419 : BitVec 1 := Scalar.cmpi .ne v418 c0_i32_185
  v419

def k0_mult5 (v55 : BitVec 32) : BitVec 32 :=
  let c0_i32_22 : BitVec 32 := 0#32
  let v59 : BitVec 1 := Scalar.cmpi .sgt v55 c0_i32_22
  let v60 : BitVec 32 := Scalar.extui v59
  let c0_i32_23 : BitVec 32 := 0#32
  let v61 : BitVec 1 := Scalar.cmpi .slt v55 c0_i32_23
  let v62 : BitVec 32 := Scalar.extui v61
  let v63 : BitVec 32 := Scalar.subi v60 v62
  let c8_i32_21 : BitVec 32 := 8#32
  let c0_i32_24 : BitVec 32 := 0#32
  let v64 : BitVec 1 := Scalar.cmpi .sgt c8_i32_21 c0_i32_24
  let v65 : BitVec 32 := Scalar.extui v64
  let c0_i32_25 : BitVec 32 := 0#32
  let v66 : BitVec 1 := Scalar.cmpi .slt c8_i32_21 c0_i32_25
  let v67 : BitVec 32 := Scalar.extui v66
  let v68 : BitVec 32 := Scalar.subi v65 v67
  let v69 : BitVec 1 := Scalar.cmpi .ne v63 v68
  let v70 : BitVec 32 := Scalar.remsi v55 c8_i32_21
  let c0_i32_26 : BitVec 32 := 0#32
  let v71 : BitVec 1 := Scalar.cmpi .ne v70 c0_i32_26
  let v72 : BitVec 1 := Scalar.andi v69 v71
  let v58 : BitVec 32 := Scalar.divsi v55 c8_i32_21
  let c1_i32_27 : BitVec 32 := 1#32
  let v73 : BitVec 32 := Scalar.subi v58 c1_i32_27
  let v74 : BitVec 32 := Scalar.select v72 v73 v58
  let c8_i32_207 : BitVec 32 := 8#32
  let v452 : BitVec 32 := Scalar.muli v74 c8_i32_207
  v452
def k0_mult6 (v1 : BitVec 32) (v2 : BitVec 32) (v4 : BitVec 32) (v6 : BitVec 32) : BitVec 32 :=
  let c0_i32_18 : BitVec 32 := 0#32
  let v26 : BitVec 1 := Scalar.cmpi .sgt v2 v1
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let v50 : BitVec 32 := Scalar.addi c0_i32_18 v47
  let c8_i32_208 : BitVec 32 := 8#32
  let v454 : BitVec 32 := Scalar.muli v50 c8_i32_208
  v454
def k0_off9 (v1 : BitVec 32) (v2 : BitVec 32) (v4 : BitVec 32) (v6 : BitVec 32) (v52 : BitVec 32) (v53 : BitVec 32) (v55 : BitVec 32) (v57 : BitVec 32) : (Fin 2 → Nat) × (Fin 2 → Nat) :=
  let c0_i32_18 : BitVec 32 := 0#32
  let v26 : BitVec 1 := Scalar.cmpi .sgt v2 v1
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let v50 : BitVec 32 := Scalar.addi c0_i32_18 v47
  let c8_i32_208 : BitVec 32 := 8#32
  let v454 : BitVec 32 := Scalar.muli v50 c8_i32_208
  let v455 : BitVec 32 := v454
  let c0_i32_210 : BitVec 32 := 0#32
  let v77 : BitVec 1 := Scalar.cmpi .sgt v53 v52
  let c0_i32_22 : BitVec 32 := 0#32
  let v59 : BitVec 1 := Scalar.cmpi .sgt v55 c0_i32_22
  let v60 : BitVec 32 := Scalar.extui v59
  let c0_i32_23 : BitVec 32 := 0#32
  let v61 : BitVec 1 := Scalar.cmpi .slt v55 c0_i32_23
  let v62 : BitVec 32 := Scalar.extui v61
  let v63 : BitVec 32 := Scalar.subi v60 v62
  let c8_i32_21 : BitVec 32 := 8#32
  let c0_i32_24 : BitVec 32 := 0#32
  let v64 : BitVec 1 := Scalar.cmpi .sgt c8_i32_21 c0_i32_24
  let v65 : BitVec 32 := Scalar.extui v64
  let c0_i32_25 : BitVec 32 := 0#32
  let v66 : BitVec 1 := Scalar.cmpi .slt c8_i32_21 c0_i32_25
  let v67 : BitVec 32 := Scalar.extui v66
  let v68 : BitVec 32 := Scalar.subi v65 v67
  let v69 : BitVec 1 := Scalar.cmpi .ne v63 v68
  let v70 : BitVec 32 := Scalar.remsi v55 c8_i32_21
  let c0_i32_26 : BitVec 32 := 0#32
  let v71 : BitVec 1 := Scalar.cmpi .ne v70 c0_i32_26
  let v72 : BitVec 1 := Scalar.andi v69 v71
  let v58 : BitVec 32 := Scalar.divsi v55 c8_i32_21
  let c1_i32_27 : BitVec 32 := 1#32
  let v73 : BitVec 32 := Scalar.subi v58 c1_i32_27
  let v74 : BitVec 32 := Scalar.select v72 v73 v58
  let c8_i32_28 : BitVec 32 := 8#32
  let v75 : BitVec 32 := Scalar.muli v74 c8_i32_28
  let v76 : BitVec 32 := Scalar.subi v55 v75
  let v78 : BitVec 32 := Scalar.addi v76 v57
  let c8_i32_29 : BitVec 32 := 8#32
  let v79 : BitVec 32 := Scalar.addi v78 c8_i32_29
  let c1_i32_30 : BitVec 32 := 1#32
  let v80 : BitVec 32 := Scalar.subi v79 c1_i32_30
  let c0_i32_32 : BitVec 32 := 0#32
  let v82 : BitVec 1 := Scalar.cmpi .sgt v80 c0_i32_32
  let v83 : BitVec 32 := Scalar.extui v82
  let c0_i32_33 : BitVec 32 := 0#32
  let v84 : BitVec 1 := Scalar.cmpi .slt v80 c0_i32_33
  let v85 : BitVec 32 := Scalar.extui v84
  let v86 : BitVec 32 := Scalar.subi v83 v85
  let c8_i32_31 : BitVec 32 := 8#32
  let c0_i32_34 : BitVec 32 := 0#32
  let v87 : BitVec 1 := Scalar.cmpi .sgt c8_i32_31 c0_i32_34
  let v88 : BitVec 32 := Scalar.extui v87
  let c0_i32_35 : BitVec 32 := 0#32
  let v89 : BitVec 1 := Scalar.cmpi .slt c8_i32_31 c0_i32_35
  let v90 : BitVec 32 := Scalar.extui v89
  let v91 : BitVec 32 := Scalar.subi v88 v90
  let v92 : BitVec 1 := Scalar.cmpi .ne v86 v91
  let v93 : BitVec 32 := Scalar.remsi v80 c8_i32_31
  let c0_i32_36 : BitVec 32 := 0#32
  let v94 : BitVec 1 := Scalar.cmpi .ne v93 c0_i32_36
  let v95 : BitVec 1 := Scalar.andi v92 v94
  let v81 : BitVec 32 := Scalar.divsi v80 c8_i32_31
  let c1_i32_37 : BitVec 32 := 1#32
  let v96 : BitVec 32 := Scalar.subi v81 c1_i32_37
  let v97 : BitVec 32 := Scalar.select v95 v96 v81
  let c0_i32_38 : BitVec 32 := 0#32
  let v98 : BitVec 32 := Scalar.select v77 v97 c0_i32_38
  let c8_i32_206 : BitVec 32 := 8#32
  let v450 : BitVec 32 := Scalar.muli v98 c8_i32_206
  let v451 : BitVec 32 := v450
  ⟨![v455.toNat, 0], ![v451.toNat, 4096]⟩
def k0_off10 (v52 : BitVec 32) (v53 : BitVec 32) (v55 : BitVec 32) (v57 : BitVec 32) : (Fin 2 → Nat) × (Fin 2 → Nat) :=
  let c0_i32_22 : BitVec 32 := 0#32
  let v59 : BitVec 1 := Scalar.cmpi .sgt v55 c0_i32_22
  let v60 : BitVec 32 := Scalar.extui v59
  let c0_i32_23 : BitVec 32 := 0#32
  let v61 : BitVec 1 := Scalar.cmpi .slt v55 c0_i32_23
  let v62 : BitVec 32 := Scalar.extui v61
  let v63 : BitVec 32 := Scalar.subi v60 v62
  let c8_i32_21 : BitVec 32 := 8#32
  let c0_i32_24 : BitVec 32 := 0#32
  let v64 : BitVec 1 := Scalar.cmpi .sgt c8_i32_21 c0_i32_24
  let v65 : BitVec 32 := Scalar.extui v64
  let c0_i32_25 : BitVec 32 := 0#32
  let v66 : BitVec 1 := Scalar.cmpi .slt c8_i32_21 c0_i32_25
  let v67 : BitVec 32 := Scalar.extui v66
  let v68 : BitVec 32 := Scalar.subi v65 v67
  let v69 : BitVec 1 := Scalar.cmpi .ne v63 v68
  let v70 : BitVec 32 := Scalar.remsi v55 c8_i32_21
  let c0_i32_26 : BitVec 32 := 0#32
  let v71 : BitVec 1 := Scalar.cmpi .ne v70 c0_i32_26
  let v72 : BitVec 1 := Scalar.andi v69 v71
  let v58 : BitVec 32 := Scalar.divsi v55 c8_i32_21
  let c1_i32_27 : BitVec 32 := 1#32
  let v73 : BitVec 32 := Scalar.subi v58 c1_i32_27
  let v74 : BitVec 32 := Scalar.select v72 v73 v58
  let c8_i32_207 : BitVec 32 := 8#32
  let v452 : BitVec 32 := Scalar.muli v74 c8_i32_207
  let v453 : BitVec 32 := v452
  let c0_i32_211 : BitVec 32 := 0#32
  let v77 : BitVec 1 := Scalar.cmpi .sgt v53 v52
  let c8_i32_28 : BitVec 32 := 8#32
  let v75 : BitVec 32 := Scalar.muli v74 c8_i32_28
  let v76 : BitVec 32 := Scalar.subi v55 v75
  let v78 : BitVec 32 := Scalar.addi v76 v57
  let c8_i32_29 : BitVec 32 := 8#32
  let v79 : BitVec 32 := Scalar.addi v78 c8_i32_29
  let c1_i32_30 : BitVec 32 := 1#32
  let v80 : BitVec 32 := Scalar.subi v79 c1_i32_30
  let c0_i32_32 : BitVec 32 := 0#32
  let v82 : BitVec 1 := Scalar.cmpi .sgt v80 c0_i32_32
  let v83 : BitVec 32 := Scalar.extui v82
  let c0_i32_33 : BitVec 32 := 0#32
  let v84 : BitVec 1 := Scalar.cmpi .slt v80 c0_i32_33
  let v85 : BitVec 32 := Scalar.extui v84
  let v86 : BitVec 32 := Scalar.subi v83 v85
  let c8_i32_31 : BitVec 32 := 8#32
  let c0_i32_34 : BitVec 32 := 0#32
  let v87 : BitVec 1 := Scalar.cmpi .sgt c8_i32_31 c0_i32_34
  let v88 : BitVec 32 := Scalar.extui v87
  let c0_i32_35 : BitVec 32 := 0#32
  let v89 : BitVec 1 := Scalar.cmpi .slt c8_i32_31 c0_i32_35
  let v90 : BitVec 32 := Scalar.extui v89
  let v91 : BitVec 32 := Scalar.subi v88 v90
  let v92 : BitVec 1 := Scalar.cmpi .ne v86 v91
  let v93 : BitVec 32 := Scalar.remsi v80 c8_i32_31
  let c0_i32_36 : BitVec 32 := 0#32
  let v94 : BitVec 1 := Scalar.cmpi .ne v93 c0_i32_36
  let v95 : BitVec 1 := Scalar.andi v92 v94
  let v81 : BitVec 32 := Scalar.divsi v80 c8_i32_31
  let c1_i32_37 : BitVec 32 := 1#32
  let v96 : BitVec 32 := Scalar.subi v81 c1_i32_37
  let v97 : BitVec 32 := Scalar.select v95 v96 v81
  let c0_i32_38 : BitVec 32 := 0#32
  let v98 : BitVec 32 := Scalar.select v77 v97 c0_i32_38
  let c8_i32_206 : BitVec 32 := 8#32
  let v450 : BitVec 32 := Scalar.muli v98 c8_i32_206
  let v451 : BitVec 32 := v450
  ⟨![v453.toNat, 0], ![v451.toNat, 4096]⟩
def k0_mult7 (v103 : BitVec 32) (v104 : BitVec 32) (v106 : BitVec 32) (v108 : BitVec 32) : BitVec 32 :=
  let v128 : BitVec 1 := Scalar.cmpi .sgt v104 v103
  let c0_i32_43 : BitVec 32 := 0#32
  let v110 : BitVec 1 := Scalar.cmpi .sgt v106 c0_i32_43
  let v111 : BitVec 32 := Scalar.extui v110
  let c0_i32_44 : BitVec 32 := 0#32
  let v112 : BitVec 1 := Scalar.cmpi .slt v106 c0_i32_44
  let v113 : BitVec 32 := Scalar.extui v112
  let v114 : BitVec 32 := Scalar.subi v111 v113
  let c8_i32_42 : BitVec 32 := 8#32
  let c0_i32_45 : BitVec 32 := 0#32
  let v115 : BitVec 1 := Scalar.cmpi .sgt c8_i32_42 c0_i32_45
  let v116 : BitVec 32 := Scalar.extui v115
  let c0_i32_46 : BitVec 32 := 0#32
  let v117 : BitVec 1 := Scalar.cmpi .slt c8_i32_42 c0_i32_46
  let v118 : BitVec 32 := Scalar.extui v117
  let v119 : BitVec 32 := Scalar.subi v116 v118
  let v120 : BitVec 1 := Scalar.cmpi .ne v114 v119
  let v121 : BitVec 32 := Scalar.remsi v106 c8_i32_42
  let c0_i32_47 : BitVec 32 := 0#32
  let v122 : BitVec 1 := Scalar.cmpi .ne v121 c0_i32_47
  let v123 : BitVec 1 := Scalar.andi v120 v122
  let v109 : BitVec 32 := Scalar.divsi v106 c8_i32_42
  let c1_i32_48 : BitVec 32 := 1#32
  let v124 : BitVec 32 := Scalar.subi v109 c1_i32_48
  let v125 : BitVec 32 := Scalar.select v123 v124 v109
  let c8_i32_49 : BitVec 32 := 8#32
  let v126 : BitVec 32 := Scalar.muli v125 c8_i32_49
  let v127 : BitVec 32 := Scalar.subi v106 v126
  let v129 : BitVec 32 := Scalar.addi v127 v108
  let c8_i32_50 : BitVec 32 := 8#32
  let v130 : BitVec 32 := Scalar.addi v129 c8_i32_50
  let c1_i32_51 : BitVec 32 := 1#32
  let v131 : BitVec 32 := Scalar.subi v130 c1_i32_51
  let c0_i32_53 : BitVec 32 := 0#32
  let v133 : BitVec 1 := Scalar.cmpi .sgt v131 c0_i32_53
  let v134 : BitVec 32 := Scalar.extui v133
  let c0_i32_54 : BitVec 32 := 0#32
  let v135 : BitVec 1 := Scalar.cmpi .slt v131 c0_i32_54
  let v136 : BitVec 32 := Scalar.extui v135
  let v137 : BitVec 32 := Scalar.subi v134 v136
  let c8_i32_52 : BitVec 32 := 8#32
  let c0_i32_55 : BitVec 32 := 0#32
  let v138 : BitVec 1 := Scalar.cmpi .sgt c8_i32_52 c0_i32_55
  let v139 : BitVec 32 := Scalar.extui v138
  let c0_i32_56 : BitVec 32 := 0#32
  let v140 : BitVec 1 := Scalar.cmpi .slt c8_i32_52 c0_i32_56
  let v141 : BitVec 32 := Scalar.extui v140
  let v142 : BitVec 32 := Scalar.subi v139 v141
  let v143 : BitVec 1 := Scalar.cmpi .ne v137 v142
  let v144 : BitVec 32 := Scalar.remsi v131 c8_i32_52
  let c0_i32_57 : BitVec 32 := 0#32
  let v145 : BitVec 1 := Scalar.cmpi .ne v144 c0_i32_57
  let v146 : BitVec 1 := Scalar.andi v143 v145
  let v132 : BitVec 32 := Scalar.divsi v131 c8_i32_52
  let c1_i32_58 : BitVec 32 := 1#32
  let v147 : BitVec 32 := Scalar.subi v132 c1_i32_58
  let v148 : BitVec 32 := Scalar.select v146 v147 v132
  let c0_i32_59 : BitVec 32 := 0#32
  let v149 : BitVec 32 := Scalar.select v128 v148 c0_i32_59
  let c8_i32_206 : BitVec 32 := 8#32
  let v450 : BitVec 32 := Scalar.muli v149 c8_i32_206
  v450
def k0_cond4 (v103 : BitVec 32) (v104 : BitVec 32) (v106 : BitVec 32) (v108 : BitVec 32) : BitVec 1 :=
  let v128 : BitVec 1 := Scalar.cmpi .sgt v104 v103
  let c0_i32_43 : BitVec 32 := 0#32
  let v110 : BitVec 1 := Scalar.cmpi .sgt v106 c0_i32_43
  let v111 : BitVec 32 := Scalar.extui v110
  let c0_i32_44 : BitVec 32 := 0#32
  let v112 : BitVec 1 := Scalar.cmpi .slt v106 c0_i32_44
  let v113 : BitVec 32 := Scalar.extui v112
  let v114 : BitVec 32 := Scalar.subi v111 v113
  let c8_i32_42 : BitVec 32 := 8#32
  let c0_i32_45 : BitVec 32 := 0#32
  let v115 : BitVec 1 := Scalar.cmpi .sgt c8_i32_42 c0_i32_45
  let v116 : BitVec 32 := Scalar.extui v115
  let c0_i32_46 : BitVec 32 := 0#32
  let v117 : BitVec 1 := Scalar.cmpi .slt c8_i32_42 c0_i32_46
  let v118 : BitVec 32 := Scalar.extui v117
  let v119 : BitVec 32 := Scalar.subi v116 v118
  let v120 : BitVec 1 := Scalar.cmpi .ne v114 v119
  let v121 : BitVec 32 := Scalar.remsi v106 c8_i32_42
  let c0_i32_47 : BitVec 32 := 0#32
  let v122 : BitVec 1 := Scalar.cmpi .ne v121 c0_i32_47
  let v123 : BitVec 1 := Scalar.andi v120 v122
  let v109 : BitVec 32 := Scalar.divsi v106 c8_i32_42
  let c1_i32_48 : BitVec 32 := 1#32
  let v124 : BitVec 32 := Scalar.subi v109 c1_i32_48
  let v125 : BitVec 32 := Scalar.select v123 v124 v109
  let c8_i32_49 : BitVec 32 := 8#32
  let v126 : BitVec 32 := Scalar.muli v125 c8_i32_49
  let v127 : BitVec 32 := Scalar.subi v106 v126
  let v129 : BitVec 32 := Scalar.addi v127 v108
  let c8_i32_50 : BitVec 32 := 8#32
  let v130 : BitVec 32 := Scalar.addi v129 c8_i32_50
  let c1_i32_51 : BitVec 32 := 1#32
  let v131 : BitVec 32 := Scalar.subi v130 c1_i32_51
  let c0_i32_53 : BitVec 32 := 0#32
  let v133 : BitVec 1 := Scalar.cmpi .sgt v131 c0_i32_53
  let v134 : BitVec 32 := Scalar.extui v133
  let c0_i32_54 : BitVec 32 := 0#32
  let v135 : BitVec 1 := Scalar.cmpi .slt v131 c0_i32_54
  let v136 : BitVec 32 := Scalar.extui v135
  let v137 : BitVec 32 := Scalar.subi v134 v136
  let c8_i32_52 : BitVec 32 := 8#32
  let c0_i32_55 : BitVec 32 := 0#32
  let v138 : BitVec 1 := Scalar.cmpi .sgt c8_i32_52 c0_i32_55
  let v139 : BitVec 32 := Scalar.extui v138
  let c0_i32_56 : BitVec 32 := 0#32
  let v140 : BitVec 1 := Scalar.cmpi .slt c8_i32_52 c0_i32_56
  let v141 : BitVec 32 := Scalar.extui v140
  let v142 : BitVec 32 := Scalar.subi v139 v141
  let v143 : BitVec 1 := Scalar.cmpi .ne v137 v142
  let v144 : BitVec 32 := Scalar.remsi v131 c8_i32_52
  let c0_i32_57 : BitVec 32 := 0#32
  let v145 : BitVec 1 := Scalar.cmpi .ne v144 c0_i32_57
  let v146 : BitVec 1 := Scalar.andi v143 v145
  let v132 : BitVec 32 := Scalar.divsi v131 c8_i32_52
  let c1_i32_58 : BitVec 32 := 1#32
  let v147 : BitVec 32 := Scalar.subi v132 c1_i32_58
  let v148 : BitVec 32 := Scalar.select v146 v147 v132
  let c0_i32_59 : BitVec 32 := 0#32
  let v149 : BitVec 32 := Scalar.select v128 v148 c0_i32_59
  let c0_i32_186 : BitVec 32 := 0#32
  let v420 : BitVec 1 := Scalar.cmpi .sgt v149 c0_i32_186
  let v421 : BitVec 32 := Scalar.extui v420
  let c0_i32_187 : BitVec 32 := 0#32
  let v422 : BitVec 1 := Scalar.cmpi .ne v421 c0_i32_187
  v422

def k0_mult8 (v106 : BitVec 32) : BitVec 32 :=
  let c0_i32_43 : BitVec 32 := 0#32
  let v110 : BitVec 1 := Scalar.cmpi .sgt v106 c0_i32_43
  let v111 : BitVec 32 := Scalar.extui v110
  let c0_i32_44 : BitVec 32 := 0#32
  let v112 : BitVec 1 := Scalar.cmpi .slt v106 c0_i32_44
  let v113 : BitVec 32 := Scalar.extui v112
  let v114 : BitVec 32 := Scalar.subi v111 v113
  let c8_i32_42 : BitVec 32 := 8#32
  let c0_i32_45 : BitVec 32 := 0#32
  let v115 : BitVec 1 := Scalar.cmpi .sgt c8_i32_42 c0_i32_45
  let v116 : BitVec 32 := Scalar.extui v115
  let c0_i32_46 : BitVec 32 := 0#32
  let v117 : BitVec 1 := Scalar.cmpi .slt c8_i32_42 c0_i32_46
  let v118 : BitVec 32 := Scalar.extui v117
  let v119 : BitVec 32 := Scalar.subi v116 v118
  let v120 : BitVec 1 := Scalar.cmpi .ne v114 v119
  let v121 : BitVec 32 := Scalar.remsi v106 c8_i32_42
  let c0_i32_47 : BitVec 32 := 0#32
  let v122 : BitVec 1 := Scalar.cmpi .ne v121 c0_i32_47
  let v123 : BitVec 1 := Scalar.andi v120 v122
  let v109 : BitVec 32 := Scalar.divsi v106 c8_i32_42
  let c1_i32_48 : BitVec 32 := 1#32
  let v124 : BitVec 32 := Scalar.subi v109 c1_i32_48
  let v125 : BitVec 32 := Scalar.select v123 v124 v109
  let c8_i32_207 : BitVec 32 := 8#32
  let v452 : BitVec 32 := Scalar.muli v125 c8_i32_207
  v452
def k0_mult9 (v1 : BitVec 32) (v2 : BitVec 32) (v4 : BitVec 32) (v6 : BitVec 32) (v52 : BitVec 32) (v53 : BitVec 32) (v55 : BitVec 32) (v57 : BitVec 32) : BitVec 32 :=
  let c0_i32_18 : BitVec 32 := 0#32
  let v26 : BitVec 1 := Scalar.cmpi .sgt v2 v1
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let v50 : BitVec 32 := Scalar.addi c0_i32_18 v47
  let v77 : BitVec 1 := Scalar.cmpi .sgt v53 v52
  let c0_i32_22 : BitVec 32 := 0#32
  let v59 : BitVec 1 := Scalar.cmpi .sgt v55 c0_i32_22
  let v60 : BitVec 32 := Scalar.extui v59
  let c0_i32_23 : BitVec 32 := 0#32
  let v61 : BitVec 1 := Scalar.cmpi .slt v55 c0_i32_23
  let v62 : BitVec 32 := Scalar.extui v61
  let v63 : BitVec 32 := Scalar.subi v60 v62
  let c8_i32_21 : BitVec 32 := 8#32
  let c0_i32_24 : BitVec 32 := 0#32
  let v64 : BitVec 1 := Scalar.cmpi .sgt c8_i32_21 c0_i32_24
  let v65 : BitVec 32 := Scalar.extui v64
  let c0_i32_25 : BitVec 32 := 0#32
  let v66 : BitVec 1 := Scalar.cmpi .slt c8_i32_21 c0_i32_25
  let v67 : BitVec 32 := Scalar.extui v66
  let v68 : BitVec 32 := Scalar.subi v65 v67
  let v69 : BitVec 1 := Scalar.cmpi .ne v63 v68
  let v70 : BitVec 32 := Scalar.remsi v55 c8_i32_21
  let c0_i32_26 : BitVec 32 := 0#32
  let v71 : BitVec 1 := Scalar.cmpi .ne v70 c0_i32_26
  let v72 : BitVec 1 := Scalar.andi v69 v71
  let v58 : BitVec 32 := Scalar.divsi v55 c8_i32_21
  let c1_i32_27 : BitVec 32 := 1#32
  let v73 : BitVec 32 := Scalar.subi v58 c1_i32_27
  let v74 : BitVec 32 := Scalar.select v72 v73 v58
  let c8_i32_28 : BitVec 32 := 8#32
  let v75 : BitVec 32 := Scalar.muli v74 c8_i32_28
  let v76 : BitVec 32 := Scalar.subi v55 v75
  let v78 : BitVec 32 := Scalar.addi v76 v57
  let c8_i32_29 : BitVec 32 := 8#32
  let v79 : BitVec 32 := Scalar.addi v78 c8_i32_29
  let c1_i32_30 : BitVec 32 := 1#32
  let v80 : BitVec 32 := Scalar.subi v79 c1_i32_30
  let c0_i32_32 : BitVec 32 := 0#32
  let v82 : BitVec 1 := Scalar.cmpi .sgt v80 c0_i32_32
  let v83 : BitVec 32 := Scalar.extui v82
  let c0_i32_33 : BitVec 32 := 0#32
  let v84 : BitVec 1 := Scalar.cmpi .slt v80 c0_i32_33
  let v85 : BitVec 32 := Scalar.extui v84
  let v86 : BitVec 32 := Scalar.subi v83 v85
  let c8_i32_31 : BitVec 32 := 8#32
  let c0_i32_34 : BitVec 32 := 0#32
  let v87 : BitVec 1 := Scalar.cmpi .sgt c8_i32_31 c0_i32_34
  let v88 : BitVec 32 := Scalar.extui v87
  let c0_i32_35 : BitVec 32 := 0#32
  let v89 : BitVec 1 := Scalar.cmpi .slt c8_i32_31 c0_i32_35
  let v90 : BitVec 32 := Scalar.extui v89
  let v91 : BitVec 32 := Scalar.subi v88 v90
  let v92 : BitVec 1 := Scalar.cmpi .ne v86 v91
  let v93 : BitVec 32 := Scalar.remsi v80 c8_i32_31
  let c0_i32_36 : BitVec 32 := 0#32
  let v94 : BitVec 1 := Scalar.cmpi .ne v93 c0_i32_36
  let v95 : BitVec 1 := Scalar.andi v92 v94
  let v81 : BitVec 32 := Scalar.divsi v80 c8_i32_31
  let c1_i32_37 : BitVec 32 := 1#32
  let v96 : BitVec 32 := Scalar.subi v81 c1_i32_37
  let v97 : BitVec 32 := Scalar.select v95 v96 v81
  let c0_i32_38 : BitVec 32 := 0#32
  let v98 : BitVec 32 := Scalar.select v77 v97 c0_i32_38
  let v101 : BitVec 32 := Scalar.addi v50 v98
  let c8_i32_208 : BitVec 32 := 8#32
  let v454 : BitVec 32 := Scalar.muli v101 c8_i32_208
  v454
def k0_off11 (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) : (Fin 2 → Nat) × (Fin 2 → Nat) :=
  let c0_i32_18 : BitVec 32 := 0#32
  let v26 : BitVec 1 := Scalar.cmpi .sgt v2 v1
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let v50 : BitVec 32 := Scalar.addi c0_i32_18 v47
  let v77 : BitVec 1 := Scalar.cmpi .sgt v53 v52
  let c0_i32_22 : BitVec 32 := 0#32
  let v59 : BitVec 1 := Scalar.cmpi .sgt v55 c0_i32_22
  let v60 : BitVec 32 := Scalar.extui v59
  let c0_i32_23 : BitVec 32 := 0#32
  let v61 : BitVec 1 := Scalar.cmpi .slt v55 c0_i32_23
  let v62 : BitVec 32 := Scalar.extui v61
  let v63 : BitVec 32 := Scalar.subi v60 v62
  let c8_i32_21 : BitVec 32 := 8#32
  let c0_i32_24 : BitVec 32 := 0#32
  let v64 : BitVec 1 := Scalar.cmpi .sgt c8_i32_21 c0_i32_24
  let v65 : BitVec 32 := Scalar.extui v64
  let c0_i32_25 : BitVec 32 := 0#32
  let v66 : BitVec 1 := Scalar.cmpi .slt c8_i32_21 c0_i32_25
  let v67 : BitVec 32 := Scalar.extui v66
  let v68 : BitVec 32 := Scalar.subi v65 v67
  let v69 : BitVec 1 := Scalar.cmpi .ne v63 v68
  let v70 : BitVec 32 := Scalar.remsi v55 c8_i32_21
  let c0_i32_26 : BitVec 32 := 0#32
  let v71 : BitVec 1 := Scalar.cmpi .ne v70 c0_i32_26
  let v72 : BitVec 1 := Scalar.andi v69 v71
  let v58 : BitVec 32 := Scalar.divsi v55 c8_i32_21
  let c1_i32_27 : BitVec 32 := 1#32
  let v73 : BitVec 32 := Scalar.subi v58 c1_i32_27
  let v74 : BitVec 32 := Scalar.select v72 v73 v58
  let c8_i32_28 : BitVec 32 := 8#32
  let v75 : BitVec 32 := Scalar.muli v74 c8_i32_28
  let v76 : BitVec 32 := Scalar.subi v55 v75
  let v78 : BitVec 32 := Scalar.addi v76 v57
  let c8_i32_29 : BitVec 32 := 8#32
  let v79 : BitVec 32 := Scalar.addi v78 c8_i32_29
  let c1_i32_30 : BitVec 32 := 1#32
  let v80 : BitVec 32 := Scalar.subi v79 c1_i32_30
  let c0_i32_32 : BitVec 32 := 0#32
  let v82 : BitVec 1 := Scalar.cmpi .sgt v80 c0_i32_32
  let v83 : BitVec 32 := Scalar.extui v82
  let c0_i32_33 : BitVec 32 := 0#32
  let v84 : BitVec 1 := Scalar.cmpi .slt v80 c0_i32_33
  let v85 : BitVec 32 := Scalar.extui v84
  let v86 : BitVec 32 := Scalar.subi v83 v85
  let c8_i32_31 : BitVec 32 := 8#32
  let c0_i32_34 : BitVec 32 := 0#32
  let v87 : BitVec 1 := Scalar.cmpi .sgt c8_i32_31 c0_i32_34
  let v88 : BitVec 32 := Scalar.extui v87
  let c0_i32_35 : BitVec 32 := 0#32
  let v89 : BitVec 1 := Scalar.cmpi .slt c8_i32_31 c0_i32_35
  let v90 : BitVec 32 := Scalar.extui v89
  let v91 : BitVec 32 := Scalar.subi v88 v90
  let v92 : BitVec 1 := Scalar.cmpi .ne v86 v91
  let v93 : BitVec 32 := Scalar.remsi v80 c8_i32_31
  let c0_i32_36 : BitVec 32 := 0#32
  let v94 : BitVec 1 := Scalar.cmpi .ne v93 c0_i32_36
  let v95 : BitVec 1 := Scalar.andi v92 v94
  let v81 : BitVec 32 := Scalar.divsi v80 c8_i32_31
  let c1_i32_37 : BitVec 32 := 1#32
  let v96 : BitVec 32 := Scalar.subi v81 c1_i32_37
  let v97 : BitVec 32 := Scalar.select v95 v96 v81
  let c0_i32_38 : BitVec 32 := 0#32
  let v98 : BitVec 32 := Scalar.select v77 v97 c0_i32_38
  let v101 : BitVec 32 := Scalar.addi v50 v98
  let c8_i32_208 : BitVec 32 := 8#32
  let v454 : BitVec 32 := Scalar.muli v101 c8_i32_208
  let v455 : BitVec 32 := v454
  let c0_i32_210 : BitVec 32 := 0#32
  let v128 : BitVec 1 := Scalar.cmpi .sgt v104 v103
  let c0_i32_43 : BitVec 32 := 0#32
  let v110 : BitVec 1 := Scalar.cmpi .sgt v106 c0_i32_43
  let v111 : BitVec 32 := Scalar.extui v110
  let c0_i32_44 : BitVec 32 := 0#32
  let v112 : BitVec 1 := Scalar.cmpi .slt v106 c0_i32_44
  let v113 : BitVec 32 := Scalar.extui v112
  let v114 : BitVec 32 := Scalar.subi v111 v113
  let c8_i32_42 : BitVec 32 := 8#32
  let c0_i32_45 : BitVec 32 := 0#32
  let v115 : BitVec 1 := Scalar.cmpi .sgt c8_i32_42 c0_i32_45
  let v116 : BitVec 32 := Scalar.extui v115
  let c0_i32_46 : BitVec 32 := 0#32
  let v117 : BitVec 1 := Scalar.cmpi .slt c8_i32_42 c0_i32_46
  let v118 : BitVec 32 := Scalar.extui v117
  let v119 : BitVec 32 := Scalar.subi v116 v118
  let v120 : BitVec 1 := Scalar.cmpi .ne v114 v119
  let v121 : BitVec 32 := Scalar.remsi v106 c8_i32_42
  let c0_i32_47 : BitVec 32 := 0#32
  let v122 : BitVec 1 := Scalar.cmpi .ne v121 c0_i32_47
  let v123 : BitVec 1 := Scalar.andi v120 v122
  let v109 : BitVec 32 := Scalar.divsi v106 c8_i32_42
  let c1_i32_48 : BitVec 32 := 1#32
  let v124 : BitVec 32 := Scalar.subi v109 c1_i32_48
  let v125 : BitVec 32 := Scalar.select v123 v124 v109
  let c8_i32_49 : BitVec 32 := 8#32
  let v126 : BitVec 32 := Scalar.muli v125 c8_i32_49
  let v127 : BitVec 32 := Scalar.subi v106 v126
  let v129 : BitVec 32 := Scalar.addi v127 v108
  let c8_i32_50 : BitVec 32 := 8#32
  let v130 : BitVec 32 := Scalar.addi v129 c8_i32_50
  let c1_i32_51 : BitVec 32 := 1#32
  let v131 : BitVec 32 := Scalar.subi v130 c1_i32_51
  let c0_i32_53 : BitVec 32 := 0#32
  let v133 : BitVec 1 := Scalar.cmpi .sgt v131 c0_i32_53
  let v134 : BitVec 32 := Scalar.extui v133
  let c0_i32_54 : BitVec 32 := 0#32
  let v135 : BitVec 1 := Scalar.cmpi .slt v131 c0_i32_54
  let v136 : BitVec 32 := Scalar.extui v135
  let v137 : BitVec 32 := Scalar.subi v134 v136
  let c8_i32_52 : BitVec 32 := 8#32
  let c0_i32_55 : BitVec 32 := 0#32
  let v138 : BitVec 1 := Scalar.cmpi .sgt c8_i32_52 c0_i32_55
  let v139 : BitVec 32 := Scalar.extui v138
  let c0_i32_56 : BitVec 32 := 0#32
  let v140 : BitVec 1 := Scalar.cmpi .slt c8_i32_52 c0_i32_56
  let v141 : BitVec 32 := Scalar.extui v140
  let v142 : BitVec 32 := Scalar.subi v139 v141
  let v143 : BitVec 1 := Scalar.cmpi .ne v137 v142
  let v144 : BitVec 32 := Scalar.remsi v131 c8_i32_52
  let c0_i32_57 : BitVec 32 := 0#32
  let v145 : BitVec 1 := Scalar.cmpi .ne v144 c0_i32_57
  let v146 : BitVec 1 := Scalar.andi v143 v145
  let v132 : BitVec 32 := Scalar.divsi v131 c8_i32_52
  let c1_i32_58 : BitVec 32 := 1#32
  let v147 : BitVec 32 := Scalar.subi v132 c1_i32_58
  let v148 : BitVec 32 := Scalar.select v146 v147 v132
  let c0_i32_59 : BitVec 32 := 0#32
  let v149 : BitVec 32 := Scalar.select v128 v148 c0_i32_59
  let c8_i32_206 : BitVec 32 := 8#32
  let v450 : BitVec 32 := Scalar.muli v149 c8_i32_206
  let v451 : BitVec 32 := v450
  ⟨![v455.toNat, 0], ![v451.toNat, 4096]⟩
def k0_off12 (v103 : BitVec 32) (v104 : BitVec 32) (v106 : BitVec 32) (v108 : BitVec 32) : (Fin 2 → Nat) × (Fin 2 → Nat) :=
  let c0_i32_43 : BitVec 32 := 0#32
  let v110 : BitVec 1 := Scalar.cmpi .sgt v106 c0_i32_43
  let v111 : BitVec 32 := Scalar.extui v110
  let c0_i32_44 : BitVec 32 := 0#32
  let v112 : BitVec 1 := Scalar.cmpi .slt v106 c0_i32_44
  let v113 : BitVec 32 := Scalar.extui v112
  let v114 : BitVec 32 := Scalar.subi v111 v113
  let c8_i32_42 : BitVec 32 := 8#32
  let c0_i32_45 : BitVec 32 := 0#32
  let v115 : BitVec 1 := Scalar.cmpi .sgt c8_i32_42 c0_i32_45
  let v116 : BitVec 32 := Scalar.extui v115
  let c0_i32_46 : BitVec 32 := 0#32
  let v117 : BitVec 1 := Scalar.cmpi .slt c8_i32_42 c0_i32_46
  let v118 : BitVec 32 := Scalar.extui v117
  let v119 : BitVec 32 := Scalar.subi v116 v118
  let v120 : BitVec 1 := Scalar.cmpi .ne v114 v119
  let v121 : BitVec 32 := Scalar.remsi v106 c8_i32_42
  let c0_i32_47 : BitVec 32 := 0#32
  let v122 : BitVec 1 := Scalar.cmpi .ne v121 c0_i32_47
  let v123 : BitVec 1 := Scalar.andi v120 v122
  let v109 : BitVec 32 := Scalar.divsi v106 c8_i32_42
  let c1_i32_48 : BitVec 32 := 1#32
  let v124 : BitVec 32 := Scalar.subi v109 c1_i32_48
  let v125 : BitVec 32 := Scalar.select v123 v124 v109
  let c8_i32_207 : BitVec 32 := 8#32
  let v452 : BitVec 32 := Scalar.muli v125 c8_i32_207
  let v453 : BitVec 32 := v452
  let c0_i32_211 : BitVec 32 := 0#32
  let v128 : BitVec 1 := Scalar.cmpi .sgt v104 v103
  let c8_i32_49 : BitVec 32 := 8#32
  let v126 : BitVec 32 := Scalar.muli v125 c8_i32_49
  let v127 : BitVec 32 := Scalar.subi v106 v126
  let v129 : BitVec 32 := Scalar.addi v127 v108
  let c8_i32_50 : BitVec 32 := 8#32
  let v130 : BitVec 32 := Scalar.addi v129 c8_i32_50
  let c1_i32_51 : BitVec 32 := 1#32
  let v131 : BitVec 32 := Scalar.subi v130 c1_i32_51
  let c0_i32_53 : BitVec 32 := 0#32
  let v133 : BitVec 1 := Scalar.cmpi .sgt v131 c0_i32_53
  let v134 : BitVec 32 := Scalar.extui v133
  let c0_i32_54 : BitVec 32 := 0#32
  let v135 : BitVec 1 := Scalar.cmpi .slt v131 c0_i32_54
  let v136 : BitVec 32 := Scalar.extui v135
  let v137 : BitVec 32 := Scalar.subi v134 v136
  let c8_i32_52 : BitVec 32 := 8#32
  let c0_i32_55 : BitVec 32 := 0#32
  let v138 : BitVec 1 := Scalar.cmpi .sgt c8_i32_52 c0_i32_55
  let v139 : BitVec 32 := Scalar.extui v138
  let c0_i32_56 : BitVec 32 := 0#32
  let v140 : BitVec 1 := Scalar.cmpi .slt c8_i32_52 c0_i32_56
  let v141 : BitVec 32 := Scalar.extui v140
  let v142 : BitVec 32 := Scalar.subi v139 v141
  let v143 : BitVec 1 := Scalar.cmpi .ne v137 v142
  let v144 : BitVec 32 := Scalar.remsi v131 c8_i32_52
  let c0_i32_57 : BitVec 32 := 0#32
  let v145 : BitVec 1 := Scalar.cmpi .ne v144 c0_i32_57
  let v146 : BitVec 1 := Scalar.andi v143 v145
  let v132 : BitVec 32 := Scalar.divsi v131 c8_i32_52
  let c1_i32_58 : BitVec 32 := 1#32
  let v147 : BitVec 32 := Scalar.subi v132 c1_i32_58
  let v148 : BitVec 32 := Scalar.select v146 v147 v132
  let c0_i32_59 : BitVec 32 := 0#32
  let v149 : BitVec 32 := Scalar.select v128 v148 c0_i32_59
  let c8_i32_206 : BitVec 32 := 8#32
  let v450 : BitVec 32 := Scalar.muli v149 c8_i32_206
  let v451 : BitVec 32 := v450
  ⟨![v453.toNat, 0], ![v451.toNat, 4096]⟩
def k0_mult10 (v154 : BitVec 32) (v155 : BitVec 32) (v157 : BitVec 32) (v159 : BitVec 32) : BitVec 32 :=
  let v179 : BitVec 1 := Scalar.cmpi .sgt v155 v154
  let c0_i32_64 : BitVec 32 := 0#32
  let v161 : BitVec 1 := Scalar.cmpi .sgt v157 c0_i32_64
  let v162 : BitVec 32 := Scalar.extui v161
  let c0_i32_65 : BitVec 32 := 0#32
  let v163 : BitVec 1 := Scalar.cmpi .slt v157 c0_i32_65
  let v164 : BitVec 32 := Scalar.extui v163
  let v165 : BitVec 32 := Scalar.subi v162 v164
  let c8_i32_63 : BitVec 32 := 8#32
  let c0_i32_66 : BitVec 32 := 0#32
  let v166 : BitVec 1 := Scalar.cmpi .sgt c8_i32_63 c0_i32_66
  let v167 : BitVec 32 := Scalar.extui v166
  let c0_i32_67 : BitVec 32 := 0#32
  let v168 : BitVec 1 := Scalar.cmpi .slt c8_i32_63 c0_i32_67
  let v169 : BitVec 32 := Scalar.extui v168
  let v170 : BitVec 32 := Scalar.subi v167 v169
  let v171 : BitVec 1 := Scalar.cmpi .ne v165 v170
  let v172 : BitVec 32 := Scalar.remsi v157 c8_i32_63
  let c0_i32_68 : BitVec 32 := 0#32
  let v173 : BitVec 1 := Scalar.cmpi .ne v172 c0_i32_68
  let v174 : BitVec 1 := Scalar.andi v171 v173
  let v160 : BitVec 32 := Scalar.divsi v157 c8_i32_63
  let c1_i32_69 : BitVec 32 := 1#32
  let v175 : BitVec 32 := Scalar.subi v160 c1_i32_69
  let v176 : BitVec 32 := Scalar.select v174 v175 v160
  let c8_i32_70 : BitVec 32 := 8#32
  let v177 : BitVec 32 := Scalar.muli v176 c8_i32_70
  let v178 : BitVec 32 := Scalar.subi v157 v177
  let v180 : BitVec 32 := Scalar.addi v178 v159
  let c8_i32_71 : BitVec 32 := 8#32
  let v181 : BitVec 32 := Scalar.addi v180 c8_i32_71
  let c1_i32_72 : BitVec 32 := 1#32
  let v182 : BitVec 32 := Scalar.subi v181 c1_i32_72
  let c0_i32_74 : BitVec 32 := 0#32
  let v184 : BitVec 1 := Scalar.cmpi .sgt v182 c0_i32_74
  let v185 : BitVec 32 := Scalar.extui v184
  let c0_i32_75 : BitVec 32 := 0#32
  let v186 : BitVec 1 := Scalar.cmpi .slt v182 c0_i32_75
  let v187 : BitVec 32 := Scalar.extui v186
  let v188 : BitVec 32 := Scalar.subi v185 v187
  let c8_i32_73 : BitVec 32 := 8#32
  let c0_i32_76 : BitVec 32 := 0#32
  let v189 : BitVec 1 := Scalar.cmpi .sgt c8_i32_73 c0_i32_76
  let v190 : BitVec 32 := Scalar.extui v189
  let c0_i32_77 : BitVec 32 := 0#32
  let v191 : BitVec 1 := Scalar.cmpi .slt c8_i32_73 c0_i32_77
  let v192 : BitVec 32 := Scalar.extui v191
  let v193 : BitVec 32 := Scalar.subi v190 v192
  let v194 : BitVec 1 := Scalar.cmpi .ne v188 v193
  let v195 : BitVec 32 := Scalar.remsi v182 c8_i32_73
  let c0_i32_78 : BitVec 32 := 0#32
  let v196 : BitVec 1 := Scalar.cmpi .ne v195 c0_i32_78
  let v197 : BitVec 1 := Scalar.andi v194 v196
  let v183 : BitVec 32 := Scalar.divsi v182 c8_i32_73
  let c1_i32_79 : BitVec 32 := 1#32
  let v198 : BitVec 32 := Scalar.subi v183 c1_i32_79
  let v199 : BitVec 32 := Scalar.select v197 v198 v183
  let c0_i32_80 : BitVec 32 := 0#32
  let v200 : BitVec 32 := Scalar.select v179 v199 c0_i32_80
  let c8_i32_206 : BitVec 32 := 8#32
  let v450 : BitVec 32 := Scalar.muli v200 c8_i32_206
  v450
def k0_cond5 (v154 : BitVec 32) (v155 : BitVec 32) (v157 : BitVec 32) (v159 : BitVec 32) : BitVec 1 :=
  let v179 : BitVec 1 := Scalar.cmpi .sgt v155 v154
  let c0_i32_64 : BitVec 32 := 0#32
  let v161 : BitVec 1 := Scalar.cmpi .sgt v157 c0_i32_64
  let v162 : BitVec 32 := Scalar.extui v161
  let c0_i32_65 : BitVec 32 := 0#32
  let v163 : BitVec 1 := Scalar.cmpi .slt v157 c0_i32_65
  let v164 : BitVec 32 := Scalar.extui v163
  let v165 : BitVec 32 := Scalar.subi v162 v164
  let c8_i32_63 : BitVec 32 := 8#32
  let c0_i32_66 : BitVec 32 := 0#32
  let v166 : BitVec 1 := Scalar.cmpi .sgt c8_i32_63 c0_i32_66
  let v167 : BitVec 32 := Scalar.extui v166
  let c0_i32_67 : BitVec 32 := 0#32
  let v168 : BitVec 1 := Scalar.cmpi .slt c8_i32_63 c0_i32_67
  let v169 : BitVec 32 := Scalar.extui v168
  let v170 : BitVec 32 := Scalar.subi v167 v169
  let v171 : BitVec 1 := Scalar.cmpi .ne v165 v170
  let v172 : BitVec 32 := Scalar.remsi v157 c8_i32_63
  let c0_i32_68 : BitVec 32 := 0#32
  let v173 : BitVec 1 := Scalar.cmpi .ne v172 c0_i32_68
  let v174 : BitVec 1 := Scalar.andi v171 v173
  let v160 : BitVec 32 := Scalar.divsi v157 c8_i32_63
  let c1_i32_69 : BitVec 32 := 1#32
  let v175 : BitVec 32 := Scalar.subi v160 c1_i32_69
  let v176 : BitVec 32 := Scalar.select v174 v175 v160
  let c8_i32_70 : BitVec 32 := 8#32
  let v177 : BitVec 32 := Scalar.muli v176 c8_i32_70
  let v178 : BitVec 32 := Scalar.subi v157 v177
  let v180 : BitVec 32 := Scalar.addi v178 v159
  let c8_i32_71 : BitVec 32 := 8#32
  let v181 : BitVec 32 := Scalar.addi v180 c8_i32_71
  let c1_i32_72 : BitVec 32 := 1#32
  let v182 : BitVec 32 := Scalar.subi v181 c1_i32_72
  let c0_i32_74 : BitVec 32 := 0#32
  let v184 : BitVec 1 := Scalar.cmpi .sgt v182 c0_i32_74
  let v185 : BitVec 32 := Scalar.extui v184
  let c0_i32_75 : BitVec 32 := 0#32
  let v186 : BitVec 1 := Scalar.cmpi .slt v182 c0_i32_75
  let v187 : BitVec 32 := Scalar.extui v186
  let v188 : BitVec 32 := Scalar.subi v185 v187
  let c8_i32_73 : BitVec 32 := 8#32
  let c0_i32_76 : BitVec 32 := 0#32
  let v189 : BitVec 1 := Scalar.cmpi .sgt c8_i32_73 c0_i32_76
  let v190 : BitVec 32 := Scalar.extui v189
  let c0_i32_77 : BitVec 32 := 0#32
  let v191 : BitVec 1 := Scalar.cmpi .slt c8_i32_73 c0_i32_77
  let v192 : BitVec 32 := Scalar.extui v191
  let v193 : BitVec 32 := Scalar.subi v190 v192
  let v194 : BitVec 1 := Scalar.cmpi .ne v188 v193
  let v195 : BitVec 32 := Scalar.remsi v182 c8_i32_73
  let c0_i32_78 : BitVec 32 := 0#32
  let v196 : BitVec 1 := Scalar.cmpi .ne v195 c0_i32_78
  let v197 : BitVec 1 := Scalar.andi v194 v196
  let v183 : BitVec 32 := Scalar.divsi v182 c8_i32_73
  let c1_i32_79 : BitVec 32 := 1#32
  let v198 : BitVec 32 := Scalar.subi v183 c1_i32_79
  let v199 : BitVec 32 := Scalar.select v197 v198 v183
  let c0_i32_80 : BitVec 32 := 0#32
  let v200 : BitVec 32 := Scalar.select v179 v199 c0_i32_80
  let c0_i32_188 : BitVec 32 := 0#32
  let v423 : BitVec 1 := Scalar.cmpi .sgt v200 c0_i32_188
  let v424 : BitVec 32 := Scalar.extui v423
  let c0_i32_189 : BitVec 32 := 0#32
  let v425 : BitVec 1 := Scalar.cmpi .ne v424 c0_i32_189
  v425

def k0_mult11 (v157 : BitVec 32) : BitVec 32 :=
  let c0_i32_64 : BitVec 32 := 0#32
  let v161 : BitVec 1 := Scalar.cmpi .sgt v157 c0_i32_64
  let v162 : BitVec 32 := Scalar.extui v161
  let c0_i32_65 : BitVec 32 := 0#32
  let v163 : BitVec 1 := Scalar.cmpi .slt v157 c0_i32_65
  let v164 : BitVec 32 := Scalar.extui v163
  let v165 : BitVec 32 := Scalar.subi v162 v164
  let c8_i32_63 : BitVec 32 := 8#32
  let c0_i32_66 : BitVec 32 := 0#32
  let v166 : BitVec 1 := Scalar.cmpi .sgt c8_i32_63 c0_i32_66
  let v167 : BitVec 32 := Scalar.extui v166
  let c0_i32_67 : BitVec 32 := 0#32
  let v168 : BitVec 1 := Scalar.cmpi .slt c8_i32_63 c0_i32_67
  let v169 : BitVec 32 := Scalar.extui v168
  let v170 : BitVec 32 := Scalar.subi v167 v169
  let v171 : BitVec 1 := Scalar.cmpi .ne v165 v170
  let v172 : BitVec 32 := Scalar.remsi v157 c8_i32_63
  let c0_i32_68 : BitVec 32 := 0#32
  let v173 : BitVec 1 := Scalar.cmpi .ne v172 c0_i32_68
  let v174 : BitVec 1 := Scalar.andi v171 v173
  let v160 : BitVec 32 := Scalar.divsi v157 c8_i32_63
  let c1_i32_69 : BitVec 32 := 1#32
  let v175 : BitVec 32 := Scalar.subi v160 c1_i32_69
  let v176 : BitVec 32 := Scalar.select v174 v175 v160
  let c8_i32_207 : BitVec 32 := 8#32
  let v452 : BitVec 32 := Scalar.muli v176 c8_i32_207
  v452
def k0_mult12 (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) : BitVec 32 :=
  let c0_i32_18 : BitVec 32 := 0#32
  let v26 : BitVec 1 := Scalar.cmpi .sgt v2 v1
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let v50 : BitVec 32 := Scalar.addi c0_i32_18 v47
  let v77 : BitVec 1 := Scalar.cmpi .sgt v53 v52
  let c0_i32_22 : BitVec 32 := 0#32
  let v59 : BitVec 1 := Scalar.cmpi .sgt v55 c0_i32_22
  let v60 : BitVec 32 := Scalar.extui v59
  let c0_i32_23 : BitVec 32 := 0#32
  let v61 : BitVec 1 := Scalar.cmpi .slt v55 c0_i32_23
  let v62 : BitVec 32 := Scalar.extui v61
  let v63 : BitVec 32 := Scalar.subi v60 v62
  let c8_i32_21 : BitVec 32 := 8#32
  let c0_i32_24 : BitVec 32 := 0#32
  let v64 : BitVec 1 := Scalar.cmpi .sgt c8_i32_21 c0_i32_24
  let v65 : BitVec 32 := Scalar.extui v64
  let c0_i32_25 : BitVec 32 := 0#32
  let v66 : BitVec 1 := Scalar.cmpi .slt c8_i32_21 c0_i32_25
  let v67 : BitVec 32 := Scalar.extui v66
  let v68 : BitVec 32 := Scalar.subi v65 v67
  let v69 : BitVec 1 := Scalar.cmpi .ne v63 v68
  let v70 : BitVec 32 := Scalar.remsi v55 c8_i32_21
  let c0_i32_26 : BitVec 32 := 0#32
  let v71 : BitVec 1 := Scalar.cmpi .ne v70 c0_i32_26
  let v72 : BitVec 1 := Scalar.andi v69 v71
  let v58 : BitVec 32 := Scalar.divsi v55 c8_i32_21
  let c1_i32_27 : BitVec 32 := 1#32
  let v73 : BitVec 32 := Scalar.subi v58 c1_i32_27
  let v74 : BitVec 32 := Scalar.select v72 v73 v58
  let c8_i32_28 : BitVec 32 := 8#32
  let v75 : BitVec 32 := Scalar.muli v74 c8_i32_28
  let v76 : BitVec 32 := Scalar.subi v55 v75
  let v78 : BitVec 32 := Scalar.addi v76 v57
  let c8_i32_29 : BitVec 32 := 8#32
  let v79 : BitVec 32 := Scalar.addi v78 c8_i32_29
  let c1_i32_30 : BitVec 32 := 1#32
  let v80 : BitVec 32 := Scalar.subi v79 c1_i32_30
  let c0_i32_32 : BitVec 32 := 0#32
  let v82 : BitVec 1 := Scalar.cmpi .sgt v80 c0_i32_32
  let v83 : BitVec 32 := Scalar.extui v82
  let c0_i32_33 : BitVec 32 := 0#32
  let v84 : BitVec 1 := Scalar.cmpi .slt v80 c0_i32_33
  let v85 : BitVec 32 := Scalar.extui v84
  let v86 : BitVec 32 := Scalar.subi v83 v85
  let c8_i32_31 : BitVec 32 := 8#32
  let c0_i32_34 : BitVec 32 := 0#32
  let v87 : BitVec 1 := Scalar.cmpi .sgt c8_i32_31 c0_i32_34
  let v88 : BitVec 32 := Scalar.extui v87
  let c0_i32_35 : BitVec 32 := 0#32
  let v89 : BitVec 1 := Scalar.cmpi .slt c8_i32_31 c0_i32_35
  let v90 : BitVec 32 := Scalar.extui v89
  let v91 : BitVec 32 := Scalar.subi v88 v90
  let v92 : BitVec 1 := Scalar.cmpi .ne v86 v91
  let v93 : BitVec 32 := Scalar.remsi v80 c8_i32_31
  let c0_i32_36 : BitVec 32 := 0#32
  let v94 : BitVec 1 := Scalar.cmpi .ne v93 c0_i32_36
  let v95 : BitVec 1 := Scalar.andi v92 v94
  let v81 : BitVec 32 := Scalar.divsi v80 c8_i32_31
  let c1_i32_37 : BitVec 32 := 1#32
  let v96 : BitVec 32 := Scalar.subi v81 c1_i32_37
  let v97 : BitVec 32 := Scalar.select v95 v96 v81
  let c0_i32_38 : BitVec 32 := 0#32
  let v98 : BitVec 32 := Scalar.select v77 v97 c0_i32_38
  let v101 : BitVec 32 := Scalar.addi v50 v98
  let v128 : BitVec 1 := Scalar.cmpi .sgt v104 v103
  let c0_i32_43 : BitVec 32 := 0#32
  let v110 : BitVec 1 := Scalar.cmpi .sgt v106 c0_i32_43
  let v111 : BitVec 32 := Scalar.extui v110
  let c0_i32_44 : BitVec 32 := 0#32
  let v112 : BitVec 1 := Scalar.cmpi .slt v106 c0_i32_44
  let v113 : BitVec 32 := Scalar.extui v112
  let v114 : BitVec 32 := Scalar.subi v111 v113
  let c8_i32_42 : BitVec 32 := 8#32
  let c0_i32_45 : BitVec 32 := 0#32
  let v115 : BitVec 1 := Scalar.cmpi .sgt c8_i32_42 c0_i32_45
  let v116 : BitVec 32 := Scalar.extui v115
  let c0_i32_46 : BitVec 32 := 0#32
  let v117 : BitVec 1 := Scalar.cmpi .slt c8_i32_42 c0_i32_46
  let v118 : BitVec 32 := Scalar.extui v117
  let v119 : BitVec 32 := Scalar.subi v116 v118
  let v120 : BitVec 1 := Scalar.cmpi .ne v114 v119
  let v121 : BitVec 32 := Scalar.remsi v106 c8_i32_42
  let c0_i32_47 : BitVec 32 := 0#32
  let v122 : BitVec 1 := Scalar.cmpi .ne v121 c0_i32_47
  let v123 : BitVec 1 := Scalar.andi v120 v122
  let v109 : BitVec 32 := Scalar.divsi v106 c8_i32_42
  let c1_i32_48 : BitVec 32 := 1#32
  let v124 : BitVec 32 := Scalar.subi v109 c1_i32_48
  let v125 : BitVec 32 := Scalar.select v123 v124 v109
  let c8_i32_49 : BitVec 32 := 8#32
  let v126 : BitVec 32 := Scalar.muli v125 c8_i32_49
  let v127 : BitVec 32 := Scalar.subi v106 v126
  let v129 : BitVec 32 := Scalar.addi v127 v108
  let c8_i32_50 : BitVec 32 := 8#32
  let v130 : BitVec 32 := Scalar.addi v129 c8_i32_50
  let c1_i32_51 : BitVec 32 := 1#32
  let v131 : BitVec 32 := Scalar.subi v130 c1_i32_51
  let c0_i32_53 : BitVec 32 := 0#32
  let v133 : BitVec 1 := Scalar.cmpi .sgt v131 c0_i32_53
  let v134 : BitVec 32 := Scalar.extui v133
  let c0_i32_54 : BitVec 32 := 0#32
  let v135 : BitVec 1 := Scalar.cmpi .slt v131 c0_i32_54
  let v136 : BitVec 32 := Scalar.extui v135
  let v137 : BitVec 32 := Scalar.subi v134 v136
  let c8_i32_52 : BitVec 32 := 8#32
  let c0_i32_55 : BitVec 32 := 0#32
  let v138 : BitVec 1 := Scalar.cmpi .sgt c8_i32_52 c0_i32_55
  let v139 : BitVec 32 := Scalar.extui v138
  let c0_i32_56 : BitVec 32 := 0#32
  let v140 : BitVec 1 := Scalar.cmpi .slt c8_i32_52 c0_i32_56
  let v141 : BitVec 32 := Scalar.extui v140
  let v142 : BitVec 32 := Scalar.subi v139 v141
  let v143 : BitVec 1 := Scalar.cmpi .ne v137 v142
  let v144 : BitVec 32 := Scalar.remsi v131 c8_i32_52
  let c0_i32_57 : BitVec 32 := 0#32
  let v145 : BitVec 1 := Scalar.cmpi .ne v144 c0_i32_57
  let v146 : BitVec 1 := Scalar.andi v143 v145
  let v132 : BitVec 32 := Scalar.divsi v131 c8_i32_52
  let c1_i32_58 : BitVec 32 := 1#32
  let v147 : BitVec 32 := Scalar.subi v132 c1_i32_58
  let v148 : BitVec 32 := Scalar.select v146 v147 v132
  let c0_i32_59 : BitVec 32 := 0#32
  let v149 : BitVec 32 := Scalar.select v128 v148 c0_i32_59
  let v152 : BitVec 32 := Scalar.addi v101 v149
  let c8_i32_208 : BitVec 32 := 8#32
  let v454 : BitVec 32 := Scalar.muli v152 c8_i32_208
  v454
def k0_off13 (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) : (Fin 2 → Nat) × (Fin 2 → Nat) :=
  let c0_i32_18 : BitVec 32 := 0#32
  let v26 : BitVec 1 := Scalar.cmpi .sgt v2 v1
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let v50 : BitVec 32 := Scalar.addi c0_i32_18 v47
  let v77 : BitVec 1 := Scalar.cmpi .sgt v53 v52
  let c0_i32_22 : BitVec 32 := 0#32
  let v59 : BitVec 1 := Scalar.cmpi .sgt v55 c0_i32_22
  let v60 : BitVec 32 := Scalar.extui v59
  let c0_i32_23 : BitVec 32 := 0#32
  let v61 : BitVec 1 := Scalar.cmpi .slt v55 c0_i32_23
  let v62 : BitVec 32 := Scalar.extui v61
  let v63 : BitVec 32 := Scalar.subi v60 v62
  let c8_i32_21 : BitVec 32 := 8#32
  let c0_i32_24 : BitVec 32 := 0#32
  let v64 : BitVec 1 := Scalar.cmpi .sgt c8_i32_21 c0_i32_24
  let v65 : BitVec 32 := Scalar.extui v64
  let c0_i32_25 : BitVec 32 := 0#32
  let v66 : BitVec 1 := Scalar.cmpi .slt c8_i32_21 c0_i32_25
  let v67 : BitVec 32 := Scalar.extui v66
  let v68 : BitVec 32 := Scalar.subi v65 v67
  let v69 : BitVec 1 := Scalar.cmpi .ne v63 v68
  let v70 : BitVec 32 := Scalar.remsi v55 c8_i32_21
  let c0_i32_26 : BitVec 32 := 0#32
  let v71 : BitVec 1 := Scalar.cmpi .ne v70 c0_i32_26
  let v72 : BitVec 1 := Scalar.andi v69 v71
  let v58 : BitVec 32 := Scalar.divsi v55 c8_i32_21
  let c1_i32_27 : BitVec 32 := 1#32
  let v73 : BitVec 32 := Scalar.subi v58 c1_i32_27
  let v74 : BitVec 32 := Scalar.select v72 v73 v58
  let c8_i32_28 : BitVec 32 := 8#32
  let v75 : BitVec 32 := Scalar.muli v74 c8_i32_28
  let v76 : BitVec 32 := Scalar.subi v55 v75
  let v78 : BitVec 32 := Scalar.addi v76 v57
  let c8_i32_29 : BitVec 32 := 8#32
  let v79 : BitVec 32 := Scalar.addi v78 c8_i32_29
  let c1_i32_30 : BitVec 32 := 1#32
  let v80 : BitVec 32 := Scalar.subi v79 c1_i32_30
  let c0_i32_32 : BitVec 32 := 0#32
  let v82 : BitVec 1 := Scalar.cmpi .sgt v80 c0_i32_32
  let v83 : BitVec 32 := Scalar.extui v82
  let c0_i32_33 : BitVec 32 := 0#32
  let v84 : BitVec 1 := Scalar.cmpi .slt v80 c0_i32_33
  let v85 : BitVec 32 := Scalar.extui v84
  let v86 : BitVec 32 := Scalar.subi v83 v85
  let c8_i32_31 : BitVec 32 := 8#32
  let c0_i32_34 : BitVec 32 := 0#32
  let v87 : BitVec 1 := Scalar.cmpi .sgt c8_i32_31 c0_i32_34
  let v88 : BitVec 32 := Scalar.extui v87
  let c0_i32_35 : BitVec 32 := 0#32
  let v89 : BitVec 1 := Scalar.cmpi .slt c8_i32_31 c0_i32_35
  let v90 : BitVec 32 := Scalar.extui v89
  let v91 : BitVec 32 := Scalar.subi v88 v90
  let v92 : BitVec 1 := Scalar.cmpi .ne v86 v91
  let v93 : BitVec 32 := Scalar.remsi v80 c8_i32_31
  let c0_i32_36 : BitVec 32 := 0#32
  let v94 : BitVec 1 := Scalar.cmpi .ne v93 c0_i32_36
  let v95 : BitVec 1 := Scalar.andi v92 v94
  let v81 : BitVec 32 := Scalar.divsi v80 c8_i32_31
  let c1_i32_37 : BitVec 32 := 1#32
  let v96 : BitVec 32 := Scalar.subi v81 c1_i32_37
  let v97 : BitVec 32 := Scalar.select v95 v96 v81
  let c0_i32_38 : BitVec 32 := 0#32
  let v98 : BitVec 32 := Scalar.select v77 v97 c0_i32_38
  let v101 : BitVec 32 := Scalar.addi v50 v98
  let v128 : BitVec 1 := Scalar.cmpi .sgt v104 v103
  let c0_i32_43 : BitVec 32 := 0#32
  let v110 : BitVec 1 := Scalar.cmpi .sgt v106 c0_i32_43
  let v111 : BitVec 32 := Scalar.extui v110
  let c0_i32_44 : BitVec 32 := 0#32
  let v112 : BitVec 1 := Scalar.cmpi .slt v106 c0_i32_44
  let v113 : BitVec 32 := Scalar.extui v112
  let v114 : BitVec 32 := Scalar.subi v111 v113
  let c8_i32_42 : BitVec 32 := 8#32
  let c0_i32_45 : BitVec 32 := 0#32
  let v115 : BitVec 1 := Scalar.cmpi .sgt c8_i32_42 c0_i32_45
  let v116 : BitVec 32 := Scalar.extui v115
  let c0_i32_46 : BitVec 32 := 0#32
  let v117 : BitVec 1 := Scalar.cmpi .slt c8_i32_42 c0_i32_46
  let v118 : BitVec 32 := Scalar.extui v117
  let v119 : BitVec 32 := Scalar.subi v116 v118
  let v120 : BitVec 1 := Scalar.cmpi .ne v114 v119
  let v121 : BitVec 32 := Scalar.remsi v106 c8_i32_42
  let c0_i32_47 : BitVec 32 := 0#32
  let v122 : BitVec 1 := Scalar.cmpi .ne v121 c0_i32_47
  let v123 : BitVec 1 := Scalar.andi v120 v122
  let v109 : BitVec 32 := Scalar.divsi v106 c8_i32_42
  let c1_i32_48 : BitVec 32 := 1#32
  let v124 : BitVec 32 := Scalar.subi v109 c1_i32_48
  let v125 : BitVec 32 := Scalar.select v123 v124 v109
  let c8_i32_49 : BitVec 32 := 8#32
  let v126 : BitVec 32 := Scalar.muli v125 c8_i32_49
  let v127 : BitVec 32 := Scalar.subi v106 v126
  let v129 : BitVec 32 := Scalar.addi v127 v108
  let c8_i32_50 : BitVec 32 := 8#32
  let v130 : BitVec 32 := Scalar.addi v129 c8_i32_50
  let c1_i32_51 : BitVec 32 := 1#32
  let v131 : BitVec 32 := Scalar.subi v130 c1_i32_51
  let c0_i32_53 : BitVec 32 := 0#32
  let v133 : BitVec 1 := Scalar.cmpi .sgt v131 c0_i32_53
  let v134 : BitVec 32 := Scalar.extui v133
  let c0_i32_54 : BitVec 32 := 0#32
  let v135 : BitVec 1 := Scalar.cmpi .slt v131 c0_i32_54
  let v136 : BitVec 32 := Scalar.extui v135
  let v137 : BitVec 32 := Scalar.subi v134 v136
  let c8_i32_52 : BitVec 32 := 8#32
  let c0_i32_55 : BitVec 32 := 0#32
  let v138 : BitVec 1 := Scalar.cmpi .sgt c8_i32_52 c0_i32_55
  let v139 : BitVec 32 := Scalar.extui v138
  let c0_i32_56 : BitVec 32 := 0#32
  let v140 : BitVec 1 := Scalar.cmpi .slt c8_i32_52 c0_i32_56
  let v141 : BitVec 32 := Scalar.extui v140
  let v142 : BitVec 32 := Scalar.subi v139 v141
  let v143 : BitVec 1 := Scalar.cmpi .ne v137 v142
  let v144 : BitVec 32 := Scalar.remsi v131 c8_i32_52
  let c0_i32_57 : BitVec 32 := 0#32
  let v145 : BitVec 1 := Scalar.cmpi .ne v144 c0_i32_57
  let v146 : BitVec 1 := Scalar.andi v143 v145
  let v132 : BitVec 32 := Scalar.divsi v131 c8_i32_52
  let c1_i32_58 : BitVec 32 := 1#32
  let v147 : BitVec 32 := Scalar.subi v132 c1_i32_58
  let v148 : BitVec 32 := Scalar.select v146 v147 v132
  let c0_i32_59 : BitVec 32 := 0#32
  let v149 : BitVec 32 := Scalar.select v128 v148 c0_i32_59
  let v152 : BitVec 32 := Scalar.addi v101 v149
  let c8_i32_208 : BitVec 32 := 8#32
  let v454 : BitVec 32 := Scalar.muli v152 c8_i32_208
  let v455 : BitVec 32 := v454
  let c0_i32_210 : BitVec 32 := 0#32
  let v179 : BitVec 1 := Scalar.cmpi .sgt v155 v154
  let c0_i32_64 : BitVec 32 := 0#32
  let v161 : BitVec 1 := Scalar.cmpi .sgt v157 c0_i32_64
  let v162 : BitVec 32 := Scalar.extui v161
  let c0_i32_65 : BitVec 32 := 0#32
  let v163 : BitVec 1 := Scalar.cmpi .slt v157 c0_i32_65
  let v164 : BitVec 32 := Scalar.extui v163
  let v165 : BitVec 32 := Scalar.subi v162 v164
  let c8_i32_63 : BitVec 32 := 8#32
  let c0_i32_66 : BitVec 32 := 0#32
  let v166 : BitVec 1 := Scalar.cmpi .sgt c8_i32_63 c0_i32_66
  let v167 : BitVec 32 := Scalar.extui v166
  let c0_i32_67 : BitVec 32 := 0#32
  let v168 : BitVec 1 := Scalar.cmpi .slt c8_i32_63 c0_i32_67
  let v169 : BitVec 32 := Scalar.extui v168
  let v170 : BitVec 32 := Scalar.subi v167 v169
  let v171 : BitVec 1 := Scalar.cmpi .ne v165 v170
  let v172 : BitVec 32 := Scalar.remsi v157 c8_i32_63
  let c0_i32_68 : BitVec 32 := 0#32
  let v173 : BitVec 1 := Scalar.cmpi .ne v172 c0_i32_68
  let v174 : BitVec 1 := Scalar.andi v171 v173
  let v160 : BitVec 32 := Scalar.divsi v157 c8_i32_63
  let c1_i32_69 : BitVec 32 := 1#32
  let v175 : BitVec 32 := Scalar.subi v160 c1_i32_69
  let v176 : BitVec 32 := Scalar.select v174 v175 v160
  let c8_i32_70 : BitVec 32 := 8#32
  let v177 : BitVec 32 := Scalar.muli v176 c8_i32_70
  let v178 : BitVec 32 := Scalar.subi v157 v177
  let v180 : BitVec 32 := Scalar.addi v178 v159
  let c8_i32_71 : BitVec 32 := 8#32
  let v181 : BitVec 32 := Scalar.addi v180 c8_i32_71
  let c1_i32_72 : BitVec 32 := 1#32
  let v182 : BitVec 32 := Scalar.subi v181 c1_i32_72
  let c0_i32_74 : BitVec 32 := 0#32
  let v184 : BitVec 1 := Scalar.cmpi .sgt v182 c0_i32_74
  let v185 : BitVec 32 := Scalar.extui v184
  let c0_i32_75 : BitVec 32 := 0#32
  let v186 : BitVec 1 := Scalar.cmpi .slt v182 c0_i32_75
  let v187 : BitVec 32 := Scalar.extui v186
  let v188 : BitVec 32 := Scalar.subi v185 v187
  let c8_i32_73 : BitVec 32 := 8#32
  let c0_i32_76 : BitVec 32 := 0#32
  let v189 : BitVec 1 := Scalar.cmpi .sgt c8_i32_73 c0_i32_76
  let v190 : BitVec 32 := Scalar.extui v189
  let c0_i32_77 : BitVec 32 := 0#32
  let v191 : BitVec 1 := Scalar.cmpi .slt c8_i32_73 c0_i32_77
  let v192 : BitVec 32 := Scalar.extui v191
  let v193 : BitVec 32 := Scalar.subi v190 v192
  let v194 : BitVec 1 := Scalar.cmpi .ne v188 v193
  let v195 : BitVec 32 := Scalar.remsi v182 c8_i32_73
  let c0_i32_78 : BitVec 32 := 0#32
  let v196 : BitVec 1 := Scalar.cmpi .ne v195 c0_i32_78
  let v197 : BitVec 1 := Scalar.andi v194 v196
  let v183 : BitVec 32 := Scalar.divsi v182 c8_i32_73
  let c1_i32_79 : BitVec 32 := 1#32
  let v198 : BitVec 32 := Scalar.subi v183 c1_i32_79
  let v199 : BitVec 32 := Scalar.select v197 v198 v183
  let c0_i32_80 : BitVec 32 := 0#32
  let v200 : BitVec 32 := Scalar.select v179 v199 c0_i32_80
  let c8_i32_206 : BitVec 32 := 8#32
  let v450 : BitVec 32 := Scalar.muli v200 c8_i32_206
  let v451 : BitVec 32 := v450
  ⟨![v455.toNat, 0], ![v451.toNat, 4096]⟩
def k0_off14 (v154 : BitVec 32) (v155 : BitVec 32) (v157 : BitVec 32) (v159 : BitVec 32) : (Fin 2 → Nat) × (Fin 2 → Nat) :=
  let c0_i32_64 : BitVec 32 := 0#32
  let v161 : BitVec 1 := Scalar.cmpi .sgt v157 c0_i32_64
  let v162 : BitVec 32 := Scalar.extui v161
  let c0_i32_65 : BitVec 32 := 0#32
  let v163 : BitVec 1 := Scalar.cmpi .slt v157 c0_i32_65
  let v164 : BitVec 32 := Scalar.extui v163
  let v165 : BitVec 32 := Scalar.subi v162 v164
  let c8_i32_63 : BitVec 32 := 8#32
  let c0_i32_66 : BitVec 32 := 0#32
  let v166 : BitVec 1 := Scalar.cmpi .sgt c8_i32_63 c0_i32_66
  let v167 : BitVec 32 := Scalar.extui v166
  let c0_i32_67 : BitVec 32 := 0#32
  let v168 : BitVec 1 := Scalar.cmpi .slt c8_i32_63 c0_i32_67
  let v169 : BitVec 32 := Scalar.extui v168
  let v170 : BitVec 32 := Scalar.subi v167 v169
  let v171 : BitVec 1 := Scalar.cmpi .ne v165 v170
  let v172 : BitVec 32 := Scalar.remsi v157 c8_i32_63
  let c0_i32_68 : BitVec 32 := 0#32
  let v173 : BitVec 1 := Scalar.cmpi .ne v172 c0_i32_68
  let v174 : BitVec 1 := Scalar.andi v171 v173
  let v160 : BitVec 32 := Scalar.divsi v157 c8_i32_63
  let c1_i32_69 : BitVec 32 := 1#32
  let v175 : BitVec 32 := Scalar.subi v160 c1_i32_69
  let v176 : BitVec 32 := Scalar.select v174 v175 v160
  let c8_i32_207 : BitVec 32 := 8#32
  let v452 : BitVec 32 := Scalar.muli v176 c8_i32_207
  let v453 : BitVec 32 := v452
  let c0_i32_211 : BitVec 32 := 0#32
  let v179 : BitVec 1 := Scalar.cmpi .sgt v155 v154
  let c8_i32_70 : BitVec 32 := 8#32
  let v177 : BitVec 32 := Scalar.muli v176 c8_i32_70
  let v178 : BitVec 32 := Scalar.subi v157 v177
  let v180 : BitVec 32 := Scalar.addi v178 v159
  let c8_i32_71 : BitVec 32 := 8#32
  let v181 : BitVec 32 := Scalar.addi v180 c8_i32_71
  let c1_i32_72 : BitVec 32 := 1#32
  let v182 : BitVec 32 := Scalar.subi v181 c1_i32_72
  let c0_i32_74 : BitVec 32 := 0#32
  let v184 : BitVec 1 := Scalar.cmpi .sgt v182 c0_i32_74
  let v185 : BitVec 32 := Scalar.extui v184
  let c0_i32_75 : BitVec 32 := 0#32
  let v186 : BitVec 1 := Scalar.cmpi .slt v182 c0_i32_75
  let v187 : BitVec 32 := Scalar.extui v186
  let v188 : BitVec 32 := Scalar.subi v185 v187
  let c8_i32_73 : BitVec 32 := 8#32
  let c0_i32_76 : BitVec 32 := 0#32
  let v189 : BitVec 1 := Scalar.cmpi .sgt c8_i32_73 c0_i32_76
  let v190 : BitVec 32 := Scalar.extui v189
  let c0_i32_77 : BitVec 32 := 0#32
  let v191 : BitVec 1 := Scalar.cmpi .slt c8_i32_73 c0_i32_77
  let v192 : BitVec 32 := Scalar.extui v191
  let v193 : BitVec 32 := Scalar.subi v190 v192
  let v194 : BitVec 1 := Scalar.cmpi .ne v188 v193
  let v195 : BitVec 32 := Scalar.remsi v182 c8_i32_73
  let c0_i32_78 : BitVec 32 := 0#32
  let v196 : BitVec 1 := Scalar.cmpi .ne v195 c0_i32_78
  let v197 : BitVec 1 := Scalar.andi v194 v196
  let v183 : BitVec 32 := Scalar.divsi v182 c8_i32_73
  let c1_i32_79 : BitVec 32 := 1#32
  let v198 : BitVec 32 := Scalar.subi v183 c1_i32_79
  let v199 : BitVec 32 := Scalar.select v197 v198 v183
  let c0_i32_80 : BitVec 32 := 0#32
  let v200 : BitVec 32 := Scalar.select v179 v199 c0_i32_80
  let c8_i32_206 : BitVec 32 := 8#32
  let v450 : BitVec 32 := Scalar.muli v200 c8_i32_206
  let v451 : BitVec 32 := v450
  ⟨![v453.toNat, 0], ![v451.toNat, 4096]⟩
def k0_mult13 (v205 : BitVec 32) (v206 : BitVec 32) (v208 : BitVec 32) (v210 : BitVec 32) : BitVec 32 :=
  let v230 : BitVec 1 := Scalar.cmpi .sgt v206 v205
  let c0_i32_85 : BitVec 32 := 0#32
  let v212 : BitVec 1 := Scalar.cmpi .sgt v208 c0_i32_85
  let v213 : BitVec 32 := Scalar.extui v212
  let c0_i32_86 : BitVec 32 := 0#32
  let v214 : BitVec 1 := Scalar.cmpi .slt v208 c0_i32_86
  let v215 : BitVec 32 := Scalar.extui v214
  let v216 : BitVec 32 := Scalar.subi v213 v215
  let c8_i32_84 : BitVec 32 := 8#32
  let c0_i32_87 : BitVec 32 := 0#32
  let v217 : BitVec 1 := Scalar.cmpi .sgt c8_i32_84 c0_i32_87
  let v218 : BitVec 32 := Scalar.extui v217
  let c0_i32_88 : BitVec 32 := 0#32
  let v219 : BitVec 1 := Scalar.cmpi .slt c8_i32_84 c0_i32_88
  let v220 : BitVec 32 := Scalar.extui v219
  let v221 : BitVec 32 := Scalar.subi v218 v220
  let v222 : BitVec 1 := Scalar.cmpi .ne v216 v221
  let v223 : BitVec 32 := Scalar.remsi v208 c8_i32_84
  let c0_i32_89 : BitVec 32 := 0#32
  let v224 : BitVec 1 := Scalar.cmpi .ne v223 c0_i32_89
  let v225 : BitVec 1 := Scalar.andi v222 v224
  let v211 : BitVec 32 := Scalar.divsi v208 c8_i32_84
  let c1_i32_90 : BitVec 32 := 1#32
  let v226 : BitVec 32 := Scalar.subi v211 c1_i32_90
  let v227 : BitVec 32 := Scalar.select v225 v226 v211
  let c8_i32_91 : BitVec 32 := 8#32
  let v228 : BitVec 32 := Scalar.muli v227 c8_i32_91
  let v229 : BitVec 32 := Scalar.subi v208 v228
  let v231 : BitVec 32 := Scalar.addi v229 v210
  let c8_i32_92 : BitVec 32 := 8#32
  let v232 : BitVec 32 := Scalar.addi v231 c8_i32_92
  let c1_i32_93 : BitVec 32 := 1#32
  let v233 : BitVec 32 := Scalar.subi v232 c1_i32_93
  let c0_i32_95 : BitVec 32 := 0#32
  let v235 : BitVec 1 := Scalar.cmpi .sgt v233 c0_i32_95
  let v236 : BitVec 32 := Scalar.extui v235
  let c0_i32_96 : BitVec 32 := 0#32
  let v237 : BitVec 1 := Scalar.cmpi .slt v233 c0_i32_96
  let v238 : BitVec 32 := Scalar.extui v237
  let v239 : BitVec 32 := Scalar.subi v236 v238
  let c8_i32_94 : BitVec 32 := 8#32
  let c0_i32_97 : BitVec 32 := 0#32
  let v240 : BitVec 1 := Scalar.cmpi .sgt c8_i32_94 c0_i32_97
  let v241 : BitVec 32 := Scalar.extui v240
  let c0_i32_98 : BitVec 32 := 0#32
  let v242 : BitVec 1 := Scalar.cmpi .slt c8_i32_94 c0_i32_98
  let v243 : BitVec 32 := Scalar.extui v242
  let v244 : BitVec 32 := Scalar.subi v241 v243
  let v245 : BitVec 1 := Scalar.cmpi .ne v239 v244
  let v246 : BitVec 32 := Scalar.remsi v233 c8_i32_94
  let c0_i32_99 : BitVec 32 := 0#32
  let v247 : BitVec 1 := Scalar.cmpi .ne v246 c0_i32_99
  let v248 : BitVec 1 := Scalar.andi v245 v247
  let v234 : BitVec 32 := Scalar.divsi v233 c8_i32_94
  let c1_i32_100 : BitVec 32 := 1#32
  let v249 : BitVec 32 := Scalar.subi v234 c1_i32_100
  let v250 : BitVec 32 := Scalar.select v248 v249 v234
  let c0_i32_101 : BitVec 32 := 0#32
  let v251 : BitVec 32 := Scalar.select v230 v250 c0_i32_101
  let c8_i32_206 : BitVec 32 := 8#32
  let v450 : BitVec 32 := Scalar.muli v251 c8_i32_206
  v450
def k0_cond6 (v205 : BitVec 32) (v206 : BitVec 32) (v208 : BitVec 32) (v210 : BitVec 32) : BitVec 1 :=
  let v230 : BitVec 1 := Scalar.cmpi .sgt v206 v205
  let c0_i32_85 : BitVec 32 := 0#32
  let v212 : BitVec 1 := Scalar.cmpi .sgt v208 c0_i32_85
  let v213 : BitVec 32 := Scalar.extui v212
  let c0_i32_86 : BitVec 32 := 0#32
  let v214 : BitVec 1 := Scalar.cmpi .slt v208 c0_i32_86
  let v215 : BitVec 32 := Scalar.extui v214
  let v216 : BitVec 32 := Scalar.subi v213 v215
  let c8_i32_84 : BitVec 32 := 8#32
  let c0_i32_87 : BitVec 32 := 0#32
  let v217 : BitVec 1 := Scalar.cmpi .sgt c8_i32_84 c0_i32_87
  let v218 : BitVec 32 := Scalar.extui v217
  let c0_i32_88 : BitVec 32 := 0#32
  let v219 : BitVec 1 := Scalar.cmpi .slt c8_i32_84 c0_i32_88
  let v220 : BitVec 32 := Scalar.extui v219
  let v221 : BitVec 32 := Scalar.subi v218 v220
  let v222 : BitVec 1 := Scalar.cmpi .ne v216 v221
  let v223 : BitVec 32 := Scalar.remsi v208 c8_i32_84
  let c0_i32_89 : BitVec 32 := 0#32
  let v224 : BitVec 1 := Scalar.cmpi .ne v223 c0_i32_89
  let v225 : BitVec 1 := Scalar.andi v222 v224
  let v211 : BitVec 32 := Scalar.divsi v208 c8_i32_84
  let c1_i32_90 : BitVec 32 := 1#32
  let v226 : BitVec 32 := Scalar.subi v211 c1_i32_90
  let v227 : BitVec 32 := Scalar.select v225 v226 v211
  let c8_i32_91 : BitVec 32 := 8#32
  let v228 : BitVec 32 := Scalar.muli v227 c8_i32_91
  let v229 : BitVec 32 := Scalar.subi v208 v228
  let v231 : BitVec 32 := Scalar.addi v229 v210
  let c8_i32_92 : BitVec 32 := 8#32
  let v232 : BitVec 32 := Scalar.addi v231 c8_i32_92
  let c1_i32_93 : BitVec 32 := 1#32
  let v233 : BitVec 32 := Scalar.subi v232 c1_i32_93
  let c0_i32_95 : BitVec 32 := 0#32
  let v235 : BitVec 1 := Scalar.cmpi .sgt v233 c0_i32_95
  let v236 : BitVec 32 := Scalar.extui v235
  let c0_i32_96 : BitVec 32 := 0#32
  let v237 : BitVec 1 := Scalar.cmpi .slt v233 c0_i32_96
  let v238 : BitVec 32 := Scalar.extui v237
  let v239 : BitVec 32 := Scalar.subi v236 v238
  let c8_i32_94 : BitVec 32 := 8#32
  let c0_i32_97 : BitVec 32 := 0#32
  let v240 : BitVec 1 := Scalar.cmpi .sgt c8_i32_94 c0_i32_97
  let v241 : BitVec 32 := Scalar.extui v240
  let c0_i32_98 : BitVec 32 := 0#32
  let v242 : BitVec 1 := Scalar.cmpi .slt c8_i32_94 c0_i32_98
  let v243 : BitVec 32 := Scalar.extui v242
  let v244 : BitVec 32 := Scalar.subi v241 v243
  let v245 : BitVec 1 := Scalar.cmpi .ne v239 v244
  let v246 : BitVec 32 := Scalar.remsi v233 c8_i32_94
  let c0_i32_99 : BitVec 32 := 0#32
  let v247 : BitVec 1 := Scalar.cmpi .ne v246 c0_i32_99
  let v248 : BitVec 1 := Scalar.andi v245 v247
  let v234 : BitVec 32 := Scalar.divsi v233 c8_i32_94
  let c1_i32_100 : BitVec 32 := 1#32
  let v249 : BitVec 32 := Scalar.subi v234 c1_i32_100
  let v250 : BitVec 32 := Scalar.select v248 v249 v234
  let c0_i32_101 : BitVec 32 := 0#32
  let v251 : BitVec 32 := Scalar.select v230 v250 c0_i32_101
  let c0_i32_190 : BitVec 32 := 0#32
  let v426 : BitVec 1 := Scalar.cmpi .sgt v251 c0_i32_190
  let v427 : BitVec 32 := Scalar.extui v426
  let c0_i32_191 : BitVec 32 := 0#32
  let v428 : BitVec 1 := Scalar.cmpi .ne v427 c0_i32_191
  v428

def k0_mult14 (v208 : BitVec 32) : BitVec 32 :=
  let c0_i32_85 : BitVec 32 := 0#32
  let v212 : BitVec 1 := Scalar.cmpi .sgt v208 c0_i32_85
  let v213 : BitVec 32 := Scalar.extui v212
  let c0_i32_86 : BitVec 32 := 0#32
  let v214 : BitVec 1 := Scalar.cmpi .slt v208 c0_i32_86
  let v215 : BitVec 32 := Scalar.extui v214
  let v216 : BitVec 32 := Scalar.subi v213 v215
  let c8_i32_84 : BitVec 32 := 8#32
  let c0_i32_87 : BitVec 32 := 0#32
  let v217 : BitVec 1 := Scalar.cmpi .sgt c8_i32_84 c0_i32_87
  let v218 : BitVec 32 := Scalar.extui v217
  let c0_i32_88 : BitVec 32 := 0#32
  let v219 : BitVec 1 := Scalar.cmpi .slt c8_i32_84 c0_i32_88
  let v220 : BitVec 32 := Scalar.extui v219
  let v221 : BitVec 32 := Scalar.subi v218 v220
  let v222 : BitVec 1 := Scalar.cmpi .ne v216 v221
  let v223 : BitVec 32 := Scalar.remsi v208 c8_i32_84
  let c0_i32_89 : BitVec 32 := 0#32
  let v224 : BitVec 1 := Scalar.cmpi .ne v223 c0_i32_89
  let v225 : BitVec 1 := Scalar.andi v222 v224
  let v211 : BitVec 32 := Scalar.divsi v208 c8_i32_84
  let c1_i32_90 : BitVec 32 := 1#32
  let v226 : BitVec 32 := Scalar.subi v211 c1_i32_90
  let v227 : BitVec 32 := Scalar.select v225 v226 v211
  let c8_i32_207 : BitVec 32 := 8#32
  let v452 : BitVec 32 := Scalar.muli v227 c8_i32_207
  v452
def k0_mult15 (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) : BitVec 32 :=
  let c0_i32_18 : BitVec 32 := 0#32
  let v26 : BitVec 1 := Scalar.cmpi .sgt v2 v1
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let v50 : BitVec 32 := Scalar.addi c0_i32_18 v47
  let v77 : BitVec 1 := Scalar.cmpi .sgt v53 v52
  let c0_i32_22 : BitVec 32 := 0#32
  let v59 : BitVec 1 := Scalar.cmpi .sgt v55 c0_i32_22
  let v60 : BitVec 32 := Scalar.extui v59
  let c0_i32_23 : BitVec 32 := 0#32
  let v61 : BitVec 1 := Scalar.cmpi .slt v55 c0_i32_23
  let v62 : BitVec 32 := Scalar.extui v61
  let v63 : BitVec 32 := Scalar.subi v60 v62
  let c8_i32_21 : BitVec 32 := 8#32
  let c0_i32_24 : BitVec 32 := 0#32
  let v64 : BitVec 1 := Scalar.cmpi .sgt c8_i32_21 c0_i32_24
  let v65 : BitVec 32 := Scalar.extui v64
  let c0_i32_25 : BitVec 32 := 0#32
  let v66 : BitVec 1 := Scalar.cmpi .slt c8_i32_21 c0_i32_25
  let v67 : BitVec 32 := Scalar.extui v66
  let v68 : BitVec 32 := Scalar.subi v65 v67
  let v69 : BitVec 1 := Scalar.cmpi .ne v63 v68
  let v70 : BitVec 32 := Scalar.remsi v55 c8_i32_21
  let c0_i32_26 : BitVec 32 := 0#32
  let v71 : BitVec 1 := Scalar.cmpi .ne v70 c0_i32_26
  let v72 : BitVec 1 := Scalar.andi v69 v71
  let v58 : BitVec 32 := Scalar.divsi v55 c8_i32_21
  let c1_i32_27 : BitVec 32 := 1#32
  let v73 : BitVec 32 := Scalar.subi v58 c1_i32_27
  let v74 : BitVec 32 := Scalar.select v72 v73 v58
  let c8_i32_28 : BitVec 32 := 8#32
  let v75 : BitVec 32 := Scalar.muli v74 c8_i32_28
  let v76 : BitVec 32 := Scalar.subi v55 v75
  let v78 : BitVec 32 := Scalar.addi v76 v57
  let c8_i32_29 : BitVec 32 := 8#32
  let v79 : BitVec 32 := Scalar.addi v78 c8_i32_29
  let c1_i32_30 : BitVec 32 := 1#32
  let v80 : BitVec 32 := Scalar.subi v79 c1_i32_30
  let c0_i32_32 : BitVec 32 := 0#32
  let v82 : BitVec 1 := Scalar.cmpi .sgt v80 c0_i32_32
  let v83 : BitVec 32 := Scalar.extui v82
  let c0_i32_33 : BitVec 32 := 0#32
  let v84 : BitVec 1 := Scalar.cmpi .slt v80 c0_i32_33
  let v85 : BitVec 32 := Scalar.extui v84
  let v86 : BitVec 32 := Scalar.subi v83 v85
  let c8_i32_31 : BitVec 32 := 8#32
  let c0_i32_34 : BitVec 32 := 0#32
  let v87 : BitVec 1 := Scalar.cmpi .sgt c8_i32_31 c0_i32_34
  let v88 : BitVec 32 := Scalar.extui v87
  let c0_i32_35 : BitVec 32 := 0#32
  let v89 : BitVec 1 := Scalar.cmpi .slt c8_i32_31 c0_i32_35
  let v90 : BitVec 32 := Scalar.extui v89
  let v91 : BitVec 32 := Scalar.subi v88 v90
  let v92 : BitVec 1 := Scalar.cmpi .ne v86 v91
  let v93 : BitVec 32 := Scalar.remsi v80 c8_i32_31
  let c0_i32_36 : BitVec 32 := 0#32
  let v94 : BitVec 1 := Scalar.cmpi .ne v93 c0_i32_36
  let v95 : BitVec 1 := Scalar.andi v92 v94
  let v81 : BitVec 32 := Scalar.divsi v80 c8_i32_31
  let c1_i32_37 : BitVec 32 := 1#32
  let v96 : BitVec 32 := Scalar.subi v81 c1_i32_37
  let v97 : BitVec 32 := Scalar.select v95 v96 v81
  let c0_i32_38 : BitVec 32 := 0#32
  let v98 : BitVec 32 := Scalar.select v77 v97 c0_i32_38
  let v101 : BitVec 32 := Scalar.addi v50 v98
  let v128 : BitVec 1 := Scalar.cmpi .sgt v104 v103
  let c0_i32_43 : BitVec 32 := 0#32
  let v110 : BitVec 1 := Scalar.cmpi .sgt v106 c0_i32_43
  let v111 : BitVec 32 := Scalar.extui v110
  let c0_i32_44 : BitVec 32 := 0#32
  let v112 : BitVec 1 := Scalar.cmpi .slt v106 c0_i32_44
  let v113 : BitVec 32 := Scalar.extui v112
  let v114 : BitVec 32 := Scalar.subi v111 v113
  let c8_i32_42 : BitVec 32 := 8#32
  let c0_i32_45 : BitVec 32 := 0#32
  let v115 : BitVec 1 := Scalar.cmpi .sgt c8_i32_42 c0_i32_45
  let v116 : BitVec 32 := Scalar.extui v115
  let c0_i32_46 : BitVec 32 := 0#32
  let v117 : BitVec 1 := Scalar.cmpi .slt c8_i32_42 c0_i32_46
  let v118 : BitVec 32 := Scalar.extui v117
  let v119 : BitVec 32 := Scalar.subi v116 v118
  let v120 : BitVec 1 := Scalar.cmpi .ne v114 v119
  let v121 : BitVec 32 := Scalar.remsi v106 c8_i32_42
  let c0_i32_47 : BitVec 32 := 0#32
  let v122 : BitVec 1 := Scalar.cmpi .ne v121 c0_i32_47
  let v123 : BitVec 1 := Scalar.andi v120 v122
  let v109 : BitVec 32 := Scalar.divsi v106 c8_i32_42
  let c1_i32_48 : BitVec 32 := 1#32
  let v124 : BitVec 32 := Scalar.subi v109 c1_i32_48
  let v125 : BitVec 32 := Scalar.select v123 v124 v109
  let c8_i32_49 : BitVec 32 := 8#32
  let v126 : BitVec 32 := Scalar.muli v125 c8_i32_49
  let v127 : BitVec 32 := Scalar.subi v106 v126
  let v129 : BitVec 32 := Scalar.addi v127 v108
  let c8_i32_50 : BitVec 32 := 8#32
  let v130 : BitVec 32 := Scalar.addi v129 c8_i32_50
  let c1_i32_51 : BitVec 32 := 1#32
  let v131 : BitVec 32 := Scalar.subi v130 c1_i32_51
  let c0_i32_53 : BitVec 32 := 0#32
  let v133 : BitVec 1 := Scalar.cmpi .sgt v131 c0_i32_53
  let v134 : BitVec 32 := Scalar.extui v133
  let c0_i32_54 : BitVec 32 := 0#32
  let v135 : BitVec 1 := Scalar.cmpi .slt v131 c0_i32_54
  let v136 : BitVec 32 := Scalar.extui v135
  let v137 : BitVec 32 := Scalar.subi v134 v136
  let c8_i32_52 : BitVec 32 := 8#32
  let c0_i32_55 : BitVec 32 := 0#32
  let v138 : BitVec 1 := Scalar.cmpi .sgt c8_i32_52 c0_i32_55
  let v139 : BitVec 32 := Scalar.extui v138
  let c0_i32_56 : BitVec 32 := 0#32
  let v140 : BitVec 1 := Scalar.cmpi .slt c8_i32_52 c0_i32_56
  let v141 : BitVec 32 := Scalar.extui v140
  let v142 : BitVec 32 := Scalar.subi v139 v141
  let v143 : BitVec 1 := Scalar.cmpi .ne v137 v142
  let v144 : BitVec 32 := Scalar.remsi v131 c8_i32_52
  let c0_i32_57 : BitVec 32 := 0#32
  let v145 : BitVec 1 := Scalar.cmpi .ne v144 c0_i32_57
  let v146 : BitVec 1 := Scalar.andi v143 v145
  let v132 : BitVec 32 := Scalar.divsi v131 c8_i32_52
  let c1_i32_58 : BitVec 32 := 1#32
  let v147 : BitVec 32 := Scalar.subi v132 c1_i32_58
  let v148 : BitVec 32 := Scalar.select v146 v147 v132
  let c0_i32_59 : BitVec 32 := 0#32
  let v149 : BitVec 32 := Scalar.select v128 v148 c0_i32_59
  let v152 : BitVec 32 := Scalar.addi v101 v149
  let v179 : BitVec 1 := Scalar.cmpi .sgt v155 v154
  let c0_i32_64 : BitVec 32 := 0#32
  let v161 : BitVec 1 := Scalar.cmpi .sgt v157 c0_i32_64
  let v162 : BitVec 32 := Scalar.extui v161
  let c0_i32_65 : BitVec 32 := 0#32
  let v163 : BitVec 1 := Scalar.cmpi .slt v157 c0_i32_65
  let v164 : BitVec 32 := Scalar.extui v163
  let v165 : BitVec 32 := Scalar.subi v162 v164
  let c8_i32_63 : BitVec 32 := 8#32
  let c0_i32_66 : BitVec 32 := 0#32
  let v166 : BitVec 1 := Scalar.cmpi .sgt c8_i32_63 c0_i32_66
  let v167 : BitVec 32 := Scalar.extui v166
  let c0_i32_67 : BitVec 32 := 0#32
  let v168 : BitVec 1 := Scalar.cmpi .slt c8_i32_63 c0_i32_67
  let v169 : BitVec 32 := Scalar.extui v168
  let v170 : BitVec 32 := Scalar.subi v167 v169
  let v171 : BitVec 1 := Scalar.cmpi .ne v165 v170
  let v172 : BitVec 32 := Scalar.remsi v157 c8_i32_63
  let c0_i32_68 : BitVec 32 := 0#32
  let v173 : BitVec 1 := Scalar.cmpi .ne v172 c0_i32_68
  let v174 : BitVec 1 := Scalar.andi v171 v173
  let v160 : BitVec 32 := Scalar.divsi v157 c8_i32_63
  let c1_i32_69 : BitVec 32 := 1#32
  let v175 : BitVec 32 := Scalar.subi v160 c1_i32_69
  let v176 : BitVec 32 := Scalar.select v174 v175 v160
  let c8_i32_70 : BitVec 32 := 8#32
  let v177 : BitVec 32 := Scalar.muli v176 c8_i32_70
  let v178 : BitVec 32 := Scalar.subi v157 v177
  let v180 : BitVec 32 := Scalar.addi v178 v159
  let c8_i32_71 : BitVec 32 := 8#32
  let v181 : BitVec 32 := Scalar.addi v180 c8_i32_71
  let c1_i32_72 : BitVec 32 := 1#32
  let v182 : BitVec 32 := Scalar.subi v181 c1_i32_72
  let c0_i32_74 : BitVec 32 := 0#32
  let v184 : BitVec 1 := Scalar.cmpi .sgt v182 c0_i32_74
  let v185 : BitVec 32 := Scalar.extui v184
  let c0_i32_75 : BitVec 32 := 0#32
  let v186 : BitVec 1 := Scalar.cmpi .slt v182 c0_i32_75
  let v187 : BitVec 32 := Scalar.extui v186
  let v188 : BitVec 32 := Scalar.subi v185 v187
  let c8_i32_73 : BitVec 32 := 8#32
  let c0_i32_76 : BitVec 32 := 0#32
  let v189 : BitVec 1 := Scalar.cmpi .sgt c8_i32_73 c0_i32_76
  let v190 : BitVec 32 := Scalar.extui v189
  let c0_i32_77 : BitVec 32 := 0#32
  let v191 : BitVec 1 := Scalar.cmpi .slt c8_i32_73 c0_i32_77
  let v192 : BitVec 32 := Scalar.extui v191
  let v193 : BitVec 32 := Scalar.subi v190 v192
  let v194 : BitVec 1 := Scalar.cmpi .ne v188 v193
  let v195 : BitVec 32 := Scalar.remsi v182 c8_i32_73
  let c0_i32_78 : BitVec 32 := 0#32
  let v196 : BitVec 1 := Scalar.cmpi .ne v195 c0_i32_78
  let v197 : BitVec 1 := Scalar.andi v194 v196
  let v183 : BitVec 32 := Scalar.divsi v182 c8_i32_73
  let c1_i32_79 : BitVec 32 := 1#32
  let v198 : BitVec 32 := Scalar.subi v183 c1_i32_79
  let v199 : BitVec 32 := Scalar.select v197 v198 v183
  let c0_i32_80 : BitVec 32 := 0#32
  let v200 : BitVec 32 := Scalar.select v179 v199 c0_i32_80
  let v203 : BitVec 32 := Scalar.addi v152 v200
  let c8_i32_208 : BitVec 32 := 8#32
  let v454 : BitVec 32 := Scalar.muli v203 c8_i32_208
  v454
def k0_off15 (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) : (Fin 2 → Nat) × (Fin 2 → Nat) :=
  let c0_i32_18 : BitVec 32 := 0#32
  let v26 : BitVec 1 := Scalar.cmpi .sgt v2 v1
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let v50 : BitVec 32 := Scalar.addi c0_i32_18 v47
  let v77 : BitVec 1 := Scalar.cmpi .sgt v53 v52
  let c0_i32_22 : BitVec 32 := 0#32
  let v59 : BitVec 1 := Scalar.cmpi .sgt v55 c0_i32_22
  let v60 : BitVec 32 := Scalar.extui v59
  let c0_i32_23 : BitVec 32 := 0#32
  let v61 : BitVec 1 := Scalar.cmpi .slt v55 c0_i32_23
  let v62 : BitVec 32 := Scalar.extui v61
  let v63 : BitVec 32 := Scalar.subi v60 v62
  let c8_i32_21 : BitVec 32 := 8#32
  let c0_i32_24 : BitVec 32 := 0#32
  let v64 : BitVec 1 := Scalar.cmpi .sgt c8_i32_21 c0_i32_24
  let v65 : BitVec 32 := Scalar.extui v64
  let c0_i32_25 : BitVec 32 := 0#32
  let v66 : BitVec 1 := Scalar.cmpi .slt c8_i32_21 c0_i32_25
  let v67 : BitVec 32 := Scalar.extui v66
  let v68 : BitVec 32 := Scalar.subi v65 v67
  let v69 : BitVec 1 := Scalar.cmpi .ne v63 v68
  let v70 : BitVec 32 := Scalar.remsi v55 c8_i32_21
  let c0_i32_26 : BitVec 32 := 0#32
  let v71 : BitVec 1 := Scalar.cmpi .ne v70 c0_i32_26
  let v72 : BitVec 1 := Scalar.andi v69 v71
  let v58 : BitVec 32 := Scalar.divsi v55 c8_i32_21
  let c1_i32_27 : BitVec 32 := 1#32
  let v73 : BitVec 32 := Scalar.subi v58 c1_i32_27
  let v74 : BitVec 32 := Scalar.select v72 v73 v58
  let c8_i32_28 : BitVec 32 := 8#32
  let v75 : BitVec 32 := Scalar.muli v74 c8_i32_28
  let v76 : BitVec 32 := Scalar.subi v55 v75
  let v78 : BitVec 32 := Scalar.addi v76 v57
  let c8_i32_29 : BitVec 32 := 8#32
  let v79 : BitVec 32 := Scalar.addi v78 c8_i32_29
  let c1_i32_30 : BitVec 32 := 1#32
  let v80 : BitVec 32 := Scalar.subi v79 c1_i32_30
  let c0_i32_32 : BitVec 32 := 0#32
  let v82 : BitVec 1 := Scalar.cmpi .sgt v80 c0_i32_32
  let v83 : BitVec 32 := Scalar.extui v82
  let c0_i32_33 : BitVec 32 := 0#32
  let v84 : BitVec 1 := Scalar.cmpi .slt v80 c0_i32_33
  let v85 : BitVec 32 := Scalar.extui v84
  let v86 : BitVec 32 := Scalar.subi v83 v85
  let c8_i32_31 : BitVec 32 := 8#32
  let c0_i32_34 : BitVec 32 := 0#32
  let v87 : BitVec 1 := Scalar.cmpi .sgt c8_i32_31 c0_i32_34
  let v88 : BitVec 32 := Scalar.extui v87
  let c0_i32_35 : BitVec 32 := 0#32
  let v89 : BitVec 1 := Scalar.cmpi .slt c8_i32_31 c0_i32_35
  let v90 : BitVec 32 := Scalar.extui v89
  let v91 : BitVec 32 := Scalar.subi v88 v90
  let v92 : BitVec 1 := Scalar.cmpi .ne v86 v91
  let v93 : BitVec 32 := Scalar.remsi v80 c8_i32_31
  let c0_i32_36 : BitVec 32 := 0#32
  let v94 : BitVec 1 := Scalar.cmpi .ne v93 c0_i32_36
  let v95 : BitVec 1 := Scalar.andi v92 v94
  let v81 : BitVec 32 := Scalar.divsi v80 c8_i32_31
  let c1_i32_37 : BitVec 32 := 1#32
  let v96 : BitVec 32 := Scalar.subi v81 c1_i32_37
  let v97 : BitVec 32 := Scalar.select v95 v96 v81
  let c0_i32_38 : BitVec 32 := 0#32
  let v98 : BitVec 32 := Scalar.select v77 v97 c0_i32_38
  let v101 : BitVec 32 := Scalar.addi v50 v98
  let v128 : BitVec 1 := Scalar.cmpi .sgt v104 v103
  let c0_i32_43 : BitVec 32 := 0#32
  let v110 : BitVec 1 := Scalar.cmpi .sgt v106 c0_i32_43
  let v111 : BitVec 32 := Scalar.extui v110
  let c0_i32_44 : BitVec 32 := 0#32
  let v112 : BitVec 1 := Scalar.cmpi .slt v106 c0_i32_44
  let v113 : BitVec 32 := Scalar.extui v112
  let v114 : BitVec 32 := Scalar.subi v111 v113
  let c8_i32_42 : BitVec 32 := 8#32
  let c0_i32_45 : BitVec 32 := 0#32
  let v115 : BitVec 1 := Scalar.cmpi .sgt c8_i32_42 c0_i32_45
  let v116 : BitVec 32 := Scalar.extui v115
  let c0_i32_46 : BitVec 32 := 0#32
  let v117 : BitVec 1 := Scalar.cmpi .slt c8_i32_42 c0_i32_46
  let v118 : BitVec 32 := Scalar.extui v117
  let v119 : BitVec 32 := Scalar.subi v116 v118
  let v120 : BitVec 1 := Scalar.cmpi .ne v114 v119
  let v121 : BitVec 32 := Scalar.remsi v106 c8_i32_42
  let c0_i32_47 : BitVec 32 := 0#32
  let v122 : BitVec 1 := Scalar.cmpi .ne v121 c0_i32_47
  let v123 : BitVec 1 := Scalar.andi v120 v122
  let v109 : BitVec 32 := Scalar.divsi v106 c8_i32_42
  let c1_i32_48 : BitVec 32 := 1#32
  let v124 : BitVec 32 := Scalar.subi v109 c1_i32_48
  let v125 : BitVec 32 := Scalar.select v123 v124 v109
  let c8_i32_49 : BitVec 32 := 8#32
  let v126 : BitVec 32 := Scalar.muli v125 c8_i32_49
  let v127 : BitVec 32 := Scalar.subi v106 v126
  let v129 : BitVec 32 := Scalar.addi v127 v108
  let c8_i32_50 : BitVec 32 := 8#32
  let v130 : BitVec 32 := Scalar.addi v129 c8_i32_50
  let c1_i32_51 : BitVec 32 := 1#32
  let v131 : BitVec 32 := Scalar.subi v130 c1_i32_51
  let c0_i32_53 : BitVec 32 := 0#32
  let v133 : BitVec 1 := Scalar.cmpi .sgt v131 c0_i32_53
  let v134 : BitVec 32 := Scalar.extui v133
  let c0_i32_54 : BitVec 32 := 0#32
  let v135 : BitVec 1 := Scalar.cmpi .slt v131 c0_i32_54
  let v136 : BitVec 32 := Scalar.extui v135
  let v137 : BitVec 32 := Scalar.subi v134 v136
  let c8_i32_52 : BitVec 32 := 8#32
  let c0_i32_55 : BitVec 32 := 0#32
  let v138 : BitVec 1 := Scalar.cmpi .sgt c8_i32_52 c0_i32_55
  let v139 : BitVec 32 := Scalar.extui v138
  let c0_i32_56 : BitVec 32 := 0#32
  let v140 : BitVec 1 := Scalar.cmpi .slt c8_i32_52 c0_i32_56
  let v141 : BitVec 32 := Scalar.extui v140
  let v142 : BitVec 32 := Scalar.subi v139 v141
  let v143 : BitVec 1 := Scalar.cmpi .ne v137 v142
  let v144 : BitVec 32 := Scalar.remsi v131 c8_i32_52
  let c0_i32_57 : BitVec 32 := 0#32
  let v145 : BitVec 1 := Scalar.cmpi .ne v144 c0_i32_57
  let v146 : BitVec 1 := Scalar.andi v143 v145
  let v132 : BitVec 32 := Scalar.divsi v131 c8_i32_52
  let c1_i32_58 : BitVec 32 := 1#32
  let v147 : BitVec 32 := Scalar.subi v132 c1_i32_58
  let v148 : BitVec 32 := Scalar.select v146 v147 v132
  let c0_i32_59 : BitVec 32 := 0#32
  let v149 : BitVec 32 := Scalar.select v128 v148 c0_i32_59
  let v152 : BitVec 32 := Scalar.addi v101 v149
  let v179 : BitVec 1 := Scalar.cmpi .sgt v155 v154
  let c0_i32_64 : BitVec 32 := 0#32
  let v161 : BitVec 1 := Scalar.cmpi .sgt v157 c0_i32_64
  let v162 : BitVec 32 := Scalar.extui v161
  let c0_i32_65 : BitVec 32 := 0#32
  let v163 : BitVec 1 := Scalar.cmpi .slt v157 c0_i32_65
  let v164 : BitVec 32 := Scalar.extui v163
  let v165 : BitVec 32 := Scalar.subi v162 v164
  let c8_i32_63 : BitVec 32 := 8#32
  let c0_i32_66 : BitVec 32 := 0#32
  let v166 : BitVec 1 := Scalar.cmpi .sgt c8_i32_63 c0_i32_66
  let v167 : BitVec 32 := Scalar.extui v166
  let c0_i32_67 : BitVec 32 := 0#32
  let v168 : BitVec 1 := Scalar.cmpi .slt c8_i32_63 c0_i32_67
  let v169 : BitVec 32 := Scalar.extui v168
  let v170 : BitVec 32 := Scalar.subi v167 v169
  let v171 : BitVec 1 := Scalar.cmpi .ne v165 v170
  let v172 : BitVec 32 := Scalar.remsi v157 c8_i32_63
  let c0_i32_68 : BitVec 32 := 0#32
  let v173 : BitVec 1 := Scalar.cmpi .ne v172 c0_i32_68
  let v174 : BitVec 1 := Scalar.andi v171 v173
  let v160 : BitVec 32 := Scalar.divsi v157 c8_i32_63
  let c1_i32_69 : BitVec 32 := 1#32
  let v175 : BitVec 32 := Scalar.subi v160 c1_i32_69
  let v176 : BitVec 32 := Scalar.select v174 v175 v160
  let c8_i32_70 : BitVec 32 := 8#32
  let v177 : BitVec 32 := Scalar.muli v176 c8_i32_70
  let v178 : BitVec 32 := Scalar.subi v157 v177
  let v180 : BitVec 32 := Scalar.addi v178 v159
  let c8_i32_71 : BitVec 32 := 8#32
  let v181 : BitVec 32 := Scalar.addi v180 c8_i32_71
  let c1_i32_72 : BitVec 32 := 1#32
  let v182 : BitVec 32 := Scalar.subi v181 c1_i32_72
  let c0_i32_74 : BitVec 32 := 0#32
  let v184 : BitVec 1 := Scalar.cmpi .sgt v182 c0_i32_74
  let v185 : BitVec 32 := Scalar.extui v184
  let c0_i32_75 : BitVec 32 := 0#32
  let v186 : BitVec 1 := Scalar.cmpi .slt v182 c0_i32_75
  let v187 : BitVec 32 := Scalar.extui v186
  let v188 : BitVec 32 := Scalar.subi v185 v187
  let c8_i32_73 : BitVec 32 := 8#32
  let c0_i32_76 : BitVec 32 := 0#32
  let v189 : BitVec 1 := Scalar.cmpi .sgt c8_i32_73 c0_i32_76
  let v190 : BitVec 32 := Scalar.extui v189
  let c0_i32_77 : BitVec 32 := 0#32
  let v191 : BitVec 1 := Scalar.cmpi .slt c8_i32_73 c0_i32_77
  let v192 : BitVec 32 := Scalar.extui v191
  let v193 : BitVec 32 := Scalar.subi v190 v192
  let v194 : BitVec 1 := Scalar.cmpi .ne v188 v193
  let v195 : BitVec 32 := Scalar.remsi v182 c8_i32_73
  let c0_i32_78 : BitVec 32 := 0#32
  let v196 : BitVec 1 := Scalar.cmpi .ne v195 c0_i32_78
  let v197 : BitVec 1 := Scalar.andi v194 v196
  let v183 : BitVec 32 := Scalar.divsi v182 c8_i32_73
  let c1_i32_79 : BitVec 32 := 1#32
  let v198 : BitVec 32 := Scalar.subi v183 c1_i32_79
  let v199 : BitVec 32 := Scalar.select v197 v198 v183
  let c0_i32_80 : BitVec 32 := 0#32
  let v200 : BitVec 32 := Scalar.select v179 v199 c0_i32_80
  let v203 : BitVec 32 := Scalar.addi v152 v200
  let c8_i32_208 : BitVec 32 := 8#32
  let v454 : BitVec 32 := Scalar.muli v203 c8_i32_208
  let v455 : BitVec 32 := v454
  let c0_i32_210 : BitVec 32 := 0#32
  let v230 : BitVec 1 := Scalar.cmpi .sgt v206 v205
  let c0_i32_85 : BitVec 32 := 0#32
  let v212 : BitVec 1 := Scalar.cmpi .sgt v208 c0_i32_85
  let v213 : BitVec 32 := Scalar.extui v212
  let c0_i32_86 : BitVec 32 := 0#32
  let v214 : BitVec 1 := Scalar.cmpi .slt v208 c0_i32_86
  let v215 : BitVec 32 := Scalar.extui v214
  let v216 : BitVec 32 := Scalar.subi v213 v215
  let c8_i32_84 : BitVec 32 := 8#32
  let c0_i32_87 : BitVec 32 := 0#32
  let v217 : BitVec 1 := Scalar.cmpi .sgt c8_i32_84 c0_i32_87
  let v218 : BitVec 32 := Scalar.extui v217
  let c0_i32_88 : BitVec 32 := 0#32
  let v219 : BitVec 1 := Scalar.cmpi .slt c8_i32_84 c0_i32_88
  let v220 : BitVec 32 := Scalar.extui v219
  let v221 : BitVec 32 := Scalar.subi v218 v220
  let v222 : BitVec 1 := Scalar.cmpi .ne v216 v221
  let v223 : BitVec 32 := Scalar.remsi v208 c8_i32_84
  let c0_i32_89 : BitVec 32 := 0#32
  let v224 : BitVec 1 := Scalar.cmpi .ne v223 c0_i32_89
  let v225 : BitVec 1 := Scalar.andi v222 v224
  let v211 : BitVec 32 := Scalar.divsi v208 c8_i32_84
  let c1_i32_90 : BitVec 32 := 1#32
  let v226 : BitVec 32 := Scalar.subi v211 c1_i32_90
  let v227 : BitVec 32 := Scalar.select v225 v226 v211
  let c8_i32_91 : BitVec 32 := 8#32
  let v228 : BitVec 32 := Scalar.muli v227 c8_i32_91
  let v229 : BitVec 32 := Scalar.subi v208 v228
  let v231 : BitVec 32 := Scalar.addi v229 v210
  let c8_i32_92 : BitVec 32 := 8#32
  let v232 : BitVec 32 := Scalar.addi v231 c8_i32_92
  let c1_i32_93 : BitVec 32 := 1#32
  let v233 : BitVec 32 := Scalar.subi v232 c1_i32_93
  let c0_i32_95 : BitVec 32 := 0#32
  let v235 : BitVec 1 := Scalar.cmpi .sgt v233 c0_i32_95
  let v236 : BitVec 32 := Scalar.extui v235
  let c0_i32_96 : BitVec 32 := 0#32
  let v237 : BitVec 1 := Scalar.cmpi .slt v233 c0_i32_96
  let v238 : BitVec 32 := Scalar.extui v237
  let v239 : BitVec 32 := Scalar.subi v236 v238
  let c8_i32_94 : BitVec 32 := 8#32
  let c0_i32_97 : BitVec 32 := 0#32
  let v240 : BitVec 1 := Scalar.cmpi .sgt c8_i32_94 c0_i32_97
  let v241 : BitVec 32 := Scalar.extui v240
  let c0_i32_98 : BitVec 32 := 0#32
  let v242 : BitVec 1 := Scalar.cmpi .slt c8_i32_94 c0_i32_98
  let v243 : BitVec 32 := Scalar.extui v242
  let v244 : BitVec 32 := Scalar.subi v241 v243
  let v245 : BitVec 1 := Scalar.cmpi .ne v239 v244
  let v246 : BitVec 32 := Scalar.remsi v233 c8_i32_94
  let c0_i32_99 : BitVec 32 := 0#32
  let v247 : BitVec 1 := Scalar.cmpi .ne v246 c0_i32_99
  let v248 : BitVec 1 := Scalar.andi v245 v247
  let v234 : BitVec 32 := Scalar.divsi v233 c8_i32_94
  let c1_i32_100 : BitVec 32 := 1#32
  let v249 : BitVec 32 := Scalar.subi v234 c1_i32_100
  let v250 : BitVec 32 := Scalar.select v248 v249 v234
  let c0_i32_101 : BitVec 32 := 0#32
  let v251 : BitVec 32 := Scalar.select v230 v250 c0_i32_101
  let c8_i32_206 : BitVec 32 := 8#32
  let v450 : BitVec 32 := Scalar.muli v251 c8_i32_206
  let v451 : BitVec 32 := v450
  ⟨![v455.toNat, 0], ![v451.toNat, 4096]⟩
def k0_off16 (v205 : BitVec 32) (v206 : BitVec 32) (v208 : BitVec 32) (v210 : BitVec 32) : (Fin 2 → Nat) × (Fin 2 → Nat) :=
  let c0_i32_85 : BitVec 32 := 0#32
  let v212 : BitVec 1 := Scalar.cmpi .sgt v208 c0_i32_85
  let v213 : BitVec 32 := Scalar.extui v212
  let c0_i32_86 : BitVec 32 := 0#32
  let v214 : BitVec 1 := Scalar.cmpi .slt v208 c0_i32_86
  let v215 : BitVec 32 := Scalar.extui v214
  let v216 : BitVec 32 := Scalar.subi v213 v215
  let c8_i32_84 : BitVec 32 := 8#32
  let c0_i32_87 : BitVec 32 := 0#32
  let v217 : BitVec 1 := Scalar.cmpi .sgt c8_i32_84 c0_i32_87
  let v218 : BitVec 32 := Scalar.extui v217
  let c0_i32_88 : BitVec 32 := 0#32
  let v219 : BitVec 1 := Scalar.cmpi .slt c8_i32_84 c0_i32_88
  let v220 : BitVec 32 := Scalar.extui v219
  let v221 : BitVec 32 := Scalar.subi v218 v220
  let v222 : BitVec 1 := Scalar.cmpi .ne v216 v221
  let v223 : BitVec 32 := Scalar.remsi v208 c8_i32_84
  let c0_i32_89 : BitVec 32 := 0#32
  let v224 : BitVec 1 := Scalar.cmpi .ne v223 c0_i32_89
  let v225 : BitVec 1 := Scalar.andi v222 v224
  let v211 : BitVec 32 := Scalar.divsi v208 c8_i32_84
  let c1_i32_90 : BitVec 32 := 1#32
  let v226 : BitVec 32 := Scalar.subi v211 c1_i32_90
  let v227 : BitVec 32 := Scalar.select v225 v226 v211
  let c8_i32_207 : BitVec 32 := 8#32
  let v452 : BitVec 32 := Scalar.muli v227 c8_i32_207
  let v453 : BitVec 32 := v452
  let c0_i32_211 : BitVec 32 := 0#32
  let v230 : BitVec 1 := Scalar.cmpi .sgt v206 v205
  let c8_i32_91 : BitVec 32 := 8#32
  let v228 : BitVec 32 := Scalar.muli v227 c8_i32_91
  let v229 : BitVec 32 := Scalar.subi v208 v228
  let v231 : BitVec 32 := Scalar.addi v229 v210
  let c8_i32_92 : BitVec 32 := 8#32
  let v232 : BitVec 32 := Scalar.addi v231 c8_i32_92
  let c1_i32_93 : BitVec 32 := 1#32
  let v233 : BitVec 32 := Scalar.subi v232 c1_i32_93
  let c0_i32_95 : BitVec 32 := 0#32
  let v235 : BitVec 1 := Scalar.cmpi .sgt v233 c0_i32_95
  let v236 : BitVec 32 := Scalar.extui v235
  let c0_i32_96 : BitVec 32 := 0#32
  let v237 : BitVec 1 := Scalar.cmpi .slt v233 c0_i32_96
  let v238 : BitVec 32 := Scalar.extui v237
  let v239 : BitVec 32 := Scalar.subi v236 v238
  let c8_i32_94 : BitVec 32 := 8#32
  let c0_i32_97 : BitVec 32 := 0#32
  let v240 : BitVec 1 := Scalar.cmpi .sgt c8_i32_94 c0_i32_97
  let v241 : BitVec 32 := Scalar.extui v240
  let c0_i32_98 : BitVec 32 := 0#32
  let v242 : BitVec 1 := Scalar.cmpi .slt c8_i32_94 c0_i32_98
  let v243 : BitVec 32 := Scalar.extui v242
  let v244 : BitVec 32 := Scalar.subi v241 v243
  let v245 : BitVec 1 := Scalar.cmpi .ne v239 v244
  let v246 : BitVec 32 := Scalar.remsi v233 c8_i32_94
  let c0_i32_99 : BitVec 32 := 0#32
  let v247 : BitVec 1 := Scalar.cmpi .ne v246 c0_i32_99
  let v248 : BitVec 1 := Scalar.andi v245 v247
  let v234 : BitVec 32 := Scalar.divsi v233 c8_i32_94
  let c1_i32_100 : BitVec 32 := 1#32
  let v249 : BitVec 32 := Scalar.subi v234 c1_i32_100
  let v250 : BitVec 32 := Scalar.select v248 v249 v234
  let c0_i32_101 : BitVec 32 := 0#32
  let v251 : BitVec 32 := Scalar.select v230 v250 c0_i32_101
  let c8_i32_206 : BitVec 32 := 8#32
  let v450 : BitVec 32 := Scalar.muli v251 c8_i32_206
  let v451 : BitVec 32 := v450
  ⟨![v453.toNat, 0], ![v451.toNat, 4096]⟩
def k0_mult16 (v256 : BitVec 32) (v257 : BitVec 32) (v259 : BitVec 32) (v261 : BitVec 32) : BitVec 32 :=
  let v281 : BitVec 1 := Scalar.cmpi .sgt v257 v256
  let c0_i32_106 : BitVec 32 := 0#32
  let v263 : BitVec 1 := Scalar.cmpi .sgt v259 c0_i32_106
  let v264 : BitVec 32 := Scalar.extui v263
  let c0_i32_107 : BitVec 32 := 0#32
  let v265 : BitVec 1 := Scalar.cmpi .slt v259 c0_i32_107
  let v266 : BitVec 32 := Scalar.extui v265
  let v267 : BitVec 32 := Scalar.subi v264 v266
  let c8_i32_105 : BitVec 32 := 8#32
  let c0_i32_108 : BitVec 32 := 0#32
  let v268 : BitVec 1 := Scalar.cmpi .sgt c8_i32_105 c0_i32_108
  let v269 : BitVec 32 := Scalar.extui v268
  let c0_i32_109 : BitVec 32 := 0#32
  let v270 : BitVec 1 := Scalar.cmpi .slt c8_i32_105 c0_i32_109
  let v271 : BitVec 32 := Scalar.extui v270
  let v272 : BitVec 32 := Scalar.subi v269 v271
  let v273 : BitVec 1 := Scalar.cmpi .ne v267 v272
  let v274 : BitVec 32 := Scalar.remsi v259 c8_i32_105
  let c0_i32_110 : BitVec 32 := 0#32
  let v275 : BitVec 1 := Scalar.cmpi .ne v274 c0_i32_110
  let v276 : BitVec 1 := Scalar.andi v273 v275
  let v262 : BitVec 32 := Scalar.divsi v259 c8_i32_105
  let c1_i32_111 : BitVec 32 := 1#32
  let v277 : BitVec 32 := Scalar.subi v262 c1_i32_111
  let v278 : BitVec 32 := Scalar.select v276 v277 v262
  let c8_i32_112 : BitVec 32 := 8#32
  let v279 : BitVec 32 := Scalar.muli v278 c8_i32_112
  let v280 : BitVec 32 := Scalar.subi v259 v279
  let v282 : BitVec 32 := Scalar.addi v280 v261
  let c8_i32_113 : BitVec 32 := 8#32
  let v283 : BitVec 32 := Scalar.addi v282 c8_i32_113
  let c1_i32_114 : BitVec 32 := 1#32
  let v284 : BitVec 32 := Scalar.subi v283 c1_i32_114
  let c0_i32_116 : BitVec 32 := 0#32
  let v286 : BitVec 1 := Scalar.cmpi .sgt v284 c0_i32_116
  let v287 : BitVec 32 := Scalar.extui v286
  let c0_i32_117 : BitVec 32 := 0#32
  let v288 : BitVec 1 := Scalar.cmpi .slt v284 c0_i32_117
  let v289 : BitVec 32 := Scalar.extui v288
  let v290 : BitVec 32 := Scalar.subi v287 v289
  let c8_i32_115 : BitVec 32 := 8#32
  let c0_i32_118 : BitVec 32 := 0#32
  let v291 : BitVec 1 := Scalar.cmpi .sgt c8_i32_115 c0_i32_118
  let v292 : BitVec 32 := Scalar.extui v291
  let c0_i32_119 : BitVec 32 := 0#32
  let v293 : BitVec 1 := Scalar.cmpi .slt c8_i32_115 c0_i32_119
  let v294 : BitVec 32 := Scalar.extui v293
  let v295 : BitVec 32 := Scalar.subi v292 v294
  let v296 : BitVec 1 := Scalar.cmpi .ne v290 v295
  let v297 : BitVec 32 := Scalar.remsi v284 c8_i32_115
  let c0_i32_120 : BitVec 32 := 0#32
  let v298 : BitVec 1 := Scalar.cmpi .ne v297 c0_i32_120
  let v299 : BitVec 1 := Scalar.andi v296 v298
  let v285 : BitVec 32 := Scalar.divsi v284 c8_i32_115
  let c1_i32_121 : BitVec 32 := 1#32
  let v300 : BitVec 32 := Scalar.subi v285 c1_i32_121
  let v301 : BitVec 32 := Scalar.select v299 v300 v285
  let c0_i32_122 : BitVec 32 := 0#32
  let v302 : BitVec 32 := Scalar.select v281 v301 c0_i32_122
  let c8_i32_206 : BitVec 32 := 8#32
  let v450 : BitVec 32 := Scalar.muli v302 c8_i32_206
  v450
def k0_cond7 (v256 : BitVec 32) (v257 : BitVec 32) (v259 : BitVec 32) (v261 : BitVec 32) : BitVec 1 :=
  let v281 : BitVec 1 := Scalar.cmpi .sgt v257 v256
  let c0_i32_106 : BitVec 32 := 0#32
  let v263 : BitVec 1 := Scalar.cmpi .sgt v259 c0_i32_106
  let v264 : BitVec 32 := Scalar.extui v263
  let c0_i32_107 : BitVec 32 := 0#32
  let v265 : BitVec 1 := Scalar.cmpi .slt v259 c0_i32_107
  let v266 : BitVec 32 := Scalar.extui v265
  let v267 : BitVec 32 := Scalar.subi v264 v266
  let c8_i32_105 : BitVec 32 := 8#32
  let c0_i32_108 : BitVec 32 := 0#32
  let v268 : BitVec 1 := Scalar.cmpi .sgt c8_i32_105 c0_i32_108
  let v269 : BitVec 32 := Scalar.extui v268
  let c0_i32_109 : BitVec 32 := 0#32
  let v270 : BitVec 1 := Scalar.cmpi .slt c8_i32_105 c0_i32_109
  let v271 : BitVec 32 := Scalar.extui v270
  let v272 : BitVec 32 := Scalar.subi v269 v271
  let v273 : BitVec 1 := Scalar.cmpi .ne v267 v272
  let v274 : BitVec 32 := Scalar.remsi v259 c8_i32_105
  let c0_i32_110 : BitVec 32 := 0#32
  let v275 : BitVec 1 := Scalar.cmpi .ne v274 c0_i32_110
  let v276 : BitVec 1 := Scalar.andi v273 v275
  let v262 : BitVec 32 := Scalar.divsi v259 c8_i32_105
  let c1_i32_111 : BitVec 32 := 1#32
  let v277 : BitVec 32 := Scalar.subi v262 c1_i32_111
  let v278 : BitVec 32 := Scalar.select v276 v277 v262
  let c8_i32_112 : BitVec 32 := 8#32
  let v279 : BitVec 32 := Scalar.muli v278 c8_i32_112
  let v280 : BitVec 32 := Scalar.subi v259 v279
  let v282 : BitVec 32 := Scalar.addi v280 v261
  let c8_i32_113 : BitVec 32 := 8#32
  let v283 : BitVec 32 := Scalar.addi v282 c8_i32_113
  let c1_i32_114 : BitVec 32 := 1#32
  let v284 : BitVec 32 := Scalar.subi v283 c1_i32_114
  let c0_i32_116 : BitVec 32 := 0#32
  let v286 : BitVec 1 := Scalar.cmpi .sgt v284 c0_i32_116
  let v287 : BitVec 32 := Scalar.extui v286
  let c0_i32_117 : BitVec 32 := 0#32
  let v288 : BitVec 1 := Scalar.cmpi .slt v284 c0_i32_117
  let v289 : BitVec 32 := Scalar.extui v288
  let v290 : BitVec 32 := Scalar.subi v287 v289
  let c8_i32_115 : BitVec 32 := 8#32
  let c0_i32_118 : BitVec 32 := 0#32
  let v291 : BitVec 1 := Scalar.cmpi .sgt c8_i32_115 c0_i32_118
  let v292 : BitVec 32 := Scalar.extui v291
  let c0_i32_119 : BitVec 32 := 0#32
  let v293 : BitVec 1 := Scalar.cmpi .slt c8_i32_115 c0_i32_119
  let v294 : BitVec 32 := Scalar.extui v293
  let v295 : BitVec 32 := Scalar.subi v292 v294
  let v296 : BitVec 1 := Scalar.cmpi .ne v290 v295
  let v297 : BitVec 32 := Scalar.remsi v284 c8_i32_115
  let c0_i32_120 : BitVec 32 := 0#32
  let v298 : BitVec 1 := Scalar.cmpi .ne v297 c0_i32_120
  let v299 : BitVec 1 := Scalar.andi v296 v298
  let v285 : BitVec 32 := Scalar.divsi v284 c8_i32_115
  let c1_i32_121 : BitVec 32 := 1#32
  let v300 : BitVec 32 := Scalar.subi v285 c1_i32_121
  let v301 : BitVec 32 := Scalar.select v299 v300 v285
  let c0_i32_122 : BitVec 32 := 0#32
  let v302 : BitVec 32 := Scalar.select v281 v301 c0_i32_122
  let c0_i32_192 : BitVec 32 := 0#32
  let v429 : BitVec 1 := Scalar.cmpi .sgt v302 c0_i32_192
  let v430 : BitVec 32 := Scalar.extui v429
  let c0_i32_193 : BitVec 32 := 0#32
  let v431 : BitVec 1 := Scalar.cmpi .ne v430 c0_i32_193
  v431

def k0_mult17 (v259 : BitVec 32) : BitVec 32 :=
  let c0_i32_106 : BitVec 32 := 0#32
  let v263 : BitVec 1 := Scalar.cmpi .sgt v259 c0_i32_106
  let v264 : BitVec 32 := Scalar.extui v263
  let c0_i32_107 : BitVec 32 := 0#32
  let v265 : BitVec 1 := Scalar.cmpi .slt v259 c0_i32_107
  let v266 : BitVec 32 := Scalar.extui v265
  let v267 : BitVec 32 := Scalar.subi v264 v266
  let c8_i32_105 : BitVec 32 := 8#32
  let c0_i32_108 : BitVec 32 := 0#32
  let v268 : BitVec 1 := Scalar.cmpi .sgt c8_i32_105 c0_i32_108
  let v269 : BitVec 32 := Scalar.extui v268
  let c0_i32_109 : BitVec 32 := 0#32
  let v270 : BitVec 1 := Scalar.cmpi .slt c8_i32_105 c0_i32_109
  let v271 : BitVec 32 := Scalar.extui v270
  let v272 : BitVec 32 := Scalar.subi v269 v271
  let v273 : BitVec 1 := Scalar.cmpi .ne v267 v272
  let v274 : BitVec 32 := Scalar.remsi v259 c8_i32_105
  let c0_i32_110 : BitVec 32 := 0#32
  let v275 : BitVec 1 := Scalar.cmpi .ne v274 c0_i32_110
  let v276 : BitVec 1 := Scalar.andi v273 v275
  let v262 : BitVec 32 := Scalar.divsi v259 c8_i32_105
  let c1_i32_111 : BitVec 32 := 1#32
  let v277 : BitVec 32 := Scalar.subi v262 c1_i32_111
  let v278 : BitVec 32 := Scalar.select v276 v277 v262
  let c8_i32_207 : BitVec 32 := 8#32
  let v452 : BitVec 32 := Scalar.muli v278 c8_i32_207
  v452
def k0_mult18 (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) : BitVec 32 :=
  let c0_i32_18 : BitVec 32 := 0#32
  let v26 : BitVec 1 := Scalar.cmpi .sgt v2 v1
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let v50 : BitVec 32 := Scalar.addi c0_i32_18 v47
  let v77 : BitVec 1 := Scalar.cmpi .sgt v53 v52
  let c0_i32_22 : BitVec 32 := 0#32
  let v59 : BitVec 1 := Scalar.cmpi .sgt v55 c0_i32_22
  let v60 : BitVec 32 := Scalar.extui v59
  let c0_i32_23 : BitVec 32 := 0#32
  let v61 : BitVec 1 := Scalar.cmpi .slt v55 c0_i32_23
  let v62 : BitVec 32 := Scalar.extui v61
  let v63 : BitVec 32 := Scalar.subi v60 v62
  let c8_i32_21 : BitVec 32 := 8#32
  let c0_i32_24 : BitVec 32 := 0#32
  let v64 : BitVec 1 := Scalar.cmpi .sgt c8_i32_21 c0_i32_24
  let v65 : BitVec 32 := Scalar.extui v64
  let c0_i32_25 : BitVec 32 := 0#32
  let v66 : BitVec 1 := Scalar.cmpi .slt c8_i32_21 c0_i32_25
  let v67 : BitVec 32 := Scalar.extui v66
  let v68 : BitVec 32 := Scalar.subi v65 v67
  let v69 : BitVec 1 := Scalar.cmpi .ne v63 v68
  let v70 : BitVec 32 := Scalar.remsi v55 c8_i32_21
  let c0_i32_26 : BitVec 32 := 0#32
  let v71 : BitVec 1 := Scalar.cmpi .ne v70 c0_i32_26
  let v72 : BitVec 1 := Scalar.andi v69 v71
  let v58 : BitVec 32 := Scalar.divsi v55 c8_i32_21
  let c1_i32_27 : BitVec 32 := 1#32
  let v73 : BitVec 32 := Scalar.subi v58 c1_i32_27
  let v74 : BitVec 32 := Scalar.select v72 v73 v58
  let c8_i32_28 : BitVec 32 := 8#32
  let v75 : BitVec 32 := Scalar.muli v74 c8_i32_28
  let v76 : BitVec 32 := Scalar.subi v55 v75
  let v78 : BitVec 32 := Scalar.addi v76 v57
  let c8_i32_29 : BitVec 32 := 8#32
  let v79 : BitVec 32 := Scalar.addi v78 c8_i32_29
  let c1_i32_30 : BitVec 32 := 1#32
  let v80 : BitVec 32 := Scalar.subi v79 c1_i32_30
  let c0_i32_32 : BitVec 32 := 0#32
  let v82 : BitVec 1 := Scalar.cmpi .sgt v80 c0_i32_32
  let v83 : BitVec 32 := Scalar.extui v82
  let c0_i32_33 : BitVec 32 := 0#32
  let v84 : BitVec 1 := Scalar.cmpi .slt v80 c0_i32_33
  let v85 : BitVec 32 := Scalar.extui v84
  let v86 : BitVec 32 := Scalar.subi v83 v85
  let c8_i32_31 : BitVec 32 := 8#32
  let c0_i32_34 : BitVec 32 := 0#32
  let v87 : BitVec 1 := Scalar.cmpi .sgt c8_i32_31 c0_i32_34
  let v88 : BitVec 32 := Scalar.extui v87
  let c0_i32_35 : BitVec 32 := 0#32
  let v89 : BitVec 1 := Scalar.cmpi .slt c8_i32_31 c0_i32_35
  let v90 : BitVec 32 := Scalar.extui v89
  let v91 : BitVec 32 := Scalar.subi v88 v90
  let v92 : BitVec 1 := Scalar.cmpi .ne v86 v91
  let v93 : BitVec 32 := Scalar.remsi v80 c8_i32_31
  let c0_i32_36 : BitVec 32 := 0#32
  let v94 : BitVec 1 := Scalar.cmpi .ne v93 c0_i32_36
  let v95 : BitVec 1 := Scalar.andi v92 v94
  let v81 : BitVec 32 := Scalar.divsi v80 c8_i32_31
  let c1_i32_37 : BitVec 32 := 1#32
  let v96 : BitVec 32 := Scalar.subi v81 c1_i32_37
  let v97 : BitVec 32 := Scalar.select v95 v96 v81
  let c0_i32_38 : BitVec 32 := 0#32
  let v98 : BitVec 32 := Scalar.select v77 v97 c0_i32_38
  let v101 : BitVec 32 := Scalar.addi v50 v98
  let v128 : BitVec 1 := Scalar.cmpi .sgt v104 v103
  let c0_i32_43 : BitVec 32 := 0#32
  let v110 : BitVec 1 := Scalar.cmpi .sgt v106 c0_i32_43
  let v111 : BitVec 32 := Scalar.extui v110
  let c0_i32_44 : BitVec 32 := 0#32
  let v112 : BitVec 1 := Scalar.cmpi .slt v106 c0_i32_44
  let v113 : BitVec 32 := Scalar.extui v112
  let v114 : BitVec 32 := Scalar.subi v111 v113
  let c8_i32_42 : BitVec 32 := 8#32
  let c0_i32_45 : BitVec 32 := 0#32
  let v115 : BitVec 1 := Scalar.cmpi .sgt c8_i32_42 c0_i32_45
  let v116 : BitVec 32 := Scalar.extui v115
  let c0_i32_46 : BitVec 32 := 0#32
  let v117 : BitVec 1 := Scalar.cmpi .slt c8_i32_42 c0_i32_46
  let v118 : BitVec 32 := Scalar.extui v117
  let v119 : BitVec 32 := Scalar.subi v116 v118
  let v120 : BitVec 1 := Scalar.cmpi .ne v114 v119
  let v121 : BitVec 32 := Scalar.remsi v106 c8_i32_42
  let c0_i32_47 : BitVec 32 := 0#32
  let v122 : BitVec 1 := Scalar.cmpi .ne v121 c0_i32_47
  let v123 : BitVec 1 := Scalar.andi v120 v122
  let v109 : BitVec 32 := Scalar.divsi v106 c8_i32_42
  let c1_i32_48 : BitVec 32 := 1#32
  let v124 : BitVec 32 := Scalar.subi v109 c1_i32_48
  let v125 : BitVec 32 := Scalar.select v123 v124 v109
  let c8_i32_49 : BitVec 32 := 8#32
  let v126 : BitVec 32 := Scalar.muli v125 c8_i32_49
  let v127 : BitVec 32 := Scalar.subi v106 v126
  let v129 : BitVec 32 := Scalar.addi v127 v108
  let c8_i32_50 : BitVec 32 := 8#32
  let v130 : BitVec 32 := Scalar.addi v129 c8_i32_50
  let c1_i32_51 : BitVec 32 := 1#32
  let v131 : BitVec 32 := Scalar.subi v130 c1_i32_51
  let c0_i32_53 : BitVec 32 := 0#32
  let v133 : BitVec 1 := Scalar.cmpi .sgt v131 c0_i32_53
  let v134 : BitVec 32 := Scalar.extui v133
  let c0_i32_54 : BitVec 32 := 0#32
  let v135 : BitVec 1 := Scalar.cmpi .slt v131 c0_i32_54
  let v136 : BitVec 32 := Scalar.extui v135
  let v137 : BitVec 32 := Scalar.subi v134 v136
  let c8_i32_52 : BitVec 32 := 8#32
  let c0_i32_55 : BitVec 32 := 0#32
  let v138 : BitVec 1 := Scalar.cmpi .sgt c8_i32_52 c0_i32_55
  let v139 : BitVec 32 := Scalar.extui v138
  let c0_i32_56 : BitVec 32 := 0#32
  let v140 : BitVec 1 := Scalar.cmpi .slt c8_i32_52 c0_i32_56
  let v141 : BitVec 32 := Scalar.extui v140
  let v142 : BitVec 32 := Scalar.subi v139 v141
  let v143 : BitVec 1 := Scalar.cmpi .ne v137 v142
  let v144 : BitVec 32 := Scalar.remsi v131 c8_i32_52
  let c0_i32_57 : BitVec 32 := 0#32
  let v145 : BitVec 1 := Scalar.cmpi .ne v144 c0_i32_57
  let v146 : BitVec 1 := Scalar.andi v143 v145
  let v132 : BitVec 32 := Scalar.divsi v131 c8_i32_52
  let c1_i32_58 : BitVec 32 := 1#32
  let v147 : BitVec 32 := Scalar.subi v132 c1_i32_58
  let v148 : BitVec 32 := Scalar.select v146 v147 v132
  let c0_i32_59 : BitVec 32 := 0#32
  let v149 : BitVec 32 := Scalar.select v128 v148 c0_i32_59
  let v152 : BitVec 32 := Scalar.addi v101 v149
  let v179 : BitVec 1 := Scalar.cmpi .sgt v155 v154
  let c0_i32_64 : BitVec 32 := 0#32
  let v161 : BitVec 1 := Scalar.cmpi .sgt v157 c0_i32_64
  let v162 : BitVec 32 := Scalar.extui v161
  let c0_i32_65 : BitVec 32 := 0#32
  let v163 : BitVec 1 := Scalar.cmpi .slt v157 c0_i32_65
  let v164 : BitVec 32 := Scalar.extui v163
  let v165 : BitVec 32 := Scalar.subi v162 v164
  let c8_i32_63 : BitVec 32 := 8#32
  let c0_i32_66 : BitVec 32 := 0#32
  let v166 : BitVec 1 := Scalar.cmpi .sgt c8_i32_63 c0_i32_66
  let v167 : BitVec 32 := Scalar.extui v166
  let c0_i32_67 : BitVec 32 := 0#32
  let v168 : BitVec 1 := Scalar.cmpi .slt c8_i32_63 c0_i32_67
  let v169 : BitVec 32 := Scalar.extui v168
  let v170 : BitVec 32 := Scalar.subi v167 v169
  let v171 : BitVec 1 := Scalar.cmpi .ne v165 v170
  let v172 : BitVec 32 := Scalar.remsi v157 c8_i32_63
  let c0_i32_68 : BitVec 32 := 0#32
  let v173 : BitVec 1 := Scalar.cmpi .ne v172 c0_i32_68
  let v174 : BitVec 1 := Scalar.andi v171 v173
  let v160 : BitVec 32 := Scalar.divsi v157 c8_i32_63
  let c1_i32_69 : BitVec 32 := 1#32
  let v175 : BitVec 32 := Scalar.subi v160 c1_i32_69
  let v176 : BitVec 32 := Scalar.select v174 v175 v160
  let c8_i32_70 : BitVec 32 := 8#32
  let v177 : BitVec 32 := Scalar.muli v176 c8_i32_70
  let v178 : BitVec 32 := Scalar.subi v157 v177
  let v180 : BitVec 32 := Scalar.addi v178 v159
  let c8_i32_71 : BitVec 32 := 8#32
  let v181 : BitVec 32 := Scalar.addi v180 c8_i32_71
  let c1_i32_72 : BitVec 32 := 1#32
  let v182 : BitVec 32 := Scalar.subi v181 c1_i32_72
  let c0_i32_74 : BitVec 32 := 0#32
  let v184 : BitVec 1 := Scalar.cmpi .sgt v182 c0_i32_74
  let v185 : BitVec 32 := Scalar.extui v184
  let c0_i32_75 : BitVec 32 := 0#32
  let v186 : BitVec 1 := Scalar.cmpi .slt v182 c0_i32_75
  let v187 : BitVec 32 := Scalar.extui v186
  let v188 : BitVec 32 := Scalar.subi v185 v187
  let c8_i32_73 : BitVec 32 := 8#32
  let c0_i32_76 : BitVec 32 := 0#32
  let v189 : BitVec 1 := Scalar.cmpi .sgt c8_i32_73 c0_i32_76
  let v190 : BitVec 32 := Scalar.extui v189
  let c0_i32_77 : BitVec 32 := 0#32
  let v191 : BitVec 1 := Scalar.cmpi .slt c8_i32_73 c0_i32_77
  let v192 : BitVec 32 := Scalar.extui v191
  let v193 : BitVec 32 := Scalar.subi v190 v192
  let v194 : BitVec 1 := Scalar.cmpi .ne v188 v193
  let v195 : BitVec 32 := Scalar.remsi v182 c8_i32_73
  let c0_i32_78 : BitVec 32 := 0#32
  let v196 : BitVec 1 := Scalar.cmpi .ne v195 c0_i32_78
  let v197 : BitVec 1 := Scalar.andi v194 v196
  let v183 : BitVec 32 := Scalar.divsi v182 c8_i32_73
  let c1_i32_79 : BitVec 32 := 1#32
  let v198 : BitVec 32 := Scalar.subi v183 c1_i32_79
  let v199 : BitVec 32 := Scalar.select v197 v198 v183
  let c0_i32_80 : BitVec 32 := 0#32
  let v200 : BitVec 32 := Scalar.select v179 v199 c0_i32_80
  let v203 : BitVec 32 := Scalar.addi v152 v200
  let v230 : BitVec 1 := Scalar.cmpi .sgt v206 v205
  let c0_i32_85 : BitVec 32 := 0#32
  let v212 : BitVec 1 := Scalar.cmpi .sgt v208 c0_i32_85
  let v213 : BitVec 32 := Scalar.extui v212
  let c0_i32_86 : BitVec 32 := 0#32
  let v214 : BitVec 1 := Scalar.cmpi .slt v208 c0_i32_86
  let v215 : BitVec 32 := Scalar.extui v214
  let v216 : BitVec 32 := Scalar.subi v213 v215
  let c8_i32_84 : BitVec 32 := 8#32
  let c0_i32_87 : BitVec 32 := 0#32
  let v217 : BitVec 1 := Scalar.cmpi .sgt c8_i32_84 c0_i32_87
  let v218 : BitVec 32 := Scalar.extui v217
  let c0_i32_88 : BitVec 32 := 0#32
  let v219 : BitVec 1 := Scalar.cmpi .slt c8_i32_84 c0_i32_88
  let v220 : BitVec 32 := Scalar.extui v219
  let v221 : BitVec 32 := Scalar.subi v218 v220
  let v222 : BitVec 1 := Scalar.cmpi .ne v216 v221
  let v223 : BitVec 32 := Scalar.remsi v208 c8_i32_84
  let c0_i32_89 : BitVec 32 := 0#32
  let v224 : BitVec 1 := Scalar.cmpi .ne v223 c0_i32_89
  let v225 : BitVec 1 := Scalar.andi v222 v224
  let v211 : BitVec 32 := Scalar.divsi v208 c8_i32_84
  let c1_i32_90 : BitVec 32 := 1#32
  let v226 : BitVec 32 := Scalar.subi v211 c1_i32_90
  let v227 : BitVec 32 := Scalar.select v225 v226 v211
  let c8_i32_91 : BitVec 32 := 8#32
  let v228 : BitVec 32 := Scalar.muli v227 c8_i32_91
  let v229 : BitVec 32 := Scalar.subi v208 v228
  let v231 : BitVec 32 := Scalar.addi v229 v210
  let c8_i32_92 : BitVec 32 := 8#32
  let v232 : BitVec 32 := Scalar.addi v231 c8_i32_92
  let c1_i32_93 : BitVec 32 := 1#32
  let v233 : BitVec 32 := Scalar.subi v232 c1_i32_93
  let c0_i32_95 : BitVec 32 := 0#32
  let v235 : BitVec 1 := Scalar.cmpi .sgt v233 c0_i32_95
  let v236 : BitVec 32 := Scalar.extui v235
  let c0_i32_96 : BitVec 32 := 0#32
  let v237 : BitVec 1 := Scalar.cmpi .slt v233 c0_i32_96
  let v238 : BitVec 32 := Scalar.extui v237
  let v239 : BitVec 32 := Scalar.subi v236 v238
  let c8_i32_94 : BitVec 32 := 8#32
  let c0_i32_97 : BitVec 32 := 0#32
  let v240 : BitVec 1 := Scalar.cmpi .sgt c8_i32_94 c0_i32_97
  let v241 : BitVec 32 := Scalar.extui v240
  let c0_i32_98 : BitVec 32 := 0#32
  let v242 : BitVec 1 := Scalar.cmpi .slt c8_i32_94 c0_i32_98
  let v243 : BitVec 32 := Scalar.extui v242
  let v244 : BitVec 32 := Scalar.subi v241 v243
  let v245 : BitVec 1 := Scalar.cmpi .ne v239 v244
  let v246 : BitVec 32 := Scalar.remsi v233 c8_i32_94
  let c0_i32_99 : BitVec 32 := 0#32
  let v247 : BitVec 1 := Scalar.cmpi .ne v246 c0_i32_99
  let v248 : BitVec 1 := Scalar.andi v245 v247
  let v234 : BitVec 32 := Scalar.divsi v233 c8_i32_94
  let c1_i32_100 : BitVec 32 := 1#32
  let v249 : BitVec 32 := Scalar.subi v234 c1_i32_100
  let v250 : BitVec 32 := Scalar.select v248 v249 v234
  let c0_i32_101 : BitVec 32 := 0#32
  let v251 : BitVec 32 := Scalar.select v230 v250 c0_i32_101
  let v254 : BitVec 32 := Scalar.addi v203 v251
  let c8_i32_208 : BitVec 32 := 8#32
  let v454 : BitVec 32 := Scalar.muli v254 c8_i32_208
  v454
def k0_off17 (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) (v256 : BitVec 32) (v257 : BitVec 32) (v259 : BitVec 32) (v261 : BitVec 32) : (Fin 2 → Nat) × (Fin 2 → Nat) :=
  let c0_i32_18 : BitVec 32 := 0#32
  let v26 : BitVec 1 := Scalar.cmpi .sgt v2 v1
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let v50 : BitVec 32 := Scalar.addi c0_i32_18 v47
  let v77 : BitVec 1 := Scalar.cmpi .sgt v53 v52
  let c0_i32_22 : BitVec 32 := 0#32
  let v59 : BitVec 1 := Scalar.cmpi .sgt v55 c0_i32_22
  let v60 : BitVec 32 := Scalar.extui v59
  let c0_i32_23 : BitVec 32 := 0#32
  let v61 : BitVec 1 := Scalar.cmpi .slt v55 c0_i32_23
  let v62 : BitVec 32 := Scalar.extui v61
  let v63 : BitVec 32 := Scalar.subi v60 v62
  let c8_i32_21 : BitVec 32 := 8#32
  let c0_i32_24 : BitVec 32 := 0#32
  let v64 : BitVec 1 := Scalar.cmpi .sgt c8_i32_21 c0_i32_24
  let v65 : BitVec 32 := Scalar.extui v64
  let c0_i32_25 : BitVec 32 := 0#32
  let v66 : BitVec 1 := Scalar.cmpi .slt c8_i32_21 c0_i32_25
  let v67 : BitVec 32 := Scalar.extui v66
  let v68 : BitVec 32 := Scalar.subi v65 v67
  let v69 : BitVec 1 := Scalar.cmpi .ne v63 v68
  let v70 : BitVec 32 := Scalar.remsi v55 c8_i32_21
  let c0_i32_26 : BitVec 32 := 0#32
  let v71 : BitVec 1 := Scalar.cmpi .ne v70 c0_i32_26
  let v72 : BitVec 1 := Scalar.andi v69 v71
  let v58 : BitVec 32 := Scalar.divsi v55 c8_i32_21
  let c1_i32_27 : BitVec 32 := 1#32
  let v73 : BitVec 32 := Scalar.subi v58 c1_i32_27
  let v74 : BitVec 32 := Scalar.select v72 v73 v58
  let c8_i32_28 : BitVec 32 := 8#32
  let v75 : BitVec 32 := Scalar.muli v74 c8_i32_28
  let v76 : BitVec 32 := Scalar.subi v55 v75
  let v78 : BitVec 32 := Scalar.addi v76 v57
  let c8_i32_29 : BitVec 32 := 8#32
  let v79 : BitVec 32 := Scalar.addi v78 c8_i32_29
  let c1_i32_30 : BitVec 32 := 1#32
  let v80 : BitVec 32 := Scalar.subi v79 c1_i32_30
  let c0_i32_32 : BitVec 32 := 0#32
  let v82 : BitVec 1 := Scalar.cmpi .sgt v80 c0_i32_32
  let v83 : BitVec 32 := Scalar.extui v82
  let c0_i32_33 : BitVec 32 := 0#32
  let v84 : BitVec 1 := Scalar.cmpi .slt v80 c0_i32_33
  let v85 : BitVec 32 := Scalar.extui v84
  let v86 : BitVec 32 := Scalar.subi v83 v85
  let c8_i32_31 : BitVec 32 := 8#32
  let c0_i32_34 : BitVec 32 := 0#32
  let v87 : BitVec 1 := Scalar.cmpi .sgt c8_i32_31 c0_i32_34
  let v88 : BitVec 32 := Scalar.extui v87
  let c0_i32_35 : BitVec 32 := 0#32
  let v89 : BitVec 1 := Scalar.cmpi .slt c8_i32_31 c0_i32_35
  let v90 : BitVec 32 := Scalar.extui v89
  let v91 : BitVec 32 := Scalar.subi v88 v90
  let v92 : BitVec 1 := Scalar.cmpi .ne v86 v91
  let v93 : BitVec 32 := Scalar.remsi v80 c8_i32_31
  let c0_i32_36 : BitVec 32 := 0#32
  let v94 : BitVec 1 := Scalar.cmpi .ne v93 c0_i32_36
  let v95 : BitVec 1 := Scalar.andi v92 v94
  let v81 : BitVec 32 := Scalar.divsi v80 c8_i32_31
  let c1_i32_37 : BitVec 32 := 1#32
  let v96 : BitVec 32 := Scalar.subi v81 c1_i32_37
  let v97 : BitVec 32 := Scalar.select v95 v96 v81
  let c0_i32_38 : BitVec 32 := 0#32
  let v98 : BitVec 32 := Scalar.select v77 v97 c0_i32_38
  let v101 : BitVec 32 := Scalar.addi v50 v98
  let v128 : BitVec 1 := Scalar.cmpi .sgt v104 v103
  let c0_i32_43 : BitVec 32 := 0#32
  let v110 : BitVec 1 := Scalar.cmpi .sgt v106 c0_i32_43
  let v111 : BitVec 32 := Scalar.extui v110
  let c0_i32_44 : BitVec 32 := 0#32
  let v112 : BitVec 1 := Scalar.cmpi .slt v106 c0_i32_44
  let v113 : BitVec 32 := Scalar.extui v112
  let v114 : BitVec 32 := Scalar.subi v111 v113
  let c8_i32_42 : BitVec 32 := 8#32
  let c0_i32_45 : BitVec 32 := 0#32
  let v115 : BitVec 1 := Scalar.cmpi .sgt c8_i32_42 c0_i32_45
  let v116 : BitVec 32 := Scalar.extui v115
  let c0_i32_46 : BitVec 32 := 0#32
  let v117 : BitVec 1 := Scalar.cmpi .slt c8_i32_42 c0_i32_46
  let v118 : BitVec 32 := Scalar.extui v117
  let v119 : BitVec 32 := Scalar.subi v116 v118
  let v120 : BitVec 1 := Scalar.cmpi .ne v114 v119
  let v121 : BitVec 32 := Scalar.remsi v106 c8_i32_42
  let c0_i32_47 : BitVec 32 := 0#32
  let v122 : BitVec 1 := Scalar.cmpi .ne v121 c0_i32_47
  let v123 : BitVec 1 := Scalar.andi v120 v122
  let v109 : BitVec 32 := Scalar.divsi v106 c8_i32_42
  let c1_i32_48 : BitVec 32 := 1#32
  let v124 : BitVec 32 := Scalar.subi v109 c1_i32_48
  let v125 : BitVec 32 := Scalar.select v123 v124 v109
  let c8_i32_49 : BitVec 32 := 8#32
  let v126 : BitVec 32 := Scalar.muli v125 c8_i32_49
  let v127 : BitVec 32 := Scalar.subi v106 v126
  let v129 : BitVec 32 := Scalar.addi v127 v108
  let c8_i32_50 : BitVec 32 := 8#32
  let v130 : BitVec 32 := Scalar.addi v129 c8_i32_50
  let c1_i32_51 : BitVec 32 := 1#32
  let v131 : BitVec 32 := Scalar.subi v130 c1_i32_51
  let c0_i32_53 : BitVec 32 := 0#32
  let v133 : BitVec 1 := Scalar.cmpi .sgt v131 c0_i32_53
  let v134 : BitVec 32 := Scalar.extui v133
  let c0_i32_54 : BitVec 32 := 0#32
  let v135 : BitVec 1 := Scalar.cmpi .slt v131 c0_i32_54
  let v136 : BitVec 32 := Scalar.extui v135
  let v137 : BitVec 32 := Scalar.subi v134 v136
  let c8_i32_52 : BitVec 32 := 8#32
  let c0_i32_55 : BitVec 32 := 0#32
  let v138 : BitVec 1 := Scalar.cmpi .sgt c8_i32_52 c0_i32_55
  let v139 : BitVec 32 := Scalar.extui v138
  let c0_i32_56 : BitVec 32 := 0#32
  let v140 : BitVec 1 := Scalar.cmpi .slt c8_i32_52 c0_i32_56
  let v141 : BitVec 32 := Scalar.extui v140
  let v142 : BitVec 32 := Scalar.subi v139 v141
  let v143 : BitVec 1 := Scalar.cmpi .ne v137 v142
  let v144 : BitVec 32 := Scalar.remsi v131 c8_i32_52
  let c0_i32_57 : BitVec 32 := 0#32
  let v145 : BitVec 1 := Scalar.cmpi .ne v144 c0_i32_57
  let v146 : BitVec 1 := Scalar.andi v143 v145
  let v132 : BitVec 32 := Scalar.divsi v131 c8_i32_52
  let c1_i32_58 : BitVec 32 := 1#32
  let v147 : BitVec 32 := Scalar.subi v132 c1_i32_58
  let v148 : BitVec 32 := Scalar.select v146 v147 v132
  let c0_i32_59 : BitVec 32 := 0#32
  let v149 : BitVec 32 := Scalar.select v128 v148 c0_i32_59
  let v152 : BitVec 32 := Scalar.addi v101 v149
  let v179 : BitVec 1 := Scalar.cmpi .sgt v155 v154
  let c0_i32_64 : BitVec 32 := 0#32
  let v161 : BitVec 1 := Scalar.cmpi .sgt v157 c0_i32_64
  let v162 : BitVec 32 := Scalar.extui v161
  let c0_i32_65 : BitVec 32 := 0#32
  let v163 : BitVec 1 := Scalar.cmpi .slt v157 c0_i32_65
  let v164 : BitVec 32 := Scalar.extui v163
  let v165 : BitVec 32 := Scalar.subi v162 v164
  let c8_i32_63 : BitVec 32 := 8#32
  let c0_i32_66 : BitVec 32 := 0#32
  let v166 : BitVec 1 := Scalar.cmpi .sgt c8_i32_63 c0_i32_66
  let v167 : BitVec 32 := Scalar.extui v166
  let c0_i32_67 : BitVec 32 := 0#32
  let v168 : BitVec 1 := Scalar.cmpi .slt c8_i32_63 c0_i32_67
  let v169 : BitVec 32 := Scalar.extui v168
  let v170 : BitVec 32 := Scalar.subi v167 v169
  let v171 : BitVec 1 := Scalar.cmpi .ne v165 v170
  let v172 : BitVec 32 := Scalar.remsi v157 c8_i32_63
  let c0_i32_68 : BitVec 32 := 0#32
  let v173 : BitVec 1 := Scalar.cmpi .ne v172 c0_i32_68
  let v174 : BitVec 1 := Scalar.andi v171 v173
  let v160 : BitVec 32 := Scalar.divsi v157 c8_i32_63
  let c1_i32_69 : BitVec 32 := 1#32
  let v175 : BitVec 32 := Scalar.subi v160 c1_i32_69
  let v176 : BitVec 32 := Scalar.select v174 v175 v160
  let c8_i32_70 : BitVec 32 := 8#32
  let v177 : BitVec 32 := Scalar.muli v176 c8_i32_70
  let v178 : BitVec 32 := Scalar.subi v157 v177
  let v180 : BitVec 32 := Scalar.addi v178 v159
  let c8_i32_71 : BitVec 32 := 8#32
  let v181 : BitVec 32 := Scalar.addi v180 c8_i32_71
  let c1_i32_72 : BitVec 32 := 1#32
  let v182 : BitVec 32 := Scalar.subi v181 c1_i32_72
  let c0_i32_74 : BitVec 32 := 0#32
  let v184 : BitVec 1 := Scalar.cmpi .sgt v182 c0_i32_74
  let v185 : BitVec 32 := Scalar.extui v184
  let c0_i32_75 : BitVec 32 := 0#32
  let v186 : BitVec 1 := Scalar.cmpi .slt v182 c0_i32_75
  let v187 : BitVec 32 := Scalar.extui v186
  let v188 : BitVec 32 := Scalar.subi v185 v187
  let c8_i32_73 : BitVec 32 := 8#32
  let c0_i32_76 : BitVec 32 := 0#32
  let v189 : BitVec 1 := Scalar.cmpi .sgt c8_i32_73 c0_i32_76
  let v190 : BitVec 32 := Scalar.extui v189
  let c0_i32_77 : BitVec 32 := 0#32
  let v191 : BitVec 1 := Scalar.cmpi .slt c8_i32_73 c0_i32_77
  let v192 : BitVec 32 := Scalar.extui v191
  let v193 : BitVec 32 := Scalar.subi v190 v192
  let v194 : BitVec 1 := Scalar.cmpi .ne v188 v193
  let v195 : BitVec 32 := Scalar.remsi v182 c8_i32_73
  let c0_i32_78 : BitVec 32 := 0#32
  let v196 : BitVec 1 := Scalar.cmpi .ne v195 c0_i32_78
  let v197 : BitVec 1 := Scalar.andi v194 v196
  let v183 : BitVec 32 := Scalar.divsi v182 c8_i32_73
  let c1_i32_79 : BitVec 32 := 1#32
  let v198 : BitVec 32 := Scalar.subi v183 c1_i32_79
  let v199 : BitVec 32 := Scalar.select v197 v198 v183
  let c0_i32_80 : BitVec 32 := 0#32
  let v200 : BitVec 32 := Scalar.select v179 v199 c0_i32_80
  let v203 : BitVec 32 := Scalar.addi v152 v200
  let v230 : BitVec 1 := Scalar.cmpi .sgt v206 v205
  let c0_i32_85 : BitVec 32 := 0#32
  let v212 : BitVec 1 := Scalar.cmpi .sgt v208 c0_i32_85
  let v213 : BitVec 32 := Scalar.extui v212
  let c0_i32_86 : BitVec 32 := 0#32
  let v214 : BitVec 1 := Scalar.cmpi .slt v208 c0_i32_86
  let v215 : BitVec 32 := Scalar.extui v214
  let v216 : BitVec 32 := Scalar.subi v213 v215
  let c8_i32_84 : BitVec 32 := 8#32
  let c0_i32_87 : BitVec 32 := 0#32
  let v217 : BitVec 1 := Scalar.cmpi .sgt c8_i32_84 c0_i32_87
  let v218 : BitVec 32 := Scalar.extui v217
  let c0_i32_88 : BitVec 32 := 0#32
  let v219 : BitVec 1 := Scalar.cmpi .slt c8_i32_84 c0_i32_88
  let v220 : BitVec 32 := Scalar.extui v219
  let v221 : BitVec 32 := Scalar.subi v218 v220
  let v222 : BitVec 1 := Scalar.cmpi .ne v216 v221
  let v223 : BitVec 32 := Scalar.remsi v208 c8_i32_84
  let c0_i32_89 : BitVec 32 := 0#32
  let v224 : BitVec 1 := Scalar.cmpi .ne v223 c0_i32_89
  let v225 : BitVec 1 := Scalar.andi v222 v224
  let v211 : BitVec 32 := Scalar.divsi v208 c8_i32_84
  let c1_i32_90 : BitVec 32 := 1#32
  let v226 : BitVec 32 := Scalar.subi v211 c1_i32_90
  let v227 : BitVec 32 := Scalar.select v225 v226 v211
  let c8_i32_91 : BitVec 32 := 8#32
  let v228 : BitVec 32 := Scalar.muli v227 c8_i32_91
  let v229 : BitVec 32 := Scalar.subi v208 v228
  let v231 : BitVec 32 := Scalar.addi v229 v210
  let c8_i32_92 : BitVec 32 := 8#32
  let v232 : BitVec 32 := Scalar.addi v231 c8_i32_92
  let c1_i32_93 : BitVec 32 := 1#32
  let v233 : BitVec 32 := Scalar.subi v232 c1_i32_93
  let c0_i32_95 : BitVec 32 := 0#32
  let v235 : BitVec 1 := Scalar.cmpi .sgt v233 c0_i32_95
  let v236 : BitVec 32 := Scalar.extui v235
  let c0_i32_96 : BitVec 32 := 0#32
  let v237 : BitVec 1 := Scalar.cmpi .slt v233 c0_i32_96
  let v238 : BitVec 32 := Scalar.extui v237
  let v239 : BitVec 32 := Scalar.subi v236 v238
  let c8_i32_94 : BitVec 32 := 8#32
  let c0_i32_97 : BitVec 32 := 0#32
  let v240 : BitVec 1 := Scalar.cmpi .sgt c8_i32_94 c0_i32_97
  let v241 : BitVec 32 := Scalar.extui v240
  let c0_i32_98 : BitVec 32 := 0#32
  let v242 : BitVec 1 := Scalar.cmpi .slt c8_i32_94 c0_i32_98
  let v243 : BitVec 32 := Scalar.extui v242
  let v244 : BitVec 32 := Scalar.subi v241 v243
  let v245 : BitVec 1 := Scalar.cmpi .ne v239 v244
  let v246 : BitVec 32 := Scalar.remsi v233 c8_i32_94
  let c0_i32_99 : BitVec 32 := 0#32
  let v247 : BitVec 1 := Scalar.cmpi .ne v246 c0_i32_99
  let v248 : BitVec 1 := Scalar.andi v245 v247
  let v234 : BitVec 32 := Scalar.divsi v233 c8_i32_94
  let c1_i32_100 : BitVec 32 := 1#32
  let v249 : BitVec 32 := Scalar.subi v234 c1_i32_100
  let v250 : BitVec 32 := Scalar.select v248 v249 v234
  let c0_i32_101 : BitVec 32 := 0#32
  let v251 : BitVec 32 := Scalar.select v230 v250 c0_i32_101
  let v254 : BitVec 32 := Scalar.addi v203 v251
  let c8_i32_208 : BitVec 32 := 8#32
  let v454 : BitVec 32 := Scalar.muli v254 c8_i32_208
  let v455 : BitVec 32 := v454
  let c0_i32_210 : BitVec 32 := 0#32
  let v281 : BitVec 1 := Scalar.cmpi .sgt v257 v256
  let c0_i32_106 : BitVec 32 := 0#32
  let v263 : BitVec 1 := Scalar.cmpi .sgt v259 c0_i32_106
  let v264 : BitVec 32 := Scalar.extui v263
  let c0_i32_107 : BitVec 32 := 0#32
  let v265 : BitVec 1 := Scalar.cmpi .slt v259 c0_i32_107
  let v266 : BitVec 32 := Scalar.extui v265
  let v267 : BitVec 32 := Scalar.subi v264 v266
  let c8_i32_105 : BitVec 32 := 8#32
  let c0_i32_108 : BitVec 32 := 0#32
  let v268 : BitVec 1 := Scalar.cmpi .sgt c8_i32_105 c0_i32_108
  let v269 : BitVec 32 := Scalar.extui v268
  let c0_i32_109 : BitVec 32 := 0#32
  let v270 : BitVec 1 := Scalar.cmpi .slt c8_i32_105 c0_i32_109
  let v271 : BitVec 32 := Scalar.extui v270
  let v272 : BitVec 32 := Scalar.subi v269 v271
  let v273 : BitVec 1 := Scalar.cmpi .ne v267 v272
  let v274 : BitVec 32 := Scalar.remsi v259 c8_i32_105
  let c0_i32_110 : BitVec 32 := 0#32
  let v275 : BitVec 1 := Scalar.cmpi .ne v274 c0_i32_110
  let v276 : BitVec 1 := Scalar.andi v273 v275
  let v262 : BitVec 32 := Scalar.divsi v259 c8_i32_105
  let c1_i32_111 : BitVec 32 := 1#32
  let v277 : BitVec 32 := Scalar.subi v262 c1_i32_111
  let v278 : BitVec 32 := Scalar.select v276 v277 v262
  let c8_i32_112 : BitVec 32 := 8#32
  let v279 : BitVec 32 := Scalar.muli v278 c8_i32_112
  let v280 : BitVec 32 := Scalar.subi v259 v279
  let v282 : BitVec 32 := Scalar.addi v280 v261
  let c8_i32_113 : BitVec 32 := 8#32
  let v283 : BitVec 32 := Scalar.addi v282 c8_i32_113
  let c1_i32_114 : BitVec 32 := 1#32
  let v284 : BitVec 32 := Scalar.subi v283 c1_i32_114
  let c0_i32_116 : BitVec 32 := 0#32
  let v286 : BitVec 1 := Scalar.cmpi .sgt v284 c0_i32_116
  let v287 : BitVec 32 := Scalar.extui v286
  let c0_i32_117 : BitVec 32 := 0#32
  let v288 : BitVec 1 := Scalar.cmpi .slt v284 c0_i32_117
  let v289 : BitVec 32 := Scalar.extui v288
  let v290 : BitVec 32 := Scalar.subi v287 v289
  let c8_i32_115 : BitVec 32 := 8#32
  let c0_i32_118 : BitVec 32 := 0#32
  let v291 : BitVec 1 := Scalar.cmpi .sgt c8_i32_115 c0_i32_118
  let v292 : BitVec 32 := Scalar.extui v291
  let c0_i32_119 : BitVec 32 := 0#32
  let v293 : BitVec 1 := Scalar.cmpi .slt c8_i32_115 c0_i32_119
  let v294 : BitVec 32 := Scalar.extui v293
  let v295 : BitVec 32 := Scalar.subi v292 v294
  let v296 : BitVec 1 := Scalar.cmpi .ne v290 v295
  let v297 : BitVec 32 := Scalar.remsi v284 c8_i32_115
  let c0_i32_120 : BitVec 32 := 0#32
  let v298 : BitVec 1 := Scalar.cmpi .ne v297 c0_i32_120
  let v299 : BitVec 1 := Scalar.andi v296 v298
  let v285 : BitVec 32 := Scalar.divsi v284 c8_i32_115
  let c1_i32_121 : BitVec 32 := 1#32
  let v300 : BitVec 32 := Scalar.subi v285 c1_i32_121
  let v301 : BitVec 32 := Scalar.select v299 v300 v285
  let c0_i32_122 : BitVec 32 := 0#32
  let v302 : BitVec 32 := Scalar.select v281 v301 c0_i32_122
  let c8_i32_206 : BitVec 32 := 8#32
  let v450 : BitVec 32 := Scalar.muli v302 c8_i32_206
  let v451 : BitVec 32 := v450
  ⟨![v455.toNat, 0], ![v451.toNat, 4096]⟩
def k0_off18 (v256 : BitVec 32) (v257 : BitVec 32) (v259 : BitVec 32) (v261 : BitVec 32) : (Fin 2 → Nat) × (Fin 2 → Nat) :=
  let c0_i32_106 : BitVec 32 := 0#32
  let v263 : BitVec 1 := Scalar.cmpi .sgt v259 c0_i32_106
  let v264 : BitVec 32 := Scalar.extui v263
  let c0_i32_107 : BitVec 32 := 0#32
  let v265 : BitVec 1 := Scalar.cmpi .slt v259 c0_i32_107
  let v266 : BitVec 32 := Scalar.extui v265
  let v267 : BitVec 32 := Scalar.subi v264 v266
  let c8_i32_105 : BitVec 32 := 8#32
  let c0_i32_108 : BitVec 32 := 0#32
  let v268 : BitVec 1 := Scalar.cmpi .sgt c8_i32_105 c0_i32_108
  let v269 : BitVec 32 := Scalar.extui v268
  let c0_i32_109 : BitVec 32 := 0#32
  let v270 : BitVec 1 := Scalar.cmpi .slt c8_i32_105 c0_i32_109
  let v271 : BitVec 32 := Scalar.extui v270
  let v272 : BitVec 32 := Scalar.subi v269 v271
  let v273 : BitVec 1 := Scalar.cmpi .ne v267 v272
  let v274 : BitVec 32 := Scalar.remsi v259 c8_i32_105
  let c0_i32_110 : BitVec 32 := 0#32
  let v275 : BitVec 1 := Scalar.cmpi .ne v274 c0_i32_110
  let v276 : BitVec 1 := Scalar.andi v273 v275
  let v262 : BitVec 32 := Scalar.divsi v259 c8_i32_105
  let c1_i32_111 : BitVec 32 := 1#32
  let v277 : BitVec 32 := Scalar.subi v262 c1_i32_111
  let v278 : BitVec 32 := Scalar.select v276 v277 v262
  let c8_i32_207 : BitVec 32 := 8#32
  let v452 : BitVec 32 := Scalar.muli v278 c8_i32_207
  let v453 : BitVec 32 := v452
  let c0_i32_211 : BitVec 32 := 0#32
  let v281 : BitVec 1 := Scalar.cmpi .sgt v257 v256
  let c8_i32_112 : BitVec 32 := 8#32
  let v279 : BitVec 32 := Scalar.muli v278 c8_i32_112
  let v280 : BitVec 32 := Scalar.subi v259 v279
  let v282 : BitVec 32 := Scalar.addi v280 v261
  let c8_i32_113 : BitVec 32 := 8#32
  let v283 : BitVec 32 := Scalar.addi v282 c8_i32_113
  let c1_i32_114 : BitVec 32 := 1#32
  let v284 : BitVec 32 := Scalar.subi v283 c1_i32_114
  let c0_i32_116 : BitVec 32 := 0#32
  let v286 : BitVec 1 := Scalar.cmpi .sgt v284 c0_i32_116
  let v287 : BitVec 32 := Scalar.extui v286
  let c0_i32_117 : BitVec 32 := 0#32
  let v288 : BitVec 1 := Scalar.cmpi .slt v284 c0_i32_117
  let v289 : BitVec 32 := Scalar.extui v288
  let v290 : BitVec 32 := Scalar.subi v287 v289
  let c8_i32_115 : BitVec 32 := 8#32
  let c0_i32_118 : BitVec 32 := 0#32
  let v291 : BitVec 1 := Scalar.cmpi .sgt c8_i32_115 c0_i32_118
  let v292 : BitVec 32 := Scalar.extui v291
  let c0_i32_119 : BitVec 32 := 0#32
  let v293 : BitVec 1 := Scalar.cmpi .slt c8_i32_115 c0_i32_119
  let v294 : BitVec 32 := Scalar.extui v293
  let v295 : BitVec 32 := Scalar.subi v292 v294
  let v296 : BitVec 1 := Scalar.cmpi .ne v290 v295
  let v297 : BitVec 32 := Scalar.remsi v284 c8_i32_115
  let c0_i32_120 : BitVec 32 := 0#32
  let v298 : BitVec 1 := Scalar.cmpi .ne v297 c0_i32_120
  let v299 : BitVec 1 := Scalar.andi v296 v298
  let v285 : BitVec 32 := Scalar.divsi v284 c8_i32_115
  let c1_i32_121 : BitVec 32 := 1#32
  let v300 : BitVec 32 := Scalar.subi v285 c1_i32_121
  let v301 : BitVec 32 := Scalar.select v299 v300 v285
  let c0_i32_122 : BitVec 32 := 0#32
  let v302 : BitVec 32 := Scalar.select v281 v301 c0_i32_122
  let c8_i32_206 : BitVec 32 := 8#32
  let v450 : BitVec 32 := Scalar.muli v302 c8_i32_206
  let v451 : BitVec 32 := v450
  ⟨![v453.toNat, 0], ![v451.toNat, 4096]⟩
def k0_mult19 (v1 : BitVec 32) (v2 : BitVec 32) (v4 : BitVec 32) (v6 : BitVec 32) : BitVec 32 :=
  let v26 : BitVec 1 := Scalar.cmpi .sgt v2 v1
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let c8_i32_207 : BitVec 32 := 8#32
  let v451 : BitVec 32 := Scalar.muli v47 c8_i32_207
  v451
def k0_cond8 (v1 : BitVec 32) (v2 : BitVec 32) (v4 : BitVec 32) (v6 : BitVec 32) : BitVec 1 :=
  let v26 : BitVec 1 := Scalar.cmpi .sgt v2 v1
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let c0_i32_194 : BitVec 32 := 0#32
  let v432 : BitVec 1 := Scalar.cmpi .sgt v47 c0_i32_194
  let v433 : BitVec 32 := Scalar.extui v432
  let c0_i32_195 : BitVec 32 := 0#32
  let v434 : BitVec 1 := Scalar.cmpi .ne v433 c0_i32_195
  v434

def k0_mult20 (v4 : BitVec 32) : BitVec 32 :=
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_208 : BitVec 32 := 8#32
  let v453 : BitVec 32 := Scalar.muli v23 c8_i32_208
  v453
def k0_mult21 (i : grid0.Coords) : BitVec 32 :=
  let arg0 : BitVec 32 := BitVec.ofNat 32 (i 0).val
  let c512_i32 : BitVec 32 := 512#32
  let v455 : BitVec 32 := Scalar.muli arg0 c512_i32
  v455
def k0_mult22 : BitVec 32 :=
  let c0_i32_125 : BitVec 32 := 0#32
  let c8_i32_209 : BitVec 32 := 8#32
  let v457 : BitVec 32 := Scalar.muli c0_i32_125 c8_i32_209
  v457
def k0_off19 (i : grid0.Coords) : Fin 2 → Nat :=
  let arg0 : BitVec 32 := BitVec.ofNat 32 (i 0).val
  let c2_i32_206 : BitVec 32 := 2#32
  let v450 : BitVec 32 := Scalar.remsi arg0 c2_i32_206
  let c0_i32_210 : BitVec 32 := 0#32
  ![v450.toNat, 0]
def k0_off20 (i : grid0.Coords) (v1 : BitVec 32) (v2 : BitVec 32) (v4 : BitVec 32) (v6 : BitVec 32) : (Fin 3 → Nat) × (Fin 3 → Nat) :=
  let arg0 : BitVec 32 := BitVec.ofNat 32 (i 0).val
  let c2_i32_206 : BitVec 32 := 2#32
  let v450 : BitVec 32 := Scalar.remsi arg0 c2_i32_206
  let c0_i32_125 : BitVec 32 := 0#32
  let c8_i32_209 : BitVec 32 := 8#32
  let v457 : BitVec 32 := Scalar.muli c0_i32_125 c8_i32_209
  let v458 : BitVec 32 := v457
  let c0_i32_211 : BitVec 32 := 0#32
  let v26 : BitVec 1 := Scalar.cmpi .sgt v2 v1
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let c8_i32_207 : BitVec 32 := 8#32
  let v451 : BitVec 32 := Scalar.muli v47 c8_i32_207
  let v452 : BitVec 32 := v451
  ⟨![v450.toNat, v458.toNat, 0], ![1, v452.toNat, 512]⟩
def k0_sz1 (v1 : BitVec 32) (v2 : BitVec 32) (v4 : BitVec 32) (v6 : BitVec 32) : Fin 2 → Nat :=
  let v26 : BitVec 1 := Scalar.cmpi .sgt v2 v1
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let c8_i32_207 : BitVec 32 := 8#32
  let v451 : BitVec 32 := Scalar.muli v47 c8_i32_207
  let v452 : BitVec 32 := v451
  ![v452.toNat, 512]
def k0_off21 (i : grid0.Coords) (v1 : BitVec 32) (v2 : BitVec 32) (v4 : BitVec 32) (v6 : BitVec 32) : (Fin 2 → Nat) × (Fin 2 → Nat) :=
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_208 : BitVec 32 := 8#32
  let v453 : BitVec 32 := Scalar.muli v23 c8_i32_208
  let v454 : BitVec 32 := v453
  let arg0 : BitVec 32 := BitVec.ofNat 32 (i 0).val
  let c512_i32 : BitVec 32 := 512#32
  let v455 : BitVec 32 := Scalar.muli arg0 c512_i32
  let v456 : BitVec 32 := v455
  let v26 : BitVec 1 := Scalar.cmpi .sgt v2 v1
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let c8_i32_207 : BitVec 32 := 8#32
  let v451 : BitVec 32 := Scalar.muli v47 c8_i32_207
  let v452 : BitVec 32 := v451
  ⟨![v454.toNat, v456.toNat], ![v452.toNat, 512]⟩
def k0_mult23 (v52 : BitVec 32) (v53 : BitVec 32) (v55 : BitVec 32) (v57 : BitVec 32) : BitVec 32 :=
  let v77 : BitVec 1 := Scalar.cmpi .sgt v53 v52
  let c0_i32_22 : BitVec 32 := 0#32
  let v59 : BitVec 1 := Scalar.cmpi .sgt v55 c0_i32_22
  let v60 : BitVec 32 := Scalar.extui v59
  let c0_i32_23 : BitVec 32 := 0#32
  let v61 : BitVec 1 := Scalar.cmpi .slt v55 c0_i32_23
  let v62 : BitVec 32 := Scalar.extui v61
  let v63 : BitVec 32 := Scalar.subi v60 v62
  let c8_i32_21 : BitVec 32 := 8#32
  let c0_i32_24 : BitVec 32 := 0#32
  let v64 : BitVec 1 := Scalar.cmpi .sgt c8_i32_21 c0_i32_24
  let v65 : BitVec 32 := Scalar.extui v64
  let c0_i32_25 : BitVec 32 := 0#32
  let v66 : BitVec 1 := Scalar.cmpi .slt c8_i32_21 c0_i32_25
  let v67 : BitVec 32 := Scalar.extui v66
  let v68 : BitVec 32 := Scalar.subi v65 v67
  let v69 : BitVec 1 := Scalar.cmpi .ne v63 v68
  let v70 : BitVec 32 := Scalar.remsi v55 c8_i32_21
  let c0_i32_26 : BitVec 32 := 0#32
  let v71 : BitVec 1 := Scalar.cmpi .ne v70 c0_i32_26
  let v72 : BitVec 1 := Scalar.andi v69 v71
  let v58 : BitVec 32 := Scalar.divsi v55 c8_i32_21
  let c1_i32_27 : BitVec 32 := 1#32
  let v73 : BitVec 32 := Scalar.subi v58 c1_i32_27
  let v74 : BitVec 32 := Scalar.select v72 v73 v58
  let c8_i32_28 : BitVec 32 := 8#32
  let v75 : BitVec 32 := Scalar.muli v74 c8_i32_28
  let v76 : BitVec 32 := Scalar.subi v55 v75
  let v78 : BitVec 32 := Scalar.addi v76 v57
  let c8_i32_29 : BitVec 32 := 8#32
  let v79 : BitVec 32 := Scalar.addi v78 c8_i32_29
  let c1_i32_30 : BitVec 32 := 1#32
  let v80 : BitVec 32 := Scalar.subi v79 c1_i32_30
  let c0_i32_32 : BitVec 32 := 0#32
  let v82 : BitVec 1 := Scalar.cmpi .sgt v80 c0_i32_32
  let v83 : BitVec 32 := Scalar.extui v82
  let c0_i32_33 : BitVec 32 := 0#32
  let v84 : BitVec 1 := Scalar.cmpi .slt v80 c0_i32_33
  let v85 : BitVec 32 := Scalar.extui v84
  let v86 : BitVec 32 := Scalar.subi v83 v85
  let c8_i32_31 : BitVec 32 := 8#32
  let c0_i32_34 : BitVec 32 := 0#32
  let v87 : BitVec 1 := Scalar.cmpi .sgt c8_i32_31 c0_i32_34
  let v88 : BitVec 32 := Scalar.extui v87
  let c0_i32_35 : BitVec 32 := 0#32
  let v89 : BitVec 1 := Scalar.cmpi .slt c8_i32_31 c0_i32_35
  let v90 : BitVec 32 := Scalar.extui v89
  let v91 : BitVec 32 := Scalar.subi v88 v90
  let v92 : BitVec 1 := Scalar.cmpi .ne v86 v91
  let v93 : BitVec 32 := Scalar.remsi v80 c8_i32_31
  let c0_i32_36 : BitVec 32 := 0#32
  let v94 : BitVec 1 := Scalar.cmpi .ne v93 c0_i32_36
  let v95 : BitVec 1 := Scalar.andi v92 v94
  let v81 : BitVec 32 := Scalar.divsi v80 c8_i32_31
  let c1_i32_37 : BitVec 32 := 1#32
  let v96 : BitVec 32 := Scalar.subi v81 c1_i32_37
  let v97 : BitVec 32 := Scalar.select v95 v96 v81
  let c0_i32_38 : BitVec 32 := 0#32
  let v98 : BitVec 32 := Scalar.select v77 v97 c0_i32_38
  let c8_i32_207 : BitVec 32 := 8#32
  let v451 : BitVec 32 := Scalar.muli v98 c8_i32_207
  v451
def k0_cond9 (v52 : BitVec 32) (v53 : BitVec 32) (v55 : BitVec 32) (v57 : BitVec 32) : BitVec 1 :=
  let v77 : BitVec 1 := Scalar.cmpi .sgt v53 v52
  let c0_i32_22 : BitVec 32 := 0#32
  let v59 : BitVec 1 := Scalar.cmpi .sgt v55 c0_i32_22
  let v60 : BitVec 32 := Scalar.extui v59
  let c0_i32_23 : BitVec 32 := 0#32
  let v61 : BitVec 1 := Scalar.cmpi .slt v55 c0_i32_23
  let v62 : BitVec 32 := Scalar.extui v61
  let v63 : BitVec 32 := Scalar.subi v60 v62
  let c8_i32_21 : BitVec 32 := 8#32
  let c0_i32_24 : BitVec 32 := 0#32
  let v64 : BitVec 1 := Scalar.cmpi .sgt c8_i32_21 c0_i32_24
  let v65 : BitVec 32 := Scalar.extui v64
  let c0_i32_25 : BitVec 32 := 0#32
  let v66 : BitVec 1 := Scalar.cmpi .slt c8_i32_21 c0_i32_25
  let v67 : BitVec 32 := Scalar.extui v66
  let v68 : BitVec 32 := Scalar.subi v65 v67
  let v69 : BitVec 1 := Scalar.cmpi .ne v63 v68
  let v70 : BitVec 32 := Scalar.remsi v55 c8_i32_21
  let c0_i32_26 : BitVec 32 := 0#32
  let v71 : BitVec 1 := Scalar.cmpi .ne v70 c0_i32_26
  let v72 : BitVec 1 := Scalar.andi v69 v71
  let v58 : BitVec 32 := Scalar.divsi v55 c8_i32_21
  let c1_i32_27 : BitVec 32 := 1#32
  let v73 : BitVec 32 := Scalar.subi v58 c1_i32_27
  let v74 : BitVec 32 := Scalar.select v72 v73 v58
  let c8_i32_28 : BitVec 32 := 8#32
  let v75 : BitVec 32 := Scalar.muli v74 c8_i32_28
  let v76 : BitVec 32 := Scalar.subi v55 v75
  let v78 : BitVec 32 := Scalar.addi v76 v57
  let c8_i32_29 : BitVec 32 := 8#32
  let v79 : BitVec 32 := Scalar.addi v78 c8_i32_29
  let c1_i32_30 : BitVec 32 := 1#32
  let v80 : BitVec 32 := Scalar.subi v79 c1_i32_30
  let c0_i32_32 : BitVec 32 := 0#32
  let v82 : BitVec 1 := Scalar.cmpi .sgt v80 c0_i32_32
  let v83 : BitVec 32 := Scalar.extui v82
  let c0_i32_33 : BitVec 32 := 0#32
  let v84 : BitVec 1 := Scalar.cmpi .slt v80 c0_i32_33
  let v85 : BitVec 32 := Scalar.extui v84
  let v86 : BitVec 32 := Scalar.subi v83 v85
  let c8_i32_31 : BitVec 32 := 8#32
  let c0_i32_34 : BitVec 32 := 0#32
  let v87 : BitVec 1 := Scalar.cmpi .sgt c8_i32_31 c0_i32_34
  let v88 : BitVec 32 := Scalar.extui v87
  let c0_i32_35 : BitVec 32 := 0#32
  let v89 : BitVec 1 := Scalar.cmpi .slt c8_i32_31 c0_i32_35
  let v90 : BitVec 32 := Scalar.extui v89
  let v91 : BitVec 32 := Scalar.subi v88 v90
  let v92 : BitVec 1 := Scalar.cmpi .ne v86 v91
  let v93 : BitVec 32 := Scalar.remsi v80 c8_i32_31
  let c0_i32_36 : BitVec 32 := 0#32
  let v94 : BitVec 1 := Scalar.cmpi .ne v93 c0_i32_36
  let v95 : BitVec 1 := Scalar.andi v92 v94
  let v81 : BitVec 32 := Scalar.divsi v80 c8_i32_31
  let c1_i32_37 : BitVec 32 := 1#32
  let v96 : BitVec 32 := Scalar.subi v81 c1_i32_37
  let v97 : BitVec 32 := Scalar.select v95 v96 v81
  let c0_i32_38 : BitVec 32 := 0#32
  let v98 : BitVec 32 := Scalar.select v77 v97 c0_i32_38
  let c0_i32_196 : BitVec 32 := 0#32
  let v435 : BitVec 1 := Scalar.cmpi .sgt v98 c0_i32_196
  let v436 : BitVec 32 := Scalar.extui v435
  let c0_i32_197 : BitVec 32 := 0#32
  let v437 : BitVec 1 := Scalar.cmpi .ne v436 c0_i32_197
  v437

def k0_mult24 (v55 : BitVec 32) : BitVec 32 :=
  let c0_i32_22 : BitVec 32 := 0#32
  let v59 : BitVec 1 := Scalar.cmpi .sgt v55 c0_i32_22
  let v60 : BitVec 32 := Scalar.extui v59
  let c0_i32_23 : BitVec 32 := 0#32
  let v61 : BitVec 1 := Scalar.cmpi .slt v55 c0_i32_23
  let v62 : BitVec 32 := Scalar.extui v61
  let v63 : BitVec 32 := Scalar.subi v60 v62
  let c8_i32_21 : BitVec 32 := 8#32
  let c0_i32_24 : BitVec 32 := 0#32
  let v64 : BitVec 1 := Scalar.cmpi .sgt c8_i32_21 c0_i32_24
  let v65 : BitVec 32 := Scalar.extui v64
  let c0_i32_25 : BitVec 32 := 0#32
  let v66 : BitVec 1 := Scalar.cmpi .slt c8_i32_21 c0_i32_25
  let v67 : BitVec 32 := Scalar.extui v66
  let v68 : BitVec 32 := Scalar.subi v65 v67
  let v69 : BitVec 1 := Scalar.cmpi .ne v63 v68
  let v70 : BitVec 32 := Scalar.remsi v55 c8_i32_21
  let c0_i32_26 : BitVec 32 := 0#32
  let v71 : BitVec 1 := Scalar.cmpi .ne v70 c0_i32_26
  let v72 : BitVec 1 := Scalar.andi v69 v71
  let v58 : BitVec 32 := Scalar.divsi v55 c8_i32_21
  let c1_i32_27 : BitVec 32 := 1#32
  let v73 : BitVec 32 := Scalar.subi v58 c1_i32_27
  let v74 : BitVec 32 := Scalar.select v72 v73 v58
  let c8_i32_208 : BitVec 32 := 8#32
  let v453 : BitVec 32 := Scalar.muli v74 c8_i32_208
  v453
def k0_mult25 (i : grid0.Coords) : BitVec 32 :=
  let arg0 : BitVec 32 := BitVec.ofNat 32 (i 0).val
  let c512_i32 : BitVec 32 := 512#32
  let v455 : BitVec 32 := Scalar.muli arg0 c512_i32
  v455
def k0_mult26 (v1 : BitVec 32) (v2 : BitVec 32) (v4 : BitVec 32) (v6 : BitVec 32) : BitVec 32 :=
  let c0_i32_18 : BitVec 32 := 0#32
  let v26 : BitVec 1 := Scalar.cmpi .sgt v2 v1
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let v50 : BitVec 32 := Scalar.addi c0_i32_18 v47
  let c8_i32_209 : BitVec 32 := 8#32
  let v457 : BitVec 32 := Scalar.muli v50 c8_i32_209
  v457
def k0_off22 (i : grid0.Coords) : Fin 2 → Nat :=
  let arg0 : BitVec 32 := BitVec.ofNat 32 (i 0).val
  let c2_i32_206 : BitVec 32 := 2#32
  let v450 : BitVec 32 := Scalar.remsi arg0 c2_i32_206
  let c1_i32_210 : BitVec 32 := 1#32
  ![v450.toNat, 1]
def k0_off23 (i : grid0.Coords) (v1 : BitVec 32) (v2 : BitVec 32) (v4 : BitVec 32) (v6 : BitVec 32) (v52 : BitVec 32) (v53 : BitVec 32) (v55 : BitVec 32) (v57 : BitVec 32) : (Fin 3 → Nat) × (Fin 3 → Nat) :=
  let arg0 : BitVec 32 := BitVec.ofNat 32 (i 0).val
  let c2_i32_206 : BitVec 32 := 2#32
  let v450 : BitVec 32 := Scalar.remsi arg0 c2_i32_206
  let c0_i32_18 : BitVec 32 := 0#32
  let v26 : BitVec 1 := Scalar.cmpi .sgt v2 v1
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let v50 : BitVec 32 := Scalar.addi c0_i32_18 v47
  let c8_i32_209 : BitVec 32 := 8#32
  let v457 : BitVec 32 := Scalar.muli v50 c8_i32_209
  let v458 : BitVec 32 := v457
  let c0_i32_211 : BitVec 32 := 0#32
  let v77 : BitVec 1 := Scalar.cmpi .sgt v53 v52
  let c0_i32_22 : BitVec 32 := 0#32
  let v59 : BitVec 1 := Scalar.cmpi .sgt v55 c0_i32_22
  let v60 : BitVec 32 := Scalar.extui v59
  let c0_i32_23 : BitVec 32 := 0#32
  let v61 : BitVec 1 := Scalar.cmpi .slt v55 c0_i32_23
  let v62 : BitVec 32 := Scalar.extui v61
  let v63 : BitVec 32 := Scalar.subi v60 v62
  let c8_i32_21 : BitVec 32 := 8#32
  let c0_i32_24 : BitVec 32 := 0#32
  let v64 : BitVec 1 := Scalar.cmpi .sgt c8_i32_21 c0_i32_24
  let v65 : BitVec 32 := Scalar.extui v64
  let c0_i32_25 : BitVec 32 := 0#32
  let v66 : BitVec 1 := Scalar.cmpi .slt c8_i32_21 c0_i32_25
  let v67 : BitVec 32 := Scalar.extui v66
  let v68 : BitVec 32 := Scalar.subi v65 v67
  let v69 : BitVec 1 := Scalar.cmpi .ne v63 v68
  let v70 : BitVec 32 := Scalar.remsi v55 c8_i32_21
  let c0_i32_26 : BitVec 32 := 0#32
  let v71 : BitVec 1 := Scalar.cmpi .ne v70 c0_i32_26
  let v72 : BitVec 1 := Scalar.andi v69 v71
  let v58 : BitVec 32 := Scalar.divsi v55 c8_i32_21
  let c1_i32_27 : BitVec 32 := 1#32
  let v73 : BitVec 32 := Scalar.subi v58 c1_i32_27
  let v74 : BitVec 32 := Scalar.select v72 v73 v58
  let c8_i32_28 : BitVec 32 := 8#32
  let v75 : BitVec 32 := Scalar.muli v74 c8_i32_28
  let v76 : BitVec 32 := Scalar.subi v55 v75
  let v78 : BitVec 32 := Scalar.addi v76 v57
  let c8_i32_29 : BitVec 32 := 8#32
  let v79 : BitVec 32 := Scalar.addi v78 c8_i32_29
  let c1_i32_30 : BitVec 32 := 1#32
  let v80 : BitVec 32 := Scalar.subi v79 c1_i32_30
  let c0_i32_32 : BitVec 32 := 0#32
  let v82 : BitVec 1 := Scalar.cmpi .sgt v80 c0_i32_32
  let v83 : BitVec 32 := Scalar.extui v82
  let c0_i32_33 : BitVec 32 := 0#32
  let v84 : BitVec 1 := Scalar.cmpi .slt v80 c0_i32_33
  let v85 : BitVec 32 := Scalar.extui v84
  let v86 : BitVec 32 := Scalar.subi v83 v85
  let c8_i32_31 : BitVec 32 := 8#32
  let c0_i32_34 : BitVec 32 := 0#32
  let v87 : BitVec 1 := Scalar.cmpi .sgt c8_i32_31 c0_i32_34
  let v88 : BitVec 32 := Scalar.extui v87
  let c0_i32_35 : BitVec 32 := 0#32
  let v89 : BitVec 1 := Scalar.cmpi .slt c8_i32_31 c0_i32_35
  let v90 : BitVec 32 := Scalar.extui v89
  let v91 : BitVec 32 := Scalar.subi v88 v90
  let v92 : BitVec 1 := Scalar.cmpi .ne v86 v91
  let v93 : BitVec 32 := Scalar.remsi v80 c8_i32_31
  let c0_i32_36 : BitVec 32 := 0#32
  let v94 : BitVec 1 := Scalar.cmpi .ne v93 c0_i32_36
  let v95 : BitVec 1 := Scalar.andi v92 v94
  let v81 : BitVec 32 := Scalar.divsi v80 c8_i32_31
  let c1_i32_37 : BitVec 32 := 1#32
  let v96 : BitVec 32 := Scalar.subi v81 c1_i32_37
  let v97 : BitVec 32 := Scalar.select v95 v96 v81
  let c0_i32_38 : BitVec 32 := 0#32
  let v98 : BitVec 32 := Scalar.select v77 v97 c0_i32_38
  let c8_i32_207 : BitVec 32 := 8#32
  let v451 : BitVec 32 := Scalar.muli v98 c8_i32_207
  let v452 : BitVec 32 := v451
  ⟨![v450.toNat, v458.toNat, 0], ![1, v452.toNat, 512]⟩
def k0_sz2 (v52 : BitVec 32) (v53 : BitVec 32) (v55 : BitVec 32) (v57 : BitVec 32) : Fin 2 → Nat :=
  let v77 : BitVec 1 := Scalar.cmpi .sgt v53 v52
  let c0_i32_22 : BitVec 32 := 0#32
  let v59 : BitVec 1 := Scalar.cmpi .sgt v55 c0_i32_22
  let v60 : BitVec 32 := Scalar.extui v59
  let c0_i32_23 : BitVec 32 := 0#32
  let v61 : BitVec 1 := Scalar.cmpi .slt v55 c0_i32_23
  let v62 : BitVec 32 := Scalar.extui v61
  let v63 : BitVec 32 := Scalar.subi v60 v62
  let c8_i32_21 : BitVec 32 := 8#32
  let c0_i32_24 : BitVec 32 := 0#32
  let v64 : BitVec 1 := Scalar.cmpi .sgt c8_i32_21 c0_i32_24
  let v65 : BitVec 32 := Scalar.extui v64
  let c0_i32_25 : BitVec 32 := 0#32
  let v66 : BitVec 1 := Scalar.cmpi .slt c8_i32_21 c0_i32_25
  let v67 : BitVec 32 := Scalar.extui v66
  let v68 : BitVec 32 := Scalar.subi v65 v67
  let v69 : BitVec 1 := Scalar.cmpi .ne v63 v68
  let v70 : BitVec 32 := Scalar.remsi v55 c8_i32_21
  let c0_i32_26 : BitVec 32 := 0#32
  let v71 : BitVec 1 := Scalar.cmpi .ne v70 c0_i32_26
  let v72 : BitVec 1 := Scalar.andi v69 v71
  let v58 : BitVec 32 := Scalar.divsi v55 c8_i32_21
  let c1_i32_27 : BitVec 32 := 1#32
  let v73 : BitVec 32 := Scalar.subi v58 c1_i32_27
  let v74 : BitVec 32 := Scalar.select v72 v73 v58
  let c8_i32_28 : BitVec 32 := 8#32
  let v75 : BitVec 32 := Scalar.muli v74 c8_i32_28
  let v76 : BitVec 32 := Scalar.subi v55 v75
  let v78 : BitVec 32 := Scalar.addi v76 v57
  let c8_i32_29 : BitVec 32 := 8#32
  let v79 : BitVec 32 := Scalar.addi v78 c8_i32_29
  let c1_i32_30 : BitVec 32 := 1#32
  let v80 : BitVec 32 := Scalar.subi v79 c1_i32_30
  let c0_i32_32 : BitVec 32 := 0#32
  let v82 : BitVec 1 := Scalar.cmpi .sgt v80 c0_i32_32
  let v83 : BitVec 32 := Scalar.extui v82
  let c0_i32_33 : BitVec 32 := 0#32
  let v84 : BitVec 1 := Scalar.cmpi .slt v80 c0_i32_33
  let v85 : BitVec 32 := Scalar.extui v84
  let v86 : BitVec 32 := Scalar.subi v83 v85
  let c8_i32_31 : BitVec 32 := 8#32
  let c0_i32_34 : BitVec 32 := 0#32
  let v87 : BitVec 1 := Scalar.cmpi .sgt c8_i32_31 c0_i32_34
  let v88 : BitVec 32 := Scalar.extui v87
  let c0_i32_35 : BitVec 32 := 0#32
  let v89 : BitVec 1 := Scalar.cmpi .slt c8_i32_31 c0_i32_35
  let v90 : BitVec 32 := Scalar.extui v89
  let v91 : BitVec 32 := Scalar.subi v88 v90
  let v92 : BitVec 1 := Scalar.cmpi .ne v86 v91
  let v93 : BitVec 32 := Scalar.remsi v80 c8_i32_31
  let c0_i32_36 : BitVec 32 := 0#32
  let v94 : BitVec 1 := Scalar.cmpi .ne v93 c0_i32_36
  let v95 : BitVec 1 := Scalar.andi v92 v94
  let v81 : BitVec 32 := Scalar.divsi v80 c8_i32_31
  let c1_i32_37 : BitVec 32 := 1#32
  let v96 : BitVec 32 := Scalar.subi v81 c1_i32_37
  let v97 : BitVec 32 := Scalar.select v95 v96 v81
  let c0_i32_38 : BitVec 32 := 0#32
  let v98 : BitVec 32 := Scalar.select v77 v97 c0_i32_38
  let c8_i32_207 : BitVec 32 := 8#32
  let v451 : BitVec 32 := Scalar.muli v98 c8_i32_207
  let v452 : BitVec 32 := v451
  ![v452.toNat, 512]
def k0_off24 (i : grid0.Coords) (v52 : BitVec 32) (v53 : BitVec 32) (v55 : BitVec 32) (v57 : BitVec 32) : (Fin 2 → Nat) × (Fin 2 → Nat) :=
  let c0_i32_22 : BitVec 32 := 0#32
  let v59 : BitVec 1 := Scalar.cmpi .sgt v55 c0_i32_22
  let v60 : BitVec 32 := Scalar.extui v59
  let c0_i32_23 : BitVec 32 := 0#32
  let v61 : BitVec 1 := Scalar.cmpi .slt v55 c0_i32_23
  let v62 : BitVec 32 := Scalar.extui v61
  let v63 : BitVec 32 := Scalar.subi v60 v62
  let c8_i32_21 : BitVec 32 := 8#32
  let c0_i32_24 : BitVec 32 := 0#32
  let v64 : BitVec 1 := Scalar.cmpi .sgt c8_i32_21 c0_i32_24
  let v65 : BitVec 32 := Scalar.extui v64
  let c0_i32_25 : BitVec 32 := 0#32
  let v66 : BitVec 1 := Scalar.cmpi .slt c8_i32_21 c0_i32_25
  let v67 : BitVec 32 := Scalar.extui v66
  let v68 : BitVec 32 := Scalar.subi v65 v67
  let v69 : BitVec 1 := Scalar.cmpi .ne v63 v68
  let v70 : BitVec 32 := Scalar.remsi v55 c8_i32_21
  let c0_i32_26 : BitVec 32 := 0#32
  let v71 : BitVec 1 := Scalar.cmpi .ne v70 c0_i32_26
  let v72 : BitVec 1 := Scalar.andi v69 v71
  let v58 : BitVec 32 := Scalar.divsi v55 c8_i32_21
  let c1_i32_27 : BitVec 32 := 1#32
  let v73 : BitVec 32 := Scalar.subi v58 c1_i32_27
  let v74 : BitVec 32 := Scalar.select v72 v73 v58
  let c8_i32_208 : BitVec 32 := 8#32
  let v453 : BitVec 32 := Scalar.muli v74 c8_i32_208
  let v454 : BitVec 32 := v453
  let arg0 : BitVec 32 := BitVec.ofNat 32 (i 0).val
  let c512_i32 : BitVec 32 := 512#32
  let v455 : BitVec 32 := Scalar.muli arg0 c512_i32
  let v456 : BitVec 32 := v455
  let v77 : BitVec 1 := Scalar.cmpi .sgt v53 v52
  let c8_i32_28 : BitVec 32 := 8#32
  let v75 : BitVec 32 := Scalar.muli v74 c8_i32_28
  let v76 : BitVec 32 := Scalar.subi v55 v75
  let v78 : BitVec 32 := Scalar.addi v76 v57
  let c8_i32_29 : BitVec 32 := 8#32
  let v79 : BitVec 32 := Scalar.addi v78 c8_i32_29
  let c1_i32_30 : BitVec 32 := 1#32
  let v80 : BitVec 32 := Scalar.subi v79 c1_i32_30
  let c0_i32_32 : BitVec 32 := 0#32
  let v82 : BitVec 1 := Scalar.cmpi .sgt v80 c0_i32_32
  let v83 : BitVec 32 := Scalar.extui v82
  let c0_i32_33 : BitVec 32 := 0#32
  let v84 : BitVec 1 := Scalar.cmpi .slt v80 c0_i32_33
  let v85 : BitVec 32 := Scalar.extui v84
  let v86 : BitVec 32 := Scalar.subi v83 v85
  let c8_i32_31 : BitVec 32 := 8#32
  let c0_i32_34 : BitVec 32 := 0#32
  let v87 : BitVec 1 := Scalar.cmpi .sgt c8_i32_31 c0_i32_34
  let v88 : BitVec 32 := Scalar.extui v87
  let c0_i32_35 : BitVec 32 := 0#32
  let v89 : BitVec 1 := Scalar.cmpi .slt c8_i32_31 c0_i32_35
  let v90 : BitVec 32 := Scalar.extui v89
  let v91 : BitVec 32 := Scalar.subi v88 v90
  let v92 : BitVec 1 := Scalar.cmpi .ne v86 v91
  let v93 : BitVec 32 := Scalar.remsi v80 c8_i32_31
  let c0_i32_36 : BitVec 32 := 0#32
  let v94 : BitVec 1 := Scalar.cmpi .ne v93 c0_i32_36
  let v95 : BitVec 1 := Scalar.andi v92 v94
  let v81 : BitVec 32 := Scalar.divsi v80 c8_i32_31
  let c1_i32_37 : BitVec 32 := 1#32
  let v96 : BitVec 32 := Scalar.subi v81 c1_i32_37
  let v97 : BitVec 32 := Scalar.select v95 v96 v81
  let c0_i32_38 : BitVec 32 := 0#32
  let v98 : BitVec 32 := Scalar.select v77 v97 c0_i32_38
  let c8_i32_207 : BitVec 32 := 8#32
  let v451 : BitVec 32 := Scalar.muli v98 c8_i32_207
  let v452 : BitVec 32 := v451
  ⟨![v454.toNat, v456.toNat], ![v452.toNat, 512]⟩
def k0_mult27 (v103 : BitVec 32) (v104 : BitVec 32) (v106 : BitVec 32) (v108 : BitVec 32) : BitVec 32 :=
  let v128 : BitVec 1 := Scalar.cmpi .sgt v104 v103
  let c0_i32_43 : BitVec 32 := 0#32
  let v110 : BitVec 1 := Scalar.cmpi .sgt v106 c0_i32_43
  let v111 : BitVec 32 := Scalar.extui v110
  let c0_i32_44 : BitVec 32 := 0#32
  let v112 : BitVec 1 := Scalar.cmpi .slt v106 c0_i32_44
  let v113 : BitVec 32 := Scalar.extui v112
  let v114 : BitVec 32 := Scalar.subi v111 v113
  let c8_i32_42 : BitVec 32 := 8#32
  let c0_i32_45 : BitVec 32 := 0#32
  let v115 : BitVec 1 := Scalar.cmpi .sgt c8_i32_42 c0_i32_45
  let v116 : BitVec 32 := Scalar.extui v115
  let c0_i32_46 : BitVec 32 := 0#32
  let v117 : BitVec 1 := Scalar.cmpi .slt c8_i32_42 c0_i32_46
  let v118 : BitVec 32 := Scalar.extui v117
  let v119 : BitVec 32 := Scalar.subi v116 v118
  let v120 : BitVec 1 := Scalar.cmpi .ne v114 v119
  let v121 : BitVec 32 := Scalar.remsi v106 c8_i32_42
  let c0_i32_47 : BitVec 32 := 0#32
  let v122 : BitVec 1 := Scalar.cmpi .ne v121 c0_i32_47
  let v123 : BitVec 1 := Scalar.andi v120 v122
  let v109 : BitVec 32 := Scalar.divsi v106 c8_i32_42
  let c1_i32_48 : BitVec 32 := 1#32
  let v124 : BitVec 32 := Scalar.subi v109 c1_i32_48
  let v125 : BitVec 32 := Scalar.select v123 v124 v109
  let c8_i32_49 : BitVec 32 := 8#32
  let v126 : BitVec 32 := Scalar.muli v125 c8_i32_49
  let v127 : BitVec 32 := Scalar.subi v106 v126
  let v129 : BitVec 32 := Scalar.addi v127 v108
  let c8_i32_50 : BitVec 32 := 8#32
  let v130 : BitVec 32 := Scalar.addi v129 c8_i32_50
  let c1_i32_51 : BitVec 32 := 1#32
  let v131 : BitVec 32 := Scalar.subi v130 c1_i32_51
  let c0_i32_53 : BitVec 32 := 0#32
  let v133 : BitVec 1 := Scalar.cmpi .sgt v131 c0_i32_53
  let v134 : BitVec 32 := Scalar.extui v133
  let c0_i32_54 : BitVec 32 := 0#32
  let v135 : BitVec 1 := Scalar.cmpi .slt v131 c0_i32_54
  let v136 : BitVec 32 := Scalar.extui v135
  let v137 : BitVec 32 := Scalar.subi v134 v136
  let c8_i32_52 : BitVec 32 := 8#32
  let c0_i32_55 : BitVec 32 := 0#32
  let v138 : BitVec 1 := Scalar.cmpi .sgt c8_i32_52 c0_i32_55
  let v139 : BitVec 32 := Scalar.extui v138
  let c0_i32_56 : BitVec 32 := 0#32
  let v140 : BitVec 1 := Scalar.cmpi .slt c8_i32_52 c0_i32_56
  let v141 : BitVec 32 := Scalar.extui v140
  let v142 : BitVec 32 := Scalar.subi v139 v141
  let v143 : BitVec 1 := Scalar.cmpi .ne v137 v142
  let v144 : BitVec 32 := Scalar.remsi v131 c8_i32_52
  let c0_i32_57 : BitVec 32 := 0#32
  let v145 : BitVec 1 := Scalar.cmpi .ne v144 c0_i32_57
  let v146 : BitVec 1 := Scalar.andi v143 v145
  let v132 : BitVec 32 := Scalar.divsi v131 c8_i32_52
  let c1_i32_58 : BitVec 32 := 1#32
  let v147 : BitVec 32 := Scalar.subi v132 c1_i32_58
  let v148 : BitVec 32 := Scalar.select v146 v147 v132
  let c0_i32_59 : BitVec 32 := 0#32
  let v149 : BitVec 32 := Scalar.select v128 v148 c0_i32_59
  let c8_i32_207 : BitVec 32 := 8#32
  let v451 : BitVec 32 := Scalar.muli v149 c8_i32_207
  v451
def k0_cond10 (v103 : BitVec 32) (v104 : BitVec 32) (v106 : BitVec 32) (v108 : BitVec 32) : BitVec 1 :=
  let v128 : BitVec 1 := Scalar.cmpi .sgt v104 v103
  let c0_i32_43 : BitVec 32 := 0#32
  let v110 : BitVec 1 := Scalar.cmpi .sgt v106 c0_i32_43
  let v111 : BitVec 32 := Scalar.extui v110
  let c0_i32_44 : BitVec 32 := 0#32
  let v112 : BitVec 1 := Scalar.cmpi .slt v106 c0_i32_44
  let v113 : BitVec 32 := Scalar.extui v112
  let v114 : BitVec 32 := Scalar.subi v111 v113
  let c8_i32_42 : BitVec 32 := 8#32
  let c0_i32_45 : BitVec 32 := 0#32
  let v115 : BitVec 1 := Scalar.cmpi .sgt c8_i32_42 c0_i32_45
  let v116 : BitVec 32 := Scalar.extui v115
  let c0_i32_46 : BitVec 32 := 0#32
  let v117 : BitVec 1 := Scalar.cmpi .slt c8_i32_42 c0_i32_46
  let v118 : BitVec 32 := Scalar.extui v117
  let v119 : BitVec 32 := Scalar.subi v116 v118
  let v120 : BitVec 1 := Scalar.cmpi .ne v114 v119
  let v121 : BitVec 32 := Scalar.remsi v106 c8_i32_42
  let c0_i32_47 : BitVec 32 := 0#32
  let v122 : BitVec 1 := Scalar.cmpi .ne v121 c0_i32_47
  let v123 : BitVec 1 := Scalar.andi v120 v122
  let v109 : BitVec 32 := Scalar.divsi v106 c8_i32_42
  let c1_i32_48 : BitVec 32 := 1#32
  let v124 : BitVec 32 := Scalar.subi v109 c1_i32_48
  let v125 : BitVec 32 := Scalar.select v123 v124 v109
  let c8_i32_49 : BitVec 32 := 8#32
  let v126 : BitVec 32 := Scalar.muli v125 c8_i32_49
  let v127 : BitVec 32 := Scalar.subi v106 v126
  let v129 : BitVec 32 := Scalar.addi v127 v108
  let c8_i32_50 : BitVec 32 := 8#32
  let v130 : BitVec 32 := Scalar.addi v129 c8_i32_50
  let c1_i32_51 : BitVec 32 := 1#32
  let v131 : BitVec 32 := Scalar.subi v130 c1_i32_51
  let c0_i32_53 : BitVec 32 := 0#32
  let v133 : BitVec 1 := Scalar.cmpi .sgt v131 c0_i32_53
  let v134 : BitVec 32 := Scalar.extui v133
  let c0_i32_54 : BitVec 32 := 0#32
  let v135 : BitVec 1 := Scalar.cmpi .slt v131 c0_i32_54
  let v136 : BitVec 32 := Scalar.extui v135
  let v137 : BitVec 32 := Scalar.subi v134 v136
  let c8_i32_52 : BitVec 32 := 8#32
  let c0_i32_55 : BitVec 32 := 0#32
  let v138 : BitVec 1 := Scalar.cmpi .sgt c8_i32_52 c0_i32_55
  let v139 : BitVec 32 := Scalar.extui v138
  let c0_i32_56 : BitVec 32 := 0#32
  let v140 : BitVec 1 := Scalar.cmpi .slt c8_i32_52 c0_i32_56
  let v141 : BitVec 32 := Scalar.extui v140
  let v142 : BitVec 32 := Scalar.subi v139 v141
  let v143 : BitVec 1 := Scalar.cmpi .ne v137 v142
  let v144 : BitVec 32 := Scalar.remsi v131 c8_i32_52
  let c0_i32_57 : BitVec 32 := 0#32
  let v145 : BitVec 1 := Scalar.cmpi .ne v144 c0_i32_57
  let v146 : BitVec 1 := Scalar.andi v143 v145
  let v132 : BitVec 32 := Scalar.divsi v131 c8_i32_52
  let c1_i32_58 : BitVec 32 := 1#32
  let v147 : BitVec 32 := Scalar.subi v132 c1_i32_58
  let v148 : BitVec 32 := Scalar.select v146 v147 v132
  let c0_i32_59 : BitVec 32 := 0#32
  let v149 : BitVec 32 := Scalar.select v128 v148 c0_i32_59
  let c0_i32_198 : BitVec 32 := 0#32
  let v438 : BitVec 1 := Scalar.cmpi .sgt v149 c0_i32_198
  let v439 : BitVec 32 := Scalar.extui v438
  let c0_i32_199 : BitVec 32 := 0#32
  let v440 : BitVec 1 := Scalar.cmpi .ne v439 c0_i32_199
  v440

def k0_mult28 (v106 : BitVec 32) : BitVec 32 :=
  let c0_i32_43 : BitVec 32 := 0#32
  let v110 : BitVec 1 := Scalar.cmpi .sgt v106 c0_i32_43
  let v111 : BitVec 32 := Scalar.extui v110
  let c0_i32_44 : BitVec 32 := 0#32
  let v112 : BitVec 1 := Scalar.cmpi .slt v106 c0_i32_44
  let v113 : BitVec 32 := Scalar.extui v112
  let v114 : BitVec 32 := Scalar.subi v111 v113
  let c8_i32_42 : BitVec 32 := 8#32
  let c0_i32_45 : BitVec 32 := 0#32
  let v115 : BitVec 1 := Scalar.cmpi .sgt c8_i32_42 c0_i32_45
  let v116 : BitVec 32 := Scalar.extui v115
  let c0_i32_46 : BitVec 32 := 0#32
  let v117 : BitVec 1 := Scalar.cmpi .slt c8_i32_42 c0_i32_46
  let v118 : BitVec 32 := Scalar.extui v117
  let v119 : BitVec 32 := Scalar.subi v116 v118
  let v120 : BitVec 1 := Scalar.cmpi .ne v114 v119
  let v121 : BitVec 32 := Scalar.remsi v106 c8_i32_42
  let c0_i32_47 : BitVec 32 := 0#32
  let v122 : BitVec 1 := Scalar.cmpi .ne v121 c0_i32_47
  let v123 : BitVec 1 := Scalar.andi v120 v122
  let v109 : BitVec 32 := Scalar.divsi v106 c8_i32_42
  let c1_i32_48 : BitVec 32 := 1#32
  let v124 : BitVec 32 := Scalar.subi v109 c1_i32_48
  let v125 : BitVec 32 := Scalar.select v123 v124 v109
  let c8_i32_208 : BitVec 32 := 8#32
  let v453 : BitVec 32 := Scalar.muli v125 c8_i32_208
  v453
def k0_mult29 (i : grid0.Coords) : BitVec 32 :=
  let arg0 : BitVec 32 := BitVec.ofNat 32 (i 0).val
  let c512_i32 : BitVec 32 := 512#32
  let v455 : BitVec 32 := Scalar.muli arg0 c512_i32
  v455
def k0_mult30 (v1 : BitVec 32) (v2 : BitVec 32) (v4 : BitVec 32) (v6 : BitVec 32) (v52 : BitVec 32) (v53 : BitVec 32) (v55 : BitVec 32) (v57 : BitVec 32) : BitVec 32 :=
  let c0_i32_18 : BitVec 32 := 0#32
  let v26 : BitVec 1 := Scalar.cmpi .sgt v2 v1
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let v50 : BitVec 32 := Scalar.addi c0_i32_18 v47
  let v77 : BitVec 1 := Scalar.cmpi .sgt v53 v52
  let c0_i32_22 : BitVec 32 := 0#32
  let v59 : BitVec 1 := Scalar.cmpi .sgt v55 c0_i32_22
  let v60 : BitVec 32 := Scalar.extui v59
  let c0_i32_23 : BitVec 32 := 0#32
  let v61 : BitVec 1 := Scalar.cmpi .slt v55 c0_i32_23
  let v62 : BitVec 32 := Scalar.extui v61
  let v63 : BitVec 32 := Scalar.subi v60 v62
  let c8_i32_21 : BitVec 32 := 8#32
  let c0_i32_24 : BitVec 32 := 0#32
  let v64 : BitVec 1 := Scalar.cmpi .sgt c8_i32_21 c0_i32_24
  let v65 : BitVec 32 := Scalar.extui v64
  let c0_i32_25 : BitVec 32 := 0#32
  let v66 : BitVec 1 := Scalar.cmpi .slt c8_i32_21 c0_i32_25
  let v67 : BitVec 32 := Scalar.extui v66
  let v68 : BitVec 32 := Scalar.subi v65 v67
  let v69 : BitVec 1 := Scalar.cmpi .ne v63 v68
  let v70 : BitVec 32 := Scalar.remsi v55 c8_i32_21
  let c0_i32_26 : BitVec 32 := 0#32
  let v71 : BitVec 1 := Scalar.cmpi .ne v70 c0_i32_26
  let v72 : BitVec 1 := Scalar.andi v69 v71
  let v58 : BitVec 32 := Scalar.divsi v55 c8_i32_21
  let c1_i32_27 : BitVec 32 := 1#32
  let v73 : BitVec 32 := Scalar.subi v58 c1_i32_27
  let v74 : BitVec 32 := Scalar.select v72 v73 v58
  let c8_i32_28 : BitVec 32 := 8#32
  let v75 : BitVec 32 := Scalar.muli v74 c8_i32_28
  let v76 : BitVec 32 := Scalar.subi v55 v75
  let v78 : BitVec 32 := Scalar.addi v76 v57
  let c8_i32_29 : BitVec 32 := 8#32
  let v79 : BitVec 32 := Scalar.addi v78 c8_i32_29
  let c1_i32_30 : BitVec 32 := 1#32
  let v80 : BitVec 32 := Scalar.subi v79 c1_i32_30
  let c0_i32_32 : BitVec 32 := 0#32
  let v82 : BitVec 1 := Scalar.cmpi .sgt v80 c0_i32_32
  let v83 : BitVec 32 := Scalar.extui v82
  let c0_i32_33 : BitVec 32 := 0#32
  let v84 : BitVec 1 := Scalar.cmpi .slt v80 c0_i32_33
  let v85 : BitVec 32 := Scalar.extui v84
  let v86 : BitVec 32 := Scalar.subi v83 v85
  let c8_i32_31 : BitVec 32 := 8#32
  let c0_i32_34 : BitVec 32 := 0#32
  let v87 : BitVec 1 := Scalar.cmpi .sgt c8_i32_31 c0_i32_34
  let v88 : BitVec 32 := Scalar.extui v87
  let c0_i32_35 : BitVec 32 := 0#32
  let v89 : BitVec 1 := Scalar.cmpi .slt c8_i32_31 c0_i32_35
  let v90 : BitVec 32 := Scalar.extui v89
  let v91 : BitVec 32 := Scalar.subi v88 v90
  let v92 : BitVec 1 := Scalar.cmpi .ne v86 v91
  let v93 : BitVec 32 := Scalar.remsi v80 c8_i32_31
  let c0_i32_36 : BitVec 32 := 0#32
  let v94 : BitVec 1 := Scalar.cmpi .ne v93 c0_i32_36
  let v95 : BitVec 1 := Scalar.andi v92 v94
  let v81 : BitVec 32 := Scalar.divsi v80 c8_i32_31
  let c1_i32_37 : BitVec 32 := 1#32
  let v96 : BitVec 32 := Scalar.subi v81 c1_i32_37
  let v97 : BitVec 32 := Scalar.select v95 v96 v81
  let c0_i32_38 : BitVec 32 := 0#32
  let v98 : BitVec 32 := Scalar.select v77 v97 c0_i32_38
  let v101 : BitVec 32 := Scalar.addi v50 v98
  let c8_i32_209 : BitVec 32 := 8#32
  let v457 : BitVec 32 := Scalar.muli v101 c8_i32_209
  v457
def k0_off25 (i : grid0.Coords) : Fin 2 → Nat :=
  let arg0 : BitVec 32 := BitVec.ofNat 32 (i 0).val
  let c2_i32_206 : BitVec 32 := 2#32
  let v450 : BitVec 32 := Scalar.remsi arg0 c2_i32_206
  let c2_i32_210 : BitVec 32 := 2#32
  ![v450.toNat, 2]
def k0_off26 (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) : (Fin 3 → Nat) × (Fin 3 → Nat) :=
  let arg0 : BitVec 32 := BitVec.ofNat 32 (i 0).val
  let c2_i32_206 : BitVec 32 := 2#32
  let v450 : BitVec 32 := Scalar.remsi arg0 c2_i32_206
  let c0_i32_18 : BitVec 32 := 0#32
  let v26 : BitVec 1 := Scalar.cmpi .sgt v2 v1
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let v50 : BitVec 32 := Scalar.addi c0_i32_18 v47
  let v77 : BitVec 1 := Scalar.cmpi .sgt v53 v52
  let c0_i32_22 : BitVec 32 := 0#32
  let v59 : BitVec 1 := Scalar.cmpi .sgt v55 c0_i32_22
  let v60 : BitVec 32 := Scalar.extui v59
  let c0_i32_23 : BitVec 32 := 0#32
  let v61 : BitVec 1 := Scalar.cmpi .slt v55 c0_i32_23
  let v62 : BitVec 32 := Scalar.extui v61
  let v63 : BitVec 32 := Scalar.subi v60 v62
  let c8_i32_21 : BitVec 32 := 8#32
  let c0_i32_24 : BitVec 32 := 0#32
  let v64 : BitVec 1 := Scalar.cmpi .sgt c8_i32_21 c0_i32_24
  let v65 : BitVec 32 := Scalar.extui v64
  let c0_i32_25 : BitVec 32 := 0#32
  let v66 : BitVec 1 := Scalar.cmpi .slt c8_i32_21 c0_i32_25
  let v67 : BitVec 32 := Scalar.extui v66
  let v68 : BitVec 32 := Scalar.subi v65 v67
  let v69 : BitVec 1 := Scalar.cmpi .ne v63 v68
  let v70 : BitVec 32 := Scalar.remsi v55 c8_i32_21
  let c0_i32_26 : BitVec 32 := 0#32
  let v71 : BitVec 1 := Scalar.cmpi .ne v70 c0_i32_26
  let v72 : BitVec 1 := Scalar.andi v69 v71
  let v58 : BitVec 32 := Scalar.divsi v55 c8_i32_21
  let c1_i32_27 : BitVec 32 := 1#32
  let v73 : BitVec 32 := Scalar.subi v58 c1_i32_27
  let v74 : BitVec 32 := Scalar.select v72 v73 v58
  let c8_i32_28 : BitVec 32 := 8#32
  let v75 : BitVec 32 := Scalar.muli v74 c8_i32_28
  let v76 : BitVec 32 := Scalar.subi v55 v75
  let v78 : BitVec 32 := Scalar.addi v76 v57
  let c8_i32_29 : BitVec 32 := 8#32
  let v79 : BitVec 32 := Scalar.addi v78 c8_i32_29
  let c1_i32_30 : BitVec 32 := 1#32
  let v80 : BitVec 32 := Scalar.subi v79 c1_i32_30
  let c0_i32_32 : BitVec 32 := 0#32
  let v82 : BitVec 1 := Scalar.cmpi .sgt v80 c0_i32_32
  let v83 : BitVec 32 := Scalar.extui v82
  let c0_i32_33 : BitVec 32 := 0#32
  let v84 : BitVec 1 := Scalar.cmpi .slt v80 c0_i32_33
  let v85 : BitVec 32 := Scalar.extui v84
  let v86 : BitVec 32 := Scalar.subi v83 v85
  let c8_i32_31 : BitVec 32 := 8#32
  let c0_i32_34 : BitVec 32 := 0#32
  let v87 : BitVec 1 := Scalar.cmpi .sgt c8_i32_31 c0_i32_34
  let v88 : BitVec 32 := Scalar.extui v87
  let c0_i32_35 : BitVec 32 := 0#32
  let v89 : BitVec 1 := Scalar.cmpi .slt c8_i32_31 c0_i32_35
  let v90 : BitVec 32 := Scalar.extui v89
  let v91 : BitVec 32 := Scalar.subi v88 v90
  let v92 : BitVec 1 := Scalar.cmpi .ne v86 v91
  let v93 : BitVec 32 := Scalar.remsi v80 c8_i32_31
  let c0_i32_36 : BitVec 32 := 0#32
  let v94 : BitVec 1 := Scalar.cmpi .ne v93 c0_i32_36
  let v95 : BitVec 1 := Scalar.andi v92 v94
  let v81 : BitVec 32 := Scalar.divsi v80 c8_i32_31
  let c1_i32_37 : BitVec 32 := 1#32
  let v96 : BitVec 32 := Scalar.subi v81 c1_i32_37
  let v97 : BitVec 32 := Scalar.select v95 v96 v81
  let c0_i32_38 : BitVec 32 := 0#32
  let v98 : BitVec 32 := Scalar.select v77 v97 c0_i32_38
  let v101 : BitVec 32 := Scalar.addi v50 v98
  let c8_i32_209 : BitVec 32 := 8#32
  let v457 : BitVec 32 := Scalar.muli v101 c8_i32_209
  let v458 : BitVec 32 := v457
  let c0_i32_211 : BitVec 32 := 0#32
  let v128 : BitVec 1 := Scalar.cmpi .sgt v104 v103
  let c0_i32_43 : BitVec 32 := 0#32
  let v110 : BitVec 1 := Scalar.cmpi .sgt v106 c0_i32_43
  let v111 : BitVec 32 := Scalar.extui v110
  let c0_i32_44 : BitVec 32 := 0#32
  let v112 : BitVec 1 := Scalar.cmpi .slt v106 c0_i32_44
  let v113 : BitVec 32 := Scalar.extui v112
  let v114 : BitVec 32 := Scalar.subi v111 v113
  let c8_i32_42 : BitVec 32 := 8#32
  let c0_i32_45 : BitVec 32 := 0#32
  let v115 : BitVec 1 := Scalar.cmpi .sgt c8_i32_42 c0_i32_45
  let v116 : BitVec 32 := Scalar.extui v115
  let c0_i32_46 : BitVec 32 := 0#32
  let v117 : BitVec 1 := Scalar.cmpi .slt c8_i32_42 c0_i32_46
  let v118 : BitVec 32 := Scalar.extui v117
  let v119 : BitVec 32 := Scalar.subi v116 v118
  let v120 : BitVec 1 := Scalar.cmpi .ne v114 v119
  let v121 : BitVec 32 := Scalar.remsi v106 c8_i32_42
  let c0_i32_47 : BitVec 32 := 0#32
  let v122 : BitVec 1 := Scalar.cmpi .ne v121 c0_i32_47
  let v123 : BitVec 1 := Scalar.andi v120 v122
  let v109 : BitVec 32 := Scalar.divsi v106 c8_i32_42
  let c1_i32_48 : BitVec 32 := 1#32
  let v124 : BitVec 32 := Scalar.subi v109 c1_i32_48
  let v125 : BitVec 32 := Scalar.select v123 v124 v109
  let c8_i32_49 : BitVec 32 := 8#32
  let v126 : BitVec 32 := Scalar.muli v125 c8_i32_49
  let v127 : BitVec 32 := Scalar.subi v106 v126
  let v129 : BitVec 32 := Scalar.addi v127 v108
  let c8_i32_50 : BitVec 32 := 8#32
  let v130 : BitVec 32 := Scalar.addi v129 c8_i32_50
  let c1_i32_51 : BitVec 32 := 1#32
  let v131 : BitVec 32 := Scalar.subi v130 c1_i32_51
  let c0_i32_53 : BitVec 32 := 0#32
  let v133 : BitVec 1 := Scalar.cmpi .sgt v131 c0_i32_53
  let v134 : BitVec 32 := Scalar.extui v133
  let c0_i32_54 : BitVec 32 := 0#32
  let v135 : BitVec 1 := Scalar.cmpi .slt v131 c0_i32_54
  let v136 : BitVec 32 := Scalar.extui v135
  let v137 : BitVec 32 := Scalar.subi v134 v136
  let c8_i32_52 : BitVec 32 := 8#32
  let c0_i32_55 : BitVec 32 := 0#32
  let v138 : BitVec 1 := Scalar.cmpi .sgt c8_i32_52 c0_i32_55
  let v139 : BitVec 32 := Scalar.extui v138
  let c0_i32_56 : BitVec 32 := 0#32
  let v140 : BitVec 1 := Scalar.cmpi .slt c8_i32_52 c0_i32_56
  let v141 : BitVec 32 := Scalar.extui v140
  let v142 : BitVec 32 := Scalar.subi v139 v141
  let v143 : BitVec 1 := Scalar.cmpi .ne v137 v142
  let v144 : BitVec 32 := Scalar.remsi v131 c8_i32_52
  let c0_i32_57 : BitVec 32 := 0#32
  let v145 : BitVec 1 := Scalar.cmpi .ne v144 c0_i32_57
  let v146 : BitVec 1 := Scalar.andi v143 v145
  let v132 : BitVec 32 := Scalar.divsi v131 c8_i32_52
  let c1_i32_58 : BitVec 32 := 1#32
  let v147 : BitVec 32 := Scalar.subi v132 c1_i32_58
  let v148 : BitVec 32 := Scalar.select v146 v147 v132
  let c0_i32_59 : BitVec 32 := 0#32
  let v149 : BitVec 32 := Scalar.select v128 v148 c0_i32_59
  let c8_i32_207 : BitVec 32 := 8#32
  let v451 : BitVec 32 := Scalar.muli v149 c8_i32_207
  let v452 : BitVec 32 := v451
  ⟨![v450.toNat, v458.toNat, 0], ![1, v452.toNat, 512]⟩
def k0_sz3 (v103 : BitVec 32) (v104 : BitVec 32) (v106 : BitVec 32) (v108 : BitVec 32) : Fin 2 → Nat :=
  let v128 : BitVec 1 := Scalar.cmpi .sgt v104 v103
  let c0_i32_43 : BitVec 32 := 0#32
  let v110 : BitVec 1 := Scalar.cmpi .sgt v106 c0_i32_43
  let v111 : BitVec 32 := Scalar.extui v110
  let c0_i32_44 : BitVec 32 := 0#32
  let v112 : BitVec 1 := Scalar.cmpi .slt v106 c0_i32_44
  let v113 : BitVec 32 := Scalar.extui v112
  let v114 : BitVec 32 := Scalar.subi v111 v113
  let c8_i32_42 : BitVec 32 := 8#32
  let c0_i32_45 : BitVec 32 := 0#32
  let v115 : BitVec 1 := Scalar.cmpi .sgt c8_i32_42 c0_i32_45
  let v116 : BitVec 32 := Scalar.extui v115
  let c0_i32_46 : BitVec 32 := 0#32
  let v117 : BitVec 1 := Scalar.cmpi .slt c8_i32_42 c0_i32_46
  let v118 : BitVec 32 := Scalar.extui v117
  let v119 : BitVec 32 := Scalar.subi v116 v118
  let v120 : BitVec 1 := Scalar.cmpi .ne v114 v119
  let v121 : BitVec 32 := Scalar.remsi v106 c8_i32_42
  let c0_i32_47 : BitVec 32 := 0#32
  let v122 : BitVec 1 := Scalar.cmpi .ne v121 c0_i32_47
  let v123 : BitVec 1 := Scalar.andi v120 v122
  let v109 : BitVec 32 := Scalar.divsi v106 c8_i32_42
  let c1_i32_48 : BitVec 32 := 1#32
  let v124 : BitVec 32 := Scalar.subi v109 c1_i32_48
  let v125 : BitVec 32 := Scalar.select v123 v124 v109
  let c8_i32_49 : BitVec 32 := 8#32
  let v126 : BitVec 32 := Scalar.muli v125 c8_i32_49
  let v127 : BitVec 32 := Scalar.subi v106 v126
  let v129 : BitVec 32 := Scalar.addi v127 v108
  let c8_i32_50 : BitVec 32 := 8#32
  let v130 : BitVec 32 := Scalar.addi v129 c8_i32_50
  let c1_i32_51 : BitVec 32 := 1#32
  let v131 : BitVec 32 := Scalar.subi v130 c1_i32_51
  let c0_i32_53 : BitVec 32 := 0#32
  let v133 : BitVec 1 := Scalar.cmpi .sgt v131 c0_i32_53
  let v134 : BitVec 32 := Scalar.extui v133
  let c0_i32_54 : BitVec 32 := 0#32
  let v135 : BitVec 1 := Scalar.cmpi .slt v131 c0_i32_54
  let v136 : BitVec 32 := Scalar.extui v135
  let v137 : BitVec 32 := Scalar.subi v134 v136
  let c8_i32_52 : BitVec 32 := 8#32
  let c0_i32_55 : BitVec 32 := 0#32
  let v138 : BitVec 1 := Scalar.cmpi .sgt c8_i32_52 c0_i32_55
  let v139 : BitVec 32 := Scalar.extui v138
  let c0_i32_56 : BitVec 32 := 0#32
  let v140 : BitVec 1 := Scalar.cmpi .slt c8_i32_52 c0_i32_56
  let v141 : BitVec 32 := Scalar.extui v140
  let v142 : BitVec 32 := Scalar.subi v139 v141
  let v143 : BitVec 1 := Scalar.cmpi .ne v137 v142
  let v144 : BitVec 32 := Scalar.remsi v131 c8_i32_52
  let c0_i32_57 : BitVec 32 := 0#32
  let v145 : BitVec 1 := Scalar.cmpi .ne v144 c0_i32_57
  let v146 : BitVec 1 := Scalar.andi v143 v145
  let v132 : BitVec 32 := Scalar.divsi v131 c8_i32_52
  let c1_i32_58 : BitVec 32 := 1#32
  let v147 : BitVec 32 := Scalar.subi v132 c1_i32_58
  let v148 : BitVec 32 := Scalar.select v146 v147 v132
  let c0_i32_59 : BitVec 32 := 0#32
  let v149 : BitVec 32 := Scalar.select v128 v148 c0_i32_59
  let c8_i32_207 : BitVec 32 := 8#32
  let v451 : BitVec 32 := Scalar.muli v149 c8_i32_207
  let v452 : BitVec 32 := v451
  ![v452.toNat, 512]
def k0_off27 (i : grid0.Coords) (v103 : BitVec 32) (v104 : BitVec 32) (v106 : BitVec 32) (v108 : BitVec 32) : (Fin 2 → Nat) × (Fin 2 → Nat) :=
  let c0_i32_43 : BitVec 32 := 0#32
  let v110 : BitVec 1 := Scalar.cmpi .sgt v106 c0_i32_43
  let v111 : BitVec 32 := Scalar.extui v110
  let c0_i32_44 : BitVec 32 := 0#32
  let v112 : BitVec 1 := Scalar.cmpi .slt v106 c0_i32_44
  let v113 : BitVec 32 := Scalar.extui v112
  let v114 : BitVec 32 := Scalar.subi v111 v113
  let c8_i32_42 : BitVec 32 := 8#32
  let c0_i32_45 : BitVec 32 := 0#32
  let v115 : BitVec 1 := Scalar.cmpi .sgt c8_i32_42 c0_i32_45
  let v116 : BitVec 32 := Scalar.extui v115
  let c0_i32_46 : BitVec 32 := 0#32
  let v117 : BitVec 1 := Scalar.cmpi .slt c8_i32_42 c0_i32_46
  let v118 : BitVec 32 := Scalar.extui v117
  let v119 : BitVec 32 := Scalar.subi v116 v118
  let v120 : BitVec 1 := Scalar.cmpi .ne v114 v119
  let v121 : BitVec 32 := Scalar.remsi v106 c8_i32_42
  let c0_i32_47 : BitVec 32 := 0#32
  let v122 : BitVec 1 := Scalar.cmpi .ne v121 c0_i32_47
  let v123 : BitVec 1 := Scalar.andi v120 v122
  let v109 : BitVec 32 := Scalar.divsi v106 c8_i32_42
  let c1_i32_48 : BitVec 32 := 1#32
  let v124 : BitVec 32 := Scalar.subi v109 c1_i32_48
  let v125 : BitVec 32 := Scalar.select v123 v124 v109
  let c8_i32_208 : BitVec 32 := 8#32
  let v453 : BitVec 32 := Scalar.muli v125 c8_i32_208
  let v454 : BitVec 32 := v453
  let arg0 : BitVec 32 := BitVec.ofNat 32 (i 0).val
  let c512_i32 : BitVec 32 := 512#32
  let v455 : BitVec 32 := Scalar.muli arg0 c512_i32
  let v456 : BitVec 32 := v455
  let v128 : BitVec 1 := Scalar.cmpi .sgt v104 v103
  let c8_i32_49 : BitVec 32 := 8#32
  let v126 : BitVec 32 := Scalar.muli v125 c8_i32_49
  let v127 : BitVec 32 := Scalar.subi v106 v126
  let v129 : BitVec 32 := Scalar.addi v127 v108
  let c8_i32_50 : BitVec 32 := 8#32
  let v130 : BitVec 32 := Scalar.addi v129 c8_i32_50
  let c1_i32_51 : BitVec 32 := 1#32
  let v131 : BitVec 32 := Scalar.subi v130 c1_i32_51
  let c0_i32_53 : BitVec 32 := 0#32
  let v133 : BitVec 1 := Scalar.cmpi .sgt v131 c0_i32_53
  let v134 : BitVec 32 := Scalar.extui v133
  let c0_i32_54 : BitVec 32 := 0#32
  let v135 : BitVec 1 := Scalar.cmpi .slt v131 c0_i32_54
  let v136 : BitVec 32 := Scalar.extui v135
  let v137 : BitVec 32 := Scalar.subi v134 v136
  let c8_i32_52 : BitVec 32 := 8#32
  let c0_i32_55 : BitVec 32 := 0#32
  let v138 : BitVec 1 := Scalar.cmpi .sgt c8_i32_52 c0_i32_55
  let v139 : BitVec 32 := Scalar.extui v138
  let c0_i32_56 : BitVec 32 := 0#32
  let v140 : BitVec 1 := Scalar.cmpi .slt c8_i32_52 c0_i32_56
  let v141 : BitVec 32 := Scalar.extui v140
  let v142 : BitVec 32 := Scalar.subi v139 v141
  let v143 : BitVec 1 := Scalar.cmpi .ne v137 v142
  let v144 : BitVec 32 := Scalar.remsi v131 c8_i32_52
  let c0_i32_57 : BitVec 32 := 0#32
  let v145 : BitVec 1 := Scalar.cmpi .ne v144 c0_i32_57
  let v146 : BitVec 1 := Scalar.andi v143 v145
  let v132 : BitVec 32 := Scalar.divsi v131 c8_i32_52
  let c1_i32_58 : BitVec 32 := 1#32
  let v147 : BitVec 32 := Scalar.subi v132 c1_i32_58
  let v148 : BitVec 32 := Scalar.select v146 v147 v132
  let c0_i32_59 : BitVec 32 := 0#32
  let v149 : BitVec 32 := Scalar.select v128 v148 c0_i32_59
  let c8_i32_207 : BitVec 32 := 8#32
  let v451 : BitVec 32 := Scalar.muli v149 c8_i32_207
  let v452 : BitVec 32 := v451
  ⟨![v454.toNat, v456.toNat], ![v452.toNat, 512]⟩
def k0_mult31 (v154 : BitVec 32) (v155 : BitVec 32) (v157 : BitVec 32) (v159 : BitVec 32) : BitVec 32 :=
  let v179 : BitVec 1 := Scalar.cmpi .sgt v155 v154
  let c0_i32_64 : BitVec 32 := 0#32
  let v161 : BitVec 1 := Scalar.cmpi .sgt v157 c0_i32_64
  let v162 : BitVec 32 := Scalar.extui v161
  let c0_i32_65 : BitVec 32 := 0#32
  let v163 : BitVec 1 := Scalar.cmpi .slt v157 c0_i32_65
  let v164 : BitVec 32 := Scalar.extui v163
  let v165 : BitVec 32 := Scalar.subi v162 v164
  let c8_i32_63 : BitVec 32 := 8#32
  let c0_i32_66 : BitVec 32 := 0#32
  let v166 : BitVec 1 := Scalar.cmpi .sgt c8_i32_63 c0_i32_66
  let v167 : BitVec 32 := Scalar.extui v166
  let c0_i32_67 : BitVec 32 := 0#32
  let v168 : BitVec 1 := Scalar.cmpi .slt c8_i32_63 c0_i32_67
  let v169 : BitVec 32 := Scalar.extui v168
  let v170 : BitVec 32 := Scalar.subi v167 v169
  let v171 : BitVec 1 := Scalar.cmpi .ne v165 v170
  let v172 : BitVec 32 := Scalar.remsi v157 c8_i32_63
  let c0_i32_68 : BitVec 32 := 0#32
  let v173 : BitVec 1 := Scalar.cmpi .ne v172 c0_i32_68
  let v174 : BitVec 1 := Scalar.andi v171 v173
  let v160 : BitVec 32 := Scalar.divsi v157 c8_i32_63
  let c1_i32_69 : BitVec 32 := 1#32
  let v175 : BitVec 32 := Scalar.subi v160 c1_i32_69
  let v176 : BitVec 32 := Scalar.select v174 v175 v160
  let c8_i32_70 : BitVec 32 := 8#32
  let v177 : BitVec 32 := Scalar.muli v176 c8_i32_70
  let v178 : BitVec 32 := Scalar.subi v157 v177
  let v180 : BitVec 32 := Scalar.addi v178 v159
  let c8_i32_71 : BitVec 32 := 8#32
  let v181 : BitVec 32 := Scalar.addi v180 c8_i32_71
  let c1_i32_72 : BitVec 32 := 1#32
  let v182 : BitVec 32 := Scalar.subi v181 c1_i32_72
  let c0_i32_74 : BitVec 32 := 0#32
  let v184 : BitVec 1 := Scalar.cmpi .sgt v182 c0_i32_74
  let v185 : BitVec 32 := Scalar.extui v184
  let c0_i32_75 : BitVec 32 := 0#32
  let v186 : BitVec 1 := Scalar.cmpi .slt v182 c0_i32_75
  let v187 : BitVec 32 := Scalar.extui v186
  let v188 : BitVec 32 := Scalar.subi v185 v187
  let c8_i32_73 : BitVec 32 := 8#32
  let c0_i32_76 : BitVec 32 := 0#32
  let v189 : BitVec 1 := Scalar.cmpi .sgt c8_i32_73 c0_i32_76
  let v190 : BitVec 32 := Scalar.extui v189
  let c0_i32_77 : BitVec 32 := 0#32
  let v191 : BitVec 1 := Scalar.cmpi .slt c8_i32_73 c0_i32_77
  let v192 : BitVec 32 := Scalar.extui v191
  let v193 : BitVec 32 := Scalar.subi v190 v192
  let v194 : BitVec 1 := Scalar.cmpi .ne v188 v193
  let v195 : BitVec 32 := Scalar.remsi v182 c8_i32_73
  let c0_i32_78 : BitVec 32 := 0#32
  let v196 : BitVec 1 := Scalar.cmpi .ne v195 c0_i32_78
  let v197 : BitVec 1 := Scalar.andi v194 v196
  let v183 : BitVec 32 := Scalar.divsi v182 c8_i32_73
  let c1_i32_79 : BitVec 32 := 1#32
  let v198 : BitVec 32 := Scalar.subi v183 c1_i32_79
  let v199 : BitVec 32 := Scalar.select v197 v198 v183
  let c0_i32_80 : BitVec 32 := 0#32
  let v200 : BitVec 32 := Scalar.select v179 v199 c0_i32_80
  let c8_i32_207 : BitVec 32 := 8#32
  let v451 : BitVec 32 := Scalar.muli v200 c8_i32_207
  v451
def k0_cond11 (v154 : BitVec 32) (v155 : BitVec 32) (v157 : BitVec 32) (v159 : BitVec 32) : BitVec 1 :=
  let v179 : BitVec 1 := Scalar.cmpi .sgt v155 v154
  let c0_i32_64 : BitVec 32 := 0#32
  let v161 : BitVec 1 := Scalar.cmpi .sgt v157 c0_i32_64
  let v162 : BitVec 32 := Scalar.extui v161
  let c0_i32_65 : BitVec 32 := 0#32
  let v163 : BitVec 1 := Scalar.cmpi .slt v157 c0_i32_65
  let v164 : BitVec 32 := Scalar.extui v163
  let v165 : BitVec 32 := Scalar.subi v162 v164
  let c8_i32_63 : BitVec 32 := 8#32
  let c0_i32_66 : BitVec 32 := 0#32
  let v166 : BitVec 1 := Scalar.cmpi .sgt c8_i32_63 c0_i32_66
  let v167 : BitVec 32 := Scalar.extui v166
  let c0_i32_67 : BitVec 32 := 0#32
  let v168 : BitVec 1 := Scalar.cmpi .slt c8_i32_63 c0_i32_67
  let v169 : BitVec 32 := Scalar.extui v168
  let v170 : BitVec 32 := Scalar.subi v167 v169
  let v171 : BitVec 1 := Scalar.cmpi .ne v165 v170
  let v172 : BitVec 32 := Scalar.remsi v157 c8_i32_63
  let c0_i32_68 : BitVec 32 := 0#32
  let v173 : BitVec 1 := Scalar.cmpi .ne v172 c0_i32_68
  let v174 : BitVec 1 := Scalar.andi v171 v173
  let v160 : BitVec 32 := Scalar.divsi v157 c8_i32_63
  let c1_i32_69 : BitVec 32 := 1#32
  let v175 : BitVec 32 := Scalar.subi v160 c1_i32_69
  let v176 : BitVec 32 := Scalar.select v174 v175 v160
  let c8_i32_70 : BitVec 32 := 8#32
  let v177 : BitVec 32 := Scalar.muli v176 c8_i32_70
  let v178 : BitVec 32 := Scalar.subi v157 v177
  let v180 : BitVec 32 := Scalar.addi v178 v159
  let c8_i32_71 : BitVec 32 := 8#32
  let v181 : BitVec 32 := Scalar.addi v180 c8_i32_71
  let c1_i32_72 : BitVec 32 := 1#32
  let v182 : BitVec 32 := Scalar.subi v181 c1_i32_72
  let c0_i32_74 : BitVec 32 := 0#32
  let v184 : BitVec 1 := Scalar.cmpi .sgt v182 c0_i32_74
  let v185 : BitVec 32 := Scalar.extui v184
  let c0_i32_75 : BitVec 32 := 0#32
  let v186 : BitVec 1 := Scalar.cmpi .slt v182 c0_i32_75
  let v187 : BitVec 32 := Scalar.extui v186
  let v188 : BitVec 32 := Scalar.subi v185 v187
  let c8_i32_73 : BitVec 32 := 8#32
  let c0_i32_76 : BitVec 32 := 0#32
  let v189 : BitVec 1 := Scalar.cmpi .sgt c8_i32_73 c0_i32_76
  let v190 : BitVec 32 := Scalar.extui v189
  let c0_i32_77 : BitVec 32 := 0#32
  let v191 : BitVec 1 := Scalar.cmpi .slt c8_i32_73 c0_i32_77
  let v192 : BitVec 32 := Scalar.extui v191
  let v193 : BitVec 32 := Scalar.subi v190 v192
  let v194 : BitVec 1 := Scalar.cmpi .ne v188 v193
  let v195 : BitVec 32 := Scalar.remsi v182 c8_i32_73
  let c0_i32_78 : BitVec 32 := 0#32
  let v196 : BitVec 1 := Scalar.cmpi .ne v195 c0_i32_78
  let v197 : BitVec 1 := Scalar.andi v194 v196
  let v183 : BitVec 32 := Scalar.divsi v182 c8_i32_73
  let c1_i32_79 : BitVec 32 := 1#32
  let v198 : BitVec 32 := Scalar.subi v183 c1_i32_79
  let v199 : BitVec 32 := Scalar.select v197 v198 v183
  let c0_i32_80 : BitVec 32 := 0#32
  let v200 : BitVec 32 := Scalar.select v179 v199 c0_i32_80
  let c0_i32_200 : BitVec 32 := 0#32
  let v441 : BitVec 1 := Scalar.cmpi .sgt v200 c0_i32_200
  let v442 : BitVec 32 := Scalar.extui v441
  let c0_i32_201 : BitVec 32 := 0#32
  let v443 : BitVec 1 := Scalar.cmpi .ne v442 c0_i32_201
  v443

def k0_mult32 (v157 : BitVec 32) : BitVec 32 :=
  let c0_i32_64 : BitVec 32 := 0#32
  let v161 : BitVec 1 := Scalar.cmpi .sgt v157 c0_i32_64
  let v162 : BitVec 32 := Scalar.extui v161
  let c0_i32_65 : BitVec 32 := 0#32
  let v163 : BitVec 1 := Scalar.cmpi .slt v157 c0_i32_65
  let v164 : BitVec 32 := Scalar.extui v163
  let v165 : BitVec 32 := Scalar.subi v162 v164
  let c8_i32_63 : BitVec 32 := 8#32
  let c0_i32_66 : BitVec 32 := 0#32
  let v166 : BitVec 1 := Scalar.cmpi .sgt c8_i32_63 c0_i32_66
  let v167 : BitVec 32 := Scalar.extui v166
  let c0_i32_67 : BitVec 32 := 0#32
  let v168 : BitVec 1 := Scalar.cmpi .slt c8_i32_63 c0_i32_67
  let v169 : BitVec 32 := Scalar.extui v168
  let v170 : BitVec 32 := Scalar.subi v167 v169
  let v171 : BitVec 1 := Scalar.cmpi .ne v165 v170
  let v172 : BitVec 32 := Scalar.remsi v157 c8_i32_63
  let c0_i32_68 : BitVec 32 := 0#32
  let v173 : BitVec 1 := Scalar.cmpi .ne v172 c0_i32_68
  let v174 : BitVec 1 := Scalar.andi v171 v173
  let v160 : BitVec 32 := Scalar.divsi v157 c8_i32_63
  let c1_i32_69 : BitVec 32 := 1#32
  let v175 : BitVec 32 := Scalar.subi v160 c1_i32_69
  let v176 : BitVec 32 := Scalar.select v174 v175 v160
  let c8_i32_208 : BitVec 32 := 8#32
  let v453 : BitVec 32 := Scalar.muli v176 c8_i32_208
  v453
def k0_mult33 (i : grid0.Coords) : BitVec 32 :=
  let arg0 : BitVec 32 := BitVec.ofNat 32 (i 0).val
  let c512_i32 : BitVec 32 := 512#32
  let v455 : BitVec 32 := Scalar.muli arg0 c512_i32
  v455
def k0_mult34 (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) : BitVec 32 :=
  let c0_i32_18 : BitVec 32 := 0#32
  let v26 : BitVec 1 := Scalar.cmpi .sgt v2 v1
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let v50 : BitVec 32 := Scalar.addi c0_i32_18 v47
  let v77 : BitVec 1 := Scalar.cmpi .sgt v53 v52
  let c0_i32_22 : BitVec 32 := 0#32
  let v59 : BitVec 1 := Scalar.cmpi .sgt v55 c0_i32_22
  let v60 : BitVec 32 := Scalar.extui v59
  let c0_i32_23 : BitVec 32 := 0#32
  let v61 : BitVec 1 := Scalar.cmpi .slt v55 c0_i32_23
  let v62 : BitVec 32 := Scalar.extui v61
  let v63 : BitVec 32 := Scalar.subi v60 v62
  let c8_i32_21 : BitVec 32 := 8#32
  let c0_i32_24 : BitVec 32 := 0#32
  let v64 : BitVec 1 := Scalar.cmpi .sgt c8_i32_21 c0_i32_24
  let v65 : BitVec 32 := Scalar.extui v64
  let c0_i32_25 : BitVec 32 := 0#32
  let v66 : BitVec 1 := Scalar.cmpi .slt c8_i32_21 c0_i32_25
  let v67 : BitVec 32 := Scalar.extui v66
  let v68 : BitVec 32 := Scalar.subi v65 v67
  let v69 : BitVec 1 := Scalar.cmpi .ne v63 v68
  let v70 : BitVec 32 := Scalar.remsi v55 c8_i32_21
  let c0_i32_26 : BitVec 32 := 0#32
  let v71 : BitVec 1 := Scalar.cmpi .ne v70 c0_i32_26
  let v72 : BitVec 1 := Scalar.andi v69 v71
  let v58 : BitVec 32 := Scalar.divsi v55 c8_i32_21
  let c1_i32_27 : BitVec 32 := 1#32
  let v73 : BitVec 32 := Scalar.subi v58 c1_i32_27
  let v74 : BitVec 32 := Scalar.select v72 v73 v58
  let c8_i32_28 : BitVec 32 := 8#32
  let v75 : BitVec 32 := Scalar.muli v74 c8_i32_28
  let v76 : BitVec 32 := Scalar.subi v55 v75
  let v78 : BitVec 32 := Scalar.addi v76 v57
  let c8_i32_29 : BitVec 32 := 8#32
  let v79 : BitVec 32 := Scalar.addi v78 c8_i32_29
  let c1_i32_30 : BitVec 32 := 1#32
  let v80 : BitVec 32 := Scalar.subi v79 c1_i32_30
  let c0_i32_32 : BitVec 32 := 0#32
  let v82 : BitVec 1 := Scalar.cmpi .sgt v80 c0_i32_32
  let v83 : BitVec 32 := Scalar.extui v82
  let c0_i32_33 : BitVec 32 := 0#32
  let v84 : BitVec 1 := Scalar.cmpi .slt v80 c0_i32_33
  let v85 : BitVec 32 := Scalar.extui v84
  let v86 : BitVec 32 := Scalar.subi v83 v85
  let c8_i32_31 : BitVec 32 := 8#32
  let c0_i32_34 : BitVec 32 := 0#32
  let v87 : BitVec 1 := Scalar.cmpi .sgt c8_i32_31 c0_i32_34
  let v88 : BitVec 32 := Scalar.extui v87
  let c0_i32_35 : BitVec 32 := 0#32
  let v89 : BitVec 1 := Scalar.cmpi .slt c8_i32_31 c0_i32_35
  let v90 : BitVec 32 := Scalar.extui v89
  let v91 : BitVec 32 := Scalar.subi v88 v90
  let v92 : BitVec 1 := Scalar.cmpi .ne v86 v91
  let v93 : BitVec 32 := Scalar.remsi v80 c8_i32_31
  let c0_i32_36 : BitVec 32 := 0#32
  let v94 : BitVec 1 := Scalar.cmpi .ne v93 c0_i32_36
  let v95 : BitVec 1 := Scalar.andi v92 v94
  let v81 : BitVec 32 := Scalar.divsi v80 c8_i32_31
  let c1_i32_37 : BitVec 32 := 1#32
  let v96 : BitVec 32 := Scalar.subi v81 c1_i32_37
  let v97 : BitVec 32 := Scalar.select v95 v96 v81
  let c0_i32_38 : BitVec 32 := 0#32
  let v98 : BitVec 32 := Scalar.select v77 v97 c0_i32_38
  let v101 : BitVec 32 := Scalar.addi v50 v98
  let v128 : BitVec 1 := Scalar.cmpi .sgt v104 v103
  let c0_i32_43 : BitVec 32 := 0#32
  let v110 : BitVec 1 := Scalar.cmpi .sgt v106 c0_i32_43
  let v111 : BitVec 32 := Scalar.extui v110
  let c0_i32_44 : BitVec 32 := 0#32
  let v112 : BitVec 1 := Scalar.cmpi .slt v106 c0_i32_44
  let v113 : BitVec 32 := Scalar.extui v112
  let v114 : BitVec 32 := Scalar.subi v111 v113
  let c8_i32_42 : BitVec 32 := 8#32
  let c0_i32_45 : BitVec 32 := 0#32
  let v115 : BitVec 1 := Scalar.cmpi .sgt c8_i32_42 c0_i32_45
  let v116 : BitVec 32 := Scalar.extui v115
  let c0_i32_46 : BitVec 32 := 0#32
  let v117 : BitVec 1 := Scalar.cmpi .slt c8_i32_42 c0_i32_46
  let v118 : BitVec 32 := Scalar.extui v117
  let v119 : BitVec 32 := Scalar.subi v116 v118
  let v120 : BitVec 1 := Scalar.cmpi .ne v114 v119
  let v121 : BitVec 32 := Scalar.remsi v106 c8_i32_42
  let c0_i32_47 : BitVec 32 := 0#32
  let v122 : BitVec 1 := Scalar.cmpi .ne v121 c0_i32_47
  let v123 : BitVec 1 := Scalar.andi v120 v122
  let v109 : BitVec 32 := Scalar.divsi v106 c8_i32_42
  let c1_i32_48 : BitVec 32 := 1#32
  let v124 : BitVec 32 := Scalar.subi v109 c1_i32_48
  let v125 : BitVec 32 := Scalar.select v123 v124 v109
  let c8_i32_49 : BitVec 32 := 8#32
  let v126 : BitVec 32 := Scalar.muli v125 c8_i32_49
  let v127 : BitVec 32 := Scalar.subi v106 v126
  let v129 : BitVec 32 := Scalar.addi v127 v108
  let c8_i32_50 : BitVec 32 := 8#32
  let v130 : BitVec 32 := Scalar.addi v129 c8_i32_50
  let c1_i32_51 : BitVec 32 := 1#32
  let v131 : BitVec 32 := Scalar.subi v130 c1_i32_51
  let c0_i32_53 : BitVec 32 := 0#32
  let v133 : BitVec 1 := Scalar.cmpi .sgt v131 c0_i32_53
  let v134 : BitVec 32 := Scalar.extui v133
  let c0_i32_54 : BitVec 32 := 0#32
  let v135 : BitVec 1 := Scalar.cmpi .slt v131 c0_i32_54
  let v136 : BitVec 32 := Scalar.extui v135
  let v137 : BitVec 32 := Scalar.subi v134 v136
  let c8_i32_52 : BitVec 32 := 8#32
  let c0_i32_55 : BitVec 32 := 0#32
  let v138 : BitVec 1 := Scalar.cmpi .sgt c8_i32_52 c0_i32_55
  let v139 : BitVec 32 := Scalar.extui v138
  let c0_i32_56 : BitVec 32 := 0#32
  let v140 : BitVec 1 := Scalar.cmpi .slt c8_i32_52 c0_i32_56
  let v141 : BitVec 32 := Scalar.extui v140
  let v142 : BitVec 32 := Scalar.subi v139 v141
  let v143 : BitVec 1 := Scalar.cmpi .ne v137 v142
  let v144 : BitVec 32 := Scalar.remsi v131 c8_i32_52
  let c0_i32_57 : BitVec 32 := 0#32
  let v145 : BitVec 1 := Scalar.cmpi .ne v144 c0_i32_57
  let v146 : BitVec 1 := Scalar.andi v143 v145
  let v132 : BitVec 32 := Scalar.divsi v131 c8_i32_52
  let c1_i32_58 : BitVec 32 := 1#32
  let v147 : BitVec 32 := Scalar.subi v132 c1_i32_58
  let v148 : BitVec 32 := Scalar.select v146 v147 v132
  let c0_i32_59 : BitVec 32 := 0#32
  let v149 : BitVec 32 := Scalar.select v128 v148 c0_i32_59
  let v152 : BitVec 32 := Scalar.addi v101 v149
  let c8_i32_209 : BitVec 32 := 8#32
  let v457 : BitVec 32 := Scalar.muli v152 c8_i32_209
  v457
def k0_off28 (i : grid0.Coords) : Fin 2 → Nat :=
  let arg0 : BitVec 32 := BitVec.ofNat 32 (i 0).val
  let c2_i32_206 : BitVec 32 := 2#32
  let v450 : BitVec 32 := Scalar.remsi arg0 c2_i32_206
  let c3_i32_210 : BitVec 32 := 3#32
  ![v450.toNat, 3]
def k0_off29 (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) : (Fin 3 → Nat) × (Fin 3 → Nat) :=
  let arg0 : BitVec 32 := BitVec.ofNat 32 (i 0).val
  let c2_i32_206 : BitVec 32 := 2#32
  let v450 : BitVec 32 := Scalar.remsi arg0 c2_i32_206
  let c0_i32_18 : BitVec 32 := 0#32
  let v26 : BitVec 1 := Scalar.cmpi .sgt v2 v1
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let v50 : BitVec 32 := Scalar.addi c0_i32_18 v47
  let v77 : BitVec 1 := Scalar.cmpi .sgt v53 v52
  let c0_i32_22 : BitVec 32 := 0#32
  let v59 : BitVec 1 := Scalar.cmpi .sgt v55 c0_i32_22
  let v60 : BitVec 32 := Scalar.extui v59
  let c0_i32_23 : BitVec 32 := 0#32
  let v61 : BitVec 1 := Scalar.cmpi .slt v55 c0_i32_23
  let v62 : BitVec 32 := Scalar.extui v61
  let v63 : BitVec 32 := Scalar.subi v60 v62
  let c8_i32_21 : BitVec 32 := 8#32
  let c0_i32_24 : BitVec 32 := 0#32
  let v64 : BitVec 1 := Scalar.cmpi .sgt c8_i32_21 c0_i32_24
  let v65 : BitVec 32 := Scalar.extui v64
  let c0_i32_25 : BitVec 32 := 0#32
  let v66 : BitVec 1 := Scalar.cmpi .slt c8_i32_21 c0_i32_25
  let v67 : BitVec 32 := Scalar.extui v66
  let v68 : BitVec 32 := Scalar.subi v65 v67
  let v69 : BitVec 1 := Scalar.cmpi .ne v63 v68
  let v70 : BitVec 32 := Scalar.remsi v55 c8_i32_21
  let c0_i32_26 : BitVec 32 := 0#32
  let v71 : BitVec 1 := Scalar.cmpi .ne v70 c0_i32_26
  let v72 : BitVec 1 := Scalar.andi v69 v71
  let v58 : BitVec 32 := Scalar.divsi v55 c8_i32_21
  let c1_i32_27 : BitVec 32 := 1#32
  let v73 : BitVec 32 := Scalar.subi v58 c1_i32_27
  let v74 : BitVec 32 := Scalar.select v72 v73 v58
  let c8_i32_28 : BitVec 32 := 8#32
  let v75 : BitVec 32 := Scalar.muli v74 c8_i32_28
  let v76 : BitVec 32 := Scalar.subi v55 v75
  let v78 : BitVec 32 := Scalar.addi v76 v57
  let c8_i32_29 : BitVec 32 := 8#32
  let v79 : BitVec 32 := Scalar.addi v78 c8_i32_29
  let c1_i32_30 : BitVec 32 := 1#32
  let v80 : BitVec 32 := Scalar.subi v79 c1_i32_30
  let c0_i32_32 : BitVec 32 := 0#32
  let v82 : BitVec 1 := Scalar.cmpi .sgt v80 c0_i32_32
  let v83 : BitVec 32 := Scalar.extui v82
  let c0_i32_33 : BitVec 32 := 0#32
  let v84 : BitVec 1 := Scalar.cmpi .slt v80 c0_i32_33
  let v85 : BitVec 32 := Scalar.extui v84
  let v86 : BitVec 32 := Scalar.subi v83 v85
  let c8_i32_31 : BitVec 32 := 8#32
  let c0_i32_34 : BitVec 32 := 0#32
  let v87 : BitVec 1 := Scalar.cmpi .sgt c8_i32_31 c0_i32_34
  let v88 : BitVec 32 := Scalar.extui v87
  let c0_i32_35 : BitVec 32 := 0#32
  let v89 : BitVec 1 := Scalar.cmpi .slt c8_i32_31 c0_i32_35
  let v90 : BitVec 32 := Scalar.extui v89
  let v91 : BitVec 32 := Scalar.subi v88 v90
  let v92 : BitVec 1 := Scalar.cmpi .ne v86 v91
  let v93 : BitVec 32 := Scalar.remsi v80 c8_i32_31
  let c0_i32_36 : BitVec 32 := 0#32
  let v94 : BitVec 1 := Scalar.cmpi .ne v93 c0_i32_36
  let v95 : BitVec 1 := Scalar.andi v92 v94
  let v81 : BitVec 32 := Scalar.divsi v80 c8_i32_31
  let c1_i32_37 : BitVec 32 := 1#32
  let v96 : BitVec 32 := Scalar.subi v81 c1_i32_37
  let v97 : BitVec 32 := Scalar.select v95 v96 v81
  let c0_i32_38 : BitVec 32 := 0#32
  let v98 : BitVec 32 := Scalar.select v77 v97 c0_i32_38
  let v101 : BitVec 32 := Scalar.addi v50 v98
  let v128 : BitVec 1 := Scalar.cmpi .sgt v104 v103
  let c0_i32_43 : BitVec 32 := 0#32
  let v110 : BitVec 1 := Scalar.cmpi .sgt v106 c0_i32_43
  let v111 : BitVec 32 := Scalar.extui v110
  let c0_i32_44 : BitVec 32 := 0#32
  let v112 : BitVec 1 := Scalar.cmpi .slt v106 c0_i32_44
  let v113 : BitVec 32 := Scalar.extui v112
  let v114 : BitVec 32 := Scalar.subi v111 v113
  let c8_i32_42 : BitVec 32 := 8#32
  let c0_i32_45 : BitVec 32 := 0#32
  let v115 : BitVec 1 := Scalar.cmpi .sgt c8_i32_42 c0_i32_45
  let v116 : BitVec 32 := Scalar.extui v115
  let c0_i32_46 : BitVec 32 := 0#32
  let v117 : BitVec 1 := Scalar.cmpi .slt c8_i32_42 c0_i32_46
  let v118 : BitVec 32 := Scalar.extui v117
  let v119 : BitVec 32 := Scalar.subi v116 v118
  let v120 : BitVec 1 := Scalar.cmpi .ne v114 v119
  let v121 : BitVec 32 := Scalar.remsi v106 c8_i32_42
  let c0_i32_47 : BitVec 32 := 0#32
  let v122 : BitVec 1 := Scalar.cmpi .ne v121 c0_i32_47
  let v123 : BitVec 1 := Scalar.andi v120 v122
  let v109 : BitVec 32 := Scalar.divsi v106 c8_i32_42
  let c1_i32_48 : BitVec 32 := 1#32
  let v124 : BitVec 32 := Scalar.subi v109 c1_i32_48
  let v125 : BitVec 32 := Scalar.select v123 v124 v109
  let c8_i32_49 : BitVec 32 := 8#32
  let v126 : BitVec 32 := Scalar.muli v125 c8_i32_49
  let v127 : BitVec 32 := Scalar.subi v106 v126
  let v129 : BitVec 32 := Scalar.addi v127 v108
  let c8_i32_50 : BitVec 32 := 8#32
  let v130 : BitVec 32 := Scalar.addi v129 c8_i32_50
  let c1_i32_51 : BitVec 32 := 1#32
  let v131 : BitVec 32 := Scalar.subi v130 c1_i32_51
  let c0_i32_53 : BitVec 32 := 0#32
  let v133 : BitVec 1 := Scalar.cmpi .sgt v131 c0_i32_53
  let v134 : BitVec 32 := Scalar.extui v133
  let c0_i32_54 : BitVec 32 := 0#32
  let v135 : BitVec 1 := Scalar.cmpi .slt v131 c0_i32_54
  let v136 : BitVec 32 := Scalar.extui v135
  let v137 : BitVec 32 := Scalar.subi v134 v136
  let c8_i32_52 : BitVec 32 := 8#32
  let c0_i32_55 : BitVec 32 := 0#32
  let v138 : BitVec 1 := Scalar.cmpi .sgt c8_i32_52 c0_i32_55
  let v139 : BitVec 32 := Scalar.extui v138
  let c0_i32_56 : BitVec 32 := 0#32
  let v140 : BitVec 1 := Scalar.cmpi .slt c8_i32_52 c0_i32_56
  let v141 : BitVec 32 := Scalar.extui v140
  let v142 : BitVec 32 := Scalar.subi v139 v141
  let v143 : BitVec 1 := Scalar.cmpi .ne v137 v142
  let v144 : BitVec 32 := Scalar.remsi v131 c8_i32_52
  let c0_i32_57 : BitVec 32 := 0#32
  let v145 : BitVec 1 := Scalar.cmpi .ne v144 c0_i32_57
  let v146 : BitVec 1 := Scalar.andi v143 v145
  let v132 : BitVec 32 := Scalar.divsi v131 c8_i32_52
  let c1_i32_58 : BitVec 32 := 1#32
  let v147 : BitVec 32 := Scalar.subi v132 c1_i32_58
  let v148 : BitVec 32 := Scalar.select v146 v147 v132
  let c0_i32_59 : BitVec 32 := 0#32
  let v149 : BitVec 32 := Scalar.select v128 v148 c0_i32_59
  let v152 : BitVec 32 := Scalar.addi v101 v149
  let c8_i32_209 : BitVec 32 := 8#32
  let v457 : BitVec 32 := Scalar.muli v152 c8_i32_209
  let v458 : BitVec 32 := v457
  let c0_i32_211 : BitVec 32 := 0#32
  let v179 : BitVec 1 := Scalar.cmpi .sgt v155 v154
  let c0_i32_64 : BitVec 32 := 0#32
  let v161 : BitVec 1 := Scalar.cmpi .sgt v157 c0_i32_64
  let v162 : BitVec 32 := Scalar.extui v161
  let c0_i32_65 : BitVec 32 := 0#32
  let v163 : BitVec 1 := Scalar.cmpi .slt v157 c0_i32_65
  let v164 : BitVec 32 := Scalar.extui v163
  let v165 : BitVec 32 := Scalar.subi v162 v164
  let c8_i32_63 : BitVec 32 := 8#32
  let c0_i32_66 : BitVec 32 := 0#32
  let v166 : BitVec 1 := Scalar.cmpi .sgt c8_i32_63 c0_i32_66
  let v167 : BitVec 32 := Scalar.extui v166
  let c0_i32_67 : BitVec 32 := 0#32
  let v168 : BitVec 1 := Scalar.cmpi .slt c8_i32_63 c0_i32_67
  let v169 : BitVec 32 := Scalar.extui v168
  let v170 : BitVec 32 := Scalar.subi v167 v169
  let v171 : BitVec 1 := Scalar.cmpi .ne v165 v170
  let v172 : BitVec 32 := Scalar.remsi v157 c8_i32_63
  let c0_i32_68 : BitVec 32 := 0#32
  let v173 : BitVec 1 := Scalar.cmpi .ne v172 c0_i32_68
  let v174 : BitVec 1 := Scalar.andi v171 v173
  let v160 : BitVec 32 := Scalar.divsi v157 c8_i32_63
  let c1_i32_69 : BitVec 32 := 1#32
  let v175 : BitVec 32 := Scalar.subi v160 c1_i32_69
  let v176 : BitVec 32 := Scalar.select v174 v175 v160
  let c8_i32_70 : BitVec 32 := 8#32
  let v177 : BitVec 32 := Scalar.muli v176 c8_i32_70
  let v178 : BitVec 32 := Scalar.subi v157 v177
  let v180 : BitVec 32 := Scalar.addi v178 v159
  let c8_i32_71 : BitVec 32 := 8#32
  let v181 : BitVec 32 := Scalar.addi v180 c8_i32_71
  let c1_i32_72 : BitVec 32 := 1#32
  let v182 : BitVec 32 := Scalar.subi v181 c1_i32_72
  let c0_i32_74 : BitVec 32 := 0#32
  let v184 : BitVec 1 := Scalar.cmpi .sgt v182 c0_i32_74
  let v185 : BitVec 32 := Scalar.extui v184
  let c0_i32_75 : BitVec 32 := 0#32
  let v186 : BitVec 1 := Scalar.cmpi .slt v182 c0_i32_75
  let v187 : BitVec 32 := Scalar.extui v186
  let v188 : BitVec 32 := Scalar.subi v185 v187
  let c8_i32_73 : BitVec 32 := 8#32
  let c0_i32_76 : BitVec 32 := 0#32
  let v189 : BitVec 1 := Scalar.cmpi .sgt c8_i32_73 c0_i32_76
  let v190 : BitVec 32 := Scalar.extui v189
  let c0_i32_77 : BitVec 32 := 0#32
  let v191 : BitVec 1 := Scalar.cmpi .slt c8_i32_73 c0_i32_77
  let v192 : BitVec 32 := Scalar.extui v191
  let v193 : BitVec 32 := Scalar.subi v190 v192
  let v194 : BitVec 1 := Scalar.cmpi .ne v188 v193
  let v195 : BitVec 32 := Scalar.remsi v182 c8_i32_73
  let c0_i32_78 : BitVec 32 := 0#32
  let v196 : BitVec 1 := Scalar.cmpi .ne v195 c0_i32_78
  let v197 : BitVec 1 := Scalar.andi v194 v196
  let v183 : BitVec 32 := Scalar.divsi v182 c8_i32_73
  let c1_i32_79 : BitVec 32 := 1#32
  let v198 : BitVec 32 := Scalar.subi v183 c1_i32_79
  let v199 : BitVec 32 := Scalar.select v197 v198 v183
  let c0_i32_80 : BitVec 32 := 0#32
  let v200 : BitVec 32 := Scalar.select v179 v199 c0_i32_80
  let c8_i32_207 : BitVec 32 := 8#32
  let v451 : BitVec 32 := Scalar.muli v200 c8_i32_207
  let v452 : BitVec 32 := v451
  ⟨![v450.toNat, v458.toNat, 0], ![1, v452.toNat, 512]⟩
def k0_sz4 (v154 : BitVec 32) (v155 : BitVec 32) (v157 : BitVec 32) (v159 : BitVec 32) : Fin 2 → Nat :=
  let v179 : BitVec 1 := Scalar.cmpi .sgt v155 v154
  let c0_i32_64 : BitVec 32 := 0#32
  let v161 : BitVec 1 := Scalar.cmpi .sgt v157 c0_i32_64
  let v162 : BitVec 32 := Scalar.extui v161
  let c0_i32_65 : BitVec 32 := 0#32
  let v163 : BitVec 1 := Scalar.cmpi .slt v157 c0_i32_65
  let v164 : BitVec 32 := Scalar.extui v163
  let v165 : BitVec 32 := Scalar.subi v162 v164
  let c8_i32_63 : BitVec 32 := 8#32
  let c0_i32_66 : BitVec 32 := 0#32
  let v166 : BitVec 1 := Scalar.cmpi .sgt c8_i32_63 c0_i32_66
  let v167 : BitVec 32 := Scalar.extui v166
  let c0_i32_67 : BitVec 32 := 0#32
  let v168 : BitVec 1 := Scalar.cmpi .slt c8_i32_63 c0_i32_67
  let v169 : BitVec 32 := Scalar.extui v168
  let v170 : BitVec 32 := Scalar.subi v167 v169
  let v171 : BitVec 1 := Scalar.cmpi .ne v165 v170
  let v172 : BitVec 32 := Scalar.remsi v157 c8_i32_63
  let c0_i32_68 : BitVec 32 := 0#32
  let v173 : BitVec 1 := Scalar.cmpi .ne v172 c0_i32_68
  let v174 : BitVec 1 := Scalar.andi v171 v173
  let v160 : BitVec 32 := Scalar.divsi v157 c8_i32_63
  let c1_i32_69 : BitVec 32 := 1#32
  let v175 : BitVec 32 := Scalar.subi v160 c1_i32_69
  let v176 : BitVec 32 := Scalar.select v174 v175 v160
  let c8_i32_70 : BitVec 32 := 8#32
  let v177 : BitVec 32 := Scalar.muli v176 c8_i32_70
  let v178 : BitVec 32 := Scalar.subi v157 v177
  let v180 : BitVec 32 := Scalar.addi v178 v159
  let c8_i32_71 : BitVec 32 := 8#32
  let v181 : BitVec 32 := Scalar.addi v180 c8_i32_71
  let c1_i32_72 : BitVec 32 := 1#32
  let v182 : BitVec 32 := Scalar.subi v181 c1_i32_72
  let c0_i32_74 : BitVec 32 := 0#32
  let v184 : BitVec 1 := Scalar.cmpi .sgt v182 c0_i32_74
  let v185 : BitVec 32 := Scalar.extui v184
  let c0_i32_75 : BitVec 32 := 0#32
  let v186 : BitVec 1 := Scalar.cmpi .slt v182 c0_i32_75
  let v187 : BitVec 32 := Scalar.extui v186
  let v188 : BitVec 32 := Scalar.subi v185 v187
  let c8_i32_73 : BitVec 32 := 8#32
  let c0_i32_76 : BitVec 32 := 0#32
  let v189 : BitVec 1 := Scalar.cmpi .sgt c8_i32_73 c0_i32_76
  let v190 : BitVec 32 := Scalar.extui v189
  let c0_i32_77 : BitVec 32 := 0#32
  let v191 : BitVec 1 := Scalar.cmpi .slt c8_i32_73 c0_i32_77
  let v192 : BitVec 32 := Scalar.extui v191
  let v193 : BitVec 32 := Scalar.subi v190 v192
  let v194 : BitVec 1 := Scalar.cmpi .ne v188 v193
  let v195 : BitVec 32 := Scalar.remsi v182 c8_i32_73
  let c0_i32_78 : BitVec 32 := 0#32
  let v196 : BitVec 1 := Scalar.cmpi .ne v195 c0_i32_78
  let v197 : BitVec 1 := Scalar.andi v194 v196
  let v183 : BitVec 32 := Scalar.divsi v182 c8_i32_73
  let c1_i32_79 : BitVec 32 := 1#32
  let v198 : BitVec 32 := Scalar.subi v183 c1_i32_79
  let v199 : BitVec 32 := Scalar.select v197 v198 v183
  let c0_i32_80 : BitVec 32 := 0#32
  let v200 : BitVec 32 := Scalar.select v179 v199 c0_i32_80
  let c8_i32_207 : BitVec 32 := 8#32
  let v451 : BitVec 32 := Scalar.muli v200 c8_i32_207
  let v452 : BitVec 32 := v451
  ![v452.toNat, 512]
def k0_off30 (i : grid0.Coords) (v154 : BitVec 32) (v155 : BitVec 32) (v157 : BitVec 32) (v159 : BitVec 32) : (Fin 2 → Nat) × (Fin 2 → Nat) :=
  let c0_i32_64 : BitVec 32 := 0#32
  let v161 : BitVec 1 := Scalar.cmpi .sgt v157 c0_i32_64
  let v162 : BitVec 32 := Scalar.extui v161
  let c0_i32_65 : BitVec 32 := 0#32
  let v163 : BitVec 1 := Scalar.cmpi .slt v157 c0_i32_65
  let v164 : BitVec 32 := Scalar.extui v163
  let v165 : BitVec 32 := Scalar.subi v162 v164
  let c8_i32_63 : BitVec 32 := 8#32
  let c0_i32_66 : BitVec 32 := 0#32
  let v166 : BitVec 1 := Scalar.cmpi .sgt c8_i32_63 c0_i32_66
  let v167 : BitVec 32 := Scalar.extui v166
  let c0_i32_67 : BitVec 32 := 0#32
  let v168 : BitVec 1 := Scalar.cmpi .slt c8_i32_63 c0_i32_67
  let v169 : BitVec 32 := Scalar.extui v168
  let v170 : BitVec 32 := Scalar.subi v167 v169
  let v171 : BitVec 1 := Scalar.cmpi .ne v165 v170
  let v172 : BitVec 32 := Scalar.remsi v157 c8_i32_63
  let c0_i32_68 : BitVec 32 := 0#32
  let v173 : BitVec 1 := Scalar.cmpi .ne v172 c0_i32_68
  let v174 : BitVec 1 := Scalar.andi v171 v173
  let v160 : BitVec 32 := Scalar.divsi v157 c8_i32_63
  let c1_i32_69 : BitVec 32 := 1#32
  let v175 : BitVec 32 := Scalar.subi v160 c1_i32_69
  let v176 : BitVec 32 := Scalar.select v174 v175 v160
  let c8_i32_208 : BitVec 32 := 8#32
  let v453 : BitVec 32 := Scalar.muli v176 c8_i32_208
  let v454 : BitVec 32 := v453
  let arg0 : BitVec 32 := BitVec.ofNat 32 (i 0).val
  let c512_i32 : BitVec 32 := 512#32
  let v455 : BitVec 32 := Scalar.muli arg0 c512_i32
  let v456 : BitVec 32 := v455
  let v179 : BitVec 1 := Scalar.cmpi .sgt v155 v154
  let c8_i32_70 : BitVec 32 := 8#32
  let v177 : BitVec 32 := Scalar.muli v176 c8_i32_70
  let v178 : BitVec 32 := Scalar.subi v157 v177
  let v180 : BitVec 32 := Scalar.addi v178 v159
  let c8_i32_71 : BitVec 32 := 8#32
  let v181 : BitVec 32 := Scalar.addi v180 c8_i32_71
  let c1_i32_72 : BitVec 32 := 1#32
  let v182 : BitVec 32 := Scalar.subi v181 c1_i32_72
  let c0_i32_74 : BitVec 32 := 0#32
  let v184 : BitVec 1 := Scalar.cmpi .sgt v182 c0_i32_74
  let v185 : BitVec 32 := Scalar.extui v184
  let c0_i32_75 : BitVec 32 := 0#32
  let v186 : BitVec 1 := Scalar.cmpi .slt v182 c0_i32_75
  let v187 : BitVec 32 := Scalar.extui v186
  let v188 : BitVec 32 := Scalar.subi v185 v187
  let c8_i32_73 : BitVec 32 := 8#32
  let c0_i32_76 : BitVec 32 := 0#32
  let v189 : BitVec 1 := Scalar.cmpi .sgt c8_i32_73 c0_i32_76
  let v190 : BitVec 32 := Scalar.extui v189
  let c0_i32_77 : BitVec 32 := 0#32
  let v191 : BitVec 1 := Scalar.cmpi .slt c8_i32_73 c0_i32_77
  let v192 : BitVec 32 := Scalar.extui v191
  let v193 : BitVec 32 := Scalar.subi v190 v192
  let v194 : BitVec 1 := Scalar.cmpi .ne v188 v193
  let v195 : BitVec 32 := Scalar.remsi v182 c8_i32_73
  let c0_i32_78 : BitVec 32 := 0#32
  let v196 : BitVec 1 := Scalar.cmpi .ne v195 c0_i32_78
  let v197 : BitVec 1 := Scalar.andi v194 v196
  let v183 : BitVec 32 := Scalar.divsi v182 c8_i32_73
  let c1_i32_79 : BitVec 32 := 1#32
  let v198 : BitVec 32 := Scalar.subi v183 c1_i32_79
  let v199 : BitVec 32 := Scalar.select v197 v198 v183
  let c0_i32_80 : BitVec 32 := 0#32
  let v200 : BitVec 32 := Scalar.select v179 v199 c0_i32_80
  let c8_i32_207 : BitVec 32 := 8#32
  let v451 : BitVec 32 := Scalar.muli v200 c8_i32_207
  let v452 : BitVec 32 := v451
  ⟨![v454.toNat, v456.toNat], ![v452.toNat, 512]⟩
def k0_mult35 (v205 : BitVec 32) (v206 : BitVec 32) (v208 : BitVec 32) (v210 : BitVec 32) : BitVec 32 :=
  let v230 : BitVec 1 := Scalar.cmpi .sgt v206 v205
  let c0_i32_85 : BitVec 32 := 0#32
  let v212 : BitVec 1 := Scalar.cmpi .sgt v208 c0_i32_85
  let v213 : BitVec 32 := Scalar.extui v212
  let c0_i32_86 : BitVec 32 := 0#32
  let v214 : BitVec 1 := Scalar.cmpi .slt v208 c0_i32_86
  let v215 : BitVec 32 := Scalar.extui v214
  let v216 : BitVec 32 := Scalar.subi v213 v215
  let c8_i32_84 : BitVec 32 := 8#32
  let c0_i32_87 : BitVec 32 := 0#32
  let v217 : BitVec 1 := Scalar.cmpi .sgt c8_i32_84 c0_i32_87
  let v218 : BitVec 32 := Scalar.extui v217
  let c0_i32_88 : BitVec 32 := 0#32
  let v219 : BitVec 1 := Scalar.cmpi .slt c8_i32_84 c0_i32_88
  let v220 : BitVec 32 := Scalar.extui v219
  let v221 : BitVec 32 := Scalar.subi v218 v220
  let v222 : BitVec 1 := Scalar.cmpi .ne v216 v221
  let v223 : BitVec 32 := Scalar.remsi v208 c8_i32_84
  let c0_i32_89 : BitVec 32 := 0#32
  let v224 : BitVec 1 := Scalar.cmpi .ne v223 c0_i32_89
  let v225 : BitVec 1 := Scalar.andi v222 v224
  let v211 : BitVec 32 := Scalar.divsi v208 c8_i32_84
  let c1_i32_90 : BitVec 32 := 1#32
  let v226 : BitVec 32 := Scalar.subi v211 c1_i32_90
  let v227 : BitVec 32 := Scalar.select v225 v226 v211
  let c8_i32_91 : BitVec 32 := 8#32
  let v228 : BitVec 32 := Scalar.muli v227 c8_i32_91
  let v229 : BitVec 32 := Scalar.subi v208 v228
  let v231 : BitVec 32 := Scalar.addi v229 v210
  let c8_i32_92 : BitVec 32 := 8#32
  let v232 : BitVec 32 := Scalar.addi v231 c8_i32_92
  let c1_i32_93 : BitVec 32 := 1#32
  let v233 : BitVec 32 := Scalar.subi v232 c1_i32_93
  let c0_i32_95 : BitVec 32 := 0#32
  let v235 : BitVec 1 := Scalar.cmpi .sgt v233 c0_i32_95
  let v236 : BitVec 32 := Scalar.extui v235
  let c0_i32_96 : BitVec 32 := 0#32
  let v237 : BitVec 1 := Scalar.cmpi .slt v233 c0_i32_96
  let v238 : BitVec 32 := Scalar.extui v237
  let v239 : BitVec 32 := Scalar.subi v236 v238
  let c8_i32_94 : BitVec 32 := 8#32
  let c0_i32_97 : BitVec 32 := 0#32
  let v240 : BitVec 1 := Scalar.cmpi .sgt c8_i32_94 c0_i32_97
  let v241 : BitVec 32 := Scalar.extui v240
  let c0_i32_98 : BitVec 32 := 0#32
  let v242 : BitVec 1 := Scalar.cmpi .slt c8_i32_94 c0_i32_98
  let v243 : BitVec 32 := Scalar.extui v242
  let v244 : BitVec 32 := Scalar.subi v241 v243
  let v245 : BitVec 1 := Scalar.cmpi .ne v239 v244
  let v246 : BitVec 32 := Scalar.remsi v233 c8_i32_94
  let c0_i32_99 : BitVec 32 := 0#32
  let v247 : BitVec 1 := Scalar.cmpi .ne v246 c0_i32_99
  let v248 : BitVec 1 := Scalar.andi v245 v247
  let v234 : BitVec 32 := Scalar.divsi v233 c8_i32_94
  let c1_i32_100 : BitVec 32 := 1#32
  let v249 : BitVec 32 := Scalar.subi v234 c1_i32_100
  let v250 : BitVec 32 := Scalar.select v248 v249 v234
  let c0_i32_101 : BitVec 32 := 0#32
  let v251 : BitVec 32 := Scalar.select v230 v250 c0_i32_101
  let c8_i32_207 : BitVec 32 := 8#32
  let v451 : BitVec 32 := Scalar.muli v251 c8_i32_207
  v451
def k0_cond12 (v205 : BitVec 32) (v206 : BitVec 32) (v208 : BitVec 32) (v210 : BitVec 32) : BitVec 1 :=
  let v230 : BitVec 1 := Scalar.cmpi .sgt v206 v205
  let c0_i32_85 : BitVec 32 := 0#32
  let v212 : BitVec 1 := Scalar.cmpi .sgt v208 c0_i32_85
  let v213 : BitVec 32 := Scalar.extui v212
  let c0_i32_86 : BitVec 32 := 0#32
  let v214 : BitVec 1 := Scalar.cmpi .slt v208 c0_i32_86
  let v215 : BitVec 32 := Scalar.extui v214
  let v216 : BitVec 32 := Scalar.subi v213 v215
  let c8_i32_84 : BitVec 32 := 8#32
  let c0_i32_87 : BitVec 32 := 0#32
  let v217 : BitVec 1 := Scalar.cmpi .sgt c8_i32_84 c0_i32_87
  let v218 : BitVec 32 := Scalar.extui v217
  let c0_i32_88 : BitVec 32 := 0#32
  let v219 : BitVec 1 := Scalar.cmpi .slt c8_i32_84 c0_i32_88
  let v220 : BitVec 32 := Scalar.extui v219
  let v221 : BitVec 32 := Scalar.subi v218 v220
  let v222 : BitVec 1 := Scalar.cmpi .ne v216 v221
  let v223 : BitVec 32 := Scalar.remsi v208 c8_i32_84
  let c0_i32_89 : BitVec 32 := 0#32
  let v224 : BitVec 1 := Scalar.cmpi .ne v223 c0_i32_89
  let v225 : BitVec 1 := Scalar.andi v222 v224
  let v211 : BitVec 32 := Scalar.divsi v208 c8_i32_84
  let c1_i32_90 : BitVec 32 := 1#32
  let v226 : BitVec 32 := Scalar.subi v211 c1_i32_90
  let v227 : BitVec 32 := Scalar.select v225 v226 v211
  let c8_i32_91 : BitVec 32 := 8#32
  let v228 : BitVec 32 := Scalar.muli v227 c8_i32_91
  let v229 : BitVec 32 := Scalar.subi v208 v228
  let v231 : BitVec 32 := Scalar.addi v229 v210
  let c8_i32_92 : BitVec 32 := 8#32
  let v232 : BitVec 32 := Scalar.addi v231 c8_i32_92
  let c1_i32_93 : BitVec 32 := 1#32
  let v233 : BitVec 32 := Scalar.subi v232 c1_i32_93
  let c0_i32_95 : BitVec 32 := 0#32
  let v235 : BitVec 1 := Scalar.cmpi .sgt v233 c0_i32_95
  let v236 : BitVec 32 := Scalar.extui v235
  let c0_i32_96 : BitVec 32 := 0#32
  let v237 : BitVec 1 := Scalar.cmpi .slt v233 c0_i32_96
  let v238 : BitVec 32 := Scalar.extui v237
  let v239 : BitVec 32 := Scalar.subi v236 v238
  let c8_i32_94 : BitVec 32 := 8#32
  let c0_i32_97 : BitVec 32 := 0#32
  let v240 : BitVec 1 := Scalar.cmpi .sgt c8_i32_94 c0_i32_97
  let v241 : BitVec 32 := Scalar.extui v240
  let c0_i32_98 : BitVec 32 := 0#32
  let v242 : BitVec 1 := Scalar.cmpi .slt c8_i32_94 c0_i32_98
  let v243 : BitVec 32 := Scalar.extui v242
  let v244 : BitVec 32 := Scalar.subi v241 v243
  let v245 : BitVec 1 := Scalar.cmpi .ne v239 v244
  let v246 : BitVec 32 := Scalar.remsi v233 c8_i32_94
  let c0_i32_99 : BitVec 32 := 0#32
  let v247 : BitVec 1 := Scalar.cmpi .ne v246 c0_i32_99
  let v248 : BitVec 1 := Scalar.andi v245 v247
  let v234 : BitVec 32 := Scalar.divsi v233 c8_i32_94
  let c1_i32_100 : BitVec 32 := 1#32
  let v249 : BitVec 32 := Scalar.subi v234 c1_i32_100
  let v250 : BitVec 32 := Scalar.select v248 v249 v234
  let c0_i32_101 : BitVec 32 := 0#32
  let v251 : BitVec 32 := Scalar.select v230 v250 c0_i32_101
  let c0_i32_202 : BitVec 32 := 0#32
  let v444 : BitVec 1 := Scalar.cmpi .sgt v251 c0_i32_202
  let v445 : BitVec 32 := Scalar.extui v444
  let c0_i32_203 : BitVec 32 := 0#32
  let v446 : BitVec 1 := Scalar.cmpi .ne v445 c0_i32_203
  v446

def k0_mult36 (v208 : BitVec 32) : BitVec 32 :=
  let c0_i32_85 : BitVec 32 := 0#32
  let v212 : BitVec 1 := Scalar.cmpi .sgt v208 c0_i32_85
  let v213 : BitVec 32 := Scalar.extui v212
  let c0_i32_86 : BitVec 32 := 0#32
  let v214 : BitVec 1 := Scalar.cmpi .slt v208 c0_i32_86
  let v215 : BitVec 32 := Scalar.extui v214
  let v216 : BitVec 32 := Scalar.subi v213 v215
  let c8_i32_84 : BitVec 32 := 8#32
  let c0_i32_87 : BitVec 32 := 0#32
  let v217 : BitVec 1 := Scalar.cmpi .sgt c8_i32_84 c0_i32_87
  let v218 : BitVec 32 := Scalar.extui v217
  let c0_i32_88 : BitVec 32 := 0#32
  let v219 : BitVec 1 := Scalar.cmpi .slt c8_i32_84 c0_i32_88
  let v220 : BitVec 32 := Scalar.extui v219
  let v221 : BitVec 32 := Scalar.subi v218 v220
  let v222 : BitVec 1 := Scalar.cmpi .ne v216 v221
  let v223 : BitVec 32 := Scalar.remsi v208 c8_i32_84
  let c0_i32_89 : BitVec 32 := 0#32
  let v224 : BitVec 1 := Scalar.cmpi .ne v223 c0_i32_89
  let v225 : BitVec 1 := Scalar.andi v222 v224
  let v211 : BitVec 32 := Scalar.divsi v208 c8_i32_84
  let c1_i32_90 : BitVec 32 := 1#32
  let v226 : BitVec 32 := Scalar.subi v211 c1_i32_90
  let v227 : BitVec 32 := Scalar.select v225 v226 v211
  let c8_i32_208 : BitVec 32 := 8#32
  let v453 : BitVec 32 := Scalar.muli v227 c8_i32_208
  v453
def k0_mult37 (i : grid0.Coords) : BitVec 32 :=
  let arg0 : BitVec 32 := BitVec.ofNat 32 (i 0).val
  let c512_i32 : BitVec 32 := 512#32
  let v455 : BitVec 32 := Scalar.muli arg0 c512_i32
  v455
def k0_mult38 (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) : BitVec 32 :=
  let c0_i32_18 : BitVec 32 := 0#32
  let v26 : BitVec 1 := Scalar.cmpi .sgt v2 v1
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let v50 : BitVec 32 := Scalar.addi c0_i32_18 v47
  let v77 : BitVec 1 := Scalar.cmpi .sgt v53 v52
  let c0_i32_22 : BitVec 32 := 0#32
  let v59 : BitVec 1 := Scalar.cmpi .sgt v55 c0_i32_22
  let v60 : BitVec 32 := Scalar.extui v59
  let c0_i32_23 : BitVec 32 := 0#32
  let v61 : BitVec 1 := Scalar.cmpi .slt v55 c0_i32_23
  let v62 : BitVec 32 := Scalar.extui v61
  let v63 : BitVec 32 := Scalar.subi v60 v62
  let c8_i32_21 : BitVec 32 := 8#32
  let c0_i32_24 : BitVec 32 := 0#32
  let v64 : BitVec 1 := Scalar.cmpi .sgt c8_i32_21 c0_i32_24
  let v65 : BitVec 32 := Scalar.extui v64
  let c0_i32_25 : BitVec 32 := 0#32
  let v66 : BitVec 1 := Scalar.cmpi .slt c8_i32_21 c0_i32_25
  let v67 : BitVec 32 := Scalar.extui v66
  let v68 : BitVec 32 := Scalar.subi v65 v67
  let v69 : BitVec 1 := Scalar.cmpi .ne v63 v68
  let v70 : BitVec 32 := Scalar.remsi v55 c8_i32_21
  let c0_i32_26 : BitVec 32 := 0#32
  let v71 : BitVec 1 := Scalar.cmpi .ne v70 c0_i32_26
  let v72 : BitVec 1 := Scalar.andi v69 v71
  let v58 : BitVec 32 := Scalar.divsi v55 c8_i32_21
  let c1_i32_27 : BitVec 32 := 1#32
  let v73 : BitVec 32 := Scalar.subi v58 c1_i32_27
  let v74 : BitVec 32 := Scalar.select v72 v73 v58
  let c8_i32_28 : BitVec 32 := 8#32
  let v75 : BitVec 32 := Scalar.muli v74 c8_i32_28
  let v76 : BitVec 32 := Scalar.subi v55 v75
  let v78 : BitVec 32 := Scalar.addi v76 v57
  let c8_i32_29 : BitVec 32 := 8#32
  let v79 : BitVec 32 := Scalar.addi v78 c8_i32_29
  let c1_i32_30 : BitVec 32 := 1#32
  let v80 : BitVec 32 := Scalar.subi v79 c1_i32_30
  let c0_i32_32 : BitVec 32 := 0#32
  let v82 : BitVec 1 := Scalar.cmpi .sgt v80 c0_i32_32
  let v83 : BitVec 32 := Scalar.extui v82
  let c0_i32_33 : BitVec 32 := 0#32
  let v84 : BitVec 1 := Scalar.cmpi .slt v80 c0_i32_33
  let v85 : BitVec 32 := Scalar.extui v84
  let v86 : BitVec 32 := Scalar.subi v83 v85
  let c8_i32_31 : BitVec 32 := 8#32
  let c0_i32_34 : BitVec 32 := 0#32
  let v87 : BitVec 1 := Scalar.cmpi .sgt c8_i32_31 c0_i32_34
  let v88 : BitVec 32 := Scalar.extui v87
  let c0_i32_35 : BitVec 32 := 0#32
  let v89 : BitVec 1 := Scalar.cmpi .slt c8_i32_31 c0_i32_35
  let v90 : BitVec 32 := Scalar.extui v89
  let v91 : BitVec 32 := Scalar.subi v88 v90
  let v92 : BitVec 1 := Scalar.cmpi .ne v86 v91
  let v93 : BitVec 32 := Scalar.remsi v80 c8_i32_31
  let c0_i32_36 : BitVec 32 := 0#32
  let v94 : BitVec 1 := Scalar.cmpi .ne v93 c0_i32_36
  let v95 : BitVec 1 := Scalar.andi v92 v94
  let v81 : BitVec 32 := Scalar.divsi v80 c8_i32_31
  let c1_i32_37 : BitVec 32 := 1#32
  let v96 : BitVec 32 := Scalar.subi v81 c1_i32_37
  let v97 : BitVec 32 := Scalar.select v95 v96 v81
  let c0_i32_38 : BitVec 32 := 0#32
  let v98 : BitVec 32 := Scalar.select v77 v97 c0_i32_38
  let v101 : BitVec 32 := Scalar.addi v50 v98
  let v128 : BitVec 1 := Scalar.cmpi .sgt v104 v103
  let c0_i32_43 : BitVec 32 := 0#32
  let v110 : BitVec 1 := Scalar.cmpi .sgt v106 c0_i32_43
  let v111 : BitVec 32 := Scalar.extui v110
  let c0_i32_44 : BitVec 32 := 0#32
  let v112 : BitVec 1 := Scalar.cmpi .slt v106 c0_i32_44
  let v113 : BitVec 32 := Scalar.extui v112
  let v114 : BitVec 32 := Scalar.subi v111 v113
  let c8_i32_42 : BitVec 32 := 8#32
  let c0_i32_45 : BitVec 32 := 0#32
  let v115 : BitVec 1 := Scalar.cmpi .sgt c8_i32_42 c0_i32_45
  let v116 : BitVec 32 := Scalar.extui v115
  let c0_i32_46 : BitVec 32 := 0#32
  let v117 : BitVec 1 := Scalar.cmpi .slt c8_i32_42 c0_i32_46
  let v118 : BitVec 32 := Scalar.extui v117
  let v119 : BitVec 32 := Scalar.subi v116 v118
  let v120 : BitVec 1 := Scalar.cmpi .ne v114 v119
  let v121 : BitVec 32 := Scalar.remsi v106 c8_i32_42
  let c0_i32_47 : BitVec 32 := 0#32
  let v122 : BitVec 1 := Scalar.cmpi .ne v121 c0_i32_47
  let v123 : BitVec 1 := Scalar.andi v120 v122
  let v109 : BitVec 32 := Scalar.divsi v106 c8_i32_42
  let c1_i32_48 : BitVec 32 := 1#32
  let v124 : BitVec 32 := Scalar.subi v109 c1_i32_48
  let v125 : BitVec 32 := Scalar.select v123 v124 v109
  let c8_i32_49 : BitVec 32 := 8#32
  let v126 : BitVec 32 := Scalar.muli v125 c8_i32_49
  let v127 : BitVec 32 := Scalar.subi v106 v126
  let v129 : BitVec 32 := Scalar.addi v127 v108
  let c8_i32_50 : BitVec 32 := 8#32
  let v130 : BitVec 32 := Scalar.addi v129 c8_i32_50
  let c1_i32_51 : BitVec 32 := 1#32
  let v131 : BitVec 32 := Scalar.subi v130 c1_i32_51
  let c0_i32_53 : BitVec 32 := 0#32
  let v133 : BitVec 1 := Scalar.cmpi .sgt v131 c0_i32_53
  let v134 : BitVec 32 := Scalar.extui v133
  let c0_i32_54 : BitVec 32 := 0#32
  let v135 : BitVec 1 := Scalar.cmpi .slt v131 c0_i32_54
  let v136 : BitVec 32 := Scalar.extui v135
  let v137 : BitVec 32 := Scalar.subi v134 v136
  let c8_i32_52 : BitVec 32 := 8#32
  let c0_i32_55 : BitVec 32 := 0#32
  let v138 : BitVec 1 := Scalar.cmpi .sgt c8_i32_52 c0_i32_55
  let v139 : BitVec 32 := Scalar.extui v138
  let c0_i32_56 : BitVec 32 := 0#32
  let v140 : BitVec 1 := Scalar.cmpi .slt c8_i32_52 c0_i32_56
  let v141 : BitVec 32 := Scalar.extui v140
  let v142 : BitVec 32 := Scalar.subi v139 v141
  let v143 : BitVec 1 := Scalar.cmpi .ne v137 v142
  let v144 : BitVec 32 := Scalar.remsi v131 c8_i32_52
  let c0_i32_57 : BitVec 32 := 0#32
  let v145 : BitVec 1 := Scalar.cmpi .ne v144 c0_i32_57
  let v146 : BitVec 1 := Scalar.andi v143 v145
  let v132 : BitVec 32 := Scalar.divsi v131 c8_i32_52
  let c1_i32_58 : BitVec 32 := 1#32
  let v147 : BitVec 32 := Scalar.subi v132 c1_i32_58
  let v148 : BitVec 32 := Scalar.select v146 v147 v132
  let c0_i32_59 : BitVec 32 := 0#32
  let v149 : BitVec 32 := Scalar.select v128 v148 c0_i32_59
  let v152 : BitVec 32 := Scalar.addi v101 v149
  let v179 : BitVec 1 := Scalar.cmpi .sgt v155 v154
  let c0_i32_64 : BitVec 32 := 0#32
  let v161 : BitVec 1 := Scalar.cmpi .sgt v157 c0_i32_64
  let v162 : BitVec 32 := Scalar.extui v161
  let c0_i32_65 : BitVec 32 := 0#32
  let v163 : BitVec 1 := Scalar.cmpi .slt v157 c0_i32_65
  let v164 : BitVec 32 := Scalar.extui v163
  let v165 : BitVec 32 := Scalar.subi v162 v164
  let c8_i32_63 : BitVec 32 := 8#32
  let c0_i32_66 : BitVec 32 := 0#32
  let v166 : BitVec 1 := Scalar.cmpi .sgt c8_i32_63 c0_i32_66
  let v167 : BitVec 32 := Scalar.extui v166
  let c0_i32_67 : BitVec 32 := 0#32
  let v168 : BitVec 1 := Scalar.cmpi .slt c8_i32_63 c0_i32_67
  let v169 : BitVec 32 := Scalar.extui v168
  let v170 : BitVec 32 := Scalar.subi v167 v169
  let v171 : BitVec 1 := Scalar.cmpi .ne v165 v170
  let v172 : BitVec 32 := Scalar.remsi v157 c8_i32_63
  let c0_i32_68 : BitVec 32 := 0#32
  let v173 : BitVec 1 := Scalar.cmpi .ne v172 c0_i32_68
  let v174 : BitVec 1 := Scalar.andi v171 v173
  let v160 : BitVec 32 := Scalar.divsi v157 c8_i32_63
  let c1_i32_69 : BitVec 32 := 1#32
  let v175 : BitVec 32 := Scalar.subi v160 c1_i32_69
  let v176 : BitVec 32 := Scalar.select v174 v175 v160
  let c8_i32_70 : BitVec 32 := 8#32
  let v177 : BitVec 32 := Scalar.muli v176 c8_i32_70
  let v178 : BitVec 32 := Scalar.subi v157 v177
  let v180 : BitVec 32 := Scalar.addi v178 v159
  let c8_i32_71 : BitVec 32 := 8#32
  let v181 : BitVec 32 := Scalar.addi v180 c8_i32_71
  let c1_i32_72 : BitVec 32 := 1#32
  let v182 : BitVec 32 := Scalar.subi v181 c1_i32_72
  let c0_i32_74 : BitVec 32 := 0#32
  let v184 : BitVec 1 := Scalar.cmpi .sgt v182 c0_i32_74
  let v185 : BitVec 32 := Scalar.extui v184
  let c0_i32_75 : BitVec 32 := 0#32
  let v186 : BitVec 1 := Scalar.cmpi .slt v182 c0_i32_75
  let v187 : BitVec 32 := Scalar.extui v186
  let v188 : BitVec 32 := Scalar.subi v185 v187
  let c8_i32_73 : BitVec 32 := 8#32
  let c0_i32_76 : BitVec 32 := 0#32
  let v189 : BitVec 1 := Scalar.cmpi .sgt c8_i32_73 c0_i32_76
  let v190 : BitVec 32 := Scalar.extui v189
  let c0_i32_77 : BitVec 32 := 0#32
  let v191 : BitVec 1 := Scalar.cmpi .slt c8_i32_73 c0_i32_77
  let v192 : BitVec 32 := Scalar.extui v191
  let v193 : BitVec 32 := Scalar.subi v190 v192
  let v194 : BitVec 1 := Scalar.cmpi .ne v188 v193
  let v195 : BitVec 32 := Scalar.remsi v182 c8_i32_73
  let c0_i32_78 : BitVec 32 := 0#32
  let v196 : BitVec 1 := Scalar.cmpi .ne v195 c0_i32_78
  let v197 : BitVec 1 := Scalar.andi v194 v196
  let v183 : BitVec 32 := Scalar.divsi v182 c8_i32_73
  let c1_i32_79 : BitVec 32 := 1#32
  let v198 : BitVec 32 := Scalar.subi v183 c1_i32_79
  let v199 : BitVec 32 := Scalar.select v197 v198 v183
  let c0_i32_80 : BitVec 32 := 0#32
  let v200 : BitVec 32 := Scalar.select v179 v199 c0_i32_80
  let v203 : BitVec 32 := Scalar.addi v152 v200
  let c8_i32_209 : BitVec 32 := 8#32
  let v457 : BitVec 32 := Scalar.muli v203 c8_i32_209
  v457
def k0_off31 (i : grid0.Coords) : Fin 2 → Nat :=
  let arg0 : BitVec 32 := BitVec.ofNat 32 (i 0).val
  let c2_i32_206 : BitVec 32 := 2#32
  let v450 : BitVec 32 := Scalar.remsi arg0 c2_i32_206
  let c4_i32_210 : BitVec 32 := 4#32
  ![v450.toNat, 4]
def k0_off32 (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) : (Fin 3 → Nat) × (Fin 3 → Nat) :=
  let arg0 : BitVec 32 := BitVec.ofNat 32 (i 0).val
  let c2_i32_206 : BitVec 32 := 2#32
  let v450 : BitVec 32 := Scalar.remsi arg0 c2_i32_206
  let c0_i32_18 : BitVec 32 := 0#32
  let v26 : BitVec 1 := Scalar.cmpi .sgt v2 v1
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let v50 : BitVec 32 := Scalar.addi c0_i32_18 v47
  let v77 : BitVec 1 := Scalar.cmpi .sgt v53 v52
  let c0_i32_22 : BitVec 32 := 0#32
  let v59 : BitVec 1 := Scalar.cmpi .sgt v55 c0_i32_22
  let v60 : BitVec 32 := Scalar.extui v59
  let c0_i32_23 : BitVec 32 := 0#32
  let v61 : BitVec 1 := Scalar.cmpi .slt v55 c0_i32_23
  let v62 : BitVec 32 := Scalar.extui v61
  let v63 : BitVec 32 := Scalar.subi v60 v62
  let c8_i32_21 : BitVec 32 := 8#32
  let c0_i32_24 : BitVec 32 := 0#32
  let v64 : BitVec 1 := Scalar.cmpi .sgt c8_i32_21 c0_i32_24
  let v65 : BitVec 32 := Scalar.extui v64
  let c0_i32_25 : BitVec 32 := 0#32
  let v66 : BitVec 1 := Scalar.cmpi .slt c8_i32_21 c0_i32_25
  let v67 : BitVec 32 := Scalar.extui v66
  let v68 : BitVec 32 := Scalar.subi v65 v67
  let v69 : BitVec 1 := Scalar.cmpi .ne v63 v68
  let v70 : BitVec 32 := Scalar.remsi v55 c8_i32_21
  let c0_i32_26 : BitVec 32 := 0#32
  let v71 : BitVec 1 := Scalar.cmpi .ne v70 c0_i32_26
  let v72 : BitVec 1 := Scalar.andi v69 v71
  let v58 : BitVec 32 := Scalar.divsi v55 c8_i32_21
  let c1_i32_27 : BitVec 32 := 1#32
  let v73 : BitVec 32 := Scalar.subi v58 c1_i32_27
  let v74 : BitVec 32 := Scalar.select v72 v73 v58
  let c8_i32_28 : BitVec 32 := 8#32
  let v75 : BitVec 32 := Scalar.muli v74 c8_i32_28
  let v76 : BitVec 32 := Scalar.subi v55 v75
  let v78 : BitVec 32 := Scalar.addi v76 v57
  let c8_i32_29 : BitVec 32 := 8#32
  let v79 : BitVec 32 := Scalar.addi v78 c8_i32_29
  let c1_i32_30 : BitVec 32 := 1#32
  let v80 : BitVec 32 := Scalar.subi v79 c1_i32_30
  let c0_i32_32 : BitVec 32 := 0#32
  let v82 : BitVec 1 := Scalar.cmpi .sgt v80 c0_i32_32
  let v83 : BitVec 32 := Scalar.extui v82
  let c0_i32_33 : BitVec 32 := 0#32
  let v84 : BitVec 1 := Scalar.cmpi .slt v80 c0_i32_33
  let v85 : BitVec 32 := Scalar.extui v84
  let v86 : BitVec 32 := Scalar.subi v83 v85
  let c8_i32_31 : BitVec 32 := 8#32
  let c0_i32_34 : BitVec 32 := 0#32
  let v87 : BitVec 1 := Scalar.cmpi .sgt c8_i32_31 c0_i32_34
  let v88 : BitVec 32 := Scalar.extui v87
  let c0_i32_35 : BitVec 32 := 0#32
  let v89 : BitVec 1 := Scalar.cmpi .slt c8_i32_31 c0_i32_35
  let v90 : BitVec 32 := Scalar.extui v89
  let v91 : BitVec 32 := Scalar.subi v88 v90
  let v92 : BitVec 1 := Scalar.cmpi .ne v86 v91
  let v93 : BitVec 32 := Scalar.remsi v80 c8_i32_31
  let c0_i32_36 : BitVec 32 := 0#32
  let v94 : BitVec 1 := Scalar.cmpi .ne v93 c0_i32_36
  let v95 : BitVec 1 := Scalar.andi v92 v94
  let v81 : BitVec 32 := Scalar.divsi v80 c8_i32_31
  let c1_i32_37 : BitVec 32 := 1#32
  let v96 : BitVec 32 := Scalar.subi v81 c1_i32_37
  let v97 : BitVec 32 := Scalar.select v95 v96 v81
  let c0_i32_38 : BitVec 32 := 0#32
  let v98 : BitVec 32 := Scalar.select v77 v97 c0_i32_38
  let v101 : BitVec 32 := Scalar.addi v50 v98
  let v128 : BitVec 1 := Scalar.cmpi .sgt v104 v103
  let c0_i32_43 : BitVec 32 := 0#32
  let v110 : BitVec 1 := Scalar.cmpi .sgt v106 c0_i32_43
  let v111 : BitVec 32 := Scalar.extui v110
  let c0_i32_44 : BitVec 32 := 0#32
  let v112 : BitVec 1 := Scalar.cmpi .slt v106 c0_i32_44
  let v113 : BitVec 32 := Scalar.extui v112
  let v114 : BitVec 32 := Scalar.subi v111 v113
  let c8_i32_42 : BitVec 32 := 8#32
  let c0_i32_45 : BitVec 32 := 0#32
  let v115 : BitVec 1 := Scalar.cmpi .sgt c8_i32_42 c0_i32_45
  let v116 : BitVec 32 := Scalar.extui v115
  let c0_i32_46 : BitVec 32 := 0#32
  let v117 : BitVec 1 := Scalar.cmpi .slt c8_i32_42 c0_i32_46
  let v118 : BitVec 32 := Scalar.extui v117
  let v119 : BitVec 32 := Scalar.subi v116 v118
  let v120 : BitVec 1 := Scalar.cmpi .ne v114 v119
  let v121 : BitVec 32 := Scalar.remsi v106 c8_i32_42
  let c0_i32_47 : BitVec 32 := 0#32
  let v122 : BitVec 1 := Scalar.cmpi .ne v121 c0_i32_47
  let v123 : BitVec 1 := Scalar.andi v120 v122
  let v109 : BitVec 32 := Scalar.divsi v106 c8_i32_42
  let c1_i32_48 : BitVec 32 := 1#32
  let v124 : BitVec 32 := Scalar.subi v109 c1_i32_48
  let v125 : BitVec 32 := Scalar.select v123 v124 v109
  let c8_i32_49 : BitVec 32 := 8#32
  let v126 : BitVec 32 := Scalar.muli v125 c8_i32_49
  let v127 : BitVec 32 := Scalar.subi v106 v126
  let v129 : BitVec 32 := Scalar.addi v127 v108
  let c8_i32_50 : BitVec 32 := 8#32
  let v130 : BitVec 32 := Scalar.addi v129 c8_i32_50
  let c1_i32_51 : BitVec 32 := 1#32
  let v131 : BitVec 32 := Scalar.subi v130 c1_i32_51
  let c0_i32_53 : BitVec 32 := 0#32
  let v133 : BitVec 1 := Scalar.cmpi .sgt v131 c0_i32_53
  let v134 : BitVec 32 := Scalar.extui v133
  let c0_i32_54 : BitVec 32 := 0#32
  let v135 : BitVec 1 := Scalar.cmpi .slt v131 c0_i32_54
  let v136 : BitVec 32 := Scalar.extui v135
  let v137 : BitVec 32 := Scalar.subi v134 v136
  let c8_i32_52 : BitVec 32 := 8#32
  let c0_i32_55 : BitVec 32 := 0#32
  let v138 : BitVec 1 := Scalar.cmpi .sgt c8_i32_52 c0_i32_55
  let v139 : BitVec 32 := Scalar.extui v138
  let c0_i32_56 : BitVec 32 := 0#32
  let v140 : BitVec 1 := Scalar.cmpi .slt c8_i32_52 c0_i32_56
  let v141 : BitVec 32 := Scalar.extui v140
  let v142 : BitVec 32 := Scalar.subi v139 v141
  let v143 : BitVec 1 := Scalar.cmpi .ne v137 v142
  let v144 : BitVec 32 := Scalar.remsi v131 c8_i32_52
  let c0_i32_57 : BitVec 32 := 0#32
  let v145 : BitVec 1 := Scalar.cmpi .ne v144 c0_i32_57
  let v146 : BitVec 1 := Scalar.andi v143 v145
  let v132 : BitVec 32 := Scalar.divsi v131 c8_i32_52
  let c1_i32_58 : BitVec 32 := 1#32
  let v147 : BitVec 32 := Scalar.subi v132 c1_i32_58
  let v148 : BitVec 32 := Scalar.select v146 v147 v132
  let c0_i32_59 : BitVec 32 := 0#32
  let v149 : BitVec 32 := Scalar.select v128 v148 c0_i32_59
  let v152 : BitVec 32 := Scalar.addi v101 v149
  let v179 : BitVec 1 := Scalar.cmpi .sgt v155 v154
  let c0_i32_64 : BitVec 32 := 0#32
  let v161 : BitVec 1 := Scalar.cmpi .sgt v157 c0_i32_64
  let v162 : BitVec 32 := Scalar.extui v161
  let c0_i32_65 : BitVec 32 := 0#32
  let v163 : BitVec 1 := Scalar.cmpi .slt v157 c0_i32_65
  let v164 : BitVec 32 := Scalar.extui v163
  let v165 : BitVec 32 := Scalar.subi v162 v164
  let c8_i32_63 : BitVec 32 := 8#32
  let c0_i32_66 : BitVec 32 := 0#32
  let v166 : BitVec 1 := Scalar.cmpi .sgt c8_i32_63 c0_i32_66
  let v167 : BitVec 32 := Scalar.extui v166
  let c0_i32_67 : BitVec 32 := 0#32
  let v168 : BitVec 1 := Scalar.cmpi .slt c8_i32_63 c0_i32_67
  let v169 : BitVec 32 := Scalar.extui v168
  let v170 : BitVec 32 := Scalar.subi v167 v169
  let v171 : BitVec 1 := Scalar.cmpi .ne v165 v170
  let v172 : BitVec 32 := Scalar.remsi v157 c8_i32_63
  let c0_i32_68 : BitVec 32 := 0#32
  let v173 : BitVec 1 := Scalar.cmpi .ne v172 c0_i32_68
  let v174 : BitVec 1 := Scalar.andi v171 v173
  let v160 : BitVec 32 := Scalar.divsi v157 c8_i32_63
  let c1_i32_69 : BitVec 32 := 1#32
  let v175 : BitVec 32 := Scalar.subi v160 c1_i32_69
  let v176 : BitVec 32 := Scalar.select v174 v175 v160
  let c8_i32_70 : BitVec 32 := 8#32
  let v177 : BitVec 32 := Scalar.muli v176 c8_i32_70
  let v178 : BitVec 32 := Scalar.subi v157 v177
  let v180 : BitVec 32 := Scalar.addi v178 v159
  let c8_i32_71 : BitVec 32 := 8#32
  let v181 : BitVec 32 := Scalar.addi v180 c8_i32_71
  let c1_i32_72 : BitVec 32 := 1#32
  let v182 : BitVec 32 := Scalar.subi v181 c1_i32_72
  let c0_i32_74 : BitVec 32 := 0#32
  let v184 : BitVec 1 := Scalar.cmpi .sgt v182 c0_i32_74
  let v185 : BitVec 32 := Scalar.extui v184
  let c0_i32_75 : BitVec 32 := 0#32
  let v186 : BitVec 1 := Scalar.cmpi .slt v182 c0_i32_75
  let v187 : BitVec 32 := Scalar.extui v186
  let v188 : BitVec 32 := Scalar.subi v185 v187
  let c8_i32_73 : BitVec 32 := 8#32
  let c0_i32_76 : BitVec 32 := 0#32
  let v189 : BitVec 1 := Scalar.cmpi .sgt c8_i32_73 c0_i32_76
  let v190 : BitVec 32 := Scalar.extui v189
  let c0_i32_77 : BitVec 32 := 0#32
  let v191 : BitVec 1 := Scalar.cmpi .slt c8_i32_73 c0_i32_77
  let v192 : BitVec 32 := Scalar.extui v191
  let v193 : BitVec 32 := Scalar.subi v190 v192
  let v194 : BitVec 1 := Scalar.cmpi .ne v188 v193
  let v195 : BitVec 32 := Scalar.remsi v182 c8_i32_73
  let c0_i32_78 : BitVec 32 := 0#32
  let v196 : BitVec 1 := Scalar.cmpi .ne v195 c0_i32_78
  let v197 : BitVec 1 := Scalar.andi v194 v196
  let v183 : BitVec 32 := Scalar.divsi v182 c8_i32_73
  let c1_i32_79 : BitVec 32 := 1#32
  let v198 : BitVec 32 := Scalar.subi v183 c1_i32_79
  let v199 : BitVec 32 := Scalar.select v197 v198 v183
  let c0_i32_80 : BitVec 32 := 0#32
  let v200 : BitVec 32 := Scalar.select v179 v199 c0_i32_80
  let v203 : BitVec 32 := Scalar.addi v152 v200
  let c8_i32_209 : BitVec 32 := 8#32
  let v457 : BitVec 32 := Scalar.muli v203 c8_i32_209
  let v458 : BitVec 32 := v457
  let c0_i32_211 : BitVec 32 := 0#32
  let v230 : BitVec 1 := Scalar.cmpi .sgt v206 v205
  let c0_i32_85 : BitVec 32 := 0#32
  let v212 : BitVec 1 := Scalar.cmpi .sgt v208 c0_i32_85
  let v213 : BitVec 32 := Scalar.extui v212
  let c0_i32_86 : BitVec 32 := 0#32
  let v214 : BitVec 1 := Scalar.cmpi .slt v208 c0_i32_86
  let v215 : BitVec 32 := Scalar.extui v214
  let v216 : BitVec 32 := Scalar.subi v213 v215
  let c8_i32_84 : BitVec 32 := 8#32
  let c0_i32_87 : BitVec 32 := 0#32
  let v217 : BitVec 1 := Scalar.cmpi .sgt c8_i32_84 c0_i32_87
  let v218 : BitVec 32 := Scalar.extui v217
  let c0_i32_88 : BitVec 32 := 0#32
  let v219 : BitVec 1 := Scalar.cmpi .slt c8_i32_84 c0_i32_88
  let v220 : BitVec 32 := Scalar.extui v219
  let v221 : BitVec 32 := Scalar.subi v218 v220
  let v222 : BitVec 1 := Scalar.cmpi .ne v216 v221
  let v223 : BitVec 32 := Scalar.remsi v208 c8_i32_84
  let c0_i32_89 : BitVec 32 := 0#32
  let v224 : BitVec 1 := Scalar.cmpi .ne v223 c0_i32_89
  let v225 : BitVec 1 := Scalar.andi v222 v224
  let v211 : BitVec 32 := Scalar.divsi v208 c8_i32_84
  let c1_i32_90 : BitVec 32 := 1#32
  let v226 : BitVec 32 := Scalar.subi v211 c1_i32_90
  let v227 : BitVec 32 := Scalar.select v225 v226 v211
  let c8_i32_91 : BitVec 32 := 8#32
  let v228 : BitVec 32 := Scalar.muli v227 c8_i32_91
  let v229 : BitVec 32 := Scalar.subi v208 v228
  let v231 : BitVec 32 := Scalar.addi v229 v210
  let c8_i32_92 : BitVec 32 := 8#32
  let v232 : BitVec 32 := Scalar.addi v231 c8_i32_92
  let c1_i32_93 : BitVec 32 := 1#32
  let v233 : BitVec 32 := Scalar.subi v232 c1_i32_93
  let c0_i32_95 : BitVec 32 := 0#32
  let v235 : BitVec 1 := Scalar.cmpi .sgt v233 c0_i32_95
  let v236 : BitVec 32 := Scalar.extui v235
  let c0_i32_96 : BitVec 32 := 0#32
  let v237 : BitVec 1 := Scalar.cmpi .slt v233 c0_i32_96
  let v238 : BitVec 32 := Scalar.extui v237
  let v239 : BitVec 32 := Scalar.subi v236 v238
  let c8_i32_94 : BitVec 32 := 8#32
  let c0_i32_97 : BitVec 32 := 0#32
  let v240 : BitVec 1 := Scalar.cmpi .sgt c8_i32_94 c0_i32_97
  let v241 : BitVec 32 := Scalar.extui v240
  let c0_i32_98 : BitVec 32 := 0#32
  let v242 : BitVec 1 := Scalar.cmpi .slt c8_i32_94 c0_i32_98
  let v243 : BitVec 32 := Scalar.extui v242
  let v244 : BitVec 32 := Scalar.subi v241 v243
  let v245 : BitVec 1 := Scalar.cmpi .ne v239 v244
  let v246 : BitVec 32 := Scalar.remsi v233 c8_i32_94
  let c0_i32_99 : BitVec 32 := 0#32
  let v247 : BitVec 1 := Scalar.cmpi .ne v246 c0_i32_99
  let v248 : BitVec 1 := Scalar.andi v245 v247
  let v234 : BitVec 32 := Scalar.divsi v233 c8_i32_94
  let c1_i32_100 : BitVec 32 := 1#32
  let v249 : BitVec 32 := Scalar.subi v234 c1_i32_100
  let v250 : BitVec 32 := Scalar.select v248 v249 v234
  let c0_i32_101 : BitVec 32 := 0#32
  let v251 : BitVec 32 := Scalar.select v230 v250 c0_i32_101
  let c8_i32_207 : BitVec 32 := 8#32
  let v451 : BitVec 32 := Scalar.muli v251 c8_i32_207
  let v452 : BitVec 32 := v451
  ⟨![v450.toNat, v458.toNat, 0], ![1, v452.toNat, 512]⟩
def k0_sz5 (v205 : BitVec 32) (v206 : BitVec 32) (v208 : BitVec 32) (v210 : BitVec 32) : Fin 2 → Nat :=
  let v230 : BitVec 1 := Scalar.cmpi .sgt v206 v205
  let c0_i32_85 : BitVec 32 := 0#32
  let v212 : BitVec 1 := Scalar.cmpi .sgt v208 c0_i32_85
  let v213 : BitVec 32 := Scalar.extui v212
  let c0_i32_86 : BitVec 32 := 0#32
  let v214 : BitVec 1 := Scalar.cmpi .slt v208 c0_i32_86
  let v215 : BitVec 32 := Scalar.extui v214
  let v216 : BitVec 32 := Scalar.subi v213 v215
  let c8_i32_84 : BitVec 32 := 8#32
  let c0_i32_87 : BitVec 32 := 0#32
  let v217 : BitVec 1 := Scalar.cmpi .sgt c8_i32_84 c0_i32_87
  let v218 : BitVec 32 := Scalar.extui v217
  let c0_i32_88 : BitVec 32 := 0#32
  let v219 : BitVec 1 := Scalar.cmpi .slt c8_i32_84 c0_i32_88
  let v220 : BitVec 32 := Scalar.extui v219
  let v221 : BitVec 32 := Scalar.subi v218 v220
  let v222 : BitVec 1 := Scalar.cmpi .ne v216 v221
  let v223 : BitVec 32 := Scalar.remsi v208 c8_i32_84
  let c0_i32_89 : BitVec 32 := 0#32
  let v224 : BitVec 1 := Scalar.cmpi .ne v223 c0_i32_89
  let v225 : BitVec 1 := Scalar.andi v222 v224
  let v211 : BitVec 32 := Scalar.divsi v208 c8_i32_84
  let c1_i32_90 : BitVec 32 := 1#32
  let v226 : BitVec 32 := Scalar.subi v211 c1_i32_90
  let v227 : BitVec 32 := Scalar.select v225 v226 v211
  let c8_i32_91 : BitVec 32 := 8#32
  let v228 : BitVec 32 := Scalar.muli v227 c8_i32_91
  let v229 : BitVec 32 := Scalar.subi v208 v228
  let v231 : BitVec 32 := Scalar.addi v229 v210
  let c8_i32_92 : BitVec 32 := 8#32
  let v232 : BitVec 32 := Scalar.addi v231 c8_i32_92
  let c1_i32_93 : BitVec 32 := 1#32
  let v233 : BitVec 32 := Scalar.subi v232 c1_i32_93
  let c0_i32_95 : BitVec 32 := 0#32
  let v235 : BitVec 1 := Scalar.cmpi .sgt v233 c0_i32_95
  let v236 : BitVec 32 := Scalar.extui v235
  let c0_i32_96 : BitVec 32 := 0#32
  let v237 : BitVec 1 := Scalar.cmpi .slt v233 c0_i32_96
  let v238 : BitVec 32 := Scalar.extui v237
  let v239 : BitVec 32 := Scalar.subi v236 v238
  let c8_i32_94 : BitVec 32 := 8#32
  let c0_i32_97 : BitVec 32 := 0#32
  let v240 : BitVec 1 := Scalar.cmpi .sgt c8_i32_94 c0_i32_97
  let v241 : BitVec 32 := Scalar.extui v240
  let c0_i32_98 : BitVec 32 := 0#32
  let v242 : BitVec 1 := Scalar.cmpi .slt c8_i32_94 c0_i32_98
  let v243 : BitVec 32 := Scalar.extui v242
  let v244 : BitVec 32 := Scalar.subi v241 v243
  let v245 : BitVec 1 := Scalar.cmpi .ne v239 v244
  let v246 : BitVec 32 := Scalar.remsi v233 c8_i32_94
  let c0_i32_99 : BitVec 32 := 0#32
  let v247 : BitVec 1 := Scalar.cmpi .ne v246 c0_i32_99
  let v248 : BitVec 1 := Scalar.andi v245 v247
  let v234 : BitVec 32 := Scalar.divsi v233 c8_i32_94
  let c1_i32_100 : BitVec 32 := 1#32
  let v249 : BitVec 32 := Scalar.subi v234 c1_i32_100
  let v250 : BitVec 32 := Scalar.select v248 v249 v234
  let c0_i32_101 : BitVec 32 := 0#32
  let v251 : BitVec 32 := Scalar.select v230 v250 c0_i32_101
  let c8_i32_207 : BitVec 32 := 8#32
  let v451 : BitVec 32 := Scalar.muli v251 c8_i32_207
  let v452 : BitVec 32 := v451
  ![v452.toNat, 512]
def k0_off33 (i : grid0.Coords) (v205 : BitVec 32) (v206 : BitVec 32) (v208 : BitVec 32) (v210 : BitVec 32) : (Fin 2 → Nat) × (Fin 2 → Nat) :=
  let c0_i32_85 : BitVec 32 := 0#32
  let v212 : BitVec 1 := Scalar.cmpi .sgt v208 c0_i32_85
  let v213 : BitVec 32 := Scalar.extui v212
  let c0_i32_86 : BitVec 32 := 0#32
  let v214 : BitVec 1 := Scalar.cmpi .slt v208 c0_i32_86
  let v215 : BitVec 32 := Scalar.extui v214
  let v216 : BitVec 32 := Scalar.subi v213 v215
  let c8_i32_84 : BitVec 32 := 8#32
  let c0_i32_87 : BitVec 32 := 0#32
  let v217 : BitVec 1 := Scalar.cmpi .sgt c8_i32_84 c0_i32_87
  let v218 : BitVec 32 := Scalar.extui v217
  let c0_i32_88 : BitVec 32 := 0#32
  let v219 : BitVec 1 := Scalar.cmpi .slt c8_i32_84 c0_i32_88
  let v220 : BitVec 32 := Scalar.extui v219
  let v221 : BitVec 32 := Scalar.subi v218 v220
  let v222 : BitVec 1 := Scalar.cmpi .ne v216 v221
  let v223 : BitVec 32 := Scalar.remsi v208 c8_i32_84
  let c0_i32_89 : BitVec 32 := 0#32
  let v224 : BitVec 1 := Scalar.cmpi .ne v223 c0_i32_89
  let v225 : BitVec 1 := Scalar.andi v222 v224
  let v211 : BitVec 32 := Scalar.divsi v208 c8_i32_84
  let c1_i32_90 : BitVec 32 := 1#32
  let v226 : BitVec 32 := Scalar.subi v211 c1_i32_90
  let v227 : BitVec 32 := Scalar.select v225 v226 v211
  let c8_i32_208 : BitVec 32 := 8#32
  let v453 : BitVec 32 := Scalar.muli v227 c8_i32_208
  let v454 : BitVec 32 := v453
  let arg0 : BitVec 32 := BitVec.ofNat 32 (i 0).val
  let c512_i32 : BitVec 32 := 512#32
  let v455 : BitVec 32 := Scalar.muli arg0 c512_i32
  let v456 : BitVec 32 := v455
  let v230 : BitVec 1 := Scalar.cmpi .sgt v206 v205
  let c8_i32_91 : BitVec 32 := 8#32
  let v228 : BitVec 32 := Scalar.muli v227 c8_i32_91
  let v229 : BitVec 32 := Scalar.subi v208 v228
  let v231 : BitVec 32 := Scalar.addi v229 v210
  let c8_i32_92 : BitVec 32 := 8#32
  let v232 : BitVec 32 := Scalar.addi v231 c8_i32_92
  let c1_i32_93 : BitVec 32 := 1#32
  let v233 : BitVec 32 := Scalar.subi v232 c1_i32_93
  let c0_i32_95 : BitVec 32 := 0#32
  let v235 : BitVec 1 := Scalar.cmpi .sgt v233 c0_i32_95
  let v236 : BitVec 32 := Scalar.extui v235
  let c0_i32_96 : BitVec 32 := 0#32
  let v237 : BitVec 1 := Scalar.cmpi .slt v233 c0_i32_96
  let v238 : BitVec 32 := Scalar.extui v237
  let v239 : BitVec 32 := Scalar.subi v236 v238
  let c8_i32_94 : BitVec 32 := 8#32
  let c0_i32_97 : BitVec 32 := 0#32
  let v240 : BitVec 1 := Scalar.cmpi .sgt c8_i32_94 c0_i32_97
  let v241 : BitVec 32 := Scalar.extui v240
  let c0_i32_98 : BitVec 32 := 0#32
  let v242 : BitVec 1 := Scalar.cmpi .slt c8_i32_94 c0_i32_98
  let v243 : BitVec 32 := Scalar.extui v242
  let v244 : BitVec 32 := Scalar.subi v241 v243
  let v245 : BitVec 1 := Scalar.cmpi .ne v239 v244
  let v246 : BitVec 32 := Scalar.remsi v233 c8_i32_94
  let c0_i32_99 : BitVec 32 := 0#32
  let v247 : BitVec 1 := Scalar.cmpi .ne v246 c0_i32_99
  let v248 : BitVec 1 := Scalar.andi v245 v247
  let v234 : BitVec 32 := Scalar.divsi v233 c8_i32_94
  let c1_i32_100 : BitVec 32 := 1#32
  let v249 : BitVec 32 := Scalar.subi v234 c1_i32_100
  let v250 : BitVec 32 := Scalar.select v248 v249 v234
  let c0_i32_101 : BitVec 32 := 0#32
  let v251 : BitVec 32 := Scalar.select v230 v250 c0_i32_101
  let c8_i32_207 : BitVec 32 := 8#32
  let v451 : BitVec 32 := Scalar.muli v251 c8_i32_207
  let v452 : BitVec 32 := v451
  ⟨![v454.toNat, v456.toNat], ![v452.toNat, 512]⟩
def k0_mult39 (v256 : BitVec 32) (v257 : BitVec 32) (v259 : BitVec 32) (v261 : BitVec 32) : BitVec 32 :=
  let v281 : BitVec 1 := Scalar.cmpi .sgt v257 v256
  let c0_i32_106 : BitVec 32 := 0#32
  let v263 : BitVec 1 := Scalar.cmpi .sgt v259 c0_i32_106
  let v264 : BitVec 32 := Scalar.extui v263
  let c0_i32_107 : BitVec 32 := 0#32
  let v265 : BitVec 1 := Scalar.cmpi .slt v259 c0_i32_107
  let v266 : BitVec 32 := Scalar.extui v265
  let v267 : BitVec 32 := Scalar.subi v264 v266
  let c8_i32_105 : BitVec 32 := 8#32
  let c0_i32_108 : BitVec 32 := 0#32
  let v268 : BitVec 1 := Scalar.cmpi .sgt c8_i32_105 c0_i32_108
  let v269 : BitVec 32 := Scalar.extui v268
  let c0_i32_109 : BitVec 32 := 0#32
  let v270 : BitVec 1 := Scalar.cmpi .slt c8_i32_105 c0_i32_109
  let v271 : BitVec 32 := Scalar.extui v270
  let v272 : BitVec 32 := Scalar.subi v269 v271
  let v273 : BitVec 1 := Scalar.cmpi .ne v267 v272
  let v274 : BitVec 32 := Scalar.remsi v259 c8_i32_105
  let c0_i32_110 : BitVec 32 := 0#32
  let v275 : BitVec 1 := Scalar.cmpi .ne v274 c0_i32_110
  let v276 : BitVec 1 := Scalar.andi v273 v275
  let v262 : BitVec 32 := Scalar.divsi v259 c8_i32_105
  let c1_i32_111 : BitVec 32 := 1#32
  let v277 : BitVec 32 := Scalar.subi v262 c1_i32_111
  let v278 : BitVec 32 := Scalar.select v276 v277 v262
  let c8_i32_112 : BitVec 32 := 8#32
  let v279 : BitVec 32 := Scalar.muli v278 c8_i32_112
  let v280 : BitVec 32 := Scalar.subi v259 v279
  let v282 : BitVec 32 := Scalar.addi v280 v261
  let c8_i32_113 : BitVec 32 := 8#32
  let v283 : BitVec 32 := Scalar.addi v282 c8_i32_113
  let c1_i32_114 : BitVec 32 := 1#32
  let v284 : BitVec 32 := Scalar.subi v283 c1_i32_114
  let c0_i32_116 : BitVec 32 := 0#32
  let v286 : BitVec 1 := Scalar.cmpi .sgt v284 c0_i32_116
  let v287 : BitVec 32 := Scalar.extui v286
  let c0_i32_117 : BitVec 32 := 0#32
  let v288 : BitVec 1 := Scalar.cmpi .slt v284 c0_i32_117
  let v289 : BitVec 32 := Scalar.extui v288
  let v290 : BitVec 32 := Scalar.subi v287 v289
  let c8_i32_115 : BitVec 32 := 8#32
  let c0_i32_118 : BitVec 32 := 0#32
  let v291 : BitVec 1 := Scalar.cmpi .sgt c8_i32_115 c0_i32_118
  let v292 : BitVec 32 := Scalar.extui v291
  let c0_i32_119 : BitVec 32 := 0#32
  let v293 : BitVec 1 := Scalar.cmpi .slt c8_i32_115 c0_i32_119
  let v294 : BitVec 32 := Scalar.extui v293
  let v295 : BitVec 32 := Scalar.subi v292 v294
  let v296 : BitVec 1 := Scalar.cmpi .ne v290 v295
  let v297 : BitVec 32 := Scalar.remsi v284 c8_i32_115
  let c0_i32_120 : BitVec 32 := 0#32
  let v298 : BitVec 1 := Scalar.cmpi .ne v297 c0_i32_120
  let v299 : BitVec 1 := Scalar.andi v296 v298
  let v285 : BitVec 32 := Scalar.divsi v284 c8_i32_115
  let c1_i32_121 : BitVec 32 := 1#32
  let v300 : BitVec 32 := Scalar.subi v285 c1_i32_121
  let v301 : BitVec 32 := Scalar.select v299 v300 v285
  let c0_i32_122 : BitVec 32 := 0#32
  let v302 : BitVec 32 := Scalar.select v281 v301 c0_i32_122
  let c8_i32_207 : BitVec 32 := 8#32
  let v451 : BitVec 32 := Scalar.muli v302 c8_i32_207
  v451
def k0_cond13 (v256 : BitVec 32) (v257 : BitVec 32) (v259 : BitVec 32) (v261 : BitVec 32) : BitVec 1 :=
  let v281 : BitVec 1 := Scalar.cmpi .sgt v257 v256
  let c0_i32_106 : BitVec 32 := 0#32
  let v263 : BitVec 1 := Scalar.cmpi .sgt v259 c0_i32_106
  let v264 : BitVec 32 := Scalar.extui v263
  let c0_i32_107 : BitVec 32 := 0#32
  let v265 : BitVec 1 := Scalar.cmpi .slt v259 c0_i32_107
  let v266 : BitVec 32 := Scalar.extui v265
  let v267 : BitVec 32 := Scalar.subi v264 v266
  let c8_i32_105 : BitVec 32 := 8#32
  let c0_i32_108 : BitVec 32 := 0#32
  let v268 : BitVec 1 := Scalar.cmpi .sgt c8_i32_105 c0_i32_108
  let v269 : BitVec 32 := Scalar.extui v268
  let c0_i32_109 : BitVec 32 := 0#32
  let v270 : BitVec 1 := Scalar.cmpi .slt c8_i32_105 c0_i32_109
  let v271 : BitVec 32 := Scalar.extui v270
  let v272 : BitVec 32 := Scalar.subi v269 v271
  let v273 : BitVec 1 := Scalar.cmpi .ne v267 v272
  let v274 : BitVec 32 := Scalar.remsi v259 c8_i32_105
  let c0_i32_110 : BitVec 32 := 0#32
  let v275 : BitVec 1 := Scalar.cmpi .ne v274 c0_i32_110
  let v276 : BitVec 1 := Scalar.andi v273 v275
  let v262 : BitVec 32 := Scalar.divsi v259 c8_i32_105
  let c1_i32_111 : BitVec 32 := 1#32
  let v277 : BitVec 32 := Scalar.subi v262 c1_i32_111
  let v278 : BitVec 32 := Scalar.select v276 v277 v262
  let c8_i32_112 : BitVec 32 := 8#32
  let v279 : BitVec 32 := Scalar.muli v278 c8_i32_112
  let v280 : BitVec 32 := Scalar.subi v259 v279
  let v282 : BitVec 32 := Scalar.addi v280 v261
  let c8_i32_113 : BitVec 32 := 8#32
  let v283 : BitVec 32 := Scalar.addi v282 c8_i32_113
  let c1_i32_114 : BitVec 32 := 1#32
  let v284 : BitVec 32 := Scalar.subi v283 c1_i32_114
  let c0_i32_116 : BitVec 32 := 0#32
  let v286 : BitVec 1 := Scalar.cmpi .sgt v284 c0_i32_116
  let v287 : BitVec 32 := Scalar.extui v286
  let c0_i32_117 : BitVec 32 := 0#32
  let v288 : BitVec 1 := Scalar.cmpi .slt v284 c0_i32_117
  let v289 : BitVec 32 := Scalar.extui v288
  let v290 : BitVec 32 := Scalar.subi v287 v289
  let c8_i32_115 : BitVec 32 := 8#32
  let c0_i32_118 : BitVec 32 := 0#32
  let v291 : BitVec 1 := Scalar.cmpi .sgt c8_i32_115 c0_i32_118
  let v292 : BitVec 32 := Scalar.extui v291
  let c0_i32_119 : BitVec 32 := 0#32
  let v293 : BitVec 1 := Scalar.cmpi .slt c8_i32_115 c0_i32_119
  let v294 : BitVec 32 := Scalar.extui v293
  let v295 : BitVec 32 := Scalar.subi v292 v294
  let v296 : BitVec 1 := Scalar.cmpi .ne v290 v295
  let v297 : BitVec 32 := Scalar.remsi v284 c8_i32_115
  let c0_i32_120 : BitVec 32 := 0#32
  let v298 : BitVec 1 := Scalar.cmpi .ne v297 c0_i32_120
  let v299 : BitVec 1 := Scalar.andi v296 v298
  let v285 : BitVec 32 := Scalar.divsi v284 c8_i32_115
  let c1_i32_121 : BitVec 32 := 1#32
  let v300 : BitVec 32 := Scalar.subi v285 c1_i32_121
  let v301 : BitVec 32 := Scalar.select v299 v300 v285
  let c0_i32_122 : BitVec 32 := 0#32
  let v302 : BitVec 32 := Scalar.select v281 v301 c0_i32_122
  let c0_i32_204 : BitVec 32 := 0#32
  let v447 : BitVec 1 := Scalar.cmpi .sgt v302 c0_i32_204
  let v448 : BitVec 32 := Scalar.extui v447
  let c0_i32_205 : BitVec 32 := 0#32
  let v449 : BitVec 1 := Scalar.cmpi .ne v448 c0_i32_205
  v449

def k0_mult40 (v259 : BitVec 32) : BitVec 32 :=
  let c0_i32_106 : BitVec 32 := 0#32
  let v263 : BitVec 1 := Scalar.cmpi .sgt v259 c0_i32_106
  let v264 : BitVec 32 := Scalar.extui v263
  let c0_i32_107 : BitVec 32 := 0#32
  let v265 : BitVec 1 := Scalar.cmpi .slt v259 c0_i32_107
  let v266 : BitVec 32 := Scalar.extui v265
  let v267 : BitVec 32 := Scalar.subi v264 v266
  let c8_i32_105 : BitVec 32 := 8#32
  let c0_i32_108 : BitVec 32 := 0#32
  let v268 : BitVec 1 := Scalar.cmpi .sgt c8_i32_105 c0_i32_108
  let v269 : BitVec 32 := Scalar.extui v268
  let c0_i32_109 : BitVec 32 := 0#32
  let v270 : BitVec 1 := Scalar.cmpi .slt c8_i32_105 c0_i32_109
  let v271 : BitVec 32 := Scalar.extui v270
  let v272 : BitVec 32 := Scalar.subi v269 v271
  let v273 : BitVec 1 := Scalar.cmpi .ne v267 v272
  let v274 : BitVec 32 := Scalar.remsi v259 c8_i32_105
  let c0_i32_110 : BitVec 32 := 0#32
  let v275 : BitVec 1 := Scalar.cmpi .ne v274 c0_i32_110
  let v276 : BitVec 1 := Scalar.andi v273 v275
  let v262 : BitVec 32 := Scalar.divsi v259 c8_i32_105
  let c1_i32_111 : BitVec 32 := 1#32
  let v277 : BitVec 32 := Scalar.subi v262 c1_i32_111
  let v278 : BitVec 32 := Scalar.select v276 v277 v262
  let c8_i32_208 : BitVec 32 := 8#32
  let v453 : BitVec 32 := Scalar.muli v278 c8_i32_208
  v453
def k0_mult41 (i : grid0.Coords) : BitVec 32 :=
  let arg0 : BitVec 32 := BitVec.ofNat 32 (i 0).val
  let c512_i32 : BitVec 32 := 512#32
  let v455 : BitVec 32 := Scalar.muli arg0 c512_i32
  v455
def k0_mult42 (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) : BitVec 32 :=
  let c0_i32_18 : BitVec 32 := 0#32
  let v26 : BitVec 1 := Scalar.cmpi .sgt v2 v1
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let v50 : BitVec 32 := Scalar.addi c0_i32_18 v47
  let v77 : BitVec 1 := Scalar.cmpi .sgt v53 v52
  let c0_i32_22 : BitVec 32 := 0#32
  let v59 : BitVec 1 := Scalar.cmpi .sgt v55 c0_i32_22
  let v60 : BitVec 32 := Scalar.extui v59
  let c0_i32_23 : BitVec 32 := 0#32
  let v61 : BitVec 1 := Scalar.cmpi .slt v55 c0_i32_23
  let v62 : BitVec 32 := Scalar.extui v61
  let v63 : BitVec 32 := Scalar.subi v60 v62
  let c8_i32_21 : BitVec 32 := 8#32
  let c0_i32_24 : BitVec 32 := 0#32
  let v64 : BitVec 1 := Scalar.cmpi .sgt c8_i32_21 c0_i32_24
  let v65 : BitVec 32 := Scalar.extui v64
  let c0_i32_25 : BitVec 32 := 0#32
  let v66 : BitVec 1 := Scalar.cmpi .slt c8_i32_21 c0_i32_25
  let v67 : BitVec 32 := Scalar.extui v66
  let v68 : BitVec 32 := Scalar.subi v65 v67
  let v69 : BitVec 1 := Scalar.cmpi .ne v63 v68
  let v70 : BitVec 32 := Scalar.remsi v55 c8_i32_21
  let c0_i32_26 : BitVec 32 := 0#32
  let v71 : BitVec 1 := Scalar.cmpi .ne v70 c0_i32_26
  let v72 : BitVec 1 := Scalar.andi v69 v71
  let v58 : BitVec 32 := Scalar.divsi v55 c8_i32_21
  let c1_i32_27 : BitVec 32 := 1#32
  let v73 : BitVec 32 := Scalar.subi v58 c1_i32_27
  let v74 : BitVec 32 := Scalar.select v72 v73 v58
  let c8_i32_28 : BitVec 32 := 8#32
  let v75 : BitVec 32 := Scalar.muli v74 c8_i32_28
  let v76 : BitVec 32 := Scalar.subi v55 v75
  let v78 : BitVec 32 := Scalar.addi v76 v57
  let c8_i32_29 : BitVec 32 := 8#32
  let v79 : BitVec 32 := Scalar.addi v78 c8_i32_29
  let c1_i32_30 : BitVec 32 := 1#32
  let v80 : BitVec 32 := Scalar.subi v79 c1_i32_30
  let c0_i32_32 : BitVec 32 := 0#32
  let v82 : BitVec 1 := Scalar.cmpi .sgt v80 c0_i32_32
  let v83 : BitVec 32 := Scalar.extui v82
  let c0_i32_33 : BitVec 32 := 0#32
  let v84 : BitVec 1 := Scalar.cmpi .slt v80 c0_i32_33
  let v85 : BitVec 32 := Scalar.extui v84
  let v86 : BitVec 32 := Scalar.subi v83 v85
  let c8_i32_31 : BitVec 32 := 8#32
  let c0_i32_34 : BitVec 32 := 0#32
  let v87 : BitVec 1 := Scalar.cmpi .sgt c8_i32_31 c0_i32_34
  let v88 : BitVec 32 := Scalar.extui v87
  let c0_i32_35 : BitVec 32 := 0#32
  let v89 : BitVec 1 := Scalar.cmpi .slt c8_i32_31 c0_i32_35
  let v90 : BitVec 32 := Scalar.extui v89
  let v91 : BitVec 32 := Scalar.subi v88 v90
  let v92 : BitVec 1 := Scalar.cmpi .ne v86 v91
  let v93 : BitVec 32 := Scalar.remsi v80 c8_i32_31
  let c0_i32_36 : BitVec 32 := 0#32
  let v94 : BitVec 1 := Scalar.cmpi .ne v93 c0_i32_36
  let v95 : BitVec 1 := Scalar.andi v92 v94
  let v81 : BitVec 32 := Scalar.divsi v80 c8_i32_31
  let c1_i32_37 : BitVec 32 := 1#32
  let v96 : BitVec 32 := Scalar.subi v81 c1_i32_37
  let v97 : BitVec 32 := Scalar.select v95 v96 v81
  let c0_i32_38 : BitVec 32 := 0#32
  let v98 : BitVec 32 := Scalar.select v77 v97 c0_i32_38
  let v101 : BitVec 32 := Scalar.addi v50 v98
  let v128 : BitVec 1 := Scalar.cmpi .sgt v104 v103
  let c0_i32_43 : BitVec 32 := 0#32
  let v110 : BitVec 1 := Scalar.cmpi .sgt v106 c0_i32_43
  let v111 : BitVec 32 := Scalar.extui v110
  let c0_i32_44 : BitVec 32 := 0#32
  let v112 : BitVec 1 := Scalar.cmpi .slt v106 c0_i32_44
  let v113 : BitVec 32 := Scalar.extui v112
  let v114 : BitVec 32 := Scalar.subi v111 v113
  let c8_i32_42 : BitVec 32 := 8#32
  let c0_i32_45 : BitVec 32 := 0#32
  let v115 : BitVec 1 := Scalar.cmpi .sgt c8_i32_42 c0_i32_45
  let v116 : BitVec 32 := Scalar.extui v115
  let c0_i32_46 : BitVec 32 := 0#32
  let v117 : BitVec 1 := Scalar.cmpi .slt c8_i32_42 c0_i32_46
  let v118 : BitVec 32 := Scalar.extui v117
  let v119 : BitVec 32 := Scalar.subi v116 v118
  let v120 : BitVec 1 := Scalar.cmpi .ne v114 v119
  let v121 : BitVec 32 := Scalar.remsi v106 c8_i32_42
  let c0_i32_47 : BitVec 32 := 0#32
  let v122 : BitVec 1 := Scalar.cmpi .ne v121 c0_i32_47
  let v123 : BitVec 1 := Scalar.andi v120 v122
  let v109 : BitVec 32 := Scalar.divsi v106 c8_i32_42
  let c1_i32_48 : BitVec 32 := 1#32
  let v124 : BitVec 32 := Scalar.subi v109 c1_i32_48
  let v125 : BitVec 32 := Scalar.select v123 v124 v109
  let c8_i32_49 : BitVec 32 := 8#32
  let v126 : BitVec 32 := Scalar.muli v125 c8_i32_49
  let v127 : BitVec 32 := Scalar.subi v106 v126
  let v129 : BitVec 32 := Scalar.addi v127 v108
  let c8_i32_50 : BitVec 32 := 8#32
  let v130 : BitVec 32 := Scalar.addi v129 c8_i32_50
  let c1_i32_51 : BitVec 32 := 1#32
  let v131 : BitVec 32 := Scalar.subi v130 c1_i32_51
  let c0_i32_53 : BitVec 32 := 0#32
  let v133 : BitVec 1 := Scalar.cmpi .sgt v131 c0_i32_53
  let v134 : BitVec 32 := Scalar.extui v133
  let c0_i32_54 : BitVec 32 := 0#32
  let v135 : BitVec 1 := Scalar.cmpi .slt v131 c0_i32_54
  let v136 : BitVec 32 := Scalar.extui v135
  let v137 : BitVec 32 := Scalar.subi v134 v136
  let c8_i32_52 : BitVec 32 := 8#32
  let c0_i32_55 : BitVec 32 := 0#32
  let v138 : BitVec 1 := Scalar.cmpi .sgt c8_i32_52 c0_i32_55
  let v139 : BitVec 32 := Scalar.extui v138
  let c0_i32_56 : BitVec 32 := 0#32
  let v140 : BitVec 1 := Scalar.cmpi .slt c8_i32_52 c0_i32_56
  let v141 : BitVec 32 := Scalar.extui v140
  let v142 : BitVec 32 := Scalar.subi v139 v141
  let v143 : BitVec 1 := Scalar.cmpi .ne v137 v142
  let v144 : BitVec 32 := Scalar.remsi v131 c8_i32_52
  let c0_i32_57 : BitVec 32 := 0#32
  let v145 : BitVec 1 := Scalar.cmpi .ne v144 c0_i32_57
  let v146 : BitVec 1 := Scalar.andi v143 v145
  let v132 : BitVec 32 := Scalar.divsi v131 c8_i32_52
  let c1_i32_58 : BitVec 32 := 1#32
  let v147 : BitVec 32 := Scalar.subi v132 c1_i32_58
  let v148 : BitVec 32 := Scalar.select v146 v147 v132
  let c0_i32_59 : BitVec 32 := 0#32
  let v149 : BitVec 32 := Scalar.select v128 v148 c0_i32_59
  let v152 : BitVec 32 := Scalar.addi v101 v149
  let v179 : BitVec 1 := Scalar.cmpi .sgt v155 v154
  let c0_i32_64 : BitVec 32 := 0#32
  let v161 : BitVec 1 := Scalar.cmpi .sgt v157 c0_i32_64
  let v162 : BitVec 32 := Scalar.extui v161
  let c0_i32_65 : BitVec 32 := 0#32
  let v163 : BitVec 1 := Scalar.cmpi .slt v157 c0_i32_65
  let v164 : BitVec 32 := Scalar.extui v163
  let v165 : BitVec 32 := Scalar.subi v162 v164
  let c8_i32_63 : BitVec 32 := 8#32
  let c0_i32_66 : BitVec 32 := 0#32
  let v166 : BitVec 1 := Scalar.cmpi .sgt c8_i32_63 c0_i32_66
  let v167 : BitVec 32 := Scalar.extui v166
  let c0_i32_67 : BitVec 32 := 0#32
  let v168 : BitVec 1 := Scalar.cmpi .slt c8_i32_63 c0_i32_67
  let v169 : BitVec 32 := Scalar.extui v168
  let v170 : BitVec 32 := Scalar.subi v167 v169
  let v171 : BitVec 1 := Scalar.cmpi .ne v165 v170
  let v172 : BitVec 32 := Scalar.remsi v157 c8_i32_63
  let c0_i32_68 : BitVec 32 := 0#32
  let v173 : BitVec 1 := Scalar.cmpi .ne v172 c0_i32_68
  let v174 : BitVec 1 := Scalar.andi v171 v173
  let v160 : BitVec 32 := Scalar.divsi v157 c8_i32_63
  let c1_i32_69 : BitVec 32 := 1#32
  let v175 : BitVec 32 := Scalar.subi v160 c1_i32_69
  let v176 : BitVec 32 := Scalar.select v174 v175 v160
  let c8_i32_70 : BitVec 32 := 8#32
  let v177 : BitVec 32 := Scalar.muli v176 c8_i32_70
  let v178 : BitVec 32 := Scalar.subi v157 v177
  let v180 : BitVec 32 := Scalar.addi v178 v159
  let c8_i32_71 : BitVec 32 := 8#32
  let v181 : BitVec 32 := Scalar.addi v180 c8_i32_71
  let c1_i32_72 : BitVec 32 := 1#32
  let v182 : BitVec 32 := Scalar.subi v181 c1_i32_72
  let c0_i32_74 : BitVec 32 := 0#32
  let v184 : BitVec 1 := Scalar.cmpi .sgt v182 c0_i32_74
  let v185 : BitVec 32 := Scalar.extui v184
  let c0_i32_75 : BitVec 32 := 0#32
  let v186 : BitVec 1 := Scalar.cmpi .slt v182 c0_i32_75
  let v187 : BitVec 32 := Scalar.extui v186
  let v188 : BitVec 32 := Scalar.subi v185 v187
  let c8_i32_73 : BitVec 32 := 8#32
  let c0_i32_76 : BitVec 32 := 0#32
  let v189 : BitVec 1 := Scalar.cmpi .sgt c8_i32_73 c0_i32_76
  let v190 : BitVec 32 := Scalar.extui v189
  let c0_i32_77 : BitVec 32 := 0#32
  let v191 : BitVec 1 := Scalar.cmpi .slt c8_i32_73 c0_i32_77
  let v192 : BitVec 32 := Scalar.extui v191
  let v193 : BitVec 32 := Scalar.subi v190 v192
  let v194 : BitVec 1 := Scalar.cmpi .ne v188 v193
  let v195 : BitVec 32 := Scalar.remsi v182 c8_i32_73
  let c0_i32_78 : BitVec 32 := 0#32
  let v196 : BitVec 1 := Scalar.cmpi .ne v195 c0_i32_78
  let v197 : BitVec 1 := Scalar.andi v194 v196
  let v183 : BitVec 32 := Scalar.divsi v182 c8_i32_73
  let c1_i32_79 : BitVec 32 := 1#32
  let v198 : BitVec 32 := Scalar.subi v183 c1_i32_79
  let v199 : BitVec 32 := Scalar.select v197 v198 v183
  let c0_i32_80 : BitVec 32 := 0#32
  let v200 : BitVec 32 := Scalar.select v179 v199 c0_i32_80
  let v203 : BitVec 32 := Scalar.addi v152 v200
  let v230 : BitVec 1 := Scalar.cmpi .sgt v206 v205
  let c0_i32_85 : BitVec 32 := 0#32
  let v212 : BitVec 1 := Scalar.cmpi .sgt v208 c0_i32_85
  let v213 : BitVec 32 := Scalar.extui v212
  let c0_i32_86 : BitVec 32 := 0#32
  let v214 : BitVec 1 := Scalar.cmpi .slt v208 c0_i32_86
  let v215 : BitVec 32 := Scalar.extui v214
  let v216 : BitVec 32 := Scalar.subi v213 v215
  let c8_i32_84 : BitVec 32 := 8#32
  let c0_i32_87 : BitVec 32 := 0#32
  let v217 : BitVec 1 := Scalar.cmpi .sgt c8_i32_84 c0_i32_87
  let v218 : BitVec 32 := Scalar.extui v217
  let c0_i32_88 : BitVec 32 := 0#32
  let v219 : BitVec 1 := Scalar.cmpi .slt c8_i32_84 c0_i32_88
  let v220 : BitVec 32 := Scalar.extui v219
  let v221 : BitVec 32 := Scalar.subi v218 v220
  let v222 : BitVec 1 := Scalar.cmpi .ne v216 v221
  let v223 : BitVec 32 := Scalar.remsi v208 c8_i32_84
  let c0_i32_89 : BitVec 32 := 0#32
  let v224 : BitVec 1 := Scalar.cmpi .ne v223 c0_i32_89
  let v225 : BitVec 1 := Scalar.andi v222 v224
  let v211 : BitVec 32 := Scalar.divsi v208 c8_i32_84
  let c1_i32_90 : BitVec 32 := 1#32
  let v226 : BitVec 32 := Scalar.subi v211 c1_i32_90
  let v227 : BitVec 32 := Scalar.select v225 v226 v211
  let c8_i32_91 : BitVec 32 := 8#32
  let v228 : BitVec 32 := Scalar.muli v227 c8_i32_91
  let v229 : BitVec 32 := Scalar.subi v208 v228
  let v231 : BitVec 32 := Scalar.addi v229 v210
  let c8_i32_92 : BitVec 32 := 8#32
  let v232 : BitVec 32 := Scalar.addi v231 c8_i32_92
  let c1_i32_93 : BitVec 32 := 1#32
  let v233 : BitVec 32 := Scalar.subi v232 c1_i32_93
  let c0_i32_95 : BitVec 32 := 0#32
  let v235 : BitVec 1 := Scalar.cmpi .sgt v233 c0_i32_95
  let v236 : BitVec 32 := Scalar.extui v235
  let c0_i32_96 : BitVec 32 := 0#32
  let v237 : BitVec 1 := Scalar.cmpi .slt v233 c0_i32_96
  let v238 : BitVec 32 := Scalar.extui v237
  let v239 : BitVec 32 := Scalar.subi v236 v238
  let c8_i32_94 : BitVec 32 := 8#32
  let c0_i32_97 : BitVec 32 := 0#32
  let v240 : BitVec 1 := Scalar.cmpi .sgt c8_i32_94 c0_i32_97
  let v241 : BitVec 32 := Scalar.extui v240
  let c0_i32_98 : BitVec 32 := 0#32
  let v242 : BitVec 1 := Scalar.cmpi .slt c8_i32_94 c0_i32_98
  let v243 : BitVec 32 := Scalar.extui v242
  let v244 : BitVec 32 := Scalar.subi v241 v243
  let v245 : BitVec 1 := Scalar.cmpi .ne v239 v244
  let v246 : BitVec 32 := Scalar.remsi v233 c8_i32_94
  let c0_i32_99 : BitVec 32 := 0#32
  let v247 : BitVec 1 := Scalar.cmpi .ne v246 c0_i32_99
  let v248 : BitVec 1 := Scalar.andi v245 v247
  let v234 : BitVec 32 := Scalar.divsi v233 c8_i32_94
  let c1_i32_100 : BitVec 32 := 1#32
  let v249 : BitVec 32 := Scalar.subi v234 c1_i32_100
  let v250 : BitVec 32 := Scalar.select v248 v249 v234
  let c0_i32_101 : BitVec 32 := 0#32
  let v251 : BitVec 32 := Scalar.select v230 v250 c0_i32_101
  let v254 : BitVec 32 := Scalar.addi v203 v251
  let c8_i32_209 : BitVec 32 := 8#32
  let v457 : BitVec 32 := Scalar.muli v254 c8_i32_209
  v457
def k0_off34 (i : grid0.Coords) : Fin 2 → Nat :=
  let arg0 : BitVec 32 := BitVec.ofNat 32 (i 0).val
  let c2_i32_206 : BitVec 32 := 2#32
  let v450 : BitVec 32 := Scalar.remsi arg0 c2_i32_206
  let c5_i32_210 : BitVec 32 := 5#32
  ![v450.toNat, 5]
def k0_off35 (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) (v256 : BitVec 32) (v257 : BitVec 32) (v259 : BitVec 32) (v261 : BitVec 32) : (Fin 3 → Nat) × (Fin 3 → Nat) :=
  let arg0 : BitVec 32 := BitVec.ofNat 32 (i 0).val
  let c2_i32_206 : BitVec 32 := 2#32
  let v450 : BitVec 32 := Scalar.remsi arg0 c2_i32_206
  let c0_i32_18 : BitVec 32 := 0#32
  let v26 : BitVec 1 := Scalar.cmpi .sgt v2 v1
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let v50 : BitVec 32 := Scalar.addi c0_i32_18 v47
  let v77 : BitVec 1 := Scalar.cmpi .sgt v53 v52
  let c0_i32_22 : BitVec 32 := 0#32
  let v59 : BitVec 1 := Scalar.cmpi .sgt v55 c0_i32_22
  let v60 : BitVec 32 := Scalar.extui v59
  let c0_i32_23 : BitVec 32 := 0#32
  let v61 : BitVec 1 := Scalar.cmpi .slt v55 c0_i32_23
  let v62 : BitVec 32 := Scalar.extui v61
  let v63 : BitVec 32 := Scalar.subi v60 v62
  let c8_i32_21 : BitVec 32 := 8#32
  let c0_i32_24 : BitVec 32 := 0#32
  let v64 : BitVec 1 := Scalar.cmpi .sgt c8_i32_21 c0_i32_24
  let v65 : BitVec 32 := Scalar.extui v64
  let c0_i32_25 : BitVec 32 := 0#32
  let v66 : BitVec 1 := Scalar.cmpi .slt c8_i32_21 c0_i32_25
  let v67 : BitVec 32 := Scalar.extui v66
  let v68 : BitVec 32 := Scalar.subi v65 v67
  let v69 : BitVec 1 := Scalar.cmpi .ne v63 v68
  let v70 : BitVec 32 := Scalar.remsi v55 c8_i32_21
  let c0_i32_26 : BitVec 32 := 0#32
  let v71 : BitVec 1 := Scalar.cmpi .ne v70 c0_i32_26
  let v72 : BitVec 1 := Scalar.andi v69 v71
  let v58 : BitVec 32 := Scalar.divsi v55 c8_i32_21
  let c1_i32_27 : BitVec 32 := 1#32
  let v73 : BitVec 32 := Scalar.subi v58 c1_i32_27
  let v74 : BitVec 32 := Scalar.select v72 v73 v58
  let c8_i32_28 : BitVec 32 := 8#32
  let v75 : BitVec 32 := Scalar.muli v74 c8_i32_28
  let v76 : BitVec 32 := Scalar.subi v55 v75
  let v78 : BitVec 32 := Scalar.addi v76 v57
  let c8_i32_29 : BitVec 32 := 8#32
  let v79 : BitVec 32 := Scalar.addi v78 c8_i32_29
  let c1_i32_30 : BitVec 32 := 1#32
  let v80 : BitVec 32 := Scalar.subi v79 c1_i32_30
  let c0_i32_32 : BitVec 32 := 0#32
  let v82 : BitVec 1 := Scalar.cmpi .sgt v80 c0_i32_32
  let v83 : BitVec 32 := Scalar.extui v82
  let c0_i32_33 : BitVec 32 := 0#32
  let v84 : BitVec 1 := Scalar.cmpi .slt v80 c0_i32_33
  let v85 : BitVec 32 := Scalar.extui v84
  let v86 : BitVec 32 := Scalar.subi v83 v85
  let c8_i32_31 : BitVec 32 := 8#32
  let c0_i32_34 : BitVec 32 := 0#32
  let v87 : BitVec 1 := Scalar.cmpi .sgt c8_i32_31 c0_i32_34
  let v88 : BitVec 32 := Scalar.extui v87
  let c0_i32_35 : BitVec 32 := 0#32
  let v89 : BitVec 1 := Scalar.cmpi .slt c8_i32_31 c0_i32_35
  let v90 : BitVec 32 := Scalar.extui v89
  let v91 : BitVec 32 := Scalar.subi v88 v90
  let v92 : BitVec 1 := Scalar.cmpi .ne v86 v91
  let v93 : BitVec 32 := Scalar.remsi v80 c8_i32_31
  let c0_i32_36 : BitVec 32 := 0#32
  let v94 : BitVec 1 := Scalar.cmpi .ne v93 c0_i32_36
  let v95 : BitVec 1 := Scalar.andi v92 v94
  let v81 : BitVec 32 := Scalar.divsi v80 c8_i32_31
  let c1_i32_37 : BitVec 32 := 1#32
  let v96 : BitVec 32 := Scalar.subi v81 c1_i32_37
  let v97 : BitVec 32 := Scalar.select v95 v96 v81
  let c0_i32_38 : BitVec 32 := 0#32
  let v98 : BitVec 32 := Scalar.select v77 v97 c0_i32_38
  let v101 : BitVec 32 := Scalar.addi v50 v98
  let v128 : BitVec 1 := Scalar.cmpi .sgt v104 v103
  let c0_i32_43 : BitVec 32 := 0#32
  let v110 : BitVec 1 := Scalar.cmpi .sgt v106 c0_i32_43
  let v111 : BitVec 32 := Scalar.extui v110
  let c0_i32_44 : BitVec 32 := 0#32
  let v112 : BitVec 1 := Scalar.cmpi .slt v106 c0_i32_44
  let v113 : BitVec 32 := Scalar.extui v112
  let v114 : BitVec 32 := Scalar.subi v111 v113
  let c8_i32_42 : BitVec 32 := 8#32
  let c0_i32_45 : BitVec 32 := 0#32
  let v115 : BitVec 1 := Scalar.cmpi .sgt c8_i32_42 c0_i32_45
  let v116 : BitVec 32 := Scalar.extui v115
  let c0_i32_46 : BitVec 32 := 0#32
  let v117 : BitVec 1 := Scalar.cmpi .slt c8_i32_42 c0_i32_46
  let v118 : BitVec 32 := Scalar.extui v117
  let v119 : BitVec 32 := Scalar.subi v116 v118
  let v120 : BitVec 1 := Scalar.cmpi .ne v114 v119
  let v121 : BitVec 32 := Scalar.remsi v106 c8_i32_42
  let c0_i32_47 : BitVec 32 := 0#32
  let v122 : BitVec 1 := Scalar.cmpi .ne v121 c0_i32_47
  let v123 : BitVec 1 := Scalar.andi v120 v122
  let v109 : BitVec 32 := Scalar.divsi v106 c8_i32_42
  let c1_i32_48 : BitVec 32 := 1#32
  let v124 : BitVec 32 := Scalar.subi v109 c1_i32_48
  let v125 : BitVec 32 := Scalar.select v123 v124 v109
  let c8_i32_49 : BitVec 32 := 8#32
  let v126 : BitVec 32 := Scalar.muli v125 c8_i32_49
  let v127 : BitVec 32 := Scalar.subi v106 v126
  let v129 : BitVec 32 := Scalar.addi v127 v108
  let c8_i32_50 : BitVec 32 := 8#32
  let v130 : BitVec 32 := Scalar.addi v129 c8_i32_50
  let c1_i32_51 : BitVec 32 := 1#32
  let v131 : BitVec 32 := Scalar.subi v130 c1_i32_51
  let c0_i32_53 : BitVec 32 := 0#32
  let v133 : BitVec 1 := Scalar.cmpi .sgt v131 c0_i32_53
  let v134 : BitVec 32 := Scalar.extui v133
  let c0_i32_54 : BitVec 32 := 0#32
  let v135 : BitVec 1 := Scalar.cmpi .slt v131 c0_i32_54
  let v136 : BitVec 32 := Scalar.extui v135
  let v137 : BitVec 32 := Scalar.subi v134 v136
  let c8_i32_52 : BitVec 32 := 8#32
  let c0_i32_55 : BitVec 32 := 0#32
  let v138 : BitVec 1 := Scalar.cmpi .sgt c8_i32_52 c0_i32_55
  let v139 : BitVec 32 := Scalar.extui v138
  let c0_i32_56 : BitVec 32 := 0#32
  let v140 : BitVec 1 := Scalar.cmpi .slt c8_i32_52 c0_i32_56
  let v141 : BitVec 32 := Scalar.extui v140
  let v142 : BitVec 32 := Scalar.subi v139 v141
  let v143 : BitVec 1 := Scalar.cmpi .ne v137 v142
  let v144 : BitVec 32 := Scalar.remsi v131 c8_i32_52
  let c0_i32_57 : BitVec 32 := 0#32
  let v145 : BitVec 1 := Scalar.cmpi .ne v144 c0_i32_57
  let v146 : BitVec 1 := Scalar.andi v143 v145
  let v132 : BitVec 32 := Scalar.divsi v131 c8_i32_52
  let c1_i32_58 : BitVec 32 := 1#32
  let v147 : BitVec 32 := Scalar.subi v132 c1_i32_58
  let v148 : BitVec 32 := Scalar.select v146 v147 v132
  let c0_i32_59 : BitVec 32 := 0#32
  let v149 : BitVec 32 := Scalar.select v128 v148 c0_i32_59
  let v152 : BitVec 32 := Scalar.addi v101 v149
  let v179 : BitVec 1 := Scalar.cmpi .sgt v155 v154
  let c0_i32_64 : BitVec 32 := 0#32
  let v161 : BitVec 1 := Scalar.cmpi .sgt v157 c0_i32_64
  let v162 : BitVec 32 := Scalar.extui v161
  let c0_i32_65 : BitVec 32 := 0#32
  let v163 : BitVec 1 := Scalar.cmpi .slt v157 c0_i32_65
  let v164 : BitVec 32 := Scalar.extui v163
  let v165 : BitVec 32 := Scalar.subi v162 v164
  let c8_i32_63 : BitVec 32 := 8#32
  let c0_i32_66 : BitVec 32 := 0#32
  let v166 : BitVec 1 := Scalar.cmpi .sgt c8_i32_63 c0_i32_66
  let v167 : BitVec 32 := Scalar.extui v166
  let c0_i32_67 : BitVec 32 := 0#32
  let v168 : BitVec 1 := Scalar.cmpi .slt c8_i32_63 c0_i32_67
  let v169 : BitVec 32 := Scalar.extui v168
  let v170 : BitVec 32 := Scalar.subi v167 v169
  let v171 : BitVec 1 := Scalar.cmpi .ne v165 v170
  let v172 : BitVec 32 := Scalar.remsi v157 c8_i32_63
  let c0_i32_68 : BitVec 32 := 0#32
  let v173 : BitVec 1 := Scalar.cmpi .ne v172 c0_i32_68
  let v174 : BitVec 1 := Scalar.andi v171 v173
  let v160 : BitVec 32 := Scalar.divsi v157 c8_i32_63
  let c1_i32_69 : BitVec 32 := 1#32
  let v175 : BitVec 32 := Scalar.subi v160 c1_i32_69
  let v176 : BitVec 32 := Scalar.select v174 v175 v160
  let c8_i32_70 : BitVec 32 := 8#32
  let v177 : BitVec 32 := Scalar.muli v176 c8_i32_70
  let v178 : BitVec 32 := Scalar.subi v157 v177
  let v180 : BitVec 32 := Scalar.addi v178 v159
  let c8_i32_71 : BitVec 32 := 8#32
  let v181 : BitVec 32 := Scalar.addi v180 c8_i32_71
  let c1_i32_72 : BitVec 32 := 1#32
  let v182 : BitVec 32 := Scalar.subi v181 c1_i32_72
  let c0_i32_74 : BitVec 32 := 0#32
  let v184 : BitVec 1 := Scalar.cmpi .sgt v182 c0_i32_74
  let v185 : BitVec 32 := Scalar.extui v184
  let c0_i32_75 : BitVec 32 := 0#32
  let v186 : BitVec 1 := Scalar.cmpi .slt v182 c0_i32_75
  let v187 : BitVec 32 := Scalar.extui v186
  let v188 : BitVec 32 := Scalar.subi v185 v187
  let c8_i32_73 : BitVec 32 := 8#32
  let c0_i32_76 : BitVec 32 := 0#32
  let v189 : BitVec 1 := Scalar.cmpi .sgt c8_i32_73 c0_i32_76
  let v190 : BitVec 32 := Scalar.extui v189
  let c0_i32_77 : BitVec 32 := 0#32
  let v191 : BitVec 1 := Scalar.cmpi .slt c8_i32_73 c0_i32_77
  let v192 : BitVec 32 := Scalar.extui v191
  let v193 : BitVec 32 := Scalar.subi v190 v192
  let v194 : BitVec 1 := Scalar.cmpi .ne v188 v193
  let v195 : BitVec 32 := Scalar.remsi v182 c8_i32_73
  let c0_i32_78 : BitVec 32 := 0#32
  let v196 : BitVec 1 := Scalar.cmpi .ne v195 c0_i32_78
  let v197 : BitVec 1 := Scalar.andi v194 v196
  let v183 : BitVec 32 := Scalar.divsi v182 c8_i32_73
  let c1_i32_79 : BitVec 32 := 1#32
  let v198 : BitVec 32 := Scalar.subi v183 c1_i32_79
  let v199 : BitVec 32 := Scalar.select v197 v198 v183
  let c0_i32_80 : BitVec 32 := 0#32
  let v200 : BitVec 32 := Scalar.select v179 v199 c0_i32_80
  let v203 : BitVec 32 := Scalar.addi v152 v200
  let v230 : BitVec 1 := Scalar.cmpi .sgt v206 v205
  let c0_i32_85 : BitVec 32 := 0#32
  let v212 : BitVec 1 := Scalar.cmpi .sgt v208 c0_i32_85
  let v213 : BitVec 32 := Scalar.extui v212
  let c0_i32_86 : BitVec 32 := 0#32
  let v214 : BitVec 1 := Scalar.cmpi .slt v208 c0_i32_86
  let v215 : BitVec 32 := Scalar.extui v214
  let v216 : BitVec 32 := Scalar.subi v213 v215
  let c8_i32_84 : BitVec 32 := 8#32
  let c0_i32_87 : BitVec 32 := 0#32
  let v217 : BitVec 1 := Scalar.cmpi .sgt c8_i32_84 c0_i32_87
  let v218 : BitVec 32 := Scalar.extui v217
  let c0_i32_88 : BitVec 32 := 0#32
  let v219 : BitVec 1 := Scalar.cmpi .slt c8_i32_84 c0_i32_88
  let v220 : BitVec 32 := Scalar.extui v219
  let v221 : BitVec 32 := Scalar.subi v218 v220
  let v222 : BitVec 1 := Scalar.cmpi .ne v216 v221
  let v223 : BitVec 32 := Scalar.remsi v208 c8_i32_84
  let c0_i32_89 : BitVec 32 := 0#32
  let v224 : BitVec 1 := Scalar.cmpi .ne v223 c0_i32_89
  let v225 : BitVec 1 := Scalar.andi v222 v224
  let v211 : BitVec 32 := Scalar.divsi v208 c8_i32_84
  let c1_i32_90 : BitVec 32 := 1#32
  let v226 : BitVec 32 := Scalar.subi v211 c1_i32_90
  let v227 : BitVec 32 := Scalar.select v225 v226 v211
  let c8_i32_91 : BitVec 32 := 8#32
  let v228 : BitVec 32 := Scalar.muli v227 c8_i32_91
  let v229 : BitVec 32 := Scalar.subi v208 v228
  let v231 : BitVec 32 := Scalar.addi v229 v210
  let c8_i32_92 : BitVec 32 := 8#32
  let v232 : BitVec 32 := Scalar.addi v231 c8_i32_92
  let c1_i32_93 : BitVec 32 := 1#32
  let v233 : BitVec 32 := Scalar.subi v232 c1_i32_93
  let c0_i32_95 : BitVec 32 := 0#32
  let v235 : BitVec 1 := Scalar.cmpi .sgt v233 c0_i32_95
  let v236 : BitVec 32 := Scalar.extui v235
  let c0_i32_96 : BitVec 32 := 0#32
  let v237 : BitVec 1 := Scalar.cmpi .slt v233 c0_i32_96
  let v238 : BitVec 32 := Scalar.extui v237
  let v239 : BitVec 32 := Scalar.subi v236 v238
  let c8_i32_94 : BitVec 32 := 8#32
  let c0_i32_97 : BitVec 32 := 0#32
  let v240 : BitVec 1 := Scalar.cmpi .sgt c8_i32_94 c0_i32_97
  let v241 : BitVec 32 := Scalar.extui v240
  let c0_i32_98 : BitVec 32 := 0#32
  let v242 : BitVec 1 := Scalar.cmpi .slt c8_i32_94 c0_i32_98
  let v243 : BitVec 32 := Scalar.extui v242
  let v244 : BitVec 32 := Scalar.subi v241 v243
  let v245 : BitVec 1 := Scalar.cmpi .ne v239 v244
  let v246 : BitVec 32 := Scalar.remsi v233 c8_i32_94
  let c0_i32_99 : BitVec 32 := 0#32
  let v247 : BitVec 1 := Scalar.cmpi .ne v246 c0_i32_99
  let v248 : BitVec 1 := Scalar.andi v245 v247
  let v234 : BitVec 32 := Scalar.divsi v233 c8_i32_94
  let c1_i32_100 : BitVec 32 := 1#32
  let v249 : BitVec 32 := Scalar.subi v234 c1_i32_100
  let v250 : BitVec 32 := Scalar.select v248 v249 v234
  let c0_i32_101 : BitVec 32 := 0#32
  let v251 : BitVec 32 := Scalar.select v230 v250 c0_i32_101
  let v254 : BitVec 32 := Scalar.addi v203 v251
  let c8_i32_209 : BitVec 32 := 8#32
  let v457 : BitVec 32 := Scalar.muli v254 c8_i32_209
  let v458 : BitVec 32 := v457
  let c0_i32_211 : BitVec 32 := 0#32
  let v281 : BitVec 1 := Scalar.cmpi .sgt v257 v256
  let c0_i32_106 : BitVec 32 := 0#32
  let v263 : BitVec 1 := Scalar.cmpi .sgt v259 c0_i32_106
  let v264 : BitVec 32 := Scalar.extui v263
  let c0_i32_107 : BitVec 32 := 0#32
  let v265 : BitVec 1 := Scalar.cmpi .slt v259 c0_i32_107
  let v266 : BitVec 32 := Scalar.extui v265
  let v267 : BitVec 32 := Scalar.subi v264 v266
  let c8_i32_105 : BitVec 32 := 8#32
  let c0_i32_108 : BitVec 32 := 0#32
  let v268 : BitVec 1 := Scalar.cmpi .sgt c8_i32_105 c0_i32_108
  let v269 : BitVec 32 := Scalar.extui v268
  let c0_i32_109 : BitVec 32 := 0#32
  let v270 : BitVec 1 := Scalar.cmpi .slt c8_i32_105 c0_i32_109
  let v271 : BitVec 32 := Scalar.extui v270
  let v272 : BitVec 32 := Scalar.subi v269 v271
  let v273 : BitVec 1 := Scalar.cmpi .ne v267 v272
  let v274 : BitVec 32 := Scalar.remsi v259 c8_i32_105
  let c0_i32_110 : BitVec 32 := 0#32
  let v275 : BitVec 1 := Scalar.cmpi .ne v274 c0_i32_110
  let v276 : BitVec 1 := Scalar.andi v273 v275
  let v262 : BitVec 32 := Scalar.divsi v259 c8_i32_105
  let c1_i32_111 : BitVec 32 := 1#32
  let v277 : BitVec 32 := Scalar.subi v262 c1_i32_111
  let v278 : BitVec 32 := Scalar.select v276 v277 v262
  let c8_i32_112 : BitVec 32 := 8#32
  let v279 : BitVec 32 := Scalar.muli v278 c8_i32_112
  let v280 : BitVec 32 := Scalar.subi v259 v279
  let v282 : BitVec 32 := Scalar.addi v280 v261
  let c8_i32_113 : BitVec 32 := 8#32
  let v283 : BitVec 32 := Scalar.addi v282 c8_i32_113
  let c1_i32_114 : BitVec 32 := 1#32
  let v284 : BitVec 32 := Scalar.subi v283 c1_i32_114
  let c0_i32_116 : BitVec 32 := 0#32
  let v286 : BitVec 1 := Scalar.cmpi .sgt v284 c0_i32_116
  let v287 : BitVec 32 := Scalar.extui v286
  let c0_i32_117 : BitVec 32 := 0#32
  let v288 : BitVec 1 := Scalar.cmpi .slt v284 c0_i32_117
  let v289 : BitVec 32 := Scalar.extui v288
  let v290 : BitVec 32 := Scalar.subi v287 v289
  let c8_i32_115 : BitVec 32 := 8#32
  let c0_i32_118 : BitVec 32 := 0#32
  let v291 : BitVec 1 := Scalar.cmpi .sgt c8_i32_115 c0_i32_118
  let v292 : BitVec 32 := Scalar.extui v291
  let c0_i32_119 : BitVec 32 := 0#32
  let v293 : BitVec 1 := Scalar.cmpi .slt c8_i32_115 c0_i32_119
  let v294 : BitVec 32 := Scalar.extui v293
  let v295 : BitVec 32 := Scalar.subi v292 v294
  let v296 : BitVec 1 := Scalar.cmpi .ne v290 v295
  let v297 : BitVec 32 := Scalar.remsi v284 c8_i32_115
  let c0_i32_120 : BitVec 32 := 0#32
  let v298 : BitVec 1 := Scalar.cmpi .ne v297 c0_i32_120
  let v299 : BitVec 1 := Scalar.andi v296 v298
  let v285 : BitVec 32 := Scalar.divsi v284 c8_i32_115
  let c1_i32_121 : BitVec 32 := 1#32
  let v300 : BitVec 32 := Scalar.subi v285 c1_i32_121
  let v301 : BitVec 32 := Scalar.select v299 v300 v285
  let c0_i32_122 : BitVec 32 := 0#32
  let v302 : BitVec 32 := Scalar.select v281 v301 c0_i32_122
  let c8_i32_207 : BitVec 32 := 8#32
  let v451 : BitVec 32 := Scalar.muli v302 c8_i32_207
  let v452 : BitVec 32 := v451
  ⟨![v450.toNat, v458.toNat, 0], ![1, v452.toNat, 512]⟩
def k0_sz6 (v256 : BitVec 32) (v257 : BitVec 32) (v259 : BitVec 32) (v261 : BitVec 32) : Fin 2 → Nat :=
  let v281 : BitVec 1 := Scalar.cmpi .sgt v257 v256
  let c0_i32_106 : BitVec 32 := 0#32
  let v263 : BitVec 1 := Scalar.cmpi .sgt v259 c0_i32_106
  let v264 : BitVec 32 := Scalar.extui v263
  let c0_i32_107 : BitVec 32 := 0#32
  let v265 : BitVec 1 := Scalar.cmpi .slt v259 c0_i32_107
  let v266 : BitVec 32 := Scalar.extui v265
  let v267 : BitVec 32 := Scalar.subi v264 v266
  let c8_i32_105 : BitVec 32 := 8#32
  let c0_i32_108 : BitVec 32 := 0#32
  let v268 : BitVec 1 := Scalar.cmpi .sgt c8_i32_105 c0_i32_108
  let v269 : BitVec 32 := Scalar.extui v268
  let c0_i32_109 : BitVec 32 := 0#32
  let v270 : BitVec 1 := Scalar.cmpi .slt c8_i32_105 c0_i32_109
  let v271 : BitVec 32 := Scalar.extui v270
  let v272 : BitVec 32 := Scalar.subi v269 v271
  let v273 : BitVec 1 := Scalar.cmpi .ne v267 v272
  let v274 : BitVec 32 := Scalar.remsi v259 c8_i32_105
  let c0_i32_110 : BitVec 32 := 0#32
  let v275 : BitVec 1 := Scalar.cmpi .ne v274 c0_i32_110
  let v276 : BitVec 1 := Scalar.andi v273 v275
  let v262 : BitVec 32 := Scalar.divsi v259 c8_i32_105
  let c1_i32_111 : BitVec 32 := 1#32
  let v277 : BitVec 32 := Scalar.subi v262 c1_i32_111
  let v278 : BitVec 32 := Scalar.select v276 v277 v262
  let c8_i32_112 : BitVec 32 := 8#32
  let v279 : BitVec 32 := Scalar.muli v278 c8_i32_112
  let v280 : BitVec 32 := Scalar.subi v259 v279
  let v282 : BitVec 32 := Scalar.addi v280 v261
  let c8_i32_113 : BitVec 32 := 8#32
  let v283 : BitVec 32 := Scalar.addi v282 c8_i32_113
  let c1_i32_114 : BitVec 32 := 1#32
  let v284 : BitVec 32 := Scalar.subi v283 c1_i32_114
  let c0_i32_116 : BitVec 32 := 0#32
  let v286 : BitVec 1 := Scalar.cmpi .sgt v284 c0_i32_116
  let v287 : BitVec 32 := Scalar.extui v286
  let c0_i32_117 : BitVec 32 := 0#32
  let v288 : BitVec 1 := Scalar.cmpi .slt v284 c0_i32_117
  let v289 : BitVec 32 := Scalar.extui v288
  let v290 : BitVec 32 := Scalar.subi v287 v289
  let c8_i32_115 : BitVec 32 := 8#32
  let c0_i32_118 : BitVec 32 := 0#32
  let v291 : BitVec 1 := Scalar.cmpi .sgt c8_i32_115 c0_i32_118
  let v292 : BitVec 32 := Scalar.extui v291
  let c0_i32_119 : BitVec 32 := 0#32
  let v293 : BitVec 1 := Scalar.cmpi .slt c8_i32_115 c0_i32_119
  let v294 : BitVec 32 := Scalar.extui v293
  let v295 : BitVec 32 := Scalar.subi v292 v294
  let v296 : BitVec 1 := Scalar.cmpi .ne v290 v295
  let v297 : BitVec 32 := Scalar.remsi v284 c8_i32_115
  let c0_i32_120 : BitVec 32 := 0#32
  let v298 : BitVec 1 := Scalar.cmpi .ne v297 c0_i32_120
  let v299 : BitVec 1 := Scalar.andi v296 v298
  let v285 : BitVec 32 := Scalar.divsi v284 c8_i32_115
  let c1_i32_121 : BitVec 32 := 1#32
  let v300 : BitVec 32 := Scalar.subi v285 c1_i32_121
  let v301 : BitVec 32 := Scalar.select v299 v300 v285
  let c0_i32_122 : BitVec 32 := 0#32
  let v302 : BitVec 32 := Scalar.select v281 v301 c0_i32_122
  let c8_i32_207 : BitVec 32 := 8#32
  let v451 : BitVec 32 := Scalar.muli v302 c8_i32_207
  let v452 : BitVec 32 := v451
  ![v452.toNat, 512]
def k0_off36 (i : grid0.Coords) (v256 : BitVec 32) (v257 : BitVec 32) (v259 : BitVec 32) (v261 : BitVec 32) : (Fin 2 → Nat) × (Fin 2 → Nat) :=
  let c0_i32_106 : BitVec 32 := 0#32
  let v263 : BitVec 1 := Scalar.cmpi .sgt v259 c0_i32_106
  let v264 : BitVec 32 := Scalar.extui v263
  let c0_i32_107 : BitVec 32 := 0#32
  let v265 : BitVec 1 := Scalar.cmpi .slt v259 c0_i32_107
  let v266 : BitVec 32 := Scalar.extui v265
  let v267 : BitVec 32 := Scalar.subi v264 v266
  let c8_i32_105 : BitVec 32 := 8#32
  let c0_i32_108 : BitVec 32 := 0#32
  let v268 : BitVec 1 := Scalar.cmpi .sgt c8_i32_105 c0_i32_108
  let v269 : BitVec 32 := Scalar.extui v268
  let c0_i32_109 : BitVec 32 := 0#32
  let v270 : BitVec 1 := Scalar.cmpi .slt c8_i32_105 c0_i32_109
  let v271 : BitVec 32 := Scalar.extui v270
  let v272 : BitVec 32 := Scalar.subi v269 v271
  let v273 : BitVec 1 := Scalar.cmpi .ne v267 v272
  let v274 : BitVec 32 := Scalar.remsi v259 c8_i32_105
  let c0_i32_110 : BitVec 32 := 0#32
  let v275 : BitVec 1 := Scalar.cmpi .ne v274 c0_i32_110
  let v276 : BitVec 1 := Scalar.andi v273 v275
  let v262 : BitVec 32 := Scalar.divsi v259 c8_i32_105
  let c1_i32_111 : BitVec 32 := 1#32
  let v277 : BitVec 32 := Scalar.subi v262 c1_i32_111
  let v278 : BitVec 32 := Scalar.select v276 v277 v262
  let c8_i32_208 : BitVec 32 := 8#32
  let v453 : BitVec 32 := Scalar.muli v278 c8_i32_208
  let v454 : BitVec 32 := v453
  let arg0 : BitVec 32 := BitVec.ofNat 32 (i 0).val
  let c512_i32 : BitVec 32 := 512#32
  let v455 : BitVec 32 := Scalar.muli arg0 c512_i32
  let v456 : BitVec 32 := v455
  let v281 : BitVec 1 := Scalar.cmpi .sgt v257 v256
  let c8_i32_112 : BitVec 32 := 8#32
  let v279 : BitVec 32 := Scalar.muli v278 c8_i32_112
  let v280 : BitVec 32 := Scalar.subi v259 v279
  let v282 : BitVec 32 := Scalar.addi v280 v261
  let c8_i32_113 : BitVec 32 := 8#32
  let v283 : BitVec 32 := Scalar.addi v282 c8_i32_113
  let c1_i32_114 : BitVec 32 := 1#32
  let v284 : BitVec 32 := Scalar.subi v283 c1_i32_114
  let c0_i32_116 : BitVec 32 := 0#32
  let v286 : BitVec 1 := Scalar.cmpi .sgt v284 c0_i32_116
  let v287 : BitVec 32 := Scalar.extui v286
  let c0_i32_117 : BitVec 32 := 0#32
  let v288 : BitVec 1 := Scalar.cmpi .slt v284 c0_i32_117
  let v289 : BitVec 32 := Scalar.extui v288
  let v290 : BitVec 32 := Scalar.subi v287 v289
  let c8_i32_115 : BitVec 32 := 8#32
  let c0_i32_118 : BitVec 32 := 0#32
  let v291 : BitVec 1 := Scalar.cmpi .sgt c8_i32_115 c0_i32_118
  let v292 : BitVec 32 := Scalar.extui v291
  let c0_i32_119 : BitVec 32 := 0#32
  let v293 : BitVec 1 := Scalar.cmpi .slt c8_i32_115 c0_i32_119
  let v294 : BitVec 32 := Scalar.extui v293
  let v295 : BitVec 32 := Scalar.subi v292 v294
  let v296 : BitVec 1 := Scalar.cmpi .ne v290 v295
  let v297 : BitVec 32 := Scalar.remsi v284 c8_i32_115
  let c0_i32_120 : BitVec 32 := 0#32
  let v298 : BitVec 1 := Scalar.cmpi .ne v297 c0_i32_120
  let v299 : BitVec 1 := Scalar.andi v296 v298
  let v285 : BitVec 32 := Scalar.divsi v284 c8_i32_115
  let c1_i32_121 : BitVec 32 := 1#32
  let v300 : BitVec 32 := Scalar.subi v285 c1_i32_121
  let v301 : BitVec 32 := Scalar.select v299 v300 v285
  let c0_i32_122 : BitVec 32 := 0#32
  let v302 : BitVec 32 := Scalar.select v281 v301 c0_i32_122
  let c8_i32_207 : BitVec 32 := 8#32
  let v451 : BitVec 32 := Scalar.muli v302 c8_i32_207
  let v452 : BitVec 32 := v451
  ⟨![v454.toNat, v456.toNat], ![v452.toNat, 512]⟩
def k0_cond14 (i : grid0.Coords) : BitVec 1 :=
  let arg0 : BitVec 32 := BitVec.ofNat 32 (i 0).val
  let c1_i32_127 : BitVec 32 := 1#32
  let v308 : BitVec 32 := Scalar.addi arg0 c1_i32_127
  let c28_i32 : BitVec 32 := 28#32
  let v309 : BitVec 1 := Scalar.cmpi .slt v308 c28_i32
  let v310 : BitVec 32 := Scalar.extui v309
  let c0_i32_129 : BitVec 32 := 0#32
  let v311 : BitVec 1 := Scalar.cmpi .ne v310 c0_i32_129
  v311

def k0_mult43 (v1 : BitVec 32) (v2 : BitVec 32) (v4 : BitVec 32) (v6 : BitVec 32) : BitVec 32 :=
  let v26 : BitVec 1 := Scalar.cmpi .sgt v2 v1
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let c8_i32_189 : BitVec 32 := 8#32
  let v426 : BitVec 32 := Scalar.muli v47 c8_i32_189
  v426
def k0_cond15 (v1 : BitVec 32) (v2 : BitVec 32) (v4 : BitVec 32) (v6 : BitVec 32) : BitVec 1 :=
  let v26 : BitVec 1 := Scalar.cmpi .sgt v2 v1
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let c0_i32_175 : BitVec 32 := 0#32
  let v406 : BitVec 1 := Scalar.cmpi .sgt v47 c0_i32_175
  let v407 : BitVec 32 := Scalar.extui v406
  let c0_i32_176 : BitVec 32 := 0#32
  let v408 : BitVec 1 := Scalar.cmpi .ne v407 c0_i32_176
  v408

def k0_mult44 (v4 : BitVec 32) : BitVec 32 :=
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_190 : BitVec 32 := 8#32
  let v428 : BitVec 32 := Scalar.muli v23 c8_i32_190
  v428
def k0_mult45 (i : grid0.Coords) : BitVec 32 :=
  let arg0 : BitVec 32 := BitVec.ofNat 32 (i 0).val
  let c1_i32_187 : BitVec 32 := 1#32
  let v424 : BitVec 32 := Scalar.addi arg0 c1_i32_187
  let c512_i32 : BitVec 32 := 512#32
  let v430 : BitVec 32 := Scalar.muli v424 c512_i32
  v430
def k0_mult46 : BitVec 32 :=
  let c0_i32_128 : BitVec 32 := 0#32
  let c8_i32_191 : BitVec 32 := 8#32
  let v432 : BitVec 32 := Scalar.muli c0_i32_128 c8_i32_191
  v432
def k0_off37 (i : grid0.Coords) : Fin 2 → Nat :=
  let arg0 : BitVec 32 := BitVec.ofNat 32 (i 0).val
  let c1_i32_187 : BitVec 32 := 1#32
  let v424 : BitVec 32 := Scalar.addi arg0 c1_i32_187
  let c2_i32_188 : BitVec 32 := 2#32
  let v425 : BitVec 32 := Scalar.remsi v424 c2_i32_188
  let c0_i32_192 : BitVec 32 := 0#32
  ![v425.toNat, 0]
def k0_off38 (i : grid0.Coords) (v1 : BitVec 32) (v2 : BitVec 32) (v4 : BitVec 32) (v6 : BitVec 32) : (Fin 3 → Nat) × (Fin 3 → Nat) :=
  let arg0 : BitVec 32 := BitVec.ofNat 32 (i 0).val
  let c1_i32_187 : BitVec 32 := 1#32
  let v424 : BitVec 32 := Scalar.addi arg0 c1_i32_187
  let c2_i32_188 : BitVec 32 := 2#32
  let v425 : BitVec 32 := Scalar.remsi v424 c2_i32_188
  let c0_i32_128 : BitVec 32 := 0#32
  let c8_i32_191 : BitVec 32 := 8#32
  let v432 : BitVec 32 := Scalar.muli c0_i32_128 c8_i32_191
  let v433 : BitVec 32 := v432
  let c0_i32_193 : BitVec 32 := 0#32
  let v26 : BitVec 1 := Scalar.cmpi .sgt v2 v1
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let c8_i32_189 : BitVec 32 := 8#32
  let v426 : BitVec 32 := Scalar.muli v47 c8_i32_189
  let v427 : BitVec 32 := v426
  ⟨![v425.toNat, v433.toNat, 0], ![1, v427.toNat, 512]⟩
def k0_sz7 (v1 : BitVec 32) (v2 : BitVec 32) (v4 : BitVec 32) (v6 : BitVec 32) : Fin 2 → Nat :=
  let v26 : BitVec 1 := Scalar.cmpi .sgt v2 v1
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let c8_i32_189 : BitVec 32 := 8#32
  let v426 : BitVec 32 := Scalar.muli v47 c8_i32_189
  let v427 : BitVec 32 := v426
  ![v427.toNat, 512]
def k0_off39 (i : grid0.Coords) (v1 : BitVec 32) (v2 : BitVec 32) (v4 : BitVec 32) (v6 : BitVec 32) : (Fin 2 → Nat) × (Fin 2 → Nat) :=
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_190 : BitVec 32 := 8#32
  let v428 : BitVec 32 := Scalar.muli v23 c8_i32_190
  let v429 : BitVec 32 := v428
  let arg0 : BitVec 32 := BitVec.ofNat 32 (i 0).val
  let c1_i32_187 : BitVec 32 := 1#32
  let v424 : BitVec 32 := Scalar.addi arg0 c1_i32_187
  let c512_i32 : BitVec 32 := 512#32
  let v430 : BitVec 32 := Scalar.muli v424 c512_i32
  let v431 : BitVec 32 := v430
  let v26 : BitVec 1 := Scalar.cmpi .sgt v2 v1
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let c8_i32_189 : BitVec 32 := 8#32
  let v426 : BitVec 32 := Scalar.muli v47 c8_i32_189
  let v427 : BitVec 32 := v426
  ⟨![v429.toNat, v431.toNat], ![v427.toNat, 512]⟩
def k0_mult47 (v52 : BitVec 32) (v53 : BitVec 32) (v55 : BitVec 32) (v57 : BitVec 32) : BitVec 32 :=
  let v77 : BitVec 1 := Scalar.cmpi .sgt v53 v52
  let c0_i32_22 : BitVec 32 := 0#32
  let v59 : BitVec 1 := Scalar.cmpi .sgt v55 c0_i32_22
  let v60 : BitVec 32 := Scalar.extui v59
  let c0_i32_23 : BitVec 32 := 0#32
  let v61 : BitVec 1 := Scalar.cmpi .slt v55 c0_i32_23
  let v62 : BitVec 32 := Scalar.extui v61
  let v63 : BitVec 32 := Scalar.subi v60 v62
  let c8_i32_21 : BitVec 32 := 8#32
  let c0_i32_24 : BitVec 32 := 0#32
  let v64 : BitVec 1 := Scalar.cmpi .sgt c8_i32_21 c0_i32_24
  let v65 : BitVec 32 := Scalar.extui v64
  let c0_i32_25 : BitVec 32 := 0#32
  let v66 : BitVec 1 := Scalar.cmpi .slt c8_i32_21 c0_i32_25
  let v67 : BitVec 32 := Scalar.extui v66
  let v68 : BitVec 32 := Scalar.subi v65 v67
  let v69 : BitVec 1 := Scalar.cmpi .ne v63 v68
  let v70 : BitVec 32 := Scalar.remsi v55 c8_i32_21
  let c0_i32_26 : BitVec 32 := 0#32
  let v71 : BitVec 1 := Scalar.cmpi .ne v70 c0_i32_26
  let v72 : BitVec 1 := Scalar.andi v69 v71
  let v58 : BitVec 32 := Scalar.divsi v55 c8_i32_21
  let c1_i32_27 : BitVec 32 := 1#32
  let v73 : BitVec 32 := Scalar.subi v58 c1_i32_27
  let v74 : BitVec 32 := Scalar.select v72 v73 v58
  let c8_i32_28 : BitVec 32 := 8#32
  let v75 : BitVec 32 := Scalar.muli v74 c8_i32_28
  let v76 : BitVec 32 := Scalar.subi v55 v75
  let v78 : BitVec 32 := Scalar.addi v76 v57
  let c8_i32_29 : BitVec 32 := 8#32
  let v79 : BitVec 32 := Scalar.addi v78 c8_i32_29
  let c1_i32_30 : BitVec 32 := 1#32
  let v80 : BitVec 32 := Scalar.subi v79 c1_i32_30
  let c0_i32_32 : BitVec 32 := 0#32
  let v82 : BitVec 1 := Scalar.cmpi .sgt v80 c0_i32_32
  let v83 : BitVec 32 := Scalar.extui v82
  let c0_i32_33 : BitVec 32 := 0#32
  let v84 : BitVec 1 := Scalar.cmpi .slt v80 c0_i32_33
  let v85 : BitVec 32 := Scalar.extui v84
  let v86 : BitVec 32 := Scalar.subi v83 v85
  let c8_i32_31 : BitVec 32 := 8#32
  let c0_i32_34 : BitVec 32 := 0#32
  let v87 : BitVec 1 := Scalar.cmpi .sgt c8_i32_31 c0_i32_34
  let v88 : BitVec 32 := Scalar.extui v87
  let c0_i32_35 : BitVec 32 := 0#32
  let v89 : BitVec 1 := Scalar.cmpi .slt c8_i32_31 c0_i32_35
  let v90 : BitVec 32 := Scalar.extui v89
  let v91 : BitVec 32 := Scalar.subi v88 v90
  let v92 : BitVec 1 := Scalar.cmpi .ne v86 v91
  let v93 : BitVec 32 := Scalar.remsi v80 c8_i32_31
  let c0_i32_36 : BitVec 32 := 0#32
  let v94 : BitVec 1 := Scalar.cmpi .ne v93 c0_i32_36
  let v95 : BitVec 1 := Scalar.andi v92 v94
  let v81 : BitVec 32 := Scalar.divsi v80 c8_i32_31
  let c1_i32_37 : BitVec 32 := 1#32
  let v96 : BitVec 32 := Scalar.subi v81 c1_i32_37
  let v97 : BitVec 32 := Scalar.select v95 v96 v81
  let c0_i32_38 : BitVec 32 := 0#32
  let v98 : BitVec 32 := Scalar.select v77 v97 c0_i32_38
  let c8_i32_189 : BitVec 32 := 8#32
  let v426 : BitVec 32 := Scalar.muli v98 c8_i32_189
  v426
def k0_cond16 (v52 : BitVec 32) (v53 : BitVec 32) (v55 : BitVec 32) (v57 : BitVec 32) : BitVec 1 :=
  let v77 : BitVec 1 := Scalar.cmpi .sgt v53 v52
  let c0_i32_22 : BitVec 32 := 0#32
  let v59 : BitVec 1 := Scalar.cmpi .sgt v55 c0_i32_22
  let v60 : BitVec 32 := Scalar.extui v59
  let c0_i32_23 : BitVec 32 := 0#32
  let v61 : BitVec 1 := Scalar.cmpi .slt v55 c0_i32_23
  let v62 : BitVec 32 := Scalar.extui v61
  let v63 : BitVec 32 := Scalar.subi v60 v62
  let c8_i32_21 : BitVec 32 := 8#32
  let c0_i32_24 : BitVec 32 := 0#32
  let v64 : BitVec 1 := Scalar.cmpi .sgt c8_i32_21 c0_i32_24
  let v65 : BitVec 32 := Scalar.extui v64
  let c0_i32_25 : BitVec 32 := 0#32
  let v66 : BitVec 1 := Scalar.cmpi .slt c8_i32_21 c0_i32_25
  let v67 : BitVec 32 := Scalar.extui v66
  let v68 : BitVec 32 := Scalar.subi v65 v67
  let v69 : BitVec 1 := Scalar.cmpi .ne v63 v68
  let v70 : BitVec 32 := Scalar.remsi v55 c8_i32_21
  let c0_i32_26 : BitVec 32 := 0#32
  let v71 : BitVec 1 := Scalar.cmpi .ne v70 c0_i32_26
  let v72 : BitVec 1 := Scalar.andi v69 v71
  let v58 : BitVec 32 := Scalar.divsi v55 c8_i32_21
  let c1_i32_27 : BitVec 32 := 1#32
  let v73 : BitVec 32 := Scalar.subi v58 c1_i32_27
  let v74 : BitVec 32 := Scalar.select v72 v73 v58
  let c8_i32_28 : BitVec 32 := 8#32
  let v75 : BitVec 32 := Scalar.muli v74 c8_i32_28
  let v76 : BitVec 32 := Scalar.subi v55 v75
  let v78 : BitVec 32 := Scalar.addi v76 v57
  let c8_i32_29 : BitVec 32 := 8#32
  let v79 : BitVec 32 := Scalar.addi v78 c8_i32_29
  let c1_i32_30 : BitVec 32 := 1#32
  let v80 : BitVec 32 := Scalar.subi v79 c1_i32_30
  let c0_i32_32 : BitVec 32 := 0#32
  let v82 : BitVec 1 := Scalar.cmpi .sgt v80 c0_i32_32
  let v83 : BitVec 32 := Scalar.extui v82
  let c0_i32_33 : BitVec 32 := 0#32
  let v84 : BitVec 1 := Scalar.cmpi .slt v80 c0_i32_33
  let v85 : BitVec 32 := Scalar.extui v84
  let v86 : BitVec 32 := Scalar.subi v83 v85
  let c8_i32_31 : BitVec 32 := 8#32
  let c0_i32_34 : BitVec 32 := 0#32
  let v87 : BitVec 1 := Scalar.cmpi .sgt c8_i32_31 c0_i32_34
  let v88 : BitVec 32 := Scalar.extui v87
  let c0_i32_35 : BitVec 32 := 0#32
  let v89 : BitVec 1 := Scalar.cmpi .slt c8_i32_31 c0_i32_35
  let v90 : BitVec 32 := Scalar.extui v89
  let v91 : BitVec 32 := Scalar.subi v88 v90
  let v92 : BitVec 1 := Scalar.cmpi .ne v86 v91
  let v93 : BitVec 32 := Scalar.remsi v80 c8_i32_31
  let c0_i32_36 : BitVec 32 := 0#32
  let v94 : BitVec 1 := Scalar.cmpi .ne v93 c0_i32_36
  let v95 : BitVec 1 := Scalar.andi v92 v94
  let v81 : BitVec 32 := Scalar.divsi v80 c8_i32_31
  let c1_i32_37 : BitVec 32 := 1#32
  let v96 : BitVec 32 := Scalar.subi v81 c1_i32_37
  let v97 : BitVec 32 := Scalar.select v95 v96 v81
  let c0_i32_38 : BitVec 32 := 0#32
  let v98 : BitVec 32 := Scalar.select v77 v97 c0_i32_38
  let c0_i32_177 : BitVec 32 := 0#32
  let v409 : BitVec 1 := Scalar.cmpi .sgt v98 c0_i32_177
  let v410 : BitVec 32 := Scalar.extui v409
  let c0_i32_178 : BitVec 32 := 0#32
  let v411 : BitVec 1 := Scalar.cmpi .ne v410 c0_i32_178
  v411

def k0_mult48 (v55 : BitVec 32) : BitVec 32 :=
  let c0_i32_22 : BitVec 32 := 0#32
  let v59 : BitVec 1 := Scalar.cmpi .sgt v55 c0_i32_22
  let v60 : BitVec 32 := Scalar.extui v59
  let c0_i32_23 : BitVec 32 := 0#32
  let v61 : BitVec 1 := Scalar.cmpi .slt v55 c0_i32_23
  let v62 : BitVec 32 := Scalar.extui v61
  let v63 : BitVec 32 := Scalar.subi v60 v62
  let c8_i32_21 : BitVec 32 := 8#32
  let c0_i32_24 : BitVec 32 := 0#32
  let v64 : BitVec 1 := Scalar.cmpi .sgt c8_i32_21 c0_i32_24
  let v65 : BitVec 32 := Scalar.extui v64
  let c0_i32_25 : BitVec 32 := 0#32
  let v66 : BitVec 1 := Scalar.cmpi .slt c8_i32_21 c0_i32_25
  let v67 : BitVec 32 := Scalar.extui v66
  let v68 : BitVec 32 := Scalar.subi v65 v67
  let v69 : BitVec 1 := Scalar.cmpi .ne v63 v68
  let v70 : BitVec 32 := Scalar.remsi v55 c8_i32_21
  let c0_i32_26 : BitVec 32 := 0#32
  let v71 : BitVec 1 := Scalar.cmpi .ne v70 c0_i32_26
  let v72 : BitVec 1 := Scalar.andi v69 v71
  let v58 : BitVec 32 := Scalar.divsi v55 c8_i32_21
  let c1_i32_27 : BitVec 32 := 1#32
  let v73 : BitVec 32 := Scalar.subi v58 c1_i32_27
  let v74 : BitVec 32 := Scalar.select v72 v73 v58
  let c8_i32_190 : BitVec 32 := 8#32
  let v428 : BitVec 32 := Scalar.muli v74 c8_i32_190
  v428
def k0_mult49 (i : grid0.Coords) : BitVec 32 :=
  let arg0 : BitVec 32 := BitVec.ofNat 32 (i 0).val
  let c1_i32_187 : BitVec 32 := 1#32
  let v424 : BitVec 32 := Scalar.addi arg0 c1_i32_187
  let c512_i32 : BitVec 32 := 512#32
  let v430 : BitVec 32 := Scalar.muli v424 c512_i32
  v430
def k0_mult50 (v1 : BitVec 32) (v2 : BitVec 32) (v4 : BitVec 32) (v6 : BitVec 32) : BitVec 32 :=
  let c0_i32_18 : BitVec 32 := 0#32
  let v26 : BitVec 1 := Scalar.cmpi .sgt v2 v1
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let v50 : BitVec 32 := Scalar.addi c0_i32_18 v47
  let c8_i32_191 : BitVec 32 := 8#32
  let v432 : BitVec 32 := Scalar.muli v50 c8_i32_191
  v432
def k0_off40 (i : grid0.Coords) : Fin 2 → Nat :=
  let arg0 : BitVec 32 := BitVec.ofNat 32 (i 0).val
  let c1_i32_187 : BitVec 32 := 1#32
  let v424 : BitVec 32 := Scalar.addi arg0 c1_i32_187
  let c2_i32_188 : BitVec 32 := 2#32
  let v425 : BitVec 32 := Scalar.remsi v424 c2_i32_188
  let c1_i32_192 : BitVec 32 := 1#32
  ![v425.toNat, 1]
def k0_off41 (i : grid0.Coords) (v1 : BitVec 32) (v2 : BitVec 32) (v4 : BitVec 32) (v6 : BitVec 32) (v52 : BitVec 32) (v53 : BitVec 32) (v55 : BitVec 32) (v57 : BitVec 32) : (Fin 3 → Nat) × (Fin 3 → Nat) :=
  let arg0 : BitVec 32 := BitVec.ofNat 32 (i 0).val
  let c1_i32_187 : BitVec 32 := 1#32
  let v424 : BitVec 32 := Scalar.addi arg0 c1_i32_187
  let c2_i32_188 : BitVec 32 := 2#32
  let v425 : BitVec 32 := Scalar.remsi v424 c2_i32_188
  let c0_i32_18 : BitVec 32 := 0#32
  let v26 : BitVec 1 := Scalar.cmpi .sgt v2 v1
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let v50 : BitVec 32 := Scalar.addi c0_i32_18 v47
  let c8_i32_191 : BitVec 32 := 8#32
  let v432 : BitVec 32 := Scalar.muli v50 c8_i32_191
  let v433 : BitVec 32 := v432
  let c0_i32_193 : BitVec 32 := 0#32
  let v77 : BitVec 1 := Scalar.cmpi .sgt v53 v52
  let c0_i32_22 : BitVec 32 := 0#32
  let v59 : BitVec 1 := Scalar.cmpi .sgt v55 c0_i32_22
  let v60 : BitVec 32 := Scalar.extui v59
  let c0_i32_23 : BitVec 32 := 0#32
  let v61 : BitVec 1 := Scalar.cmpi .slt v55 c0_i32_23
  let v62 : BitVec 32 := Scalar.extui v61
  let v63 : BitVec 32 := Scalar.subi v60 v62
  let c8_i32_21 : BitVec 32 := 8#32
  let c0_i32_24 : BitVec 32 := 0#32
  let v64 : BitVec 1 := Scalar.cmpi .sgt c8_i32_21 c0_i32_24
  let v65 : BitVec 32 := Scalar.extui v64
  let c0_i32_25 : BitVec 32 := 0#32
  let v66 : BitVec 1 := Scalar.cmpi .slt c8_i32_21 c0_i32_25
  let v67 : BitVec 32 := Scalar.extui v66
  let v68 : BitVec 32 := Scalar.subi v65 v67
  let v69 : BitVec 1 := Scalar.cmpi .ne v63 v68
  let v70 : BitVec 32 := Scalar.remsi v55 c8_i32_21
  let c0_i32_26 : BitVec 32 := 0#32
  let v71 : BitVec 1 := Scalar.cmpi .ne v70 c0_i32_26
  let v72 : BitVec 1 := Scalar.andi v69 v71
  let v58 : BitVec 32 := Scalar.divsi v55 c8_i32_21
  let c1_i32_27 : BitVec 32 := 1#32
  let v73 : BitVec 32 := Scalar.subi v58 c1_i32_27
  let v74 : BitVec 32 := Scalar.select v72 v73 v58
  let c8_i32_28 : BitVec 32 := 8#32
  let v75 : BitVec 32 := Scalar.muli v74 c8_i32_28
  let v76 : BitVec 32 := Scalar.subi v55 v75
  let v78 : BitVec 32 := Scalar.addi v76 v57
  let c8_i32_29 : BitVec 32 := 8#32
  let v79 : BitVec 32 := Scalar.addi v78 c8_i32_29
  let c1_i32_30 : BitVec 32 := 1#32
  let v80 : BitVec 32 := Scalar.subi v79 c1_i32_30
  let c0_i32_32 : BitVec 32 := 0#32
  let v82 : BitVec 1 := Scalar.cmpi .sgt v80 c0_i32_32
  let v83 : BitVec 32 := Scalar.extui v82
  let c0_i32_33 : BitVec 32 := 0#32
  let v84 : BitVec 1 := Scalar.cmpi .slt v80 c0_i32_33
  let v85 : BitVec 32 := Scalar.extui v84
  let v86 : BitVec 32 := Scalar.subi v83 v85
  let c8_i32_31 : BitVec 32 := 8#32
  let c0_i32_34 : BitVec 32 := 0#32
  let v87 : BitVec 1 := Scalar.cmpi .sgt c8_i32_31 c0_i32_34
  let v88 : BitVec 32 := Scalar.extui v87
  let c0_i32_35 : BitVec 32 := 0#32
  let v89 : BitVec 1 := Scalar.cmpi .slt c8_i32_31 c0_i32_35
  let v90 : BitVec 32 := Scalar.extui v89
  let v91 : BitVec 32 := Scalar.subi v88 v90
  let v92 : BitVec 1 := Scalar.cmpi .ne v86 v91
  let v93 : BitVec 32 := Scalar.remsi v80 c8_i32_31
  let c0_i32_36 : BitVec 32 := 0#32
  let v94 : BitVec 1 := Scalar.cmpi .ne v93 c0_i32_36
  let v95 : BitVec 1 := Scalar.andi v92 v94
  let v81 : BitVec 32 := Scalar.divsi v80 c8_i32_31
  let c1_i32_37 : BitVec 32 := 1#32
  let v96 : BitVec 32 := Scalar.subi v81 c1_i32_37
  let v97 : BitVec 32 := Scalar.select v95 v96 v81
  let c0_i32_38 : BitVec 32 := 0#32
  let v98 : BitVec 32 := Scalar.select v77 v97 c0_i32_38
  let c8_i32_189 : BitVec 32 := 8#32
  let v426 : BitVec 32 := Scalar.muli v98 c8_i32_189
  let v427 : BitVec 32 := v426
  ⟨![v425.toNat, v433.toNat, 0], ![1, v427.toNat, 512]⟩
def k0_sz8 (v52 : BitVec 32) (v53 : BitVec 32) (v55 : BitVec 32) (v57 : BitVec 32) : Fin 2 → Nat :=
  let v77 : BitVec 1 := Scalar.cmpi .sgt v53 v52
  let c0_i32_22 : BitVec 32 := 0#32
  let v59 : BitVec 1 := Scalar.cmpi .sgt v55 c0_i32_22
  let v60 : BitVec 32 := Scalar.extui v59
  let c0_i32_23 : BitVec 32 := 0#32
  let v61 : BitVec 1 := Scalar.cmpi .slt v55 c0_i32_23
  let v62 : BitVec 32 := Scalar.extui v61
  let v63 : BitVec 32 := Scalar.subi v60 v62
  let c8_i32_21 : BitVec 32 := 8#32
  let c0_i32_24 : BitVec 32 := 0#32
  let v64 : BitVec 1 := Scalar.cmpi .sgt c8_i32_21 c0_i32_24
  let v65 : BitVec 32 := Scalar.extui v64
  let c0_i32_25 : BitVec 32 := 0#32
  let v66 : BitVec 1 := Scalar.cmpi .slt c8_i32_21 c0_i32_25
  let v67 : BitVec 32 := Scalar.extui v66
  let v68 : BitVec 32 := Scalar.subi v65 v67
  let v69 : BitVec 1 := Scalar.cmpi .ne v63 v68
  let v70 : BitVec 32 := Scalar.remsi v55 c8_i32_21
  let c0_i32_26 : BitVec 32 := 0#32
  let v71 : BitVec 1 := Scalar.cmpi .ne v70 c0_i32_26
  let v72 : BitVec 1 := Scalar.andi v69 v71
  let v58 : BitVec 32 := Scalar.divsi v55 c8_i32_21
  let c1_i32_27 : BitVec 32 := 1#32
  let v73 : BitVec 32 := Scalar.subi v58 c1_i32_27
  let v74 : BitVec 32 := Scalar.select v72 v73 v58
  let c8_i32_28 : BitVec 32 := 8#32
  let v75 : BitVec 32 := Scalar.muli v74 c8_i32_28
  let v76 : BitVec 32 := Scalar.subi v55 v75
  let v78 : BitVec 32 := Scalar.addi v76 v57
  let c8_i32_29 : BitVec 32 := 8#32
  let v79 : BitVec 32 := Scalar.addi v78 c8_i32_29
  let c1_i32_30 : BitVec 32 := 1#32
  let v80 : BitVec 32 := Scalar.subi v79 c1_i32_30
  let c0_i32_32 : BitVec 32 := 0#32
  let v82 : BitVec 1 := Scalar.cmpi .sgt v80 c0_i32_32
  let v83 : BitVec 32 := Scalar.extui v82
  let c0_i32_33 : BitVec 32 := 0#32
  let v84 : BitVec 1 := Scalar.cmpi .slt v80 c0_i32_33
  let v85 : BitVec 32 := Scalar.extui v84
  let v86 : BitVec 32 := Scalar.subi v83 v85
  let c8_i32_31 : BitVec 32 := 8#32
  let c0_i32_34 : BitVec 32 := 0#32
  let v87 : BitVec 1 := Scalar.cmpi .sgt c8_i32_31 c0_i32_34
  let v88 : BitVec 32 := Scalar.extui v87
  let c0_i32_35 : BitVec 32 := 0#32
  let v89 : BitVec 1 := Scalar.cmpi .slt c8_i32_31 c0_i32_35
  let v90 : BitVec 32 := Scalar.extui v89
  let v91 : BitVec 32 := Scalar.subi v88 v90
  let v92 : BitVec 1 := Scalar.cmpi .ne v86 v91
  let v93 : BitVec 32 := Scalar.remsi v80 c8_i32_31
  let c0_i32_36 : BitVec 32 := 0#32
  let v94 : BitVec 1 := Scalar.cmpi .ne v93 c0_i32_36
  let v95 : BitVec 1 := Scalar.andi v92 v94
  let v81 : BitVec 32 := Scalar.divsi v80 c8_i32_31
  let c1_i32_37 : BitVec 32 := 1#32
  let v96 : BitVec 32 := Scalar.subi v81 c1_i32_37
  let v97 : BitVec 32 := Scalar.select v95 v96 v81
  let c0_i32_38 : BitVec 32 := 0#32
  let v98 : BitVec 32 := Scalar.select v77 v97 c0_i32_38
  let c8_i32_189 : BitVec 32 := 8#32
  let v426 : BitVec 32 := Scalar.muli v98 c8_i32_189
  let v427 : BitVec 32 := v426
  ![v427.toNat, 512]
def k0_off42 (i : grid0.Coords) (v52 : BitVec 32) (v53 : BitVec 32) (v55 : BitVec 32) (v57 : BitVec 32) : (Fin 2 → Nat) × (Fin 2 → Nat) :=
  let c0_i32_22 : BitVec 32 := 0#32
  let v59 : BitVec 1 := Scalar.cmpi .sgt v55 c0_i32_22
  let v60 : BitVec 32 := Scalar.extui v59
  let c0_i32_23 : BitVec 32 := 0#32
  let v61 : BitVec 1 := Scalar.cmpi .slt v55 c0_i32_23
  let v62 : BitVec 32 := Scalar.extui v61
  let v63 : BitVec 32 := Scalar.subi v60 v62
  let c8_i32_21 : BitVec 32 := 8#32
  let c0_i32_24 : BitVec 32 := 0#32
  let v64 : BitVec 1 := Scalar.cmpi .sgt c8_i32_21 c0_i32_24
  let v65 : BitVec 32 := Scalar.extui v64
  let c0_i32_25 : BitVec 32 := 0#32
  let v66 : BitVec 1 := Scalar.cmpi .slt c8_i32_21 c0_i32_25
  let v67 : BitVec 32 := Scalar.extui v66
  let v68 : BitVec 32 := Scalar.subi v65 v67
  let v69 : BitVec 1 := Scalar.cmpi .ne v63 v68
  let v70 : BitVec 32 := Scalar.remsi v55 c8_i32_21
  let c0_i32_26 : BitVec 32 := 0#32
  let v71 : BitVec 1 := Scalar.cmpi .ne v70 c0_i32_26
  let v72 : BitVec 1 := Scalar.andi v69 v71
  let v58 : BitVec 32 := Scalar.divsi v55 c8_i32_21
  let c1_i32_27 : BitVec 32 := 1#32
  let v73 : BitVec 32 := Scalar.subi v58 c1_i32_27
  let v74 : BitVec 32 := Scalar.select v72 v73 v58
  let c8_i32_190 : BitVec 32 := 8#32
  let v428 : BitVec 32 := Scalar.muli v74 c8_i32_190
  let v429 : BitVec 32 := v428
  let arg0 : BitVec 32 := BitVec.ofNat 32 (i 0).val
  let c1_i32_187 : BitVec 32 := 1#32
  let v424 : BitVec 32 := Scalar.addi arg0 c1_i32_187
  let c512_i32 : BitVec 32 := 512#32
  let v430 : BitVec 32 := Scalar.muli v424 c512_i32
  let v431 : BitVec 32 := v430
  let v77 : BitVec 1 := Scalar.cmpi .sgt v53 v52
  let c8_i32_28 : BitVec 32 := 8#32
  let v75 : BitVec 32 := Scalar.muli v74 c8_i32_28
  let v76 : BitVec 32 := Scalar.subi v55 v75
  let v78 : BitVec 32 := Scalar.addi v76 v57
  let c8_i32_29 : BitVec 32 := 8#32
  let v79 : BitVec 32 := Scalar.addi v78 c8_i32_29
  let c1_i32_30 : BitVec 32 := 1#32
  let v80 : BitVec 32 := Scalar.subi v79 c1_i32_30
  let c0_i32_32 : BitVec 32 := 0#32
  let v82 : BitVec 1 := Scalar.cmpi .sgt v80 c0_i32_32
  let v83 : BitVec 32 := Scalar.extui v82
  let c0_i32_33 : BitVec 32 := 0#32
  let v84 : BitVec 1 := Scalar.cmpi .slt v80 c0_i32_33
  let v85 : BitVec 32 := Scalar.extui v84
  let v86 : BitVec 32 := Scalar.subi v83 v85
  let c8_i32_31 : BitVec 32 := 8#32
  let c0_i32_34 : BitVec 32 := 0#32
  let v87 : BitVec 1 := Scalar.cmpi .sgt c8_i32_31 c0_i32_34
  let v88 : BitVec 32 := Scalar.extui v87
  let c0_i32_35 : BitVec 32 := 0#32
  let v89 : BitVec 1 := Scalar.cmpi .slt c8_i32_31 c0_i32_35
  let v90 : BitVec 32 := Scalar.extui v89
  let v91 : BitVec 32 := Scalar.subi v88 v90
  let v92 : BitVec 1 := Scalar.cmpi .ne v86 v91
  let v93 : BitVec 32 := Scalar.remsi v80 c8_i32_31
  let c0_i32_36 : BitVec 32 := 0#32
  let v94 : BitVec 1 := Scalar.cmpi .ne v93 c0_i32_36
  let v95 : BitVec 1 := Scalar.andi v92 v94
  let v81 : BitVec 32 := Scalar.divsi v80 c8_i32_31
  let c1_i32_37 : BitVec 32 := 1#32
  let v96 : BitVec 32 := Scalar.subi v81 c1_i32_37
  let v97 : BitVec 32 := Scalar.select v95 v96 v81
  let c0_i32_38 : BitVec 32 := 0#32
  let v98 : BitVec 32 := Scalar.select v77 v97 c0_i32_38
  let c8_i32_189 : BitVec 32 := 8#32
  let v426 : BitVec 32 := Scalar.muli v98 c8_i32_189
  let v427 : BitVec 32 := v426
  ⟨![v429.toNat, v431.toNat], ![v427.toNat, 512]⟩
def k0_mult51 (v103 : BitVec 32) (v104 : BitVec 32) (v106 : BitVec 32) (v108 : BitVec 32) : BitVec 32 :=
  let v128 : BitVec 1 := Scalar.cmpi .sgt v104 v103
  let c0_i32_43 : BitVec 32 := 0#32
  let v110 : BitVec 1 := Scalar.cmpi .sgt v106 c0_i32_43
  let v111 : BitVec 32 := Scalar.extui v110
  let c0_i32_44 : BitVec 32 := 0#32
  let v112 : BitVec 1 := Scalar.cmpi .slt v106 c0_i32_44
  let v113 : BitVec 32 := Scalar.extui v112
  let v114 : BitVec 32 := Scalar.subi v111 v113
  let c8_i32_42 : BitVec 32 := 8#32
  let c0_i32_45 : BitVec 32 := 0#32
  let v115 : BitVec 1 := Scalar.cmpi .sgt c8_i32_42 c0_i32_45
  let v116 : BitVec 32 := Scalar.extui v115
  let c0_i32_46 : BitVec 32 := 0#32
  let v117 : BitVec 1 := Scalar.cmpi .slt c8_i32_42 c0_i32_46
  let v118 : BitVec 32 := Scalar.extui v117
  let v119 : BitVec 32 := Scalar.subi v116 v118
  let v120 : BitVec 1 := Scalar.cmpi .ne v114 v119
  let v121 : BitVec 32 := Scalar.remsi v106 c8_i32_42
  let c0_i32_47 : BitVec 32 := 0#32
  let v122 : BitVec 1 := Scalar.cmpi .ne v121 c0_i32_47
  let v123 : BitVec 1 := Scalar.andi v120 v122
  let v109 : BitVec 32 := Scalar.divsi v106 c8_i32_42
  let c1_i32_48 : BitVec 32 := 1#32
  let v124 : BitVec 32 := Scalar.subi v109 c1_i32_48
  let v125 : BitVec 32 := Scalar.select v123 v124 v109
  let c8_i32_49 : BitVec 32 := 8#32
  let v126 : BitVec 32 := Scalar.muli v125 c8_i32_49
  let v127 : BitVec 32 := Scalar.subi v106 v126
  let v129 : BitVec 32 := Scalar.addi v127 v108
  let c8_i32_50 : BitVec 32 := 8#32
  let v130 : BitVec 32 := Scalar.addi v129 c8_i32_50
  let c1_i32_51 : BitVec 32 := 1#32
  let v131 : BitVec 32 := Scalar.subi v130 c1_i32_51
  let c0_i32_53 : BitVec 32 := 0#32
  let v133 : BitVec 1 := Scalar.cmpi .sgt v131 c0_i32_53
  let v134 : BitVec 32 := Scalar.extui v133
  let c0_i32_54 : BitVec 32 := 0#32
  let v135 : BitVec 1 := Scalar.cmpi .slt v131 c0_i32_54
  let v136 : BitVec 32 := Scalar.extui v135
  let v137 : BitVec 32 := Scalar.subi v134 v136
  let c8_i32_52 : BitVec 32 := 8#32
  let c0_i32_55 : BitVec 32 := 0#32
  let v138 : BitVec 1 := Scalar.cmpi .sgt c8_i32_52 c0_i32_55
  let v139 : BitVec 32 := Scalar.extui v138
  let c0_i32_56 : BitVec 32 := 0#32
  let v140 : BitVec 1 := Scalar.cmpi .slt c8_i32_52 c0_i32_56
  let v141 : BitVec 32 := Scalar.extui v140
  let v142 : BitVec 32 := Scalar.subi v139 v141
  let v143 : BitVec 1 := Scalar.cmpi .ne v137 v142
  let v144 : BitVec 32 := Scalar.remsi v131 c8_i32_52
  let c0_i32_57 : BitVec 32 := 0#32
  let v145 : BitVec 1 := Scalar.cmpi .ne v144 c0_i32_57
  let v146 : BitVec 1 := Scalar.andi v143 v145
  let v132 : BitVec 32 := Scalar.divsi v131 c8_i32_52
  let c1_i32_58 : BitVec 32 := 1#32
  let v147 : BitVec 32 := Scalar.subi v132 c1_i32_58
  let v148 : BitVec 32 := Scalar.select v146 v147 v132
  let c0_i32_59 : BitVec 32 := 0#32
  let v149 : BitVec 32 := Scalar.select v128 v148 c0_i32_59
  let c8_i32_189 : BitVec 32 := 8#32
  let v426 : BitVec 32 := Scalar.muli v149 c8_i32_189
  v426
def k0_cond17 (v103 : BitVec 32) (v104 : BitVec 32) (v106 : BitVec 32) (v108 : BitVec 32) : BitVec 1 :=
  let v128 : BitVec 1 := Scalar.cmpi .sgt v104 v103
  let c0_i32_43 : BitVec 32 := 0#32
  let v110 : BitVec 1 := Scalar.cmpi .sgt v106 c0_i32_43
  let v111 : BitVec 32 := Scalar.extui v110
  let c0_i32_44 : BitVec 32 := 0#32
  let v112 : BitVec 1 := Scalar.cmpi .slt v106 c0_i32_44
  let v113 : BitVec 32 := Scalar.extui v112
  let v114 : BitVec 32 := Scalar.subi v111 v113
  let c8_i32_42 : BitVec 32 := 8#32
  let c0_i32_45 : BitVec 32 := 0#32
  let v115 : BitVec 1 := Scalar.cmpi .sgt c8_i32_42 c0_i32_45
  let v116 : BitVec 32 := Scalar.extui v115
  let c0_i32_46 : BitVec 32 := 0#32
  let v117 : BitVec 1 := Scalar.cmpi .slt c8_i32_42 c0_i32_46
  let v118 : BitVec 32 := Scalar.extui v117
  let v119 : BitVec 32 := Scalar.subi v116 v118
  let v120 : BitVec 1 := Scalar.cmpi .ne v114 v119
  let v121 : BitVec 32 := Scalar.remsi v106 c8_i32_42
  let c0_i32_47 : BitVec 32 := 0#32
  let v122 : BitVec 1 := Scalar.cmpi .ne v121 c0_i32_47
  let v123 : BitVec 1 := Scalar.andi v120 v122
  let v109 : BitVec 32 := Scalar.divsi v106 c8_i32_42
  let c1_i32_48 : BitVec 32 := 1#32
  let v124 : BitVec 32 := Scalar.subi v109 c1_i32_48
  let v125 : BitVec 32 := Scalar.select v123 v124 v109
  let c8_i32_49 : BitVec 32 := 8#32
  let v126 : BitVec 32 := Scalar.muli v125 c8_i32_49
  let v127 : BitVec 32 := Scalar.subi v106 v126
  let v129 : BitVec 32 := Scalar.addi v127 v108
  let c8_i32_50 : BitVec 32 := 8#32
  let v130 : BitVec 32 := Scalar.addi v129 c8_i32_50
  let c1_i32_51 : BitVec 32 := 1#32
  let v131 : BitVec 32 := Scalar.subi v130 c1_i32_51
  let c0_i32_53 : BitVec 32 := 0#32
  let v133 : BitVec 1 := Scalar.cmpi .sgt v131 c0_i32_53
  let v134 : BitVec 32 := Scalar.extui v133
  let c0_i32_54 : BitVec 32 := 0#32
  let v135 : BitVec 1 := Scalar.cmpi .slt v131 c0_i32_54
  let v136 : BitVec 32 := Scalar.extui v135
  let v137 : BitVec 32 := Scalar.subi v134 v136
  let c8_i32_52 : BitVec 32 := 8#32
  let c0_i32_55 : BitVec 32 := 0#32
  let v138 : BitVec 1 := Scalar.cmpi .sgt c8_i32_52 c0_i32_55
  let v139 : BitVec 32 := Scalar.extui v138
  let c0_i32_56 : BitVec 32 := 0#32
  let v140 : BitVec 1 := Scalar.cmpi .slt c8_i32_52 c0_i32_56
  let v141 : BitVec 32 := Scalar.extui v140
  let v142 : BitVec 32 := Scalar.subi v139 v141
  let v143 : BitVec 1 := Scalar.cmpi .ne v137 v142
  let v144 : BitVec 32 := Scalar.remsi v131 c8_i32_52
  let c0_i32_57 : BitVec 32 := 0#32
  let v145 : BitVec 1 := Scalar.cmpi .ne v144 c0_i32_57
  let v146 : BitVec 1 := Scalar.andi v143 v145
  let v132 : BitVec 32 := Scalar.divsi v131 c8_i32_52
  let c1_i32_58 : BitVec 32 := 1#32
  let v147 : BitVec 32 := Scalar.subi v132 c1_i32_58
  let v148 : BitVec 32 := Scalar.select v146 v147 v132
  let c0_i32_59 : BitVec 32 := 0#32
  let v149 : BitVec 32 := Scalar.select v128 v148 c0_i32_59
  let c0_i32_179 : BitVec 32 := 0#32
  let v412 : BitVec 1 := Scalar.cmpi .sgt v149 c0_i32_179
  let v413 : BitVec 32 := Scalar.extui v412
  let c0_i32_180 : BitVec 32 := 0#32
  let v414 : BitVec 1 := Scalar.cmpi .ne v413 c0_i32_180
  v414

def k0_mult52 (v106 : BitVec 32) : BitVec 32 :=
  let c0_i32_43 : BitVec 32 := 0#32
  let v110 : BitVec 1 := Scalar.cmpi .sgt v106 c0_i32_43
  let v111 : BitVec 32 := Scalar.extui v110
  let c0_i32_44 : BitVec 32 := 0#32
  let v112 : BitVec 1 := Scalar.cmpi .slt v106 c0_i32_44
  let v113 : BitVec 32 := Scalar.extui v112
  let v114 : BitVec 32 := Scalar.subi v111 v113
  let c8_i32_42 : BitVec 32 := 8#32
  let c0_i32_45 : BitVec 32 := 0#32
  let v115 : BitVec 1 := Scalar.cmpi .sgt c8_i32_42 c0_i32_45
  let v116 : BitVec 32 := Scalar.extui v115
  let c0_i32_46 : BitVec 32 := 0#32
  let v117 : BitVec 1 := Scalar.cmpi .slt c8_i32_42 c0_i32_46
  let v118 : BitVec 32 := Scalar.extui v117
  let v119 : BitVec 32 := Scalar.subi v116 v118
  let v120 : BitVec 1 := Scalar.cmpi .ne v114 v119
  let v121 : BitVec 32 := Scalar.remsi v106 c8_i32_42
  let c0_i32_47 : BitVec 32 := 0#32
  let v122 : BitVec 1 := Scalar.cmpi .ne v121 c0_i32_47
  let v123 : BitVec 1 := Scalar.andi v120 v122
  let v109 : BitVec 32 := Scalar.divsi v106 c8_i32_42
  let c1_i32_48 : BitVec 32 := 1#32
  let v124 : BitVec 32 := Scalar.subi v109 c1_i32_48
  let v125 : BitVec 32 := Scalar.select v123 v124 v109
  let c8_i32_190 : BitVec 32 := 8#32
  let v428 : BitVec 32 := Scalar.muli v125 c8_i32_190
  v428
def k0_mult53 (i : grid0.Coords) : BitVec 32 :=
  let arg0 : BitVec 32 := BitVec.ofNat 32 (i 0).val
  let c1_i32_187 : BitVec 32 := 1#32
  let v424 : BitVec 32 := Scalar.addi arg0 c1_i32_187
  let c512_i32 : BitVec 32 := 512#32
  let v430 : BitVec 32 := Scalar.muli v424 c512_i32
  v430
def k0_mult54 (v1 : BitVec 32) (v2 : BitVec 32) (v4 : BitVec 32) (v6 : BitVec 32) (v52 : BitVec 32) (v53 : BitVec 32) (v55 : BitVec 32) (v57 : BitVec 32) : BitVec 32 :=
  let c0_i32_18 : BitVec 32 := 0#32
  let v26 : BitVec 1 := Scalar.cmpi .sgt v2 v1
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let v50 : BitVec 32 := Scalar.addi c0_i32_18 v47
  let v77 : BitVec 1 := Scalar.cmpi .sgt v53 v52
  let c0_i32_22 : BitVec 32 := 0#32
  let v59 : BitVec 1 := Scalar.cmpi .sgt v55 c0_i32_22
  let v60 : BitVec 32 := Scalar.extui v59
  let c0_i32_23 : BitVec 32 := 0#32
  let v61 : BitVec 1 := Scalar.cmpi .slt v55 c0_i32_23
  let v62 : BitVec 32 := Scalar.extui v61
  let v63 : BitVec 32 := Scalar.subi v60 v62
  let c8_i32_21 : BitVec 32 := 8#32
  let c0_i32_24 : BitVec 32 := 0#32
  let v64 : BitVec 1 := Scalar.cmpi .sgt c8_i32_21 c0_i32_24
  let v65 : BitVec 32 := Scalar.extui v64
  let c0_i32_25 : BitVec 32 := 0#32
  let v66 : BitVec 1 := Scalar.cmpi .slt c8_i32_21 c0_i32_25
  let v67 : BitVec 32 := Scalar.extui v66
  let v68 : BitVec 32 := Scalar.subi v65 v67
  let v69 : BitVec 1 := Scalar.cmpi .ne v63 v68
  let v70 : BitVec 32 := Scalar.remsi v55 c8_i32_21
  let c0_i32_26 : BitVec 32 := 0#32
  let v71 : BitVec 1 := Scalar.cmpi .ne v70 c0_i32_26
  let v72 : BitVec 1 := Scalar.andi v69 v71
  let v58 : BitVec 32 := Scalar.divsi v55 c8_i32_21
  let c1_i32_27 : BitVec 32 := 1#32
  let v73 : BitVec 32 := Scalar.subi v58 c1_i32_27
  let v74 : BitVec 32 := Scalar.select v72 v73 v58
  let c8_i32_28 : BitVec 32 := 8#32
  let v75 : BitVec 32 := Scalar.muli v74 c8_i32_28
  let v76 : BitVec 32 := Scalar.subi v55 v75
  let v78 : BitVec 32 := Scalar.addi v76 v57
  let c8_i32_29 : BitVec 32 := 8#32
  let v79 : BitVec 32 := Scalar.addi v78 c8_i32_29
  let c1_i32_30 : BitVec 32 := 1#32
  let v80 : BitVec 32 := Scalar.subi v79 c1_i32_30
  let c0_i32_32 : BitVec 32 := 0#32
  let v82 : BitVec 1 := Scalar.cmpi .sgt v80 c0_i32_32
  let v83 : BitVec 32 := Scalar.extui v82
  let c0_i32_33 : BitVec 32 := 0#32
  let v84 : BitVec 1 := Scalar.cmpi .slt v80 c0_i32_33
  let v85 : BitVec 32 := Scalar.extui v84
  let v86 : BitVec 32 := Scalar.subi v83 v85
  let c8_i32_31 : BitVec 32 := 8#32
  let c0_i32_34 : BitVec 32 := 0#32
  let v87 : BitVec 1 := Scalar.cmpi .sgt c8_i32_31 c0_i32_34
  let v88 : BitVec 32 := Scalar.extui v87
  let c0_i32_35 : BitVec 32 := 0#32
  let v89 : BitVec 1 := Scalar.cmpi .slt c8_i32_31 c0_i32_35
  let v90 : BitVec 32 := Scalar.extui v89
  let v91 : BitVec 32 := Scalar.subi v88 v90
  let v92 : BitVec 1 := Scalar.cmpi .ne v86 v91
  let v93 : BitVec 32 := Scalar.remsi v80 c8_i32_31
  let c0_i32_36 : BitVec 32 := 0#32
  let v94 : BitVec 1 := Scalar.cmpi .ne v93 c0_i32_36
  let v95 : BitVec 1 := Scalar.andi v92 v94
  let v81 : BitVec 32 := Scalar.divsi v80 c8_i32_31
  let c1_i32_37 : BitVec 32 := 1#32
  let v96 : BitVec 32 := Scalar.subi v81 c1_i32_37
  let v97 : BitVec 32 := Scalar.select v95 v96 v81
  let c0_i32_38 : BitVec 32 := 0#32
  let v98 : BitVec 32 := Scalar.select v77 v97 c0_i32_38
  let v101 : BitVec 32 := Scalar.addi v50 v98
  let c8_i32_191 : BitVec 32 := 8#32
  let v432 : BitVec 32 := Scalar.muli v101 c8_i32_191
  v432
def k0_off43 (i : grid0.Coords) : Fin 2 → Nat :=
  let arg0 : BitVec 32 := BitVec.ofNat 32 (i 0).val
  let c1_i32_187 : BitVec 32 := 1#32
  let v424 : BitVec 32 := Scalar.addi arg0 c1_i32_187
  let c2_i32_188 : BitVec 32 := 2#32
  let v425 : BitVec 32 := Scalar.remsi v424 c2_i32_188
  let c2_i32_192 : BitVec 32 := 2#32
  ![v425.toNat, 2]
def k0_off44 (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) : (Fin 3 → Nat) × (Fin 3 → Nat) :=
  let arg0 : BitVec 32 := BitVec.ofNat 32 (i 0).val
  let c1_i32_187 : BitVec 32 := 1#32
  let v424 : BitVec 32 := Scalar.addi arg0 c1_i32_187
  let c2_i32_188 : BitVec 32 := 2#32
  let v425 : BitVec 32 := Scalar.remsi v424 c2_i32_188
  let c0_i32_18 : BitVec 32 := 0#32
  let v26 : BitVec 1 := Scalar.cmpi .sgt v2 v1
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let v50 : BitVec 32 := Scalar.addi c0_i32_18 v47
  let v77 : BitVec 1 := Scalar.cmpi .sgt v53 v52
  let c0_i32_22 : BitVec 32 := 0#32
  let v59 : BitVec 1 := Scalar.cmpi .sgt v55 c0_i32_22
  let v60 : BitVec 32 := Scalar.extui v59
  let c0_i32_23 : BitVec 32 := 0#32
  let v61 : BitVec 1 := Scalar.cmpi .slt v55 c0_i32_23
  let v62 : BitVec 32 := Scalar.extui v61
  let v63 : BitVec 32 := Scalar.subi v60 v62
  let c8_i32_21 : BitVec 32 := 8#32
  let c0_i32_24 : BitVec 32 := 0#32
  let v64 : BitVec 1 := Scalar.cmpi .sgt c8_i32_21 c0_i32_24
  let v65 : BitVec 32 := Scalar.extui v64
  let c0_i32_25 : BitVec 32 := 0#32
  let v66 : BitVec 1 := Scalar.cmpi .slt c8_i32_21 c0_i32_25
  let v67 : BitVec 32 := Scalar.extui v66
  let v68 : BitVec 32 := Scalar.subi v65 v67
  let v69 : BitVec 1 := Scalar.cmpi .ne v63 v68
  let v70 : BitVec 32 := Scalar.remsi v55 c8_i32_21
  let c0_i32_26 : BitVec 32 := 0#32
  let v71 : BitVec 1 := Scalar.cmpi .ne v70 c0_i32_26
  let v72 : BitVec 1 := Scalar.andi v69 v71
  let v58 : BitVec 32 := Scalar.divsi v55 c8_i32_21
  let c1_i32_27 : BitVec 32 := 1#32
  let v73 : BitVec 32 := Scalar.subi v58 c1_i32_27
  let v74 : BitVec 32 := Scalar.select v72 v73 v58
  let c8_i32_28 : BitVec 32 := 8#32
  let v75 : BitVec 32 := Scalar.muli v74 c8_i32_28
  let v76 : BitVec 32 := Scalar.subi v55 v75
  let v78 : BitVec 32 := Scalar.addi v76 v57
  let c8_i32_29 : BitVec 32 := 8#32
  let v79 : BitVec 32 := Scalar.addi v78 c8_i32_29
  let c1_i32_30 : BitVec 32 := 1#32
  let v80 : BitVec 32 := Scalar.subi v79 c1_i32_30
  let c0_i32_32 : BitVec 32 := 0#32
  let v82 : BitVec 1 := Scalar.cmpi .sgt v80 c0_i32_32
  let v83 : BitVec 32 := Scalar.extui v82
  let c0_i32_33 : BitVec 32 := 0#32
  let v84 : BitVec 1 := Scalar.cmpi .slt v80 c0_i32_33
  let v85 : BitVec 32 := Scalar.extui v84
  let v86 : BitVec 32 := Scalar.subi v83 v85
  let c8_i32_31 : BitVec 32 := 8#32
  let c0_i32_34 : BitVec 32 := 0#32
  let v87 : BitVec 1 := Scalar.cmpi .sgt c8_i32_31 c0_i32_34
  let v88 : BitVec 32 := Scalar.extui v87
  let c0_i32_35 : BitVec 32 := 0#32
  let v89 : BitVec 1 := Scalar.cmpi .slt c8_i32_31 c0_i32_35
  let v90 : BitVec 32 := Scalar.extui v89
  let v91 : BitVec 32 := Scalar.subi v88 v90
  let v92 : BitVec 1 := Scalar.cmpi .ne v86 v91
  let v93 : BitVec 32 := Scalar.remsi v80 c8_i32_31
  let c0_i32_36 : BitVec 32 := 0#32
  let v94 : BitVec 1 := Scalar.cmpi .ne v93 c0_i32_36
  let v95 : BitVec 1 := Scalar.andi v92 v94
  let v81 : BitVec 32 := Scalar.divsi v80 c8_i32_31
  let c1_i32_37 : BitVec 32 := 1#32
  let v96 : BitVec 32 := Scalar.subi v81 c1_i32_37
  let v97 : BitVec 32 := Scalar.select v95 v96 v81
  let c0_i32_38 : BitVec 32 := 0#32
  let v98 : BitVec 32 := Scalar.select v77 v97 c0_i32_38
  let v101 : BitVec 32 := Scalar.addi v50 v98
  let c8_i32_191 : BitVec 32 := 8#32
  let v432 : BitVec 32 := Scalar.muli v101 c8_i32_191
  let v433 : BitVec 32 := v432
  let c0_i32_193 : BitVec 32 := 0#32
  let v128 : BitVec 1 := Scalar.cmpi .sgt v104 v103
  let c0_i32_43 : BitVec 32 := 0#32
  let v110 : BitVec 1 := Scalar.cmpi .sgt v106 c0_i32_43
  let v111 : BitVec 32 := Scalar.extui v110
  let c0_i32_44 : BitVec 32 := 0#32
  let v112 : BitVec 1 := Scalar.cmpi .slt v106 c0_i32_44
  let v113 : BitVec 32 := Scalar.extui v112
  let v114 : BitVec 32 := Scalar.subi v111 v113
  let c8_i32_42 : BitVec 32 := 8#32
  let c0_i32_45 : BitVec 32 := 0#32
  let v115 : BitVec 1 := Scalar.cmpi .sgt c8_i32_42 c0_i32_45
  let v116 : BitVec 32 := Scalar.extui v115
  let c0_i32_46 : BitVec 32 := 0#32
  let v117 : BitVec 1 := Scalar.cmpi .slt c8_i32_42 c0_i32_46
  let v118 : BitVec 32 := Scalar.extui v117
  let v119 : BitVec 32 := Scalar.subi v116 v118
  let v120 : BitVec 1 := Scalar.cmpi .ne v114 v119
  let v121 : BitVec 32 := Scalar.remsi v106 c8_i32_42
  let c0_i32_47 : BitVec 32 := 0#32
  let v122 : BitVec 1 := Scalar.cmpi .ne v121 c0_i32_47
  let v123 : BitVec 1 := Scalar.andi v120 v122
  let v109 : BitVec 32 := Scalar.divsi v106 c8_i32_42
  let c1_i32_48 : BitVec 32 := 1#32
  let v124 : BitVec 32 := Scalar.subi v109 c1_i32_48
  let v125 : BitVec 32 := Scalar.select v123 v124 v109
  let c8_i32_49 : BitVec 32 := 8#32
  let v126 : BitVec 32 := Scalar.muli v125 c8_i32_49
  let v127 : BitVec 32 := Scalar.subi v106 v126
  let v129 : BitVec 32 := Scalar.addi v127 v108
  let c8_i32_50 : BitVec 32 := 8#32
  let v130 : BitVec 32 := Scalar.addi v129 c8_i32_50
  let c1_i32_51 : BitVec 32 := 1#32
  let v131 : BitVec 32 := Scalar.subi v130 c1_i32_51
  let c0_i32_53 : BitVec 32 := 0#32
  let v133 : BitVec 1 := Scalar.cmpi .sgt v131 c0_i32_53
  let v134 : BitVec 32 := Scalar.extui v133
  let c0_i32_54 : BitVec 32 := 0#32
  let v135 : BitVec 1 := Scalar.cmpi .slt v131 c0_i32_54
  let v136 : BitVec 32 := Scalar.extui v135
  let v137 : BitVec 32 := Scalar.subi v134 v136
  let c8_i32_52 : BitVec 32 := 8#32
  let c0_i32_55 : BitVec 32 := 0#32
  let v138 : BitVec 1 := Scalar.cmpi .sgt c8_i32_52 c0_i32_55
  let v139 : BitVec 32 := Scalar.extui v138
  let c0_i32_56 : BitVec 32 := 0#32
  let v140 : BitVec 1 := Scalar.cmpi .slt c8_i32_52 c0_i32_56
  let v141 : BitVec 32 := Scalar.extui v140
  let v142 : BitVec 32 := Scalar.subi v139 v141
  let v143 : BitVec 1 := Scalar.cmpi .ne v137 v142
  let v144 : BitVec 32 := Scalar.remsi v131 c8_i32_52
  let c0_i32_57 : BitVec 32 := 0#32
  let v145 : BitVec 1 := Scalar.cmpi .ne v144 c0_i32_57
  let v146 : BitVec 1 := Scalar.andi v143 v145
  let v132 : BitVec 32 := Scalar.divsi v131 c8_i32_52
  let c1_i32_58 : BitVec 32 := 1#32
  let v147 : BitVec 32 := Scalar.subi v132 c1_i32_58
  let v148 : BitVec 32 := Scalar.select v146 v147 v132
  let c0_i32_59 : BitVec 32 := 0#32
  let v149 : BitVec 32 := Scalar.select v128 v148 c0_i32_59
  let c8_i32_189 : BitVec 32 := 8#32
  let v426 : BitVec 32 := Scalar.muli v149 c8_i32_189
  let v427 : BitVec 32 := v426
  ⟨![v425.toNat, v433.toNat, 0], ![1, v427.toNat, 512]⟩
def k0_sz9 (v103 : BitVec 32) (v104 : BitVec 32) (v106 : BitVec 32) (v108 : BitVec 32) : Fin 2 → Nat :=
  let v128 : BitVec 1 := Scalar.cmpi .sgt v104 v103
  let c0_i32_43 : BitVec 32 := 0#32
  let v110 : BitVec 1 := Scalar.cmpi .sgt v106 c0_i32_43
  let v111 : BitVec 32 := Scalar.extui v110
  let c0_i32_44 : BitVec 32 := 0#32
  let v112 : BitVec 1 := Scalar.cmpi .slt v106 c0_i32_44
  let v113 : BitVec 32 := Scalar.extui v112
  let v114 : BitVec 32 := Scalar.subi v111 v113
  let c8_i32_42 : BitVec 32 := 8#32
  let c0_i32_45 : BitVec 32 := 0#32
  let v115 : BitVec 1 := Scalar.cmpi .sgt c8_i32_42 c0_i32_45
  let v116 : BitVec 32 := Scalar.extui v115
  let c0_i32_46 : BitVec 32 := 0#32
  let v117 : BitVec 1 := Scalar.cmpi .slt c8_i32_42 c0_i32_46
  let v118 : BitVec 32 := Scalar.extui v117
  let v119 : BitVec 32 := Scalar.subi v116 v118
  let v120 : BitVec 1 := Scalar.cmpi .ne v114 v119
  let v121 : BitVec 32 := Scalar.remsi v106 c8_i32_42
  let c0_i32_47 : BitVec 32 := 0#32
  let v122 : BitVec 1 := Scalar.cmpi .ne v121 c0_i32_47
  let v123 : BitVec 1 := Scalar.andi v120 v122
  let v109 : BitVec 32 := Scalar.divsi v106 c8_i32_42
  let c1_i32_48 : BitVec 32 := 1#32
  let v124 : BitVec 32 := Scalar.subi v109 c1_i32_48
  let v125 : BitVec 32 := Scalar.select v123 v124 v109
  let c8_i32_49 : BitVec 32 := 8#32
  let v126 : BitVec 32 := Scalar.muli v125 c8_i32_49
  let v127 : BitVec 32 := Scalar.subi v106 v126
  let v129 : BitVec 32 := Scalar.addi v127 v108
  let c8_i32_50 : BitVec 32 := 8#32
  let v130 : BitVec 32 := Scalar.addi v129 c8_i32_50
  let c1_i32_51 : BitVec 32 := 1#32
  let v131 : BitVec 32 := Scalar.subi v130 c1_i32_51
  let c0_i32_53 : BitVec 32 := 0#32
  let v133 : BitVec 1 := Scalar.cmpi .sgt v131 c0_i32_53
  let v134 : BitVec 32 := Scalar.extui v133
  let c0_i32_54 : BitVec 32 := 0#32
  let v135 : BitVec 1 := Scalar.cmpi .slt v131 c0_i32_54
  let v136 : BitVec 32 := Scalar.extui v135
  let v137 : BitVec 32 := Scalar.subi v134 v136
  let c8_i32_52 : BitVec 32 := 8#32
  let c0_i32_55 : BitVec 32 := 0#32
  let v138 : BitVec 1 := Scalar.cmpi .sgt c8_i32_52 c0_i32_55
  let v139 : BitVec 32 := Scalar.extui v138
  let c0_i32_56 : BitVec 32 := 0#32
  let v140 : BitVec 1 := Scalar.cmpi .slt c8_i32_52 c0_i32_56
  let v141 : BitVec 32 := Scalar.extui v140
  let v142 : BitVec 32 := Scalar.subi v139 v141
  let v143 : BitVec 1 := Scalar.cmpi .ne v137 v142
  let v144 : BitVec 32 := Scalar.remsi v131 c8_i32_52
  let c0_i32_57 : BitVec 32 := 0#32
  let v145 : BitVec 1 := Scalar.cmpi .ne v144 c0_i32_57
  let v146 : BitVec 1 := Scalar.andi v143 v145
  let v132 : BitVec 32 := Scalar.divsi v131 c8_i32_52
  let c1_i32_58 : BitVec 32 := 1#32
  let v147 : BitVec 32 := Scalar.subi v132 c1_i32_58
  let v148 : BitVec 32 := Scalar.select v146 v147 v132
  let c0_i32_59 : BitVec 32 := 0#32
  let v149 : BitVec 32 := Scalar.select v128 v148 c0_i32_59
  let c8_i32_189 : BitVec 32 := 8#32
  let v426 : BitVec 32 := Scalar.muli v149 c8_i32_189
  let v427 : BitVec 32 := v426
  ![v427.toNat, 512]
def k0_off45 (i : grid0.Coords) (v103 : BitVec 32) (v104 : BitVec 32) (v106 : BitVec 32) (v108 : BitVec 32) : (Fin 2 → Nat) × (Fin 2 → Nat) :=
  let c0_i32_43 : BitVec 32 := 0#32
  let v110 : BitVec 1 := Scalar.cmpi .sgt v106 c0_i32_43
  let v111 : BitVec 32 := Scalar.extui v110
  let c0_i32_44 : BitVec 32 := 0#32
  let v112 : BitVec 1 := Scalar.cmpi .slt v106 c0_i32_44
  let v113 : BitVec 32 := Scalar.extui v112
  let v114 : BitVec 32 := Scalar.subi v111 v113
  let c8_i32_42 : BitVec 32 := 8#32
  let c0_i32_45 : BitVec 32 := 0#32
  let v115 : BitVec 1 := Scalar.cmpi .sgt c8_i32_42 c0_i32_45
  let v116 : BitVec 32 := Scalar.extui v115
  let c0_i32_46 : BitVec 32 := 0#32
  let v117 : BitVec 1 := Scalar.cmpi .slt c8_i32_42 c0_i32_46
  let v118 : BitVec 32 := Scalar.extui v117
  let v119 : BitVec 32 := Scalar.subi v116 v118
  let v120 : BitVec 1 := Scalar.cmpi .ne v114 v119
  let v121 : BitVec 32 := Scalar.remsi v106 c8_i32_42
  let c0_i32_47 : BitVec 32 := 0#32
  let v122 : BitVec 1 := Scalar.cmpi .ne v121 c0_i32_47
  let v123 : BitVec 1 := Scalar.andi v120 v122
  let v109 : BitVec 32 := Scalar.divsi v106 c8_i32_42
  let c1_i32_48 : BitVec 32 := 1#32
  let v124 : BitVec 32 := Scalar.subi v109 c1_i32_48
  let v125 : BitVec 32 := Scalar.select v123 v124 v109
  let c8_i32_190 : BitVec 32 := 8#32
  let v428 : BitVec 32 := Scalar.muli v125 c8_i32_190
  let v429 : BitVec 32 := v428
  let arg0 : BitVec 32 := BitVec.ofNat 32 (i 0).val
  let c1_i32_187 : BitVec 32 := 1#32
  let v424 : BitVec 32 := Scalar.addi arg0 c1_i32_187
  let c512_i32 : BitVec 32 := 512#32
  let v430 : BitVec 32 := Scalar.muli v424 c512_i32
  let v431 : BitVec 32 := v430
  let v128 : BitVec 1 := Scalar.cmpi .sgt v104 v103
  let c8_i32_49 : BitVec 32 := 8#32
  let v126 : BitVec 32 := Scalar.muli v125 c8_i32_49
  let v127 : BitVec 32 := Scalar.subi v106 v126
  let v129 : BitVec 32 := Scalar.addi v127 v108
  let c8_i32_50 : BitVec 32 := 8#32
  let v130 : BitVec 32 := Scalar.addi v129 c8_i32_50
  let c1_i32_51 : BitVec 32 := 1#32
  let v131 : BitVec 32 := Scalar.subi v130 c1_i32_51
  let c0_i32_53 : BitVec 32 := 0#32
  let v133 : BitVec 1 := Scalar.cmpi .sgt v131 c0_i32_53
  let v134 : BitVec 32 := Scalar.extui v133
  let c0_i32_54 : BitVec 32 := 0#32
  let v135 : BitVec 1 := Scalar.cmpi .slt v131 c0_i32_54
  let v136 : BitVec 32 := Scalar.extui v135
  let v137 : BitVec 32 := Scalar.subi v134 v136
  let c8_i32_52 : BitVec 32 := 8#32
  let c0_i32_55 : BitVec 32 := 0#32
  let v138 : BitVec 1 := Scalar.cmpi .sgt c8_i32_52 c0_i32_55
  let v139 : BitVec 32 := Scalar.extui v138
  let c0_i32_56 : BitVec 32 := 0#32
  let v140 : BitVec 1 := Scalar.cmpi .slt c8_i32_52 c0_i32_56
  let v141 : BitVec 32 := Scalar.extui v140
  let v142 : BitVec 32 := Scalar.subi v139 v141
  let v143 : BitVec 1 := Scalar.cmpi .ne v137 v142
  let v144 : BitVec 32 := Scalar.remsi v131 c8_i32_52
  let c0_i32_57 : BitVec 32 := 0#32
  let v145 : BitVec 1 := Scalar.cmpi .ne v144 c0_i32_57
  let v146 : BitVec 1 := Scalar.andi v143 v145
  let v132 : BitVec 32 := Scalar.divsi v131 c8_i32_52
  let c1_i32_58 : BitVec 32 := 1#32
  let v147 : BitVec 32 := Scalar.subi v132 c1_i32_58
  let v148 : BitVec 32 := Scalar.select v146 v147 v132
  let c0_i32_59 : BitVec 32 := 0#32
  let v149 : BitVec 32 := Scalar.select v128 v148 c0_i32_59
  let c8_i32_189 : BitVec 32 := 8#32
  let v426 : BitVec 32 := Scalar.muli v149 c8_i32_189
  let v427 : BitVec 32 := v426
  ⟨![v429.toNat, v431.toNat], ![v427.toNat, 512]⟩
def k0_mult55 (v154 : BitVec 32) (v155 : BitVec 32) (v157 : BitVec 32) (v159 : BitVec 32) : BitVec 32 :=
  let v179 : BitVec 1 := Scalar.cmpi .sgt v155 v154
  let c0_i32_64 : BitVec 32 := 0#32
  let v161 : BitVec 1 := Scalar.cmpi .sgt v157 c0_i32_64
  let v162 : BitVec 32 := Scalar.extui v161
  let c0_i32_65 : BitVec 32 := 0#32
  let v163 : BitVec 1 := Scalar.cmpi .slt v157 c0_i32_65
  let v164 : BitVec 32 := Scalar.extui v163
  let v165 : BitVec 32 := Scalar.subi v162 v164
  let c8_i32_63 : BitVec 32 := 8#32
  let c0_i32_66 : BitVec 32 := 0#32
  let v166 : BitVec 1 := Scalar.cmpi .sgt c8_i32_63 c0_i32_66
  let v167 : BitVec 32 := Scalar.extui v166
  let c0_i32_67 : BitVec 32 := 0#32
  let v168 : BitVec 1 := Scalar.cmpi .slt c8_i32_63 c0_i32_67
  let v169 : BitVec 32 := Scalar.extui v168
  let v170 : BitVec 32 := Scalar.subi v167 v169
  let v171 : BitVec 1 := Scalar.cmpi .ne v165 v170
  let v172 : BitVec 32 := Scalar.remsi v157 c8_i32_63
  let c0_i32_68 : BitVec 32 := 0#32
  let v173 : BitVec 1 := Scalar.cmpi .ne v172 c0_i32_68
  let v174 : BitVec 1 := Scalar.andi v171 v173
  let v160 : BitVec 32 := Scalar.divsi v157 c8_i32_63
  let c1_i32_69 : BitVec 32 := 1#32
  let v175 : BitVec 32 := Scalar.subi v160 c1_i32_69
  let v176 : BitVec 32 := Scalar.select v174 v175 v160
  let c8_i32_70 : BitVec 32 := 8#32
  let v177 : BitVec 32 := Scalar.muli v176 c8_i32_70
  let v178 : BitVec 32 := Scalar.subi v157 v177
  let v180 : BitVec 32 := Scalar.addi v178 v159
  let c8_i32_71 : BitVec 32 := 8#32
  let v181 : BitVec 32 := Scalar.addi v180 c8_i32_71
  let c1_i32_72 : BitVec 32 := 1#32
  let v182 : BitVec 32 := Scalar.subi v181 c1_i32_72
  let c0_i32_74 : BitVec 32 := 0#32
  let v184 : BitVec 1 := Scalar.cmpi .sgt v182 c0_i32_74
  let v185 : BitVec 32 := Scalar.extui v184
  let c0_i32_75 : BitVec 32 := 0#32
  let v186 : BitVec 1 := Scalar.cmpi .slt v182 c0_i32_75
  let v187 : BitVec 32 := Scalar.extui v186
  let v188 : BitVec 32 := Scalar.subi v185 v187
  let c8_i32_73 : BitVec 32 := 8#32
  let c0_i32_76 : BitVec 32 := 0#32
  let v189 : BitVec 1 := Scalar.cmpi .sgt c8_i32_73 c0_i32_76
  let v190 : BitVec 32 := Scalar.extui v189
  let c0_i32_77 : BitVec 32 := 0#32
  let v191 : BitVec 1 := Scalar.cmpi .slt c8_i32_73 c0_i32_77
  let v192 : BitVec 32 := Scalar.extui v191
  let v193 : BitVec 32 := Scalar.subi v190 v192
  let v194 : BitVec 1 := Scalar.cmpi .ne v188 v193
  let v195 : BitVec 32 := Scalar.remsi v182 c8_i32_73
  let c0_i32_78 : BitVec 32 := 0#32
  let v196 : BitVec 1 := Scalar.cmpi .ne v195 c0_i32_78
  let v197 : BitVec 1 := Scalar.andi v194 v196
  let v183 : BitVec 32 := Scalar.divsi v182 c8_i32_73
  let c1_i32_79 : BitVec 32 := 1#32
  let v198 : BitVec 32 := Scalar.subi v183 c1_i32_79
  let v199 : BitVec 32 := Scalar.select v197 v198 v183
  let c0_i32_80 : BitVec 32 := 0#32
  let v200 : BitVec 32 := Scalar.select v179 v199 c0_i32_80
  let c8_i32_189 : BitVec 32 := 8#32
  let v426 : BitVec 32 := Scalar.muli v200 c8_i32_189
  v426
def k0_cond18 (v154 : BitVec 32) (v155 : BitVec 32) (v157 : BitVec 32) (v159 : BitVec 32) : BitVec 1 :=
  let v179 : BitVec 1 := Scalar.cmpi .sgt v155 v154
  let c0_i32_64 : BitVec 32 := 0#32
  let v161 : BitVec 1 := Scalar.cmpi .sgt v157 c0_i32_64
  let v162 : BitVec 32 := Scalar.extui v161
  let c0_i32_65 : BitVec 32 := 0#32
  let v163 : BitVec 1 := Scalar.cmpi .slt v157 c0_i32_65
  let v164 : BitVec 32 := Scalar.extui v163
  let v165 : BitVec 32 := Scalar.subi v162 v164
  let c8_i32_63 : BitVec 32 := 8#32
  let c0_i32_66 : BitVec 32 := 0#32
  let v166 : BitVec 1 := Scalar.cmpi .sgt c8_i32_63 c0_i32_66
  let v167 : BitVec 32 := Scalar.extui v166
  let c0_i32_67 : BitVec 32 := 0#32
  let v168 : BitVec 1 := Scalar.cmpi .slt c8_i32_63 c0_i32_67
  let v169 : BitVec 32 := Scalar.extui v168
  let v170 : BitVec 32 := Scalar.subi v167 v169
  let v171 : BitVec 1 := Scalar.cmpi .ne v165 v170
  let v172 : BitVec 32 := Scalar.remsi v157 c8_i32_63
  let c0_i32_68 : BitVec 32 := 0#32
  let v173 : BitVec 1 := Scalar.cmpi .ne v172 c0_i32_68
  let v174 : BitVec 1 := Scalar.andi v171 v173
  let v160 : BitVec 32 := Scalar.divsi v157 c8_i32_63
  let c1_i32_69 : BitVec 32 := 1#32
  let v175 : BitVec 32 := Scalar.subi v160 c1_i32_69
  let v176 : BitVec 32 := Scalar.select v174 v175 v160
  let c8_i32_70 : BitVec 32 := 8#32
  let v177 : BitVec 32 := Scalar.muli v176 c8_i32_70
  let v178 : BitVec 32 := Scalar.subi v157 v177
  let v180 : BitVec 32 := Scalar.addi v178 v159
  let c8_i32_71 : BitVec 32 := 8#32
  let v181 : BitVec 32 := Scalar.addi v180 c8_i32_71
  let c1_i32_72 : BitVec 32 := 1#32
  let v182 : BitVec 32 := Scalar.subi v181 c1_i32_72
  let c0_i32_74 : BitVec 32 := 0#32
  let v184 : BitVec 1 := Scalar.cmpi .sgt v182 c0_i32_74
  let v185 : BitVec 32 := Scalar.extui v184
  let c0_i32_75 : BitVec 32 := 0#32
  let v186 : BitVec 1 := Scalar.cmpi .slt v182 c0_i32_75
  let v187 : BitVec 32 := Scalar.extui v186
  let v188 : BitVec 32 := Scalar.subi v185 v187
  let c8_i32_73 : BitVec 32 := 8#32
  let c0_i32_76 : BitVec 32 := 0#32
  let v189 : BitVec 1 := Scalar.cmpi .sgt c8_i32_73 c0_i32_76
  let v190 : BitVec 32 := Scalar.extui v189
  let c0_i32_77 : BitVec 32 := 0#32
  let v191 : BitVec 1 := Scalar.cmpi .slt c8_i32_73 c0_i32_77
  let v192 : BitVec 32 := Scalar.extui v191
  let v193 : BitVec 32 := Scalar.subi v190 v192
  let v194 : BitVec 1 := Scalar.cmpi .ne v188 v193
  let v195 : BitVec 32 := Scalar.remsi v182 c8_i32_73
  let c0_i32_78 : BitVec 32 := 0#32
  let v196 : BitVec 1 := Scalar.cmpi .ne v195 c0_i32_78
  let v197 : BitVec 1 := Scalar.andi v194 v196
  let v183 : BitVec 32 := Scalar.divsi v182 c8_i32_73
  let c1_i32_79 : BitVec 32 := 1#32
  let v198 : BitVec 32 := Scalar.subi v183 c1_i32_79
  let v199 : BitVec 32 := Scalar.select v197 v198 v183
  let c0_i32_80 : BitVec 32 := 0#32
  let v200 : BitVec 32 := Scalar.select v179 v199 c0_i32_80
  let c0_i32_181 : BitVec 32 := 0#32
  let v415 : BitVec 1 := Scalar.cmpi .sgt v200 c0_i32_181
  let v416 : BitVec 32 := Scalar.extui v415
  let c0_i32_182 : BitVec 32 := 0#32
  let v417 : BitVec 1 := Scalar.cmpi .ne v416 c0_i32_182
  v417

def k0_mult56 (v157 : BitVec 32) : BitVec 32 :=
  let c0_i32_64 : BitVec 32 := 0#32
  let v161 : BitVec 1 := Scalar.cmpi .sgt v157 c0_i32_64
  let v162 : BitVec 32 := Scalar.extui v161
  let c0_i32_65 : BitVec 32 := 0#32
  let v163 : BitVec 1 := Scalar.cmpi .slt v157 c0_i32_65
  let v164 : BitVec 32 := Scalar.extui v163
  let v165 : BitVec 32 := Scalar.subi v162 v164
  let c8_i32_63 : BitVec 32 := 8#32
  let c0_i32_66 : BitVec 32 := 0#32
  let v166 : BitVec 1 := Scalar.cmpi .sgt c8_i32_63 c0_i32_66
  let v167 : BitVec 32 := Scalar.extui v166
  let c0_i32_67 : BitVec 32 := 0#32
  let v168 : BitVec 1 := Scalar.cmpi .slt c8_i32_63 c0_i32_67
  let v169 : BitVec 32 := Scalar.extui v168
  let v170 : BitVec 32 := Scalar.subi v167 v169
  let v171 : BitVec 1 := Scalar.cmpi .ne v165 v170
  let v172 : BitVec 32 := Scalar.remsi v157 c8_i32_63
  let c0_i32_68 : BitVec 32 := 0#32
  let v173 : BitVec 1 := Scalar.cmpi .ne v172 c0_i32_68
  let v174 : BitVec 1 := Scalar.andi v171 v173
  let v160 : BitVec 32 := Scalar.divsi v157 c8_i32_63
  let c1_i32_69 : BitVec 32 := 1#32
  let v175 : BitVec 32 := Scalar.subi v160 c1_i32_69
  let v176 : BitVec 32 := Scalar.select v174 v175 v160
  let c8_i32_190 : BitVec 32 := 8#32
  let v428 : BitVec 32 := Scalar.muli v176 c8_i32_190
  v428
def k0_mult57 (i : grid0.Coords) : BitVec 32 :=
  let arg0 : BitVec 32 := BitVec.ofNat 32 (i 0).val
  let c1_i32_187 : BitVec 32 := 1#32
  let v424 : BitVec 32 := Scalar.addi arg0 c1_i32_187
  let c512_i32 : BitVec 32 := 512#32
  let v430 : BitVec 32 := Scalar.muli v424 c512_i32
  v430
def k0_mult58 (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) : BitVec 32 :=
  let c0_i32_18 : BitVec 32 := 0#32
  let v26 : BitVec 1 := Scalar.cmpi .sgt v2 v1
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let v50 : BitVec 32 := Scalar.addi c0_i32_18 v47
  let v77 : BitVec 1 := Scalar.cmpi .sgt v53 v52
  let c0_i32_22 : BitVec 32 := 0#32
  let v59 : BitVec 1 := Scalar.cmpi .sgt v55 c0_i32_22
  let v60 : BitVec 32 := Scalar.extui v59
  let c0_i32_23 : BitVec 32 := 0#32
  let v61 : BitVec 1 := Scalar.cmpi .slt v55 c0_i32_23
  let v62 : BitVec 32 := Scalar.extui v61
  let v63 : BitVec 32 := Scalar.subi v60 v62
  let c8_i32_21 : BitVec 32 := 8#32
  let c0_i32_24 : BitVec 32 := 0#32
  let v64 : BitVec 1 := Scalar.cmpi .sgt c8_i32_21 c0_i32_24
  let v65 : BitVec 32 := Scalar.extui v64
  let c0_i32_25 : BitVec 32 := 0#32
  let v66 : BitVec 1 := Scalar.cmpi .slt c8_i32_21 c0_i32_25
  let v67 : BitVec 32 := Scalar.extui v66
  let v68 : BitVec 32 := Scalar.subi v65 v67
  let v69 : BitVec 1 := Scalar.cmpi .ne v63 v68
  let v70 : BitVec 32 := Scalar.remsi v55 c8_i32_21
  let c0_i32_26 : BitVec 32 := 0#32
  let v71 : BitVec 1 := Scalar.cmpi .ne v70 c0_i32_26
  let v72 : BitVec 1 := Scalar.andi v69 v71
  let v58 : BitVec 32 := Scalar.divsi v55 c8_i32_21
  let c1_i32_27 : BitVec 32 := 1#32
  let v73 : BitVec 32 := Scalar.subi v58 c1_i32_27
  let v74 : BitVec 32 := Scalar.select v72 v73 v58
  let c8_i32_28 : BitVec 32 := 8#32
  let v75 : BitVec 32 := Scalar.muli v74 c8_i32_28
  let v76 : BitVec 32 := Scalar.subi v55 v75
  let v78 : BitVec 32 := Scalar.addi v76 v57
  let c8_i32_29 : BitVec 32 := 8#32
  let v79 : BitVec 32 := Scalar.addi v78 c8_i32_29
  let c1_i32_30 : BitVec 32 := 1#32
  let v80 : BitVec 32 := Scalar.subi v79 c1_i32_30
  let c0_i32_32 : BitVec 32 := 0#32
  let v82 : BitVec 1 := Scalar.cmpi .sgt v80 c0_i32_32
  let v83 : BitVec 32 := Scalar.extui v82
  let c0_i32_33 : BitVec 32 := 0#32
  let v84 : BitVec 1 := Scalar.cmpi .slt v80 c0_i32_33
  let v85 : BitVec 32 := Scalar.extui v84
  let v86 : BitVec 32 := Scalar.subi v83 v85
  let c8_i32_31 : BitVec 32 := 8#32
  let c0_i32_34 : BitVec 32 := 0#32
  let v87 : BitVec 1 := Scalar.cmpi .sgt c8_i32_31 c0_i32_34
  let v88 : BitVec 32 := Scalar.extui v87
  let c0_i32_35 : BitVec 32 := 0#32
  let v89 : BitVec 1 := Scalar.cmpi .slt c8_i32_31 c0_i32_35
  let v90 : BitVec 32 := Scalar.extui v89
  let v91 : BitVec 32 := Scalar.subi v88 v90
  let v92 : BitVec 1 := Scalar.cmpi .ne v86 v91
  let v93 : BitVec 32 := Scalar.remsi v80 c8_i32_31
  let c0_i32_36 : BitVec 32 := 0#32
  let v94 : BitVec 1 := Scalar.cmpi .ne v93 c0_i32_36
  let v95 : BitVec 1 := Scalar.andi v92 v94
  let v81 : BitVec 32 := Scalar.divsi v80 c8_i32_31
  let c1_i32_37 : BitVec 32 := 1#32
  let v96 : BitVec 32 := Scalar.subi v81 c1_i32_37
  let v97 : BitVec 32 := Scalar.select v95 v96 v81
  let c0_i32_38 : BitVec 32 := 0#32
  let v98 : BitVec 32 := Scalar.select v77 v97 c0_i32_38
  let v101 : BitVec 32 := Scalar.addi v50 v98
  let v128 : BitVec 1 := Scalar.cmpi .sgt v104 v103
  let c0_i32_43 : BitVec 32 := 0#32
  let v110 : BitVec 1 := Scalar.cmpi .sgt v106 c0_i32_43
  let v111 : BitVec 32 := Scalar.extui v110
  let c0_i32_44 : BitVec 32 := 0#32
  let v112 : BitVec 1 := Scalar.cmpi .slt v106 c0_i32_44
  let v113 : BitVec 32 := Scalar.extui v112
  let v114 : BitVec 32 := Scalar.subi v111 v113
  let c8_i32_42 : BitVec 32 := 8#32
  let c0_i32_45 : BitVec 32 := 0#32
  let v115 : BitVec 1 := Scalar.cmpi .sgt c8_i32_42 c0_i32_45
  let v116 : BitVec 32 := Scalar.extui v115
  let c0_i32_46 : BitVec 32 := 0#32
  let v117 : BitVec 1 := Scalar.cmpi .slt c8_i32_42 c0_i32_46
  let v118 : BitVec 32 := Scalar.extui v117
  let v119 : BitVec 32 := Scalar.subi v116 v118
  let v120 : BitVec 1 := Scalar.cmpi .ne v114 v119
  let v121 : BitVec 32 := Scalar.remsi v106 c8_i32_42
  let c0_i32_47 : BitVec 32 := 0#32
  let v122 : BitVec 1 := Scalar.cmpi .ne v121 c0_i32_47
  let v123 : BitVec 1 := Scalar.andi v120 v122
  let v109 : BitVec 32 := Scalar.divsi v106 c8_i32_42
  let c1_i32_48 : BitVec 32 := 1#32
  let v124 : BitVec 32 := Scalar.subi v109 c1_i32_48
  let v125 : BitVec 32 := Scalar.select v123 v124 v109
  let c8_i32_49 : BitVec 32 := 8#32
  let v126 : BitVec 32 := Scalar.muli v125 c8_i32_49
  let v127 : BitVec 32 := Scalar.subi v106 v126
  let v129 : BitVec 32 := Scalar.addi v127 v108
  let c8_i32_50 : BitVec 32 := 8#32
  let v130 : BitVec 32 := Scalar.addi v129 c8_i32_50
  let c1_i32_51 : BitVec 32 := 1#32
  let v131 : BitVec 32 := Scalar.subi v130 c1_i32_51
  let c0_i32_53 : BitVec 32 := 0#32
  let v133 : BitVec 1 := Scalar.cmpi .sgt v131 c0_i32_53
  let v134 : BitVec 32 := Scalar.extui v133
  let c0_i32_54 : BitVec 32 := 0#32
  let v135 : BitVec 1 := Scalar.cmpi .slt v131 c0_i32_54
  let v136 : BitVec 32 := Scalar.extui v135
  let v137 : BitVec 32 := Scalar.subi v134 v136
  let c8_i32_52 : BitVec 32 := 8#32
  let c0_i32_55 : BitVec 32 := 0#32
  let v138 : BitVec 1 := Scalar.cmpi .sgt c8_i32_52 c0_i32_55
  let v139 : BitVec 32 := Scalar.extui v138
  let c0_i32_56 : BitVec 32 := 0#32
  let v140 : BitVec 1 := Scalar.cmpi .slt c8_i32_52 c0_i32_56
  let v141 : BitVec 32 := Scalar.extui v140
  let v142 : BitVec 32 := Scalar.subi v139 v141
  let v143 : BitVec 1 := Scalar.cmpi .ne v137 v142
  let v144 : BitVec 32 := Scalar.remsi v131 c8_i32_52
  let c0_i32_57 : BitVec 32 := 0#32
  let v145 : BitVec 1 := Scalar.cmpi .ne v144 c0_i32_57
  let v146 : BitVec 1 := Scalar.andi v143 v145
  let v132 : BitVec 32 := Scalar.divsi v131 c8_i32_52
  let c1_i32_58 : BitVec 32 := 1#32
  let v147 : BitVec 32 := Scalar.subi v132 c1_i32_58
  let v148 : BitVec 32 := Scalar.select v146 v147 v132
  let c0_i32_59 : BitVec 32 := 0#32
  let v149 : BitVec 32 := Scalar.select v128 v148 c0_i32_59
  let v152 : BitVec 32 := Scalar.addi v101 v149
  let c8_i32_191 : BitVec 32 := 8#32
  let v432 : BitVec 32 := Scalar.muli v152 c8_i32_191
  v432
def k0_off46 (i : grid0.Coords) : Fin 2 → Nat :=
  let arg0 : BitVec 32 := BitVec.ofNat 32 (i 0).val
  let c1_i32_187 : BitVec 32 := 1#32
  let v424 : BitVec 32 := Scalar.addi arg0 c1_i32_187
  let c2_i32_188 : BitVec 32 := 2#32
  let v425 : BitVec 32 := Scalar.remsi v424 c2_i32_188
  let c3_i32_192 : BitVec 32 := 3#32
  ![v425.toNat, 3]
def k0_off47 (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) : (Fin 3 → Nat) × (Fin 3 → Nat) :=
  let arg0 : BitVec 32 := BitVec.ofNat 32 (i 0).val
  let c1_i32_187 : BitVec 32 := 1#32
  let v424 : BitVec 32 := Scalar.addi arg0 c1_i32_187
  let c2_i32_188 : BitVec 32 := 2#32
  let v425 : BitVec 32 := Scalar.remsi v424 c2_i32_188
  let c0_i32_18 : BitVec 32 := 0#32
  let v26 : BitVec 1 := Scalar.cmpi .sgt v2 v1
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let v50 : BitVec 32 := Scalar.addi c0_i32_18 v47
  let v77 : BitVec 1 := Scalar.cmpi .sgt v53 v52
  let c0_i32_22 : BitVec 32 := 0#32
  let v59 : BitVec 1 := Scalar.cmpi .sgt v55 c0_i32_22
  let v60 : BitVec 32 := Scalar.extui v59
  let c0_i32_23 : BitVec 32 := 0#32
  let v61 : BitVec 1 := Scalar.cmpi .slt v55 c0_i32_23
  let v62 : BitVec 32 := Scalar.extui v61
  let v63 : BitVec 32 := Scalar.subi v60 v62
  let c8_i32_21 : BitVec 32 := 8#32
  let c0_i32_24 : BitVec 32 := 0#32
  let v64 : BitVec 1 := Scalar.cmpi .sgt c8_i32_21 c0_i32_24
  let v65 : BitVec 32 := Scalar.extui v64
  let c0_i32_25 : BitVec 32 := 0#32
  let v66 : BitVec 1 := Scalar.cmpi .slt c8_i32_21 c0_i32_25
  let v67 : BitVec 32 := Scalar.extui v66
  let v68 : BitVec 32 := Scalar.subi v65 v67
  let v69 : BitVec 1 := Scalar.cmpi .ne v63 v68
  let v70 : BitVec 32 := Scalar.remsi v55 c8_i32_21
  let c0_i32_26 : BitVec 32 := 0#32
  let v71 : BitVec 1 := Scalar.cmpi .ne v70 c0_i32_26
  let v72 : BitVec 1 := Scalar.andi v69 v71
  let v58 : BitVec 32 := Scalar.divsi v55 c8_i32_21
  let c1_i32_27 : BitVec 32 := 1#32
  let v73 : BitVec 32 := Scalar.subi v58 c1_i32_27
  let v74 : BitVec 32 := Scalar.select v72 v73 v58
  let c8_i32_28 : BitVec 32 := 8#32
  let v75 : BitVec 32 := Scalar.muli v74 c8_i32_28
  let v76 : BitVec 32 := Scalar.subi v55 v75
  let v78 : BitVec 32 := Scalar.addi v76 v57
  let c8_i32_29 : BitVec 32 := 8#32
  let v79 : BitVec 32 := Scalar.addi v78 c8_i32_29
  let c1_i32_30 : BitVec 32 := 1#32
  let v80 : BitVec 32 := Scalar.subi v79 c1_i32_30
  let c0_i32_32 : BitVec 32 := 0#32
  let v82 : BitVec 1 := Scalar.cmpi .sgt v80 c0_i32_32
  let v83 : BitVec 32 := Scalar.extui v82
  let c0_i32_33 : BitVec 32 := 0#32
  let v84 : BitVec 1 := Scalar.cmpi .slt v80 c0_i32_33
  let v85 : BitVec 32 := Scalar.extui v84
  let v86 : BitVec 32 := Scalar.subi v83 v85
  let c8_i32_31 : BitVec 32 := 8#32
  let c0_i32_34 : BitVec 32 := 0#32
  let v87 : BitVec 1 := Scalar.cmpi .sgt c8_i32_31 c0_i32_34
  let v88 : BitVec 32 := Scalar.extui v87
  let c0_i32_35 : BitVec 32 := 0#32
  let v89 : BitVec 1 := Scalar.cmpi .slt c8_i32_31 c0_i32_35
  let v90 : BitVec 32 := Scalar.extui v89
  let v91 : BitVec 32 := Scalar.subi v88 v90
  let v92 : BitVec 1 := Scalar.cmpi .ne v86 v91
  let v93 : BitVec 32 := Scalar.remsi v80 c8_i32_31
  let c0_i32_36 : BitVec 32 := 0#32
  let v94 : BitVec 1 := Scalar.cmpi .ne v93 c0_i32_36
  let v95 : BitVec 1 := Scalar.andi v92 v94
  let v81 : BitVec 32 := Scalar.divsi v80 c8_i32_31
  let c1_i32_37 : BitVec 32 := 1#32
  let v96 : BitVec 32 := Scalar.subi v81 c1_i32_37
  let v97 : BitVec 32 := Scalar.select v95 v96 v81
  let c0_i32_38 : BitVec 32 := 0#32
  let v98 : BitVec 32 := Scalar.select v77 v97 c0_i32_38
  let v101 : BitVec 32 := Scalar.addi v50 v98
  let v128 : BitVec 1 := Scalar.cmpi .sgt v104 v103
  let c0_i32_43 : BitVec 32 := 0#32
  let v110 : BitVec 1 := Scalar.cmpi .sgt v106 c0_i32_43
  let v111 : BitVec 32 := Scalar.extui v110
  let c0_i32_44 : BitVec 32 := 0#32
  let v112 : BitVec 1 := Scalar.cmpi .slt v106 c0_i32_44
  let v113 : BitVec 32 := Scalar.extui v112
  let v114 : BitVec 32 := Scalar.subi v111 v113
  let c8_i32_42 : BitVec 32 := 8#32
  let c0_i32_45 : BitVec 32 := 0#32
  let v115 : BitVec 1 := Scalar.cmpi .sgt c8_i32_42 c0_i32_45
  let v116 : BitVec 32 := Scalar.extui v115
  let c0_i32_46 : BitVec 32 := 0#32
  let v117 : BitVec 1 := Scalar.cmpi .slt c8_i32_42 c0_i32_46
  let v118 : BitVec 32 := Scalar.extui v117
  let v119 : BitVec 32 := Scalar.subi v116 v118
  let v120 : BitVec 1 := Scalar.cmpi .ne v114 v119
  let v121 : BitVec 32 := Scalar.remsi v106 c8_i32_42
  let c0_i32_47 : BitVec 32 := 0#32
  let v122 : BitVec 1 := Scalar.cmpi .ne v121 c0_i32_47
  let v123 : BitVec 1 := Scalar.andi v120 v122
  let v109 : BitVec 32 := Scalar.divsi v106 c8_i32_42
  let c1_i32_48 : BitVec 32 := 1#32
  let v124 : BitVec 32 := Scalar.subi v109 c1_i32_48
  let v125 : BitVec 32 := Scalar.select v123 v124 v109
  let c8_i32_49 : BitVec 32 := 8#32
  let v126 : BitVec 32 := Scalar.muli v125 c8_i32_49
  let v127 : BitVec 32 := Scalar.subi v106 v126
  let v129 : BitVec 32 := Scalar.addi v127 v108
  let c8_i32_50 : BitVec 32 := 8#32
  let v130 : BitVec 32 := Scalar.addi v129 c8_i32_50
  let c1_i32_51 : BitVec 32 := 1#32
  let v131 : BitVec 32 := Scalar.subi v130 c1_i32_51
  let c0_i32_53 : BitVec 32 := 0#32
  let v133 : BitVec 1 := Scalar.cmpi .sgt v131 c0_i32_53
  let v134 : BitVec 32 := Scalar.extui v133
  let c0_i32_54 : BitVec 32 := 0#32
  let v135 : BitVec 1 := Scalar.cmpi .slt v131 c0_i32_54
  let v136 : BitVec 32 := Scalar.extui v135
  let v137 : BitVec 32 := Scalar.subi v134 v136
  let c8_i32_52 : BitVec 32 := 8#32
  let c0_i32_55 : BitVec 32 := 0#32
  let v138 : BitVec 1 := Scalar.cmpi .sgt c8_i32_52 c0_i32_55
  let v139 : BitVec 32 := Scalar.extui v138
  let c0_i32_56 : BitVec 32 := 0#32
  let v140 : BitVec 1 := Scalar.cmpi .slt c8_i32_52 c0_i32_56
  let v141 : BitVec 32 := Scalar.extui v140
  let v142 : BitVec 32 := Scalar.subi v139 v141
  let v143 : BitVec 1 := Scalar.cmpi .ne v137 v142
  let v144 : BitVec 32 := Scalar.remsi v131 c8_i32_52
  let c0_i32_57 : BitVec 32 := 0#32
  let v145 : BitVec 1 := Scalar.cmpi .ne v144 c0_i32_57
  let v146 : BitVec 1 := Scalar.andi v143 v145
  let v132 : BitVec 32 := Scalar.divsi v131 c8_i32_52
  let c1_i32_58 : BitVec 32 := 1#32
  let v147 : BitVec 32 := Scalar.subi v132 c1_i32_58
  let v148 : BitVec 32 := Scalar.select v146 v147 v132
  let c0_i32_59 : BitVec 32 := 0#32
  let v149 : BitVec 32 := Scalar.select v128 v148 c0_i32_59
  let v152 : BitVec 32 := Scalar.addi v101 v149
  let c8_i32_191 : BitVec 32 := 8#32
  let v432 : BitVec 32 := Scalar.muli v152 c8_i32_191
  let v433 : BitVec 32 := v432
  let c0_i32_193 : BitVec 32 := 0#32
  let v179 : BitVec 1 := Scalar.cmpi .sgt v155 v154
  let c0_i32_64 : BitVec 32 := 0#32
  let v161 : BitVec 1 := Scalar.cmpi .sgt v157 c0_i32_64
  let v162 : BitVec 32 := Scalar.extui v161
  let c0_i32_65 : BitVec 32 := 0#32
  let v163 : BitVec 1 := Scalar.cmpi .slt v157 c0_i32_65
  let v164 : BitVec 32 := Scalar.extui v163
  let v165 : BitVec 32 := Scalar.subi v162 v164
  let c8_i32_63 : BitVec 32 := 8#32
  let c0_i32_66 : BitVec 32 := 0#32
  let v166 : BitVec 1 := Scalar.cmpi .sgt c8_i32_63 c0_i32_66
  let v167 : BitVec 32 := Scalar.extui v166
  let c0_i32_67 : BitVec 32 := 0#32
  let v168 : BitVec 1 := Scalar.cmpi .slt c8_i32_63 c0_i32_67
  let v169 : BitVec 32 := Scalar.extui v168
  let v170 : BitVec 32 := Scalar.subi v167 v169
  let v171 : BitVec 1 := Scalar.cmpi .ne v165 v170
  let v172 : BitVec 32 := Scalar.remsi v157 c8_i32_63
  let c0_i32_68 : BitVec 32 := 0#32
  let v173 : BitVec 1 := Scalar.cmpi .ne v172 c0_i32_68
  let v174 : BitVec 1 := Scalar.andi v171 v173
  let v160 : BitVec 32 := Scalar.divsi v157 c8_i32_63
  let c1_i32_69 : BitVec 32 := 1#32
  let v175 : BitVec 32 := Scalar.subi v160 c1_i32_69
  let v176 : BitVec 32 := Scalar.select v174 v175 v160
  let c8_i32_70 : BitVec 32 := 8#32
  let v177 : BitVec 32 := Scalar.muli v176 c8_i32_70
  let v178 : BitVec 32 := Scalar.subi v157 v177
  let v180 : BitVec 32 := Scalar.addi v178 v159
  let c8_i32_71 : BitVec 32 := 8#32
  let v181 : BitVec 32 := Scalar.addi v180 c8_i32_71
  let c1_i32_72 : BitVec 32 := 1#32
  let v182 : BitVec 32 := Scalar.subi v181 c1_i32_72
  let c0_i32_74 : BitVec 32 := 0#32
  let v184 : BitVec 1 := Scalar.cmpi .sgt v182 c0_i32_74
  let v185 : BitVec 32 := Scalar.extui v184
  let c0_i32_75 : BitVec 32 := 0#32
  let v186 : BitVec 1 := Scalar.cmpi .slt v182 c0_i32_75
  let v187 : BitVec 32 := Scalar.extui v186
  let v188 : BitVec 32 := Scalar.subi v185 v187
  let c8_i32_73 : BitVec 32 := 8#32
  let c0_i32_76 : BitVec 32 := 0#32
  let v189 : BitVec 1 := Scalar.cmpi .sgt c8_i32_73 c0_i32_76
  let v190 : BitVec 32 := Scalar.extui v189
  let c0_i32_77 : BitVec 32 := 0#32
  let v191 : BitVec 1 := Scalar.cmpi .slt c8_i32_73 c0_i32_77
  let v192 : BitVec 32 := Scalar.extui v191
  let v193 : BitVec 32 := Scalar.subi v190 v192
  let v194 : BitVec 1 := Scalar.cmpi .ne v188 v193
  let v195 : BitVec 32 := Scalar.remsi v182 c8_i32_73
  let c0_i32_78 : BitVec 32 := 0#32
  let v196 : BitVec 1 := Scalar.cmpi .ne v195 c0_i32_78
  let v197 : BitVec 1 := Scalar.andi v194 v196
  let v183 : BitVec 32 := Scalar.divsi v182 c8_i32_73
  let c1_i32_79 : BitVec 32 := 1#32
  let v198 : BitVec 32 := Scalar.subi v183 c1_i32_79
  let v199 : BitVec 32 := Scalar.select v197 v198 v183
  let c0_i32_80 : BitVec 32 := 0#32
  let v200 : BitVec 32 := Scalar.select v179 v199 c0_i32_80
  let c8_i32_189 : BitVec 32 := 8#32
  let v426 : BitVec 32 := Scalar.muli v200 c8_i32_189
  let v427 : BitVec 32 := v426
  ⟨![v425.toNat, v433.toNat, 0], ![1, v427.toNat, 512]⟩
def k0_sz10 (v154 : BitVec 32) (v155 : BitVec 32) (v157 : BitVec 32) (v159 : BitVec 32) : Fin 2 → Nat :=
  let v179 : BitVec 1 := Scalar.cmpi .sgt v155 v154
  let c0_i32_64 : BitVec 32 := 0#32
  let v161 : BitVec 1 := Scalar.cmpi .sgt v157 c0_i32_64
  let v162 : BitVec 32 := Scalar.extui v161
  let c0_i32_65 : BitVec 32 := 0#32
  let v163 : BitVec 1 := Scalar.cmpi .slt v157 c0_i32_65
  let v164 : BitVec 32 := Scalar.extui v163
  let v165 : BitVec 32 := Scalar.subi v162 v164
  let c8_i32_63 : BitVec 32 := 8#32
  let c0_i32_66 : BitVec 32 := 0#32
  let v166 : BitVec 1 := Scalar.cmpi .sgt c8_i32_63 c0_i32_66
  let v167 : BitVec 32 := Scalar.extui v166
  let c0_i32_67 : BitVec 32 := 0#32
  let v168 : BitVec 1 := Scalar.cmpi .slt c8_i32_63 c0_i32_67
  let v169 : BitVec 32 := Scalar.extui v168
  let v170 : BitVec 32 := Scalar.subi v167 v169
  let v171 : BitVec 1 := Scalar.cmpi .ne v165 v170
  let v172 : BitVec 32 := Scalar.remsi v157 c8_i32_63
  let c0_i32_68 : BitVec 32 := 0#32
  let v173 : BitVec 1 := Scalar.cmpi .ne v172 c0_i32_68
  let v174 : BitVec 1 := Scalar.andi v171 v173
  let v160 : BitVec 32 := Scalar.divsi v157 c8_i32_63
  let c1_i32_69 : BitVec 32 := 1#32
  let v175 : BitVec 32 := Scalar.subi v160 c1_i32_69
  let v176 : BitVec 32 := Scalar.select v174 v175 v160
  let c8_i32_70 : BitVec 32 := 8#32
  let v177 : BitVec 32 := Scalar.muli v176 c8_i32_70
  let v178 : BitVec 32 := Scalar.subi v157 v177
  let v180 : BitVec 32 := Scalar.addi v178 v159
  let c8_i32_71 : BitVec 32 := 8#32
  let v181 : BitVec 32 := Scalar.addi v180 c8_i32_71
  let c1_i32_72 : BitVec 32 := 1#32
  let v182 : BitVec 32 := Scalar.subi v181 c1_i32_72
  let c0_i32_74 : BitVec 32 := 0#32
  let v184 : BitVec 1 := Scalar.cmpi .sgt v182 c0_i32_74
  let v185 : BitVec 32 := Scalar.extui v184
  let c0_i32_75 : BitVec 32 := 0#32
  let v186 : BitVec 1 := Scalar.cmpi .slt v182 c0_i32_75
  let v187 : BitVec 32 := Scalar.extui v186
  let v188 : BitVec 32 := Scalar.subi v185 v187
  let c8_i32_73 : BitVec 32 := 8#32
  let c0_i32_76 : BitVec 32 := 0#32
  let v189 : BitVec 1 := Scalar.cmpi .sgt c8_i32_73 c0_i32_76
  let v190 : BitVec 32 := Scalar.extui v189
  let c0_i32_77 : BitVec 32 := 0#32
  let v191 : BitVec 1 := Scalar.cmpi .slt c8_i32_73 c0_i32_77
  let v192 : BitVec 32 := Scalar.extui v191
  let v193 : BitVec 32 := Scalar.subi v190 v192
  let v194 : BitVec 1 := Scalar.cmpi .ne v188 v193
  let v195 : BitVec 32 := Scalar.remsi v182 c8_i32_73
  let c0_i32_78 : BitVec 32 := 0#32
  let v196 : BitVec 1 := Scalar.cmpi .ne v195 c0_i32_78
  let v197 : BitVec 1 := Scalar.andi v194 v196
  let v183 : BitVec 32 := Scalar.divsi v182 c8_i32_73
  let c1_i32_79 : BitVec 32 := 1#32
  let v198 : BitVec 32 := Scalar.subi v183 c1_i32_79
  let v199 : BitVec 32 := Scalar.select v197 v198 v183
  let c0_i32_80 : BitVec 32 := 0#32
  let v200 : BitVec 32 := Scalar.select v179 v199 c0_i32_80
  let c8_i32_189 : BitVec 32 := 8#32
  let v426 : BitVec 32 := Scalar.muli v200 c8_i32_189
  let v427 : BitVec 32 := v426
  ![v427.toNat, 512]
def k0_off48 (i : grid0.Coords) (v154 : BitVec 32) (v155 : BitVec 32) (v157 : BitVec 32) (v159 : BitVec 32) : (Fin 2 → Nat) × (Fin 2 → Nat) :=
  let c0_i32_64 : BitVec 32 := 0#32
  let v161 : BitVec 1 := Scalar.cmpi .sgt v157 c0_i32_64
  let v162 : BitVec 32 := Scalar.extui v161
  let c0_i32_65 : BitVec 32 := 0#32
  let v163 : BitVec 1 := Scalar.cmpi .slt v157 c0_i32_65
  let v164 : BitVec 32 := Scalar.extui v163
  let v165 : BitVec 32 := Scalar.subi v162 v164
  let c8_i32_63 : BitVec 32 := 8#32
  let c0_i32_66 : BitVec 32 := 0#32
  let v166 : BitVec 1 := Scalar.cmpi .sgt c8_i32_63 c0_i32_66
  let v167 : BitVec 32 := Scalar.extui v166
  let c0_i32_67 : BitVec 32 := 0#32
  let v168 : BitVec 1 := Scalar.cmpi .slt c8_i32_63 c0_i32_67
  let v169 : BitVec 32 := Scalar.extui v168
  let v170 : BitVec 32 := Scalar.subi v167 v169
  let v171 : BitVec 1 := Scalar.cmpi .ne v165 v170
  let v172 : BitVec 32 := Scalar.remsi v157 c8_i32_63
  let c0_i32_68 : BitVec 32 := 0#32
  let v173 : BitVec 1 := Scalar.cmpi .ne v172 c0_i32_68
  let v174 : BitVec 1 := Scalar.andi v171 v173
  let v160 : BitVec 32 := Scalar.divsi v157 c8_i32_63
  let c1_i32_69 : BitVec 32 := 1#32
  let v175 : BitVec 32 := Scalar.subi v160 c1_i32_69
  let v176 : BitVec 32 := Scalar.select v174 v175 v160
  let c8_i32_190 : BitVec 32 := 8#32
  let v428 : BitVec 32 := Scalar.muli v176 c8_i32_190
  let v429 : BitVec 32 := v428
  let arg0 : BitVec 32 := BitVec.ofNat 32 (i 0).val
  let c1_i32_187 : BitVec 32 := 1#32
  let v424 : BitVec 32 := Scalar.addi arg0 c1_i32_187
  let c512_i32 : BitVec 32 := 512#32
  let v430 : BitVec 32 := Scalar.muli v424 c512_i32
  let v431 : BitVec 32 := v430
  let v179 : BitVec 1 := Scalar.cmpi .sgt v155 v154
  let c8_i32_70 : BitVec 32 := 8#32
  let v177 : BitVec 32 := Scalar.muli v176 c8_i32_70
  let v178 : BitVec 32 := Scalar.subi v157 v177
  let v180 : BitVec 32 := Scalar.addi v178 v159
  let c8_i32_71 : BitVec 32 := 8#32
  let v181 : BitVec 32 := Scalar.addi v180 c8_i32_71
  let c1_i32_72 : BitVec 32 := 1#32
  let v182 : BitVec 32 := Scalar.subi v181 c1_i32_72
  let c0_i32_74 : BitVec 32 := 0#32
  let v184 : BitVec 1 := Scalar.cmpi .sgt v182 c0_i32_74
  let v185 : BitVec 32 := Scalar.extui v184
  let c0_i32_75 : BitVec 32 := 0#32
  let v186 : BitVec 1 := Scalar.cmpi .slt v182 c0_i32_75
  let v187 : BitVec 32 := Scalar.extui v186
  let v188 : BitVec 32 := Scalar.subi v185 v187
  let c8_i32_73 : BitVec 32 := 8#32
  let c0_i32_76 : BitVec 32 := 0#32
  let v189 : BitVec 1 := Scalar.cmpi .sgt c8_i32_73 c0_i32_76
  let v190 : BitVec 32 := Scalar.extui v189
  let c0_i32_77 : BitVec 32 := 0#32
  let v191 : BitVec 1 := Scalar.cmpi .slt c8_i32_73 c0_i32_77
  let v192 : BitVec 32 := Scalar.extui v191
  let v193 : BitVec 32 := Scalar.subi v190 v192
  let v194 : BitVec 1 := Scalar.cmpi .ne v188 v193
  let v195 : BitVec 32 := Scalar.remsi v182 c8_i32_73
  let c0_i32_78 : BitVec 32 := 0#32
  let v196 : BitVec 1 := Scalar.cmpi .ne v195 c0_i32_78
  let v197 : BitVec 1 := Scalar.andi v194 v196
  let v183 : BitVec 32 := Scalar.divsi v182 c8_i32_73
  let c1_i32_79 : BitVec 32 := 1#32
  let v198 : BitVec 32 := Scalar.subi v183 c1_i32_79
  let v199 : BitVec 32 := Scalar.select v197 v198 v183
  let c0_i32_80 : BitVec 32 := 0#32
  let v200 : BitVec 32 := Scalar.select v179 v199 c0_i32_80
  let c8_i32_189 : BitVec 32 := 8#32
  let v426 : BitVec 32 := Scalar.muli v200 c8_i32_189
  let v427 : BitVec 32 := v426
  ⟨![v429.toNat, v431.toNat], ![v427.toNat, 512]⟩
def k0_mult59 (v205 : BitVec 32) (v206 : BitVec 32) (v208 : BitVec 32) (v210 : BitVec 32) : BitVec 32 :=
  let v230 : BitVec 1 := Scalar.cmpi .sgt v206 v205
  let c0_i32_85 : BitVec 32 := 0#32
  let v212 : BitVec 1 := Scalar.cmpi .sgt v208 c0_i32_85
  let v213 : BitVec 32 := Scalar.extui v212
  let c0_i32_86 : BitVec 32 := 0#32
  let v214 : BitVec 1 := Scalar.cmpi .slt v208 c0_i32_86
  let v215 : BitVec 32 := Scalar.extui v214
  let v216 : BitVec 32 := Scalar.subi v213 v215
  let c8_i32_84 : BitVec 32 := 8#32
  let c0_i32_87 : BitVec 32 := 0#32
  let v217 : BitVec 1 := Scalar.cmpi .sgt c8_i32_84 c0_i32_87
  let v218 : BitVec 32 := Scalar.extui v217
  let c0_i32_88 : BitVec 32 := 0#32
  let v219 : BitVec 1 := Scalar.cmpi .slt c8_i32_84 c0_i32_88
  let v220 : BitVec 32 := Scalar.extui v219
  let v221 : BitVec 32 := Scalar.subi v218 v220
  let v222 : BitVec 1 := Scalar.cmpi .ne v216 v221
  let v223 : BitVec 32 := Scalar.remsi v208 c8_i32_84
  let c0_i32_89 : BitVec 32 := 0#32
  let v224 : BitVec 1 := Scalar.cmpi .ne v223 c0_i32_89
  let v225 : BitVec 1 := Scalar.andi v222 v224
  let v211 : BitVec 32 := Scalar.divsi v208 c8_i32_84
  let c1_i32_90 : BitVec 32 := 1#32
  let v226 : BitVec 32 := Scalar.subi v211 c1_i32_90
  let v227 : BitVec 32 := Scalar.select v225 v226 v211
  let c8_i32_91 : BitVec 32 := 8#32
  let v228 : BitVec 32 := Scalar.muli v227 c8_i32_91
  let v229 : BitVec 32 := Scalar.subi v208 v228
  let v231 : BitVec 32 := Scalar.addi v229 v210
  let c8_i32_92 : BitVec 32 := 8#32
  let v232 : BitVec 32 := Scalar.addi v231 c8_i32_92
  let c1_i32_93 : BitVec 32 := 1#32
  let v233 : BitVec 32 := Scalar.subi v232 c1_i32_93
  let c0_i32_95 : BitVec 32 := 0#32
  let v235 : BitVec 1 := Scalar.cmpi .sgt v233 c0_i32_95
  let v236 : BitVec 32 := Scalar.extui v235
  let c0_i32_96 : BitVec 32 := 0#32
  let v237 : BitVec 1 := Scalar.cmpi .slt v233 c0_i32_96
  let v238 : BitVec 32 := Scalar.extui v237
  let v239 : BitVec 32 := Scalar.subi v236 v238
  let c8_i32_94 : BitVec 32 := 8#32
  let c0_i32_97 : BitVec 32 := 0#32
  let v240 : BitVec 1 := Scalar.cmpi .sgt c8_i32_94 c0_i32_97
  let v241 : BitVec 32 := Scalar.extui v240
  let c0_i32_98 : BitVec 32 := 0#32
  let v242 : BitVec 1 := Scalar.cmpi .slt c8_i32_94 c0_i32_98
  let v243 : BitVec 32 := Scalar.extui v242
  let v244 : BitVec 32 := Scalar.subi v241 v243
  let v245 : BitVec 1 := Scalar.cmpi .ne v239 v244
  let v246 : BitVec 32 := Scalar.remsi v233 c8_i32_94
  let c0_i32_99 : BitVec 32 := 0#32
  let v247 : BitVec 1 := Scalar.cmpi .ne v246 c0_i32_99
  let v248 : BitVec 1 := Scalar.andi v245 v247
  let v234 : BitVec 32 := Scalar.divsi v233 c8_i32_94
  let c1_i32_100 : BitVec 32 := 1#32
  let v249 : BitVec 32 := Scalar.subi v234 c1_i32_100
  let v250 : BitVec 32 := Scalar.select v248 v249 v234
  let c0_i32_101 : BitVec 32 := 0#32
  let v251 : BitVec 32 := Scalar.select v230 v250 c0_i32_101
  let c8_i32_189 : BitVec 32 := 8#32
  let v426 : BitVec 32 := Scalar.muli v251 c8_i32_189
  v426
def k0_cond19 (v205 : BitVec 32) (v206 : BitVec 32) (v208 : BitVec 32) (v210 : BitVec 32) : BitVec 1 :=
  let v230 : BitVec 1 := Scalar.cmpi .sgt v206 v205
  let c0_i32_85 : BitVec 32 := 0#32
  let v212 : BitVec 1 := Scalar.cmpi .sgt v208 c0_i32_85
  let v213 : BitVec 32 := Scalar.extui v212
  let c0_i32_86 : BitVec 32 := 0#32
  let v214 : BitVec 1 := Scalar.cmpi .slt v208 c0_i32_86
  let v215 : BitVec 32 := Scalar.extui v214
  let v216 : BitVec 32 := Scalar.subi v213 v215
  let c8_i32_84 : BitVec 32 := 8#32
  let c0_i32_87 : BitVec 32 := 0#32
  let v217 : BitVec 1 := Scalar.cmpi .sgt c8_i32_84 c0_i32_87
  let v218 : BitVec 32 := Scalar.extui v217
  let c0_i32_88 : BitVec 32 := 0#32
  let v219 : BitVec 1 := Scalar.cmpi .slt c8_i32_84 c0_i32_88
  let v220 : BitVec 32 := Scalar.extui v219
  let v221 : BitVec 32 := Scalar.subi v218 v220
  let v222 : BitVec 1 := Scalar.cmpi .ne v216 v221
  let v223 : BitVec 32 := Scalar.remsi v208 c8_i32_84
  let c0_i32_89 : BitVec 32 := 0#32
  let v224 : BitVec 1 := Scalar.cmpi .ne v223 c0_i32_89
  let v225 : BitVec 1 := Scalar.andi v222 v224
  let v211 : BitVec 32 := Scalar.divsi v208 c8_i32_84
  let c1_i32_90 : BitVec 32 := 1#32
  let v226 : BitVec 32 := Scalar.subi v211 c1_i32_90
  let v227 : BitVec 32 := Scalar.select v225 v226 v211
  let c8_i32_91 : BitVec 32 := 8#32
  let v228 : BitVec 32 := Scalar.muli v227 c8_i32_91
  let v229 : BitVec 32 := Scalar.subi v208 v228
  let v231 : BitVec 32 := Scalar.addi v229 v210
  let c8_i32_92 : BitVec 32 := 8#32
  let v232 : BitVec 32 := Scalar.addi v231 c8_i32_92
  let c1_i32_93 : BitVec 32 := 1#32
  let v233 : BitVec 32 := Scalar.subi v232 c1_i32_93
  let c0_i32_95 : BitVec 32 := 0#32
  let v235 : BitVec 1 := Scalar.cmpi .sgt v233 c0_i32_95
  let v236 : BitVec 32 := Scalar.extui v235
  let c0_i32_96 : BitVec 32 := 0#32
  let v237 : BitVec 1 := Scalar.cmpi .slt v233 c0_i32_96
  let v238 : BitVec 32 := Scalar.extui v237
  let v239 : BitVec 32 := Scalar.subi v236 v238
  let c8_i32_94 : BitVec 32 := 8#32
  let c0_i32_97 : BitVec 32 := 0#32
  let v240 : BitVec 1 := Scalar.cmpi .sgt c8_i32_94 c0_i32_97
  let v241 : BitVec 32 := Scalar.extui v240
  let c0_i32_98 : BitVec 32 := 0#32
  let v242 : BitVec 1 := Scalar.cmpi .slt c8_i32_94 c0_i32_98
  let v243 : BitVec 32 := Scalar.extui v242
  let v244 : BitVec 32 := Scalar.subi v241 v243
  let v245 : BitVec 1 := Scalar.cmpi .ne v239 v244
  let v246 : BitVec 32 := Scalar.remsi v233 c8_i32_94
  let c0_i32_99 : BitVec 32 := 0#32
  let v247 : BitVec 1 := Scalar.cmpi .ne v246 c0_i32_99
  let v248 : BitVec 1 := Scalar.andi v245 v247
  let v234 : BitVec 32 := Scalar.divsi v233 c8_i32_94
  let c1_i32_100 : BitVec 32 := 1#32
  let v249 : BitVec 32 := Scalar.subi v234 c1_i32_100
  let v250 : BitVec 32 := Scalar.select v248 v249 v234
  let c0_i32_101 : BitVec 32 := 0#32
  let v251 : BitVec 32 := Scalar.select v230 v250 c0_i32_101
  let c0_i32_183 : BitVec 32 := 0#32
  let v418 : BitVec 1 := Scalar.cmpi .sgt v251 c0_i32_183
  let v419 : BitVec 32 := Scalar.extui v418
  let c0_i32_184 : BitVec 32 := 0#32
  let v420 : BitVec 1 := Scalar.cmpi .ne v419 c0_i32_184
  v420

def k0_mult60 (v208 : BitVec 32) : BitVec 32 :=
  let c0_i32_85 : BitVec 32 := 0#32
  let v212 : BitVec 1 := Scalar.cmpi .sgt v208 c0_i32_85
  let v213 : BitVec 32 := Scalar.extui v212
  let c0_i32_86 : BitVec 32 := 0#32
  let v214 : BitVec 1 := Scalar.cmpi .slt v208 c0_i32_86
  let v215 : BitVec 32 := Scalar.extui v214
  let v216 : BitVec 32 := Scalar.subi v213 v215
  let c8_i32_84 : BitVec 32 := 8#32
  let c0_i32_87 : BitVec 32 := 0#32
  let v217 : BitVec 1 := Scalar.cmpi .sgt c8_i32_84 c0_i32_87
  let v218 : BitVec 32 := Scalar.extui v217
  let c0_i32_88 : BitVec 32 := 0#32
  let v219 : BitVec 1 := Scalar.cmpi .slt c8_i32_84 c0_i32_88
  let v220 : BitVec 32 := Scalar.extui v219
  let v221 : BitVec 32 := Scalar.subi v218 v220
  let v222 : BitVec 1 := Scalar.cmpi .ne v216 v221
  let v223 : BitVec 32 := Scalar.remsi v208 c8_i32_84
  let c0_i32_89 : BitVec 32 := 0#32
  let v224 : BitVec 1 := Scalar.cmpi .ne v223 c0_i32_89
  let v225 : BitVec 1 := Scalar.andi v222 v224
  let v211 : BitVec 32 := Scalar.divsi v208 c8_i32_84
  let c1_i32_90 : BitVec 32 := 1#32
  let v226 : BitVec 32 := Scalar.subi v211 c1_i32_90
  let v227 : BitVec 32 := Scalar.select v225 v226 v211
  let c8_i32_190 : BitVec 32 := 8#32
  let v428 : BitVec 32 := Scalar.muli v227 c8_i32_190
  v428
def k0_mult61 (i : grid0.Coords) : BitVec 32 :=
  let arg0 : BitVec 32 := BitVec.ofNat 32 (i 0).val
  let c1_i32_187 : BitVec 32 := 1#32
  let v424 : BitVec 32 := Scalar.addi arg0 c1_i32_187
  let c512_i32 : BitVec 32 := 512#32
  let v430 : BitVec 32 := Scalar.muli v424 c512_i32
  v430
def k0_mult62 (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) : BitVec 32 :=
  let c0_i32_18 : BitVec 32 := 0#32
  let v26 : BitVec 1 := Scalar.cmpi .sgt v2 v1
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let v50 : BitVec 32 := Scalar.addi c0_i32_18 v47
  let v77 : BitVec 1 := Scalar.cmpi .sgt v53 v52
  let c0_i32_22 : BitVec 32 := 0#32
  let v59 : BitVec 1 := Scalar.cmpi .sgt v55 c0_i32_22
  let v60 : BitVec 32 := Scalar.extui v59
  let c0_i32_23 : BitVec 32 := 0#32
  let v61 : BitVec 1 := Scalar.cmpi .slt v55 c0_i32_23
  let v62 : BitVec 32 := Scalar.extui v61
  let v63 : BitVec 32 := Scalar.subi v60 v62
  let c8_i32_21 : BitVec 32 := 8#32
  let c0_i32_24 : BitVec 32 := 0#32
  let v64 : BitVec 1 := Scalar.cmpi .sgt c8_i32_21 c0_i32_24
  let v65 : BitVec 32 := Scalar.extui v64
  let c0_i32_25 : BitVec 32 := 0#32
  let v66 : BitVec 1 := Scalar.cmpi .slt c8_i32_21 c0_i32_25
  let v67 : BitVec 32 := Scalar.extui v66
  let v68 : BitVec 32 := Scalar.subi v65 v67
  let v69 : BitVec 1 := Scalar.cmpi .ne v63 v68
  let v70 : BitVec 32 := Scalar.remsi v55 c8_i32_21
  let c0_i32_26 : BitVec 32 := 0#32
  let v71 : BitVec 1 := Scalar.cmpi .ne v70 c0_i32_26
  let v72 : BitVec 1 := Scalar.andi v69 v71
  let v58 : BitVec 32 := Scalar.divsi v55 c8_i32_21
  let c1_i32_27 : BitVec 32 := 1#32
  let v73 : BitVec 32 := Scalar.subi v58 c1_i32_27
  let v74 : BitVec 32 := Scalar.select v72 v73 v58
  let c8_i32_28 : BitVec 32 := 8#32
  let v75 : BitVec 32 := Scalar.muli v74 c8_i32_28
  let v76 : BitVec 32 := Scalar.subi v55 v75
  let v78 : BitVec 32 := Scalar.addi v76 v57
  let c8_i32_29 : BitVec 32 := 8#32
  let v79 : BitVec 32 := Scalar.addi v78 c8_i32_29
  let c1_i32_30 : BitVec 32 := 1#32
  let v80 : BitVec 32 := Scalar.subi v79 c1_i32_30
  let c0_i32_32 : BitVec 32 := 0#32
  let v82 : BitVec 1 := Scalar.cmpi .sgt v80 c0_i32_32
  let v83 : BitVec 32 := Scalar.extui v82
  let c0_i32_33 : BitVec 32 := 0#32
  let v84 : BitVec 1 := Scalar.cmpi .slt v80 c0_i32_33
  let v85 : BitVec 32 := Scalar.extui v84
  let v86 : BitVec 32 := Scalar.subi v83 v85
  let c8_i32_31 : BitVec 32 := 8#32
  let c0_i32_34 : BitVec 32 := 0#32
  let v87 : BitVec 1 := Scalar.cmpi .sgt c8_i32_31 c0_i32_34
  let v88 : BitVec 32 := Scalar.extui v87
  let c0_i32_35 : BitVec 32 := 0#32
  let v89 : BitVec 1 := Scalar.cmpi .slt c8_i32_31 c0_i32_35
  let v90 : BitVec 32 := Scalar.extui v89
  let v91 : BitVec 32 := Scalar.subi v88 v90
  let v92 : BitVec 1 := Scalar.cmpi .ne v86 v91
  let v93 : BitVec 32 := Scalar.remsi v80 c8_i32_31
  let c0_i32_36 : BitVec 32 := 0#32
  let v94 : BitVec 1 := Scalar.cmpi .ne v93 c0_i32_36
  let v95 : BitVec 1 := Scalar.andi v92 v94
  let v81 : BitVec 32 := Scalar.divsi v80 c8_i32_31
  let c1_i32_37 : BitVec 32 := 1#32
  let v96 : BitVec 32 := Scalar.subi v81 c1_i32_37
  let v97 : BitVec 32 := Scalar.select v95 v96 v81
  let c0_i32_38 : BitVec 32 := 0#32
  let v98 : BitVec 32 := Scalar.select v77 v97 c0_i32_38
  let v101 : BitVec 32 := Scalar.addi v50 v98
  let v128 : BitVec 1 := Scalar.cmpi .sgt v104 v103
  let c0_i32_43 : BitVec 32 := 0#32
  let v110 : BitVec 1 := Scalar.cmpi .sgt v106 c0_i32_43
  let v111 : BitVec 32 := Scalar.extui v110
  let c0_i32_44 : BitVec 32 := 0#32
  let v112 : BitVec 1 := Scalar.cmpi .slt v106 c0_i32_44
  let v113 : BitVec 32 := Scalar.extui v112
  let v114 : BitVec 32 := Scalar.subi v111 v113
  let c8_i32_42 : BitVec 32 := 8#32
  let c0_i32_45 : BitVec 32 := 0#32
  let v115 : BitVec 1 := Scalar.cmpi .sgt c8_i32_42 c0_i32_45
  let v116 : BitVec 32 := Scalar.extui v115
  let c0_i32_46 : BitVec 32 := 0#32
  let v117 : BitVec 1 := Scalar.cmpi .slt c8_i32_42 c0_i32_46
  let v118 : BitVec 32 := Scalar.extui v117
  let v119 : BitVec 32 := Scalar.subi v116 v118
  let v120 : BitVec 1 := Scalar.cmpi .ne v114 v119
  let v121 : BitVec 32 := Scalar.remsi v106 c8_i32_42
  let c0_i32_47 : BitVec 32 := 0#32
  let v122 : BitVec 1 := Scalar.cmpi .ne v121 c0_i32_47
  let v123 : BitVec 1 := Scalar.andi v120 v122
  let v109 : BitVec 32 := Scalar.divsi v106 c8_i32_42
  let c1_i32_48 : BitVec 32 := 1#32
  let v124 : BitVec 32 := Scalar.subi v109 c1_i32_48
  let v125 : BitVec 32 := Scalar.select v123 v124 v109
  let c8_i32_49 : BitVec 32 := 8#32
  let v126 : BitVec 32 := Scalar.muli v125 c8_i32_49
  let v127 : BitVec 32 := Scalar.subi v106 v126
  let v129 : BitVec 32 := Scalar.addi v127 v108
  let c8_i32_50 : BitVec 32 := 8#32
  let v130 : BitVec 32 := Scalar.addi v129 c8_i32_50
  let c1_i32_51 : BitVec 32 := 1#32
  let v131 : BitVec 32 := Scalar.subi v130 c1_i32_51
  let c0_i32_53 : BitVec 32 := 0#32
  let v133 : BitVec 1 := Scalar.cmpi .sgt v131 c0_i32_53
  let v134 : BitVec 32 := Scalar.extui v133
  let c0_i32_54 : BitVec 32 := 0#32
  let v135 : BitVec 1 := Scalar.cmpi .slt v131 c0_i32_54
  let v136 : BitVec 32 := Scalar.extui v135
  let v137 : BitVec 32 := Scalar.subi v134 v136
  let c8_i32_52 : BitVec 32 := 8#32
  let c0_i32_55 : BitVec 32 := 0#32
  let v138 : BitVec 1 := Scalar.cmpi .sgt c8_i32_52 c0_i32_55
  let v139 : BitVec 32 := Scalar.extui v138
  let c0_i32_56 : BitVec 32 := 0#32
  let v140 : BitVec 1 := Scalar.cmpi .slt c8_i32_52 c0_i32_56
  let v141 : BitVec 32 := Scalar.extui v140
  let v142 : BitVec 32 := Scalar.subi v139 v141
  let v143 : BitVec 1 := Scalar.cmpi .ne v137 v142
  let v144 : BitVec 32 := Scalar.remsi v131 c8_i32_52
  let c0_i32_57 : BitVec 32 := 0#32
  let v145 : BitVec 1 := Scalar.cmpi .ne v144 c0_i32_57
  let v146 : BitVec 1 := Scalar.andi v143 v145
  let v132 : BitVec 32 := Scalar.divsi v131 c8_i32_52
  let c1_i32_58 : BitVec 32 := 1#32
  let v147 : BitVec 32 := Scalar.subi v132 c1_i32_58
  let v148 : BitVec 32 := Scalar.select v146 v147 v132
  let c0_i32_59 : BitVec 32 := 0#32
  let v149 : BitVec 32 := Scalar.select v128 v148 c0_i32_59
  let v152 : BitVec 32 := Scalar.addi v101 v149
  let v179 : BitVec 1 := Scalar.cmpi .sgt v155 v154
  let c0_i32_64 : BitVec 32 := 0#32
  let v161 : BitVec 1 := Scalar.cmpi .sgt v157 c0_i32_64
  let v162 : BitVec 32 := Scalar.extui v161
  let c0_i32_65 : BitVec 32 := 0#32
  let v163 : BitVec 1 := Scalar.cmpi .slt v157 c0_i32_65
  let v164 : BitVec 32 := Scalar.extui v163
  let v165 : BitVec 32 := Scalar.subi v162 v164
  let c8_i32_63 : BitVec 32 := 8#32
  let c0_i32_66 : BitVec 32 := 0#32
  let v166 : BitVec 1 := Scalar.cmpi .sgt c8_i32_63 c0_i32_66
  let v167 : BitVec 32 := Scalar.extui v166
  let c0_i32_67 : BitVec 32 := 0#32
  let v168 : BitVec 1 := Scalar.cmpi .slt c8_i32_63 c0_i32_67
  let v169 : BitVec 32 := Scalar.extui v168
  let v170 : BitVec 32 := Scalar.subi v167 v169
  let v171 : BitVec 1 := Scalar.cmpi .ne v165 v170
  let v172 : BitVec 32 := Scalar.remsi v157 c8_i32_63
  let c0_i32_68 : BitVec 32 := 0#32
  let v173 : BitVec 1 := Scalar.cmpi .ne v172 c0_i32_68
  let v174 : BitVec 1 := Scalar.andi v171 v173
  let v160 : BitVec 32 := Scalar.divsi v157 c8_i32_63
  let c1_i32_69 : BitVec 32 := 1#32
  let v175 : BitVec 32 := Scalar.subi v160 c1_i32_69
  let v176 : BitVec 32 := Scalar.select v174 v175 v160
  let c8_i32_70 : BitVec 32 := 8#32
  let v177 : BitVec 32 := Scalar.muli v176 c8_i32_70
  let v178 : BitVec 32 := Scalar.subi v157 v177
  let v180 : BitVec 32 := Scalar.addi v178 v159
  let c8_i32_71 : BitVec 32 := 8#32
  let v181 : BitVec 32 := Scalar.addi v180 c8_i32_71
  let c1_i32_72 : BitVec 32 := 1#32
  let v182 : BitVec 32 := Scalar.subi v181 c1_i32_72
  let c0_i32_74 : BitVec 32 := 0#32
  let v184 : BitVec 1 := Scalar.cmpi .sgt v182 c0_i32_74
  let v185 : BitVec 32 := Scalar.extui v184
  let c0_i32_75 : BitVec 32 := 0#32
  let v186 : BitVec 1 := Scalar.cmpi .slt v182 c0_i32_75
  let v187 : BitVec 32 := Scalar.extui v186
  let v188 : BitVec 32 := Scalar.subi v185 v187
  let c8_i32_73 : BitVec 32 := 8#32
  let c0_i32_76 : BitVec 32 := 0#32
  let v189 : BitVec 1 := Scalar.cmpi .sgt c8_i32_73 c0_i32_76
  let v190 : BitVec 32 := Scalar.extui v189
  let c0_i32_77 : BitVec 32 := 0#32
  let v191 : BitVec 1 := Scalar.cmpi .slt c8_i32_73 c0_i32_77
  let v192 : BitVec 32 := Scalar.extui v191
  let v193 : BitVec 32 := Scalar.subi v190 v192
  let v194 : BitVec 1 := Scalar.cmpi .ne v188 v193
  let v195 : BitVec 32 := Scalar.remsi v182 c8_i32_73
  let c0_i32_78 : BitVec 32 := 0#32
  let v196 : BitVec 1 := Scalar.cmpi .ne v195 c0_i32_78
  let v197 : BitVec 1 := Scalar.andi v194 v196
  let v183 : BitVec 32 := Scalar.divsi v182 c8_i32_73
  let c1_i32_79 : BitVec 32 := 1#32
  let v198 : BitVec 32 := Scalar.subi v183 c1_i32_79
  let v199 : BitVec 32 := Scalar.select v197 v198 v183
  let c0_i32_80 : BitVec 32 := 0#32
  let v200 : BitVec 32 := Scalar.select v179 v199 c0_i32_80
  let v203 : BitVec 32 := Scalar.addi v152 v200
  let c8_i32_191 : BitVec 32 := 8#32
  let v432 : BitVec 32 := Scalar.muli v203 c8_i32_191
  v432
def k0_off49 (i : grid0.Coords) : Fin 2 → Nat :=
  let arg0 : BitVec 32 := BitVec.ofNat 32 (i 0).val
  let c1_i32_187 : BitVec 32 := 1#32
  let v424 : BitVec 32 := Scalar.addi arg0 c1_i32_187
  let c2_i32_188 : BitVec 32 := 2#32
  let v425 : BitVec 32 := Scalar.remsi v424 c2_i32_188
  let c4_i32_192 : BitVec 32 := 4#32
  ![v425.toNat, 4]
def k0_off50 (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) : (Fin 3 → Nat) × (Fin 3 → Nat) :=
  let arg0 : BitVec 32 := BitVec.ofNat 32 (i 0).val
  let c1_i32_187 : BitVec 32 := 1#32
  let v424 : BitVec 32 := Scalar.addi arg0 c1_i32_187
  let c2_i32_188 : BitVec 32 := 2#32
  let v425 : BitVec 32 := Scalar.remsi v424 c2_i32_188
  let c0_i32_18 : BitVec 32 := 0#32
  let v26 : BitVec 1 := Scalar.cmpi .sgt v2 v1
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let v50 : BitVec 32 := Scalar.addi c0_i32_18 v47
  let v77 : BitVec 1 := Scalar.cmpi .sgt v53 v52
  let c0_i32_22 : BitVec 32 := 0#32
  let v59 : BitVec 1 := Scalar.cmpi .sgt v55 c0_i32_22
  let v60 : BitVec 32 := Scalar.extui v59
  let c0_i32_23 : BitVec 32 := 0#32
  let v61 : BitVec 1 := Scalar.cmpi .slt v55 c0_i32_23
  let v62 : BitVec 32 := Scalar.extui v61
  let v63 : BitVec 32 := Scalar.subi v60 v62
  let c8_i32_21 : BitVec 32 := 8#32
  let c0_i32_24 : BitVec 32 := 0#32
  let v64 : BitVec 1 := Scalar.cmpi .sgt c8_i32_21 c0_i32_24
  let v65 : BitVec 32 := Scalar.extui v64
  let c0_i32_25 : BitVec 32 := 0#32
  let v66 : BitVec 1 := Scalar.cmpi .slt c8_i32_21 c0_i32_25
  let v67 : BitVec 32 := Scalar.extui v66
  let v68 : BitVec 32 := Scalar.subi v65 v67
  let v69 : BitVec 1 := Scalar.cmpi .ne v63 v68
  let v70 : BitVec 32 := Scalar.remsi v55 c8_i32_21
  let c0_i32_26 : BitVec 32 := 0#32
  let v71 : BitVec 1 := Scalar.cmpi .ne v70 c0_i32_26
  let v72 : BitVec 1 := Scalar.andi v69 v71
  let v58 : BitVec 32 := Scalar.divsi v55 c8_i32_21
  let c1_i32_27 : BitVec 32 := 1#32
  let v73 : BitVec 32 := Scalar.subi v58 c1_i32_27
  let v74 : BitVec 32 := Scalar.select v72 v73 v58
  let c8_i32_28 : BitVec 32 := 8#32
  let v75 : BitVec 32 := Scalar.muli v74 c8_i32_28
  let v76 : BitVec 32 := Scalar.subi v55 v75
  let v78 : BitVec 32 := Scalar.addi v76 v57
  let c8_i32_29 : BitVec 32 := 8#32
  let v79 : BitVec 32 := Scalar.addi v78 c8_i32_29
  let c1_i32_30 : BitVec 32 := 1#32
  let v80 : BitVec 32 := Scalar.subi v79 c1_i32_30
  let c0_i32_32 : BitVec 32 := 0#32
  let v82 : BitVec 1 := Scalar.cmpi .sgt v80 c0_i32_32
  let v83 : BitVec 32 := Scalar.extui v82
  let c0_i32_33 : BitVec 32 := 0#32
  let v84 : BitVec 1 := Scalar.cmpi .slt v80 c0_i32_33
  let v85 : BitVec 32 := Scalar.extui v84
  let v86 : BitVec 32 := Scalar.subi v83 v85
  let c8_i32_31 : BitVec 32 := 8#32
  let c0_i32_34 : BitVec 32 := 0#32
  let v87 : BitVec 1 := Scalar.cmpi .sgt c8_i32_31 c0_i32_34
  let v88 : BitVec 32 := Scalar.extui v87
  let c0_i32_35 : BitVec 32 := 0#32
  let v89 : BitVec 1 := Scalar.cmpi .slt c8_i32_31 c0_i32_35
  let v90 : BitVec 32 := Scalar.extui v89
  let v91 : BitVec 32 := Scalar.subi v88 v90
  let v92 : BitVec 1 := Scalar.cmpi .ne v86 v91
  let v93 : BitVec 32 := Scalar.remsi v80 c8_i32_31
  let c0_i32_36 : BitVec 32 := 0#32
  let v94 : BitVec 1 := Scalar.cmpi .ne v93 c0_i32_36
  let v95 : BitVec 1 := Scalar.andi v92 v94
  let v81 : BitVec 32 := Scalar.divsi v80 c8_i32_31
  let c1_i32_37 : BitVec 32 := 1#32
  let v96 : BitVec 32 := Scalar.subi v81 c1_i32_37
  let v97 : BitVec 32 := Scalar.select v95 v96 v81
  let c0_i32_38 : BitVec 32 := 0#32
  let v98 : BitVec 32 := Scalar.select v77 v97 c0_i32_38
  let v101 : BitVec 32 := Scalar.addi v50 v98
  let v128 : BitVec 1 := Scalar.cmpi .sgt v104 v103
  let c0_i32_43 : BitVec 32 := 0#32
  let v110 : BitVec 1 := Scalar.cmpi .sgt v106 c0_i32_43
  let v111 : BitVec 32 := Scalar.extui v110
  let c0_i32_44 : BitVec 32 := 0#32
  let v112 : BitVec 1 := Scalar.cmpi .slt v106 c0_i32_44
  let v113 : BitVec 32 := Scalar.extui v112
  let v114 : BitVec 32 := Scalar.subi v111 v113
  let c8_i32_42 : BitVec 32 := 8#32
  let c0_i32_45 : BitVec 32 := 0#32
  let v115 : BitVec 1 := Scalar.cmpi .sgt c8_i32_42 c0_i32_45
  let v116 : BitVec 32 := Scalar.extui v115
  let c0_i32_46 : BitVec 32 := 0#32
  let v117 : BitVec 1 := Scalar.cmpi .slt c8_i32_42 c0_i32_46
  let v118 : BitVec 32 := Scalar.extui v117
  let v119 : BitVec 32 := Scalar.subi v116 v118
  let v120 : BitVec 1 := Scalar.cmpi .ne v114 v119
  let v121 : BitVec 32 := Scalar.remsi v106 c8_i32_42
  let c0_i32_47 : BitVec 32 := 0#32
  let v122 : BitVec 1 := Scalar.cmpi .ne v121 c0_i32_47
  let v123 : BitVec 1 := Scalar.andi v120 v122
  let v109 : BitVec 32 := Scalar.divsi v106 c8_i32_42
  let c1_i32_48 : BitVec 32 := 1#32
  let v124 : BitVec 32 := Scalar.subi v109 c1_i32_48
  let v125 : BitVec 32 := Scalar.select v123 v124 v109
  let c8_i32_49 : BitVec 32 := 8#32
  let v126 : BitVec 32 := Scalar.muli v125 c8_i32_49
  let v127 : BitVec 32 := Scalar.subi v106 v126
  let v129 : BitVec 32 := Scalar.addi v127 v108
  let c8_i32_50 : BitVec 32 := 8#32
  let v130 : BitVec 32 := Scalar.addi v129 c8_i32_50
  let c1_i32_51 : BitVec 32 := 1#32
  let v131 : BitVec 32 := Scalar.subi v130 c1_i32_51
  let c0_i32_53 : BitVec 32 := 0#32
  let v133 : BitVec 1 := Scalar.cmpi .sgt v131 c0_i32_53
  let v134 : BitVec 32 := Scalar.extui v133
  let c0_i32_54 : BitVec 32 := 0#32
  let v135 : BitVec 1 := Scalar.cmpi .slt v131 c0_i32_54
  let v136 : BitVec 32 := Scalar.extui v135
  let v137 : BitVec 32 := Scalar.subi v134 v136
  let c8_i32_52 : BitVec 32 := 8#32
  let c0_i32_55 : BitVec 32 := 0#32
  let v138 : BitVec 1 := Scalar.cmpi .sgt c8_i32_52 c0_i32_55
  let v139 : BitVec 32 := Scalar.extui v138
  let c0_i32_56 : BitVec 32 := 0#32
  let v140 : BitVec 1 := Scalar.cmpi .slt c8_i32_52 c0_i32_56
  let v141 : BitVec 32 := Scalar.extui v140
  let v142 : BitVec 32 := Scalar.subi v139 v141
  let v143 : BitVec 1 := Scalar.cmpi .ne v137 v142
  let v144 : BitVec 32 := Scalar.remsi v131 c8_i32_52
  let c0_i32_57 : BitVec 32 := 0#32
  let v145 : BitVec 1 := Scalar.cmpi .ne v144 c0_i32_57
  let v146 : BitVec 1 := Scalar.andi v143 v145
  let v132 : BitVec 32 := Scalar.divsi v131 c8_i32_52
  let c1_i32_58 : BitVec 32 := 1#32
  let v147 : BitVec 32 := Scalar.subi v132 c1_i32_58
  let v148 : BitVec 32 := Scalar.select v146 v147 v132
  let c0_i32_59 : BitVec 32 := 0#32
  let v149 : BitVec 32 := Scalar.select v128 v148 c0_i32_59
  let v152 : BitVec 32 := Scalar.addi v101 v149
  let v179 : BitVec 1 := Scalar.cmpi .sgt v155 v154
  let c0_i32_64 : BitVec 32 := 0#32
  let v161 : BitVec 1 := Scalar.cmpi .sgt v157 c0_i32_64
  let v162 : BitVec 32 := Scalar.extui v161
  let c0_i32_65 : BitVec 32 := 0#32
  let v163 : BitVec 1 := Scalar.cmpi .slt v157 c0_i32_65
  let v164 : BitVec 32 := Scalar.extui v163
  let v165 : BitVec 32 := Scalar.subi v162 v164
  let c8_i32_63 : BitVec 32 := 8#32
  let c0_i32_66 : BitVec 32 := 0#32
  let v166 : BitVec 1 := Scalar.cmpi .sgt c8_i32_63 c0_i32_66
  let v167 : BitVec 32 := Scalar.extui v166
  let c0_i32_67 : BitVec 32 := 0#32
  let v168 : BitVec 1 := Scalar.cmpi .slt c8_i32_63 c0_i32_67
  let v169 : BitVec 32 := Scalar.extui v168
  let v170 : BitVec 32 := Scalar.subi v167 v169
  let v171 : BitVec 1 := Scalar.cmpi .ne v165 v170
  let v172 : BitVec 32 := Scalar.remsi v157 c8_i32_63
  let c0_i32_68 : BitVec 32 := 0#32
  let v173 : BitVec 1 := Scalar.cmpi .ne v172 c0_i32_68
  let v174 : BitVec 1 := Scalar.andi v171 v173
  let v160 : BitVec 32 := Scalar.divsi v157 c8_i32_63
  let c1_i32_69 : BitVec 32 := 1#32
  let v175 : BitVec 32 := Scalar.subi v160 c1_i32_69
  let v176 : BitVec 32 := Scalar.select v174 v175 v160
  let c8_i32_70 : BitVec 32 := 8#32
  let v177 : BitVec 32 := Scalar.muli v176 c8_i32_70
  let v178 : BitVec 32 := Scalar.subi v157 v177
  let v180 : BitVec 32 := Scalar.addi v178 v159
  let c8_i32_71 : BitVec 32 := 8#32
  let v181 : BitVec 32 := Scalar.addi v180 c8_i32_71
  let c1_i32_72 : BitVec 32 := 1#32
  let v182 : BitVec 32 := Scalar.subi v181 c1_i32_72
  let c0_i32_74 : BitVec 32 := 0#32
  let v184 : BitVec 1 := Scalar.cmpi .sgt v182 c0_i32_74
  let v185 : BitVec 32 := Scalar.extui v184
  let c0_i32_75 : BitVec 32 := 0#32
  let v186 : BitVec 1 := Scalar.cmpi .slt v182 c0_i32_75
  let v187 : BitVec 32 := Scalar.extui v186
  let v188 : BitVec 32 := Scalar.subi v185 v187
  let c8_i32_73 : BitVec 32 := 8#32
  let c0_i32_76 : BitVec 32 := 0#32
  let v189 : BitVec 1 := Scalar.cmpi .sgt c8_i32_73 c0_i32_76
  let v190 : BitVec 32 := Scalar.extui v189
  let c0_i32_77 : BitVec 32 := 0#32
  let v191 : BitVec 1 := Scalar.cmpi .slt c8_i32_73 c0_i32_77
  let v192 : BitVec 32 := Scalar.extui v191
  let v193 : BitVec 32 := Scalar.subi v190 v192
  let v194 : BitVec 1 := Scalar.cmpi .ne v188 v193
  let v195 : BitVec 32 := Scalar.remsi v182 c8_i32_73
  let c0_i32_78 : BitVec 32 := 0#32
  let v196 : BitVec 1 := Scalar.cmpi .ne v195 c0_i32_78
  let v197 : BitVec 1 := Scalar.andi v194 v196
  let v183 : BitVec 32 := Scalar.divsi v182 c8_i32_73
  let c1_i32_79 : BitVec 32 := 1#32
  let v198 : BitVec 32 := Scalar.subi v183 c1_i32_79
  let v199 : BitVec 32 := Scalar.select v197 v198 v183
  let c0_i32_80 : BitVec 32 := 0#32
  let v200 : BitVec 32 := Scalar.select v179 v199 c0_i32_80
  let v203 : BitVec 32 := Scalar.addi v152 v200
  let c8_i32_191 : BitVec 32 := 8#32
  let v432 : BitVec 32 := Scalar.muli v203 c8_i32_191
  let v433 : BitVec 32 := v432
  let c0_i32_193 : BitVec 32 := 0#32
  let v230 : BitVec 1 := Scalar.cmpi .sgt v206 v205
  let c0_i32_85 : BitVec 32 := 0#32
  let v212 : BitVec 1 := Scalar.cmpi .sgt v208 c0_i32_85
  let v213 : BitVec 32 := Scalar.extui v212
  let c0_i32_86 : BitVec 32 := 0#32
  let v214 : BitVec 1 := Scalar.cmpi .slt v208 c0_i32_86
  let v215 : BitVec 32 := Scalar.extui v214
  let v216 : BitVec 32 := Scalar.subi v213 v215
  let c8_i32_84 : BitVec 32 := 8#32
  let c0_i32_87 : BitVec 32 := 0#32
  let v217 : BitVec 1 := Scalar.cmpi .sgt c8_i32_84 c0_i32_87
  let v218 : BitVec 32 := Scalar.extui v217
  let c0_i32_88 : BitVec 32 := 0#32
  let v219 : BitVec 1 := Scalar.cmpi .slt c8_i32_84 c0_i32_88
  let v220 : BitVec 32 := Scalar.extui v219
  let v221 : BitVec 32 := Scalar.subi v218 v220
  let v222 : BitVec 1 := Scalar.cmpi .ne v216 v221
  let v223 : BitVec 32 := Scalar.remsi v208 c8_i32_84
  let c0_i32_89 : BitVec 32 := 0#32
  let v224 : BitVec 1 := Scalar.cmpi .ne v223 c0_i32_89
  let v225 : BitVec 1 := Scalar.andi v222 v224
  let v211 : BitVec 32 := Scalar.divsi v208 c8_i32_84
  let c1_i32_90 : BitVec 32 := 1#32
  let v226 : BitVec 32 := Scalar.subi v211 c1_i32_90
  let v227 : BitVec 32 := Scalar.select v225 v226 v211
  let c8_i32_91 : BitVec 32 := 8#32
  let v228 : BitVec 32 := Scalar.muli v227 c8_i32_91
  let v229 : BitVec 32 := Scalar.subi v208 v228
  let v231 : BitVec 32 := Scalar.addi v229 v210
  let c8_i32_92 : BitVec 32 := 8#32
  let v232 : BitVec 32 := Scalar.addi v231 c8_i32_92
  let c1_i32_93 : BitVec 32 := 1#32
  let v233 : BitVec 32 := Scalar.subi v232 c1_i32_93
  let c0_i32_95 : BitVec 32 := 0#32
  let v235 : BitVec 1 := Scalar.cmpi .sgt v233 c0_i32_95
  let v236 : BitVec 32 := Scalar.extui v235
  let c0_i32_96 : BitVec 32 := 0#32
  let v237 : BitVec 1 := Scalar.cmpi .slt v233 c0_i32_96
  let v238 : BitVec 32 := Scalar.extui v237
  let v239 : BitVec 32 := Scalar.subi v236 v238
  let c8_i32_94 : BitVec 32 := 8#32
  let c0_i32_97 : BitVec 32 := 0#32
  let v240 : BitVec 1 := Scalar.cmpi .sgt c8_i32_94 c0_i32_97
  let v241 : BitVec 32 := Scalar.extui v240
  let c0_i32_98 : BitVec 32 := 0#32
  let v242 : BitVec 1 := Scalar.cmpi .slt c8_i32_94 c0_i32_98
  let v243 : BitVec 32 := Scalar.extui v242
  let v244 : BitVec 32 := Scalar.subi v241 v243
  let v245 : BitVec 1 := Scalar.cmpi .ne v239 v244
  let v246 : BitVec 32 := Scalar.remsi v233 c8_i32_94
  let c0_i32_99 : BitVec 32 := 0#32
  let v247 : BitVec 1 := Scalar.cmpi .ne v246 c0_i32_99
  let v248 : BitVec 1 := Scalar.andi v245 v247
  let v234 : BitVec 32 := Scalar.divsi v233 c8_i32_94
  let c1_i32_100 : BitVec 32 := 1#32
  let v249 : BitVec 32 := Scalar.subi v234 c1_i32_100
  let v250 : BitVec 32 := Scalar.select v248 v249 v234
  let c0_i32_101 : BitVec 32 := 0#32
  let v251 : BitVec 32 := Scalar.select v230 v250 c0_i32_101
  let c8_i32_189 : BitVec 32 := 8#32
  let v426 : BitVec 32 := Scalar.muli v251 c8_i32_189
  let v427 : BitVec 32 := v426
  ⟨![v425.toNat, v433.toNat, 0], ![1, v427.toNat, 512]⟩
def k0_sz11 (v205 : BitVec 32) (v206 : BitVec 32) (v208 : BitVec 32) (v210 : BitVec 32) : Fin 2 → Nat :=
  let v230 : BitVec 1 := Scalar.cmpi .sgt v206 v205
  let c0_i32_85 : BitVec 32 := 0#32
  let v212 : BitVec 1 := Scalar.cmpi .sgt v208 c0_i32_85
  let v213 : BitVec 32 := Scalar.extui v212
  let c0_i32_86 : BitVec 32 := 0#32
  let v214 : BitVec 1 := Scalar.cmpi .slt v208 c0_i32_86
  let v215 : BitVec 32 := Scalar.extui v214
  let v216 : BitVec 32 := Scalar.subi v213 v215
  let c8_i32_84 : BitVec 32 := 8#32
  let c0_i32_87 : BitVec 32 := 0#32
  let v217 : BitVec 1 := Scalar.cmpi .sgt c8_i32_84 c0_i32_87
  let v218 : BitVec 32 := Scalar.extui v217
  let c0_i32_88 : BitVec 32 := 0#32
  let v219 : BitVec 1 := Scalar.cmpi .slt c8_i32_84 c0_i32_88
  let v220 : BitVec 32 := Scalar.extui v219
  let v221 : BitVec 32 := Scalar.subi v218 v220
  let v222 : BitVec 1 := Scalar.cmpi .ne v216 v221
  let v223 : BitVec 32 := Scalar.remsi v208 c8_i32_84
  let c0_i32_89 : BitVec 32 := 0#32
  let v224 : BitVec 1 := Scalar.cmpi .ne v223 c0_i32_89
  let v225 : BitVec 1 := Scalar.andi v222 v224
  let v211 : BitVec 32 := Scalar.divsi v208 c8_i32_84
  let c1_i32_90 : BitVec 32 := 1#32
  let v226 : BitVec 32 := Scalar.subi v211 c1_i32_90
  let v227 : BitVec 32 := Scalar.select v225 v226 v211
  let c8_i32_91 : BitVec 32 := 8#32
  let v228 : BitVec 32 := Scalar.muli v227 c8_i32_91
  let v229 : BitVec 32 := Scalar.subi v208 v228
  let v231 : BitVec 32 := Scalar.addi v229 v210
  let c8_i32_92 : BitVec 32 := 8#32
  let v232 : BitVec 32 := Scalar.addi v231 c8_i32_92
  let c1_i32_93 : BitVec 32 := 1#32
  let v233 : BitVec 32 := Scalar.subi v232 c1_i32_93
  let c0_i32_95 : BitVec 32 := 0#32
  let v235 : BitVec 1 := Scalar.cmpi .sgt v233 c0_i32_95
  let v236 : BitVec 32 := Scalar.extui v235
  let c0_i32_96 : BitVec 32 := 0#32
  let v237 : BitVec 1 := Scalar.cmpi .slt v233 c0_i32_96
  let v238 : BitVec 32 := Scalar.extui v237
  let v239 : BitVec 32 := Scalar.subi v236 v238
  let c8_i32_94 : BitVec 32 := 8#32
  let c0_i32_97 : BitVec 32 := 0#32
  let v240 : BitVec 1 := Scalar.cmpi .sgt c8_i32_94 c0_i32_97
  let v241 : BitVec 32 := Scalar.extui v240
  let c0_i32_98 : BitVec 32 := 0#32
  let v242 : BitVec 1 := Scalar.cmpi .slt c8_i32_94 c0_i32_98
  let v243 : BitVec 32 := Scalar.extui v242
  let v244 : BitVec 32 := Scalar.subi v241 v243
  let v245 : BitVec 1 := Scalar.cmpi .ne v239 v244
  let v246 : BitVec 32 := Scalar.remsi v233 c8_i32_94
  let c0_i32_99 : BitVec 32 := 0#32
  let v247 : BitVec 1 := Scalar.cmpi .ne v246 c0_i32_99
  let v248 : BitVec 1 := Scalar.andi v245 v247
  let v234 : BitVec 32 := Scalar.divsi v233 c8_i32_94
  let c1_i32_100 : BitVec 32 := 1#32
  let v249 : BitVec 32 := Scalar.subi v234 c1_i32_100
  let v250 : BitVec 32 := Scalar.select v248 v249 v234
  let c0_i32_101 : BitVec 32 := 0#32
  let v251 : BitVec 32 := Scalar.select v230 v250 c0_i32_101
  let c8_i32_189 : BitVec 32 := 8#32
  let v426 : BitVec 32 := Scalar.muli v251 c8_i32_189
  let v427 : BitVec 32 := v426
  ![v427.toNat, 512]
def k0_off51 (i : grid0.Coords) (v205 : BitVec 32) (v206 : BitVec 32) (v208 : BitVec 32) (v210 : BitVec 32) : (Fin 2 → Nat) × (Fin 2 → Nat) :=
  let c0_i32_85 : BitVec 32 := 0#32
  let v212 : BitVec 1 := Scalar.cmpi .sgt v208 c0_i32_85
  let v213 : BitVec 32 := Scalar.extui v212
  let c0_i32_86 : BitVec 32 := 0#32
  let v214 : BitVec 1 := Scalar.cmpi .slt v208 c0_i32_86
  let v215 : BitVec 32 := Scalar.extui v214
  let v216 : BitVec 32 := Scalar.subi v213 v215
  let c8_i32_84 : BitVec 32 := 8#32
  let c0_i32_87 : BitVec 32 := 0#32
  let v217 : BitVec 1 := Scalar.cmpi .sgt c8_i32_84 c0_i32_87
  let v218 : BitVec 32 := Scalar.extui v217
  let c0_i32_88 : BitVec 32 := 0#32
  let v219 : BitVec 1 := Scalar.cmpi .slt c8_i32_84 c0_i32_88
  let v220 : BitVec 32 := Scalar.extui v219
  let v221 : BitVec 32 := Scalar.subi v218 v220
  let v222 : BitVec 1 := Scalar.cmpi .ne v216 v221
  let v223 : BitVec 32 := Scalar.remsi v208 c8_i32_84
  let c0_i32_89 : BitVec 32 := 0#32
  let v224 : BitVec 1 := Scalar.cmpi .ne v223 c0_i32_89
  let v225 : BitVec 1 := Scalar.andi v222 v224
  let v211 : BitVec 32 := Scalar.divsi v208 c8_i32_84
  let c1_i32_90 : BitVec 32 := 1#32
  let v226 : BitVec 32 := Scalar.subi v211 c1_i32_90
  let v227 : BitVec 32 := Scalar.select v225 v226 v211
  let c8_i32_190 : BitVec 32 := 8#32
  let v428 : BitVec 32 := Scalar.muli v227 c8_i32_190
  let v429 : BitVec 32 := v428
  let arg0 : BitVec 32 := BitVec.ofNat 32 (i 0).val
  let c1_i32_187 : BitVec 32 := 1#32
  let v424 : BitVec 32 := Scalar.addi arg0 c1_i32_187
  let c512_i32 : BitVec 32 := 512#32
  let v430 : BitVec 32 := Scalar.muli v424 c512_i32
  let v431 : BitVec 32 := v430
  let v230 : BitVec 1 := Scalar.cmpi .sgt v206 v205
  let c8_i32_91 : BitVec 32 := 8#32
  let v228 : BitVec 32 := Scalar.muli v227 c8_i32_91
  let v229 : BitVec 32 := Scalar.subi v208 v228
  let v231 : BitVec 32 := Scalar.addi v229 v210
  let c8_i32_92 : BitVec 32 := 8#32
  let v232 : BitVec 32 := Scalar.addi v231 c8_i32_92
  let c1_i32_93 : BitVec 32 := 1#32
  let v233 : BitVec 32 := Scalar.subi v232 c1_i32_93
  let c0_i32_95 : BitVec 32 := 0#32
  let v235 : BitVec 1 := Scalar.cmpi .sgt v233 c0_i32_95
  let v236 : BitVec 32 := Scalar.extui v235
  let c0_i32_96 : BitVec 32 := 0#32
  let v237 : BitVec 1 := Scalar.cmpi .slt v233 c0_i32_96
  let v238 : BitVec 32 := Scalar.extui v237
  let v239 : BitVec 32 := Scalar.subi v236 v238
  let c8_i32_94 : BitVec 32 := 8#32
  let c0_i32_97 : BitVec 32 := 0#32
  let v240 : BitVec 1 := Scalar.cmpi .sgt c8_i32_94 c0_i32_97
  let v241 : BitVec 32 := Scalar.extui v240
  let c0_i32_98 : BitVec 32 := 0#32
  let v242 : BitVec 1 := Scalar.cmpi .slt c8_i32_94 c0_i32_98
  let v243 : BitVec 32 := Scalar.extui v242
  let v244 : BitVec 32 := Scalar.subi v241 v243
  let v245 : BitVec 1 := Scalar.cmpi .ne v239 v244
  let v246 : BitVec 32 := Scalar.remsi v233 c8_i32_94
  let c0_i32_99 : BitVec 32 := 0#32
  let v247 : BitVec 1 := Scalar.cmpi .ne v246 c0_i32_99
  let v248 : BitVec 1 := Scalar.andi v245 v247
  let v234 : BitVec 32 := Scalar.divsi v233 c8_i32_94
  let c1_i32_100 : BitVec 32 := 1#32
  let v249 : BitVec 32 := Scalar.subi v234 c1_i32_100
  let v250 : BitVec 32 := Scalar.select v248 v249 v234
  let c0_i32_101 : BitVec 32 := 0#32
  let v251 : BitVec 32 := Scalar.select v230 v250 c0_i32_101
  let c8_i32_189 : BitVec 32 := 8#32
  let v426 : BitVec 32 := Scalar.muli v251 c8_i32_189
  let v427 : BitVec 32 := v426
  ⟨![v429.toNat, v431.toNat], ![v427.toNat, 512]⟩
def k0_mult63 (v256 : BitVec 32) (v257 : BitVec 32) (v259 : BitVec 32) (v261 : BitVec 32) : BitVec 32 :=
  let v281 : BitVec 1 := Scalar.cmpi .sgt v257 v256
  let c0_i32_106 : BitVec 32 := 0#32
  let v263 : BitVec 1 := Scalar.cmpi .sgt v259 c0_i32_106
  let v264 : BitVec 32 := Scalar.extui v263
  let c0_i32_107 : BitVec 32 := 0#32
  let v265 : BitVec 1 := Scalar.cmpi .slt v259 c0_i32_107
  let v266 : BitVec 32 := Scalar.extui v265
  let v267 : BitVec 32 := Scalar.subi v264 v266
  let c8_i32_105 : BitVec 32 := 8#32
  let c0_i32_108 : BitVec 32 := 0#32
  let v268 : BitVec 1 := Scalar.cmpi .sgt c8_i32_105 c0_i32_108
  let v269 : BitVec 32 := Scalar.extui v268
  let c0_i32_109 : BitVec 32 := 0#32
  let v270 : BitVec 1 := Scalar.cmpi .slt c8_i32_105 c0_i32_109
  let v271 : BitVec 32 := Scalar.extui v270
  let v272 : BitVec 32 := Scalar.subi v269 v271
  let v273 : BitVec 1 := Scalar.cmpi .ne v267 v272
  let v274 : BitVec 32 := Scalar.remsi v259 c8_i32_105
  let c0_i32_110 : BitVec 32 := 0#32
  let v275 : BitVec 1 := Scalar.cmpi .ne v274 c0_i32_110
  let v276 : BitVec 1 := Scalar.andi v273 v275
  let v262 : BitVec 32 := Scalar.divsi v259 c8_i32_105
  let c1_i32_111 : BitVec 32 := 1#32
  let v277 : BitVec 32 := Scalar.subi v262 c1_i32_111
  let v278 : BitVec 32 := Scalar.select v276 v277 v262
  let c8_i32_112 : BitVec 32 := 8#32
  let v279 : BitVec 32 := Scalar.muli v278 c8_i32_112
  let v280 : BitVec 32 := Scalar.subi v259 v279
  let v282 : BitVec 32 := Scalar.addi v280 v261
  let c8_i32_113 : BitVec 32 := 8#32
  let v283 : BitVec 32 := Scalar.addi v282 c8_i32_113
  let c1_i32_114 : BitVec 32 := 1#32
  let v284 : BitVec 32 := Scalar.subi v283 c1_i32_114
  let c0_i32_116 : BitVec 32 := 0#32
  let v286 : BitVec 1 := Scalar.cmpi .sgt v284 c0_i32_116
  let v287 : BitVec 32 := Scalar.extui v286
  let c0_i32_117 : BitVec 32 := 0#32
  let v288 : BitVec 1 := Scalar.cmpi .slt v284 c0_i32_117
  let v289 : BitVec 32 := Scalar.extui v288
  let v290 : BitVec 32 := Scalar.subi v287 v289
  let c8_i32_115 : BitVec 32 := 8#32
  let c0_i32_118 : BitVec 32 := 0#32
  let v291 : BitVec 1 := Scalar.cmpi .sgt c8_i32_115 c0_i32_118
  let v292 : BitVec 32 := Scalar.extui v291
  let c0_i32_119 : BitVec 32 := 0#32
  let v293 : BitVec 1 := Scalar.cmpi .slt c8_i32_115 c0_i32_119
  let v294 : BitVec 32 := Scalar.extui v293
  let v295 : BitVec 32 := Scalar.subi v292 v294
  let v296 : BitVec 1 := Scalar.cmpi .ne v290 v295
  let v297 : BitVec 32 := Scalar.remsi v284 c8_i32_115
  let c0_i32_120 : BitVec 32 := 0#32
  let v298 : BitVec 1 := Scalar.cmpi .ne v297 c0_i32_120
  let v299 : BitVec 1 := Scalar.andi v296 v298
  let v285 : BitVec 32 := Scalar.divsi v284 c8_i32_115
  let c1_i32_121 : BitVec 32 := 1#32
  let v300 : BitVec 32 := Scalar.subi v285 c1_i32_121
  let v301 : BitVec 32 := Scalar.select v299 v300 v285
  let c0_i32_122 : BitVec 32 := 0#32
  let v302 : BitVec 32 := Scalar.select v281 v301 c0_i32_122
  let c8_i32_189 : BitVec 32 := 8#32
  let v426 : BitVec 32 := Scalar.muli v302 c8_i32_189
  v426
def k0_cond20 (v256 : BitVec 32) (v257 : BitVec 32) (v259 : BitVec 32) (v261 : BitVec 32) : BitVec 1 :=
  let v281 : BitVec 1 := Scalar.cmpi .sgt v257 v256
  let c0_i32_106 : BitVec 32 := 0#32
  let v263 : BitVec 1 := Scalar.cmpi .sgt v259 c0_i32_106
  let v264 : BitVec 32 := Scalar.extui v263
  let c0_i32_107 : BitVec 32 := 0#32
  let v265 : BitVec 1 := Scalar.cmpi .slt v259 c0_i32_107
  let v266 : BitVec 32 := Scalar.extui v265
  let v267 : BitVec 32 := Scalar.subi v264 v266
  let c8_i32_105 : BitVec 32 := 8#32
  let c0_i32_108 : BitVec 32 := 0#32
  let v268 : BitVec 1 := Scalar.cmpi .sgt c8_i32_105 c0_i32_108
  let v269 : BitVec 32 := Scalar.extui v268
  let c0_i32_109 : BitVec 32 := 0#32
  let v270 : BitVec 1 := Scalar.cmpi .slt c8_i32_105 c0_i32_109
  let v271 : BitVec 32 := Scalar.extui v270
  let v272 : BitVec 32 := Scalar.subi v269 v271
  let v273 : BitVec 1 := Scalar.cmpi .ne v267 v272
  let v274 : BitVec 32 := Scalar.remsi v259 c8_i32_105
  let c0_i32_110 : BitVec 32 := 0#32
  let v275 : BitVec 1 := Scalar.cmpi .ne v274 c0_i32_110
  let v276 : BitVec 1 := Scalar.andi v273 v275
  let v262 : BitVec 32 := Scalar.divsi v259 c8_i32_105
  let c1_i32_111 : BitVec 32 := 1#32
  let v277 : BitVec 32 := Scalar.subi v262 c1_i32_111
  let v278 : BitVec 32 := Scalar.select v276 v277 v262
  let c8_i32_112 : BitVec 32 := 8#32
  let v279 : BitVec 32 := Scalar.muli v278 c8_i32_112
  let v280 : BitVec 32 := Scalar.subi v259 v279
  let v282 : BitVec 32 := Scalar.addi v280 v261
  let c8_i32_113 : BitVec 32 := 8#32
  let v283 : BitVec 32 := Scalar.addi v282 c8_i32_113
  let c1_i32_114 : BitVec 32 := 1#32
  let v284 : BitVec 32 := Scalar.subi v283 c1_i32_114
  let c0_i32_116 : BitVec 32 := 0#32
  let v286 : BitVec 1 := Scalar.cmpi .sgt v284 c0_i32_116
  let v287 : BitVec 32 := Scalar.extui v286
  let c0_i32_117 : BitVec 32 := 0#32
  let v288 : BitVec 1 := Scalar.cmpi .slt v284 c0_i32_117
  let v289 : BitVec 32 := Scalar.extui v288
  let v290 : BitVec 32 := Scalar.subi v287 v289
  let c8_i32_115 : BitVec 32 := 8#32
  let c0_i32_118 : BitVec 32 := 0#32
  let v291 : BitVec 1 := Scalar.cmpi .sgt c8_i32_115 c0_i32_118
  let v292 : BitVec 32 := Scalar.extui v291
  let c0_i32_119 : BitVec 32 := 0#32
  let v293 : BitVec 1 := Scalar.cmpi .slt c8_i32_115 c0_i32_119
  let v294 : BitVec 32 := Scalar.extui v293
  let v295 : BitVec 32 := Scalar.subi v292 v294
  let v296 : BitVec 1 := Scalar.cmpi .ne v290 v295
  let v297 : BitVec 32 := Scalar.remsi v284 c8_i32_115
  let c0_i32_120 : BitVec 32 := 0#32
  let v298 : BitVec 1 := Scalar.cmpi .ne v297 c0_i32_120
  let v299 : BitVec 1 := Scalar.andi v296 v298
  let v285 : BitVec 32 := Scalar.divsi v284 c8_i32_115
  let c1_i32_121 : BitVec 32 := 1#32
  let v300 : BitVec 32 := Scalar.subi v285 c1_i32_121
  let v301 : BitVec 32 := Scalar.select v299 v300 v285
  let c0_i32_122 : BitVec 32 := 0#32
  let v302 : BitVec 32 := Scalar.select v281 v301 c0_i32_122
  let c0_i32_185 : BitVec 32 := 0#32
  let v421 : BitVec 1 := Scalar.cmpi .sgt v302 c0_i32_185
  let v422 : BitVec 32 := Scalar.extui v421
  let c0_i32_186 : BitVec 32 := 0#32
  let v423 : BitVec 1 := Scalar.cmpi .ne v422 c0_i32_186
  v423

def k0_mult64 (v259 : BitVec 32) : BitVec 32 :=
  let c0_i32_106 : BitVec 32 := 0#32
  let v263 : BitVec 1 := Scalar.cmpi .sgt v259 c0_i32_106
  let v264 : BitVec 32 := Scalar.extui v263
  let c0_i32_107 : BitVec 32 := 0#32
  let v265 : BitVec 1 := Scalar.cmpi .slt v259 c0_i32_107
  let v266 : BitVec 32 := Scalar.extui v265
  let v267 : BitVec 32 := Scalar.subi v264 v266
  let c8_i32_105 : BitVec 32 := 8#32
  let c0_i32_108 : BitVec 32 := 0#32
  let v268 : BitVec 1 := Scalar.cmpi .sgt c8_i32_105 c0_i32_108
  let v269 : BitVec 32 := Scalar.extui v268
  let c0_i32_109 : BitVec 32 := 0#32
  let v270 : BitVec 1 := Scalar.cmpi .slt c8_i32_105 c0_i32_109
  let v271 : BitVec 32 := Scalar.extui v270
  let v272 : BitVec 32 := Scalar.subi v269 v271
  let v273 : BitVec 1 := Scalar.cmpi .ne v267 v272
  let v274 : BitVec 32 := Scalar.remsi v259 c8_i32_105
  let c0_i32_110 : BitVec 32 := 0#32
  let v275 : BitVec 1 := Scalar.cmpi .ne v274 c0_i32_110
  let v276 : BitVec 1 := Scalar.andi v273 v275
  let v262 : BitVec 32 := Scalar.divsi v259 c8_i32_105
  let c1_i32_111 : BitVec 32 := 1#32
  let v277 : BitVec 32 := Scalar.subi v262 c1_i32_111
  let v278 : BitVec 32 := Scalar.select v276 v277 v262
  let c8_i32_190 : BitVec 32 := 8#32
  let v428 : BitVec 32 := Scalar.muli v278 c8_i32_190
  v428
def k0_mult65 (i : grid0.Coords) : BitVec 32 :=
  let arg0 : BitVec 32 := BitVec.ofNat 32 (i 0).val
  let c1_i32_187 : BitVec 32 := 1#32
  let v424 : BitVec 32 := Scalar.addi arg0 c1_i32_187
  let c512_i32 : BitVec 32 := 512#32
  let v430 : BitVec 32 := Scalar.muli v424 c512_i32
  v430
def k0_mult66 (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) : BitVec 32 :=
  let c0_i32_18 : BitVec 32 := 0#32
  let v26 : BitVec 1 := Scalar.cmpi .sgt v2 v1
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let v50 : BitVec 32 := Scalar.addi c0_i32_18 v47
  let v77 : BitVec 1 := Scalar.cmpi .sgt v53 v52
  let c0_i32_22 : BitVec 32 := 0#32
  let v59 : BitVec 1 := Scalar.cmpi .sgt v55 c0_i32_22
  let v60 : BitVec 32 := Scalar.extui v59
  let c0_i32_23 : BitVec 32 := 0#32
  let v61 : BitVec 1 := Scalar.cmpi .slt v55 c0_i32_23
  let v62 : BitVec 32 := Scalar.extui v61
  let v63 : BitVec 32 := Scalar.subi v60 v62
  let c8_i32_21 : BitVec 32 := 8#32
  let c0_i32_24 : BitVec 32 := 0#32
  let v64 : BitVec 1 := Scalar.cmpi .sgt c8_i32_21 c0_i32_24
  let v65 : BitVec 32 := Scalar.extui v64
  let c0_i32_25 : BitVec 32 := 0#32
  let v66 : BitVec 1 := Scalar.cmpi .slt c8_i32_21 c0_i32_25
  let v67 : BitVec 32 := Scalar.extui v66
  let v68 : BitVec 32 := Scalar.subi v65 v67
  let v69 : BitVec 1 := Scalar.cmpi .ne v63 v68
  let v70 : BitVec 32 := Scalar.remsi v55 c8_i32_21
  let c0_i32_26 : BitVec 32 := 0#32
  let v71 : BitVec 1 := Scalar.cmpi .ne v70 c0_i32_26
  let v72 : BitVec 1 := Scalar.andi v69 v71
  let v58 : BitVec 32 := Scalar.divsi v55 c8_i32_21
  let c1_i32_27 : BitVec 32 := 1#32
  let v73 : BitVec 32 := Scalar.subi v58 c1_i32_27
  let v74 : BitVec 32 := Scalar.select v72 v73 v58
  let c8_i32_28 : BitVec 32 := 8#32
  let v75 : BitVec 32 := Scalar.muli v74 c8_i32_28
  let v76 : BitVec 32 := Scalar.subi v55 v75
  let v78 : BitVec 32 := Scalar.addi v76 v57
  let c8_i32_29 : BitVec 32 := 8#32
  let v79 : BitVec 32 := Scalar.addi v78 c8_i32_29
  let c1_i32_30 : BitVec 32 := 1#32
  let v80 : BitVec 32 := Scalar.subi v79 c1_i32_30
  let c0_i32_32 : BitVec 32 := 0#32
  let v82 : BitVec 1 := Scalar.cmpi .sgt v80 c0_i32_32
  let v83 : BitVec 32 := Scalar.extui v82
  let c0_i32_33 : BitVec 32 := 0#32
  let v84 : BitVec 1 := Scalar.cmpi .slt v80 c0_i32_33
  let v85 : BitVec 32 := Scalar.extui v84
  let v86 : BitVec 32 := Scalar.subi v83 v85
  let c8_i32_31 : BitVec 32 := 8#32
  let c0_i32_34 : BitVec 32 := 0#32
  let v87 : BitVec 1 := Scalar.cmpi .sgt c8_i32_31 c0_i32_34
  let v88 : BitVec 32 := Scalar.extui v87
  let c0_i32_35 : BitVec 32 := 0#32
  let v89 : BitVec 1 := Scalar.cmpi .slt c8_i32_31 c0_i32_35
  let v90 : BitVec 32 := Scalar.extui v89
  let v91 : BitVec 32 := Scalar.subi v88 v90
  let v92 : BitVec 1 := Scalar.cmpi .ne v86 v91
  let v93 : BitVec 32 := Scalar.remsi v80 c8_i32_31
  let c0_i32_36 : BitVec 32 := 0#32
  let v94 : BitVec 1 := Scalar.cmpi .ne v93 c0_i32_36
  let v95 : BitVec 1 := Scalar.andi v92 v94
  let v81 : BitVec 32 := Scalar.divsi v80 c8_i32_31
  let c1_i32_37 : BitVec 32 := 1#32
  let v96 : BitVec 32 := Scalar.subi v81 c1_i32_37
  let v97 : BitVec 32 := Scalar.select v95 v96 v81
  let c0_i32_38 : BitVec 32 := 0#32
  let v98 : BitVec 32 := Scalar.select v77 v97 c0_i32_38
  let v101 : BitVec 32 := Scalar.addi v50 v98
  let v128 : BitVec 1 := Scalar.cmpi .sgt v104 v103
  let c0_i32_43 : BitVec 32 := 0#32
  let v110 : BitVec 1 := Scalar.cmpi .sgt v106 c0_i32_43
  let v111 : BitVec 32 := Scalar.extui v110
  let c0_i32_44 : BitVec 32 := 0#32
  let v112 : BitVec 1 := Scalar.cmpi .slt v106 c0_i32_44
  let v113 : BitVec 32 := Scalar.extui v112
  let v114 : BitVec 32 := Scalar.subi v111 v113
  let c8_i32_42 : BitVec 32 := 8#32
  let c0_i32_45 : BitVec 32 := 0#32
  let v115 : BitVec 1 := Scalar.cmpi .sgt c8_i32_42 c0_i32_45
  let v116 : BitVec 32 := Scalar.extui v115
  let c0_i32_46 : BitVec 32 := 0#32
  let v117 : BitVec 1 := Scalar.cmpi .slt c8_i32_42 c0_i32_46
  let v118 : BitVec 32 := Scalar.extui v117
  let v119 : BitVec 32 := Scalar.subi v116 v118
  let v120 : BitVec 1 := Scalar.cmpi .ne v114 v119
  let v121 : BitVec 32 := Scalar.remsi v106 c8_i32_42
  let c0_i32_47 : BitVec 32 := 0#32
  let v122 : BitVec 1 := Scalar.cmpi .ne v121 c0_i32_47
  let v123 : BitVec 1 := Scalar.andi v120 v122
  let v109 : BitVec 32 := Scalar.divsi v106 c8_i32_42
  let c1_i32_48 : BitVec 32 := 1#32
  let v124 : BitVec 32 := Scalar.subi v109 c1_i32_48
  let v125 : BitVec 32 := Scalar.select v123 v124 v109
  let c8_i32_49 : BitVec 32 := 8#32
  let v126 : BitVec 32 := Scalar.muli v125 c8_i32_49
  let v127 : BitVec 32 := Scalar.subi v106 v126
  let v129 : BitVec 32 := Scalar.addi v127 v108
  let c8_i32_50 : BitVec 32 := 8#32
  let v130 : BitVec 32 := Scalar.addi v129 c8_i32_50
  let c1_i32_51 : BitVec 32 := 1#32
  let v131 : BitVec 32 := Scalar.subi v130 c1_i32_51
  let c0_i32_53 : BitVec 32 := 0#32
  let v133 : BitVec 1 := Scalar.cmpi .sgt v131 c0_i32_53
  let v134 : BitVec 32 := Scalar.extui v133
  let c0_i32_54 : BitVec 32 := 0#32
  let v135 : BitVec 1 := Scalar.cmpi .slt v131 c0_i32_54
  let v136 : BitVec 32 := Scalar.extui v135
  let v137 : BitVec 32 := Scalar.subi v134 v136
  let c8_i32_52 : BitVec 32 := 8#32
  let c0_i32_55 : BitVec 32 := 0#32
  let v138 : BitVec 1 := Scalar.cmpi .sgt c8_i32_52 c0_i32_55
  let v139 : BitVec 32 := Scalar.extui v138
  let c0_i32_56 : BitVec 32 := 0#32
  let v140 : BitVec 1 := Scalar.cmpi .slt c8_i32_52 c0_i32_56
  let v141 : BitVec 32 := Scalar.extui v140
  let v142 : BitVec 32 := Scalar.subi v139 v141
  let v143 : BitVec 1 := Scalar.cmpi .ne v137 v142
  let v144 : BitVec 32 := Scalar.remsi v131 c8_i32_52
  let c0_i32_57 : BitVec 32 := 0#32
  let v145 : BitVec 1 := Scalar.cmpi .ne v144 c0_i32_57
  let v146 : BitVec 1 := Scalar.andi v143 v145
  let v132 : BitVec 32 := Scalar.divsi v131 c8_i32_52
  let c1_i32_58 : BitVec 32 := 1#32
  let v147 : BitVec 32 := Scalar.subi v132 c1_i32_58
  let v148 : BitVec 32 := Scalar.select v146 v147 v132
  let c0_i32_59 : BitVec 32 := 0#32
  let v149 : BitVec 32 := Scalar.select v128 v148 c0_i32_59
  let v152 : BitVec 32 := Scalar.addi v101 v149
  let v179 : BitVec 1 := Scalar.cmpi .sgt v155 v154
  let c0_i32_64 : BitVec 32 := 0#32
  let v161 : BitVec 1 := Scalar.cmpi .sgt v157 c0_i32_64
  let v162 : BitVec 32 := Scalar.extui v161
  let c0_i32_65 : BitVec 32 := 0#32
  let v163 : BitVec 1 := Scalar.cmpi .slt v157 c0_i32_65
  let v164 : BitVec 32 := Scalar.extui v163
  let v165 : BitVec 32 := Scalar.subi v162 v164
  let c8_i32_63 : BitVec 32 := 8#32
  let c0_i32_66 : BitVec 32 := 0#32
  let v166 : BitVec 1 := Scalar.cmpi .sgt c8_i32_63 c0_i32_66
  let v167 : BitVec 32 := Scalar.extui v166
  let c0_i32_67 : BitVec 32 := 0#32
  let v168 : BitVec 1 := Scalar.cmpi .slt c8_i32_63 c0_i32_67
  let v169 : BitVec 32 := Scalar.extui v168
  let v170 : BitVec 32 := Scalar.subi v167 v169
  let v171 : BitVec 1 := Scalar.cmpi .ne v165 v170
  let v172 : BitVec 32 := Scalar.remsi v157 c8_i32_63
  let c0_i32_68 : BitVec 32 := 0#32
  let v173 : BitVec 1 := Scalar.cmpi .ne v172 c0_i32_68
  let v174 : BitVec 1 := Scalar.andi v171 v173
  let v160 : BitVec 32 := Scalar.divsi v157 c8_i32_63
  let c1_i32_69 : BitVec 32 := 1#32
  let v175 : BitVec 32 := Scalar.subi v160 c1_i32_69
  let v176 : BitVec 32 := Scalar.select v174 v175 v160
  let c8_i32_70 : BitVec 32 := 8#32
  let v177 : BitVec 32 := Scalar.muli v176 c8_i32_70
  let v178 : BitVec 32 := Scalar.subi v157 v177
  let v180 : BitVec 32 := Scalar.addi v178 v159
  let c8_i32_71 : BitVec 32 := 8#32
  let v181 : BitVec 32 := Scalar.addi v180 c8_i32_71
  let c1_i32_72 : BitVec 32 := 1#32
  let v182 : BitVec 32 := Scalar.subi v181 c1_i32_72
  let c0_i32_74 : BitVec 32 := 0#32
  let v184 : BitVec 1 := Scalar.cmpi .sgt v182 c0_i32_74
  let v185 : BitVec 32 := Scalar.extui v184
  let c0_i32_75 : BitVec 32 := 0#32
  let v186 : BitVec 1 := Scalar.cmpi .slt v182 c0_i32_75
  let v187 : BitVec 32 := Scalar.extui v186
  let v188 : BitVec 32 := Scalar.subi v185 v187
  let c8_i32_73 : BitVec 32 := 8#32
  let c0_i32_76 : BitVec 32 := 0#32
  let v189 : BitVec 1 := Scalar.cmpi .sgt c8_i32_73 c0_i32_76
  let v190 : BitVec 32 := Scalar.extui v189
  let c0_i32_77 : BitVec 32 := 0#32
  let v191 : BitVec 1 := Scalar.cmpi .slt c8_i32_73 c0_i32_77
  let v192 : BitVec 32 := Scalar.extui v191
  let v193 : BitVec 32 := Scalar.subi v190 v192
  let v194 : BitVec 1 := Scalar.cmpi .ne v188 v193
  let v195 : BitVec 32 := Scalar.remsi v182 c8_i32_73
  let c0_i32_78 : BitVec 32 := 0#32
  let v196 : BitVec 1 := Scalar.cmpi .ne v195 c0_i32_78
  let v197 : BitVec 1 := Scalar.andi v194 v196
  let v183 : BitVec 32 := Scalar.divsi v182 c8_i32_73
  let c1_i32_79 : BitVec 32 := 1#32
  let v198 : BitVec 32 := Scalar.subi v183 c1_i32_79
  let v199 : BitVec 32 := Scalar.select v197 v198 v183
  let c0_i32_80 : BitVec 32 := 0#32
  let v200 : BitVec 32 := Scalar.select v179 v199 c0_i32_80
  let v203 : BitVec 32 := Scalar.addi v152 v200
  let v230 : BitVec 1 := Scalar.cmpi .sgt v206 v205
  let c0_i32_85 : BitVec 32 := 0#32
  let v212 : BitVec 1 := Scalar.cmpi .sgt v208 c0_i32_85
  let v213 : BitVec 32 := Scalar.extui v212
  let c0_i32_86 : BitVec 32 := 0#32
  let v214 : BitVec 1 := Scalar.cmpi .slt v208 c0_i32_86
  let v215 : BitVec 32 := Scalar.extui v214
  let v216 : BitVec 32 := Scalar.subi v213 v215
  let c8_i32_84 : BitVec 32 := 8#32
  let c0_i32_87 : BitVec 32 := 0#32
  let v217 : BitVec 1 := Scalar.cmpi .sgt c8_i32_84 c0_i32_87
  let v218 : BitVec 32 := Scalar.extui v217
  let c0_i32_88 : BitVec 32 := 0#32
  let v219 : BitVec 1 := Scalar.cmpi .slt c8_i32_84 c0_i32_88
  let v220 : BitVec 32 := Scalar.extui v219
  let v221 : BitVec 32 := Scalar.subi v218 v220
  let v222 : BitVec 1 := Scalar.cmpi .ne v216 v221
  let v223 : BitVec 32 := Scalar.remsi v208 c8_i32_84
  let c0_i32_89 : BitVec 32 := 0#32
  let v224 : BitVec 1 := Scalar.cmpi .ne v223 c0_i32_89
  let v225 : BitVec 1 := Scalar.andi v222 v224
  let v211 : BitVec 32 := Scalar.divsi v208 c8_i32_84
  let c1_i32_90 : BitVec 32 := 1#32
  let v226 : BitVec 32 := Scalar.subi v211 c1_i32_90
  let v227 : BitVec 32 := Scalar.select v225 v226 v211
  let c8_i32_91 : BitVec 32 := 8#32
  let v228 : BitVec 32 := Scalar.muli v227 c8_i32_91
  let v229 : BitVec 32 := Scalar.subi v208 v228
  let v231 : BitVec 32 := Scalar.addi v229 v210
  let c8_i32_92 : BitVec 32 := 8#32
  let v232 : BitVec 32 := Scalar.addi v231 c8_i32_92
  let c1_i32_93 : BitVec 32 := 1#32
  let v233 : BitVec 32 := Scalar.subi v232 c1_i32_93
  let c0_i32_95 : BitVec 32 := 0#32
  let v235 : BitVec 1 := Scalar.cmpi .sgt v233 c0_i32_95
  let v236 : BitVec 32 := Scalar.extui v235
  let c0_i32_96 : BitVec 32 := 0#32
  let v237 : BitVec 1 := Scalar.cmpi .slt v233 c0_i32_96
  let v238 : BitVec 32 := Scalar.extui v237
  let v239 : BitVec 32 := Scalar.subi v236 v238
  let c8_i32_94 : BitVec 32 := 8#32
  let c0_i32_97 : BitVec 32 := 0#32
  let v240 : BitVec 1 := Scalar.cmpi .sgt c8_i32_94 c0_i32_97
  let v241 : BitVec 32 := Scalar.extui v240
  let c0_i32_98 : BitVec 32 := 0#32
  let v242 : BitVec 1 := Scalar.cmpi .slt c8_i32_94 c0_i32_98
  let v243 : BitVec 32 := Scalar.extui v242
  let v244 : BitVec 32 := Scalar.subi v241 v243
  let v245 : BitVec 1 := Scalar.cmpi .ne v239 v244
  let v246 : BitVec 32 := Scalar.remsi v233 c8_i32_94
  let c0_i32_99 : BitVec 32 := 0#32
  let v247 : BitVec 1 := Scalar.cmpi .ne v246 c0_i32_99
  let v248 : BitVec 1 := Scalar.andi v245 v247
  let v234 : BitVec 32 := Scalar.divsi v233 c8_i32_94
  let c1_i32_100 : BitVec 32 := 1#32
  let v249 : BitVec 32 := Scalar.subi v234 c1_i32_100
  let v250 : BitVec 32 := Scalar.select v248 v249 v234
  let c0_i32_101 : BitVec 32 := 0#32
  let v251 : BitVec 32 := Scalar.select v230 v250 c0_i32_101
  let v254 : BitVec 32 := Scalar.addi v203 v251
  let c8_i32_191 : BitVec 32 := 8#32
  let v432 : BitVec 32 := Scalar.muli v254 c8_i32_191
  v432
def k0_off52 (i : grid0.Coords) : Fin 2 → Nat :=
  let arg0 : BitVec 32 := BitVec.ofNat 32 (i 0).val
  let c1_i32_187 : BitVec 32 := 1#32
  let v424 : BitVec 32 := Scalar.addi arg0 c1_i32_187
  let c2_i32_188 : BitVec 32 := 2#32
  let v425 : BitVec 32 := Scalar.remsi v424 c2_i32_188
  let c5_i32_192 : BitVec 32 := 5#32
  ![v425.toNat, 5]
def k0_off53 (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) (v256 : BitVec 32) (v257 : BitVec 32) (v259 : BitVec 32) (v261 : BitVec 32) : (Fin 3 → Nat) × (Fin 3 → Nat) :=
  let arg0 : BitVec 32 := BitVec.ofNat 32 (i 0).val
  let c1_i32_187 : BitVec 32 := 1#32
  let v424 : BitVec 32 := Scalar.addi arg0 c1_i32_187
  let c2_i32_188 : BitVec 32 := 2#32
  let v425 : BitVec 32 := Scalar.remsi v424 c2_i32_188
  let c0_i32_18 : BitVec 32 := 0#32
  let v26 : BitVec 1 := Scalar.cmpi .sgt v2 v1
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let v50 : BitVec 32 := Scalar.addi c0_i32_18 v47
  let v77 : BitVec 1 := Scalar.cmpi .sgt v53 v52
  let c0_i32_22 : BitVec 32 := 0#32
  let v59 : BitVec 1 := Scalar.cmpi .sgt v55 c0_i32_22
  let v60 : BitVec 32 := Scalar.extui v59
  let c0_i32_23 : BitVec 32 := 0#32
  let v61 : BitVec 1 := Scalar.cmpi .slt v55 c0_i32_23
  let v62 : BitVec 32 := Scalar.extui v61
  let v63 : BitVec 32 := Scalar.subi v60 v62
  let c8_i32_21 : BitVec 32 := 8#32
  let c0_i32_24 : BitVec 32 := 0#32
  let v64 : BitVec 1 := Scalar.cmpi .sgt c8_i32_21 c0_i32_24
  let v65 : BitVec 32 := Scalar.extui v64
  let c0_i32_25 : BitVec 32 := 0#32
  let v66 : BitVec 1 := Scalar.cmpi .slt c8_i32_21 c0_i32_25
  let v67 : BitVec 32 := Scalar.extui v66
  let v68 : BitVec 32 := Scalar.subi v65 v67
  let v69 : BitVec 1 := Scalar.cmpi .ne v63 v68
  let v70 : BitVec 32 := Scalar.remsi v55 c8_i32_21
  let c0_i32_26 : BitVec 32 := 0#32
  let v71 : BitVec 1 := Scalar.cmpi .ne v70 c0_i32_26
  let v72 : BitVec 1 := Scalar.andi v69 v71
  let v58 : BitVec 32 := Scalar.divsi v55 c8_i32_21
  let c1_i32_27 : BitVec 32 := 1#32
  let v73 : BitVec 32 := Scalar.subi v58 c1_i32_27
  let v74 : BitVec 32 := Scalar.select v72 v73 v58
  let c8_i32_28 : BitVec 32 := 8#32
  let v75 : BitVec 32 := Scalar.muli v74 c8_i32_28
  let v76 : BitVec 32 := Scalar.subi v55 v75
  let v78 : BitVec 32 := Scalar.addi v76 v57
  let c8_i32_29 : BitVec 32 := 8#32
  let v79 : BitVec 32 := Scalar.addi v78 c8_i32_29
  let c1_i32_30 : BitVec 32 := 1#32
  let v80 : BitVec 32 := Scalar.subi v79 c1_i32_30
  let c0_i32_32 : BitVec 32 := 0#32
  let v82 : BitVec 1 := Scalar.cmpi .sgt v80 c0_i32_32
  let v83 : BitVec 32 := Scalar.extui v82
  let c0_i32_33 : BitVec 32 := 0#32
  let v84 : BitVec 1 := Scalar.cmpi .slt v80 c0_i32_33
  let v85 : BitVec 32 := Scalar.extui v84
  let v86 : BitVec 32 := Scalar.subi v83 v85
  let c8_i32_31 : BitVec 32 := 8#32
  let c0_i32_34 : BitVec 32 := 0#32
  let v87 : BitVec 1 := Scalar.cmpi .sgt c8_i32_31 c0_i32_34
  let v88 : BitVec 32 := Scalar.extui v87
  let c0_i32_35 : BitVec 32 := 0#32
  let v89 : BitVec 1 := Scalar.cmpi .slt c8_i32_31 c0_i32_35
  let v90 : BitVec 32 := Scalar.extui v89
  let v91 : BitVec 32 := Scalar.subi v88 v90
  let v92 : BitVec 1 := Scalar.cmpi .ne v86 v91
  let v93 : BitVec 32 := Scalar.remsi v80 c8_i32_31
  let c0_i32_36 : BitVec 32 := 0#32
  let v94 : BitVec 1 := Scalar.cmpi .ne v93 c0_i32_36
  let v95 : BitVec 1 := Scalar.andi v92 v94
  let v81 : BitVec 32 := Scalar.divsi v80 c8_i32_31
  let c1_i32_37 : BitVec 32 := 1#32
  let v96 : BitVec 32 := Scalar.subi v81 c1_i32_37
  let v97 : BitVec 32 := Scalar.select v95 v96 v81
  let c0_i32_38 : BitVec 32 := 0#32
  let v98 : BitVec 32 := Scalar.select v77 v97 c0_i32_38
  let v101 : BitVec 32 := Scalar.addi v50 v98
  let v128 : BitVec 1 := Scalar.cmpi .sgt v104 v103
  let c0_i32_43 : BitVec 32 := 0#32
  let v110 : BitVec 1 := Scalar.cmpi .sgt v106 c0_i32_43
  let v111 : BitVec 32 := Scalar.extui v110
  let c0_i32_44 : BitVec 32 := 0#32
  let v112 : BitVec 1 := Scalar.cmpi .slt v106 c0_i32_44
  let v113 : BitVec 32 := Scalar.extui v112
  let v114 : BitVec 32 := Scalar.subi v111 v113
  let c8_i32_42 : BitVec 32 := 8#32
  let c0_i32_45 : BitVec 32 := 0#32
  let v115 : BitVec 1 := Scalar.cmpi .sgt c8_i32_42 c0_i32_45
  let v116 : BitVec 32 := Scalar.extui v115
  let c0_i32_46 : BitVec 32 := 0#32
  let v117 : BitVec 1 := Scalar.cmpi .slt c8_i32_42 c0_i32_46
  let v118 : BitVec 32 := Scalar.extui v117
  let v119 : BitVec 32 := Scalar.subi v116 v118
  let v120 : BitVec 1 := Scalar.cmpi .ne v114 v119
  let v121 : BitVec 32 := Scalar.remsi v106 c8_i32_42
  let c0_i32_47 : BitVec 32 := 0#32
  let v122 : BitVec 1 := Scalar.cmpi .ne v121 c0_i32_47
  let v123 : BitVec 1 := Scalar.andi v120 v122
  let v109 : BitVec 32 := Scalar.divsi v106 c8_i32_42
  let c1_i32_48 : BitVec 32 := 1#32
  let v124 : BitVec 32 := Scalar.subi v109 c1_i32_48
  let v125 : BitVec 32 := Scalar.select v123 v124 v109
  let c8_i32_49 : BitVec 32 := 8#32
  let v126 : BitVec 32 := Scalar.muli v125 c8_i32_49
  let v127 : BitVec 32 := Scalar.subi v106 v126
  let v129 : BitVec 32 := Scalar.addi v127 v108
  let c8_i32_50 : BitVec 32 := 8#32
  let v130 : BitVec 32 := Scalar.addi v129 c8_i32_50
  let c1_i32_51 : BitVec 32 := 1#32
  let v131 : BitVec 32 := Scalar.subi v130 c1_i32_51
  let c0_i32_53 : BitVec 32 := 0#32
  let v133 : BitVec 1 := Scalar.cmpi .sgt v131 c0_i32_53
  let v134 : BitVec 32 := Scalar.extui v133
  let c0_i32_54 : BitVec 32 := 0#32
  let v135 : BitVec 1 := Scalar.cmpi .slt v131 c0_i32_54
  let v136 : BitVec 32 := Scalar.extui v135
  let v137 : BitVec 32 := Scalar.subi v134 v136
  let c8_i32_52 : BitVec 32 := 8#32
  let c0_i32_55 : BitVec 32 := 0#32
  let v138 : BitVec 1 := Scalar.cmpi .sgt c8_i32_52 c0_i32_55
  let v139 : BitVec 32 := Scalar.extui v138
  let c0_i32_56 : BitVec 32 := 0#32
  let v140 : BitVec 1 := Scalar.cmpi .slt c8_i32_52 c0_i32_56
  let v141 : BitVec 32 := Scalar.extui v140
  let v142 : BitVec 32 := Scalar.subi v139 v141
  let v143 : BitVec 1 := Scalar.cmpi .ne v137 v142
  let v144 : BitVec 32 := Scalar.remsi v131 c8_i32_52
  let c0_i32_57 : BitVec 32 := 0#32
  let v145 : BitVec 1 := Scalar.cmpi .ne v144 c0_i32_57
  let v146 : BitVec 1 := Scalar.andi v143 v145
  let v132 : BitVec 32 := Scalar.divsi v131 c8_i32_52
  let c1_i32_58 : BitVec 32 := 1#32
  let v147 : BitVec 32 := Scalar.subi v132 c1_i32_58
  let v148 : BitVec 32 := Scalar.select v146 v147 v132
  let c0_i32_59 : BitVec 32 := 0#32
  let v149 : BitVec 32 := Scalar.select v128 v148 c0_i32_59
  let v152 : BitVec 32 := Scalar.addi v101 v149
  let v179 : BitVec 1 := Scalar.cmpi .sgt v155 v154
  let c0_i32_64 : BitVec 32 := 0#32
  let v161 : BitVec 1 := Scalar.cmpi .sgt v157 c0_i32_64
  let v162 : BitVec 32 := Scalar.extui v161
  let c0_i32_65 : BitVec 32 := 0#32
  let v163 : BitVec 1 := Scalar.cmpi .slt v157 c0_i32_65
  let v164 : BitVec 32 := Scalar.extui v163
  let v165 : BitVec 32 := Scalar.subi v162 v164
  let c8_i32_63 : BitVec 32 := 8#32
  let c0_i32_66 : BitVec 32 := 0#32
  let v166 : BitVec 1 := Scalar.cmpi .sgt c8_i32_63 c0_i32_66
  let v167 : BitVec 32 := Scalar.extui v166
  let c0_i32_67 : BitVec 32 := 0#32
  let v168 : BitVec 1 := Scalar.cmpi .slt c8_i32_63 c0_i32_67
  let v169 : BitVec 32 := Scalar.extui v168
  let v170 : BitVec 32 := Scalar.subi v167 v169
  let v171 : BitVec 1 := Scalar.cmpi .ne v165 v170
  let v172 : BitVec 32 := Scalar.remsi v157 c8_i32_63
  let c0_i32_68 : BitVec 32 := 0#32
  let v173 : BitVec 1 := Scalar.cmpi .ne v172 c0_i32_68
  let v174 : BitVec 1 := Scalar.andi v171 v173
  let v160 : BitVec 32 := Scalar.divsi v157 c8_i32_63
  let c1_i32_69 : BitVec 32 := 1#32
  let v175 : BitVec 32 := Scalar.subi v160 c1_i32_69
  let v176 : BitVec 32 := Scalar.select v174 v175 v160
  let c8_i32_70 : BitVec 32 := 8#32
  let v177 : BitVec 32 := Scalar.muli v176 c8_i32_70
  let v178 : BitVec 32 := Scalar.subi v157 v177
  let v180 : BitVec 32 := Scalar.addi v178 v159
  let c8_i32_71 : BitVec 32 := 8#32
  let v181 : BitVec 32 := Scalar.addi v180 c8_i32_71
  let c1_i32_72 : BitVec 32 := 1#32
  let v182 : BitVec 32 := Scalar.subi v181 c1_i32_72
  let c0_i32_74 : BitVec 32 := 0#32
  let v184 : BitVec 1 := Scalar.cmpi .sgt v182 c0_i32_74
  let v185 : BitVec 32 := Scalar.extui v184
  let c0_i32_75 : BitVec 32 := 0#32
  let v186 : BitVec 1 := Scalar.cmpi .slt v182 c0_i32_75
  let v187 : BitVec 32 := Scalar.extui v186
  let v188 : BitVec 32 := Scalar.subi v185 v187
  let c8_i32_73 : BitVec 32 := 8#32
  let c0_i32_76 : BitVec 32 := 0#32
  let v189 : BitVec 1 := Scalar.cmpi .sgt c8_i32_73 c0_i32_76
  let v190 : BitVec 32 := Scalar.extui v189
  let c0_i32_77 : BitVec 32 := 0#32
  let v191 : BitVec 1 := Scalar.cmpi .slt c8_i32_73 c0_i32_77
  let v192 : BitVec 32 := Scalar.extui v191
  let v193 : BitVec 32 := Scalar.subi v190 v192
  let v194 : BitVec 1 := Scalar.cmpi .ne v188 v193
  let v195 : BitVec 32 := Scalar.remsi v182 c8_i32_73
  let c0_i32_78 : BitVec 32 := 0#32
  let v196 : BitVec 1 := Scalar.cmpi .ne v195 c0_i32_78
  let v197 : BitVec 1 := Scalar.andi v194 v196
  let v183 : BitVec 32 := Scalar.divsi v182 c8_i32_73
  let c1_i32_79 : BitVec 32 := 1#32
  let v198 : BitVec 32 := Scalar.subi v183 c1_i32_79
  let v199 : BitVec 32 := Scalar.select v197 v198 v183
  let c0_i32_80 : BitVec 32 := 0#32
  let v200 : BitVec 32 := Scalar.select v179 v199 c0_i32_80
  let v203 : BitVec 32 := Scalar.addi v152 v200
  let v230 : BitVec 1 := Scalar.cmpi .sgt v206 v205
  let c0_i32_85 : BitVec 32 := 0#32
  let v212 : BitVec 1 := Scalar.cmpi .sgt v208 c0_i32_85
  let v213 : BitVec 32 := Scalar.extui v212
  let c0_i32_86 : BitVec 32 := 0#32
  let v214 : BitVec 1 := Scalar.cmpi .slt v208 c0_i32_86
  let v215 : BitVec 32 := Scalar.extui v214
  let v216 : BitVec 32 := Scalar.subi v213 v215
  let c8_i32_84 : BitVec 32 := 8#32
  let c0_i32_87 : BitVec 32 := 0#32
  let v217 : BitVec 1 := Scalar.cmpi .sgt c8_i32_84 c0_i32_87
  let v218 : BitVec 32 := Scalar.extui v217
  let c0_i32_88 : BitVec 32 := 0#32
  let v219 : BitVec 1 := Scalar.cmpi .slt c8_i32_84 c0_i32_88
  let v220 : BitVec 32 := Scalar.extui v219
  let v221 : BitVec 32 := Scalar.subi v218 v220
  let v222 : BitVec 1 := Scalar.cmpi .ne v216 v221
  let v223 : BitVec 32 := Scalar.remsi v208 c8_i32_84
  let c0_i32_89 : BitVec 32 := 0#32
  let v224 : BitVec 1 := Scalar.cmpi .ne v223 c0_i32_89
  let v225 : BitVec 1 := Scalar.andi v222 v224
  let v211 : BitVec 32 := Scalar.divsi v208 c8_i32_84
  let c1_i32_90 : BitVec 32 := 1#32
  let v226 : BitVec 32 := Scalar.subi v211 c1_i32_90
  let v227 : BitVec 32 := Scalar.select v225 v226 v211
  let c8_i32_91 : BitVec 32 := 8#32
  let v228 : BitVec 32 := Scalar.muli v227 c8_i32_91
  let v229 : BitVec 32 := Scalar.subi v208 v228
  let v231 : BitVec 32 := Scalar.addi v229 v210
  let c8_i32_92 : BitVec 32 := 8#32
  let v232 : BitVec 32 := Scalar.addi v231 c8_i32_92
  let c1_i32_93 : BitVec 32 := 1#32
  let v233 : BitVec 32 := Scalar.subi v232 c1_i32_93
  let c0_i32_95 : BitVec 32 := 0#32
  let v235 : BitVec 1 := Scalar.cmpi .sgt v233 c0_i32_95
  let v236 : BitVec 32 := Scalar.extui v235
  let c0_i32_96 : BitVec 32 := 0#32
  let v237 : BitVec 1 := Scalar.cmpi .slt v233 c0_i32_96
  let v238 : BitVec 32 := Scalar.extui v237
  let v239 : BitVec 32 := Scalar.subi v236 v238
  let c8_i32_94 : BitVec 32 := 8#32
  let c0_i32_97 : BitVec 32 := 0#32
  let v240 : BitVec 1 := Scalar.cmpi .sgt c8_i32_94 c0_i32_97
  let v241 : BitVec 32 := Scalar.extui v240
  let c0_i32_98 : BitVec 32 := 0#32
  let v242 : BitVec 1 := Scalar.cmpi .slt c8_i32_94 c0_i32_98
  let v243 : BitVec 32 := Scalar.extui v242
  let v244 : BitVec 32 := Scalar.subi v241 v243
  let v245 : BitVec 1 := Scalar.cmpi .ne v239 v244
  let v246 : BitVec 32 := Scalar.remsi v233 c8_i32_94
  let c0_i32_99 : BitVec 32 := 0#32
  let v247 : BitVec 1 := Scalar.cmpi .ne v246 c0_i32_99
  let v248 : BitVec 1 := Scalar.andi v245 v247
  let v234 : BitVec 32 := Scalar.divsi v233 c8_i32_94
  let c1_i32_100 : BitVec 32 := 1#32
  let v249 : BitVec 32 := Scalar.subi v234 c1_i32_100
  let v250 : BitVec 32 := Scalar.select v248 v249 v234
  let c0_i32_101 : BitVec 32 := 0#32
  let v251 : BitVec 32 := Scalar.select v230 v250 c0_i32_101
  let v254 : BitVec 32 := Scalar.addi v203 v251
  let c8_i32_191 : BitVec 32 := 8#32
  let v432 : BitVec 32 := Scalar.muli v254 c8_i32_191
  let v433 : BitVec 32 := v432
  let c0_i32_193 : BitVec 32 := 0#32
  let v281 : BitVec 1 := Scalar.cmpi .sgt v257 v256
  let c0_i32_106 : BitVec 32 := 0#32
  let v263 : BitVec 1 := Scalar.cmpi .sgt v259 c0_i32_106
  let v264 : BitVec 32 := Scalar.extui v263
  let c0_i32_107 : BitVec 32 := 0#32
  let v265 : BitVec 1 := Scalar.cmpi .slt v259 c0_i32_107
  let v266 : BitVec 32 := Scalar.extui v265
  let v267 : BitVec 32 := Scalar.subi v264 v266
  let c8_i32_105 : BitVec 32 := 8#32
  let c0_i32_108 : BitVec 32 := 0#32
  let v268 : BitVec 1 := Scalar.cmpi .sgt c8_i32_105 c0_i32_108
  let v269 : BitVec 32 := Scalar.extui v268
  let c0_i32_109 : BitVec 32 := 0#32
  let v270 : BitVec 1 := Scalar.cmpi .slt c8_i32_105 c0_i32_109
  let v271 : BitVec 32 := Scalar.extui v270
  let v272 : BitVec 32 := Scalar.subi v269 v271
  let v273 : BitVec 1 := Scalar.cmpi .ne v267 v272
  let v274 : BitVec 32 := Scalar.remsi v259 c8_i32_105
  let c0_i32_110 : BitVec 32 := 0#32
  let v275 : BitVec 1 := Scalar.cmpi .ne v274 c0_i32_110
  let v276 : BitVec 1 := Scalar.andi v273 v275
  let v262 : BitVec 32 := Scalar.divsi v259 c8_i32_105
  let c1_i32_111 : BitVec 32 := 1#32
  let v277 : BitVec 32 := Scalar.subi v262 c1_i32_111
  let v278 : BitVec 32 := Scalar.select v276 v277 v262
  let c8_i32_112 : BitVec 32 := 8#32
  let v279 : BitVec 32 := Scalar.muli v278 c8_i32_112
  let v280 : BitVec 32 := Scalar.subi v259 v279
  let v282 : BitVec 32 := Scalar.addi v280 v261
  let c8_i32_113 : BitVec 32 := 8#32
  let v283 : BitVec 32 := Scalar.addi v282 c8_i32_113
  let c1_i32_114 : BitVec 32 := 1#32
  let v284 : BitVec 32 := Scalar.subi v283 c1_i32_114
  let c0_i32_116 : BitVec 32 := 0#32
  let v286 : BitVec 1 := Scalar.cmpi .sgt v284 c0_i32_116
  let v287 : BitVec 32 := Scalar.extui v286
  let c0_i32_117 : BitVec 32 := 0#32
  let v288 : BitVec 1 := Scalar.cmpi .slt v284 c0_i32_117
  let v289 : BitVec 32 := Scalar.extui v288
  let v290 : BitVec 32 := Scalar.subi v287 v289
  let c8_i32_115 : BitVec 32 := 8#32
  let c0_i32_118 : BitVec 32 := 0#32
  let v291 : BitVec 1 := Scalar.cmpi .sgt c8_i32_115 c0_i32_118
  let v292 : BitVec 32 := Scalar.extui v291
  let c0_i32_119 : BitVec 32 := 0#32
  let v293 : BitVec 1 := Scalar.cmpi .slt c8_i32_115 c0_i32_119
  let v294 : BitVec 32 := Scalar.extui v293
  let v295 : BitVec 32 := Scalar.subi v292 v294
  let v296 : BitVec 1 := Scalar.cmpi .ne v290 v295
  let v297 : BitVec 32 := Scalar.remsi v284 c8_i32_115
  let c0_i32_120 : BitVec 32 := 0#32
  let v298 : BitVec 1 := Scalar.cmpi .ne v297 c0_i32_120
  let v299 : BitVec 1 := Scalar.andi v296 v298
  let v285 : BitVec 32 := Scalar.divsi v284 c8_i32_115
  let c1_i32_121 : BitVec 32 := 1#32
  let v300 : BitVec 32 := Scalar.subi v285 c1_i32_121
  let v301 : BitVec 32 := Scalar.select v299 v300 v285
  let c0_i32_122 : BitVec 32 := 0#32
  let v302 : BitVec 32 := Scalar.select v281 v301 c0_i32_122
  let c8_i32_189 : BitVec 32 := 8#32
  let v426 : BitVec 32 := Scalar.muli v302 c8_i32_189
  let v427 : BitVec 32 := v426
  ⟨![v425.toNat, v433.toNat, 0], ![1, v427.toNat, 512]⟩
def k0_sz12 (v256 : BitVec 32) (v257 : BitVec 32) (v259 : BitVec 32) (v261 : BitVec 32) : Fin 2 → Nat :=
  let v281 : BitVec 1 := Scalar.cmpi .sgt v257 v256
  let c0_i32_106 : BitVec 32 := 0#32
  let v263 : BitVec 1 := Scalar.cmpi .sgt v259 c0_i32_106
  let v264 : BitVec 32 := Scalar.extui v263
  let c0_i32_107 : BitVec 32 := 0#32
  let v265 : BitVec 1 := Scalar.cmpi .slt v259 c0_i32_107
  let v266 : BitVec 32 := Scalar.extui v265
  let v267 : BitVec 32 := Scalar.subi v264 v266
  let c8_i32_105 : BitVec 32 := 8#32
  let c0_i32_108 : BitVec 32 := 0#32
  let v268 : BitVec 1 := Scalar.cmpi .sgt c8_i32_105 c0_i32_108
  let v269 : BitVec 32 := Scalar.extui v268
  let c0_i32_109 : BitVec 32 := 0#32
  let v270 : BitVec 1 := Scalar.cmpi .slt c8_i32_105 c0_i32_109
  let v271 : BitVec 32 := Scalar.extui v270
  let v272 : BitVec 32 := Scalar.subi v269 v271
  let v273 : BitVec 1 := Scalar.cmpi .ne v267 v272
  let v274 : BitVec 32 := Scalar.remsi v259 c8_i32_105
  let c0_i32_110 : BitVec 32 := 0#32
  let v275 : BitVec 1 := Scalar.cmpi .ne v274 c0_i32_110
  let v276 : BitVec 1 := Scalar.andi v273 v275
  let v262 : BitVec 32 := Scalar.divsi v259 c8_i32_105
  let c1_i32_111 : BitVec 32 := 1#32
  let v277 : BitVec 32 := Scalar.subi v262 c1_i32_111
  let v278 : BitVec 32 := Scalar.select v276 v277 v262
  let c8_i32_112 : BitVec 32 := 8#32
  let v279 : BitVec 32 := Scalar.muli v278 c8_i32_112
  let v280 : BitVec 32 := Scalar.subi v259 v279
  let v282 : BitVec 32 := Scalar.addi v280 v261
  let c8_i32_113 : BitVec 32 := 8#32
  let v283 : BitVec 32 := Scalar.addi v282 c8_i32_113
  let c1_i32_114 : BitVec 32 := 1#32
  let v284 : BitVec 32 := Scalar.subi v283 c1_i32_114
  let c0_i32_116 : BitVec 32 := 0#32
  let v286 : BitVec 1 := Scalar.cmpi .sgt v284 c0_i32_116
  let v287 : BitVec 32 := Scalar.extui v286
  let c0_i32_117 : BitVec 32 := 0#32
  let v288 : BitVec 1 := Scalar.cmpi .slt v284 c0_i32_117
  let v289 : BitVec 32 := Scalar.extui v288
  let v290 : BitVec 32 := Scalar.subi v287 v289
  let c8_i32_115 : BitVec 32 := 8#32
  let c0_i32_118 : BitVec 32 := 0#32
  let v291 : BitVec 1 := Scalar.cmpi .sgt c8_i32_115 c0_i32_118
  let v292 : BitVec 32 := Scalar.extui v291
  let c0_i32_119 : BitVec 32 := 0#32
  let v293 : BitVec 1 := Scalar.cmpi .slt c8_i32_115 c0_i32_119
  let v294 : BitVec 32 := Scalar.extui v293
  let v295 : BitVec 32 := Scalar.subi v292 v294
  let v296 : BitVec 1 := Scalar.cmpi .ne v290 v295
  let v297 : BitVec 32 := Scalar.remsi v284 c8_i32_115
  let c0_i32_120 : BitVec 32 := 0#32
  let v298 : BitVec 1 := Scalar.cmpi .ne v297 c0_i32_120
  let v299 : BitVec 1 := Scalar.andi v296 v298
  let v285 : BitVec 32 := Scalar.divsi v284 c8_i32_115
  let c1_i32_121 : BitVec 32 := 1#32
  let v300 : BitVec 32 := Scalar.subi v285 c1_i32_121
  let v301 : BitVec 32 := Scalar.select v299 v300 v285
  let c0_i32_122 : BitVec 32 := 0#32
  let v302 : BitVec 32 := Scalar.select v281 v301 c0_i32_122
  let c8_i32_189 : BitVec 32 := 8#32
  let v426 : BitVec 32 := Scalar.muli v302 c8_i32_189
  let v427 : BitVec 32 := v426
  ![v427.toNat, 512]
def k0_off54 (i : grid0.Coords) (v256 : BitVec 32) (v257 : BitVec 32) (v259 : BitVec 32) (v261 : BitVec 32) : (Fin 2 → Nat) × (Fin 2 → Nat) :=
  let c0_i32_106 : BitVec 32 := 0#32
  let v263 : BitVec 1 := Scalar.cmpi .sgt v259 c0_i32_106
  let v264 : BitVec 32 := Scalar.extui v263
  let c0_i32_107 : BitVec 32 := 0#32
  let v265 : BitVec 1 := Scalar.cmpi .slt v259 c0_i32_107
  let v266 : BitVec 32 := Scalar.extui v265
  let v267 : BitVec 32 := Scalar.subi v264 v266
  let c8_i32_105 : BitVec 32 := 8#32
  let c0_i32_108 : BitVec 32 := 0#32
  let v268 : BitVec 1 := Scalar.cmpi .sgt c8_i32_105 c0_i32_108
  let v269 : BitVec 32 := Scalar.extui v268
  let c0_i32_109 : BitVec 32 := 0#32
  let v270 : BitVec 1 := Scalar.cmpi .slt c8_i32_105 c0_i32_109
  let v271 : BitVec 32 := Scalar.extui v270
  let v272 : BitVec 32 := Scalar.subi v269 v271
  let v273 : BitVec 1 := Scalar.cmpi .ne v267 v272
  let v274 : BitVec 32 := Scalar.remsi v259 c8_i32_105
  let c0_i32_110 : BitVec 32 := 0#32
  let v275 : BitVec 1 := Scalar.cmpi .ne v274 c0_i32_110
  let v276 : BitVec 1 := Scalar.andi v273 v275
  let v262 : BitVec 32 := Scalar.divsi v259 c8_i32_105
  let c1_i32_111 : BitVec 32 := 1#32
  let v277 : BitVec 32 := Scalar.subi v262 c1_i32_111
  let v278 : BitVec 32 := Scalar.select v276 v277 v262
  let c8_i32_190 : BitVec 32 := 8#32
  let v428 : BitVec 32 := Scalar.muli v278 c8_i32_190
  let v429 : BitVec 32 := v428
  let arg0 : BitVec 32 := BitVec.ofNat 32 (i 0).val
  let c1_i32_187 : BitVec 32 := 1#32
  let v424 : BitVec 32 := Scalar.addi arg0 c1_i32_187
  let c512_i32 : BitVec 32 := 512#32
  let v430 : BitVec 32 := Scalar.muli v424 c512_i32
  let v431 : BitVec 32 := v430
  let v281 : BitVec 1 := Scalar.cmpi .sgt v257 v256
  let c8_i32_112 : BitVec 32 := 8#32
  let v279 : BitVec 32 := Scalar.muli v278 c8_i32_112
  let v280 : BitVec 32 := Scalar.subi v259 v279
  let v282 : BitVec 32 := Scalar.addi v280 v261
  let c8_i32_113 : BitVec 32 := 8#32
  let v283 : BitVec 32 := Scalar.addi v282 c8_i32_113
  let c1_i32_114 : BitVec 32 := 1#32
  let v284 : BitVec 32 := Scalar.subi v283 c1_i32_114
  let c0_i32_116 : BitVec 32 := 0#32
  let v286 : BitVec 1 := Scalar.cmpi .sgt v284 c0_i32_116
  let v287 : BitVec 32 := Scalar.extui v286
  let c0_i32_117 : BitVec 32 := 0#32
  let v288 : BitVec 1 := Scalar.cmpi .slt v284 c0_i32_117
  let v289 : BitVec 32 := Scalar.extui v288
  let v290 : BitVec 32 := Scalar.subi v287 v289
  let c8_i32_115 : BitVec 32 := 8#32
  let c0_i32_118 : BitVec 32 := 0#32
  let v291 : BitVec 1 := Scalar.cmpi .sgt c8_i32_115 c0_i32_118
  let v292 : BitVec 32 := Scalar.extui v291
  let c0_i32_119 : BitVec 32 := 0#32
  let v293 : BitVec 1 := Scalar.cmpi .slt c8_i32_115 c0_i32_119
  let v294 : BitVec 32 := Scalar.extui v293
  let v295 : BitVec 32 := Scalar.subi v292 v294
  let v296 : BitVec 1 := Scalar.cmpi .ne v290 v295
  let v297 : BitVec 32 := Scalar.remsi v284 c8_i32_115
  let c0_i32_120 : BitVec 32 := 0#32
  let v298 : BitVec 1 := Scalar.cmpi .ne v297 c0_i32_120
  let v299 : BitVec 1 := Scalar.andi v296 v298
  let v285 : BitVec 32 := Scalar.divsi v284 c8_i32_115
  let c1_i32_121 : BitVec 32 := 1#32
  let v300 : BitVec 32 := Scalar.subi v285 c1_i32_121
  let v301 : BitVec 32 := Scalar.select v299 v300 v285
  let c0_i32_122 : BitVec 32 := 0#32
  let v302 : BitVec 32 := Scalar.select v281 v301 c0_i32_122
  let c8_i32_189 : BitVec 32 := 8#32
  let v426 : BitVec 32 := Scalar.muli v302 c8_i32_189
  let v427 : BitVec 32 := v426
  ⟨![v429.toNat, v431.toNat], ![v427.toNat, 512]⟩
def k0_cond21 (i : grid0.Coords) : BitVec 1 :=
  let arg0 : BitVec 32 := BitVec.ofNat 32 (i 0).val
  let c0_i32_130 : BitVec 32 := 0#32
  let v312 : BitVec 1 := Scalar.cmpi .eq arg0 c0_i32_130
  let v313 : BitVec 32 := Scalar.extui v312
  let c0_i32_132 : BitVec 32 := 0#32
  let v314 : BitVec 1 := Scalar.cmpi .ne v313 c0_i32_132
  v314

def k0_mult67 (v1 : BitVec 32) (v2 : BitVec 32) (v4 : BitVec 32) (v6 : BitVec 32) : BitVec 32 :=
  let v26 : BitVec 1 := Scalar.cmpi .sgt v2 v1
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let c8_i32_209 : BitVec 32 := 8#32
  let v595 : BitVec 32 := Scalar.muli v47 c8_i32_209
  v595
def k0_cond22 (v1 : BitVec 32) (v2 : BitVec 32) (v4 : BitVec 32) (v6 : BitVec 32) : BitVec 1 :=
  let v26 : BitVec 1 := Scalar.cmpi .sgt v2 v1
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let c0_i32_175 : BitVec 32 := 0#32
  let v406 : BitVec 1 := Scalar.cmpi .sgt v47 c0_i32_175
  let v407 : BitVec 32 := Scalar.extui v406
  let c0_i32_176 : BitVec 32 := 0#32
  let v408 : BitVec 1 := Scalar.cmpi .ne v407 c0_i32_176
  v408

def k0_mult68 (v4 : BitVec 32) : BitVec 32 :=
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_210 : BitVec 32 := 8#32
  let v597 : BitVec 32 := Scalar.muli v23 c8_i32_210
  v597
def k0_mult69 : BitVec 32 :=
  let c0_i32_131 : BitVec 32 := 0#32
  let c8_i32_211 : BitVec 32 := 8#32
  let v599 : BitVec 32 := Scalar.muli c0_i32_131 c8_i32_211
  v599
def k0_off55 (v1 : BitVec 32) (v2 : BitVec 32) (v4 : BitVec 32) (v6 : BitVec 32) : (Fin 2 → Nat) × (Fin 2 → Nat) :=
  let c0_i32_131 : BitVec 32 := 0#32
  let c8_i32_211 : BitVec 32 := 8#32
  let v599 : BitVec 32 := Scalar.muli c0_i32_131 c8_i32_211
  let v600 : BitVec 32 := v599
  let c0_i32_213 : BitVec 32 := 0#32
  let v26 : BitVec 1 := Scalar.cmpi .sgt v2 v1
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let c8_i32_209 : BitVec 32 := 8#32
  let v595 : BitVec 32 := Scalar.muli v47 c8_i32_209
  let v596 : BitVec 32 := v595
  ⟨![v600.toNat, 0], ![v596.toNat, 4096]⟩

def k0_off56 (v1 : BitVec 32) (v2 : BitVec 32) (v4 : BitVec 32) (v6 : BitVec 32) : (Fin 2 → Nat) × (Fin 2 → Nat) :=
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_210 : BitVec 32 := 8#32
  let v597 : BitVec 32 := Scalar.muli v23 c8_i32_210
  let v598 : BitVec 32 := v597
  let c0_i32_214 : BitVec 32 := 0#32
  let v26 : BitVec 1 := Scalar.cmpi .sgt v2 v1
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let c8_i32_209 : BitVec 32 := 8#32
  let v595 : BitVec 32 := Scalar.muli v47 c8_i32_209
  let v596 : BitVec 32 := v595
  ⟨![v598.toNat, 0], ![v596.toNat, 4096]⟩

def k0_mult70 (v52 : BitVec 32) (v53 : BitVec 32) (v55 : BitVec 32) (v57 : BitVec 32) : BitVec 32 :=
  let v77 : BitVec 1 := Scalar.cmpi .sgt v53 v52
  let c0_i32_22 : BitVec 32 := 0#32
  let v59 : BitVec 1 := Scalar.cmpi .sgt v55 c0_i32_22
  let v60 : BitVec 32 := Scalar.extui v59
  let c0_i32_23 : BitVec 32 := 0#32
  let v61 : BitVec 1 := Scalar.cmpi .slt v55 c0_i32_23
  let v62 : BitVec 32 := Scalar.extui v61
  let v63 : BitVec 32 := Scalar.subi v60 v62
  let c8_i32_21 : BitVec 32 := 8#32
  let c0_i32_24 : BitVec 32 := 0#32
  let v64 : BitVec 1 := Scalar.cmpi .sgt c8_i32_21 c0_i32_24
  let v65 : BitVec 32 := Scalar.extui v64
  let c0_i32_25 : BitVec 32 := 0#32
  let v66 : BitVec 1 := Scalar.cmpi .slt c8_i32_21 c0_i32_25
  let v67 : BitVec 32 := Scalar.extui v66
  let v68 : BitVec 32 := Scalar.subi v65 v67
  let v69 : BitVec 1 := Scalar.cmpi .ne v63 v68
  let v70 : BitVec 32 := Scalar.remsi v55 c8_i32_21
  let c0_i32_26 : BitVec 32 := 0#32
  let v71 : BitVec 1 := Scalar.cmpi .ne v70 c0_i32_26
  let v72 : BitVec 1 := Scalar.andi v69 v71
  let v58 : BitVec 32 := Scalar.divsi v55 c8_i32_21
  let c1_i32_27 : BitVec 32 := 1#32
  let v73 : BitVec 32 := Scalar.subi v58 c1_i32_27
  let v74 : BitVec 32 := Scalar.select v72 v73 v58
  let c8_i32_28 : BitVec 32 := 8#32
  let v75 : BitVec 32 := Scalar.muli v74 c8_i32_28
  let v76 : BitVec 32 := Scalar.subi v55 v75
  let v78 : BitVec 32 := Scalar.addi v76 v57
  let c8_i32_29 : BitVec 32 := 8#32
  let v79 : BitVec 32 := Scalar.addi v78 c8_i32_29
  let c1_i32_30 : BitVec 32 := 1#32
  let v80 : BitVec 32 := Scalar.subi v79 c1_i32_30
  let c0_i32_32 : BitVec 32 := 0#32
  let v82 : BitVec 1 := Scalar.cmpi .sgt v80 c0_i32_32
  let v83 : BitVec 32 := Scalar.extui v82
  let c0_i32_33 : BitVec 32 := 0#32
  let v84 : BitVec 1 := Scalar.cmpi .slt v80 c0_i32_33
  let v85 : BitVec 32 := Scalar.extui v84
  let v86 : BitVec 32 := Scalar.subi v83 v85
  let c8_i32_31 : BitVec 32 := 8#32
  let c0_i32_34 : BitVec 32 := 0#32
  let v87 : BitVec 1 := Scalar.cmpi .sgt c8_i32_31 c0_i32_34
  let v88 : BitVec 32 := Scalar.extui v87
  let c0_i32_35 : BitVec 32 := 0#32
  let v89 : BitVec 1 := Scalar.cmpi .slt c8_i32_31 c0_i32_35
  let v90 : BitVec 32 := Scalar.extui v89
  let v91 : BitVec 32 := Scalar.subi v88 v90
  let v92 : BitVec 1 := Scalar.cmpi .ne v86 v91
  let v93 : BitVec 32 := Scalar.remsi v80 c8_i32_31
  let c0_i32_36 : BitVec 32 := 0#32
  let v94 : BitVec 1 := Scalar.cmpi .ne v93 c0_i32_36
  let v95 : BitVec 1 := Scalar.andi v92 v94
  let v81 : BitVec 32 := Scalar.divsi v80 c8_i32_31
  let c1_i32_37 : BitVec 32 := 1#32
  let v96 : BitVec 32 := Scalar.subi v81 c1_i32_37
  let v97 : BitVec 32 := Scalar.select v95 v96 v81
  let c0_i32_38 : BitVec 32 := 0#32
  let v98 : BitVec 32 := Scalar.select v77 v97 c0_i32_38
  let c8_i32_209 : BitVec 32 := 8#32
  let v595 : BitVec 32 := Scalar.muli v98 c8_i32_209
  v595
def k0_cond23 (v52 : BitVec 32) (v53 : BitVec 32) (v55 : BitVec 32) (v57 : BitVec 32) : BitVec 1 :=
  let v77 : BitVec 1 := Scalar.cmpi .sgt v53 v52
  let c0_i32_22 : BitVec 32 := 0#32
  let v59 : BitVec 1 := Scalar.cmpi .sgt v55 c0_i32_22
  let v60 : BitVec 32 := Scalar.extui v59
  let c0_i32_23 : BitVec 32 := 0#32
  let v61 : BitVec 1 := Scalar.cmpi .slt v55 c0_i32_23
  let v62 : BitVec 32 := Scalar.extui v61
  let v63 : BitVec 32 := Scalar.subi v60 v62
  let c8_i32_21 : BitVec 32 := 8#32
  let c0_i32_24 : BitVec 32 := 0#32
  let v64 : BitVec 1 := Scalar.cmpi .sgt c8_i32_21 c0_i32_24
  let v65 : BitVec 32 := Scalar.extui v64
  let c0_i32_25 : BitVec 32 := 0#32
  let v66 : BitVec 1 := Scalar.cmpi .slt c8_i32_21 c0_i32_25
  let v67 : BitVec 32 := Scalar.extui v66
  let v68 : BitVec 32 := Scalar.subi v65 v67
  let v69 : BitVec 1 := Scalar.cmpi .ne v63 v68
  let v70 : BitVec 32 := Scalar.remsi v55 c8_i32_21
  let c0_i32_26 : BitVec 32 := 0#32
  let v71 : BitVec 1 := Scalar.cmpi .ne v70 c0_i32_26
  let v72 : BitVec 1 := Scalar.andi v69 v71
  let v58 : BitVec 32 := Scalar.divsi v55 c8_i32_21
  let c1_i32_27 : BitVec 32 := 1#32
  let v73 : BitVec 32 := Scalar.subi v58 c1_i32_27
  let v74 : BitVec 32 := Scalar.select v72 v73 v58
  let c8_i32_28 : BitVec 32 := 8#32
  let v75 : BitVec 32 := Scalar.muli v74 c8_i32_28
  let v76 : BitVec 32 := Scalar.subi v55 v75
  let v78 : BitVec 32 := Scalar.addi v76 v57
  let c8_i32_29 : BitVec 32 := 8#32
  let v79 : BitVec 32 := Scalar.addi v78 c8_i32_29
  let c1_i32_30 : BitVec 32 := 1#32
  let v80 : BitVec 32 := Scalar.subi v79 c1_i32_30
  let c0_i32_32 : BitVec 32 := 0#32
  let v82 : BitVec 1 := Scalar.cmpi .sgt v80 c0_i32_32
  let v83 : BitVec 32 := Scalar.extui v82
  let c0_i32_33 : BitVec 32 := 0#32
  let v84 : BitVec 1 := Scalar.cmpi .slt v80 c0_i32_33
  let v85 : BitVec 32 := Scalar.extui v84
  let v86 : BitVec 32 := Scalar.subi v83 v85
  let c8_i32_31 : BitVec 32 := 8#32
  let c0_i32_34 : BitVec 32 := 0#32
  let v87 : BitVec 1 := Scalar.cmpi .sgt c8_i32_31 c0_i32_34
  let v88 : BitVec 32 := Scalar.extui v87
  let c0_i32_35 : BitVec 32 := 0#32
  let v89 : BitVec 1 := Scalar.cmpi .slt c8_i32_31 c0_i32_35
  let v90 : BitVec 32 := Scalar.extui v89
  let v91 : BitVec 32 := Scalar.subi v88 v90
  let v92 : BitVec 1 := Scalar.cmpi .ne v86 v91
  let v93 : BitVec 32 := Scalar.remsi v80 c8_i32_31
  let c0_i32_36 : BitVec 32 := 0#32
  let v94 : BitVec 1 := Scalar.cmpi .ne v93 c0_i32_36
  let v95 : BitVec 1 := Scalar.andi v92 v94
  let v81 : BitVec 32 := Scalar.divsi v80 c8_i32_31
  let c1_i32_37 : BitVec 32 := 1#32
  let v96 : BitVec 32 := Scalar.subi v81 c1_i32_37
  let v97 : BitVec 32 := Scalar.select v95 v96 v81
  let c0_i32_38 : BitVec 32 := 0#32
  let v98 : BitVec 32 := Scalar.select v77 v97 c0_i32_38
  let c0_i32_177 : BitVec 32 := 0#32
  let v409 : BitVec 1 := Scalar.cmpi .sgt v98 c0_i32_177
  let v410 : BitVec 32 := Scalar.extui v409
  let c0_i32_178 : BitVec 32 := 0#32
  let v411 : BitVec 1 := Scalar.cmpi .ne v410 c0_i32_178
  v411

def k0_mult71 (v55 : BitVec 32) : BitVec 32 :=
  let c0_i32_22 : BitVec 32 := 0#32
  let v59 : BitVec 1 := Scalar.cmpi .sgt v55 c0_i32_22
  let v60 : BitVec 32 := Scalar.extui v59
  let c0_i32_23 : BitVec 32 := 0#32
  let v61 : BitVec 1 := Scalar.cmpi .slt v55 c0_i32_23
  let v62 : BitVec 32 := Scalar.extui v61
  let v63 : BitVec 32 := Scalar.subi v60 v62
  let c8_i32_21 : BitVec 32 := 8#32
  let c0_i32_24 : BitVec 32 := 0#32
  let v64 : BitVec 1 := Scalar.cmpi .sgt c8_i32_21 c0_i32_24
  let v65 : BitVec 32 := Scalar.extui v64
  let c0_i32_25 : BitVec 32 := 0#32
  let v66 : BitVec 1 := Scalar.cmpi .slt c8_i32_21 c0_i32_25
  let v67 : BitVec 32 := Scalar.extui v66
  let v68 : BitVec 32 := Scalar.subi v65 v67
  let v69 : BitVec 1 := Scalar.cmpi .ne v63 v68
  let v70 : BitVec 32 := Scalar.remsi v55 c8_i32_21
  let c0_i32_26 : BitVec 32 := 0#32
  let v71 : BitVec 1 := Scalar.cmpi .ne v70 c0_i32_26
  let v72 : BitVec 1 := Scalar.andi v69 v71
  let v58 : BitVec 32 := Scalar.divsi v55 c8_i32_21
  let c1_i32_27 : BitVec 32 := 1#32
  let v73 : BitVec 32 := Scalar.subi v58 c1_i32_27
  let v74 : BitVec 32 := Scalar.select v72 v73 v58
  let c8_i32_210 : BitVec 32 := 8#32
  let v597 : BitVec 32 := Scalar.muli v74 c8_i32_210
  v597
def k0_mult72 (v1 : BitVec 32) (v2 : BitVec 32) (v4 : BitVec 32) (v6 : BitVec 32) : BitVec 32 :=
  let c0_i32_18 : BitVec 32 := 0#32
  let v26 : BitVec 1 := Scalar.cmpi .sgt v2 v1
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let v50 : BitVec 32 := Scalar.addi c0_i32_18 v47
  let c8_i32_211 : BitVec 32 := 8#32
  let v599 : BitVec 32 := Scalar.muli v50 c8_i32_211
  v599
def k0_off57 (v1 : BitVec 32) (v2 : BitVec 32) (v4 : BitVec 32) (v6 : BitVec 32) (v52 : BitVec 32) (v53 : BitVec 32) (v55 : BitVec 32) (v57 : BitVec 32) : (Fin 2 → Nat) × (Fin 2 → Nat) :=
  let c0_i32_18 : BitVec 32 := 0#32
  let v26 : BitVec 1 := Scalar.cmpi .sgt v2 v1
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let v50 : BitVec 32 := Scalar.addi c0_i32_18 v47
  let c8_i32_211 : BitVec 32 := 8#32
  let v599 : BitVec 32 := Scalar.muli v50 c8_i32_211
  let v600 : BitVec 32 := v599
  let c0_i32_213 : BitVec 32 := 0#32
  let v77 : BitVec 1 := Scalar.cmpi .sgt v53 v52
  let c0_i32_22 : BitVec 32 := 0#32
  let v59 : BitVec 1 := Scalar.cmpi .sgt v55 c0_i32_22
  let v60 : BitVec 32 := Scalar.extui v59
  let c0_i32_23 : BitVec 32 := 0#32
  let v61 : BitVec 1 := Scalar.cmpi .slt v55 c0_i32_23
  let v62 : BitVec 32 := Scalar.extui v61
  let v63 : BitVec 32 := Scalar.subi v60 v62
  let c8_i32_21 : BitVec 32 := 8#32
  let c0_i32_24 : BitVec 32 := 0#32
  let v64 : BitVec 1 := Scalar.cmpi .sgt c8_i32_21 c0_i32_24
  let v65 : BitVec 32 := Scalar.extui v64
  let c0_i32_25 : BitVec 32 := 0#32
  let v66 : BitVec 1 := Scalar.cmpi .slt c8_i32_21 c0_i32_25
  let v67 : BitVec 32 := Scalar.extui v66
  let v68 : BitVec 32 := Scalar.subi v65 v67
  let v69 : BitVec 1 := Scalar.cmpi .ne v63 v68
  let v70 : BitVec 32 := Scalar.remsi v55 c8_i32_21
  let c0_i32_26 : BitVec 32 := 0#32
  let v71 : BitVec 1 := Scalar.cmpi .ne v70 c0_i32_26
  let v72 : BitVec 1 := Scalar.andi v69 v71
  let v58 : BitVec 32 := Scalar.divsi v55 c8_i32_21
  let c1_i32_27 : BitVec 32 := 1#32
  let v73 : BitVec 32 := Scalar.subi v58 c1_i32_27
  let v74 : BitVec 32 := Scalar.select v72 v73 v58
  let c8_i32_28 : BitVec 32 := 8#32
  let v75 : BitVec 32 := Scalar.muli v74 c8_i32_28
  let v76 : BitVec 32 := Scalar.subi v55 v75
  let v78 : BitVec 32 := Scalar.addi v76 v57
  let c8_i32_29 : BitVec 32 := 8#32
  let v79 : BitVec 32 := Scalar.addi v78 c8_i32_29
  let c1_i32_30 : BitVec 32 := 1#32
  let v80 : BitVec 32 := Scalar.subi v79 c1_i32_30
  let c0_i32_32 : BitVec 32 := 0#32
  let v82 : BitVec 1 := Scalar.cmpi .sgt v80 c0_i32_32
  let v83 : BitVec 32 := Scalar.extui v82
  let c0_i32_33 : BitVec 32 := 0#32
  let v84 : BitVec 1 := Scalar.cmpi .slt v80 c0_i32_33
  let v85 : BitVec 32 := Scalar.extui v84
  let v86 : BitVec 32 := Scalar.subi v83 v85
  let c8_i32_31 : BitVec 32 := 8#32
  let c0_i32_34 : BitVec 32 := 0#32
  let v87 : BitVec 1 := Scalar.cmpi .sgt c8_i32_31 c0_i32_34
  let v88 : BitVec 32 := Scalar.extui v87
  let c0_i32_35 : BitVec 32 := 0#32
  let v89 : BitVec 1 := Scalar.cmpi .slt c8_i32_31 c0_i32_35
  let v90 : BitVec 32 := Scalar.extui v89
  let v91 : BitVec 32 := Scalar.subi v88 v90
  let v92 : BitVec 1 := Scalar.cmpi .ne v86 v91
  let v93 : BitVec 32 := Scalar.remsi v80 c8_i32_31
  let c0_i32_36 : BitVec 32 := 0#32
  let v94 : BitVec 1 := Scalar.cmpi .ne v93 c0_i32_36
  let v95 : BitVec 1 := Scalar.andi v92 v94
  let v81 : BitVec 32 := Scalar.divsi v80 c8_i32_31
  let c1_i32_37 : BitVec 32 := 1#32
  let v96 : BitVec 32 := Scalar.subi v81 c1_i32_37
  let v97 : BitVec 32 := Scalar.select v95 v96 v81
  let c0_i32_38 : BitVec 32 := 0#32
  let v98 : BitVec 32 := Scalar.select v77 v97 c0_i32_38
  let c8_i32_209 : BitVec 32 := 8#32
  let v595 : BitVec 32 := Scalar.muli v98 c8_i32_209
  let v596 : BitVec 32 := v595
  ⟨![v600.toNat, 0], ![v596.toNat, 4096]⟩

def k0_off58 (v52 : BitVec 32) (v53 : BitVec 32) (v55 : BitVec 32) (v57 : BitVec 32) : (Fin 2 → Nat) × (Fin 2 → Nat) :=
  let c0_i32_22 : BitVec 32 := 0#32
  let v59 : BitVec 1 := Scalar.cmpi .sgt v55 c0_i32_22
  let v60 : BitVec 32 := Scalar.extui v59
  let c0_i32_23 : BitVec 32 := 0#32
  let v61 : BitVec 1 := Scalar.cmpi .slt v55 c0_i32_23
  let v62 : BitVec 32 := Scalar.extui v61
  let v63 : BitVec 32 := Scalar.subi v60 v62
  let c8_i32_21 : BitVec 32 := 8#32
  let c0_i32_24 : BitVec 32 := 0#32
  let v64 : BitVec 1 := Scalar.cmpi .sgt c8_i32_21 c0_i32_24
  let v65 : BitVec 32 := Scalar.extui v64
  let c0_i32_25 : BitVec 32 := 0#32
  let v66 : BitVec 1 := Scalar.cmpi .slt c8_i32_21 c0_i32_25
  let v67 : BitVec 32 := Scalar.extui v66
  let v68 : BitVec 32 := Scalar.subi v65 v67
  let v69 : BitVec 1 := Scalar.cmpi .ne v63 v68
  let v70 : BitVec 32 := Scalar.remsi v55 c8_i32_21
  let c0_i32_26 : BitVec 32 := 0#32
  let v71 : BitVec 1 := Scalar.cmpi .ne v70 c0_i32_26
  let v72 : BitVec 1 := Scalar.andi v69 v71
  let v58 : BitVec 32 := Scalar.divsi v55 c8_i32_21
  let c1_i32_27 : BitVec 32 := 1#32
  let v73 : BitVec 32 := Scalar.subi v58 c1_i32_27
  let v74 : BitVec 32 := Scalar.select v72 v73 v58
  let c8_i32_210 : BitVec 32 := 8#32
  let v597 : BitVec 32 := Scalar.muli v74 c8_i32_210
  let v598 : BitVec 32 := v597
  let c0_i32_214 : BitVec 32 := 0#32
  let v77 : BitVec 1 := Scalar.cmpi .sgt v53 v52
  let c8_i32_28 : BitVec 32 := 8#32
  let v75 : BitVec 32 := Scalar.muli v74 c8_i32_28
  let v76 : BitVec 32 := Scalar.subi v55 v75
  let v78 : BitVec 32 := Scalar.addi v76 v57
  let c8_i32_29 : BitVec 32 := 8#32
  let v79 : BitVec 32 := Scalar.addi v78 c8_i32_29
  let c1_i32_30 : BitVec 32 := 1#32
  let v80 : BitVec 32 := Scalar.subi v79 c1_i32_30
  let c0_i32_32 : BitVec 32 := 0#32
  let v82 : BitVec 1 := Scalar.cmpi .sgt v80 c0_i32_32
  let v83 : BitVec 32 := Scalar.extui v82
  let c0_i32_33 : BitVec 32 := 0#32
  let v84 : BitVec 1 := Scalar.cmpi .slt v80 c0_i32_33
  let v85 : BitVec 32 := Scalar.extui v84
  let v86 : BitVec 32 := Scalar.subi v83 v85
  let c8_i32_31 : BitVec 32 := 8#32
  let c0_i32_34 : BitVec 32 := 0#32
  let v87 : BitVec 1 := Scalar.cmpi .sgt c8_i32_31 c0_i32_34
  let v88 : BitVec 32 := Scalar.extui v87
  let c0_i32_35 : BitVec 32 := 0#32
  let v89 : BitVec 1 := Scalar.cmpi .slt c8_i32_31 c0_i32_35
  let v90 : BitVec 32 := Scalar.extui v89
  let v91 : BitVec 32 := Scalar.subi v88 v90
  let v92 : BitVec 1 := Scalar.cmpi .ne v86 v91
  let v93 : BitVec 32 := Scalar.remsi v80 c8_i32_31
  let c0_i32_36 : BitVec 32 := 0#32
  let v94 : BitVec 1 := Scalar.cmpi .ne v93 c0_i32_36
  let v95 : BitVec 1 := Scalar.andi v92 v94
  let v81 : BitVec 32 := Scalar.divsi v80 c8_i32_31
  let c1_i32_37 : BitVec 32 := 1#32
  let v96 : BitVec 32 := Scalar.subi v81 c1_i32_37
  let v97 : BitVec 32 := Scalar.select v95 v96 v81
  let c0_i32_38 : BitVec 32 := 0#32
  let v98 : BitVec 32 := Scalar.select v77 v97 c0_i32_38
  let c8_i32_209 : BitVec 32 := 8#32
  let v595 : BitVec 32 := Scalar.muli v98 c8_i32_209
  let v596 : BitVec 32 := v595
  ⟨![v598.toNat, 0], ![v596.toNat, 4096]⟩

def k0_mult73 (v103 : BitVec 32) (v104 : BitVec 32) (v106 : BitVec 32) (v108 : BitVec 32) : BitVec 32 :=
  let v128 : BitVec 1 := Scalar.cmpi .sgt v104 v103
  let c0_i32_43 : BitVec 32 := 0#32
  let v110 : BitVec 1 := Scalar.cmpi .sgt v106 c0_i32_43
  let v111 : BitVec 32 := Scalar.extui v110
  let c0_i32_44 : BitVec 32 := 0#32
  let v112 : BitVec 1 := Scalar.cmpi .slt v106 c0_i32_44
  let v113 : BitVec 32 := Scalar.extui v112
  let v114 : BitVec 32 := Scalar.subi v111 v113
  let c8_i32_42 : BitVec 32 := 8#32
  let c0_i32_45 : BitVec 32 := 0#32
  let v115 : BitVec 1 := Scalar.cmpi .sgt c8_i32_42 c0_i32_45
  let v116 : BitVec 32 := Scalar.extui v115
  let c0_i32_46 : BitVec 32 := 0#32
  let v117 : BitVec 1 := Scalar.cmpi .slt c8_i32_42 c0_i32_46
  let v118 : BitVec 32 := Scalar.extui v117
  let v119 : BitVec 32 := Scalar.subi v116 v118
  let v120 : BitVec 1 := Scalar.cmpi .ne v114 v119
  let v121 : BitVec 32 := Scalar.remsi v106 c8_i32_42
  let c0_i32_47 : BitVec 32 := 0#32
  let v122 : BitVec 1 := Scalar.cmpi .ne v121 c0_i32_47
  let v123 : BitVec 1 := Scalar.andi v120 v122
  let v109 : BitVec 32 := Scalar.divsi v106 c8_i32_42
  let c1_i32_48 : BitVec 32 := 1#32
  let v124 : BitVec 32 := Scalar.subi v109 c1_i32_48
  let v125 : BitVec 32 := Scalar.select v123 v124 v109
  let c8_i32_49 : BitVec 32 := 8#32
  let v126 : BitVec 32 := Scalar.muli v125 c8_i32_49
  let v127 : BitVec 32 := Scalar.subi v106 v126
  let v129 : BitVec 32 := Scalar.addi v127 v108
  let c8_i32_50 : BitVec 32 := 8#32
  let v130 : BitVec 32 := Scalar.addi v129 c8_i32_50
  let c1_i32_51 : BitVec 32 := 1#32
  let v131 : BitVec 32 := Scalar.subi v130 c1_i32_51
  let c0_i32_53 : BitVec 32 := 0#32
  let v133 : BitVec 1 := Scalar.cmpi .sgt v131 c0_i32_53
  let v134 : BitVec 32 := Scalar.extui v133
  let c0_i32_54 : BitVec 32 := 0#32
  let v135 : BitVec 1 := Scalar.cmpi .slt v131 c0_i32_54
  let v136 : BitVec 32 := Scalar.extui v135
  let v137 : BitVec 32 := Scalar.subi v134 v136
  let c8_i32_52 : BitVec 32 := 8#32
  let c0_i32_55 : BitVec 32 := 0#32
  let v138 : BitVec 1 := Scalar.cmpi .sgt c8_i32_52 c0_i32_55
  let v139 : BitVec 32 := Scalar.extui v138
  let c0_i32_56 : BitVec 32 := 0#32
  let v140 : BitVec 1 := Scalar.cmpi .slt c8_i32_52 c0_i32_56
  let v141 : BitVec 32 := Scalar.extui v140
  let v142 : BitVec 32 := Scalar.subi v139 v141
  let v143 : BitVec 1 := Scalar.cmpi .ne v137 v142
  let v144 : BitVec 32 := Scalar.remsi v131 c8_i32_52
  let c0_i32_57 : BitVec 32 := 0#32
  let v145 : BitVec 1 := Scalar.cmpi .ne v144 c0_i32_57
  let v146 : BitVec 1 := Scalar.andi v143 v145
  let v132 : BitVec 32 := Scalar.divsi v131 c8_i32_52
  let c1_i32_58 : BitVec 32 := 1#32
  let v147 : BitVec 32 := Scalar.subi v132 c1_i32_58
  let v148 : BitVec 32 := Scalar.select v146 v147 v132
  let c0_i32_59 : BitVec 32 := 0#32
  let v149 : BitVec 32 := Scalar.select v128 v148 c0_i32_59
  let c8_i32_209 : BitVec 32 := 8#32
  let v595 : BitVec 32 := Scalar.muli v149 c8_i32_209
  v595
def k0_cond24 (v103 : BitVec 32) (v104 : BitVec 32) (v106 : BitVec 32) (v108 : BitVec 32) : BitVec 1 :=
  let v128 : BitVec 1 := Scalar.cmpi .sgt v104 v103
  let c0_i32_43 : BitVec 32 := 0#32
  let v110 : BitVec 1 := Scalar.cmpi .sgt v106 c0_i32_43
  let v111 : BitVec 32 := Scalar.extui v110
  let c0_i32_44 : BitVec 32 := 0#32
  let v112 : BitVec 1 := Scalar.cmpi .slt v106 c0_i32_44
  let v113 : BitVec 32 := Scalar.extui v112
  let v114 : BitVec 32 := Scalar.subi v111 v113
  let c8_i32_42 : BitVec 32 := 8#32
  let c0_i32_45 : BitVec 32 := 0#32
  let v115 : BitVec 1 := Scalar.cmpi .sgt c8_i32_42 c0_i32_45
  let v116 : BitVec 32 := Scalar.extui v115
  let c0_i32_46 : BitVec 32 := 0#32
  let v117 : BitVec 1 := Scalar.cmpi .slt c8_i32_42 c0_i32_46
  let v118 : BitVec 32 := Scalar.extui v117
  let v119 : BitVec 32 := Scalar.subi v116 v118
  let v120 : BitVec 1 := Scalar.cmpi .ne v114 v119
  let v121 : BitVec 32 := Scalar.remsi v106 c8_i32_42
  let c0_i32_47 : BitVec 32 := 0#32
  let v122 : BitVec 1 := Scalar.cmpi .ne v121 c0_i32_47
  let v123 : BitVec 1 := Scalar.andi v120 v122
  let v109 : BitVec 32 := Scalar.divsi v106 c8_i32_42
  let c1_i32_48 : BitVec 32 := 1#32
  let v124 : BitVec 32 := Scalar.subi v109 c1_i32_48
  let v125 : BitVec 32 := Scalar.select v123 v124 v109
  let c8_i32_49 : BitVec 32 := 8#32
  let v126 : BitVec 32 := Scalar.muli v125 c8_i32_49
  let v127 : BitVec 32 := Scalar.subi v106 v126
  let v129 : BitVec 32 := Scalar.addi v127 v108
  let c8_i32_50 : BitVec 32 := 8#32
  let v130 : BitVec 32 := Scalar.addi v129 c8_i32_50
  let c1_i32_51 : BitVec 32 := 1#32
  let v131 : BitVec 32 := Scalar.subi v130 c1_i32_51
  let c0_i32_53 : BitVec 32 := 0#32
  let v133 : BitVec 1 := Scalar.cmpi .sgt v131 c0_i32_53
  let v134 : BitVec 32 := Scalar.extui v133
  let c0_i32_54 : BitVec 32 := 0#32
  let v135 : BitVec 1 := Scalar.cmpi .slt v131 c0_i32_54
  let v136 : BitVec 32 := Scalar.extui v135
  let v137 : BitVec 32 := Scalar.subi v134 v136
  let c8_i32_52 : BitVec 32 := 8#32
  let c0_i32_55 : BitVec 32 := 0#32
  let v138 : BitVec 1 := Scalar.cmpi .sgt c8_i32_52 c0_i32_55
  let v139 : BitVec 32 := Scalar.extui v138
  let c0_i32_56 : BitVec 32 := 0#32
  let v140 : BitVec 1 := Scalar.cmpi .slt c8_i32_52 c0_i32_56
  let v141 : BitVec 32 := Scalar.extui v140
  let v142 : BitVec 32 := Scalar.subi v139 v141
  let v143 : BitVec 1 := Scalar.cmpi .ne v137 v142
  let v144 : BitVec 32 := Scalar.remsi v131 c8_i32_52
  let c0_i32_57 : BitVec 32 := 0#32
  let v145 : BitVec 1 := Scalar.cmpi .ne v144 c0_i32_57
  let v146 : BitVec 1 := Scalar.andi v143 v145
  let v132 : BitVec 32 := Scalar.divsi v131 c8_i32_52
  let c1_i32_58 : BitVec 32 := 1#32
  let v147 : BitVec 32 := Scalar.subi v132 c1_i32_58
  let v148 : BitVec 32 := Scalar.select v146 v147 v132
  let c0_i32_59 : BitVec 32 := 0#32
  let v149 : BitVec 32 := Scalar.select v128 v148 c0_i32_59
  let c0_i32_179 : BitVec 32 := 0#32
  let v412 : BitVec 1 := Scalar.cmpi .sgt v149 c0_i32_179
  let v413 : BitVec 32 := Scalar.extui v412
  let c0_i32_180 : BitVec 32 := 0#32
  let v414 : BitVec 1 := Scalar.cmpi .ne v413 c0_i32_180
  v414

def k0_mult74 (v106 : BitVec 32) : BitVec 32 :=
  let c0_i32_43 : BitVec 32 := 0#32
  let v110 : BitVec 1 := Scalar.cmpi .sgt v106 c0_i32_43
  let v111 : BitVec 32 := Scalar.extui v110
  let c0_i32_44 : BitVec 32 := 0#32
  let v112 : BitVec 1 := Scalar.cmpi .slt v106 c0_i32_44
  let v113 : BitVec 32 := Scalar.extui v112
  let v114 : BitVec 32 := Scalar.subi v111 v113
  let c8_i32_42 : BitVec 32 := 8#32
  let c0_i32_45 : BitVec 32 := 0#32
  let v115 : BitVec 1 := Scalar.cmpi .sgt c8_i32_42 c0_i32_45
  let v116 : BitVec 32 := Scalar.extui v115
  let c0_i32_46 : BitVec 32 := 0#32
  let v117 : BitVec 1 := Scalar.cmpi .slt c8_i32_42 c0_i32_46
  let v118 : BitVec 32 := Scalar.extui v117
  let v119 : BitVec 32 := Scalar.subi v116 v118
  let v120 : BitVec 1 := Scalar.cmpi .ne v114 v119
  let v121 : BitVec 32 := Scalar.remsi v106 c8_i32_42
  let c0_i32_47 : BitVec 32 := 0#32
  let v122 : BitVec 1 := Scalar.cmpi .ne v121 c0_i32_47
  let v123 : BitVec 1 := Scalar.andi v120 v122
  let v109 : BitVec 32 := Scalar.divsi v106 c8_i32_42
  let c1_i32_48 : BitVec 32 := 1#32
  let v124 : BitVec 32 := Scalar.subi v109 c1_i32_48
  let v125 : BitVec 32 := Scalar.select v123 v124 v109
  let c8_i32_210 : BitVec 32 := 8#32
  let v597 : BitVec 32 := Scalar.muli v125 c8_i32_210
  v597
def k0_mult75 (v1 : BitVec 32) (v2 : BitVec 32) (v4 : BitVec 32) (v6 : BitVec 32) (v52 : BitVec 32) (v53 : BitVec 32) (v55 : BitVec 32) (v57 : BitVec 32) : BitVec 32 :=
  let c0_i32_18 : BitVec 32 := 0#32
  let v26 : BitVec 1 := Scalar.cmpi .sgt v2 v1
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let v50 : BitVec 32 := Scalar.addi c0_i32_18 v47
  let v77 : BitVec 1 := Scalar.cmpi .sgt v53 v52
  let c0_i32_22 : BitVec 32 := 0#32
  let v59 : BitVec 1 := Scalar.cmpi .sgt v55 c0_i32_22
  let v60 : BitVec 32 := Scalar.extui v59
  let c0_i32_23 : BitVec 32 := 0#32
  let v61 : BitVec 1 := Scalar.cmpi .slt v55 c0_i32_23
  let v62 : BitVec 32 := Scalar.extui v61
  let v63 : BitVec 32 := Scalar.subi v60 v62
  let c8_i32_21 : BitVec 32 := 8#32
  let c0_i32_24 : BitVec 32 := 0#32
  let v64 : BitVec 1 := Scalar.cmpi .sgt c8_i32_21 c0_i32_24
  let v65 : BitVec 32 := Scalar.extui v64
  let c0_i32_25 : BitVec 32 := 0#32
  let v66 : BitVec 1 := Scalar.cmpi .slt c8_i32_21 c0_i32_25
  let v67 : BitVec 32 := Scalar.extui v66
  let v68 : BitVec 32 := Scalar.subi v65 v67
  let v69 : BitVec 1 := Scalar.cmpi .ne v63 v68
  let v70 : BitVec 32 := Scalar.remsi v55 c8_i32_21
  let c0_i32_26 : BitVec 32 := 0#32
  let v71 : BitVec 1 := Scalar.cmpi .ne v70 c0_i32_26
  let v72 : BitVec 1 := Scalar.andi v69 v71
  let v58 : BitVec 32 := Scalar.divsi v55 c8_i32_21
  let c1_i32_27 : BitVec 32 := 1#32
  let v73 : BitVec 32 := Scalar.subi v58 c1_i32_27
  let v74 : BitVec 32 := Scalar.select v72 v73 v58
  let c8_i32_28 : BitVec 32 := 8#32
  let v75 : BitVec 32 := Scalar.muli v74 c8_i32_28
  let v76 : BitVec 32 := Scalar.subi v55 v75
  let v78 : BitVec 32 := Scalar.addi v76 v57
  let c8_i32_29 : BitVec 32 := 8#32
  let v79 : BitVec 32 := Scalar.addi v78 c8_i32_29
  let c1_i32_30 : BitVec 32 := 1#32
  let v80 : BitVec 32 := Scalar.subi v79 c1_i32_30
  let c0_i32_32 : BitVec 32 := 0#32
  let v82 : BitVec 1 := Scalar.cmpi .sgt v80 c0_i32_32
  let v83 : BitVec 32 := Scalar.extui v82
  let c0_i32_33 : BitVec 32 := 0#32
  let v84 : BitVec 1 := Scalar.cmpi .slt v80 c0_i32_33
  let v85 : BitVec 32 := Scalar.extui v84
  let v86 : BitVec 32 := Scalar.subi v83 v85
  let c8_i32_31 : BitVec 32 := 8#32
  let c0_i32_34 : BitVec 32 := 0#32
  let v87 : BitVec 1 := Scalar.cmpi .sgt c8_i32_31 c0_i32_34
  let v88 : BitVec 32 := Scalar.extui v87
  let c0_i32_35 : BitVec 32 := 0#32
  let v89 : BitVec 1 := Scalar.cmpi .slt c8_i32_31 c0_i32_35
  let v90 : BitVec 32 := Scalar.extui v89
  let v91 : BitVec 32 := Scalar.subi v88 v90
  let v92 : BitVec 1 := Scalar.cmpi .ne v86 v91
  let v93 : BitVec 32 := Scalar.remsi v80 c8_i32_31
  let c0_i32_36 : BitVec 32 := 0#32
  let v94 : BitVec 1 := Scalar.cmpi .ne v93 c0_i32_36
  let v95 : BitVec 1 := Scalar.andi v92 v94
  let v81 : BitVec 32 := Scalar.divsi v80 c8_i32_31
  let c1_i32_37 : BitVec 32 := 1#32
  let v96 : BitVec 32 := Scalar.subi v81 c1_i32_37
  let v97 : BitVec 32 := Scalar.select v95 v96 v81
  let c0_i32_38 : BitVec 32 := 0#32
  let v98 : BitVec 32 := Scalar.select v77 v97 c0_i32_38
  let v101 : BitVec 32 := Scalar.addi v50 v98
  let c8_i32_211 : BitVec 32 := 8#32
  let v599 : BitVec 32 := Scalar.muli v101 c8_i32_211
  v599
def k0_off59 (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) : (Fin 2 → Nat) × (Fin 2 → Nat) :=
  let c0_i32_18 : BitVec 32 := 0#32
  let v26 : BitVec 1 := Scalar.cmpi .sgt v2 v1
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let v50 : BitVec 32 := Scalar.addi c0_i32_18 v47
  let v77 : BitVec 1 := Scalar.cmpi .sgt v53 v52
  let c0_i32_22 : BitVec 32 := 0#32
  let v59 : BitVec 1 := Scalar.cmpi .sgt v55 c0_i32_22
  let v60 : BitVec 32 := Scalar.extui v59
  let c0_i32_23 : BitVec 32 := 0#32
  let v61 : BitVec 1 := Scalar.cmpi .slt v55 c0_i32_23
  let v62 : BitVec 32 := Scalar.extui v61
  let v63 : BitVec 32 := Scalar.subi v60 v62
  let c8_i32_21 : BitVec 32 := 8#32
  let c0_i32_24 : BitVec 32 := 0#32
  let v64 : BitVec 1 := Scalar.cmpi .sgt c8_i32_21 c0_i32_24
  let v65 : BitVec 32 := Scalar.extui v64
  let c0_i32_25 : BitVec 32 := 0#32
  let v66 : BitVec 1 := Scalar.cmpi .slt c8_i32_21 c0_i32_25
  let v67 : BitVec 32 := Scalar.extui v66
  let v68 : BitVec 32 := Scalar.subi v65 v67
  let v69 : BitVec 1 := Scalar.cmpi .ne v63 v68
  let v70 : BitVec 32 := Scalar.remsi v55 c8_i32_21
  let c0_i32_26 : BitVec 32 := 0#32
  let v71 : BitVec 1 := Scalar.cmpi .ne v70 c0_i32_26
  let v72 : BitVec 1 := Scalar.andi v69 v71
  let v58 : BitVec 32 := Scalar.divsi v55 c8_i32_21
  let c1_i32_27 : BitVec 32 := 1#32
  let v73 : BitVec 32 := Scalar.subi v58 c1_i32_27
  let v74 : BitVec 32 := Scalar.select v72 v73 v58
  let c8_i32_28 : BitVec 32 := 8#32
  let v75 : BitVec 32 := Scalar.muli v74 c8_i32_28
  let v76 : BitVec 32 := Scalar.subi v55 v75
  let v78 : BitVec 32 := Scalar.addi v76 v57
  let c8_i32_29 : BitVec 32 := 8#32
  let v79 : BitVec 32 := Scalar.addi v78 c8_i32_29
  let c1_i32_30 : BitVec 32 := 1#32
  let v80 : BitVec 32 := Scalar.subi v79 c1_i32_30
  let c0_i32_32 : BitVec 32 := 0#32
  let v82 : BitVec 1 := Scalar.cmpi .sgt v80 c0_i32_32
  let v83 : BitVec 32 := Scalar.extui v82
  let c0_i32_33 : BitVec 32 := 0#32
  let v84 : BitVec 1 := Scalar.cmpi .slt v80 c0_i32_33
  let v85 : BitVec 32 := Scalar.extui v84
  let v86 : BitVec 32 := Scalar.subi v83 v85
  let c8_i32_31 : BitVec 32 := 8#32
  let c0_i32_34 : BitVec 32 := 0#32
  let v87 : BitVec 1 := Scalar.cmpi .sgt c8_i32_31 c0_i32_34
  let v88 : BitVec 32 := Scalar.extui v87
  let c0_i32_35 : BitVec 32 := 0#32
  let v89 : BitVec 1 := Scalar.cmpi .slt c8_i32_31 c0_i32_35
  let v90 : BitVec 32 := Scalar.extui v89
  let v91 : BitVec 32 := Scalar.subi v88 v90
  let v92 : BitVec 1 := Scalar.cmpi .ne v86 v91
  let v93 : BitVec 32 := Scalar.remsi v80 c8_i32_31
  let c0_i32_36 : BitVec 32 := 0#32
  let v94 : BitVec 1 := Scalar.cmpi .ne v93 c0_i32_36
  let v95 : BitVec 1 := Scalar.andi v92 v94
  let v81 : BitVec 32 := Scalar.divsi v80 c8_i32_31
  let c1_i32_37 : BitVec 32 := 1#32
  let v96 : BitVec 32 := Scalar.subi v81 c1_i32_37
  let v97 : BitVec 32 := Scalar.select v95 v96 v81
  let c0_i32_38 : BitVec 32 := 0#32
  let v98 : BitVec 32 := Scalar.select v77 v97 c0_i32_38
  let v101 : BitVec 32 := Scalar.addi v50 v98
  let c8_i32_211 : BitVec 32 := 8#32
  let v599 : BitVec 32 := Scalar.muli v101 c8_i32_211
  let v600 : BitVec 32 := v599
  let c0_i32_213 : BitVec 32 := 0#32
  let v128 : BitVec 1 := Scalar.cmpi .sgt v104 v103
  let c0_i32_43 : BitVec 32 := 0#32
  let v110 : BitVec 1 := Scalar.cmpi .sgt v106 c0_i32_43
  let v111 : BitVec 32 := Scalar.extui v110
  let c0_i32_44 : BitVec 32 := 0#32
  let v112 : BitVec 1 := Scalar.cmpi .slt v106 c0_i32_44
  let v113 : BitVec 32 := Scalar.extui v112
  let v114 : BitVec 32 := Scalar.subi v111 v113
  let c8_i32_42 : BitVec 32 := 8#32
  let c0_i32_45 : BitVec 32 := 0#32
  let v115 : BitVec 1 := Scalar.cmpi .sgt c8_i32_42 c0_i32_45
  let v116 : BitVec 32 := Scalar.extui v115
  let c0_i32_46 : BitVec 32 := 0#32
  let v117 : BitVec 1 := Scalar.cmpi .slt c8_i32_42 c0_i32_46
  let v118 : BitVec 32 := Scalar.extui v117
  let v119 : BitVec 32 := Scalar.subi v116 v118
  let v120 : BitVec 1 := Scalar.cmpi .ne v114 v119
  let v121 : BitVec 32 := Scalar.remsi v106 c8_i32_42
  let c0_i32_47 : BitVec 32 := 0#32
  let v122 : BitVec 1 := Scalar.cmpi .ne v121 c0_i32_47
  let v123 : BitVec 1 := Scalar.andi v120 v122
  let v109 : BitVec 32 := Scalar.divsi v106 c8_i32_42
  let c1_i32_48 : BitVec 32 := 1#32
  let v124 : BitVec 32 := Scalar.subi v109 c1_i32_48
  let v125 : BitVec 32 := Scalar.select v123 v124 v109
  let c8_i32_49 : BitVec 32 := 8#32
  let v126 : BitVec 32 := Scalar.muli v125 c8_i32_49
  let v127 : BitVec 32 := Scalar.subi v106 v126
  let v129 : BitVec 32 := Scalar.addi v127 v108
  let c8_i32_50 : BitVec 32 := 8#32
  let v130 : BitVec 32 := Scalar.addi v129 c8_i32_50
  let c1_i32_51 : BitVec 32 := 1#32
  let v131 : BitVec 32 := Scalar.subi v130 c1_i32_51
  let c0_i32_53 : BitVec 32 := 0#32
  let v133 : BitVec 1 := Scalar.cmpi .sgt v131 c0_i32_53
  let v134 : BitVec 32 := Scalar.extui v133
  let c0_i32_54 : BitVec 32 := 0#32
  let v135 : BitVec 1 := Scalar.cmpi .slt v131 c0_i32_54
  let v136 : BitVec 32 := Scalar.extui v135
  let v137 : BitVec 32 := Scalar.subi v134 v136
  let c8_i32_52 : BitVec 32 := 8#32
  let c0_i32_55 : BitVec 32 := 0#32
  let v138 : BitVec 1 := Scalar.cmpi .sgt c8_i32_52 c0_i32_55
  let v139 : BitVec 32 := Scalar.extui v138
  let c0_i32_56 : BitVec 32 := 0#32
  let v140 : BitVec 1 := Scalar.cmpi .slt c8_i32_52 c0_i32_56
  let v141 : BitVec 32 := Scalar.extui v140
  let v142 : BitVec 32 := Scalar.subi v139 v141
  let v143 : BitVec 1 := Scalar.cmpi .ne v137 v142
  let v144 : BitVec 32 := Scalar.remsi v131 c8_i32_52
  let c0_i32_57 : BitVec 32 := 0#32
  let v145 : BitVec 1 := Scalar.cmpi .ne v144 c0_i32_57
  let v146 : BitVec 1 := Scalar.andi v143 v145
  let v132 : BitVec 32 := Scalar.divsi v131 c8_i32_52
  let c1_i32_58 : BitVec 32 := 1#32
  let v147 : BitVec 32 := Scalar.subi v132 c1_i32_58
  let v148 : BitVec 32 := Scalar.select v146 v147 v132
  let c0_i32_59 : BitVec 32 := 0#32
  let v149 : BitVec 32 := Scalar.select v128 v148 c0_i32_59
  let c8_i32_209 : BitVec 32 := 8#32
  let v595 : BitVec 32 := Scalar.muli v149 c8_i32_209
  let v596 : BitVec 32 := v595
  ⟨![v600.toNat, 0], ![v596.toNat, 4096]⟩

def k0_off60 (v103 : BitVec 32) (v104 : BitVec 32) (v106 : BitVec 32) (v108 : BitVec 32) : (Fin 2 → Nat) × (Fin 2 → Nat) :=
  let c0_i32_43 : BitVec 32 := 0#32
  let v110 : BitVec 1 := Scalar.cmpi .sgt v106 c0_i32_43
  let v111 : BitVec 32 := Scalar.extui v110
  let c0_i32_44 : BitVec 32 := 0#32
  let v112 : BitVec 1 := Scalar.cmpi .slt v106 c0_i32_44
  let v113 : BitVec 32 := Scalar.extui v112
  let v114 : BitVec 32 := Scalar.subi v111 v113
  let c8_i32_42 : BitVec 32 := 8#32
  let c0_i32_45 : BitVec 32 := 0#32
  let v115 : BitVec 1 := Scalar.cmpi .sgt c8_i32_42 c0_i32_45
  let v116 : BitVec 32 := Scalar.extui v115
  let c0_i32_46 : BitVec 32 := 0#32
  let v117 : BitVec 1 := Scalar.cmpi .slt c8_i32_42 c0_i32_46
  let v118 : BitVec 32 := Scalar.extui v117
  let v119 : BitVec 32 := Scalar.subi v116 v118
  let v120 : BitVec 1 := Scalar.cmpi .ne v114 v119
  let v121 : BitVec 32 := Scalar.remsi v106 c8_i32_42
  let c0_i32_47 : BitVec 32 := 0#32
  let v122 : BitVec 1 := Scalar.cmpi .ne v121 c0_i32_47
  let v123 : BitVec 1 := Scalar.andi v120 v122
  let v109 : BitVec 32 := Scalar.divsi v106 c8_i32_42
  let c1_i32_48 : BitVec 32 := 1#32
  let v124 : BitVec 32 := Scalar.subi v109 c1_i32_48
  let v125 : BitVec 32 := Scalar.select v123 v124 v109
  let c8_i32_210 : BitVec 32 := 8#32
  let v597 : BitVec 32 := Scalar.muli v125 c8_i32_210
  let v598 : BitVec 32 := v597
  let c0_i32_214 : BitVec 32 := 0#32
  let v128 : BitVec 1 := Scalar.cmpi .sgt v104 v103
  let c8_i32_49 : BitVec 32 := 8#32
  let v126 : BitVec 32 := Scalar.muli v125 c8_i32_49
  let v127 : BitVec 32 := Scalar.subi v106 v126
  let v129 : BitVec 32 := Scalar.addi v127 v108
  let c8_i32_50 : BitVec 32 := 8#32
  let v130 : BitVec 32 := Scalar.addi v129 c8_i32_50
  let c1_i32_51 : BitVec 32 := 1#32
  let v131 : BitVec 32 := Scalar.subi v130 c1_i32_51
  let c0_i32_53 : BitVec 32 := 0#32
  let v133 : BitVec 1 := Scalar.cmpi .sgt v131 c0_i32_53
  let v134 : BitVec 32 := Scalar.extui v133
  let c0_i32_54 : BitVec 32 := 0#32
  let v135 : BitVec 1 := Scalar.cmpi .slt v131 c0_i32_54
  let v136 : BitVec 32 := Scalar.extui v135
  let v137 : BitVec 32 := Scalar.subi v134 v136
  let c8_i32_52 : BitVec 32 := 8#32
  let c0_i32_55 : BitVec 32 := 0#32
  let v138 : BitVec 1 := Scalar.cmpi .sgt c8_i32_52 c0_i32_55
  let v139 : BitVec 32 := Scalar.extui v138
  let c0_i32_56 : BitVec 32 := 0#32
  let v140 : BitVec 1 := Scalar.cmpi .slt c8_i32_52 c0_i32_56
  let v141 : BitVec 32 := Scalar.extui v140
  let v142 : BitVec 32 := Scalar.subi v139 v141
  let v143 : BitVec 1 := Scalar.cmpi .ne v137 v142
  let v144 : BitVec 32 := Scalar.remsi v131 c8_i32_52
  let c0_i32_57 : BitVec 32 := 0#32
  let v145 : BitVec 1 := Scalar.cmpi .ne v144 c0_i32_57
  let v146 : BitVec 1 := Scalar.andi v143 v145
  let v132 : BitVec 32 := Scalar.divsi v131 c8_i32_52
  let c1_i32_58 : BitVec 32 := 1#32
  let v147 : BitVec 32 := Scalar.subi v132 c1_i32_58
  let v148 : BitVec 32 := Scalar.select v146 v147 v132
  let c0_i32_59 : BitVec 32 := 0#32
  let v149 : BitVec 32 := Scalar.select v128 v148 c0_i32_59
  let c8_i32_209 : BitVec 32 := 8#32
  let v595 : BitVec 32 := Scalar.muli v149 c8_i32_209
  let v596 : BitVec 32 := v595
  ⟨![v598.toNat, 0], ![v596.toNat, 4096]⟩

def k0_mult76 (v154 : BitVec 32) (v155 : BitVec 32) (v157 : BitVec 32) (v159 : BitVec 32) : BitVec 32 :=
  let v179 : BitVec 1 := Scalar.cmpi .sgt v155 v154
  let c0_i32_64 : BitVec 32 := 0#32
  let v161 : BitVec 1 := Scalar.cmpi .sgt v157 c0_i32_64
  let v162 : BitVec 32 := Scalar.extui v161
  let c0_i32_65 : BitVec 32 := 0#32
  let v163 : BitVec 1 := Scalar.cmpi .slt v157 c0_i32_65
  let v164 : BitVec 32 := Scalar.extui v163
  let v165 : BitVec 32 := Scalar.subi v162 v164
  let c8_i32_63 : BitVec 32 := 8#32
  let c0_i32_66 : BitVec 32 := 0#32
  let v166 : BitVec 1 := Scalar.cmpi .sgt c8_i32_63 c0_i32_66
  let v167 : BitVec 32 := Scalar.extui v166
  let c0_i32_67 : BitVec 32 := 0#32
  let v168 : BitVec 1 := Scalar.cmpi .slt c8_i32_63 c0_i32_67
  let v169 : BitVec 32 := Scalar.extui v168
  let v170 : BitVec 32 := Scalar.subi v167 v169
  let v171 : BitVec 1 := Scalar.cmpi .ne v165 v170
  let v172 : BitVec 32 := Scalar.remsi v157 c8_i32_63
  let c0_i32_68 : BitVec 32 := 0#32
  let v173 : BitVec 1 := Scalar.cmpi .ne v172 c0_i32_68
  let v174 : BitVec 1 := Scalar.andi v171 v173
  let v160 : BitVec 32 := Scalar.divsi v157 c8_i32_63
  let c1_i32_69 : BitVec 32 := 1#32
  let v175 : BitVec 32 := Scalar.subi v160 c1_i32_69
  let v176 : BitVec 32 := Scalar.select v174 v175 v160
  let c8_i32_70 : BitVec 32 := 8#32
  let v177 : BitVec 32 := Scalar.muli v176 c8_i32_70
  let v178 : BitVec 32 := Scalar.subi v157 v177
  let v180 : BitVec 32 := Scalar.addi v178 v159
  let c8_i32_71 : BitVec 32 := 8#32
  let v181 : BitVec 32 := Scalar.addi v180 c8_i32_71
  let c1_i32_72 : BitVec 32 := 1#32
  let v182 : BitVec 32 := Scalar.subi v181 c1_i32_72
  let c0_i32_74 : BitVec 32 := 0#32
  let v184 : BitVec 1 := Scalar.cmpi .sgt v182 c0_i32_74
  let v185 : BitVec 32 := Scalar.extui v184
  let c0_i32_75 : BitVec 32 := 0#32
  let v186 : BitVec 1 := Scalar.cmpi .slt v182 c0_i32_75
  let v187 : BitVec 32 := Scalar.extui v186
  let v188 : BitVec 32 := Scalar.subi v185 v187
  let c8_i32_73 : BitVec 32 := 8#32
  let c0_i32_76 : BitVec 32 := 0#32
  let v189 : BitVec 1 := Scalar.cmpi .sgt c8_i32_73 c0_i32_76
  let v190 : BitVec 32 := Scalar.extui v189
  let c0_i32_77 : BitVec 32 := 0#32
  let v191 : BitVec 1 := Scalar.cmpi .slt c8_i32_73 c0_i32_77
  let v192 : BitVec 32 := Scalar.extui v191
  let v193 : BitVec 32 := Scalar.subi v190 v192
  let v194 : BitVec 1 := Scalar.cmpi .ne v188 v193
  let v195 : BitVec 32 := Scalar.remsi v182 c8_i32_73
  let c0_i32_78 : BitVec 32 := 0#32
  let v196 : BitVec 1 := Scalar.cmpi .ne v195 c0_i32_78
  let v197 : BitVec 1 := Scalar.andi v194 v196
  let v183 : BitVec 32 := Scalar.divsi v182 c8_i32_73
  let c1_i32_79 : BitVec 32 := 1#32
  let v198 : BitVec 32 := Scalar.subi v183 c1_i32_79
  let v199 : BitVec 32 := Scalar.select v197 v198 v183
  let c0_i32_80 : BitVec 32 := 0#32
  let v200 : BitVec 32 := Scalar.select v179 v199 c0_i32_80
  let c8_i32_209 : BitVec 32 := 8#32
  let v595 : BitVec 32 := Scalar.muli v200 c8_i32_209
  v595
def k0_cond25 (v154 : BitVec 32) (v155 : BitVec 32) (v157 : BitVec 32) (v159 : BitVec 32) : BitVec 1 :=
  let v179 : BitVec 1 := Scalar.cmpi .sgt v155 v154
  let c0_i32_64 : BitVec 32 := 0#32
  let v161 : BitVec 1 := Scalar.cmpi .sgt v157 c0_i32_64
  let v162 : BitVec 32 := Scalar.extui v161
  let c0_i32_65 : BitVec 32 := 0#32
  let v163 : BitVec 1 := Scalar.cmpi .slt v157 c0_i32_65
  let v164 : BitVec 32 := Scalar.extui v163
  let v165 : BitVec 32 := Scalar.subi v162 v164
  let c8_i32_63 : BitVec 32 := 8#32
  let c0_i32_66 : BitVec 32 := 0#32
  let v166 : BitVec 1 := Scalar.cmpi .sgt c8_i32_63 c0_i32_66
  let v167 : BitVec 32 := Scalar.extui v166
  let c0_i32_67 : BitVec 32 := 0#32
  let v168 : BitVec 1 := Scalar.cmpi .slt c8_i32_63 c0_i32_67
  let v169 : BitVec 32 := Scalar.extui v168
  let v170 : BitVec 32 := Scalar.subi v167 v169
  let v171 : BitVec 1 := Scalar.cmpi .ne v165 v170
  let v172 : BitVec 32 := Scalar.remsi v157 c8_i32_63
  let c0_i32_68 : BitVec 32 := 0#32
  let v173 : BitVec 1 := Scalar.cmpi .ne v172 c0_i32_68
  let v174 : BitVec 1 := Scalar.andi v171 v173
  let v160 : BitVec 32 := Scalar.divsi v157 c8_i32_63
  let c1_i32_69 : BitVec 32 := 1#32
  let v175 : BitVec 32 := Scalar.subi v160 c1_i32_69
  let v176 : BitVec 32 := Scalar.select v174 v175 v160
  let c8_i32_70 : BitVec 32 := 8#32
  let v177 : BitVec 32 := Scalar.muli v176 c8_i32_70
  let v178 : BitVec 32 := Scalar.subi v157 v177
  let v180 : BitVec 32 := Scalar.addi v178 v159
  let c8_i32_71 : BitVec 32 := 8#32
  let v181 : BitVec 32 := Scalar.addi v180 c8_i32_71
  let c1_i32_72 : BitVec 32 := 1#32
  let v182 : BitVec 32 := Scalar.subi v181 c1_i32_72
  let c0_i32_74 : BitVec 32 := 0#32
  let v184 : BitVec 1 := Scalar.cmpi .sgt v182 c0_i32_74
  let v185 : BitVec 32 := Scalar.extui v184
  let c0_i32_75 : BitVec 32 := 0#32
  let v186 : BitVec 1 := Scalar.cmpi .slt v182 c0_i32_75
  let v187 : BitVec 32 := Scalar.extui v186
  let v188 : BitVec 32 := Scalar.subi v185 v187
  let c8_i32_73 : BitVec 32 := 8#32
  let c0_i32_76 : BitVec 32 := 0#32
  let v189 : BitVec 1 := Scalar.cmpi .sgt c8_i32_73 c0_i32_76
  let v190 : BitVec 32 := Scalar.extui v189
  let c0_i32_77 : BitVec 32 := 0#32
  let v191 : BitVec 1 := Scalar.cmpi .slt c8_i32_73 c0_i32_77
  let v192 : BitVec 32 := Scalar.extui v191
  let v193 : BitVec 32 := Scalar.subi v190 v192
  let v194 : BitVec 1 := Scalar.cmpi .ne v188 v193
  let v195 : BitVec 32 := Scalar.remsi v182 c8_i32_73
  let c0_i32_78 : BitVec 32 := 0#32
  let v196 : BitVec 1 := Scalar.cmpi .ne v195 c0_i32_78
  let v197 : BitVec 1 := Scalar.andi v194 v196
  let v183 : BitVec 32 := Scalar.divsi v182 c8_i32_73
  let c1_i32_79 : BitVec 32 := 1#32
  let v198 : BitVec 32 := Scalar.subi v183 c1_i32_79
  let v199 : BitVec 32 := Scalar.select v197 v198 v183
  let c0_i32_80 : BitVec 32 := 0#32
  let v200 : BitVec 32 := Scalar.select v179 v199 c0_i32_80
  let c0_i32_181 : BitVec 32 := 0#32
  let v415 : BitVec 1 := Scalar.cmpi .sgt v200 c0_i32_181
  let v416 : BitVec 32 := Scalar.extui v415
  let c0_i32_182 : BitVec 32 := 0#32
  let v417 : BitVec 1 := Scalar.cmpi .ne v416 c0_i32_182
  v417

def k0_mult77 (v157 : BitVec 32) : BitVec 32 :=
  let c0_i32_64 : BitVec 32 := 0#32
  let v161 : BitVec 1 := Scalar.cmpi .sgt v157 c0_i32_64
  let v162 : BitVec 32 := Scalar.extui v161
  let c0_i32_65 : BitVec 32 := 0#32
  let v163 : BitVec 1 := Scalar.cmpi .slt v157 c0_i32_65
  let v164 : BitVec 32 := Scalar.extui v163
  let v165 : BitVec 32 := Scalar.subi v162 v164
  let c8_i32_63 : BitVec 32 := 8#32
  let c0_i32_66 : BitVec 32 := 0#32
  let v166 : BitVec 1 := Scalar.cmpi .sgt c8_i32_63 c0_i32_66
  let v167 : BitVec 32 := Scalar.extui v166
  let c0_i32_67 : BitVec 32 := 0#32
  let v168 : BitVec 1 := Scalar.cmpi .slt c8_i32_63 c0_i32_67
  let v169 : BitVec 32 := Scalar.extui v168
  let v170 : BitVec 32 := Scalar.subi v167 v169
  let v171 : BitVec 1 := Scalar.cmpi .ne v165 v170
  let v172 : BitVec 32 := Scalar.remsi v157 c8_i32_63
  let c0_i32_68 : BitVec 32 := 0#32
  let v173 : BitVec 1 := Scalar.cmpi .ne v172 c0_i32_68
  let v174 : BitVec 1 := Scalar.andi v171 v173
  let v160 : BitVec 32 := Scalar.divsi v157 c8_i32_63
  let c1_i32_69 : BitVec 32 := 1#32
  let v175 : BitVec 32 := Scalar.subi v160 c1_i32_69
  let v176 : BitVec 32 := Scalar.select v174 v175 v160
  let c8_i32_210 : BitVec 32 := 8#32
  let v597 : BitVec 32 := Scalar.muli v176 c8_i32_210
  v597
def k0_mult78 (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) : BitVec 32 :=
  let c0_i32_18 : BitVec 32 := 0#32
  let v26 : BitVec 1 := Scalar.cmpi .sgt v2 v1
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let v50 : BitVec 32 := Scalar.addi c0_i32_18 v47
  let v77 : BitVec 1 := Scalar.cmpi .sgt v53 v52
  let c0_i32_22 : BitVec 32 := 0#32
  let v59 : BitVec 1 := Scalar.cmpi .sgt v55 c0_i32_22
  let v60 : BitVec 32 := Scalar.extui v59
  let c0_i32_23 : BitVec 32 := 0#32
  let v61 : BitVec 1 := Scalar.cmpi .slt v55 c0_i32_23
  let v62 : BitVec 32 := Scalar.extui v61
  let v63 : BitVec 32 := Scalar.subi v60 v62
  let c8_i32_21 : BitVec 32 := 8#32
  let c0_i32_24 : BitVec 32 := 0#32
  let v64 : BitVec 1 := Scalar.cmpi .sgt c8_i32_21 c0_i32_24
  let v65 : BitVec 32 := Scalar.extui v64
  let c0_i32_25 : BitVec 32 := 0#32
  let v66 : BitVec 1 := Scalar.cmpi .slt c8_i32_21 c0_i32_25
  let v67 : BitVec 32 := Scalar.extui v66
  let v68 : BitVec 32 := Scalar.subi v65 v67
  let v69 : BitVec 1 := Scalar.cmpi .ne v63 v68
  let v70 : BitVec 32 := Scalar.remsi v55 c8_i32_21
  let c0_i32_26 : BitVec 32 := 0#32
  let v71 : BitVec 1 := Scalar.cmpi .ne v70 c0_i32_26
  let v72 : BitVec 1 := Scalar.andi v69 v71
  let v58 : BitVec 32 := Scalar.divsi v55 c8_i32_21
  let c1_i32_27 : BitVec 32 := 1#32
  let v73 : BitVec 32 := Scalar.subi v58 c1_i32_27
  let v74 : BitVec 32 := Scalar.select v72 v73 v58
  let c8_i32_28 : BitVec 32 := 8#32
  let v75 : BitVec 32 := Scalar.muli v74 c8_i32_28
  let v76 : BitVec 32 := Scalar.subi v55 v75
  let v78 : BitVec 32 := Scalar.addi v76 v57
  let c8_i32_29 : BitVec 32 := 8#32
  let v79 : BitVec 32 := Scalar.addi v78 c8_i32_29
  let c1_i32_30 : BitVec 32 := 1#32
  let v80 : BitVec 32 := Scalar.subi v79 c1_i32_30
  let c0_i32_32 : BitVec 32 := 0#32
  let v82 : BitVec 1 := Scalar.cmpi .sgt v80 c0_i32_32
  let v83 : BitVec 32 := Scalar.extui v82
  let c0_i32_33 : BitVec 32 := 0#32
  let v84 : BitVec 1 := Scalar.cmpi .slt v80 c0_i32_33
  let v85 : BitVec 32 := Scalar.extui v84
  let v86 : BitVec 32 := Scalar.subi v83 v85
  let c8_i32_31 : BitVec 32 := 8#32
  let c0_i32_34 : BitVec 32 := 0#32
  let v87 : BitVec 1 := Scalar.cmpi .sgt c8_i32_31 c0_i32_34
  let v88 : BitVec 32 := Scalar.extui v87
  let c0_i32_35 : BitVec 32 := 0#32
  let v89 : BitVec 1 := Scalar.cmpi .slt c8_i32_31 c0_i32_35
  let v90 : BitVec 32 := Scalar.extui v89
  let v91 : BitVec 32 := Scalar.subi v88 v90
  let v92 : BitVec 1 := Scalar.cmpi .ne v86 v91
  let v93 : BitVec 32 := Scalar.remsi v80 c8_i32_31
  let c0_i32_36 : BitVec 32 := 0#32
  let v94 : BitVec 1 := Scalar.cmpi .ne v93 c0_i32_36
  let v95 : BitVec 1 := Scalar.andi v92 v94
  let v81 : BitVec 32 := Scalar.divsi v80 c8_i32_31
  let c1_i32_37 : BitVec 32 := 1#32
  let v96 : BitVec 32 := Scalar.subi v81 c1_i32_37
  let v97 : BitVec 32 := Scalar.select v95 v96 v81
  let c0_i32_38 : BitVec 32 := 0#32
  let v98 : BitVec 32 := Scalar.select v77 v97 c0_i32_38
  let v101 : BitVec 32 := Scalar.addi v50 v98
  let v128 : BitVec 1 := Scalar.cmpi .sgt v104 v103
  let c0_i32_43 : BitVec 32 := 0#32
  let v110 : BitVec 1 := Scalar.cmpi .sgt v106 c0_i32_43
  let v111 : BitVec 32 := Scalar.extui v110
  let c0_i32_44 : BitVec 32 := 0#32
  let v112 : BitVec 1 := Scalar.cmpi .slt v106 c0_i32_44
  let v113 : BitVec 32 := Scalar.extui v112
  let v114 : BitVec 32 := Scalar.subi v111 v113
  let c8_i32_42 : BitVec 32 := 8#32
  let c0_i32_45 : BitVec 32 := 0#32
  let v115 : BitVec 1 := Scalar.cmpi .sgt c8_i32_42 c0_i32_45
  let v116 : BitVec 32 := Scalar.extui v115
  let c0_i32_46 : BitVec 32 := 0#32
  let v117 : BitVec 1 := Scalar.cmpi .slt c8_i32_42 c0_i32_46
  let v118 : BitVec 32 := Scalar.extui v117
  let v119 : BitVec 32 := Scalar.subi v116 v118
  let v120 : BitVec 1 := Scalar.cmpi .ne v114 v119
  let v121 : BitVec 32 := Scalar.remsi v106 c8_i32_42
  let c0_i32_47 : BitVec 32 := 0#32
  let v122 : BitVec 1 := Scalar.cmpi .ne v121 c0_i32_47
  let v123 : BitVec 1 := Scalar.andi v120 v122
  let v109 : BitVec 32 := Scalar.divsi v106 c8_i32_42
  let c1_i32_48 : BitVec 32 := 1#32
  let v124 : BitVec 32 := Scalar.subi v109 c1_i32_48
  let v125 : BitVec 32 := Scalar.select v123 v124 v109
  let c8_i32_49 : BitVec 32 := 8#32
  let v126 : BitVec 32 := Scalar.muli v125 c8_i32_49
  let v127 : BitVec 32 := Scalar.subi v106 v126
  let v129 : BitVec 32 := Scalar.addi v127 v108
  let c8_i32_50 : BitVec 32 := 8#32
  let v130 : BitVec 32 := Scalar.addi v129 c8_i32_50
  let c1_i32_51 : BitVec 32 := 1#32
  let v131 : BitVec 32 := Scalar.subi v130 c1_i32_51
  let c0_i32_53 : BitVec 32 := 0#32
  let v133 : BitVec 1 := Scalar.cmpi .sgt v131 c0_i32_53
  let v134 : BitVec 32 := Scalar.extui v133
  let c0_i32_54 : BitVec 32 := 0#32
  let v135 : BitVec 1 := Scalar.cmpi .slt v131 c0_i32_54
  let v136 : BitVec 32 := Scalar.extui v135
  let v137 : BitVec 32 := Scalar.subi v134 v136
  let c8_i32_52 : BitVec 32 := 8#32
  let c0_i32_55 : BitVec 32 := 0#32
  let v138 : BitVec 1 := Scalar.cmpi .sgt c8_i32_52 c0_i32_55
  let v139 : BitVec 32 := Scalar.extui v138
  let c0_i32_56 : BitVec 32 := 0#32
  let v140 : BitVec 1 := Scalar.cmpi .slt c8_i32_52 c0_i32_56
  let v141 : BitVec 32 := Scalar.extui v140
  let v142 : BitVec 32 := Scalar.subi v139 v141
  let v143 : BitVec 1 := Scalar.cmpi .ne v137 v142
  let v144 : BitVec 32 := Scalar.remsi v131 c8_i32_52
  let c0_i32_57 : BitVec 32 := 0#32
  let v145 : BitVec 1 := Scalar.cmpi .ne v144 c0_i32_57
  let v146 : BitVec 1 := Scalar.andi v143 v145
  let v132 : BitVec 32 := Scalar.divsi v131 c8_i32_52
  let c1_i32_58 : BitVec 32 := 1#32
  let v147 : BitVec 32 := Scalar.subi v132 c1_i32_58
  let v148 : BitVec 32 := Scalar.select v146 v147 v132
  let c0_i32_59 : BitVec 32 := 0#32
  let v149 : BitVec 32 := Scalar.select v128 v148 c0_i32_59
  let v152 : BitVec 32 := Scalar.addi v101 v149
  let c8_i32_211 : BitVec 32 := 8#32
  let v599 : BitVec 32 := Scalar.muli v152 c8_i32_211
  v599
def k0_off61 (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) : (Fin 2 → Nat) × (Fin 2 → Nat) :=
  let c0_i32_18 : BitVec 32 := 0#32
  let v26 : BitVec 1 := Scalar.cmpi .sgt v2 v1
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let v50 : BitVec 32 := Scalar.addi c0_i32_18 v47
  let v77 : BitVec 1 := Scalar.cmpi .sgt v53 v52
  let c0_i32_22 : BitVec 32 := 0#32
  let v59 : BitVec 1 := Scalar.cmpi .sgt v55 c0_i32_22
  let v60 : BitVec 32 := Scalar.extui v59
  let c0_i32_23 : BitVec 32 := 0#32
  let v61 : BitVec 1 := Scalar.cmpi .slt v55 c0_i32_23
  let v62 : BitVec 32 := Scalar.extui v61
  let v63 : BitVec 32 := Scalar.subi v60 v62
  let c8_i32_21 : BitVec 32 := 8#32
  let c0_i32_24 : BitVec 32 := 0#32
  let v64 : BitVec 1 := Scalar.cmpi .sgt c8_i32_21 c0_i32_24
  let v65 : BitVec 32 := Scalar.extui v64
  let c0_i32_25 : BitVec 32 := 0#32
  let v66 : BitVec 1 := Scalar.cmpi .slt c8_i32_21 c0_i32_25
  let v67 : BitVec 32 := Scalar.extui v66
  let v68 : BitVec 32 := Scalar.subi v65 v67
  let v69 : BitVec 1 := Scalar.cmpi .ne v63 v68
  let v70 : BitVec 32 := Scalar.remsi v55 c8_i32_21
  let c0_i32_26 : BitVec 32 := 0#32
  let v71 : BitVec 1 := Scalar.cmpi .ne v70 c0_i32_26
  let v72 : BitVec 1 := Scalar.andi v69 v71
  let v58 : BitVec 32 := Scalar.divsi v55 c8_i32_21
  let c1_i32_27 : BitVec 32 := 1#32
  let v73 : BitVec 32 := Scalar.subi v58 c1_i32_27
  let v74 : BitVec 32 := Scalar.select v72 v73 v58
  let c8_i32_28 : BitVec 32 := 8#32
  let v75 : BitVec 32 := Scalar.muli v74 c8_i32_28
  let v76 : BitVec 32 := Scalar.subi v55 v75
  let v78 : BitVec 32 := Scalar.addi v76 v57
  let c8_i32_29 : BitVec 32 := 8#32
  let v79 : BitVec 32 := Scalar.addi v78 c8_i32_29
  let c1_i32_30 : BitVec 32 := 1#32
  let v80 : BitVec 32 := Scalar.subi v79 c1_i32_30
  let c0_i32_32 : BitVec 32 := 0#32
  let v82 : BitVec 1 := Scalar.cmpi .sgt v80 c0_i32_32
  let v83 : BitVec 32 := Scalar.extui v82
  let c0_i32_33 : BitVec 32 := 0#32
  let v84 : BitVec 1 := Scalar.cmpi .slt v80 c0_i32_33
  let v85 : BitVec 32 := Scalar.extui v84
  let v86 : BitVec 32 := Scalar.subi v83 v85
  let c8_i32_31 : BitVec 32 := 8#32
  let c0_i32_34 : BitVec 32 := 0#32
  let v87 : BitVec 1 := Scalar.cmpi .sgt c8_i32_31 c0_i32_34
  let v88 : BitVec 32 := Scalar.extui v87
  let c0_i32_35 : BitVec 32 := 0#32
  let v89 : BitVec 1 := Scalar.cmpi .slt c8_i32_31 c0_i32_35
  let v90 : BitVec 32 := Scalar.extui v89
  let v91 : BitVec 32 := Scalar.subi v88 v90
  let v92 : BitVec 1 := Scalar.cmpi .ne v86 v91
  let v93 : BitVec 32 := Scalar.remsi v80 c8_i32_31
  let c0_i32_36 : BitVec 32 := 0#32
  let v94 : BitVec 1 := Scalar.cmpi .ne v93 c0_i32_36
  let v95 : BitVec 1 := Scalar.andi v92 v94
  let v81 : BitVec 32 := Scalar.divsi v80 c8_i32_31
  let c1_i32_37 : BitVec 32 := 1#32
  let v96 : BitVec 32 := Scalar.subi v81 c1_i32_37
  let v97 : BitVec 32 := Scalar.select v95 v96 v81
  let c0_i32_38 : BitVec 32 := 0#32
  let v98 : BitVec 32 := Scalar.select v77 v97 c0_i32_38
  let v101 : BitVec 32 := Scalar.addi v50 v98
  let v128 : BitVec 1 := Scalar.cmpi .sgt v104 v103
  let c0_i32_43 : BitVec 32 := 0#32
  let v110 : BitVec 1 := Scalar.cmpi .sgt v106 c0_i32_43
  let v111 : BitVec 32 := Scalar.extui v110
  let c0_i32_44 : BitVec 32 := 0#32
  let v112 : BitVec 1 := Scalar.cmpi .slt v106 c0_i32_44
  let v113 : BitVec 32 := Scalar.extui v112
  let v114 : BitVec 32 := Scalar.subi v111 v113
  let c8_i32_42 : BitVec 32 := 8#32
  let c0_i32_45 : BitVec 32 := 0#32
  let v115 : BitVec 1 := Scalar.cmpi .sgt c8_i32_42 c0_i32_45
  let v116 : BitVec 32 := Scalar.extui v115
  let c0_i32_46 : BitVec 32 := 0#32
  let v117 : BitVec 1 := Scalar.cmpi .slt c8_i32_42 c0_i32_46
  let v118 : BitVec 32 := Scalar.extui v117
  let v119 : BitVec 32 := Scalar.subi v116 v118
  let v120 : BitVec 1 := Scalar.cmpi .ne v114 v119
  let v121 : BitVec 32 := Scalar.remsi v106 c8_i32_42
  let c0_i32_47 : BitVec 32 := 0#32
  let v122 : BitVec 1 := Scalar.cmpi .ne v121 c0_i32_47
  let v123 : BitVec 1 := Scalar.andi v120 v122
  let v109 : BitVec 32 := Scalar.divsi v106 c8_i32_42
  let c1_i32_48 : BitVec 32 := 1#32
  let v124 : BitVec 32 := Scalar.subi v109 c1_i32_48
  let v125 : BitVec 32 := Scalar.select v123 v124 v109
  let c8_i32_49 : BitVec 32 := 8#32
  let v126 : BitVec 32 := Scalar.muli v125 c8_i32_49
  let v127 : BitVec 32 := Scalar.subi v106 v126
  let v129 : BitVec 32 := Scalar.addi v127 v108
  let c8_i32_50 : BitVec 32 := 8#32
  let v130 : BitVec 32 := Scalar.addi v129 c8_i32_50
  let c1_i32_51 : BitVec 32 := 1#32
  let v131 : BitVec 32 := Scalar.subi v130 c1_i32_51
  let c0_i32_53 : BitVec 32 := 0#32
  let v133 : BitVec 1 := Scalar.cmpi .sgt v131 c0_i32_53
  let v134 : BitVec 32 := Scalar.extui v133
  let c0_i32_54 : BitVec 32 := 0#32
  let v135 : BitVec 1 := Scalar.cmpi .slt v131 c0_i32_54
  let v136 : BitVec 32 := Scalar.extui v135
  let v137 : BitVec 32 := Scalar.subi v134 v136
  let c8_i32_52 : BitVec 32 := 8#32
  let c0_i32_55 : BitVec 32 := 0#32
  let v138 : BitVec 1 := Scalar.cmpi .sgt c8_i32_52 c0_i32_55
  let v139 : BitVec 32 := Scalar.extui v138
  let c0_i32_56 : BitVec 32 := 0#32
  let v140 : BitVec 1 := Scalar.cmpi .slt c8_i32_52 c0_i32_56
  let v141 : BitVec 32 := Scalar.extui v140
  let v142 : BitVec 32 := Scalar.subi v139 v141
  let v143 : BitVec 1 := Scalar.cmpi .ne v137 v142
  let v144 : BitVec 32 := Scalar.remsi v131 c8_i32_52
  let c0_i32_57 : BitVec 32 := 0#32
  let v145 : BitVec 1 := Scalar.cmpi .ne v144 c0_i32_57
  let v146 : BitVec 1 := Scalar.andi v143 v145
  let v132 : BitVec 32 := Scalar.divsi v131 c8_i32_52
  let c1_i32_58 : BitVec 32 := 1#32
  let v147 : BitVec 32 := Scalar.subi v132 c1_i32_58
  let v148 : BitVec 32 := Scalar.select v146 v147 v132
  let c0_i32_59 : BitVec 32 := 0#32
  let v149 : BitVec 32 := Scalar.select v128 v148 c0_i32_59
  let v152 : BitVec 32 := Scalar.addi v101 v149
  let c8_i32_211 : BitVec 32 := 8#32
  let v599 : BitVec 32 := Scalar.muli v152 c8_i32_211
  let v600 : BitVec 32 := v599
  let c0_i32_213 : BitVec 32 := 0#32
  let v179 : BitVec 1 := Scalar.cmpi .sgt v155 v154
  let c0_i32_64 : BitVec 32 := 0#32
  let v161 : BitVec 1 := Scalar.cmpi .sgt v157 c0_i32_64
  let v162 : BitVec 32 := Scalar.extui v161
  let c0_i32_65 : BitVec 32 := 0#32
  let v163 : BitVec 1 := Scalar.cmpi .slt v157 c0_i32_65
  let v164 : BitVec 32 := Scalar.extui v163
  let v165 : BitVec 32 := Scalar.subi v162 v164
  let c8_i32_63 : BitVec 32 := 8#32
  let c0_i32_66 : BitVec 32 := 0#32
  let v166 : BitVec 1 := Scalar.cmpi .sgt c8_i32_63 c0_i32_66
  let v167 : BitVec 32 := Scalar.extui v166
  let c0_i32_67 : BitVec 32 := 0#32
  let v168 : BitVec 1 := Scalar.cmpi .slt c8_i32_63 c0_i32_67
  let v169 : BitVec 32 := Scalar.extui v168
  let v170 : BitVec 32 := Scalar.subi v167 v169
  let v171 : BitVec 1 := Scalar.cmpi .ne v165 v170
  let v172 : BitVec 32 := Scalar.remsi v157 c8_i32_63
  let c0_i32_68 : BitVec 32 := 0#32
  let v173 : BitVec 1 := Scalar.cmpi .ne v172 c0_i32_68
  let v174 : BitVec 1 := Scalar.andi v171 v173
  let v160 : BitVec 32 := Scalar.divsi v157 c8_i32_63
  let c1_i32_69 : BitVec 32 := 1#32
  let v175 : BitVec 32 := Scalar.subi v160 c1_i32_69
  let v176 : BitVec 32 := Scalar.select v174 v175 v160
  let c8_i32_70 : BitVec 32 := 8#32
  let v177 : BitVec 32 := Scalar.muli v176 c8_i32_70
  let v178 : BitVec 32 := Scalar.subi v157 v177
  let v180 : BitVec 32 := Scalar.addi v178 v159
  let c8_i32_71 : BitVec 32 := 8#32
  let v181 : BitVec 32 := Scalar.addi v180 c8_i32_71
  let c1_i32_72 : BitVec 32 := 1#32
  let v182 : BitVec 32 := Scalar.subi v181 c1_i32_72
  let c0_i32_74 : BitVec 32 := 0#32
  let v184 : BitVec 1 := Scalar.cmpi .sgt v182 c0_i32_74
  let v185 : BitVec 32 := Scalar.extui v184
  let c0_i32_75 : BitVec 32 := 0#32
  let v186 : BitVec 1 := Scalar.cmpi .slt v182 c0_i32_75
  let v187 : BitVec 32 := Scalar.extui v186
  let v188 : BitVec 32 := Scalar.subi v185 v187
  let c8_i32_73 : BitVec 32 := 8#32
  let c0_i32_76 : BitVec 32 := 0#32
  let v189 : BitVec 1 := Scalar.cmpi .sgt c8_i32_73 c0_i32_76
  let v190 : BitVec 32 := Scalar.extui v189
  let c0_i32_77 : BitVec 32 := 0#32
  let v191 : BitVec 1 := Scalar.cmpi .slt c8_i32_73 c0_i32_77
  let v192 : BitVec 32 := Scalar.extui v191
  let v193 : BitVec 32 := Scalar.subi v190 v192
  let v194 : BitVec 1 := Scalar.cmpi .ne v188 v193
  let v195 : BitVec 32 := Scalar.remsi v182 c8_i32_73
  let c0_i32_78 : BitVec 32 := 0#32
  let v196 : BitVec 1 := Scalar.cmpi .ne v195 c0_i32_78
  let v197 : BitVec 1 := Scalar.andi v194 v196
  let v183 : BitVec 32 := Scalar.divsi v182 c8_i32_73
  let c1_i32_79 : BitVec 32 := 1#32
  let v198 : BitVec 32 := Scalar.subi v183 c1_i32_79
  let v199 : BitVec 32 := Scalar.select v197 v198 v183
  let c0_i32_80 : BitVec 32 := 0#32
  let v200 : BitVec 32 := Scalar.select v179 v199 c0_i32_80
  let c8_i32_209 : BitVec 32 := 8#32
  let v595 : BitVec 32 := Scalar.muli v200 c8_i32_209
  let v596 : BitVec 32 := v595
  ⟨![v600.toNat, 0], ![v596.toNat, 4096]⟩

def k0_off62 (v154 : BitVec 32) (v155 : BitVec 32) (v157 : BitVec 32) (v159 : BitVec 32) : (Fin 2 → Nat) × (Fin 2 → Nat) :=
  let c0_i32_64 : BitVec 32 := 0#32
  let v161 : BitVec 1 := Scalar.cmpi .sgt v157 c0_i32_64
  let v162 : BitVec 32 := Scalar.extui v161
  let c0_i32_65 : BitVec 32 := 0#32
  let v163 : BitVec 1 := Scalar.cmpi .slt v157 c0_i32_65
  let v164 : BitVec 32 := Scalar.extui v163
  let v165 : BitVec 32 := Scalar.subi v162 v164
  let c8_i32_63 : BitVec 32 := 8#32
  let c0_i32_66 : BitVec 32 := 0#32
  let v166 : BitVec 1 := Scalar.cmpi .sgt c8_i32_63 c0_i32_66
  let v167 : BitVec 32 := Scalar.extui v166
  let c0_i32_67 : BitVec 32 := 0#32
  let v168 : BitVec 1 := Scalar.cmpi .slt c8_i32_63 c0_i32_67
  let v169 : BitVec 32 := Scalar.extui v168
  let v170 : BitVec 32 := Scalar.subi v167 v169
  let v171 : BitVec 1 := Scalar.cmpi .ne v165 v170
  let v172 : BitVec 32 := Scalar.remsi v157 c8_i32_63
  let c0_i32_68 : BitVec 32 := 0#32
  let v173 : BitVec 1 := Scalar.cmpi .ne v172 c0_i32_68
  let v174 : BitVec 1 := Scalar.andi v171 v173
  let v160 : BitVec 32 := Scalar.divsi v157 c8_i32_63
  let c1_i32_69 : BitVec 32 := 1#32
  let v175 : BitVec 32 := Scalar.subi v160 c1_i32_69
  let v176 : BitVec 32 := Scalar.select v174 v175 v160
  let c8_i32_210 : BitVec 32 := 8#32
  let v597 : BitVec 32 := Scalar.muli v176 c8_i32_210
  let v598 : BitVec 32 := v597
  let c0_i32_214 : BitVec 32 := 0#32
  let v179 : BitVec 1 := Scalar.cmpi .sgt v155 v154
  let c8_i32_70 : BitVec 32 := 8#32
  let v177 : BitVec 32 := Scalar.muli v176 c8_i32_70
  let v178 : BitVec 32 := Scalar.subi v157 v177
  let v180 : BitVec 32 := Scalar.addi v178 v159
  let c8_i32_71 : BitVec 32 := 8#32
  let v181 : BitVec 32 := Scalar.addi v180 c8_i32_71
  let c1_i32_72 : BitVec 32 := 1#32
  let v182 : BitVec 32 := Scalar.subi v181 c1_i32_72
  let c0_i32_74 : BitVec 32 := 0#32
  let v184 : BitVec 1 := Scalar.cmpi .sgt v182 c0_i32_74
  let v185 : BitVec 32 := Scalar.extui v184
  let c0_i32_75 : BitVec 32 := 0#32
  let v186 : BitVec 1 := Scalar.cmpi .slt v182 c0_i32_75
  let v187 : BitVec 32 := Scalar.extui v186
  let v188 : BitVec 32 := Scalar.subi v185 v187
  let c8_i32_73 : BitVec 32 := 8#32
  let c0_i32_76 : BitVec 32 := 0#32
  let v189 : BitVec 1 := Scalar.cmpi .sgt c8_i32_73 c0_i32_76
  let v190 : BitVec 32 := Scalar.extui v189
  let c0_i32_77 : BitVec 32 := 0#32
  let v191 : BitVec 1 := Scalar.cmpi .slt c8_i32_73 c0_i32_77
  let v192 : BitVec 32 := Scalar.extui v191
  let v193 : BitVec 32 := Scalar.subi v190 v192
  let v194 : BitVec 1 := Scalar.cmpi .ne v188 v193
  let v195 : BitVec 32 := Scalar.remsi v182 c8_i32_73
  let c0_i32_78 : BitVec 32 := 0#32
  let v196 : BitVec 1 := Scalar.cmpi .ne v195 c0_i32_78
  let v197 : BitVec 1 := Scalar.andi v194 v196
  let v183 : BitVec 32 := Scalar.divsi v182 c8_i32_73
  let c1_i32_79 : BitVec 32 := 1#32
  let v198 : BitVec 32 := Scalar.subi v183 c1_i32_79
  let v199 : BitVec 32 := Scalar.select v197 v198 v183
  let c0_i32_80 : BitVec 32 := 0#32
  let v200 : BitVec 32 := Scalar.select v179 v199 c0_i32_80
  let c8_i32_209 : BitVec 32 := 8#32
  let v595 : BitVec 32 := Scalar.muli v200 c8_i32_209
  let v596 : BitVec 32 := v595
  ⟨![v598.toNat, 0], ![v596.toNat, 4096]⟩

def k0_mult79 (v205 : BitVec 32) (v206 : BitVec 32) (v208 : BitVec 32) (v210 : BitVec 32) : BitVec 32 :=
  let v230 : BitVec 1 := Scalar.cmpi .sgt v206 v205
  let c0_i32_85 : BitVec 32 := 0#32
  let v212 : BitVec 1 := Scalar.cmpi .sgt v208 c0_i32_85
  let v213 : BitVec 32 := Scalar.extui v212
  let c0_i32_86 : BitVec 32 := 0#32
  let v214 : BitVec 1 := Scalar.cmpi .slt v208 c0_i32_86
  let v215 : BitVec 32 := Scalar.extui v214
  let v216 : BitVec 32 := Scalar.subi v213 v215
  let c8_i32_84 : BitVec 32 := 8#32
  let c0_i32_87 : BitVec 32 := 0#32
  let v217 : BitVec 1 := Scalar.cmpi .sgt c8_i32_84 c0_i32_87
  let v218 : BitVec 32 := Scalar.extui v217
  let c0_i32_88 : BitVec 32 := 0#32
  let v219 : BitVec 1 := Scalar.cmpi .slt c8_i32_84 c0_i32_88
  let v220 : BitVec 32 := Scalar.extui v219
  let v221 : BitVec 32 := Scalar.subi v218 v220
  let v222 : BitVec 1 := Scalar.cmpi .ne v216 v221
  let v223 : BitVec 32 := Scalar.remsi v208 c8_i32_84
  let c0_i32_89 : BitVec 32 := 0#32
  let v224 : BitVec 1 := Scalar.cmpi .ne v223 c0_i32_89
  let v225 : BitVec 1 := Scalar.andi v222 v224
  let v211 : BitVec 32 := Scalar.divsi v208 c8_i32_84
  let c1_i32_90 : BitVec 32 := 1#32
  let v226 : BitVec 32 := Scalar.subi v211 c1_i32_90
  let v227 : BitVec 32 := Scalar.select v225 v226 v211
  let c8_i32_91 : BitVec 32 := 8#32
  let v228 : BitVec 32 := Scalar.muli v227 c8_i32_91
  let v229 : BitVec 32 := Scalar.subi v208 v228
  let v231 : BitVec 32 := Scalar.addi v229 v210
  let c8_i32_92 : BitVec 32 := 8#32
  let v232 : BitVec 32 := Scalar.addi v231 c8_i32_92
  let c1_i32_93 : BitVec 32 := 1#32
  let v233 : BitVec 32 := Scalar.subi v232 c1_i32_93
  let c0_i32_95 : BitVec 32 := 0#32
  let v235 : BitVec 1 := Scalar.cmpi .sgt v233 c0_i32_95
  let v236 : BitVec 32 := Scalar.extui v235
  let c0_i32_96 : BitVec 32 := 0#32
  let v237 : BitVec 1 := Scalar.cmpi .slt v233 c0_i32_96
  let v238 : BitVec 32 := Scalar.extui v237
  let v239 : BitVec 32 := Scalar.subi v236 v238
  let c8_i32_94 : BitVec 32 := 8#32
  let c0_i32_97 : BitVec 32 := 0#32
  let v240 : BitVec 1 := Scalar.cmpi .sgt c8_i32_94 c0_i32_97
  let v241 : BitVec 32 := Scalar.extui v240
  let c0_i32_98 : BitVec 32 := 0#32
  let v242 : BitVec 1 := Scalar.cmpi .slt c8_i32_94 c0_i32_98
  let v243 : BitVec 32 := Scalar.extui v242
  let v244 : BitVec 32 := Scalar.subi v241 v243
  let v245 : BitVec 1 := Scalar.cmpi .ne v239 v244
  let v246 : BitVec 32 := Scalar.remsi v233 c8_i32_94
  let c0_i32_99 : BitVec 32 := 0#32
  let v247 : BitVec 1 := Scalar.cmpi .ne v246 c0_i32_99
  let v248 : BitVec 1 := Scalar.andi v245 v247
  let v234 : BitVec 32 := Scalar.divsi v233 c8_i32_94
  let c1_i32_100 : BitVec 32 := 1#32
  let v249 : BitVec 32 := Scalar.subi v234 c1_i32_100
  let v250 : BitVec 32 := Scalar.select v248 v249 v234
  let c0_i32_101 : BitVec 32 := 0#32
  let v251 : BitVec 32 := Scalar.select v230 v250 c0_i32_101
  let c8_i32_209 : BitVec 32 := 8#32
  let v595 : BitVec 32 := Scalar.muli v251 c8_i32_209
  v595
def k0_cond26 (v205 : BitVec 32) (v206 : BitVec 32) (v208 : BitVec 32) (v210 : BitVec 32) : BitVec 1 :=
  let v230 : BitVec 1 := Scalar.cmpi .sgt v206 v205
  let c0_i32_85 : BitVec 32 := 0#32
  let v212 : BitVec 1 := Scalar.cmpi .sgt v208 c0_i32_85
  let v213 : BitVec 32 := Scalar.extui v212
  let c0_i32_86 : BitVec 32 := 0#32
  let v214 : BitVec 1 := Scalar.cmpi .slt v208 c0_i32_86
  let v215 : BitVec 32 := Scalar.extui v214
  let v216 : BitVec 32 := Scalar.subi v213 v215
  let c8_i32_84 : BitVec 32 := 8#32
  let c0_i32_87 : BitVec 32 := 0#32
  let v217 : BitVec 1 := Scalar.cmpi .sgt c8_i32_84 c0_i32_87
  let v218 : BitVec 32 := Scalar.extui v217
  let c0_i32_88 : BitVec 32 := 0#32
  let v219 : BitVec 1 := Scalar.cmpi .slt c8_i32_84 c0_i32_88
  let v220 : BitVec 32 := Scalar.extui v219
  let v221 : BitVec 32 := Scalar.subi v218 v220
  let v222 : BitVec 1 := Scalar.cmpi .ne v216 v221
  let v223 : BitVec 32 := Scalar.remsi v208 c8_i32_84
  let c0_i32_89 : BitVec 32 := 0#32
  let v224 : BitVec 1 := Scalar.cmpi .ne v223 c0_i32_89
  let v225 : BitVec 1 := Scalar.andi v222 v224
  let v211 : BitVec 32 := Scalar.divsi v208 c8_i32_84
  let c1_i32_90 : BitVec 32 := 1#32
  let v226 : BitVec 32 := Scalar.subi v211 c1_i32_90
  let v227 : BitVec 32 := Scalar.select v225 v226 v211
  let c8_i32_91 : BitVec 32 := 8#32
  let v228 : BitVec 32 := Scalar.muli v227 c8_i32_91
  let v229 : BitVec 32 := Scalar.subi v208 v228
  let v231 : BitVec 32 := Scalar.addi v229 v210
  let c8_i32_92 : BitVec 32 := 8#32
  let v232 : BitVec 32 := Scalar.addi v231 c8_i32_92
  let c1_i32_93 : BitVec 32 := 1#32
  let v233 : BitVec 32 := Scalar.subi v232 c1_i32_93
  let c0_i32_95 : BitVec 32 := 0#32
  let v235 : BitVec 1 := Scalar.cmpi .sgt v233 c0_i32_95
  let v236 : BitVec 32 := Scalar.extui v235
  let c0_i32_96 : BitVec 32 := 0#32
  let v237 : BitVec 1 := Scalar.cmpi .slt v233 c0_i32_96
  let v238 : BitVec 32 := Scalar.extui v237
  let v239 : BitVec 32 := Scalar.subi v236 v238
  let c8_i32_94 : BitVec 32 := 8#32
  let c0_i32_97 : BitVec 32 := 0#32
  let v240 : BitVec 1 := Scalar.cmpi .sgt c8_i32_94 c0_i32_97
  let v241 : BitVec 32 := Scalar.extui v240
  let c0_i32_98 : BitVec 32 := 0#32
  let v242 : BitVec 1 := Scalar.cmpi .slt c8_i32_94 c0_i32_98
  let v243 : BitVec 32 := Scalar.extui v242
  let v244 : BitVec 32 := Scalar.subi v241 v243
  let v245 : BitVec 1 := Scalar.cmpi .ne v239 v244
  let v246 : BitVec 32 := Scalar.remsi v233 c8_i32_94
  let c0_i32_99 : BitVec 32 := 0#32
  let v247 : BitVec 1 := Scalar.cmpi .ne v246 c0_i32_99
  let v248 : BitVec 1 := Scalar.andi v245 v247
  let v234 : BitVec 32 := Scalar.divsi v233 c8_i32_94
  let c1_i32_100 : BitVec 32 := 1#32
  let v249 : BitVec 32 := Scalar.subi v234 c1_i32_100
  let v250 : BitVec 32 := Scalar.select v248 v249 v234
  let c0_i32_101 : BitVec 32 := 0#32
  let v251 : BitVec 32 := Scalar.select v230 v250 c0_i32_101
  let c0_i32_183 : BitVec 32 := 0#32
  let v418 : BitVec 1 := Scalar.cmpi .sgt v251 c0_i32_183
  let v419 : BitVec 32 := Scalar.extui v418
  let c0_i32_184 : BitVec 32 := 0#32
  let v420 : BitVec 1 := Scalar.cmpi .ne v419 c0_i32_184
  v420

def k0_mult80 (v208 : BitVec 32) : BitVec 32 :=
  let c0_i32_85 : BitVec 32 := 0#32
  let v212 : BitVec 1 := Scalar.cmpi .sgt v208 c0_i32_85
  let v213 : BitVec 32 := Scalar.extui v212
  let c0_i32_86 : BitVec 32 := 0#32
  let v214 : BitVec 1 := Scalar.cmpi .slt v208 c0_i32_86
  let v215 : BitVec 32 := Scalar.extui v214
  let v216 : BitVec 32 := Scalar.subi v213 v215
  let c8_i32_84 : BitVec 32 := 8#32
  let c0_i32_87 : BitVec 32 := 0#32
  let v217 : BitVec 1 := Scalar.cmpi .sgt c8_i32_84 c0_i32_87
  let v218 : BitVec 32 := Scalar.extui v217
  let c0_i32_88 : BitVec 32 := 0#32
  let v219 : BitVec 1 := Scalar.cmpi .slt c8_i32_84 c0_i32_88
  let v220 : BitVec 32 := Scalar.extui v219
  let v221 : BitVec 32 := Scalar.subi v218 v220
  let v222 : BitVec 1 := Scalar.cmpi .ne v216 v221
  let v223 : BitVec 32 := Scalar.remsi v208 c8_i32_84
  let c0_i32_89 : BitVec 32 := 0#32
  let v224 : BitVec 1 := Scalar.cmpi .ne v223 c0_i32_89
  let v225 : BitVec 1 := Scalar.andi v222 v224
  let v211 : BitVec 32 := Scalar.divsi v208 c8_i32_84
  let c1_i32_90 : BitVec 32 := 1#32
  let v226 : BitVec 32 := Scalar.subi v211 c1_i32_90
  let v227 : BitVec 32 := Scalar.select v225 v226 v211
  let c8_i32_210 : BitVec 32 := 8#32
  let v597 : BitVec 32 := Scalar.muli v227 c8_i32_210
  v597
def k0_mult81 (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) : BitVec 32 :=
  let c0_i32_18 : BitVec 32 := 0#32
  let v26 : BitVec 1 := Scalar.cmpi .sgt v2 v1
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let v50 : BitVec 32 := Scalar.addi c0_i32_18 v47
  let v77 : BitVec 1 := Scalar.cmpi .sgt v53 v52
  let c0_i32_22 : BitVec 32 := 0#32
  let v59 : BitVec 1 := Scalar.cmpi .sgt v55 c0_i32_22
  let v60 : BitVec 32 := Scalar.extui v59
  let c0_i32_23 : BitVec 32 := 0#32
  let v61 : BitVec 1 := Scalar.cmpi .slt v55 c0_i32_23
  let v62 : BitVec 32 := Scalar.extui v61
  let v63 : BitVec 32 := Scalar.subi v60 v62
  let c8_i32_21 : BitVec 32 := 8#32
  let c0_i32_24 : BitVec 32 := 0#32
  let v64 : BitVec 1 := Scalar.cmpi .sgt c8_i32_21 c0_i32_24
  let v65 : BitVec 32 := Scalar.extui v64
  let c0_i32_25 : BitVec 32 := 0#32
  let v66 : BitVec 1 := Scalar.cmpi .slt c8_i32_21 c0_i32_25
  let v67 : BitVec 32 := Scalar.extui v66
  let v68 : BitVec 32 := Scalar.subi v65 v67
  let v69 : BitVec 1 := Scalar.cmpi .ne v63 v68
  let v70 : BitVec 32 := Scalar.remsi v55 c8_i32_21
  let c0_i32_26 : BitVec 32 := 0#32
  let v71 : BitVec 1 := Scalar.cmpi .ne v70 c0_i32_26
  let v72 : BitVec 1 := Scalar.andi v69 v71
  let v58 : BitVec 32 := Scalar.divsi v55 c8_i32_21
  let c1_i32_27 : BitVec 32 := 1#32
  let v73 : BitVec 32 := Scalar.subi v58 c1_i32_27
  let v74 : BitVec 32 := Scalar.select v72 v73 v58
  let c8_i32_28 : BitVec 32 := 8#32
  let v75 : BitVec 32 := Scalar.muli v74 c8_i32_28
  let v76 : BitVec 32 := Scalar.subi v55 v75
  let v78 : BitVec 32 := Scalar.addi v76 v57
  let c8_i32_29 : BitVec 32 := 8#32
  let v79 : BitVec 32 := Scalar.addi v78 c8_i32_29
  let c1_i32_30 : BitVec 32 := 1#32
  let v80 : BitVec 32 := Scalar.subi v79 c1_i32_30
  let c0_i32_32 : BitVec 32 := 0#32
  let v82 : BitVec 1 := Scalar.cmpi .sgt v80 c0_i32_32
  let v83 : BitVec 32 := Scalar.extui v82
  let c0_i32_33 : BitVec 32 := 0#32
  let v84 : BitVec 1 := Scalar.cmpi .slt v80 c0_i32_33
  let v85 : BitVec 32 := Scalar.extui v84
  let v86 : BitVec 32 := Scalar.subi v83 v85
  let c8_i32_31 : BitVec 32 := 8#32
  let c0_i32_34 : BitVec 32 := 0#32
  let v87 : BitVec 1 := Scalar.cmpi .sgt c8_i32_31 c0_i32_34
  let v88 : BitVec 32 := Scalar.extui v87
  let c0_i32_35 : BitVec 32 := 0#32
  let v89 : BitVec 1 := Scalar.cmpi .slt c8_i32_31 c0_i32_35
  let v90 : BitVec 32 := Scalar.extui v89
  let v91 : BitVec 32 := Scalar.subi v88 v90
  let v92 : BitVec 1 := Scalar.cmpi .ne v86 v91
  let v93 : BitVec 32 := Scalar.remsi v80 c8_i32_31
  let c0_i32_36 : BitVec 32 := 0#32
  let v94 : BitVec 1 := Scalar.cmpi .ne v93 c0_i32_36
  let v95 : BitVec 1 := Scalar.andi v92 v94
  let v81 : BitVec 32 := Scalar.divsi v80 c8_i32_31
  let c1_i32_37 : BitVec 32 := 1#32
  let v96 : BitVec 32 := Scalar.subi v81 c1_i32_37
  let v97 : BitVec 32 := Scalar.select v95 v96 v81
  let c0_i32_38 : BitVec 32 := 0#32
  let v98 : BitVec 32 := Scalar.select v77 v97 c0_i32_38
  let v101 : BitVec 32 := Scalar.addi v50 v98
  let v128 : BitVec 1 := Scalar.cmpi .sgt v104 v103
  let c0_i32_43 : BitVec 32 := 0#32
  let v110 : BitVec 1 := Scalar.cmpi .sgt v106 c0_i32_43
  let v111 : BitVec 32 := Scalar.extui v110
  let c0_i32_44 : BitVec 32 := 0#32
  let v112 : BitVec 1 := Scalar.cmpi .slt v106 c0_i32_44
  let v113 : BitVec 32 := Scalar.extui v112
  let v114 : BitVec 32 := Scalar.subi v111 v113
  let c8_i32_42 : BitVec 32 := 8#32
  let c0_i32_45 : BitVec 32 := 0#32
  let v115 : BitVec 1 := Scalar.cmpi .sgt c8_i32_42 c0_i32_45
  let v116 : BitVec 32 := Scalar.extui v115
  let c0_i32_46 : BitVec 32 := 0#32
  let v117 : BitVec 1 := Scalar.cmpi .slt c8_i32_42 c0_i32_46
  let v118 : BitVec 32 := Scalar.extui v117
  let v119 : BitVec 32 := Scalar.subi v116 v118
  let v120 : BitVec 1 := Scalar.cmpi .ne v114 v119
  let v121 : BitVec 32 := Scalar.remsi v106 c8_i32_42
  let c0_i32_47 : BitVec 32 := 0#32
  let v122 : BitVec 1 := Scalar.cmpi .ne v121 c0_i32_47
  let v123 : BitVec 1 := Scalar.andi v120 v122
  let v109 : BitVec 32 := Scalar.divsi v106 c8_i32_42
  let c1_i32_48 : BitVec 32 := 1#32
  let v124 : BitVec 32 := Scalar.subi v109 c1_i32_48
  let v125 : BitVec 32 := Scalar.select v123 v124 v109
  let c8_i32_49 : BitVec 32 := 8#32
  let v126 : BitVec 32 := Scalar.muli v125 c8_i32_49
  let v127 : BitVec 32 := Scalar.subi v106 v126
  let v129 : BitVec 32 := Scalar.addi v127 v108
  let c8_i32_50 : BitVec 32 := 8#32
  let v130 : BitVec 32 := Scalar.addi v129 c8_i32_50
  let c1_i32_51 : BitVec 32 := 1#32
  let v131 : BitVec 32 := Scalar.subi v130 c1_i32_51
  let c0_i32_53 : BitVec 32 := 0#32
  let v133 : BitVec 1 := Scalar.cmpi .sgt v131 c0_i32_53
  let v134 : BitVec 32 := Scalar.extui v133
  let c0_i32_54 : BitVec 32 := 0#32
  let v135 : BitVec 1 := Scalar.cmpi .slt v131 c0_i32_54
  let v136 : BitVec 32 := Scalar.extui v135
  let v137 : BitVec 32 := Scalar.subi v134 v136
  let c8_i32_52 : BitVec 32 := 8#32
  let c0_i32_55 : BitVec 32 := 0#32
  let v138 : BitVec 1 := Scalar.cmpi .sgt c8_i32_52 c0_i32_55
  let v139 : BitVec 32 := Scalar.extui v138
  let c0_i32_56 : BitVec 32 := 0#32
  let v140 : BitVec 1 := Scalar.cmpi .slt c8_i32_52 c0_i32_56
  let v141 : BitVec 32 := Scalar.extui v140
  let v142 : BitVec 32 := Scalar.subi v139 v141
  let v143 : BitVec 1 := Scalar.cmpi .ne v137 v142
  let v144 : BitVec 32 := Scalar.remsi v131 c8_i32_52
  let c0_i32_57 : BitVec 32 := 0#32
  let v145 : BitVec 1 := Scalar.cmpi .ne v144 c0_i32_57
  let v146 : BitVec 1 := Scalar.andi v143 v145
  let v132 : BitVec 32 := Scalar.divsi v131 c8_i32_52
  let c1_i32_58 : BitVec 32 := 1#32
  let v147 : BitVec 32 := Scalar.subi v132 c1_i32_58
  let v148 : BitVec 32 := Scalar.select v146 v147 v132
  let c0_i32_59 : BitVec 32 := 0#32
  let v149 : BitVec 32 := Scalar.select v128 v148 c0_i32_59
  let v152 : BitVec 32 := Scalar.addi v101 v149
  let v179 : BitVec 1 := Scalar.cmpi .sgt v155 v154
  let c0_i32_64 : BitVec 32 := 0#32
  let v161 : BitVec 1 := Scalar.cmpi .sgt v157 c0_i32_64
  let v162 : BitVec 32 := Scalar.extui v161
  let c0_i32_65 : BitVec 32 := 0#32
  let v163 : BitVec 1 := Scalar.cmpi .slt v157 c0_i32_65
  let v164 : BitVec 32 := Scalar.extui v163
  let v165 : BitVec 32 := Scalar.subi v162 v164
  let c8_i32_63 : BitVec 32 := 8#32
  let c0_i32_66 : BitVec 32 := 0#32
  let v166 : BitVec 1 := Scalar.cmpi .sgt c8_i32_63 c0_i32_66
  let v167 : BitVec 32 := Scalar.extui v166
  let c0_i32_67 : BitVec 32 := 0#32
  let v168 : BitVec 1 := Scalar.cmpi .slt c8_i32_63 c0_i32_67
  let v169 : BitVec 32 := Scalar.extui v168
  let v170 : BitVec 32 := Scalar.subi v167 v169
  let v171 : BitVec 1 := Scalar.cmpi .ne v165 v170
  let v172 : BitVec 32 := Scalar.remsi v157 c8_i32_63
  let c0_i32_68 : BitVec 32 := 0#32
  let v173 : BitVec 1 := Scalar.cmpi .ne v172 c0_i32_68
  let v174 : BitVec 1 := Scalar.andi v171 v173
  let v160 : BitVec 32 := Scalar.divsi v157 c8_i32_63
  let c1_i32_69 : BitVec 32 := 1#32
  let v175 : BitVec 32 := Scalar.subi v160 c1_i32_69
  let v176 : BitVec 32 := Scalar.select v174 v175 v160
  let c8_i32_70 : BitVec 32 := 8#32
  let v177 : BitVec 32 := Scalar.muli v176 c8_i32_70
  let v178 : BitVec 32 := Scalar.subi v157 v177
  let v180 : BitVec 32 := Scalar.addi v178 v159
  let c8_i32_71 : BitVec 32 := 8#32
  let v181 : BitVec 32 := Scalar.addi v180 c8_i32_71
  let c1_i32_72 : BitVec 32 := 1#32
  let v182 : BitVec 32 := Scalar.subi v181 c1_i32_72
  let c0_i32_74 : BitVec 32 := 0#32
  let v184 : BitVec 1 := Scalar.cmpi .sgt v182 c0_i32_74
  let v185 : BitVec 32 := Scalar.extui v184
  let c0_i32_75 : BitVec 32 := 0#32
  let v186 : BitVec 1 := Scalar.cmpi .slt v182 c0_i32_75
  let v187 : BitVec 32 := Scalar.extui v186
  let v188 : BitVec 32 := Scalar.subi v185 v187
  let c8_i32_73 : BitVec 32 := 8#32
  let c0_i32_76 : BitVec 32 := 0#32
  let v189 : BitVec 1 := Scalar.cmpi .sgt c8_i32_73 c0_i32_76
  let v190 : BitVec 32 := Scalar.extui v189
  let c0_i32_77 : BitVec 32 := 0#32
  let v191 : BitVec 1 := Scalar.cmpi .slt c8_i32_73 c0_i32_77
  let v192 : BitVec 32 := Scalar.extui v191
  let v193 : BitVec 32 := Scalar.subi v190 v192
  let v194 : BitVec 1 := Scalar.cmpi .ne v188 v193
  let v195 : BitVec 32 := Scalar.remsi v182 c8_i32_73
  let c0_i32_78 : BitVec 32 := 0#32
  let v196 : BitVec 1 := Scalar.cmpi .ne v195 c0_i32_78
  let v197 : BitVec 1 := Scalar.andi v194 v196
  let v183 : BitVec 32 := Scalar.divsi v182 c8_i32_73
  let c1_i32_79 : BitVec 32 := 1#32
  let v198 : BitVec 32 := Scalar.subi v183 c1_i32_79
  let v199 : BitVec 32 := Scalar.select v197 v198 v183
  let c0_i32_80 : BitVec 32 := 0#32
  let v200 : BitVec 32 := Scalar.select v179 v199 c0_i32_80
  let v203 : BitVec 32 := Scalar.addi v152 v200
  let c8_i32_211 : BitVec 32 := 8#32
  let v599 : BitVec 32 := Scalar.muli v203 c8_i32_211
  v599
def k0_off63 (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) : (Fin 2 → Nat) × (Fin 2 → Nat) :=
  let c0_i32_18 : BitVec 32 := 0#32
  let v26 : BitVec 1 := Scalar.cmpi .sgt v2 v1
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let v50 : BitVec 32 := Scalar.addi c0_i32_18 v47
  let v77 : BitVec 1 := Scalar.cmpi .sgt v53 v52
  let c0_i32_22 : BitVec 32 := 0#32
  let v59 : BitVec 1 := Scalar.cmpi .sgt v55 c0_i32_22
  let v60 : BitVec 32 := Scalar.extui v59
  let c0_i32_23 : BitVec 32 := 0#32
  let v61 : BitVec 1 := Scalar.cmpi .slt v55 c0_i32_23
  let v62 : BitVec 32 := Scalar.extui v61
  let v63 : BitVec 32 := Scalar.subi v60 v62
  let c8_i32_21 : BitVec 32 := 8#32
  let c0_i32_24 : BitVec 32 := 0#32
  let v64 : BitVec 1 := Scalar.cmpi .sgt c8_i32_21 c0_i32_24
  let v65 : BitVec 32 := Scalar.extui v64
  let c0_i32_25 : BitVec 32 := 0#32
  let v66 : BitVec 1 := Scalar.cmpi .slt c8_i32_21 c0_i32_25
  let v67 : BitVec 32 := Scalar.extui v66
  let v68 : BitVec 32 := Scalar.subi v65 v67
  let v69 : BitVec 1 := Scalar.cmpi .ne v63 v68
  let v70 : BitVec 32 := Scalar.remsi v55 c8_i32_21
  let c0_i32_26 : BitVec 32 := 0#32
  let v71 : BitVec 1 := Scalar.cmpi .ne v70 c0_i32_26
  let v72 : BitVec 1 := Scalar.andi v69 v71
  let v58 : BitVec 32 := Scalar.divsi v55 c8_i32_21
  let c1_i32_27 : BitVec 32 := 1#32
  let v73 : BitVec 32 := Scalar.subi v58 c1_i32_27
  let v74 : BitVec 32 := Scalar.select v72 v73 v58
  let c8_i32_28 : BitVec 32 := 8#32
  let v75 : BitVec 32 := Scalar.muli v74 c8_i32_28
  let v76 : BitVec 32 := Scalar.subi v55 v75
  let v78 : BitVec 32 := Scalar.addi v76 v57
  let c8_i32_29 : BitVec 32 := 8#32
  let v79 : BitVec 32 := Scalar.addi v78 c8_i32_29
  let c1_i32_30 : BitVec 32 := 1#32
  let v80 : BitVec 32 := Scalar.subi v79 c1_i32_30
  let c0_i32_32 : BitVec 32 := 0#32
  let v82 : BitVec 1 := Scalar.cmpi .sgt v80 c0_i32_32
  let v83 : BitVec 32 := Scalar.extui v82
  let c0_i32_33 : BitVec 32 := 0#32
  let v84 : BitVec 1 := Scalar.cmpi .slt v80 c0_i32_33
  let v85 : BitVec 32 := Scalar.extui v84
  let v86 : BitVec 32 := Scalar.subi v83 v85
  let c8_i32_31 : BitVec 32 := 8#32
  let c0_i32_34 : BitVec 32 := 0#32
  let v87 : BitVec 1 := Scalar.cmpi .sgt c8_i32_31 c0_i32_34
  let v88 : BitVec 32 := Scalar.extui v87
  let c0_i32_35 : BitVec 32 := 0#32
  let v89 : BitVec 1 := Scalar.cmpi .slt c8_i32_31 c0_i32_35
  let v90 : BitVec 32 := Scalar.extui v89
  let v91 : BitVec 32 := Scalar.subi v88 v90
  let v92 : BitVec 1 := Scalar.cmpi .ne v86 v91
  let v93 : BitVec 32 := Scalar.remsi v80 c8_i32_31
  let c0_i32_36 : BitVec 32 := 0#32
  let v94 : BitVec 1 := Scalar.cmpi .ne v93 c0_i32_36
  let v95 : BitVec 1 := Scalar.andi v92 v94
  let v81 : BitVec 32 := Scalar.divsi v80 c8_i32_31
  let c1_i32_37 : BitVec 32 := 1#32
  let v96 : BitVec 32 := Scalar.subi v81 c1_i32_37
  let v97 : BitVec 32 := Scalar.select v95 v96 v81
  let c0_i32_38 : BitVec 32 := 0#32
  let v98 : BitVec 32 := Scalar.select v77 v97 c0_i32_38
  let v101 : BitVec 32 := Scalar.addi v50 v98
  let v128 : BitVec 1 := Scalar.cmpi .sgt v104 v103
  let c0_i32_43 : BitVec 32 := 0#32
  let v110 : BitVec 1 := Scalar.cmpi .sgt v106 c0_i32_43
  let v111 : BitVec 32 := Scalar.extui v110
  let c0_i32_44 : BitVec 32 := 0#32
  let v112 : BitVec 1 := Scalar.cmpi .slt v106 c0_i32_44
  let v113 : BitVec 32 := Scalar.extui v112
  let v114 : BitVec 32 := Scalar.subi v111 v113
  let c8_i32_42 : BitVec 32 := 8#32
  let c0_i32_45 : BitVec 32 := 0#32
  let v115 : BitVec 1 := Scalar.cmpi .sgt c8_i32_42 c0_i32_45
  let v116 : BitVec 32 := Scalar.extui v115
  let c0_i32_46 : BitVec 32 := 0#32
  let v117 : BitVec 1 := Scalar.cmpi .slt c8_i32_42 c0_i32_46
  let v118 : BitVec 32 := Scalar.extui v117
  let v119 : BitVec 32 := Scalar.subi v116 v118
  let v120 : BitVec 1 := Scalar.cmpi .ne v114 v119
  let v121 : BitVec 32 := Scalar.remsi v106 c8_i32_42
  let c0_i32_47 : BitVec 32 := 0#32
  let v122 : BitVec 1 := Scalar.cmpi .ne v121 c0_i32_47
  let v123 : BitVec 1 := Scalar.andi v120 v122
  let v109 : BitVec 32 := Scalar.divsi v106 c8_i32_42
  let c1_i32_48 : BitVec 32 := 1#32
  let v124 : BitVec 32 := Scalar.subi v109 c1_i32_48
  let v125 : BitVec 32 := Scalar.select v123 v124 v109
  let c8_i32_49 : BitVec 32 := 8#32
  let v126 : BitVec 32 := Scalar.muli v125 c8_i32_49
  let v127 : BitVec 32 := Scalar.subi v106 v126
  let v129 : BitVec 32 := Scalar.addi v127 v108
  let c8_i32_50 : BitVec 32 := 8#32
  let v130 : BitVec 32 := Scalar.addi v129 c8_i32_50
  let c1_i32_51 : BitVec 32 := 1#32
  let v131 : BitVec 32 := Scalar.subi v130 c1_i32_51
  let c0_i32_53 : BitVec 32 := 0#32
  let v133 : BitVec 1 := Scalar.cmpi .sgt v131 c0_i32_53
  let v134 : BitVec 32 := Scalar.extui v133
  let c0_i32_54 : BitVec 32 := 0#32
  let v135 : BitVec 1 := Scalar.cmpi .slt v131 c0_i32_54
  let v136 : BitVec 32 := Scalar.extui v135
  let v137 : BitVec 32 := Scalar.subi v134 v136
  let c8_i32_52 : BitVec 32 := 8#32
  let c0_i32_55 : BitVec 32 := 0#32
  let v138 : BitVec 1 := Scalar.cmpi .sgt c8_i32_52 c0_i32_55
  let v139 : BitVec 32 := Scalar.extui v138
  let c0_i32_56 : BitVec 32 := 0#32
  let v140 : BitVec 1 := Scalar.cmpi .slt c8_i32_52 c0_i32_56
  let v141 : BitVec 32 := Scalar.extui v140
  let v142 : BitVec 32 := Scalar.subi v139 v141
  let v143 : BitVec 1 := Scalar.cmpi .ne v137 v142
  let v144 : BitVec 32 := Scalar.remsi v131 c8_i32_52
  let c0_i32_57 : BitVec 32 := 0#32
  let v145 : BitVec 1 := Scalar.cmpi .ne v144 c0_i32_57
  let v146 : BitVec 1 := Scalar.andi v143 v145
  let v132 : BitVec 32 := Scalar.divsi v131 c8_i32_52
  let c1_i32_58 : BitVec 32 := 1#32
  let v147 : BitVec 32 := Scalar.subi v132 c1_i32_58
  let v148 : BitVec 32 := Scalar.select v146 v147 v132
  let c0_i32_59 : BitVec 32 := 0#32
  let v149 : BitVec 32 := Scalar.select v128 v148 c0_i32_59
  let v152 : BitVec 32 := Scalar.addi v101 v149
  let v179 : BitVec 1 := Scalar.cmpi .sgt v155 v154
  let c0_i32_64 : BitVec 32 := 0#32
  let v161 : BitVec 1 := Scalar.cmpi .sgt v157 c0_i32_64
  let v162 : BitVec 32 := Scalar.extui v161
  let c0_i32_65 : BitVec 32 := 0#32
  let v163 : BitVec 1 := Scalar.cmpi .slt v157 c0_i32_65
  let v164 : BitVec 32 := Scalar.extui v163
  let v165 : BitVec 32 := Scalar.subi v162 v164
  let c8_i32_63 : BitVec 32 := 8#32
  let c0_i32_66 : BitVec 32 := 0#32
  let v166 : BitVec 1 := Scalar.cmpi .sgt c8_i32_63 c0_i32_66
  let v167 : BitVec 32 := Scalar.extui v166
  let c0_i32_67 : BitVec 32 := 0#32
  let v168 : BitVec 1 := Scalar.cmpi .slt c8_i32_63 c0_i32_67
  let v169 : BitVec 32 := Scalar.extui v168
  let v170 : BitVec 32 := Scalar.subi v167 v169
  let v171 : BitVec 1 := Scalar.cmpi .ne v165 v170
  let v172 : BitVec 32 := Scalar.remsi v157 c8_i32_63
  let c0_i32_68 : BitVec 32 := 0#32
  let v173 : BitVec 1 := Scalar.cmpi .ne v172 c0_i32_68
  let v174 : BitVec 1 := Scalar.andi v171 v173
  let v160 : BitVec 32 := Scalar.divsi v157 c8_i32_63
  let c1_i32_69 : BitVec 32 := 1#32
  let v175 : BitVec 32 := Scalar.subi v160 c1_i32_69
  let v176 : BitVec 32 := Scalar.select v174 v175 v160
  let c8_i32_70 : BitVec 32 := 8#32
  let v177 : BitVec 32 := Scalar.muli v176 c8_i32_70
  let v178 : BitVec 32 := Scalar.subi v157 v177
  let v180 : BitVec 32 := Scalar.addi v178 v159
  let c8_i32_71 : BitVec 32 := 8#32
  let v181 : BitVec 32 := Scalar.addi v180 c8_i32_71
  let c1_i32_72 : BitVec 32 := 1#32
  let v182 : BitVec 32 := Scalar.subi v181 c1_i32_72
  let c0_i32_74 : BitVec 32 := 0#32
  let v184 : BitVec 1 := Scalar.cmpi .sgt v182 c0_i32_74
  let v185 : BitVec 32 := Scalar.extui v184
  let c0_i32_75 : BitVec 32 := 0#32
  let v186 : BitVec 1 := Scalar.cmpi .slt v182 c0_i32_75
  let v187 : BitVec 32 := Scalar.extui v186
  let v188 : BitVec 32 := Scalar.subi v185 v187
  let c8_i32_73 : BitVec 32 := 8#32
  let c0_i32_76 : BitVec 32 := 0#32
  let v189 : BitVec 1 := Scalar.cmpi .sgt c8_i32_73 c0_i32_76
  let v190 : BitVec 32 := Scalar.extui v189
  let c0_i32_77 : BitVec 32 := 0#32
  let v191 : BitVec 1 := Scalar.cmpi .slt c8_i32_73 c0_i32_77
  let v192 : BitVec 32 := Scalar.extui v191
  let v193 : BitVec 32 := Scalar.subi v190 v192
  let v194 : BitVec 1 := Scalar.cmpi .ne v188 v193
  let v195 : BitVec 32 := Scalar.remsi v182 c8_i32_73
  let c0_i32_78 : BitVec 32 := 0#32
  let v196 : BitVec 1 := Scalar.cmpi .ne v195 c0_i32_78
  let v197 : BitVec 1 := Scalar.andi v194 v196
  let v183 : BitVec 32 := Scalar.divsi v182 c8_i32_73
  let c1_i32_79 : BitVec 32 := 1#32
  let v198 : BitVec 32 := Scalar.subi v183 c1_i32_79
  let v199 : BitVec 32 := Scalar.select v197 v198 v183
  let c0_i32_80 : BitVec 32 := 0#32
  let v200 : BitVec 32 := Scalar.select v179 v199 c0_i32_80
  let v203 : BitVec 32 := Scalar.addi v152 v200
  let c8_i32_211 : BitVec 32 := 8#32
  let v599 : BitVec 32 := Scalar.muli v203 c8_i32_211
  let v600 : BitVec 32 := v599
  let c0_i32_213 : BitVec 32 := 0#32
  let v230 : BitVec 1 := Scalar.cmpi .sgt v206 v205
  let c0_i32_85 : BitVec 32 := 0#32
  let v212 : BitVec 1 := Scalar.cmpi .sgt v208 c0_i32_85
  let v213 : BitVec 32 := Scalar.extui v212
  let c0_i32_86 : BitVec 32 := 0#32
  let v214 : BitVec 1 := Scalar.cmpi .slt v208 c0_i32_86
  let v215 : BitVec 32 := Scalar.extui v214
  let v216 : BitVec 32 := Scalar.subi v213 v215
  let c8_i32_84 : BitVec 32 := 8#32
  let c0_i32_87 : BitVec 32 := 0#32
  let v217 : BitVec 1 := Scalar.cmpi .sgt c8_i32_84 c0_i32_87
  let v218 : BitVec 32 := Scalar.extui v217
  let c0_i32_88 : BitVec 32 := 0#32
  let v219 : BitVec 1 := Scalar.cmpi .slt c8_i32_84 c0_i32_88
  let v220 : BitVec 32 := Scalar.extui v219
  let v221 : BitVec 32 := Scalar.subi v218 v220
  let v222 : BitVec 1 := Scalar.cmpi .ne v216 v221
  let v223 : BitVec 32 := Scalar.remsi v208 c8_i32_84
  let c0_i32_89 : BitVec 32 := 0#32
  let v224 : BitVec 1 := Scalar.cmpi .ne v223 c0_i32_89
  let v225 : BitVec 1 := Scalar.andi v222 v224
  let v211 : BitVec 32 := Scalar.divsi v208 c8_i32_84
  let c1_i32_90 : BitVec 32 := 1#32
  let v226 : BitVec 32 := Scalar.subi v211 c1_i32_90
  let v227 : BitVec 32 := Scalar.select v225 v226 v211
  let c8_i32_91 : BitVec 32 := 8#32
  let v228 : BitVec 32 := Scalar.muli v227 c8_i32_91
  let v229 : BitVec 32 := Scalar.subi v208 v228
  let v231 : BitVec 32 := Scalar.addi v229 v210
  let c8_i32_92 : BitVec 32 := 8#32
  let v232 : BitVec 32 := Scalar.addi v231 c8_i32_92
  let c1_i32_93 : BitVec 32 := 1#32
  let v233 : BitVec 32 := Scalar.subi v232 c1_i32_93
  let c0_i32_95 : BitVec 32 := 0#32
  let v235 : BitVec 1 := Scalar.cmpi .sgt v233 c0_i32_95
  let v236 : BitVec 32 := Scalar.extui v235
  let c0_i32_96 : BitVec 32 := 0#32
  let v237 : BitVec 1 := Scalar.cmpi .slt v233 c0_i32_96
  let v238 : BitVec 32 := Scalar.extui v237
  let v239 : BitVec 32 := Scalar.subi v236 v238
  let c8_i32_94 : BitVec 32 := 8#32
  let c0_i32_97 : BitVec 32 := 0#32
  let v240 : BitVec 1 := Scalar.cmpi .sgt c8_i32_94 c0_i32_97
  let v241 : BitVec 32 := Scalar.extui v240
  let c0_i32_98 : BitVec 32 := 0#32
  let v242 : BitVec 1 := Scalar.cmpi .slt c8_i32_94 c0_i32_98
  let v243 : BitVec 32 := Scalar.extui v242
  let v244 : BitVec 32 := Scalar.subi v241 v243
  let v245 : BitVec 1 := Scalar.cmpi .ne v239 v244
  let v246 : BitVec 32 := Scalar.remsi v233 c8_i32_94
  let c0_i32_99 : BitVec 32 := 0#32
  let v247 : BitVec 1 := Scalar.cmpi .ne v246 c0_i32_99
  let v248 : BitVec 1 := Scalar.andi v245 v247
  let v234 : BitVec 32 := Scalar.divsi v233 c8_i32_94
  let c1_i32_100 : BitVec 32 := 1#32
  let v249 : BitVec 32 := Scalar.subi v234 c1_i32_100
  let v250 : BitVec 32 := Scalar.select v248 v249 v234
  let c0_i32_101 : BitVec 32 := 0#32
  let v251 : BitVec 32 := Scalar.select v230 v250 c0_i32_101
  let c8_i32_209 : BitVec 32 := 8#32
  let v595 : BitVec 32 := Scalar.muli v251 c8_i32_209
  let v596 : BitVec 32 := v595
  ⟨![v600.toNat, 0], ![v596.toNat, 4096]⟩

def k0_off64 (v205 : BitVec 32) (v206 : BitVec 32) (v208 : BitVec 32) (v210 : BitVec 32) : (Fin 2 → Nat) × (Fin 2 → Nat) :=
  let c0_i32_85 : BitVec 32 := 0#32
  let v212 : BitVec 1 := Scalar.cmpi .sgt v208 c0_i32_85
  let v213 : BitVec 32 := Scalar.extui v212
  let c0_i32_86 : BitVec 32 := 0#32
  let v214 : BitVec 1 := Scalar.cmpi .slt v208 c0_i32_86
  let v215 : BitVec 32 := Scalar.extui v214
  let v216 : BitVec 32 := Scalar.subi v213 v215
  let c8_i32_84 : BitVec 32 := 8#32
  let c0_i32_87 : BitVec 32 := 0#32
  let v217 : BitVec 1 := Scalar.cmpi .sgt c8_i32_84 c0_i32_87
  let v218 : BitVec 32 := Scalar.extui v217
  let c0_i32_88 : BitVec 32 := 0#32
  let v219 : BitVec 1 := Scalar.cmpi .slt c8_i32_84 c0_i32_88
  let v220 : BitVec 32 := Scalar.extui v219
  let v221 : BitVec 32 := Scalar.subi v218 v220
  let v222 : BitVec 1 := Scalar.cmpi .ne v216 v221
  let v223 : BitVec 32 := Scalar.remsi v208 c8_i32_84
  let c0_i32_89 : BitVec 32 := 0#32
  let v224 : BitVec 1 := Scalar.cmpi .ne v223 c0_i32_89
  let v225 : BitVec 1 := Scalar.andi v222 v224
  let v211 : BitVec 32 := Scalar.divsi v208 c8_i32_84
  let c1_i32_90 : BitVec 32 := 1#32
  let v226 : BitVec 32 := Scalar.subi v211 c1_i32_90
  let v227 : BitVec 32 := Scalar.select v225 v226 v211
  let c8_i32_210 : BitVec 32 := 8#32
  let v597 : BitVec 32 := Scalar.muli v227 c8_i32_210
  let v598 : BitVec 32 := v597
  let c0_i32_214 : BitVec 32 := 0#32
  let v230 : BitVec 1 := Scalar.cmpi .sgt v206 v205
  let c8_i32_91 : BitVec 32 := 8#32
  let v228 : BitVec 32 := Scalar.muli v227 c8_i32_91
  let v229 : BitVec 32 := Scalar.subi v208 v228
  let v231 : BitVec 32 := Scalar.addi v229 v210
  let c8_i32_92 : BitVec 32 := 8#32
  let v232 : BitVec 32 := Scalar.addi v231 c8_i32_92
  let c1_i32_93 : BitVec 32 := 1#32
  let v233 : BitVec 32 := Scalar.subi v232 c1_i32_93
  let c0_i32_95 : BitVec 32 := 0#32
  let v235 : BitVec 1 := Scalar.cmpi .sgt v233 c0_i32_95
  let v236 : BitVec 32 := Scalar.extui v235
  let c0_i32_96 : BitVec 32 := 0#32
  let v237 : BitVec 1 := Scalar.cmpi .slt v233 c0_i32_96
  let v238 : BitVec 32 := Scalar.extui v237
  let v239 : BitVec 32 := Scalar.subi v236 v238
  let c8_i32_94 : BitVec 32 := 8#32
  let c0_i32_97 : BitVec 32 := 0#32
  let v240 : BitVec 1 := Scalar.cmpi .sgt c8_i32_94 c0_i32_97
  let v241 : BitVec 32 := Scalar.extui v240
  let c0_i32_98 : BitVec 32 := 0#32
  let v242 : BitVec 1 := Scalar.cmpi .slt c8_i32_94 c0_i32_98
  let v243 : BitVec 32 := Scalar.extui v242
  let v244 : BitVec 32 := Scalar.subi v241 v243
  let v245 : BitVec 1 := Scalar.cmpi .ne v239 v244
  let v246 : BitVec 32 := Scalar.remsi v233 c8_i32_94
  let c0_i32_99 : BitVec 32 := 0#32
  let v247 : BitVec 1 := Scalar.cmpi .ne v246 c0_i32_99
  let v248 : BitVec 1 := Scalar.andi v245 v247
  let v234 : BitVec 32 := Scalar.divsi v233 c8_i32_94
  let c1_i32_100 : BitVec 32 := 1#32
  let v249 : BitVec 32 := Scalar.subi v234 c1_i32_100
  let v250 : BitVec 32 := Scalar.select v248 v249 v234
  let c0_i32_101 : BitVec 32 := 0#32
  let v251 : BitVec 32 := Scalar.select v230 v250 c0_i32_101
  let c8_i32_209 : BitVec 32 := 8#32
  let v595 : BitVec 32 := Scalar.muli v251 c8_i32_209
  let v596 : BitVec 32 := v595
  ⟨![v598.toNat, 0], ![v596.toNat, 4096]⟩

def k0_mult82 (v256 : BitVec 32) (v257 : BitVec 32) (v259 : BitVec 32) (v261 : BitVec 32) : BitVec 32 :=
  let v281 : BitVec 1 := Scalar.cmpi .sgt v257 v256
  let c0_i32_106 : BitVec 32 := 0#32
  let v263 : BitVec 1 := Scalar.cmpi .sgt v259 c0_i32_106
  let v264 : BitVec 32 := Scalar.extui v263
  let c0_i32_107 : BitVec 32 := 0#32
  let v265 : BitVec 1 := Scalar.cmpi .slt v259 c0_i32_107
  let v266 : BitVec 32 := Scalar.extui v265
  let v267 : BitVec 32 := Scalar.subi v264 v266
  let c8_i32_105 : BitVec 32 := 8#32
  let c0_i32_108 : BitVec 32 := 0#32
  let v268 : BitVec 1 := Scalar.cmpi .sgt c8_i32_105 c0_i32_108
  let v269 : BitVec 32 := Scalar.extui v268
  let c0_i32_109 : BitVec 32 := 0#32
  let v270 : BitVec 1 := Scalar.cmpi .slt c8_i32_105 c0_i32_109
  let v271 : BitVec 32 := Scalar.extui v270
  let v272 : BitVec 32 := Scalar.subi v269 v271
  let v273 : BitVec 1 := Scalar.cmpi .ne v267 v272
  let v274 : BitVec 32 := Scalar.remsi v259 c8_i32_105
  let c0_i32_110 : BitVec 32 := 0#32
  let v275 : BitVec 1 := Scalar.cmpi .ne v274 c0_i32_110
  let v276 : BitVec 1 := Scalar.andi v273 v275
  let v262 : BitVec 32 := Scalar.divsi v259 c8_i32_105
  let c1_i32_111 : BitVec 32 := 1#32
  let v277 : BitVec 32 := Scalar.subi v262 c1_i32_111
  let v278 : BitVec 32 := Scalar.select v276 v277 v262
  let c8_i32_112 : BitVec 32 := 8#32
  let v279 : BitVec 32 := Scalar.muli v278 c8_i32_112
  let v280 : BitVec 32 := Scalar.subi v259 v279
  let v282 : BitVec 32 := Scalar.addi v280 v261
  let c8_i32_113 : BitVec 32 := 8#32
  let v283 : BitVec 32 := Scalar.addi v282 c8_i32_113
  let c1_i32_114 : BitVec 32 := 1#32
  let v284 : BitVec 32 := Scalar.subi v283 c1_i32_114
  let c0_i32_116 : BitVec 32 := 0#32
  let v286 : BitVec 1 := Scalar.cmpi .sgt v284 c0_i32_116
  let v287 : BitVec 32 := Scalar.extui v286
  let c0_i32_117 : BitVec 32 := 0#32
  let v288 : BitVec 1 := Scalar.cmpi .slt v284 c0_i32_117
  let v289 : BitVec 32 := Scalar.extui v288
  let v290 : BitVec 32 := Scalar.subi v287 v289
  let c8_i32_115 : BitVec 32 := 8#32
  let c0_i32_118 : BitVec 32 := 0#32
  let v291 : BitVec 1 := Scalar.cmpi .sgt c8_i32_115 c0_i32_118
  let v292 : BitVec 32 := Scalar.extui v291
  let c0_i32_119 : BitVec 32 := 0#32
  let v293 : BitVec 1 := Scalar.cmpi .slt c8_i32_115 c0_i32_119
  let v294 : BitVec 32 := Scalar.extui v293
  let v295 : BitVec 32 := Scalar.subi v292 v294
  let v296 : BitVec 1 := Scalar.cmpi .ne v290 v295
  let v297 : BitVec 32 := Scalar.remsi v284 c8_i32_115
  let c0_i32_120 : BitVec 32 := 0#32
  let v298 : BitVec 1 := Scalar.cmpi .ne v297 c0_i32_120
  let v299 : BitVec 1 := Scalar.andi v296 v298
  let v285 : BitVec 32 := Scalar.divsi v284 c8_i32_115
  let c1_i32_121 : BitVec 32 := 1#32
  let v300 : BitVec 32 := Scalar.subi v285 c1_i32_121
  let v301 : BitVec 32 := Scalar.select v299 v300 v285
  let c0_i32_122 : BitVec 32 := 0#32
  let v302 : BitVec 32 := Scalar.select v281 v301 c0_i32_122
  let c8_i32_209 : BitVec 32 := 8#32
  let v595 : BitVec 32 := Scalar.muli v302 c8_i32_209
  v595
def k0_cond27 (v256 : BitVec 32) (v257 : BitVec 32) (v259 : BitVec 32) (v261 : BitVec 32) : BitVec 1 :=
  let v281 : BitVec 1 := Scalar.cmpi .sgt v257 v256
  let c0_i32_106 : BitVec 32 := 0#32
  let v263 : BitVec 1 := Scalar.cmpi .sgt v259 c0_i32_106
  let v264 : BitVec 32 := Scalar.extui v263
  let c0_i32_107 : BitVec 32 := 0#32
  let v265 : BitVec 1 := Scalar.cmpi .slt v259 c0_i32_107
  let v266 : BitVec 32 := Scalar.extui v265
  let v267 : BitVec 32 := Scalar.subi v264 v266
  let c8_i32_105 : BitVec 32 := 8#32
  let c0_i32_108 : BitVec 32 := 0#32
  let v268 : BitVec 1 := Scalar.cmpi .sgt c8_i32_105 c0_i32_108
  let v269 : BitVec 32 := Scalar.extui v268
  let c0_i32_109 : BitVec 32 := 0#32
  let v270 : BitVec 1 := Scalar.cmpi .slt c8_i32_105 c0_i32_109
  let v271 : BitVec 32 := Scalar.extui v270
  let v272 : BitVec 32 := Scalar.subi v269 v271
  let v273 : BitVec 1 := Scalar.cmpi .ne v267 v272
  let v274 : BitVec 32 := Scalar.remsi v259 c8_i32_105
  let c0_i32_110 : BitVec 32 := 0#32
  let v275 : BitVec 1 := Scalar.cmpi .ne v274 c0_i32_110
  let v276 : BitVec 1 := Scalar.andi v273 v275
  let v262 : BitVec 32 := Scalar.divsi v259 c8_i32_105
  let c1_i32_111 : BitVec 32 := 1#32
  let v277 : BitVec 32 := Scalar.subi v262 c1_i32_111
  let v278 : BitVec 32 := Scalar.select v276 v277 v262
  let c8_i32_112 : BitVec 32 := 8#32
  let v279 : BitVec 32 := Scalar.muli v278 c8_i32_112
  let v280 : BitVec 32 := Scalar.subi v259 v279
  let v282 : BitVec 32 := Scalar.addi v280 v261
  let c8_i32_113 : BitVec 32 := 8#32
  let v283 : BitVec 32 := Scalar.addi v282 c8_i32_113
  let c1_i32_114 : BitVec 32 := 1#32
  let v284 : BitVec 32 := Scalar.subi v283 c1_i32_114
  let c0_i32_116 : BitVec 32 := 0#32
  let v286 : BitVec 1 := Scalar.cmpi .sgt v284 c0_i32_116
  let v287 : BitVec 32 := Scalar.extui v286
  let c0_i32_117 : BitVec 32 := 0#32
  let v288 : BitVec 1 := Scalar.cmpi .slt v284 c0_i32_117
  let v289 : BitVec 32 := Scalar.extui v288
  let v290 : BitVec 32 := Scalar.subi v287 v289
  let c8_i32_115 : BitVec 32 := 8#32
  let c0_i32_118 : BitVec 32 := 0#32
  let v291 : BitVec 1 := Scalar.cmpi .sgt c8_i32_115 c0_i32_118
  let v292 : BitVec 32 := Scalar.extui v291
  let c0_i32_119 : BitVec 32 := 0#32
  let v293 : BitVec 1 := Scalar.cmpi .slt c8_i32_115 c0_i32_119
  let v294 : BitVec 32 := Scalar.extui v293
  let v295 : BitVec 32 := Scalar.subi v292 v294
  let v296 : BitVec 1 := Scalar.cmpi .ne v290 v295
  let v297 : BitVec 32 := Scalar.remsi v284 c8_i32_115
  let c0_i32_120 : BitVec 32 := 0#32
  let v298 : BitVec 1 := Scalar.cmpi .ne v297 c0_i32_120
  let v299 : BitVec 1 := Scalar.andi v296 v298
  let v285 : BitVec 32 := Scalar.divsi v284 c8_i32_115
  let c1_i32_121 : BitVec 32 := 1#32
  let v300 : BitVec 32 := Scalar.subi v285 c1_i32_121
  let v301 : BitVec 32 := Scalar.select v299 v300 v285
  let c0_i32_122 : BitVec 32 := 0#32
  let v302 : BitVec 32 := Scalar.select v281 v301 c0_i32_122
  let c0_i32_185 : BitVec 32 := 0#32
  let v421 : BitVec 1 := Scalar.cmpi .sgt v302 c0_i32_185
  let v422 : BitVec 32 := Scalar.extui v421
  let c0_i32_186 : BitVec 32 := 0#32
  let v423 : BitVec 1 := Scalar.cmpi .ne v422 c0_i32_186
  v423

def k0_mult83 (v259 : BitVec 32) : BitVec 32 :=
  let c0_i32_106 : BitVec 32 := 0#32
  let v263 : BitVec 1 := Scalar.cmpi .sgt v259 c0_i32_106
  let v264 : BitVec 32 := Scalar.extui v263
  let c0_i32_107 : BitVec 32 := 0#32
  let v265 : BitVec 1 := Scalar.cmpi .slt v259 c0_i32_107
  let v266 : BitVec 32 := Scalar.extui v265
  let v267 : BitVec 32 := Scalar.subi v264 v266
  let c8_i32_105 : BitVec 32 := 8#32
  let c0_i32_108 : BitVec 32 := 0#32
  let v268 : BitVec 1 := Scalar.cmpi .sgt c8_i32_105 c0_i32_108
  let v269 : BitVec 32 := Scalar.extui v268
  let c0_i32_109 : BitVec 32 := 0#32
  let v270 : BitVec 1 := Scalar.cmpi .slt c8_i32_105 c0_i32_109
  let v271 : BitVec 32 := Scalar.extui v270
  let v272 : BitVec 32 := Scalar.subi v269 v271
  let v273 : BitVec 1 := Scalar.cmpi .ne v267 v272
  let v274 : BitVec 32 := Scalar.remsi v259 c8_i32_105
  let c0_i32_110 : BitVec 32 := 0#32
  let v275 : BitVec 1 := Scalar.cmpi .ne v274 c0_i32_110
  let v276 : BitVec 1 := Scalar.andi v273 v275
  let v262 : BitVec 32 := Scalar.divsi v259 c8_i32_105
  let c1_i32_111 : BitVec 32 := 1#32
  let v277 : BitVec 32 := Scalar.subi v262 c1_i32_111
  let v278 : BitVec 32 := Scalar.select v276 v277 v262
  let c8_i32_210 : BitVec 32 := 8#32
  let v597 : BitVec 32 := Scalar.muli v278 c8_i32_210
  v597
def k0_mult84 (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) : BitVec 32 :=
  let c0_i32_18 : BitVec 32 := 0#32
  let v26 : BitVec 1 := Scalar.cmpi .sgt v2 v1
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let v50 : BitVec 32 := Scalar.addi c0_i32_18 v47
  let v77 : BitVec 1 := Scalar.cmpi .sgt v53 v52
  let c0_i32_22 : BitVec 32 := 0#32
  let v59 : BitVec 1 := Scalar.cmpi .sgt v55 c0_i32_22
  let v60 : BitVec 32 := Scalar.extui v59
  let c0_i32_23 : BitVec 32 := 0#32
  let v61 : BitVec 1 := Scalar.cmpi .slt v55 c0_i32_23
  let v62 : BitVec 32 := Scalar.extui v61
  let v63 : BitVec 32 := Scalar.subi v60 v62
  let c8_i32_21 : BitVec 32 := 8#32
  let c0_i32_24 : BitVec 32 := 0#32
  let v64 : BitVec 1 := Scalar.cmpi .sgt c8_i32_21 c0_i32_24
  let v65 : BitVec 32 := Scalar.extui v64
  let c0_i32_25 : BitVec 32 := 0#32
  let v66 : BitVec 1 := Scalar.cmpi .slt c8_i32_21 c0_i32_25
  let v67 : BitVec 32 := Scalar.extui v66
  let v68 : BitVec 32 := Scalar.subi v65 v67
  let v69 : BitVec 1 := Scalar.cmpi .ne v63 v68
  let v70 : BitVec 32 := Scalar.remsi v55 c8_i32_21
  let c0_i32_26 : BitVec 32 := 0#32
  let v71 : BitVec 1 := Scalar.cmpi .ne v70 c0_i32_26
  let v72 : BitVec 1 := Scalar.andi v69 v71
  let v58 : BitVec 32 := Scalar.divsi v55 c8_i32_21
  let c1_i32_27 : BitVec 32 := 1#32
  let v73 : BitVec 32 := Scalar.subi v58 c1_i32_27
  let v74 : BitVec 32 := Scalar.select v72 v73 v58
  let c8_i32_28 : BitVec 32 := 8#32
  let v75 : BitVec 32 := Scalar.muli v74 c8_i32_28
  let v76 : BitVec 32 := Scalar.subi v55 v75
  let v78 : BitVec 32 := Scalar.addi v76 v57
  let c8_i32_29 : BitVec 32 := 8#32
  let v79 : BitVec 32 := Scalar.addi v78 c8_i32_29
  let c1_i32_30 : BitVec 32 := 1#32
  let v80 : BitVec 32 := Scalar.subi v79 c1_i32_30
  let c0_i32_32 : BitVec 32 := 0#32
  let v82 : BitVec 1 := Scalar.cmpi .sgt v80 c0_i32_32
  let v83 : BitVec 32 := Scalar.extui v82
  let c0_i32_33 : BitVec 32 := 0#32
  let v84 : BitVec 1 := Scalar.cmpi .slt v80 c0_i32_33
  let v85 : BitVec 32 := Scalar.extui v84
  let v86 : BitVec 32 := Scalar.subi v83 v85
  let c8_i32_31 : BitVec 32 := 8#32
  let c0_i32_34 : BitVec 32 := 0#32
  let v87 : BitVec 1 := Scalar.cmpi .sgt c8_i32_31 c0_i32_34
  let v88 : BitVec 32 := Scalar.extui v87
  let c0_i32_35 : BitVec 32 := 0#32
  let v89 : BitVec 1 := Scalar.cmpi .slt c8_i32_31 c0_i32_35
  let v90 : BitVec 32 := Scalar.extui v89
  let v91 : BitVec 32 := Scalar.subi v88 v90
  let v92 : BitVec 1 := Scalar.cmpi .ne v86 v91
  let v93 : BitVec 32 := Scalar.remsi v80 c8_i32_31
  let c0_i32_36 : BitVec 32 := 0#32
  let v94 : BitVec 1 := Scalar.cmpi .ne v93 c0_i32_36
  let v95 : BitVec 1 := Scalar.andi v92 v94
  let v81 : BitVec 32 := Scalar.divsi v80 c8_i32_31
  let c1_i32_37 : BitVec 32 := 1#32
  let v96 : BitVec 32 := Scalar.subi v81 c1_i32_37
  let v97 : BitVec 32 := Scalar.select v95 v96 v81
  let c0_i32_38 : BitVec 32 := 0#32
  let v98 : BitVec 32 := Scalar.select v77 v97 c0_i32_38
  let v101 : BitVec 32 := Scalar.addi v50 v98
  let v128 : BitVec 1 := Scalar.cmpi .sgt v104 v103
  let c0_i32_43 : BitVec 32 := 0#32
  let v110 : BitVec 1 := Scalar.cmpi .sgt v106 c0_i32_43
  let v111 : BitVec 32 := Scalar.extui v110
  let c0_i32_44 : BitVec 32 := 0#32
  let v112 : BitVec 1 := Scalar.cmpi .slt v106 c0_i32_44
  let v113 : BitVec 32 := Scalar.extui v112
  let v114 : BitVec 32 := Scalar.subi v111 v113
  let c8_i32_42 : BitVec 32 := 8#32
  let c0_i32_45 : BitVec 32 := 0#32
  let v115 : BitVec 1 := Scalar.cmpi .sgt c8_i32_42 c0_i32_45
  let v116 : BitVec 32 := Scalar.extui v115
  let c0_i32_46 : BitVec 32 := 0#32
  let v117 : BitVec 1 := Scalar.cmpi .slt c8_i32_42 c0_i32_46
  let v118 : BitVec 32 := Scalar.extui v117
  let v119 : BitVec 32 := Scalar.subi v116 v118
  let v120 : BitVec 1 := Scalar.cmpi .ne v114 v119
  let v121 : BitVec 32 := Scalar.remsi v106 c8_i32_42
  let c0_i32_47 : BitVec 32 := 0#32
  let v122 : BitVec 1 := Scalar.cmpi .ne v121 c0_i32_47
  let v123 : BitVec 1 := Scalar.andi v120 v122
  let v109 : BitVec 32 := Scalar.divsi v106 c8_i32_42
  let c1_i32_48 : BitVec 32 := 1#32
  let v124 : BitVec 32 := Scalar.subi v109 c1_i32_48
  let v125 : BitVec 32 := Scalar.select v123 v124 v109
  let c8_i32_49 : BitVec 32 := 8#32
  let v126 : BitVec 32 := Scalar.muli v125 c8_i32_49
  let v127 : BitVec 32 := Scalar.subi v106 v126
  let v129 : BitVec 32 := Scalar.addi v127 v108
  let c8_i32_50 : BitVec 32 := 8#32
  let v130 : BitVec 32 := Scalar.addi v129 c8_i32_50
  let c1_i32_51 : BitVec 32 := 1#32
  let v131 : BitVec 32 := Scalar.subi v130 c1_i32_51
  let c0_i32_53 : BitVec 32 := 0#32
  let v133 : BitVec 1 := Scalar.cmpi .sgt v131 c0_i32_53
  let v134 : BitVec 32 := Scalar.extui v133
  let c0_i32_54 : BitVec 32 := 0#32
  let v135 : BitVec 1 := Scalar.cmpi .slt v131 c0_i32_54
  let v136 : BitVec 32 := Scalar.extui v135
  let v137 : BitVec 32 := Scalar.subi v134 v136
  let c8_i32_52 : BitVec 32 := 8#32
  let c0_i32_55 : BitVec 32 := 0#32
  let v138 : BitVec 1 := Scalar.cmpi .sgt c8_i32_52 c0_i32_55
  let v139 : BitVec 32 := Scalar.extui v138
  let c0_i32_56 : BitVec 32 := 0#32
  let v140 : BitVec 1 := Scalar.cmpi .slt c8_i32_52 c0_i32_56
  let v141 : BitVec 32 := Scalar.extui v140
  let v142 : BitVec 32 := Scalar.subi v139 v141
  let v143 : BitVec 1 := Scalar.cmpi .ne v137 v142
  let v144 : BitVec 32 := Scalar.remsi v131 c8_i32_52
  let c0_i32_57 : BitVec 32 := 0#32
  let v145 : BitVec 1 := Scalar.cmpi .ne v144 c0_i32_57
  let v146 : BitVec 1 := Scalar.andi v143 v145
  let v132 : BitVec 32 := Scalar.divsi v131 c8_i32_52
  let c1_i32_58 : BitVec 32 := 1#32
  let v147 : BitVec 32 := Scalar.subi v132 c1_i32_58
  let v148 : BitVec 32 := Scalar.select v146 v147 v132
  let c0_i32_59 : BitVec 32 := 0#32
  let v149 : BitVec 32 := Scalar.select v128 v148 c0_i32_59
  let v152 : BitVec 32 := Scalar.addi v101 v149
  let v179 : BitVec 1 := Scalar.cmpi .sgt v155 v154
  let c0_i32_64 : BitVec 32 := 0#32
  let v161 : BitVec 1 := Scalar.cmpi .sgt v157 c0_i32_64
  let v162 : BitVec 32 := Scalar.extui v161
  let c0_i32_65 : BitVec 32 := 0#32
  let v163 : BitVec 1 := Scalar.cmpi .slt v157 c0_i32_65
  let v164 : BitVec 32 := Scalar.extui v163
  let v165 : BitVec 32 := Scalar.subi v162 v164
  let c8_i32_63 : BitVec 32 := 8#32
  let c0_i32_66 : BitVec 32 := 0#32
  let v166 : BitVec 1 := Scalar.cmpi .sgt c8_i32_63 c0_i32_66
  let v167 : BitVec 32 := Scalar.extui v166
  let c0_i32_67 : BitVec 32 := 0#32
  let v168 : BitVec 1 := Scalar.cmpi .slt c8_i32_63 c0_i32_67
  let v169 : BitVec 32 := Scalar.extui v168
  let v170 : BitVec 32 := Scalar.subi v167 v169
  let v171 : BitVec 1 := Scalar.cmpi .ne v165 v170
  let v172 : BitVec 32 := Scalar.remsi v157 c8_i32_63
  let c0_i32_68 : BitVec 32 := 0#32
  let v173 : BitVec 1 := Scalar.cmpi .ne v172 c0_i32_68
  let v174 : BitVec 1 := Scalar.andi v171 v173
  let v160 : BitVec 32 := Scalar.divsi v157 c8_i32_63
  let c1_i32_69 : BitVec 32 := 1#32
  let v175 : BitVec 32 := Scalar.subi v160 c1_i32_69
  let v176 : BitVec 32 := Scalar.select v174 v175 v160
  let c8_i32_70 : BitVec 32 := 8#32
  let v177 : BitVec 32 := Scalar.muli v176 c8_i32_70
  let v178 : BitVec 32 := Scalar.subi v157 v177
  let v180 : BitVec 32 := Scalar.addi v178 v159
  let c8_i32_71 : BitVec 32 := 8#32
  let v181 : BitVec 32 := Scalar.addi v180 c8_i32_71
  let c1_i32_72 : BitVec 32 := 1#32
  let v182 : BitVec 32 := Scalar.subi v181 c1_i32_72
  let c0_i32_74 : BitVec 32 := 0#32
  let v184 : BitVec 1 := Scalar.cmpi .sgt v182 c0_i32_74
  let v185 : BitVec 32 := Scalar.extui v184
  let c0_i32_75 : BitVec 32 := 0#32
  let v186 : BitVec 1 := Scalar.cmpi .slt v182 c0_i32_75
  let v187 : BitVec 32 := Scalar.extui v186
  let v188 : BitVec 32 := Scalar.subi v185 v187
  let c8_i32_73 : BitVec 32 := 8#32
  let c0_i32_76 : BitVec 32 := 0#32
  let v189 : BitVec 1 := Scalar.cmpi .sgt c8_i32_73 c0_i32_76
  let v190 : BitVec 32 := Scalar.extui v189
  let c0_i32_77 : BitVec 32 := 0#32
  let v191 : BitVec 1 := Scalar.cmpi .slt c8_i32_73 c0_i32_77
  let v192 : BitVec 32 := Scalar.extui v191
  let v193 : BitVec 32 := Scalar.subi v190 v192
  let v194 : BitVec 1 := Scalar.cmpi .ne v188 v193
  let v195 : BitVec 32 := Scalar.remsi v182 c8_i32_73
  let c0_i32_78 : BitVec 32 := 0#32
  let v196 : BitVec 1 := Scalar.cmpi .ne v195 c0_i32_78
  let v197 : BitVec 1 := Scalar.andi v194 v196
  let v183 : BitVec 32 := Scalar.divsi v182 c8_i32_73
  let c1_i32_79 : BitVec 32 := 1#32
  let v198 : BitVec 32 := Scalar.subi v183 c1_i32_79
  let v199 : BitVec 32 := Scalar.select v197 v198 v183
  let c0_i32_80 : BitVec 32 := 0#32
  let v200 : BitVec 32 := Scalar.select v179 v199 c0_i32_80
  let v203 : BitVec 32 := Scalar.addi v152 v200
  let v230 : BitVec 1 := Scalar.cmpi .sgt v206 v205
  let c0_i32_85 : BitVec 32 := 0#32
  let v212 : BitVec 1 := Scalar.cmpi .sgt v208 c0_i32_85
  let v213 : BitVec 32 := Scalar.extui v212
  let c0_i32_86 : BitVec 32 := 0#32
  let v214 : BitVec 1 := Scalar.cmpi .slt v208 c0_i32_86
  let v215 : BitVec 32 := Scalar.extui v214
  let v216 : BitVec 32 := Scalar.subi v213 v215
  let c8_i32_84 : BitVec 32 := 8#32
  let c0_i32_87 : BitVec 32 := 0#32
  let v217 : BitVec 1 := Scalar.cmpi .sgt c8_i32_84 c0_i32_87
  let v218 : BitVec 32 := Scalar.extui v217
  let c0_i32_88 : BitVec 32 := 0#32
  let v219 : BitVec 1 := Scalar.cmpi .slt c8_i32_84 c0_i32_88
  let v220 : BitVec 32 := Scalar.extui v219
  let v221 : BitVec 32 := Scalar.subi v218 v220
  let v222 : BitVec 1 := Scalar.cmpi .ne v216 v221
  let v223 : BitVec 32 := Scalar.remsi v208 c8_i32_84
  let c0_i32_89 : BitVec 32 := 0#32
  let v224 : BitVec 1 := Scalar.cmpi .ne v223 c0_i32_89
  let v225 : BitVec 1 := Scalar.andi v222 v224
  let v211 : BitVec 32 := Scalar.divsi v208 c8_i32_84
  let c1_i32_90 : BitVec 32 := 1#32
  let v226 : BitVec 32 := Scalar.subi v211 c1_i32_90
  let v227 : BitVec 32 := Scalar.select v225 v226 v211
  let c8_i32_91 : BitVec 32 := 8#32
  let v228 : BitVec 32 := Scalar.muli v227 c8_i32_91
  let v229 : BitVec 32 := Scalar.subi v208 v228
  let v231 : BitVec 32 := Scalar.addi v229 v210
  let c8_i32_92 : BitVec 32 := 8#32
  let v232 : BitVec 32 := Scalar.addi v231 c8_i32_92
  let c1_i32_93 : BitVec 32 := 1#32
  let v233 : BitVec 32 := Scalar.subi v232 c1_i32_93
  let c0_i32_95 : BitVec 32 := 0#32
  let v235 : BitVec 1 := Scalar.cmpi .sgt v233 c0_i32_95
  let v236 : BitVec 32 := Scalar.extui v235
  let c0_i32_96 : BitVec 32 := 0#32
  let v237 : BitVec 1 := Scalar.cmpi .slt v233 c0_i32_96
  let v238 : BitVec 32 := Scalar.extui v237
  let v239 : BitVec 32 := Scalar.subi v236 v238
  let c8_i32_94 : BitVec 32 := 8#32
  let c0_i32_97 : BitVec 32 := 0#32
  let v240 : BitVec 1 := Scalar.cmpi .sgt c8_i32_94 c0_i32_97
  let v241 : BitVec 32 := Scalar.extui v240
  let c0_i32_98 : BitVec 32 := 0#32
  let v242 : BitVec 1 := Scalar.cmpi .slt c8_i32_94 c0_i32_98
  let v243 : BitVec 32 := Scalar.extui v242
  let v244 : BitVec 32 := Scalar.subi v241 v243
  let v245 : BitVec 1 := Scalar.cmpi .ne v239 v244
  let v246 : BitVec 32 := Scalar.remsi v233 c8_i32_94
  let c0_i32_99 : BitVec 32 := 0#32
  let v247 : BitVec 1 := Scalar.cmpi .ne v246 c0_i32_99
  let v248 : BitVec 1 := Scalar.andi v245 v247
  let v234 : BitVec 32 := Scalar.divsi v233 c8_i32_94
  let c1_i32_100 : BitVec 32 := 1#32
  let v249 : BitVec 32 := Scalar.subi v234 c1_i32_100
  let v250 : BitVec 32 := Scalar.select v248 v249 v234
  let c0_i32_101 : BitVec 32 := 0#32
  let v251 : BitVec 32 := Scalar.select v230 v250 c0_i32_101
  let v254 : BitVec 32 := Scalar.addi v203 v251
  let c8_i32_211 : BitVec 32 := 8#32
  let v599 : BitVec 32 := Scalar.muli v254 c8_i32_211
  v599
def k0_off65 (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) (v256 : BitVec 32) (v257 : BitVec 32) (v259 : BitVec 32) (v261 : BitVec 32) : (Fin 2 → Nat) × (Fin 2 → Nat) :=
  let c0_i32_18 : BitVec 32 := 0#32
  let v26 : BitVec 1 := Scalar.cmpi .sgt v2 v1
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let v50 : BitVec 32 := Scalar.addi c0_i32_18 v47
  let v77 : BitVec 1 := Scalar.cmpi .sgt v53 v52
  let c0_i32_22 : BitVec 32 := 0#32
  let v59 : BitVec 1 := Scalar.cmpi .sgt v55 c0_i32_22
  let v60 : BitVec 32 := Scalar.extui v59
  let c0_i32_23 : BitVec 32 := 0#32
  let v61 : BitVec 1 := Scalar.cmpi .slt v55 c0_i32_23
  let v62 : BitVec 32 := Scalar.extui v61
  let v63 : BitVec 32 := Scalar.subi v60 v62
  let c8_i32_21 : BitVec 32 := 8#32
  let c0_i32_24 : BitVec 32 := 0#32
  let v64 : BitVec 1 := Scalar.cmpi .sgt c8_i32_21 c0_i32_24
  let v65 : BitVec 32 := Scalar.extui v64
  let c0_i32_25 : BitVec 32 := 0#32
  let v66 : BitVec 1 := Scalar.cmpi .slt c8_i32_21 c0_i32_25
  let v67 : BitVec 32 := Scalar.extui v66
  let v68 : BitVec 32 := Scalar.subi v65 v67
  let v69 : BitVec 1 := Scalar.cmpi .ne v63 v68
  let v70 : BitVec 32 := Scalar.remsi v55 c8_i32_21
  let c0_i32_26 : BitVec 32 := 0#32
  let v71 : BitVec 1 := Scalar.cmpi .ne v70 c0_i32_26
  let v72 : BitVec 1 := Scalar.andi v69 v71
  let v58 : BitVec 32 := Scalar.divsi v55 c8_i32_21
  let c1_i32_27 : BitVec 32 := 1#32
  let v73 : BitVec 32 := Scalar.subi v58 c1_i32_27
  let v74 : BitVec 32 := Scalar.select v72 v73 v58
  let c8_i32_28 : BitVec 32 := 8#32
  let v75 : BitVec 32 := Scalar.muli v74 c8_i32_28
  let v76 : BitVec 32 := Scalar.subi v55 v75
  let v78 : BitVec 32 := Scalar.addi v76 v57
  let c8_i32_29 : BitVec 32 := 8#32
  let v79 : BitVec 32 := Scalar.addi v78 c8_i32_29
  let c1_i32_30 : BitVec 32 := 1#32
  let v80 : BitVec 32 := Scalar.subi v79 c1_i32_30
  let c0_i32_32 : BitVec 32 := 0#32
  let v82 : BitVec 1 := Scalar.cmpi .sgt v80 c0_i32_32
  let v83 : BitVec 32 := Scalar.extui v82
  let c0_i32_33 : BitVec 32 := 0#32
  let v84 : BitVec 1 := Scalar.cmpi .slt v80 c0_i32_33
  let v85 : BitVec 32 := Scalar.extui v84
  let v86 : BitVec 32 := Scalar.subi v83 v85
  let c8_i32_31 : BitVec 32 := 8#32
  let c0_i32_34 : BitVec 32 := 0#32
  let v87 : BitVec 1 := Scalar.cmpi .sgt c8_i32_31 c0_i32_34
  let v88 : BitVec 32 := Scalar.extui v87
  let c0_i32_35 : BitVec 32 := 0#32
  let v89 : BitVec 1 := Scalar.cmpi .slt c8_i32_31 c0_i32_35
  let v90 : BitVec 32 := Scalar.extui v89
  let v91 : BitVec 32 := Scalar.subi v88 v90
  let v92 : BitVec 1 := Scalar.cmpi .ne v86 v91
  let v93 : BitVec 32 := Scalar.remsi v80 c8_i32_31
  let c0_i32_36 : BitVec 32 := 0#32
  let v94 : BitVec 1 := Scalar.cmpi .ne v93 c0_i32_36
  let v95 : BitVec 1 := Scalar.andi v92 v94
  let v81 : BitVec 32 := Scalar.divsi v80 c8_i32_31
  let c1_i32_37 : BitVec 32 := 1#32
  let v96 : BitVec 32 := Scalar.subi v81 c1_i32_37
  let v97 : BitVec 32 := Scalar.select v95 v96 v81
  let c0_i32_38 : BitVec 32 := 0#32
  let v98 : BitVec 32 := Scalar.select v77 v97 c0_i32_38
  let v101 : BitVec 32 := Scalar.addi v50 v98
  let v128 : BitVec 1 := Scalar.cmpi .sgt v104 v103
  let c0_i32_43 : BitVec 32 := 0#32
  let v110 : BitVec 1 := Scalar.cmpi .sgt v106 c0_i32_43
  let v111 : BitVec 32 := Scalar.extui v110
  let c0_i32_44 : BitVec 32 := 0#32
  let v112 : BitVec 1 := Scalar.cmpi .slt v106 c0_i32_44
  let v113 : BitVec 32 := Scalar.extui v112
  let v114 : BitVec 32 := Scalar.subi v111 v113
  let c8_i32_42 : BitVec 32 := 8#32
  let c0_i32_45 : BitVec 32 := 0#32
  let v115 : BitVec 1 := Scalar.cmpi .sgt c8_i32_42 c0_i32_45
  let v116 : BitVec 32 := Scalar.extui v115
  let c0_i32_46 : BitVec 32 := 0#32
  let v117 : BitVec 1 := Scalar.cmpi .slt c8_i32_42 c0_i32_46
  let v118 : BitVec 32 := Scalar.extui v117
  let v119 : BitVec 32 := Scalar.subi v116 v118
  let v120 : BitVec 1 := Scalar.cmpi .ne v114 v119
  let v121 : BitVec 32 := Scalar.remsi v106 c8_i32_42
  let c0_i32_47 : BitVec 32 := 0#32
  let v122 : BitVec 1 := Scalar.cmpi .ne v121 c0_i32_47
  let v123 : BitVec 1 := Scalar.andi v120 v122
  let v109 : BitVec 32 := Scalar.divsi v106 c8_i32_42
  let c1_i32_48 : BitVec 32 := 1#32
  let v124 : BitVec 32 := Scalar.subi v109 c1_i32_48
  let v125 : BitVec 32 := Scalar.select v123 v124 v109
  let c8_i32_49 : BitVec 32 := 8#32
  let v126 : BitVec 32 := Scalar.muli v125 c8_i32_49
  let v127 : BitVec 32 := Scalar.subi v106 v126
  let v129 : BitVec 32 := Scalar.addi v127 v108
  let c8_i32_50 : BitVec 32 := 8#32
  let v130 : BitVec 32 := Scalar.addi v129 c8_i32_50
  let c1_i32_51 : BitVec 32 := 1#32
  let v131 : BitVec 32 := Scalar.subi v130 c1_i32_51
  let c0_i32_53 : BitVec 32 := 0#32
  let v133 : BitVec 1 := Scalar.cmpi .sgt v131 c0_i32_53
  let v134 : BitVec 32 := Scalar.extui v133
  let c0_i32_54 : BitVec 32 := 0#32
  let v135 : BitVec 1 := Scalar.cmpi .slt v131 c0_i32_54
  let v136 : BitVec 32 := Scalar.extui v135
  let v137 : BitVec 32 := Scalar.subi v134 v136
  let c8_i32_52 : BitVec 32 := 8#32
  let c0_i32_55 : BitVec 32 := 0#32
  let v138 : BitVec 1 := Scalar.cmpi .sgt c8_i32_52 c0_i32_55
  let v139 : BitVec 32 := Scalar.extui v138
  let c0_i32_56 : BitVec 32 := 0#32
  let v140 : BitVec 1 := Scalar.cmpi .slt c8_i32_52 c0_i32_56
  let v141 : BitVec 32 := Scalar.extui v140
  let v142 : BitVec 32 := Scalar.subi v139 v141
  let v143 : BitVec 1 := Scalar.cmpi .ne v137 v142
  let v144 : BitVec 32 := Scalar.remsi v131 c8_i32_52
  let c0_i32_57 : BitVec 32 := 0#32
  let v145 : BitVec 1 := Scalar.cmpi .ne v144 c0_i32_57
  let v146 : BitVec 1 := Scalar.andi v143 v145
  let v132 : BitVec 32 := Scalar.divsi v131 c8_i32_52
  let c1_i32_58 : BitVec 32 := 1#32
  let v147 : BitVec 32 := Scalar.subi v132 c1_i32_58
  let v148 : BitVec 32 := Scalar.select v146 v147 v132
  let c0_i32_59 : BitVec 32 := 0#32
  let v149 : BitVec 32 := Scalar.select v128 v148 c0_i32_59
  let v152 : BitVec 32 := Scalar.addi v101 v149
  let v179 : BitVec 1 := Scalar.cmpi .sgt v155 v154
  let c0_i32_64 : BitVec 32 := 0#32
  let v161 : BitVec 1 := Scalar.cmpi .sgt v157 c0_i32_64
  let v162 : BitVec 32 := Scalar.extui v161
  let c0_i32_65 : BitVec 32 := 0#32
  let v163 : BitVec 1 := Scalar.cmpi .slt v157 c0_i32_65
  let v164 : BitVec 32 := Scalar.extui v163
  let v165 : BitVec 32 := Scalar.subi v162 v164
  let c8_i32_63 : BitVec 32 := 8#32
  let c0_i32_66 : BitVec 32 := 0#32
  let v166 : BitVec 1 := Scalar.cmpi .sgt c8_i32_63 c0_i32_66
  let v167 : BitVec 32 := Scalar.extui v166
  let c0_i32_67 : BitVec 32 := 0#32
  let v168 : BitVec 1 := Scalar.cmpi .slt c8_i32_63 c0_i32_67
  let v169 : BitVec 32 := Scalar.extui v168
  let v170 : BitVec 32 := Scalar.subi v167 v169
  let v171 : BitVec 1 := Scalar.cmpi .ne v165 v170
  let v172 : BitVec 32 := Scalar.remsi v157 c8_i32_63
  let c0_i32_68 : BitVec 32 := 0#32
  let v173 : BitVec 1 := Scalar.cmpi .ne v172 c0_i32_68
  let v174 : BitVec 1 := Scalar.andi v171 v173
  let v160 : BitVec 32 := Scalar.divsi v157 c8_i32_63
  let c1_i32_69 : BitVec 32 := 1#32
  let v175 : BitVec 32 := Scalar.subi v160 c1_i32_69
  let v176 : BitVec 32 := Scalar.select v174 v175 v160
  let c8_i32_70 : BitVec 32 := 8#32
  let v177 : BitVec 32 := Scalar.muli v176 c8_i32_70
  let v178 : BitVec 32 := Scalar.subi v157 v177
  let v180 : BitVec 32 := Scalar.addi v178 v159
  let c8_i32_71 : BitVec 32 := 8#32
  let v181 : BitVec 32 := Scalar.addi v180 c8_i32_71
  let c1_i32_72 : BitVec 32 := 1#32
  let v182 : BitVec 32 := Scalar.subi v181 c1_i32_72
  let c0_i32_74 : BitVec 32 := 0#32
  let v184 : BitVec 1 := Scalar.cmpi .sgt v182 c0_i32_74
  let v185 : BitVec 32 := Scalar.extui v184
  let c0_i32_75 : BitVec 32 := 0#32
  let v186 : BitVec 1 := Scalar.cmpi .slt v182 c0_i32_75
  let v187 : BitVec 32 := Scalar.extui v186
  let v188 : BitVec 32 := Scalar.subi v185 v187
  let c8_i32_73 : BitVec 32 := 8#32
  let c0_i32_76 : BitVec 32 := 0#32
  let v189 : BitVec 1 := Scalar.cmpi .sgt c8_i32_73 c0_i32_76
  let v190 : BitVec 32 := Scalar.extui v189
  let c0_i32_77 : BitVec 32 := 0#32
  let v191 : BitVec 1 := Scalar.cmpi .slt c8_i32_73 c0_i32_77
  let v192 : BitVec 32 := Scalar.extui v191
  let v193 : BitVec 32 := Scalar.subi v190 v192
  let v194 : BitVec 1 := Scalar.cmpi .ne v188 v193
  let v195 : BitVec 32 := Scalar.remsi v182 c8_i32_73
  let c0_i32_78 : BitVec 32 := 0#32
  let v196 : BitVec 1 := Scalar.cmpi .ne v195 c0_i32_78
  let v197 : BitVec 1 := Scalar.andi v194 v196
  let v183 : BitVec 32 := Scalar.divsi v182 c8_i32_73
  let c1_i32_79 : BitVec 32 := 1#32
  let v198 : BitVec 32 := Scalar.subi v183 c1_i32_79
  let v199 : BitVec 32 := Scalar.select v197 v198 v183
  let c0_i32_80 : BitVec 32 := 0#32
  let v200 : BitVec 32 := Scalar.select v179 v199 c0_i32_80
  let v203 : BitVec 32 := Scalar.addi v152 v200
  let v230 : BitVec 1 := Scalar.cmpi .sgt v206 v205
  let c0_i32_85 : BitVec 32 := 0#32
  let v212 : BitVec 1 := Scalar.cmpi .sgt v208 c0_i32_85
  let v213 : BitVec 32 := Scalar.extui v212
  let c0_i32_86 : BitVec 32 := 0#32
  let v214 : BitVec 1 := Scalar.cmpi .slt v208 c0_i32_86
  let v215 : BitVec 32 := Scalar.extui v214
  let v216 : BitVec 32 := Scalar.subi v213 v215
  let c8_i32_84 : BitVec 32 := 8#32
  let c0_i32_87 : BitVec 32 := 0#32
  let v217 : BitVec 1 := Scalar.cmpi .sgt c8_i32_84 c0_i32_87
  let v218 : BitVec 32 := Scalar.extui v217
  let c0_i32_88 : BitVec 32 := 0#32
  let v219 : BitVec 1 := Scalar.cmpi .slt c8_i32_84 c0_i32_88
  let v220 : BitVec 32 := Scalar.extui v219
  let v221 : BitVec 32 := Scalar.subi v218 v220
  let v222 : BitVec 1 := Scalar.cmpi .ne v216 v221
  let v223 : BitVec 32 := Scalar.remsi v208 c8_i32_84
  let c0_i32_89 : BitVec 32 := 0#32
  let v224 : BitVec 1 := Scalar.cmpi .ne v223 c0_i32_89
  let v225 : BitVec 1 := Scalar.andi v222 v224
  let v211 : BitVec 32 := Scalar.divsi v208 c8_i32_84
  let c1_i32_90 : BitVec 32 := 1#32
  let v226 : BitVec 32 := Scalar.subi v211 c1_i32_90
  let v227 : BitVec 32 := Scalar.select v225 v226 v211
  let c8_i32_91 : BitVec 32 := 8#32
  let v228 : BitVec 32 := Scalar.muli v227 c8_i32_91
  let v229 : BitVec 32 := Scalar.subi v208 v228
  let v231 : BitVec 32 := Scalar.addi v229 v210
  let c8_i32_92 : BitVec 32 := 8#32
  let v232 : BitVec 32 := Scalar.addi v231 c8_i32_92
  let c1_i32_93 : BitVec 32 := 1#32
  let v233 : BitVec 32 := Scalar.subi v232 c1_i32_93
  let c0_i32_95 : BitVec 32 := 0#32
  let v235 : BitVec 1 := Scalar.cmpi .sgt v233 c0_i32_95
  let v236 : BitVec 32 := Scalar.extui v235
  let c0_i32_96 : BitVec 32 := 0#32
  let v237 : BitVec 1 := Scalar.cmpi .slt v233 c0_i32_96
  let v238 : BitVec 32 := Scalar.extui v237
  let v239 : BitVec 32 := Scalar.subi v236 v238
  let c8_i32_94 : BitVec 32 := 8#32
  let c0_i32_97 : BitVec 32 := 0#32
  let v240 : BitVec 1 := Scalar.cmpi .sgt c8_i32_94 c0_i32_97
  let v241 : BitVec 32 := Scalar.extui v240
  let c0_i32_98 : BitVec 32 := 0#32
  let v242 : BitVec 1 := Scalar.cmpi .slt c8_i32_94 c0_i32_98
  let v243 : BitVec 32 := Scalar.extui v242
  let v244 : BitVec 32 := Scalar.subi v241 v243
  let v245 : BitVec 1 := Scalar.cmpi .ne v239 v244
  let v246 : BitVec 32 := Scalar.remsi v233 c8_i32_94
  let c0_i32_99 : BitVec 32 := 0#32
  let v247 : BitVec 1 := Scalar.cmpi .ne v246 c0_i32_99
  let v248 : BitVec 1 := Scalar.andi v245 v247
  let v234 : BitVec 32 := Scalar.divsi v233 c8_i32_94
  let c1_i32_100 : BitVec 32 := 1#32
  let v249 : BitVec 32 := Scalar.subi v234 c1_i32_100
  let v250 : BitVec 32 := Scalar.select v248 v249 v234
  let c0_i32_101 : BitVec 32 := 0#32
  let v251 : BitVec 32 := Scalar.select v230 v250 c0_i32_101
  let v254 : BitVec 32 := Scalar.addi v203 v251
  let c8_i32_211 : BitVec 32 := 8#32
  let v599 : BitVec 32 := Scalar.muli v254 c8_i32_211
  let v600 : BitVec 32 := v599
  let c0_i32_213 : BitVec 32 := 0#32
  let v281 : BitVec 1 := Scalar.cmpi .sgt v257 v256
  let c0_i32_106 : BitVec 32 := 0#32
  let v263 : BitVec 1 := Scalar.cmpi .sgt v259 c0_i32_106
  let v264 : BitVec 32 := Scalar.extui v263
  let c0_i32_107 : BitVec 32 := 0#32
  let v265 : BitVec 1 := Scalar.cmpi .slt v259 c0_i32_107
  let v266 : BitVec 32 := Scalar.extui v265
  let v267 : BitVec 32 := Scalar.subi v264 v266
  let c8_i32_105 : BitVec 32 := 8#32
  let c0_i32_108 : BitVec 32 := 0#32
  let v268 : BitVec 1 := Scalar.cmpi .sgt c8_i32_105 c0_i32_108
  let v269 : BitVec 32 := Scalar.extui v268
  let c0_i32_109 : BitVec 32 := 0#32
  let v270 : BitVec 1 := Scalar.cmpi .slt c8_i32_105 c0_i32_109
  let v271 : BitVec 32 := Scalar.extui v270
  let v272 : BitVec 32 := Scalar.subi v269 v271
  let v273 : BitVec 1 := Scalar.cmpi .ne v267 v272
  let v274 : BitVec 32 := Scalar.remsi v259 c8_i32_105
  let c0_i32_110 : BitVec 32 := 0#32
  let v275 : BitVec 1 := Scalar.cmpi .ne v274 c0_i32_110
  let v276 : BitVec 1 := Scalar.andi v273 v275
  let v262 : BitVec 32 := Scalar.divsi v259 c8_i32_105
  let c1_i32_111 : BitVec 32 := 1#32
  let v277 : BitVec 32 := Scalar.subi v262 c1_i32_111
  let v278 : BitVec 32 := Scalar.select v276 v277 v262
  let c8_i32_112 : BitVec 32 := 8#32
  let v279 : BitVec 32 := Scalar.muli v278 c8_i32_112
  let v280 : BitVec 32 := Scalar.subi v259 v279
  let v282 : BitVec 32 := Scalar.addi v280 v261
  let c8_i32_113 : BitVec 32 := 8#32
  let v283 : BitVec 32 := Scalar.addi v282 c8_i32_113
  let c1_i32_114 : BitVec 32 := 1#32
  let v284 : BitVec 32 := Scalar.subi v283 c1_i32_114
  let c0_i32_116 : BitVec 32 := 0#32
  let v286 : BitVec 1 := Scalar.cmpi .sgt v284 c0_i32_116
  let v287 : BitVec 32 := Scalar.extui v286
  let c0_i32_117 : BitVec 32 := 0#32
  let v288 : BitVec 1 := Scalar.cmpi .slt v284 c0_i32_117
  let v289 : BitVec 32 := Scalar.extui v288
  let v290 : BitVec 32 := Scalar.subi v287 v289
  let c8_i32_115 : BitVec 32 := 8#32
  let c0_i32_118 : BitVec 32 := 0#32
  let v291 : BitVec 1 := Scalar.cmpi .sgt c8_i32_115 c0_i32_118
  let v292 : BitVec 32 := Scalar.extui v291
  let c0_i32_119 : BitVec 32 := 0#32
  let v293 : BitVec 1 := Scalar.cmpi .slt c8_i32_115 c0_i32_119
  let v294 : BitVec 32 := Scalar.extui v293
  let v295 : BitVec 32 := Scalar.subi v292 v294
  let v296 : BitVec 1 := Scalar.cmpi .ne v290 v295
  let v297 : BitVec 32 := Scalar.remsi v284 c8_i32_115
  let c0_i32_120 : BitVec 32 := 0#32
  let v298 : BitVec 1 := Scalar.cmpi .ne v297 c0_i32_120
  let v299 : BitVec 1 := Scalar.andi v296 v298
  let v285 : BitVec 32 := Scalar.divsi v284 c8_i32_115
  let c1_i32_121 : BitVec 32 := 1#32
  let v300 : BitVec 32 := Scalar.subi v285 c1_i32_121
  let v301 : BitVec 32 := Scalar.select v299 v300 v285
  let c0_i32_122 : BitVec 32 := 0#32
  let v302 : BitVec 32 := Scalar.select v281 v301 c0_i32_122
  let c8_i32_209 : BitVec 32 := 8#32
  let v595 : BitVec 32 := Scalar.muli v302 c8_i32_209
  let v596 : BitVec 32 := v595
  ⟨![v600.toNat, 0], ![v596.toNat, 4096]⟩

def k0_off66 (v256 : BitVec 32) (v257 : BitVec 32) (v259 : BitVec 32) (v261 : BitVec 32) : (Fin 2 → Nat) × (Fin 2 → Nat) :=
  let c0_i32_106 : BitVec 32 := 0#32
  let v263 : BitVec 1 := Scalar.cmpi .sgt v259 c0_i32_106
  let v264 : BitVec 32 := Scalar.extui v263
  let c0_i32_107 : BitVec 32 := 0#32
  let v265 : BitVec 1 := Scalar.cmpi .slt v259 c0_i32_107
  let v266 : BitVec 32 := Scalar.extui v265
  let v267 : BitVec 32 := Scalar.subi v264 v266
  let c8_i32_105 : BitVec 32 := 8#32
  let c0_i32_108 : BitVec 32 := 0#32
  let v268 : BitVec 1 := Scalar.cmpi .sgt c8_i32_105 c0_i32_108
  let v269 : BitVec 32 := Scalar.extui v268
  let c0_i32_109 : BitVec 32 := 0#32
  let v270 : BitVec 1 := Scalar.cmpi .slt c8_i32_105 c0_i32_109
  let v271 : BitVec 32 := Scalar.extui v270
  let v272 : BitVec 32 := Scalar.subi v269 v271
  let v273 : BitVec 1 := Scalar.cmpi .ne v267 v272
  let v274 : BitVec 32 := Scalar.remsi v259 c8_i32_105
  let c0_i32_110 : BitVec 32 := 0#32
  let v275 : BitVec 1 := Scalar.cmpi .ne v274 c0_i32_110
  let v276 : BitVec 1 := Scalar.andi v273 v275
  let v262 : BitVec 32 := Scalar.divsi v259 c8_i32_105
  let c1_i32_111 : BitVec 32 := 1#32
  let v277 : BitVec 32 := Scalar.subi v262 c1_i32_111
  let v278 : BitVec 32 := Scalar.select v276 v277 v262
  let c8_i32_210 : BitVec 32 := 8#32
  let v597 : BitVec 32 := Scalar.muli v278 c8_i32_210
  let v598 : BitVec 32 := v597
  let c0_i32_214 : BitVec 32 := 0#32
  let v281 : BitVec 1 := Scalar.cmpi .sgt v257 v256
  let c8_i32_112 : BitVec 32 := 8#32
  let v279 : BitVec 32 := Scalar.muli v278 c8_i32_112
  let v280 : BitVec 32 := Scalar.subi v259 v279
  let v282 : BitVec 32 := Scalar.addi v280 v261
  let c8_i32_113 : BitVec 32 := 8#32
  let v283 : BitVec 32 := Scalar.addi v282 c8_i32_113
  let c1_i32_114 : BitVec 32 := 1#32
  let v284 : BitVec 32 := Scalar.subi v283 c1_i32_114
  let c0_i32_116 : BitVec 32 := 0#32
  let v286 : BitVec 1 := Scalar.cmpi .sgt v284 c0_i32_116
  let v287 : BitVec 32 := Scalar.extui v286
  let c0_i32_117 : BitVec 32 := 0#32
  let v288 : BitVec 1 := Scalar.cmpi .slt v284 c0_i32_117
  let v289 : BitVec 32 := Scalar.extui v288
  let v290 : BitVec 32 := Scalar.subi v287 v289
  let c8_i32_115 : BitVec 32 := 8#32
  let c0_i32_118 : BitVec 32 := 0#32
  let v291 : BitVec 1 := Scalar.cmpi .sgt c8_i32_115 c0_i32_118
  let v292 : BitVec 32 := Scalar.extui v291
  let c0_i32_119 : BitVec 32 := 0#32
  let v293 : BitVec 1 := Scalar.cmpi .slt c8_i32_115 c0_i32_119
  let v294 : BitVec 32 := Scalar.extui v293
  let v295 : BitVec 32 := Scalar.subi v292 v294
  let v296 : BitVec 1 := Scalar.cmpi .ne v290 v295
  let v297 : BitVec 32 := Scalar.remsi v284 c8_i32_115
  let c0_i32_120 : BitVec 32 := 0#32
  let v298 : BitVec 1 := Scalar.cmpi .ne v297 c0_i32_120
  let v299 : BitVec 1 := Scalar.andi v296 v298
  let v285 : BitVec 32 := Scalar.divsi v284 c8_i32_115
  let c1_i32_121 : BitVec 32 := 1#32
  let v300 : BitVec 32 := Scalar.subi v285 c1_i32_121
  let v301 : BitVec 32 := Scalar.select v299 v300 v285
  let c0_i32_122 : BitVec 32 := 0#32
  let v302 : BitVec 32 := Scalar.select v281 v301 c0_i32_122
  let c8_i32_209 : BitVec 32 := 8#32
  let v595 : BitVec 32 := Scalar.muli v302 c8_i32_209
  let v596 : BitVec 32 := v595
  ⟨![v598.toNat, 0], ![v596.toNat, 4096]⟩

def k0_off67 (v0 : BitVec 32) : Fin 1 → Nat :=
  let v432 : Index := Scalar.indexCast v0
  ![v432.toNat]

def k0_chk1 (i : grid0.Coords) (v0 : BitVec 32) : Prop :=
  (∀ a, (k0_off1 v0) a + S1.size a ≤ S11.size a) ∧
  (∀ (k0_h21 : k0_cond21 i = 1#1), ∀ a, (k0_off67 v0) a + S1.size a ≤ S11.size a)
theorem k0_off1_inb : ∀ (i : grid0.Coords) (v0 : BitVec 32) (k0_hw1 : k0_chk1 i v0), ∀ a, (k0_off1 v0) a + S1.size a ≤ S11.size a := fun i v0 k0_hw1 => k0_hw1.1
theorem k0_off67_inb : ∀ (i : grid0.Coords) (v0 : BitVec 32) (k0_hw1 : k0_chk1 i v0), ∀ (k0_h21 : k0_cond21 i = 1#1), ∀ a, (k0_off67 v0) a + S1.size a ≤ S11.size a := fun i v0 k0_hw1 k0_h21 => k0_hw1.2 k0_h21

def k0_off68 (v51 : BitVec 32) : Fin 1 → Nat :=
  let v458 : Index := Scalar.indexCast v51
  ![v458.toNat]

def k0_chk2 (i : grid0.Coords) (v51 : BitVec 32) : Prop :=
  (∀ a, (k0_off2 v51) a + S1.size a ≤ S11.size a) ∧
  (∀ (k0_h21 : k0_cond21 i = 1#1), ∀ a, (k0_off68 v51) a + S1.size a ≤ S11.size a)
theorem k0_off2_inb : ∀ (i : grid0.Coords) (v51 : BitVec 32) (k0_hw2 : k0_chk2 i v51), ∀ a, (k0_off2 v51) a + S1.size a ≤ S11.size a := fun i v51 k0_hw2 => k0_hw2.1
theorem k0_off68_inb : ∀ (i : grid0.Coords) (v51 : BitVec 32) (k0_hw2 : k0_chk2 i v51), ∀ (k0_h21 : k0_cond21 i = 1#1), ∀ a, (k0_off68 v51) a + S1.size a ≤ S11.size a := fun i v51 k0_hw2 k0_h21 => k0_hw2.2 k0_h21

def k0_off69 (v102 : BitVec 32) : Fin 1 → Nat :=
  let v484 : Index := Scalar.indexCast v102
  ![v484.toNat]

def k0_chk3 (i : grid0.Coords) (v102 : BitVec 32) : Prop :=
  (∀ a, (k0_off3 v102) a + S1.size a ≤ S11.size a) ∧
  (∀ (k0_h21 : k0_cond21 i = 1#1), ∀ a, (k0_off69 v102) a + S1.size a ≤ S11.size a)
theorem k0_off3_inb : ∀ (i : grid0.Coords) (v102 : BitVec 32) (k0_hw3 : k0_chk3 i v102), ∀ a, (k0_off3 v102) a + S1.size a ≤ S11.size a := fun i v102 k0_hw3 => k0_hw3.1
theorem k0_off69_inb : ∀ (i : grid0.Coords) (v102 : BitVec 32) (k0_hw3 : k0_chk3 i v102), ∀ (k0_h21 : k0_cond21 i = 1#1), ∀ a, (k0_off69 v102) a + S1.size a ≤ S11.size a := fun i v102 k0_hw3 k0_h21 => k0_hw3.2 k0_h21

def k0_off70 (v153 : BitVec 32) : Fin 1 → Nat :=
  let v510 : Index := Scalar.indexCast v153
  ![v510.toNat]

def k0_chk4 (i : grid0.Coords) (v153 : BitVec 32) : Prop :=
  (∀ a, (k0_off4 v153) a + S1.size a ≤ S11.size a) ∧
  (∀ (k0_h21 : k0_cond21 i = 1#1), ∀ a, (k0_off70 v153) a + S1.size a ≤ S11.size a)
theorem k0_off4_inb : ∀ (i : grid0.Coords) (v153 : BitVec 32) (k0_hw4 : k0_chk4 i v153), ∀ a, (k0_off4 v153) a + S1.size a ≤ S11.size a := fun i v153 k0_hw4 => k0_hw4.1
theorem k0_off70_inb : ∀ (i : grid0.Coords) (v153 : BitVec 32) (k0_hw4 : k0_chk4 i v153), ∀ (k0_h21 : k0_cond21 i = 1#1), ∀ a, (k0_off70 v153) a + S1.size a ≤ S11.size a := fun i v153 k0_hw4 k0_h21 => k0_hw4.2 k0_h21

def k0_off71 (v204 : BitVec 32) : Fin 1 → Nat :=
  let v536 : Index := Scalar.indexCast v204
  ![v536.toNat]

def k0_chk5 (i : grid0.Coords) (v204 : BitVec 32) : Prop :=
  (∀ a, (k0_off5 v204) a + S1.size a ≤ S11.size a) ∧
  (∀ (k0_h21 : k0_cond21 i = 1#1), ∀ a, (k0_off71 v204) a + S1.size a ≤ S11.size a)
theorem k0_off5_inb : ∀ (i : grid0.Coords) (v204 : BitVec 32) (k0_hw5 : k0_chk5 i v204), ∀ a, (k0_off5 v204) a + S1.size a ≤ S11.size a := fun i v204 k0_hw5 => k0_hw5.1
theorem k0_off71_inb : ∀ (i : grid0.Coords) (v204 : BitVec 32) (k0_hw5 : k0_chk5 i v204), ∀ (k0_h21 : k0_cond21 i = 1#1), ∀ a, (k0_off71 v204) a + S1.size a ≤ S11.size a := fun i v204 k0_hw5 k0_h21 => k0_hw5.2 k0_h21

def k0_off72 (v255 : BitVec 32) : Fin 1 → Nat :=
  let v562 : Index := Scalar.indexCast v255
  ![v562.toNat]

def k0_chk6 (i : grid0.Coords) (v255 : BitVec 32) : Prop :=
  (∀ a, (k0_off6 v255) a + S1.size a ≤ S11.size a) ∧
  (∀ (k0_h21 : k0_cond21 i = 1#1), ∀ a, (k0_off72 v255) a + S1.size a ≤ S11.size a)
theorem k0_off6_inb : ∀ (i : grid0.Coords) (v255 : BitVec 32) (k0_hw6 : k0_chk6 i v255), ∀ a, (k0_off6 v255) a + S1.size a ≤ S11.size a := fun i v255 k0_hw6 => k0_hw6.1
theorem k0_off72_inb : ∀ (i : grid0.Coords) (v255 : BitVec 32) (k0_hw6 : k0_chk6 i v255), ∀ (k0_h21 : k0_cond21 i = 1#1), ∀ a, (k0_off72 v255) a + S1.size a ≤ S11.size a := fun i v255 k0_hw6 k0_h21 => k0_hw6.2 k0_h21

def k0_mult85 (v1 : BitVec 32) (v2 : BitVec 32) (v4 : BitVec 32) (v6 : BitVec 32) : BitVec 32 :=
  let v26 : BitVec 1 := Scalar.cmpi .sgt v2 v1
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let c8_i32_176 : BitVec 32 := 8#32
  let v407 : BitVec 32 := Scalar.muli v47 c8_i32_176
  v407
def k0_cond28 (v1 : BitVec 32) (v2 : BitVec 32) (v4 : BitVec 32) (v6 : BitVec 32) : BitVec 1 :=
  let v26 : BitVec 1 := Scalar.cmpi .sgt v2 v1
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let c0_i32_154 : BitVec 32 := 0#32
  let v379 : BitVec 1 := Scalar.cmpi .sgt v47 c0_i32_154
  let v380 : BitVec 32 := Scalar.extui v379
  let c0_i32_156 : BitVec 32 := 0#32
  let v381 : BitVec 1 := Scalar.cmpi .ne v380 c0_i32_156
  v381

def k0_mult86 (v4 : BitVec 32) : BitVec 32 :=
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_177 : BitVec 32 := 8#32
  let v409 : BitVec 32 := Scalar.muli v23 c8_i32_177
  v409
def k0_mult87 (i : grid0.Coords) : BitVec 32 :=
  let arg0 : BitVec 32 := BitVec.ofNat 32 (i 0).val
  let c512_i32 : BitVec 32 := 512#32
  let v411 : BitVec 32 := Scalar.muli arg0 c512_i32
  v411
def k0_mult88 : BitVec 32 :=
  let c0_i32_155 : BitVec 32 := 0#32
  let c8_i32_178 : BitVec 32 := 8#32
  let v413 : BitVec 32 := Scalar.muli c0_i32_155 c8_i32_178
  v413
def k0_off73 (i : grid0.Coords) : Fin 2 → Nat :=
  let arg0 : BitVec 32 := BitVec.ofNat 32 (i 0).val
  let c2_i32_175 : BitVec 32 := 2#32
  let v406 : BitVec 32 := Scalar.remsi arg0 c2_i32_175
  let c0_i32_179 : BitVec 32 := 0#32
  ![v406.toNat, 0]
def k0_off74 (i : grid0.Coords) (v1 : BitVec 32) (v2 : BitVec 32) (v4 : BitVec 32) (v6 : BitVec 32) : (Fin 3 → Nat) × (Fin 3 → Nat) :=
  let arg0 : BitVec 32 := BitVec.ofNat 32 (i 0).val
  let c2_i32_175 : BitVec 32 := 2#32
  let v406 : BitVec 32 := Scalar.remsi arg0 c2_i32_175
  let c0_i32_155 : BitVec 32 := 0#32
  let c8_i32_178 : BitVec 32 := 8#32
  let v413 : BitVec 32 := Scalar.muli c0_i32_155 c8_i32_178
  let v414 : BitVec 32 := v413
  let c0_i32_180 : BitVec 32 := 0#32
  let v26 : BitVec 1 := Scalar.cmpi .sgt v2 v1
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let c8_i32_176 : BitVec 32 := 8#32
  let v407 : BitVec 32 := Scalar.muli v47 c8_i32_176
  let v408 : BitVec 32 := v407
  ⟨![v406.toNat, v414.toNat, 0], ![1, v408.toNat, 512]⟩

def k0_sz13 (v1 : BitVec 32) (v2 : BitVec 32) (v4 : BitVec 32) (v6 : BitVec 32) : Fin 2 → Nat :=
  let v26 : BitVec 1 := Scalar.cmpi .sgt v2 v1
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let c8_i32_176 : BitVec 32 := 8#32
  let v407 : BitVec 32 := Scalar.muli v47 c8_i32_176
  let v408 : BitVec 32 := v407
  ![v408.toNat, 512]

def k0_chk7 (i : grid0.Coords) (v1 : BitVec 32) (v2 : BitVec 32) (v4 : BitVec 32) (v6 : BitVec 32) : Prop :=
  (∀ (k0_h1 : k0_cond1 i = 1#1), ∀ (k0_h2 : k0_cond2 v1 v2 v4 v6 = 1#1), 8 ∣ (k0_mult1 v1 v2 v4 v6).toNat) ∧
  (∀ (k0_h1 : k0_cond1 i = 1#1), ∀ (k0_h2 : k0_cond2 v1 v2 v4 v6 = 1#1), 8 ∣ (k0_mult2 v4).toNat) ∧
  (∀ (k0_h1 : k0_cond1 i = 1#1), ∀ (k0_h2 : k0_cond2 v1 v2 v4 v6 = 1#1), ∀ a, (k0_off7 v1 v2 v4 v6).2 a = 0 ∨ (k0_off7 v1 v2 v4 v6).1 a + (k0_off7 v1 v2 v4 v6).2 a ≤ S512x4096.size a) ∧
  (∀ (k0_h1 : k0_cond1 i = 1#1), ∀ (k0_h2 : k0_cond2 v1 v2 v4 v6 = 1#1), ∀ a, (k0_off8 v1 v2 v4 v6).2 a = 0 ∨ (k0_off8 v1 v2 v4 v6).1 a + (k0_off8 v1 v2 v4 v6).2 a ≤ S900x4096.size a) ∧
  (∀ (k0_h1 : k0_cond1 i = 1#1), ∀ (k0_h2 : k0_cond2 v1 v2 v4 v6 = 1#1), ∀ (hinb : ∀ a, (k0_off8 v1 v2 v4 v6).2 a = 0 ∨ (k0_off8 v1 v2 v4 v6).1 a + (k0_off8 v1 v2 v4 v6).2 a ≤ S900x4096.size a), (Rect.unitDyn (s := S900x4096) (k0_off8 v1 v2 v4 v6).1 (k0_off8 v1 v2 v4 v6).2 hinb).WholeWords (EltTy.packing .bf16)) ∧
  (∀ (k0_h1 : k0_cond1 i = 1#1), ∀ (k0_h2 : k0_cond2 v1 v2 v4 v6 = 1#1), ∀ (hinb : ∀ a, (k0_off7 v1 v2 v4 v6).2 a = 0 ∨ (k0_off7 v1 v2 v4 v6).1 a + (k0_off7 v1 v2 v4 v6).2 a ≤ S512x4096.size a), (Rect.unitDyn (s := S512x4096) (k0_off7 v1 v2 v4 v6).1 (k0_off7 v1 v2 v4 v6).2 hinb).WholeWords (EltTy.packing .bf16)) ∧
  (∀ (k0_h1 : k0_cond1 i = 1#1), ∀ (k0_h8 : k0_cond8 v1 v2 v4 v6 = 1#1), 8 ∣ (k0_mult19 v1 v2 v4 v6).toNat) ∧
  (∀ (k0_h1 : k0_cond1 i = 1#1), ∀ (k0_h8 : k0_cond8 v1 v2 v4 v6 = 1#1), 8 ∣ (k0_mult20 v4).toNat) ∧
  (∀ (k0_h1 : k0_cond1 i = 1#1), ∀ (k0_h8 : k0_cond8 v1 v2 v4 v6 = 1#1), ∀ a, (k0_off20 i v1 v2 v4 v6).2 a = 0 ∨ (k0_off20 i v1 v2 v4 v6).1 a + (k0_off20 i v1 v2 v4 v6).2 a ≤ S2x512x512.size a) ∧
  (∀ (k0_h1 : k0_cond1 i = 1#1), ∀ (k0_h8 : k0_cond8 v1 v2 v4 v6 = 1#1), (⟨3, (k0_off20 i v1 v2 v4 v6).2⟩ : Shape).Squeezes ⟨2, k0_sz1 v1 v2 v4 v6⟩) ∧
  (∀ (k0_h1 : k0_cond1 i = 1#1), ∀ (k0_h8 : k0_cond8 v1 v2 v4 v6 = 1#1), ∀ a, (k0_off21 i v1 v2 v4 v6).2 a = 0 ∨ (k0_off21 i v1 v2 v4 v6).1 a + (k0_off21 i v1 v2 v4 v6).2 a ≤ S900x14336.size a) ∧
  (∀ (k0_h1 : k0_cond1 i = 1#1), ∀ (k0_h8 : k0_cond8 v1 v2 v4 v6 = 1#1), ∀ (hinb : ∀ a, (k0_off21 i v1 v2 v4 v6).2 a = 0 ∨ (k0_off21 i v1 v2 v4 v6).1 a + (k0_off21 i v1 v2 v4 v6).2 a ≤ S900x14336.size a), (Rect.unitDyn (s := S900x14336) (k0_off21 i v1 v2 v4 v6).1 (k0_off21 i v1 v2 v4 v6).2 hinb).WholeWords (EltTy.packing .bf16)) ∧
  (∀ (k0_h1 : k0_cond1 i = 1#1), ∀ (k0_h8 : k0_cond8 v1 v2 v4 v6 = 1#1), ∀ (hinb : ∀ a, (k0_off20 i v1 v2 v4 v6).2 a = 0 ∨ (k0_off20 i v1 v2 v4 v6).1 a + (k0_off20 i v1 v2 v4 v6).2 a ≤ S2x512x512.size a), (Rect.unitDyn (s := S2x512x512) (k0_off20 i v1 v2 v4 v6).1 (k0_off20 i v1 v2 v4 v6).2 hinb).WholeWords (EltTy.packing .bf16)) ∧
  (∀ (k0_h14 : k0_cond14 i = 1#1), ∀ (k0_h15 : k0_cond15 v1 v2 v4 v6 = 1#1), 8 ∣ (k0_mult43 v1 v2 v4 v6).toNat) ∧
  (∀ (k0_h14 : k0_cond14 i = 1#1), ∀ (k0_h15 : k0_cond15 v1 v2 v4 v6 = 1#1), 8 ∣ (k0_mult44 v4).toNat) ∧
  (∀ (k0_h14 : k0_cond14 i = 1#1), ∀ (k0_h15 : k0_cond15 v1 v2 v4 v6 = 1#1), ∀ a, (k0_off38 i v1 v2 v4 v6).2 a = 0 ∨ (k0_off38 i v1 v2 v4 v6).1 a + (k0_off38 i v1 v2 v4 v6).2 a ≤ S2x512x512.size a) ∧
  (∀ (k0_h14 : k0_cond14 i = 1#1), ∀ (k0_h15 : k0_cond15 v1 v2 v4 v6 = 1#1), (⟨3, (k0_off38 i v1 v2 v4 v6).2⟩ : Shape).Squeezes ⟨2, k0_sz7 v1 v2 v4 v6⟩) ∧
  (∀ (k0_h14 : k0_cond14 i = 1#1), ∀ (k0_h15 : k0_cond15 v1 v2 v4 v6 = 1#1), ∀ a, (k0_off39 i v1 v2 v4 v6).2 a = 0 ∨ (k0_off39 i v1 v2 v4 v6).1 a + (k0_off39 i v1 v2 v4 v6).2 a ≤ S900x14336.size a) ∧
  (∀ (k0_h14 : k0_cond14 i = 1#1), ∀ (k0_h15 : k0_cond15 v1 v2 v4 v6 = 1#1), ∀ (hinb : ∀ a, (k0_off39 i v1 v2 v4 v6).2 a = 0 ∨ (k0_off39 i v1 v2 v4 v6).1 a + (k0_off39 i v1 v2 v4 v6).2 a ≤ S900x14336.size a), (Rect.unitDyn (s := S900x14336) (k0_off39 i v1 v2 v4 v6).1 (k0_off39 i v1 v2 v4 v6).2 hinb).WholeWords (EltTy.packing .bf16)) ∧
  (∀ (k0_h14 : k0_cond14 i = 1#1), ∀ (k0_h15 : k0_cond15 v1 v2 v4 v6 = 1#1), ∀ (hinb : ∀ a, (k0_off38 i v1 v2 v4 v6).2 a = 0 ∨ (k0_off38 i v1 v2 v4 v6).1 a + (k0_off38 i v1 v2 v4 v6).2 a ≤ S2x512x512.size a), (Rect.unitDyn (s := S2x512x512) (k0_off38 i v1 v2 v4 v6).1 (k0_off38 i v1 v2 v4 v6).2 hinb).WholeWords (EltTy.packing .bf16)) ∧
  (∀ (k0_h21 : k0_cond21 i = 1#1), ∀ (k0_h22 : k0_cond22 v1 v2 v4 v6 = 1#1), 8 ∣ (k0_mult67 v1 v2 v4 v6).toNat) ∧
  (∀ (k0_h21 : k0_cond21 i = 1#1), ∀ (k0_h22 : k0_cond22 v1 v2 v4 v6 = 1#1), 8 ∣ (k0_mult68 v4).toNat) ∧
  (∀ (k0_h28 : k0_cond28 v1 v2 v4 v6 = 1#1), 8 ∣ (k0_mult85 v1 v2 v4 v6).toNat) ∧
  (∀ (k0_h28 : k0_cond28 v1 v2 v4 v6 = 1#1), 8 ∣ (k0_mult86 v4).toNat) ∧
  (∀ (k0_h28 : k0_cond28 v1 v2 v4 v6 = 1#1), (⟨3, (k0_off74 i v1 v2 v4 v6).2⟩ : Shape).Squeezes ⟨2, k0_sz13 v1 v2 v4 v6⟩)
theorem k0_mult1_dvd : ∀ (i : grid0.Coords) (v1 : BitVec 32) (v2 : BitVec 32) (v4 : BitVec 32) (v6 : BitVec 32) (k0_hw7 : k0_chk7 i v1 v2 v4 v6), ∀ (k0_h1 : k0_cond1 i = 1#1), ∀ (k0_h2 : k0_cond2 v1 v2 v4 v6 = 1#1), 8 ∣ (k0_mult1 v1 v2 v4 v6).toNat := fun i v1 v2 v4 v6 k0_hw7 k0_h1 k0_h2 => k0_hw7.1 k0_h1 k0_h2
theorem k0_mult2_dvd : ∀ (i : grid0.Coords) (v1 : BitVec 32) (v2 : BitVec 32) (v4 : BitVec 32) (v6 : BitVec 32) (k0_hw7 : k0_chk7 i v1 v2 v4 v6), ∀ (k0_h1 : k0_cond1 i = 1#1), ∀ (k0_h2 : k0_cond2 v1 v2 v4 v6 = 1#1), 8 ∣ (k0_mult2 v4).toNat := fun i v1 v2 v4 v6 k0_hw7 k0_h1 k0_h2 => k0_hw7.2.1 k0_h1 k0_h2
theorem k0_off7_inb : ∀ (i : grid0.Coords) (v1 : BitVec 32) (v2 : BitVec 32) (v4 : BitVec 32) (v6 : BitVec 32) (k0_hw7 : k0_chk7 i v1 v2 v4 v6), ∀ (k0_h1 : k0_cond1 i = 1#1), ∀ (k0_h2 : k0_cond2 v1 v2 v4 v6 = 1#1), ∀ a, (k0_off7 v1 v2 v4 v6).2 a = 0 ∨ (k0_off7 v1 v2 v4 v6).1 a + (k0_off7 v1 v2 v4 v6).2 a ≤ S512x4096.size a := fun i v1 v2 v4 v6 k0_hw7 k0_h1 k0_h2 => k0_hw7.2.2.1 k0_h1 k0_h2
theorem k0_off8_inb : ∀ (i : grid0.Coords) (v1 : BitVec 32) (v2 : BitVec 32) (v4 : BitVec 32) (v6 : BitVec 32) (k0_hw7 : k0_chk7 i v1 v2 v4 v6), ∀ (k0_h1 : k0_cond1 i = 1#1), ∀ (k0_h2 : k0_cond2 v1 v2 v4 v6 = 1#1), ∀ a, (k0_off8 v1 v2 v4 v6).2 a = 0 ∨ (k0_off8 v1 v2 v4 v6).1 a + (k0_off8 v1 v2 v4 v6).2 a ≤ S900x4096.size a := fun i v1 v2 v4 v6 k0_hw7 k0_h1 k0_h2 => k0_hw7.2.2.2.1 k0_h1 k0_h2
theorem k0_off8_wordsbf16 : ∀ (i : grid0.Coords) (v1 : BitVec 32) (v2 : BitVec 32) (v4 : BitVec 32) (v6 : BitVec 32) (k0_hw7 : k0_chk7 i v1 v2 v4 v6), ∀ (k0_h1 : k0_cond1 i = 1#1), ∀ (k0_h2 : k0_cond2 v1 v2 v4 v6 = 1#1), (Rect.unitDyn (s := S900x4096) (k0_off8 v1 v2 v4 v6).1 (k0_off8 v1 v2 v4 v6).2 (k0_off8_inb i v1 v2 v4 v6 k0_hw7 k0_h1 k0_h2)).WholeWords (EltTy.packing .bf16) := fun i v1 v2 v4 v6 k0_hw7 k0_h1 k0_h2 => k0_hw7.2.2.2.2.1 k0_h1 k0_h2 (k0_off8_inb i v1 v2 v4 v6 k0_hw7 k0_h1 k0_h2)
theorem k0_off7_wordsbf16 : ∀ (i : grid0.Coords) (v1 : BitVec 32) (v2 : BitVec 32) (v4 : BitVec 32) (v6 : BitVec 32) (k0_hw7 : k0_chk7 i v1 v2 v4 v6), ∀ (k0_h1 : k0_cond1 i = 1#1), ∀ (k0_h2 : k0_cond2 v1 v2 v4 v6 = 1#1), (Rect.unitDyn (s := S512x4096) (k0_off7 v1 v2 v4 v6).1 (k0_off7 v1 v2 v4 v6).2 (k0_off7_inb i v1 v2 v4 v6 k0_hw7 k0_h1 k0_h2)).WholeWords (EltTy.packing .bf16) := fun i v1 v2 v4 v6 k0_hw7 k0_h1 k0_h2 => k0_hw7.2.2.2.2.2.1 k0_h1 k0_h2 (k0_off7_inb i v1 v2 v4 v6 k0_hw7 k0_h1 k0_h2)
theorem k0_mult19_dvd : ∀ (i : grid0.Coords) (v1 : BitVec 32) (v2 : BitVec 32) (v4 : BitVec 32) (v6 : BitVec 32) (k0_hw7 : k0_chk7 i v1 v2 v4 v6), ∀ (k0_h1 : k0_cond1 i = 1#1), ∀ (k0_h8 : k0_cond8 v1 v2 v4 v6 = 1#1), 8 ∣ (k0_mult19 v1 v2 v4 v6).toNat := fun i v1 v2 v4 v6 k0_hw7 k0_h1 k0_h8 => k0_hw7.2.2.2.2.2.2.1 k0_h1 k0_h8
theorem k0_mult20_dvd : ∀ (i : grid0.Coords) (v1 : BitVec 32) (v2 : BitVec 32) (v4 : BitVec 32) (v6 : BitVec 32) (k0_hw7 : k0_chk7 i v1 v2 v4 v6), ∀ (k0_h1 : k0_cond1 i = 1#1), ∀ (k0_h8 : k0_cond8 v1 v2 v4 v6 = 1#1), 8 ∣ (k0_mult20 v4).toNat := fun i v1 v2 v4 v6 k0_hw7 k0_h1 k0_h8 => k0_hw7.2.2.2.2.2.2.2.1 k0_h1 k0_h8
theorem k0_off20_inb : ∀ (i : grid0.Coords) (v1 : BitVec 32) (v2 : BitVec 32) (v4 : BitVec 32) (v6 : BitVec 32) (k0_hw7 : k0_chk7 i v1 v2 v4 v6), ∀ (k0_h1 : k0_cond1 i = 1#1), ∀ (k0_h8 : k0_cond8 v1 v2 v4 v6 = 1#1), ∀ a, (k0_off20 i v1 v2 v4 v6).2 a = 0 ∨ (k0_off20 i v1 v2 v4 v6).1 a + (k0_off20 i v1 v2 v4 v6).2 a ≤ S2x512x512.size a := fun i v1 v2 v4 v6 k0_hw7 k0_h1 k0_h8 => k0_hw7.2.2.2.2.2.2.2.2.1 k0_h1 k0_h8
theorem k0_sz1_squeezes : ∀ (i : grid0.Coords) (v1 : BitVec 32) (v2 : BitVec 32) (v4 : BitVec 32) (v6 : BitVec 32) (k0_hw7 : k0_chk7 i v1 v2 v4 v6), ∀ (k0_h1 : k0_cond1 i = 1#1), ∀ (k0_h8 : k0_cond8 v1 v2 v4 v6 = 1#1), (⟨3, (k0_off20 i v1 v2 v4 v6).2⟩ : Shape).Squeezes ⟨2, k0_sz1 v1 v2 v4 v6⟩ := fun i v1 v2 v4 v6 k0_hw7 k0_h1 k0_h8 => k0_hw7.2.2.2.2.2.2.2.2.2.1 k0_h1 k0_h8
theorem k0_off21_inb : ∀ (i : grid0.Coords) (v1 : BitVec 32) (v2 : BitVec 32) (v4 : BitVec 32) (v6 : BitVec 32) (k0_hw7 : k0_chk7 i v1 v2 v4 v6), ∀ (k0_h1 : k0_cond1 i = 1#1), ∀ (k0_h8 : k0_cond8 v1 v2 v4 v6 = 1#1), ∀ a, (k0_off21 i v1 v2 v4 v6).2 a = 0 ∨ (k0_off21 i v1 v2 v4 v6).1 a + (k0_off21 i v1 v2 v4 v6).2 a ≤ S900x14336.size a := fun i v1 v2 v4 v6 k0_hw7 k0_h1 k0_h8 => k0_hw7.2.2.2.2.2.2.2.2.2.2.1 k0_h1 k0_h8
theorem k0_off21_wordsbf16 : ∀ (i : grid0.Coords) (v1 : BitVec 32) (v2 : BitVec 32) (v4 : BitVec 32) (v6 : BitVec 32) (k0_hw7 : k0_chk7 i v1 v2 v4 v6), ∀ (k0_h1 : k0_cond1 i = 1#1), ∀ (k0_h8 : k0_cond8 v1 v2 v4 v6 = 1#1), (Rect.unitDyn (s := S900x14336) (k0_off21 i v1 v2 v4 v6).1 (k0_off21 i v1 v2 v4 v6).2 (k0_off21_inb i v1 v2 v4 v6 k0_hw7 k0_h1 k0_h8)).WholeWords (EltTy.packing .bf16) := fun i v1 v2 v4 v6 k0_hw7 k0_h1 k0_h8 => k0_hw7.2.2.2.2.2.2.2.2.2.2.2.1 k0_h1 k0_h8 (k0_off21_inb i v1 v2 v4 v6 k0_hw7 k0_h1 k0_h8)
theorem k0_off20_wordsbf16 : ∀ (i : grid0.Coords) (v1 : BitVec 32) (v2 : BitVec 32) (v4 : BitVec 32) (v6 : BitVec 32) (k0_hw7 : k0_chk7 i v1 v2 v4 v6), ∀ (k0_h1 : k0_cond1 i = 1#1), ∀ (k0_h8 : k0_cond8 v1 v2 v4 v6 = 1#1), (Rect.unitDyn (s := S2x512x512) (k0_off20 i v1 v2 v4 v6).1 (k0_off20 i v1 v2 v4 v6).2 (k0_off20_inb i v1 v2 v4 v6 k0_hw7 k0_h1 k0_h8)).WholeWords (EltTy.packing .bf16) := fun i v1 v2 v4 v6 k0_hw7 k0_h1 k0_h8 => k0_hw7.2.2.2.2.2.2.2.2.2.2.2.2.1 k0_h1 k0_h8 (k0_off20_inb i v1 v2 v4 v6 k0_hw7 k0_h1 k0_h8)
theorem k0_mult43_dvd : ∀ (i : grid0.Coords) (v1 : BitVec 32) (v2 : BitVec 32) (v4 : BitVec 32) (v6 : BitVec 32) (k0_hw7 : k0_chk7 i v1 v2 v4 v6), ∀ (k0_h14 : k0_cond14 i = 1#1), ∀ (k0_h15 : k0_cond15 v1 v2 v4 v6 = 1#1), 8 ∣ (k0_mult43 v1 v2 v4 v6).toNat := fun i v1 v2 v4 v6 k0_hw7 k0_h14 k0_h15 => k0_hw7.2.2.2.2.2.2.2.2.2.2.2.2.2.1 k0_h14 k0_h15
theorem k0_mult44_dvd : ∀ (i : grid0.Coords) (v1 : BitVec 32) (v2 : BitVec 32) (v4 : BitVec 32) (v6 : BitVec 32) (k0_hw7 : k0_chk7 i v1 v2 v4 v6), ∀ (k0_h14 : k0_cond14 i = 1#1), ∀ (k0_h15 : k0_cond15 v1 v2 v4 v6 = 1#1), 8 ∣ (k0_mult44 v4).toNat := fun i v1 v2 v4 v6 k0_hw7 k0_h14 k0_h15 => k0_hw7.2.2.2.2.2.2.2.2.2.2.2.2.2.2.1 k0_h14 k0_h15
theorem k0_off38_inb : ∀ (i : grid0.Coords) (v1 : BitVec 32) (v2 : BitVec 32) (v4 : BitVec 32) (v6 : BitVec 32) (k0_hw7 : k0_chk7 i v1 v2 v4 v6), ∀ (k0_h14 : k0_cond14 i = 1#1), ∀ (k0_h15 : k0_cond15 v1 v2 v4 v6 = 1#1), ∀ a, (k0_off38 i v1 v2 v4 v6).2 a = 0 ∨ (k0_off38 i v1 v2 v4 v6).1 a + (k0_off38 i v1 v2 v4 v6).2 a ≤ S2x512x512.size a := fun i v1 v2 v4 v6 k0_hw7 k0_h14 k0_h15 => k0_hw7.2.2.2.2.2.2.2.2.2.2.2.2.2.2.2.1 k0_h14 k0_h15
theorem k0_sz7_squeezes : ∀ (i : grid0.Coords) (v1 : BitVec 32) (v2 : BitVec 32) (v4 : BitVec 32) (v6 : BitVec 32) (k0_hw7 : k0_chk7 i v1 v2 v4 v6), ∀ (k0_h14 : k0_cond14 i = 1#1), ∀ (k0_h15 : k0_cond15 v1 v2 v4 v6 = 1#1), (⟨3, (k0_off38 i v1 v2 v4 v6).2⟩ : Shape).Squeezes ⟨2, k0_sz7 v1 v2 v4 v6⟩ := fun i v1 v2 v4 v6 k0_hw7 k0_h14 k0_h15 => k0_hw7.2.2.2.2.2.2.2.2.2.2.2.2.2.2.2.2.1 k0_h14 k0_h15
theorem k0_off39_inb : ∀ (i : grid0.Coords) (v1 : BitVec 32) (v2 : BitVec 32) (v4 : BitVec 32) (v6 : BitVec 32) (k0_hw7 : k0_chk7 i v1 v2 v4 v6), ∀ (k0_h14 : k0_cond14 i = 1#1), ∀ (k0_h15 : k0_cond15 v1 v2 v4 v6 = 1#1), ∀ a, (k0_off39 i v1 v2 v4 v6).2 a = 0 ∨ (k0_off39 i v1 v2 v4 v6).1 a + (k0_off39 i v1 v2 v4 v6).2 a ≤ S900x14336.size a := fun i v1 v2 v4 v6 k0_hw7 k0_h14 k0_h15 => k0_hw7.2.2.2.2.2.2.2.2.2.2.2.2.2.2.2.2.2.1 k0_h14 k0_h15
theorem k0_off39_wordsbf16 : ∀ (i : grid0.Coords) (v1 : BitVec 32) (v2 : BitVec 32) (v4 : BitVec 32) (v6 : BitVec 32) (k0_hw7 : k0_chk7 i v1 v2 v4 v6), ∀ (k0_h14 : k0_cond14 i = 1#1), ∀ (k0_h15 : k0_cond15 v1 v2 v4 v6 = 1#1), (Rect.unitDyn (s := S900x14336) (k0_off39 i v1 v2 v4 v6).1 (k0_off39 i v1 v2 v4 v6).2 (k0_off39_inb i v1 v2 v4 v6 k0_hw7 k0_h14 k0_h15)).WholeWords (EltTy.packing .bf16) := fun i v1 v2 v4 v6 k0_hw7 k0_h14 k0_h15 => k0_hw7.2.2.2.2.2.2.2.2.2.2.2.2.2.2.2.2.2.2.1 k0_h14 k0_h15 (k0_off39_inb i v1 v2 v4 v6 k0_hw7 k0_h14 k0_h15)
theorem k0_off38_wordsbf16 : ∀ (i : grid0.Coords) (v1 : BitVec 32) (v2 : BitVec 32) (v4 : BitVec 32) (v6 : BitVec 32) (k0_hw7 : k0_chk7 i v1 v2 v4 v6), ∀ (k0_h14 : k0_cond14 i = 1#1), ∀ (k0_h15 : k0_cond15 v1 v2 v4 v6 = 1#1), (Rect.unitDyn (s := S2x512x512) (k0_off38 i v1 v2 v4 v6).1 (k0_off38 i v1 v2 v4 v6).2 (k0_off38_inb i v1 v2 v4 v6 k0_hw7 k0_h14 k0_h15)).WholeWords (EltTy.packing .bf16) := fun i v1 v2 v4 v6 k0_hw7 k0_h14 k0_h15 => k0_hw7.2.2.2.2.2.2.2.2.2.2.2.2.2.2.2.2.2.2.2.1 k0_h14 k0_h15 (k0_off38_inb i v1 v2 v4 v6 k0_hw7 k0_h14 k0_h15)
theorem k0_mult67_dvd : ∀ (i : grid0.Coords) (v1 : BitVec 32) (v2 : BitVec 32) (v4 : BitVec 32) (v6 : BitVec 32) (k0_hw7 : k0_chk7 i v1 v2 v4 v6), ∀ (k0_h21 : k0_cond21 i = 1#1), ∀ (k0_h22 : k0_cond22 v1 v2 v4 v6 = 1#1), 8 ∣ (k0_mult67 v1 v2 v4 v6).toNat := fun i v1 v2 v4 v6 k0_hw7 k0_h21 k0_h22 => k0_hw7.2.2.2.2.2.2.2.2.2.2.2.2.2.2.2.2.2.2.2.2.1 k0_h21 k0_h22
theorem k0_mult68_dvd : ∀ (i : grid0.Coords) (v1 : BitVec 32) (v2 : BitVec 32) (v4 : BitVec 32) (v6 : BitVec 32) (k0_hw7 : k0_chk7 i v1 v2 v4 v6), ∀ (k0_h21 : k0_cond21 i = 1#1), ∀ (k0_h22 : k0_cond22 v1 v2 v4 v6 = 1#1), 8 ∣ (k0_mult68 v4).toNat := fun i v1 v2 v4 v6 k0_hw7 k0_h21 k0_h22 => k0_hw7.2.2.2.2.2.2.2.2.2.2.2.2.2.2.2.2.2.2.2.2.2.1 k0_h21 k0_h22
theorem k0_mult85_dvd : ∀ (i : grid0.Coords) (v1 : BitVec 32) (v2 : BitVec 32) (v4 : BitVec 32) (v6 : BitVec 32) (k0_hw7 : k0_chk7 i v1 v2 v4 v6), ∀ (k0_h28 : k0_cond28 v1 v2 v4 v6 = 1#1), 8 ∣ (k0_mult85 v1 v2 v4 v6).toNat := fun i v1 v2 v4 v6 k0_hw7 k0_h28 => k0_hw7.2.2.2.2.2.2.2.2.2.2.2.2.2.2.2.2.2.2.2.2.2.2.1 k0_h28
theorem k0_mult86_dvd : ∀ (i : grid0.Coords) (v1 : BitVec 32) (v2 : BitVec 32) (v4 : BitVec 32) (v6 : BitVec 32) (k0_hw7 : k0_chk7 i v1 v2 v4 v6), ∀ (k0_h28 : k0_cond28 v1 v2 v4 v6 = 1#1), 8 ∣ (k0_mult86 v4).toNat := fun i v1 v2 v4 v6 k0_hw7 k0_h28 => k0_hw7.2.2.2.2.2.2.2.2.2.2.2.2.2.2.2.2.2.2.2.2.2.2.2.1 k0_h28
theorem k0_sz13_squeezes : ∀ (i : grid0.Coords) (v1 : BitVec 32) (v2 : BitVec 32) (v4 : BitVec 32) (v6 : BitVec 32) (k0_hw7 : k0_chk7 i v1 v2 v4 v6), ∀ (k0_h28 : k0_cond28 v1 v2 v4 v6 = 1#1), (⟨3, (k0_off74 i v1 v2 v4 v6).2⟩ : Shape).Squeezes ⟨2, k0_sz13 v1 v2 v4 v6⟩ := fun i v1 v2 v4 v6 k0_hw7 k0_h28 => k0_hw7.2.2.2.2.2.2.2.2.2.2.2.2.2.2.2.2.2.2.2.2.2.2.2.2 k0_h28

def k0_off75 (i : grid0.Coords) (v1 : BitVec 32) (v2 : BitVec 32) (v4 : BitVec 32) (v6 : BitVec 32) : (Fin 2 → Nat) × (Fin 2 → Nat) :=
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_177 : BitVec 32 := 8#32
  let v409 : BitVec 32 := Scalar.muli v23 c8_i32_177
  let v410 : BitVec 32 := v409
  let arg0 : BitVec 32 := BitVec.ofNat 32 (i 0).val
  let c512_i32 : BitVec 32 := 512#32
  let v411 : BitVec 32 := Scalar.muli arg0 c512_i32
  let v412 : BitVec 32 := v411
  let v26 : BitVec 1 := Scalar.cmpi .sgt v2 v1
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let c8_i32_176 : BitVec 32 := 8#32
  let v407 : BitVec 32 := Scalar.muli v47 c8_i32_176
  let v408 : BitVec 32 := v407
  ⟨![v410.toNat, v412.toNat], ![v408.toNat, 512]⟩

def k0_mult89 (v52 : BitVec 32) (v53 : BitVec 32) (v55 : BitVec 32) (v57 : BitVec 32) : BitVec 32 :=
  let v77 : BitVec 1 := Scalar.cmpi .sgt v53 v52
  let c0_i32_22 : BitVec 32 := 0#32
  let v59 : BitVec 1 := Scalar.cmpi .sgt v55 c0_i32_22
  let v60 : BitVec 32 := Scalar.extui v59
  let c0_i32_23 : BitVec 32 := 0#32
  let v61 : BitVec 1 := Scalar.cmpi .slt v55 c0_i32_23
  let v62 : BitVec 32 := Scalar.extui v61
  let v63 : BitVec 32 := Scalar.subi v60 v62
  let c8_i32_21 : BitVec 32 := 8#32
  let c0_i32_24 : BitVec 32 := 0#32
  let v64 : BitVec 1 := Scalar.cmpi .sgt c8_i32_21 c0_i32_24
  let v65 : BitVec 32 := Scalar.extui v64
  let c0_i32_25 : BitVec 32 := 0#32
  let v66 : BitVec 1 := Scalar.cmpi .slt c8_i32_21 c0_i32_25
  let v67 : BitVec 32 := Scalar.extui v66
  let v68 : BitVec 32 := Scalar.subi v65 v67
  let v69 : BitVec 1 := Scalar.cmpi .ne v63 v68
  let v70 : BitVec 32 := Scalar.remsi v55 c8_i32_21
  let c0_i32_26 : BitVec 32 := 0#32
  let v71 : BitVec 1 := Scalar.cmpi .ne v70 c0_i32_26
  let v72 : BitVec 1 := Scalar.andi v69 v71
  let v58 : BitVec 32 := Scalar.divsi v55 c8_i32_21
  let c1_i32_27 : BitVec 32 := 1#32
  let v73 : BitVec 32 := Scalar.subi v58 c1_i32_27
  let v74 : BitVec 32 := Scalar.select v72 v73 v58
  let c8_i32_28 : BitVec 32 := 8#32
  let v75 : BitVec 32 := Scalar.muli v74 c8_i32_28
  let v76 : BitVec 32 := Scalar.subi v55 v75
  let v78 : BitVec 32 := Scalar.addi v76 v57
  let c8_i32_29 : BitVec 32 := 8#32
  let v79 : BitVec 32 := Scalar.addi v78 c8_i32_29
  let c1_i32_30 : BitVec 32 := 1#32
  let v80 : BitVec 32 := Scalar.subi v79 c1_i32_30
  let c0_i32_32 : BitVec 32 := 0#32
  let v82 : BitVec 1 := Scalar.cmpi .sgt v80 c0_i32_32
  let v83 : BitVec 32 := Scalar.extui v82
  let c0_i32_33 : BitVec 32 := 0#32
  let v84 : BitVec 1 := Scalar.cmpi .slt v80 c0_i32_33
  let v85 : BitVec 32 := Scalar.extui v84
  let v86 : BitVec 32 := Scalar.subi v83 v85
  let c8_i32_31 : BitVec 32 := 8#32
  let c0_i32_34 : BitVec 32 := 0#32
  let v87 : BitVec 1 := Scalar.cmpi .sgt c8_i32_31 c0_i32_34
  let v88 : BitVec 32 := Scalar.extui v87
  let c0_i32_35 : BitVec 32 := 0#32
  let v89 : BitVec 1 := Scalar.cmpi .slt c8_i32_31 c0_i32_35
  let v90 : BitVec 32 := Scalar.extui v89
  let v91 : BitVec 32 := Scalar.subi v88 v90
  let v92 : BitVec 1 := Scalar.cmpi .ne v86 v91
  let v93 : BitVec 32 := Scalar.remsi v80 c8_i32_31
  let c0_i32_36 : BitVec 32 := 0#32
  let v94 : BitVec 1 := Scalar.cmpi .ne v93 c0_i32_36
  let v95 : BitVec 1 := Scalar.andi v92 v94
  let v81 : BitVec 32 := Scalar.divsi v80 c8_i32_31
  let c1_i32_37 : BitVec 32 := 1#32
  let v96 : BitVec 32 := Scalar.subi v81 c1_i32_37
  let v97 : BitVec 32 := Scalar.select v95 v96 v81
  let c0_i32_38 : BitVec 32 := 0#32
  let v98 : BitVec 32 := Scalar.select v77 v97 c0_i32_38
  let c8_i32_176 : BitVec 32 := 8#32
  let v407 : BitVec 32 := Scalar.muli v98 c8_i32_176
  v407
def k0_cond29 (v52 : BitVec 32) (v53 : BitVec 32) (v55 : BitVec 32) (v57 : BitVec 32) : BitVec 1 :=
  let v77 : BitVec 1 := Scalar.cmpi .sgt v53 v52
  let c0_i32_22 : BitVec 32 := 0#32
  let v59 : BitVec 1 := Scalar.cmpi .sgt v55 c0_i32_22
  let v60 : BitVec 32 := Scalar.extui v59
  let c0_i32_23 : BitVec 32 := 0#32
  let v61 : BitVec 1 := Scalar.cmpi .slt v55 c0_i32_23
  let v62 : BitVec 32 := Scalar.extui v61
  let v63 : BitVec 32 := Scalar.subi v60 v62
  let c8_i32_21 : BitVec 32 := 8#32
  let c0_i32_24 : BitVec 32 := 0#32
  let v64 : BitVec 1 := Scalar.cmpi .sgt c8_i32_21 c0_i32_24
  let v65 : BitVec 32 := Scalar.extui v64
  let c0_i32_25 : BitVec 32 := 0#32
  let v66 : BitVec 1 := Scalar.cmpi .slt c8_i32_21 c0_i32_25
  let v67 : BitVec 32 := Scalar.extui v66
  let v68 : BitVec 32 := Scalar.subi v65 v67
  let v69 : BitVec 1 := Scalar.cmpi .ne v63 v68
  let v70 : BitVec 32 := Scalar.remsi v55 c8_i32_21
  let c0_i32_26 : BitVec 32 := 0#32
  let v71 : BitVec 1 := Scalar.cmpi .ne v70 c0_i32_26
  let v72 : BitVec 1 := Scalar.andi v69 v71
  let v58 : BitVec 32 := Scalar.divsi v55 c8_i32_21
  let c1_i32_27 : BitVec 32 := 1#32
  let v73 : BitVec 32 := Scalar.subi v58 c1_i32_27
  let v74 : BitVec 32 := Scalar.select v72 v73 v58
  let c8_i32_28 : BitVec 32 := 8#32
  let v75 : BitVec 32 := Scalar.muli v74 c8_i32_28
  let v76 : BitVec 32 := Scalar.subi v55 v75
  let v78 : BitVec 32 := Scalar.addi v76 v57
  let c8_i32_29 : BitVec 32 := 8#32
  let v79 : BitVec 32 := Scalar.addi v78 c8_i32_29
  let c1_i32_30 : BitVec 32 := 1#32
  let v80 : BitVec 32 := Scalar.subi v79 c1_i32_30
  let c0_i32_32 : BitVec 32 := 0#32
  let v82 : BitVec 1 := Scalar.cmpi .sgt v80 c0_i32_32
  let v83 : BitVec 32 := Scalar.extui v82
  let c0_i32_33 : BitVec 32 := 0#32
  let v84 : BitVec 1 := Scalar.cmpi .slt v80 c0_i32_33
  let v85 : BitVec 32 := Scalar.extui v84
  let v86 : BitVec 32 := Scalar.subi v83 v85
  let c8_i32_31 : BitVec 32 := 8#32
  let c0_i32_34 : BitVec 32 := 0#32
  let v87 : BitVec 1 := Scalar.cmpi .sgt c8_i32_31 c0_i32_34
  let v88 : BitVec 32 := Scalar.extui v87
  let c0_i32_35 : BitVec 32 := 0#32
  let v89 : BitVec 1 := Scalar.cmpi .slt c8_i32_31 c0_i32_35
  let v90 : BitVec 32 := Scalar.extui v89
  let v91 : BitVec 32 := Scalar.subi v88 v90
  let v92 : BitVec 1 := Scalar.cmpi .ne v86 v91
  let v93 : BitVec 32 := Scalar.remsi v80 c8_i32_31
  let c0_i32_36 : BitVec 32 := 0#32
  let v94 : BitVec 1 := Scalar.cmpi .ne v93 c0_i32_36
  let v95 : BitVec 1 := Scalar.andi v92 v94
  let v81 : BitVec 32 := Scalar.divsi v80 c8_i32_31
  let c1_i32_37 : BitVec 32 := 1#32
  let v96 : BitVec 32 := Scalar.subi v81 c1_i32_37
  let v97 : BitVec 32 := Scalar.select v95 v96 v81
  let c0_i32_38 : BitVec 32 := 0#32
  let v98 : BitVec 32 := Scalar.select v77 v97 c0_i32_38
  let c0_i32_157 : BitVec 32 := 0#32
  let v382 : BitVec 1 := Scalar.cmpi .sgt v98 c0_i32_157
  let v383 : BitVec 32 := Scalar.extui v382
  let c0_i32_158 : BitVec 32 := 0#32
  let v384 : BitVec 1 := Scalar.cmpi .ne v383 c0_i32_158
  v384

def k0_mult90 (v55 : BitVec 32) : BitVec 32 :=
  let c0_i32_22 : BitVec 32 := 0#32
  let v59 : BitVec 1 := Scalar.cmpi .sgt v55 c0_i32_22
  let v60 : BitVec 32 := Scalar.extui v59
  let c0_i32_23 : BitVec 32 := 0#32
  let v61 : BitVec 1 := Scalar.cmpi .slt v55 c0_i32_23
  let v62 : BitVec 32 := Scalar.extui v61
  let v63 : BitVec 32 := Scalar.subi v60 v62
  let c8_i32_21 : BitVec 32 := 8#32
  let c0_i32_24 : BitVec 32 := 0#32
  let v64 : BitVec 1 := Scalar.cmpi .sgt c8_i32_21 c0_i32_24
  let v65 : BitVec 32 := Scalar.extui v64
  let c0_i32_25 : BitVec 32 := 0#32
  let v66 : BitVec 1 := Scalar.cmpi .slt c8_i32_21 c0_i32_25
  let v67 : BitVec 32 := Scalar.extui v66
  let v68 : BitVec 32 := Scalar.subi v65 v67
  let v69 : BitVec 1 := Scalar.cmpi .ne v63 v68
  let v70 : BitVec 32 := Scalar.remsi v55 c8_i32_21
  let c0_i32_26 : BitVec 32 := 0#32
  let v71 : BitVec 1 := Scalar.cmpi .ne v70 c0_i32_26
  let v72 : BitVec 1 := Scalar.andi v69 v71
  let v58 : BitVec 32 := Scalar.divsi v55 c8_i32_21
  let c1_i32_27 : BitVec 32 := 1#32
  let v73 : BitVec 32 := Scalar.subi v58 c1_i32_27
  let v74 : BitVec 32 := Scalar.select v72 v73 v58
  let c8_i32_177 : BitVec 32 := 8#32
  let v409 : BitVec 32 := Scalar.muli v74 c8_i32_177
  v409
def k0_mult91 (i : grid0.Coords) : BitVec 32 :=
  let arg0 : BitVec 32 := BitVec.ofNat 32 (i 0).val
  let c512_i32 : BitVec 32 := 512#32
  let v411 : BitVec 32 := Scalar.muli arg0 c512_i32
  v411
def k0_mult92 (v1 : BitVec 32) (v2 : BitVec 32) (v4 : BitVec 32) (v6 : BitVec 32) : BitVec 32 :=
  let c0_i32_18 : BitVec 32 := 0#32
  let v26 : BitVec 1 := Scalar.cmpi .sgt v2 v1
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let v50 : BitVec 32 := Scalar.addi c0_i32_18 v47
  let c8_i32_178 : BitVec 32 := 8#32
  let v413 : BitVec 32 := Scalar.muli v50 c8_i32_178
  v413
def k0_off76 (i : grid0.Coords) : Fin 2 → Nat :=
  let arg0 : BitVec 32 := BitVec.ofNat 32 (i 0).val
  let c2_i32_175 : BitVec 32 := 2#32
  let v406 : BitVec 32 := Scalar.remsi arg0 c2_i32_175
  let c1_i32_179 : BitVec 32 := 1#32
  ![v406.toNat, 1]
def k0_off77 (i : grid0.Coords) (v1 : BitVec 32) (v2 : BitVec 32) (v4 : BitVec 32) (v6 : BitVec 32) (v52 : BitVec 32) (v53 : BitVec 32) (v55 : BitVec 32) (v57 : BitVec 32) : (Fin 3 → Nat) × (Fin 3 → Nat) :=
  let arg0 : BitVec 32 := BitVec.ofNat 32 (i 0).val
  let c2_i32_175 : BitVec 32 := 2#32
  let v406 : BitVec 32 := Scalar.remsi arg0 c2_i32_175
  let c0_i32_18 : BitVec 32 := 0#32
  let v26 : BitVec 1 := Scalar.cmpi .sgt v2 v1
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let v50 : BitVec 32 := Scalar.addi c0_i32_18 v47
  let c8_i32_178 : BitVec 32 := 8#32
  let v413 : BitVec 32 := Scalar.muli v50 c8_i32_178
  let v414 : BitVec 32 := v413
  let c0_i32_180 : BitVec 32 := 0#32
  let v77 : BitVec 1 := Scalar.cmpi .sgt v53 v52
  let c0_i32_22 : BitVec 32 := 0#32
  let v59 : BitVec 1 := Scalar.cmpi .sgt v55 c0_i32_22
  let v60 : BitVec 32 := Scalar.extui v59
  let c0_i32_23 : BitVec 32 := 0#32
  let v61 : BitVec 1 := Scalar.cmpi .slt v55 c0_i32_23
  let v62 : BitVec 32 := Scalar.extui v61
  let v63 : BitVec 32 := Scalar.subi v60 v62
  let c8_i32_21 : BitVec 32 := 8#32
  let c0_i32_24 : BitVec 32 := 0#32
  let v64 : BitVec 1 := Scalar.cmpi .sgt c8_i32_21 c0_i32_24
  let v65 : BitVec 32 := Scalar.extui v64
  let c0_i32_25 : BitVec 32 := 0#32
  let v66 : BitVec 1 := Scalar.cmpi .slt c8_i32_21 c0_i32_25
  let v67 : BitVec 32 := Scalar.extui v66
  let v68 : BitVec 32 := Scalar.subi v65 v67
  let v69 : BitVec 1 := Scalar.cmpi .ne v63 v68
  let v70 : BitVec 32 := Scalar.remsi v55 c8_i32_21
  let c0_i32_26 : BitVec 32 := 0#32
  let v71 : BitVec 1 := Scalar.cmpi .ne v70 c0_i32_26
  let v72 : BitVec 1 := Scalar.andi v69 v71
  let v58 : BitVec 32 := Scalar.divsi v55 c8_i32_21
  let c1_i32_27 : BitVec 32 := 1#32
  let v73 : BitVec 32 := Scalar.subi v58 c1_i32_27
  let v74 : BitVec 32 := Scalar.select v72 v73 v58
  let c8_i32_28 : BitVec 32 := 8#32
  let v75 : BitVec 32 := Scalar.muli v74 c8_i32_28
  let v76 : BitVec 32 := Scalar.subi v55 v75
  let v78 : BitVec 32 := Scalar.addi v76 v57
  let c8_i32_29 : BitVec 32 := 8#32
  let v79 : BitVec 32 := Scalar.addi v78 c8_i32_29
  let c1_i32_30 : BitVec 32 := 1#32
  let v80 : BitVec 32 := Scalar.subi v79 c1_i32_30
  let c0_i32_32 : BitVec 32 := 0#32
  let v82 : BitVec 1 := Scalar.cmpi .sgt v80 c0_i32_32
  let v83 : BitVec 32 := Scalar.extui v82
  let c0_i32_33 : BitVec 32 := 0#32
  let v84 : BitVec 1 := Scalar.cmpi .slt v80 c0_i32_33
  let v85 : BitVec 32 := Scalar.extui v84
  let v86 : BitVec 32 := Scalar.subi v83 v85
  let c8_i32_31 : BitVec 32 := 8#32
  let c0_i32_34 : BitVec 32 := 0#32
  let v87 : BitVec 1 := Scalar.cmpi .sgt c8_i32_31 c0_i32_34
  let v88 : BitVec 32 := Scalar.extui v87
  let c0_i32_35 : BitVec 32 := 0#32
  let v89 : BitVec 1 := Scalar.cmpi .slt c8_i32_31 c0_i32_35
  let v90 : BitVec 32 := Scalar.extui v89
  let v91 : BitVec 32 := Scalar.subi v88 v90
  let v92 : BitVec 1 := Scalar.cmpi .ne v86 v91
  let v93 : BitVec 32 := Scalar.remsi v80 c8_i32_31
  let c0_i32_36 : BitVec 32 := 0#32
  let v94 : BitVec 1 := Scalar.cmpi .ne v93 c0_i32_36
  let v95 : BitVec 1 := Scalar.andi v92 v94
  let v81 : BitVec 32 := Scalar.divsi v80 c8_i32_31
  let c1_i32_37 : BitVec 32 := 1#32
  let v96 : BitVec 32 := Scalar.subi v81 c1_i32_37
  let v97 : BitVec 32 := Scalar.select v95 v96 v81
  let c0_i32_38 : BitVec 32 := 0#32
  let v98 : BitVec 32 := Scalar.select v77 v97 c0_i32_38
  let c8_i32_176 : BitVec 32 := 8#32
  let v407 : BitVec 32 := Scalar.muli v98 c8_i32_176
  let v408 : BitVec 32 := v407
  ⟨![v406.toNat, v414.toNat, 0], ![1, v408.toNat, 512]⟩

def k0_sz14 (v52 : BitVec 32) (v53 : BitVec 32) (v55 : BitVec 32) (v57 : BitVec 32) : Fin 2 → Nat :=
  let v77 : BitVec 1 := Scalar.cmpi .sgt v53 v52
  let c0_i32_22 : BitVec 32 := 0#32
  let v59 : BitVec 1 := Scalar.cmpi .sgt v55 c0_i32_22
  let v60 : BitVec 32 := Scalar.extui v59
  let c0_i32_23 : BitVec 32 := 0#32
  let v61 : BitVec 1 := Scalar.cmpi .slt v55 c0_i32_23
  let v62 : BitVec 32 := Scalar.extui v61
  let v63 : BitVec 32 := Scalar.subi v60 v62
  let c8_i32_21 : BitVec 32 := 8#32
  let c0_i32_24 : BitVec 32 := 0#32
  let v64 : BitVec 1 := Scalar.cmpi .sgt c8_i32_21 c0_i32_24
  let v65 : BitVec 32 := Scalar.extui v64
  let c0_i32_25 : BitVec 32 := 0#32
  let v66 : BitVec 1 := Scalar.cmpi .slt c8_i32_21 c0_i32_25
  let v67 : BitVec 32 := Scalar.extui v66
  let v68 : BitVec 32 := Scalar.subi v65 v67
  let v69 : BitVec 1 := Scalar.cmpi .ne v63 v68
  let v70 : BitVec 32 := Scalar.remsi v55 c8_i32_21
  let c0_i32_26 : BitVec 32 := 0#32
  let v71 : BitVec 1 := Scalar.cmpi .ne v70 c0_i32_26
  let v72 : BitVec 1 := Scalar.andi v69 v71
  let v58 : BitVec 32 := Scalar.divsi v55 c8_i32_21
  let c1_i32_27 : BitVec 32 := 1#32
  let v73 : BitVec 32 := Scalar.subi v58 c1_i32_27
  let v74 : BitVec 32 := Scalar.select v72 v73 v58
  let c8_i32_28 : BitVec 32 := 8#32
  let v75 : BitVec 32 := Scalar.muli v74 c8_i32_28
  let v76 : BitVec 32 := Scalar.subi v55 v75
  let v78 : BitVec 32 := Scalar.addi v76 v57
  let c8_i32_29 : BitVec 32 := 8#32
  let v79 : BitVec 32 := Scalar.addi v78 c8_i32_29
  let c1_i32_30 : BitVec 32 := 1#32
  let v80 : BitVec 32 := Scalar.subi v79 c1_i32_30
  let c0_i32_32 : BitVec 32 := 0#32
  let v82 : BitVec 1 := Scalar.cmpi .sgt v80 c0_i32_32
  let v83 : BitVec 32 := Scalar.extui v82
  let c0_i32_33 : BitVec 32 := 0#32
  let v84 : BitVec 1 := Scalar.cmpi .slt v80 c0_i32_33
  let v85 : BitVec 32 := Scalar.extui v84
  let v86 : BitVec 32 := Scalar.subi v83 v85
  let c8_i32_31 : BitVec 32 := 8#32
  let c0_i32_34 : BitVec 32 := 0#32
  let v87 : BitVec 1 := Scalar.cmpi .sgt c8_i32_31 c0_i32_34
  let v88 : BitVec 32 := Scalar.extui v87
  let c0_i32_35 : BitVec 32 := 0#32
  let v89 : BitVec 1 := Scalar.cmpi .slt c8_i32_31 c0_i32_35
  let v90 : BitVec 32 := Scalar.extui v89
  let v91 : BitVec 32 := Scalar.subi v88 v90
  let v92 : BitVec 1 := Scalar.cmpi .ne v86 v91
  let v93 : BitVec 32 := Scalar.remsi v80 c8_i32_31
  let c0_i32_36 : BitVec 32 := 0#32
  let v94 : BitVec 1 := Scalar.cmpi .ne v93 c0_i32_36
  let v95 : BitVec 1 := Scalar.andi v92 v94
  let v81 : BitVec 32 := Scalar.divsi v80 c8_i32_31
  let c1_i32_37 : BitVec 32 := 1#32
  let v96 : BitVec 32 := Scalar.subi v81 c1_i32_37
  let v97 : BitVec 32 := Scalar.select v95 v96 v81
  let c0_i32_38 : BitVec 32 := 0#32
  let v98 : BitVec 32 := Scalar.select v77 v97 c0_i32_38
  let c8_i32_176 : BitVec 32 := 8#32
  let v407 : BitVec 32 := Scalar.muli v98 c8_i32_176
  let v408 : BitVec 32 := v407
  ![v408.toNat, 512]

def k0_chk8 (i : grid0.Coords) (v1 : BitVec 32) (v2 : BitVec 32) (v4 : BitVec 32) (v6 : BitVec 32) (v52 : BitVec 32) (v53 : BitVec 32) (v55 : BitVec 32) (v57 : BitVec 32) : Prop :=
  (∀ (k0_h1 : k0_cond1 i = 1#1), ∀ (k0_h3 : k0_cond3 v52 v53 v55 v57 = 1#1), 8 ∣ (k0_mult4 v52 v53 v55 v57).toNat) ∧
  (∀ (k0_h1 : k0_cond1 i = 1#1), ∀ (k0_h3 : k0_cond3 v52 v53 v55 v57 = 1#1), 8 ∣ (k0_mult5 v55).toNat) ∧
  (∀ (k0_h1 : k0_cond1 i = 1#1), ∀ (k0_h3 : k0_cond3 v52 v53 v55 v57 = 1#1), 8 ∣ (k0_mult6 v1 v2 v4 v6).toNat) ∧
  (∀ (k0_h1 : k0_cond1 i = 1#1), ∀ (k0_h3 : k0_cond3 v52 v53 v55 v57 = 1#1), ∀ a, (k0_off9 v1 v2 v4 v6 v52 v53 v55 v57).2 a = 0 ∨ (k0_off9 v1 v2 v4 v6 v52 v53 v55 v57).1 a + (k0_off9 v1 v2 v4 v6 v52 v53 v55 v57).2 a ≤ S512x4096.size a) ∧
  (∀ (k0_h1 : k0_cond1 i = 1#1), ∀ (k0_h3 : k0_cond3 v52 v53 v55 v57 = 1#1), ∀ a, (k0_off10 v52 v53 v55 v57).2 a = 0 ∨ (k0_off10 v52 v53 v55 v57).1 a + (k0_off10 v52 v53 v55 v57).2 a ≤ S900x4096.size a) ∧
  (∀ (k0_h1 : k0_cond1 i = 1#1), ∀ (k0_h3 : k0_cond3 v52 v53 v55 v57 = 1#1), ∀ (hinb : ∀ a, (k0_off10 v52 v53 v55 v57).2 a = 0 ∨ (k0_off10 v52 v53 v55 v57).1 a + (k0_off10 v52 v53 v55 v57).2 a ≤ S900x4096.size a), (Rect.unitDyn (s := S900x4096) (k0_off10 v52 v53 v55 v57).1 (k0_off10 v52 v53 v55 v57).2 hinb).WholeWords (EltTy.packing .bf16)) ∧
  (∀ (k0_h1 : k0_cond1 i = 1#1), ∀ (k0_h3 : k0_cond3 v52 v53 v55 v57 = 1#1), ∀ (hinb : ∀ a, (k0_off9 v1 v2 v4 v6 v52 v53 v55 v57).2 a = 0 ∨ (k0_off9 v1 v2 v4 v6 v52 v53 v55 v57).1 a + (k0_off9 v1 v2 v4 v6 v52 v53 v55 v57).2 a ≤ S512x4096.size a), (Rect.unitDyn (s := S512x4096) (k0_off9 v1 v2 v4 v6 v52 v53 v55 v57).1 (k0_off9 v1 v2 v4 v6 v52 v53 v55 v57).2 hinb).WholeWords (EltTy.packing .bf16)) ∧
  (∀ (k0_h1 : k0_cond1 i = 1#1), ∀ (k0_h9 : k0_cond9 v52 v53 v55 v57 = 1#1), 8 ∣ (k0_mult23 v52 v53 v55 v57).toNat) ∧
  (∀ (k0_h1 : k0_cond1 i = 1#1), ∀ (k0_h9 : k0_cond9 v52 v53 v55 v57 = 1#1), 8 ∣ (k0_mult24 v55).toNat) ∧
  (∀ (k0_h1 : k0_cond1 i = 1#1), ∀ (k0_h9 : k0_cond9 v52 v53 v55 v57 = 1#1), 8 ∣ (k0_mult26 v1 v2 v4 v6).toNat) ∧
  (∀ (k0_h1 : k0_cond1 i = 1#1), ∀ (k0_h9 : k0_cond9 v52 v53 v55 v57 = 1#1), ∀ a, (k0_off23 i v1 v2 v4 v6 v52 v53 v55 v57).2 a = 0 ∨ (k0_off23 i v1 v2 v4 v6 v52 v53 v55 v57).1 a + (k0_off23 i v1 v2 v4 v6 v52 v53 v55 v57).2 a ≤ S2x512x512.size a) ∧
  (∀ (k0_h1 : k0_cond1 i = 1#1), ∀ (k0_h9 : k0_cond9 v52 v53 v55 v57 = 1#1), (⟨3, (k0_off23 i v1 v2 v4 v6 v52 v53 v55 v57).2⟩ : Shape).Squeezes ⟨2, k0_sz2 v52 v53 v55 v57⟩) ∧
  (∀ (k0_h1 : k0_cond1 i = 1#1), ∀ (k0_h9 : k0_cond9 v52 v53 v55 v57 = 1#1), ∀ a, (k0_off24 i v52 v53 v55 v57).2 a = 0 ∨ (k0_off24 i v52 v53 v55 v57).1 a + (k0_off24 i v52 v53 v55 v57).2 a ≤ S900x14336.size a) ∧
  (∀ (k0_h1 : k0_cond1 i = 1#1), ∀ (k0_h9 : k0_cond9 v52 v53 v55 v57 = 1#1), ∀ (hinb : ∀ a, (k0_off24 i v52 v53 v55 v57).2 a = 0 ∨ (k0_off24 i v52 v53 v55 v57).1 a + (k0_off24 i v52 v53 v55 v57).2 a ≤ S900x14336.size a), (Rect.unitDyn (s := S900x14336) (k0_off24 i v52 v53 v55 v57).1 (k0_off24 i v52 v53 v55 v57).2 hinb).WholeWords (EltTy.packing .bf16)) ∧
  (∀ (k0_h1 : k0_cond1 i = 1#1), ∀ (k0_h9 : k0_cond9 v52 v53 v55 v57 = 1#1), ∀ (hinb : ∀ a, (k0_off23 i v1 v2 v4 v6 v52 v53 v55 v57).2 a = 0 ∨ (k0_off23 i v1 v2 v4 v6 v52 v53 v55 v57).1 a + (k0_off23 i v1 v2 v4 v6 v52 v53 v55 v57).2 a ≤ S2x512x512.size a), (Rect.unitDyn (s := S2x512x512) (k0_off23 i v1 v2 v4 v6 v52 v53 v55 v57).1 (k0_off23 i v1 v2 v4 v6 v52 v53 v55 v57).2 hinb).WholeWords (EltTy.packing .bf16)) ∧
  (∀ (k0_h14 : k0_cond14 i = 1#1), ∀ (k0_h16 : k0_cond16 v52 v53 v55 v57 = 1#1), 8 ∣ (k0_mult47 v52 v53 v55 v57).toNat) ∧
  (∀ (k0_h14 : k0_cond14 i = 1#1), ∀ (k0_h16 : k0_cond16 v52 v53 v55 v57 = 1#1), 8 ∣ (k0_mult48 v55).toNat) ∧
  (∀ (k0_h14 : k0_cond14 i = 1#1), ∀ (k0_h16 : k0_cond16 v52 v53 v55 v57 = 1#1), 8 ∣ (k0_mult50 v1 v2 v4 v6).toNat) ∧
  (∀ (k0_h14 : k0_cond14 i = 1#1), ∀ (k0_h16 : k0_cond16 v52 v53 v55 v57 = 1#1), ∀ a, (k0_off41 i v1 v2 v4 v6 v52 v53 v55 v57).2 a = 0 ∨ (k0_off41 i v1 v2 v4 v6 v52 v53 v55 v57).1 a + (k0_off41 i v1 v2 v4 v6 v52 v53 v55 v57).2 a ≤ S2x512x512.size a) ∧
  (∀ (k0_h14 : k0_cond14 i = 1#1), ∀ (k0_h16 : k0_cond16 v52 v53 v55 v57 = 1#1), (⟨3, (k0_off41 i v1 v2 v4 v6 v52 v53 v55 v57).2⟩ : Shape).Squeezes ⟨2, k0_sz8 v52 v53 v55 v57⟩) ∧
  (∀ (k0_h14 : k0_cond14 i = 1#1), ∀ (k0_h16 : k0_cond16 v52 v53 v55 v57 = 1#1), ∀ a, (k0_off42 i v52 v53 v55 v57).2 a = 0 ∨ (k0_off42 i v52 v53 v55 v57).1 a + (k0_off42 i v52 v53 v55 v57).2 a ≤ S900x14336.size a) ∧
  (∀ (k0_h14 : k0_cond14 i = 1#1), ∀ (k0_h16 : k0_cond16 v52 v53 v55 v57 = 1#1), ∀ (hinb : ∀ a, (k0_off42 i v52 v53 v55 v57).2 a = 0 ∨ (k0_off42 i v52 v53 v55 v57).1 a + (k0_off42 i v52 v53 v55 v57).2 a ≤ S900x14336.size a), (Rect.unitDyn (s := S900x14336) (k0_off42 i v52 v53 v55 v57).1 (k0_off42 i v52 v53 v55 v57).2 hinb).WholeWords (EltTy.packing .bf16)) ∧
  (∀ (k0_h14 : k0_cond14 i = 1#1), ∀ (k0_h16 : k0_cond16 v52 v53 v55 v57 = 1#1), ∀ (hinb : ∀ a, (k0_off41 i v1 v2 v4 v6 v52 v53 v55 v57).2 a = 0 ∨ (k0_off41 i v1 v2 v4 v6 v52 v53 v55 v57).1 a + (k0_off41 i v1 v2 v4 v6 v52 v53 v55 v57).2 a ≤ S2x512x512.size a), (Rect.unitDyn (s := S2x512x512) (k0_off41 i v1 v2 v4 v6 v52 v53 v55 v57).1 (k0_off41 i v1 v2 v4 v6 v52 v53 v55 v57).2 hinb).WholeWords (EltTy.packing .bf16)) ∧
  (∀ (k0_h21 : k0_cond21 i = 1#1), ∀ (k0_h23 : k0_cond23 v52 v53 v55 v57 = 1#1), 8 ∣ (k0_mult70 v52 v53 v55 v57).toNat) ∧
  (∀ (k0_h21 : k0_cond21 i = 1#1), ∀ (k0_h23 : k0_cond23 v52 v53 v55 v57 = 1#1), 8 ∣ (k0_mult71 v55).toNat) ∧
  (∀ (k0_h21 : k0_cond21 i = 1#1), ∀ (k0_h23 : k0_cond23 v52 v53 v55 v57 = 1#1), 8 ∣ (k0_mult72 v1 v2 v4 v6).toNat) ∧
  (∀ (k0_h29 : k0_cond29 v52 v53 v55 v57 = 1#1), 8 ∣ (k0_mult89 v52 v53 v55 v57).toNat) ∧
  (∀ (k0_h29 : k0_cond29 v52 v53 v55 v57 = 1#1), 8 ∣ (k0_mult90 v55).toNat) ∧
  (∀ (k0_h29 : k0_cond29 v52 v53 v55 v57 = 1#1), 8 ∣ (k0_mult92 v1 v2 v4 v6).toNat) ∧
  (∀ (k0_h29 : k0_cond29 v52 v53 v55 v57 = 1#1), (⟨3, (k0_off77 i v1 v2 v4 v6 v52 v53 v55 v57).2⟩ : Shape).Squeezes ⟨2, k0_sz14 v52 v53 v55 v57⟩)
theorem k0_mult4_dvd : ∀ (i : grid0.Coords) (v1 : BitVec 32) (v2 : BitVec 32) (v4 : BitVec 32) (v6 : BitVec 32) (v52 : BitVec 32) (v53 : BitVec 32) (v55 : BitVec 32) (v57 : BitVec 32) (k0_hw8 : k0_chk8 i v1 v2 v4 v6 v52 v53 v55 v57), ∀ (k0_h1 : k0_cond1 i = 1#1), ∀ (k0_h3 : k0_cond3 v52 v53 v55 v57 = 1#1), 8 ∣ (k0_mult4 v52 v53 v55 v57).toNat := fun i v1 v2 v4 v6 v52 v53 v55 v57 k0_hw8 k0_h1 k0_h3 => k0_hw8.1 k0_h1 k0_h3
theorem k0_mult5_dvd : ∀ (i : grid0.Coords) (v1 : BitVec 32) (v2 : BitVec 32) (v4 : BitVec 32) (v6 : BitVec 32) (v52 : BitVec 32) (v53 : BitVec 32) (v55 : BitVec 32) (v57 : BitVec 32) (k0_hw8 : k0_chk8 i v1 v2 v4 v6 v52 v53 v55 v57), ∀ (k0_h1 : k0_cond1 i = 1#1), ∀ (k0_h3 : k0_cond3 v52 v53 v55 v57 = 1#1), 8 ∣ (k0_mult5 v55).toNat := fun i v1 v2 v4 v6 v52 v53 v55 v57 k0_hw8 k0_h1 k0_h3 => k0_hw8.2.1 k0_h1 k0_h3
theorem k0_mult6_dvd : ∀ (i : grid0.Coords) (v1 : BitVec 32) (v2 : BitVec 32) (v4 : BitVec 32) (v6 : BitVec 32) (v52 : BitVec 32) (v53 : BitVec 32) (v55 : BitVec 32) (v57 : BitVec 32) (k0_hw8 : k0_chk8 i v1 v2 v4 v6 v52 v53 v55 v57), ∀ (k0_h1 : k0_cond1 i = 1#1), ∀ (k0_h3 : k0_cond3 v52 v53 v55 v57 = 1#1), 8 ∣ (k0_mult6 v1 v2 v4 v6).toNat := fun i v1 v2 v4 v6 v52 v53 v55 v57 k0_hw8 k0_h1 k0_h3 => k0_hw8.2.2.1 k0_h1 k0_h3
theorem k0_off9_inb : ∀ (i : grid0.Coords) (v1 : BitVec 32) (v2 : BitVec 32) (v4 : BitVec 32) (v6 : BitVec 32) (v52 : BitVec 32) (v53 : BitVec 32) (v55 : BitVec 32) (v57 : BitVec 32) (k0_hw8 : k0_chk8 i v1 v2 v4 v6 v52 v53 v55 v57), ∀ (k0_h1 : k0_cond1 i = 1#1), ∀ (k0_h3 : k0_cond3 v52 v53 v55 v57 = 1#1), ∀ a, (k0_off9 v1 v2 v4 v6 v52 v53 v55 v57).2 a = 0 ∨ (k0_off9 v1 v2 v4 v6 v52 v53 v55 v57).1 a + (k0_off9 v1 v2 v4 v6 v52 v53 v55 v57).2 a ≤ S512x4096.size a := fun i v1 v2 v4 v6 v52 v53 v55 v57 k0_hw8 k0_h1 k0_h3 => k0_hw8.2.2.2.1 k0_h1 k0_h3
theorem k0_off10_inb : ∀ (i : grid0.Coords) (v1 : BitVec 32) (v2 : BitVec 32) (v4 : BitVec 32) (v6 : BitVec 32) (v52 : BitVec 32) (v53 : BitVec 32) (v55 : BitVec 32) (v57 : BitVec 32) (k0_hw8 : k0_chk8 i v1 v2 v4 v6 v52 v53 v55 v57), ∀ (k0_h1 : k0_cond1 i = 1#1), ∀ (k0_h3 : k0_cond3 v52 v53 v55 v57 = 1#1), ∀ a, (k0_off10 v52 v53 v55 v57).2 a = 0 ∨ (k0_off10 v52 v53 v55 v57).1 a + (k0_off10 v52 v53 v55 v57).2 a ≤ S900x4096.size a := fun i v1 v2 v4 v6 v52 v53 v55 v57 k0_hw8 k0_h1 k0_h3 => k0_hw8.2.2.2.2.1 k0_h1 k0_h3
theorem k0_off10_wordsbf16 : ∀ (i : grid0.Coords) (v1 : BitVec 32) (v2 : BitVec 32) (v4 : BitVec 32) (v6 : BitVec 32) (v52 : BitVec 32) (v53 : BitVec 32) (v55 : BitVec 32) (v57 : BitVec 32) (k0_hw8 : k0_chk8 i v1 v2 v4 v6 v52 v53 v55 v57), ∀ (k0_h1 : k0_cond1 i = 1#1), ∀ (k0_h3 : k0_cond3 v52 v53 v55 v57 = 1#1), (Rect.unitDyn (s := S900x4096) (k0_off10 v52 v53 v55 v57).1 (k0_off10 v52 v53 v55 v57).2 (k0_off10_inb i v1 v2 v4 v6 v52 v53 v55 v57 k0_hw8 k0_h1 k0_h3)).WholeWords (EltTy.packing .bf16) := fun i v1 v2 v4 v6 v52 v53 v55 v57 k0_hw8 k0_h1 k0_h3 => k0_hw8.2.2.2.2.2.1 k0_h1 k0_h3 (k0_off10_inb i v1 v2 v4 v6 v52 v53 v55 v57 k0_hw8 k0_h1 k0_h3)
theorem k0_off9_wordsbf16 : ∀ (i : grid0.Coords) (v1 : BitVec 32) (v2 : BitVec 32) (v4 : BitVec 32) (v6 : BitVec 32) (v52 : BitVec 32) (v53 : BitVec 32) (v55 : BitVec 32) (v57 : BitVec 32) (k0_hw8 : k0_chk8 i v1 v2 v4 v6 v52 v53 v55 v57), ∀ (k0_h1 : k0_cond1 i = 1#1), ∀ (k0_h3 : k0_cond3 v52 v53 v55 v57 = 1#1), (Rect.unitDyn (s := S512x4096) (k0_off9 v1 v2 v4 v6 v52 v53 v55 v57).1 (k0_off9 v1 v2 v4 v6 v52 v53 v55 v57).2 (k0_off9_inb i v1 v2 v4 v6 v52 v53 v55 v57 k0_hw8 k0_h1 k0_h3)).WholeWords (EltTy.packing .bf16) := fun i v1 v2 v4 v6 v52 v53 v55 v57 k0_hw8 k0_h1 k0_h3 => k0_hw8.2.2.2.2.2.2.1 k0_h1 k0_h3 (k0_off9_inb i v1 v2 v4 v6 v52 v53 v55 v57 k0_hw8 k0_h1 k0_h3)
theorem k0_mult23_dvd : ∀ (i : grid0.Coords) (v1 : BitVec 32) (v2 : BitVec 32) (v4 : BitVec 32) (v6 : BitVec 32) (v52 : BitVec 32) (v53 : BitVec 32) (v55 : BitVec 32) (v57 : BitVec 32) (k0_hw8 : k0_chk8 i v1 v2 v4 v6 v52 v53 v55 v57), ∀ (k0_h1 : k0_cond1 i = 1#1), ∀ (k0_h9 : k0_cond9 v52 v53 v55 v57 = 1#1), 8 ∣ (k0_mult23 v52 v53 v55 v57).toNat := fun i v1 v2 v4 v6 v52 v53 v55 v57 k0_hw8 k0_h1 k0_h9 => k0_hw8.2.2.2.2.2.2.2.1 k0_h1 k0_h9
theorem k0_mult24_dvd : ∀ (i : grid0.Coords) (v1 : BitVec 32) (v2 : BitVec 32) (v4 : BitVec 32) (v6 : BitVec 32) (v52 : BitVec 32) (v53 : BitVec 32) (v55 : BitVec 32) (v57 : BitVec 32) (k0_hw8 : k0_chk8 i v1 v2 v4 v6 v52 v53 v55 v57), ∀ (k0_h1 : k0_cond1 i = 1#1), ∀ (k0_h9 : k0_cond9 v52 v53 v55 v57 = 1#1), 8 ∣ (k0_mult24 v55).toNat := fun i v1 v2 v4 v6 v52 v53 v55 v57 k0_hw8 k0_h1 k0_h9 => k0_hw8.2.2.2.2.2.2.2.2.1 k0_h1 k0_h9
theorem k0_mult26_dvd : ∀ (i : grid0.Coords) (v1 : BitVec 32) (v2 : BitVec 32) (v4 : BitVec 32) (v6 : BitVec 32) (v52 : BitVec 32) (v53 : BitVec 32) (v55 : BitVec 32) (v57 : BitVec 32) (k0_hw8 : k0_chk8 i v1 v2 v4 v6 v52 v53 v55 v57), ∀ (k0_h1 : k0_cond1 i = 1#1), ∀ (k0_h9 : k0_cond9 v52 v53 v55 v57 = 1#1), 8 ∣ (k0_mult26 v1 v2 v4 v6).toNat := fun i v1 v2 v4 v6 v52 v53 v55 v57 k0_hw8 k0_h1 k0_h9 => k0_hw8.2.2.2.2.2.2.2.2.2.1 k0_h1 k0_h9
theorem k0_off23_inb : ∀ (i : grid0.Coords) (v1 : BitVec 32) (v2 : BitVec 32) (v4 : BitVec 32) (v6 : BitVec 32) (v52 : BitVec 32) (v53 : BitVec 32) (v55 : BitVec 32) (v57 : BitVec 32) (k0_hw8 : k0_chk8 i v1 v2 v4 v6 v52 v53 v55 v57), ∀ (k0_h1 : k0_cond1 i = 1#1), ∀ (k0_h9 : k0_cond9 v52 v53 v55 v57 = 1#1), ∀ a, (k0_off23 i v1 v2 v4 v6 v52 v53 v55 v57).2 a = 0 ∨ (k0_off23 i v1 v2 v4 v6 v52 v53 v55 v57).1 a + (k0_off23 i v1 v2 v4 v6 v52 v53 v55 v57).2 a ≤ S2x512x512.size a := fun i v1 v2 v4 v6 v52 v53 v55 v57 k0_hw8 k0_h1 k0_h9 => k0_hw8.2.2.2.2.2.2.2.2.2.2.1 k0_h1 k0_h9
theorem k0_sz2_squeezes : ∀ (i : grid0.Coords) (v1 : BitVec 32) (v2 : BitVec 32) (v4 : BitVec 32) (v6 : BitVec 32) (v52 : BitVec 32) (v53 : BitVec 32) (v55 : BitVec 32) (v57 : BitVec 32) (k0_hw8 : k0_chk8 i v1 v2 v4 v6 v52 v53 v55 v57), ∀ (k0_h1 : k0_cond1 i = 1#1), ∀ (k0_h9 : k0_cond9 v52 v53 v55 v57 = 1#1), (⟨3, (k0_off23 i v1 v2 v4 v6 v52 v53 v55 v57).2⟩ : Shape).Squeezes ⟨2, k0_sz2 v52 v53 v55 v57⟩ := fun i v1 v2 v4 v6 v52 v53 v55 v57 k0_hw8 k0_h1 k0_h9 => k0_hw8.2.2.2.2.2.2.2.2.2.2.2.1 k0_h1 k0_h9
theorem k0_off24_inb : ∀ (i : grid0.Coords) (v1 : BitVec 32) (v2 : BitVec 32) (v4 : BitVec 32) (v6 : BitVec 32) (v52 : BitVec 32) (v53 : BitVec 32) (v55 : BitVec 32) (v57 : BitVec 32) (k0_hw8 : k0_chk8 i v1 v2 v4 v6 v52 v53 v55 v57), ∀ (k0_h1 : k0_cond1 i = 1#1), ∀ (k0_h9 : k0_cond9 v52 v53 v55 v57 = 1#1), ∀ a, (k0_off24 i v52 v53 v55 v57).2 a = 0 ∨ (k0_off24 i v52 v53 v55 v57).1 a + (k0_off24 i v52 v53 v55 v57).2 a ≤ S900x14336.size a := fun i v1 v2 v4 v6 v52 v53 v55 v57 k0_hw8 k0_h1 k0_h9 => k0_hw8.2.2.2.2.2.2.2.2.2.2.2.2.1 k0_h1 k0_h9
theorem k0_off24_wordsbf16 : ∀ (i : grid0.Coords) (v1 : BitVec 32) (v2 : BitVec 32) (v4 : BitVec 32) (v6 : BitVec 32) (v52 : BitVec 32) (v53 : BitVec 32) (v55 : BitVec 32) (v57 : BitVec 32) (k0_hw8 : k0_chk8 i v1 v2 v4 v6 v52 v53 v55 v57), ∀ (k0_h1 : k0_cond1 i = 1#1), ∀ (k0_h9 : k0_cond9 v52 v53 v55 v57 = 1#1), (Rect.unitDyn (s := S900x14336) (k0_off24 i v52 v53 v55 v57).1 (k0_off24 i v52 v53 v55 v57).2 (k0_off24_inb i v1 v2 v4 v6 v52 v53 v55 v57 k0_hw8 k0_h1 k0_h9)).WholeWords (EltTy.packing .bf16) := fun i v1 v2 v4 v6 v52 v53 v55 v57 k0_hw8 k0_h1 k0_h9 => k0_hw8.2.2.2.2.2.2.2.2.2.2.2.2.2.1 k0_h1 k0_h9 (k0_off24_inb i v1 v2 v4 v6 v52 v53 v55 v57 k0_hw8 k0_h1 k0_h9)
theorem k0_off23_wordsbf16 : ∀ (i : grid0.Coords) (v1 : BitVec 32) (v2 : BitVec 32) (v4 : BitVec 32) (v6 : BitVec 32) (v52 : BitVec 32) (v53 : BitVec 32) (v55 : BitVec 32) (v57 : BitVec 32) (k0_hw8 : k0_chk8 i v1 v2 v4 v6 v52 v53 v55 v57), ∀ (k0_h1 : k0_cond1 i = 1#1), ∀ (k0_h9 : k0_cond9 v52 v53 v55 v57 = 1#1), (Rect.unitDyn (s := S2x512x512) (k0_off23 i v1 v2 v4 v6 v52 v53 v55 v57).1 (k0_off23 i v1 v2 v4 v6 v52 v53 v55 v57).2 (k0_off23_inb i v1 v2 v4 v6 v52 v53 v55 v57 k0_hw8 k0_h1 k0_h9)).WholeWords (EltTy.packing .bf16) := fun i v1 v2 v4 v6 v52 v53 v55 v57 k0_hw8 k0_h1 k0_h9 => k0_hw8.2.2.2.2.2.2.2.2.2.2.2.2.2.2.1 k0_h1 k0_h9 (k0_off23_inb i v1 v2 v4 v6 v52 v53 v55 v57 k0_hw8 k0_h1 k0_h9)
theorem k0_mult47_dvd : ∀ (i : grid0.Coords) (v1 : BitVec 32) (v2 : BitVec 32) (v4 : BitVec 32) (v6 : BitVec 32) (v52 : BitVec 32) (v53 : BitVec 32) (v55 : BitVec 32) (v57 : BitVec 32) (k0_hw8 : k0_chk8 i v1 v2 v4 v6 v52 v53 v55 v57), ∀ (k0_h14 : k0_cond14 i = 1#1), ∀ (k0_h16 : k0_cond16 v52 v53 v55 v57 = 1#1), 8 ∣ (k0_mult47 v52 v53 v55 v57).toNat := fun i v1 v2 v4 v6 v52 v53 v55 v57 k0_hw8 k0_h14 k0_h16 => k0_hw8.2.2.2.2.2.2.2.2.2.2.2.2.2.2.2.1 k0_h14 k0_h16
theorem k0_mult48_dvd : ∀ (i : grid0.Coords) (v1 : BitVec 32) (v2 : BitVec 32) (v4 : BitVec 32) (v6 : BitVec 32) (v52 : BitVec 32) (v53 : BitVec 32) (v55 : BitVec 32) (v57 : BitVec 32) (k0_hw8 : k0_chk8 i v1 v2 v4 v6 v52 v53 v55 v57), ∀ (k0_h14 : k0_cond14 i = 1#1), ∀ (k0_h16 : k0_cond16 v52 v53 v55 v57 = 1#1), 8 ∣ (k0_mult48 v55).toNat := fun i v1 v2 v4 v6 v52 v53 v55 v57 k0_hw8 k0_h14 k0_h16 => k0_hw8.2.2.2.2.2.2.2.2.2.2.2.2.2.2.2.2.1 k0_h14 k0_h16
theorem k0_mult50_dvd : ∀ (i : grid0.Coords) (v1 : BitVec 32) (v2 : BitVec 32) (v4 : BitVec 32) (v6 : BitVec 32) (v52 : BitVec 32) (v53 : BitVec 32) (v55 : BitVec 32) (v57 : BitVec 32) (k0_hw8 : k0_chk8 i v1 v2 v4 v6 v52 v53 v55 v57), ∀ (k0_h14 : k0_cond14 i = 1#1), ∀ (k0_h16 : k0_cond16 v52 v53 v55 v57 = 1#1), 8 ∣ (k0_mult50 v1 v2 v4 v6).toNat := fun i v1 v2 v4 v6 v52 v53 v55 v57 k0_hw8 k0_h14 k0_h16 => k0_hw8.2.2.2.2.2.2.2.2.2.2.2.2.2.2.2.2.2.1 k0_h14 k0_h16
theorem k0_off41_inb : ∀ (i : grid0.Coords) (v1 : BitVec 32) (v2 : BitVec 32) (v4 : BitVec 32) (v6 : BitVec 32) (v52 : BitVec 32) (v53 : BitVec 32) (v55 : BitVec 32) (v57 : BitVec 32) (k0_hw8 : k0_chk8 i v1 v2 v4 v6 v52 v53 v55 v57), ∀ (k0_h14 : k0_cond14 i = 1#1), ∀ (k0_h16 : k0_cond16 v52 v53 v55 v57 = 1#1), ∀ a, (k0_off41 i v1 v2 v4 v6 v52 v53 v55 v57).2 a = 0 ∨ (k0_off41 i v1 v2 v4 v6 v52 v53 v55 v57).1 a + (k0_off41 i v1 v2 v4 v6 v52 v53 v55 v57).2 a ≤ S2x512x512.size a := fun i v1 v2 v4 v6 v52 v53 v55 v57 k0_hw8 k0_h14 k0_h16 => k0_hw8.2.2.2.2.2.2.2.2.2.2.2.2.2.2.2.2.2.2.1 k0_h14 k0_h16
theorem k0_sz8_squeezes : ∀ (i : grid0.Coords) (v1 : BitVec 32) (v2 : BitVec 32) (v4 : BitVec 32) (v6 : BitVec 32) (v52 : BitVec 32) (v53 : BitVec 32) (v55 : BitVec 32) (v57 : BitVec 32) (k0_hw8 : k0_chk8 i v1 v2 v4 v6 v52 v53 v55 v57), ∀ (k0_h14 : k0_cond14 i = 1#1), ∀ (k0_h16 : k0_cond16 v52 v53 v55 v57 = 1#1), (⟨3, (k0_off41 i v1 v2 v4 v6 v52 v53 v55 v57).2⟩ : Shape).Squeezes ⟨2, k0_sz8 v52 v53 v55 v57⟩ := fun i v1 v2 v4 v6 v52 v53 v55 v57 k0_hw8 k0_h14 k0_h16 => k0_hw8.2.2.2.2.2.2.2.2.2.2.2.2.2.2.2.2.2.2.2.1 k0_h14 k0_h16
theorem k0_off42_inb : ∀ (i : grid0.Coords) (v1 : BitVec 32) (v2 : BitVec 32) (v4 : BitVec 32) (v6 : BitVec 32) (v52 : BitVec 32) (v53 : BitVec 32) (v55 : BitVec 32) (v57 : BitVec 32) (k0_hw8 : k0_chk8 i v1 v2 v4 v6 v52 v53 v55 v57), ∀ (k0_h14 : k0_cond14 i = 1#1), ∀ (k0_h16 : k0_cond16 v52 v53 v55 v57 = 1#1), ∀ a, (k0_off42 i v52 v53 v55 v57).2 a = 0 ∨ (k0_off42 i v52 v53 v55 v57).1 a + (k0_off42 i v52 v53 v55 v57).2 a ≤ S900x14336.size a := fun i v1 v2 v4 v6 v52 v53 v55 v57 k0_hw8 k0_h14 k0_h16 => k0_hw8.2.2.2.2.2.2.2.2.2.2.2.2.2.2.2.2.2.2.2.2.1 k0_h14 k0_h16
theorem k0_off42_wordsbf16 : ∀ (i : grid0.Coords) (v1 : BitVec 32) (v2 : BitVec 32) (v4 : BitVec 32) (v6 : BitVec 32) (v52 : BitVec 32) (v53 : BitVec 32) (v55 : BitVec 32) (v57 : BitVec 32) (k0_hw8 : k0_chk8 i v1 v2 v4 v6 v52 v53 v55 v57), ∀ (k0_h14 : k0_cond14 i = 1#1), ∀ (k0_h16 : k0_cond16 v52 v53 v55 v57 = 1#1), (Rect.unitDyn (s := S900x14336) (k0_off42 i v52 v53 v55 v57).1 (k0_off42 i v52 v53 v55 v57).2 (k0_off42_inb i v1 v2 v4 v6 v52 v53 v55 v57 k0_hw8 k0_h14 k0_h16)).WholeWords (EltTy.packing .bf16) := fun i v1 v2 v4 v6 v52 v53 v55 v57 k0_hw8 k0_h14 k0_h16 => k0_hw8.2.2.2.2.2.2.2.2.2.2.2.2.2.2.2.2.2.2.2.2.2.1 k0_h14 k0_h16 (k0_off42_inb i v1 v2 v4 v6 v52 v53 v55 v57 k0_hw8 k0_h14 k0_h16)
theorem k0_off41_wordsbf16 : ∀ (i : grid0.Coords) (v1 : BitVec 32) (v2 : BitVec 32) (v4 : BitVec 32) (v6 : BitVec 32) (v52 : BitVec 32) (v53 : BitVec 32) (v55 : BitVec 32) (v57 : BitVec 32) (k0_hw8 : k0_chk8 i v1 v2 v4 v6 v52 v53 v55 v57), ∀ (k0_h14 : k0_cond14 i = 1#1), ∀ (k0_h16 : k0_cond16 v52 v53 v55 v57 = 1#1), (Rect.unitDyn (s := S2x512x512) (k0_off41 i v1 v2 v4 v6 v52 v53 v55 v57).1 (k0_off41 i v1 v2 v4 v6 v52 v53 v55 v57).2 (k0_off41_inb i v1 v2 v4 v6 v52 v53 v55 v57 k0_hw8 k0_h14 k0_h16)).WholeWords (EltTy.packing .bf16) := fun i v1 v2 v4 v6 v52 v53 v55 v57 k0_hw8 k0_h14 k0_h16 => k0_hw8.2.2.2.2.2.2.2.2.2.2.2.2.2.2.2.2.2.2.2.2.2.2.1 k0_h14 k0_h16 (k0_off41_inb i v1 v2 v4 v6 v52 v53 v55 v57 k0_hw8 k0_h14 k0_h16)
theorem k0_mult70_dvd : ∀ (i : grid0.Coords) (v1 : BitVec 32) (v2 : BitVec 32) (v4 : BitVec 32) (v6 : BitVec 32) (v52 : BitVec 32) (v53 : BitVec 32) (v55 : BitVec 32) (v57 : BitVec 32) (k0_hw8 : k0_chk8 i v1 v2 v4 v6 v52 v53 v55 v57), ∀ (k0_h21 : k0_cond21 i = 1#1), ∀ (k0_h23 : k0_cond23 v52 v53 v55 v57 = 1#1), 8 ∣ (k0_mult70 v52 v53 v55 v57).toNat := fun i v1 v2 v4 v6 v52 v53 v55 v57 k0_hw8 k0_h21 k0_h23 => k0_hw8.2.2.2.2.2.2.2.2.2.2.2.2.2.2.2.2.2.2.2.2.2.2.2.1 k0_h21 k0_h23
theorem k0_mult71_dvd : ∀ (i : grid0.Coords) (v1 : BitVec 32) (v2 : BitVec 32) (v4 : BitVec 32) (v6 : BitVec 32) (v52 : BitVec 32) (v53 : BitVec 32) (v55 : BitVec 32) (v57 : BitVec 32) (k0_hw8 : k0_chk8 i v1 v2 v4 v6 v52 v53 v55 v57), ∀ (k0_h21 : k0_cond21 i = 1#1), ∀ (k0_h23 : k0_cond23 v52 v53 v55 v57 = 1#1), 8 ∣ (k0_mult71 v55).toNat := fun i v1 v2 v4 v6 v52 v53 v55 v57 k0_hw8 k0_h21 k0_h23 => k0_hw8.2.2.2.2.2.2.2.2.2.2.2.2.2.2.2.2.2.2.2.2.2.2.2.2.1 k0_h21 k0_h23
theorem k0_mult72_dvd : ∀ (i : grid0.Coords) (v1 : BitVec 32) (v2 : BitVec 32) (v4 : BitVec 32) (v6 : BitVec 32) (v52 : BitVec 32) (v53 : BitVec 32) (v55 : BitVec 32) (v57 : BitVec 32) (k0_hw8 : k0_chk8 i v1 v2 v4 v6 v52 v53 v55 v57), ∀ (k0_h21 : k0_cond21 i = 1#1), ∀ (k0_h23 : k0_cond23 v52 v53 v55 v57 = 1#1), 8 ∣ (k0_mult72 v1 v2 v4 v6).toNat := fun i v1 v2 v4 v6 v52 v53 v55 v57 k0_hw8 k0_h21 k0_h23 => k0_hw8.2.2.2.2.2.2.2.2.2.2.2.2.2.2.2.2.2.2.2.2.2.2.2.2.2.1 k0_h21 k0_h23
theorem k0_mult89_dvd : ∀ (i : grid0.Coords) (v1 : BitVec 32) (v2 : BitVec 32) (v4 : BitVec 32) (v6 : BitVec 32) (v52 : BitVec 32) (v53 : BitVec 32) (v55 : BitVec 32) (v57 : BitVec 32) (k0_hw8 : k0_chk8 i v1 v2 v4 v6 v52 v53 v55 v57), ∀ (k0_h29 : k0_cond29 v52 v53 v55 v57 = 1#1), 8 ∣ (k0_mult89 v52 v53 v55 v57).toNat := fun i v1 v2 v4 v6 v52 v53 v55 v57 k0_hw8 k0_h29 => k0_hw8.2.2.2.2.2.2.2.2.2.2.2.2.2.2.2.2.2.2.2.2.2.2.2.2.2.2.1 k0_h29
theorem k0_mult90_dvd : ∀ (i : grid0.Coords) (v1 : BitVec 32) (v2 : BitVec 32) (v4 : BitVec 32) (v6 : BitVec 32) (v52 : BitVec 32) (v53 : BitVec 32) (v55 : BitVec 32) (v57 : BitVec 32) (k0_hw8 : k0_chk8 i v1 v2 v4 v6 v52 v53 v55 v57), ∀ (k0_h29 : k0_cond29 v52 v53 v55 v57 = 1#1), 8 ∣ (k0_mult90 v55).toNat := fun i v1 v2 v4 v6 v52 v53 v55 v57 k0_hw8 k0_h29 => k0_hw8.2.2.2.2.2.2.2.2.2.2.2.2.2.2.2.2.2.2.2.2.2.2.2.2.2.2.2.1 k0_h29
theorem k0_mult92_dvd : ∀ (i : grid0.Coords) (v1 : BitVec 32) (v2 : BitVec 32) (v4 : BitVec 32) (v6 : BitVec 32) (v52 : BitVec 32) (v53 : BitVec 32) (v55 : BitVec 32) (v57 : BitVec 32) (k0_hw8 : k0_chk8 i v1 v2 v4 v6 v52 v53 v55 v57), ∀ (k0_h29 : k0_cond29 v52 v53 v55 v57 = 1#1), 8 ∣ (k0_mult92 v1 v2 v4 v6).toNat := fun i v1 v2 v4 v6 v52 v53 v55 v57 k0_hw8 k0_h29 => k0_hw8.2.2.2.2.2.2.2.2.2.2.2.2.2.2.2.2.2.2.2.2.2.2.2.2.2.2.2.2.1 k0_h29
theorem k0_sz14_squeezes : ∀ (i : grid0.Coords) (v1 : BitVec 32) (v2 : BitVec 32) (v4 : BitVec 32) (v6 : BitVec 32) (v52 : BitVec 32) (v53 : BitVec 32) (v55 : BitVec 32) (v57 : BitVec 32) (k0_hw8 : k0_chk8 i v1 v2 v4 v6 v52 v53 v55 v57), ∀ (k0_h29 : k0_cond29 v52 v53 v55 v57 = 1#1), (⟨3, (k0_off77 i v1 v2 v4 v6 v52 v53 v55 v57).2⟩ : Shape).Squeezes ⟨2, k0_sz14 v52 v53 v55 v57⟩ := fun i v1 v2 v4 v6 v52 v53 v55 v57 k0_hw8 k0_h29 => k0_hw8.2.2.2.2.2.2.2.2.2.2.2.2.2.2.2.2.2.2.2.2.2.2.2.2.2.2.2.2.2 k0_h29

def k0_off78 (i : grid0.Coords) (v52 : BitVec 32) (v53 : BitVec 32) (v55 : BitVec 32) (v57 : BitVec 32) : (Fin 2 → Nat) × (Fin 2 → Nat) :=
  let c0_i32_22 : BitVec 32 := 0#32
  let v59 : BitVec 1 := Scalar.cmpi .sgt v55 c0_i32_22
  let v60 : BitVec 32 := Scalar.extui v59
  let c0_i32_23 : BitVec 32 := 0#32
  let v61 : BitVec 1 := Scalar.cmpi .slt v55 c0_i32_23
  let v62 : BitVec 32 := Scalar.extui v61
  let v63 : BitVec 32 := Scalar.subi v60 v62
  let c8_i32_21 : BitVec 32 := 8#32
  let c0_i32_24 : BitVec 32 := 0#32
  let v64 : BitVec 1 := Scalar.cmpi .sgt c8_i32_21 c0_i32_24
  let v65 : BitVec 32 := Scalar.extui v64
  let c0_i32_25 : BitVec 32 := 0#32
  let v66 : BitVec 1 := Scalar.cmpi .slt c8_i32_21 c0_i32_25
  let v67 : BitVec 32 := Scalar.extui v66
  let v68 : BitVec 32 := Scalar.subi v65 v67
  let v69 : BitVec 1 := Scalar.cmpi .ne v63 v68
  let v70 : BitVec 32 := Scalar.remsi v55 c8_i32_21
  let c0_i32_26 : BitVec 32 := 0#32
  let v71 : BitVec 1 := Scalar.cmpi .ne v70 c0_i32_26
  let v72 : BitVec 1 := Scalar.andi v69 v71
  let v58 : BitVec 32 := Scalar.divsi v55 c8_i32_21
  let c1_i32_27 : BitVec 32 := 1#32
  let v73 : BitVec 32 := Scalar.subi v58 c1_i32_27
  let v74 : BitVec 32 := Scalar.select v72 v73 v58
  let c8_i32_177 : BitVec 32 := 8#32
  let v409 : BitVec 32 := Scalar.muli v74 c8_i32_177
  let v410 : BitVec 32 := v409
  let arg0 : BitVec 32 := BitVec.ofNat 32 (i 0).val
  let c512_i32 : BitVec 32 := 512#32
  let v411 : BitVec 32 := Scalar.muli arg0 c512_i32
  let v412 : BitVec 32 := v411
  let v77 : BitVec 1 := Scalar.cmpi .sgt v53 v52
  let c8_i32_28 : BitVec 32 := 8#32
  let v75 : BitVec 32 := Scalar.muli v74 c8_i32_28
  let v76 : BitVec 32 := Scalar.subi v55 v75
  let v78 : BitVec 32 := Scalar.addi v76 v57
  let c8_i32_29 : BitVec 32 := 8#32
  let v79 : BitVec 32 := Scalar.addi v78 c8_i32_29
  let c1_i32_30 : BitVec 32 := 1#32
  let v80 : BitVec 32 := Scalar.subi v79 c1_i32_30
  let c0_i32_32 : BitVec 32 := 0#32
  let v82 : BitVec 1 := Scalar.cmpi .sgt v80 c0_i32_32
  let v83 : BitVec 32 := Scalar.extui v82
  let c0_i32_33 : BitVec 32 := 0#32
  let v84 : BitVec 1 := Scalar.cmpi .slt v80 c0_i32_33
  let v85 : BitVec 32 := Scalar.extui v84
  let v86 : BitVec 32 := Scalar.subi v83 v85
  let c8_i32_31 : BitVec 32 := 8#32
  let c0_i32_34 : BitVec 32 := 0#32
  let v87 : BitVec 1 := Scalar.cmpi .sgt c8_i32_31 c0_i32_34
  let v88 : BitVec 32 := Scalar.extui v87
  let c0_i32_35 : BitVec 32 := 0#32
  let v89 : BitVec 1 := Scalar.cmpi .slt c8_i32_31 c0_i32_35
  let v90 : BitVec 32 := Scalar.extui v89
  let v91 : BitVec 32 := Scalar.subi v88 v90
  let v92 : BitVec 1 := Scalar.cmpi .ne v86 v91
  let v93 : BitVec 32 := Scalar.remsi v80 c8_i32_31
  let c0_i32_36 : BitVec 32 := 0#32
  let v94 : BitVec 1 := Scalar.cmpi .ne v93 c0_i32_36
  let v95 : BitVec 1 := Scalar.andi v92 v94
  let v81 : BitVec 32 := Scalar.divsi v80 c8_i32_31
  let c1_i32_37 : BitVec 32 := 1#32
  let v96 : BitVec 32 := Scalar.subi v81 c1_i32_37
  let v97 : BitVec 32 := Scalar.select v95 v96 v81
  let c0_i32_38 : BitVec 32 := 0#32
  let v98 : BitVec 32 := Scalar.select v77 v97 c0_i32_38
  let c8_i32_176 : BitVec 32 := 8#32
  let v407 : BitVec 32 := Scalar.muli v98 c8_i32_176
  let v408 : BitVec 32 := v407
  ⟨![v410.toNat, v412.toNat], ![v408.toNat, 512]⟩

def k0_mult93 (v103 : BitVec 32) (v104 : BitVec 32) (v106 : BitVec 32) (v108 : BitVec 32) : BitVec 32 :=
  let v128 : BitVec 1 := Scalar.cmpi .sgt v104 v103
  let c0_i32_43 : BitVec 32 := 0#32
  let v110 : BitVec 1 := Scalar.cmpi .sgt v106 c0_i32_43
  let v111 : BitVec 32 := Scalar.extui v110
  let c0_i32_44 : BitVec 32 := 0#32
  let v112 : BitVec 1 := Scalar.cmpi .slt v106 c0_i32_44
  let v113 : BitVec 32 := Scalar.extui v112
  let v114 : BitVec 32 := Scalar.subi v111 v113
  let c8_i32_42 : BitVec 32 := 8#32
  let c0_i32_45 : BitVec 32 := 0#32
  let v115 : BitVec 1 := Scalar.cmpi .sgt c8_i32_42 c0_i32_45
  let v116 : BitVec 32 := Scalar.extui v115
  let c0_i32_46 : BitVec 32 := 0#32
  let v117 : BitVec 1 := Scalar.cmpi .slt c8_i32_42 c0_i32_46
  let v118 : BitVec 32 := Scalar.extui v117
  let v119 : BitVec 32 := Scalar.subi v116 v118
  let v120 : BitVec 1 := Scalar.cmpi .ne v114 v119
  let v121 : BitVec 32 := Scalar.remsi v106 c8_i32_42
  let c0_i32_47 : BitVec 32 := 0#32
  let v122 : BitVec 1 := Scalar.cmpi .ne v121 c0_i32_47
  let v123 : BitVec 1 := Scalar.andi v120 v122
  let v109 : BitVec 32 := Scalar.divsi v106 c8_i32_42
  let c1_i32_48 : BitVec 32 := 1#32
  let v124 : BitVec 32 := Scalar.subi v109 c1_i32_48
  let v125 : BitVec 32 := Scalar.select v123 v124 v109
  let c8_i32_49 : BitVec 32 := 8#32
  let v126 : BitVec 32 := Scalar.muli v125 c8_i32_49
  let v127 : BitVec 32 := Scalar.subi v106 v126
  let v129 : BitVec 32 := Scalar.addi v127 v108
  let c8_i32_50 : BitVec 32 := 8#32
  let v130 : BitVec 32 := Scalar.addi v129 c8_i32_50
  let c1_i32_51 : BitVec 32 := 1#32
  let v131 : BitVec 32 := Scalar.subi v130 c1_i32_51
  let c0_i32_53 : BitVec 32 := 0#32
  let v133 : BitVec 1 := Scalar.cmpi .sgt v131 c0_i32_53
  let v134 : BitVec 32 := Scalar.extui v133
  let c0_i32_54 : BitVec 32 := 0#32
  let v135 : BitVec 1 := Scalar.cmpi .slt v131 c0_i32_54
  let v136 : BitVec 32 := Scalar.extui v135
  let v137 : BitVec 32 := Scalar.subi v134 v136
  let c8_i32_52 : BitVec 32 := 8#32
  let c0_i32_55 : BitVec 32 := 0#32
  let v138 : BitVec 1 := Scalar.cmpi .sgt c8_i32_52 c0_i32_55
  let v139 : BitVec 32 := Scalar.extui v138
  let c0_i32_56 : BitVec 32 := 0#32
  let v140 : BitVec 1 := Scalar.cmpi .slt c8_i32_52 c0_i32_56
  let v141 : BitVec 32 := Scalar.extui v140
  let v142 : BitVec 32 := Scalar.subi v139 v141
  let v143 : BitVec 1 := Scalar.cmpi .ne v137 v142
  let v144 : BitVec 32 := Scalar.remsi v131 c8_i32_52
  let c0_i32_57 : BitVec 32 := 0#32
  let v145 : BitVec 1 := Scalar.cmpi .ne v144 c0_i32_57
  let v146 : BitVec 1 := Scalar.andi v143 v145
  let v132 : BitVec 32 := Scalar.divsi v131 c8_i32_52
  let c1_i32_58 : BitVec 32 := 1#32
  let v147 : BitVec 32 := Scalar.subi v132 c1_i32_58
  let v148 : BitVec 32 := Scalar.select v146 v147 v132
  let c0_i32_59 : BitVec 32 := 0#32
  let v149 : BitVec 32 := Scalar.select v128 v148 c0_i32_59
  let c8_i32_176 : BitVec 32 := 8#32
  let v407 : BitVec 32 := Scalar.muli v149 c8_i32_176
  v407
def k0_cond30 (v103 : BitVec 32) (v104 : BitVec 32) (v106 : BitVec 32) (v108 : BitVec 32) : BitVec 1 :=
  let v128 : BitVec 1 := Scalar.cmpi .sgt v104 v103
  let c0_i32_43 : BitVec 32 := 0#32
  let v110 : BitVec 1 := Scalar.cmpi .sgt v106 c0_i32_43
  let v111 : BitVec 32 := Scalar.extui v110
  let c0_i32_44 : BitVec 32 := 0#32
  let v112 : BitVec 1 := Scalar.cmpi .slt v106 c0_i32_44
  let v113 : BitVec 32 := Scalar.extui v112
  let v114 : BitVec 32 := Scalar.subi v111 v113
  let c8_i32_42 : BitVec 32 := 8#32
  let c0_i32_45 : BitVec 32 := 0#32
  let v115 : BitVec 1 := Scalar.cmpi .sgt c8_i32_42 c0_i32_45
  let v116 : BitVec 32 := Scalar.extui v115
  let c0_i32_46 : BitVec 32 := 0#32
  let v117 : BitVec 1 := Scalar.cmpi .slt c8_i32_42 c0_i32_46
  let v118 : BitVec 32 := Scalar.extui v117
  let v119 : BitVec 32 := Scalar.subi v116 v118
  let v120 : BitVec 1 := Scalar.cmpi .ne v114 v119
  let v121 : BitVec 32 := Scalar.remsi v106 c8_i32_42
  let c0_i32_47 : BitVec 32 := 0#32
  let v122 : BitVec 1 := Scalar.cmpi .ne v121 c0_i32_47
  let v123 : BitVec 1 := Scalar.andi v120 v122
  let v109 : BitVec 32 := Scalar.divsi v106 c8_i32_42
  let c1_i32_48 : BitVec 32 := 1#32
  let v124 : BitVec 32 := Scalar.subi v109 c1_i32_48
  let v125 : BitVec 32 := Scalar.select v123 v124 v109
  let c8_i32_49 : BitVec 32 := 8#32
  let v126 : BitVec 32 := Scalar.muli v125 c8_i32_49
  let v127 : BitVec 32 := Scalar.subi v106 v126
  let v129 : BitVec 32 := Scalar.addi v127 v108
  let c8_i32_50 : BitVec 32 := 8#32
  let v130 : BitVec 32 := Scalar.addi v129 c8_i32_50
  let c1_i32_51 : BitVec 32 := 1#32
  let v131 : BitVec 32 := Scalar.subi v130 c1_i32_51
  let c0_i32_53 : BitVec 32 := 0#32
  let v133 : BitVec 1 := Scalar.cmpi .sgt v131 c0_i32_53
  let v134 : BitVec 32 := Scalar.extui v133
  let c0_i32_54 : BitVec 32 := 0#32
  let v135 : BitVec 1 := Scalar.cmpi .slt v131 c0_i32_54
  let v136 : BitVec 32 := Scalar.extui v135
  let v137 : BitVec 32 := Scalar.subi v134 v136
  let c8_i32_52 : BitVec 32 := 8#32
  let c0_i32_55 : BitVec 32 := 0#32
  let v138 : BitVec 1 := Scalar.cmpi .sgt c8_i32_52 c0_i32_55
  let v139 : BitVec 32 := Scalar.extui v138
  let c0_i32_56 : BitVec 32 := 0#32
  let v140 : BitVec 1 := Scalar.cmpi .slt c8_i32_52 c0_i32_56
  let v141 : BitVec 32 := Scalar.extui v140
  let v142 : BitVec 32 := Scalar.subi v139 v141
  let v143 : BitVec 1 := Scalar.cmpi .ne v137 v142
  let v144 : BitVec 32 := Scalar.remsi v131 c8_i32_52
  let c0_i32_57 : BitVec 32 := 0#32
  let v145 : BitVec 1 := Scalar.cmpi .ne v144 c0_i32_57
  let v146 : BitVec 1 := Scalar.andi v143 v145
  let v132 : BitVec 32 := Scalar.divsi v131 c8_i32_52
  let c1_i32_58 : BitVec 32 := 1#32
  let v147 : BitVec 32 := Scalar.subi v132 c1_i32_58
  let v148 : BitVec 32 := Scalar.select v146 v147 v132
  let c0_i32_59 : BitVec 32 := 0#32
  let v149 : BitVec 32 := Scalar.select v128 v148 c0_i32_59
  let c0_i32_159 : BitVec 32 := 0#32
  let v385 : BitVec 1 := Scalar.cmpi .sgt v149 c0_i32_159
  let v386 : BitVec 32 := Scalar.extui v385
  let c0_i32_160 : BitVec 32 := 0#32
  let v387 : BitVec 1 := Scalar.cmpi .ne v386 c0_i32_160
  v387

def k0_mult94 (v106 : BitVec 32) : BitVec 32 :=
  let c0_i32_43 : BitVec 32 := 0#32
  let v110 : BitVec 1 := Scalar.cmpi .sgt v106 c0_i32_43
  let v111 : BitVec 32 := Scalar.extui v110
  let c0_i32_44 : BitVec 32 := 0#32
  let v112 : BitVec 1 := Scalar.cmpi .slt v106 c0_i32_44
  let v113 : BitVec 32 := Scalar.extui v112
  let v114 : BitVec 32 := Scalar.subi v111 v113
  let c8_i32_42 : BitVec 32 := 8#32
  let c0_i32_45 : BitVec 32 := 0#32
  let v115 : BitVec 1 := Scalar.cmpi .sgt c8_i32_42 c0_i32_45
  let v116 : BitVec 32 := Scalar.extui v115
  let c0_i32_46 : BitVec 32 := 0#32
  let v117 : BitVec 1 := Scalar.cmpi .slt c8_i32_42 c0_i32_46
  let v118 : BitVec 32 := Scalar.extui v117
  let v119 : BitVec 32 := Scalar.subi v116 v118
  let v120 : BitVec 1 := Scalar.cmpi .ne v114 v119
  let v121 : BitVec 32 := Scalar.remsi v106 c8_i32_42
  let c0_i32_47 : BitVec 32 := 0#32
  let v122 : BitVec 1 := Scalar.cmpi .ne v121 c0_i32_47
  let v123 : BitVec 1 := Scalar.andi v120 v122
  let v109 : BitVec 32 := Scalar.divsi v106 c8_i32_42
  let c1_i32_48 : BitVec 32 := 1#32
  let v124 : BitVec 32 := Scalar.subi v109 c1_i32_48
  let v125 : BitVec 32 := Scalar.select v123 v124 v109
  let c8_i32_177 : BitVec 32 := 8#32
  let v409 : BitVec 32 := Scalar.muli v125 c8_i32_177
  v409
def k0_mult95 (i : grid0.Coords) : BitVec 32 :=
  let arg0 : BitVec 32 := BitVec.ofNat 32 (i 0).val
  let c512_i32 : BitVec 32 := 512#32
  let v411 : BitVec 32 := Scalar.muli arg0 c512_i32
  v411
def k0_mult96 (v1 : BitVec 32) (v2 : BitVec 32) (v4 : BitVec 32) (v6 : BitVec 32) (v52 : BitVec 32) (v53 : BitVec 32) (v55 : BitVec 32) (v57 : BitVec 32) : BitVec 32 :=
  let c0_i32_18 : BitVec 32 := 0#32
  let v26 : BitVec 1 := Scalar.cmpi .sgt v2 v1
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let v50 : BitVec 32 := Scalar.addi c0_i32_18 v47
  let v77 : BitVec 1 := Scalar.cmpi .sgt v53 v52
  let c0_i32_22 : BitVec 32 := 0#32
  let v59 : BitVec 1 := Scalar.cmpi .sgt v55 c0_i32_22
  let v60 : BitVec 32 := Scalar.extui v59
  let c0_i32_23 : BitVec 32 := 0#32
  let v61 : BitVec 1 := Scalar.cmpi .slt v55 c0_i32_23
  let v62 : BitVec 32 := Scalar.extui v61
  let v63 : BitVec 32 := Scalar.subi v60 v62
  let c8_i32_21 : BitVec 32 := 8#32
  let c0_i32_24 : BitVec 32 := 0#32
  let v64 : BitVec 1 := Scalar.cmpi .sgt c8_i32_21 c0_i32_24
  let v65 : BitVec 32 := Scalar.extui v64
  let c0_i32_25 : BitVec 32 := 0#32
  let v66 : BitVec 1 := Scalar.cmpi .slt c8_i32_21 c0_i32_25
  let v67 : BitVec 32 := Scalar.extui v66
  let v68 : BitVec 32 := Scalar.subi v65 v67
  let v69 : BitVec 1 := Scalar.cmpi .ne v63 v68
  let v70 : BitVec 32 := Scalar.remsi v55 c8_i32_21
  let c0_i32_26 : BitVec 32 := 0#32
  let v71 : BitVec 1 := Scalar.cmpi .ne v70 c0_i32_26
  let v72 : BitVec 1 := Scalar.andi v69 v71
  let v58 : BitVec 32 := Scalar.divsi v55 c8_i32_21
  let c1_i32_27 : BitVec 32 := 1#32
  let v73 : BitVec 32 := Scalar.subi v58 c1_i32_27
  let v74 : BitVec 32 := Scalar.select v72 v73 v58
  let c8_i32_28 : BitVec 32 := 8#32
  let v75 : BitVec 32 := Scalar.muli v74 c8_i32_28
  let v76 : BitVec 32 := Scalar.subi v55 v75
  let v78 : BitVec 32 := Scalar.addi v76 v57
  let c8_i32_29 : BitVec 32 := 8#32
  let v79 : BitVec 32 := Scalar.addi v78 c8_i32_29
  let c1_i32_30 : BitVec 32 := 1#32
  let v80 : BitVec 32 := Scalar.subi v79 c1_i32_30
  let c0_i32_32 : BitVec 32 := 0#32
  let v82 : BitVec 1 := Scalar.cmpi .sgt v80 c0_i32_32
  let v83 : BitVec 32 := Scalar.extui v82
  let c0_i32_33 : BitVec 32 := 0#32
  let v84 : BitVec 1 := Scalar.cmpi .slt v80 c0_i32_33
  let v85 : BitVec 32 := Scalar.extui v84
  let v86 : BitVec 32 := Scalar.subi v83 v85
  let c8_i32_31 : BitVec 32 := 8#32
  let c0_i32_34 : BitVec 32 := 0#32
  let v87 : BitVec 1 := Scalar.cmpi .sgt c8_i32_31 c0_i32_34
  let v88 : BitVec 32 := Scalar.extui v87
  let c0_i32_35 : BitVec 32 := 0#32
  let v89 : BitVec 1 := Scalar.cmpi .slt c8_i32_31 c0_i32_35
  let v90 : BitVec 32 := Scalar.extui v89
  let v91 : BitVec 32 := Scalar.subi v88 v90
  let v92 : BitVec 1 := Scalar.cmpi .ne v86 v91
  let v93 : BitVec 32 := Scalar.remsi v80 c8_i32_31
  let c0_i32_36 : BitVec 32 := 0#32
  let v94 : BitVec 1 := Scalar.cmpi .ne v93 c0_i32_36
  let v95 : BitVec 1 := Scalar.andi v92 v94
  let v81 : BitVec 32 := Scalar.divsi v80 c8_i32_31
  let c1_i32_37 : BitVec 32 := 1#32
  let v96 : BitVec 32 := Scalar.subi v81 c1_i32_37
  let v97 : BitVec 32 := Scalar.select v95 v96 v81
  let c0_i32_38 : BitVec 32 := 0#32
  let v98 : BitVec 32 := Scalar.select v77 v97 c0_i32_38
  let v101 : BitVec 32 := Scalar.addi v50 v98
  let c8_i32_178 : BitVec 32 := 8#32
  let v413 : BitVec 32 := Scalar.muli v101 c8_i32_178
  v413
def k0_off79 (i : grid0.Coords) : Fin 2 → Nat :=
  let arg0 : BitVec 32 := BitVec.ofNat 32 (i 0).val
  let c2_i32_175 : BitVec 32 := 2#32
  let v406 : BitVec 32 := Scalar.remsi arg0 c2_i32_175
  let c2_i32_179 : BitVec 32 := 2#32
  ![v406.toNat, 2]
def k0_off80 (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) : (Fin 3 → Nat) × (Fin 3 → Nat) :=
  let arg0 : BitVec 32 := BitVec.ofNat 32 (i 0).val
  let c2_i32_175 : BitVec 32 := 2#32
  let v406 : BitVec 32 := Scalar.remsi arg0 c2_i32_175
  let c0_i32_18 : BitVec 32 := 0#32
  let v26 : BitVec 1 := Scalar.cmpi .sgt v2 v1
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let v50 : BitVec 32 := Scalar.addi c0_i32_18 v47
  let v77 : BitVec 1 := Scalar.cmpi .sgt v53 v52
  let c0_i32_22 : BitVec 32 := 0#32
  let v59 : BitVec 1 := Scalar.cmpi .sgt v55 c0_i32_22
  let v60 : BitVec 32 := Scalar.extui v59
  let c0_i32_23 : BitVec 32 := 0#32
  let v61 : BitVec 1 := Scalar.cmpi .slt v55 c0_i32_23
  let v62 : BitVec 32 := Scalar.extui v61
  let v63 : BitVec 32 := Scalar.subi v60 v62
  let c8_i32_21 : BitVec 32 := 8#32
  let c0_i32_24 : BitVec 32 := 0#32
  let v64 : BitVec 1 := Scalar.cmpi .sgt c8_i32_21 c0_i32_24
  let v65 : BitVec 32 := Scalar.extui v64
  let c0_i32_25 : BitVec 32 := 0#32
  let v66 : BitVec 1 := Scalar.cmpi .slt c8_i32_21 c0_i32_25
  let v67 : BitVec 32 := Scalar.extui v66
  let v68 : BitVec 32 := Scalar.subi v65 v67
  let v69 : BitVec 1 := Scalar.cmpi .ne v63 v68
  let v70 : BitVec 32 := Scalar.remsi v55 c8_i32_21
  let c0_i32_26 : BitVec 32 := 0#32
  let v71 : BitVec 1 := Scalar.cmpi .ne v70 c0_i32_26
  let v72 : BitVec 1 := Scalar.andi v69 v71
  let v58 : BitVec 32 := Scalar.divsi v55 c8_i32_21
  let c1_i32_27 : BitVec 32 := 1#32
  let v73 : BitVec 32 := Scalar.subi v58 c1_i32_27
  let v74 : BitVec 32 := Scalar.select v72 v73 v58
  let c8_i32_28 : BitVec 32 := 8#32
  let v75 : BitVec 32 := Scalar.muli v74 c8_i32_28
  let v76 : BitVec 32 := Scalar.subi v55 v75
  let v78 : BitVec 32 := Scalar.addi v76 v57
  let c8_i32_29 : BitVec 32 := 8#32
  let v79 : BitVec 32 := Scalar.addi v78 c8_i32_29
  let c1_i32_30 : BitVec 32 := 1#32
  let v80 : BitVec 32 := Scalar.subi v79 c1_i32_30
  let c0_i32_32 : BitVec 32 := 0#32
  let v82 : BitVec 1 := Scalar.cmpi .sgt v80 c0_i32_32
  let v83 : BitVec 32 := Scalar.extui v82
  let c0_i32_33 : BitVec 32 := 0#32
  let v84 : BitVec 1 := Scalar.cmpi .slt v80 c0_i32_33
  let v85 : BitVec 32 := Scalar.extui v84
  let v86 : BitVec 32 := Scalar.subi v83 v85
  let c8_i32_31 : BitVec 32 := 8#32
  let c0_i32_34 : BitVec 32 := 0#32
  let v87 : BitVec 1 := Scalar.cmpi .sgt c8_i32_31 c0_i32_34
  let v88 : BitVec 32 := Scalar.extui v87
  let c0_i32_35 : BitVec 32 := 0#32
  let v89 : BitVec 1 := Scalar.cmpi .slt c8_i32_31 c0_i32_35
  let v90 : BitVec 32 := Scalar.extui v89
  let v91 : BitVec 32 := Scalar.subi v88 v90
  let v92 : BitVec 1 := Scalar.cmpi .ne v86 v91
  let v93 : BitVec 32 := Scalar.remsi v80 c8_i32_31
  let c0_i32_36 : BitVec 32 := 0#32
  let v94 : BitVec 1 := Scalar.cmpi .ne v93 c0_i32_36
  let v95 : BitVec 1 := Scalar.andi v92 v94
  let v81 : BitVec 32 := Scalar.divsi v80 c8_i32_31
  let c1_i32_37 : BitVec 32 := 1#32
  let v96 : BitVec 32 := Scalar.subi v81 c1_i32_37
  let v97 : BitVec 32 := Scalar.select v95 v96 v81
  let c0_i32_38 : BitVec 32 := 0#32
  let v98 : BitVec 32 := Scalar.select v77 v97 c0_i32_38
  let v101 : BitVec 32 := Scalar.addi v50 v98
  let c8_i32_178 : BitVec 32 := 8#32
  let v413 : BitVec 32 := Scalar.muli v101 c8_i32_178
  let v414 : BitVec 32 := v413
  let c0_i32_180 : BitVec 32 := 0#32
  let v128 : BitVec 1 := Scalar.cmpi .sgt v104 v103
  let c0_i32_43 : BitVec 32 := 0#32
  let v110 : BitVec 1 := Scalar.cmpi .sgt v106 c0_i32_43
  let v111 : BitVec 32 := Scalar.extui v110
  let c0_i32_44 : BitVec 32 := 0#32
  let v112 : BitVec 1 := Scalar.cmpi .slt v106 c0_i32_44
  let v113 : BitVec 32 := Scalar.extui v112
  let v114 : BitVec 32 := Scalar.subi v111 v113
  let c8_i32_42 : BitVec 32 := 8#32
  let c0_i32_45 : BitVec 32 := 0#32
  let v115 : BitVec 1 := Scalar.cmpi .sgt c8_i32_42 c0_i32_45
  let v116 : BitVec 32 := Scalar.extui v115
  let c0_i32_46 : BitVec 32 := 0#32
  let v117 : BitVec 1 := Scalar.cmpi .slt c8_i32_42 c0_i32_46
  let v118 : BitVec 32 := Scalar.extui v117
  let v119 : BitVec 32 := Scalar.subi v116 v118
  let v120 : BitVec 1 := Scalar.cmpi .ne v114 v119
  let v121 : BitVec 32 := Scalar.remsi v106 c8_i32_42
  let c0_i32_47 : BitVec 32 := 0#32
  let v122 : BitVec 1 := Scalar.cmpi .ne v121 c0_i32_47
  let v123 : BitVec 1 := Scalar.andi v120 v122
  let v109 : BitVec 32 := Scalar.divsi v106 c8_i32_42
  let c1_i32_48 : BitVec 32 := 1#32
  let v124 : BitVec 32 := Scalar.subi v109 c1_i32_48
  let v125 : BitVec 32 := Scalar.select v123 v124 v109
  let c8_i32_49 : BitVec 32 := 8#32
  let v126 : BitVec 32 := Scalar.muli v125 c8_i32_49
  let v127 : BitVec 32 := Scalar.subi v106 v126
  let v129 : BitVec 32 := Scalar.addi v127 v108
  let c8_i32_50 : BitVec 32 := 8#32
  let v130 : BitVec 32 := Scalar.addi v129 c8_i32_50
  let c1_i32_51 : BitVec 32 := 1#32
  let v131 : BitVec 32 := Scalar.subi v130 c1_i32_51
  let c0_i32_53 : BitVec 32 := 0#32
  let v133 : BitVec 1 := Scalar.cmpi .sgt v131 c0_i32_53
  let v134 : BitVec 32 := Scalar.extui v133
  let c0_i32_54 : BitVec 32 := 0#32
  let v135 : BitVec 1 := Scalar.cmpi .slt v131 c0_i32_54
  let v136 : BitVec 32 := Scalar.extui v135
  let v137 : BitVec 32 := Scalar.subi v134 v136
  let c8_i32_52 : BitVec 32 := 8#32
  let c0_i32_55 : BitVec 32 := 0#32
  let v138 : BitVec 1 := Scalar.cmpi .sgt c8_i32_52 c0_i32_55
  let v139 : BitVec 32 := Scalar.extui v138
  let c0_i32_56 : BitVec 32 := 0#32
  let v140 : BitVec 1 := Scalar.cmpi .slt c8_i32_52 c0_i32_56
  let v141 : BitVec 32 := Scalar.extui v140
  let v142 : BitVec 32 := Scalar.subi v139 v141
  let v143 : BitVec 1 := Scalar.cmpi .ne v137 v142
  let v144 : BitVec 32 := Scalar.remsi v131 c8_i32_52
  let c0_i32_57 : BitVec 32 := 0#32
  let v145 : BitVec 1 := Scalar.cmpi .ne v144 c0_i32_57
  let v146 : BitVec 1 := Scalar.andi v143 v145
  let v132 : BitVec 32 := Scalar.divsi v131 c8_i32_52
  let c1_i32_58 : BitVec 32 := 1#32
  let v147 : BitVec 32 := Scalar.subi v132 c1_i32_58
  let v148 : BitVec 32 := Scalar.select v146 v147 v132
  let c0_i32_59 : BitVec 32 := 0#32
  let v149 : BitVec 32 := Scalar.select v128 v148 c0_i32_59
  let c8_i32_176 : BitVec 32 := 8#32
  let v407 : BitVec 32 := Scalar.muli v149 c8_i32_176
  let v408 : BitVec 32 := v407
  ⟨![v406.toNat, v414.toNat, 0], ![1, v408.toNat, 512]⟩

def k0_sz15 (v103 : BitVec 32) (v104 : BitVec 32) (v106 : BitVec 32) (v108 : BitVec 32) : Fin 2 → Nat :=
  let v128 : BitVec 1 := Scalar.cmpi .sgt v104 v103
  let c0_i32_43 : BitVec 32 := 0#32
  let v110 : BitVec 1 := Scalar.cmpi .sgt v106 c0_i32_43
  let v111 : BitVec 32 := Scalar.extui v110
  let c0_i32_44 : BitVec 32 := 0#32
  let v112 : BitVec 1 := Scalar.cmpi .slt v106 c0_i32_44
  let v113 : BitVec 32 := Scalar.extui v112
  let v114 : BitVec 32 := Scalar.subi v111 v113
  let c8_i32_42 : BitVec 32 := 8#32
  let c0_i32_45 : BitVec 32 := 0#32
  let v115 : BitVec 1 := Scalar.cmpi .sgt c8_i32_42 c0_i32_45
  let v116 : BitVec 32 := Scalar.extui v115
  let c0_i32_46 : BitVec 32 := 0#32
  let v117 : BitVec 1 := Scalar.cmpi .slt c8_i32_42 c0_i32_46
  let v118 : BitVec 32 := Scalar.extui v117
  let v119 : BitVec 32 := Scalar.subi v116 v118
  let v120 : BitVec 1 := Scalar.cmpi .ne v114 v119
  let v121 : BitVec 32 := Scalar.remsi v106 c8_i32_42
  let c0_i32_47 : BitVec 32 := 0#32
  let v122 : BitVec 1 := Scalar.cmpi .ne v121 c0_i32_47
  let v123 : BitVec 1 := Scalar.andi v120 v122
  let v109 : BitVec 32 := Scalar.divsi v106 c8_i32_42
  let c1_i32_48 : BitVec 32 := 1#32
  let v124 : BitVec 32 := Scalar.subi v109 c1_i32_48
  let v125 : BitVec 32 := Scalar.select v123 v124 v109
  let c8_i32_49 : BitVec 32 := 8#32
  let v126 : BitVec 32 := Scalar.muli v125 c8_i32_49
  let v127 : BitVec 32 := Scalar.subi v106 v126
  let v129 : BitVec 32 := Scalar.addi v127 v108
  let c8_i32_50 : BitVec 32 := 8#32
  let v130 : BitVec 32 := Scalar.addi v129 c8_i32_50
  let c1_i32_51 : BitVec 32 := 1#32
  let v131 : BitVec 32 := Scalar.subi v130 c1_i32_51
  let c0_i32_53 : BitVec 32 := 0#32
  let v133 : BitVec 1 := Scalar.cmpi .sgt v131 c0_i32_53
  let v134 : BitVec 32 := Scalar.extui v133
  let c0_i32_54 : BitVec 32 := 0#32
  let v135 : BitVec 1 := Scalar.cmpi .slt v131 c0_i32_54
  let v136 : BitVec 32 := Scalar.extui v135
  let v137 : BitVec 32 := Scalar.subi v134 v136
  let c8_i32_52 : BitVec 32 := 8#32
  let c0_i32_55 : BitVec 32 := 0#32
  let v138 : BitVec 1 := Scalar.cmpi .sgt c8_i32_52 c0_i32_55
  let v139 : BitVec 32 := Scalar.extui v138
  let c0_i32_56 : BitVec 32 := 0#32
  let v140 : BitVec 1 := Scalar.cmpi .slt c8_i32_52 c0_i32_56
  let v141 : BitVec 32 := Scalar.extui v140
  let v142 : BitVec 32 := Scalar.subi v139 v141
  let v143 : BitVec 1 := Scalar.cmpi .ne v137 v142
  let v144 : BitVec 32 := Scalar.remsi v131 c8_i32_52
  let c0_i32_57 : BitVec 32 := 0#32
  let v145 : BitVec 1 := Scalar.cmpi .ne v144 c0_i32_57
  let v146 : BitVec 1 := Scalar.andi v143 v145
  let v132 : BitVec 32 := Scalar.divsi v131 c8_i32_52
  let c1_i32_58 : BitVec 32 := 1#32
  let v147 : BitVec 32 := Scalar.subi v132 c1_i32_58
  let v148 : BitVec 32 := Scalar.select v146 v147 v132
  let c0_i32_59 : BitVec 32 := 0#32
  let v149 : BitVec 32 := Scalar.select v128 v148 c0_i32_59
  let c8_i32_176 : BitVec 32 := 8#32
  let v407 : BitVec 32 := Scalar.muli v149 c8_i32_176
  let v408 : BitVec 32 := v407
  ![v408.toNat, 512]

def k0_chk9 (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) : Prop :=
  (∀ (k0_h1 : k0_cond1 i = 1#1), ∀ (k0_h4 : k0_cond4 v103 v104 v106 v108 = 1#1), 8 ∣ (k0_mult7 v103 v104 v106 v108).toNat) ∧
  (∀ (k0_h1 : k0_cond1 i = 1#1), ∀ (k0_h4 : k0_cond4 v103 v104 v106 v108 = 1#1), 8 ∣ (k0_mult8 v106).toNat) ∧
  (∀ (k0_h1 : k0_cond1 i = 1#1), ∀ (k0_h4 : k0_cond4 v103 v104 v106 v108 = 1#1), 8 ∣ (k0_mult9 v1 v2 v4 v6 v52 v53 v55 v57).toNat) ∧
  (∀ (k0_h1 : k0_cond1 i = 1#1), ∀ (k0_h4 : k0_cond4 v103 v104 v106 v108 = 1#1), ∀ a, (k0_off11 v1 v2 v4 v6 v52 v53 v55 v57 v103 v104 v106 v108).2 a = 0 ∨ (k0_off11 v1 v2 v4 v6 v52 v53 v55 v57 v103 v104 v106 v108).1 a + (k0_off11 v1 v2 v4 v6 v52 v53 v55 v57 v103 v104 v106 v108).2 a ≤ S512x4096.size a) ∧
  (∀ (k0_h1 : k0_cond1 i = 1#1), ∀ (k0_h4 : k0_cond4 v103 v104 v106 v108 = 1#1), ∀ a, (k0_off12 v103 v104 v106 v108).2 a = 0 ∨ (k0_off12 v103 v104 v106 v108).1 a + (k0_off12 v103 v104 v106 v108).2 a ≤ S900x4096.size a) ∧
  (∀ (k0_h1 : k0_cond1 i = 1#1), ∀ (k0_h4 : k0_cond4 v103 v104 v106 v108 = 1#1), ∀ (hinb : ∀ a, (k0_off12 v103 v104 v106 v108).2 a = 0 ∨ (k0_off12 v103 v104 v106 v108).1 a + (k0_off12 v103 v104 v106 v108).2 a ≤ S900x4096.size a), (Rect.unitDyn (s := S900x4096) (k0_off12 v103 v104 v106 v108).1 (k0_off12 v103 v104 v106 v108).2 hinb).WholeWords (EltTy.packing .bf16)) ∧
  (∀ (k0_h1 : k0_cond1 i = 1#1), ∀ (k0_h4 : k0_cond4 v103 v104 v106 v108 = 1#1), ∀ (hinb : ∀ a, (k0_off11 v1 v2 v4 v6 v52 v53 v55 v57 v103 v104 v106 v108).2 a = 0 ∨ (k0_off11 v1 v2 v4 v6 v52 v53 v55 v57 v103 v104 v106 v108).1 a + (k0_off11 v1 v2 v4 v6 v52 v53 v55 v57 v103 v104 v106 v108).2 a ≤ S512x4096.size a), (Rect.unitDyn (s := S512x4096) (k0_off11 v1 v2 v4 v6 v52 v53 v55 v57 v103 v104 v106 v108).1 (k0_off11 v1 v2 v4 v6 v52 v53 v55 v57 v103 v104 v106 v108).2 hinb).WholeWords (EltTy.packing .bf16)) ∧
  (∀ (k0_h1 : k0_cond1 i = 1#1), ∀ (k0_h10 : k0_cond10 v103 v104 v106 v108 = 1#1), 8 ∣ (k0_mult27 v103 v104 v106 v108).toNat) ∧
  (∀ (k0_h1 : k0_cond1 i = 1#1), ∀ (k0_h10 : k0_cond10 v103 v104 v106 v108 = 1#1), 8 ∣ (k0_mult28 v106).toNat) ∧
  (∀ (k0_h1 : k0_cond1 i = 1#1), ∀ (k0_h10 : k0_cond10 v103 v104 v106 v108 = 1#1), 8 ∣ (k0_mult30 v1 v2 v4 v6 v52 v53 v55 v57).toNat) ∧
  (∀ (k0_h1 : k0_cond1 i = 1#1), ∀ (k0_h10 : k0_cond10 v103 v104 v106 v108 = 1#1), ∀ a, (k0_off26 i v1 v2 v4 v6 v52 v53 v55 v57 v103 v104 v106 v108).2 a = 0 ∨ (k0_off26 i v1 v2 v4 v6 v52 v53 v55 v57 v103 v104 v106 v108).1 a + (k0_off26 i v1 v2 v4 v6 v52 v53 v55 v57 v103 v104 v106 v108).2 a ≤ S2x512x512.size a) ∧
  (∀ (k0_h1 : k0_cond1 i = 1#1), ∀ (k0_h10 : k0_cond10 v103 v104 v106 v108 = 1#1), (⟨3, (k0_off26 i v1 v2 v4 v6 v52 v53 v55 v57 v103 v104 v106 v108).2⟩ : Shape).Squeezes ⟨2, k0_sz3 v103 v104 v106 v108⟩) ∧
  (∀ (k0_h1 : k0_cond1 i = 1#1), ∀ (k0_h10 : k0_cond10 v103 v104 v106 v108 = 1#1), ∀ a, (k0_off27 i v103 v104 v106 v108).2 a = 0 ∨ (k0_off27 i v103 v104 v106 v108).1 a + (k0_off27 i v103 v104 v106 v108).2 a ≤ S900x14336.size a) ∧
  (∀ (k0_h1 : k0_cond1 i = 1#1), ∀ (k0_h10 : k0_cond10 v103 v104 v106 v108 = 1#1), ∀ (hinb : ∀ a, (k0_off27 i v103 v104 v106 v108).2 a = 0 ∨ (k0_off27 i v103 v104 v106 v108).1 a + (k0_off27 i v103 v104 v106 v108).2 a ≤ S900x14336.size a), (Rect.unitDyn (s := S900x14336) (k0_off27 i v103 v104 v106 v108).1 (k0_off27 i v103 v104 v106 v108).2 hinb).WholeWords (EltTy.packing .bf16)) ∧
  (∀ (k0_h1 : k0_cond1 i = 1#1), ∀ (k0_h10 : k0_cond10 v103 v104 v106 v108 = 1#1), ∀ (hinb : ∀ a, (k0_off26 i v1 v2 v4 v6 v52 v53 v55 v57 v103 v104 v106 v108).2 a = 0 ∨ (k0_off26 i v1 v2 v4 v6 v52 v53 v55 v57 v103 v104 v106 v108).1 a + (k0_off26 i v1 v2 v4 v6 v52 v53 v55 v57 v103 v104 v106 v108).2 a ≤ S2x512x512.size a), (Rect.unitDyn (s := S2x512x512) (k0_off26 i v1 v2 v4 v6 v52 v53 v55 v57 v103 v104 v106 v108).1 (k0_off26 i v1 v2 v4 v6 v52 v53 v55 v57 v103 v104 v106 v108).2 hinb).WholeWords (EltTy.packing .bf16)) ∧
  (∀ (k0_h14 : k0_cond14 i = 1#1), ∀ (k0_h17 : k0_cond17 v103 v104 v106 v108 = 1#1), 8 ∣ (k0_mult51 v103 v104 v106 v108).toNat) ∧
  (∀ (k0_h14 : k0_cond14 i = 1#1), ∀ (k0_h17 : k0_cond17 v103 v104 v106 v108 = 1#1), 8 ∣ (k0_mult52 v106).toNat) ∧
  (∀ (k0_h14 : k0_cond14 i = 1#1), ∀ (k0_h17 : k0_cond17 v103 v104 v106 v108 = 1#1), 8 ∣ (k0_mult54 v1 v2 v4 v6 v52 v53 v55 v57).toNat) ∧
  (∀ (k0_h14 : k0_cond14 i = 1#1), ∀ (k0_h17 : k0_cond17 v103 v104 v106 v108 = 1#1), ∀ a, (k0_off44 i v1 v2 v4 v6 v52 v53 v55 v57 v103 v104 v106 v108).2 a = 0 ∨ (k0_off44 i v1 v2 v4 v6 v52 v53 v55 v57 v103 v104 v106 v108).1 a + (k0_off44 i v1 v2 v4 v6 v52 v53 v55 v57 v103 v104 v106 v108).2 a ≤ S2x512x512.size a) ∧
  (∀ (k0_h14 : k0_cond14 i = 1#1), ∀ (k0_h17 : k0_cond17 v103 v104 v106 v108 = 1#1), (⟨3, (k0_off44 i v1 v2 v4 v6 v52 v53 v55 v57 v103 v104 v106 v108).2⟩ : Shape).Squeezes ⟨2, k0_sz9 v103 v104 v106 v108⟩) ∧
  (∀ (k0_h14 : k0_cond14 i = 1#1), ∀ (k0_h17 : k0_cond17 v103 v104 v106 v108 = 1#1), ∀ a, (k0_off45 i v103 v104 v106 v108).2 a = 0 ∨ (k0_off45 i v103 v104 v106 v108).1 a + (k0_off45 i v103 v104 v106 v108).2 a ≤ S900x14336.size a) ∧
  (∀ (k0_h14 : k0_cond14 i = 1#1), ∀ (k0_h17 : k0_cond17 v103 v104 v106 v108 = 1#1), ∀ (hinb : ∀ a, (k0_off45 i v103 v104 v106 v108).2 a = 0 ∨ (k0_off45 i v103 v104 v106 v108).1 a + (k0_off45 i v103 v104 v106 v108).2 a ≤ S900x14336.size a), (Rect.unitDyn (s := S900x14336) (k0_off45 i v103 v104 v106 v108).1 (k0_off45 i v103 v104 v106 v108).2 hinb).WholeWords (EltTy.packing .bf16)) ∧
  (∀ (k0_h14 : k0_cond14 i = 1#1), ∀ (k0_h17 : k0_cond17 v103 v104 v106 v108 = 1#1), ∀ (hinb : ∀ a, (k0_off44 i v1 v2 v4 v6 v52 v53 v55 v57 v103 v104 v106 v108).2 a = 0 ∨ (k0_off44 i v1 v2 v4 v6 v52 v53 v55 v57 v103 v104 v106 v108).1 a + (k0_off44 i v1 v2 v4 v6 v52 v53 v55 v57 v103 v104 v106 v108).2 a ≤ S2x512x512.size a), (Rect.unitDyn (s := S2x512x512) (k0_off44 i v1 v2 v4 v6 v52 v53 v55 v57 v103 v104 v106 v108).1 (k0_off44 i v1 v2 v4 v6 v52 v53 v55 v57 v103 v104 v106 v108).2 hinb).WholeWords (EltTy.packing .bf16)) ∧
  (∀ (k0_h21 : k0_cond21 i = 1#1), ∀ (k0_h24 : k0_cond24 v103 v104 v106 v108 = 1#1), 8 ∣ (k0_mult73 v103 v104 v106 v108).toNat) ∧
  (∀ (k0_h21 : k0_cond21 i = 1#1), ∀ (k0_h24 : k0_cond24 v103 v104 v106 v108 = 1#1), 8 ∣ (k0_mult74 v106).toNat) ∧
  (∀ (k0_h21 : k0_cond21 i = 1#1), ∀ (k0_h24 : k0_cond24 v103 v104 v106 v108 = 1#1), 8 ∣ (k0_mult75 v1 v2 v4 v6 v52 v53 v55 v57).toNat) ∧
  (∀ (k0_h30 : k0_cond30 v103 v104 v106 v108 = 1#1), 8 ∣ (k0_mult93 v103 v104 v106 v108).toNat) ∧
  (∀ (k0_h30 : k0_cond30 v103 v104 v106 v108 = 1#1), 8 ∣ (k0_mult94 v106).toNat) ∧
  (∀ (k0_h30 : k0_cond30 v103 v104 v106 v108 = 1#1), 8 ∣ (k0_mult96 v1 v2 v4 v6 v52 v53 v55 v57).toNat) ∧
  (∀ (k0_h30 : k0_cond30 v103 v104 v106 v108 = 1#1), (⟨3, (k0_off80 i v1 v2 v4 v6 v52 v53 v55 v57 v103 v104 v106 v108).2⟩ : Shape).Squeezes ⟨2, k0_sz15 v103 v104 v106 v108⟩)
theorem k0_mult7_dvd : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (k0_hw9 : k0_chk9 i v1 v2 v4 v6 v52 v53 v55 v57 v103 v104 v106 v108), ∀ (k0_h1 : k0_cond1 i = 1#1), ∀ (k0_h4 : k0_cond4 v103 v104 v106 v108 = 1#1), 8 ∣ (k0_mult7 v103 v104 v106 v108).toNat := fun i v1 v2 v4 v6 v52 v53 v55 v57 v103 v104 v106 v108 k0_hw9 k0_h1 k0_h4 => k0_hw9.1 k0_h1 k0_h4
theorem k0_mult8_dvd : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (k0_hw9 : k0_chk9 i v1 v2 v4 v6 v52 v53 v55 v57 v103 v104 v106 v108), ∀ (k0_h1 : k0_cond1 i = 1#1), ∀ (k0_h4 : k0_cond4 v103 v104 v106 v108 = 1#1), 8 ∣ (k0_mult8 v106).toNat := fun i v1 v2 v4 v6 v52 v53 v55 v57 v103 v104 v106 v108 k0_hw9 k0_h1 k0_h4 => k0_hw9.2.1 k0_h1 k0_h4
theorem k0_mult9_dvd : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (k0_hw9 : k0_chk9 i v1 v2 v4 v6 v52 v53 v55 v57 v103 v104 v106 v108), ∀ (k0_h1 : k0_cond1 i = 1#1), ∀ (k0_h4 : k0_cond4 v103 v104 v106 v108 = 1#1), 8 ∣ (k0_mult9 v1 v2 v4 v6 v52 v53 v55 v57).toNat := fun i v1 v2 v4 v6 v52 v53 v55 v57 v103 v104 v106 v108 k0_hw9 k0_h1 k0_h4 => k0_hw9.2.2.1 k0_h1 k0_h4
theorem k0_off11_inb : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (k0_hw9 : k0_chk9 i v1 v2 v4 v6 v52 v53 v55 v57 v103 v104 v106 v108), ∀ (k0_h1 : k0_cond1 i = 1#1), ∀ (k0_h4 : k0_cond4 v103 v104 v106 v108 = 1#1), ∀ a, (k0_off11 v1 v2 v4 v6 v52 v53 v55 v57 v103 v104 v106 v108).2 a = 0 ∨ (k0_off11 v1 v2 v4 v6 v52 v53 v55 v57 v103 v104 v106 v108).1 a + (k0_off11 v1 v2 v4 v6 v52 v53 v55 v57 v103 v104 v106 v108).2 a ≤ S512x4096.size a := fun i v1 v2 v4 v6 v52 v53 v55 v57 v103 v104 v106 v108 k0_hw9 k0_h1 k0_h4 => k0_hw9.2.2.2.1 k0_h1 k0_h4
theorem k0_off12_inb : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (k0_hw9 : k0_chk9 i v1 v2 v4 v6 v52 v53 v55 v57 v103 v104 v106 v108), ∀ (k0_h1 : k0_cond1 i = 1#1), ∀ (k0_h4 : k0_cond4 v103 v104 v106 v108 = 1#1), ∀ a, (k0_off12 v103 v104 v106 v108).2 a = 0 ∨ (k0_off12 v103 v104 v106 v108).1 a + (k0_off12 v103 v104 v106 v108).2 a ≤ S900x4096.size a := fun i v1 v2 v4 v6 v52 v53 v55 v57 v103 v104 v106 v108 k0_hw9 k0_h1 k0_h4 => k0_hw9.2.2.2.2.1 k0_h1 k0_h4
theorem k0_off12_wordsbf16 : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (k0_hw9 : k0_chk9 i v1 v2 v4 v6 v52 v53 v55 v57 v103 v104 v106 v108), ∀ (k0_h1 : k0_cond1 i = 1#1), ∀ (k0_h4 : k0_cond4 v103 v104 v106 v108 = 1#1), (Rect.unitDyn (s := S900x4096) (k0_off12 v103 v104 v106 v108).1 (k0_off12 v103 v104 v106 v108).2 (k0_off12_inb i v1 v2 v4 v6 v52 v53 v55 v57 v103 v104 v106 v108 k0_hw9 k0_h1 k0_h4)).WholeWords (EltTy.packing .bf16) := fun i v1 v2 v4 v6 v52 v53 v55 v57 v103 v104 v106 v108 k0_hw9 k0_h1 k0_h4 => k0_hw9.2.2.2.2.2.1 k0_h1 k0_h4 (k0_off12_inb i v1 v2 v4 v6 v52 v53 v55 v57 v103 v104 v106 v108 k0_hw9 k0_h1 k0_h4)
theorem k0_off11_wordsbf16 : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (k0_hw9 : k0_chk9 i v1 v2 v4 v6 v52 v53 v55 v57 v103 v104 v106 v108), ∀ (k0_h1 : k0_cond1 i = 1#1), ∀ (k0_h4 : k0_cond4 v103 v104 v106 v108 = 1#1), (Rect.unitDyn (s := S512x4096) (k0_off11 v1 v2 v4 v6 v52 v53 v55 v57 v103 v104 v106 v108).1 (k0_off11 v1 v2 v4 v6 v52 v53 v55 v57 v103 v104 v106 v108).2 (k0_off11_inb i v1 v2 v4 v6 v52 v53 v55 v57 v103 v104 v106 v108 k0_hw9 k0_h1 k0_h4)).WholeWords (EltTy.packing .bf16) := fun i v1 v2 v4 v6 v52 v53 v55 v57 v103 v104 v106 v108 k0_hw9 k0_h1 k0_h4 => k0_hw9.2.2.2.2.2.2.1 k0_h1 k0_h4 (k0_off11_inb i v1 v2 v4 v6 v52 v53 v55 v57 v103 v104 v106 v108 k0_hw9 k0_h1 k0_h4)
theorem k0_mult27_dvd : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (k0_hw9 : k0_chk9 i v1 v2 v4 v6 v52 v53 v55 v57 v103 v104 v106 v108), ∀ (k0_h1 : k0_cond1 i = 1#1), ∀ (k0_h10 : k0_cond10 v103 v104 v106 v108 = 1#1), 8 ∣ (k0_mult27 v103 v104 v106 v108).toNat := fun i v1 v2 v4 v6 v52 v53 v55 v57 v103 v104 v106 v108 k0_hw9 k0_h1 k0_h10 => k0_hw9.2.2.2.2.2.2.2.1 k0_h1 k0_h10
theorem k0_mult28_dvd : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (k0_hw9 : k0_chk9 i v1 v2 v4 v6 v52 v53 v55 v57 v103 v104 v106 v108), ∀ (k0_h1 : k0_cond1 i = 1#1), ∀ (k0_h10 : k0_cond10 v103 v104 v106 v108 = 1#1), 8 ∣ (k0_mult28 v106).toNat := fun i v1 v2 v4 v6 v52 v53 v55 v57 v103 v104 v106 v108 k0_hw9 k0_h1 k0_h10 => k0_hw9.2.2.2.2.2.2.2.2.1 k0_h1 k0_h10
theorem k0_mult30_dvd : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (k0_hw9 : k0_chk9 i v1 v2 v4 v6 v52 v53 v55 v57 v103 v104 v106 v108), ∀ (k0_h1 : k0_cond1 i = 1#1), ∀ (k0_h10 : k0_cond10 v103 v104 v106 v108 = 1#1), 8 ∣ (k0_mult30 v1 v2 v4 v6 v52 v53 v55 v57).toNat := fun i v1 v2 v4 v6 v52 v53 v55 v57 v103 v104 v106 v108 k0_hw9 k0_h1 k0_h10 => k0_hw9.2.2.2.2.2.2.2.2.2.1 k0_h1 k0_h10
theorem k0_off26_inb : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (k0_hw9 : k0_chk9 i v1 v2 v4 v6 v52 v53 v55 v57 v103 v104 v106 v108), ∀ (k0_h1 : k0_cond1 i = 1#1), ∀ (k0_h10 : k0_cond10 v103 v104 v106 v108 = 1#1), ∀ a, (k0_off26 i v1 v2 v4 v6 v52 v53 v55 v57 v103 v104 v106 v108).2 a = 0 ∨ (k0_off26 i v1 v2 v4 v6 v52 v53 v55 v57 v103 v104 v106 v108).1 a + (k0_off26 i v1 v2 v4 v6 v52 v53 v55 v57 v103 v104 v106 v108).2 a ≤ S2x512x512.size a := fun i v1 v2 v4 v6 v52 v53 v55 v57 v103 v104 v106 v108 k0_hw9 k0_h1 k0_h10 => k0_hw9.2.2.2.2.2.2.2.2.2.2.1 k0_h1 k0_h10
theorem k0_sz3_squeezes : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (k0_hw9 : k0_chk9 i v1 v2 v4 v6 v52 v53 v55 v57 v103 v104 v106 v108), ∀ (k0_h1 : k0_cond1 i = 1#1), ∀ (k0_h10 : k0_cond10 v103 v104 v106 v108 = 1#1), (⟨3, (k0_off26 i v1 v2 v4 v6 v52 v53 v55 v57 v103 v104 v106 v108).2⟩ : Shape).Squeezes ⟨2, k0_sz3 v103 v104 v106 v108⟩ := fun i v1 v2 v4 v6 v52 v53 v55 v57 v103 v104 v106 v108 k0_hw9 k0_h1 k0_h10 => k0_hw9.2.2.2.2.2.2.2.2.2.2.2.1 k0_h1 k0_h10
theorem k0_off27_inb : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (k0_hw9 : k0_chk9 i v1 v2 v4 v6 v52 v53 v55 v57 v103 v104 v106 v108), ∀ (k0_h1 : k0_cond1 i = 1#1), ∀ (k0_h10 : k0_cond10 v103 v104 v106 v108 = 1#1), ∀ a, (k0_off27 i v103 v104 v106 v108).2 a = 0 ∨ (k0_off27 i v103 v104 v106 v108).1 a + (k0_off27 i v103 v104 v106 v108).2 a ≤ S900x14336.size a := fun i v1 v2 v4 v6 v52 v53 v55 v57 v103 v104 v106 v108 k0_hw9 k0_h1 k0_h10 => k0_hw9.2.2.2.2.2.2.2.2.2.2.2.2.1 k0_h1 k0_h10
theorem k0_off27_wordsbf16 : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (k0_hw9 : k0_chk9 i v1 v2 v4 v6 v52 v53 v55 v57 v103 v104 v106 v108), ∀ (k0_h1 : k0_cond1 i = 1#1), ∀ (k0_h10 : k0_cond10 v103 v104 v106 v108 = 1#1), (Rect.unitDyn (s := S900x14336) (k0_off27 i v103 v104 v106 v108).1 (k0_off27 i v103 v104 v106 v108).2 (k0_off27_inb i v1 v2 v4 v6 v52 v53 v55 v57 v103 v104 v106 v108 k0_hw9 k0_h1 k0_h10)).WholeWords (EltTy.packing .bf16) := fun i v1 v2 v4 v6 v52 v53 v55 v57 v103 v104 v106 v108 k0_hw9 k0_h1 k0_h10 => k0_hw9.2.2.2.2.2.2.2.2.2.2.2.2.2.1 k0_h1 k0_h10 (k0_off27_inb i v1 v2 v4 v6 v52 v53 v55 v57 v103 v104 v106 v108 k0_hw9 k0_h1 k0_h10)
theorem k0_off26_wordsbf16 : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (k0_hw9 : k0_chk9 i v1 v2 v4 v6 v52 v53 v55 v57 v103 v104 v106 v108), ∀ (k0_h1 : k0_cond1 i = 1#1), ∀ (k0_h10 : k0_cond10 v103 v104 v106 v108 = 1#1), (Rect.unitDyn (s := S2x512x512) (k0_off26 i v1 v2 v4 v6 v52 v53 v55 v57 v103 v104 v106 v108).1 (k0_off26 i v1 v2 v4 v6 v52 v53 v55 v57 v103 v104 v106 v108).2 (k0_off26_inb i v1 v2 v4 v6 v52 v53 v55 v57 v103 v104 v106 v108 k0_hw9 k0_h1 k0_h10)).WholeWords (EltTy.packing .bf16) := fun i v1 v2 v4 v6 v52 v53 v55 v57 v103 v104 v106 v108 k0_hw9 k0_h1 k0_h10 => k0_hw9.2.2.2.2.2.2.2.2.2.2.2.2.2.2.1 k0_h1 k0_h10 (k0_off26_inb i v1 v2 v4 v6 v52 v53 v55 v57 v103 v104 v106 v108 k0_hw9 k0_h1 k0_h10)
theorem k0_mult51_dvd : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (k0_hw9 : k0_chk9 i v1 v2 v4 v6 v52 v53 v55 v57 v103 v104 v106 v108), ∀ (k0_h14 : k0_cond14 i = 1#1), ∀ (k0_h17 : k0_cond17 v103 v104 v106 v108 = 1#1), 8 ∣ (k0_mult51 v103 v104 v106 v108).toNat := fun i v1 v2 v4 v6 v52 v53 v55 v57 v103 v104 v106 v108 k0_hw9 k0_h14 k0_h17 => k0_hw9.2.2.2.2.2.2.2.2.2.2.2.2.2.2.2.1 k0_h14 k0_h17
theorem k0_mult52_dvd : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (k0_hw9 : k0_chk9 i v1 v2 v4 v6 v52 v53 v55 v57 v103 v104 v106 v108), ∀ (k0_h14 : k0_cond14 i = 1#1), ∀ (k0_h17 : k0_cond17 v103 v104 v106 v108 = 1#1), 8 ∣ (k0_mult52 v106).toNat := fun i v1 v2 v4 v6 v52 v53 v55 v57 v103 v104 v106 v108 k0_hw9 k0_h14 k0_h17 => k0_hw9.2.2.2.2.2.2.2.2.2.2.2.2.2.2.2.2.1 k0_h14 k0_h17
theorem k0_mult54_dvd : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (k0_hw9 : k0_chk9 i v1 v2 v4 v6 v52 v53 v55 v57 v103 v104 v106 v108), ∀ (k0_h14 : k0_cond14 i = 1#1), ∀ (k0_h17 : k0_cond17 v103 v104 v106 v108 = 1#1), 8 ∣ (k0_mult54 v1 v2 v4 v6 v52 v53 v55 v57).toNat := fun i v1 v2 v4 v6 v52 v53 v55 v57 v103 v104 v106 v108 k0_hw9 k0_h14 k0_h17 => k0_hw9.2.2.2.2.2.2.2.2.2.2.2.2.2.2.2.2.2.1 k0_h14 k0_h17
theorem k0_off44_inb : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (k0_hw9 : k0_chk9 i v1 v2 v4 v6 v52 v53 v55 v57 v103 v104 v106 v108), ∀ (k0_h14 : k0_cond14 i = 1#1), ∀ (k0_h17 : k0_cond17 v103 v104 v106 v108 = 1#1), ∀ a, (k0_off44 i v1 v2 v4 v6 v52 v53 v55 v57 v103 v104 v106 v108).2 a = 0 ∨ (k0_off44 i v1 v2 v4 v6 v52 v53 v55 v57 v103 v104 v106 v108).1 a + (k0_off44 i v1 v2 v4 v6 v52 v53 v55 v57 v103 v104 v106 v108).2 a ≤ S2x512x512.size a := fun i v1 v2 v4 v6 v52 v53 v55 v57 v103 v104 v106 v108 k0_hw9 k0_h14 k0_h17 => k0_hw9.2.2.2.2.2.2.2.2.2.2.2.2.2.2.2.2.2.2.1 k0_h14 k0_h17
theorem k0_sz9_squeezes : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (k0_hw9 : k0_chk9 i v1 v2 v4 v6 v52 v53 v55 v57 v103 v104 v106 v108), ∀ (k0_h14 : k0_cond14 i = 1#1), ∀ (k0_h17 : k0_cond17 v103 v104 v106 v108 = 1#1), (⟨3, (k0_off44 i v1 v2 v4 v6 v52 v53 v55 v57 v103 v104 v106 v108).2⟩ : Shape).Squeezes ⟨2, k0_sz9 v103 v104 v106 v108⟩ := fun i v1 v2 v4 v6 v52 v53 v55 v57 v103 v104 v106 v108 k0_hw9 k0_h14 k0_h17 => k0_hw9.2.2.2.2.2.2.2.2.2.2.2.2.2.2.2.2.2.2.2.1 k0_h14 k0_h17
theorem k0_off45_inb : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (k0_hw9 : k0_chk9 i v1 v2 v4 v6 v52 v53 v55 v57 v103 v104 v106 v108), ∀ (k0_h14 : k0_cond14 i = 1#1), ∀ (k0_h17 : k0_cond17 v103 v104 v106 v108 = 1#1), ∀ a, (k0_off45 i v103 v104 v106 v108).2 a = 0 ∨ (k0_off45 i v103 v104 v106 v108).1 a + (k0_off45 i v103 v104 v106 v108).2 a ≤ S900x14336.size a := fun i v1 v2 v4 v6 v52 v53 v55 v57 v103 v104 v106 v108 k0_hw9 k0_h14 k0_h17 => k0_hw9.2.2.2.2.2.2.2.2.2.2.2.2.2.2.2.2.2.2.2.2.1 k0_h14 k0_h17
theorem k0_off45_wordsbf16 : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (k0_hw9 : k0_chk9 i v1 v2 v4 v6 v52 v53 v55 v57 v103 v104 v106 v108), ∀ (k0_h14 : k0_cond14 i = 1#1), ∀ (k0_h17 : k0_cond17 v103 v104 v106 v108 = 1#1), (Rect.unitDyn (s := S900x14336) (k0_off45 i v103 v104 v106 v108).1 (k0_off45 i v103 v104 v106 v108).2 (k0_off45_inb i v1 v2 v4 v6 v52 v53 v55 v57 v103 v104 v106 v108 k0_hw9 k0_h14 k0_h17)).WholeWords (EltTy.packing .bf16) := fun i v1 v2 v4 v6 v52 v53 v55 v57 v103 v104 v106 v108 k0_hw9 k0_h14 k0_h17 => k0_hw9.2.2.2.2.2.2.2.2.2.2.2.2.2.2.2.2.2.2.2.2.2.1 k0_h14 k0_h17 (k0_off45_inb i v1 v2 v4 v6 v52 v53 v55 v57 v103 v104 v106 v108 k0_hw9 k0_h14 k0_h17)
theorem k0_off44_wordsbf16 : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (k0_hw9 : k0_chk9 i v1 v2 v4 v6 v52 v53 v55 v57 v103 v104 v106 v108), ∀ (k0_h14 : k0_cond14 i = 1#1), ∀ (k0_h17 : k0_cond17 v103 v104 v106 v108 = 1#1), (Rect.unitDyn (s := S2x512x512) (k0_off44 i v1 v2 v4 v6 v52 v53 v55 v57 v103 v104 v106 v108).1 (k0_off44 i v1 v2 v4 v6 v52 v53 v55 v57 v103 v104 v106 v108).2 (k0_off44_inb i v1 v2 v4 v6 v52 v53 v55 v57 v103 v104 v106 v108 k0_hw9 k0_h14 k0_h17)).WholeWords (EltTy.packing .bf16) := fun i v1 v2 v4 v6 v52 v53 v55 v57 v103 v104 v106 v108 k0_hw9 k0_h14 k0_h17 => k0_hw9.2.2.2.2.2.2.2.2.2.2.2.2.2.2.2.2.2.2.2.2.2.2.1 k0_h14 k0_h17 (k0_off44_inb i v1 v2 v4 v6 v52 v53 v55 v57 v103 v104 v106 v108 k0_hw9 k0_h14 k0_h17)
theorem k0_mult73_dvd : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (k0_hw9 : k0_chk9 i v1 v2 v4 v6 v52 v53 v55 v57 v103 v104 v106 v108), ∀ (k0_h21 : k0_cond21 i = 1#1), ∀ (k0_h24 : k0_cond24 v103 v104 v106 v108 = 1#1), 8 ∣ (k0_mult73 v103 v104 v106 v108).toNat := fun i v1 v2 v4 v6 v52 v53 v55 v57 v103 v104 v106 v108 k0_hw9 k0_h21 k0_h24 => k0_hw9.2.2.2.2.2.2.2.2.2.2.2.2.2.2.2.2.2.2.2.2.2.2.2.1 k0_h21 k0_h24
theorem k0_mult74_dvd : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (k0_hw9 : k0_chk9 i v1 v2 v4 v6 v52 v53 v55 v57 v103 v104 v106 v108), ∀ (k0_h21 : k0_cond21 i = 1#1), ∀ (k0_h24 : k0_cond24 v103 v104 v106 v108 = 1#1), 8 ∣ (k0_mult74 v106).toNat := fun i v1 v2 v4 v6 v52 v53 v55 v57 v103 v104 v106 v108 k0_hw9 k0_h21 k0_h24 => k0_hw9.2.2.2.2.2.2.2.2.2.2.2.2.2.2.2.2.2.2.2.2.2.2.2.2.1 k0_h21 k0_h24
theorem k0_mult75_dvd : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (k0_hw9 : k0_chk9 i v1 v2 v4 v6 v52 v53 v55 v57 v103 v104 v106 v108), ∀ (k0_h21 : k0_cond21 i = 1#1), ∀ (k0_h24 : k0_cond24 v103 v104 v106 v108 = 1#1), 8 ∣ (k0_mult75 v1 v2 v4 v6 v52 v53 v55 v57).toNat := fun i v1 v2 v4 v6 v52 v53 v55 v57 v103 v104 v106 v108 k0_hw9 k0_h21 k0_h24 => k0_hw9.2.2.2.2.2.2.2.2.2.2.2.2.2.2.2.2.2.2.2.2.2.2.2.2.2.1 k0_h21 k0_h24
theorem k0_mult93_dvd : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (k0_hw9 : k0_chk9 i v1 v2 v4 v6 v52 v53 v55 v57 v103 v104 v106 v108), ∀ (k0_h30 : k0_cond30 v103 v104 v106 v108 = 1#1), 8 ∣ (k0_mult93 v103 v104 v106 v108).toNat := fun i v1 v2 v4 v6 v52 v53 v55 v57 v103 v104 v106 v108 k0_hw9 k0_h30 => k0_hw9.2.2.2.2.2.2.2.2.2.2.2.2.2.2.2.2.2.2.2.2.2.2.2.2.2.2.1 k0_h30
theorem k0_mult94_dvd : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (k0_hw9 : k0_chk9 i v1 v2 v4 v6 v52 v53 v55 v57 v103 v104 v106 v108), ∀ (k0_h30 : k0_cond30 v103 v104 v106 v108 = 1#1), 8 ∣ (k0_mult94 v106).toNat := fun i v1 v2 v4 v6 v52 v53 v55 v57 v103 v104 v106 v108 k0_hw9 k0_h30 => k0_hw9.2.2.2.2.2.2.2.2.2.2.2.2.2.2.2.2.2.2.2.2.2.2.2.2.2.2.2.1 k0_h30
theorem k0_mult96_dvd : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (k0_hw9 : k0_chk9 i v1 v2 v4 v6 v52 v53 v55 v57 v103 v104 v106 v108), ∀ (k0_h30 : k0_cond30 v103 v104 v106 v108 = 1#1), 8 ∣ (k0_mult96 v1 v2 v4 v6 v52 v53 v55 v57).toNat := fun i v1 v2 v4 v6 v52 v53 v55 v57 v103 v104 v106 v108 k0_hw9 k0_h30 => k0_hw9.2.2.2.2.2.2.2.2.2.2.2.2.2.2.2.2.2.2.2.2.2.2.2.2.2.2.2.2.1 k0_h30
theorem k0_sz15_squeezes : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (k0_hw9 : k0_chk9 i v1 v2 v4 v6 v52 v53 v55 v57 v103 v104 v106 v108), ∀ (k0_h30 : k0_cond30 v103 v104 v106 v108 = 1#1), (⟨3, (k0_off80 i v1 v2 v4 v6 v52 v53 v55 v57 v103 v104 v106 v108).2⟩ : Shape).Squeezes ⟨2, k0_sz15 v103 v104 v106 v108⟩ := fun i v1 v2 v4 v6 v52 v53 v55 v57 v103 v104 v106 v108 k0_hw9 k0_h30 => k0_hw9.2.2.2.2.2.2.2.2.2.2.2.2.2.2.2.2.2.2.2.2.2.2.2.2.2.2.2.2.2 k0_h30

def k0_off81 (i : grid0.Coords) (v103 : BitVec 32) (v104 : BitVec 32) (v106 : BitVec 32) (v108 : BitVec 32) : (Fin 2 → Nat) × (Fin 2 → Nat) :=
  let c0_i32_43 : BitVec 32 := 0#32
  let v110 : BitVec 1 := Scalar.cmpi .sgt v106 c0_i32_43
  let v111 : BitVec 32 := Scalar.extui v110
  let c0_i32_44 : BitVec 32 := 0#32
  let v112 : BitVec 1 := Scalar.cmpi .slt v106 c0_i32_44
  let v113 : BitVec 32 := Scalar.extui v112
  let v114 : BitVec 32 := Scalar.subi v111 v113
  let c8_i32_42 : BitVec 32 := 8#32
  let c0_i32_45 : BitVec 32 := 0#32
  let v115 : BitVec 1 := Scalar.cmpi .sgt c8_i32_42 c0_i32_45
  let v116 : BitVec 32 := Scalar.extui v115
  let c0_i32_46 : BitVec 32 := 0#32
  let v117 : BitVec 1 := Scalar.cmpi .slt c8_i32_42 c0_i32_46
  let v118 : BitVec 32 := Scalar.extui v117
  let v119 : BitVec 32 := Scalar.subi v116 v118
  let v120 : BitVec 1 := Scalar.cmpi .ne v114 v119
  let v121 : BitVec 32 := Scalar.remsi v106 c8_i32_42
  let c0_i32_47 : BitVec 32 := 0#32
  let v122 : BitVec 1 := Scalar.cmpi .ne v121 c0_i32_47
  let v123 : BitVec 1 := Scalar.andi v120 v122
  let v109 : BitVec 32 := Scalar.divsi v106 c8_i32_42
  let c1_i32_48 : BitVec 32 := 1#32
  let v124 : BitVec 32 := Scalar.subi v109 c1_i32_48
  let v125 : BitVec 32 := Scalar.select v123 v124 v109
  let c8_i32_177 : BitVec 32 := 8#32
  let v409 : BitVec 32 := Scalar.muli v125 c8_i32_177
  let v410 : BitVec 32 := v409
  let arg0 : BitVec 32 := BitVec.ofNat 32 (i 0).val
  let c512_i32 : BitVec 32 := 512#32
  let v411 : BitVec 32 := Scalar.muli arg0 c512_i32
  let v412 : BitVec 32 := v411
  let v128 : BitVec 1 := Scalar.cmpi .sgt v104 v103
  let c8_i32_49 : BitVec 32 := 8#32
  let v126 : BitVec 32 := Scalar.muli v125 c8_i32_49
  let v127 : BitVec 32 := Scalar.subi v106 v126
  let v129 : BitVec 32 := Scalar.addi v127 v108
  let c8_i32_50 : BitVec 32 := 8#32
  let v130 : BitVec 32 := Scalar.addi v129 c8_i32_50
  let c1_i32_51 : BitVec 32 := 1#32
  let v131 : BitVec 32 := Scalar.subi v130 c1_i32_51
  let c0_i32_53 : BitVec 32 := 0#32
  let v133 : BitVec 1 := Scalar.cmpi .sgt v131 c0_i32_53
  let v134 : BitVec 32 := Scalar.extui v133
  let c0_i32_54 : BitVec 32 := 0#32
  let v135 : BitVec 1 := Scalar.cmpi .slt v131 c0_i32_54
  let v136 : BitVec 32 := Scalar.extui v135
  let v137 : BitVec 32 := Scalar.subi v134 v136
  let c8_i32_52 : BitVec 32 := 8#32
  let c0_i32_55 : BitVec 32 := 0#32
  let v138 : BitVec 1 := Scalar.cmpi .sgt c8_i32_52 c0_i32_55
  let v139 : BitVec 32 := Scalar.extui v138
  let c0_i32_56 : BitVec 32 := 0#32
  let v140 : BitVec 1 := Scalar.cmpi .slt c8_i32_52 c0_i32_56
  let v141 : BitVec 32 := Scalar.extui v140
  let v142 : BitVec 32 := Scalar.subi v139 v141
  let v143 : BitVec 1 := Scalar.cmpi .ne v137 v142
  let v144 : BitVec 32 := Scalar.remsi v131 c8_i32_52
  let c0_i32_57 : BitVec 32 := 0#32
  let v145 : BitVec 1 := Scalar.cmpi .ne v144 c0_i32_57
  let v146 : BitVec 1 := Scalar.andi v143 v145
  let v132 : BitVec 32 := Scalar.divsi v131 c8_i32_52
  let c1_i32_58 : BitVec 32 := 1#32
  let v147 : BitVec 32 := Scalar.subi v132 c1_i32_58
  let v148 : BitVec 32 := Scalar.select v146 v147 v132
  let c0_i32_59 : BitVec 32 := 0#32
  let v149 : BitVec 32 := Scalar.select v128 v148 c0_i32_59
  let c8_i32_176 : BitVec 32 := 8#32
  let v407 : BitVec 32 := Scalar.muli v149 c8_i32_176
  let v408 : BitVec 32 := v407
  ⟨![v410.toNat, v412.toNat], ![v408.toNat, 512]⟩

def k0_mult97 (v154 : BitVec 32) (v155 : BitVec 32) (v157 : BitVec 32) (v159 : BitVec 32) : BitVec 32 :=
  let v179 : BitVec 1 := Scalar.cmpi .sgt v155 v154
  let c0_i32_64 : BitVec 32 := 0#32
  let v161 : BitVec 1 := Scalar.cmpi .sgt v157 c0_i32_64
  let v162 : BitVec 32 := Scalar.extui v161
  let c0_i32_65 : BitVec 32 := 0#32
  let v163 : BitVec 1 := Scalar.cmpi .slt v157 c0_i32_65
  let v164 : BitVec 32 := Scalar.extui v163
  let v165 : BitVec 32 := Scalar.subi v162 v164
  let c8_i32_63 : BitVec 32 := 8#32
  let c0_i32_66 : BitVec 32 := 0#32
  let v166 : BitVec 1 := Scalar.cmpi .sgt c8_i32_63 c0_i32_66
  let v167 : BitVec 32 := Scalar.extui v166
  let c0_i32_67 : BitVec 32 := 0#32
  let v168 : BitVec 1 := Scalar.cmpi .slt c8_i32_63 c0_i32_67
  let v169 : BitVec 32 := Scalar.extui v168
  let v170 : BitVec 32 := Scalar.subi v167 v169
  let v171 : BitVec 1 := Scalar.cmpi .ne v165 v170
  let v172 : BitVec 32 := Scalar.remsi v157 c8_i32_63
  let c0_i32_68 : BitVec 32 := 0#32
  let v173 : BitVec 1 := Scalar.cmpi .ne v172 c0_i32_68
  let v174 : BitVec 1 := Scalar.andi v171 v173
  let v160 : BitVec 32 := Scalar.divsi v157 c8_i32_63
  let c1_i32_69 : BitVec 32 := 1#32
  let v175 : BitVec 32 := Scalar.subi v160 c1_i32_69
  let v176 : BitVec 32 := Scalar.select v174 v175 v160
  let c8_i32_70 : BitVec 32 := 8#32
  let v177 : BitVec 32 := Scalar.muli v176 c8_i32_70
  let v178 : BitVec 32 := Scalar.subi v157 v177
  let v180 : BitVec 32 := Scalar.addi v178 v159
  let c8_i32_71 : BitVec 32 := 8#32
  let v181 : BitVec 32 := Scalar.addi v180 c8_i32_71
  let c1_i32_72 : BitVec 32 := 1#32
  let v182 : BitVec 32 := Scalar.subi v181 c1_i32_72
  let c0_i32_74 : BitVec 32 := 0#32
  let v184 : BitVec 1 := Scalar.cmpi .sgt v182 c0_i32_74
  let v185 : BitVec 32 := Scalar.extui v184
  let c0_i32_75 : BitVec 32 := 0#32
  let v186 : BitVec 1 := Scalar.cmpi .slt v182 c0_i32_75
  let v187 : BitVec 32 := Scalar.extui v186
  let v188 : BitVec 32 := Scalar.subi v185 v187
  let c8_i32_73 : BitVec 32 := 8#32
  let c0_i32_76 : BitVec 32 := 0#32
  let v189 : BitVec 1 := Scalar.cmpi .sgt c8_i32_73 c0_i32_76
  let v190 : BitVec 32 := Scalar.extui v189
  let c0_i32_77 : BitVec 32 := 0#32
  let v191 : BitVec 1 := Scalar.cmpi .slt c8_i32_73 c0_i32_77
  let v192 : BitVec 32 := Scalar.extui v191
  let v193 : BitVec 32 := Scalar.subi v190 v192
  let v194 : BitVec 1 := Scalar.cmpi .ne v188 v193
  let v195 : BitVec 32 := Scalar.remsi v182 c8_i32_73
  let c0_i32_78 : BitVec 32 := 0#32
  let v196 : BitVec 1 := Scalar.cmpi .ne v195 c0_i32_78
  let v197 : BitVec 1 := Scalar.andi v194 v196
  let v183 : BitVec 32 := Scalar.divsi v182 c8_i32_73
  let c1_i32_79 : BitVec 32 := 1#32
  let v198 : BitVec 32 := Scalar.subi v183 c1_i32_79
  let v199 : BitVec 32 := Scalar.select v197 v198 v183
  let c0_i32_80 : BitVec 32 := 0#32
  let v200 : BitVec 32 := Scalar.select v179 v199 c0_i32_80
  let c8_i32_176 : BitVec 32 := 8#32
  let v407 : BitVec 32 := Scalar.muli v200 c8_i32_176
  v407
def k0_cond31 (v154 : BitVec 32) (v155 : BitVec 32) (v157 : BitVec 32) (v159 : BitVec 32) : BitVec 1 :=
  let v179 : BitVec 1 := Scalar.cmpi .sgt v155 v154
  let c0_i32_64 : BitVec 32 := 0#32
  let v161 : BitVec 1 := Scalar.cmpi .sgt v157 c0_i32_64
  let v162 : BitVec 32 := Scalar.extui v161
  let c0_i32_65 : BitVec 32 := 0#32
  let v163 : BitVec 1 := Scalar.cmpi .slt v157 c0_i32_65
  let v164 : BitVec 32 := Scalar.extui v163
  let v165 : BitVec 32 := Scalar.subi v162 v164
  let c8_i32_63 : BitVec 32 := 8#32
  let c0_i32_66 : BitVec 32 := 0#32
  let v166 : BitVec 1 := Scalar.cmpi .sgt c8_i32_63 c0_i32_66
  let v167 : BitVec 32 := Scalar.extui v166
  let c0_i32_67 : BitVec 32 := 0#32
  let v168 : BitVec 1 := Scalar.cmpi .slt c8_i32_63 c0_i32_67
  let v169 : BitVec 32 := Scalar.extui v168
  let v170 : BitVec 32 := Scalar.subi v167 v169
  let v171 : BitVec 1 := Scalar.cmpi .ne v165 v170
  let v172 : BitVec 32 := Scalar.remsi v157 c8_i32_63
  let c0_i32_68 : BitVec 32 := 0#32
  let v173 : BitVec 1 := Scalar.cmpi .ne v172 c0_i32_68
  let v174 : BitVec 1 := Scalar.andi v171 v173
  let v160 : BitVec 32 := Scalar.divsi v157 c8_i32_63
  let c1_i32_69 : BitVec 32 := 1#32
  let v175 : BitVec 32 := Scalar.subi v160 c1_i32_69
  let v176 : BitVec 32 := Scalar.select v174 v175 v160
  let c8_i32_70 : BitVec 32 := 8#32
  let v177 : BitVec 32 := Scalar.muli v176 c8_i32_70
  let v178 : BitVec 32 := Scalar.subi v157 v177
  let v180 : BitVec 32 := Scalar.addi v178 v159
  let c8_i32_71 : BitVec 32 := 8#32
  let v181 : BitVec 32 := Scalar.addi v180 c8_i32_71
  let c1_i32_72 : BitVec 32 := 1#32
  let v182 : BitVec 32 := Scalar.subi v181 c1_i32_72
  let c0_i32_74 : BitVec 32 := 0#32
  let v184 : BitVec 1 := Scalar.cmpi .sgt v182 c0_i32_74
  let v185 : BitVec 32 := Scalar.extui v184
  let c0_i32_75 : BitVec 32 := 0#32
  let v186 : BitVec 1 := Scalar.cmpi .slt v182 c0_i32_75
  let v187 : BitVec 32 := Scalar.extui v186
  let v188 : BitVec 32 := Scalar.subi v185 v187
  let c8_i32_73 : BitVec 32 := 8#32
  let c0_i32_76 : BitVec 32 := 0#32
  let v189 : BitVec 1 := Scalar.cmpi .sgt c8_i32_73 c0_i32_76
  let v190 : BitVec 32 := Scalar.extui v189
  let c0_i32_77 : BitVec 32 := 0#32
  let v191 : BitVec 1 := Scalar.cmpi .slt c8_i32_73 c0_i32_77
  let v192 : BitVec 32 := Scalar.extui v191
  let v193 : BitVec 32 := Scalar.subi v190 v192
  let v194 : BitVec 1 := Scalar.cmpi .ne v188 v193
  let v195 : BitVec 32 := Scalar.remsi v182 c8_i32_73
  let c0_i32_78 : BitVec 32 := 0#32
  let v196 : BitVec 1 := Scalar.cmpi .ne v195 c0_i32_78
  let v197 : BitVec 1 := Scalar.andi v194 v196
  let v183 : BitVec 32 := Scalar.divsi v182 c8_i32_73
  let c1_i32_79 : BitVec 32 := 1#32
  let v198 : BitVec 32 := Scalar.subi v183 c1_i32_79
  let v199 : BitVec 32 := Scalar.select v197 v198 v183
  let c0_i32_80 : BitVec 32 := 0#32
  let v200 : BitVec 32 := Scalar.select v179 v199 c0_i32_80
  let c0_i32_161 : BitVec 32 := 0#32
  let v388 : BitVec 1 := Scalar.cmpi .sgt v200 c0_i32_161
  let v389 : BitVec 32 := Scalar.extui v388
  let c0_i32_162 : BitVec 32 := 0#32
  let v390 : BitVec 1 := Scalar.cmpi .ne v389 c0_i32_162
  v390

def k0_mult98 (v157 : BitVec 32) : BitVec 32 :=
  let c0_i32_64 : BitVec 32 := 0#32
  let v161 : BitVec 1 := Scalar.cmpi .sgt v157 c0_i32_64
  let v162 : BitVec 32 := Scalar.extui v161
  let c0_i32_65 : BitVec 32 := 0#32
  let v163 : BitVec 1 := Scalar.cmpi .slt v157 c0_i32_65
  let v164 : BitVec 32 := Scalar.extui v163
  let v165 : BitVec 32 := Scalar.subi v162 v164
  let c8_i32_63 : BitVec 32 := 8#32
  let c0_i32_66 : BitVec 32 := 0#32
  let v166 : BitVec 1 := Scalar.cmpi .sgt c8_i32_63 c0_i32_66
  let v167 : BitVec 32 := Scalar.extui v166
  let c0_i32_67 : BitVec 32 := 0#32
  let v168 : BitVec 1 := Scalar.cmpi .slt c8_i32_63 c0_i32_67
  let v169 : BitVec 32 := Scalar.extui v168
  let v170 : BitVec 32 := Scalar.subi v167 v169
  let v171 : BitVec 1 := Scalar.cmpi .ne v165 v170
  let v172 : BitVec 32 := Scalar.remsi v157 c8_i32_63
  let c0_i32_68 : BitVec 32 := 0#32
  let v173 : BitVec 1 := Scalar.cmpi .ne v172 c0_i32_68
  let v174 : BitVec 1 := Scalar.andi v171 v173
  let v160 : BitVec 32 := Scalar.divsi v157 c8_i32_63
  let c1_i32_69 : BitVec 32 := 1#32
  let v175 : BitVec 32 := Scalar.subi v160 c1_i32_69
  let v176 : BitVec 32 := Scalar.select v174 v175 v160
  let c8_i32_177 : BitVec 32 := 8#32
  let v409 : BitVec 32 := Scalar.muli v176 c8_i32_177
  v409
def k0_mult99 (i : grid0.Coords) : BitVec 32 :=
  let arg0 : BitVec 32 := BitVec.ofNat 32 (i 0).val
  let c512_i32 : BitVec 32 := 512#32
  let v411 : BitVec 32 := Scalar.muli arg0 c512_i32
  v411
def k0_mult100 (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) : BitVec 32 :=
  let c0_i32_18 : BitVec 32 := 0#32
  let v26 : BitVec 1 := Scalar.cmpi .sgt v2 v1
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let v50 : BitVec 32 := Scalar.addi c0_i32_18 v47
  let v77 : BitVec 1 := Scalar.cmpi .sgt v53 v52
  let c0_i32_22 : BitVec 32 := 0#32
  let v59 : BitVec 1 := Scalar.cmpi .sgt v55 c0_i32_22
  let v60 : BitVec 32 := Scalar.extui v59
  let c0_i32_23 : BitVec 32 := 0#32
  let v61 : BitVec 1 := Scalar.cmpi .slt v55 c0_i32_23
  let v62 : BitVec 32 := Scalar.extui v61
  let v63 : BitVec 32 := Scalar.subi v60 v62
  let c8_i32_21 : BitVec 32 := 8#32
  let c0_i32_24 : BitVec 32 := 0#32
  let v64 : BitVec 1 := Scalar.cmpi .sgt c8_i32_21 c0_i32_24
  let v65 : BitVec 32 := Scalar.extui v64
  let c0_i32_25 : BitVec 32 := 0#32
  let v66 : BitVec 1 := Scalar.cmpi .slt c8_i32_21 c0_i32_25
  let v67 : BitVec 32 := Scalar.extui v66
  let v68 : BitVec 32 := Scalar.subi v65 v67
  let v69 : BitVec 1 := Scalar.cmpi .ne v63 v68
  let v70 : BitVec 32 := Scalar.remsi v55 c8_i32_21
  let c0_i32_26 : BitVec 32 := 0#32
  let v71 : BitVec 1 := Scalar.cmpi .ne v70 c0_i32_26
  let v72 : BitVec 1 := Scalar.andi v69 v71
  let v58 : BitVec 32 := Scalar.divsi v55 c8_i32_21
  let c1_i32_27 : BitVec 32 := 1#32
  let v73 : BitVec 32 := Scalar.subi v58 c1_i32_27
  let v74 : BitVec 32 := Scalar.select v72 v73 v58
  let c8_i32_28 : BitVec 32 := 8#32
  let v75 : BitVec 32 := Scalar.muli v74 c8_i32_28
  let v76 : BitVec 32 := Scalar.subi v55 v75
  let v78 : BitVec 32 := Scalar.addi v76 v57
  let c8_i32_29 : BitVec 32 := 8#32
  let v79 : BitVec 32 := Scalar.addi v78 c8_i32_29
  let c1_i32_30 : BitVec 32 := 1#32
  let v80 : BitVec 32 := Scalar.subi v79 c1_i32_30
  let c0_i32_32 : BitVec 32 := 0#32
  let v82 : BitVec 1 := Scalar.cmpi .sgt v80 c0_i32_32
  let v83 : BitVec 32 := Scalar.extui v82
  let c0_i32_33 : BitVec 32 := 0#32
  let v84 : BitVec 1 := Scalar.cmpi .slt v80 c0_i32_33
  let v85 : BitVec 32 := Scalar.extui v84
  let v86 : BitVec 32 := Scalar.subi v83 v85
  let c8_i32_31 : BitVec 32 := 8#32
  let c0_i32_34 : BitVec 32 := 0#32
  let v87 : BitVec 1 := Scalar.cmpi .sgt c8_i32_31 c0_i32_34
  let v88 : BitVec 32 := Scalar.extui v87
  let c0_i32_35 : BitVec 32 := 0#32
  let v89 : BitVec 1 := Scalar.cmpi .slt c8_i32_31 c0_i32_35
  let v90 : BitVec 32 := Scalar.extui v89
  let v91 : BitVec 32 := Scalar.subi v88 v90
  let v92 : BitVec 1 := Scalar.cmpi .ne v86 v91
  let v93 : BitVec 32 := Scalar.remsi v80 c8_i32_31
  let c0_i32_36 : BitVec 32 := 0#32
  let v94 : BitVec 1 := Scalar.cmpi .ne v93 c0_i32_36
  let v95 : BitVec 1 := Scalar.andi v92 v94
  let v81 : BitVec 32 := Scalar.divsi v80 c8_i32_31
  let c1_i32_37 : BitVec 32 := 1#32
  let v96 : BitVec 32 := Scalar.subi v81 c1_i32_37
  let v97 : BitVec 32 := Scalar.select v95 v96 v81
  let c0_i32_38 : BitVec 32 := 0#32
  let v98 : BitVec 32 := Scalar.select v77 v97 c0_i32_38
  let v101 : BitVec 32 := Scalar.addi v50 v98
  let v128 : BitVec 1 := Scalar.cmpi .sgt v104 v103
  let c0_i32_43 : BitVec 32 := 0#32
  let v110 : BitVec 1 := Scalar.cmpi .sgt v106 c0_i32_43
  let v111 : BitVec 32 := Scalar.extui v110
  let c0_i32_44 : BitVec 32 := 0#32
  let v112 : BitVec 1 := Scalar.cmpi .slt v106 c0_i32_44
  let v113 : BitVec 32 := Scalar.extui v112
  let v114 : BitVec 32 := Scalar.subi v111 v113
  let c8_i32_42 : BitVec 32 := 8#32
  let c0_i32_45 : BitVec 32 := 0#32
  let v115 : BitVec 1 := Scalar.cmpi .sgt c8_i32_42 c0_i32_45
  let v116 : BitVec 32 := Scalar.extui v115
  let c0_i32_46 : BitVec 32 := 0#32
  let v117 : BitVec 1 := Scalar.cmpi .slt c8_i32_42 c0_i32_46
  let v118 : BitVec 32 := Scalar.extui v117
  let v119 : BitVec 32 := Scalar.subi v116 v118
  let v120 : BitVec 1 := Scalar.cmpi .ne v114 v119
  let v121 : BitVec 32 := Scalar.remsi v106 c8_i32_42
  let c0_i32_47 : BitVec 32 := 0#32
  let v122 : BitVec 1 := Scalar.cmpi .ne v121 c0_i32_47
  let v123 : BitVec 1 := Scalar.andi v120 v122
  let v109 : BitVec 32 := Scalar.divsi v106 c8_i32_42
  let c1_i32_48 : BitVec 32 := 1#32
  let v124 : BitVec 32 := Scalar.subi v109 c1_i32_48
  let v125 : BitVec 32 := Scalar.select v123 v124 v109
  let c8_i32_49 : BitVec 32 := 8#32
  let v126 : BitVec 32 := Scalar.muli v125 c8_i32_49
  let v127 : BitVec 32 := Scalar.subi v106 v126
  let v129 : BitVec 32 := Scalar.addi v127 v108
  let c8_i32_50 : BitVec 32 := 8#32
  let v130 : BitVec 32 := Scalar.addi v129 c8_i32_50
  let c1_i32_51 : BitVec 32 := 1#32
  let v131 : BitVec 32 := Scalar.subi v130 c1_i32_51
  let c0_i32_53 : BitVec 32 := 0#32
  let v133 : BitVec 1 := Scalar.cmpi .sgt v131 c0_i32_53
  let v134 : BitVec 32 := Scalar.extui v133
  let c0_i32_54 : BitVec 32 := 0#32
  let v135 : BitVec 1 := Scalar.cmpi .slt v131 c0_i32_54
  let v136 : BitVec 32 := Scalar.extui v135
  let v137 : BitVec 32 := Scalar.subi v134 v136
  let c8_i32_52 : BitVec 32 := 8#32
  let c0_i32_55 : BitVec 32 := 0#32
  let v138 : BitVec 1 := Scalar.cmpi .sgt c8_i32_52 c0_i32_55
  let v139 : BitVec 32 := Scalar.extui v138
  let c0_i32_56 : BitVec 32 := 0#32
  let v140 : BitVec 1 := Scalar.cmpi .slt c8_i32_52 c0_i32_56
  let v141 : BitVec 32 := Scalar.extui v140
  let v142 : BitVec 32 := Scalar.subi v139 v141
  let v143 : BitVec 1 := Scalar.cmpi .ne v137 v142
  let v144 : BitVec 32 := Scalar.remsi v131 c8_i32_52
  let c0_i32_57 : BitVec 32 := 0#32
  let v145 : BitVec 1 := Scalar.cmpi .ne v144 c0_i32_57
  let v146 : BitVec 1 := Scalar.andi v143 v145
  let v132 : BitVec 32 := Scalar.divsi v131 c8_i32_52
  let c1_i32_58 : BitVec 32 := 1#32
  let v147 : BitVec 32 := Scalar.subi v132 c1_i32_58
  let v148 : BitVec 32 := Scalar.select v146 v147 v132
  let c0_i32_59 : BitVec 32 := 0#32
  let v149 : BitVec 32 := Scalar.select v128 v148 c0_i32_59
  let v152 : BitVec 32 := Scalar.addi v101 v149
  let c8_i32_178 : BitVec 32 := 8#32
  let v413 : BitVec 32 := Scalar.muli v152 c8_i32_178
  v413
def k0_off82 (i : grid0.Coords) : Fin 2 → Nat :=
  let arg0 : BitVec 32 := BitVec.ofNat 32 (i 0).val
  let c2_i32_175 : BitVec 32 := 2#32
  let v406 : BitVec 32 := Scalar.remsi arg0 c2_i32_175
  let c3_i32_179 : BitVec 32 := 3#32
  ![v406.toNat, 3]
def k0_off83 (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) : (Fin 3 → Nat) × (Fin 3 → Nat) :=
  let arg0 : BitVec 32 := BitVec.ofNat 32 (i 0).val
  let c2_i32_175 : BitVec 32 := 2#32
  let v406 : BitVec 32 := Scalar.remsi arg0 c2_i32_175
  let c0_i32_18 : BitVec 32 := 0#32
  let v26 : BitVec 1 := Scalar.cmpi .sgt v2 v1
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let v50 : BitVec 32 := Scalar.addi c0_i32_18 v47
  let v77 : BitVec 1 := Scalar.cmpi .sgt v53 v52
  let c0_i32_22 : BitVec 32 := 0#32
  let v59 : BitVec 1 := Scalar.cmpi .sgt v55 c0_i32_22
  let v60 : BitVec 32 := Scalar.extui v59
  let c0_i32_23 : BitVec 32 := 0#32
  let v61 : BitVec 1 := Scalar.cmpi .slt v55 c0_i32_23
  let v62 : BitVec 32 := Scalar.extui v61
  let v63 : BitVec 32 := Scalar.subi v60 v62
  let c8_i32_21 : BitVec 32 := 8#32
  let c0_i32_24 : BitVec 32 := 0#32
  let v64 : BitVec 1 := Scalar.cmpi .sgt c8_i32_21 c0_i32_24
  let v65 : BitVec 32 := Scalar.extui v64
  let c0_i32_25 : BitVec 32 := 0#32
  let v66 : BitVec 1 := Scalar.cmpi .slt c8_i32_21 c0_i32_25
  let v67 : BitVec 32 := Scalar.extui v66
  let v68 : BitVec 32 := Scalar.subi v65 v67
  let v69 : BitVec 1 := Scalar.cmpi .ne v63 v68
  let v70 : BitVec 32 := Scalar.remsi v55 c8_i32_21
  let c0_i32_26 : BitVec 32 := 0#32
  let v71 : BitVec 1 := Scalar.cmpi .ne v70 c0_i32_26
  let v72 : BitVec 1 := Scalar.andi v69 v71
  let v58 : BitVec 32 := Scalar.divsi v55 c8_i32_21
  let c1_i32_27 : BitVec 32 := 1#32
  let v73 : BitVec 32 := Scalar.subi v58 c1_i32_27
  let v74 : BitVec 32 := Scalar.select v72 v73 v58
  let c8_i32_28 : BitVec 32 := 8#32
  let v75 : BitVec 32 := Scalar.muli v74 c8_i32_28
  let v76 : BitVec 32 := Scalar.subi v55 v75
  let v78 : BitVec 32 := Scalar.addi v76 v57
  let c8_i32_29 : BitVec 32 := 8#32
  let v79 : BitVec 32 := Scalar.addi v78 c8_i32_29
  let c1_i32_30 : BitVec 32 := 1#32
  let v80 : BitVec 32 := Scalar.subi v79 c1_i32_30
  let c0_i32_32 : BitVec 32 := 0#32
  let v82 : BitVec 1 := Scalar.cmpi .sgt v80 c0_i32_32
  let v83 : BitVec 32 := Scalar.extui v82
  let c0_i32_33 : BitVec 32 := 0#32
  let v84 : BitVec 1 := Scalar.cmpi .slt v80 c0_i32_33
  let v85 : BitVec 32 := Scalar.extui v84
  let v86 : BitVec 32 := Scalar.subi v83 v85
  let c8_i32_31 : BitVec 32 := 8#32
  let c0_i32_34 : BitVec 32 := 0#32
  let v87 : BitVec 1 := Scalar.cmpi .sgt c8_i32_31 c0_i32_34
  let v88 : BitVec 32 := Scalar.extui v87
  let c0_i32_35 : BitVec 32 := 0#32
  let v89 : BitVec 1 := Scalar.cmpi .slt c8_i32_31 c0_i32_35
  let v90 : BitVec 32 := Scalar.extui v89
  let v91 : BitVec 32 := Scalar.subi v88 v90
  let v92 : BitVec 1 := Scalar.cmpi .ne v86 v91
  let v93 : BitVec 32 := Scalar.remsi v80 c8_i32_31
  let c0_i32_36 : BitVec 32 := 0#32
  let v94 : BitVec 1 := Scalar.cmpi .ne v93 c0_i32_36
  let v95 : BitVec 1 := Scalar.andi v92 v94
  let v81 : BitVec 32 := Scalar.divsi v80 c8_i32_31
  let c1_i32_37 : BitVec 32 := 1#32
  let v96 : BitVec 32 := Scalar.subi v81 c1_i32_37
  let v97 : BitVec 32 := Scalar.select v95 v96 v81
  let c0_i32_38 : BitVec 32 := 0#32
  let v98 : BitVec 32 := Scalar.select v77 v97 c0_i32_38
  let v101 : BitVec 32 := Scalar.addi v50 v98
  let v128 : BitVec 1 := Scalar.cmpi .sgt v104 v103
  let c0_i32_43 : BitVec 32 := 0#32
  let v110 : BitVec 1 := Scalar.cmpi .sgt v106 c0_i32_43
  let v111 : BitVec 32 := Scalar.extui v110
  let c0_i32_44 : BitVec 32 := 0#32
  let v112 : BitVec 1 := Scalar.cmpi .slt v106 c0_i32_44
  let v113 : BitVec 32 := Scalar.extui v112
  let v114 : BitVec 32 := Scalar.subi v111 v113
  let c8_i32_42 : BitVec 32 := 8#32
  let c0_i32_45 : BitVec 32 := 0#32
  let v115 : BitVec 1 := Scalar.cmpi .sgt c8_i32_42 c0_i32_45
  let v116 : BitVec 32 := Scalar.extui v115
  let c0_i32_46 : BitVec 32 := 0#32
  let v117 : BitVec 1 := Scalar.cmpi .slt c8_i32_42 c0_i32_46
  let v118 : BitVec 32 := Scalar.extui v117
  let v119 : BitVec 32 := Scalar.subi v116 v118
  let v120 : BitVec 1 := Scalar.cmpi .ne v114 v119
  let v121 : BitVec 32 := Scalar.remsi v106 c8_i32_42
  let c0_i32_47 : BitVec 32 := 0#32
  let v122 : BitVec 1 := Scalar.cmpi .ne v121 c0_i32_47
  let v123 : BitVec 1 := Scalar.andi v120 v122
  let v109 : BitVec 32 := Scalar.divsi v106 c8_i32_42
  let c1_i32_48 : BitVec 32 := 1#32
  let v124 : BitVec 32 := Scalar.subi v109 c1_i32_48
  let v125 : BitVec 32 := Scalar.select v123 v124 v109
  let c8_i32_49 : BitVec 32 := 8#32
  let v126 : BitVec 32 := Scalar.muli v125 c8_i32_49
  let v127 : BitVec 32 := Scalar.subi v106 v126
  let v129 : BitVec 32 := Scalar.addi v127 v108
  let c8_i32_50 : BitVec 32 := 8#32
  let v130 : BitVec 32 := Scalar.addi v129 c8_i32_50
  let c1_i32_51 : BitVec 32 := 1#32
  let v131 : BitVec 32 := Scalar.subi v130 c1_i32_51
  let c0_i32_53 : BitVec 32 := 0#32
  let v133 : BitVec 1 := Scalar.cmpi .sgt v131 c0_i32_53
  let v134 : BitVec 32 := Scalar.extui v133
  let c0_i32_54 : BitVec 32 := 0#32
  let v135 : BitVec 1 := Scalar.cmpi .slt v131 c0_i32_54
  let v136 : BitVec 32 := Scalar.extui v135
  let v137 : BitVec 32 := Scalar.subi v134 v136
  let c8_i32_52 : BitVec 32 := 8#32
  let c0_i32_55 : BitVec 32 := 0#32
  let v138 : BitVec 1 := Scalar.cmpi .sgt c8_i32_52 c0_i32_55
  let v139 : BitVec 32 := Scalar.extui v138
  let c0_i32_56 : BitVec 32 := 0#32
  let v140 : BitVec 1 := Scalar.cmpi .slt c8_i32_52 c0_i32_56
  let v141 : BitVec 32 := Scalar.extui v140
  let v142 : BitVec 32 := Scalar.subi v139 v141
  let v143 : BitVec 1 := Scalar.cmpi .ne v137 v142
  let v144 : BitVec 32 := Scalar.remsi v131 c8_i32_52
  let c0_i32_57 : BitVec 32 := 0#32
  let v145 : BitVec 1 := Scalar.cmpi .ne v144 c0_i32_57
  let v146 : BitVec 1 := Scalar.andi v143 v145
  let v132 : BitVec 32 := Scalar.divsi v131 c8_i32_52
  let c1_i32_58 : BitVec 32 := 1#32
  let v147 : BitVec 32 := Scalar.subi v132 c1_i32_58
  let v148 : BitVec 32 := Scalar.select v146 v147 v132
  let c0_i32_59 : BitVec 32 := 0#32
  let v149 : BitVec 32 := Scalar.select v128 v148 c0_i32_59
  let v152 : BitVec 32 := Scalar.addi v101 v149
  let c8_i32_178 : BitVec 32 := 8#32
  let v413 : BitVec 32 := Scalar.muli v152 c8_i32_178
  let v414 : BitVec 32 := v413
  let c0_i32_180 : BitVec 32 := 0#32
  let v179 : BitVec 1 := Scalar.cmpi .sgt v155 v154
  let c0_i32_64 : BitVec 32 := 0#32
  let v161 : BitVec 1 := Scalar.cmpi .sgt v157 c0_i32_64
  let v162 : BitVec 32 := Scalar.extui v161
  let c0_i32_65 : BitVec 32 := 0#32
  let v163 : BitVec 1 := Scalar.cmpi .slt v157 c0_i32_65
  let v164 : BitVec 32 := Scalar.extui v163
  let v165 : BitVec 32 := Scalar.subi v162 v164
  let c8_i32_63 : BitVec 32 := 8#32
  let c0_i32_66 : BitVec 32 := 0#32
  let v166 : BitVec 1 := Scalar.cmpi .sgt c8_i32_63 c0_i32_66
  let v167 : BitVec 32 := Scalar.extui v166
  let c0_i32_67 : BitVec 32 := 0#32
  let v168 : BitVec 1 := Scalar.cmpi .slt c8_i32_63 c0_i32_67
  let v169 : BitVec 32 := Scalar.extui v168
  let v170 : BitVec 32 := Scalar.subi v167 v169
  let v171 : BitVec 1 := Scalar.cmpi .ne v165 v170
  let v172 : BitVec 32 := Scalar.remsi v157 c8_i32_63
  let c0_i32_68 : BitVec 32 := 0#32
  let v173 : BitVec 1 := Scalar.cmpi .ne v172 c0_i32_68
  let v174 : BitVec 1 := Scalar.andi v171 v173
  let v160 : BitVec 32 := Scalar.divsi v157 c8_i32_63
  let c1_i32_69 : BitVec 32 := 1#32
  let v175 : BitVec 32 := Scalar.subi v160 c1_i32_69
  let v176 : BitVec 32 := Scalar.select v174 v175 v160
  let c8_i32_70 : BitVec 32 := 8#32
  let v177 : BitVec 32 := Scalar.muli v176 c8_i32_70
  let v178 : BitVec 32 := Scalar.subi v157 v177
  let v180 : BitVec 32 := Scalar.addi v178 v159
  let c8_i32_71 : BitVec 32 := 8#32
  let v181 : BitVec 32 := Scalar.addi v180 c8_i32_71
  let c1_i32_72 : BitVec 32 := 1#32
  let v182 : BitVec 32 := Scalar.subi v181 c1_i32_72
  let c0_i32_74 : BitVec 32 := 0#32
  let v184 : BitVec 1 := Scalar.cmpi .sgt v182 c0_i32_74
  let v185 : BitVec 32 := Scalar.extui v184
  let c0_i32_75 : BitVec 32 := 0#32
  let v186 : BitVec 1 := Scalar.cmpi .slt v182 c0_i32_75
  let v187 : BitVec 32 := Scalar.extui v186
  let v188 : BitVec 32 := Scalar.subi v185 v187
  let c8_i32_73 : BitVec 32 := 8#32
  let c0_i32_76 : BitVec 32 := 0#32
  let v189 : BitVec 1 := Scalar.cmpi .sgt c8_i32_73 c0_i32_76
  let v190 : BitVec 32 := Scalar.extui v189
  let c0_i32_77 : BitVec 32 := 0#32
  let v191 : BitVec 1 := Scalar.cmpi .slt c8_i32_73 c0_i32_77
  let v192 : BitVec 32 := Scalar.extui v191
  let v193 : BitVec 32 := Scalar.subi v190 v192
  let v194 : BitVec 1 := Scalar.cmpi .ne v188 v193
  let v195 : BitVec 32 := Scalar.remsi v182 c8_i32_73
  let c0_i32_78 : BitVec 32 := 0#32
  let v196 : BitVec 1 := Scalar.cmpi .ne v195 c0_i32_78
  let v197 : BitVec 1 := Scalar.andi v194 v196
  let v183 : BitVec 32 := Scalar.divsi v182 c8_i32_73
  let c1_i32_79 : BitVec 32 := 1#32
  let v198 : BitVec 32 := Scalar.subi v183 c1_i32_79
  let v199 : BitVec 32 := Scalar.select v197 v198 v183
  let c0_i32_80 : BitVec 32 := 0#32
  let v200 : BitVec 32 := Scalar.select v179 v199 c0_i32_80
  let c8_i32_176 : BitVec 32 := 8#32
  let v407 : BitVec 32 := Scalar.muli v200 c8_i32_176
  let v408 : BitVec 32 := v407
  ⟨![v406.toNat, v414.toNat, 0], ![1, v408.toNat, 512]⟩

def k0_sz16 (v154 : BitVec 32) (v155 : BitVec 32) (v157 : BitVec 32) (v159 : BitVec 32) : Fin 2 → Nat :=
  let v179 : BitVec 1 := Scalar.cmpi .sgt v155 v154
  let c0_i32_64 : BitVec 32 := 0#32
  let v161 : BitVec 1 := Scalar.cmpi .sgt v157 c0_i32_64
  let v162 : BitVec 32 := Scalar.extui v161
  let c0_i32_65 : BitVec 32 := 0#32
  let v163 : BitVec 1 := Scalar.cmpi .slt v157 c0_i32_65
  let v164 : BitVec 32 := Scalar.extui v163
  let v165 : BitVec 32 := Scalar.subi v162 v164
  let c8_i32_63 : BitVec 32 := 8#32
  let c0_i32_66 : BitVec 32 := 0#32
  let v166 : BitVec 1 := Scalar.cmpi .sgt c8_i32_63 c0_i32_66
  let v167 : BitVec 32 := Scalar.extui v166
  let c0_i32_67 : BitVec 32 := 0#32
  let v168 : BitVec 1 := Scalar.cmpi .slt c8_i32_63 c0_i32_67
  let v169 : BitVec 32 := Scalar.extui v168
  let v170 : BitVec 32 := Scalar.subi v167 v169
  let v171 : BitVec 1 := Scalar.cmpi .ne v165 v170
  let v172 : BitVec 32 := Scalar.remsi v157 c8_i32_63
  let c0_i32_68 : BitVec 32 := 0#32
  let v173 : BitVec 1 := Scalar.cmpi .ne v172 c0_i32_68
  let v174 : BitVec 1 := Scalar.andi v171 v173
  let v160 : BitVec 32 := Scalar.divsi v157 c8_i32_63
  let c1_i32_69 : BitVec 32 := 1#32
  let v175 : BitVec 32 := Scalar.subi v160 c1_i32_69
  let v176 : BitVec 32 := Scalar.select v174 v175 v160
  let c8_i32_70 : BitVec 32 := 8#32
  let v177 : BitVec 32 := Scalar.muli v176 c8_i32_70
  let v178 : BitVec 32 := Scalar.subi v157 v177
  let v180 : BitVec 32 := Scalar.addi v178 v159
  let c8_i32_71 : BitVec 32 := 8#32
  let v181 : BitVec 32 := Scalar.addi v180 c8_i32_71
  let c1_i32_72 : BitVec 32 := 1#32
  let v182 : BitVec 32 := Scalar.subi v181 c1_i32_72
  let c0_i32_74 : BitVec 32 := 0#32
  let v184 : BitVec 1 := Scalar.cmpi .sgt v182 c0_i32_74
  let v185 : BitVec 32 := Scalar.extui v184
  let c0_i32_75 : BitVec 32 := 0#32
  let v186 : BitVec 1 := Scalar.cmpi .slt v182 c0_i32_75
  let v187 : BitVec 32 := Scalar.extui v186
  let v188 : BitVec 32 := Scalar.subi v185 v187
  let c8_i32_73 : BitVec 32 := 8#32
  let c0_i32_76 : BitVec 32 := 0#32
  let v189 : BitVec 1 := Scalar.cmpi .sgt c8_i32_73 c0_i32_76
  let v190 : BitVec 32 := Scalar.extui v189
  let c0_i32_77 : BitVec 32 := 0#32
  let v191 : BitVec 1 := Scalar.cmpi .slt c8_i32_73 c0_i32_77
  let v192 : BitVec 32 := Scalar.extui v191
  let v193 : BitVec 32 := Scalar.subi v190 v192
  let v194 : BitVec 1 := Scalar.cmpi .ne v188 v193
  let v195 : BitVec 32 := Scalar.remsi v182 c8_i32_73
  let c0_i32_78 : BitVec 32 := 0#32
  let v196 : BitVec 1 := Scalar.cmpi .ne v195 c0_i32_78
  let v197 : BitVec 1 := Scalar.andi v194 v196
  let v183 : BitVec 32 := Scalar.divsi v182 c8_i32_73
  let c1_i32_79 : BitVec 32 := 1#32
  let v198 : BitVec 32 := Scalar.subi v183 c1_i32_79
  let v199 : BitVec 32 := Scalar.select v197 v198 v183
  let c0_i32_80 : BitVec 32 := 0#32
  let v200 : BitVec 32 := Scalar.select v179 v199 c0_i32_80
  let c8_i32_176 : BitVec 32 := 8#32
  let v407 : BitVec 32 := Scalar.muli v200 c8_i32_176
  let v408 : BitVec 32 := v407
  ![v408.toNat, 512]

def k0_chk10 (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) : Prop :=
  (∀ (k0_h1 : k0_cond1 i = 1#1), ∀ (k0_h5 : k0_cond5 v154 v155 v157 v159 = 1#1), 8 ∣ (k0_mult10 v154 v155 v157 v159).toNat) ∧
  (∀ (k0_h1 : k0_cond1 i = 1#1), ∀ (k0_h5 : k0_cond5 v154 v155 v157 v159 = 1#1), 8 ∣ (k0_mult11 v157).toNat) ∧
  (∀ (k0_h1 : k0_cond1 i = 1#1), ∀ (k0_h5 : k0_cond5 v154 v155 v157 v159 = 1#1), 8 ∣ (k0_mult12 v1 v2 v4 v6 v52 v53 v55 v57 v103 v104 v106 v108).toNat) ∧
  (∀ (k0_h1 : k0_cond1 i = 1#1), ∀ (k0_h5 : k0_cond5 v154 v155 v157 v159 = 1#1), ∀ a, (k0_off13 v1 v2 v4 v6 v52 v53 v55 v57 v103 v104 v106 v108 v154 v155 v157 v159).2 a = 0 ∨ (k0_off13 v1 v2 v4 v6 v52 v53 v55 v57 v103 v104 v106 v108 v154 v155 v157 v159).1 a + (k0_off13 v1 v2 v4 v6 v52 v53 v55 v57 v103 v104 v106 v108 v154 v155 v157 v159).2 a ≤ S512x4096.size a) ∧
  (∀ (k0_h1 : k0_cond1 i = 1#1), ∀ (k0_h5 : k0_cond5 v154 v155 v157 v159 = 1#1), ∀ a, (k0_off14 v154 v155 v157 v159).2 a = 0 ∨ (k0_off14 v154 v155 v157 v159).1 a + (k0_off14 v154 v155 v157 v159).2 a ≤ S900x4096.size a) ∧
  (∀ (k0_h1 : k0_cond1 i = 1#1), ∀ (k0_h5 : k0_cond5 v154 v155 v157 v159 = 1#1), ∀ (hinb : ∀ a, (k0_off14 v154 v155 v157 v159).2 a = 0 ∨ (k0_off14 v154 v155 v157 v159).1 a + (k0_off14 v154 v155 v157 v159).2 a ≤ S900x4096.size a), (Rect.unitDyn (s := S900x4096) (k0_off14 v154 v155 v157 v159).1 (k0_off14 v154 v155 v157 v159).2 hinb).WholeWords (EltTy.packing .bf16)) ∧
  (∀ (k0_h1 : k0_cond1 i = 1#1), ∀ (k0_h5 : k0_cond5 v154 v155 v157 v159 = 1#1), ∀ (hinb : ∀ a, (k0_off13 v1 v2 v4 v6 v52 v53 v55 v57 v103 v104 v106 v108 v154 v155 v157 v159).2 a = 0 ∨ (k0_off13 v1 v2 v4 v6 v52 v53 v55 v57 v103 v104 v106 v108 v154 v155 v157 v159).1 a + (k0_off13 v1 v2 v4 v6 v52 v53 v55 v57 v103 v104 v106 v108 v154 v155 v157 v159).2 a ≤ S512x4096.size a), (Rect.unitDyn (s := S512x4096) (k0_off13 v1 v2 v4 v6 v52 v53 v55 v57 v103 v104 v106 v108 v154 v155 v157 v159).1 (k0_off13 v1 v2 v4 v6 v52 v53 v55 v57 v103 v104 v106 v108 v154 v155 v157 v159).2 hinb).WholeWords (EltTy.packing .bf16)) ∧
  (∀ (k0_h1 : k0_cond1 i = 1#1), ∀ (k0_h11 : k0_cond11 v154 v155 v157 v159 = 1#1), 8 ∣ (k0_mult31 v154 v155 v157 v159).toNat) ∧
  (∀ (k0_h1 : k0_cond1 i = 1#1), ∀ (k0_h11 : k0_cond11 v154 v155 v157 v159 = 1#1), 8 ∣ (k0_mult32 v157).toNat) ∧
  (∀ (k0_h1 : k0_cond1 i = 1#1), ∀ (k0_h11 : k0_cond11 v154 v155 v157 v159 = 1#1), 8 ∣ (k0_mult34 v1 v2 v4 v6 v52 v53 v55 v57 v103 v104 v106 v108).toNat) ∧
  (∀ (k0_h1 : k0_cond1 i = 1#1), ∀ (k0_h11 : k0_cond11 v154 v155 v157 v159 = 1#1), ∀ a, (k0_off29 i v1 v2 v4 v6 v52 v53 v55 v57 v103 v104 v106 v108 v154 v155 v157 v159).2 a = 0 ∨ (k0_off29 i v1 v2 v4 v6 v52 v53 v55 v57 v103 v104 v106 v108 v154 v155 v157 v159).1 a + (k0_off29 i v1 v2 v4 v6 v52 v53 v55 v57 v103 v104 v106 v108 v154 v155 v157 v159).2 a ≤ S2x512x512.size a) ∧
  (∀ (k0_h1 : k0_cond1 i = 1#1), ∀ (k0_h11 : k0_cond11 v154 v155 v157 v159 = 1#1), (⟨3, (k0_off29 i v1 v2 v4 v6 v52 v53 v55 v57 v103 v104 v106 v108 v154 v155 v157 v159).2⟩ : Shape).Squeezes ⟨2, k0_sz4 v154 v155 v157 v159⟩) ∧
  (∀ (k0_h1 : k0_cond1 i = 1#1), ∀ (k0_h11 : k0_cond11 v154 v155 v157 v159 = 1#1), ∀ a, (k0_off30 i v154 v155 v157 v159).2 a = 0 ∨ (k0_off30 i v154 v155 v157 v159).1 a + (k0_off30 i v154 v155 v157 v159).2 a ≤ S900x14336.size a) ∧
  (∀ (k0_h1 : k0_cond1 i = 1#1), ∀ (k0_h11 : k0_cond11 v154 v155 v157 v159 = 1#1), ∀ (hinb : ∀ a, (k0_off30 i v154 v155 v157 v159).2 a = 0 ∨ (k0_off30 i v154 v155 v157 v159).1 a + (k0_off30 i v154 v155 v157 v159).2 a ≤ S900x14336.size a), (Rect.unitDyn (s := S900x14336) (k0_off30 i v154 v155 v157 v159).1 (k0_off30 i v154 v155 v157 v159).2 hinb).WholeWords (EltTy.packing .bf16)) ∧
  (∀ (k0_h1 : k0_cond1 i = 1#1), ∀ (k0_h11 : k0_cond11 v154 v155 v157 v159 = 1#1), ∀ (hinb : ∀ a, (k0_off29 i v1 v2 v4 v6 v52 v53 v55 v57 v103 v104 v106 v108 v154 v155 v157 v159).2 a = 0 ∨ (k0_off29 i v1 v2 v4 v6 v52 v53 v55 v57 v103 v104 v106 v108 v154 v155 v157 v159).1 a + (k0_off29 i v1 v2 v4 v6 v52 v53 v55 v57 v103 v104 v106 v108 v154 v155 v157 v159).2 a ≤ S2x512x512.size a), (Rect.unitDyn (s := S2x512x512) (k0_off29 i v1 v2 v4 v6 v52 v53 v55 v57 v103 v104 v106 v108 v154 v155 v157 v159).1 (k0_off29 i v1 v2 v4 v6 v52 v53 v55 v57 v103 v104 v106 v108 v154 v155 v157 v159).2 hinb).WholeWords (EltTy.packing .bf16)) ∧
  (∀ (k0_h14 : k0_cond14 i = 1#1), ∀ (k0_h18 : k0_cond18 v154 v155 v157 v159 = 1#1), 8 ∣ (k0_mult55 v154 v155 v157 v159).toNat) ∧
  (∀ (k0_h14 : k0_cond14 i = 1#1), ∀ (k0_h18 : k0_cond18 v154 v155 v157 v159 = 1#1), 8 ∣ (k0_mult56 v157).toNat) ∧
  (∀ (k0_h14 : k0_cond14 i = 1#1), ∀ (k0_h18 : k0_cond18 v154 v155 v157 v159 = 1#1), 8 ∣ (k0_mult58 v1 v2 v4 v6 v52 v53 v55 v57 v103 v104 v106 v108).toNat) ∧
  (∀ (k0_h14 : k0_cond14 i = 1#1), ∀ (k0_h18 : k0_cond18 v154 v155 v157 v159 = 1#1), ∀ a, (k0_off47 i v1 v2 v4 v6 v52 v53 v55 v57 v103 v104 v106 v108 v154 v155 v157 v159).2 a = 0 ∨ (k0_off47 i v1 v2 v4 v6 v52 v53 v55 v57 v103 v104 v106 v108 v154 v155 v157 v159).1 a + (k0_off47 i v1 v2 v4 v6 v52 v53 v55 v57 v103 v104 v106 v108 v154 v155 v157 v159).2 a ≤ S2x512x512.size a) ∧
  (∀ (k0_h14 : k0_cond14 i = 1#1), ∀ (k0_h18 : k0_cond18 v154 v155 v157 v159 = 1#1), (⟨3, (k0_off47 i v1 v2 v4 v6 v52 v53 v55 v57 v103 v104 v106 v108 v154 v155 v157 v159).2⟩ : Shape).Squeezes ⟨2, k0_sz10 v154 v155 v157 v159⟩) ∧
  (∀ (k0_h14 : k0_cond14 i = 1#1), ∀ (k0_h18 : k0_cond18 v154 v155 v157 v159 = 1#1), ∀ a, (k0_off48 i v154 v155 v157 v159).2 a = 0 ∨ (k0_off48 i v154 v155 v157 v159).1 a + (k0_off48 i v154 v155 v157 v159).2 a ≤ S900x14336.size a) ∧
  (∀ (k0_h14 : k0_cond14 i = 1#1), ∀ (k0_h18 : k0_cond18 v154 v155 v157 v159 = 1#1), ∀ (hinb : ∀ a, (k0_off48 i v154 v155 v157 v159).2 a = 0 ∨ (k0_off48 i v154 v155 v157 v159).1 a + (k0_off48 i v154 v155 v157 v159).2 a ≤ S900x14336.size a), (Rect.unitDyn (s := S900x14336) (k0_off48 i v154 v155 v157 v159).1 (k0_off48 i v154 v155 v157 v159).2 hinb).WholeWords (EltTy.packing .bf16)) ∧
  (∀ (k0_h14 : k0_cond14 i = 1#1), ∀ (k0_h18 : k0_cond18 v154 v155 v157 v159 = 1#1), ∀ (hinb : ∀ a, (k0_off47 i v1 v2 v4 v6 v52 v53 v55 v57 v103 v104 v106 v108 v154 v155 v157 v159).2 a = 0 ∨ (k0_off47 i v1 v2 v4 v6 v52 v53 v55 v57 v103 v104 v106 v108 v154 v155 v157 v159).1 a + (k0_off47 i v1 v2 v4 v6 v52 v53 v55 v57 v103 v104 v106 v108 v154 v155 v157 v159).2 a ≤ S2x512x512.size a), (Rect.unitDyn (s := S2x512x512) (k0_off47 i v1 v2 v4 v6 v52 v53 v55 v57 v103 v104 v106 v108 v154 v155 v157 v159).1 (k0_off47 i v1 v2 v4 v6 v52 v53 v55 v57 v103 v104 v106 v108 v154 v155 v157 v159).2 hinb).WholeWords (EltTy.packing .bf16)) ∧
  (∀ (k0_h21 : k0_cond21 i = 1#1), ∀ (k0_h25 : k0_cond25 v154 v155 v157 v159 = 1#1), 8 ∣ (k0_mult76 v154 v155 v157 v159).toNat) ∧
  (∀ (k0_h21 : k0_cond21 i = 1#1), ∀ (k0_h25 : k0_cond25 v154 v155 v157 v159 = 1#1), 8 ∣ (k0_mult77 v157).toNat) ∧
  (∀ (k0_h21 : k0_cond21 i = 1#1), ∀ (k0_h25 : k0_cond25 v154 v155 v157 v159 = 1#1), 8 ∣ (k0_mult78 v1 v2 v4 v6 v52 v53 v55 v57 v103 v104 v106 v108).toNat) ∧
  (∀ (k0_h31 : k0_cond31 v154 v155 v157 v159 = 1#1), 8 ∣ (k0_mult97 v154 v155 v157 v159).toNat) ∧
  (∀ (k0_h31 : k0_cond31 v154 v155 v157 v159 = 1#1), 8 ∣ (k0_mult98 v157).toNat) ∧
  (∀ (k0_h31 : k0_cond31 v154 v155 v157 v159 = 1#1), 8 ∣ (k0_mult100 v1 v2 v4 v6 v52 v53 v55 v57 v103 v104 v106 v108).toNat) ∧
  (∀ (k0_h31 : k0_cond31 v154 v155 v157 v159 = 1#1), (⟨3, (k0_off83 i v1 v2 v4 v6 v52 v53 v55 v57 v103 v104 v106 v108 v154 v155 v157 v159).2⟩ : Shape).Squeezes ⟨2, k0_sz16 v154 v155 v157 v159⟩)
theorem k0_mult10_dvd : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (k0_hw10 : k0_chk10 i v1 v2 v4 v6 v52 v53 v55 v57 v103 v104 v106 v108 v154 v155 v157 v159), ∀ (k0_h1 : k0_cond1 i = 1#1), ∀ (k0_h5 : k0_cond5 v154 v155 v157 v159 = 1#1), 8 ∣ (k0_mult10 v154 v155 v157 v159).toNat := fun i v1 v2 v4 v6 v52 v53 v55 v57 v103 v104 v106 v108 v154 v155 v157 v159 k0_hw10 k0_h1 k0_h5 => k0_hw10.1 k0_h1 k0_h5
theorem k0_mult11_dvd : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (k0_hw10 : k0_chk10 i v1 v2 v4 v6 v52 v53 v55 v57 v103 v104 v106 v108 v154 v155 v157 v159), ∀ (k0_h1 : k0_cond1 i = 1#1), ∀ (k0_h5 : k0_cond5 v154 v155 v157 v159 = 1#1), 8 ∣ (k0_mult11 v157).toNat := fun i v1 v2 v4 v6 v52 v53 v55 v57 v103 v104 v106 v108 v154 v155 v157 v159 k0_hw10 k0_h1 k0_h5 => k0_hw10.2.1 k0_h1 k0_h5
theorem k0_mult12_dvd : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (k0_hw10 : k0_chk10 i v1 v2 v4 v6 v52 v53 v55 v57 v103 v104 v106 v108 v154 v155 v157 v159), ∀ (k0_h1 : k0_cond1 i = 1#1), ∀ (k0_h5 : k0_cond5 v154 v155 v157 v159 = 1#1), 8 ∣ (k0_mult12 v1 v2 v4 v6 v52 v53 v55 v57 v103 v104 v106 v108).toNat := fun i v1 v2 v4 v6 v52 v53 v55 v57 v103 v104 v106 v108 v154 v155 v157 v159 k0_hw10 k0_h1 k0_h5 => k0_hw10.2.2.1 k0_h1 k0_h5
theorem k0_off13_inb : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (k0_hw10 : k0_chk10 i v1 v2 v4 v6 v52 v53 v55 v57 v103 v104 v106 v108 v154 v155 v157 v159), ∀ (k0_h1 : k0_cond1 i = 1#1), ∀ (k0_h5 : k0_cond5 v154 v155 v157 v159 = 1#1), ∀ a, (k0_off13 v1 v2 v4 v6 v52 v53 v55 v57 v103 v104 v106 v108 v154 v155 v157 v159).2 a = 0 ∨ (k0_off13 v1 v2 v4 v6 v52 v53 v55 v57 v103 v104 v106 v108 v154 v155 v157 v159).1 a + (k0_off13 v1 v2 v4 v6 v52 v53 v55 v57 v103 v104 v106 v108 v154 v155 v157 v159).2 a ≤ S512x4096.size a := fun i v1 v2 v4 v6 v52 v53 v55 v57 v103 v104 v106 v108 v154 v155 v157 v159 k0_hw10 k0_h1 k0_h5 => k0_hw10.2.2.2.1 k0_h1 k0_h5
theorem k0_off14_inb : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (k0_hw10 : k0_chk10 i v1 v2 v4 v6 v52 v53 v55 v57 v103 v104 v106 v108 v154 v155 v157 v159), ∀ (k0_h1 : k0_cond1 i = 1#1), ∀ (k0_h5 : k0_cond5 v154 v155 v157 v159 = 1#1), ∀ a, (k0_off14 v154 v155 v157 v159).2 a = 0 ∨ (k0_off14 v154 v155 v157 v159).1 a + (k0_off14 v154 v155 v157 v159).2 a ≤ S900x4096.size a := fun i v1 v2 v4 v6 v52 v53 v55 v57 v103 v104 v106 v108 v154 v155 v157 v159 k0_hw10 k0_h1 k0_h5 => k0_hw10.2.2.2.2.1 k0_h1 k0_h5
theorem k0_off14_wordsbf16 : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (k0_hw10 : k0_chk10 i v1 v2 v4 v6 v52 v53 v55 v57 v103 v104 v106 v108 v154 v155 v157 v159), ∀ (k0_h1 : k0_cond1 i = 1#1), ∀ (k0_h5 : k0_cond5 v154 v155 v157 v159 = 1#1), (Rect.unitDyn (s := S900x4096) (k0_off14 v154 v155 v157 v159).1 (k0_off14 v154 v155 v157 v159).2 (k0_off14_inb i v1 v2 v4 v6 v52 v53 v55 v57 v103 v104 v106 v108 v154 v155 v157 v159 k0_hw10 k0_h1 k0_h5)).WholeWords (EltTy.packing .bf16) := fun i v1 v2 v4 v6 v52 v53 v55 v57 v103 v104 v106 v108 v154 v155 v157 v159 k0_hw10 k0_h1 k0_h5 => k0_hw10.2.2.2.2.2.1 k0_h1 k0_h5 (k0_off14_inb i v1 v2 v4 v6 v52 v53 v55 v57 v103 v104 v106 v108 v154 v155 v157 v159 k0_hw10 k0_h1 k0_h5)
theorem k0_off13_wordsbf16 : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (k0_hw10 : k0_chk10 i v1 v2 v4 v6 v52 v53 v55 v57 v103 v104 v106 v108 v154 v155 v157 v159), ∀ (k0_h1 : k0_cond1 i = 1#1), ∀ (k0_h5 : k0_cond5 v154 v155 v157 v159 = 1#1), (Rect.unitDyn (s := S512x4096) (k0_off13 v1 v2 v4 v6 v52 v53 v55 v57 v103 v104 v106 v108 v154 v155 v157 v159).1 (k0_off13 v1 v2 v4 v6 v52 v53 v55 v57 v103 v104 v106 v108 v154 v155 v157 v159).2 (k0_off13_inb i v1 v2 v4 v6 v52 v53 v55 v57 v103 v104 v106 v108 v154 v155 v157 v159 k0_hw10 k0_h1 k0_h5)).WholeWords (EltTy.packing .bf16) := fun i v1 v2 v4 v6 v52 v53 v55 v57 v103 v104 v106 v108 v154 v155 v157 v159 k0_hw10 k0_h1 k0_h5 => k0_hw10.2.2.2.2.2.2.1 k0_h1 k0_h5 (k0_off13_inb i v1 v2 v4 v6 v52 v53 v55 v57 v103 v104 v106 v108 v154 v155 v157 v159 k0_hw10 k0_h1 k0_h5)
theorem k0_mult31_dvd : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (k0_hw10 : k0_chk10 i v1 v2 v4 v6 v52 v53 v55 v57 v103 v104 v106 v108 v154 v155 v157 v159), ∀ (k0_h1 : k0_cond1 i = 1#1), ∀ (k0_h11 : k0_cond11 v154 v155 v157 v159 = 1#1), 8 ∣ (k0_mult31 v154 v155 v157 v159).toNat := fun i v1 v2 v4 v6 v52 v53 v55 v57 v103 v104 v106 v108 v154 v155 v157 v159 k0_hw10 k0_h1 k0_h11 => k0_hw10.2.2.2.2.2.2.2.1 k0_h1 k0_h11
theorem k0_mult32_dvd : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (k0_hw10 : k0_chk10 i v1 v2 v4 v6 v52 v53 v55 v57 v103 v104 v106 v108 v154 v155 v157 v159), ∀ (k0_h1 : k0_cond1 i = 1#1), ∀ (k0_h11 : k0_cond11 v154 v155 v157 v159 = 1#1), 8 ∣ (k0_mult32 v157).toNat := fun i v1 v2 v4 v6 v52 v53 v55 v57 v103 v104 v106 v108 v154 v155 v157 v159 k0_hw10 k0_h1 k0_h11 => k0_hw10.2.2.2.2.2.2.2.2.1 k0_h1 k0_h11
theorem k0_mult34_dvd : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (k0_hw10 : k0_chk10 i v1 v2 v4 v6 v52 v53 v55 v57 v103 v104 v106 v108 v154 v155 v157 v159), ∀ (k0_h1 : k0_cond1 i = 1#1), ∀ (k0_h11 : k0_cond11 v154 v155 v157 v159 = 1#1), 8 ∣ (k0_mult34 v1 v2 v4 v6 v52 v53 v55 v57 v103 v104 v106 v108).toNat := fun i v1 v2 v4 v6 v52 v53 v55 v57 v103 v104 v106 v108 v154 v155 v157 v159 k0_hw10 k0_h1 k0_h11 => k0_hw10.2.2.2.2.2.2.2.2.2.1 k0_h1 k0_h11
theorem k0_off29_inb : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (k0_hw10 : k0_chk10 i v1 v2 v4 v6 v52 v53 v55 v57 v103 v104 v106 v108 v154 v155 v157 v159), ∀ (k0_h1 : k0_cond1 i = 1#1), ∀ (k0_h11 : k0_cond11 v154 v155 v157 v159 = 1#1), ∀ a, (k0_off29 i v1 v2 v4 v6 v52 v53 v55 v57 v103 v104 v106 v108 v154 v155 v157 v159).2 a = 0 ∨ (k0_off29 i v1 v2 v4 v6 v52 v53 v55 v57 v103 v104 v106 v108 v154 v155 v157 v159).1 a + (k0_off29 i v1 v2 v4 v6 v52 v53 v55 v57 v103 v104 v106 v108 v154 v155 v157 v159).2 a ≤ S2x512x512.size a := fun i v1 v2 v4 v6 v52 v53 v55 v57 v103 v104 v106 v108 v154 v155 v157 v159 k0_hw10 k0_h1 k0_h11 => k0_hw10.2.2.2.2.2.2.2.2.2.2.1 k0_h1 k0_h11
theorem k0_sz4_squeezes : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (k0_hw10 : k0_chk10 i v1 v2 v4 v6 v52 v53 v55 v57 v103 v104 v106 v108 v154 v155 v157 v159), ∀ (k0_h1 : k0_cond1 i = 1#1), ∀ (k0_h11 : k0_cond11 v154 v155 v157 v159 = 1#1), (⟨3, (k0_off29 i v1 v2 v4 v6 v52 v53 v55 v57 v103 v104 v106 v108 v154 v155 v157 v159).2⟩ : Shape).Squeezes ⟨2, k0_sz4 v154 v155 v157 v159⟩ := fun i v1 v2 v4 v6 v52 v53 v55 v57 v103 v104 v106 v108 v154 v155 v157 v159 k0_hw10 k0_h1 k0_h11 => k0_hw10.2.2.2.2.2.2.2.2.2.2.2.1 k0_h1 k0_h11
theorem k0_off30_inb : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (k0_hw10 : k0_chk10 i v1 v2 v4 v6 v52 v53 v55 v57 v103 v104 v106 v108 v154 v155 v157 v159), ∀ (k0_h1 : k0_cond1 i = 1#1), ∀ (k0_h11 : k0_cond11 v154 v155 v157 v159 = 1#1), ∀ a, (k0_off30 i v154 v155 v157 v159).2 a = 0 ∨ (k0_off30 i v154 v155 v157 v159).1 a + (k0_off30 i v154 v155 v157 v159).2 a ≤ S900x14336.size a := fun i v1 v2 v4 v6 v52 v53 v55 v57 v103 v104 v106 v108 v154 v155 v157 v159 k0_hw10 k0_h1 k0_h11 => k0_hw10.2.2.2.2.2.2.2.2.2.2.2.2.1 k0_h1 k0_h11
theorem k0_off30_wordsbf16 : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (k0_hw10 : k0_chk10 i v1 v2 v4 v6 v52 v53 v55 v57 v103 v104 v106 v108 v154 v155 v157 v159), ∀ (k0_h1 : k0_cond1 i = 1#1), ∀ (k0_h11 : k0_cond11 v154 v155 v157 v159 = 1#1), (Rect.unitDyn (s := S900x14336) (k0_off30 i v154 v155 v157 v159).1 (k0_off30 i v154 v155 v157 v159).2 (k0_off30_inb i v1 v2 v4 v6 v52 v53 v55 v57 v103 v104 v106 v108 v154 v155 v157 v159 k0_hw10 k0_h1 k0_h11)).WholeWords (EltTy.packing .bf16) := fun i v1 v2 v4 v6 v52 v53 v55 v57 v103 v104 v106 v108 v154 v155 v157 v159 k0_hw10 k0_h1 k0_h11 => k0_hw10.2.2.2.2.2.2.2.2.2.2.2.2.2.1 k0_h1 k0_h11 (k0_off30_inb i v1 v2 v4 v6 v52 v53 v55 v57 v103 v104 v106 v108 v154 v155 v157 v159 k0_hw10 k0_h1 k0_h11)
theorem k0_off29_wordsbf16 : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (k0_hw10 : k0_chk10 i v1 v2 v4 v6 v52 v53 v55 v57 v103 v104 v106 v108 v154 v155 v157 v159), ∀ (k0_h1 : k0_cond1 i = 1#1), ∀ (k0_h11 : k0_cond11 v154 v155 v157 v159 = 1#1), (Rect.unitDyn (s := S2x512x512) (k0_off29 i v1 v2 v4 v6 v52 v53 v55 v57 v103 v104 v106 v108 v154 v155 v157 v159).1 (k0_off29 i v1 v2 v4 v6 v52 v53 v55 v57 v103 v104 v106 v108 v154 v155 v157 v159).2 (k0_off29_inb i v1 v2 v4 v6 v52 v53 v55 v57 v103 v104 v106 v108 v154 v155 v157 v159 k0_hw10 k0_h1 k0_h11)).WholeWords (EltTy.packing .bf16) := fun i v1 v2 v4 v6 v52 v53 v55 v57 v103 v104 v106 v108 v154 v155 v157 v159 k0_hw10 k0_h1 k0_h11 => k0_hw10.2.2.2.2.2.2.2.2.2.2.2.2.2.2.1 k0_h1 k0_h11 (k0_off29_inb i v1 v2 v4 v6 v52 v53 v55 v57 v103 v104 v106 v108 v154 v155 v157 v159 k0_hw10 k0_h1 k0_h11)
theorem k0_mult55_dvd : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (k0_hw10 : k0_chk10 i v1 v2 v4 v6 v52 v53 v55 v57 v103 v104 v106 v108 v154 v155 v157 v159), ∀ (k0_h14 : k0_cond14 i = 1#1), ∀ (k0_h18 : k0_cond18 v154 v155 v157 v159 = 1#1), 8 ∣ (k0_mult55 v154 v155 v157 v159).toNat := fun i v1 v2 v4 v6 v52 v53 v55 v57 v103 v104 v106 v108 v154 v155 v157 v159 k0_hw10 k0_h14 k0_h18 => k0_hw10.2.2.2.2.2.2.2.2.2.2.2.2.2.2.2.1 k0_h14 k0_h18
theorem k0_mult56_dvd : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (k0_hw10 : k0_chk10 i v1 v2 v4 v6 v52 v53 v55 v57 v103 v104 v106 v108 v154 v155 v157 v159), ∀ (k0_h14 : k0_cond14 i = 1#1), ∀ (k0_h18 : k0_cond18 v154 v155 v157 v159 = 1#1), 8 ∣ (k0_mult56 v157).toNat := fun i v1 v2 v4 v6 v52 v53 v55 v57 v103 v104 v106 v108 v154 v155 v157 v159 k0_hw10 k0_h14 k0_h18 => k0_hw10.2.2.2.2.2.2.2.2.2.2.2.2.2.2.2.2.1 k0_h14 k0_h18
theorem k0_mult58_dvd : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (k0_hw10 : k0_chk10 i v1 v2 v4 v6 v52 v53 v55 v57 v103 v104 v106 v108 v154 v155 v157 v159), ∀ (k0_h14 : k0_cond14 i = 1#1), ∀ (k0_h18 : k0_cond18 v154 v155 v157 v159 = 1#1), 8 ∣ (k0_mult58 v1 v2 v4 v6 v52 v53 v55 v57 v103 v104 v106 v108).toNat := fun i v1 v2 v4 v6 v52 v53 v55 v57 v103 v104 v106 v108 v154 v155 v157 v159 k0_hw10 k0_h14 k0_h18 => k0_hw10.2.2.2.2.2.2.2.2.2.2.2.2.2.2.2.2.2.1 k0_h14 k0_h18
theorem k0_off47_inb : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (k0_hw10 : k0_chk10 i v1 v2 v4 v6 v52 v53 v55 v57 v103 v104 v106 v108 v154 v155 v157 v159), ∀ (k0_h14 : k0_cond14 i = 1#1), ∀ (k0_h18 : k0_cond18 v154 v155 v157 v159 = 1#1), ∀ a, (k0_off47 i v1 v2 v4 v6 v52 v53 v55 v57 v103 v104 v106 v108 v154 v155 v157 v159).2 a = 0 ∨ (k0_off47 i v1 v2 v4 v6 v52 v53 v55 v57 v103 v104 v106 v108 v154 v155 v157 v159).1 a + (k0_off47 i v1 v2 v4 v6 v52 v53 v55 v57 v103 v104 v106 v108 v154 v155 v157 v159).2 a ≤ S2x512x512.size a := fun i v1 v2 v4 v6 v52 v53 v55 v57 v103 v104 v106 v108 v154 v155 v157 v159 k0_hw10 k0_h14 k0_h18 => k0_hw10.2.2.2.2.2.2.2.2.2.2.2.2.2.2.2.2.2.2.1 k0_h14 k0_h18
theorem k0_sz10_squeezes : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (k0_hw10 : k0_chk10 i v1 v2 v4 v6 v52 v53 v55 v57 v103 v104 v106 v108 v154 v155 v157 v159), ∀ (k0_h14 : k0_cond14 i = 1#1), ∀ (k0_h18 : k0_cond18 v154 v155 v157 v159 = 1#1), (⟨3, (k0_off47 i v1 v2 v4 v6 v52 v53 v55 v57 v103 v104 v106 v108 v154 v155 v157 v159).2⟩ : Shape).Squeezes ⟨2, k0_sz10 v154 v155 v157 v159⟩ := fun i v1 v2 v4 v6 v52 v53 v55 v57 v103 v104 v106 v108 v154 v155 v157 v159 k0_hw10 k0_h14 k0_h18 => k0_hw10.2.2.2.2.2.2.2.2.2.2.2.2.2.2.2.2.2.2.2.1 k0_h14 k0_h18
theorem k0_off48_inb : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (k0_hw10 : k0_chk10 i v1 v2 v4 v6 v52 v53 v55 v57 v103 v104 v106 v108 v154 v155 v157 v159), ∀ (k0_h14 : k0_cond14 i = 1#1), ∀ (k0_h18 : k0_cond18 v154 v155 v157 v159 = 1#1), ∀ a, (k0_off48 i v154 v155 v157 v159).2 a = 0 ∨ (k0_off48 i v154 v155 v157 v159).1 a + (k0_off48 i v154 v155 v157 v159).2 a ≤ S900x14336.size a := fun i v1 v2 v4 v6 v52 v53 v55 v57 v103 v104 v106 v108 v154 v155 v157 v159 k0_hw10 k0_h14 k0_h18 => k0_hw10.2.2.2.2.2.2.2.2.2.2.2.2.2.2.2.2.2.2.2.2.1 k0_h14 k0_h18
theorem k0_off48_wordsbf16 : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (k0_hw10 : k0_chk10 i v1 v2 v4 v6 v52 v53 v55 v57 v103 v104 v106 v108 v154 v155 v157 v159), ∀ (k0_h14 : k0_cond14 i = 1#1), ∀ (k0_h18 : k0_cond18 v154 v155 v157 v159 = 1#1), (Rect.unitDyn (s := S900x14336) (k0_off48 i v154 v155 v157 v159).1 (k0_off48 i v154 v155 v157 v159).2 (k0_off48_inb i v1 v2 v4 v6 v52 v53 v55 v57 v103 v104 v106 v108 v154 v155 v157 v159 k0_hw10 k0_h14 k0_h18)).WholeWords (EltTy.packing .bf16) := fun i v1 v2 v4 v6 v52 v53 v55 v57 v103 v104 v106 v108 v154 v155 v157 v159 k0_hw10 k0_h14 k0_h18 => k0_hw10.2.2.2.2.2.2.2.2.2.2.2.2.2.2.2.2.2.2.2.2.2.1 k0_h14 k0_h18 (k0_off48_inb i v1 v2 v4 v6 v52 v53 v55 v57 v103 v104 v106 v108 v154 v155 v157 v159 k0_hw10 k0_h14 k0_h18)
theorem k0_off47_wordsbf16 : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (k0_hw10 : k0_chk10 i v1 v2 v4 v6 v52 v53 v55 v57 v103 v104 v106 v108 v154 v155 v157 v159), ∀ (k0_h14 : k0_cond14 i = 1#1), ∀ (k0_h18 : k0_cond18 v154 v155 v157 v159 = 1#1), (Rect.unitDyn (s := S2x512x512) (k0_off47 i v1 v2 v4 v6 v52 v53 v55 v57 v103 v104 v106 v108 v154 v155 v157 v159).1 (k0_off47 i v1 v2 v4 v6 v52 v53 v55 v57 v103 v104 v106 v108 v154 v155 v157 v159).2 (k0_off47_inb i v1 v2 v4 v6 v52 v53 v55 v57 v103 v104 v106 v108 v154 v155 v157 v159 k0_hw10 k0_h14 k0_h18)).WholeWords (EltTy.packing .bf16) := fun i v1 v2 v4 v6 v52 v53 v55 v57 v103 v104 v106 v108 v154 v155 v157 v159 k0_hw10 k0_h14 k0_h18 => k0_hw10.2.2.2.2.2.2.2.2.2.2.2.2.2.2.2.2.2.2.2.2.2.2.1 k0_h14 k0_h18 (k0_off47_inb i v1 v2 v4 v6 v52 v53 v55 v57 v103 v104 v106 v108 v154 v155 v157 v159 k0_hw10 k0_h14 k0_h18)
theorem k0_mult76_dvd : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (k0_hw10 : k0_chk10 i v1 v2 v4 v6 v52 v53 v55 v57 v103 v104 v106 v108 v154 v155 v157 v159), ∀ (k0_h21 : k0_cond21 i = 1#1), ∀ (k0_h25 : k0_cond25 v154 v155 v157 v159 = 1#1), 8 ∣ (k0_mult76 v154 v155 v157 v159).toNat := fun i v1 v2 v4 v6 v52 v53 v55 v57 v103 v104 v106 v108 v154 v155 v157 v159 k0_hw10 k0_h21 k0_h25 => k0_hw10.2.2.2.2.2.2.2.2.2.2.2.2.2.2.2.2.2.2.2.2.2.2.2.1 k0_h21 k0_h25
theorem k0_mult77_dvd : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (k0_hw10 : k0_chk10 i v1 v2 v4 v6 v52 v53 v55 v57 v103 v104 v106 v108 v154 v155 v157 v159), ∀ (k0_h21 : k0_cond21 i = 1#1), ∀ (k0_h25 : k0_cond25 v154 v155 v157 v159 = 1#1), 8 ∣ (k0_mult77 v157).toNat := fun i v1 v2 v4 v6 v52 v53 v55 v57 v103 v104 v106 v108 v154 v155 v157 v159 k0_hw10 k0_h21 k0_h25 => k0_hw10.2.2.2.2.2.2.2.2.2.2.2.2.2.2.2.2.2.2.2.2.2.2.2.2.1 k0_h21 k0_h25
theorem k0_mult78_dvd : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (k0_hw10 : k0_chk10 i v1 v2 v4 v6 v52 v53 v55 v57 v103 v104 v106 v108 v154 v155 v157 v159), ∀ (k0_h21 : k0_cond21 i = 1#1), ∀ (k0_h25 : k0_cond25 v154 v155 v157 v159 = 1#1), 8 ∣ (k0_mult78 v1 v2 v4 v6 v52 v53 v55 v57 v103 v104 v106 v108).toNat := fun i v1 v2 v4 v6 v52 v53 v55 v57 v103 v104 v106 v108 v154 v155 v157 v159 k0_hw10 k0_h21 k0_h25 => k0_hw10.2.2.2.2.2.2.2.2.2.2.2.2.2.2.2.2.2.2.2.2.2.2.2.2.2.1 k0_h21 k0_h25
theorem k0_mult97_dvd : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (k0_hw10 : k0_chk10 i v1 v2 v4 v6 v52 v53 v55 v57 v103 v104 v106 v108 v154 v155 v157 v159), ∀ (k0_h31 : k0_cond31 v154 v155 v157 v159 = 1#1), 8 ∣ (k0_mult97 v154 v155 v157 v159).toNat := fun i v1 v2 v4 v6 v52 v53 v55 v57 v103 v104 v106 v108 v154 v155 v157 v159 k0_hw10 k0_h31 => k0_hw10.2.2.2.2.2.2.2.2.2.2.2.2.2.2.2.2.2.2.2.2.2.2.2.2.2.2.1 k0_h31
theorem k0_mult98_dvd : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (k0_hw10 : k0_chk10 i v1 v2 v4 v6 v52 v53 v55 v57 v103 v104 v106 v108 v154 v155 v157 v159), ∀ (k0_h31 : k0_cond31 v154 v155 v157 v159 = 1#1), 8 ∣ (k0_mult98 v157).toNat := fun i v1 v2 v4 v6 v52 v53 v55 v57 v103 v104 v106 v108 v154 v155 v157 v159 k0_hw10 k0_h31 => k0_hw10.2.2.2.2.2.2.2.2.2.2.2.2.2.2.2.2.2.2.2.2.2.2.2.2.2.2.2.1 k0_h31
theorem k0_mult100_dvd : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (k0_hw10 : k0_chk10 i v1 v2 v4 v6 v52 v53 v55 v57 v103 v104 v106 v108 v154 v155 v157 v159), ∀ (k0_h31 : k0_cond31 v154 v155 v157 v159 = 1#1), 8 ∣ (k0_mult100 v1 v2 v4 v6 v52 v53 v55 v57 v103 v104 v106 v108).toNat := fun i v1 v2 v4 v6 v52 v53 v55 v57 v103 v104 v106 v108 v154 v155 v157 v159 k0_hw10 k0_h31 => k0_hw10.2.2.2.2.2.2.2.2.2.2.2.2.2.2.2.2.2.2.2.2.2.2.2.2.2.2.2.2.1 k0_h31
theorem k0_sz16_squeezes : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (k0_hw10 : k0_chk10 i v1 v2 v4 v6 v52 v53 v55 v57 v103 v104 v106 v108 v154 v155 v157 v159), ∀ (k0_h31 : k0_cond31 v154 v155 v157 v159 = 1#1), (⟨3, (k0_off83 i v1 v2 v4 v6 v52 v53 v55 v57 v103 v104 v106 v108 v154 v155 v157 v159).2⟩ : Shape).Squeezes ⟨2, k0_sz16 v154 v155 v157 v159⟩ := fun i v1 v2 v4 v6 v52 v53 v55 v57 v103 v104 v106 v108 v154 v155 v157 v159 k0_hw10 k0_h31 => k0_hw10.2.2.2.2.2.2.2.2.2.2.2.2.2.2.2.2.2.2.2.2.2.2.2.2.2.2.2.2.2 k0_h31

def k0_off84 (i : grid0.Coords) (v154 : BitVec 32) (v155 : BitVec 32) (v157 : BitVec 32) (v159 : BitVec 32) : (Fin 2 → Nat) × (Fin 2 → Nat) :=
  let c0_i32_64 : BitVec 32 := 0#32
  let v161 : BitVec 1 := Scalar.cmpi .sgt v157 c0_i32_64
  let v162 : BitVec 32 := Scalar.extui v161
  let c0_i32_65 : BitVec 32 := 0#32
  let v163 : BitVec 1 := Scalar.cmpi .slt v157 c0_i32_65
  let v164 : BitVec 32 := Scalar.extui v163
  let v165 : BitVec 32 := Scalar.subi v162 v164
  let c8_i32_63 : BitVec 32 := 8#32
  let c0_i32_66 : BitVec 32 := 0#32
  let v166 : BitVec 1 := Scalar.cmpi .sgt c8_i32_63 c0_i32_66
  let v167 : BitVec 32 := Scalar.extui v166
  let c0_i32_67 : BitVec 32 := 0#32
  let v168 : BitVec 1 := Scalar.cmpi .slt c8_i32_63 c0_i32_67
  let v169 : BitVec 32 := Scalar.extui v168
  let v170 : BitVec 32 := Scalar.subi v167 v169
  let v171 : BitVec 1 := Scalar.cmpi .ne v165 v170
  let v172 : BitVec 32 := Scalar.remsi v157 c8_i32_63
  let c0_i32_68 : BitVec 32 := 0#32
  let v173 : BitVec 1 := Scalar.cmpi .ne v172 c0_i32_68
  let v174 : BitVec 1 := Scalar.andi v171 v173
  let v160 : BitVec 32 := Scalar.divsi v157 c8_i32_63
  let c1_i32_69 : BitVec 32 := 1#32
  let v175 : BitVec 32 := Scalar.subi v160 c1_i32_69
  let v176 : BitVec 32 := Scalar.select v174 v175 v160
  let c8_i32_177 : BitVec 32 := 8#32
  let v409 : BitVec 32 := Scalar.muli v176 c8_i32_177
  let v410 : BitVec 32 := v409
  let arg0 : BitVec 32 := BitVec.ofNat 32 (i 0).val
  let c512_i32 : BitVec 32 := 512#32
  let v411 : BitVec 32 := Scalar.muli arg0 c512_i32
  let v412 : BitVec 32 := v411
  let v179 : BitVec 1 := Scalar.cmpi .sgt v155 v154
  let c8_i32_70 : BitVec 32 := 8#32
  let v177 : BitVec 32 := Scalar.muli v176 c8_i32_70
  let v178 : BitVec 32 := Scalar.subi v157 v177
  let v180 : BitVec 32 := Scalar.addi v178 v159
  let c8_i32_71 : BitVec 32 := 8#32
  let v181 : BitVec 32 := Scalar.addi v180 c8_i32_71
  let c1_i32_72 : BitVec 32 := 1#32
  let v182 : BitVec 32 := Scalar.subi v181 c1_i32_72
  let c0_i32_74 : BitVec 32 := 0#32
  let v184 : BitVec 1 := Scalar.cmpi .sgt v182 c0_i32_74
  let v185 : BitVec 32 := Scalar.extui v184
  let c0_i32_75 : BitVec 32 := 0#32
  let v186 : BitVec 1 := Scalar.cmpi .slt v182 c0_i32_75
  let v187 : BitVec 32 := Scalar.extui v186
  let v188 : BitVec 32 := Scalar.subi v185 v187
  let c8_i32_73 : BitVec 32 := 8#32
  let c0_i32_76 : BitVec 32 := 0#32
  let v189 : BitVec 1 := Scalar.cmpi .sgt c8_i32_73 c0_i32_76
  let v190 : BitVec 32 := Scalar.extui v189
  let c0_i32_77 : BitVec 32 := 0#32
  let v191 : BitVec 1 := Scalar.cmpi .slt c8_i32_73 c0_i32_77
  let v192 : BitVec 32 := Scalar.extui v191
  let v193 : BitVec 32 := Scalar.subi v190 v192
  let v194 : BitVec 1 := Scalar.cmpi .ne v188 v193
  let v195 : BitVec 32 := Scalar.remsi v182 c8_i32_73
  let c0_i32_78 : BitVec 32 := 0#32
  let v196 : BitVec 1 := Scalar.cmpi .ne v195 c0_i32_78
  let v197 : BitVec 1 := Scalar.andi v194 v196
  let v183 : BitVec 32 := Scalar.divsi v182 c8_i32_73
  let c1_i32_79 : BitVec 32 := 1#32
  let v198 : BitVec 32 := Scalar.subi v183 c1_i32_79
  let v199 : BitVec 32 := Scalar.select v197 v198 v183
  let c0_i32_80 : BitVec 32 := 0#32
  let v200 : BitVec 32 := Scalar.select v179 v199 c0_i32_80
  let c8_i32_176 : BitVec 32 := 8#32
  let v407 : BitVec 32 := Scalar.muli v200 c8_i32_176
  let v408 : BitVec 32 := v407
  ⟨![v410.toNat, v412.toNat], ![v408.toNat, 512]⟩

def k0_mult101 (v205 : BitVec 32) (v206 : BitVec 32) (v208 : BitVec 32) (v210 : BitVec 32) : BitVec 32 :=
  let v230 : BitVec 1 := Scalar.cmpi .sgt v206 v205
  let c0_i32_85 : BitVec 32 := 0#32
  let v212 : BitVec 1 := Scalar.cmpi .sgt v208 c0_i32_85
  let v213 : BitVec 32 := Scalar.extui v212
  let c0_i32_86 : BitVec 32 := 0#32
  let v214 : BitVec 1 := Scalar.cmpi .slt v208 c0_i32_86
  let v215 : BitVec 32 := Scalar.extui v214
  let v216 : BitVec 32 := Scalar.subi v213 v215
  let c8_i32_84 : BitVec 32 := 8#32
  let c0_i32_87 : BitVec 32 := 0#32
  let v217 : BitVec 1 := Scalar.cmpi .sgt c8_i32_84 c0_i32_87
  let v218 : BitVec 32 := Scalar.extui v217
  let c0_i32_88 : BitVec 32 := 0#32
  let v219 : BitVec 1 := Scalar.cmpi .slt c8_i32_84 c0_i32_88
  let v220 : BitVec 32 := Scalar.extui v219
  let v221 : BitVec 32 := Scalar.subi v218 v220
  let v222 : BitVec 1 := Scalar.cmpi .ne v216 v221
  let v223 : BitVec 32 := Scalar.remsi v208 c8_i32_84
  let c0_i32_89 : BitVec 32 := 0#32
  let v224 : BitVec 1 := Scalar.cmpi .ne v223 c0_i32_89
  let v225 : BitVec 1 := Scalar.andi v222 v224
  let v211 : BitVec 32 := Scalar.divsi v208 c8_i32_84
  let c1_i32_90 : BitVec 32 := 1#32
  let v226 : BitVec 32 := Scalar.subi v211 c1_i32_90
  let v227 : BitVec 32 := Scalar.select v225 v226 v211
  let c8_i32_91 : BitVec 32 := 8#32
  let v228 : BitVec 32 := Scalar.muli v227 c8_i32_91
  let v229 : BitVec 32 := Scalar.subi v208 v228
  let v231 : BitVec 32 := Scalar.addi v229 v210
  let c8_i32_92 : BitVec 32 := 8#32
  let v232 : BitVec 32 := Scalar.addi v231 c8_i32_92
  let c1_i32_93 : BitVec 32 := 1#32
  let v233 : BitVec 32 := Scalar.subi v232 c1_i32_93
  let c0_i32_95 : BitVec 32 := 0#32
  let v235 : BitVec 1 := Scalar.cmpi .sgt v233 c0_i32_95
  let v236 : BitVec 32 := Scalar.extui v235
  let c0_i32_96 : BitVec 32 := 0#32
  let v237 : BitVec 1 := Scalar.cmpi .slt v233 c0_i32_96
  let v238 : BitVec 32 := Scalar.extui v237
  let v239 : BitVec 32 := Scalar.subi v236 v238
  let c8_i32_94 : BitVec 32 := 8#32
  let c0_i32_97 : BitVec 32 := 0#32
  let v240 : BitVec 1 := Scalar.cmpi .sgt c8_i32_94 c0_i32_97
  let v241 : BitVec 32 := Scalar.extui v240
  let c0_i32_98 : BitVec 32 := 0#32
  let v242 : BitVec 1 := Scalar.cmpi .slt c8_i32_94 c0_i32_98
  let v243 : BitVec 32 := Scalar.extui v242
  let v244 : BitVec 32 := Scalar.subi v241 v243
  let v245 : BitVec 1 := Scalar.cmpi .ne v239 v244
  let v246 : BitVec 32 := Scalar.remsi v233 c8_i32_94
  let c0_i32_99 : BitVec 32 := 0#32
  let v247 : BitVec 1 := Scalar.cmpi .ne v246 c0_i32_99
  let v248 : BitVec 1 := Scalar.andi v245 v247
  let v234 : BitVec 32 := Scalar.divsi v233 c8_i32_94
  let c1_i32_100 : BitVec 32 := 1#32
  let v249 : BitVec 32 := Scalar.subi v234 c1_i32_100
  let v250 : BitVec 32 := Scalar.select v248 v249 v234
  let c0_i32_101 : BitVec 32 := 0#32
  let v251 : BitVec 32 := Scalar.select v230 v250 c0_i32_101
  let c8_i32_176 : BitVec 32 := 8#32
  let v407 : BitVec 32 := Scalar.muli v251 c8_i32_176
  v407
def k0_cond32 (v205 : BitVec 32) (v206 : BitVec 32) (v208 : BitVec 32) (v210 : BitVec 32) : BitVec 1 :=
  let v230 : BitVec 1 := Scalar.cmpi .sgt v206 v205
  let c0_i32_85 : BitVec 32 := 0#32
  let v212 : BitVec 1 := Scalar.cmpi .sgt v208 c0_i32_85
  let v213 : BitVec 32 := Scalar.extui v212
  let c0_i32_86 : BitVec 32 := 0#32
  let v214 : BitVec 1 := Scalar.cmpi .slt v208 c0_i32_86
  let v215 : BitVec 32 := Scalar.extui v214
  let v216 : BitVec 32 := Scalar.subi v213 v215
  let c8_i32_84 : BitVec 32 := 8#32
  let c0_i32_87 : BitVec 32 := 0#32
  let v217 : BitVec 1 := Scalar.cmpi .sgt c8_i32_84 c0_i32_87
  let v218 : BitVec 32 := Scalar.extui v217
  let c0_i32_88 : BitVec 32 := 0#32
  let v219 : BitVec 1 := Scalar.cmpi .slt c8_i32_84 c0_i32_88
  let v220 : BitVec 32 := Scalar.extui v219
  let v221 : BitVec 32 := Scalar.subi v218 v220
  let v222 : BitVec 1 := Scalar.cmpi .ne v216 v221
  let v223 : BitVec 32 := Scalar.remsi v208 c8_i32_84
  let c0_i32_89 : BitVec 32 := 0#32
  let v224 : BitVec 1 := Scalar.cmpi .ne v223 c0_i32_89
  let v225 : BitVec 1 := Scalar.andi v222 v224
  let v211 : BitVec 32 := Scalar.divsi v208 c8_i32_84
  let c1_i32_90 : BitVec 32 := 1#32
  let v226 : BitVec 32 := Scalar.subi v211 c1_i32_90
  let v227 : BitVec 32 := Scalar.select v225 v226 v211
  let c8_i32_91 : BitVec 32 := 8#32
  let v228 : BitVec 32 := Scalar.muli v227 c8_i32_91
  let v229 : BitVec 32 := Scalar.subi v208 v228
  let v231 : BitVec 32 := Scalar.addi v229 v210
  let c8_i32_92 : BitVec 32 := 8#32
  let v232 : BitVec 32 := Scalar.addi v231 c8_i32_92
  let c1_i32_93 : BitVec 32 := 1#32
  let v233 : BitVec 32 := Scalar.subi v232 c1_i32_93
  let c0_i32_95 : BitVec 32 := 0#32
  let v235 : BitVec 1 := Scalar.cmpi .sgt v233 c0_i32_95
  let v236 : BitVec 32 := Scalar.extui v235
  let c0_i32_96 : BitVec 32 := 0#32
  let v237 : BitVec 1 := Scalar.cmpi .slt v233 c0_i32_96
  let v238 : BitVec 32 := Scalar.extui v237
  let v239 : BitVec 32 := Scalar.subi v236 v238
  let c8_i32_94 : BitVec 32 := 8#32
  let c0_i32_97 : BitVec 32 := 0#32
  let v240 : BitVec 1 := Scalar.cmpi .sgt c8_i32_94 c0_i32_97
  let v241 : BitVec 32 := Scalar.extui v240
  let c0_i32_98 : BitVec 32 := 0#32
  let v242 : BitVec 1 := Scalar.cmpi .slt c8_i32_94 c0_i32_98
  let v243 : BitVec 32 := Scalar.extui v242
  let v244 : BitVec 32 := Scalar.subi v241 v243
  let v245 : BitVec 1 := Scalar.cmpi .ne v239 v244
  let v246 : BitVec 32 := Scalar.remsi v233 c8_i32_94
  let c0_i32_99 : BitVec 32 := 0#32
  let v247 : BitVec 1 := Scalar.cmpi .ne v246 c0_i32_99
  let v248 : BitVec 1 := Scalar.andi v245 v247
  let v234 : BitVec 32 := Scalar.divsi v233 c8_i32_94
  let c1_i32_100 : BitVec 32 := 1#32
  let v249 : BitVec 32 := Scalar.subi v234 c1_i32_100
  let v250 : BitVec 32 := Scalar.select v248 v249 v234
  let c0_i32_101 : BitVec 32 := 0#32
  let v251 : BitVec 32 := Scalar.select v230 v250 c0_i32_101
  let c0_i32_163 : BitVec 32 := 0#32
  let v391 : BitVec 1 := Scalar.cmpi .sgt v251 c0_i32_163
  let v392 : BitVec 32 := Scalar.extui v391
  let c0_i32_164 : BitVec 32 := 0#32
  let v393 : BitVec 1 := Scalar.cmpi .ne v392 c0_i32_164
  v393

def k0_mult102 (v208 : BitVec 32) : BitVec 32 :=
  let c0_i32_85 : BitVec 32 := 0#32
  let v212 : BitVec 1 := Scalar.cmpi .sgt v208 c0_i32_85
  let v213 : BitVec 32 := Scalar.extui v212
  let c0_i32_86 : BitVec 32 := 0#32
  let v214 : BitVec 1 := Scalar.cmpi .slt v208 c0_i32_86
  let v215 : BitVec 32 := Scalar.extui v214
  let v216 : BitVec 32 := Scalar.subi v213 v215
  let c8_i32_84 : BitVec 32 := 8#32
  let c0_i32_87 : BitVec 32 := 0#32
  let v217 : BitVec 1 := Scalar.cmpi .sgt c8_i32_84 c0_i32_87
  let v218 : BitVec 32 := Scalar.extui v217
  let c0_i32_88 : BitVec 32 := 0#32
  let v219 : BitVec 1 := Scalar.cmpi .slt c8_i32_84 c0_i32_88
  let v220 : BitVec 32 := Scalar.extui v219
  let v221 : BitVec 32 := Scalar.subi v218 v220
  let v222 : BitVec 1 := Scalar.cmpi .ne v216 v221
  let v223 : BitVec 32 := Scalar.remsi v208 c8_i32_84
  let c0_i32_89 : BitVec 32 := 0#32
  let v224 : BitVec 1 := Scalar.cmpi .ne v223 c0_i32_89
  let v225 : BitVec 1 := Scalar.andi v222 v224
  let v211 : BitVec 32 := Scalar.divsi v208 c8_i32_84
  let c1_i32_90 : BitVec 32 := 1#32
  let v226 : BitVec 32 := Scalar.subi v211 c1_i32_90
  let v227 : BitVec 32 := Scalar.select v225 v226 v211
  let c8_i32_177 : BitVec 32 := 8#32
  let v409 : BitVec 32 := Scalar.muli v227 c8_i32_177
  v409
def k0_mult103 (i : grid0.Coords) : BitVec 32 :=
  let arg0 : BitVec 32 := BitVec.ofNat 32 (i 0).val
  let c512_i32 : BitVec 32 := 512#32
  let v411 : BitVec 32 := Scalar.muli arg0 c512_i32
  v411
def k0_mult104 (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) : BitVec 32 :=
  let c0_i32_18 : BitVec 32 := 0#32
  let v26 : BitVec 1 := Scalar.cmpi .sgt v2 v1
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let v50 : BitVec 32 := Scalar.addi c0_i32_18 v47
  let v77 : BitVec 1 := Scalar.cmpi .sgt v53 v52
  let c0_i32_22 : BitVec 32 := 0#32
  let v59 : BitVec 1 := Scalar.cmpi .sgt v55 c0_i32_22
  let v60 : BitVec 32 := Scalar.extui v59
  let c0_i32_23 : BitVec 32 := 0#32
  let v61 : BitVec 1 := Scalar.cmpi .slt v55 c0_i32_23
  let v62 : BitVec 32 := Scalar.extui v61
  let v63 : BitVec 32 := Scalar.subi v60 v62
  let c8_i32_21 : BitVec 32 := 8#32
  let c0_i32_24 : BitVec 32 := 0#32
  let v64 : BitVec 1 := Scalar.cmpi .sgt c8_i32_21 c0_i32_24
  let v65 : BitVec 32 := Scalar.extui v64
  let c0_i32_25 : BitVec 32 := 0#32
  let v66 : BitVec 1 := Scalar.cmpi .slt c8_i32_21 c0_i32_25
  let v67 : BitVec 32 := Scalar.extui v66
  let v68 : BitVec 32 := Scalar.subi v65 v67
  let v69 : BitVec 1 := Scalar.cmpi .ne v63 v68
  let v70 : BitVec 32 := Scalar.remsi v55 c8_i32_21
  let c0_i32_26 : BitVec 32 := 0#32
  let v71 : BitVec 1 := Scalar.cmpi .ne v70 c0_i32_26
  let v72 : BitVec 1 := Scalar.andi v69 v71
  let v58 : BitVec 32 := Scalar.divsi v55 c8_i32_21
  let c1_i32_27 : BitVec 32 := 1#32
  let v73 : BitVec 32 := Scalar.subi v58 c1_i32_27
  let v74 : BitVec 32 := Scalar.select v72 v73 v58
  let c8_i32_28 : BitVec 32 := 8#32
  let v75 : BitVec 32 := Scalar.muli v74 c8_i32_28
  let v76 : BitVec 32 := Scalar.subi v55 v75
  let v78 : BitVec 32 := Scalar.addi v76 v57
  let c8_i32_29 : BitVec 32 := 8#32
  let v79 : BitVec 32 := Scalar.addi v78 c8_i32_29
  let c1_i32_30 : BitVec 32 := 1#32
  let v80 : BitVec 32 := Scalar.subi v79 c1_i32_30
  let c0_i32_32 : BitVec 32 := 0#32
  let v82 : BitVec 1 := Scalar.cmpi .sgt v80 c0_i32_32
  let v83 : BitVec 32 := Scalar.extui v82
  let c0_i32_33 : BitVec 32 := 0#32
  let v84 : BitVec 1 := Scalar.cmpi .slt v80 c0_i32_33
  let v85 : BitVec 32 := Scalar.extui v84
  let v86 : BitVec 32 := Scalar.subi v83 v85
  let c8_i32_31 : BitVec 32 := 8#32
  let c0_i32_34 : BitVec 32 := 0#32
  let v87 : BitVec 1 := Scalar.cmpi .sgt c8_i32_31 c0_i32_34
  let v88 : BitVec 32 := Scalar.extui v87
  let c0_i32_35 : BitVec 32 := 0#32
  let v89 : BitVec 1 := Scalar.cmpi .slt c8_i32_31 c0_i32_35
  let v90 : BitVec 32 := Scalar.extui v89
  let v91 : BitVec 32 := Scalar.subi v88 v90
  let v92 : BitVec 1 := Scalar.cmpi .ne v86 v91
  let v93 : BitVec 32 := Scalar.remsi v80 c8_i32_31
  let c0_i32_36 : BitVec 32 := 0#32
  let v94 : BitVec 1 := Scalar.cmpi .ne v93 c0_i32_36
  let v95 : BitVec 1 := Scalar.andi v92 v94
  let v81 : BitVec 32 := Scalar.divsi v80 c8_i32_31
  let c1_i32_37 : BitVec 32 := 1#32
  let v96 : BitVec 32 := Scalar.subi v81 c1_i32_37
  let v97 : BitVec 32 := Scalar.select v95 v96 v81
  let c0_i32_38 : BitVec 32 := 0#32
  let v98 : BitVec 32 := Scalar.select v77 v97 c0_i32_38
  let v101 : BitVec 32 := Scalar.addi v50 v98
  let v128 : BitVec 1 := Scalar.cmpi .sgt v104 v103
  let c0_i32_43 : BitVec 32 := 0#32
  let v110 : BitVec 1 := Scalar.cmpi .sgt v106 c0_i32_43
  let v111 : BitVec 32 := Scalar.extui v110
  let c0_i32_44 : BitVec 32 := 0#32
  let v112 : BitVec 1 := Scalar.cmpi .slt v106 c0_i32_44
  let v113 : BitVec 32 := Scalar.extui v112
  let v114 : BitVec 32 := Scalar.subi v111 v113
  let c8_i32_42 : BitVec 32 := 8#32
  let c0_i32_45 : BitVec 32 := 0#32
  let v115 : BitVec 1 := Scalar.cmpi .sgt c8_i32_42 c0_i32_45
  let v116 : BitVec 32 := Scalar.extui v115
  let c0_i32_46 : BitVec 32 := 0#32
  let v117 : BitVec 1 := Scalar.cmpi .slt c8_i32_42 c0_i32_46
  let v118 : BitVec 32 := Scalar.extui v117
  let v119 : BitVec 32 := Scalar.subi v116 v118
  let v120 : BitVec 1 := Scalar.cmpi .ne v114 v119
  let v121 : BitVec 32 := Scalar.remsi v106 c8_i32_42
  let c0_i32_47 : BitVec 32 := 0#32
  let v122 : BitVec 1 := Scalar.cmpi .ne v121 c0_i32_47
  let v123 : BitVec 1 := Scalar.andi v120 v122
  let v109 : BitVec 32 := Scalar.divsi v106 c8_i32_42
  let c1_i32_48 : BitVec 32 := 1#32
  let v124 : BitVec 32 := Scalar.subi v109 c1_i32_48
  let v125 : BitVec 32 := Scalar.select v123 v124 v109
  let c8_i32_49 : BitVec 32 := 8#32
  let v126 : BitVec 32 := Scalar.muli v125 c8_i32_49
  let v127 : BitVec 32 := Scalar.subi v106 v126
  let v129 : BitVec 32 := Scalar.addi v127 v108
  let c8_i32_50 : BitVec 32 := 8#32
  let v130 : BitVec 32 := Scalar.addi v129 c8_i32_50
  let c1_i32_51 : BitVec 32 := 1#32
  let v131 : BitVec 32 := Scalar.subi v130 c1_i32_51
  let c0_i32_53 : BitVec 32 := 0#32
  let v133 : BitVec 1 := Scalar.cmpi .sgt v131 c0_i32_53
  let v134 : BitVec 32 := Scalar.extui v133
  let c0_i32_54 : BitVec 32 := 0#32
  let v135 : BitVec 1 := Scalar.cmpi .slt v131 c0_i32_54
  let v136 : BitVec 32 := Scalar.extui v135
  let v137 : BitVec 32 := Scalar.subi v134 v136
  let c8_i32_52 : BitVec 32 := 8#32
  let c0_i32_55 : BitVec 32 := 0#32
  let v138 : BitVec 1 := Scalar.cmpi .sgt c8_i32_52 c0_i32_55
  let v139 : BitVec 32 := Scalar.extui v138
  let c0_i32_56 : BitVec 32 := 0#32
  let v140 : BitVec 1 := Scalar.cmpi .slt c8_i32_52 c0_i32_56
  let v141 : BitVec 32 := Scalar.extui v140
  let v142 : BitVec 32 := Scalar.subi v139 v141
  let v143 : BitVec 1 := Scalar.cmpi .ne v137 v142
  let v144 : BitVec 32 := Scalar.remsi v131 c8_i32_52
  let c0_i32_57 : BitVec 32 := 0#32
  let v145 : BitVec 1 := Scalar.cmpi .ne v144 c0_i32_57
  let v146 : BitVec 1 := Scalar.andi v143 v145
  let v132 : BitVec 32 := Scalar.divsi v131 c8_i32_52
  let c1_i32_58 : BitVec 32 := 1#32
  let v147 : BitVec 32 := Scalar.subi v132 c1_i32_58
  let v148 : BitVec 32 := Scalar.select v146 v147 v132
  let c0_i32_59 : BitVec 32 := 0#32
  let v149 : BitVec 32 := Scalar.select v128 v148 c0_i32_59
  let v152 : BitVec 32 := Scalar.addi v101 v149
  let v179 : BitVec 1 := Scalar.cmpi .sgt v155 v154
  let c0_i32_64 : BitVec 32 := 0#32
  let v161 : BitVec 1 := Scalar.cmpi .sgt v157 c0_i32_64
  let v162 : BitVec 32 := Scalar.extui v161
  let c0_i32_65 : BitVec 32 := 0#32
  let v163 : BitVec 1 := Scalar.cmpi .slt v157 c0_i32_65
  let v164 : BitVec 32 := Scalar.extui v163
  let v165 : BitVec 32 := Scalar.subi v162 v164
  let c8_i32_63 : BitVec 32 := 8#32
  let c0_i32_66 : BitVec 32 := 0#32
  let v166 : BitVec 1 := Scalar.cmpi .sgt c8_i32_63 c0_i32_66
  let v167 : BitVec 32 := Scalar.extui v166
  let c0_i32_67 : BitVec 32 := 0#32
  let v168 : BitVec 1 := Scalar.cmpi .slt c8_i32_63 c0_i32_67
  let v169 : BitVec 32 := Scalar.extui v168
  let v170 : BitVec 32 := Scalar.subi v167 v169
  let v171 : BitVec 1 := Scalar.cmpi .ne v165 v170
  let v172 : BitVec 32 := Scalar.remsi v157 c8_i32_63
  let c0_i32_68 : BitVec 32 := 0#32
  let v173 : BitVec 1 := Scalar.cmpi .ne v172 c0_i32_68
  let v174 : BitVec 1 := Scalar.andi v171 v173
  let v160 : BitVec 32 := Scalar.divsi v157 c8_i32_63
  let c1_i32_69 : BitVec 32 := 1#32
  let v175 : BitVec 32 := Scalar.subi v160 c1_i32_69
  let v176 : BitVec 32 := Scalar.select v174 v175 v160
  let c8_i32_70 : BitVec 32 := 8#32
  let v177 : BitVec 32 := Scalar.muli v176 c8_i32_70
  let v178 : BitVec 32 := Scalar.subi v157 v177
  let v180 : BitVec 32 := Scalar.addi v178 v159
  let c8_i32_71 : BitVec 32 := 8#32
  let v181 : BitVec 32 := Scalar.addi v180 c8_i32_71
  let c1_i32_72 : BitVec 32 := 1#32
  let v182 : BitVec 32 := Scalar.subi v181 c1_i32_72
  let c0_i32_74 : BitVec 32 := 0#32
  let v184 : BitVec 1 := Scalar.cmpi .sgt v182 c0_i32_74
  let v185 : BitVec 32 := Scalar.extui v184
  let c0_i32_75 : BitVec 32 := 0#32
  let v186 : BitVec 1 := Scalar.cmpi .slt v182 c0_i32_75
  let v187 : BitVec 32 := Scalar.extui v186
  let v188 : BitVec 32 := Scalar.subi v185 v187
  let c8_i32_73 : BitVec 32 := 8#32
  let c0_i32_76 : BitVec 32 := 0#32
  let v189 : BitVec 1 := Scalar.cmpi .sgt c8_i32_73 c0_i32_76
  let v190 : BitVec 32 := Scalar.extui v189
  let c0_i32_77 : BitVec 32 := 0#32
  let v191 : BitVec 1 := Scalar.cmpi .slt c8_i32_73 c0_i32_77
  let v192 : BitVec 32 := Scalar.extui v191
  let v193 : BitVec 32 := Scalar.subi v190 v192
  let v194 : BitVec 1 := Scalar.cmpi .ne v188 v193
  let v195 : BitVec 32 := Scalar.remsi v182 c8_i32_73
  let c0_i32_78 : BitVec 32 := 0#32
  let v196 : BitVec 1 := Scalar.cmpi .ne v195 c0_i32_78
  let v197 : BitVec 1 := Scalar.andi v194 v196
  let v183 : BitVec 32 := Scalar.divsi v182 c8_i32_73
  let c1_i32_79 : BitVec 32 := 1#32
  let v198 : BitVec 32 := Scalar.subi v183 c1_i32_79
  let v199 : BitVec 32 := Scalar.select v197 v198 v183
  let c0_i32_80 : BitVec 32 := 0#32
  let v200 : BitVec 32 := Scalar.select v179 v199 c0_i32_80
  let v203 : BitVec 32 := Scalar.addi v152 v200
  let c8_i32_178 : BitVec 32 := 8#32
  let v413 : BitVec 32 := Scalar.muli v203 c8_i32_178
  v413
def k0_off85 (i : grid0.Coords) : Fin 2 → Nat :=
  let arg0 : BitVec 32 := BitVec.ofNat 32 (i 0).val
  let c2_i32_175 : BitVec 32 := 2#32
  let v406 : BitVec 32 := Scalar.remsi arg0 c2_i32_175
  let c4_i32_179 : BitVec 32 := 4#32
  ![v406.toNat, 4]
def k0_off86 (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) : (Fin 3 → Nat) × (Fin 3 → Nat) :=
  let arg0 : BitVec 32 := BitVec.ofNat 32 (i 0).val
  let c2_i32_175 : BitVec 32 := 2#32
  let v406 : BitVec 32 := Scalar.remsi arg0 c2_i32_175
  let c0_i32_18 : BitVec 32 := 0#32
  let v26 : BitVec 1 := Scalar.cmpi .sgt v2 v1
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let v50 : BitVec 32 := Scalar.addi c0_i32_18 v47
  let v77 : BitVec 1 := Scalar.cmpi .sgt v53 v52
  let c0_i32_22 : BitVec 32 := 0#32
  let v59 : BitVec 1 := Scalar.cmpi .sgt v55 c0_i32_22
  let v60 : BitVec 32 := Scalar.extui v59
  let c0_i32_23 : BitVec 32 := 0#32
  let v61 : BitVec 1 := Scalar.cmpi .slt v55 c0_i32_23
  let v62 : BitVec 32 := Scalar.extui v61
  let v63 : BitVec 32 := Scalar.subi v60 v62
  let c8_i32_21 : BitVec 32 := 8#32
  let c0_i32_24 : BitVec 32 := 0#32
  let v64 : BitVec 1 := Scalar.cmpi .sgt c8_i32_21 c0_i32_24
  let v65 : BitVec 32 := Scalar.extui v64
  let c0_i32_25 : BitVec 32 := 0#32
  let v66 : BitVec 1 := Scalar.cmpi .slt c8_i32_21 c0_i32_25
  let v67 : BitVec 32 := Scalar.extui v66
  let v68 : BitVec 32 := Scalar.subi v65 v67
  let v69 : BitVec 1 := Scalar.cmpi .ne v63 v68
  let v70 : BitVec 32 := Scalar.remsi v55 c8_i32_21
  let c0_i32_26 : BitVec 32 := 0#32
  let v71 : BitVec 1 := Scalar.cmpi .ne v70 c0_i32_26
  let v72 : BitVec 1 := Scalar.andi v69 v71
  let v58 : BitVec 32 := Scalar.divsi v55 c8_i32_21
  let c1_i32_27 : BitVec 32 := 1#32
  let v73 : BitVec 32 := Scalar.subi v58 c1_i32_27
  let v74 : BitVec 32 := Scalar.select v72 v73 v58
  let c8_i32_28 : BitVec 32 := 8#32
  let v75 : BitVec 32 := Scalar.muli v74 c8_i32_28
  let v76 : BitVec 32 := Scalar.subi v55 v75
  let v78 : BitVec 32 := Scalar.addi v76 v57
  let c8_i32_29 : BitVec 32 := 8#32
  let v79 : BitVec 32 := Scalar.addi v78 c8_i32_29
  let c1_i32_30 : BitVec 32 := 1#32
  let v80 : BitVec 32 := Scalar.subi v79 c1_i32_30
  let c0_i32_32 : BitVec 32 := 0#32
  let v82 : BitVec 1 := Scalar.cmpi .sgt v80 c0_i32_32
  let v83 : BitVec 32 := Scalar.extui v82
  let c0_i32_33 : BitVec 32 := 0#32
  let v84 : BitVec 1 := Scalar.cmpi .slt v80 c0_i32_33
  let v85 : BitVec 32 := Scalar.extui v84
  let v86 : BitVec 32 := Scalar.subi v83 v85
  let c8_i32_31 : BitVec 32 := 8#32
  let c0_i32_34 : BitVec 32 := 0#32
  let v87 : BitVec 1 := Scalar.cmpi .sgt c8_i32_31 c0_i32_34
  let v88 : BitVec 32 := Scalar.extui v87
  let c0_i32_35 : BitVec 32 := 0#32
  let v89 : BitVec 1 := Scalar.cmpi .slt c8_i32_31 c0_i32_35
  let v90 : BitVec 32 := Scalar.extui v89
  let v91 : BitVec 32 := Scalar.subi v88 v90
  let v92 : BitVec 1 := Scalar.cmpi .ne v86 v91
  let v93 : BitVec 32 := Scalar.remsi v80 c8_i32_31
  let c0_i32_36 : BitVec 32 := 0#32
  let v94 : BitVec 1 := Scalar.cmpi .ne v93 c0_i32_36
  let v95 : BitVec 1 := Scalar.andi v92 v94
  let v81 : BitVec 32 := Scalar.divsi v80 c8_i32_31
  let c1_i32_37 : BitVec 32 := 1#32
  let v96 : BitVec 32 := Scalar.subi v81 c1_i32_37
  let v97 : BitVec 32 := Scalar.select v95 v96 v81
  let c0_i32_38 : BitVec 32 := 0#32
  let v98 : BitVec 32 := Scalar.select v77 v97 c0_i32_38
  let v101 : BitVec 32 := Scalar.addi v50 v98
  let v128 : BitVec 1 := Scalar.cmpi .sgt v104 v103
  let c0_i32_43 : BitVec 32 := 0#32
  let v110 : BitVec 1 := Scalar.cmpi .sgt v106 c0_i32_43
  let v111 : BitVec 32 := Scalar.extui v110
  let c0_i32_44 : BitVec 32 := 0#32
  let v112 : BitVec 1 := Scalar.cmpi .slt v106 c0_i32_44
  let v113 : BitVec 32 := Scalar.extui v112
  let v114 : BitVec 32 := Scalar.subi v111 v113
  let c8_i32_42 : BitVec 32 := 8#32
  let c0_i32_45 : BitVec 32 := 0#32
  let v115 : BitVec 1 := Scalar.cmpi .sgt c8_i32_42 c0_i32_45
  let v116 : BitVec 32 := Scalar.extui v115
  let c0_i32_46 : BitVec 32 := 0#32
  let v117 : BitVec 1 := Scalar.cmpi .slt c8_i32_42 c0_i32_46
  let v118 : BitVec 32 := Scalar.extui v117
  let v119 : BitVec 32 := Scalar.subi v116 v118
  let v120 : BitVec 1 := Scalar.cmpi .ne v114 v119
  let v121 : BitVec 32 := Scalar.remsi v106 c8_i32_42
  let c0_i32_47 : BitVec 32 := 0#32
  let v122 : BitVec 1 := Scalar.cmpi .ne v121 c0_i32_47
  let v123 : BitVec 1 := Scalar.andi v120 v122
  let v109 : BitVec 32 := Scalar.divsi v106 c8_i32_42
  let c1_i32_48 : BitVec 32 := 1#32
  let v124 : BitVec 32 := Scalar.subi v109 c1_i32_48
  let v125 : BitVec 32 := Scalar.select v123 v124 v109
  let c8_i32_49 : BitVec 32 := 8#32
  let v126 : BitVec 32 := Scalar.muli v125 c8_i32_49
  let v127 : BitVec 32 := Scalar.subi v106 v126
  let v129 : BitVec 32 := Scalar.addi v127 v108
  let c8_i32_50 : BitVec 32 := 8#32
  let v130 : BitVec 32 := Scalar.addi v129 c8_i32_50
  let c1_i32_51 : BitVec 32 := 1#32
  let v131 : BitVec 32 := Scalar.subi v130 c1_i32_51
  let c0_i32_53 : BitVec 32 := 0#32
  let v133 : BitVec 1 := Scalar.cmpi .sgt v131 c0_i32_53
  let v134 : BitVec 32 := Scalar.extui v133
  let c0_i32_54 : BitVec 32 := 0#32
  let v135 : BitVec 1 := Scalar.cmpi .slt v131 c0_i32_54
  let v136 : BitVec 32 := Scalar.extui v135
  let v137 : BitVec 32 := Scalar.subi v134 v136
  let c8_i32_52 : BitVec 32 := 8#32
  let c0_i32_55 : BitVec 32 := 0#32
  let v138 : BitVec 1 := Scalar.cmpi .sgt c8_i32_52 c0_i32_55
  let v139 : BitVec 32 := Scalar.extui v138
  let c0_i32_56 : BitVec 32 := 0#32
  let v140 : BitVec 1 := Scalar.cmpi .slt c8_i32_52 c0_i32_56
  let v141 : BitVec 32 := Scalar.extui v140
  let v142 : BitVec 32 := Scalar.subi v139 v141
  let v143 : BitVec 1 := Scalar.cmpi .ne v137 v142
  let v144 : BitVec 32 := Scalar.remsi v131 c8_i32_52
  let c0_i32_57 : BitVec 32 := 0#32
  let v145 : BitVec 1 := Scalar.cmpi .ne v144 c0_i32_57
  let v146 : BitVec 1 := Scalar.andi v143 v145
  let v132 : BitVec 32 := Scalar.divsi v131 c8_i32_52
  let c1_i32_58 : BitVec 32 := 1#32
  let v147 : BitVec 32 := Scalar.subi v132 c1_i32_58
  let v148 : BitVec 32 := Scalar.select v146 v147 v132
  let c0_i32_59 : BitVec 32 := 0#32
  let v149 : BitVec 32 := Scalar.select v128 v148 c0_i32_59
  let v152 : BitVec 32 := Scalar.addi v101 v149
  let v179 : BitVec 1 := Scalar.cmpi .sgt v155 v154
  let c0_i32_64 : BitVec 32 := 0#32
  let v161 : BitVec 1 := Scalar.cmpi .sgt v157 c0_i32_64
  let v162 : BitVec 32 := Scalar.extui v161
  let c0_i32_65 : BitVec 32 := 0#32
  let v163 : BitVec 1 := Scalar.cmpi .slt v157 c0_i32_65
  let v164 : BitVec 32 := Scalar.extui v163
  let v165 : BitVec 32 := Scalar.subi v162 v164
  let c8_i32_63 : BitVec 32 := 8#32
  let c0_i32_66 : BitVec 32 := 0#32
  let v166 : BitVec 1 := Scalar.cmpi .sgt c8_i32_63 c0_i32_66
  let v167 : BitVec 32 := Scalar.extui v166
  let c0_i32_67 : BitVec 32 := 0#32
  let v168 : BitVec 1 := Scalar.cmpi .slt c8_i32_63 c0_i32_67
  let v169 : BitVec 32 := Scalar.extui v168
  let v170 : BitVec 32 := Scalar.subi v167 v169
  let v171 : BitVec 1 := Scalar.cmpi .ne v165 v170
  let v172 : BitVec 32 := Scalar.remsi v157 c8_i32_63
  let c0_i32_68 : BitVec 32 := 0#32
  let v173 : BitVec 1 := Scalar.cmpi .ne v172 c0_i32_68
  let v174 : BitVec 1 := Scalar.andi v171 v173
  let v160 : BitVec 32 := Scalar.divsi v157 c8_i32_63
  let c1_i32_69 : BitVec 32 := 1#32
  let v175 : BitVec 32 := Scalar.subi v160 c1_i32_69
  let v176 : BitVec 32 := Scalar.select v174 v175 v160
  let c8_i32_70 : BitVec 32 := 8#32
  let v177 : BitVec 32 := Scalar.muli v176 c8_i32_70
  let v178 : BitVec 32 := Scalar.subi v157 v177
  let v180 : BitVec 32 := Scalar.addi v178 v159
  let c8_i32_71 : BitVec 32 := 8#32
  let v181 : BitVec 32 := Scalar.addi v180 c8_i32_71
  let c1_i32_72 : BitVec 32 := 1#32
  let v182 : BitVec 32 := Scalar.subi v181 c1_i32_72
  let c0_i32_74 : BitVec 32 := 0#32
  let v184 : BitVec 1 := Scalar.cmpi .sgt v182 c0_i32_74
  let v185 : BitVec 32 := Scalar.extui v184
  let c0_i32_75 : BitVec 32 := 0#32
  let v186 : BitVec 1 := Scalar.cmpi .slt v182 c0_i32_75
  let v187 : BitVec 32 := Scalar.extui v186
  let v188 : BitVec 32 := Scalar.subi v185 v187
  let c8_i32_73 : BitVec 32 := 8#32
  let c0_i32_76 : BitVec 32 := 0#32
  let v189 : BitVec 1 := Scalar.cmpi .sgt c8_i32_73 c0_i32_76
  let v190 : BitVec 32 := Scalar.extui v189
  let c0_i32_77 : BitVec 32 := 0#32
  let v191 : BitVec 1 := Scalar.cmpi .slt c8_i32_73 c0_i32_77
  let v192 : BitVec 32 := Scalar.extui v191
  let v193 : BitVec 32 := Scalar.subi v190 v192
  let v194 : BitVec 1 := Scalar.cmpi .ne v188 v193
  let v195 : BitVec 32 := Scalar.remsi v182 c8_i32_73
  let c0_i32_78 : BitVec 32 := 0#32
  let v196 : BitVec 1 := Scalar.cmpi .ne v195 c0_i32_78
  let v197 : BitVec 1 := Scalar.andi v194 v196
  let v183 : BitVec 32 := Scalar.divsi v182 c8_i32_73
  let c1_i32_79 : BitVec 32 := 1#32
  let v198 : BitVec 32 := Scalar.subi v183 c1_i32_79
  let v199 : BitVec 32 := Scalar.select v197 v198 v183
  let c0_i32_80 : BitVec 32 := 0#32
  let v200 : BitVec 32 := Scalar.select v179 v199 c0_i32_80
  let v203 : BitVec 32 := Scalar.addi v152 v200
  let c8_i32_178 : BitVec 32 := 8#32
  let v413 : BitVec 32 := Scalar.muli v203 c8_i32_178
  let v414 : BitVec 32 := v413
  let c0_i32_180 : BitVec 32 := 0#32
  let v230 : BitVec 1 := Scalar.cmpi .sgt v206 v205
  let c0_i32_85 : BitVec 32 := 0#32
  let v212 : BitVec 1 := Scalar.cmpi .sgt v208 c0_i32_85
  let v213 : BitVec 32 := Scalar.extui v212
  let c0_i32_86 : BitVec 32 := 0#32
  let v214 : BitVec 1 := Scalar.cmpi .slt v208 c0_i32_86
  let v215 : BitVec 32 := Scalar.extui v214
  let v216 : BitVec 32 := Scalar.subi v213 v215
  let c8_i32_84 : BitVec 32 := 8#32
  let c0_i32_87 : BitVec 32 := 0#32
  let v217 : BitVec 1 := Scalar.cmpi .sgt c8_i32_84 c0_i32_87
  let v218 : BitVec 32 := Scalar.extui v217
  let c0_i32_88 : BitVec 32 := 0#32
  let v219 : BitVec 1 := Scalar.cmpi .slt c8_i32_84 c0_i32_88
  let v220 : BitVec 32 := Scalar.extui v219
  let v221 : BitVec 32 := Scalar.subi v218 v220
  let v222 : BitVec 1 := Scalar.cmpi .ne v216 v221
  let v223 : BitVec 32 := Scalar.remsi v208 c8_i32_84
  let c0_i32_89 : BitVec 32 := 0#32
  let v224 : BitVec 1 := Scalar.cmpi .ne v223 c0_i32_89
  let v225 : BitVec 1 := Scalar.andi v222 v224
  let v211 : BitVec 32 := Scalar.divsi v208 c8_i32_84
  let c1_i32_90 : BitVec 32 := 1#32
  let v226 : BitVec 32 := Scalar.subi v211 c1_i32_90
  let v227 : BitVec 32 := Scalar.select v225 v226 v211
  let c8_i32_91 : BitVec 32 := 8#32
  let v228 : BitVec 32 := Scalar.muli v227 c8_i32_91
  let v229 : BitVec 32 := Scalar.subi v208 v228
  let v231 : BitVec 32 := Scalar.addi v229 v210
  let c8_i32_92 : BitVec 32 := 8#32
  let v232 : BitVec 32 := Scalar.addi v231 c8_i32_92
  let c1_i32_93 : BitVec 32 := 1#32
  let v233 : BitVec 32 := Scalar.subi v232 c1_i32_93
  let c0_i32_95 : BitVec 32 := 0#32
  let v235 : BitVec 1 := Scalar.cmpi .sgt v233 c0_i32_95
  let v236 : BitVec 32 := Scalar.extui v235
  let c0_i32_96 : BitVec 32 := 0#32
  let v237 : BitVec 1 := Scalar.cmpi .slt v233 c0_i32_96
  let v238 : BitVec 32 := Scalar.extui v237
  let v239 : BitVec 32 := Scalar.subi v236 v238
  let c8_i32_94 : BitVec 32 := 8#32
  let c0_i32_97 : BitVec 32 := 0#32
  let v240 : BitVec 1 := Scalar.cmpi .sgt c8_i32_94 c0_i32_97
  let v241 : BitVec 32 := Scalar.extui v240
  let c0_i32_98 : BitVec 32 := 0#32
  let v242 : BitVec 1 := Scalar.cmpi .slt c8_i32_94 c0_i32_98
  let v243 : BitVec 32 := Scalar.extui v242
  let v244 : BitVec 32 := Scalar.subi v241 v243
  let v245 : BitVec 1 := Scalar.cmpi .ne v239 v244
  let v246 : BitVec 32 := Scalar.remsi v233 c8_i32_94
  let c0_i32_99 : BitVec 32 := 0#32
  let v247 : BitVec 1 := Scalar.cmpi .ne v246 c0_i32_99
  let v248 : BitVec 1 := Scalar.andi v245 v247
  let v234 : BitVec 32 := Scalar.divsi v233 c8_i32_94
  let c1_i32_100 : BitVec 32 := 1#32
  let v249 : BitVec 32 := Scalar.subi v234 c1_i32_100
  let v250 : BitVec 32 := Scalar.select v248 v249 v234
  let c0_i32_101 : BitVec 32 := 0#32
  let v251 : BitVec 32 := Scalar.select v230 v250 c0_i32_101
  let c8_i32_176 : BitVec 32 := 8#32
  let v407 : BitVec 32 := Scalar.muli v251 c8_i32_176
  let v408 : BitVec 32 := v407
  ⟨![v406.toNat, v414.toNat, 0], ![1, v408.toNat, 512]⟩

def k0_sz17 (v205 : BitVec 32) (v206 : BitVec 32) (v208 : BitVec 32) (v210 : BitVec 32) : Fin 2 → Nat :=
  let v230 : BitVec 1 := Scalar.cmpi .sgt v206 v205
  let c0_i32_85 : BitVec 32 := 0#32
  let v212 : BitVec 1 := Scalar.cmpi .sgt v208 c0_i32_85
  let v213 : BitVec 32 := Scalar.extui v212
  let c0_i32_86 : BitVec 32 := 0#32
  let v214 : BitVec 1 := Scalar.cmpi .slt v208 c0_i32_86
  let v215 : BitVec 32 := Scalar.extui v214
  let v216 : BitVec 32 := Scalar.subi v213 v215
  let c8_i32_84 : BitVec 32 := 8#32
  let c0_i32_87 : BitVec 32 := 0#32
  let v217 : BitVec 1 := Scalar.cmpi .sgt c8_i32_84 c0_i32_87
  let v218 : BitVec 32 := Scalar.extui v217
  let c0_i32_88 : BitVec 32 := 0#32
  let v219 : BitVec 1 := Scalar.cmpi .slt c8_i32_84 c0_i32_88
  let v220 : BitVec 32 := Scalar.extui v219
  let v221 : BitVec 32 := Scalar.subi v218 v220
  let v222 : BitVec 1 := Scalar.cmpi .ne v216 v221
  let v223 : BitVec 32 := Scalar.remsi v208 c8_i32_84
  let c0_i32_89 : BitVec 32 := 0#32
  let v224 : BitVec 1 := Scalar.cmpi .ne v223 c0_i32_89
  let v225 : BitVec 1 := Scalar.andi v222 v224
  let v211 : BitVec 32 := Scalar.divsi v208 c8_i32_84
  let c1_i32_90 : BitVec 32 := 1#32
  let v226 : BitVec 32 := Scalar.subi v211 c1_i32_90
  let v227 : BitVec 32 := Scalar.select v225 v226 v211
  let c8_i32_91 : BitVec 32 := 8#32
  let v228 : BitVec 32 := Scalar.muli v227 c8_i32_91
  let v229 : BitVec 32 := Scalar.subi v208 v228
  let v231 : BitVec 32 := Scalar.addi v229 v210
  let c8_i32_92 : BitVec 32 := 8#32
  let v232 : BitVec 32 := Scalar.addi v231 c8_i32_92
  let c1_i32_93 : BitVec 32 := 1#32
  let v233 : BitVec 32 := Scalar.subi v232 c1_i32_93
  let c0_i32_95 : BitVec 32 := 0#32
  let v235 : BitVec 1 := Scalar.cmpi .sgt v233 c0_i32_95
  let v236 : BitVec 32 := Scalar.extui v235
  let c0_i32_96 : BitVec 32 := 0#32
  let v237 : BitVec 1 := Scalar.cmpi .slt v233 c0_i32_96
  let v238 : BitVec 32 := Scalar.extui v237
  let v239 : BitVec 32 := Scalar.subi v236 v238
  let c8_i32_94 : BitVec 32 := 8#32
  let c0_i32_97 : BitVec 32 := 0#32
  let v240 : BitVec 1 := Scalar.cmpi .sgt c8_i32_94 c0_i32_97
  let v241 : BitVec 32 := Scalar.extui v240
  let c0_i32_98 : BitVec 32 := 0#32
  let v242 : BitVec 1 := Scalar.cmpi .slt c8_i32_94 c0_i32_98
  let v243 : BitVec 32 := Scalar.extui v242
  let v244 : BitVec 32 := Scalar.subi v241 v243
  let v245 : BitVec 1 := Scalar.cmpi .ne v239 v244
  let v246 : BitVec 32 := Scalar.remsi v233 c8_i32_94
  let c0_i32_99 : BitVec 32 := 0#32
  let v247 : BitVec 1 := Scalar.cmpi .ne v246 c0_i32_99
  let v248 : BitVec 1 := Scalar.andi v245 v247
  let v234 : BitVec 32 := Scalar.divsi v233 c8_i32_94
  let c1_i32_100 : BitVec 32 := 1#32
  let v249 : BitVec 32 := Scalar.subi v234 c1_i32_100
  let v250 : BitVec 32 := Scalar.select v248 v249 v234
  let c0_i32_101 : BitVec 32 := 0#32
  let v251 : BitVec 32 := Scalar.select v230 v250 c0_i32_101
  let c8_i32_176 : BitVec 32 := 8#32
  let v407 : BitVec 32 := Scalar.muli v251 c8_i32_176
  let v408 : BitVec 32 := v407
  ![v408.toNat, 512]

def k0_chk11 (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) : Prop :=
  (∀ (k0_h1 : k0_cond1 i = 1#1), ∀ (k0_h6 : k0_cond6 v205 v206 v208 v210 = 1#1), 8 ∣ (k0_mult13 v205 v206 v208 v210).toNat) ∧
  (∀ (k0_h1 : k0_cond1 i = 1#1), ∀ (k0_h6 : k0_cond6 v205 v206 v208 v210 = 1#1), 8 ∣ (k0_mult14 v208).toNat) ∧
  (∀ (k0_h1 : k0_cond1 i = 1#1), ∀ (k0_h6 : k0_cond6 v205 v206 v208 v210 = 1#1), 8 ∣ (k0_mult15 v1 v2 v4 v6 v52 v53 v55 v57 v103 v104 v106 v108 v154 v155 v157 v159).toNat) ∧
  (∀ (k0_h1 : k0_cond1 i = 1#1), ∀ (k0_h6 : k0_cond6 v205 v206 v208 v210 = 1#1), ∀ a, (k0_off15 v1 v2 v4 v6 v52 v53 v55 v57 v103 v104 v106 v108 v154 v155 v157 v159 v205 v206 v208 v210).2 a = 0 ∨ (k0_off15 v1 v2 v4 v6 v52 v53 v55 v57 v103 v104 v106 v108 v154 v155 v157 v159 v205 v206 v208 v210).1 a + (k0_off15 v1 v2 v4 v6 v52 v53 v55 v57 v103 v104 v106 v108 v154 v155 v157 v159 v205 v206 v208 v210).2 a ≤ S512x4096.size a) ∧
  (∀ (k0_h1 : k0_cond1 i = 1#1), ∀ (k0_h6 : k0_cond6 v205 v206 v208 v210 = 1#1), ∀ a, (k0_off16 v205 v206 v208 v210).2 a = 0 ∨ (k0_off16 v205 v206 v208 v210).1 a + (k0_off16 v205 v206 v208 v210).2 a ≤ S900x4096.size a) ∧
  (∀ (k0_h1 : k0_cond1 i = 1#1), ∀ (k0_h6 : k0_cond6 v205 v206 v208 v210 = 1#1), ∀ (hinb : ∀ a, (k0_off16 v205 v206 v208 v210).2 a = 0 ∨ (k0_off16 v205 v206 v208 v210).1 a + (k0_off16 v205 v206 v208 v210).2 a ≤ S900x4096.size a), (Rect.unitDyn (s := S900x4096) (k0_off16 v205 v206 v208 v210).1 (k0_off16 v205 v206 v208 v210).2 hinb).WholeWords (EltTy.packing .bf16)) ∧
  (∀ (k0_h1 : k0_cond1 i = 1#1), ∀ (k0_h6 : k0_cond6 v205 v206 v208 v210 = 1#1), ∀ (hinb : ∀ a, (k0_off15 v1 v2 v4 v6 v52 v53 v55 v57 v103 v104 v106 v108 v154 v155 v157 v159 v205 v206 v208 v210).2 a = 0 ∨ (k0_off15 v1 v2 v4 v6 v52 v53 v55 v57 v103 v104 v106 v108 v154 v155 v157 v159 v205 v206 v208 v210).1 a + (k0_off15 v1 v2 v4 v6 v52 v53 v55 v57 v103 v104 v106 v108 v154 v155 v157 v159 v205 v206 v208 v210).2 a ≤ S512x4096.size a), (Rect.unitDyn (s := S512x4096) (k0_off15 v1 v2 v4 v6 v52 v53 v55 v57 v103 v104 v106 v108 v154 v155 v157 v159 v205 v206 v208 v210).1 (k0_off15 v1 v2 v4 v6 v52 v53 v55 v57 v103 v104 v106 v108 v154 v155 v157 v159 v205 v206 v208 v210).2 hinb).WholeWords (EltTy.packing .bf16)) ∧
  (∀ (k0_h1 : k0_cond1 i = 1#1), ∀ (k0_h12 : k0_cond12 v205 v206 v208 v210 = 1#1), 8 ∣ (k0_mult35 v205 v206 v208 v210).toNat) ∧
  (∀ (k0_h1 : k0_cond1 i = 1#1), ∀ (k0_h12 : k0_cond12 v205 v206 v208 v210 = 1#1), 8 ∣ (k0_mult36 v208).toNat) ∧
  (∀ (k0_h1 : k0_cond1 i = 1#1), ∀ (k0_h12 : k0_cond12 v205 v206 v208 v210 = 1#1), 8 ∣ (k0_mult38 v1 v2 v4 v6 v52 v53 v55 v57 v103 v104 v106 v108 v154 v155 v157 v159).toNat) ∧
  (∀ (k0_h1 : k0_cond1 i = 1#1), ∀ (k0_h12 : k0_cond12 v205 v206 v208 v210 = 1#1), ∀ a, (k0_off32 i v1 v2 v4 v6 v52 v53 v55 v57 v103 v104 v106 v108 v154 v155 v157 v159 v205 v206 v208 v210).2 a = 0 ∨ (k0_off32 i v1 v2 v4 v6 v52 v53 v55 v57 v103 v104 v106 v108 v154 v155 v157 v159 v205 v206 v208 v210).1 a + (k0_off32 i v1 v2 v4 v6 v52 v53 v55 v57 v103 v104 v106 v108 v154 v155 v157 v159 v205 v206 v208 v210).2 a ≤ S2x512x512.size a) ∧
  (∀ (k0_h1 : k0_cond1 i = 1#1), ∀ (k0_h12 : k0_cond12 v205 v206 v208 v210 = 1#1), (⟨3, (k0_off32 i v1 v2 v4 v6 v52 v53 v55 v57 v103 v104 v106 v108 v154 v155 v157 v159 v205 v206 v208 v210).2⟩ : Shape).Squeezes ⟨2, k0_sz5 v205 v206 v208 v210⟩) ∧
  (∀ (k0_h1 : k0_cond1 i = 1#1), ∀ (k0_h12 : k0_cond12 v205 v206 v208 v210 = 1#1), ∀ a, (k0_off33 i v205 v206 v208 v210).2 a = 0 ∨ (k0_off33 i v205 v206 v208 v210).1 a + (k0_off33 i v205 v206 v208 v210).2 a ≤ S900x14336.size a) ∧
  (∀ (k0_h1 : k0_cond1 i = 1#1), ∀ (k0_h12 : k0_cond12 v205 v206 v208 v210 = 1#1), ∀ (hinb : ∀ a, (k0_off33 i v205 v206 v208 v210).2 a = 0 ∨ (k0_off33 i v205 v206 v208 v210).1 a + (k0_off33 i v205 v206 v208 v210).2 a ≤ S900x14336.size a), (Rect.unitDyn (s := S900x14336) (k0_off33 i v205 v206 v208 v210).1 (k0_off33 i v205 v206 v208 v210).2 hinb).WholeWords (EltTy.packing .bf16)) ∧
  (∀ (k0_h1 : k0_cond1 i = 1#1), ∀ (k0_h12 : k0_cond12 v205 v206 v208 v210 = 1#1), ∀ (hinb : ∀ a, (k0_off32 i v1 v2 v4 v6 v52 v53 v55 v57 v103 v104 v106 v108 v154 v155 v157 v159 v205 v206 v208 v210).2 a = 0 ∨ (k0_off32 i v1 v2 v4 v6 v52 v53 v55 v57 v103 v104 v106 v108 v154 v155 v157 v159 v205 v206 v208 v210).1 a + (k0_off32 i v1 v2 v4 v6 v52 v53 v55 v57 v103 v104 v106 v108 v154 v155 v157 v159 v205 v206 v208 v210).2 a ≤ S2x512x512.size a), (Rect.unitDyn (s := S2x512x512) (k0_off32 i v1 v2 v4 v6 v52 v53 v55 v57 v103 v104 v106 v108 v154 v155 v157 v159 v205 v206 v208 v210).1 (k0_off32 i v1 v2 v4 v6 v52 v53 v55 v57 v103 v104 v106 v108 v154 v155 v157 v159 v205 v206 v208 v210).2 hinb).WholeWords (EltTy.packing .bf16)) ∧
  (∀ (k0_h14 : k0_cond14 i = 1#1), ∀ (k0_h19 : k0_cond19 v205 v206 v208 v210 = 1#1), 8 ∣ (k0_mult59 v205 v206 v208 v210).toNat) ∧
  (∀ (k0_h14 : k0_cond14 i = 1#1), ∀ (k0_h19 : k0_cond19 v205 v206 v208 v210 = 1#1), 8 ∣ (k0_mult60 v208).toNat) ∧
  (∀ (k0_h14 : k0_cond14 i = 1#1), ∀ (k0_h19 : k0_cond19 v205 v206 v208 v210 = 1#1), 8 ∣ (k0_mult62 v1 v2 v4 v6 v52 v53 v55 v57 v103 v104 v106 v108 v154 v155 v157 v159).toNat) ∧
  (∀ (k0_h14 : k0_cond14 i = 1#1), ∀ (k0_h19 : k0_cond19 v205 v206 v208 v210 = 1#1), ∀ a, (k0_off50 i v1 v2 v4 v6 v52 v53 v55 v57 v103 v104 v106 v108 v154 v155 v157 v159 v205 v206 v208 v210).2 a = 0 ∨ (k0_off50 i v1 v2 v4 v6 v52 v53 v55 v57 v103 v104 v106 v108 v154 v155 v157 v159 v205 v206 v208 v210).1 a + (k0_off50 i v1 v2 v4 v6 v52 v53 v55 v57 v103 v104 v106 v108 v154 v155 v157 v159 v205 v206 v208 v210).2 a ≤ S2x512x512.size a) ∧
  (∀ (k0_h14 : k0_cond14 i = 1#1), ∀ (k0_h19 : k0_cond19 v205 v206 v208 v210 = 1#1), (⟨3, (k0_off50 i v1 v2 v4 v6 v52 v53 v55 v57 v103 v104 v106 v108 v154 v155 v157 v159 v205 v206 v208 v210).2⟩ : Shape).Squeezes ⟨2, k0_sz11 v205 v206 v208 v210⟩) ∧
  (∀ (k0_h14 : k0_cond14 i = 1#1), ∀ (k0_h19 : k0_cond19 v205 v206 v208 v210 = 1#1), ∀ a, (k0_off51 i v205 v206 v208 v210).2 a = 0 ∨ (k0_off51 i v205 v206 v208 v210).1 a + (k0_off51 i v205 v206 v208 v210).2 a ≤ S900x14336.size a) ∧
  (∀ (k0_h14 : k0_cond14 i = 1#1), ∀ (k0_h19 : k0_cond19 v205 v206 v208 v210 = 1#1), ∀ (hinb : ∀ a, (k0_off51 i v205 v206 v208 v210).2 a = 0 ∨ (k0_off51 i v205 v206 v208 v210).1 a + (k0_off51 i v205 v206 v208 v210).2 a ≤ S900x14336.size a), (Rect.unitDyn (s := S900x14336) (k0_off51 i v205 v206 v208 v210).1 (k0_off51 i v205 v206 v208 v210).2 hinb).WholeWords (EltTy.packing .bf16)) ∧
  (∀ (k0_h14 : k0_cond14 i = 1#1), ∀ (k0_h19 : k0_cond19 v205 v206 v208 v210 = 1#1), ∀ (hinb : ∀ a, (k0_off50 i v1 v2 v4 v6 v52 v53 v55 v57 v103 v104 v106 v108 v154 v155 v157 v159 v205 v206 v208 v210).2 a = 0 ∨ (k0_off50 i v1 v2 v4 v6 v52 v53 v55 v57 v103 v104 v106 v108 v154 v155 v157 v159 v205 v206 v208 v210).1 a + (k0_off50 i v1 v2 v4 v6 v52 v53 v55 v57 v103 v104 v106 v108 v154 v155 v157 v159 v205 v206 v208 v210).2 a ≤ S2x512x512.size a), (Rect.unitDyn (s := S2x512x512) (k0_off50 i v1 v2 v4 v6 v52 v53 v55 v57 v103 v104 v106 v108 v154 v155 v157 v159 v205 v206 v208 v210).1 (k0_off50 i v1 v2 v4 v6 v52 v53 v55 v57 v103 v104 v106 v108 v154 v155 v157 v159 v205 v206 v208 v210).2 hinb).WholeWords (EltTy.packing .bf16)) ∧
  (∀ (k0_h21 : k0_cond21 i = 1#1), ∀ (k0_h26 : k0_cond26 v205 v206 v208 v210 = 1#1), 8 ∣ (k0_mult79 v205 v206 v208 v210).toNat) ∧
  (∀ (k0_h21 : k0_cond21 i = 1#1), ∀ (k0_h26 : k0_cond26 v205 v206 v208 v210 = 1#1), 8 ∣ (k0_mult80 v208).toNat) ∧
  (∀ (k0_h21 : k0_cond21 i = 1#1), ∀ (k0_h26 : k0_cond26 v205 v206 v208 v210 = 1#1), 8 ∣ (k0_mult81 v1 v2 v4 v6 v52 v53 v55 v57 v103 v104 v106 v108 v154 v155 v157 v159).toNat) ∧
  (∀ (k0_h32 : k0_cond32 v205 v206 v208 v210 = 1#1), 8 ∣ (k0_mult101 v205 v206 v208 v210).toNat) ∧
  (∀ (k0_h32 : k0_cond32 v205 v206 v208 v210 = 1#1), 8 ∣ (k0_mult102 v208).toNat) ∧
  (∀ (k0_h32 : k0_cond32 v205 v206 v208 v210 = 1#1), 8 ∣ (k0_mult104 v1 v2 v4 v6 v52 v53 v55 v57 v103 v104 v106 v108 v154 v155 v157 v159).toNat) ∧
  (∀ (k0_h32 : k0_cond32 v205 v206 v208 v210 = 1#1), (⟨3, (k0_off86 i v1 v2 v4 v6 v52 v53 v55 v57 v103 v104 v106 v108 v154 v155 v157 v159 v205 v206 v208 v210).2⟩ : Shape).Squeezes ⟨2, k0_sz17 v205 v206 v208 v210⟩)
theorem k0_mult13_dvd : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) (k0_hw11 : k0_chk11 i v1 v2 v4 v6 v52 v53 v55 v57 v103 v104 v106 v108 v154 v155 v157 v159 v205 v206 v208 v210), ∀ (k0_h1 : k0_cond1 i = 1#1), ∀ (k0_h6 : k0_cond6 v205 v206 v208 v210 = 1#1), 8 ∣ (k0_mult13 v205 v206 v208 v210).toNat := fun i v1 v2 v4 v6 v52 v53 v55 v57 v103 v104 v106 v108 v154 v155 v157 v159 v205 v206 v208 v210 k0_hw11 k0_h1 k0_h6 => k0_hw11.1 k0_h1 k0_h6
theorem k0_mult14_dvd : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) (k0_hw11 : k0_chk11 i v1 v2 v4 v6 v52 v53 v55 v57 v103 v104 v106 v108 v154 v155 v157 v159 v205 v206 v208 v210), ∀ (k0_h1 : k0_cond1 i = 1#1), ∀ (k0_h6 : k0_cond6 v205 v206 v208 v210 = 1#1), 8 ∣ (k0_mult14 v208).toNat := fun i v1 v2 v4 v6 v52 v53 v55 v57 v103 v104 v106 v108 v154 v155 v157 v159 v205 v206 v208 v210 k0_hw11 k0_h1 k0_h6 => k0_hw11.2.1 k0_h1 k0_h6
theorem k0_mult15_dvd : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) (k0_hw11 : k0_chk11 i v1 v2 v4 v6 v52 v53 v55 v57 v103 v104 v106 v108 v154 v155 v157 v159 v205 v206 v208 v210), ∀ (k0_h1 : k0_cond1 i = 1#1), ∀ (k0_h6 : k0_cond6 v205 v206 v208 v210 = 1#1), 8 ∣ (k0_mult15 v1 v2 v4 v6 v52 v53 v55 v57 v103 v104 v106 v108 v154 v155 v157 v159).toNat := fun i v1 v2 v4 v6 v52 v53 v55 v57 v103 v104 v106 v108 v154 v155 v157 v159 v205 v206 v208 v210 k0_hw11 k0_h1 k0_h6 => k0_hw11.2.2.1 k0_h1 k0_h6
theorem k0_off15_inb : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) (k0_hw11 : k0_chk11 i v1 v2 v4 v6 v52 v53 v55 v57 v103 v104 v106 v108 v154 v155 v157 v159 v205 v206 v208 v210), ∀ (k0_h1 : k0_cond1 i = 1#1), ∀ (k0_h6 : k0_cond6 v205 v206 v208 v210 = 1#1), ∀ a, (k0_off15 v1 v2 v4 v6 v52 v53 v55 v57 v103 v104 v106 v108 v154 v155 v157 v159 v205 v206 v208 v210).2 a = 0 ∨ (k0_off15 v1 v2 v4 v6 v52 v53 v55 v57 v103 v104 v106 v108 v154 v155 v157 v159 v205 v206 v208 v210).1 a + (k0_off15 v1 v2 v4 v6 v52 v53 v55 v57 v103 v104 v106 v108 v154 v155 v157 v159 v205 v206 v208 v210).2 a ≤ S512x4096.size a := fun i v1 v2 v4 v6 v52 v53 v55 v57 v103 v104 v106 v108 v154 v155 v157 v159 v205 v206 v208 v210 k0_hw11 k0_h1 k0_h6 => k0_hw11.2.2.2.1 k0_h1 k0_h6
theorem k0_off16_inb : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) (k0_hw11 : k0_chk11 i v1 v2 v4 v6 v52 v53 v55 v57 v103 v104 v106 v108 v154 v155 v157 v159 v205 v206 v208 v210), ∀ (k0_h1 : k0_cond1 i = 1#1), ∀ (k0_h6 : k0_cond6 v205 v206 v208 v210 = 1#1), ∀ a, (k0_off16 v205 v206 v208 v210).2 a = 0 ∨ (k0_off16 v205 v206 v208 v210).1 a + (k0_off16 v205 v206 v208 v210).2 a ≤ S900x4096.size a := fun i v1 v2 v4 v6 v52 v53 v55 v57 v103 v104 v106 v108 v154 v155 v157 v159 v205 v206 v208 v210 k0_hw11 k0_h1 k0_h6 => k0_hw11.2.2.2.2.1 k0_h1 k0_h6
theorem k0_off16_wordsbf16 : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) (k0_hw11 : k0_chk11 i v1 v2 v4 v6 v52 v53 v55 v57 v103 v104 v106 v108 v154 v155 v157 v159 v205 v206 v208 v210), ∀ (k0_h1 : k0_cond1 i = 1#1), ∀ (k0_h6 : k0_cond6 v205 v206 v208 v210 = 1#1), (Rect.unitDyn (s := S900x4096) (k0_off16 v205 v206 v208 v210).1 (k0_off16 v205 v206 v208 v210).2 (k0_off16_inb i v1 v2 v4 v6 v52 v53 v55 v57 v103 v104 v106 v108 v154 v155 v157 v159 v205 v206 v208 v210 k0_hw11 k0_h1 k0_h6)).WholeWords (EltTy.packing .bf16) := fun i v1 v2 v4 v6 v52 v53 v55 v57 v103 v104 v106 v108 v154 v155 v157 v159 v205 v206 v208 v210 k0_hw11 k0_h1 k0_h6 => k0_hw11.2.2.2.2.2.1 k0_h1 k0_h6 (k0_off16_inb i v1 v2 v4 v6 v52 v53 v55 v57 v103 v104 v106 v108 v154 v155 v157 v159 v205 v206 v208 v210 k0_hw11 k0_h1 k0_h6)
theorem k0_off15_wordsbf16 : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) (k0_hw11 : k0_chk11 i v1 v2 v4 v6 v52 v53 v55 v57 v103 v104 v106 v108 v154 v155 v157 v159 v205 v206 v208 v210), ∀ (k0_h1 : k0_cond1 i = 1#1), ∀ (k0_h6 : k0_cond6 v205 v206 v208 v210 = 1#1), (Rect.unitDyn (s := S512x4096) (k0_off15 v1 v2 v4 v6 v52 v53 v55 v57 v103 v104 v106 v108 v154 v155 v157 v159 v205 v206 v208 v210).1 (k0_off15 v1 v2 v4 v6 v52 v53 v55 v57 v103 v104 v106 v108 v154 v155 v157 v159 v205 v206 v208 v210).2 (k0_off15_inb i v1 v2 v4 v6 v52 v53 v55 v57 v103 v104 v106 v108 v154 v155 v157 v159 v205 v206 v208 v210 k0_hw11 k0_h1 k0_h6)).WholeWords (EltTy.packing .bf16) := fun i v1 v2 v4 v6 v52 v53 v55 v57 v103 v104 v106 v108 v154 v155 v157 v159 v205 v206 v208 v210 k0_hw11 k0_h1 k0_h6 => k0_hw11.2.2.2.2.2.2.1 k0_h1 k0_h6 (k0_off15_inb i v1 v2 v4 v6 v52 v53 v55 v57 v103 v104 v106 v108 v154 v155 v157 v159 v205 v206 v208 v210 k0_hw11 k0_h1 k0_h6)
theorem k0_mult35_dvd : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) (k0_hw11 : k0_chk11 i v1 v2 v4 v6 v52 v53 v55 v57 v103 v104 v106 v108 v154 v155 v157 v159 v205 v206 v208 v210), ∀ (k0_h1 : k0_cond1 i = 1#1), ∀ (k0_h12 : k0_cond12 v205 v206 v208 v210 = 1#1), 8 ∣ (k0_mult35 v205 v206 v208 v210).toNat := fun i v1 v2 v4 v6 v52 v53 v55 v57 v103 v104 v106 v108 v154 v155 v157 v159 v205 v206 v208 v210 k0_hw11 k0_h1 k0_h12 => k0_hw11.2.2.2.2.2.2.2.1 k0_h1 k0_h12
theorem k0_mult36_dvd : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) (k0_hw11 : k0_chk11 i v1 v2 v4 v6 v52 v53 v55 v57 v103 v104 v106 v108 v154 v155 v157 v159 v205 v206 v208 v210), ∀ (k0_h1 : k0_cond1 i = 1#1), ∀ (k0_h12 : k0_cond12 v205 v206 v208 v210 = 1#1), 8 ∣ (k0_mult36 v208).toNat := fun i v1 v2 v4 v6 v52 v53 v55 v57 v103 v104 v106 v108 v154 v155 v157 v159 v205 v206 v208 v210 k0_hw11 k0_h1 k0_h12 => k0_hw11.2.2.2.2.2.2.2.2.1 k0_h1 k0_h12
theorem k0_mult38_dvd : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) (k0_hw11 : k0_chk11 i v1 v2 v4 v6 v52 v53 v55 v57 v103 v104 v106 v108 v154 v155 v157 v159 v205 v206 v208 v210), ∀ (k0_h1 : k0_cond1 i = 1#1), ∀ (k0_h12 : k0_cond12 v205 v206 v208 v210 = 1#1), 8 ∣ (k0_mult38 v1 v2 v4 v6 v52 v53 v55 v57 v103 v104 v106 v108 v154 v155 v157 v159).toNat := fun i v1 v2 v4 v6 v52 v53 v55 v57 v103 v104 v106 v108 v154 v155 v157 v159 v205 v206 v208 v210 k0_hw11 k0_h1 k0_h12 => k0_hw11.2.2.2.2.2.2.2.2.2.1 k0_h1 k0_h12
theorem k0_off32_inb : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) (k0_hw11 : k0_chk11 i v1 v2 v4 v6 v52 v53 v55 v57 v103 v104 v106 v108 v154 v155 v157 v159 v205 v206 v208 v210), ∀ (k0_h1 : k0_cond1 i = 1#1), ∀ (k0_h12 : k0_cond12 v205 v206 v208 v210 = 1#1), ∀ a, (k0_off32 i v1 v2 v4 v6 v52 v53 v55 v57 v103 v104 v106 v108 v154 v155 v157 v159 v205 v206 v208 v210).2 a = 0 ∨ (k0_off32 i v1 v2 v4 v6 v52 v53 v55 v57 v103 v104 v106 v108 v154 v155 v157 v159 v205 v206 v208 v210).1 a + (k0_off32 i v1 v2 v4 v6 v52 v53 v55 v57 v103 v104 v106 v108 v154 v155 v157 v159 v205 v206 v208 v210).2 a ≤ S2x512x512.size a := fun i v1 v2 v4 v6 v52 v53 v55 v57 v103 v104 v106 v108 v154 v155 v157 v159 v205 v206 v208 v210 k0_hw11 k0_h1 k0_h12 => k0_hw11.2.2.2.2.2.2.2.2.2.2.1 k0_h1 k0_h12
theorem k0_sz5_squeezes : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) (k0_hw11 : k0_chk11 i v1 v2 v4 v6 v52 v53 v55 v57 v103 v104 v106 v108 v154 v155 v157 v159 v205 v206 v208 v210), ∀ (k0_h1 : k0_cond1 i = 1#1), ∀ (k0_h12 : k0_cond12 v205 v206 v208 v210 = 1#1), (⟨3, (k0_off32 i v1 v2 v4 v6 v52 v53 v55 v57 v103 v104 v106 v108 v154 v155 v157 v159 v205 v206 v208 v210).2⟩ : Shape).Squeezes ⟨2, k0_sz5 v205 v206 v208 v210⟩ := fun i v1 v2 v4 v6 v52 v53 v55 v57 v103 v104 v106 v108 v154 v155 v157 v159 v205 v206 v208 v210 k0_hw11 k0_h1 k0_h12 => k0_hw11.2.2.2.2.2.2.2.2.2.2.2.1 k0_h1 k0_h12
theorem k0_off33_inb : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) (k0_hw11 : k0_chk11 i v1 v2 v4 v6 v52 v53 v55 v57 v103 v104 v106 v108 v154 v155 v157 v159 v205 v206 v208 v210), ∀ (k0_h1 : k0_cond1 i = 1#1), ∀ (k0_h12 : k0_cond12 v205 v206 v208 v210 = 1#1), ∀ a, (k0_off33 i v205 v206 v208 v210).2 a = 0 ∨ (k0_off33 i v205 v206 v208 v210).1 a + (k0_off33 i v205 v206 v208 v210).2 a ≤ S900x14336.size a := fun i v1 v2 v4 v6 v52 v53 v55 v57 v103 v104 v106 v108 v154 v155 v157 v159 v205 v206 v208 v210 k0_hw11 k0_h1 k0_h12 => k0_hw11.2.2.2.2.2.2.2.2.2.2.2.2.1 k0_h1 k0_h12
theorem k0_off33_wordsbf16 : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) (k0_hw11 : k0_chk11 i v1 v2 v4 v6 v52 v53 v55 v57 v103 v104 v106 v108 v154 v155 v157 v159 v205 v206 v208 v210), ∀ (k0_h1 : k0_cond1 i = 1#1), ∀ (k0_h12 : k0_cond12 v205 v206 v208 v210 = 1#1), (Rect.unitDyn (s := S900x14336) (k0_off33 i v205 v206 v208 v210).1 (k0_off33 i v205 v206 v208 v210).2 (k0_off33_inb i v1 v2 v4 v6 v52 v53 v55 v57 v103 v104 v106 v108 v154 v155 v157 v159 v205 v206 v208 v210 k0_hw11 k0_h1 k0_h12)).WholeWords (EltTy.packing .bf16) := fun i v1 v2 v4 v6 v52 v53 v55 v57 v103 v104 v106 v108 v154 v155 v157 v159 v205 v206 v208 v210 k0_hw11 k0_h1 k0_h12 => k0_hw11.2.2.2.2.2.2.2.2.2.2.2.2.2.1 k0_h1 k0_h12 (k0_off33_inb i v1 v2 v4 v6 v52 v53 v55 v57 v103 v104 v106 v108 v154 v155 v157 v159 v205 v206 v208 v210 k0_hw11 k0_h1 k0_h12)
theorem k0_off32_wordsbf16 : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) (k0_hw11 : k0_chk11 i v1 v2 v4 v6 v52 v53 v55 v57 v103 v104 v106 v108 v154 v155 v157 v159 v205 v206 v208 v210), ∀ (k0_h1 : k0_cond1 i = 1#1), ∀ (k0_h12 : k0_cond12 v205 v206 v208 v210 = 1#1), (Rect.unitDyn (s := S2x512x512) (k0_off32 i v1 v2 v4 v6 v52 v53 v55 v57 v103 v104 v106 v108 v154 v155 v157 v159 v205 v206 v208 v210).1 (k0_off32 i v1 v2 v4 v6 v52 v53 v55 v57 v103 v104 v106 v108 v154 v155 v157 v159 v205 v206 v208 v210).2 (k0_off32_inb i v1 v2 v4 v6 v52 v53 v55 v57 v103 v104 v106 v108 v154 v155 v157 v159 v205 v206 v208 v210 k0_hw11 k0_h1 k0_h12)).WholeWords (EltTy.packing .bf16) := fun i v1 v2 v4 v6 v52 v53 v55 v57 v103 v104 v106 v108 v154 v155 v157 v159 v205 v206 v208 v210 k0_hw11 k0_h1 k0_h12 => k0_hw11.2.2.2.2.2.2.2.2.2.2.2.2.2.2.1 k0_h1 k0_h12 (k0_off32_inb i v1 v2 v4 v6 v52 v53 v55 v57 v103 v104 v106 v108 v154 v155 v157 v159 v205 v206 v208 v210 k0_hw11 k0_h1 k0_h12)
theorem k0_mult59_dvd : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) (k0_hw11 : k0_chk11 i v1 v2 v4 v6 v52 v53 v55 v57 v103 v104 v106 v108 v154 v155 v157 v159 v205 v206 v208 v210), ∀ (k0_h14 : k0_cond14 i = 1#1), ∀ (k0_h19 : k0_cond19 v205 v206 v208 v210 = 1#1), 8 ∣ (k0_mult59 v205 v206 v208 v210).toNat := fun i v1 v2 v4 v6 v52 v53 v55 v57 v103 v104 v106 v108 v154 v155 v157 v159 v205 v206 v208 v210 k0_hw11 k0_h14 k0_h19 => k0_hw11.2.2.2.2.2.2.2.2.2.2.2.2.2.2.2.1 k0_h14 k0_h19
theorem k0_mult60_dvd : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) (k0_hw11 : k0_chk11 i v1 v2 v4 v6 v52 v53 v55 v57 v103 v104 v106 v108 v154 v155 v157 v159 v205 v206 v208 v210), ∀ (k0_h14 : k0_cond14 i = 1#1), ∀ (k0_h19 : k0_cond19 v205 v206 v208 v210 = 1#1), 8 ∣ (k0_mult60 v208).toNat := fun i v1 v2 v4 v6 v52 v53 v55 v57 v103 v104 v106 v108 v154 v155 v157 v159 v205 v206 v208 v210 k0_hw11 k0_h14 k0_h19 => k0_hw11.2.2.2.2.2.2.2.2.2.2.2.2.2.2.2.2.1 k0_h14 k0_h19
theorem k0_mult62_dvd : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) (k0_hw11 : k0_chk11 i v1 v2 v4 v6 v52 v53 v55 v57 v103 v104 v106 v108 v154 v155 v157 v159 v205 v206 v208 v210), ∀ (k0_h14 : k0_cond14 i = 1#1), ∀ (k0_h19 : k0_cond19 v205 v206 v208 v210 = 1#1), 8 ∣ (k0_mult62 v1 v2 v4 v6 v52 v53 v55 v57 v103 v104 v106 v108 v154 v155 v157 v159).toNat := fun i v1 v2 v4 v6 v52 v53 v55 v57 v103 v104 v106 v108 v154 v155 v157 v159 v205 v206 v208 v210 k0_hw11 k0_h14 k0_h19 => k0_hw11.2.2.2.2.2.2.2.2.2.2.2.2.2.2.2.2.2.1 k0_h14 k0_h19
theorem k0_off50_inb : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) (k0_hw11 : k0_chk11 i v1 v2 v4 v6 v52 v53 v55 v57 v103 v104 v106 v108 v154 v155 v157 v159 v205 v206 v208 v210), ∀ (k0_h14 : k0_cond14 i = 1#1), ∀ (k0_h19 : k0_cond19 v205 v206 v208 v210 = 1#1), ∀ a, (k0_off50 i v1 v2 v4 v6 v52 v53 v55 v57 v103 v104 v106 v108 v154 v155 v157 v159 v205 v206 v208 v210).2 a = 0 ∨ (k0_off50 i v1 v2 v4 v6 v52 v53 v55 v57 v103 v104 v106 v108 v154 v155 v157 v159 v205 v206 v208 v210).1 a + (k0_off50 i v1 v2 v4 v6 v52 v53 v55 v57 v103 v104 v106 v108 v154 v155 v157 v159 v205 v206 v208 v210).2 a ≤ S2x512x512.size a := fun i v1 v2 v4 v6 v52 v53 v55 v57 v103 v104 v106 v108 v154 v155 v157 v159 v205 v206 v208 v210 k0_hw11 k0_h14 k0_h19 => k0_hw11.2.2.2.2.2.2.2.2.2.2.2.2.2.2.2.2.2.2.1 k0_h14 k0_h19
theorem k0_sz11_squeezes : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) (k0_hw11 : k0_chk11 i v1 v2 v4 v6 v52 v53 v55 v57 v103 v104 v106 v108 v154 v155 v157 v159 v205 v206 v208 v210), ∀ (k0_h14 : k0_cond14 i = 1#1), ∀ (k0_h19 : k0_cond19 v205 v206 v208 v210 = 1#1), (⟨3, (k0_off50 i v1 v2 v4 v6 v52 v53 v55 v57 v103 v104 v106 v108 v154 v155 v157 v159 v205 v206 v208 v210).2⟩ : Shape).Squeezes ⟨2, k0_sz11 v205 v206 v208 v210⟩ := fun i v1 v2 v4 v6 v52 v53 v55 v57 v103 v104 v106 v108 v154 v155 v157 v159 v205 v206 v208 v210 k0_hw11 k0_h14 k0_h19 => k0_hw11.2.2.2.2.2.2.2.2.2.2.2.2.2.2.2.2.2.2.2.1 k0_h14 k0_h19
theorem k0_off51_inb : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) (k0_hw11 : k0_chk11 i v1 v2 v4 v6 v52 v53 v55 v57 v103 v104 v106 v108 v154 v155 v157 v159 v205 v206 v208 v210), ∀ (k0_h14 : k0_cond14 i = 1#1), ∀ (k0_h19 : k0_cond19 v205 v206 v208 v210 = 1#1), ∀ a, (k0_off51 i v205 v206 v208 v210).2 a = 0 ∨ (k0_off51 i v205 v206 v208 v210).1 a + (k0_off51 i v205 v206 v208 v210).2 a ≤ S900x14336.size a := fun i v1 v2 v4 v6 v52 v53 v55 v57 v103 v104 v106 v108 v154 v155 v157 v159 v205 v206 v208 v210 k0_hw11 k0_h14 k0_h19 => k0_hw11.2.2.2.2.2.2.2.2.2.2.2.2.2.2.2.2.2.2.2.2.1 k0_h14 k0_h19
theorem k0_off51_wordsbf16 : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) (k0_hw11 : k0_chk11 i v1 v2 v4 v6 v52 v53 v55 v57 v103 v104 v106 v108 v154 v155 v157 v159 v205 v206 v208 v210), ∀ (k0_h14 : k0_cond14 i = 1#1), ∀ (k0_h19 : k0_cond19 v205 v206 v208 v210 = 1#1), (Rect.unitDyn (s := S900x14336) (k0_off51 i v205 v206 v208 v210).1 (k0_off51 i v205 v206 v208 v210).2 (k0_off51_inb i v1 v2 v4 v6 v52 v53 v55 v57 v103 v104 v106 v108 v154 v155 v157 v159 v205 v206 v208 v210 k0_hw11 k0_h14 k0_h19)).WholeWords (EltTy.packing .bf16) := fun i v1 v2 v4 v6 v52 v53 v55 v57 v103 v104 v106 v108 v154 v155 v157 v159 v205 v206 v208 v210 k0_hw11 k0_h14 k0_h19 => k0_hw11.2.2.2.2.2.2.2.2.2.2.2.2.2.2.2.2.2.2.2.2.2.1 k0_h14 k0_h19 (k0_off51_inb i v1 v2 v4 v6 v52 v53 v55 v57 v103 v104 v106 v108 v154 v155 v157 v159 v205 v206 v208 v210 k0_hw11 k0_h14 k0_h19)
theorem k0_off50_wordsbf16 : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) (k0_hw11 : k0_chk11 i v1 v2 v4 v6 v52 v53 v55 v57 v103 v104 v106 v108 v154 v155 v157 v159 v205 v206 v208 v210), ∀ (k0_h14 : k0_cond14 i = 1#1), ∀ (k0_h19 : k0_cond19 v205 v206 v208 v210 = 1#1), (Rect.unitDyn (s := S2x512x512) (k0_off50 i v1 v2 v4 v6 v52 v53 v55 v57 v103 v104 v106 v108 v154 v155 v157 v159 v205 v206 v208 v210).1 (k0_off50 i v1 v2 v4 v6 v52 v53 v55 v57 v103 v104 v106 v108 v154 v155 v157 v159 v205 v206 v208 v210).2 (k0_off50_inb i v1 v2 v4 v6 v52 v53 v55 v57 v103 v104 v106 v108 v154 v155 v157 v159 v205 v206 v208 v210 k0_hw11 k0_h14 k0_h19)).WholeWords (EltTy.packing .bf16) := fun i v1 v2 v4 v6 v52 v53 v55 v57 v103 v104 v106 v108 v154 v155 v157 v159 v205 v206 v208 v210 k0_hw11 k0_h14 k0_h19 => k0_hw11.2.2.2.2.2.2.2.2.2.2.2.2.2.2.2.2.2.2.2.2.2.2.1 k0_h14 k0_h19 (k0_off50_inb i v1 v2 v4 v6 v52 v53 v55 v57 v103 v104 v106 v108 v154 v155 v157 v159 v205 v206 v208 v210 k0_hw11 k0_h14 k0_h19)
theorem k0_mult79_dvd : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) (k0_hw11 : k0_chk11 i v1 v2 v4 v6 v52 v53 v55 v57 v103 v104 v106 v108 v154 v155 v157 v159 v205 v206 v208 v210), ∀ (k0_h21 : k0_cond21 i = 1#1), ∀ (k0_h26 : k0_cond26 v205 v206 v208 v210 = 1#1), 8 ∣ (k0_mult79 v205 v206 v208 v210).toNat := fun i v1 v2 v4 v6 v52 v53 v55 v57 v103 v104 v106 v108 v154 v155 v157 v159 v205 v206 v208 v210 k0_hw11 k0_h21 k0_h26 => k0_hw11.2.2.2.2.2.2.2.2.2.2.2.2.2.2.2.2.2.2.2.2.2.2.2.1 k0_h21 k0_h26
theorem k0_mult80_dvd : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) (k0_hw11 : k0_chk11 i v1 v2 v4 v6 v52 v53 v55 v57 v103 v104 v106 v108 v154 v155 v157 v159 v205 v206 v208 v210), ∀ (k0_h21 : k0_cond21 i = 1#1), ∀ (k0_h26 : k0_cond26 v205 v206 v208 v210 = 1#1), 8 ∣ (k0_mult80 v208).toNat := fun i v1 v2 v4 v6 v52 v53 v55 v57 v103 v104 v106 v108 v154 v155 v157 v159 v205 v206 v208 v210 k0_hw11 k0_h21 k0_h26 => k0_hw11.2.2.2.2.2.2.2.2.2.2.2.2.2.2.2.2.2.2.2.2.2.2.2.2.1 k0_h21 k0_h26
theorem k0_mult81_dvd : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) (k0_hw11 : k0_chk11 i v1 v2 v4 v6 v52 v53 v55 v57 v103 v104 v106 v108 v154 v155 v157 v159 v205 v206 v208 v210), ∀ (k0_h21 : k0_cond21 i = 1#1), ∀ (k0_h26 : k0_cond26 v205 v206 v208 v210 = 1#1), 8 ∣ (k0_mult81 v1 v2 v4 v6 v52 v53 v55 v57 v103 v104 v106 v108 v154 v155 v157 v159).toNat := fun i v1 v2 v4 v6 v52 v53 v55 v57 v103 v104 v106 v108 v154 v155 v157 v159 v205 v206 v208 v210 k0_hw11 k0_h21 k0_h26 => k0_hw11.2.2.2.2.2.2.2.2.2.2.2.2.2.2.2.2.2.2.2.2.2.2.2.2.2.1 k0_h21 k0_h26
theorem k0_mult101_dvd : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) (k0_hw11 : k0_chk11 i v1 v2 v4 v6 v52 v53 v55 v57 v103 v104 v106 v108 v154 v155 v157 v159 v205 v206 v208 v210), ∀ (k0_h32 : k0_cond32 v205 v206 v208 v210 = 1#1), 8 ∣ (k0_mult101 v205 v206 v208 v210).toNat := fun i v1 v2 v4 v6 v52 v53 v55 v57 v103 v104 v106 v108 v154 v155 v157 v159 v205 v206 v208 v210 k0_hw11 k0_h32 => k0_hw11.2.2.2.2.2.2.2.2.2.2.2.2.2.2.2.2.2.2.2.2.2.2.2.2.2.2.1 k0_h32
theorem k0_mult102_dvd : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) (k0_hw11 : k0_chk11 i v1 v2 v4 v6 v52 v53 v55 v57 v103 v104 v106 v108 v154 v155 v157 v159 v205 v206 v208 v210), ∀ (k0_h32 : k0_cond32 v205 v206 v208 v210 = 1#1), 8 ∣ (k0_mult102 v208).toNat := fun i v1 v2 v4 v6 v52 v53 v55 v57 v103 v104 v106 v108 v154 v155 v157 v159 v205 v206 v208 v210 k0_hw11 k0_h32 => k0_hw11.2.2.2.2.2.2.2.2.2.2.2.2.2.2.2.2.2.2.2.2.2.2.2.2.2.2.2.1 k0_h32
theorem k0_mult104_dvd : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) (k0_hw11 : k0_chk11 i v1 v2 v4 v6 v52 v53 v55 v57 v103 v104 v106 v108 v154 v155 v157 v159 v205 v206 v208 v210), ∀ (k0_h32 : k0_cond32 v205 v206 v208 v210 = 1#1), 8 ∣ (k0_mult104 v1 v2 v4 v6 v52 v53 v55 v57 v103 v104 v106 v108 v154 v155 v157 v159).toNat := fun i v1 v2 v4 v6 v52 v53 v55 v57 v103 v104 v106 v108 v154 v155 v157 v159 v205 v206 v208 v210 k0_hw11 k0_h32 => k0_hw11.2.2.2.2.2.2.2.2.2.2.2.2.2.2.2.2.2.2.2.2.2.2.2.2.2.2.2.2.1 k0_h32
theorem k0_sz17_squeezes : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) (k0_hw11 : k0_chk11 i v1 v2 v4 v6 v52 v53 v55 v57 v103 v104 v106 v108 v154 v155 v157 v159 v205 v206 v208 v210), ∀ (k0_h32 : k0_cond32 v205 v206 v208 v210 = 1#1), (⟨3, (k0_off86 i v1 v2 v4 v6 v52 v53 v55 v57 v103 v104 v106 v108 v154 v155 v157 v159 v205 v206 v208 v210).2⟩ : Shape).Squeezes ⟨2, k0_sz17 v205 v206 v208 v210⟩ := fun i v1 v2 v4 v6 v52 v53 v55 v57 v103 v104 v106 v108 v154 v155 v157 v159 v205 v206 v208 v210 k0_hw11 k0_h32 => k0_hw11.2.2.2.2.2.2.2.2.2.2.2.2.2.2.2.2.2.2.2.2.2.2.2.2.2.2.2.2.2 k0_h32

def k0_off87 (i : grid0.Coords) (v205 : BitVec 32) (v206 : BitVec 32) (v208 : BitVec 32) (v210 : BitVec 32) : (Fin 2 → Nat) × (Fin 2 → Nat) :=
  let c0_i32_85 : BitVec 32 := 0#32
  let v212 : BitVec 1 := Scalar.cmpi .sgt v208 c0_i32_85
  let v213 : BitVec 32 := Scalar.extui v212
  let c0_i32_86 : BitVec 32 := 0#32
  let v214 : BitVec 1 := Scalar.cmpi .slt v208 c0_i32_86
  let v215 : BitVec 32 := Scalar.extui v214
  let v216 : BitVec 32 := Scalar.subi v213 v215
  let c8_i32_84 : BitVec 32 := 8#32
  let c0_i32_87 : BitVec 32 := 0#32
  let v217 : BitVec 1 := Scalar.cmpi .sgt c8_i32_84 c0_i32_87
  let v218 : BitVec 32 := Scalar.extui v217
  let c0_i32_88 : BitVec 32 := 0#32
  let v219 : BitVec 1 := Scalar.cmpi .slt c8_i32_84 c0_i32_88
  let v220 : BitVec 32 := Scalar.extui v219
  let v221 : BitVec 32 := Scalar.subi v218 v220
  let v222 : BitVec 1 := Scalar.cmpi .ne v216 v221
  let v223 : BitVec 32 := Scalar.remsi v208 c8_i32_84
  let c0_i32_89 : BitVec 32 := 0#32
  let v224 : BitVec 1 := Scalar.cmpi .ne v223 c0_i32_89
  let v225 : BitVec 1 := Scalar.andi v222 v224
  let v211 : BitVec 32 := Scalar.divsi v208 c8_i32_84
  let c1_i32_90 : BitVec 32 := 1#32
  let v226 : BitVec 32 := Scalar.subi v211 c1_i32_90
  let v227 : BitVec 32 := Scalar.select v225 v226 v211
  let c8_i32_177 : BitVec 32 := 8#32
  let v409 : BitVec 32 := Scalar.muli v227 c8_i32_177
  let v410 : BitVec 32 := v409
  let arg0 : BitVec 32 := BitVec.ofNat 32 (i 0).val
  let c512_i32 : BitVec 32 := 512#32
  let v411 : BitVec 32 := Scalar.muli arg0 c512_i32
  let v412 : BitVec 32 := v411
  let v230 : BitVec 1 := Scalar.cmpi .sgt v206 v205
  let c8_i32_91 : BitVec 32 := 8#32
  let v228 : BitVec 32 := Scalar.muli v227 c8_i32_91
  let v229 : BitVec 32 := Scalar.subi v208 v228
  let v231 : BitVec 32 := Scalar.addi v229 v210
  let c8_i32_92 : BitVec 32 := 8#32
  let v232 : BitVec 32 := Scalar.addi v231 c8_i32_92
  let c1_i32_93 : BitVec 32 := 1#32
  let v233 : BitVec 32 := Scalar.subi v232 c1_i32_93
  let c0_i32_95 : BitVec 32 := 0#32
  let v235 : BitVec 1 := Scalar.cmpi .sgt v233 c0_i32_95
  let v236 : BitVec 32 := Scalar.extui v235
  let c0_i32_96 : BitVec 32 := 0#32
  let v237 : BitVec 1 := Scalar.cmpi .slt v233 c0_i32_96
  let v238 : BitVec 32 := Scalar.extui v237
  let v239 : BitVec 32 := Scalar.subi v236 v238
  let c8_i32_94 : BitVec 32 := 8#32
  let c0_i32_97 : BitVec 32 := 0#32
  let v240 : BitVec 1 := Scalar.cmpi .sgt c8_i32_94 c0_i32_97
  let v241 : BitVec 32 := Scalar.extui v240
  let c0_i32_98 : BitVec 32 := 0#32
  let v242 : BitVec 1 := Scalar.cmpi .slt c8_i32_94 c0_i32_98
  let v243 : BitVec 32 := Scalar.extui v242
  let v244 : BitVec 32 := Scalar.subi v241 v243
  let v245 : BitVec 1 := Scalar.cmpi .ne v239 v244
  let v246 : BitVec 32 := Scalar.remsi v233 c8_i32_94
  let c0_i32_99 : BitVec 32 := 0#32
  let v247 : BitVec 1 := Scalar.cmpi .ne v246 c0_i32_99
  let v248 : BitVec 1 := Scalar.andi v245 v247
  let v234 : BitVec 32 := Scalar.divsi v233 c8_i32_94
  let c1_i32_100 : BitVec 32 := 1#32
  let v249 : BitVec 32 := Scalar.subi v234 c1_i32_100
  let v250 : BitVec 32 := Scalar.select v248 v249 v234
  let c0_i32_101 : BitVec 32 := 0#32
  let v251 : BitVec 32 := Scalar.select v230 v250 c0_i32_101
  let c8_i32_176 : BitVec 32 := 8#32
  let v407 : BitVec 32 := Scalar.muli v251 c8_i32_176
  let v408 : BitVec 32 := v407
  ⟨![v410.toNat, v412.toNat], ![v408.toNat, 512]⟩

def k0_mult105 (v256 : BitVec 32) (v257 : BitVec 32) (v259 : BitVec 32) (v261 : BitVec 32) : BitVec 32 :=
  let v281 : BitVec 1 := Scalar.cmpi .sgt v257 v256
  let c0_i32_106 : BitVec 32 := 0#32
  let v263 : BitVec 1 := Scalar.cmpi .sgt v259 c0_i32_106
  let v264 : BitVec 32 := Scalar.extui v263
  let c0_i32_107 : BitVec 32 := 0#32
  let v265 : BitVec 1 := Scalar.cmpi .slt v259 c0_i32_107
  let v266 : BitVec 32 := Scalar.extui v265
  let v267 : BitVec 32 := Scalar.subi v264 v266
  let c8_i32_105 : BitVec 32 := 8#32
  let c0_i32_108 : BitVec 32 := 0#32
  let v268 : BitVec 1 := Scalar.cmpi .sgt c8_i32_105 c0_i32_108
  let v269 : BitVec 32 := Scalar.extui v268
  let c0_i32_109 : BitVec 32 := 0#32
  let v270 : BitVec 1 := Scalar.cmpi .slt c8_i32_105 c0_i32_109
  let v271 : BitVec 32 := Scalar.extui v270
  let v272 : BitVec 32 := Scalar.subi v269 v271
  let v273 : BitVec 1 := Scalar.cmpi .ne v267 v272
  let v274 : BitVec 32 := Scalar.remsi v259 c8_i32_105
  let c0_i32_110 : BitVec 32 := 0#32
  let v275 : BitVec 1 := Scalar.cmpi .ne v274 c0_i32_110
  let v276 : BitVec 1 := Scalar.andi v273 v275
  let v262 : BitVec 32 := Scalar.divsi v259 c8_i32_105
  let c1_i32_111 : BitVec 32 := 1#32
  let v277 : BitVec 32 := Scalar.subi v262 c1_i32_111
  let v278 : BitVec 32 := Scalar.select v276 v277 v262
  let c8_i32_112 : BitVec 32 := 8#32
  let v279 : BitVec 32 := Scalar.muli v278 c8_i32_112
  let v280 : BitVec 32 := Scalar.subi v259 v279
  let v282 : BitVec 32 := Scalar.addi v280 v261
  let c8_i32_113 : BitVec 32 := 8#32
  let v283 : BitVec 32 := Scalar.addi v282 c8_i32_113
  let c1_i32_114 : BitVec 32 := 1#32
  let v284 : BitVec 32 := Scalar.subi v283 c1_i32_114
  let c0_i32_116 : BitVec 32 := 0#32
  let v286 : BitVec 1 := Scalar.cmpi .sgt v284 c0_i32_116
  let v287 : BitVec 32 := Scalar.extui v286
  let c0_i32_117 : BitVec 32 := 0#32
  let v288 : BitVec 1 := Scalar.cmpi .slt v284 c0_i32_117
  let v289 : BitVec 32 := Scalar.extui v288
  let v290 : BitVec 32 := Scalar.subi v287 v289
  let c8_i32_115 : BitVec 32 := 8#32
  let c0_i32_118 : BitVec 32 := 0#32
  let v291 : BitVec 1 := Scalar.cmpi .sgt c8_i32_115 c0_i32_118
  let v292 : BitVec 32 := Scalar.extui v291
  let c0_i32_119 : BitVec 32 := 0#32
  let v293 : BitVec 1 := Scalar.cmpi .slt c8_i32_115 c0_i32_119
  let v294 : BitVec 32 := Scalar.extui v293
  let v295 : BitVec 32 := Scalar.subi v292 v294
  let v296 : BitVec 1 := Scalar.cmpi .ne v290 v295
  let v297 : BitVec 32 := Scalar.remsi v284 c8_i32_115
  let c0_i32_120 : BitVec 32 := 0#32
  let v298 : BitVec 1 := Scalar.cmpi .ne v297 c0_i32_120
  let v299 : BitVec 1 := Scalar.andi v296 v298
  let v285 : BitVec 32 := Scalar.divsi v284 c8_i32_115
  let c1_i32_121 : BitVec 32 := 1#32
  let v300 : BitVec 32 := Scalar.subi v285 c1_i32_121
  let v301 : BitVec 32 := Scalar.select v299 v300 v285
  let c0_i32_122 : BitVec 32 := 0#32
  let v302 : BitVec 32 := Scalar.select v281 v301 c0_i32_122
  let c8_i32_176 : BitVec 32 := 8#32
  let v407 : BitVec 32 := Scalar.muli v302 c8_i32_176
  v407
def k0_cond33 (v256 : BitVec 32) (v257 : BitVec 32) (v259 : BitVec 32) (v261 : BitVec 32) : BitVec 1 :=
  let v281 : BitVec 1 := Scalar.cmpi .sgt v257 v256
  let c0_i32_106 : BitVec 32 := 0#32
  let v263 : BitVec 1 := Scalar.cmpi .sgt v259 c0_i32_106
  let v264 : BitVec 32 := Scalar.extui v263
  let c0_i32_107 : BitVec 32 := 0#32
  let v265 : BitVec 1 := Scalar.cmpi .slt v259 c0_i32_107
  let v266 : BitVec 32 := Scalar.extui v265
  let v267 : BitVec 32 := Scalar.subi v264 v266
  let c8_i32_105 : BitVec 32 := 8#32
  let c0_i32_108 : BitVec 32 := 0#32
  let v268 : BitVec 1 := Scalar.cmpi .sgt c8_i32_105 c0_i32_108
  let v269 : BitVec 32 := Scalar.extui v268
  let c0_i32_109 : BitVec 32 := 0#32
  let v270 : BitVec 1 := Scalar.cmpi .slt c8_i32_105 c0_i32_109
  let v271 : BitVec 32 := Scalar.extui v270
  let v272 : BitVec 32 := Scalar.subi v269 v271
  let v273 : BitVec 1 := Scalar.cmpi .ne v267 v272
  let v274 : BitVec 32 := Scalar.remsi v259 c8_i32_105
  let c0_i32_110 : BitVec 32 := 0#32
  let v275 : BitVec 1 := Scalar.cmpi .ne v274 c0_i32_110
  let v276 : BitVec 1 := Scalar.andi v273 v275
  let v262 : BitVec 32 := Scalar.divsi v259 c8_i32_105
  let c1_i32_111 : BitVec 32 := 1#32
  let v277 : BitVec 32 := Scalar.subi v262 c1_i32_111
  let v278 : BitVec 32 := Scalar.select v276 v277 v262
  let c8_i32_112 : BitVec 32 := 8#32
  let v279 : BitVec 32 := Scalar.muli v278 c8_i32_112
  let v280 : BitVec 32 := Scalar.subi v259 v279
  let v282 : BitVec 32 := Scalar.addi v280 v261
  let c8_i32_113 : BitVec 32 := 8#32
  let v283 : BitVec 32 := Scalar.addi v282 c8_i32_113
  let c1_i32_114 : BitVec 32 := 1#32
  let v284 : BitVec 32 := Scalar.subi v283 c1_i32_114
  let c0_i32_116 : BitVec 32 := 0#32
  let v286 : BitVec 1 := Scalar.cmpi .sgt v284 c0_i32_116
  let v287 : BitVec 32 := Scalar.extui v286
  let c0_i32_117 : BitVec 32 := 0#32
  let v288 : BitVec 1 := Scalar.cmpi .slt v284 c0_i32_117
  let v289 : BitVec 32 := Scalar.extui v288
  let v290 : BitVec 32 := Scalar.subi v287 v289
  let c8_i32_115 : BitVec 32 := 8#32
  let c0_i32_118 : BitVec 32 := 0#32
  let v291 : BitVec 1 := Scalar.cmpi .sgt c8_i32_115 c0_i32_118
  let v292 : BitVec 32 := Scalar.extui v291
  let c0_i32_119 : BitVec 32 := 0#32
  let v293 : BitVec 1 := Scalar.cmpi .slt c8_i32_115 c0_i32_119
  let v294 : BitVec 32 := Scalar.extui v293
  let v295 : BitVec 32 := Scalar.subi v292 v294
  let v296 : BitVec 1 := Scalar.cmpi .ne v290 v295
  let v297 : BitVec 32 := Scalar.remsi v284 c8_i32_115
  let c0_i32_120 : BitVec 32 := 0#32
  let v298 : BitVec 1 := Scalar.cmpi .ne v297 c0_i32_120
  let v299 : BitVec 1 := Scalar.andi v296 v298
  let v285 : BitVec 32 := Scalar.divsi v284 c8_i32_115
  let c1_i32_121 : BitVec 32 := 1#32
  let v300 : BitVec 32 := Scalar.subi v285 c1_i32_121
  let v301 : BitVec 32 := Scalar.select v299 v300 v285
  let c0_i32_122 : BitVec 32 := 0#32
  let v302 : BitVec 32 := Scalar.select v281 v301 c0_i32_122
  let c0_i32_165 : BitVec 32 := 0#32
  let v394 : BitVec 1 := Scalar.cmpi .sgt v302 c0_i32_165
  let v395 : BitVec 32 := Scalar.extui v394
  let c0_i32_166 : BitVec 32 := 0#32
  let v396 : BitVec 1 := Scalar.cmpi .ne v395 c0_i32_166
  v396

def k0_mult106 (v259 : BitVec 32) : BitVec 32 :=
  let c0_i32_106 : BitVec 32 := 0#32
  let v263 : BitVec 1 := Scalar.cmpi .sgt v259 c0_i32_106
  let v264 : BitVec 32 := Scalar.extui v263
  let c0_i32_107 : BitVec 32 := 0#32
  let v265 : BitVec 1 := Scalar.cmpi .slt v259 c0_i32_107
  let v266 : BitVec 32 := Scalar.extui v265
  let v267 : BitVec 32 := Scalar.subi v264 v266
  let c8_i32_105 : BitVec 32 := 8#32
  let c0_i32_108 : BitVec 32 := 0#32
  let v268 : BitVec 1 := Scalar.cmpi .sgt c8_i32_105 c0_i32_108
  let v269 : BitVec 32 := Scalar.extui v268
  let c0_i32_109 : BitVec 32 := 0#32
  let v270 : BitVec 1 := Scalar.cmpi .slt c8_i32_105 c0_i32_109
  let v271 : BitVec 32 := Scalar.extui v270
  let v272 : BitVec 32 := Scalar.subi v269 v271
  let v273 : BitVec 1 := Scalar.cmpi .ne v267 v272
  let v274 : BitVec 32 := Scalar.remsi v259 c8_i32_105
  let c0_i32_110 : BitVec 32 := 0#32
  let v275 : BitVec 1 := Scalar.cmpi .ne v274 c0_i32_110
  let v276 : BitVec 1 := Scalar.andi v273 v275
  let v262 : BitVec 32 := Scalar.divsi v259 c8_i32_105
  let c1_i32_111 : BitVec 32 := 1#32
  let v277 : BitVec 32 := Scalar.subi v262 c1_i32_111
  let v278 : BitVec 32 := Scalar.select v276 v277 v262
  let c8_i32_177 : BitVec 32 := 8#32
  let v409 : BitVec 32 := Scalar.muli v278 c8_i32_177
  v409
def k0_mult107 (i : grid0.Coords) : BitVec 32 :=
  let arg0 : BitVec 32 := BitVec.ofNat 32 (i 0).val
  let c512_i32 : BitVec 32 := 512#32
  let v411 : BitVec 32 := Scalar.muli arg0 c512_i32
  v411
def k0_mult108 (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) : BitVec 32 :=
  let c0_i32_18 : BitVec 32 := 0#32
  let v26 : BitVec 1 := Scalar.cmpi .sgt v2 v1
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let v50 : BitVec 32 := Scalar.addi c0_i32_18 v47
  let v77 : BitVec 1 := Scalar.cmpi .sgt v53 v52
  let c0_i32_22 : BitVec 32 := 0#32
  let v59 : BitVec 1 := Scalar.cmpi .sgt v55 c0_i32_22
  let v60 : BitVec 32 := Scalar.extui v59
  let c0_i32_23 : BitVec 32 := 0#32
  let v61 : BitVec 1 := Scalar.cmpi .slt v55 c0_i32_23
  let v62 : BitVec 32 := Scalar.extui v61
  let v63 : BitVec 32 := Scalar.subi v60 v62
  let c8_i32_21 : BitVec 32 := 8#32
  let c0_i32_24 : BitVec 32 := 0#32
  let v64 : BitVec 1 := Scalar.cmpi .sgt c8_i32_21 c0_i32_24
  let v65 : BitVec 32 := Scalar.extui v64
  let c0_i32_25 : BitVec 32 := 0#32
  let v66 : BitVec 1 := Scalar.cmpi .slt c8_i32_21 c0_i32_25
  let v67 : BitVec 32 := Scalar.extui v66
  let v68 : BitVec 32 := Scalar.subi v65 v67
  let v69 : BitVec 1 := Scalar.cmpi .ne v63 v68
  let v70 : BitVec 32 := Scalar.remsi v55 c8_i32_21
  let c0_i32_26 : BitVec 32 := 0#32
  let v71 : BitVec 1 := Scalar.cmpi .ne v70 c0_i32_26
  let v72 : BitVec 1 := Scalar.andi v69 v71
  let v58 : BitVec 32 := Scalar.divsi v55 c8_i32_21
  let c1_i32_27 : BitVec 32 := 1#32
  let v73 : BitVec 32 := Scalar.subi v58 c1_i32_27
  let v74 : BitVec 32 := Scalar.select v72 v73 v58
  let c8_i32_28 : BitVec 32 := 8#32
  let v75 : BitVec 32 := Scalar.muli v74 c8_i32_28
  let v76 : BitVec 32 := Scalar.subi v55 v75
  let v78 : BitVec 32 := Scalar.addi v76 v57
  let c8_i32_29 : BitVec 32 := 8#32
  let v79 : BitVec 32 := Scalar.addi v78 c8_i32_29
  let c1_i32_30 : BitVec 32 := 1#32
  let v80 : BitVec 32 := Scalar.subi v79 c1_i32_30
  let c0_i32_32 : BitVec 32 := 0#32
  let v82 : BitVec 1 := Scalar.cmpi .sgt v80 c0_i32_32
  let v83 : BitVec 32 := Scalar.extui v82
  let c0_i32_33 : BitVec 32 := 0#32
  let v84 : BitVec 1 := Scalar.cmpi .slt v80 c0_i32_33
  let v85 : BitVec 32 := Scalar.extui v84
  let v86 : BitVec 32 := Scalar.subi v83 v85
  let c8_i32_31 : BitVec 32 := 8#32
  let c0_i32_34 : BitVec 32 := 0#32
  let v87 : BitVec 1 := Scalar.cmpi .sgt c8_i32_31 c0_i32_34
  let v88 : BitVec 32 := Scalar.extui v87
  let c0_i32_35 : BitVec 32 := 0#32
  let v89 : BitVec 1 := Scalar.cmpi .slt c8_i32_31 c0_i32_35
  let v90 : BitVec 32 := Scalar.extui v89
  let v91 : BitVec 32 := Scalar.subi v88 v90
  let v92 : BitVec 1 := Scalar.cmpi .ne v86 v91
  let v93 : BitVec 32 := Scalar.remsi v80 c8_i32_31
  let c0_i32_36 : BitVec 32 := 0#32
  let v94 : BitVec 1 := Scalar.cmpi .ne v93 c0_i32_36
  let v95 : BitVec 1 := Scalar.andi v92 v94
  let v81 : BitVec 32 := Scalar.divsi v80 c8_i32_31
  let c1_i32_37 : BitVec 32 := 1#32
  let v96 : BitVec 32 := Scalar.subi v81 c1_i32_37
  let v97 : BitVec 32 := Scalar.select v95 v96 v81
  let c0_i32_38 : BitVec 32 := 0#32
  let v98 : BitVec 32 := Scalar.select v77 v97 c0_i32_38
  let v101 : BitVec 32 := Scalar.addi v50 v98
  let v128 : BitVec 1 := Scalar.cmpi .sgt v104 v103
  let c0_i32_43 : BitVec 32 := 0#32
  let v110 : BitVec 1 := Scalar.cmpi .sgt v106 c0_i32_43
  let v111 : BitVec 32 := Scalar.extui v110
  let c0_i32_44 : BitVec 32 := 0#32
  let v112 : BitVec 1 := Scalar.cmpi .slt v106 c0_i32_44
  let v113 : BitVec 32 := Scalar.extui v112
  let v114 : BitVec 32 := Scalar.subi v111 v113
  let c8_i32_42 : BitVec 32 := 8#32
  let c0_i32_45 : BitVec 32 := 0#32
  let v115 : BitVec 1 := Scalar.cmpi .sgt c8_i32_42 c0_i32_45
  let v116 : BitVec 32 := Scalar.extui v115
  let c0_i32_46 : BitVec 32 := 0#32
  let v117 : BitVec 1 := Scalar.cmpi .slt c8_i32_42 c0_i32_46
  let v118 : BitVec 32 := Scalar.extui v117
  let v119 : BitVec 32 := Scalar.subi v116 v118
  let v120 : BitVec 1 := Scalar.cmpi .ne v114 v119
  let v121 : BitVec 32 := Scalar.remsi v106 c8_i32_42
  let c0_i32_47 : BitVec 32 := 0#32
  let v122 : BitVec 1 := Scalar.cmpi .ne v121 c0_i32_47
  let v123 : BitVec 1 := Scalar.andi v120 v122
  let v109 : BitVec 32 := Scalar.divsi v106 c8_i32_42
  let c1_i32_48 : BitVec 32 := 1#32
  let v124 : BitVec 32 := Scalar.subi v109 c1_i32_48
  let v125 : BitVec 32 := Scalar.select v123 v124 v109
  let c8_i32_49 : BitVec 32 := 8#32
  let v126 : BitVec 32 := Scalar.muli v125 c8_i32_49
  let v127 : BitVec 32 := Scalar.subi v106 v126
  let v129 : BitVec 32 := Scalar.addi v127 v108
  let c8_i32_50 : BitVec 32 := 8#32
  let v130 : BitVec 32 := Scalar.addi v129 c8_i32_50
  let c1_i32_51 : BitVec 32 := 1#32
  let v131 : BitVec 32 := Scalar.subi v130 c1_i32_51
  let c0_i32_53 : BitVec 32 := 0#32
  let v133 : BitVec 1 := Scalar.cmpi .sgt v131 c0_i32_53
  let v134 : BitVec 32 := Scalar.extui v133
  let c0_i32_54 : BitVec 32 := 0#32
  let v135 : BitVec 1 := Scalar.cmpi .slt v131 c0_i32_54
  let v136 : BitVec 32 := Scalar.extui v135
  let v137 : BitVec 32 := Scalar.subi v134 v136
  let c8_i32_52 : BitVec 32 := 8#32
  let c0_i32_55 : BitVec 32 := 0#32
  let v138 : BitVec 1 := Scalar.cmpi .sgt c8_i32_52 c0_i32_55
  let v139 : BitVec 32 := Scalar.extui v138
  let c0_i32_56 : BitVec 32 := 0#32
  let v140 : BitVec 1 := Scalar.cmpi .slt c8_i32_52 c0_i32_56
  let v141 : BitVec 32 := Scalar.extui v140
  let v142 : BitVec 32 := Scalar.subi v139 v141
  let v143 : BitVec 1 := Scalar.cmpi .ne v137 v142
  let v144 : BitVec 32 := Scalar.remsi v131 c8_i32_52
  let c0_i32_57 : BitVec 32 := 0#32
  let v145 : BitVec 1 := Scalar.cmpi .ne v144 c0_i32_57
  let v146 : BitVec 1 := Scalar.andi v143 v145
  let v132 : BitVec 32 := Scalar.divsi v131 c8_i32_52
  let c1_i32_58 : BitVec 32 := 1#32
  let v147 : BitVec 32 := Scalar.subi v132 c1_i32_58
  let v148 : BitVec 32 := Scalar.select v146 v147 v132
  let c0_i32_59 : BitVec 32 := 0#32
  let v149 : BitVec 32 := Scalar.select v128 v148 c0_i32_59
  let v152 : BitVec 32 := Scalar.addi v101 v149
  let v179 : BitVec 1 := Scalar.cmpi .sgt v155 v154
  let c0_i32_64 : BitVec 32 := 0#32
  let v161 : BitVec 1 := Scalar.cmpi .sgt v157 c0_i32_64
  let v162 : BitVec 32 := Scalar.extui v161
  let c0_i32_65 : BitVec 32 := 0#32
  let v163 : BitVec 1 := Scalar.cmpi .slt v157 c0_i32_65
  let v164 : BitVec 32 := Scalar.extui v163
  let v165 : BitVec 32 := Scalar.subi v162 v164
  let c8_i32_63 : BitVec 32 := 8#32
  let c0_i32_66 : BitVec 32 := 0#32
  let v166 : BitVec 1 := Scalar.cmpi .sgt c8_i32_63 c0_i32_66
  let v167 : BitVec 32 := Scalar.extui v166
  let c0_i32_67 : BitVec 32 := 0#32
  let v168 : BitVec 1 := Scalar.cmpi .slt c8_i32_63 c0_i32_67
  let v169 : BitVec 32 := Scalar.extui v168
  let v170 : BitVec 32 := Scalar.subi v167 v169
  let v171 : BitVec 1 := Scalar.cmpi .ne v165 v170
  let v172 : BitVec 32 := Scalar.remsi v157 c8_i32_63
  let c0_i32_68 : BitVec 32 := 0#32
  let v173 : BitVec 1 := Scalar.cmpi .ne v172 c0_i32_68
  let v174 : BitVec 1 := Scalar.andi v171 v173
  let v160 : BitVec 32 := Scalar.divsi v157 c8_i32_63
  let c1_i32_69 : BitVec 32 := 1#32
  let v175 : BitVec 32 := Scalar.subi v160 c1_i32_69
  let v176 : BitVec 32 := Scalar.select v174 v175 v160
  let c8_i32_70 : BitVec 32 := 8#32
  let v177 : BitVec 32 := Scalar.muli v176 c8_i32_70
  let v178 : BitVec 32 := Scalar.subi v157 v177
  let v180 : BitVec 32 := Scalar.addi v178 v159
  let c8_i32_71 : BitVec 32 := 8#32
  let v181 : BitVec 32 := Scalar.addi v180 c8_i32_71
  let c1_i32_72 : BitVec 32 := 1#32
  let v182 : BitVec 32 := Scalar.subi v181 c1_i32_72
  let c0_i32_74 : BitVec 32 := 0#32
  let v184 : BitVec 1 := Scalar.cmpi .sgt v182 c0_i32_74
  let v185 : BitVec 32 := Scalar.extui v184
  let c0_i32_75 : BitVec 32 := 0#32
  let v186 : BitVec 1 := Scalar.cmpi .slt v182 c0_i32_75
  let v187 : BitVec 32 := Scalar.extui v186
  let v188 : BitVec 32 := Scalar.subi v185 v187
  let c8_i32_73 : BitVec 32 := 8#32
  let c0_i32_76 : BitVec 32 := 0#32
  let v189 : BitVec 1 := Scalar.cmpi .sgt c8_i32_73 c0_i32_76
  let v190 : BitVec 32 := Scalar.extui v189
  let c0_i32_77 : BitVec 32 := 0#32
  let v191 : BitVec 1 := Scalar.cmpi .slt c8_i32_73 c0_i32_77
  let v192 : BitVec 32 := Scalar.extui v191
  let v193 : BitVec 32 := Scalar.subi v190 v192
  let v194 : BitVec 1 := Scalar.cmpi .ne v188 v193
  let v195 : BitVec 32 := Scalar.remsi v182 c8_i32_73
  let c0_i32_78 : BitVec 32 := 0#32
  let v196 : BitVec 1 := Scalar.cmpi .ne v195 c0_i32_78
  let v197 : BitVec 1 := Scalar.andi v194 v196
  let v183 : BitVec 32 := Scalar.divsi v182 c8_i32_73
  let c1_i32_79 : BitVec 32 := 1#32
  let v198 : BitVec 32 := Scalar.subi v183 c1_i32_79
  let v199 : BitVec 32 := Scalar.select v197 v198 v183
  let c0_i32_80 : BitVec 32 := 0#32
  let v200 : BitVec 32 := Scalar.select v179 v199 c0_i32_80
  let v203 : BitVec 32 := Scalar.addi v152 v200
  let v230 : BitVec 1 := Scalar.cmpi .sgt v206 v205
  let c0_i32_85 : BitVec 32 := 0#32
  let v212 : BitVec 1 := Scalar.cmpi .sgt v208 c0_i32_85
  let v213 : BitVec 32 := Scalar.extui v212
  let c0_i32_86 : BitVec 32 := 0#32
  let v214 : BitVec 1 := Scalar.cmpi .slt v208 c0_i32_86
  let v215 : BitVec 32 := Scalar.extui v214
  let v216 : BitVec 32 := Scalar.subi v213 v215
  let c8_i32_84 : BitVec 32 := 8#32
  let c0_i32_87 : BitVec 32 := 0#32
  let v217 : BitVec 1 := Scalar.cmpi .sgt c8_i32_84 c0_i32_87
  let v218 : BitVec 32 := Scalar.extui v217
  let c0_i32_88 : BitVec 32 := 0#32
  let v219 : BitVec 1 := Scalar.cmpi .slt c8_i32_84 c0_i32_88
  let v220 : BitVec 32 := Scalar.extui v219
  let v221 : BitVec 32 := Scalar.subi v218 v220
  let v222 : BitVec 1 := Scalar.cmpi .ne v216 v221
  let v223 : BitVec 32 := Scalar.remsi v208 c8_i32_84
  let c0_i32_89 : BitVec 32 := 0#32
  let v224 : BitVec 1 := Scalar.cmpi .ne v223 c0_i32_89
  let v225 : BitVec 1 := Scalar.andi v222 v224
  let v211 : BitVec 32 := Scalar.divsi v208 c8_i32_84
  let c1_i32_90 : BitVec 32 := 1#32
  let v226 : BitVec 32 := Scalar.subi v211 c1_i32_90
  let v227 : BitVec 32 := Scalar.select v225 v226 v211
  let c8_i32_91 : BitVec 32 := 8#32
  let v228 : BitVec 32 := Scalar.muli v227 c8_i32_91
  let v229 : BitVec 32 := Scalar.subi v208 v228
  let v231 : BitVec 32 := Scalar.addi v229 v210
  let c8_i32_92 : BitVec 32 := 8#32
  let v232 : BitVec 32 := Scalar.addi v231 c8_i32_92
  let c1_i32_93 : BitVec 32 := 1#32
  let v233 : BitVec 32 := Scalar.subi v232 c1_i32_93
  let c0_i32_95 : BitVec 32 := 0#32
  let v235 : BitVec 1 := Scalar.cmpi .sgt v233 c0_i32_95
  let v236 : BitVec 32 := Scalar.extui v235
  let c0_i32_96 : BitVec 32 := 0#32
  let v237 : BitVec 1 := Scalar.cmpi .slt v233 c0_i32_96
  let v238 : BitVec 32 := Scalar.extui v237
  let v239 : BitVec 32 := Scalar.subi v236 v238
  let c8_i32_94 : BitVec 32 := 8#32
  let c0_i32_97 : BitVec 32 := 0#32
  let v240 : BitVec 1 := Scalar.cmpi .sgt c8_i32_94 c0_i32_97
  let v241 : BitVec 32 := Scalar.extui v240
  let c0_i32_98 : BitVec 32 := 0#32
  let v242 : BitVec 1 := Scalar.cmpi .slt c8_i32_94 c0_i32_98
  let v243 : BitVec 32 := Scalar.extui v242
  let v244 : BitVec 32 := Scalar.subi v241 v243
  let v245 : BitVec 1 := Scalar.cmpi .ne v239 v244
  let v246 : BitVec 32 := Scalar.remsi v233 c8_i32_94
  let c0_i32_99 : BitVec 32 := 0#32
  let v247 : BitVec 1 := Scalar.cmpi .ne v246 c0_i32_99
  let v248 : BitVec 1 := Scalar.andi v245 v247
  let v234 : BitVec 32 := Scalar.divsi v233 c8_i32_94
  let c1_i32_100 : BitVec 32 := 1#32
  let v249 : BitVec 32 := Scalar.subi v234 c1_i32_100
  let v250 : BitVec 32 := Scalar.select v248 v249 v234
  let c0_i32_101 : BitVec 32 := 0#32
  let v251 : BitVec 32 := Scalar.select v230 v250 c0_i32_101
  let v254 : BitVec 32 := Scalar.addi v203 v251
  let c8_i32_178 : BitVec 32 := 8#32
  let v413 : BitVec 32 := Scalar.muli v254 c8_i32_178
  v413
def k0_off88 (i : grid0.Coords) : Fin 2 → Nat :=
  let arg0 : BitVec 32 := BitVec.ofNat 32 (i 0).val
  let c2_i32_175 : BitVec 32 := 2#32
  let v406 : BitVec 32 := Scalar.remsi arg0 c2_i32_175
  let c5_i32_179 : BitVec 32 := 5#32
  ![v406.toNat, 5]
def k0_off89 (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) (v256 : BitVec 32) (v257 : BitVec 32) (v259 : BitVec 32) (v261 : BitVec 32) : (Fin 3 → Nat) × (Fin 3 → Nat) :=
  let arg0 : BitVec 32 := BitVec.ofNat 32 (i 0).val
  let c2_i32_175 : BitVec 32 := 2#32
  let v406 : BitVec 32 := Scalar.remsi arg0 c2_i32_175
  let c0_i32_18 : BitVec 32 := 0#32
  let v26 : BitVec 1 := Scalar.cmpi .sgt v2 v1
  let c0_i32 : BitVec 32 := 0#32
  let v8 : BitVec 1 := Scalar.cmpi .sgt v4 c0_i32
  let v9 : BitVec 32 := Scalar.extui v8
  let c0_i32_1 : BitVec 32 := 0#32
  let v10 : BitVec 1 := Scalar.cmpi .slt v4 c0_i32_1
  let v11 : BitVec 32 := Scalar.extui v10
  let v12 : BitVec 32 := Scalar.subi v9 v11
  let c8_i32 : BitVec 32 := 8#32
  let c0_i32_2 : BitVec 32 := 0#32
  let v13 : BitVec 1 := Scalar.cmpi .sgt c8_i32 c0_i32_2
  let v14 : BitVec 32 := Scalar.extui v13
  let c0_i32_3 : BitVec 32 := 0#32
  let v15 : BitVec 1 := Scalar.cmpi .slt c8_i32 c0_i32_3
  let v16 : BitVec 32 := Scalar.extui v15
  let v17 : BitVec 32 := Scalar.subi v14 v16
  let v18 : BitVec 1 := Scalar.cmpi .ne v12 v17
  let v19 : BitVec 32 := Scalar.remsi v4 c8_i32
  let c0_i32_4 : BitVec 32 := 0#32
  let v20 : BitVec 1 := Scalar.cmpi .ne v19 c0_i32_4
  let v21 : BitVec 1 := Scalar.andi v18 v20
  let v7 : BitVec 32 := Scalar.divsi v4 c8_i32
  let c1_i32 : BitVec 32 := 1#32
  let v22 : BitVec 32 := Scalar.subi v7 c1_i32
  let v23 : BitVec 32 := Scalar.select v21 v22 v7
  let c8_i32_5 : BitVec 32 := 8#32
  let v24 : BitVec 32 := Scalar.muli v23 c8_i32_5
  let v25 : BitVec 32 := Scalar.subi v4 v24
  let v27 : BitVec 32 := Scalar.addi v25 v6
  let c8_i32_6 : BitVec 32 := 8#32
  let v28 : BitVec 32 := Scalar.addi v27 c8_i32_6
  let c1_i32_7 : BitVec 32 := 1#32
  let v29 : BitVec 32 := Scalar.subi v28 c1_i32_7
  let c0_i32_9 : BitVec 32 := 0#32
  let v31 : BitVec 1 := Scalar.cmpi .sgt v29 c0_i32_9
  let v32 : BitVec 32 := Scalar.extui v31
  let c0_i32_10 : BitVec 32 := 0#32
  let v33 : BitVec 1 := Scalar.cmpi .slt v29 c0_i32_10
  let v34 : BitVec 32 := Scalar.extui v33
  let v35 : BitVec 32 := Scalar.subi v32 v34
  let c8_i32_8 : BitVec 32 := 8#32
  let c0_i32_11 : BitVec 32 := 0#32
  let v36 : BitVec 1 := Scalar.cmpi .sgt c8_i32_8 c0_i32_11
  let v37 : BitVec 32 := Scalar.extui v36
  let c0_i32_12 : BitVec 32 := 0#32
  let v38 : BitVec 1 := Scalar.cmpi .slt c8_i32_8 c0_i32_12
  let v39 : BitVec 32 := Scalar.extui v38
  let v40 : BitVec 32 := Scalar.subi v37 v39
  let v41 : BitVec 1 := Scalar.cmpi .ne v35 v40
  let v42 : BitVec 32 := Scalar.remsi v29 c8_i32_8
  let c0_i32_13 : BitVec 32 := 0#32
  let v43 : BitVec 1 := Scalar.cmpi .ne v42 c0_i32_13
  let v44 : BitVec 1 := Scalar.andi v41 v43
  let v30 : BitVec 32 := Scalar.divsi v29 c8_i32_8
  let c1_i32_14 : BitVec 32 := 1#32
  let v45 : BitVec 32 := Scalar.subi v30 c1_i32_14
  let v46 : BitVec 32 := Scalar.select v44 v45 v30
  let c0_i32_15 : BitVec 32 := 0#32
  let v47 : BitVec 32 := Scalar.select v26 v46 c0_i32_15
  let v50 : BitVec 32 := Scalar.addi c0_i32_18 v47
  let v77 : BitVec 1 := Scalar.cmpi .sgt v53 v52
  let c0_i32_22 : BitVec 32 := 0#32
  let v59 : BitVec 1 := Scalar.cmpi .sgt v55 c0_i32_22
  let v60 : BitVec 32 := Scalar.extui v59
  let c0_i32_23 : BitVec 32 := 0#32
  let v61 : BitVec 1 := Scalar.cmpi .slt v55 c0_i32_23
  let v62 : BitVec 32 := Scalar.extui v61
  let v63 : BitVec 32 := Scalar.subi v60 v62
  let c8_i32_21 : BitVec 32 := 8#32
  let c0_i32_24 : BitVec 32 := 0#32
  let v64 : BitVec 1 := Scalar.cmpi .sgt c8_i32_21 c0_i32_24
  let v65 : BitVec 32 := Scalar.extui v64
  let c0_i32_25 : BitVec 32 := 0#32
  let v66 : BitVec 1 := Scalar.cmpi .slt c8_i32_21 c0_i32_25
  let v67 : BitVec 32 := Scalar.extui v66
  let v68 : BitVec 32 := Scalar.subi v65 v67
  let v69 : BitVec 1 := Scalar.cmpi .ne v63 v68
  let v70 : BitVec 32 := Scalar.remsi v55 c8_i32_21
  let c0_i32_26 : BitVec 32 := 0#32
  let v71 : BitVec 1 := Scalar.cmpi .ne v70 c0_i32_26
  let v72 : BitVec 1 := Scalar.andi v69 v71
  let v58 : BitVec 32 := Scalar.divsi v55 c8_i32_21
  let c1_i32_27 : BitVec 32 := 1#32
  let v73 : BitVec 32 := Scalar.subi v58 c1_i32_27
  let v74 : BitVec 32 := Scalar.select v72 v73 v58
  let c8_i32_28 : BitVec 32 := 8#32
  let v75 : BitVec 32 := Scalar.muli v74 c8_i32_28
  let v76 : BitVec 32 := Scalar.subi v55 v75
  let v78 : BitVec 32 := Scalar.addi v76 v57
  let c8_i32_29 : BitVec 32 := 8#32
  let v79 : BitVec 32 := Scalar.addi v78 c8_i32_29
  let c1_i32_30 : BitVec 32 := 1#32
  let v80 : BitVec 32 := Scalar.subi v79 c1_i32_30
  let c0_i32_32 : BitVec 32 := 0#32
  let v82 : BitVec 1 := Scalar.cmpi .sgt v80 c0_i32_32
  let v83 : BitVec 32 := Scalar.extui v82
  let c0_i32_33 : BitVec 32 := 0#32
  let v84 : BitVec 1 := Scalar.cmpi .slt v80 c0_i32_33
  let v85 : BitVec 32 := Scalar.extui v84
  let v86 : BitVec 32 := Scalar.subi v83 v85
  let c8_i32_31 : BitVec 32 := 8#32
  let c0_i32_34 : BitVec 32 := 0#32
  let v87 : BitVec 1 := Scalar.cmpi .sgt c8_i32_31 c0_i32_34
  let v88 : BitVec 32 := Scalar.extui v87
  let c0_i32_35 : BitVec 32 := 0#32
  let v89 : BitVec 1 := Scalar.cmpi .slt c8_i32_31 c0_i32_35
  let v90 : BitVec 32 := Scalar.extui v89
  let v91 : BitVec 32 := Scalar.subi v88 v90
  let v92 : BitVec 1 := Scalar.cmpi .ne v86 v91
  let v93 : BitVec 32 := Scalar.remsi v80 c8_i32_31
  let c0_i32_36 : BitVec 32 := 0#32
  let v94 : BitVec 1 := Scalar.cmpi .ne v93 c0_i32_36
  let v95 : BitVec 1 := Scalar.andi v92 v94
  let v81 : BitVec 32 := Scalar.divsi v80 c8_i32_31
  let c1_i32_37 : BitVec 32 := 1#32
  let v96 : BitVec 32 := Scalar.subi v81 c1_i32_37
  let v97 : BitVec 32 := Scalar.select v95 v96 v81
  let c0_i32_38 : BitVec 32 := 0#32
  let v98 : BitVec 32 := Scalar.select v77 v97 c0_i32_38
  let v101 : BitVec 32 := Scalar.addi v50 v98
  let v128 : BitVec 1 := Scalar.cmpi .sgt v104 v103
  let c0_i32_43 : BitVec 32 := 0#32
  let v110 : BitVec 1 := Scalar.cmpi .sgt v106 c0_i32_43
  let v111 : BitVec 32 := Scalar.extui v110
  let c0_i32_44 : BitVec 32 := 0#32
  let v112 : BitVec 1 := Scalar.cmpi .slt v106 c0_i32_44
  let v113 : BitVec 32 := Scalar.extui v112
  let v114 : BitVec 32 := Scalar.subi v111 v113
  let c8_i32_42 : BitVec 32 := 8#32
  let c0_i32_45 : BitVec 32 := 0#32
  let v115 : BitVec 1 := Scalar.cmpi .sgt c8_i32_42 c0_i32_45
  let v116 : BitVec 32 := Scalar.extui v115
  let c0_i32_46 : BitVec 32 := 0#32
  let v117 : BitVec 1 := Scalar.cmpi .slt c8_i32_42 c0_i32_46
  let v118 : BitVec 32 := Scalar.extui v117
  let v119 : BitVec 32 := Scalar.subi v116 v118
  let v120 : BitVec 1 := Scalar.cmpi .ne v114 v119
  let v121 : BitVec 32 := Scalar.remsi v106 c8_i32_42
  let c0_i32_47 : BitVec 32 := 0#32
  let v122 : BitVec 1 := Scalar.cmpi .ne v121 c0_i32_47
  let v123 : BitVec 1 := Scalar.andi v120 v122
  let v109 : BitVec 32 := Scalar.divsi v106 c8_i32_42
  let c1_i32_48 : BitVec 32 := 1#32
  let v124 : BitVec 32 := Scalar.subi v109 c1_i32_48
  let v125 : BitVec 32 := Scalar.select v123 v124 v109
  let c8_i32_49 : BitVec 32 := 8#32
  let v126 : BitVec 32 := Scalar.muli v125 c8_i32_49
  let v127 : BitVec 32 := Scalar.subi v106 v126
  let v129 : BitVec 32 := Scalar.addi v127 v108
  let c8_i32_50 : BitVec 32 := 8#32
  let v130 : BitVec 32 := Scalar.addi v129 c8_i32_50
  let c1_i32_51 : BitVec 32 := 1#32
  let v131 : BitVec 32 := Scalar.subi v130 c1_i32_51
  let c0_i32_53 : BitVec 32 := 0#32
  let v133 : BitVec 1 := Scalar.cmpi .sgt v131 c0_i32_53
  let v134 : BitVec 32 := Scalar.extui v133
  let c0_i32_54 : BitVec 32 := 0#32
  let v135 : BitVec 1 := Scalar.cmpi .slt v131 c0_i32_54
  let v136 : BitVec 32 := Scalar.extui v135
  let v137 : BitVec 32 := Scalar.subi v134 v136
  let c8_i32_52 : BitVec 32 := 8#32
  let c0_i32_55 : BitVec 32 := 0#32
  let v138 : BitVec 1 := Scalar.cmpi .sgt c8_i32_52 c0_i32_55
  let v139 : BitVec 32 := Scalar.extui v138
  let c0_i32_56 : BitVec 32 := 0#32
  let v140 : BitVec 1 := Scalar.cmpi .slt c8_i32_52 c0_i32_56
  let v141 : BitVec 32 := Scalar.extui v140
  let v142 : BitVec 32 := Scalar.subi v139 v141
  let v143 : BitVec 1 := Scalar.cmpi .ne v137 v142
  let v144 : BitVec 32 := Scalar.remsi v131 c8_i32_52
  let c0_i32_57 : BitVec 32 := 0#32
  let v145 : BitVec 1 := Scalar.cmpi .ne v144 c0_i32_57
  let v146 : BitVec 1 := Scalar.andi v143 v145
  let v132 : BitVec 32 := Scalar.divsi v131 c8_i32_52
  let c1_i32_58 : BitVec 32 := 1#32
  let v147 : BitVec 32 := Scalar.subi v132 c1_i32_58
  let v148 : BitVec 32 := Scalar.select v146 v147 v132
  let c0_i32_59 : BitVec 32 := 0#32
  let v149 : BitVec 32 := Scalar.select v128 v148 c0_i32_59
  let v152 : BitVec 32 := Scalar.addi v101 v149
  let v179 : BitVec 1 := Scalar.cmpi .sgt v155 v154
  let c0_i32_64 : BitVec 32 := 0#32
  let v161 : BitVec 1 := Scalar.cmpi .sgt v157 c0_i32_64
  let v162 : BitVec 32 := Scalar.extui v161
  let c0_i32_65 : BitVec 32 := 0#32
  let v163 : BitVec 1 := Scalar.cmpi .slt v157 c0_i32_65
  let v164 : BitVec 32 := Scalar.extui v163
  let v165 : BitVec 32 := Scalar.subi v162 v164
  let c8_i32_63 : BitVec 32 := 8#32
  let c0_i32_66 : BitVec 32 := 0#32
  let v166 : BitVec 1 := Scalar.cmpi .sgt c8_i32_63 c0_i32_66
  let v167 : BitVec 32 := Scalar.extui v166
  let c0_i32_67 : BitVec 32 := 0#32
  let v168 : BitVec 1 := Scalar.cmpi .slt c8_i32_63 c0_i32_67
  let v169 : BitVec 32 := Scalar.extui v168
  let v170 : BitVec 32 := Scalar.subi v167 v169
  let v171 : BitVec 1 := Scalar.cmpi .ne v165 v170
  let v172 : BitVec 32 := Scalar.remsi v157 c8_i32_63
  let c0_i32_68 : BitVec 32 := 0#32
  let v173 : BitVec 1 := Scalar.cmpi .ne v172 c0_i32_68
  let v174 : BitVec 1 := Scalar.andi v171 v173
  let v160 : BitVec 32 := Scalar.divsi v157 c8_i32_63
  let c1_i32_69 : BitVec 32 := 1#32
  let v175 : BitVec 32 := Scalar.subi v160 c1_i32_69
  let v176 : BitVec 32 := Scalar.select v174 v175 v160
  let c8_i32_70 : BitVec 32 := 8#32
  let v177 : BitVec 32 := Scalar.muli v176 c8_i32_70
  let v178 : BitVec 32 := Scalar.subi v157 v177
  let v180 : BitVec 32 := Scalar.addi v178 v159
  let c8_i32_71 : BitVec 32 := 8#32
  let v181 : BitVec 32 := Scalar.addi v180 c8_i32_71
  let c1_i32_72 : BitVec 32 := 1#32
  let v182 : BitVec 32 := Scalar.subi v181 c1_i32_72
  let c0_i32_74 : BitVec 32 := 0#32
  let v184 : BitVec 1 := Scalar.cmpi .sgt v182 c0_i32_74
  let v185 : BitVec 32 := Scalar.extui v184
  let c0_i32_75 : BitVec 32 := 0#32
  let v186 : BitVec 1 := Scalar.cmpi .slt v182 c0_i32_75
  let v187 : BitVec 32 := Scalar.extui v186
  let v188 : BitVec 32 := Scalar.subi v185 v187
  let c8_i32_73 : BitVec 32 := 8#32
  let c0_i32_76 : BitVec 32 := 0#32
  let v189 : BitVec 1 := Scalar.cmpi .sgt c8_i32_73 c0_i32_76
  let v190 : BitVec 32 := Scalar.extui v189
  let c0_i32_77 : BitVec 32 := 0#32
  let v191 : BitVec 1 := Scalar.cmpi .slt c8_i32_73 c0_i32_77
  let v192 : BitVec 32 := Scalar.extui v191
  let v193 : BitVec 32 := Scalar.subi v190 v192
  let v194 : BitVec 1 := Scalar.cmpi .ne v188 v193
  let v195 : BitVec 32 := Scalar.remsi v182 c8_i32_73
  let c0_i32_78 : BitVec 32 := 0#32
  let v196 : BitVec 1 := Scalar.cmpi .ne v195 c0_i32_78
  let v197 : BitVec 1 := Scalar.andi v194 v196
  let v183 : BitVec 32 := Scalar.divsi v182 c8_i32_73
  let c1_i32_79 : BitVec 32 := 1#32
  let v198 : BitVec 32 := Scalar.subi v183 c1_i32_79
  let v199 : BitVec 32 := Scalar.select v197 v198 v183
  let c0_i32_80 : BitVec 32 := 0#32
  let v200 : BitVec 32 := Scalar.select v179 v199 c0_i32_80
  let v203 : BitVec 32 := Scalar.addi v152 v200
  let v230 : BitVec 1 := Scalar.cmpi .sgt v206 v205
  let c0_i32_85 : BitVec 32 := 0#32
  let v212 : BitVec 1 := Scalar.cmpi .sgt v208 c0_i32_85
  let v213 : BitVec 32 := Scalar.extui v212
  let c0_i32_86 : BitVec 32 := 0#32
  let v214 : BitVec 1 := Scalar.cmpi .slt v208 c0_i32_86
  let v215 : BitVec 32 := Scalar.extui v214
  let v216 : BitVec 32 := Scalar.subi v213 v215
  let c8_i32_84 : BitVec 32 := 8#32
  let c0_i32_87 : BitVec 32 := 0#32
  let v217 : BitVec 1 := Scalar.cmpi .sgt c8_i32_84 c0_i32_87
  let v218 : BitVec 32 := Scalar.extui v217
  let c0_i32_88 : BitVec 32 := 0#32
  let v219 : BitVec 1 := Scalar.cmpi .slt c8_i32_84 c0_i32_88
  let v220 : BitVec 32 := Scalar.extui v219
  let v221 : BitVec 32 := Scalar.subi v218 v220
  let v222 : BitVec 1 := Scalar.cmpi .ne v216 v221
  let v223 : BitVec 32 := Scalar.remsi v208 c8_i32_84
  let c0_i32_89 : BitVec 32 := 0#32
  let v224 : BitVec 1 := Scalar.cmpi .ne v223 c0_i32_89
  let v225 : BitVec 1 := Scalar.andi v222 v224
  let v211 : BitVec 32 := Scalar.divsi v208 c8_i32_84
  let c1_i32_90 : BitVec 32 := 1#32
  let v226 : BitVec 32 := Scalar.subi v211 c1_i32_90
  let v227 : BitVec 32 := Scalar.select v225 v226 v211
  let c8_i32_91 : BitVec 32 := 8#32
  let v228 : BitVec 32 := Scalar.muli v227 c8_i32_91
  let v229 : BitVec 32 := Scalar.subi v208 v228
  let v231 : BitVec 32 := Scalar.addi v229 v210
  let c8_i32_92 : BitVec 32 := 8#32
  let v232 : BitVec 32 := Scalar.addi v231 c8_i32_92
  let c1_i32_93 : BitVec 32 := 1#32
  let v233 : BitVec 32 := Scalar.subi v232 c1_i32_93
  let c0_i32_95 : BitVec 32 := 0#32
  let v235 : BitVec 1 := Scalar.cmpi .sgt v233 c0_i32_95
  let v236 : BitVec 32 := Scalar.extui v235
  let c0_i32_96 : BitVec 32 := 0#32
  let v237 : BitVec 1 := Scalar.cmpi .slt v233 c0_i32_96
  let v238 : BitVec 32 := Scalar.extui v237
  let v239 : BitVec 32 := Scalar.subi v236 v238
  let c8_i32_94 : BitVec 32 := 8#32
  let c0_i32_97 : BitVec 32 := 0#32
  let v240 : BitVec 1 := Scalar.cmpi .sgt c8_i32_94 c0_i32_97
  let v241 : BitVec 32 := Scalar.extui v240
  let c0_i32_98 : BitVec 32 := 0#32
  let v242 : BitVec 1 := Scalar.cmpi .slt c8_i32_94 c0_i32_98
  let v243 : BitVec 32 := Scalar.extui v242
  let v244 : BitVec 32 := Scalar.subi v241 v243
  let v245 : BitVec 1 := Scalar.cmpi .ne v239 v244
  let v246 : BitVec 32 := Scalar.remsi v233 c8_i32_94
  let c0_i32_99 : BitVec 32 := 0#32
  let v247 : BitVec 1 := Scalar.cmpi .ne v246 c0_i32_99
  let v248 : BitVec 1 := Scalar.andi v245 v247
  let v234 : BitVec 32 := Scalar.divsi v233 c8_i32_94
  let c1_i32_100 : BitVec 32 := 1#32
  let v249 : BitVec 32 := Scalar.subi v234 c1_i32_100
  let v250 : BitVec 32 := Scalar.select v248 v249 v234
  let c0_i32_101 : BitVec 32 := 0#32
  let v251 : BitVec 32 := Scalar.select v230 v250 c0_i32_101
  let v254 : BitVec 32 := Scalar.addi v203 v251
  let c8_i32_178 : BitVec 32 := 8#32
  let v413 : BitVec 32 := Scalar.muli v254 c8_i32_178
  let v414 : BitVec 32 := v413
  let c0_i32_180 : BitVec 32 := 0#32
  let v281 : BitVec 1 := Scalar.cmpi .sgt v257 v256
  let c0_i32_106 : BitVec 32 := 0#32
  let v263 : BitVec 1 := Scalar.cmpi .sgt v259 c0_i32_106
  let v264 : BitVec 32 := Scalar.extui v263
  let c0_i32_107 : BitVec 32 := 0#32
  let v265 : BitVec 1 := Scalar.cmpi .slt v259 c0_i32_107
  let v266 : BitVec 32 := Scalar.extui v265
  let v267 : BitVec 32 := Scalar.subi v264 v266
  let c8_i32_105 : BitVec 32 := 8#32
  let c0_i32_108 : BitVec 32 := 0#32
  let v268 : BitVec 1 := Scalar.cmpi .sgt c8_i32_105 c0_i32_108
  let v269 : BitVec 32 := Scalar.extui v268
  let c0_i32_109 : BitVec 32 := 0#32
  let v270 : BitVec 1 := Scalar.cmpi .slt c8_i32_105 c0_i32_109
  let v271 : BitVec 32 := Scalar.extui v270
  let v272 : BitVec 32 := Scalar.subi v269 v271
  let v273 : BitVec 1 := Scalar.cmpi .ne v267 v272
  let v274 : BitVec 32 := Scalar.remsi v259 c8_i32_105
  let c0_i32_110 : BitVec 32 := 0#32
  let v275 : BitVec 1 := Scalar.cmpi .ne v274 c0_i32_110
  let v276 : BitVec 1 := Scalar.andi v273 v275
  let v262 : BitVec 32 := Scalar.divsi v259 c8_i32_105
  let c1_i32_111 : BitVec 32 := 1#32
  let v277 : BitVec 32 := Scalar.subi v262 c1_i32_111
  let v278 : BitVec 32 := Scalar.select v276 v277 v262
  let c8_i32_112 : BitVec 32 := 8#32
  let v279 : BitVec 32 := Scalar.muli v278 c8_i32_112
  let v280 : BitVec 32 := Scalar.subi v259 v279
  let v282 : BitVec 32 := Scalar.addi v280 v261
  let c8_i32_113 : BitVec 32 := 8#32
  let v283 : BitVec 32 := Scalar.addi v282 c8_i32_113
  let c1_i32_114 : BitVec 32 := 1#32
  let v284 : BitVec 32 := Scalar.subi v283 c1_i32_114
  let c0_i32_116 : BitVec 32 := 0#32
  let v286 : BitVec 1 := Scalar.cmpi .sgt v284 c0_i32_116
  let v287 : BitVec 32 := Scalar.extui v286
  let c0_i32_117 : BitVec 32 := 0#32
  let v288 : BitVec 1 := Scalar.cmpi .slt v284 c0_i32_117
  let v289 : BitVec 32 := Scalar.extui v288
  let v290 : BitVec 32 := Scalar.subi v287 v289
  let c8_i32_115 : BitVec 32 := 8#32
  let c0_i32_118 : BitVec 32 := 0#32
  let v291 : BitVec 1 := Scalar.cmpi .sgt c8_i32_115 c0_i32_118
  let v292 : BitVec 32 := Scalar.extui v291
  let c0_i32_119 : BitVec 32 := 0#32
  let v293 : BitVec 1 := Scalar.cmpi .slt c8_i32_115 c0_i32_119
  let v294 : BitVec 32 := Scalar.extui v293
  let v295 : BitVec 32 := Scalar.subi v292 v294
  let v296 : BitVec 1 := Scalar.cmpi .ne v290 v295
  let v297 : BitVec 32 := Scalar.remsi v284 c8_i32_115
  let c0_i32_120 : BitVec 32 := 0#32
  let v298 : BitVec 1 := Scalar.cmpi .ne v297 c0_i32_120
  let v299 : BitVec 1 := Scalar.andi v296 v298
  let v285 : BitVec 32 := Scalar.divsi v284 c8_i32_115
  let c1_i32_121 : BitVec 32 := 1#32
  let v300 : BitVec 32 := Scalar.subi v285 c1_i32_121
  let v301 : BitVec 32 := Scalar.select v299 v300 v285
  let c0_i32_122 : BitVec 32 := 0#32
  let v302 : BitVec 32 := Scalar.select v281 v301 c0_i32_122
  let c8_i32_176 : BitVec 32 := 8#32
  let v407 : BitVec 32 := Scalar.muli v302 c8_i32_176
  let v408 : BitVec 32 := v407
  ⟨![v406.toNat, v414.toNat, 0], ![1, v408.toNat, 512]⟩

def k0_sz18 (v256 : BitVec 32) (v257 : BitVec 32) (v259 : BitVec 32) (v261 : BitVec 32) : Fin 2 → Nat :=
  let v281 : BitVec 1 := Scalar.cmpi .sgt v257 v256
  let c0_i32_106 : BitVec 32 := 0#32
  let v263 : BitVec 1 := Scalar.cmpi .sgt v259 c0_i32_106
  let v264 : BitVec 32 := Scalar.extui v263
  let c0_i32_107 : BitVec 32 := 0#32
  let v265 : BitVec 1 := Scalar.cmpi .slt v259 c0_i32_107
  let v266 : BitVec 32 := Scalar.extui v265
  let v267 : BitVec 32 := Scalar.subi v264 v266
  let c8_i32_105 : BitVec 32 := 8#32
  let c0_i32_108 : BitVec 32 := 0#32
  let v268 : BitVec 1 := Scalar.cmpi .sgt c8_i32_105 c0_i32_108
  let v269 : BitVec 32 := Scalar.extui v268
  let c0_i32_109 : BitVec 32 := 0#32
  let v270 : BitVec 1 := Scalar.cmpi .slt c8_i32_105 c0_i32_109
  let v271 : BitVec 32 := Scalar.extui v270
  let v272 : BitVec 32 := Scalar.subi v269 v271
  let v273 : BitVec 1 := Scalar.cmpi .ne v267 v272
  let v274 : BitVec 32 := Scalar.remsi v259 c8_i32_105
  let c0_i32_110 : BitVec 32 := 0#32
  let v275 : BitVec 1 := Scalar.cmpi .ne v274 c0_i32_110
  let v276 : BitVec 1 := Scalar.andi v273 v275
  let v262 : BitVec 32 := Scalar.divsi v259 c8_i32_105
  let c1_i32_111 : BitVec 32 := 1#32
  let v277 : BitVec 32 := Scalar.subi v262 c1_i32_111
  let v278 : BitVec 32 := Scalar.select v276 v277 v262
  let c8_i32_112 : BitVec 32 := 8#32
  let v279 : BitVec 32 := Scalar.muli v278 c8_i32_112
  let v280 : BitVec 32 := Scalar.subi v259 v279
  let v282 : BitVec 32 := Scalar.addi v280 v261
  let c8_i32_113 : BitVec 32 := 8#32
  let v283 : BitVec 32 := Scalar.addi v282 c8_i32_113
  let c1_i32_114 : BitVec 32 := 1#32
  let v284 : BitVec 32 := Scalar.subi v283 c1_i32_114
  let c0_i32_116 : BitVec 32 := 0#32
  let v286 : BitVec 1 := Scalar.cmpi .sgt v284 c0_i32_116
  let v287 : BitVec 32 := Scalar.extui v286
  let c0_i32_117 : BitVec 32 := 0#32
  let v288 : BitVec 1 := Scalar.cmpi .slt v284 c0_i32_117
  let v289 : BitVec 32 := Scalar.extui v288
  let v290 : BitVec 32 := Scalar.subi v287 v289
  let c8_i32_115 : BitVec 32 := 8#32
  let c0_i32_118 : BitVec 32 := 0#32
  let v291 : BitVec 1 := Scalar.cmpi .sgt c8_i32_115 c0_i32_118
  let v292 : BitVec 32 := Scalar.extui v291
  let c0_i32_119 : BitVec 32 := 0#32
  let v293 : BitVec 1 := Scalar.cmpi .slt c8_i32_115 c0_i32_119
  let v294 : BitVec 32 := Scalar.extui v293
  let v295 : BitVec 32 := Scalar.subi v292 v294
  let v296 : BitVec 1 := Scalar.cmpi .ne v290 v295
  let v297 : BitVec 32 := Scalar.remsi v284 c8_i32_115
  let c0_i32_120 : BitVec 32 := 0#32
  let v298 : BitVec 1 := Scalar.cmpi .ne v297 c0_i32_120
  let v299 : BitVec 1 := Scalar.andi v296 v298
  let v285 : BitVec 32 := Scalar.divsi v284 c8_i32_115
  let c1_i32_121 : BitVec 32 := 1#32
  let v300 : BitVec 32 := Scalar.subi v285 c1_i32_121
  let v301 : BitVec 32 := Scalar.select v299 v300 v285
  let c0_i32_122 : BitVec 32 := 0#32
  let v302 : BitVec 32 := Scalar.select v281 v301 c0_i32_122
  let c8_i32_176 : BitVec 32 := 8#32
  let v407 : BitVec 32 := Scalar.muli v302 c8_i32_176
  let v408 : BitVec 32 := v407
  ![v408.toNat, 512]

def k0_chk12 (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) (v256 : BitVec 32) (v257 : BitVec 32) (v259 : BitVec 32) (v261 : BitVec 32) : Prop :=
  (∀ (k0_h1 : k0_cond1 i = 1#1), ∀ (k0_h7 : k0_cond7 v256 v257 v259 v261 = 1#1), 8 ∣ (k0_mult16 v256 v257 v259 v261).toNat) ∧
  (∀ (k0_h1 : k0_cond1 i = 1#1), ∀ (k0_h7 : k0_cond7 v256 v257 v259 v261 = 1#1), 8 ∣ (k0_mult17 v259).toNat) ∧
  (∀ (k0_h1 : k0_cond1 i = 1#1), ∀ (k0_h7 : k0_cond7 v256 v257 v259 v261 = 1#1), 8 ∣ (k0_mult18 v1 v2 v4 v6 v52 v53 v55 v57 v103 v104 v106 v108 v154 v155 v157 v159 v205 v206 v208 v210).toNat) ∧
  (∀ (k0_h1 : k0_cond1 i = 1#1), ∀ (k0_h7 : k0_cond7 v256 v257 v259 v261 = 1#1), ∀ a, (k0_off17 v1 v2 v4 v6 v52 v53 v55 v57 v103 v104 v106 v108 v154 v155 v157 v159 v205 v206 v208 v210 v256 v257 v259 v261).2 a = 0 ∨ (k0_off17 v1 v2 v4 v6 v52 v53 v55 v57 v103 v104 v106 v108 v154 v155 v157 v159 v205 v206 v208 v210 v256 v257 v259 v261).1 a + (k0_off17 v1 v2 v4 v6 v52 v53 v55 v57 v103 v104 v106 v108 v154 v155 v157 v159 v205 v206 v208 v210 v256 v257 v259 v261).2 a ≤ S512x4096.size a) ∧
  (∀ (k0_h1 : k0_cond1 i = 1#1), ∀ (k0_h7 : k0_cond7 v256 v257 v259 v261 = 1#1), ∀ a, (k0_off18 v256 v257 v259 v261).2 a = 0 ∨ (k0_off18 v256 v257 v259 v261).1 a + (k0_off18 v256 v257 v259 v261).2 a ≤ S900x4096.size a) ∧
  (∀ (k0_h1 : k0_cond1 i = 1#1), ∀ (k0_h7 : k0_cond7 v256 v257 v259 v261 = 1#1), ∀ (hinb : ∀ a, (k0_off18 v256 v257 v259 v261).2 a = 0 ∨ (k0_off18 v256 v257 v259 v261).1 a + (k0_off18 v256 v257 v259 v261).2 a ≤ S900x4096.size a), (Rect.unitDyn (s := S900x4096) (k0_off18 v256 v257 v259 v261).1 (k0_off18 v256 v257 v259 v261).2 hinb).WholeWords (EltTy.packing .bf16)) ∧
  (∀ (k0_h1 : k0_cond1 i = 1#1), ∀ (k0_h7 : k0_cond7 v256 v257 v259 v261 = 1#1), ∀ (hinb : ∀ a, (k0_off17 v1 v2 v4 v6 v52 v53 v55 v57 v103 v104 v106 v108 v154 v155 v157 v159 v205 v206 v208 v210 v256 v257 v259 v261).2 a = 0 ∨ (k0_off17 v1 v2 v4 v6 v52 v53 v55 v57 v103 v104 v106 v108 v154 v155 v157 v159 v205 v206 v208 v210 v256 v257 v259 v261).1 a + (k0_off17 v1 v2 v4 v6 v52 v53 v55 v57 v103 v104 v106 v108 v154 v155 v157 v159 v205 v206 v208 v210 v256 v257 v259 v261).2 a ≤ S512x4096.size a), (Rect.unitDyn (s := S512x4096) (k0_off17 v1 v2 v4 v6 v52 v53 v55 v57 v103 v104 v106 v108 v154 v155 v157 v159 v205 v206 v208 v210 v256 v257 v259 v261).1 (k0_off17 v1 v2 v4 v6 v52 v53 v55 v57 v103 v104 v106 v108 v154 v155 v157 v159 v205 v206 v208 v210 v256 v257 v259 v261).2 hinb).WholeWords (EltTy.packing .bf16)) ∧
  (∀ (k0_h1 : k0_cond1 i = 1#1), ∀ (k0_h13 : k0_cond13 v256 v257 v259 v261 = 1#1), 8 ∣ (k0_mult39 v256 v257 v259 v261).toNat) ∧
  (∀ (k0_h1 : k0_cond1 i = 1#1), ∀ (k0_h13 : k0_cond13 v256 v257 v259 v261 = 1#1), 8 ∣ (k0_mult40 v259).toNat) ∧
  (∀ (k0_h1 : k0_cond1 i = 1#1), ∀ (k0_h13 : k0_cond13 v256 v257 v259 v261 = 1#1), 8 ∣ (k0_mult42 v1 v2 v4 v6 v52 v53 v55 v57 v103 v104 v106 v108 v154 v155 v157 v159 v205 v206 v208 v210).toNat) ∧
  (∀ (k0_h1 : k0_cond1 i = 1#1), ∀ (k0_h13 : k0_cond13 v256 v257 v259 v261 = 1#1), ∀ a, (k0_off35 i v1 v2 v4 v6 v52 v53 v55 v57 v103 v104 v106 v108 v154 v155 v157 v159 v205 v206 v208 v210 v256 v257 v259 v261).2 a = 0 ∨ (k0_off35 i v1 v2 v4 v6 v52 v53 v55 v57 v103 v104 v106 v108 v154 v155 v157 v159 v205 v206 v208 v210 v256 v257 v259 v261).1 a + (k0_off35 i v1 v2 v4 v6 v52 v53 v55 v57 v103 v104 v106 v108 v154 v155 v157 v159 v205 v206 v208 v210 v256 v257 v259 v261).2 a ≤ S2x512x512.size a) ∧
  (∀ (k0_h1 : k0_cond1 i = 1#1), ∀ (k0_h13 : k0_cond13 v256 v257 v259 v261 = 1#1), (⟨3, (k0_off35 i v1 v2 v4 v6 v52 v53 v55 v57 v103 v104 v106 v108 v154 v155 v157 v159 v205 v206 v208 v210 v256 v257 v259 v261).2⟩ : Shape).Squeezes ⟨2, k0_sz6 v256 v257 v259 v261⟩) ∧
  (∀ (k0_h1 : k0_cond1 i = 1#1), ∀ (k0_h13 : k0_cond13 v256 v257 v259 v261 = 1#1), ∀ a, (k0_off36 i v256 v257 v259 v261).2 a = 0 ∨ (k0_off36 i v256 v257 v259 v261).1 a + (k0_off36 i v256 v257 v259 v261).2 a ≤ S900x14336.size a) ∧
  (∀ (k0_h1 : k0_cond1 i = 1#1), ∀ (k0_h13 : k0_cond13 v256 v257 v259 v261 = 1#1), ∀ (hinb : ∀ a, (k0_off36 i v256 v257 v259 v261).2 a = 0 ∨ (k0_off36 i v256 v257 v259 v261).1 a + (k0_off36 i v256 v257 v259 v261).2 a ≤ S900x14336.size a), (Rect.unitDyn (s := S900x14336) (k0_off36 i v256 v257 v259 v261).1 (k0_off36 i v256 v257 v259 v261).2 hinb).WholeWords (EltTy.packing .bf16)) ∧
  (∀ (k0_h1 : k0_cond1 i = 1#1), ∀ (k0_h13 : k0_cond13 v256 v257 v259 v261 = 1#1), ∀ (hinb : ∀ a, (k0_off35 i v1 v2 v4 v6 v52 v53 v55 v57 v103 v104 v106 v108 v154 v155 v157 v159 v205 v206 v208 v210 v256 v257 v259 v261).2 a = 0 ∨ (k0_off35 i v1 v2 v4 v6 v52 v53 v55 v57 v103 v104 v106 v108 v154 v155 v157 v159 v205 v206 v208 v210 v256 v257 v259 v261).1 a + (k0_off35 i v1 v2 v4 v6 v52 v53 v55 v57 v103 v104 v106 v108 v154 v155 v157 v159 v205 v206 v208 v210 v256 v257 v259 v261).2 a ≤ S2x512x512.size a), (Rect.unitDyn (s := S2x512x512) (k0_off35 i v1 v2 v4 v6 v52 v53 v55 v57 v103 v104 v106 v108 v154 v155 v157 v159 v205 v206 v208 v210 v256 v257 v259 v261).1 (k0_off35 i v1 v2 v4 v6 v52 v53 v55 v57 v103 v104 v106 v108 v154 v155 v157 v159 v205 v206 v208 v210 v256 v257 v259 v261).2 hinb).WholeWords (EltTy.packing .bf16)) ∧
  (∀ (k0_h14 : k0_cond14 i = 1#1), ∀ (k0_h20 : k0_cond20 v256 v257 v259 v261 = 1#1), 8 ∣ (k0_mult63 v256 v257 v259 v261).toNat) ∧
  (∀ (k0_h14 : k0_cond14 i = 1#1), ∀ (k0_h20 : k0_cond20 v256 v257 v259 v261 = 1#1), 8 ∣ (k0_mult64 v259).toNat) ∧
  (∀ (k0_h14 : k0_cond14 i = 1#1), ∀ (k0_h20 : k0_cond20 v256 v257 v259 v261 = 1#1), 8 ∣ (k0_mult66 v1 v2 v4 v6 v52 v53 v55 v57 v103 v104 v106 v108 v154 v155 v157 v159 v205 v206 v208 v210).toNat) ∧
  (∀ (k0_h14 : k0_cond14 i = 1#1), ∀ (k0_h20 : k0_cond20 v256 v257 v259 v261 = 1#1), ∀ a, (k0_off53 i v1 v2 v4 v6 v52 v53 v55 v57 v103 v104 v106 v108 v154 v155 v157 v159 v205 v206 v208 v210 v256 v257 v259 v261).2 a = 0 ∨ (k0_off53 i v1 v2 v4 v6 v52 v53 v55 v57 v103 v104 v106 v108 v154 v155 v157 v159 v205 v206 v208 v210 v256 v257 v259 v261).1 a + (k0_off53 i v1 v2 v4 v6 v52 v53 v55 v57 v103 v104 v106 v108 v154 v155 v157 v159 v205 v206 v208 v210 v256 v257 v259 v261).2 a ≤ S2x512x512.size a) ∧
  (∀ (k0_h14 : k0_cond14 i = 1#1), ∀ (k0_h20 : k0_cond20 v256 v257 v259 v261 = 1#1), (⟨3, (k0_off53 i v1 v2 v4 v6 v52 v53 v55 v57 v103 v104 v106 v108 v154 v155 v157 v159 v205 v206 v208 v210 v256 v257 v259 v261).2⟩ : Shape).Squeezes ⟨2, k0_sz12 v256 v257 v259 v261⟩) ∧
  (∀ (k0_h14 : k0_cond14 i = 1#1), ∀ (k0_h20 : k0_cond20 v256 v257 v259 v261 = 1#1), ∀ a, (k0_off54 i v256 v257 v259 v261).2 a = 0 ∨ (k0_off54 i v256 v257 v259 v261).1 a + (k0_off54 i v256 v257 v259 v261).2 a ≤ S900x14336.size a) ∧
  (∀ (k0_h14 : k0_cond14 i = 1#1), ∀ (k0_h20 : k0_cond20 v256 v257 v259 v261 = 1#1), ∀ (hinb : ∀ a, (k0_off54 i v256 v257 v259 v261).2 a = 0 ∨ (k0_off54 i v256 v257 v259 v261).1 a + (k0_off54 i v256 v257 v259 v261).2 a ≤ S900x14336.size a), (Rect.unitDyn (s := S900x14336) (k0_off54 i v256 v257 v259 v261).1 (k0_off54 i v256 v257 v259 v261).2 hinb).WholeWords (EltTy.packing .bf16)) ∧
  (∀ (k0_h14 : k0_cond14 i = 1#1), ∀ (k0_h20 : k0_cond20 v256 v257 v259 v261 = 1#1), ∀ (hinb : ∀ a, (k0_off53 i v1 v2 v4 v6 v52 v53 v55 v57 v103 v104 v106 v108 v154 v155 v157 v159 v205 v206 v208 v210 v256 v257 v259 v261).2 a = 0 ∨ (k0_off53 i v1 v2 v4 v6 v52 v53 v55 v57 v103 v104 v106 v108 v154 v155 v157 v159 v205 v206 v208 v210 v256 v257 v259 v261).1 a + (k0_off53 i v1 v2 v4 v6 v52 v53 v55 v57 v103 v104 v106 v108 v154 v155 v157 v159 v205 v206 v208 v210 v256 v257 v259 v261).2 a ≤ S2x512x512.size a), (Rect.unitDyn (s := S2x512x512) (k0_off53 i v1 v2 v4 v6 v52 v53 v55 v57 v103 v104 v106 v108 v154 v155 v157 v159 v205 v206 v208 v210 v256 v257 v259 v261).1 (k0_off53 i v1 v2 v4 v6 v52 v53 v55 v57 v103 v104 v106 v108 v154 v155 v157 v159 v205 v206 v208 v210 v256 v257 v259 v261).2 hinb).WholeWords (EltTy.packing .bf16)) ∧
  (∀ (k0_h21 : k0_cond21 i = 1#1), ∀ (k0_h27 : k0_cond27 v256 v257 v259 v261 = 1#1), 8 ∣ (k0_mult82 v256 v257 v259 v261).toNat) ∧
  (∀ (k0_h21 : k0_cond21 i = 1#1), ∀ (k0_h27 : k0_cond27 v256 v257 v259 v261 = 1#1), 8 ∣ (k0_mult83 v259).toNat) ∧
  (∀ (k0_h21 : k0_cond21 i = 1#1), ∀ (k0_h27 : k0_cond27 v256 v257 v259 v261 = 1#1), 8 ∣ (k0_mult84 v1 v2 v4 v6 v52 v53 v55 v57 v103 v104 v106 v108 v154 v155 v157 v159 v205 v206 v208 v210).toNat) ∧
  (∀ (k0_h33 : k0_cond33 v256 v257 v259 v261 = 1#1), 8 ∣ (k0_mult105 v256 v257 v259 v261).toNat) ∧
  (∀ (k0_h33 : k0_cond33 v256 v257 v259 v261 = 1#1), 8 ∣ (k0_mult106 v259).toNat) ∧
  (∀ (k0_h33 : k0_cond33 v256 v257 v259 v261 = 1#1), 8 ∣ (k0_mult108 v1 v2 v4 v6 v52 v53 v55 v57 v103 v104 v106 v108 v154 v155 v157 v159 v205 v206 v208 v210).toNat) ∧
  (∀ (k0_h33 : k0_cond33 v256 v257 v259 v261 = 1#1), (⟨3, (k0_off89 i v1 v2 v4 v6 v52 v53 v55 v57 v103 v104 v106 v108 v154 v155 v157 v159 v205 v206 v208 v210 v256 v257 v259 v261).2⟩ : Shape).Squeezes ⟨2, k0_sz18 v256 v257 v259 v261⟩)
theorem k0_mult16_dvd : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) (v256 : BitVec 32) (v257 : BitVec 32) (v259 : BitVec 32) (v261 : BitVec 32) (k0_hw12 : k0_chk12 i v1 v2 v4 v6 v52 v53 v55 v57 v103 v104 v106 v108 v154 v155 v157 v159 v205 v206 v208 v210 v256 v257 v259 v261), ∀ (k0_h1 : k0_cond1 i = 1#1), ∀ (k0_h7 : k0_cond7 v256 v257 v259 v261 = 1#1), 8 ∣ (k0_mult16 v256 v257 v259 v261).toNat := fun i v1 v2 v4 v6 v52 v53 v55 v57 v103 v104 v106 v108 v154 v155 v157 v159 v205 v206 v208 v210 v256 v257 v259 v261 k0_hw12 k0_h1 k0_h7 => k0_hw12.1 k0_h1 k0_h7
theorem k0_mult17_dvd : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) (v256 : BitVec 32) (v257 : BitVec 32) (v259 : BitVec 32) (v261 : BitVec 32) (k0_hw12 : k0_chk12 i v1 v2 v4 v6 v52 v53 v55 v57 v103 v104 v106 v108 v154 v155 v157 v159 v205 v206 v208 v210 v256 v257 v259 v261), ∀ (k0_h1 : k0_cond1 i = 1#1), ∀ (k0_h7 : k0_cond7 v256 v257 v259 v261 = 1#1), 8 ∣ (k0_mult17 v259).toNat := fun i v1 v2 v4 v6 v52 v53 v55 v57 v103 v104 v106 v108 v154 v155 v157 v159 v205 v206 v208 v210 v256 v257 v259 v261 k0_hw12 k0_h1 k0_h7 => k0_hw12.2.1 k0_h1 k0_h7
theorem k0_mult18_dvd : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) (v256 : BitVec 32) (v257 : BitVec 32) (v259 : BitVec 32) (v261 : BitVec 32) (k0_hw12 : k0_chk12 i v1 v2 v4 v6 v52 v53 v55 v57 v103 v104 v106 v108 v154 v155 v157 v159 v205 v206 v208 v210 v256 v257 v259 v261), ∀ (k0_h1 : k0_cond1 i = 1#1), ∀ (k0_h7 : k0_cond7 v256 v257 v259 v261 = 1#1), 8 ∣ (k0_mult18 v1 v2 v4 v6 v52 v53 v55 v57 v103 v104 v106 v108 v154 v155 v157 v159 v205 v206 v208 v210).toNat := fun i v1 v2 v4 v6 v52 v53 v55 v57 v103 v104 v106 v108 v154 v155 v157 v159 v205 v206 v208 v210 v256 v257 v259 v261 k0_hw12 k0_h1 k0_h7 => k0_hw12.2.2.1 k0_h1 k0_h7
theorem k0_off17_inb : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) (v256 : BitVec 32) (v257 : BitVec 32) (v259 : BitVec 32) (v261 : BitVec 32) (k0_hw12 : k0_chk12 i v1 v2 v4 v6 v52 v53 v55 v57 v103 v104 v106 v108 v154 v155 v157 v159 v205 v206 v208 v210 v256 v257 v259 v261), ∀ (k0_h1 : k0_cond1 i = 1#1), ∀ (k0_h7 : k0_cond7 v256 v257 v259 v261 = 1#1), ∀ a, (k0_off17 v1 v2 v4 v6 v52 v53 v55 v57 v103 v104 v106 v108 v154 v155 v157 v159 v205 v206 v208 v210 v256 v257 v259 v261).2 a = 0 ∨ (k0_off17 v1 v2 v4 v6 v52 v53 v55 v57 v103 v104 v106 v108 v154 v155 v157 v159 v205 v206 v208 v210 v256 v257 v259 v261).1 a + (k0_off17 v1 v2 v4 v6 v52 v53 v55 v57 v103 v104 v106 v108 v154 v155 v157 v159 v205 v206 v208 v210 v256 v257 v259 v261).2 a ≤ S512x4096.size a := fun i v1 v2 v4 v6 v52 v53 v55 v57 v103 v104 v106 v108 v154 v155 v157 v159 v205 v206 v208 v210 v256 v257 v259 v261 k0_hw12 k0_h1 k0_h7 => k0_hw12.2.2.2.1 k0_h1 k0_h7
theorem k0_off18_inb : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) (v256 : BitVec 32) (v257 : BitVec 32) (v259 : BitVec 32) (v261 : BitVec 32) (k0_hw12 : k0_chk12 i v1 v2 v4 v6 v52 v53 v55 v57 v103 v104 v106 v108 v154 v155 v157 v159 v205 v206 v208 v210 v256 v257 v259 v261), ∀ (k0_h1 : k0_cond1 i = 1#1), ∀ (k0_h7 : k0_cond7 v256 v257 v259 v261 = 1#1), ∀ a, (k0_off18 v256 v257 v259 v261).2 a = 0 ∨ (k0_off18 v256 v257 v259 v261).1 a + (k0_off18 v256 v257 v259 v261).2 a ≤ S900x4096.size a := fun i v1 v2 v4 v6 v52 v53 v55 v57 v103 v104 v106 v108 v154 v155 v157 v159 v205 v206 v208 v210 v256 v257 v259 v261 k0_hw12 k0_h1 k0_h7 => k0_hw12.2.2.2.2.1 k0_h1 k0_h7
theorem k0_off18_wordsbf16 : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) (v256 : BitVec 32) (v257 : BitVec 32) (v259 : BitVec 32) (v261 : BitVec 32) (k0_hw12 : k0_chk12 i v1 v2 v4 v6 v52 v53 v55 v57 v103 v104 v106 v108 v154 v155 v157 v159 v205 v206 v208 v210 v256 v257 v259 v261), ∀ (k0_h1 : k0_cond1 i = 1#1), ∀ (k0_h7 : k0_cond7 v256 v257 v259 v261 = 1#1), (Rect.unitDyn (s := S900x4096) (k0_off18 v256 v257 v259 v261).1 (k0_off18 v256 v257 v259 v261).2 (k0_off18_inb i v1 v2 v4 v6 v52 v53 v55 v57 v103 v104 v106 v108 v154 v155 v157 v159 v205 v206 v208 v210 v256 v257 v259 v261 k0_hw12 k0_h1 k0_h7)).WholeWords (EltTy.packing .bf16) := fun i v1 v2 v4 v6 v52 v53 v55 v57 v103 v104 v106 v108 v154 v155 v157 v159 v205 v206 v208 v210 v256 v257 v259 v261 k0_hw12 k0_h1 k0_h7 => k0_hw12.2.2.2.2.2.1 k0_h1 k0_h7 (k0_off18_inb i v1 v2 v4 v6 v52 v53 v55 v57 v103 v104 v106 v108 v154 v155 v157 v159 v205 v206 v208 v210 v256 v257 v259 v261 k0_hw12 k0_h1 k0_h7)
theorem k0_off17_wordsbf16 : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) (v256 : BitVec 32) (v257 : BitVec 32) (v259 : BitVec 32) (v261 : BitVec 32) (k0_hw12 : k0_chk12 i v1 v2 v4 v6 v52 v53 v55 v57 v103 v104 v106 v108 v154 v155 v157 v159 v205 v206 v208 v210 v256 v257 v259 v261), ∀ (k0_h1 : k0_cond1 i = 1#1), ∀ (k0_h7 : k0_cond7 v256 v257 v259 v261 = 1#1), (Rect.unitDyn (s := S512x4096) (k0_off17 v1 v2 v4 v6 v52 v53 v55 v57 v103 v104 v106 v108 v154 v155 v157 v159 v205 v206 v208 v210 v256 v257 v259 v261).1 (k0_off17 v1 v2 v4 v6 v52 v53 v55 v57 v103 v104 v106 v108 v154 v155 v157 v159 v205 v206 v208 v210 v256 v257 v259 v261).2 (k0_off17_inb i v1 v2 v4 v6 v52 v53 v55 v57 v103 v104 v106 v108 v154 v155 v157 v159 v205 v206 v208 v210 v256 v257 v259 v261 k0_hw12 k0_h1 k0_h7)).WholeWords (EltTy.packing .bf16) := fun i v1 v2 v4 v6 v52 v53 v55 v57 v103 v104 v106 v108 v154 v155 v157 v159 v205 v206 v208 v210 v256 v257 v259 v261 k0_hw12 k0_h1 k0_h7 => k0_hw12.2.2.2.2.2.2.1 k0_h1 k0_h7 (k0_off17_inb i v1 v2 v4 v6 v52 v53 v55 v57 v103 v104 v106 v108 v154 v155 v157 v159 v205 v206 v208 v210 v256 v257 v259 v261 k0_hw12 k0_h1 k0_h7)
theorem k0_mult39_dvd : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) (v256 : BitVec 32) (v257 : BitVec 32) (v259 : BitVec 32) (v261 : BitVec 32) (k0_hw12 : k0_chk12 i v1 v2 v4 v6 v52 v53 v55 v57 v103 v104 v106 v108 v154 v155 v157 v159 v205 v206 v208 v210 v256 v257 v259 v261), ∀ (k0_h1 : k0_cond1 i = 1#1), ∀ (k0_h13 : k0_cond13 v256 v257 v259 v261 = 1#1), 8 ∣ (k0_mult39 v256 v257 v259 v261).toNat := fun i v1 v2 v4 v6 v52 v53 v55 v57 v103 v104 v106 v108 v154 v155 v157 v159 v205 v206 v208 v210 v256 v257 v259 v261 k0_hw12 k0_h1 k0_h13 => k0_hw12.2.2.2.2.2.2.2.1 k0_h1 k0_h13
theorem k0_mult40_dvd : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) (v256 : BitVec 32) (v257 : BitVec 32) (v259 : BitVec 32) (v261 : BitVec 32) (k0_hw12 : k0_chk12 i v1 v2 v4 v6 v52 v53 v55 v57 v103 v104 v106 v108 v154 v155 v157 v159 v205 v206 v208 v210 v256 v257 v259 v261), ∀ (k0_h1 : k0_cond1 i = 1#1), ∀ (k0_h13 : k0_cond13 v256 v257 v259 v261 = 1#1), 8 ∣ (k0_mult40 v259).toNat := fun i v1 v2 v4 v6 v52 v53 v55 v57 v103 v104 v106 v108 v154 v155 v157 v159 v205 v206 v208 v210 v256 v257 v259 v261 k0_hw12 k0_h1 k0_h13 => k0_hw12.2.2.2.2.2.2.2.2.1 k0_h1 k0_h13
theorem k0_mult42_dvd : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) (v256 : BitVec 32) (v257 : BitVec 32) (v259 : BitVec 32) (v261 : BitVec 32) (k0_hw12 : k0_chk12 i v1 v2 v4 v6 v52 v53 v55 v57 v103 v104 v106 v108 v154 v155 v157 v159 v205 v206 v208 v210 v256 v257 v259 v261), ∀ (k0_h1 : k0_cond1 i = 1#1), ∀ (k0_h13 : k0_cond13 v256 v257 v259 v261 = 1#1), 8 ∣ (k0_mult42 v1 v2 v4 v6 v52 v53 v55 v57 v103 v104 v106 v108 v154 v155 v157 v159 v205 v206 v208 v210).toNat := fun i v1 v2 v4 v6 v52 v53 v55 v57 v103 v104 v106 v108 v154 v155 v157 v159 v205 v206 v208 v210 v256 v257 v259 v261 k0_hw12 k0_h1 k0_h13 => k0_hw12.2.2.2.2.2.2.2.2.2.1 k0_h1 k0_h13
theorem k0_off35_inb : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) (v256 : BitVec 32) (v257 : BitVec 32) (v259 : BitVec 32) (v261 : BitVec 32) (k0_hw12 : k0_chk12 i v1 v2 v4 v6 v52 v53 v55 v57 v103 v104 v106 v108 v154 v155 v157 v159 v205 v206 v208 v210 v256 v257 v259 v261), ∀ (k0_h1 : k0_cond1 i = 1#1), ∀ (k0_h13 : k0_cond13 v256 v257 v259 v261 = 1#1), ∀ a, (k0_off35 i v1 v2 v4 v6 v52 v53 v55 v57 v103 v104 v106 v108 v154 v155 v157 v159 v205 v206 v208 v210 v256 v257 v259 v261).2 a = 0 ∨ (k0_off35 i v1 v2 v4 v6 v52 v53 v55 v57 v103 v104 v106 v108 v154 v155 v157 v159 v205 v206 v208 v210 v256 v257 v259 v261).1 a + (k0_off35 i v1 v2 v4 v6 v52 v53 v55 v57 v103 v104 v106 v108 v154 v155 v157 v159 v205 v206 v208 v210 v256 v257 v259 v261).2 a ≤ S2x512x512.size a := fun i v1 v2 v4 v6 v52 v53 v55 v57 v103 v104 v106 v108 v154 v155 v157 v159 v205 v206 v208 v210 v256 v257 v259 v261 k0_hw12 k0_h1 k0_h13 => k0_hw12.2.2.2.2.2.2.2.2.2.2.1 k0_h1 k0_h13
theorem k0_sz6_squeezes : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) (v256 : BitVec 32) (v257 : BitVec 32) (v259 : BitVec 32) (v261 : BitVec 32) (k0_hw12 : k0_chk12 i v1 v2 v4 v6 v52 v53 v55 v57 v103 v104 v106 v108 v154 v155 v157 v159 v205 v206 v208 v210 v256 v257 v259 v261), ∀ (k0_h1 : k0_cond1 i = 1#1), ∀ (k0_h13 : k0_cond13 v256 v257 v259 v261 = 1#1), (⟨3, (k0_off35 i v1 v2 v4 v6 v52 v53 v55 v57 v103 v104 v106 v108 v154 v155 v157 v159 v205 v206 v208 v210 v256 v257 v259 v261).2⟩ : Shape).Squeezes ⟨2, k0_sz6 v256 v257 v259 v261⟩ := fun i v1 v2 v4 v6 v52 v53 v55 v57 v103 v104 v106 v108 v154 v155 v157 v159 v205 v206 v208 v210 v256 v257 v259 v261 k0_hw12 k0_h1 k0_h13 => k0_hw12.2.2.2.2.2.2.2.2.2.2.2.1 k0_h1 k0_h13
theorem k0_off36_inb : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) (v256 : BitVec 32) (v257 : BitVec 32) (v259 : BitVec 32) (v261 : BitVec 32) (k0_hw12 : k0_chk12 i v1 v2 v4 v6 v52 v53 v55 v57 v103 v104 v106 v108 v154 v155 v157 v159 v205 v206 v208 v210 v256 v257 v259 v261), ∀ (k0_h1 : k0_cond1 i = 1#1), ∀ (k0_h13 : k0_cond13 v256 v257 v259 v261 = 1#1), ∀ a, (k0_off36 i v256 v257 v259 v261).2 a = 0 ∨ (k0_off36 i v256 v257 v259 v261).1 a + (k0_off36 i v256 v257 v259 v261).2 a ≤ S900x14336.size a := fun i v1 v2 v4 v6 v52 v53 v55 v57 v103 v104 v106 v108 v154 v155 v157 v159 v205 v206 v208 v210 v256 v257 v259 v261 k0_hw12 k0_h1 k0_h13 => k0_hw12.2.2.2.2.2.2.2.2.2.2.2.2.1 k0_h1 k0_h13
theorem k0_off36_wordsbf16 : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) (v256 : BitVec 32) (v257 : BitVec 32) (v259 : BitVec 32) (v261 : BitVec 32) (k0_hw12 : k0_chk12 i v1 v2 v4 v6 v52 v53 v55 v57 v103 v104 v106 v108 v154 v155 v157 v159 v205 v206 v208 v210 v256 v257 v259 v261), ∀ (k0_h1 : k0_cond1 i = 1#1), ∀ (k0_h13 : k0_cond13 v256 v257 v259 v261 = 1#1), (Rect.unitDyn (s := S900x14336) (k0_off36 i v256 v257 v259 v261).1 (k0_off36 i v256 v257 v259 v261).2 (k0_off36_inb i v1 v2 v4 v6 v52 v53 v55 v57 v103 v104 v106 v108 v154 v155 v157 v159 v205 v206 v208 v210 v256 v257 v259 v261 k0_hw12 k0_h1 k0_h13)).WholeWords (EltTy.packing .bf16) := fun i v1 v2 v4 v6 v52 v53 v55 v57 v103 v104 v106 v108 v154 v155 v157 v159 v205 v206 v208 v210 v256 v257 v259 v261 k0_hw12 k0_h1 k0_h13 => k0_hw12.2.2.2.2.2.2.2.2.2.2.2.2.2.1 k0_h1 k0_h13 (k0_off36_inb i v1 v2 v4 v6 v52 v53 v55 v57 v103 v104 v106 v108 v154 v155 v157 v159 v205 v206 v208 v210 v256 v257 v259 v261 k0_hw12 k0_h1 k0_h13)
theorem k0_off35_wordsbf16 : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) (v256 : BitVec 32) (v257 : BitVec 32) (v259 : BitVec 32) (v261 : BitVec 32) (k0_hw12 : k0_chk12 i v1 v2 v4 v6 v52 v53 v55 v57 v103 v104 v106 v108 v154 v155 v157 v159 v205 v206 v208 v210 v256 v257 v259 v261), ∀ (k0_h1 : k0_cond1 i = 1#1), ∀ (k0_h13 : k0_cond13 v256 v257 v259 v261 = 1#1), (Rect.unitDyn (s := S2x512x512) (k0_off35 i v1 v2 v4 v6 v52 v53 v55 v57 v103 v104 v106 v108 v154 v155 v157 v159 v205 v206 v208 v210 v256 v257 v259 v261).1 (k0_off35 i v1 v2 v4 v6 v52 v53 v55 v57 v103 v104 v106 v108 v154 v155 v157 v159 v205 v206 v208 v210 v256 v257 v259 v261).2 (k0_off35_inb i v1 v2 v4 v6 v52 v53 v55 v57 v103 v104 v106 v108 v154 v155 v157 v159 v205 v206 v208 v210 v256 v257 v259 v261 k0_hw12 k0_h1 k0_h13)).WholeWords (EltTy.packing .bf16) := fun i v1 v2 v4 v6 v52 v53 v55 v57 v103 v104 v106 v108 v154 v155 v157 v159 v205 v206 v208 v210 v256 v257 v259 v261 k0_hw12 k0_h1 k0_h13 => k0_hw12.2.2.2.2.2.2.2.2.2.2.2.2.2.2.1 k0_h1 k0_h13 (k0_off35_inb i v1 v2 v4 v6 v52 v53 v55 v57 v103 v104 v106 v108 v154 v155 v157 v159 v205 v206 v208 v210 v256 v257 v259 v261 k0_hw12 k0_h1 k0_h13)
theorem k0_mult63_dvd : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) (v256 : BitVec 32) (v257 : BitVec 32) (v259 : BitVec 32) (v261 : BitVec 32) (k0_hw12 : k0_chk12 i v1 v2 v4 v6 v52 v53 v55 v57 v103 v104 v106 v108 v154 v155 v157 v159 v205 v206 v208 v210 v256 v257 v259 v261), ∀ (k0_h14 : k0_cond14 i = 1#1), ∀ (k0_h20 : k0_cond20 v256 v257 v259 v261 = 1#1), 8 ∣ (k0_mult63 v256 v257 v259 v261).toNat := fun i v1 v2 v4 v6 v52 v53 v55 v57 v103 v104 v106 v108 v154 v155 v157 v159 v205 v206 v208 v210 v256 v257 v259 v261 k0_hw12 k0_h14 k0_h20 => k0_hw12.2.2.2.2.2.2.2.2.2.2.2.2.2.2.2.1 k0_h14 k0_h20
theorem k0_mult64_dvd : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) (v256 : BitVec 32) (v257 : BitVec 32) (v259 : BitVec 32) (v261 : BitVec 32) (k0_hw12 : k0_chk12 i v1 v2 v4 v6 v52 v53 v55 v57 v103 v104 v106 v108 v154 v155 v157 v159 v205 v206 v208 v210 v256 v257 v259 v261), ∀ (k0_h14 : k0_cond14 i = 1#1), ∀ (k0_h20 : k0_cond20 v256 v257 v259 v261 = 1#1), 8 ∣ (k0_mult64 v259).toNat := fun i v1 v2 v4 v6 v52 v53 v55 v57 v103 v104 v106 v108 v154 v155 v157 v159 v205 v206 v208 v210 v256 v257 v259 v261 k0_hw12 k0_h14 k0_h20 => k0_hw12.2.2.2.2.2.2.2.2.2.2.2.2.2.2.2.2.1 k0_h14 k0_h20
theorem k0_mult66_dvd : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) (v256 : BitVec 32) (v257 : BitVec 32) (v259 : BitVec 32) (v261 : BitVec 32) (k0_hw12 : k0_chk12 i v1 v2 v4 v6 v52 v53 v55 v57 v103 v104 v106 v108 v154 v155 v157 v159 v205 v206 v208 v210 v256 v257 v259 v261), ∀ (k0_h14 : k0_cond14 i = 1#1), ∀ (k0_h20 : k0_cond20 v256 v257 v259 v261 = 1#1), 8 ∣ (k0_mult66 v1 v2 v4 v6 v52 v53 v55 v57 v103 v104 v106 v108 v154 v155 v157 v159 v205 v206 v208 v210).toNat := fun i v1 v2 v4 v6 v52 v53 v55 v57 v103 v104 v106 v108 v154 v155 v157 v159 v205 v206 v208 v210 v256 v257 v259 v261 k0_hw12 k0_h14 k0_h20 => k0_hw12.2.2.2.2.2.2.2.2.2.2.2.2.2.2.2.2.2.1 k0_h14 k0_h20
theorem k0_off53_inb : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) (v256 : BitVec 32) (v257 : BitVec 32) (v259 : BitVec 32) (v261 : BitVec 32) (k0_hw12 : k0_chk12 i v1 v2 v4 v6 v52 v53 v55 v57 v103 v104 v106 v108 v154 v155 v157 v159 v205 v206 v208 v210 v256 v257 v259 v261), ∀ (k0_h14 : k0_cond14 i = 1#1), ∀ (k0_h20 : k0_cond20 v256 v257 v259 v261 = 1#1), ∀ a, (k0_off53 i v1 v2 v4 v6 v52 v53 v55 v57 v103 v104 v106 v108 v154 v155 v157 v159 v205 v206 v208 v210 v256 v257 v259 v261).2 a = 0 ∨ (k0_off53 i v1 v2 v4 v6 v52 v53 v55 v57 v103 v104 v106 v108 v154 v155 v157 v159 v205 v206 v208 v210 v256 v257 v259 v261).1 a + (k0_off53 i v1 v2 v4 v6 v52 v53 v55 v57 v103 v104 v106 v108 v154 v155 v157 v159 v205 v206 v208 v210 v256 v257 v259 v261).2 a ≤ S2x512x512.size a := fun i v1 v2 v4 v6 v52 v53 v55 v57 v103 v104 v106 v108 v154 v155 v157 v159 v205 v206 v208 v210 v256 v257 v259 v261 k0_hw12 k0_h14 k0_h20 => k0_hw12.2.2.2.2.2.2.2.2.2.2.2.2.2.2.2.2.2.2.1 k0_h14 k0_h20
theorem k0_sz12_squeezes : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) (v256 : BitVec 32) (v257 : BitVec 32) (v259 : BitVec 32) (v261 : BitVec 32) (k0_hw12 : k0_chk12 i v1 v2 v4 v6 v52 v53 v55 v57 v103 v104 v106 v108 v154 v155 v157 v159 v205 v206 v208 v210 v256 v257 v259 v261), ∀ (k0_h14 : k0_cond14 i = 1#1), ∀ (k0_h20 : k0_cond20 v256 v257 v259 v261 = 1#1), (⟨3, (k0_off53 i v1 v2 v4 v6 v52 v53 v55 v57 v103 v104 v106 v108 v154 v155 v157 v159 v205 v206 v208 v210 v256 v257 v259 v261).2⟩ : Shape).Squeezes ⟨2, k0_sz12 v256 v257 v259 v261⟩ := fun i v1 v2 v4 v6 v52 v53 v55 v57 v103 v104 v106 v108 v154 v155 v157 v159 v205 v206 v208 v210 v256 v257 v259 v261 k0_hw12 k0_h14 k0_h20 => k0_hw12.2.2.2.2.2.2.2.2.2.2.2.2.2.2.2.2.2.2.2.1 k0_h14 k0_h20
theorem k0_off54_inb : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) (v256 : BitVec 32) (v257 : BitVec 32) (v259 : BitVec 32) (v261 : BitVec 32) (k0_hw12 : k0_chk12 i v1 v2 v4 v6 v52 v53 v55 v57 v103 v104 v106 v108 v154 v155 v157 v159 v205 v206 v208 v210 v256 v257 v259 v261), ∀ (k0_h14 : k0_cond14 i = 1#1), ∀ (k0_h20 : k0_cond20 v256 v257 v259 v261 = 1#1), ∀ a, (k0_off54 i v256 v257 v259 v261).2 a = 0 ∨ (k0_off54 i v256 v257 v259 v261).1 a + (k0_off54 i v256 v257 v259 v261).2 a ≤ S900x14336.size a := fun i v1 v2 v4 v6 v52 v53 v55 v57 v103 v104 v106 v108 v154 v155 v157 v159 v205 v206 v208 v210 v256 v257 v259 v261 k0_hw12 k0_h14 k0_h20 => k0_hw12.2.2.2.2.2.2.2.2.2.2.2.2.2.2.2.2.2.2.2.2.1 k0_h14 k0_h20
theorem k0_off54_wordsbf16 : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) (v256 : BitVec 32) (v257 : BitVec 32) (v259 : BitVec 32) (v261 : BitVec 32) (k0_hw12 : k0_chk12 i v1 v2 v4 v6 v52 v53 v55 v57 v103 v104 v106 v108 v154 v155 v157 v159 v205 v206 v208 v210 v256 v257 v259 v261), ∀ (k0_h14 : k0_cond14 i = 1#1), ∀ (k0_h20 : k0_cond20 v256 v257 v259 v261 = 1#1), (Rect.unitDyn (s := S900x14336) (k0_off54 i v256 v257 v259 v261).1 (k0_off54 i v256 v257 v259 v261).2 (k0_off54_inb i v1 v2 v4 v6 v52 v53 v55 v57 v103 v104 v106 v108 v154 v155 v157 v159 v205 v206 v208 v210 v256 v257 v259 v261 k0_hw12 k0_h14 k0_h20)).WholeWords (EltTy.packing .bf16) := fun i v1 v2 v4 v6 v52 v53 v55 v57 v103 v104 v106 v108 v154 v155 v157 v159 v205 v206 v208 v210 v256 v257 v259 v261 k0_hw12 k0_h14 k0_h20 => k0_hw12.2.2.2.2.2.2.2.2.2.2.2.2.2.2.2.2.2.2.2.2.2.1 k0_h14 k0_h20 (k0_off54_inb i v1 v2 v4 v6 v52 v53 v55 v57 v103 v104 v106 v108 v154 v155 v157 v159 v205 v206 v208 v210 v256 v257 v259 v261 k0_hw12 k0_h14 k0_h20)
theorem k0_off53_wordsbf16 : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) (v256 : BitVec 32) (v257 : BitVec 32) (v259 : BitVec 32) (v261 : BitVec 32) (k0_hw12 : k0_chk12 i v1 v2 v4 v6 v52 v53 v55 v57 v103 v104 v106 v108 v154 v155 v157 v159 v205 v206 v208 v210 v256 v257 v259 v261), ∀ (k0_h14 : k0_cond14 i = 1#1), ∀ (k0_h20 : k0_cond20 v256 v257 v259 v261 = 1#1), (Rect.unitDyn (s := S2x512x512) (k0_off53 i v1 v2 v4 v6 v52 v53 v55 v57 v103 v104 v106 v108 v154 v155 v157 v159 v205 v206 v208 v210 v256 v257 v259 v261).1 (k0_off53 i v1 v2 v4 v6 v52 v53 v55 v57 v103 v104 v106 v108 v154 v155 v157 v159 v205 v206 v208 v210 v256 v257 v259 v261).2 (k0_off53_inb i v1 v2 v4 v6 v52 v53 v55 v57 v103 v104 v106 v108 v154 v155 v157 v159 v205 v206 v208 v210 v256 v257 v259 v261 k0_hw12 k0_h14 k0_h20)).WholeWords (EltTy.packing .bf16) := fun i v1 v2 v4 v6 v52 v53 v55 v57 v103 v104 v106 v108 v154 v155 v157 v159 v205 v206 v208 v210 v256 v257 v259 v261 k0_hw12 k0_h14 k0_h20 => k0_hw12.2.2.2.2.2.2.2.2.2.2.2.2.2.2.2.2.2.2.2.2.2.2.1 k0_h14 k0_h20 (k0_off53_inb i v1 v2 v4 v6 v52 v53 v55 v57 v103 v104 v106 v108 v154 v155 v157 v159 v205 v206 v208 v210 v256 v257 v259 v261 k0_hw12 k0_h14 k0_h20)
theorem k0_mult82_dvd : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) (v256 : BitVec 32) (v257 : BitVec 32) (v259 : BitVec 32) (v261 : BitVec 32) (k0_hw12 : k0_chk12 i v1 v2 v4 v6 v52 v53 v55 v57 v103 v104 v106 v108 v154 v155 v157 v159 v205 v206 v208 v210 v256 v257 v259 v261), ∀ (k0_h21 : k0_cond21 i = 1#1), ∀ (k0_h27 : k0_cond27 v256 v257 v259 v261 = 1#1), 8 ∣ (k0_mult82 v256 v257 v259 v261).toNat := fun i v1 v2 v4 v6 v52 v53 v55 v57 v103 v104 v106 v108 v154 v155 v157 v159 v205 v206 v208 v210 v256 v257 v259 v261 k0_hw12 k0_h21 k0_h27 => k0_hw12.2.2.2.2.2.2.2.2.2.2.2.2.2.2.2.2.2.2.2.2.2.2.2.1 k0_h21 k0_h27
theorem k0_mult83_dvd : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) (v256 : BitVec 32) (v257 : BitVec 32) (v259 : BitVec 32) (v261 : BitVec 32) (k0_hw12 : k0_chk12 i v1 v2 v4 v6 v52 v53 v55 v57 v103 v104 v106 v108 v154 v155 v157 v159 v205 v206 v208 v210 v256 v257 v259 v261), ∀ (k0_h21 : k0_cond21 i = 1#1), ∀ (k0_h27 : k0_cond27 v256 v257 v259 v261 = 1#1), 8 ∣ (k0_mult83 v259).toNat := fun i v1 v2 v4 v6 v52 v53 v55 v57 v103 v104 v106 v108 v154 v155 v157 v159 v205 v206 v208 v210 v256 v257 v259 v261 k0_hw12 k0_h21 k0_h27 => k0_hw12.2.2.2.2.2.2.2.2.2.2.2.2.2.2.2.2.2.2.2.2.2.2.2.2.1 k0_h21 k0_h27
theorem k0_mult84_dvd : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) (v256 : BitVec 32) (v257 : BitVec 32) (v259 : BitVec 32) (v261 : BitVec 32) (k0_hw12 : k0_chk12 i v1 v2 v4 v6 v52 v53 v55 v57 v103 v104 v106 v108 v154 v155 v157 v159 v205 v206 v208 v210 v256 v257 v259 v261), ∀ (k0_h21 : k0_cond21 i = 1#1), ∀ (k0_h27 : k0_cond27 v256 v257 v259 v261 = 1#1), 8 ∣ (k0_mult84 v1 v2 v4 v6 v52 v53 v55 v57 v103 v104 v106 v108 v154 v155 v157 v159 v205 v206 v208 v210).toNat := fun i v1 v2 v4 v6 v52 v53 v55 v57 v103 v104 v106 v108 v154 v155 v157 v159 v205 v206 v208 v210 v256 v257 v259 v261 k0_hw12 k0_h21 k0_h27 => k0_hw12.2.2.2.2.2.2.2.2.2.2.2.2.2.2.2.2.2.2.2.2.2.2.2.2.2.1 k0_h21 k0_h27
theorem k0_mult105_dvd : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) (v256 : BitVec 32) (v257 : BitVec 32) (v259 : BitVec 32) (v261 : BitVec 32) (k0_hw12 : k0_chk12 i v1 v2 v4 v6 v52 v53 v55 v57 v103 v104 v106 v108 v154 v155 v157 v159 v205 v206 v208 v210 v256 v257 v259 v261), ∀ (k0_h33 : k0_cond33 v256 v257 v259 v261 = 1#1), 8 ∣ (k0_mult105 v256 v257 v259 v261).toNat := fun i v1 v2 v4 v6 v52 v53 v55 v57 v103 v104 v106 v108 v154 v155 v157 v159 v205 v206 v208 v210 v256 v257 v259 v261 k0_hw12 k0_h33 => k0_hw12.2.2.2.2.2.2.2.2.2.2.2.2.2.2.2.2.2.2.2.2.2.2.2.2.2.2.1 k0_h33
theorem k0_mult106_dvd : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) (v256 : BitVec 32) (v257 : BitVec 32) (v259 : BitVec 32) (v261 : BitVec 32) (k0_hw12 : k0_chk12 i v1 v2 v4 v6 v52 v53 v55 v57 v103 v104 v106 v108 v154 v155 v157 v159 v205 v206 v208 v210 v256 v257 v259 v261), ∀ (k0_h33 : k0_cond33 v256 v257 v259 v261 = 1#1), 8 ∣ (k0_mult106 v259).toNat := fun i v1 v2 v4 v6 v52 v53 v55 v57 v103 v104 v106 v108 v154 v155 v157 v159 v205 v206 v208 v210 v256 v257 v259 v261 k0_hw12 k0_h33 => k0_hw12.2.2.2.2.2.2.2.2.2.2.2.2.2.2.2.2.2.2.2.2.2.2.2.2.2.2.2.1 k0_h33
theorem k0_mult108_dvd : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) (v256 : BitVec 32) (v257 : BitVec 32) (v259 : BitVec 32) (v261 : BitVec 32) (k0_hw12 : k0_chk12 i v1 v2 v4 v6 v52 v53 v55 v57 v103 v104 v106 v108 v154 v155 v157 v159 v205 v206 v208 v210 v256 v257 v259 v261), ∀ (k0_h33 : k0_cond33 v256 v257 v259 v261 = 1#1), 8 ∣ (k0_mult108 v1 v2 v4 v6 v52 v53 v55 v57 v103 v104 v106 v108 v154 v155 v157 v159 v205 v206 v208 v210).toNat := fun i v1 v2 v4 v6 v52 v53 v55 v57 v103 v104 v106 v108 v154 v155 v157 v159 v205 v206 v208 v210 v256 v257 v259 v261 k0_hw12 k0_h33 => k0_hw12.2.2.2.2.2.2.2.2.2.2.2.2.2.2.2.2.2.2.2.2.2.2.2.2.2.2.2.2.1 k0_h33
theorem k0_sz18_squeezes : ∀ (i : grid0.Coords) (v1 : BitVec 32) (v2 : BitVec 32) (v4 : BitVec 32) (v6 : BitVec 32) (v52 : BitVec 32) (v53 : BitVec 32) (v55 : BitVec 32) (v57 : BitVec 32) (v103 : BitVec 32) (v104 : BitVec 32) (v106 : BitVec 32) (v108 : BitVec 32) (v154 : BitVec 32) (v155 : BitVec 32) (v157 : BitVec 32) (v159 : BitVec 32) (v205 : BitVec 32) (v206 : BitVec 32) (v208 : BitVec 32) (v210 : BitVec 32) (v256 : BitVec 32) (v257 : BitVec 32) (v259 : BitVec 32) (v261 : BitVec 32) (k0_hw12 : k0_chk12 i v1 v2 v4 v6 v52 v53 v55 v57 v103 v104 v106 v108 v154 v155 v157 v159 v205 v206 v208 v210 v256 v257 v259 v261), ∀ (k0_h33 : k0_cond33 v256 v257 v259 v261 = 1#1), (⟨3, (k0_off89 i v1 v2 v4 v6 v52 v53 v55 v57 v103 v104 v106 v108 v154 v155 v157 v159 v205 v206 v208 v210 v256 v257 v259 v261).2⟩ : Shape).Squeezes ⟨2, k0_sz18 v256 v257 v259 v261⟩ := fun i v1 v2 v4 v6 v52 v53 v55 v57 v103 v104 v106 v108 v154 v155 v157 v159 v205 v206 v208 v210 v256 v257 v259 v261 k0_hw12 k0_h33 => k0_hw12.2.2.2.2.2.2.2.2.2.2.2.2.2.2.2.2.2.2.2.2.2.2.2.2.2.2.2.2.2 k0_h33

def k0_off90 (i : grid0.Coords) (v256 : BitVec 32) (v257 : BitVec 32) (v259 : BitVec 32) (v261 : BitVec 32) : (Fin 2 → Nat) × (Fin 2 → Nat) :=
  let c0_i32_106 : BitVec 32 := 0#32
  let v263 : BitVec 1 := Scalar.cmpi .sgt v259 c0_i32_106
  let v264 : BitVec 32 := Scalar.extui v263
  let c0_i32_107 : BitVec 32 := 0#32
  let v265 : BitVec 1 := Scalar.cmpi .slt v259 c0_i32_107
  let v266 : BitVec 32 := Scalar.extui v265
  let v267 : BitVec 32 := Scalar.subi v264 v266
  let c8_i32_105 : BitVec 32 := 8#32
  let c0_i32_108 : BitVec 32 := 0#32
  let v268 : BitVec 1 := Scalar.cmpi .sgt c8_i32_105 c0_i32_108
  let v269 : BitVec 32 := Scalar.extui v268
  let c0_i32_109 : BitVec 32 := 0#32
  let v270 : BitVec 1 := Scalar.cmpi .slt c8_i32_105 c0_i32_109
  let v271 : BitVec 32 := Scalar.extui v270
  let v272 : BitVec 32 := Scalar.subi v269 v271
  let v273 : BitVec 1 := Scalar.cmpi .ne v267 v272
  let v274 : BitVec 32 := Scalar.remsi v259 c8_i32_105
  let c0_i32_110 : BitVec 32 := 0#32
  let v275 : BitVec 1 := Scalar.cmpi .ne v274 c0_i32_110
  let v276 : BitVec 1 := Scalar.andi v273 v275
  let v262 : BitVec 32 := Scalar.divsi v259 c8_i32_105
  let c1_i32_111 : BitVec 32 := 1#32
  let v277 : BitVec 32 := Scalar.subi v262 c1_i32_111
  let v278 : BitVec 32 := Scalar.select v276 v277 v262
  let c8_i32_177 : BitVec 32 := 8#32
  let v409 : BitVec 32 := Scalar.muli v278 c8_i32_177
  let v410 : BitVec 32 := v409
  let arg0 : BitVec 32 := BitVec.ofNat 32 (i 0).val
  let c512_i32 : BitVec 32 := 512#32
  let v411 : BitVec 32 := Scalar.muli arg0 c512_i32
  let v412 : BitVec 32 := v411
  let v281 : BitVec 1 := Scalar.cmpi .sgt v257 v256
  let c8_i32_112 : BitVec 32 := 8#32
  let v279 : BitVec 32 := Scalar.muli v278 c8_i32_112
  let v280 : BitVec 32 := Scalar.subi v259 v279
  let v282 : BitVec 32 := Scalar.addi v280 v261
  let c8_i32_113 : BitVec 32 := 8#32
  let v283 : BitVec 32 := Scalar.addi v282 c8_i32_113
  let c1_i32_114 : BitVec 32 := 1#32
  let v284 : BitVec 32 := Scalar.subi v283 c1_i32_114
  let c0_i32_116 : BitVec 32 := 0#32
  let v286 : BitVec 1 := Scalar.cmpi .sgt v284 c0_i32_116
  let v287 : BitVec 32 := Scalar.extui v286
  let c0_i32_117 : BitVec 32 := 0#32
  let v288 : BitVec 1 := Scalar.cmpi .slt v284 c0_i32_117
  let v289 : BitVec 32 := Scalar.extui v288
  let v290 : BitVec 32 := Scalar.subi v287 v289
  let c8_i32_115 : BitVec 32 := 8#32
  let c0_i32_118 : BitVec 32 := 0#32
  let v291 : BitVec 1 := Scalar.cmpi .sgt c8_i32_115 c0_i32_118
  let v292 : BitVec 32 := Scalar.extui v291
  let c0_i32_119 : BitVec 32 := 0#32
  let v293 : BitVec 1 := Scalar.cmpi .slt c8_i32_115 c0_i32_119
  let v294 : BitVec 32 := Scalar.extui v293
  let v295 : BitVec 32 := Scalar.subi v292 v294
  let v296 : BitVec 1 := Scalar.cmpi .ne v290 v295
  let v297 : BitVec 32 := Scalar.remsi v284 c8_i32_115
  let c0_i32_120 : BitVec 32 := 0#32
  let v298 : BitVec 1 := Scalar.cmpi .ne v297 c0_i32_120
  let v299 : BitVec 1 := Scalar.andi v296 v298
  let v285 : BitVec 32 := Scalar.divsi v284 c8_i32_115
  let c1_i32_121 : BitVec 32 := 1#32
  let v300 : BitVec 32 := Scalar.subi v285 c1_i32_121
  let v301 : BitVec 32 := Scalar.select v299 v300 v285
  let c0_i32_122 : BitVec 32 := 0#32
  let v302 : BitVec 32 := Scalar.select v281 v301 c0_i32_122
  let c8_i32_176 : BitVec 32 := 8#32
  let v407 : BitVec 32 := Scalar.muli v302 c8_i32_176
  let v408 : BitVec 32 := v407
  ⟨![v410.toNat, v412.toNat], ![v408.toNat, 512]⟩

def k0_off91 (i : grid0.Coords) : Fin 3 → Nat :=
  let arg0 : BitVec 32 := BitVec.ofNat 32 (i 0).val
  let c2_i32_169 : BitVec 32 := 2#32
  let v398 : BitVec 32 := Scalar.remsi arg0 c2_i32_169
  let v399 : Index := Scalar.indexCast v398
  let c0_170 : Index := 0#32
  let c0_171 : Index := 0#32
  ![v399.toNat, 0, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S11 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S1x128x4096 : Shape := ⟨3, ![1, 128, 4096]⟩
abbrev S512x14336 : Shape := ⟨2, ![512, 14336]⟩
abbrev S128x14336 : Shape := ⟨2, ![128, 14336]⟩
abbrev S900x4096 : Shape := ⟨2, ![900, 4096]⟩
abbrev S900x14336 : Shape := ⟨2, ![900, 14336]⟩
abbrev S11 : Shape := ⟨1, ![11]⟩
abbrev S7 : Shape := ⟨1, ![7]⟩
abbrev S6 : Shape := ⟨1, ![6]⟩
abbrev S128x4096 : Shape := ⟨2, ![128, 4096]⟩
abbrev S_ : Shape := ⟨0, ![]⟩
abbrev S512x1x14336 : Shape := ⟨3, ![512, 1, 14336]⟩
abbrev S8 : Shape := ⟨1, ![8]⟩
abbrev S1x8x1 : Shape := ⟨3, ![1, 8, 1]⟩
abbrev S512x8x14336 : Shape := ⟨3, ![512, 8, 14336]⟩
abbrev S4096x14336 : Shape := ⟨2, ![4096, 14336]⟩
abbrev S128x32x14336 : Shape := ⟨3, ![128, 32, 14336]⟩
abbrev S6x1 : Shape := ⟨2, ![6, 1]⟩
abbrev S64 : Shape := ⟨1, ![64]⟩
abbrev S1x64 : Shape := ⟨2, ![1, 64]⟩
abbrev S6x64 : Shape := ⟨2, ![6, 64]⟩
abbrev S6x64x1 : Shape := ⟨3, ![6, 64, 1]⟩
abbrev S6x64x4096 : Shape := ⟨3, ![6, 64, 4096]⟩
abbrev S6x64x14336 : Shape := ⟨3, ![6, 64, 14336]⟩
abbrev S128 : Shape := ⟨1, ![128]⟩
abbrev S128x1 : Shape := ⟨2, ![128, 1]⟩
abbrev S1x6 : Shape := ⟨2, ![1, 6]⟩
abbrev S128x6 : Shape := ⟨2, ![128, 6]⟩
abbrev S128x6x1 : Shape := ⟨3, ![128, 6, 1]⟩
abbrev S1x6x64 : Shape := ⟨3, ![1, 6, 64]⟩
abbrev S128x6x64 : Shape := ⟨3, ![128, 6, 64]⟩
abbrev S1x6x1 : Shape := ⟨3, ![1, 6, 1]⟩
abbrev S128x64 : Shape := ⟨2, ![128, 64]⟩
abbrev S128x1x64 : Shape := ⟨3, ![128, 1, 64]⟩

abbrev nBuf : Space → Nat
  | .hbm => 228
  | .vmem => 0
  | .smem => 0
  | _ => 0

abbrev hbmTy0_0 (i : Nat) : BufTy := match i % 128 with
  | 0 => ⟨S1x128x4096, .bf16⟩
  | 1 => ⟨S512x14336, .i32⟩
  | 2 => ⟨S128x14336, .i8⟩
  | 3 => ⟨S900x4096, .bf16⟩
  | 4 => ⟨S900x14336, .bf16⟩
  | 5 => ⟨S11, .i32⟩
  | 6 => ⟨S11, .i32⟩
  | 7 => ⟨S11, .f32⟩
  | 8 => ⟨S7, .i32⟩
  | 9 => ⟨S6, .i32⟩
  | 10 => ⟨S128x4096, .bf16⟩
  | 11 => ⟨S128x14336, .i32⟩
  | 12 => ⟨S_, .i32⟩
  | 13 => ⟨S128x14336, .i32⟩
  | 14 => ⟨S128x14336, .i32⟩
  | 15 => ⟨S128x14336, .f32⟩
  | 16 => ⟨S_, .f32⟩
  | 17 => ⟨S128x14336, .f32⟩
  | 18 => ⟨S128x14336, .f32⟩
  | 19 => ⟨S128x14336, .bf16⟩
  | 20 => ⟨S512x1x14336, .i32⟩
  | 21 => ⟨S8, .i32⟩
  | 22 => ⟨S_, .i32⟩
  | 23 => ⟨S8, .i32⟩
  | 24 => ⟨S8, .i32⟩
  | 25 => ⟨S1x8x1, .i32⟩
  | 26 => ⟨S512x8x14336, .i32⟩
  | 27 => ⟨S512x8x14336, .i32⟩
  | 28 => ⟨S512x8x14336, .i32⟩
  | 29 => ⟨S_, .i32⟩
  | 30 => ⟨S512x8x14336, .i32⟩
  | 31 => ⟨S512x8x14336, .i32⟩
  | 32 => ⟨S4096x14336, .i32⟩
  | 33 => ⟨S_, .i32⟩
  | 34 => ⟨S4096x14336, .i32⟩
  | 35 => ⟨S4096x14336, .i32⟩
  | 36 => ⟨S_, .i32⟩
  | 37 => ⟨S4096x14336, .i32⟩
  | 38 => ⟨S4096x14336, .i1⟩
  | 39 => ⟨S_, .i32⟩
  | 40 => ⟨S4096x14336, .i32⟩
  | 41 => ⟨S4096x14336, .i32⟩
  | 42 => ⟨S_, .i32⟩
  | 43 => ⟨S4096x14336, .i32⟩
  | 44 => ⟨S4096x14336, .i1⟩
  | 45 => ⟨S_, .i32⟩
  | 46 => ⟨S4096x14336, .i32⟩
  | 47 => ⟨S4096x14336, .i32⟩
  | 48 => ⟨S_, .i32⟩
  | 49 => ⟨S4096x14336, .i32⟩
  | 50 => ⟨S4096x14336, .i1⟩
  | 51 => ⟨S_, .bf16⟩
  | 52 => ⟨S_, .bf16⟩
  | 53 => ⟨S4096x14336, .bf16⟩
  | 54 => ⟨S4096x14336, .bf16⟩
  | 55 => ⟨S4096x14336, .bf16⟩
  | 56 => ⟨S_, .i32⟩
  | 57 => ⟨S4096x14336, .i32⟩
  | 58 => ⟨S4096x14336, .i32⟩
  | 59 => ⟨S_, .i32⟩
  | 60 => ⟨S4096x14336, .i32⟩
  | 61 => ⟨S4096x14336, .i1⟩
  | 62 => ⟨S_, .bf16⟩
  | 63 => ⟨S_, .bf16⟩
  | 64 => ⟨S4096x14336, .bf16⟩
  | 65 => ⟨S4096x14336, .bf16⟩
  | 66 => ⟨S4096x14336, .bf16⟩
  | 67 => ⟨S4096x14336, .bf16⟩
  | 68 => ⟨S_, .i32⟩
  | 69 => ⟨S4096x14336, .i32⟩
  | 70 => ⟨S4096x14336, .i32⟩
  | 71 => ⟨S_, .i32⟩
  | 72 => ⟨S4096x14336, .i32⟩
  | 73 => ⟨S4096x14336, .i1⟩
  | 74 => ⟨S_, .i32⟩
  | 75 => ⟨S4096x14336, .i32⟩
  | 76 => ⟨S4096x14336, .i32⟩
  | 77 => ⟨S_, .i32⟩
  | 78 => ⟨S4096x14336, .i32⟩
  | 79 => ⟨S4096x14336, .i1⟩
  | 80 => ⟨S_, .bf16⟩
  | 81 => ⟨S_, .bf16⟩
  | 82 => ⟨S4096x14336, .bf16⟩
  | 83 => ⟨S4096x14336, .bf16⟩
  | 84 => ⟨S4096x14336, .bf16⟩
  | 85 => ⟨S_, .i32⟩
  | 86 => ⟨S4096x14336, .i32⟩
  | 87 => ⟨S4096x14336, .i32⟩
  | 88 => ⟨S_, .i32⟩
  | 89 => ⟨S4096x14336, .i32⟩
  | 90 => ⟨S4096x14336, .i1⟩
  | 91 => ⟨S_, .bf16⟩
  | 92 => ⟨S_, .bf16⟩
  | 93 => ⟨S4096x14336, .bf16⟩
  | 94 => ⟨S4096x14336, .bf16⟩
  | 95 => ⟨S4096x14336, .bf16⟩
  | 96 => ⟨S4096x14336, .bf16⟩
  | 97 => ⟨S4096x14336, .bf16⟩
  | 98 => ⟨S_, .i32⟩
  | 99 => ⟨S4096x14336, .i32⟩
  | 100 => ⟨S4096x14336, .i32⟩
  | 101 => ⟨S_, .i32⟩
  | 102 => ⟨S4096x14336, .i32⟩
  | 103 => ⟨S4096x14336, .i1⟩
  | 104 => ⟨S4096x14336, .bf16⟩
  | 105 => ⟨S4096x14336, .bf16⟩
  | 106 => ⟨S128x32x14336, .bf16⟩
  | 107 => ⟨S4096x14336, .bf16⟩
  | 108 => ⟨S4096x14336, .bf16⟩
  | 109 => ⟨S128x14336, .f32⟩
  | 110 => ⟨S_, .i32⟩
  | 111 => ⟨S6, .i32⟩
  | 112 => ⟨S6, .i1⟩
  | 113 => ⟨S_, .i32⟩
  | 114 => ⟨S6, .i32⟩
  | 115 => ⟨S6, .i32⟩
  | 116 => ⟨S6, .i32⟩
  | 117 => ⟨S6x1, .i32⟩
  | 118 => ⟨S6, .i32⟩
  | 119 => ⟨S6x1, .i32⟩
  | 120 => ⟨S64, .i32⟩
  | 121 => ⟨S1x64, .i32⟩
  | 122 => ⟨S6x64, .i32⟩
  | 123 => ⟨S6x64, .i32⟩
  | 124 => ⟨S6x64, .i32⟩
  | 125 => ⟨S_, .i32⟩
  | 126 => ⟨S6x64, .i32⟩
  | 127 => ⟨S6x64, .i1⟩
  | _ => ⟨S1x128x4096, .bf16⟩

abbrev hbmTy0_1 (i : Nat) : BufTy := match i % 128 with
  | 0 => ⟨S_, .i32⟩
  | 1 => ⟨S6x64, .i32⟩
  | 2 => ⟨S6x64, .i32⟩
  | 3 => ⟨S6x64, .i32⟩
  | 4 => ⟨S6x64x1, .i32⟩
  | 5 => ⟨S6x64x4096, .bf16⟩
  | 6 => ⟨S_, .i32⟩
  | 7 => ⟨S6x64, .i32⟩
  | 8 => ⟨S6x64, .i1⟩
  | 9 => ⟨S_, .i32⟩
  | 10 => ⟨S6x64, .i32⟩
  | 11 => ⟨S6x64, .i32⟩
  | 12 => ⟨S6x64, .i32⟩
  | 13 => ⟨S6x64x1, .i32⟩
  | 14 => ⟨S6x64x14336, .bf16⟩
  | 15 => ⟨S128, .i32⟩
  | 16 => ⟨S128x1, .i32⟩
  | 17 => ⟨S6, .i32⟩
  | 18 => ⟨S1x6, .i32⟩
  | 19 => ⟨S128x6, .i32⟩
  | 20 => ⟨S128x6, .i32⟩
  | 21 => ⟨S128x6, .i1⟩
  | 22 => ⟨S6, .i32⟩
  | 23 => ⟨S1x6, .i32⟩
  | 24 => ⟨S128x6, .i32⟩
  | 25 => ⟨S128x6, .i32⟩
  | 26 => ⟨S128x6, .i1⟩
  | 27 => ⟨S128x6, .i1⟩
  | 28 => ⟨S64, .i32⟩
  | 29 => ⟨S1x64, .i32⟩
  | 30 => ⟨S_, .i32⟩
  | 31 => ⟨S6, .i32⟩
  | 32 => ⟨S6, .i1⟩
  | 33 => ⟨S_, .i32⟩
  | 34 => ⟨S6, .i32⟩
  | 35 => ⟨S6, .i32⟩
  | 36 => ⟨S6, .i32⟩
  | 37 => ⟨S6x1, .i32⟩
  | 38 => ⟨S6, .i32⟩
  | 39 => ⟨S6x1, .i32⟩
  | 40 => ⟨S6x64, .i32⟩
  | 41 => ⟨S6x64, .i32⟩
  | 42 => ⟨S6x64, .i1⟩
  | 43 => ⟨S128x6x1, .i1⟩
  | 44 => ⟨S1x6x64, .i1⟩
  | 45 => ⟨S128x6x64, .i1⟩
  | 46 => ⟨S128x6x64, .i1⟩
  | 47 => ⟨S128x6x64, .i1⟩
  | 48 => ⟨S128x6x64, .f32⟩
  | 49 => ⟨S_, .i32⟩
  | 50 => ⟨S6, .i32⟩
  | 51 => ⟨S6, .i1⟩
  | 52 => ⟨S_, .i32⟩
  | 53 => ⟨S6, .i32⟩
  | 54 => ⟨S6, .i32⟩
  | 55 => ⟨S6, .i32⟩
  | 56 => ⟨S6x1, .i32⟩
  | 57 => ⟨S6, .f32⟩
  | 58 => ⟨S1x6x1, .f32⟩
  | 59 => ⟨S128x6x64, .f32⟩
  | 60 => ⟨S128x6x64, .f32⟩
  | 61 => ⟨S128x6x64, .bf16⟩
  | 62 => ⟨S_, .bf16⟩
  | 63 => ⟨S128x6x64, .bf16⟩
  | 64 => ⟨S128x6x64, .bf16⟩
  | 65 => ⟨S128x14336, .f32⟩
  | 66 => ⟨S_, .bf16⟩
  | 67 => ⟨S128x64, .bf16⟩
  | 68 => ⟨S128x1x64, .i1⟩
  | 69 => ⟨S128x64, .i1⟩
  | 70 => ⟨S128x1x64, .bf16⟩
  | 71 => ⟨S128x64, .bf16⟩
  | 72 => ⟨S128x64, .bf16⟩
  | 73 => ⟨S128x1x64, .i1⟩
  | 74 => ⟨S128x64, .i1⟩
  | 75 => ⟨S128x1x64, .bf16⟩
  | 76 => ⟨S128x64, .bf16⟩
  | 77 => ⟨S128x64, .bf16⟩
  | 78 => ⟨S128x1x64, .i1⟩
  | 79 => ⟨S128x64, .i1⟩
  | 80 => ⟨S128x1x64, .bf16⟩
  | 81 => ⟨S128x64, .bf16⟩
  | 82 => ⟨S128x64, .bf16⟩
  | 83 => ⟨S128x1x64, .i1⟩
  | 84 => ⟨S128x64, .i1⟩
  | 85 => ⟨S128x1x64, .bf16⟩
  | 86 => ⟨S128x64, .bf16⟩
  | 87 => ⟨S128x64, .bf16⟩
  | 88 => ⟨S128x1x64, .i1⟩
  | 89 => ⟨S128x64, .i1⟩
  | 90 => ⟨S128x1x64, .bf16⟩
  | 91 => ⟨S128x64, .bf16⟩
  | 92 => ⟨S128x64, .bf16⟩
  | 93 => ⟨S128x1x64, .i1⟩
  | 94 => ⟨S128x64, .i1⟩
  | 95 => ⟨S128x1x64, .bf16⟩
  | 96 => ⟨S128x64, .bf16⟩
  | 97 => ⟨S128x64, .bf16⟩
  | 98 => ⟨S128x14336, .f32⟩
  | 99 => ⟨S128x14336, .bf16⟩
  | _ => ⟨S1x128x4096, .bf16⟩

abbrev hbmTy (i : Nat) : BufTy := match i / 128 with
  | 0 => hbmTy0_0 i
  | 1 => hbmTy0_1 i
  | _ => ⟨S1x128x4096, .bf16⟩

abbrev bufTy : (tb : Table) → Fin (tcTables nBuf tb) → BufTy
  | .hbm, ⟨i, _⟩ => hbmTy i
  | _, _ => ⟨S1x128x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_c_7 : Ref sig .tc := ⟨.hbm, 48, rfl⟩
abbrev main_v29 : Ref sig .tc := ⟨.hbm, 49, rfl⟩
abbrev main_v30 : Ref sig .tc := ⟨.hbm, 50, rfl⟩
abbrev main_cst_8 : Ref sig .tc := ⟨.hbm, 51, rfl⟩
abbrev main_cst_9 : Ref sig .tc := ⟨.hbm, 52, rfl⟩
abbrev main_call0_v0 : Ref sig .tc := ⟨.hbm, 53, rfl⟩
abbrev main_call0_v1 : Ref sig .tc := ⟨.hbm, 54, rfl⟩
abbrev main_v31 : Ref sig .tc := ⟨.hbm, 55, rfl⟩
abbrev main_c_10 : Ref sig .tc := ⟨.hbm, 56, rfl⟩
abbrev main_v32 : Ref sig .tc := ⟨.hbm, 57, rfl⟩
abbrev main_v33 : Ref sig .tc := ⟨.hbm, 58, rfl⟩
abbrev main_c_11 : Ref sig .tc := ⟨.hbm, 59, rfl⟩
abbrev main_v34 : Ref sig .tc := ⟨.hbm, 60, rfl⟩
abbrev main_v35 : Ref sig .tc := ⟨.hbm, 61, rfl⟩
abbrev main_cst_12 : Ref sig .tc := ⟨.hbm, 62, rfl⟩
abbrev main_cst_13 : Ref sig .tc := ⟨.hbm, 63, rfl⟩
abbrev main_call1_v0 : Ref sig .tc := ⟨.hbm, 64, rfl⟩
abbrev main_call1_v1 : Ref sig .tc := ⟨.hbm, 65, rfl⟩
abbrev main_v36 : Ref sig .tc := ⟨.hbm, 66, rfl⟩
abbrev main_v37 : Ref sig .tc := ⟨.hbm, 67, rfl⟩
abbrev main_c_14 : Ref sig .tc := ⟨.hbm, 68, rfl⟩
abbrev main_v38 : Ref sig .tc := ⟨.hbm, 69, rfl⟩
abbrev main_v39 : Ref sig .tc := ⟨.hbm, 70, rfl⟩
abbrev main_c_15 : Ref sig .tc := ⟨.hbm, 71, rfl⟩
abbrev main_v40 : Ref sig .tc := ⟨.hbm, 72, rfl⟩
abbrev main_v41 : Ref sig .tc := ⟨.hbm, 73, rfl⟩
abbrev main_c_16 : Ref sig .tc := ⟨.hbm, 74, rfl⟩
abbrev main_v42 : Ref sig .tc := ⟨.hbm, 75, rfl⟩
abbrev main_v43 : Ref sig .tc := ⟨.hbm, 76, rfl⟩
abbrev main_c_17 : Ref sig .tc := ⟨.hbm, 77, rfl⟩
abbrev main_v44 : Ref sig .tc := ⟨.hbm, 78, rfl⟩
abbrev main_v45 : Ref sig .tc := ⟨.hbm, 79, rfl⟩
abbrev main_cst_18 : Ref sig .tc := ⟨.hbm, 80, rfl⟩
abbrev main_cst_19 : Ref sig .tc := ⟨.hbm, 81, rfl⟩
abbrev main_call3_v0 : Ref sig .tc := ⟨.hbm, 82, rfl⟩
abbrev main_call3_v1 : Ref sig .tc := ⟨.hbm, 83, rfl⟩
abbrev main_v46 : Ref sig .tc := ⟨.hbm, 84, rfl⟩
abbrev main_c_20 : Ref sig .tc := ⟨.hbm, 85, rfl⟩
abbrev main_v47 : Ref sig .tc := ⟨.hbm, 86, rfl⟩
abbrev main_v48 : Ref sig .tc := ⟨.hbm, 87, rfl⟩
abbrev main_c_21 : Ref sig .tc := ⟨.hbm, 88, rfl⟩
abbrev main_v49 : Ref sig .tc := ⟨.hbm, 89, rfl⟩
abbrev main_v50 : Ref sig .tc := ⟨.hbm, 90, rfl⟩
abbrev main_cst_22 : Ref sig .tc := ⟨.hbm, 91, rfl⟩
abbrev main_cst_23 : Ref sig .tc := ⟨.hbm, 92, rfl⟩
abbrev main_call4_v0 : Ref sig .tc := ⟨.hbm, 93, rfl⟩
abbrev main_call4_v1 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_c_24 : Ref sig .tc := ⟨.hbm, 98, rfl⟩
abbrev main_v54 : Ref sig .tc := ⟨.hbm, 99, rfl⟩
abbrev main_v55 : Ref sig .tc := ⟨.hbm, 100, rfl⟩
abbrev main_c_25 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_c_26 : Ref sig .tc := ⟨.hbm, 110, rfl⟩
abbrev main_v64 : Ref sig .tc := ⟨.hbm, 111, rfl⟩
abbrev main_v65 : Ref sig .tc := ⟨.hbm, 112, rfl⟩
abbrev main_c_27 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_c_28 : Ref sig .tc := ⟨.hbm, 125, rfl⟩
abbrev main_v77 : Ref sig .tc := ⟨.hbm, 126, rfl⟩
abbrev main_v78 : Ref sig .tc := ⟨.hbm, 127, rfl⟩
abbrev main_c_29 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_c_30 : Ref sig .tc := ⟨.hbm, 134, rfl⟩
abbrev main_v84 : Ref sig .tc := ⟨.hbm, 135, rfl⟩
abbrev main_v85 : Ref sig .tc := ⟨.hbm, 136, rfl⟩
abbrev main_c_31 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_c_32 : Ref sig .tc := ⟨.hbm, 158, rfl⟩
abbrev main_v106 : Ref sig .tc := ⟨.hbm, 159, rfl⟩
abbrev main_v107 : Ref sig .tc := ⟨.hbm, 160, rfl⟩
abbrev main_c_33 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_c_34 : Ref sig .tc := ⟨.hbm, 177, rfl⟩
abbrev main_v123 : Ref sig .tc := ⟨.hbm, 178, rfl⟩
abbrev main_v124 : Ref sig .tc := ⟨.hbm, 179, rfl⟩
abbrev main_c_35 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_cst_36 : Ref sig .tc := ⟨.hbm, 190, rfl⟩
abbrev main_call8_v0 : Ref sig .tc := ⟨.hbm, 191, rfl⟩
abbrev main_v134 : Ref sig .tc := ⟨.hbm, 192, rfl⟩
abbrev main_v135 : Ref sig .tc := ⟨.hbm, 193, rfl⟩
abbrev main_cst_37 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩

abbrev nD : Nat := 1
abbrev τ : Topo := Topo.v7x

variable {F : FTy → Type} [FloatOps F]
-- ==== Proof.Seg.lean ====
/- Hand-written, untrusted: the words a segment's transfers are sized by. Every printed condition, offset and extent of the
   run-time-sized transfers is one of a few word functions of the segment's four table words; each is given its value in
   naturals, and with these the side conditions the kernel states of its transfers are proved. -/
module

public import proofs.«01_k».proof.Proof.Gen.Kernel

@[expose] public section

noncomputable section

namespace Cert.Kernel.Hand

open Idealize.ShloMosaic Idealize.SL.Sem

/-- A segment's words: its first row, its end row, its adapter's first page row and its adapter's rank. -/
structure Seg where
  a : BitVec 32
  b : BitVec 32
  st : BitVec 32
  rk : BitVec 32

/-- Floor division by eight, as printed. -/
def fd8 (x : BitVec 32) : BitVec 32 :=
  Scalar.select (Scalar.andi (Scalar.cmpi .ne (Scalar.subi (Scalar.extui (Scalar.cmpi .sgt x 0#32)) (Scalar.extui (Scalar.cmpi .slt x 0#32)))
      (Scalar.subi (Scalar.extui (Scalar.cmpi .sgt 8#32 0#32)) (Scalar.extui (Scalar.cmpi .slt 8#32 0#32))))
    (Scalar.cmpi .ne (Scalar.remsi x 8#32) 0#32)) (Scalar.subi (Scalar.divsi x 8#32) 1#32) (Scalar.divsi x 8#32)

/-- The first page group. -/
def gW (st : BitVec 32) : BitVec 32 := fd8 st
/-- The adapter's first row within its first group. -/
def lW (st : BitVec 32) : BitVec 32 := Scalar.subi st (Scalar.muli (gW st) 8#32)
/-- The number of page groups the segment reads. -/
def nW (s : Seg) : BitVec 32 :=
  Scalar.select (Scalar.cmpi .sgt s.b s.a) (fd8 (Scalar.subi (Scalar.addi (Scalar.addi (lW s.st) s.rk) 8#32) 1#32)) 0#32
/-- The groups taken by the segments before. -/
def slotW (l : List Seg) : BitVec 32 := l.foldl (fun acc s => Scalar.addi acc (nW s)) 0#32
/-- The guard of a segment's transfers. -/
def guardW (s : Seg) : BitVec 1 := Scalar.cmpi .ne (Scalar.extui (Scalar.cmpi .sgt (nW s) 0#32) : BitVec 32) 0#32
/-- A word times eight. -/
def m8 (x : BitVec 32) : Nat := (Scalar.muli x 8#32).toNat

/-- The segment's words are in range: what the precondition says of its adapter. -/
def Seg.OK (s : Seg) : Prop := s.st.toNat + s.rk.toNat ≤ 896 ∧ s.rk.toNat ≤ 64
/-- The number of groups, in naturals. -/
def Seg.n (s : Seg) : Nat := if s.a.toInt < s.b.toInt then (s.st.toNat % 8 + s.rk.toNat + 7) / 8 else 0
/-- The first group, in naturals. -/
def Seg.g (s : Seg) : Nat := s.st.toNat / 8
/-- The groups of a list of segments, in naturals. -/
def slotN (l : List Seg) : Nat := (l.map Seg.n).sum

theorem fd8_ofNat : ∀ n : Fin 1000, fd8 (BitVec.ofNat 32 n.val) = BitVec.ofNat 32 (n.val / 8) := by decide +kernel

/-- Floor division by eight of a small word. -/
theorem fd8_toNat (x : BitVec 32) (h : x.toNat < 1000) : (fd8 x).toNat = x.toNat / 8 := by
  have e := fd8_ofNat ⟨x.toNat, h⟩
  rw [BitVec.ofNat_toNat, BitVec.setWidth_eq] at e
  rw [e, BitVec.toNat_ofNat]
  exact Nat.mod_eq_of_lt (by show x.toNat / 8 < 2 ^ 32; omega)

theorem toNat_muli8 (x : BitVec 32) (h : x.toNat < 2 ^ 29) : (Scalar.muli x 8#32).toNat = 8 * x.toNat := by
  show (x * 8#32).toNat = _
  rw [BitVec.toNat_mul]
  show x.toNat * 8 % 2 ^ 32 = _
  omega

theorem m8_dvd (x : BitVec 32) : 8 ∣ m8 x := by
  show 8 ∣ (x * 8#32).toNat
  rw [BitVec.toNat_mul]
  show 8 ∣ x.toNat * 8 % 2 ^ 32
  omega

theorem gW_toNat (st : BitVec 32) (h : st.toNat ≤ 896) : (gW st).toNat = st.toNat / 8 := fd8_toNat st (by omega)

theorem lW_toNat (st : BitVec 32) (h : st.toNat ≤ 896) : (lW st).toNat = st.toNat % 8 := by
  have e := gW_toNat st h
  have e2 := toNat_muli8 (gW st) (by omega)
  show (st - Scalar.muli (gW st) 8#32).toNat = _
  rw [BitVec.toNat_sub, e2, e]
  omega

theorem sgt_iff (x y : BitVec 32) : Scalar.cmpi .sgt x y = 1#1 ↔ y.toInt < x.toInt := by
  show BitVec.ofBool (y.slt x) = 1#1 ↔ _
  rw [BitVec.slt]
  by_cases h : y.toInt < x.toInt <;> simp [h]

theorem nW_toNat (s : Seg) (h : s.OK) : (nW s).toNat = s.n := by
  have hl := lW_toNat s.st (by have := h.1; omega)
  have hsum : (Scalar.subi (Scalar.addi (Scalar.addi (lW s.st) s.rk) 8#32) 1#32 : BitVec 32).toNat = s.st.toNat % 8 + s.rk.toNat + 7 := by
    show ((lW s.st + s.rk + 8#32) - 1#32).toNat = _
    have := h.2
    have h8 : (8#32 : BitVec 32).toNat = 8 := rfl
    have h1 : (1#32 : BitVec 32).toNat = 1 := rfl
    simp only [BitVec.toNat_sub, BitVec.toNat_add, hl, h8, h1]
    omega
  unfold nW Seg.n
  by_cases hc : s.a.toInt < s.b.toInt
  · rw [if_pos hc, (sgt_iff s.b s.a).2 hc]
    show (fd8 _).toNat = _
    rw [fd8_toNat _ (by rw [hsum]; have := h.2; omega), hsum]
  · rw [if_neg hc]
    have : Scalar.cmpi .sgt s.b s.a = 0#1 := by
      rcases BitVec.eq_zero_or_eq_one (Scalar.cmpi .sgt s.b s.a) with e | e
      · exact e
      · exact absurd ((sgt_iff s.b s.a).1 e) hc
    rw [this]; rfl

theorem n_le (s : Seg) (h : s.OK) : s.n ≤ 8 + 1 ∧ 8 * (s.g + s.n) ≤ 900 := by
  have := h.1; have := h.2
  unfold Seg.n Seg.g
  split <;> omega

theorem slotW_append (l : List Seg) (s : Seg) : slotW (l ++ [s]) = Scalar.addi (slotW l) (nW s) := by
  unfold slotW; rw [List.foldl_append]; rfl

theorem slot_toNat (l : List Seg) (hl : ∀ s ∈ l, s.OK) (hlen : l.length ≤ 6) :
    (slotW l).toNat = slotN l ∧ slotN l ≤ 9 * l.length := by
  induction l using List.reverseRecOn with
  | nil => exact ⟨rfl, Nat.le_refl _⟩
  | append_singleton l s ih =>
    have hs := hl s (by simp)
    have hlen' : l.length ≤ 6 := by rw [List.length_append] at hlen; omega
    obtain ⟨e, hle⟩ := ih (fun x hx => hl x (by simp [hx])) hlen'
    have hn := n_le s hs
    have : slotN (l ++ [s]) = slotN l + s.n := by simp [slotN]
    rw [slotW_append, this, List.length_append, List.length_singleton]
    refine ⟨?_, by omega⟩
    show (slotW l + nW s).toNat = _
    rw [BitVec.toNat_add, e, nW_toNat s hs]
    rw [List.length_append] at hlen
    omega

theorem m8_nW (s : Seg) (h : s.OK) : m8 (nW s) = 8 * s.n := by
  have e := nW_toNat s h; have := n_le s h
  unfold m8; rw [toNat_muli8 _ (by omega), e]
theorem m8_gW (s : Seg) (h : s.OK) : m8 (gW s.st) = 8 * s.g := by
  have e := gW_toNat s.st (by have := h.1; omega)
  unfold m8; rw [toNat_muli8 _ (by have := h.1; omega), e]; rfl
theorem m8_slot (l : List Seg) (hl : ∀ s ∈ l, s.OK) (hlen : l.length ≤ 6) : m8 (slotW l) = 8 * slotN l := by
  obtain ⟨e, h⟩ := slot_toNat l hl hlen
  unfold m8; rw [toNat_muli8 _ (by omega), e]

/-- A segment's guard holds exactly when it reads a group. -/
theorem guard_iff (s : Seg) (h : s.OK) : guardW s = 1#1 ↔ 0 < s.n := by
  have e := nW_toNat s h; have hn := n_le s h
  have hi : (nW s).toInt = (s.n : Int) := by rw [BitVec.toInt_eq_toNat_of_lt (by omega), e]
  have h1 : Scalar.cmpi .sgt (nW s) 0#32 = 1#1 ↔ 0 < s.n := by
    rw [sgt_iff, hi]; show (0 : Int) < _ ↔ _; omega
  unfold guardW
  by_cases hp : 0 < s.n
  · rw [h1.2 hp]; simp only [hp, iff_true]; decide
  · have : Scalar.cmpi .sgt (nW s) 0#32 = 0#1 := by
      rcases BitVec.eq_zero_or_eq_one (Scalar.cmpi .sgt (nW s) 0#32) with e | e
      · exact e
      · exact absurd (h1.1 e) hp
    rw [this]; simp only [hp, iff_false]; decide

/-! ## The transfers' bounds -/

theorem inbAdst (l : List Seg) (s : Seg) (hl : ∀ s ∈ l, s.OK) (hs : s.OK) (hlen : l.length ≤ 5) (a : Fin 2) :
    ![m8 (nW s), 4096] a = 0 ∨ ![m8 (slotW l), 0] a + ![m8 (nW s), 4096] a ≤ S512x4096.size a := by
  have h1 := m8_nW s hs; have h2 := m8_slot l hl (by omega); have h3 := slot_toNat l hl (by omega); have h4 := n_le s hs
  rw [h1, h2]
  refine .inr ?_
  fin_cases a
  · show 8 * slotN l + 8 * s.n ≤ 512; omega
  · show 0 + 4096 ≤ 4096; omega

theorem inbAsrc (s : Seg) (hs : s.OK) (a : Fin 2) :
    ![m8 (nW s), 4096] a = 0 ∨ ![m8 (gW s.st), 0] a + ![m8 (nW s), 4096] a ≤ S900x4096.size a := by
  have h1 := m8_nW s hs; have h2 := m8_gW s hs; have h4 := n_le s hs
  rw [h1, h2]
  refine .inr ?_
  fin_cases a
  · show 8 * s.g + 8 * s.n ≤ 900; omega
  · show 0 + 4096 ≤ 4096; omega

theorem inbBdst (p : BitVec 32) (hp : p.toNat ≤ 1) (l : List Seg) (s : Seg) (hl : ∀ s ∈ l, s.OK) (hs : s.OK) (hlen : l.length ≤ 5) (a : Fin 3) :
    ![1, m8 (nW s), 512] a = 0 ∨ ![p.toNat, m8 (slotW l), 0] a + ![1, m8 (nW s), 512] a ≤ S2x512x512.size a := by
  have h1 := m8_nW s hs; have h2 := m8_slot l hl (by omega); have h3 := slot_toNat l hl (by omega); have h4 := n_le s hs
  rw [h1, h2]
  refine .inr ?_
  fin_cases a
  · show p.toNat + 1 ≤ 2; omega
  · show 8 * slotN l + 8 * s.n ≤ 512; omega
  · show 0 + 512 ≤ 512; omega

theorem inbBsrc (q : BitVec 32) (hq : q.toNat + 512 ≤ 14336) (s : Seg) (hs : s.OK) (a : Fin 2) :
    ![m8 (nW s), 512] a = 0 ∨ ![m8 (gW s.st), q.toNat] a + ![m8 (nW s), 512] a ≤ S900x14336.size a := by
  have h1 := m8_nW s hs; have h2 := m8_gW s hs; have h4 := n_le s hs
  rw [h1, h2]
  refine .inr ?_
  fin_cases a
  · show 8 * s.g + 8 * s.n ≤ 900; omega
  · show q.toNat + 512 ≤ 14336; omega

/-- A rectangle of rank two whose rows start at and number a multiple of eight is whole words. -/
theorem words2 {R C : Nat} (x y c z : Nat) (hx : 8 ∣ x) (hy : 8 ∣ y)
    (h : ∀ a, ![y, z] a = 0 ∨ ![x, c] a + ![y, z] a ≤ (⟨2, ![R, C]⟩ : Shape).size a) :
    (Rect.unitDyn (s := (⟨2, ![R, C]⟩ : Shape)) ![x, c] ![y, z] h).WholeWords (EltTy.packing .bf16) := by
  refine .inl (.inr ⟨Nat.le_of_ble_eq_true rfl, rfl, .inl ⟨?_, ?_⟩⟩)
  · exact dvd_trans (by decide : (2 : Nat) ∣ 8) hx
  · exact dvd_trans (by decide : (2 : Nat) ∣ 8) hy

/-- … and one of rank three. -/
theorem words3 {P R C : Nat} (p x y c o z : Nat) (hx : 8 ∣ x) (hy : 8 ∣ y)
    (h : ∀ a, ![o, y, z] a = 0 ∨ ![p, x, c] a + ![o, y, z] a ≤ (⟨3, ![P, R, C]⟩ : Shape).size a) :
    (Rect.unitDyn (s := (⟨3, ![P, R, C]⟩ : Shape)) ![p, x, c] ![o, y, z] h).WholeWords (EltTy.packing .bf16) := by
  refine .inl (.inr ⟨Nat.le_of_ble_eq_true rfl, rfl, .inl ⟨?_, ?_⟩⟩)
  · exact dvd_trans (by decide : (2 : Nat) ∣ 8) hx
  · exact dvd_trans (by decide : (2 : Nat) ∣ 8) hy

theorem squeezes1 (y z : Nat) : (⟨3, ![1, y, z]⟩ : Shape).Squeezes ⟨2, ![y, z]⟩ := by
  show Shape.dropsOnes [z, y, 1] [z, y] = true
  simp [Shape.dropsOnes]

/-! ## The grid point's words -/

/-- The grid point as a word. -/
def iW (i : grid0.Coords) : BitVec 32 := BitVec.ofNat 32 (i 0).val
theorem par_val : ∀ n : Fin 28, (Scalar.remsi (BitVec.ofNat 32 n.val) 2#32 : BitVec 32).toNat = n.val % 2
    ∧ (Scalar.remsi (Scalar.addi (BitVec.ofNat 32 n.val) 1#32) 2#32 : BitVec 32).toNat = (n.val + 1) % 2
    ∧ (Scalar.muli (BitVec.ofNat 32 n.val) 512#32 : BitVec 32).toNat = 512 * n.val
    ∧ (Scalar.muli (Scalar.addi (BitVec.ofNat 32 n.val) 1#32) 512#32 : BitVec 32).toNat = 512 * (n.val + 1) := by decide +kernel
theorem par_i (i : grid0.Coords) : (Scalar.remsi (iW i) 2#32 : BitVec 32).toNat = (i 0).val % 2
    ∧ (Scalar.remsi (Scalar.addi (iW i) 1#32) 2#32 : BitVec 32).toNat = ((i 0).val + 1) % 2
    ∧ (Scalar.muli (iW i) 512#32 : BitVec 32).toNat = 512 * (i 0).val
    ∧ (Scalar.muli (Scalar.addi (iW i) 1#32) 512#32 : BitVec 32).toNat = 512 * ((i 0).val + 1) := par_val ⟨(i 0).val, (i 0).isLt⟩
theorem cond14_val : ∀ n : Fin 28, Scalar.cmpi .ne (Scalar.extui (Scalar.cmpi .slt (Scalar.addi (BitVec.ofNat 32 n.val) 1#32) 28#32) : BitVec 32) 0#32 = 1#1
    ↔ n.val + 1 < 28 := by decide +kernel
theorem cond14_iff (i : grid0.Coords) : k0_cond14 i = 1#1 ↔ (i 0).val + 1 < 28 := cond14_val ⟨(i 0).val, (i 0).isLt⟩
theorem cond1_val : ∀ n : Fin 28, Scalar.cmpi .ne (Scalar.extui (Scalar.cmpi .eq (BitVec.ofNat 32 n.val) 0#32) : BitVec 32) 0#32 = 1#1
    ↔ n.val = 0 := by decide +kernel
theorem cond1_iff (i : grid0.Coords) : k0_cond1 i = 1#1 ↔ (i 0).val = 0 := cond1_val ⟨(i 0).val, (i 0).isLt⟩
theorem cond21_iff (i : grid0.Coords) : k0_cond21 i = 1#1 ↔ (i 0).val = 0 := cond1_val ⟨(i 0).val, (i 0).isLt⟩
/-- The current slot, the next one, the current column block and the next one, as words. -/
def pW (i : grid0.Coords) : BitVec 32 := Scalar.remsi (iW i) 2#32
def pW' (i : grid0.Coords) : BitVec 32 := Scalar.remsi (Scalar.addi (iW i) 1#32) 2#32
def qW (i : grid0.Coords) : BitVec 32 := Scalar.muli (iW i) 512#32
def qW' (i : grid0.Coords) : BitVec 32 := Scalar.muli (Scalar.addi (iW i) 1#32) 512#32
theorem pW_toNat (i : grid0.Coords) : (pW i).toNat = (i 0).val % 2 := (par_i i).1
theorem pW'_toNat (i : grid0.Coords) : (pW' i).toNat = ((i 0).val + 1) % 2 := (par_i i).2.1
theorem qW_toNat (i : grid0.Coords) : (qW i).toNat = 512 * (i 0).val := (par_i i).2.2.1
theorem qW'_toNat (i : grid0.Coords) : (qW' i).toNat = 512 * ((i 0).val + 1) := (par_i i).2.2.2
theorem pW_le (i : grid0.Coords) : (pW i).toNat ≤ 1 := by rw [pW_toNat]; omega
theorem pW'_le (i : grid0.Coords) : (pW' i).toNat ≤ 1 := by rw [pW'_toNat]; omega
theorem qW_le (i : grid0.Coords) : (qW i).toNat + 512 ≤ 14336 := by rw [qW_toNat]; have : (i 0).val < 28 := (i 0).isLt; omega
theorem qW'_le (i : grid0.Coords) (h : k0_cond14 i = 1#1) : (qW' i).toNat + 512 ≤ 14336 := by
  rw [qW'_toNat]; have := (cond14_iff i).1 h; omega

/-! ## What the kernel assumes of its transfers -/

theorem chkS (v : BitVec 32) (h : v.toNat < 11) (a : Fin 1) : ![v.toNat] a + S1.size a ≤ S11.size a := by
  fin_cases a; show v.toNat + 1 ≤ 11; omega

theorem chk1_ok (i : grid0.Coords) (v : BitVec 32) (h : v.toNat < 11) : k0_chk1 i v :=
  ⟨chkS v h, fun _ => chkS v h⟩
theorem chk2_ok (i : grid0.Coords) (v : BitVec 32) (h : v.toNat < 11) : k0_chk2 i v :=
  ⟨chkS v h, fun _ => chkS v h⟩
theorem chk3_ok (i : grid0.Coords) (v : BitVec 32) (h : v.toNat < 11) : k0_chk3 i v :=
  ⟨chkS v h, fun _ => chkS v h⟩
theorem chk4_ok (i : grid0.Coords) (v : BitVec 32) (h : v.toNat < 11) : k0_chk4 i v :=
  ⟨chkS v h, fun _ => chkS v h⟩
theorem chk5_ok (i : grid0.Coords) (v : BitVec 32) (h : v.toNat < 11) : k0_chk5 i v :=
  ⟨chkS v h, fun _ => chkS v h⟩
theorem chk6_ok (i : grid0.Coords) (v : BitVec 32) (h : v.toNat < 11) : k0_chk6 i v :=
  ⟨chkS v h, fun _ => chkS v h⟩
/-- Segment 0: its transfers' multiples, bounds, whole words and squeezed shapes. -/
theorem chk7_ok (i : grid0.Coords) (v1 v2 v4 v6 : BitVec 32) (h0 : Seg.OK ⟨v1, v2, v4, v6⟩) :
    k0_chk7 i v1 v2 v4 v6 :=
  ⟨fun _ _ => m8_dvd _,
   fun _ _ => m8_dvd _,
   fun _ _ => inbAdst [] ⟨v1, v2, v4, v6⟩ (List.forall_mem_nil _) h0 (Nat.le_of_ble_eq_true rfl),
   fun _ _ => inbAsrc ⟨v1, v2, v4, v6⟩ h0,
   fun _ _ h => words2 (m8 (gW v4)) (m8 (nW ⟨v1, v2, v4, v6⟩)) 0 4096 (m8_dvd _) (m8_dvd _) h,
   fun _ _ h => words2 (m8 (slotW [])) (m8 (nW ⟨v1, v2, v4, v6⟩)) 0 4096 (m8_dvd _) (m8_dvd _) h,
   fun _ _ => m8_dvd _,
   fun _ _ => m8_dvd _,
   fun _ _ => inbBdst (pW i) (pW_le i) [] ⟨v1, v2, v4, v6⟩ (List.forall_mem_nil _) h0 (Nat.le_of_ble_eq_true rfl),
   fun _ _ => squeezes1 (m8 (nW ⟨v1, v2, v4, v6⟩)) 512,
   fun _ _ => inbBsrc (qW i) (qW_le i) ⟨v1, v2, v4, v6⟩ h0,
   fun _ _ h => words2 (m8 (gW v4)) (m8 (nW ⟨v1, v2, v4, v6⟩)) (qW i).toNat 512 (m8_dvd _) (m8_dvd _) h,
   fun _ _ h => words3 (pW i).toNat (m8 (slotW [])) (m8 (nW ⟨v1, v2, v4, v6⟩)) 0 1 512 (m8_dvd _) (m8_dvd _) h,
   fun e _ => m8_dvd _,
   fun e _ => m8_dvd _,
   fun e _ => inbBdst (pW' i) (pW'_le i) [] ⟨v1, v2, v4, v6⟩ (List.forall_mem_nil _) h0 (Nat.le_of_ble_eq_true rfl),
   fun e _ => squeezes1 (m8 (nW ⟨v1, v2, v4, v6⟩)) 512,
   fun e _ => inbBsrc (qW' i) (qW'_le i e) ⟨v1, v2, v4, v6⟩ h0,
   fun e _ h => words2 (m8 (gW v4)) (m8 (nW ⟨v1, v2, v4, v6⟩)) (qW' i).toNat 512 (m8_dvd _) (m8_dvd _) h,
   fun e _ h => words3 (pW' i).toNat (m8 (slotW [])) (m8 (nW ⟨v1, v2, v4, v6⟩)) 0 1 512 (m8_dvd _) (m8_dvd _) h,
   fun _ _ => m8_dvd _,
   fun _ _ => m8_dvd _,
   fun _ => m8_dvd _,
   fun _ => m8_dvd _,
   fun _ => squeezes1 (m8 (nW ⟨v1, v2, v4, v6⟩)) 512⟩
/-- Segment 1: its transfers' multiples, bounds, whole words and squeezed shapes. -/
theorem chk8_ok (i : grid0.Coords) (v1 v2 v4 v6 v52 v53 v55 v57 : BitVec 32) (h0 : Seg.OK ⟨v1, v2, v4, v6⟩) (h1 : Seg.OK ⟨v52, v53, v55, v57⟩) :
    k0_chk8 i v1 v2 v4 v6 v52 v53 v55 v57 :=
  ⟨fun _ _ => m8_dvd _,
   fun _ _ => m8_dvd _,
   fun _ _ => m8_dvd _,
   fun _ _ => inbAdst [⟨v1, v2, v4, v6⟩] ⟨v52, v53, v55, v57⟩ (List.forall_mem_cons.2 ⟨h0, (List.forall_mem_nil _)⟩) h1 (Nat.le_of_ble_eq_true rfl),
   fun _ _ => inbAsrc ⟨v52, v53, v55, v57⟩ h1,
   fun _ _ h => words2 (m8 (gW v55)) (m8 (nW ⟨v52, v53, v55, v57⟩)) 0 4096 (m8_dvd _) (m8_dvd _) h,
   fun _ _ h => words2 (m8 (slotW [⟨v1, v2, v4, v6⟩])) (m8 (nW ⟨v52, v53, v55, v57⟩)) 0 4096 (m8_dvd _) (m8_dvd _) h,
   fun _ _ => m8_dvd _,
   fun _ _ => m8_dvd _,
   fun _ _ => m8_dvd _,
   fun _ _ => inbBdst (pW i) (pW_le i) [⟨v1, v2, v4, v6⟩] ⟨v52, v53, v55, v57⟩ (List.forall_mem_cons.2 ⟨h0, (List.forall_mem_nil _)⟩) h1 (Nat.le_of_ble_eq_true rfl),
   fun _ _ => squeezes1 (m8 (nW ⟨v52, v53, v55, v57⟩)) 512,
   fun _ _ => inbBsrc (qW i) (qW_le i) ⟨v52, v53, v55, v57⟩ h1,
   fun _ _ h => words2 (m8 (gW v55)) (m8 (nW ⟨v52, v53, v55, v57⟩)) (qW i).toNat 512 (m8_dvd _) (m8_dvd _) h,
   fun _ _ h => words3 (pW i).toNat (m8 (slotW [⟨v1, v2, v4, v6⟩])) (m8 (nW ⟨v52, v53, v55, v57⟩)) 0 1 512 (m8_dvd _) (m8_dvd _) h,
   fun e _ => m8_dvd _,
   fun e _ => m8_dvd _,
   fun e _ => m8_dvd _,
   fun e _ => inbBdst (pW' i) (pW'_le i) [⟨v1, v2, v4, v6⟩] ⟨v52, v53, v55, v57⟩ (List.forall_mem_cons.2 ⟨h0, (List.forall_mem_nil _)⟩) h1 (Nat.le_of_ble_eq_true rfl),
   fun e _ => squeezes1 (m8 (nW ⟨v52, v53, v55, v57⟩)) 512,
   fun e _ => inbBsrc (qW' i) (qW'_le i e) ⟨v52, v53, v55, v57⟩ h1,
   fun e _ h => words2 (m8 (gW v55)) (m8 (nW ⟨v52, v53, v55, v57⟩)) (qW' i).toNat 512 (m8_dvd _) (m8_dvd _) h,
   fun e _ h => words3 (pW' i).toNat (m8 (slotW [⟨v1, v2, v4, v6⟩])) (m8 (nW ⟨v52, v53, v55, v57⟩)) 0 1 512 (m8_dvd _) (m8_dvd _) h,
   fun _ _ => m8_dvd _,
   fun _ _ => m8_dvd _,
   fun _ _ => m8_dvd _,
   fun _ => m8_dvd _,
   fun _ => m8_dvd _,
   fun _ => m8_dvd _,
   fun _ => squeezes1 (m8 (nW ⟨v52, v53, v55, v57⟩)) 512⟩
/-- Segment 2: its transfers' multiples, bounds, whole words and squeezed shapes. -/
theorem chk9_ok (i : grid0.Coords) (v1 v2 v4 v6 v52 v53 v55 v57 v103 v104 v106 v108 : BitVec 32) (h0 : Seg.OK ⟨v1, v2, v4, v6⟩) (h1 : Seg.OK ⟨v52, v53, v55, v57⟩) (h2 : Seg.OK ⟨v103, v104, v106, v108⟩) :
    k0_chk9 i v1 v2 v4 v6 v52 v53 v55 v57 v103 v104 v106 v108 :=
  ⟨fun _ _ => m8_dvd _,
   fun _ _ => m8_dvd _,
   fun _ _ => m8_dvd _,
   fun _ _ => inbAdst [⟨v1, v2, v4, v6⟩, ⟨v52, v53, v55, v57⟩] ⟨v103, v104, v106, v108⟩ (List.forall_mem_cons.2 ⟨h0, (List.forall_mem_cons.2 ⟨h1, (List.forall_mem_nil _)⟩)⟩) h2 (Nat.le_of_ble_eq_true rfl),
   fun _ _ => inbAsrc ⟨v103, v104, v106, v108⟩ h2,
   fun _ _ h => words2 (m8 (gW v106)) (m8 (nW ⟨v103, v104, v106, v108⟩)) 0 4096 (m8_dvd _) (m8_dvd _) h,
   fun _ _ h => words2 (m8 (slotW [⟨v1, v2, v4, v6⟩, ⟨v52, v53, v55, v57⟩])) (m8 (nW ⟨v103, v104, v106, v108⟩)) 0 4096 (m8_dvd _) (m8_dvd _) h,
   fun _ _ => m8_dvd _,
   fun _ _ => m8_dvd _,
   fun _ _ => m8_dvd _,
   fun _ _ => inbBdst (pW i) (pW_le i) [⟨v1, v2, v4, v6⟩, ⟨v52, v53, v55, v57⟩] ⟨v103, v104, v106, v108⟩ (List.forall_mem_cons.2 ⟨h0, (List.forall_mem_cons.2 ⟨h1, (List.forall_mem_nil _)⟩)⟩) h2 (Nat.le_of_ble_eq_true rfl),
   fun _ _ => squeezes1 (m8 (nW ⟨v103, v104, v106, v108⟩)) 512,
   fun _ _ => inbBsrc (qW i) (qW_le i) ⟨v103, v104, v106, v108⟩ h2,
   fun _ _ h => words2 (m8 (gW v106)) (m8 (nW ⟨v103, v104, v106, v108⟩)) (qW i).toNat 512 (m8_dvd _) (m8_dvd _) h,
   fun _ _ h => words3 (pW i).toNat (m8 (slotW [⟨v1, v2, v4, v6⟩, ⟨v52, v53, v55, v57⟩])) (m8 (nW ⟨v103, v104, v106, v108⟩)) 0 1 512 (m8_dvd _) (m8_dvd _) h,
   fun e _ => m8_dvd _,
   fun e _ => m8_dvd _,
   fun e _ => m8_dvd _,
   fun e _ => inbBdst (pW' i) (pW'_le i) [⟨v1, v2, v4, v6⟩, ⟨v52, v53, v55, v57⟩] ⟨v103, v104, v106, v108⟩ (List.forall_mem_cons.2 ⟨h0, (List.forall_mem_cons.2 ⟨h1, (List.forall_mem_nil _)⟩)⟩) h2 (Nat.le_of_ble_eq_true rfl),
   fun e _ => squeezes1 (m8 (nW ⟨v103, v104, v106, v108⟩)) 512,
   fun e _ => inbBsrc (qW' i) (qW'_le i e) ⟨v103, v104, v106, v108⟩ h2,
   fun e _ h => words2 (m8 (gW v106)) (m8 (nW ⟨v103, v104, v106, v108⟩)) (qW' i).toNat 512 (m8_dvd _) (m8_dvd _) h,
   fun e _ h => words3 (pW' i).toNat (m8 (slotW [⟨v1, v2, v4, v6⟩, ⟨v52, v53, v55, v57⟩])) (m8 (nW ⟨v103, v104, v106, v108⟩)) 0 1 512 (m8_dvd _) (m8_dvd _) h,
   fun _ _ => m8_dvd _,
   fun _ _ => m8_dvd _,
   fun _ _ => m8_dvd _,
   fun _ => m8_dvd _,
   fun _ => m8_dvd _,
   fun _ => m8_dvd _,
   fun _ => squeezes1 (m8 (nW ⟨v103, v104, v106, v108⟩)) 512⟩
/-- Segment 3: its transfers' multiples, bounds, whole words and squeezed shapes. -/
theorem chk10_ok (i : grid0.Coords) (v1 v2 v4 v6 v52 v53 v55 v57 v103 v104 v106 v108 v154 v155 v157 v159 : BitVec 32) (h0 : Seg.OK ⟨v1, v2, v4, v6⟩) (h1 : Seg.OK ⟨v52, v53, v55, v57⟩) (h2 : Seg.OK ⟨v103, v104, v106, v108⟩) (h3 : Seg.OK ⟨v154, v155, v157, v159⟩) :
    k0_chk10 i v1 v2 v4 v6 v52 v53 v55 v57 v103 v104 v106 v108 v154 v155 v157 v159 :=
  ⟨fun _ _ => m8_dvd _,
   fun _ _ => m8_dvd _,
   fun _ _ => m8_dvd _,
   fun _ _ => inbAdst [⟨v1, v2, v4, v6⟩, ⟨v52, v53, v55, v57⟩, ⟨v103, v104, v106, v108⟩] ⟨v154, v155, v157, v159⟩ (List.forall_mem_cons.2 ⟨h0, (List.forall_mem_cons.2 ⟨h1, (List.forall_mem_cons.2 ⟨h2, (List.forall_mem_nil _)⟩)⟩)⟩) h3 (Nat.le_of_ble_eq_true rfl),
   fun _ _ => inbAsrc ⟨v154, v155, v157, v159⟩ h3,
   fun _ _ h => words2 (m8 (gW v157)) (m8 (nW ⟨v154, v155, v157, v159⟩)) 0 4096 (m8_dvd _) (m8_dvd _) h,
   fun _ _ h => words2 (m8 (slotW [⟨v1, v2, v4, v6⟩, ⟨v52, v53, v55, v57⟩, ⟨v103, v104, v106, v108⟩])) (m8 (nW ⟨v154, v155, v157, v159⟩)) 0 4096 (m8_dvd _) (m8_dvd _) h,
   fun _ _ => m8_dvd _,
   fun _ _ => m8_dvd _,
   fun _ _ => m8_dvd _,
   fun _ _ => inbBdst (pW i) (pW_le i) [⟨v1, v2, v4, v6⟩, ⟨v52, v53, v55, v57⟩, ⟨v103, v104, v106, v108⟩] ⟨v154, v155, v157, v159⟩ (List.forall_mem_cons.2 ⟨h0, (List.forall_mem_cons.2 ⟨h1, (List.forall_mem_cons.2 ⟨h2, (List.forall_mem_nil _)⟩)⟩)⟩) h3 (Nat.le_of_ble_eq_true rfl),
   fun _ _ => squeezes1 (m8 (nW ⟨v154, v155, v157, v159⟩)) 512,
   fun _ _ => inbBsrc (qW i) (qW_le i) ⟨v154, v155, v157, v159⟩ h3,
   fun _ _ h => words2 (m8 (gW v157)) (m8 (nW ⟨v154, v155, v157, v159⟩)) (qW i).toNat 512 (m8_dvd _) (m8_dvd _) h,
   fun _ _ h => words3 (pW i).toNat (m8 (slotW [⟨v1, v2, v4, v6⟩, ⟨v52, v53, v55, v57⟩, ⟨v103, v104, v106, v108⟩])) (m8 (nW ⟨v154, v155, v157, v159⟩)) 0 1 512 (m8_dvd _) (m8_dvd _) h,
   fun e _ => m8_dvd _,
   fun e _ => m8_dvd _,
   fun e _ => m8_dvd _,
   fun e _ => inbBdst (pW' i) (pW'_le i) [⟨v1, v2, v4, v6⟩, ⟨v52, v53, v55, v57⟩, ⟨v103, v104, v106, v108⟩] ⟨v154, v155, v157, v159⟩ (List.forall_mem_cons.2 ⟨h0, (List.forall_mem_cons.2 ⟨h1, (List.forall_mem_cons.2 ⟨h2, (List.forall_mem_nil _)⟩)⟩)⟩) h3 (Nat.le_of_ble_eq_true rfl),
   fun e _ => squeezes1 (m8 (nW ⟨v154, v155, v157, v159⟩)) 512,
   fun e _ => inbBsrc (qW' i) (qW'_le i e) ⟨v154, v155, v157, v159⟩ h3,
   fun e _ h => words2 (m8 (gW v157)) (m8 (nW ⟨v154, v155, v157, v159⟩)) (qW' i).toNat 512 (m8_dvd _) (m8_dvd _) h,
   fun e _ h => words3 (pW' i).toNat (m8 (slotW [⟨v1, v2, v4, v6⟩, ⟨v52, v53, v55, v57⟩, ⟨v103, v104, v106, v108⟩])) (m8 (nW ⟨v154, v155, v157, v159⟩)) 0 1 512 (m8_dvd _) (m8_dvd _) h,
   fun _ _ => m8_dvd _,
   fun _ _ => m8_dvd _,
   fun _ _ => m8_dvd _,
   fun _ => m8_dvd _,
   fun _ => m8_dvd _,
   fun _ => m8_dvd _,
   fun _ => squeezes1 (m8 (nW ⟨v154, v155, v157, v159⟩)) 512⟩
/-- Segment 4: its transfers' multiples, bounds, whole words and squeezed shapes. -/
theorem chk11_ok (i : grid0.Coords) (v1 v2 v4 v6 v52 v53 v55 v57 v103 v104 v106 v108 v154 v155 v157 v159 v205 v206 v208 v210 : BitVec 32) (h0 : Seg.OK ⟨v1, v2, v4, v6⟩) (h1 : Seg.OK ⟨v52, v53, v55, v57⟩) (h2 : Seg.OK ⟨v103, v104, v106, v108⟩) (h3 : Seg.OK ⟨v154, v155, v157, v159⟩) (h4 : Seg.OK ⟨v205, v206, v208, v210⟩) :
    k0_chk11 i v1 v2 v4 v6 v52 v53 v55 v57 v103 v104 v106 v108 v154 v155 v157 v159 v205 v206 v208 v210 :=
  ⟨fun _ _ => m8_dvd _,
   fun _ _ => m8_dvd _,
   fun _ _ => m8_dvd _,
   fun _ _ => inbAdst [⟨v1, v2, v4, v6⟩, ⟨v52, v53, v55, v57⟩, ⟨v103, v104, v106, v108⟩, ⟨v154, v155, v157, v159⟩] ⟨v205, v206, v208, v210⟩ (List.forall_mem_cons.2 ⟨h0, (List.forall_mem_cons.2 ⟨h1, (List.forall_mem_cons.2 ⟨h2, (List.forall_mem_cons.2 ⟨h3, (List.forall_mem_nil _)⟩)⟩)⟩)⟩) h4 (Nat.le_of_ble_eq_true rfl),
   fun _ _ => inbAsrc ⟨v205, v206, v208, v210⟩ h4,
   fun _ _ h => words2 (m8 (gW v208)) (m8 (nW ⟨v205, v206, v208, v210⟩)) 0 4096 (m8_dvd _) (m8_dvd _) h,
   fun _ _ h => words2 (m8 (slotW [⟨v1, v2, v4, v6⟩, ⟨v52, v53, v55, v57⟩, ⟨v103, v104, v106, v108⟩, ⟨v154, v155, v157, v159⟩])) (m8 (nW ⟨v205, v206, v208, v210⟩)) 0 4096 (m8_dvd _) (m8_dvd _) h,
   fun _ _ => m8_dvd _,
   fun _ _ => m8_dvd _,
   fun _ _ => m8_dvd _,
   fun _ _ => inbBdst (pW i) (pW_le i) [⟨v1, v2, v4, v6⟩, ⟨v52, v53, v55, v57⟩, ⟨v103, v104, v106, v108⟩, ⟨v154, v155, v157, v159⟩] ⟨v205, v206, v208, v210⟩ (List.forall_mem_cons.2 ⟨h0, (List.forall_mem_cons.2 ⟨h1, (List.forall_mem_cons.2 ⟨h2, (List.forall_mem_cons.2 ⟨h3, (List.forall_mem_nil _)⟩)⟩)⟩)⟩) h4 (Nat.le_of_ble_eq_true rfl),
   fun _ _ => squeezes1 (m8 (nW ⟨v205, v206, v208, v210⟩)) 512,
   fun _ _ => inbBsrc (qW i) (qW_le i) ⟨v205, v206, v208, v210⟩ h4,
   fun _ _ h => words2 (m8 (gW v208)) (m8 (nW ⟨v205, v206, v208, v210⟩)) (qW i).toNat 512 (m8_dvd _) (m8_dvd _) h,
   fun _ _ h => words3 (pW i).toNat (m8 (slotW [⟨v1, v2, v4, v6⟩, ⟨v52, v53, v55, v57⟩, ⟨v103, v104, v106, v108⟩, ⟨v154, v155, v157, v159⟩])) (m8 (nW ⟨v205, v206, v208, v210⟩)) 0 1 512 (m8_dvd _) (m8_dvd _) h,
   fun e _ => m8_dvd _,
   fun e _ => m8_dvd _,
   fun e _ => m8_dvd _,
   fun e _ => inbBdst (pW' i) (pW'_le i) [⟨v1, v2, v4, v6⟩, ⟨v52, v53, v55, v57⟩, ⟨v103, v104, v106, v108⟩, ⟨v154, v155, v157, v159⟩] ⟨v205, v206, v208, v210⟩ (List.forall_mem_cons.2 ⟨h0, (List.forall_mem_cons.2 ⟨h1, (List.forall_mem_cons.2 ⟨h2, (List.forall_mem_cons.2 ⟨h3, (List.forall_mem_nil _)⟩)⟩)⟩)⟩) h4 (Nat.le_of_ble_eq_true rfl),
   fun e _ => squeezes1 (m8 (nW ⟨v205, v206, v208, v210⟩)) 512,
   fun e _ => inbBsrc (qW' i) (qW'_le i e) ⟨v205, v206, v208, v210⟩ h4,
   fun e _ h => words2 (m8 (gW v208)) (m8 (nW ⟨v205, v206, v208, v210⟩)) (qW' i).toNat 512 (m8_dvd _) (m8_dvd _) h,
   fun e _ h => words3 (pW' i).toNat (m8 (slotW [⟨v1, v2, v4, v6⟩, ⟨v52, v53, v55, v57⟩, ⟨v103, v104, v106, v108⟩, ⟨v154, v155, v157, v159⟩])) (m8 (nW ⟨v205, v206, v208, v210⟩)) 0 1 512 (m8_dvd _) (m8_dvd _) h,
   fun _ _ => m8_dvd _,
   fun _ _ => m8_dvd _,
   fun _ _ => m8_dvd _,
   fun _ => m8_dvd _,
   fun _ => m8_dvd _,
   fun _ => m8_dvd _,
   fun _ => squeezes1 (m8 (nW ⟨v205, v206, v208, v210⟩)) 512⟩
/-- Segment 5: its transfers' multiples, bounds, whole words and squeezed shapes. -/
theorem chk12_ok (i : grid0.Coords) (v1 v2 v4 v6 v52 v53 v55 v57 v103 v104 v106 v108 v154 v155 v157 v159 v205 v206 v208 v210 v256 v257 v259 v261 : BitVec 32) (h0 : Seg.OK ⟨v1, v2, v4, v6⟩) (h1 : Seg.OK ⟨v52, v53, v55, v57⟩) (h2 : Seg.OK ⟨v103, v104, v106, v108⟩) (h3 : Seg.OK ⟨v154, v155, v157, v159⟩) (h4 : Seg.OK ⟨v205, v206, v208, v210⟩) (h5 : Seg.OK ⟨v256, v257, v259, v261⟩) :
    k0_chk12 i v1 v2 v4 v6 v52 v53 v55 v57 v103 v104 v106 v108 v154 v155 v157 v159 v205 v206 v208 v210 v256 v257 v259 v261 :=
  ⟨fun _ _ => m8_dvd _,
   fun _ _ => m8_dvd _,
   fun _ _ => m8_dvd _,
   fun _ _ => inbAdst [⟨v1, v2, v4, v6⟩, ⟨v52, v53, v55, v57⟩, ⟨v103, v104, v106, v108⟩, ⟨v154, v155, v157, v159⟩, ⟨v205, v206, v208, v210⟩] ⟨v256, v257, v259, v261⟩ (List.forall_mem_cons.2 ⟨h0, (List.forall_mem_cons.2 ⟨h1, (List.forall_mem_cons.2 ⟨h2, (List.forall_mem_cons.2 ⟨h3, (List.forall_mem_cons.2 ⟨h4, (List.forall_mem_nil _)⟩)⟩)⟩)⟩)⟩) h5 (Nat.le_of_ble_eq_true rfl),
   fun _ _ => inbAsrc ⟨v256, v257, v259, v261⟩ h5,
   fun _ _ h => words2 (m8 (gW v259)) (m8 (nW ⟨v256, v257, v259, v261⟩)) 0 4096 (m8_dvd _) (m8_dvd _) h,
   fun _ _ h => words2 (m8 (slotW [⟨v1, v2, v4, v6⟩, ⟨v52, v53, v55, v57⟩, ⟨v103, v104, v106, v108⟩, ⟨v154, v155, v157, v159⟩, ⟨v205, v206, v208, v210⟩])) (m8 (nW ⟨v256, v257, v259, v261⟩)) 0 4096 (m8_dvd _) (m8_dvd _) h,
   fun _ _ => m8_dvd _,
   fun _ _ => m8_dvd _,
   fun _ _ => m8_dvd _,
   fun _ _ => inbBdst (pW i) (pW_le i) [⟨v1, v2, v4, v6⟩, ⟨v52, v53, v55, v57⟩, ⟨v103, v104, v106, v108⟩, ⟨v154, v155, v157, v159⟩, ⟨v205, v206, v208, v210⟩] ⟨v256, v257, v259, v261⟩ (List.forall_mem_cons.2 ⟨h0, (List.forall_mem_cons.2 ⟨h1, (List.forall_mem_cons.2 ⟨h2, (List.forall_mem_cons.2 ⟨h3, (List.forall_mem_cons.2 ⟨h4, (List.forall_mem_nil _)⟩)⟩)⟩)⟩)⟩) h5 (Nat.le_of_ble_eq_true rfl),
   fun _ _ => squeezes1 (m8 (nW ⟨v256, v257, v259, v261⟩)) 512,
   fun _ _ => inbBsrc (qW i) (qW_le i) ⟨v256, v257, v259, v261⟩ h5,
   fun _ _ h => words2 (m8 (gW v259)) (m8 (nW ⟨v256, v257, v259, v261⟩)) (qW i).toNat 512 (m8_dvd _) (m8_dvd _) h,
   fun _ _ h => words3 (pW i).toNat (m8 (slotW [⟨v1, v2, v4, v6⟩, ⟨v52, v53, v55, v57⟩, ⟨v103, v104, v106, v108⟩, ⟨v154, v155, v157, v159⟩, ⟨v205, v206, v208, v210⟩])) (m8 (nW ⟨v256, v257, v259, v261⟩)) 0 1 512 (m8_dvd _) (m8_dvd _) h,
   fun e _ => m8_dvd _,
   fun e _ => m8_dvd _,
   fun e _ => m8_dvd _,
   fun e _ => inbBdst (pW' i) (pW'_le i) [⟨v1, v2, v4, v6⟩, ⟨v52, v53, v55, v57⟩, ⟨v103, v104, v106, v108⟩, ⟨v154, v155, v157, v159⟩, ⟨v205, v206, v208, v210⟩] ⟨v256, v257, v259, v261⟩ (List.forall_mem_cons.2 ⟨h0, (List.forall_mem_cons.2 ⟨h1, (List.forall_mem_cons.2 ⟨h2, (List.forall_mem_cons.2 ⟨h3, (List.forall_mem_cons.2 ⟨h4, (List.forall_mem_nil _)⟩)⟩)⟩)⟩)⟩) h5 (Nat.le_of_ble_eq_true rfl),
   fun e _ => squeezes1 (m8 (nW ⟨v256, v257, v259, v261⟩)) 512,
   fun e _ => inbBsrc (qW' i) (qW'_le i e) ⟨v256, v257, v259, v261⟩ h5,
   fun e _ h => words2 (m8 (gW v259)) (m8 (nW ⟨v256, v257, v259, v261⟩)) (qW' i).toNat 512 (m8_dvd _) (m8_dvd _) h,
   fun e _ h => words3 (pW' i).toNat (m8 (slotW [⟨v1, v2, v4, v6⟩, ⟨v52, v53, v55, v57⟩, ⟨v103, v104, v106, v108⟩, ⟨v154, v155, v157, v159⟩, ⟨v205, v206, v208, v210⟩])) (m8 (nW ⟨v256, v257, v259, v261⟩)) 0 1 512 (m8_dvd _) (m8_dvd _) h,
   fun _ _ => m8_dvd _,
   fun _ _ => m8_dvd _,
   fun _ _ => m8_dvd _,
   fun _ => m8_dvd _,
   fun _ => m8_dvd _,
   fun _ => m8_dvd _,
   fun _ => squeezes1 (m8 (nW ⟨v256, v257, v259, v261⟩)) 512⟩

end Cert.Kernel.Hand

end
-- ==== Proof.Flight.lean ====
/- Hand-written, untrusted: one guarded transfer of a segment's rows and its guarded wait, each stated once for the
   adapter's input side (whole rows) and once for its output side (a block of columns), over the offsets as variables. -/
module

public import proofs.«01_k».proof.Proof.Seg
public import proofs.«01_k».proof.Proof.Gen.Kernel.Skeleton
public import proofs.«01_k».proof.Proof.Gen.Kernel.Launch
public import Idealize.ShloMosaic.Lib.Transfers
public import Idealize.ShloMosaic.Lib.Pipeline.Frame

@[expose] public section

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The counters of the transfers, inside the proof's algebra. -/
abbrev EC : UEmb Counters 𝕄 := countersEmb

/-- One transfer of a part `dst` of a buffer from a part of `src`, the buffer's part afterwards holding `FD`. -/
theorem start_core (c : Dev nD) {sp sp' : Space} {s : Shape} {e : EltTy} (src : Memref sig .tc sp s e) (dst : Memref sig .tc sp' s e)
    (sm : SemLoc sig) {hsrc : src.view.WordExact} {hdst : dst.view.WordExact} {hsem : DmaTarget.Typed (nD := nD) (τ := τ) (p := .tc) sp sm (.here dst)}
    {α : Type} {k : Prog (TpuEff nD τ sig (Elt F) Λ₀ .tc) α} {Q : α → sProp 𝕄} {q : PosShare TreeShare}
    {fs : Buf (Elt F) (src.view.loc (c : Thread nD τ))} (FD : Buf (Elt F) (dst.view.loc (c : Thread nD τ)))
    (h0 : 0 < dst.view.amount sm)
    (hF : ∀ fd, ∀ i ∈ dst.view.set, dst.view.write (Elt F) fd (src.view.read (Elt F) fs) Finset.univ i = FD i) :
    (iprop((∃ g, dst.view.loc (c : Thread nD τ) ↦[dst.view.set]{fullShare} g) ∗ (src.view.loc (c : Thread nD τ) ↦[Finset.univ]{q} fs)
        ∗ semVal ((c : Thread nD τ), sm) 0) : sProp 𝕄)
      ⊢ iprop((iprop(Transfers.Flight EC (c : Thread nD τ) sm () (dst.view.amount sm)
              iprop((dst.view.loc (c : Thread nD τ) ↦[dst.view.set]{fullShare} FD) ∗ (src.view.loc (c : Thread nD τ) ↦[src.view.set]{q} fs))
            ∗ (src.view.loc (c : Thread nD τ) ↦[Finset.univ \ src.view.set]{q} fs))
          -∗ wp frame (wpE (defs₀ (F := F)) Variants.none (c : Thread nD τ) none) Set.univ k Q)
        -∗ wp frame (wpE (defs₀ (F := F)) Variants.none (c : Thread nD τ) none) Set.univ
            (.op (.enqueueDma src (.here dst) sm hsrc hdst hsem) (fun _ => k)) Q) := by
  iintro ⟨⟨%g, Hd⟩, Hs, Hv⟩ Hk
  ihave Hs2 := (pointsTo_split_subset (ℓ := src.view.loc (c : Thread nD τ)) (q := q) (f := fs) (Finset.subset_univ src.view.set)).1 $$ Hs
  icases Hs2 with ⟨Hs, Hr⟩
  iapply (Transfers.wp_dmaLocal EC Variants.none (c : Thread nD τ) none (k := fun _ => k) () (dst.view.amount sm) rfl h0 (Finset.Subset.refl _)) $$ [Hs Hd Hv]
  · isplitl [Hs]; · iexact Hs
    isplitl [Hd]; · iexact Hd
    iexact Hv
  iintro Hf
  iapply Hk
  isplitl [Hf]
  · rw [pointsTo_congr (fun i hi => hF g i hi)]
    iexact Hf
  iexact Hr

/-! ## The output side: a segment's rows of one block of columns -/

/-- The part of a slot's buffer a segment's rows land in. -/
def WB (p x y : ℕ) : Finset S2x512x512.Idx := Finset.univ.filter fun i => (i 0).val = p ∧ x ≤ (i 1).val ∧ (i 1).val < x + y
/-- The part of the pool they come from. -/
def SB (g q y : ℕ) : Finset S900x14336.Idx := Finset.univ.filter fun i => (g ≤ (i 0).val ∧ (i 0).val < g + y) ∧ q ≤ (i 1).val ∧ (i 1).val < q + 512

abbrev Bm : Memref sig .tc .vmem S2x512x512 .bf16 := Memref.whole cc0_scratch1
abbrev PBm : Memref sig .tc .hbm S900x14336 .bf16 := Memref.whole main_arg4
/-- A buffer's contents at the element type of the kernel's values. -/
abbrev BufB : Type := S2x512x512.Idx → Elt F .bf16
abbrev BufPB : Type := S900x14336.Idx → Elt F .bf16
abbrev ptB (c : Dev nD) (S : Finset S2x512x512.Idx) (f : S2x512x512.Idx → Elt F .bf16) : sProp 𝕄 :=
  (c : Thread nD τ).loc cc0_scratch1 ↦[S]{fullShare} (f : Buf (Elt F) ((c : Thread nD τ).loc cc0_scratch1))
abbrev ptPB (c : Dev nD) (S : Finset S900x14336.Idx) (q : PosShare TreeShare) (f : S900x14336.Idx → Elt F .bf16) : sProp 𝕄 :=
  (c : Thread nD τ).loc main_arg4 ↦[S]{q} (f : Buf (Elt F) ((c : Thread nD τ).loc main_arg4))

theorem set_dB (p x y : ℕ) (inb : ∀ a, ![1, y, 512] a = 0 ∨ ![p, x, 0] a + ![1, y, 512] a ≤ S2x512x512.size a)
    (sq : (⟨3, ![1, y, 512]⟩ : Shape).Squeezes ⟨2, ![y, 512]⟩) :
    ((Bm.slice (Rect.unitDyn (s := S2x512x512) ![p, x, 0] ![1, y, 512] inb) (fun _ => rfl)).squeeze ⟨2, ![y, 512]⟩ sq).view.set = WB p x y := by
  refine (View.set_reshape (Bm.view.slice (Rect.unitDyn (s := S2x512x512) ![p, x, 0] ![1, y, 512] inb)) _).trans ((View.set_slice _ _).trans ?_)
  ext i
  unfold WB
  simp only [Finset.mem_filter, Finset.mem_univ, true_and]
  constructor
  · intro h
    obtain ⟨j, hj, rfl⟩ := Finset.mem_map.1 h
    have hh := Rect.mem_set_unitDyn.1 hj
    have h0 := hh 0; have h1 := hh 1
    simp only [Matrix.cons_val_zero, Matrix.cons_val_one] at h0 h1
    refine ⟨?_, h1.1, h1.2⟩
    show (j 0).val = p
    omega
  · intro h
    refine Finset.mem_map.2 ⟨i, Rect.mem_set_unitDyn.2 ?_, rfl⟩
    intro a
    fin_cases a
    · show p ≤ (i 0).val ∧ (i 0).val < p + 1; omega
    · show x ≤ (i 1).val ∧ (i 1).val < x + y; omega
    · show 0 ≤ (i 2).val ∧ (i 2).val < 0 + 512; exact ⟨Nat.zero_le _, by have : (i 2).val < 512 := (i 2).isLt; omega⟩

theorem set_sB (g q y : ℕ) (inb : ∀ a, ![y, 512] a = 0 ∨ ![g, q] a + ![y, 512] a ≤ S900x14336.size a) :
    (PBm.slice (Rect.unitDyn (s := S900x14336) ![g, q] ![y, 512] inb) (fun _ => rfl)).view.set = SB g q y := by
  refine (View.set_slice PBm.view (Rect.unitDyn (s := S900x14336) ![g, q] ![y, 512] inb)).trans ?_
  ext i
  unfold SB
  simp only [Finset.mem_filter, Finset.mem_univ, true_and]
  constructor
  · intro h
    obtain ⟨j, hj, rfl⟩ := Finset.mem_map.1 h
    have hh := Rect.mem_set_unitDyn.1 hj
    exact ⟨hh 0, hh 1⟩
  · intro h
    refine Finset.mem_map.2 ⟨i, Rect.mem_set_unitDyn.2 ?_, rfl⟩
    intro a
    fin_cases a
    · exact h.1
    · exact h.2

/-- What lands in a segment's part of a slot is what the block function says. -/
theorem write_dB (p x y g q : ℕ) (inb : ∀ a, ![1, y, 512] a = 0 ∨ ![p, x, 0] a + ![1, y, 512] a ≤ S2x512x512.size a)
    (sq : (⟨3, ![1, y, 512]⟩ : Shape).Squeezes ⟨2, ![y, 512]⟩)
    (inbs : ∀ a, ![y, 512] a = 0 ∨ ![g, q] a + ![y, 512] a ≤ S900x14336.size a)
    (fs : S900x14336.Idx → Elt F .bf16) (FD : S2x512x512.Idx → Elt F .bf16)
    (hFD : ∀ (i : S2x512x512.Idx) (j : S900x14336.Idx), (i 0).val = p → x ≤ (i 1).val → (i 1).val < x + y →
      (j 0).val = g + ((i 1).val - x) → (j 1).val = q + (i 2).val → FD i = fs j)
    (fd : S2x512x512.Idx → Elt F .bf16) (i : S2x512x512.Idx)
    (hi : i ∈ ((Bm.slice (Rect.unitDyn (s := S2x512x512) ![p, x, 0] ![1, y, 512] inb) (fun _ => rfl)).squeeze ⟨2, ![y, 512]⟩ sq).view.set) :
    ((Bm.slice (Rect.unitDyn (s := S2x512x512) ![p, x, 0] ![1, y, 512] inb) (fun _ => rfl)).squeeze ⟨2, ![y, 512]⟩ sq).view.write (Elt F) fd
      ((PBm.slice (Rect.unitDyn (s := S900x14336) ![g, q] ![y, 512] inbs) (fun _ => rfl)).view.read (Elt F) fs) Finset.univ i = FD i := by
  obtain ⟨j, -, rfl⟩ := Finset.mem_map.1 hi
  rw [View.write_emb_of_mem _ _ (Finset.mem_univ j), View.read_apply]
  refine Eq.symm (hFD _ _ ?_ ?_ ?_ ?_ ?_)
  all_goals
    have hr := Shape.reshapeEquiv_cons_one (d := ![y, 512]) sq.numel_eq j
    have he : ((Bm.slice (Rect.unitDyn (s := S2x512x512) ![p, x, 0] ![1, y, 512] inb) (fun _ => rfl)).squeeze ⟨2, ![y, 512]⟩ sq).view.emb j
      = (Rect.unitDyn (s := S2x512x512) ![p, x, 0] ![1, y, 512] inb).emb (Shape.reshapeEquiv sq.numel_eq j) := rfl
    try rw [he]
    try rw [hr]
  · show p + 1 * 0 = p; omega
  · show x ≤ x + 1 * (j 0).val; omega
  · show x + 1 * (j 0).val < x + y; have : (j 0).val < y := (j 0).isLt; omega
  · show g + 1 * (j 0).val = g + (x + 1 * (j 0).val - x); omega
  · show q + 1 * (j 1).val = q + (0 + 1 * (j 1).val); omega

/-- The output-side semaphores. -/
def smB (p : ℕ) (s : Fin 6) : SemLoc sig := .dma ⟨15 + 6 * (p % 2) + s.val, by show _ < 27; omega⟩

/-- A segment's share of the resources, nothing under way. -/
def cellB (c : Dev nD) (p x y : ℕ) (s : Fin 6) (qs : PosShare TreeShare) (pb : S900x14336.Idx → Elt F .bf16) : sProp 𝕄 :=
  iprop((∃ g, ptB c (WB p x y) g) ∗ ptPB c Finset.univ qs pb ∗ semVal ((c : Thread nD τ), smB p s) 0)

/-- … its rows under way when it has any. -/
def flyB (c : Dev nD) (act : Prop) [Decidable act] (p x y g q : ℕ) (s : Fin 6) (qs : PosShare TreeShare)
    (pb : S900x14336.Idx → Elt F .bf16) (FD : S2x512x512.Idx → Elt F .bf16) : sProp 𝕄 :=
  if act then iprop(Transfers.Flight EC (c : Thread nD τ) (smB p s) () ((Bm.view.ref).dmaCredit ⟨2, ![y, 512]⟩ .bf16)
      iprop(ptB c (WB p x y) FD ∗ ptPB c (SB g q y) qs pb) ∗ ptPB c (Finset.univ \ SB g q y) qs pb)
  else cellB c p x y s qs pb

/-- … and with its rows landed. -/
def doneB (c : Dev nD) (p x y : ℕ) (s : Fin 6) (qs : PosShare TreeShare) (pb : S900x14336.Idx → Elt F .bf16)
    (FD : S2x512x512.Idx → Elt F .bf16) : sProp 𝕄 :=
  iprop(ptB c (WB p x y) FD ∗ ptPB c Finset.univ qs pb ∗ semVal ((c : Thread nD τ), smB p s) 0)

theorem rowMajor_S2x6 (i : S2x6.Idx) : (S2x6.rowMajor i).val = 6 * (i 0).val + (i 1).val := by
  have h := Shape.rowMajor_val_two (d := ![2, 6]) i
  have h' : (S2x6.rowMajor i).val = (i 0).val * 6 + (i 1).val := h
  omega

theorem smB_eq (s : Fin 6) (off : Fin 2 → ℕ) (p : ℕ) (hp : p ≤ 1) (h : off = ![p, s.val])
    (inb : ∀ a, off a + S1x1.size a ≤ S2x6.size a) (sq : S1x1.Squeezes S_) :
    (SemLoc.dma ((cc0_scratch4.slice (Rect.unit (s := S2x6) off S1x1.size inb)).squeeze S_ sq).sem : SemLoc sig) = smB p s := by
  subst h
  refine congrArg SemLoc.dma (Fin.ext ?_)
  have key : ∀ (j : S1x1.Idx), 15 + (S2x6.rowMajor ((Rect.unit (s := S2x6) ![p, s.val] S1x1.size inb).emb j)).val = 15 + 6 * (p % 2) + s.val := by
    intro j
    have hj0 : (j 0).val = 0 := by have : (j 0).val < 1 := (j 0).isLt; omega
    have hj1 : (j 1).val = 0 := by have : (j 1).val < 1 := (j 1).isLt; omega
    have hrm := rowMajor_S2x6 ((Rect.unit (s := S2x6) ![p, s.val] S1x1.size inb).emb j)
    have e0 : (((Rect.unit (s := S2x6) ![p, s.val] S1x1.size inb).emb j) 0).val = p := by
      show p + 1 * (j 0).val = p; omega
    have e1 : (((Rect.unit (s := S2x6) ![p, s.val] S1x1.size inb).emb j) 1).val = s.val := by
      show s.val + 1 * (j 1).val = s.val; omega
    rw [hrm, e0, e1]
    omega
  exact key _

/-- The guarded start of a segment's rows of a block. -/
theorem startB (c : Dev nD) {C : Prop} {dec : Decidable C} {p x y g q : ℕ} (s : Fin 6) (qs : PosShare TreeShare)
    (pb : S900x14336.Idx → Elt F .bf16) (FD : S2x512x512.Idx → Elt F .bf16)
    (hC : C ↔ 0 < y) (hp : p ≤ 1)
    (hFD : ∀ (i : S2x512x512.Idx) (j : S900x14336.Idx), (i 0).val = p → x ≤ (i 1).val → (i 1).val < x + y →
      (j 0).val = g + ((i 1).val - x) → (j 1).val = q + (i 2).val → FD i = pb j)
    {off sz : Fin 3 → ℕ} {soff ssz : Fin 2 → ℕ} {qoff : Fin 2 → ℕ} (hoff : off = ![p, x, 0]) (hsz : sz = ![1, y, 512])
    (hsoff : soff = ![g, q]) (hssz : ssz = ![y, 512]) (hq : qoff = ![p, s.val])
    {inb : C → ∀ a, sz a = 0 ∨ off a + sz a ≤ S2x512x512.size a} {sq : C → (⟨3, sz⟩ : Shape).Squeezes ⟨2, ssz⟩}
    {inbs : C → ∀ a, ssz a = 0 ∨ soff a + ssz a ≤ S900x14336.size a}
    {inbq : C → ∀ a, qoff a + S1x1.size a ≤ S2x6.size a} {sqq : S1x1.Squeezes S_}
    {hsrc : ∀ h : C, (PBm.slice (Rect.unitDyn (s := S900x14336) soff ssz (inbs h)) (fun _ => rfl)).view.WordExact}
    {hdst : ∀ h : C, ((Bm.slice (Rect.unitDyn (s := S2x512x512) off sz (inb h)) (fun _ => rfl)).squeeze ⟨2, ssz⟩ (sq h)).view.WordExact}
    {hsem : ∀ h : C, DmaTarget.Typed (nD := nD) (τ := τ) (p := .tc) .hbm
      (.dma ((cc0_scratch4.slice (Rect.unit (s := S2x6) qoff S1x1.size (inbq h))).squeeze S_ sqq).sem)
      (.here ((Bm.slice (Rect.unitDyn (s := S2x512x512) off sz (inb h)) (fun _ => rfl)).squeeze ⟨2, ssz⟩ (sq h)))}
    {α : Type} {k : Prog (TpuEff nD τ sig (Elt F) Λ₀ .tc) α} {Q : α → sProp 𝕄} :
    (cellB c p x y s qs pb : sProp 𝕄)
      ⊢ iprop((flyB c (0 < y) p x y g q s qs pb FD -∗ wp frame (wpE (defs₀ (F := F)) Variants.none (c : Thread nD τ) none) Set.univ k Q)
        -∗ wp frame (wpE (defs₀ (F := F)) Variants.none (c : Thread nD τ) none) Set.univ
            (if h : C then (Prog.lift (.enqueueDma (PBm.slice (Rect.unitDyn (s := S900x14336) soff ssz (inbs h)) (fun _ => rfl))
              (.here ((Bm.slice (Rect.unitDyn (s := S2x512x512) off sz (inb h)) (fun _ => rfl)).squeeze ⟨2, ssz⟩ (sq h)))
              (.dma ((cc0_scratch4.slice (Rect.unit (s := S2x6) qoff S1x1.size (inbq h))).squeeze S_ sqq).sem)
              (hsrc h) (hdst h) (hsem h)) >>= fun _ => k) else k) Q) := by
  subst hoff hsz hsoff hssz
  by_cases hc : C
  · have hy := hC.1 hc
    rw [dif_pos hc]
    unfold cellB flyB
    rw [if_pos hy]
    have hset := set_dB p x y (inb hc) (sq hc)
    have hsets := set_sB g q y (inbs hc)
    have hsm := smB_eq s qoff p hp hq (inbq hc) sqq
    rw [← hset, ← hsets, ← hsm]
    refine start_core c _ _ _ (hsrc := hsrc hc) (hdst := hdst hc) (hsem := hsem hc) FD ?_ ?_
    · show 0 < View.dmaCredit _
      exact View.dmaCredit_pos _ (by show 0 < Shape.numel ⟨2, ![y, 512]⟩; simp [Shape.numel, Fin.prod_univ_two]; exact hy)
    · intro fd i hi
      exact write_dB p x y g q (inb hc) (sq hc) (inbs hc) pb FD hFD fd i hi
  · have hy : ¬ 0 < y := fun h => hc (hC.2 h)
    rw [dif_neg hc]
    unfold flyB
    rw [if_neg hy]
    iintro H Hk
    iapply Hk $$ H

/-- The guarded wait of a segment's rows of a block. -/
theorem waitB (c : Dev nD) {C : Prop} {dec : Decidable C} {p x y g q : ℕ} (s : Fin 6) (qs : PosShare TreeShare)
    (pb : S900x14336.Idx → Elt F .bf16) (FD : S2x512x512.Idx → Elt F .bf16)
    (hC : C ↔ 0 < y) (hp : p ≤ 1) {ssz : Fin 2 → ℕ} {qoff : Fin 2 → ℕ} (hssz : ssz = ![y, 512]) (hq : qoff = ![p, s.val])
    {inbq : C → ∀ a, qoff a + S1x1.size a ≤ S2x6.size a} {sqq : S1x1.Squeezes S_}
    {hk : C → ((c : Thread nD τ).2 = .tc ∨ Bm.view.ref.HasMemref ⟨2, ssz⟩ .bf16)}
    {α : Type} {k : Prog (TpuEff nD τ sig (Elt F) Λ₀ .tc) α} {Q : α → sProp 𝕄} :
    (iprop(flyB c (0 < y) p x y g q s qs pb FD ∗ (∃ W, owes (c : Thread nD τ) 0 W)) : sProp 𝕄)
      ⊢ iprop((iprop(doneB c p x y s qs pb FD ∗ (∃ W, owes (c : Thread nD τ) 0 W))
            -∗ wp frame (wpE (defs₀ (F := F)) Variants.none (c : Thread nD τ) none) Set.univ k Q)
        -∗ wp frame (wpE (defs₀ (F := F)) Variants.none (c : Thread nD τ) none) Set.univ
            (if h : C then (Prog.lift (.waitDma ((cc0_scratch4.slice (Rect.unit (s := S2x6) qoff S1x1.size (inbq h))).squeeze S_ sqq).sem
              Bm.view.ref (⟨2, ssz⟩ : Shape) .bf16 (hk h)) >>= fun _ => k) else k) Q) := by
  subst hssz
  by_cases hc : C
  · have hy := hC.1 hc
    rw [dif_pos hc]
    unfold flyB doneB
    rw [if_pos hy]
    have hsm := smB_eq s qoff p hp hq (inbq hc) sqq
    rw [← hsm]
    iintro ⟨⟨HF, Hr⟩, %W, HO⟩ Hk
    iapply (Transfers.wp_waitLocalSized EC Variants.none (c : Thread nD τ) none (k := fun _ => k) () rfl) $$ [HF HO]
    · isplitl [HF]; · iexact HF
      iexact HO
    iintro ⟨⟨HD, HS⟩, Hv, HO⟩
    iapply Hk
    isplitl [HD HS Hr Hv]
    · isplitl [HD]; · iexact HD
      isplitl [HS Hr]
      · iapply (pointsTo_split_subset (ℓ := (c : Thread nD τ).loc main_arg4) (Finset.subset_univ (SB g q y))).2
        isplitl [HS]; · iexact HS
        iexact Hr
      iexact Hv
    iexists _
    iexact HO
  · have hy : ¬ 0 < y := fun h => hc (hC.2 h)
    have hW : WB p x y = ∅ := by
      unfold WB; apply Finset.filter_eq_empty_iff.2; intro i _; omega
    rw [dif_neg hc]
    unfold flyB cellB doneB
    rw [if_neg hy, hW]
    iintro ⟨⟨⟨%g, Hg⟩, Hp, Hv⟩, HO⟩ Hk
    iapply Hk
    isplitl [Hg Hp Hv]
    · isplitl [Hg]
      · have e : (ptB c ∅ g : sProp 𝕄) = ptB c ∅ FD := pointsTo_congr fun i hi => absurd hi (Finset.notMem_empty i)
        exact Entails.of_eq e
      isplitl [Hp]; · iexact Hp
      iexact Hv
    iexact HO

end Cert.Kernel.Hand

end
-- ==== Proof.FlightA.lean ====
/- Hand-written, untrusted: the input side's guarded transfer of a segment's rows and its wait. -/
module

public import proofs.«01_k».proof.Proof.Flight

@[expose] public section

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The part of the buffer a segment's rows land in, and the part of the pool they come from. -/
def WA (x y : ℕ) : Finset S512x4096.Idx := Finset.univ.filter fun i => x ≤ (i 0).val ∧ (i 0).val < x + y
def SA (g y : ℕ) : Finset S900x4096.Idx := Finset.univ.filter fun i => g ≤ (i 0).val ∧ (i 0).val < g + y

abbrev Am : Memref sig .tc .vmem S512x4096 .bf16 := Memref.whole cc0_scratch0
abbrev PAm : Memref sig .tc .hbm S900x4096 .bf16 := Memref.whole main_arg3
abbrev ptA (c : Dev nD) (S : Finset S512x4096.Idx) (f : S512x4096.Idx → Elt F .bf16) : sProp 𝕄 :=
  (c : Thread nD τ).loc cc0_scratch0 ↦[S]{fullShare} (f : Buf (Elt F) ((c : Thread nD τ).loc cc0_scratch0))
abbrev ptPA (c : Dev nD) (S : Finset S900x4096.Idx) (q : PosShare TreeShare) (f : S900x4096.Idx → Elt F .bf16) : sProp 𝕄 :=
  (c : Thread nD τ).loc main_arg3 ↦[S]{q} (f : Buf (Elt F) ((c : Thread nD τ).loc main_arg3))

theorem set_dA (x y : ℕ) (inb : ∀ a, ![y, 4096] a = 0 ∨ ![x, 0] a + ![y, 4096] a ≤ S512x4096.size a) :
    (Am.slice (Rect.unitDyn (s := S512x4096) ![x, 0] ![y, 4096] inb) (fun _ => rfl)).view.set = WA x y := by
  refine (View.set_slice Am.view (Rect.unitDyn (s := S512x4096) ![x, 0] ![y, 4096] inb)).trans ?_
  ext i
  unfold WA
  simp only [Finset.mem_filter, Finset.mem_univ, true_and]
  constructor
  · intro h
    obtain ⟨j, hj, rfl⟩ := Finset.mem_map.1 h
    exact (Rect.mem_set_unitDyn.1 hj) 0
  · intro h
    refine Finset.mem_map.2 ⟨i, Rect.mem_set_unitDyn.2 ?_, rfl⟩
    intro a
    fin_cases a
    · exact h
    · exact ⟨Nat.zero_le _, by have : (i 1).val < 4096 := (i 1).isLt; show (i 1).val < 0 + 4096; omega⟩

theorem set_sA (g y : ℕ) (inb : ∀ a, ![y, 4096] a = 0 ∨ ![g, 0] a + ![y, 4096] a ≤ S900x4096.size a) :
    (PAm.slice (Rect.unitDyn (s := S900x4096) ![g, 0] ![y, 4096] inb) (fun _ => rfl)).view.set = SA g y := by
  refine (View.set_slice PAm.view (Rect.unitDyn (s := S900x4096) ![g, 0] ![y, 4096] inb)).trans ?_
  ext i
  unfold SA
  simp only [Finset.mem_filter, Finset.mem_univ, true_and]
  constructor
  · intro h
    obtain ⟨j, hj, rfl⟩ := Finset.mem_map.1 h
    exact (Rect.mem_set_unitDyn.1 hj) 0
  · intro h
    refine Finset.mem_map.2 ⟨i, Rect.mem_set_unitDyn.2 ?_, rfl⟩
    intro a
    fin_cases a
    · exact h
    · exact ⟨Nat.zero_le _, by have : (i 1).val < 4096 := (i 1).isLt; show (i 1).val < 0 + 4096; omega⟩

/-- What lands in a segment's part is what the content function says. -/
theorem write_dA (x y g : ℕ) (inb : ∀ a, ![y, 4096] a = 0 ∨ ![x, 0] a + ![y, 4096] a ≤ S512x4096.size a)
    (inbs : ∀ a, ![y, 4096] a = 0 ∨ ![g, 0] a + ![y, 4096] a ≤ S900x4096.size a)
    (fs : S900x4096.Idx → Elt F .bf16) (FD : S512x4096.Idx → Elt F .bf16)
    (hFD : ∀ (i : S512x4096.Idx) (j : S900x4096.Idx), x ≤ (i 0).val → (i 0).val < x + y →
      (j 0).val = g + ((i 0).val - x) → (j 1).val = (i 1).val → FD i = fs j)
    (fd : S512x4096.Idx → Elt F .bf16) (i : S512x4096.Idx)
    (hi : i ∈ (Am.slice (Rect.unitDyn (s := S512x4096) ![x, 0] ![y, 4096] inb) (fun _ => rfl)).view.set) :
    (Am.slice (Rect.unitDyn (s := S512x4096) ![x, 0] ![y, 4096] inb) (fun _ => rfl)).view.write (Elt F) fd
      ((PAm.slice (Rect.unitDyn (s := S900x4096) ![g, 0] ![y, 4096] inbs) (fun _ => rfl)).view.read (Elt F) fs) Finset.univ i = FD i := by
  obtain ⟨j, -, rfl⟩ := Finset.mem_map.1 hi
  rw [View.write_emb_of_mem _ _ (Finset.mem_univ j), View.read_apply]
  refine Eq.symm (hFD _ _ ?_ ?_ ?_ ?_)
  · show x ≤ x + 1 * (j 0).val; omega
  · show x + 1 * (j 0).val < x + y; have : (j 0).val < y := (j 0).isLt; omega
  · show g + 1 * (j 0).val = g + (x + 1 * (j 0).val - x); omega
  · show 0 + 1 * (j 1).val = 0 + 1 * (j 1).val; omega

/-- The input-side semaphores. -/
def smA (s : Fin 6) : SemLoc sig := .dma ⟨9 + s.val, by show _ < 27; omega⟩

def cellA (c : Dev nD) (x y : ℕ) (s : Fin 6) (qs : PosShare TreeShare) (pa : S900x4096.Idx → Elt F .bf16) : sProp 𝕄 :=
  iprop((∃ g, ptA c (WA x y) g) ∗ ptPA c Finset.univ qs pa ∗ semVal ((c : Thread nD τ), smA s) 0)

def flyA (c : Dev nD) (act : Prop) [Decidable act] (x y g : ℕ) (s : Fin 6) (qs : PosShare TreeShare)
    (pa : S900x4096.Idx → Elt F .bf16) (FD : S512x4096.Idx → Elt F .bf16) : sProp 𝕄 :=
  if act then iprop(Transfers.Flight EC (c : Thread nD τ) (smA s) () ((Am.view.ref).dmaCredit ⟨2, ![y, 4096]⟩ .bf16)
      iprop(ptA c (WA x y) FD ∗ ptPA c (SA g y) qs pa) ∗ ptPA c (Finset.univ \ SA g y) qs pa)
  else cellA c x y s qs pa

def doneA (c : Dev nD) (x y : ℕ) (s : Fin 6) (qs : PosShare TreeShare) (pa : S900x4096.Idx → Elt F .bf16)
    (FD : S512x4096.Idx → Elt F .bf16) : sProp 𝕄 :=
  iprop(ptA c (WA x y) FD ∗ ptPA c Finset.univ qs pa ∗ semVal ((c : Thread nD τ), smA s) 0)

theorem smA_eq (s : Fin 6) (off : Fin 1 → ℕ) (h : off = ![s.val])
    (inb : ∀ a, off a + S1.size a ≤ S6.size a) (sq : S1.Squeezes S_) :
    (SemLoc.dma ((cc0_scratch3.slice (Rect.unit (s := S6) off S1.size inb)).squeeze S_ sq).sem : SemLoc sig) = smA s := by
  subst h
  refine congrArg SemLoc.dma (Fin.ext ?_)
  have key : ∀ (j : S1.Idx), 9 + (S6.rowMajor ((Rect.unit (s := S6) ![s.val] S1.size inb).emb j)).val = 9 + s.val := by
    intro j
    have hj0 : (j 0).val = 0 := by have : (j 0).val < 1 := (j 0).isLt; omega
    have hrm : (S6.rowMajor ((Rect.unit (s := S6) ![s.val] S1.size inb).emb j)).val
      = (((Rect.unit (s := S6) ![s.val] S1.size inb).emb j) 0).val := Shape.rowMajor_val_one (d := ![6]) _
    have e0 : (((Rect.unit (s := S6) ![s.val] S1.size inb).emb j) 0).val = s.val := by
      show s.val + 1 * (j 0).val = s.val; omega
    rw [hrm, e0]
  exact key _

/-- The guarded start of a segment's rows. -/
theorem startA (c : Dev nD) {C : Prop} {dec : Decidable C} {x y g : ℕ} (s : Fin 6) (qs : PosShare TreeShare)
    (pa : S900x4096.Idx → Elt F .bf16) (FD : S512x4096.Idx → Elt F .bf16)
    (hC : C ↔ 0 < y)
    (hFD : ∀ (i : S512x4096.Idx) (j : S900x4096.Idx), x ≤ (i 0).val → (i 0).val < x + y →
      (j 0).val = g + ((i 0).val - x) → (j 1).val = (i 1).val → FD i = pa j)
    {off sz : Fin 2 → ℕ} {soff : Fin 2 → ℕ} {qoff : Fin 1 → ℕ} (hoff : off = ![x, 0]) (hsz : sz = ![y, 4096])
    (hsoff : soff = ![g, 0]) (hq : qoff = ![s.val])
    {inb : C → ∀ a, sz a = 0 ∨ off a + sz a ≤ S512x4096.size a}
    {inbs : C → ∀ a, sz a = 0 ∨ soff a + sz a ≤ S900x4096.size a}
    {inbq : C → ∀ a, qoff a + S1.size a ≤ S6.size a} {sqq : S1.Squeezes S_}
    {hsrc : ∀ h : C, (PAm.slice (Rect.unitDyn (s := S900x4096) soff sz (inbs h)) (fun _ => rfl)).view.WordExact}
    {hdst : ∀ h : C, (Am.slice (Rect.unitDyn (s := S512x4096) off sz (inb h)) (fun _ => rfl)).view.WordExact}
    {hsem : ∀ h : C, DmaTarget.Typed (nD := nD) (τ := τ) (p := .tc) .hbm
      (.dma ((cc0_scratch3.slice (Rect.unit (s := S6) qoff S1.size (inbq h))).squeeze S_ sqq).sem)
      (.here (Am.slice (Rect.unitDyn (s := S512x4096) off sz (inb h)) (fun _ => rfl)))}
    {α : Type} {k : Prog (TpuEff nD τ sig (Elt F) Λ₀ .tc) α} {Q : α → sProp 𝕄} :
    (cellA c x y s qs pa : sProp 𝕄)
      ⊢ iprop((flyA c (0 < y) x y g s qs pa FD -∗ wp frame (wpE (defs₀ (F := F)) Variants.none (c : Thread nD τ) none) Set.univ k Q)
        -∗ wp frame (wpE (defs₀ (F := F)) Variants.none (c : Thread nD τ) none) Set.univ
            (if h : C then (Prog.lift (.enqueueDma (PAm.slice (Rect.unitDyn (s := S900x4096) soff sz (inbs h)) (fun _ => rfl))
              (.here (Am.slice (Rect.unitDyn (s := S512x4096) off sz (inb h)) (fun _ => rfl)))
              (.dma ((cc0_scratch3.slice (Rect.unit (s := S6) qoff S1.size (inbq h))).squeeze S_ sqq).sem)
              (hsrc h) (hdst h) (hsem h)) >>= fun _ => k) else k) Q) := by
  subst hoff hsz hsoff
  by_cases hc : C
  · have hy := hC.1 hc
    rw [dif_pos hc]
    unfold cellA flyA
    rw [if_pos hy]
    have hset := set_dA x y (inb hc)
    have hsets := set_sA g y (inbs hc)
    have hsm := smA_eq s qoff hq (inbq hc) sqq
    rw [← hset, ← hsets, ← hsm]
    refine start_core c _ _ _ (hsrc := hsrc hc) (hdst := hdst hc) (hsem := hsem hc) FD ?_ ?_
    · show 0 < View.dmaCredit _
      exact View.dmaCredit_pos _ (by show 0 < Shape.numel ⟨2, ![y, 4096]⟩; simp [Shape.numel, Fin.prod_univ_two]; exact hy)
    · intro fd i hi
      exact write_dA x y g (inb hc) (inbs hc) pa FD hFD fd i hi
  · have hy : ¬ 0 < y := fun h => hc (hC.2 h)
    rw [dif_neg hc]
    unfold flyA
    rw [if_neg hy]
    iintro H Hk
    iapply Hk $$ H

/-- The guarded wait of a segment's rows. -/
theorem waitA (c : Dev nD) {C : Prop} {dec : Decidable C} {x y g : ℕ} (s : Fin 6) (qs : PosShare TreeShare)
    (pa : S900x4096.Idx → Elt F .bf16) (FD : S512x4096.Idx → Elt F .bf16)
    (hC : C ↔ 0 < y) {ssz : Fin 2 → ℕ} {qoff : Fin 1 → ℕ} (hssz : ssz = ![y, 4096]) (hq : qoff = ![s.val])
    {inbq : C → ∀ a, qoff a + S1.size a ≤ S6.size a} {sqq : S1.Squeezes S_}
    {hk : C → ((c : Thread nD τ).2 = .tc ∨ Am.view.ref.HasMemref ⟨2, ssz⟩ .bf16)}
    {α : Type} {k : Prog (TpuEff nD τ sig (Elt F) Λ₀ .tc) α} {Q : α → sProp 𝕄} :
    (iprop(flyA c (0 < y) x y g s qs pa FD ∗ (∃ W, owes (c : Thread nD τ) 0 W)) : sProp 𝕄)
      ⊢ iprop((iprop(doneA c x y s qs pa FD ∗ (∃ W, owes (c : Thread nD τ) 0 W))
            -∗ wp frame (wpE (defs₀ (F := F)) Variants.none (c : Thread nD τ) none) Set.univ k Q)
        -∗ wp frame (wpE (defs₀ (F := F)) Variants.none (c : Thread nD τ) none) Set.univ
            (if h : C then (Prog.lift (.waitDma ((cc0_scratch3.slice (Rect.unit (s := S6) qoff S1.size (inbq h))).squeeze S_ sqq).sem
              Am.view.ref (⟨2, ssz⟩ : Shape) .bf16 (hk h)) >>= fun _ => k) else k) Q) := by
  subst hssz
  by_cases hc : C
  · have hy := hC.1 hc
    rw [dif_pos hc]
    unfold flyA doneA
    rw [if_pos hy]
    have hsm := smA_eq s qoff hq (inbq hc) sqq
    rw [← hsm]
    iintro ⟨⟨HF, Hr⟩, %W, HO⟩ Hk
    iapply (Transfers.wp_waitLocalSized EC Variants.none (c : Thread nD τ) none (k := fun _ => k) () rfl) $$ [HF HO]
    · isplitl [HF]; · iexact HF
      iexact HO
    iintro ⟨⟨HD, HS⟩, Hv, HO⟩
    iapply Hk
    isplitl [HD HS Hr Hv]
    · isplitl [HD]; · iexact HD
      isplitl [HS Hr]
      · iapply (pointsTo_split_subset (ℓ := (c : Thread nD τ).loc main_arg3) (Finset.subset_univ (SA g y))).2
        isplitl [HS]; · iexact HS
        iexact Hr
      iexact Hv
    iexists _
    iexact HO
  · have hy : ¬ 0 < y := fun h => hc (hC.2 h)
    have hW : WA x y = ∅ := by
      unfold WA; apply Finset.filter_eq_empty_iff.2; intro i _; omega
    rw [dif_neg hc]
    unfold flyA cellA doneA
    rw [if_neg hy, hW]
    iintro ⟨⟨⟨%g, Hg⟩, Hp, Hv⟩, HO⟩ Hk
    iapply Hk
    isplitl [Hg Hp Hv]
    · isplitl [Hg]
      · have e : (ptA c ∅ g : sProp 𝕄) = ptA c ∅ FD := pointsTo_congr fun i hi => absurd hi (Finset.notMem_empty i)
        rw [e]
        exact Entails.of_eq rfl
      isplitl [Hp]; · iexact Hp
      iexact Hv
    iexact HO

end Cert.Kernel.Hand

end
-- ==== Proof.Contents.lean ====
/- Hand-written, untrusted: where each segment's rows land in the staging buffers, what the buffers hold once they have
   landed, and the cutting of a buffer into the segments' parts and the rest. -/
module

public import proofs.«01_k».proof.Proof.FlightA

@[expose] public section

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The segments before one. -/
def pre (sg : Fin 6 → Seg) : Fin 6 → List Seg :=
  ![[], [sg 0], [sg 0, sg 1], [sg 0, sg 1, sg 2], [sg 0, sg 1, sg 2, sg 3], [sg 0, sg 1, sg 2, sg 3, sg 4]]
/-- The first row a segment lands in, the number of its rows, and its first row in the pools. -/
def gx (sg : Fin 6 → Seg) (s : Fin 6) : ℕ := m8 (slotW (pre sg s))
def gy (sg : Fin 6 → Seg) (s : Fin 6) : ℕ := m8 (nW (sg s))
def gg (sg : Fin 6 → Seg) (s : Fin 6) : ℕ := m8 (gW (sg s).st)

theorem gy_eq (sg : Fin 6 → Seg) (ok : ∀ s, (sg s).OK) (s : Fin 6) : gy sg s = 8 * (sg s).n := m8_nW _ (ok s)
theorem gg_eq (sg : Fin 6 → Seg) (ok : ∀ s, (sg s).OK) (s : Fin 6) : gg sg s = 8 * (sg s).g := m8_gW _ (ok s)

theorem gx_eq (sg : Fin 6 → Seg) (ok : ∀ s, (sg s).OK) (s : Fin 6) : gx sg s = 8 * slotN (pre sg s) := by
  refine m8_slot _ ?_ ?_
  · have hall : ∀ s, ∀ t ∈ pre sg s, ∃ u, t = sg u := by
      intro s t ht
      fin_cases s <;> simp [pre] at ht <;> aesop
    intro t ht
    obtain ⟨u, rfl⟩ := hall s t ht
    exact ok u
  · fin_cases s <;> exact Nat.le_of_ble_eq_true rfl

/-- The parts' rows, one segment after another. -/
theorem gx_vals (sg : Fin 6 → Seg) (ok : ∀ s, (sg s).OK) :
    gx sg 0 = 0 ∧ gx sg 1 = gx sg 0 + gy sg 0 ∧ gx sg 2 = gx sg 1 + gy sg 1 ∧ gx sg 3 = gx sg 2 + gy sg 2
      ∧ gx sg 4 = gx sg 3 + gy sg 3 ∧ gx sg 5 = gx sg 4 + gy sg 4 := by
  simp only [gx_eq sg ok, gy_eq sg ok]
  simp only [pre, slotN, Matrix.cons_val, Fin.isValue, List.map_cons, List.map_nil, List.sum_cons, List.sum_nil]
  omega

theorem gy_le (sg : Fin 6 → Seg) (ok : ∀ s, (sg s).OK) (s : Fin 6) : gy sg s ≤ 72 ∧ gg sg s + gy sg s ≤ 900 := by
  rw [gy_eq sg ok, gg_eq sg ok]
  have := n_le (sg s) (ok s)
  omega

/-- Row `r` of the staging buffers is one of segment `s`'s. -/
def inSeg (sg : Fin 6 → Seg) (r : ℕ) (s : Fin 6) : Prop := gx sg s ≤ r ∧ r < gx sg s + gy sg s

theorem inSeg_unique (sg : Fin 6 → Seg) (ok : ∀ s, (sg s).OK) (r : ℕ) (s t : Fin 6) (hs : inSeg sg r s) (ht : inSeg sg r t) : s = t := by
  obtain ⟨h0, h1, h2, h3, h4, h5⟩ := gx_vals sg ok
  unfold inSeg at hs ht
  fin_cases s <;> fin_cases t <;> first | rfl | (exfalso; simp only [Fin.zero_eta, Fin.mk_one, Fin.reduceFinMk, Fin.isValue] at hs ht; omega)

open Classical in
/-- What the input-side buffer holds: each segment's rows of the pool, zero elsewhere. -/
def FA (sg : Fin 6 → Seg) (pa : S900x4096.Idx → Elt F .bf16) (i : S512x4096.Idx) : Elt F .bf16 :=
  if h : ∃ s, inSeg sg (i 0).val s then
    pa (fun a => match a with
      | 0 => ⟨(gg sg h.choose + ((i 0).val - gx sg h.choose)) % 900, by show _ < 900; omega⟩
      | 1 => ⟨(i 1).val, (i 1).isLt⟩)
  else k0_pay2 (F := F) i

open Classical in
/-- What a slot of the output-side buffer holds for a block of columns. -/
def FB (sg : Fin 6 → Seg) (pb : S900x14336.Idx → Elt F .bf16) (b : ℕ) (i : S2x512x512.Idx) : Elt F .bf16 :=
  if h : ∃ s, inSeg sg (i 1).val s then
    pb (fun a => match a with
      | 0 => ⟨(gg sg h.choose + ((i 1).val - gx sg h.choose)) % 900, by show _ < 900; omega⟩
      | 1 => ⟨(512 * b + (i 2).val) % 14336, by show _ < 14336; omega⟩)
  else k0_pay3 (F := F) i

theorem FA_at (sg : Fin 6 → Seg) (ok : ∀ s, (sg s).OK) (pa : S900x4096.Idx → Elt F .bf16) (s : Fin 6) (i : S512x4096.Idx) (j : S900x4096.Idx)
    (h1 : gx sg s ≤ (i 0).val) (h2 : (i 0).val < gx sg s + gy sg s) (h3 : (j 0).val = gg sg s + ((i 0).val - gx sg s)) (h4 : (j 1).val = (i 1).val) :
    FA sg pa i = pa j := by
  have h : ∃ s, inSeg sg (i 0).val s := ⟨s, h1, h2⟩
  have hc : h.choose = s := inSeg_unique sg ok _ _ _ h.choose_spec ⟨h1, h2⟩
  unfold FA
  rw [dif_pos h]
  refine congrArg pa (funext fun a => Fin.ext ?_)
  have hle := gy_le sg ok s
  fin_cases a
  · show (gg sg h.choose + ((i 0).val - gx sg h.choose)) % 900 = (j 0).val
    rw [hc]; omega
  · exact h4.symm

theorem FB_at (sg : Fin 6 → Seg) (ok : ∀ s, (sg s).OK) (pb : S900x14336.Idx → Elt F .bf16) (b : ℕ) (hb : b < 28) (s : Fin 6) (i : S2x512x512.Idx) (j : S900x14336.Idx)
    (h1 : gx sg s ≤ (i 1).val) (h2 : (i 1).val < gx sg s + gy sg s) (h3 : (j 0).val = gg sg s + ((i 1).val - gx sg s)) (h4 : (j 1).val = 512 * b + (i 2).val) :
    FB sg pb b i = pb j := by
  have h : ∃ s, inSeg sg (i 1).val s := ⟨s, h1, h2⟩
  have hc : h.choose = s := inSeg_unique sg ok _ _ _ h.choose_spec ⟨h1, h2⟩
  unfold FB
  rw [dif_pos h]
  refine congrArg pb (funext fun a => Fin.ext ?_)
  have hle := gy_le sg ok s
  fin_cases a
  · show (gg sg h.choose + ((i 1).val - gx sg h.choose)) % 900 = (j 0).val
    rw [hc]; omega
  · show (512 * b + (i 2).val) % 14336 = (j 1).val
    have : (i 2).val < 512 := (i 2).isLt
    omega

/-- Six assertions, side by side. -/
abbrev six (P : Fin 6 → sProp 𝕄) : sProp 𝕄 := iprop(P 0 ∗ P 1 ∗ P 2 ∗ P 3 ∗ P 4 ∗ P 5)

theorem bigSep_six (P : Fin 6 → sProp 𝕄) : bigSep Finset.univ P = six P := by
  rw [BI.bigSep_univ_eq_bigSepL [0, 1, 2, 3, 4, 5] (by decide) (by decide)]; rfl

/-- The input-side buffer's rows of no segment. -/
def restA (sg : Fin 6 → Seg) : Finset S512x4096.Idx := Finset.univ \ Finset.univ.biUnion fun s => WA (gx sg s) (gy sg s)
/-- One slot of the output-side buffer, and its rows of no segment. -/
def slotB (p : ℕ) : Finset S2x512x512.Idx := Finset.univ.filter fun i => (i 0).val = p
def restB (sg : Fin 6 → Seg) (p : ℕ) : Finset S2x512x512.Idx := slotB p \ Finset.univ.biUnion fun s => WB p (gx sg s) (gy sg s)

theorem splitA (sg : Fin 6 → Seg) (ok : ∀ s, (sg s).OK) (c : Dev nD) (f : S512x4096.Idx → Elt F .bf16) :
    (ptA c Finset.univ f : sProp 𝕄) ⊣⊢ iprop(six (fun s => ptA c (WA (gx sg s) (gy sg s)) f) ∗ ptA c (restA sg) f) := by
  have h : (ptA c Finset.univ f : sProp 𝕄) ⊣⊢ _ := pointsTo_split_subset (ℓ := (c : Thread nD τ).loc cc0_scratch0) (q := fullShare) (f := (f : Buf (Elt F) ((c : Thread nD τ).loc cc0_scratch0)))
    (Finset.subset_univ (Finset.univ.biUnion fun s => WA (gx sg s) (gy sg s)))
  have h2 : (_ : sProp 𝕄) = _ := pointsTo_biUnion (ℓ := (c : Thread nD τ).loc cc0_scratch0) (q := fullShare) (f := (f : Buf (Elt F) ((c : Thread nD τ).loc cc0_scratch0)))
    Finset.univ (fun s => WA (gx sg s) (gy sg s)) (fun s _ t _ hst => Finset.disjoint_left.2 fun i hi hj => hst
      (inSeg_unique sg ok _ _ _ (by simpa [WA, inSeg] using hi) (by simpa [WA, inSeg] using hj)))
  rw [bigSep_six] at h2
  rw [h2] at h
  exact h

theorem splitB (sg : Fin 6 → Seg) (ok : ∀ s, (sg s).OK) (c : Dev nD) (p : ℕ) (f : S2x512x512.Idx → Elt F .bf16) :
    (ptB c (slotB p) f : sProp 𝕄) ⊣⊢ iprop(six (fun s => ptB c (WB p (gx sg s) (gy sg s)) f) ∗ ptB c (restB sg p) f) := by
  have h : (ptB c (slotB p) f : sProp 𝕄) ⊣⊢ _ := pointsTo_split_subset (ℓ := (c : Thread nD τ).loc cc0_scratch1) (q := fullShare) (f := (f : Buf (Elt F) ((c : Thread nD τ).loc cc0_scratch1)))
    (S := slotB p) (I := Finset.univ.biUnion fun s => WB p (gx sg s) (gy sg s))
    (by intro i hi; simp only [Finset.mem_biUnion, WB, Finset.mem_filter] at hi; obtain ⟨s, _, hs⟩ := hi; simp [slotB, hs.2.1])
  have h2 : (_ : sProp 𝕄) = _ := pointsTo_biUnion (ℓ := (c : Thread nD τ).loc cc0_scratch1) (q := fullShare) (f := (f : Buf (Elt F) ((c : Thread nD τ).loc cc0_scratch1)))
    Finset.univ (fun s => WB p (gx sg s) (gy sg s)) (fun s _ t _ hst => Finset.disjoint_left.2 fun i hi hj => hst
      (inSeg_unique sg ok _ _ _ (by have := (Finset.mem_filter.1 hi).2; exact this.2) (by have := (Finset.mem_filter.1 hj).2; exact this.2)))
  rw [bigSep_six] at h2
  rw [h2] at h
  exact h

/-- The output-side buffer is its two slots. -/
theorem splitSlots (c : Dev nD) (f : S2x512x512.Idx → Elt F .bf16) :
    (ptB c Finset.univ f : sProp 𝕄) ⊣⊢ iprop(ptB c (slotB 0) f ∗ ptB c (slotB 1) f) := by
  have h : (_ : sProp 𝕄) ⊣⊢ _ := pointsTo_union (ℓ := (c : Thread nD τ).loc cc0_scratch1) (q := fullShare) (f := (f : Buf (Elt F) ((c : Thread nD τ).loc cc0_scratch1)))
    (I := slotB 0) (J := slotB 1) (Finset.disjoint_left.2 fun i hi hj => by
      have h1 := (Finset.mem_filter.1 hi).2; have h2 := (Finset.mem_filter.1 hj).2; omega)
  have hu : (slotB 0 ∪ slotB 1 : Finset S2x512x512.Idx) = Finset.univ := by
    ext i
    have : (i 0).val < 2 := (i 0).isLt
    simp only [slotB, Finset.mem_union, Finset.mem_filter, Finset.mem_univ, true_and, iff_true]
    omega
  rw [hu] at h
  exact h

theorem FA_rest (sg : Fin 6 → Seg) (pa : S900x4096.Idx → Elt F .bf16) (c : Dev nD) :
    (ptA c (restA sg) (k0_pay2 (F := F)) : sProp 𝕄) = ptA c (restA sg) (FA sg pa) :=
  pointsTo_congr fun i hi => by
    have h : ¬ ∃ s, inSeg sg (i 0).val s := by
      rintro ⟨s, hs⟩
      exact (Finset.mem_sdiff.1 hi).2 (Finset.mem_biUnion.2 ⟨s, Finset.mem_univ _, Finset.mem_filter.2 ⟨Finset.mem_univ _, hs⟩⟩)
    show _ = FA sg pa i
    unfold FA
    rw [dif_neg h]

theorem FB_rest (sg : Fin 6 → Seg) (pb : S900x14336.Idx → Elt F .bf16) (c : Dev nD) (p b : ℕ) :
    (ptB c (restB sg p) (k0_pay3 (F := F)) : sProp 𝕄) = ptB c (restB sg p) (FB sg pb b) :=
  pointsTo_congr fun i hi => by
    have h : ¬ ∃ s, inSeg sg (i 1).val s := by
      rintro ⟨s, hs⟩
      exact (Finset.mem_sdiff.1 hi).2 (Finset.mem_biUnion.2 ⟨s, Finset.mem_univ _, Finset.mem_filter.2
        ⟨Finset.mem_univ _, (Finset.mem_filter.1 (Finset.mem_sdiff.1 hi).1).2, hs⟩⟩)
    show _ = FB sg pb b i
    unfold FB
    rw [dif_neg h]

/-! ## The pools' shares -/

/-- The share of the input-side pool a segment's rows are read at. -/
def qA (s : Fin 6) : PosShare TreeShare := Transfers.dealOf fullShare (Finset.univ : Finset (Fin 6)) s
/-- The share of the output-side pool a slot's segment's rows are read at. -/
def qB (p : ℕ) (s : Fin 6) : PosShare TreeShare :=
  Transfers.dealOf fullShare (Finset.univ : Finset (Fin 12)) ⟨6 * (p % 2) + s.val, by omega⟩

theorem dealA (c : Dev nD) (pa : S900x4096.Idx → Elt F .bf16) :
    (ptPA c Finset.univ fullShare pa : sProp 𝕄) = six fun s => ptPA c Finset.univ (qA s) pa := by
  refine (Transfers.pointsTo_deal (Finset.univ : Finset (Fin 6)) ⟨0, Finset.mem_univ _⟩ fullShare).trans ?_
  rw [bigSep_six]; rfl

theorem bigSep_twelve (P : Fin 12 → sProp 𝕄) : bigSep Finset.univ P = iprop(P 0 ∗ P 1 ∗ P 2 ∗ P 3 ∗ P 4 ∗ P 5 ∗ P 6 ∗ P 7 ∗ P 8 ∗ P 9 ∗ P 10 ∗ P 11) := by
  rw [BI.bigSep_univ_eq_bigSepL [0, 1, 2, 3, 4, 5, 6, 7, 8, 9, 10, 11] (by decide) (by decide)]; rfl

theorem dealB (c : Dev nD) (pb : S900x14336.Idx → Elt F .bf16) :
    (ptPB c Finset.univ fullShare pb : sProp 𝕄) ⊣⊢ iprop(six (fun s => ptPB c Finset.univ (qB 0 s) pb) ∗ six fun s => ptPB c Finset.univ (qB 1 s) pb) := by
  have e : (ptPB c Finset.univ fullShare pb : sProp 𝕄) = _ := Transfers.pointsTo_deal (Finset.univ : Finset (Fin 12)) ⟨0, Finset.mem_univ _⟩ fullShare
  rw [bigSep_twelve] at e
  rw [e]
  constructor
  · iintro ⟨a, b, c, d, e, f, g, h, i, j, k, l⟩
    isplitl [a b c d e f]
    · isplitl [a]; · iexact a
      isplitl [b]; · iexact b
      isplitl [c]; · iexact c
      isplitl [d]; · iexact d
      isplitl [e]; · iexact e
      iexact f
    isplitl [g]; · iexact g
    isplitl [h]; · iexact h
    isplitl [i]; · iexact i
    isplitl [j]; · iexact j
    isplitl [k]; · iexact k
    iexact l
  · iintro ⟨⟨a, b, c, d, e, f⟩, g, h, i, j, k, l⟩
    isplitl [a]; · iexact a
    isplitl [b]; · iexact b
    isplitl [c]; · iexact c
    isplitl [d]; · iexact d
    isplitl [e]; · iexact e
    isplitl [f]; · iexact f
    isplitl [g]; · iexact g
    isplitl [h]; · iexact h
    isplitl [i]; · iexact i
    isplitl [j]; · iexact j
    isplitl [k]; · iexact k
    iexact l

end Cert.Kernel.Hand

end
-- ==== Proof.Steps.lean ====
/- Hand-written, untrusted: the resources segment by segment and the loads and stores through memrefs held whole. -/
module

public import proofs.«01_k».proof.Proof.Contents

@[expose] public section

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

abbrev Hm : Memref sig .tc .vmem S128x512 .bf16 := Memref.whole cc0_scratch2

/-- The six segments out of their words. -/
def mkSg (v1 v2 v4 v6 v52 v53 v55 v57 v103 v104 v106 v108 v154 v155 v157 v159 v205 v206 v208 v210 v256 v257 v259 v261 : BitVec 32) : Fin 6 → Seg :=
  ![⟨v1, v2, v4, v6⟩, ⟨v52, v53, v55, v57⟩, ⟨v103, v104, v106, v108⟩, ⟨v154, v155, v157, v159⟩, ⟨v205, v206, v208, v210⟩, ⟨v256, v257, v259, v261⟩]

/-- Whether a segment has rows, as its guard's word says. -/
theorem guard_gy (sg : Fin 6 → Seg) (ok : ∀ s, (sg s).OK) (s : Fin 6) : guardW (sg s) = 1#1 ↔ 0 < gy sg s := by
  rw [guard_iff _ (ok s), gy_eq sg ok]; omega

abbrev sA0 (c : Dev nD) (s : Fin 6) : sProp 𝕄 := semVal ((c : Thread nD τ), smA s) 0
abbrev sB0 (c : Dev nD) (p : ℕ) (s : Fin 6) : sProp 𝕄 := semVal ((c : Thread nD τ), smB p s) 0
abbrev cB (c : Dev nD) (sg : Fin 6 → Seg) (p : ℕ) (pb : S900x14336.Idx → Elt F .bf16) (s : Fin 6) : sProp 𝕄 :=
  cellB c p (gx sg s) (gy sg s) s (qB p s) pb
abbrev fB (c : Dev nD) (sg : Fin 6 → Seg) (p q b : ℕ) (pb : S900x14336.Idx → Elt F .bf16) (s : Fin 6) : sProp 𝕄 :=
  flyB c (0 < gy sg s) p (gx sg s) (gy sg s) (gg sg s) q s (qB p s) pb (FB sg pb b)
abbrev dB (c : Dev nD) (sg : Fin 6 → Seg) (p b : ℕ) (pb : S900x14336.Idx → Elt F .bf16) (s : Fin 6) : sProp 𝕄 :=
  doneB c p (gx sg s) (gy sg s) s (qB p s) pb (FB sg pb b)
abbrev cA (c : Dev nD) (sg : Fin 6 → Seg) (pa : S900x4096.Idx → Elt F .bf16) (s : Fin 6) : sProp 𝕄 :=
  cellA c (gx sg s) (gy sg s) s (qA s) pa
abbrev fA (c : Dev nD) (sg : Fin 6 → Seg) (pa : S900x4096.Idx → Elt F .bf16) (s : Fin 6) : sProp 𝕄 :=
  flyA c (0 < gy sg s) (gx sg s) (gy sg s) (gg sg s) s (qA s) pa (FA sg pa)
abbrev dA (c : Dev nD) (sg : Fin 6 → Seg) (pa : S900x4096.Idx → Elt F .bf16) (s : Fin 6) : sProp 𝕄 :=
  doneA c (gx sg s) (gy sg s) s (qA s) pa (FA sg pa)

/-- Three families side by side are one family of three. -/
theorem six_three (P Q R : Fin 6 → sProp 𝕄) : iprop(six P ∗ six Q ∗ six R) ⊣⊢ six (fun s => iprop(P s ∗ Q s ∗ R s)) := by
  unfold six
  constructor
  · iintro ⟨⟨a0, a1, a2, a3, a4, a5⟩, ⟨b0, b1, b2, b3, b4, b5⟩, d0, d1, d2, d3, d4, d5⟩
    isplitl [a0 b0 d0]
    · isplitl [a0]
      · iexact a0
      isplitl [b0]
      · iexact b0
      iexact d0
    isplitl [a1 b1 d1]
    · isplitl [a1]
      · iexact a1
      isplitl [b1]
      · iexact b1
      iexact d1
    isplitl [a2 b2 d2]
    · isplitl [a2]
      · iexact a2
      isplitl [b2]
      · iexact b2
      iexact d2
    isplitl [a3 b3 d3]
    · isplitl [a3]
      · iexact a3
      isplitl [b3]
      · iexact b3
      iexact d3
    isplitl [a4 b4 d4]
    · isplitl [a4]
      · iexact a4
      isplitl [b4]
      · iexact b4
      iexact d4
    isplitl [a5]
    · iexact a5
    isplitl [b5]
    · iexact b5
    iexact d5
  · iintro ⟨⟨a0, b0, d0⟩, ⟨a1, b1, d1⟩, ⟨a2, b2, d2⟩, ⟨a3, b3, d3⟩, ⟨a4, b4, d4⟩, a5, b5, d5⟩
    isplitl [a0 a1 a2 a3 a4 a5]
    · isplitl [a0]
      · iexact a0
      isplitl [a1]
      · iexact a1
      isplitl [a2]
      · iexact a2
      isplitl [a3]
      · iexact a3
      isplitl [a4]
      · iexact a4
      iexact a5
    isplitl [b0 b1 b2 b3 b4 b5]
    · isplitl [b0]
      · iexact b0
      isplitl [b1]
      · iexact b1
      isplitl [b2]
      · iexact b2
      isplitl [b3]
      · iexact b3
      isplitl [b4]
      · iexact b4
      iexact b5
    isplitl [d0]
    · iexact d0
    isplitl [d1]
    · iexact d1
    isplitl [d2]
    · iexact d2
    isplitl [d3]
    · iexact d3
    isplitl [d4]
    · iexact d4
    iexact d5

theorem six_mono {P Q : Fin 6 → sProp 𝕄} (h : ∀ s, P s ⊢ Q s) : six P ⊢ six Q :=
  BIClass.sep_mono (h 0) (BIClass.sep_mono (h 1) (BIClass.sep_mono (h 2) (BIClass.sep_mono (h 3) (BIClass.sep_mono (h 4) (h 5)))))

/-- The rows, the pools' shares and the cells at zero, segment by segment. -/
theorem mk_cA (c : Dev nD) (sg : Fin 6 → Seg) (f : S512x4096.Idx → Elt F .bf16) (pa : S900x4096.Idx → Elt F .bf16) :
    iprop(six (fun s => ptA c (WA (gx sg s) (gy sg s)) f) ∗ six (fun s => ptPA c Finset.univ (qA s) pa) ∗ six (sA0 (F := F) c)) ⊢ six (cA c sg pa) :=
  (six_three _ _ _).1.trans (six_mono fun s => sep_mono_left (exists_intro (Φ := fun g => ptA c (WA (gx sg s) (gy sg s)) g) f))

theorem mk_cB (c : Dev nD) (sg : Fin 6 → Seg) (p : ℕ) (f : S2x512x512.Idx → Elt F .bf16) (pb : S900x14336.Idx → Elt F .bf16) :
    iprop(six (fun s => ptB c (WB p (gx sg s) (gy sg s)) f) ∗ six (fun s => ptPB c Finset.univ (qB p s) pb) ∗ six (sB0 (F := F) c p)) ⊢ six (cB c sg p pb) :=
  (six_three _ _ _).1.trans (six_mono fun s => sep_mono_left (exists_intro (Φ := fun g => ptB c (WB p (gx sg s) (gy sg s)) g) f))

/-- Loading through a memref whose buffer is held whole. -/
theorem ldM (c : Dev nD) {cs : CoreSpace} {s : Shape} {e : EltTy} (m : Memref sig .tc cs s e) {q : PosShare TreeShare} (f : Buf (Elt F) (m.view.loc (c : Thread nD τ)))
    {r : LoadRect s} {hl : m.view.LoadsAt r} {α : Type}
    {k : (r.shape.Idx → Elt F e) → Prog (TpuEff nD τ sig (Elt F) Λ₀ .tc) α} {Q : α → sProp 𝕄} :
    (m.view.loc (c : Thread nD τ) ↦{q} f : sProp 𝕄)
      ⊢ iprop(((m.view.loc (c : Thread nD τ) ↦{q} f) -∗ wp frame (wpE (defs₀ (F := F)) Variants.none (c : Thread nD τ) none) Set.univ (k (m.view.readAt (Elt F) r f)) Q)
        -∗ wp frame (wpE (defs₀ (F := F)) Variants.none (c : Thread nD τ) none) Set.univ (Prog.lift (.load m r hl) >>= k) Q) :=
  wp_load (m := m) Variants.none (c : Thread nD τ) none Set.univ (S := Finset.univ) (Finset.subset_univ _)

/-- Storing through a memref whose buffer is held whole. -/
theorem stM (c : Dev nD) {cs : CoreSpace} {s : Shape} {e : EltTy} (m : Memref sig .tc cs s e) (f : Buf (Elt F) (m.view.loc (c : Thread nD τ)))
    {r : Rect s} {w : r.shape.Idx → Elt F e} {Mk : Finset r.shape.Idx} {hx : (m.access r).Stores Mk}
    {hm : Mk = Finset.univ ∨ ∀ a, r.stride a = 1} {α : Type}
    {k : PUnit → Prog (TpuEff nD τ sig (Elt F) Λ₀ .tc) α} {Q : α → sProp 𝕄} :
    (m.view.loc (c : Thread nD τ) ↦{fullShare} f : sProp 𝕄)
      ⊢ iprop(((m.view.loc (c : Thread nD τ) ↦{fullShare} ((m.access r).write (Elt F) f w Mk : Buf (Elt F) (m.view.loc (c : Thread nD τ)))) -∗ wp frame (wpE (defs₀ (F := F)) Variants.none (c : Thread nD τ) none) Set.univ (k ⟨⟩) Q)
        -∗ wp frame (wpE (defs₀ (F := F)) Variants.none (c : Thread nD τ) none) Set.univ (Prog.lift (.store m r w Mk hx hm) >>= k) Q) := by
  have h := wp_store (defs := defs₀ (F := F)) (Γ := .empty) (m := m) (r := r) (w := w) (Mk := Mk) (hx := hx) (hm := hm) (k := k) (Q := Q) (f := (f : Buf (Elt F) ((m.access r).loc (c : Thread nD τ)))) Variants.none (c : Thread nD τ) none Set.univ (S := Finset.univ) (Finset.subset_univ _)
  exact h

/-- A program that is done. -/
theorem wp_retE (c : Dev nD) {α : Type} {a : α} {Q : α → sProp 𝕄} :
    Q a ⊢ wp frame (wpE (defs₀ (F := F)) Variants.none (c : Thread nD τ) none) Set.univ (pure a : Prog (TpuEff nD τ sig (Elt F) Λ₀ .tc) α) Q := by
  rw [wp_pure]
  exact fupd_intro

end Cert.Kernel.Hand

end
-- ==== Proof.Own.lean ====
/- Hand-written, untrusted: loads and stores through the windows' memrefs. -/
module

public import proofs.«01_k».proof.Proof.Steps

@[expose] public section

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Reading through a window's memref, over the rectangle that is all of it. -/
theorem ldO (c : Dev nD) {cs : CoreSpace} {s : Shape} {e : EltTy} (m : Memref sig .tc cs s e) {q : PosShare TreeShare} (d : s.Idx → Elt F e)
    {off : Fin s.rank → ℕ} {inb : ∀ a, off a + s.size a ≤ s.size a} {hl : m.view.LoadsAt (Rect.unit off s.size inb).toLoadRect} {α : Type}
    {k : (s.Idx → Elt F e) → Prog (TpuEff nD τ sig (Elt F) Λ₀ .tc) α} {Q : α → sProp 𝕄} :
    (owns (c : Thread nD τ) m q d : sProp 𝕄)
      ⊢ iprop((owns (c : Thread nD τ) m q d -∗ wp frame (wpE (defs₀ (F := F)) Variants.none (c : Thread nD τ) none) Set.univ (k d) Q)
        -∗ wp frame (wpE (defs₀ (F := F)) Variants.none (c : Thread nD τ) none) Set.univ (Prog.lift (.load m (Rect.unit off s.size inb).toLoadRect hl) >>= k) Q) := by
  have e1 : (owns (c : Thread nD τ) m q d : sProp 𝕄) = iprop(∃ f, ⌜m.view.read (Elt F) f = d⌝ ∗ (m.view.loc (c : Thread nD τ) ↦[m.view.set]{q} f)) := rfl
  rw [e1]
  iintro ⟨%f, %hf, H⟩ Hk
  iapply (wp_load (defs := defs₀ (F := F)) (Γ := .empty) (m := m) (r := (Rect.unit off s.size inb).toLoadRect) (hl := hl) (k := k) (Q := Q) (f := f) Variants.none (c : Thread nD τ) none Set.univ (S := m.view.set) (m.view.setOn_subset_set _)) $$ H
  iintro H
  have e2 : m.view.readAt (Elt F) (Rect.unit off s.size inb).toLoadRect f = d := by
    rw [← hf]
    funext y
    exact congrArg (m.view.read (Elt F) f) (funext fun a => Fin.ext (by
      show off a + 1 * (y a).val = (y a).val
      have := inb a; omega))
  rw [e2]
  iapply Hk
  iexists f
  isplitr
  · ipureintro; exact hf
  iexact H

/-- Writing all of a window through its memref. -/
theorem stO (c : Dev nD) {cs : CoreSpace} {s : Shape} {e : EltTy} (m : Memref sig .tc cs s e) (d : s.Idx → Elt F e)
    {off : Fin s.rank → ℕ} {inb : ∀ a, off a + s.size a ≤ s.size a} {w : s.Idx → Elt F e} {hx : (m.access (Rect.unit off s.size inb)).Stores Finset.univ}
    {hm : (Finset.univ : Finset s.Idx) = Finset.univ ∨ ∀ a, (Rect.unit off s.size inb).stride a = 1} {α : Type}
    {k : PUnit → Prog (TpuEff nD τ sig (Elt F) Λ₀ .tc) α} {Q : α → sProp 𝕄} :
    (owns (c : Thread nD τ) m fullShare d : sProp 𝕄)
      ⊢ iprop((owns (c : Thread nD τ) m fullShare w -∗ wp frame (wpE (defs₀ (F := F)) Variants.none (c : Thread nD τ) none) Set.univ (k ⟨⟩) Q)
        -∗ wp frame (wpE (defs₀ (F := F)) Variants.none (c : Thread nD τ) none) Set.univ (Prog.lift (.store m (Rect.unit off s.size inb) w Finset.univ hx hm) >>= k) Q) := by
  have e1 : ∀ d, (owns (c : Thread nD τ) m fullShare d : sProp 𝕄) = iprop(∃ f, ⌜m.view.read (Elt F) f = d⌝ ∗ (m.view.loc (c : Thread nD τ) ↦[m.view.set]{fullShare} f)) := fun _ => rfl
  rw [e1, e1]
  iintro ⟨%f, %hf, H⟩ Hk
  iapply (wp_store (defs := defs₀ (F := F)) (Γ := .empty) (m := m) (r := Rect.unit off s.size inb) (w := w) (Mk := Finset.univ) (hx := hx) (hm := hm) (k := k) (Q := Q) (f := (f : Buf (Elt F) ((m.access (Rect.unit off s.size inb)).loc (c : Thread nD τ)))) Variants.none (c : Thread nD τ) none Set.univ (S := m.view.set) (m.view.set_slice_subset _)) $$ H
  iintro H
  iapply Hk
  iexists ((m.access (Rect.unit off s.size inb)).write (Elt F) f w Finset.univ)
  isplitr
  · ipureintro
    funext y
    have h1 := View.read_slice_write_emb (v := m.view) (Val := Elt F) (Rect.unit off s.size inb) f w (M := Finset.univ) (x := y) (Finset.mem_univ y)
    have h2 : (Rect.unit off s.size inb).emb y = y := funext fun a => Fin.ext (by
      show off a + 1 * (y a).val = (y a).val
      have := inb a; omega)
    rw [h2] at h1
    exact h1
  iexact H

/-- The word at a one-element rectangle. -/
def sw {s : Shape} {e : EltTy} (d : s.Idx → Elt F e) (r : Rect s) (h1 : r.shape.numel = 1) : Elt F e :=
  d (r.emb (Shape.Idx.first (h1.symm ▸ Nat.one_pos)))

/-- Reading one word of scalar memory. -/
theorem smO (c : Dev nD) {s : Shape} {e : EltTy} (m : Memref sig .tc .smem s e) {q : PosShare TreeShare} (d : s.Idx → Elt F e)
    {r : Rect s} {h1 : r.shape.numel = 1} {hp : e.packing = 1} {α : Type}
    {k : Elt F e → Prog (TpuEff nD τ sig (Elt F) Λ₀ .tc) α} {Q : α → sProp 𝕄} :
    (owns (c : Thread nD τ) m q d : sProp 𝕄)
      ⊢ iprop((owns (c : Thread nD τ) m q d -∗ wp frame (wpE (defs₀ (F := F)) Variants.none (c : Thread nD τ) none) Set.univ (k (sw d r h1)) Q)
        -∗ wp frame (wpE (defs₀ (F := F)) Variants.none (c : Thread nD τ) none) Set.univ (smemLoad m r h1 hp >>= k) Q) := by
  have e1 : (owns (c : Thread nD τ) m q d : sProp 𝕄) = iprop(∃ f, ⌜m.view.read (Elt F) f = d⌝ ∗ (m.view.loc (c : Thread nD τ) ↦[m.view.set]{q} f)) := rfl
  rw [e1]
  iintro ⟨%f, %hf, H⟩ Hk
  iapply (wp_smemLoadElt (defs := defs₀ (F := F)) (Γ := .empty) (m := m) (r := r) (hw := View.loads_smem_one hp h1) (x := Shape.Idx.first (h1.symm ▸ Nat.one_pos)) (k := k) (Q := Q)
    (f := (f : Buf (Elt F) ((m.access r).loc (c : Thread nD τ)))) Variants.none (c : Thread nD τ) none Set.univ (S := m.view.set) (m.view.set_slice_subset _)) $$ H
  iintro H
  have e2 : (m.access r).read (Elt F) f (Shape.Idx.first (h1.symm ▸ Nat.one_pos)) = sw d r h1 := by
    unfold sw; rw [← hf]; rfl
  rw [e2]
  iapply Hk
  iexists f
  isplitr
  · ipureintro; exact hf
  iexact H

/-- An assumption that holds. -/
theorem asE (c : Dev nD) {P : Prop} {dec : Decidable P} (h : P) {α : Type}
    {k : PLift P → Prog (TpuEff nD τ sig (Elt F) Λ₀ .tc) α} {Q : α → sProp 𝕄} :
    wp frame (wpE (defs₀ (F := F)) Variants.none (c : Thread nD τ) none) Set.univ (k ⟨h⟩) Q
      ⊢ wp frame (wpE (defs₀ (F := F)) Variants.none (c : Thread nD τ) none) Set.univ (Prog.lift (.assume P dec) >>= k) Q :=
  wp_assume Variants.none (c : Thread nD τ) none Set.univ h

end Cert.Kernel.Hand

end
-- ==== Proof.Part2.lean ====
/- Hand-written, untrusted: the first step's rank side. -/
module

public import proofs.«01_k».proof.Proof.Own

@[expose] public section

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 1000000 in
/-- The input-side rows have all landed; what is read of them and of the activations. -/
theorem part2_run (c : Dev nD) (i : grid0.Coords) (arg1 : Memref sig .tc .smem S11 .i32) (harg1 : arg1.IsWhole) (arg2 : Memref sig .tc .smem S11 .i32) (harg2 : arg2.IsWhole) (arg3 : Memref sig .tc .smem S7 .i32) (harg3 : arg3.IsWhole) (arg4 : Memref sig .tc .smem S6 .i32) (harg4 : arg4.IsWhole) (arg5 : Memref sig .tc .smem S11 .f32) (harg5 : arg5.IsWhole) (arg6 : Memref sig .tc .vmem S128x4096 .bf16) (harg6 : arg6.IsWhole) (arg7 : Memref sig .tc .vmem S512x512 .i32) (harg7 : arg7.IsWhole) (arg8 : Memref sig .tc .vmem S128x512 .i8) (harg8 : arg8.IsWhole) (arg11 : Memref sig .tc .vmem S128x512 .bf16) (harg11 : arg11.IsWhole) (arg12 : Memref sig .tc .vmem S128x64 .bf16) (harg12 : arg12.IsWhole) (v0 : Elt F .i32) (k0_hw1 : k0_chk1 i v0) (v1 : Elt F .i32) (v2 : Elt F .i32) (v4 : Elt F .i32) (v6 : Elt F .i32) (v23 : BitVec 32) (v47 : BitVec 32) (v50 : BitVec 32) (v52 : Elt F .i32) (v53 : Elt F .i32) (v55 : Elt F .i32) (v57 : Elt F .i32) (v74 : BitVec 32) (v98 : BitVec 32) (v101 : BitVec 32) (v103 : Elt F .i32) (v104 : Elt F .i32) (v106 : Elt F .i32) (v108 : Elt F .i32) (v125 : BitVec 32) (v149 : BitVec 32) (v152 : BitVec 32) (v154 : Elt F .i32) (v155 : Elt F .i32) (v157 : Elt F .i32) (v159 : Elt F .i32) (v176 : BitVec 32) (v200 : BitVec 32) (v203 : BitVec 32) (v205 : Elt F .i32) (v206 : Elt F .i32) (v208 : Elt F .i32) (v210 : Elt F .i32) (v227 : BitVec 32) (v251 : BitVec 32) (v254 : BitVec 32) (v256 : Elt F .i32) (v257 : Elt F .i32) (v259 : Elt F .i32) (v261 : Elt F .i32) (v278 : BitVec 32) (v302 : BitVec 32) (c0_i32_131 : BitVec 32) (k0_h21 : k0_cond21 i = 1#1)
    (sg : Fin 6 → Seg) (hsg : sg = (mkSg v1 v2 v4 v6 v52 v53 v55 v57 v103 v104 v106 v108 v154 v155 v157 v159 v205 v206 v208 v210 v256 v257 v259 v261)) (ok : ∀ s, (sg s).OK) (pa : S900x4096.Idx → Elt F .bf16)
    (q5 q6 : PosShare TreeShare) (d5 : S11.Idx → Elt F .f32) (d6 : S128x4096.Idx → Elt F .bf16) {Q : _ → sProp 𝕄} :
    iprop(six (fA c sg pa) ∗ ptA c (restA sg) (FA sg pa) ∗ (∃ W, owes (c : Thread nD τ) 0 W)
        ∗ owns (c : Thread nD τ) arg6 q6 d6 ∗ owns (c : Thread nD τ) arg5 q5 d5
        ∗ (iprop(ptA c Finset.univ (FA sg pa) ∗ ptPA c Finset.univ fullShare pa ∗ six (sA0 (F := F) c) ∗ (∃ W, owes (c : Thread nD τ) 0 W)
            ∗ owns (c : Thread nD τ) arg6 q6 d6 ∗ owns (c : Thread nD τ) arg5 q5 d5)
          -∗ Q ⟨k0_pay4 d6 (FA sg pa), iota .tc S128x512 32 [0] iota_S128x512_d0_w32, iota .tc S128x512 32 [1] iota_S128x512_d1_w32, k0_pay5 (F := F), k0_pay6 (F := F),
              k0_pay7 d6 (FA sg pa) (sw d5 (Rect.unit (s := S11) (k0_off67 v0) S1.size (k0_off67_inb i v0 k0_hw1 k0_h21)) numel1_S1), k0_pay8 v1 v2⟩))
      ⊢ wp frame (wpE (defs₀ (F := F)) Variants.none (c : Thread nD τ) none) Set.univ (k0_part2 (F := F) i arg1 harg1 arg2 harg2 arg3 harg3 arg4 harg4 arg5 harg5 arg6 harg6 arg7 harg7 arg8 harg8 PAm (Memref.isWhole_whole _) PBm (Memref.isWhole_whole _) arg11 harg11 arg12 harg12 Am (Memref.isWhole_whole _) Bm (Memref.isWhole_whole _) Hm (Memref.isWhole_whole _) cc0_scratch3 cc0_scratch4 v0 k0_hw1 v1 v2 v4 v6 v23 v47 v50 v52 v53 v55 v57 v74 v98 v101 v103 v104 v106 v108 v125 v149 v152 v154 v155 v157 v159 v176 v200 v203 v205 v206 v208 v210 v227 v251 v254 v256 v257 v259 v261 v278 v302 c0_i32_131 k0_h21) Q := by
  rw [k0_part2_eq_skeleton]; unfold k0_part2_skel
  iintro ⟨⟨A0, A1, A2, A3, A4, A5⟩, HR, HO, H6, H5, Hk⟩
  have hC0 : guardW (sg 0) = 1#1 ↔ 0 < gy sg 0 := guard_gy sg ok 0
  have hC1 : guardW (sg 1) = 1#1 ↔ 0 < gy sg 1 := guard_gy sg ok 1
  have hC2 : guardW (sg 2) = 1#1 ↔ 0 < gy sg 2 := guard_gy sg ok 2
  have hC3 : guardW (sg 3) = 1#1 ↔ 0 < gy sg 3 := guard_gy sg ok 3
  have hC4 : guardW (sg 4) = 1#1 ↔ 0 < gy sg 4 := guard_gy sg ok 4
  have hC5 : guardW (sg 5) = 1#1 ↔ 0 < gy sg 5 := guard_gy sg ok 5
  iapply (waitA c (C := k0_cond22 v1 v2 v4 v6 = 1#1) (x := gx sg 0) (y := gy sg 0) (g := gg sg 0) 0 (qA 0) pa (FA sg pa) (by rw [hsg] at hC0 ⊢; exact hC0) (by rw [hsg]; rfl) rfl) $$ [A0 HO]
  · isplitl [A0]
    · iexact A0
    iexact HO
  iintro ⟨A0, HO⟩
  iapply (waitA c (C := k0_cond23 v52 v53 v55 v57 = 1#1) (x := gx sg 1) (y := gy sg 1) (g := gg sg 1) 1 (qA 1) pa (FA sg pa) (by rw [hsg] at hC1 ⊢; exact hC1) (by rw [hsg]; rfl) rfl) $$ [A1 HO]
  · isplitl [A1]
    · iexact A1
    iexact HO
  iintro ⟨A1, HO⟩
  iapply (waitA c (C := k0_cond24 v103 v104 v106 v108 = 1#1) (x := gx sg 2) (y := gy sg 2) (g := gg sg 2) 2 (qA 2) pa (FA sg pa) (by rw [hsg] at hC2 ⊢; exact hC2) (by rw [hsg]; rfl) rfl) $$ [A2 HO]
  · isplitl [A2]
    · iexact A2
    iexact HO
  iintro ⟨A2, HO⟩
  iapply (waitA c (C := k0_cond25 v154 v155 v157 v159 = 1#1) (x := gx sg 3) (y := gy sg 3) (g := gg sg 3) 3 (qA 3) pa (FA sg pa) (by rw [hsg] at hC3 ⊢; exact hC3) (by rw [hsg]; rfl) rfl) $$ [A3 HO]
  · isplitl [A3]
    · iexact A3
    iexact HO
  iintro ⟨A3, HO⟩
  iapply (waitA c (C := k0_cond26 v205 v206 v208 v210 = 1#1) (x := gx sg 4) (y := gy sg 4) (g := gg sg 4) 4 (qA 4) pa (FA sg pa) (by rw [hsg] at hC4 ⊢; exact hC4) (by rw [hsg]; rfl) rfl) $$ [A4 HO]
  · isplitl [A4]
    · iexact A4
    iexact HO
  iintro ⟨A4, HO⟩
  iapply (waitA c (C := k0_cond27 v256 v257 v259 v261 = 1#1) (x := gx sg 5) (y := gy sg 5) (g := gg sg 5) 5 (qA 5) pa (FA sg pa) (by rw [hsg] at hC5 ⊢; exact hC5) (by rw [hsg]; rfl) rfl) $$ [A5 HO]
  · isplitl [A5]
    · iexact A5
    iexact HO
  iintro ⟨A5, HO⟩
  unfold doneA
  icases A0 with ⟨A0, P0, S0⟩
  icases A1 with ⟨A1, P1, S1⟩
  icases A2 with ⟨A2, P2, S2⟩
  icases A3 with ⟨A3, P3, S3⟩
  icases A4 with ⟨A4, P4, S4⟩
  icases A5 with ⟨A5, P5, S5⟩
  ihave HA := (splitA sg ok c (FA sg pa)).2 $$ [A0 A1 A2 A3 A4 A5 HR]
  · isplitl [A0 A1 A2 A3 A4 A5]
    · isplitl [A0]
      · iexact A0
      isplitl [A1]
      · iexact A1
      isplitl [A2]
      · iexact A2
      isplitl [A3]
      · iexact A3
      isplitl [A4]
      · iexact A4
      iexact A5
    iexact HR
  iapply (ldO c arg6 d6) $$ H6
  iintro H6
  iapply (ldM c Am (FA sg pa)) $$ HA
  iintro HA
  have eA : Am.view.readAt (Elt F) (Rect.unit (s := S512x4096) ![0, 0] S512x4096.size inb_S512x4096_S512x4096_0_0).toLoadRect (FA sg pa) = FA sg pa :=
    Memref.readAt_unit_zero (Elt F) cc0_scratch0 (by funext a; fin_cases a <;> rfl) _ _
  rw [eA]
  iapply (smO c arg5 d5) $$ H5
  iintro H5
  iapply (wp_retE c)
  iapply Hk
  isplitl [HA]
  · iexact HA
  isplitl [P0 P1 P2 P3 P4 P5]
  · iapply (Entails.of_eq (dealA c pa).symm)
    isplitl [P0]
    · iexact P0
    isplitl [P1]
    · iexact P1
    isplitl [P2]
    · iexact P2
    isplitl [P3]
    · iexact P3
    isplitl [P4]
    · iexact P4
    iexact P5
  isplitl [S0 S1 S2 S3 S4 S5]
  · isplitl [S0]
    · iexact S0
    isplitl [S1]
    · iexact S1
    isplitl [S2]
    · iexact S2
    isplitl [S3]
    · iexact S3
    isplitl [S4]
    · iexact S4
    iexact S5
  isplitl [HO]
  · iexact HO
  isplitl [H6]
  · iexact H6
  iexact H5

/-- Two more of the adapters' scales read. -/
theorem part3_run (c : Dev nD) (i : grid0.Coords) (arg1 : Memref sig .tc .smem S11 .i32) (harg1 : arg1.IsWhole) (arg2 : Memref sig .tc .smem S11 .i32) (harg2 : arg2.IsWhole) (arg3 : Memref sig .tc .smem S7 .i32) (harg3 : arg3.IsWhole) (arg4 : Memref sig .tc .smem S6 .i32) (harg4 : arg4.IsWhole) (arg5 : Memref sig .tc .smem S11 .f32) (harg5 : arg5.IsWhole) (arg6 : Memref sig .tc .vmem S128x4096 .bf16) (harg6 : arg6.IsWhole) (arg7 : Memref sig .tc .vmem S512x512 .i32) (harg7 : arg7.IsWhole) (arg8 : Memref sig .tc .vmem S128x512 .i8) (harg8 : arg8.IsWhole) (arg11 : Memref sig .tc .vmem S128x512 .bf16) (harg11 : arg11.IsWhole) (arg12 : Memref sig .tc .vmem S128x64 .bf16) (harg12 : arg12.IsWhole) (v6 : Elt F .i32) (v49 : BitVec 32) (v51 : Elt F .i32) (k0_hw2 : k0_chk2 i v51) (v52 : Elt F .i32) (v53 : Elt F .i32) (v57 : Elt F .i32) (v100 : BitVec 32) (v102 : Elt F .i32) (k0_hw3 : k0_chk3 i v102) (v103 : Elt F .i32) (v104 : Elt F .i32) (v108 : Elt F .i32) (v151 : BitVec 32) (k0_h21 : k0_cond21 i = 1#1) (v427 : FVec F S128x512 .f32) (v428 : IVec S128x512 32) (v429 : IVec S128x512 32) (v430 : FVec F S128x512 .f32) (v431 : FVec F S128x128 .f32) (v435 : FVec F S128x512 .f32) (v440 : IVec S128x512 1) (q5 : PosShare TreeShare) (d5 : S11.Idx → Elt F .f32) {Q : _ → sProp 𝕄} :
    iprop(owns (c : Thread nD τ) arg5 q5 d5 ∗ (owns (c : Thread nD τ) arg5 q5 d5 -∗ Q ⟨k0_pay11 v6 v49 v52 v53 v57 v100 v427 v428 v429 v430 v435 v440 (sw d5 (Rect.unit (s := S11) (k0_off68 v51) S1.size (k0_off68_inb i v51 k0_hw2 k0_h21)) numel1_S1), k0_pay12 v6 v49 v52 v53 v57 v100 v427 v428 v429 v431 v435 v440 (sw d5 (Rect.unit (s := S11) (k0_off68 v51) S1.size (k0_off68_inb i v51 k0_hw2 k0_h21)) numel1_S1), k0_pay13 v427 (sw d5 (Rect.unit (s := S11) (k0_off69 v102) S1.size (k0_off69_inb i v102 k0_hw3 k0_h21)) numel1_S1), k0_pay14 v103 v104 v428, k0_pay15 v103 v104 v151 v428 v429, Scalar.addi v151 v108⟩))
      ⊢ wp frame (wpE (defs₀ (F := F)) Variants.none (c : Thread nD τ) none) Set.univ (k0_part3 (F := F) i arg1 harg1 arg2 harg2 arg3 harg3 arg4 harg4 arg5 harg5 arg6 harg6 arg7 harg7 arg8 harg8 PAm (Memref.isWhole_whole _) PBm (Memref.isWhole_whole _) arg11 harg11 arg12 harg12 Am (Memref.isWhole_whole _) Bm (Memref.isWhole_whole _) Hm (Memref.isWhole_whole _) cc0_scratch3 cc0_scratch4 v6 v49 v51 k0_hw2 v52 v53 v57 v100 v102 k0_hw3 v103 v104 v108 v151 k0_h21 v427 v428 v429 v430 v431 v435 v440) Q := by
  rw [k0_part3_eq_skeleton]; unfold k0_part3_skel
  iintro ⟨H5, Hk⟩
  iapply (smO c arg5 d5) $$ H5
  iintro H5
  iapply (smO c arg5 d5) $$ H5
  iintro H5
  iapply (wp_retE c)
  iapply Hk
  iexact H5

/-- Two more of the adapters' scales read. -/
theorem part4_run (c : Dev nD) (i : grid0.Coords) (arg1 : Memref sig .tc .smem S11 .i32) (harg1 : arg1.IsWhole) (arg2 : Memref sig .tc .smem S11 .i32) (harg2 : arg2.IsWhole) (arg3 : Memref sig .tc .smem S7 .i32) (harg3 : arg3.IsWhole) (arg4 : Memref sig .tc .smem S6 .i32) (harg4 : arg4.IsWhole) (arg5 : Memref sig .tc .smem S11 .f32) (harg5 : arg5.IsWhole) (arg6 : Memref sig .tc .vmem S128x4096 .bf16) (harg6 : arg6.IsWhole) (arg7 : Memref sig .tc .vmem S512x512 .i32) (harg7 : arg7.IsWhole) (arg8 : Memref sig .tc .vmem S128x512 .i8) (harg8 : arg8.IsWhole) (arg11 : Memref sig .tc .vmem S128x512 .bf16) (harg11 : arg11.IsWhole) (arg12 : Memref sig .tc .vmem S128x64 .bf16) (harg12 : arg12.IsWhole) (v108 : Elt F .i32) (v151 : BitVec 32) (v153 : Elt F .i32) (k0_hw4 : k0_chk4 i v153) (v154 : Elt F .i32) (v155 : Elt F .i32) (v159 : Elt F .i32) (v202 : BitVec 32) (v204 : Elt F .i32) (k0_hw5 : k0_chk5 i v204) (v205 : Elt F .i32) (v206 : Elt F .i32) (v210 : Elt F .i32) (v253 : BitVec 32) (k0_h21 : k0_cond21 i = 1#1) (v427 : FVec F S128x512 .f32) (v428 : IVec S128x512 32) (v429 : IVec S128x512 32) (v474 : FVec F S128x512 .f32) (v483 : FVec F S128x128 .f32) (v487 : FVec F S128x512 .f32) (v492 : IVec S128x512 1) (v495 : IVec S128x512 1) (v496 : BitVec 32) (q5 : PosShare TreeShare) (d5 : S11.Idx → Elt F .f32) {Q : _ → sProp 𝕄} :
    iprop(owns (c : Thread nD τ) arg5 q5 d5 ∗ (owns (c : Thread nD τ) arg5 q5 d5 -∗ Q ⟨k0_pay18 v108 v151 v154 v155 v159 v202 v427 v428 v429 v483 v487 v492 (sw d5 (Rect.unit (s := S11) (k0_off70 v153) S1.size (k0_off70_inb i v153 k0_hw4 k0_h21)) numel1_S1), k0_pay19 v427 (sw d5 (Rect.unit (s := S11) (k0_off71 v204) S1.size (k0_off71_inb i v204 k0_hw5 k0_h21)) numel1_S1), k0_pay20 v205 v206 v428, k0_pay21 v154 v155 v159 v202 v205 v206 v210 v253 v427 v428 v429 v474 v487 v495 v496 (sw d5 (Rect.unit (s := S11) (k0_off70 v153) S1.size (k0_off70_inb i v153 k0_hw4 k0_h21)) numel1_S1) (sw d5 (Rect.unit (s := S11) (k0_off71 v204) S1.size (k0_off71_inb i v204 k0_hw5 k0_h21)) numel1_S1)⟩))
      ⊢ wp frame (wpE (defs₀ (F := F)) Variants.none (c : Thread nD τ) none) Set.univ (k0_part4 (F := F) i arg1 harg1 arg2 harg2 arg3 harg3 arg4 harg4 arg5 harg5 arg6 harg6 arg7 harg7 arg8 harg8 PAm (Memref.isWhole_whole _) PBm (Memref.isWhole_whole _) arg11 harg11 arg12 harg12 Am (Memref.isWhole_whole _) Bm (Memref.isWhole_whole _) Hm (Memref.isWhole_whole _) cc0_scratch3 cc0_scratch4 v108 v151 v153 k0_hw4 v154 v155 v159 v202 v204 k0_hw5 v205 v206 v210 v253 k0_h21 v427 v428 v429 v474 v483 v487 v492 v495 v496) Q := by
  rw [k0_part4_eq_skeleton]; unfold k0_part4_skel
  iintro ⟨H5, Hk⟩
  iapply (smO c arg5 d5) $$ H5
  iintro H5
  iapply (smO c arg5 d5) $$ H5
  iintro H5
  iapply (wp_retE c)
  iapply Hk
  iexact H5

end Cert.Kernel.Hand

end
-- ==== Proof.Part12.lean ====
/- Hand-written, untrusted: a later step up to its weight block, and what the first step leaves. -/
module

public import proofs.«01_k».proof.Proof.Part2

@[expose] public section

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A branch taken. -/
theorem ifT (c : Dev nD) {C : Prop} {dec : Decidable C} (hc : C) {α : Type} {t : C → Prog (TpuEff nD τ sig (Elt F) Λ₀ .tc) α}
    {e : ¬ C → Prog (TpuEff nD τ sig (Elt F) Λ₀ .tc) α} {Q : α → sProp 𝕄} :
    wp frame (wpE (defs₀ (F := F)) Variants.none (c : Thread nD τ) none) Set.univ (t hc) Q ⊢ wp frame (wpE (defs₀ (F := F)) Variants.none (c : Thread nD τ) none) Set.univ (if h : C then t h else e h) Q := by
  rw [dif_pos hc]

/-- A branch passed over. -/
theorem ifF (c : Dev nD) {C : Prop} {dec : Decidable C} (hc : ¬ C) {α : Type} {t : C → Prog (TpuEff nD τ sig (Elt F) Λ₀ .tc) α}
    {e : ¬ C → Prog (TpuEff nD τ sig (Elt F) Λ₀ .tc) α} {Q : α → sProp 𝕄} :
    wp frame (wpE (defs₀ (F := F)) Variants.none (c : Thread nD τ) none) Set.univ (e hc) Q ⊢ wp frame (wpE (defs₀ (F := F)) Variants.none (c : Thread nD τ) none) Set.univ (if h : C then t h else e h) Q := by
  rw [dif_neg hc]

/-- A program and then another. -/
theorem bindE (c : Dev nD) {α β : Type} {p : Prog (TpuEff nD τ sig (Elt F) Λ₀ .tc) α} {k : α → Prog (TpuEff nD τ sig (Elt F) Λ₀ .tc) β} {Q : β → sProp 𝕄} :
    wp frame (wpE (defs₀ (F := F)) Variants.none (c : Thread nD τ) none) Set.univ p (fun a => wp frame (wpE (defs₀ (F := F)) Variants.none (c : Thread nD τ) none) Set.univ (k a) Q) ⊢ wp frame (wpE (defs₀ (F := F)) Variants.none (c : Thread nD τ) none) Set.univ (p >>= k) Q := by
  rw [wp_bind]

/-- The scaled rank-space activations, every segment's columns in its own slot: what the first step leaves for the others. -/
def hbigOf (v1 v2 v4 v6 v52 v53 v55 v57 v103 v104 v106 v108 v154 v155 v157 v159 v205 v206 v208 v210 v256 v257 v259 v261 : Elt F .i32) (v49 v100 v151 v202 v253 v254 v280 : BitVec 32) (s0 s1 s2 s3 s4 s5 : Elt F .f32)
    (x : S128x4096.Idx → Elt F .bf16) (a : S512x4096.Idx → Elt F .bf16) : FVec F S128x512 .bf16 :=
  let v427 := k0_pay4 x a
  let v428 := iota .tc S128x512 32 [0] iota_S128x512_d0_w32
  let v429 := iota .tc S128x512 32 [1] iota_S128x512_d1_w32
  let v430 := k0_pay5 (F := F)
  let v431 := k0_pay6 (F := F)
  let v435 := k0_pay7 x a s0
  let v440 := k0_pay8 (F := F) v1 v2
  let v474 := k0_pay11 v6 v49 v52 v53 v57 v100 v427 v428 v429 v430 v435 v440 s1
  let v483 := k0_pay12 v6 v49 v52 v53 v57 v100 v427 v428 v429 v431 v435 v440 s1
  let v487 := k0_pay13 v427 s2
  let v492 := k0_pay14 (F := F) v103 v104 v428
  let v495 := k0_pay15 (F := F) v103 v104 v151 v428 v429
  let v496 := Scalar.addi v151 v108
  let v535 := k0_pay18 v108 v151 v154 v155 v159 v202 v427 v428 v429 v483 v487 v492 s3
  let v539 := k0_pay19 v427 s4
  let v544 := k0_pay20 (F := F) v205 v206 v428
  let v552 := k0_pay21 v154 v155 v159 v202 v205 v206 v210 v253 v427 v428 v429 v474 v487 v495 v496 s3 s4
  k0_pay24 v254 v256 v257 v261 v280 v427 v428 v429 v552 s5

/-- The rank-space activations, rows by their own segment: the second result. -/
def lhOf (v1 v2 v4 v6 v52 v53 v55 v57 v103 v104 v106 v108 v154 v155 v157 v159 v205 v206 v208 v210 v256 v257 v259 v261 : Elt F .i32) (v49 v100 v151 v202 v253 v254 v280 : BitVec 32) (s0 s1 s2 s3 s4 s5 : Elt F .f32)
    (x : S128x4096.Idx → Elt F .bf16) (a : S512x4096.Idx → Elt F .bf16) : FVec F S128x64 .bf16 :=
  let v427 := k0_pay4 x a
  let v428 := iota .tc S128x512 32 [0] iota_S128x512_d0_w32
  let v429 := iota .tc S128x512 32 [1] iota_S128x512_d1_w32
  let v430 := k0_pay5 (F := F)
  let v431 := k0_pay6 (F := F)
  let v435 := k0_pay7 x a s0
  let v440 := k0_pay8 (F := F) v1 v2
  let v474 := k0_pay11 v6 v49 v52 v53 v57 v100 v427 v428 v429 v430 v435 v440 s1
  let v483 := k0_pay12 v6 v49 v52 v53 v57 v100 v427 v428 v429 v431 v435 v440 s1
  let v487 := k0_pay13 v427 s2
  let v492 := k0_pay14 (F := F) v103 v104 v428
  let v495 := k0_pay15 (F := F) v103 v104 v151 v428 v429
  let v496 := Scalar.addi v151 v108
  let v535 := k0_pay18 v108 v151 v154 v155 v159 v202 v427 v428 v429 v483 v487 v492 s3
  let v539 := k0_pay19 v427 s4
  let v544 := k0_pay20 (F := F) v205 v206 v428
  let v552 := k0_pay21 v154 v155 v159 v202 v205 v206 v210 v253 v427 v428 v429 v474 v487 v495 v496 s3 s4
  k0_pay25 v210 v253 v254 v256 v257 v261 v280 v427 v428 v429 v535 v539 v544 s5

set_option maxHeartbeats 1000000 in
/-- A later step up to its weight block, the next block's rows started. -/
theorem part12_later (c : Dev nD) (i : grid0.Coords) (arg1 : Memref sig .tc .smem S11 .i32) (harg1 : arg1.IsWhole) (arg2 : Memref sig .tc .smem S11 .i32) (harg2 : arg2.IsWhole) (arg3 : Memref sig .tc .smem S7 .i32) (harg3 : arg3.IsWhole) (arg4 : Memref sig .tc .smem S6 .i32) (harg4 : arg4.IsWhole) (arg5 : Memref sig .tc .smem S11 .f32) (harg5 : arg5.IsWhole) (arg6 : Memref sig .tc .vmem S128x4096 .bf16) (harg6 : arg6.IsWhole) (arg7 : Memref sig .tc .vmem S512x512 .i32) (harg7 : arg7.IsWhole) (arg8 : Memref sig .tc .vmem S128x512 .i8) (harg8 : arg8.IsWhole) (arg11 : Memref sig .tc .vmem S128x512 .bf16) (harg11 : arg11.IsWhole) (arg12 : Memref sig .tc .vmem S128x64 .bf16) (harg12 : arg12.IsWhole) (arg0 : BitVec 32) (v0 : Elt F .i32) (k0_hw1 : k0_chk1 i v0) (v1 : Elt F .i32) (v2 : Elt F .i32) (v4 : Elt F .i32) (v6 : Elt F .i32) (k0_hw7 : k0_chk7 i v1 v2 v4 v6) (v23 : BitVec 32) (v47 : BitVec 32) (v49 : BitVec 32) (v50 : BitVec 32) (v51 : Elt F .i32) (k0_hw2 : k0_chk2 i v51) (v52 : Elt F .i32) (v53 : Elt F .i32) (v55 : Elt F .i32) (v57 : Elt F .i32) (k0_hw8 : k0_chk8 i v1 v2 v4 v6 v52 v53 v55 v57) (v74 : BitVec 32) (v98 : BitVec 32) (v100 : BitVec 32) (v101 : BitVec 32) (v102 : Elt F .i32) (k0_hw3 : k0_chk3 i v102) (v103 : Elt F .i32) (v104 : Elt F .i32) (v106 : Elt F .i32) (v108 : Elt F .i32) (k0_hw9 : k0_chk9 i v1 v2 v4 v6 v52 v53 v55 v57 v103 v104 v106 v108) (v125 : BitVec 32) (v149 : BitVec 32) (v151 : BitVec 32) (v152 : BitVec 32) (v153 : Elt F .i32) (k0_hw4 : k0_chk4 i v153) (v154 : Elt F .i32) (v155 : Elt F .i32) (v157 : Elt F .i32) (v159 : Elt F .i32) (k0_hw10 : k0_chk10 i v1 v2 v4 v6 v52 v53 v55 v57 v103 v104 v106 v108 v154 v155 v157 v159) (v176 : BitVec 32) (v200 : BitVec 32) (v202 : BitVec 32) (v203 : BitVec 32) (v204 : Elt F .i32) (k0_hw5 : k0_chk5 i v204) (v205 : Elt F .i32) (v206 : Elt F .i32) (v208 : Elt F .i32) (v210 : Elt F .i32) (k0_hw11 : k0_chk11 i v1 v2 v4 v6 v52 v53 v55 v57 v103 v104 v106 v108 v154 v155 v157 v159 v205 v206 v208 v210) (v227 : BitVec 32) (v251 : BitVec 32) (v253 : BitVec 32) (v254 : BitVec 32) (v255 : Elt F .i32) (k0_hw6 : k0_chk6 i v255) (v256 : Elt F .i32) (v257 : Elt F .i32) (v259 : Elt F .i32) (v261 : Elt F .i32) (k0_hw12 : k0_chk12 i v1 v2 v4 v6 v52 v53 v55 v57 v103 v104 v106 v108 v154 v155 v157 v159 v205 v206 v208 v210 v256 v257 v259 v261) (v278 : BitVec 32) (v280 : BitVec 32) (v281 : BitVec 1) (v282 : BitVec 32) (c8_i32_113 : BitVec 32) (hi0 : (i 0).val ≠ 0) (hi1 : (i 0).val + 1 < 28)
    (sg : Fin 6 → Seg) (hsg : sg = (mkSg v1 v2 v4 v6 v52 v53 v55 v57 v103 v104 v106 v108 v154 v155 v157 v159 v205 v206 v208 v210 v256 v257 v259 v261)) (ok : ∀ s, (sg s).OK) (pa : S900x4096.Idx → Elt F .bf16) (pb : S900x14336.Idx → Elt F .bf16) (q7 : PosShare TreeShare) (d7 : S512x512.Idx → Elt F .i32) {Q : _ → sProp 𝕄} :
    iprop(six (cB c sg (pW' i).toNat pb) ∗ owns (c : Thread nD τ) arg7 q7 d7
        ∗ (∀ z, iprop(six (fB c sg (pW' i).toNat (qW' i).toNat ((i 0).val + 1) pb) ∗ owns (c : Thread nD τ) arg7 q7 d7) -∗ Q ⟨z, iota .tc S512x8x512 32 [1] iota_S512x8x512_d1_w32, k0_pay26 d7⟩))
      ⊢ wp frame (wpE (defs₀ (F := F)) Variants.none (c : Thread nD τ) none) Set.univ (k0_part12 (F := F) i arg1 harg1 arg2 harg2 arg3 harg3 arg4 harg4 arg5 harg5 arg6 harg6 arg7 harg7 arg8 harg8 PAm (Memref.isWhole_whole _) PBm (Memref.isWhole_whole _) arg11 harg11 arg12 harg12 Am (Memref.isWhole_whole _) Bm (Memref.isWhole_whole _) Hm (Memref.isWhole_whole _) cc0_scratch3 cc0_scratch4 arg0 v0 k0_hw1 v1 v2 v4 v6 k0_hw7 v23 v47 v49 v50 v51 k0_hw2 v52 v53 v55 v57 k0_hw8 v74 v98 v100 v101 v102 k0_hw3 v103 v104 v106 v108 k0_hw9 v125 v149 v151 v152 v153 k0_hw4 v154 v155 v157 v159 k0_hw10 v176 v200 v202 v203 v204 k0_hw5 v205 v206 v208 v210 k0_hw11 v227 v251 v253 v254 v255 k0_hw6 v256 v257 v259 v261 k0_hw12 v278 v280 v281 v282 c8_i32_113) Q := by
  have k0_h1 : ¬ k0_cond1 i = 1#1 := fun h => hi0 ((cond1_iff i).1 h)
  have k0_h21 : ¬ k0_cond21 i = 1#1 := fun h => hi0 ((cond21_iff i).1 h)
  have k0_h14 : k0_cond14 i = 1#1 := (cond14_iff i).2 hi1
  rw [k0_part12_eq_skeleton]; unfold k0_part12_skel
  iintro ⟨HD, H7, Hk⟩
  have hC0 : guardW (sg 0) = 1#1 ↔ 0 < gy sg 0 := guard_gy sg ok 0
  have hC1 : guardW (sg 1) = 1#1 ↔ 0 < gy sg 1 := guard_gy sg ok 1
  have hC2 : guardW (sg 2) = 1#1 ↔ 0 < gy sg 2 := guard_gy sg ok 2
  have hC3 : guardW (sg 3) = 1#1 ↔ 0 < gy sg 3 := guard_gy sg ok 3
  have hC4 : guardW (sg 4) = 1#1 ↔ 0 < gy sg 4 := guard_gy sg ok 4
  have hC5 : guardW (sg 5) = 1#1 ↔ 0 < gy sg 5 := guard_gy sg ok 5
  iapply (ifF c k0_h1)
  icases HD with ⟨D0, D1, D2, D3, D4, D5⟩
  iapply (ifT c k0_h14)
  iapply (startB c (C := k0_cond15 v1 v2 v4 v6 = 1#1) (p := (pW' i).toNat) (q := (qW' i).toNat) (x := gx sg 0) (y := gy sg 0) (g := gg sg 0) 0 (qB (pW' i).toNat 0) pb (FB sg pb ((i 0).val + 1)) (by rw [hsg] at hC0 ⊢; exact hC0) (pW'_le i)
    (fun i' j' _ h1 h2 h3 h4 => FB_at sg ok pb ((i 0).val + 1) (by omega) 0 i' j' h1 h2 h3 (by rw [h4, qW'_toNat])) (by rw [hsg]; rfl) (by rw [hsg]; rfl) (by rw [hsg]; rfl) (by rw [hsg]; rfl) rfl) $$ D0
  iintro D0
  iapply (startB c (C := k0_cond16 v52 v53 v55 v57 = 1#1) (p := (pW' i).toNat) (q := (qW' i).toNat) (x := gx sg 1) (y := gy sg 1) (g := gg sg 1) 1 (qB (pW' i).toNat 1) pb (FB sg pb ((i 0).val + 1)) (by rw [hsg] at hC1 ⊢; exact hC1) (pW'_le i)
    (fun i' j' _ h1 h2 h3 h4 => FB_at sg ok pb ((i 0).val + 1) (by omega) 1 i' j' h1 h2 h3 (by rw [h4, qW'_toNat])) (by rw [hsg]; rfl) (by rw [hsg]; rfl) (by rw [hsg]; rfl) (by rw [hsg]; rfl) rfl) $$ D1
  iintro D1
  iapply (startB c (C := k0_cond17 v103 v104 v106 v108 = 1#1) (p := (pW' i).toNat) (q := (qW' i).toNat) (x := gx sg 2) (y := gy sg 2) (g := gg sg 2) 2 (qB (pW' i).toNat 2) pb (FB sg pb ((i 0).val + 1)) (by rw [hsg] at hC2 ⊢; exact hC2) (pW'_le i)
    (fun i' j' _ h1 h2 h3 h4 => FB_at sg ok pb ((i 0).val + 1) (by omega) 2 i' j' h1 h2 h3 (by rw [h4, qW'_toNat])) (by rw [hsg]; rfl) (by rw [hsg]; rfl) (by rw [hsg]; rfl) (by rw [hsg]; rfl) rfl) $$ D2
  iintro D2
  iapply (startB c (C := k0_cond18 v154 v155 v157 v159 = 1#1) (p := (pW' i).toNat) (q := (qW' i).toNat) (x := gx sg 3) (y := gy sg 3) (g := gg sg 3) 3 (qB (pW' i).toNat 3) pb (FB sg pb ((i 0).val + 1)) (by rw [hsg] at hC3 ⊢; exact hC3) (pW'_le i)
    (fun i' j' _ h1 h2 h3 h4 => FB_at sg ok pb ((i 0).val + 1) (by omega) 3 i' j' h1 h2 h3 (by rw [h4, qW'_toNat])) (by rw [hsg]; rfl) (by rw [hsg]; rfl) (by rw [hsg]; rfl) (by rw [hsg]; rfl) rfl) $$ D3
  iintro D3
  iapply (startB c (C := k0_cond19 v205 v206 v208 v210 = 1#1) (p := (pW' i).toNat) (q := (qW' i).toNat) (x := gx sg 4) (y := gy sg 4) (g := gg sg 4) 4 (qB (pW' i).toNat 4) pb (FB sg pb ((i 0).val + 1)) (by rw [hsg] at hC4 ⊢; exact hC4) (pW'_le i)
    (fun i' j' _ h1 h2 h3 h4 => FB_at sg ok pb ((i 0).val + 1) (by omega) 4 i' j' h1 h2 h3 (by rw [h4, qW'_toNat])) (by rw [hsg]; rfl) (by rw [hsg]; rfl) (by rw [hsg]; rfl) (by rw [hsg]; rfl) rfl) $$ D4
  iintro D4
  iapply (startB c (C := k0_cond20 v256 v257 v259 v261 = 1#1) (p := (pW' i).toNat) (q := (qW' i).toNat) (x := gx sg 5) (y := gy sg 5) (g := gg sg 5) 5 (qB (pW' i).toNat 5) pb (FB sg pb ((i 0).val + 1)) (by rw [hsg] at hC5 ⊢; exact hC5) (pW'_le i)
    (fun i' j' _ h1 h2 h3 h4 => FB_at sg ok pb ((i 0).val + 1) (by omega) 5 i' j' h1 h2 h3 (by rw [h4, qW'_toNat])) (by rw [hsg]; rfl) (by rw [hsg]; rfl) (by rw [hsg]; rfl) (by rw [hsg]; rfl) rfl) $$ D5
  iintro D5
  iapply (ifF c k0_h21)
  iapply (ldO c arg7 d7) $$ H7
  iintro H7
  iapply (wp_retE c)
  iapply Hk
  isplitl [D0 D1 D2 D3 D4 D5]
  · isplitl [D0]
    · iexact D0
    isplitl [D1]
    · iexact D1
    isplitl [D2]
    · iexact D2
    isplitl [D3]
    · iexact D3
    isplitl [D4]
    · iexact D4
    iexact D5
  iexact H7

set_option maxHeartbeats 1000000 in
/-- A later step up to its weight block, the last: nothing to start. -/
theorem part12_last (c : Dev nD) (i : grid0.Coords) (arg1 : Memref sig .tc .smem S11 .i32) (harg1 : arg1.IsWhole) (arg2 : Memref sig .tc .smem S11 .i32) (harg2 : arg2.IsWhole) (arg3 : Memref sig .tc .smem S7 .i32) (harg3 : arg3.IsWhole) (arg4 : Memref sig .tc .smem S6 .i32) (harg4 : arg4.IsWhole) (arg5 : Memref sig .tc .smem S11 .f32) (harg5 : arg5.IsWhole) (arg6 : Memref sig .tc .vmem S128x4096 .bf16) (harg6 : arg6.IsWhole) (arg7 : Memref sig .tc .vmem S512x512 .i32) (harg7 : arg7.IsWhole) (arg8 : Memref sig .tc .vmem S128x512 .i8) (harg8 : arg8.IsWhole) (arg11 : Memref sig .tc .vmem S128x512 .bf16) (harg11 : arg11.IsWhole) (arg12 : Memref sig .tc .vmem S128x64 .bf16) (harg12 : arg12.IsWhole) (arg0 : BitVec 32) (v0 : Elt F .i32) (k0_hw1 : k0_chk1 i v0) (v1 : Elt F .i32) (v2 : Elt F .i32) (v4 : Elt F .i32) (v6 : Elt F .i32) (k0_hw7 : k0_chk7 i v1 v2 v4 v6) (v23 : BitVec 32) (v47 : BitVec 32) (v49 : BitVec 32) (v50 : BitVec 32) (v51 : Elt F .i32) (k0_hw2 : k0_chk2 i v51) (v52 : Elt F .i32) (v53 : Elt F .i32) (v55 : Elt F .i32) (v57 : Elt F .i32) (k0_hw8 : k0_chk8 i v1 v2 v4 v6 v52 v53 v55 v57) (v74 : BitVec 32) (v98 : BitVec 32) (v100 : BitVec 32) (v101 : BitVec 32) (v102 : Elt F .i32) (k0_hw3 : k0_chk3 i v102) (v103 : Elt F .i32) (v104 : Elt F .i32) (v106 : Elt F .i32) (v108 : Elt F .i32) (k0_hw9 : k0_chk9 i v1 v2 v4 v6 v52 v53 v55 v57 v103 v104 v106 v108) (v125 : BitVec 32) (v149 : BitVec 32) (v151 : BitVec 32) (v152 : BitVec 32) (v153 : Elt F .i32) (k0_hw4 : k0_chk4 i v153) (v154 : Elt F .i32) (v155 : Elt F .i32) (v157 : Elt F .i32) (v159 : Elt F .i32) (k0_hw10 : k0_chk10 i v1 v2 v4 v6 v52 v53 v55 v57 v103 v104 v106 v108 v154 v155 v157 v159) (v176 : BitVec 32) (v200 : BitVec 32) (v202 : BitVec 32) (v203 : BitVec 32) (v204 : Elt F .i32) (k0_hw5 : k0_chk5 i v204) (v205 : Elt F .i32) (v206 : Elt F .i32) (v208 : Elt F .i32) (v210 : Elt F .i32) (k0_hw11 : k0_chk11 i v1 v2 v4 v6 v52 v53 v55 v57 v103 v104 v106 v108 v154 v155 v157 v159 v205 v206 v208 v210) (v227 : BitVec 32) (v251 : BitVec 32) (v253 : BitVec 32) (v254 : BitVec 32) (v255 : Elt F .i32) (k0_hw6 : k0_chk6 i v255) (v256 : Elt F .i32) (v257 : Elt F .i32) (v259 : Elt F .i32) (v261 : Elt F .i32) (k0_hw12 : k0_chk12 i v1 v2 v4 v6 v52 v53 v55 v57 v103 v104 v106 v108 v154 v155 v157 v159 v205 v206 v208 v210 v256 v257 v259 v261) (v278 : BitVec 32) (v280 : BitVec 32) (v281 : BitVec 1) (v282 : BitVec 32) (c8_i32_113 : BitVec 32) (hi0 : (i 0).val ≠ 0) (hi1 : ¬ (i 0).val + 1 < 28)
    (sg : Fin 6 → Seg) (hsg : sg = (mkSg v1 v2 v4 v6 v52 v53 v55 v57 v103 v104 v106 v108 v154 v155 v157 v159 v205 v206 v208 v210 v256 v257 v259 v261)) (ok : ∀ s, (sg s).OK) (pa : S900x4096.Idx → Elt F .bf16) (pb : S900x14336.Idx → Elt F .bf16) (q7 : PosShare TreeShare) (d7 : S512x512.Idx → Elt F .i32) {Q : _ → sProp 𝕄} :
    iprop(six (cB c sg (pW' i).toNat pb) ∗ owns (c : Thread nD τ) arg7 q7 d7
        ∗ (∀ z, iprop(six (cB c sg (pW' i).toNat pb) ∗ owns (c : Thread nD τ) arg7 q7 d7) -∗ Q ⟨z, iota .tc S512x8x512 32 [1] iota_S512x8x512_d1_w32, k0_pay26 d7⟩))
      ⊢ wp frame (wpE (defs₀ (F := F)) Variants.none (c : Thread nD τ) none) Set.univ (k0_part12 (F := F) i arg1 harg1 arg2 harg2 arg3 harg3 arg4 harg4 arg5 harg5 arg6 harg6 arg7 harg7 arg8 harg8 PAm (Memref.isWhole_whole _) PBm (Memref.isWhole_whole _) arg11 harg11 arg12 harg12 Am (Memref.isWhole_whole _) Bm (Memref.isWhole_whole _) Hm (Memref.isWhole_whole _) cc0_scratch3 cc0_scratch4 arg0 v0 k0_hw1 v1 v2 v4 v6 k0_hw7 v23 v47 v49 v50 v51 k0_hw2 v52 v53 v55 v57 k0_hw8 v74 v98 v100 v101 v102 k0_hw3 v103 v104 v106 v108 k0_hw9 v125 v149 v151 v152 v153 k0_hw4 v154 v155 v157 v159 k0_hw10 v176 v200 v202 v203 v204 k0_hw5 v205 v206 v208 v210 k0_hw11 v227 v251 v253 v254 v255 k0_hw6 v256 v257 v259 v261 k0_hw12 v278 v280 v281 v282 c8_i32_113) Q := by
  have k0_h1 : ¬ k0_cond1 i = 1#1 := fun h => hi0 ((cond1_iff i).1 h)
  have k0_h21 : ¬ k0_cond21 i = 1#1 := fun h => hi0 ((cond21_iff i).1 h)
  have k0_h14 : ¬ k0_cond14 i = 1#1 := fun h => hi1 ((cond14_iff i).1 h)
  rw [k0_part12_eq_skeleton]; unfold k0_part12_skel
  iintro ⟨HD, H7, Hk⟩
  iapply (ifF c k0_h1)
  iapply (ifF c k0_h14)
  iapply (ifF c k0_h21)
  iapply (ldO c arg7 d7) $$ H7
  iintro H7
  iapply (wp_retE c)
  iapply Hk
  isplitl [HD]
  · iexact HD
  iexact H7

end Cert.Kernel.Hand

end
-- ==== Proof.Part14.lean ====
/- Hand-written, untrusted: a step from its weight block on. -/
module

public import proofs.«01_k».proof.Proof.Own

@[expose] public section

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 1000000 in
/-- The scales and the activations read, the first five segments' output-side rows landed. -/
theorem part14_run (c : Dev nD) (i : grid0.Coords) (arg1 : Memref sig .tc .smem S11 .i32) (harg1 : arg1.IsWhole) (arg2 : Memref sig .tc .smem S11 .i32) (harg2 : arg2.IsWhole) (arg3 : Memref sig .tc .smem S7 .i32) (harg3 : arg3.IsWhole) (arg4 : Memref sig .tc .smem S6 .i32) (harg4 : arg4.IsWhole) (arg5 : Memref sig .tc .smem S11 .f32) (harg5 : arg5.IsWhole) (arg6 : Memref sig .tc .vmem S128x4096 .bf16) (harg6 : arg6.IsWhole) (arg7 : Memref sig .tc .vmem S512x512 .i32) (harg7 : arg7.IsWhole) (arg8 : Memref sig .tc .vmem S128x512 .i8) (harg8 : arg8.IsWhole) (arg11 : Memref sig .tc .vmem S128x512 .bf16) (harg11 : arg11.IsWhole) (arg12 : Memref sig .tc .vmem S128x64 .bf16) (harg12 : arg12.IsWhole) (arg0 : BitVec 32) (v1 : Elt F .i32) (v2 : Elt F .i32) (v4 : Elt F .i32) (v6 : Elt F .i32) (k0_hw7 : k0_chk7 i v1 v2 v4 v6) (v23 : BitVec 32) (v47 : BitVec 32) (v50 : BitVec 32) (v52 : Elt F .i32) (v53 : Elt F .i32) (v55 : Elt F .i32) (v57 : Elt F .i32) (k0_hw8 : k0_chk8 i v1 v2 v4 v6 v52 v53 v55 v57) (v74 : BitVec 32) (v98 : BitVec 32) (v101 : BitVec 32) (v103 : Elt F .i32) (v104 : Elt F .i32) (v106 : Elt F .i32) (v108 : Elt F .i32) (k0_hw9 : k0_chk9 i v1 v2 v4 v6 v52 v53 v55 v57 v103 v104 v106 v108) (v125 : BitVec 32) (v149 : BitVec 32) (v152 : BitVec 32) (v154 : Elt F .i32) (v155 : Elt F .i32) (v157 : Elt F .i32) (v159 : Elt F .i32) (k0_hw10 : k0_chk10 i v1 v2 v4 v6 v52 v53 v55 v57 v103 v104 v106 v108 v154 v155 v157 v159) (v176 : BitVec 32) (v200 : BitVec 32) (v203 : BitVec 32) (v205 : Elt F .i32) (v206 : Elt F .i32) (v208 : Elt F .i32) (v210 : Elt F .i32) (k0_hw11 : k0_chk11 i v1 v2 v4 v6 v52 v53 v55 v57 v103 v104 v106 v108 v154 v155 v157 v159 v205 v206 v208 v210) (v227 : BitVec 32) (v251 : BitVec 32) (v354 : FVec F S4096x512 .f32) (v358 : IVec S4096x512 1) (v256 : Elt F .i32) (v257 : Elt F .i32) (v259 : Elt F .i32) (v261 : Elt F .i32)
    (sg : Fin 6 → Seg) (hsg : sg = (mkSg v1 v2 v4 v6 v52 v53 v55 v57 v103 v104 v106 v108 v154 v155 v157 v159 v205 v206 v208 v210 v256 v257 v259 v261)) (ok : ∀ s, (sg s).OK) (pb : S900x14336.Idx → Elt F .bf16)
    (q6 q8 : PosShare TreeShare) (d6 : S128x4096.Idx → Elt F .bf16) (d8 : S128x512.Idx → Elt F .i8) {Q : _ → sProp 𝕄} :
    iprop((fB c sg (pW i).toNat (qW i).toNat (i 0).val pb 0 ∗ fB c sg (pW i).toNat (qW i).toNat (i 0).val pb 1 ∗ fB c sg (pW i).toNat (qW i).toNat (i 0).val pb 2 ∗ fB c sg (pW i).toNat (qW i).toNat (i 0).val pb 3 ∗ fB c sg (pW i).toNat (qW i).toNat (i 0).val pb 4) ∗ (∃ W, owes (c : Thread nD τ) 0 W) ∗ owns (c : Thread nD τ) arg6 q6 d6 ∗ owns (c : Thread nD τ) arg8 q8 d8
        ∗ (iprop((dB c sg (pW i).toNat (i 0).val pb 0 ∗ dB c sg (pW i).toNat (i 0).val pb 1 ∗ dB c sg (pW i).toNat (i 0).val pb 2 ∗ dB c sg (pW i).toNat (i 0).val pb 3 ∗ dB c sg (pW i).toNat (i 0).val pb 4) ∗ (∃ W, owes (c : Thread nD τ) 0 W) ∗ owns (c : Thread nD τ) arg6 q6 d6 ∗ owns (c : Thread nD τ) arg8 q8 d8) -∗ Q ⟨k0_pay30 v354 v358 d8 d6, 0#32⟩))
      ⊢ wp frame (wpE (defs₀ (F := F)) Variants.none (c : Thread nD τ) none) Set.univ (k0_part14 (F := F) i arg1 harg1 arg2 harg2 arg3 harg3 arg4 harg4 arg5 harg5 arg6 harg6 arg7 harg7 arg8 harg8 PAm (Memref.isWhole_whole _) PBm (Memref.isWhole_whole _) arg11 harg11 arg12 harg12 Am (Memref.isWhole_whole _) Bm (Memref.isWhole_whole _) Hm (Memref.isWhole_whole _) cc0_scratch3 cc0_scratch4 arg0 v1 v2 v4 v6 k0_hw7 v23 v47 v50 v52 v53 v55 v57 k0_hw8 v74 v98 v101 v103 v104 v106 v108 k0_hw9 v125 v149 v152 v154 v155 v157 v159 k0_hw10 v176 v200 v203 v205 v206 v208 v210 k0_hw11 v227 v251 v354 v358) Q := by
  rw [k0_part14_eq_skeleton]; unfold k0_part14_skel
  iintro ⟨⟨B0, B1, B2, B3, B4⟩, HO, H6, H8, Hk⟩
  have hC0 : guardW (sg 0) = 1#1 ↔ 0 < gy sg 0 := guard_gy sg ok 0
  have hC1 : guardW (sg 1) = 1#1 ↔ 0 < gy sg 1 := guard_gy sg ok 1
  have hC2 : guardW (sg 2) = 1#1 ↔ 0 < gy sg 2 := guard_gy sg ok 2
  have hC3 : guardW (sg 3) = 1#1 ↔ 0 < gy sg 3 := guard_gy sg ok 3
  have hC4 : guardW (sg 4) = 1#1 ↔ 0 < gy sg 4 := guard_gy sg ok 4
  have hC5 : guardW (sg 5) = 1#1 ↔ 0 < gy sg 5 := guard_gy sg ok 5
  iapply (ldO c arg8 d8) $$ H8
  iintro H8
  iapply (ldO c arg6 d6) $$ H6
  iintro H6
  iapply (waitB c (C := k0_cond28 v1 v2 v4 v6 = 1#1) (p := (pW i).toNat) (q := (qW i).toNat) (x := gx sg 0) (y := gy sg 0) (g := gg sg 0) 0 (qB (pW i).toNat 0) pb (FB sg pb (i 0).val) (by rw [hsg] at hC0 ⊢; exact hC0) (pW_le i) (by rw [hsg]; rfl) rfl) $$ [B0 HO]
  · isplitl [B0]
    · iexact B0
    iexact HO
  iintro ⟨B0, HO⟩
  iapply (waitB c (C := k0_cond29 v52 v53 v55 v57 = 1#1) (p := (pW i).toNat) (q := (qW i).toNat) (x := gx sg 1) (y := gy sg 1) (g := gg sg 1) 1 (qB (pW i).toNat 1) pb (FB sg pb (i 0).val) (by rw [hsg] at hC1 ⊢; exact hC1) (pW_le i) (by rw [hsg]; rfl) rfl) $$ [B1 HO]
  · isplitl [B1]
    · iexact B1
    iexact HO
  iintro ⟨B1, HO⟩
  iapply (waitB c (C := k0_cond30 v103 v104 v106 v108 = 1#1) (p := (pW i).toNat) (q := (qW i).toNat) (x := gx sg 2) (y := gy sg 2) (g := gg sg 2) 2 (qB (pW i).toNat 2) pb (FB sg pb (i 0).val) (by rw [hsg] at hC2 ⊢; exact hC2) (pW_le i) (by rw [hsg]; rfl) rfl) $$ [B2 HO]
  · isplitl [B2]
    · iexact B2
    iexact HO
  iintro ⟨B2, HO⟩
  iapply (waitB c (C := k0_cond31 v154 v155 v157 v159 = 1#1) (p := (pW i).toNat) (q := (qW i).toNat) (x := gx sg 3) (y := gy sg 3) (g := gg sg 3) 3 (qB (pW i).toNat 3) pb (FB sg pb (i 0).val) (by rw [hsg] at hC3 ⊢; exact hC3) (pW_le i) (by rw [hsg]; rfl) rfl) $$ [B3 HO]
  · isplitl [B3]
    · iexact B3
    iexact HO
  iintro ⟨B3, HO⟩
  iapply (waitB c (C := k0_cond32 v205 v206 v208 v210 = 1#1) (p := (pW i).toNat) (q := (qW i).toNat) (x := gx sg 4) (y := gy sg 4) (g := gg sg 4) 4 (qB (pW i).toNat 4) pb (FB sg pb (i 0).val) (by rw [hsg] at hC4 ⊢; exact hC4) (pW_le i) (by rw [hsg]; rfl) rfl) $$ [B4 HO]
  · isplitl [B4]
    · iexact B4
    iexact HO
  iintro ⟨B4, HO⟩
  iapply (wp_retE c)
  iapply Hk
  isplitl [B0 B1 B2 B3 B4]
  · isplitl [B0]
    · iexact B0
    isplitl [B1]
    · iexact B1
    isplitl [B2]
    · iexact B2
    isplitl [B3]
    · iexact B3
    iexact B4
  isplitl [HO]
  · iexact HO
  isplitl [H6]
  · iexact H6
  iexact H8

/-- The block of the output side a step multiplies by: its slot, read as the kernel reads it. -/
def slotRd (i : grid0.Coords) (f : S2x512x512.Idx → Elt F .bf16) : S1x512x512.Idx → Elt F .bf16 :=
  Bm.view.readAt (Elt F) (Rect.unit (s := S2x512x512) (k0_off91 i) S1x512x512.size (k0_off91_inb i)).toLoadRect f

/-- Reading the slot of the output-side buffer, whose rows alone are held. -/
theorem ldSlot (c : Dev nD) (i : grid0.Coords) (f : S2x512x512.Idx → Elt F .bf16)
    {hl : Bm.view.LoadsAt (Rect.unit (s := S2x512x512) (k0_off91 i) S1x512x512.size (k0_off91_inb i)).toLoadRect} {α : Type}
    {k : (S1x512x512.Idx → Elt F .bf16) → Prog (TpuEff nD τ sig (Elt F) Λ₀ .tc) α} {Q : α → sProp 𝕄} :
    (ptB c (slotB (pW i).toNat) f : sProp 𝕄)
      ⊢ iprop((ptB c (slotB (pW i).toNat) f -∗ wp frame (wpE (defs₀ (F := F)) Variants.none (c : Thread nD τ) none) Set.univ (k (slotRd i f)) Q)
        -∗ wp frame (wpE (defs₀ (F := F)) Variants.none (c : Thread nD τ) none) Set.univ (Prog.lift (.load Bm (Rect.unit (s := S2x512x512) (k0_off91 i) S1x512x512.size (k0_off91_inb i)).toLoadRect hl) >>= k) Q) :=
  wp_load (defs := defs₀ (F := F)) (Γ := .empty) (m := Bm) (r := (Rect.unit (s := S2x512x512) (k0_off91 i) S1x512x512.size (k0_off91_inb i)).toLoadRect) (hl := hl) (k := k) (Q := Q)
    (f := (f : Buf (Elt F) (Bm.view.loc (c : Thread nD τ)))) Variants.none (c : Thread nD τ) none Set.univ (S := slotB (pW i).toNat) (by
      intro y hy
      obtain ⟨x, hx, rfl⟩ := Finset.mem_map.1 hy
      rw [← Rect.map_emb_univ] at hx
      obtain ⟨z, -, rfl⟩ := Finset.mem_map.1 hx
      refine Finset.mem_filter.2 ⟨Finset.mem_univ _, ?_⟩
      show (k0_off91 i) 0 + 1 * (z 0).val = _
      have h0 : (z 0).val < 1 := (z 0).isLt
      have h1 : (k0_off91 i) 0 = (pW i).toNat := rfl
      rw [h1]; omega)

end Cert.Kernel.Hand

end
-- ==== Proof.Tail.lean ====
/- Hand-written, untrusted: a step from its weight block to its end. -/
module

public import proofs.«01_k».proof.Proof.Part12
public import proofs.«01_k».proof.Proof.Part14

@[expose] public section

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A step from its weight block on. -/
def root2 (i : grid0.Coords) (arg1 : Memref sig .tc .smem S11 .i32) (harg1 : arg1.IsWhole) (arg2 : Memref sig .tc .smem S11 .i32) (harg2 : arg2.IsWhole) (arg3 : Memref sig .tc .smem S7 .i32) (harg3 : arg3.IsWhole) (arg4 : Memref sig .tc .smem S6 .i32) (harg4 : arg4.IsWhole) (arg5 : Memref sig .tc .smem S11 .f32) (harg5 : arg5.IsWhole) (arg6 : Memref sig .tc .vmem S128x4096 .bf16) (harg6 : arg6.IsWhole) (arg7 : Memref sig .tc .vmem S512x512 .i32) (harg7 : arg7.IsWhole) (arg8 : Memref sig .tc .vmem S128x512 .i8) (harg8 : arg8.IsWhole) (arg11 : Memref sig .tc .vmem S128x512 .bf16) (harg11 : arg11.IsWhole) (arg12 : Memref sig .tc .vmem S128x64 .bf16) (harg12 : arg12.IsWhole) (arg0 : BitVec 32) (v1 : Elt F .i32) (v2 : Elt F .i32) (v4 : Elt F .i32) (v6 : Elt F .i32) (k0_hw7 : k0_chk7 i v1 v2 v4 v6) (v23 : BitVec 32) (v47 : BitVec 32) (v50 : BitVec 32) (v52 : Elt F .i32) (v53 : Elt F .i32) (v55 : Elt F .i32) (v57 : Elt F .i32) (k0_hw8 : k0_chk8 i v1 v2 v4 v6 v52 v53 v55 v57) (v74 : BitVec 32) (v98 : BitVec 32) (v101 : BitVec 32) (v103 : Elt F .i32) (v104 : Elt F .i32) (v106 : Elt F .i32) (v108 : Elt F .i32) (k0_hw9 : k0_chk9 i v1 v2 v4 v6 v52 v53 v55 v57 v103 v104 v106 v108) (v125 : BitVec 32) (v149 : BitVec 32) (v152 : BitVec 32) (v154 : Elt F .i32) (v155 : Elt F .i32) (v157 : Elt F .i32) (v159 : Elt F .i32) (k0_hw10 : k0_chk10 i v1 v2 v4 v6 v52 v53 v55 v57 v103 v104 v106 v108 v154 v155 v157 v159) (v176 : BitVec 32) (v200 : BitVec 32) (v203 : BitVec 32) (v205 : Elt F .i32) (v206 : Elt F .i32) (v208 : Elt F .i32) (v210 : Elt F .i32) (k0_hw11 : k0_chk11 i v1 v2 v4 v6 v52 v53 v55 v57 v103 v104 v106 v108 v154 v155 v157 v159 v205 v206 v208 v210) (v227 : BitVec 32) (v251 : BitVec 32) (v254 : BitVec 32) (v256 : Elt F .i32) (v257 : Elt F .i32) (v259 : Elt F .i32) (v261 : Elt F .i32) (k0_hw12 : k0_chk12 i v1 v2 v4 v6 v52 v53 v55 v57 v103 v104 v106 v108 v154 v155 v157 v159 v205 v206 v208 v210 v256 v257 v259 v261) (v316 : IVec S512x8x512 32) (v317 : IVec S512x1x512 32) : Prog (TpuEff nD τ sig (Elt F) Λ₀ .tc) PUnit := do
  let ⟨v354, v358⟩ : Σ' (v354 : FVec F S4096x512 .f32), IVec S4096x512 1 ← k0_part13 i arg1 harg1 arg2 harg2 arg3 harg3 arg4 harg4 arg5 harg5 arg6 harg6 arg7 harg7 arg8 harg8 PAm (Memref.isWhole_whole _) PBm (Memref.isWhole_whole _) arg11 harg11 arg12 harg12 Am (Memref.isWhole_whole _) Bm (Memref.isWhole_whole _) Hm (Memref.isWhole_whole _) cc0_scratch3 cc0_scratch4 v316 v317
  let ⟨v378, c0_i32_165⟩ : Σ' (v378 : FVec F S128x512 .f32), BitVec 32 ← k0_part14 i arg1 harg1 arg2 harg2 arg3 harg3 arg4 harg4 arg5 harg5 arg6 harg6 arg7 harg7 arg8 harg8 PAm (Memref.isWhole_whole _) PBm (Memref.isWhole_whole _) arg11 harg11 arg12 harg12 Am (Memref.isWhole_whole _) Bm (Memref.isWhole_whole _) Hm (Memref.isWhole_whole _) cc0_scratch3 cc0_scratch4 arg0 v1 v2 v4 v6 k0_hw7 v23 v47 v50 v52 v53 v55 v57 k0_hw8 v74 v98 v101 v103 v104 v106 v108 k0_hw9 v125 v149 v152 v154 v155 v157 v159 k0_hw10 v176 v200 v203 v205 v206 v208 v210 k0_hw11 v227 v251 v354 v358
  if k0_h33 : k0_cond33 v256 v257 v259 v261 = 1#1 then do
    let v415 : DmaSems sig S1x1 := cc0_scratch4.slice (Rect.unit (s := S2x6) (k0_off88 i) S1x1.size (k0_off88_inb i))
    let v416 : DmaSems sig S_ := v415.squeeze S_ squeezes_S1x1_S_
    Prog.lift (.waitDma v416.sem Bm.view.ref (⟨2, k0_sz18 v256 v257 v259 v261⟩ : Shape) .bf16 (Or.inl rfl))
    pure ⟨⟩
  else do
    pure ⟨⟩
  let v397 : Vec F S128x512 .bf16 ← Prog.lift (.load Hm (Rect.unit (s := S128x512) ![0, 0] S128x512.size inb_S128x512_S128x512_0_0).toLoadRect (View.loadsAt_vmem h_S128x512))
  let v400 : Vec F S1x512x512 .bf16 ← Prog.lift (.load Bm (Rect.unit (s := S2x512x512) (k0_off91 i) S1x512x512.size (k0_off91_inb i)).toLoadRect (View.loadsAt_vmem h_S1x512x512))
  let v405 : Vec F S128x512 .bf16 ← Prog.lift (.load arg11 (Rect.unit (s := S128x512) ![0, 0] S128x512.size inb_S128x512_S128x512_0_0).toLoadRect (View.loadsAt_vmem h_S128x512))
  Prog.lift (.store arg11 (Rect.unit (s := S128x512) ![0, 0] S128x512.size inb_S128x512_S128x512_0_0) (k0_pay1 v378 v397 v400) Finset.univ (View.stores_vmem h_S128x512 (harg11.storeExact_slice rfl _ packedbf16_S128x512_S128x512_0_0) (fun _ => rfl)) (.inl rfl))
  pure ⟨⟩

set_option maxHeartbeats 1000000 in
/-- From its weight block on, a step waits for its block's rows, and stores its output block. -/
theorem root2_run (c : Dev nD) (i : grid0.Coords) (arg1 : Memref sig .tc .smem S11 .i32) (harg1 : arg1.IsWhole) (arg2 : Memref sig .tc .smem S11 .i32) (harg2 : arg2.IsWhole) (arg3 : Memref sig .tc .smem S7 .i32) (harg3 : arg3.IsWhole) (arg4 : Memref sig .tc .smem S6 .i32) (harg4 : arg4.IsWhole) (arg5 : Memref sig .tc .smem S11 .f32) (harg5 : arg5.IsWhole) (arg6 : Memref sig .tc .vmem S128x4096 .bf16) (harg6 : arg6.IsWhole) (arg7 : Memref sig .tc .vmem S512x512 .i32) (harg7 : arg7.IsWhole) (arg8 : Memref sig .tc .vmem S128x512 .i8) (harg8 : arg8.IsWhole) (arg11 : Memref sig .tc .vmem S128x512 .bf16) (harg11 : arg11.IsWhole) (arg12 : Memref sig .tc .vmem S128x64 .bf16) (harg12 : arg12.IsWhole) (arg0 : BitVec 32) (v1 : Elt F .i32) (v2 : Elt F .i32) (v4 : Elt F .i32) (v6 : Elt F .i32) (k0_hw7 : k0_chk7 i v1 v2 v4 v6) (v23 : BitVec 32) (v47 : BitVec 32) (v50 : BitVec 32) (v52 : Elt F .i32) (v53 : Elt F .i32) (v55 : Elt F .i32) (v57 : Elt F .i32) (k0_hw8 : k0_chk8 i v1 v2 v4 v6 v52 v53 v55 v57) (v74 : BitVec 32) (v98 : BitVec 32) (v101 : BitVec 32) (v103 : Elt F .i32) (v104 : Elt F .i32) (v106 : Elt F .i32) (v108 : Elt F .i32) (k0_hw9 : k0_chk9 i v1 v2 v4 v6 v52 v53 v55 v57 v103 v104 v106 v108) (v125 : BitVec 32) (v149 : BitVec 32) (v152 : BitVec 32) (v154 : Elt F .i32) (v155 : Elt F .i32) (v157 : Elt F .i32) (v159 : Elt F .i32) (k0_hw10 : k0_chk10 i v1 v2 v4 v6 v52 v53 v55 v57 v103 v104 v106 v108 v154 v155 v157 v159) (v176 : BitVec 32) (v200 : BitVec 32) (v203 : BitVec 32) (v205 : Elt F .i32) (v206 : Elt F .i32) (v208 : Elt F .i32) (v210 : Elt F .i32) (k0_hw11 : k0_chk11 i v1 v2 v4 v6 v52 v53 v55 v57 v103 v104 v106 v108 v154 v155 v157 v159 v205 v206 v208 v210) (v227 : BitVec 32) (v251 : BitVec 32) (v254 : BitVec 32) (v256 : Elt F .i32) (v257 : Elt F .i32) (v259 : Elt F .i32) (v261 : Elt F .i32) (k0_hw12 : k0_chk12 i v1 v2 v4 v6 v52 v53 v55 v57 v103 v104 v106 v108 v154 v155 v157 v159 v205 v206 v208 v210 v256 v257 v259 v261) (v316 : IVec S512x8x512 32) (v317 : IVec S512x1x512 32)
    (sg : Fin 6 → Seg) (hsg : sg = (mkSg v1 v2 v4 v6 v52 v53 v55 v57 v103 v104 v106 v108 v154 v155 v157 v159 v205 v206 v208 v210 v256 v257 v259 v261)) (ok : ∀ s, (sg s).OK) (pb : S900x14336.Idx → Elt F .bf16)
    (q6 q8 : PosShare TreeShare) (d6 : S128x4096.Idx → Elt F .bf16) (d8 : S128x512.Idx → Elt F .i8) (hb : S128x512.Idx → Elt F .bf16) {Q : PUnit → sProp 𝕄} :
    iprop(six (fB c sg (pW i).toNat (qW i).toNat (i 0).val pb) ∗ ptB c (restB sg (pW i).toNat) (k0_pay3 (F := F)) ∗ (∃ W, owes (c : Thread nD τ) 0 W) ∗ owns (c : Thread nD τ) arg6 q6 d6 ∗ owns (c : Thread nD τ) arg8 q8 d8 ∗ owns (c : Thread nD τ) Hm fullShare hb ∗ (∃ d, owns (c : Thread nD τ) arg11 fullShare d)
        ∗ (iprop(six (cB c sg (pW i).toNat pb) ∗ ptB c (restB sg (pW i).toNat) (k0_pay3 (F := F)) ∗ (∃ W, owes (c : Thread nD τ) 0 W) ∗ owns (c : Thread nD τ) arg6 q6 d6 ∗ owns (c : Thread nD τ) arg8 q8 d8 ∗ owns (c : Thread nD τ) Hm fullShare hb
            ∗ owns (c : Thread nD τ) arg11 fullShare (k0_pay1 (k0_pay30 (k0_pay28 (F := F) v316 v317) (k0_pay29 v316 v317) d8 d6) hb (slotRd i (FB sg pb (i 0).val)))) -∗ Q ⟨⟩))
      ⊢ wp frame (wpE (defs₀ (F := F)) Variants.none (c : Thread nD τ) none) Set.univ (root2 (F := F) i arg1 harg1 arg2 harg2 arg3 harg3 arg4 harg4 arg5 harg5 arg6 harg6 arg7 harg7 arg8 harg8 arg11 harg11 arg12 harg12 arg0 v1 v2 v4 v6 k0_hw7 v23 v47 v50 v52 v53 v55 v57 k0_hw8 v74 v98 v101 v103 v104 v106 v108 k0_hw9 v125 v149 v152 v154 v155 v157 v159 k0_hw10 v176 v200 v203 v205 v206 v208 v210 k0_hw11 v227 v251 v254 v256 v257 v259 v261 k0_hw12 v316 v317) Q := by
  unfold root2
  iintro ⟨⟨B0, B1, B2, B3, B4, B5⟩, HR, HO, H6, H8, HH, ⟨%d11, H11⟩, Hk⟩
  rw [k0_part13_eq_skeleton]; unfold k0_part13_skel
  iapply (bindE c)
  iapply (wp_retE c)
  iapply (bindE c)
  iapply (part14_run c (sg := sg) (hsg := hsg) (ok := ok) (pb := pb) (q6 := q6) (q8 := q8) (d6 := d6) (d8 := d8) (v256 := v256) (v257 := v257) (v259 := v259) (v261 := v261))
  isplitl [B0 B1 B2 B3 B4]
  · isplitl [B0]
    · iexact B0
    isplitl [B1]
    · iexact B1
    isplitl [B2]
    · iexact B2
    isplitl [B3]
    · iexact B3
    iexact B4
  isplitl [HO]
  · iexact HO
  isplitl [H6]
  · iexact H6
  isplitl [H8]
  · iexact H8
  iintro ⟨⟨B0, B1, B2, B3, B4⟩, HO, H6, H8⟩
  have hC5 : guardW (sg 5) = 1#1 ↔ 0 < gy sg 5 := guard_gy sg ok 5
  iapply (waitB c (C := k0_cond33 v256 v257 v259 v261 = 1#1) (p := (pW i).toNat) (q := (qW i).toNat) (x := gx sg 5) (y := gy sg 5) (g := gg sg 5) 5 (qB (pW i).toNat 5) pb (FB sg pb (i 0).val) (by rw [hsg] at hC5 ⊢; exact hC5) (pW_le i) (by rw [hsg]; rfl) rfl) $$ [B5 HO]
  · isplitl [B5]
    · iexact B5
    iexact HO
  iintro ⟨B5, HO⟩
  iapply (ldO c Hm hb) $$ HH
  iintro HH
  unfold dB doneB
  icases B0 with ⟨B0, P0, S0⟩
  icases B1 with ⟨B1, P1, S1⟩
  icases B2 with ⟨B2, P2, S2⟩
  icases B3 with ⟨B3, P3, S3⟩
  icases B4 with ⟨B4, P4, S4⟩
  icases B5 with ⟨B5, P5, S5⟩
  ihave HR := (Entails.of_eq (FB_rest sg pb c (pW i).toNat (i 0).val)) $$ HR
  ihave HB := (splitB sg ok c (pW i).toNat (FB sg pb (i 0).val)).2 $$ [B0 B1 B2 B3 B4 B5 HR]
  · isplitl [B0 B1 B2 B3 B4 B5]
    · isplitl [B0]
      · iexact B0
      isplitl [B1]
      · iexact B1
      isplitl [B2]
      · iexact B2
      isplitl [B3]
      · iexact B3
      isplitl [B4]
      · iexact B4
      iexact B5
    iexact HR
  iapply (ldSlot c i (FB sg pb (i 0).val)) $$ HB
  iintro HB
  ihave HB := (splitB sg ok c (pW i).toNat (FB sg pb (i 0).val)).1 $$ HB
  icases HB with ⟨HBw, HR⟩
  ihave HR := (Entails.of_eq (FB_rest sg pb c (pW i).toNat (i 0).val).symm) $$ HR
  ihave HcB := (mk_cB c sg (pW i).toNat (FB sg pb (i 0).val) pb) $$ [HBw P0 P1 P2 P3 P4 P5 S0 S1 S2 S3 S4 S5]
  · isplitl [HBw]
    · iexact HBw
    isplitl [P0 P1 P2 P3 P4 P5]
    · isplitl [P0]
      · iexact P0
      isplitl [P1]
      · iexact P1
      isplitl [P2]
      · iexact P2
      isplitl [P3]
      · iexact P3
      isplitl [P4]
      · iexact P4
      iexact P5
    isplitl [S0]
    · iexact S0
    isplitl [S1]
    · iexact S1
    isplitl [S2]
    · iexact S2
    isplitl [S3]
    · iexact S3
    isplitl [S4]
    · iexact S4
    iexact S5
  iapply (ldO c arg11 d11) $$ H11
  iintro H11
  iapply (stO c arg11 d11) $$ H11
  iintro H11
  iapply (wp_retE c)
  iapply Hk
  isplitl [HcB]
  · iexact HcB
  isplitl [HR]
  · iexact HR
  isplitl [HO]
  · iexact HO
  isplitl [H6]
  · iexact H6
  isplitl [H8]
  · iexact H8
  isplitl [HH]
  · iexact HH
  iexact H11

end Cert.Kernel.Hand

end
-- ==== Proof.Words.lean ====
/- Hand-written, untrusted: the segments' words. -/
module

public import proofs.«01_k».proof.Proof.Tail

@[expose] public section

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The first rank column of a segment's slot, as the kernel computes it. -/
def colW (sg : Fin 6 → Seg) (s : Fin 6) : BitVec 32 := Scalar.addi (Scalar.muli (slotW (pre sg s)) 8#32) (lW (sg s).st)

/-- A step, its words read. -/
def root1 (i : grid0.Coords) (arg1 : Memref sig .tc .smem S11 .i32) (harg1 : arg1.IsWhole) (arg2 : Memref sig .tc .smem S11 .i32) (harg2 : arg2.IsWhole) (arg3 : Memref sig .tc .smem S7 .i32) (harg3 : arg3.IsWhole) (arg4 : Memref sig .tc .smem S6 .i32) (harg4 : arg4.IsWhole) (arg5 : Memref sig .tc .smem S11 .f32) (harg5 : arg5.IsWhole) (arg6 : Memref sig .tc .vmem S128x4096 .bf16) (harg6 : arg6.IsWhole) (arg7 : Memref sig .tc .vmem S512x512 .i32) (harg7 : arg7.IsWhole) (arg8 : Memref sig .tc .vmem S128x512 .i8) (harg8 : arg8.IsWhole) (arg11 : Memref sig .tc .vmem S128x512 .bf16) (harg11 : arg11.IsWhole) (arg12 : Memref sig .tc .vmem S128x64 .bf16) (harg12 : arg12.IsWhole) (arg0 : BitVec 32) (v0 : Elt F .i32) (k0_hw1 : k0_chk1 i v0) (v1 : Elt F .i32) (v2 : Elt F .i32) (v4 : Elt F .i32) (v6 : Elt F .i32) (k0_hw7 : k0_chk7 i v1 v2 v4 v6) (v23 : BitVec 32) (v47 : BitVec 32) (v49 : BitVec 32) (v50 : BitVec 32) (v51 : Elt F .i32) (k0_hw2 : k0_chk2 i v51) (v52 : Elt F .i32) (v53 : Elt F .i32) (v55 : Elt F .i32) (v57 : Elt F .i32) (k0_hw8 : k0_chk8 i v1 v2 v4 v6 v52 v53 v55 v57) (v74 : BitVec 32) (v98 : BitVec 32) (v100 : BitVec 32) (v101 : BitVec 32) (v102 : Elt F .i32) (k0_hw3 : k0_chk3 i v102) (v103 : Elt F .i32) (v104 : Elt F .i32) (v106 : Elt F .i32) (v108 : Elt F .i32) (k0_hw9 : k0_chk9 i v1 v2 v4 v6 v52 v53 v55 v57 v103 v104 v106 v108) (v125 : BitVec 32) (v149 : BitVec 32) (v151 : BitVec 32) (v152 : BitVec 32) (v153 : Elt F .i32) (k0_hw4 : k0_chk4 i v153) (v154 : Elt F .i32) (v155 : Elt F .i32) (v157 : Elt F .i32) (v159 : Elt F .i32) (k0_hw10 : k0_chk10 i v1 v2 v4 v6 v52 v53 v55 v57 v103 v104 v106 v108 v154 v155 v157 v159) (v176 : BitVec 32) (v200 : BitVec 32) (v202 : BitVec 32) (v203 : BitVec 32) (v204 : Elt F .i32) (k0_hw5 : k0_chk5 i v204) (v205 : Elt F .i32) (v206 : Elt F .i32) (v208 : Elt F .i32) (v210 : Elt F .i32) (k0_hw11 : k0_chk11 i v1 v2 v4 v6 v52 v53 v55 v57 v103 v104 v106 v108 v154 v155 v157 v159 v205 v206 v208 v210) (v227 : BitVec 32) (v251 : BitVec 32) (v253 : BitVec 32) (v254 : BitVec 32) (v255 : Elt F .i32) (k0_hw6 : k0_chk6 i v255) (v256 : Elt F .i32) (v257 : Elt F .i32) (v259 : Elt F .i32) (v261 : Elt F .i32) (k0_hw12 : k0_chk12 i v1 v2 v4 v6 v52 v53 v55 v57 v103 v104 v106 v108 v154 v155 v157 v159 v205 v206 v208 v210 v256 v257 v259 v261) (v278 : BitVec 32) (v280 : BitVec 32) (v281 : BitVec 1) (v282 : BitVec 32) (c8_i32_113 : BitVec 32) : Prog (TpuEff nD τ sig (Elt F) Λ₀ .tc) PUnit := do
  let ⟨v302, v316, v317⟩ : Σ' (v302 : BitVec 32) (v316 : IVec S512x8x512 32), IVec S512x1x512 32 ← k0_part12 i arg1 harg1 arg2 harg2 arg3 harg3 arg4 harg4 arg5 harg5 arg6 harg6 arg7 harg7 arg8 harg8 PAm (Memref.isWhole_whole _) PBm (Memref.isWhole_whole _) arg11 harg11 arg12 harg12 Am (Memref.isWhole_whole _) Bm (Memref.isWhole_whole _) Hm (Memref.isWhole_whole _) cc0_scratch3 cc0_scratch4 arg0 v0 k0_hw1 v1 v2 v4 v6 k0_hw7 v23 v47 v49 v50 v51 k0_hw2 v52 v53 v55 v57 k0_hw8 v74 v98 v100 v101 v102 k0_hw3 v103 v104 v106 v108 k0_hw9 v125 v149 v151 v152 v153 k0_hw4 v154 v155 v157 v159 k0_hw10 v176 v200 v202 v203 v204 k0_hw5 v205 v206 v208 v210 k0_hw11 v227 v251 v253 v254 v255 k0_hw6 v256 v257 v259 v261 k0_hw12 v278 v280 v281 v282 c8_i32_113
  root2 i arg1 harg1 arg2 harg2 arg3 harg3 arg4 harg4 arg5 harg5 arg6 harg6 arg7 harg7 arg8 harg8 arg11 harg11 arg12 harg12 arg0 v1 v2 v4 v6 k0_hw7 v23 v47 v50 v52 v53 v55 v57 k0_hw8 v74 v98 v101 v103 v104 v106 v108 k0_hw9 v125 v149 v152 v154 v155 v157 v159 k0_hw10 v176 v200 v203 v205 v206 v208 v210 k0_hw11 v227 v251 v254 v256 v257 v259 v261 k0_hw12 v316 v317

/-- A step whose words are read, as the program writes it. -/
theorem root1_eq (c : Dev nD) (i : grid0.Coords) (arg1 : Memref sig .tc .smem S11 .i32) (harg1 : arg1.IsWhole) (arg2 : Memref sig .tc .smem S11 .i32) (harg2 : arg2.IsWhole) (arg3 : Memref sig .tc .smem S7 .i32) (harg3 : arg3.IsWhole) (arg4 : Memref sig .tc .smem S6 .i32) (harg4 : arg4.IsWhole) (arg5 : Memref sig .tc .smem S11 .f32) (harg5 : arg5.IsWhole) (arg6 : Memref sig .tc .vmem S128x4096 .bf16) (harg6 : arg6.IsWhole) (arg7 : Memref sig .tc .vmem S512x512 .i32) (harg7 : arg7.IsWhole) (arg8 : Memref sig .tc .vmem S128x512 .i8) (harg8 : arg8.IsWhole) (arg11 : Memref sig .tc .vmem S128x512 .bf16) (harg11 : arg11.IsWhole) (arg12 : Memref sig .tc .vmem S128x64 .bf16) (harg12 : arg12.IsWhole) (arg0 : BitVec 32) (v0 : Elt F .i32) (k0_hw1 : k0_chk1 i v0) (v1 : Elt F .i32) (v2 : Elt F .i32) (v4 : Elt F .i32) (v6 : Elt F .i32) (k0_hw7 : k0_chk7 i v1 v2 v4 v6) (v23 : BitVec 32) (v47 : BitVec 32) (v49 : BitVec 32) (v50 : BitVec 32) (v51 : Elt F .i32) (k0_hw2 : k0_chk2 i v51) (v52 : Elt F .i32) (v53 : Elt F .i32) (v55 : Elt F .i32) (v57 : Elt F .i32) (k0_hw8 : k0_chk8 i v1 v2 v4 v6 v52 v53 v55 v57) (v74 : BitVec 32) (v98 : BitVec 32) (v100 : BitVec 32) (v101 : BitVec 32) (v102 : Elt F .i32) (k0_hw3 : k0_chk3 i v102) (v103 : Elt F .i32) (v104 : Elt F .i32) (v106 : Elt F .i32) (v108 : Elt F .i32) (k0_hw9 : k0_chk9 i v1 v2 v4 v6 v52 v53 v55 v57 v103 v104 v106 v108) (v125 : BitVec 32) (v149 : BitVec 32) (v151 : BitVec 32) (v152 : BitVec 32) (v153 : Elt F .i32) (k0_hw4 : k0_chk4 i v153) (v154 : Elt F .i32) (v155 : Elt F .i32) (v157 : Elt F .i32) (v159 : Elt F .i32) (k0_hw10 : k0_chk10 i v1 v2 v4 v6 v52 v53 v55 v57 v103 v104 v106 v108 v154 v155 v157 v159) (v176 : BitVec 32) (v200 : BitVec 32) (v202 : BitVec 32) (v203 : BitVec 32) (v204 : Elt F .i32) (k0_hw5 : k0_chk5 i v204) (v205 : Elt F .i32) (v206 : Elt F .i32) (v208 : Elt F .i32) (v210 : Elt F .i32) (k0_hw11 : k0_chk11 i v1 v2 v4 v6 v52 v53 v55 v57 v103 v104 v106 v108 v154 v155 v157 v159 v205 v206 v208 v210) (v227 : BitVec 32) (v251 : BitVec 32) (v253 : BitVec 32) (v254 : BitVec 32) (v255 : Elt F .i32) (k0_hw6 : k0_chk6 i v255) (v256 : Elt F .i32) (v257 : Elt F .i32) (v259 : Elt F .i32) (v261 : Elt F .i32) (k0_hw12 : k0_chk12 i v1 v2 v4 v6 v52 v53 v55 v57 v103 v104 v106 v108 v154 v155 v157 v159 v205 v206 v208 v210 v256 v257 v259 v261) (v278 : BitVec 32) (v280 : BitVec 32) (v281 : BitVec 1) (v282 : BitVec 32) (c8_i32_113 : BitVec 32) {Q : PUnit → sProp 𝕄} :
    wp frame (wpE (defs₀ (F := F)) Variants.none (c : Thread nD τ) none) Set.univ (root1 (F := F) i arg1 harg1 arg2 harg2 arg3 harg3 arg4 harg4 arg5 harg5 arg6 harg6 arg7 harg7 arg8 harg8 arg11 harg11 arg12 harg12 arg0 v0 k0_hw1 v1 v2 v4 v6 k0_hw7 v23 v47 v49 v50 v51 k0_hw2 v52 v53 v55 v57 k0_hw8 v74 v98 v100 v101 v102 k0_hw3 v103 v104 v106 v108 k0_hw9 v125 v149 v151 v152 v153 k0_hw4 v154 v155 v157 v159 k0_hw10 v176 v200 v202 v203 v204 k0_hw5 v205 v206 v208 v210 k0_hw11 v227 v251 v253 v254 v255 k0_hw6 v256 v257 v259 v261 k0_hw12 v278 v280 v281 v282 c8_i32_113) Q
      ⊢ wp frame (wpE (defs₀ (F := F)) Variants.none (c : Thread nD τ) none) Set.univ (do
  let ⟨v302, v316, v317⟩ : Σ' (v302 : BitVec 32) (v316 : IVec S512x8x512 32), IVec S512x1x512 32 ← k0_part12 i arg1 harg1 arg2 harg2 arg3 harg3 arg4 harg4 arg5 harg5 arg6 harg6 arg7 harg7 arg8 harg8 PAm (Memref.isWhole_whole _) PBm (Memref.isWhole_whole _) arg11 harg11 arg12 harg12 Am (Memref.isWhole_whole _) Bm (Memref.isWhole_whole _) Hm (Memref.isWhole_whole _) cc0_scratch3 cc0_scratch4 arg0 v0 k0_hw1 v1 v2 v4 v6 k0_hw7 v23 v47 v49 v50 v51 k0_hw2 v52 v53 v55 v57 k0_hw8 v74 v98 v100 v101 v102 k0_hw3 v103 v104 v106 v108 k0_hw9 v125 v149 v151 v152 v153 k0_hw4 v154 v155 v157 v159 k0_hw10 v176 v200 v202 v203 v204 k0_hw5 v205 v206 v208 v210 k0_hw11 v227 v251 v253 v254 v255 k0_hw6 v256 v257 v259 v261 k0_hw12 v278 v280 v281 v282 c8_i32_113
  let ⟨v354, v358⟩ : Σ' (v354 : FVec F S4096x512 .f32), IVec S4096x512 1 ← k0_part13 i arg1 harg1 arg2 harg2 arg3 harg3 arg4 harg4 arg5 harg5 arg6 harg6 arg7 harg7 arg8 harg8 PAm (Memref.isWhole_whole _) PBm (Memref.isWhole_whole _) arg11 harg11 arg12 harg12 Am (Memref.isWhole_whole _) Bm (Memref.isWhole_whole _) Hm (Memref.isWhole_whole _) cc0_scratch3 cc0_scratch4 v316 v317
  let ⟨v378, c0_i32_165⟩ : Σ' (v378 : FVec F S128x512 .f32), BitVec 32 ← k0_part14 i arg1 harg1 arg2 harg2 arg3 harg3 arg4 harg4 arg5 harg5 arg6 harg6 arg7 harg7 arg8 harg8 PAm (Memref.isWhole_whole _) PBm (Memref.isWhole_whole _) arg11 harg11 arg12 harg12 Am (Memref.isWhole_whole _) Bm (Memref.isWhole_whole _) Hm (Memref.isWhole_whole _) cc0_scratch3 cc0_scratch4 arg0 v1 v2 v4 v6 k0_hw7 v23 v47 v50 v52 v53 v55 v57 k0_hw8 v74 v98 v101 v103 v104 v106 v108 k0_hw9 v125 v149 v152 v154 v155 v157 v159 k0_hw10 v176 v200 v203 v205 v206 v208 v210 k0_hw11 v227 v251 v354 v358
  if k0_h33 : k0_cond33 v256 v257 v259 v261 = 1#1 then do
    let v415 : DmaSems sig S1x1 := cc0_scratch4.slice (Rect.unit (s := S2x6) (k0_off88 i) S1x1.size (k0_off88_inb i))
    let v416 : DmaSems sig S_ := v415.squeeze S_ squeezes_S1x1_S_
    Prog.lift (.waitDma v416.sem Bm.view.ref (⟨2, k0_sz18 v256 v257 v259 v261⟩ : Shape) .bf16 (Or.inl rfl))
    pure ⟨⟩
  else do
    pure ⟨⟩
  let v397 : Vec F S128x512 .bf16 ← Prog.lift (.load Hm (Rect.unit (s := S128x512) ![0, 0] S128x512.size inb_S128x512_S128x512_0_0).toLoadRect (View.loadsAt_vmem h_S128x512))
  let v400 : Vec F S1x512x512 .bf16 ← Prog.lift (.load Bm (Rect.unit (s := S2x512x512) (k0_off91 i) S1x512x512.size (k0_off91_inb i)).toLoadRect (View.loadsAt_vmem h_S1x512x512))
  let v405 : Vec F S128x512 .bf16 ← Prog.lift (.load arg11 (Rect.unit (s := S128x512) ![0, 0] S128x512.size inb_S128x512_S128x512_0_0).toLoadRect (View.loadsAt_vmem h_S128x512))
  Prog.lift (.store arg11 (Rect.unit (s := S128x512) ![0, 0] S128x512.size inb_S128x512_S128x512_0_0) (k0_pay1 v378 v397 v400) Finset.univ (View.stores_vmem h_S128x512 (harg11.storeExact_slice rfl _ packedbf16_S128x512_S128x512_0_0) (fun _ => rfl)) (.inl rfl))
  pure ⟨⟩ : Prog (TpuEff nD τ sig (Elt F) Λ₀ .tc) PUnit) Q := .rfl

/-- Reading one word of scalar memory whose value has a name. -/
theorem smV (c : Dev nD) {s : Shape} {e : EltTy} (m : Memref sig .tc .smem s e) {q : PosShare TreeShare} (d : s.Idx → Elt F e)
    {r : Rect s} {h1 : r.shape.numel = 1} {hp : e.packing = 1} {v : Elt F e} (hv : sw d r h1 = v) {α : Type}
    {k : Elt F e → Prog (TpuEff nD τ sig (Elt F) Λ₀ .tc) α} {Q : α → sProp 𝕄} :
    (owns (c : Thread nD τ) m q d : sProp 𝕄)
      ⊢ iprop((owns (c : Thread nD τ) m q d -∗ wp frame (wpE (defs₀ (F := F)) Variants.none (c : Thread nD τ) none) Set.univ (k v) Q) -∗ wp frame (wpE (defs₀ (F := F)) Variants.none (c : Thread nD τ) none) Set.univ (smemLoad m r h1 hp >>= k) Q) := by
  subst hv; exact smO c m d

set_option maxHeartbeats 1000000 in
/-- Reading the segments' words. -/
theorem words_run (c : Dev nD) (i : grid0.Coords) (arg1 : Memref sig .tc .smem S11 .i32) (harg1 : arg1.IsWhole) (arg2 : Memref sig .tc .smem S11 .i32) (harg2 : arg2.IsWhole) (arg3 : Memref sig .tc .smem S7 .i32) (harg3 : arg3.IsWhole) (arg4 : Memref sig .tc .smem S6 .i32) (harg4 : arg4.IsWhole) (arg5 : Memref sig .tc .smem S11 .f32) (harg5 : arg5.IsWhole) (arg6 : Memref sig .tc .vmem S128x4096 .bf16) (harg6 : arg6.IsWhole) (arg7 : Memref sig .tc .vmem S512x512 .i32) (harg7 : arg7.IsWhole) (arg8 : Memref sig .tc .vmem S128x512 .i8) (harg8 : arg8.IsWhole) (arg11 : Memref sig .tc .vmem S128x512 .bf16) (harg11 : arg11.IsWhole) (arg12 : Memref sig .tc .vmem S128x64 .bf16) (harg12 : arg12.IsWhole)
    (q1 q2 q3 q4 : PosShare TreeShare) (d1 : S11.Idx → Elt F .i32) (d2 : S11.Idx → Elt F .i32) (d3 : S7.Idx → Elt F .i32) (d4 : S6.Idx → Elt F .i32)
    (v0 : Elt F .i32) (ev0 : sw d4 (Rect.unit (s := S6) ![0] S1.size inb_S6_S1_0) numel1_S1 = v0) (k0_hw1 : k0_chk1 i v0) (v1 v2 v4 v6 : Elt F .i32) (ev1 : sw d3 (Rect.unit (s := S7) ![0] S1.size inb_S7_S1_0) numel1_S1 = v1) (ev2 : sw d3 (Rect.unit (s := S7) ![1] S1.size inb_S7_S1_1) numel1_S1 = v2) (ev4 : sw d1 (Rect.unit (s := S11) (k0_off1 v0) S1.size (k0_off1_inb i v0 k0_hw1)) numel1_S1 = v4) (ev6 : sw d2 (Rect.unit (s := S11) (k0_off1 v0) S1.size (k0_off1_inb i v0 k0_hw1)) numel1_S1 = v6) (k0_hw7 : k0_chk7 i v1 v2 v4 v6)
        (v51 : Elt F .i32) (ev51 : sw d4 (Rect.unit (s := S6) ![1] S1.size inb_S6_S1_1) numel1_S1 = v51) (k0_hw2 : k0_chk2 i v51) (v52 v53 v55 v57 : Elt F .i32) (ev52 : sw d3 (Rect.unit (s := S7) ![1] S1.size inb_S7_S1_1) numel1_S1 = v52) (ev53 : sw d3 (Rect.unit (s := S7) ![2] S1.size inb_S7_S1_2) numel1_S1 = v53) (ev55 : sw d1 (Rect.unit (s := S11) (k0_off2 v51) S1.size (k0_off2_inb i v51 k0_hw2)) numel1_S1 = v55) (ev57 : sw d2 (Rect.unit (s := S11) (k0_off2 v51) S1.size (k0_off2_inb i v51 k0_hw2)) numel1_S1 = v57) (k0_hw8 : k0_chk8 i v1 v2 v4 v6 v52 v53 v55 v57)
        (v102 : Elt F .i32) (ev102 : sw d4 (Rect.unit (s := S6) ![2] S1.size inb_S6_S1_2) numel1_S1 = v102) (k0_hw3 : k0_chk3 i v102) (v103 v104 v106 v108 : Elt F .i32) (ev103 : sw d3 (Rect.unit (s := S7) ![2] S1.size inb_S7_S1_2) numel1_S1 = v103) (ev104 : sw d3 (Rect.unit (s := S7) ![3] S1.size inb_S7_S1_3) numel1_S1 = v104) (ev106 : sw d1 (Rect.unit (s := S11) (k0_off3 v102) S1.size (k0_off3_inb i v102 k0_hw3)) numel1_S1 = v106) (ev108 : sw d2 (Rect.unit (s := S11) (k0_off3 v102) S1.size (k0_off3_inb i v102 k0_hw3)) numel1_S1 = v108) (k0_hw9 : k0_chk9 i v1 v2 v4 v6 v52 v53 v55 v57 v103 v104 v106 v108)
        (v153 : Elt F .i32) (ev153 : sw d4 (Rect.unit (s := S6) ![3] S1.size inb_S6_S1_3) numel1_S1 = v153) (k0_hw4 : k0_chk4 i v153) (v154 v155 v157 v159 : Elt F .i32) (ev154 : sw d3 (Rect.unit (s := S7) ![3] S1.size inb_S7_S1_3) numel1_S1 = v154) (ev155 : sw d3 (Rect.unit (s := S7) ![4] S1.size inb_S7_S1_4) numel1_S1 = v155) (ev157 : sw d1 (Rect.unit (s := S11) (k0_off4 v153) S1.size (k0_off4_inb i v153 k0_hw4)) numel1_S1 = v157) (ev159 : sw d2 (Rect.unit (s := S11) (k0_off4 v153) S1.size (k0_off4_inb i v153 k0_hw4)) numel1_S1 = v159) (k0_hw10 : k0_chk10 i v1 v2 v4 v6 v52 v53 v55 v57 v103 v104 v106 v108 v154 v155 v157 v159)
        (v204 : Elt F .i32) (ev204 : sw d4 (Rect.unit (s := S6) ![4] S1.size inb_S6_S1_4) numel1_S1 = v204) (k0_hw5 : k0_chk5 i v204) (v205 v206 v208 v210 : Elt F .i32) (ev205 : sw d3 (Rect.unit (s := S7) ![4] S1.size inb_S7_S1_4) numel1_S1 = v205) (ev206 : sw d3 (Rect.unit (s := S7) ![5] S1.size inb_S7_S1_5) numel1_S1 = v206) (ev208 : sw d1 (Rect.unit (s := S11) (k0_off5 v204) S1.size (k0_off5_inb i v204 k0_hw5)) numel1_S1 = v208) (ev210 : sw d2 (Rect.unit (s := S11) (k0_off5 v204) S1.size (k0_off5_inb i v204 k0_hw5)) numel1_S1 = v210) (k0_hw11 : k0_chk11 i v1 v2 v4 v6 v52 v53 v55 v57 v103 v104 v106 v108 v154 v155 v157 v159 v205 v206 v208 v210)
        (v255 : Elt F .i32) (ev255 : sw d4 (Rect.unit (s := S6) ![5] S1.size inb_S6_S1_5) numel1_S1 = v255) (k0_hw6 : k0_chk6 i v255) (v256 v257 v259 v261 : Elt F .i32) (ev256 : sw d3 (Rect.unit (s := S7) ![5] S1.size inb_S7_S1_5) numel1_S1 = v256) (ev257 : sw d3 (Rect.unit (s := S7) ![6] S1.size inb_S7_S1_6) numel1_S1 = v257) (ev259 : sw d1 (Rect.unit (s := S11) (k0_off6 v255) S1.size (k0_off6_inb i v255 k0_hw6)) numel1_S1 = v259) (ev261 : sw d2 (Rect.unit (s := S11) (k0_off6 v255) S1.size (k0_off6_inb i v255 k0_hw6)) numel1_S1 = v261) (k0_hw12 : k0_chk12 i v1 v2 v4 v6 v52 v53 v55 v57 v103 v104 v106 v108 v154 v155 v157 v159 v205 v206 v208 v210 v256 v257 v259 v261)
        {Q : PUnit → sProp 𝕄} :
    iprop(owns (c : Thread nD τ) arg1 q1 d1 ∗ owns (c : Thread nD τ) arg2 q2 d2 ∗ owns (c : Thread nD τ) arg3 q3 d3 ∗ owns (c : Thread nD τ) arg4 q4 d4 ∗ (∀ v23 v47 v50 v74 v98 v101 v125 v149 v152 v176 v200 v203 v227 v251 v278 v281 v282 c8_i32_113 arg0 v49 v100 v151 v202 v253 v254 v280, ⌜v49 = colW (mkSg v1 v2 v4 v6 v52 v53 v55 v57 v103 v104 v106 v108 v154 v155 v157 v159 v205 v206 v208 v210 v256 v257 v259 v261) 0 ∧ v100 = colW (mkSg v1 v2 v4 v6 v52 v53 v55 v57 v103 v104 v106 v108 v154 v155 v157 v159 v205 v206 v208 v210 v256 v257 v259 v261) 1 ∧ v151 = colW (mkSg v1 v2 v4 v6 v52 v53 v55 v57 v103 v104 v106 v108 v154 v155 v157 v159 v205 v206 v208 v210 v256 v257 v259 v261) 2 ∧ v202 = colW (mkSg v1 v2 v4 v6 v52 v53 v55 v57 v103 v104 v106 v108 v154 v155 v157 v159 v205 v206 v208 v210 v256 v257 v259 v261) 3 ∧ v253 = colW (mkSg v1 v2 v4 v6 v52 v53 v55 v57 v103 v104 v106 v108 v154 v155 v157 v159 v205 v206 v208 v210 v256 v257 v259 v261) 4 ∧ v254 = slotW (pre (mkSg v1 v2 v4 v6 v52 v53 v55 v57 v103 v104 v106 v108 v154 v155 v157 v159 v205 v206 v208 v210 v256 v257 v259 v261) 5) ∧ v280 = lW ((mkSg v1 v2 v4 v6 v52 v53 v55 v57 v103 v104 v106 v108 v154 v155 v157 v159 v205 v206 v208 v210 v256 v257 v259 v261) 5).st⌝ -∗ iprop(owns (c : Thread nD τ) arg1 q1 d1 ∗ owns (c : Thread nD τ) arg2 q2 d2 ∗ owns (c : Thread nD τ) arg3 q3 d3 ∗ owns (c : Thread nD τ) arg4 q4 d4) -∗ wp frame (wpE (defs₀ (F := F)) Variants.none (c : Thread nD τ) none) Set.univ (root1 (F := F) i arg1 harg1 arg2 harg2 arg3 harg3 arg4 harg4 arg5 harg5 arg6 harg6 arg7 harg7 arg8 harg8 arg11 harg11 arg12 harg12 arg0 v0 k0_hw1 v1 v2 v4 v6 k0_hw7 v23 v47 v49 v50 v51 k0_hw2 v52 v53 v55 v57 k0_hw8 v74 v98 v100 v101 v102 k0_hw3 v103 v104 v106 v108 k0_hw9 v125 v149 v151 v152 v153 k0_hw4 v154 v155 v157 v159 k0_hw10 v176 v200 v202 v203 v204 k0_hw5 v205 v206 v208 v210 k0_hw11 v227 v251 v253 v254 v255 k0_hw6 v256 v257 v259 v261 k0_hw12 v278 v280 v281 v282 c8_i32_113) Q))
      ⊢ wp frame (wpE (defs₀ (F := F)) Variants.none (c : Thread nD τ) none) Set.univ (cc0_mxfp4_lora (F := F) i arg1 harg1 arg2 harg2 arg3 harg3 arg4 harg4 arg5 harg5 arg6 harg6 arg7 harg7 arg8 harg8 PAm (Memref.isWhole_whole _) PBm (Memref.isWhole_whole _) arg11 harg11 arg12 harg12 Am (Memref.isWhole_whole _) Bm (Memref.isWhole_whole _) Hm (Memref.isWhole_whole _) cc0_scratch3 cc0_scratch4) Q := by
  rw [cc0_mxfp4_lora_eq_skeleton]; unfold cc0_mxfp4_lora_skel
  iintro ⟨H1, H2, H3, H4, Hk⟩
  iapply (bindE c)
  rw [k0_part5_eq_skeleton]; unfold k0_part5_skel
  iapply (smV c arg4 d4 ev0) $$ H4
  iintro H4
  iapply (asE c k0_hw1)
  iapply (smV c arg3 d3 ev1) $$ H3
  iintro H3
  iapply (smV c arg3 d3 ev2) $$ H3
  iintro H3
  iapply (smV c arg1 d1 ev4) $$ H1
  iintro H1
  iapply (smV c arg2 d2 ev6) $$ H2
  iintro H2
  iapply (asE c k0_hw7)
  iapply (wp_retE c)
  iapply (bindE c)
  rw [k0_part6_eq_skeleton]; unfold k0_part6_skel
  iapply (smV c arg4 d4 ev51) $$ H4
  iintro H4
  iapply (asE c k0_hw2)
  iapply (smV c arg3 d3 ev52) $$ H3
  iintro H3
  iapply (smV c arg3 d3 ev53) $$ H3
  iintro H3
  iapply (smV c arg1 d1 ev55) $$ H1
  iintro H1
  iapply (smV c arg2 d2 ev57) $$ H2
  iintro H2
  iapply (asE c k0_hw8)
  iapply (wp_retE c)
  iapply (bindE c)
  rw [k0_part7_eq_skeleton]; unfold k0_part7_skel
  iapply (smV c arg4 d4 ev102) $$ H4
  iintro H4
  iapply (asE c k0_hw3)
  iapply (smV c arg3 d3 ev103) $$ H3
  iintro H3
  iapply (smV c arg3 d3 ev104) $$ H3
  iintro H3
  iapply (smV c arg1 d1 ev106) $$ H1
  iintro H1
  iapply (smV c arg2 d2 ev108) $$ H2
  iintro H2
  iapply (asE c k0_hw9)
  iapply (wp_retE c)
  iapply (bindE c)
  rw [k0_part8_eq_skeleton]; unfold k0_part8_skel
  iapply (smV c arg4 d4 ev153) $$ H4
  iintro H4
  iapply (asE c k0_hw4)
  iapply (smV c arg3 d3 ev154) $$ H3
  iintro H3
  iapply (smV c arg3 d3 ev155) $$ H3
  iintro H3
  iapply (smV c arg1 d1 ev157) $$ H1
  iintro H1
  iapply (smV c arg2 d2 ev159) $$ H2
  iintro H2
  iapply (asE c k0_hw10)
  iapply (wp_retE c)
  iapply (bindE c)
  rw [k0_part9_eq_skeleton]; unfold k0_part9_skel
  iapply (wp_retE c)
  iapply (bindE c)
  rw [k0_part10_eq_skeleton]; unfold k0_part10_skel
  iapply (smV c arg4 d4 ev204) $$ H4
  iintro H4
  iapply (asE c k0_hw5)
  iapply (smV c arg3 d3 ev205) $$ H3
  iintro H3
  iapply (smV c arg3 d3 ev206) $$ H3
  iintro H3
  iapply (smV c arg1 d1 ev208) $$ H1
  iintro H1
  iapply (smV c arg2 d2 ev210) $$ H2
  iintro H2
  iapply (asE c k0_hw11)
  iapply (wp_retE c)
  iapply (bindE c)
  rw [k0_part11_eq_skeleton]; unfold k0_part11_skel
  iapply (smV c arg4 d4 ev255) $$ H4
  iintro H4
  iapply (asE c k0_hw6)
  iapply (smV c arg3 d3 ev256) $$ H3
  iintro H3
  iapply (smV c arg3 d3 ev257) $$ H3
  iintro H3
  iapply (smV c arg1 d1 ev259) $$ H1
  iintro H1
  iapply (smV c arg2 d2 ev261) $$ H2
  iintro H2
  iapply (asE c k0_hw12)
  iapply (wp_retE c)
  iapply (root1_eq c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  iapply Hk
  · ipureintro
    exact ⟨rfl, rfl, rfl, rfl, rfl, rfl, rfl⟩
  isplitl [H1]
  · iexact H1
  isplitl [H2]
  · iexact H2
  isplitl [H3]
  · iexact H3
  iexact H4

end Cert.Kernel.Hand

end
-- ==== Proof.Later.lean ====
/- Hand-written, untrusted: a whole step after the first. -/
module

public import proofs.«01_k».proof.Proof.Words

@[expose] public section

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem lt_at {n k : ℕ} (hn : 0 < n) (a : Fin 1) : k % n < ![n] a := by
  fin_cases a; exact Nat.mod_lt _ hn

/-- Entries of the scalar tables. -/
def at6 {β : Type} (d : S6.Idx → β) (k : ℕ) : β := d fun a => ⟨k % 6, lt_at (by decide) a⟩
def at7 {β : Type} (d : S7.Idx → β) (k : ℕ) : β := d fun a => ⟨k % 7, lt_at (by decide) a⟩
def at11 {β : Type} (d : S11.Idx → β) (k : ℕ) : β := d fun a => ⟨k % 11, lt_at (by decide) a⟩

theorem sw6 {e : EltTy} (d : S6.Idx → Elt F e) {off : Fin 1 → ℕ} {inb : ∀ a, off a + S1.size a ≤ S6.size a} {h1 : (Rect.unit (s := S6) off S1.size inb).shape.numel = 1} (k : ℕ) (hk : off 0 = k) :
    sw d (Rect.unit (s := S6) off S1.size inb) h1 = at6 d k := by
  unfold sw at6
  congr 1; funext a; fin_cases a; apply Fin.ext
  have h := inb 0
  have h' : off 0 + 1 ≤ 6 := h
  show off 0 + 1 * 0 = k % 6
  rw [Nat.mod_eq_of_lt (by omega)]; omega
theorem sw7 {e : EltTy} (d : S7.Idx → Elt F e) {off : Fin 1 → ℕ} {inb : ∀ a, off a + S1.size a ≤ S7.size a} {h1 : (Rect.unit (s := S7) off S1.size inb).shape.numel = 1} (k : ℕ) (hk : off 0 = k) :
    sw d (Rect.unit (s := S7) off S1.size inb) h1 = at7 d k := by
  unfold sw at7
  congr 1; funext a; fin_cases a; apply Fin.ext
  have h := inb 0
  have h' : off 0 + 1 ≤ 7 := h
  show off 0 + 1 * 0 = k % 7
  rw [Nat.mod_eq_of_lt (by omega)]; omega
theorem sw11 {e : EltTy} (d : S11.Idx → Elt F e) {off : Fin 1 → ℕ} {inb : ∀ a, off a + S1.size a ≤ S11.size a} {h1 : (Rect.unit (s := S11) off S1.size inb).shape.numel = 1} (k : ℕ) (hk : off 0 = k) :
    sw d (Rect.unit (s := S11) off S1.size inb) h1 = at11 d k := by
  unfold sw at11
  congr 1; funext a; fin_cases a; apply Fin.ext
  have h := inb 0
  have h' : off 0 + 1 ≤ 11 := h
  show off 0 + 1 * 0 = k % 11
  rw [Nat.mod_eq_of_lt (by omega)]; omega

/-- The six segments out of the four tables: first ranks' slots, ranks, segment bounds, segments' adapters. -/
def sgT (d1 d2 : S11.Idx → BitVec 32) (d3 : S7.Idx → BitVec 32) (d4 : S6.Idx → BitVec 32) (s : Fin 6) : Seg :=
  ⟨at7 d3 s.val, at7 d3 (s.val + 1), at11 d1 (at6 d4 s.val).toNat, at11 d2 (at6 d4 s.val).toNat⟩

/-- The tables are in range. -/
structure TOK (d1 d2 : S11.Idx → BitVec 32) (d3 : S7.Idx → BitVec 32) (d4 : S6.Idx → BitVec 32) : Prop where
  u : ∀ s : Fin 6, (at6 d4 s.val).toNat < 11
  ok : ∀ s, (sgT d1 d2 d3 d4 s).OK

theorem sgT_eq (d1 d2 : S11.Idx → BitVec 32) (d3 : S7.Idx → BitVec 32) (d4 : S6.Idx → BitVec 32) :
    sgT d1 d2 d3 d4 = mkSg (at7 d3 0) (at7 d3 1) (at11 d1 (at6 d4 0).toNat) (at11 d2 (at6 d4 0).toNat) (at7 d3 1) (at7 d3 2) (at11 d1 (at6 d4 1).toNat) (at11 d2 (at6 d4 1).toNat) (at7 d3 2) (at7 d3 3) (at11 d1 (at6 d4 2).toNat) (at11 d2 (at6 d4 2).toNat) (at7 d3 3) (at7 d3 4) (at11 d1 (at6 d4 3).toNat) (at11 d2 (at6 d4 3).toNat) (at7 d3 4) (at7 d3 5) (at11 d1 (at6 d4 4).toNat) (at11 d2 (at6 d4 4).toNat) (at7 d3 5) (at7 d3 6) (at11 d1 (at6 d4 5).toNat) (at11 d2 (at6 d4 5).toNat) := by
  funext s; fin_cases s <;> rfl

/-- What the first step keeps, and its second result, out of the tables. -/
def HBd (d1 d2 : S11.Idx → Elt F .i32) (d3 : S7.Idx → Elt F .i32) (d4 : S6.Idx → Elt F .i32) (d5 : S11.Idx → Elt F .f32) (x : S128x4096.Idx → Elt F .bf16) (a : S512x4096.Idx → Elt F .bf16) : S128x512.Idx → Elt F .bf16 :=
  hbigOf (at7 d3 0) (at7 d3 1) (at11 d1 (at6 d4 0).toNat) (at11 d2 (at6 d4 0).toNat) (at7 d3 1) (at7 d3 2) (at11 d1 (at6 d4 1).toNat) (at11 d2 (at6 d4 1).toNat) (at7 d3 2) (at7 d3 3) (at11 d1 (at6 d4 2).toNat) (at11 d2 (at6 d4 2).toNat) (at7 d3 3) (at7 d3 4) (at11 d1 (at6 d4 3).toNat) (at11 d2 (at6 d4 3).toNat) (at7 d3 4) (at7 d3 5) (at11 d1 (at6 d4 4).toNat) (at11 d2 (at6 d4 4).toNat) (at7 d3 5) (at7 d3 6) (at11 d1 (at6 d4 5).toNat) (at11 d2 (at6 d4 5).toNat) (colW (sgT d1 d2 d3 d4) 0) (colW (sgT d1 d2 d3 d4) 1) (colW (sgT d1 d2 d3 d4) 2) (colW (sgT d1 d2 d3 d4) 3) (colW (sgT d1 d2 d3 d4) 4) (slotW (pre (sgT d1 d2 d3 d4) 5)) (lW ((sgT d1 d2 d3 d4) 5).st) (at11 d5 (at6 d4 0).toNat) (at11 d5 (at6 d4 1).toNat) (at11 d5 (at6 d4 2).toNat) (at11 d5 (at6 d4 3).toNat) (at11 d5 (at6 d4 4).toNat) (at11 d5 (at6 d4 5).toNat) x a
def LHd (d1 d2 : S11.Idx → Elt F .i32) (d3 : S7.Idx → Elt F .i32) (d4 : S6.Idx → Elt F .i32) (d5 : S11.Idx → Elt F .f32) (x : S128x4096.Idx → Elt F .bf16) (a : S512x4096.Idx → Elt F .bf16) : S128x64.Idx → Elt F .bf16 :=
  lhOf (at7 d3 0) (at7 d3 1) (at11 d1 (at6 d4 0).toNat) (at11 d2 (at6 d4 0).toNat) (at7 d3 1) (at7 d3 2) (at11 d1 (at6 d4 1).toNat) (at11 d2 (at6 d4 1).toNat) (at7 d3 2) (at7 d3 3) (at11 d1 (at6 d4 2).toNat) (at11 d2 (at6 d4 2).toNat) (at7 d3 3) (at7 d3 4) (at11 d1 (at6 d4 3).toNat) (at11 d2 (at6 d4 3).toNat) (at7 d3 4) (at7 d3 5) (at11 d1 (at6 d4 4).toNat) (at11 d2 (at6 d4 4).toNat) (at7 d3 5) (at7 d3 6) (at11 d1 (at6 d4 5).toNat) (at11 d2 (at6 d4 5).toNat) (colW (sgT d1 d2 d3 d4) 0) (colW (sgT d1 d2 d3 d4) 1) (colW (sgT d1 d2 d3 d4) 2) (colW (sgT d1 d2 d3 d4) 3) (colW (sgT d1 d2 d3 d4) 4) (slotW (pre (sgT d1 d2 d3 d4) 5)) (lW ((sgT d1 d2 d3 d4) 5).st) (at11 d5 (at6 d4 0).toNat) (at11 d5 (at6 d4 1).toNat) (at11 d5 (at6 d4 2).toNat) (at11 d5 (at6 d4 3).toNat) (at11 d5 (at6 d4 4).toNat) (at11 d5 (at6 d4 5).toNat) x a

/-- The block of the result a step stores. -/
def yOf (d6 : S128x4096.Idx → Elt F .bf16) (d7 : S512x512.Idx → Elt F .i32) (d8 : S128x512.Idx → Elt F .i8) (hb : S128x512.Idx → Elt F .bf16) (sl : S1x512x512.Idx → Elt F .bf16) : S128x512.Idx → Elt F .bf16 :=
  k0_pay1 (k0_pay30 (k0_pay28 (F := F) (iota .tc S512x8x512 32 [1] iota_S512x8x512_d1_w32) (k0_pay26 d7)) (k0_pay29 (iota .tc S512x8x512 32 [1] iota_S512x8x512_d1_w32) (k0_pay26 d7)) d8 d6) hb sl

/-- What is held before the first step … -/
def Inv0 (c : Dev nD) (pa : S900x4096.Idx → Elt F .bf16) (pb : S900x14336.Idx → Elt F .bf16) : sProp 𝕄 :=
  iprop((∃ f, ptA c Finset.univ f) ∗ (∃ f, ptB c Finset.univ f) ∗ (∃ d, owns (c : Thread nD τ) Hm fullShare d) ∗ ptPA c Finset.univ fullShare pa ∗ ptPB c Finset.univ fullShare pb
    ∗ six (sA0 (F := F) c) ∗ six (sB0 (F := F) c 0) ∗ six (sB0 (F := F) c 1))

/-- … and before step `t` after it: block `t`'s rows under way into their slot, the other slot's rows at rest. -/
def InvL (c : Dev nD) (sg : Fin 6 → Seg) (pa : S900x4096.Idx → Elt F .bf16) (pb : S900x14336.Idx → Elt F .bf16) (hb : S128x512.Idx → Elt F .bf16) (t : ℕ) : sProp 𝕄 :=
  iprop(ptA c Finset.univ (FA sg pa) ∗ ptPA c Finset.univ fullShare pa ∗ six (sA0 (F := F) c) ∗ owns (c : Thread nD τ) Hm fullShare hb
    ∗ (if t < 28 then six (fB c sg (t % 2) (512 * t) t pb) else six (cB c sg (t % 2) pb)) ∗ six (cB c sg ((t + 1) % 2) pb)
    ∗ ptB c (restB sg (t % 2)) (k0_pay3 (F := F)) ∗ ptB c (restB sg ((t + 1) % 2)) (k0_pay3 (F := F)))

set_option maxHeartbeats 1000000 in
/-- A later step. -/
theorem step_later (c : Dev nD) (i : grid0.Coords) (arg1 : Memref sig .tc .smem S11 .i32) (harg1 : arg1.IsWhole) (arg2 : Memref sig .tc .smem S11 .i32) (harg2 : arg2.IsWhole) (arg3 : Memref sig .tc .smem S7 .i32) (harg3 : arg3.IsWhole) (arg4 : Memref sig .tc .smem S6 .i32) (harg4 : arg4.IsWhole) (arg5 : Memref sig .tc .smem S11 .f32) (harg5 : arg5.IsWhole) (arg6 : Memref sig .tc .vmem S128x4096 .bf16) (harg6 : arg6.IsWhole) (arg7 : Memref sig .tc .vmem S512x512 .i32) (harg7 : arg7.IsWhole) (arg8 : Memref sig .tc .vmem S128x512 .i8) (harg8 : arg8.IsWhole) (arg11 : Memref sig .tc .vmem S128x512 .bf16) (harg11 : arg11.IsWhole) (arg12 : Memref sig .tc .vmem S128x64 .bf16) (harg12 : arg12.IsWhole) (hi0 : (i 0).val ≠ 0) (hi1 : (i 0).val + 1 < 28)
    (q1 q2 q3 q4 q5 q6 q7 q8 : PosShare TreeShare) (d1 d2 : S11.Idx → Elt F .i32) (d3 : S7.Idx → Elt F .i32) (d4 : S6.Idx → Elt F .i32) (d5 : S11.Idx → Elt F .f32) (d6 : S128x4096.Idx → Elt F .bf16) (d7 : S512x512.Idx → Elt F .i32) (d8 : S128x512.Idx → Elt F .i8) (tok : TOK d1 d2 d3 d4) (pa : S900x4096.Idx → Elt F .bf16) (pb : S900x14336.Idx → Elt F .bf16) (hb : S128x512.Idx → Elt F .bf16) {Q : PUnit → sProp 𝕄} :
    iprop(InvL c (sgT d1 d2 d3 d4) pa pb hb (i 0).val ∗ (∃ d, owns (c : Thread nD τ) arg11 fullShare d) ∗ owns (c : Thread nD τ) arg1 q1 d1 ∗ owns (c : Thread nD τ) arg2 q2 d2 ∗ owns (c : Thread nD τ) arg3 q3 d3 ∗ owns (c : Thread nD τ) arg4 q4 d4 ∗ (∃ W, owes (c : Thread nD τ) 0 W) ∗ owns (c : Thread nD τ) arg5 q5 d5 ∗ owns (c : Thread nD τ) arg6 q6 d6 ∗ owns (c : Thread nD τ) arg7 q7 d7 ∗ owns (c : Thread nD τ) arg8 q8 d8
        ∗ (iprop(InvL c (sgT d1 d2 d3 d4) pa pb hb ((i 0).val + 1) ∗ owns (c : Thread nD τ) arg11 fullShare (yOf d6 d7 d8 hb (slotRd i (FB (sgT d1 d2 d3 d4) pb (i 0).val))) ∗ owns (c : Thread nD τ) arg1 q1 d1 ∗ owns (c : Thread nD τ) arg2 q2 d2 ∗ owns (c : Thread nD τ) arg3 q3 d3 ∗ owns (c : Thread nD τ) arg4 q4 d4 ∗ (∃ W, owes (c : Thread nD τ) 0 W) ∗ owns (c : Thread nD τ) arg5 q5 d5 ∗ owns (c : Thread nD τ) arg6 q6 d6 ∗ owns (c : Thread nD τ) arg7 q7 d7 ∗ owns (c : Thread nD τ) arg8 q8 d8) -∗ Q ⟨⟩))
      ⊢ wp frame (wpE (defs₀ (F := F)) Variants.none (c : Thread nD τ) none) Set.univ (cc0_mxfp4_lora (F := F) i arg1 harg1 arg2 harg2 arg3 harg3 arg4 harg4 arg5 harg5 arg6 harg6 arg7 harg7 arg8 harg8 PAm (Memref.isWhole_whole _) PBm (Memref.isWhole_whole _) arg11 harg11 arg12 harg12 Am (Memref.isWhole_whole _) Bm (Memref.isWhole_whole _) Hm (Memref.isWhole_whole _) cc0_scratch3 cc0_scratch4) Q := by
  have k0_hw1 : k0_chk1 i (at6 d4 0) := chk1_ok i _ (tok.u 0)
  have k0_hw2 : k0_chk2 i (at6 d4 1) := chk2_ok i _ (tok.u 1)
  have k0_hw3 : k0_chk3 i (at6 d4 2) := chk3_ok i _ (tok.u 2)
  have k0_hw4 : k0_chk4 i (at6 d4 3) := chk4_ok i _ (tok.u 3)
  have k0_hw5 : k0_chk5 i (at6 d4 4) := chk5_ok i _ (tok.u 4)
  have k0_hw6 : k0_chk6 i (at6 d4 5) := chk6_ok i _ (tok.u 5)
  have k0_hw7 : k0_chk7 i (at7 d3 0) (at7 d3 1) (at11 d1 (at6 d4 0).toNat) (at11 d2 (at6 d4 0).toNat) := chk7_ok i _ _ _ _ (tok.ok 0)
  have k0_hw8 : k0_chk8 i (at7 d3 0) (at7 d3 1) (at11 d1 (at6 d4 0).toNat) (at11 d2 (at6 d4 0).toNat) (at7 d3 1) (at7 d3 2) (at11 d1 (at6 d4 1).toNat) (at11 d2 (at6 d4 1).toNat) := chk8_ok i _ _ _ _ _ _ _ _ (tok.ok 0) (tok.ok 1)
  have k0_hw9 : k0_chk9 i (at7 d3 0) (at7 d3 1) (at11 d1 (at6 d4 0).toNat) (at11 d2 (at6 d4 0).toNat) (at7 d3 1) (at7 d3 2) (at11 d1 (at6 d4 1).toNat) (at11 d2 (at6 d4 1).toNat) (at7 d3 2) (at7 d3 3) (at11 d1 (at6 d4 2).toNat) (at11 d2 (at6 d4 2).toNat) := chk9_ok i _ _ _ _ _ _ _ _ _ _ _ _ (tok.ok 0) (tok.ok 1) (tok.ok 2)
  have k0_hw10 : k0_chk10 i (at7 d3 0) (at7 d3 1) (at11 d1 (at6 d4 0).toNat) (at11 d2 (at6 d4 0).toNat) (at7 d3 1) (at7 d3 2) (at11 d1 (at6 d4 1).toNat) (at11 d2 (at6 d4 1).toNat) (at7 d3 2) (at7 d3 3) (at11 d1 (at6 d4 2).toNat) (at11 d2 (at6 d4 2).toNat) (at7 d3 3) (at7 d3 4) (at11 d1 (at6 d4 3).toNat) (at11 d2 (at6 d4 3).toNat) := chk10_ok i _ _ _ _ _ _ _ _ _ _ _ _ _ _ _ _ (tok.ok 0) (tok.ok 1) (tok.ok 2) (tok.ok 3)
  have k0_hw11 : k0_chk11 i (at7 d3 0) (at7 d3 1) (at11 d1 (at6 d4 0).toNat) (at11 d2 (at6 d4 0).toNat) (at7 d3 1) (at7 d3 2) (at11 d1 (at6 d4 1).toNat) (at11 d2 (at6 d4 1).toNat) (at7 d3 2) (at7 d3 3) (at11 d1 (at6 d4 2).toNat) (at11 d2 (at6 d4 2).toNat) (at7 d3 3) (at7 d3 4) (at11 d1 (at6 d4 3).toNat) (at11 d2 (at6 d4 3).toNat) (at7 d3 4) (at7 d3 5) (at11 d1 (at6 d4 4).toNat) (at11 d2 (at6 d4 4).toNat) := chk11_ok i _ _ _ _ _ _ _ _ _ _ _ _ _ _ _ _ _ _ _ _ (tok.ok 0) (tok.ok 1) (tok.ok 2) (tok.ok 3) (tok.ok 4)
  have k0_hw12 : k0_chk12 i (at7 d3 0) (at7 d3 1) (at11 d1 (at6 d4 0).toNat) (at11 d2 (at6 d4 0).toNat) (at7 d3 1) (at7 d3 2) (at11 d1 (at6 d4 1).toNat) (at11 d2 (at6 d4 1).toNat) (at7 d3 2) (at7 d3 3) (at11 d1 (at6 d4 2).toNat) (at11 d2 (at6 d4 2).toNat) (at7 d3 3) (at7 d3 4) (at11 d1 (at6 d4 3).toNat) (at11 d2 (at6 d4 3).toNat) (at7 d3 4) (at7 d3 5) (at11 d1 (at6 d4 4).toNat) (at11 d2 (at6 d4 4).toNat) (at7 d3 5) (at7 d3 6) (at11 d1 (at6 d4 5).toNat) (at11 d2 (at6 d4 5).toNat) := chk12_ok i _ _ _ _ _ _ _ _ _ _ _ _ _ _ _ _ _ _ _ _ _ _ _ _ (tok.ok 0) (tok.ok 1) (tok.ok 2) (tok.ok 3) (tok.ok 4) (tok.ok 5)
  have hsg := sgT_eq d1 d2 d3 d4
  have hlt : (i 0).val < 28 := (i 0).isLt
  have hp : (pW i).toNat = (i 0).val % 2 := pW_toNat i
  have hp' : (pW' i).toNat = ((i 0).val + 1) % 2 := pW'_toNat i
  have hq : (qW i).toNat = 512 * (i 0).val := qW_toNat i
  have hp2 : ((i 0).val + 1 + 1) % 2 = (i 0).val % 2 := by omega
  unfold InvL
  rw [if_pos hlt, if_pos hi1, ← hp, ← hp', ← hq]
  iintro ⟨⟨HA, HPA, HsA, HH, HF, HN, HR0, HR1⟩, H11, H1, H2, H3, H4, HO, H5, H6, H7, H8, Hk⟩
  iapply (words_run c i _ _ _ _ _ _ _ _ _ _ _ _ _ _ _ _ _ _ _ _ q1 q2 q3 q4 d1 d2 d3 d4
    (at6 d4 0) (sw6 d4 0 rfl) k0_hw1 (at7 d3 0) (at7 d3 1) (at11 d1 (at6 d4 0).toNat) (at11 d2 (at6 d4 0).toNat) (sw7 d3 0 rfl) (sw7 d3 1 rfl) (sw11 d1 _ rfl) (sw11 d2 _ rfl) k0_hw7
    (at6 d4 1) (sw6 d4 1 rfl) k0_hw2 (at7 d3 1) (at7 d3 2) (at11 d1 (at6 d4 1).toNat) (at11 d2 (at6 d4 1).toNat) (sw7 d3 1 rfl) (sw7 d3 2 rfl) (sw11 d1 _ rfl) (sw11 d2 _ rfl) k0_hw8
    (at6 d4 2) (sw6 d4 2 rfl) k0_hw3 (at7 d3 2) (at7 d3 3) (at11 d1 (at6 d4 2).toNat) (at11 d2 (at6 d4 2).toNat) (sw7 d3 2 rfl) (sw7 d3 3 rfl) (sw11 d1 _ rfl) (sw11 d2 _ rfl) k0_hw9
    (at6 d4 3) (sw6 d4 3 rfl) k0_hw4 (at7 d3 3) (at7 d3 4) (at11 d1 (at6 d4 3).toNat) (at11 d2 (at6 d4 3).toNat) (sw7 d3 3 rfl) (sw7 d3 4 rfl) (sw11 d1 _ rfl) (sw11 d2 _ rfl) k0_hw10
    (at6 d4 4) (sw6 d4 4 rfl) k0_hw5 (at7 d3 4) (at7 d3 5) (at11 d1 (at6 d4 4).toNat) (at11 d2 (at6 d4 4).toNat) (sw7 d3 4 rfl) (sw7 d3 5 rfl) (sw11 d1 _ rfl) (sw11 d2 _ rfl) k0_hw11
    (at6 d4 5) (sw6 d4 5 rfl) k0_hw6 (at7 d3 5) (at7 d3 6) (at11 d1 (at6 d4 5).toNat) (at11 d2 (at6 d4 5).toNat) (sw7 d3 5 rfl) (sw7 d3 6 rfl) (sw11 d1 _ rfl) (sw11 d2 _ rfl) k0_hw12)
  isplitl [H1]
  · iexact H1
  isplitl [H2]
  · iexact H2
  isplitl [H3]
  · iexact H3
  isplitl [H4]
  · iexact H4
  iintro %v23 %v47 %v50 %v74 %v98 %v101 %v125 %v149 %v152 %v176 %v200 %v203 %v227 %v251 %v278 %v281 %v282 %c8 %a0 %v49 %v100 %v151 %v202 %v253 %v254 %v280 %hv ⟨H1, H2, H3, H4⟩
  rw [← hsg] at hv
  obtain ⟨rfl, rfl, rfl, rfl, rfl, rfl, rfl⟩ := hv
  unfold root1
  iapply (bindE c)
  iapply (part12_later c (hi0 := hi0) (hi1 := hi1) (sg := sgT d1 d2 d3 d4) (hsg := hsg) (ok := tok.ok) (pb := pb) (q7 := q7) (d7 := d7) (pa := pa))
  isplitl [HN]
  · iexact HN
  isplitl [H7]
  · iexact H7
  iintro %z ⟨HN, H7⟩
  iapply (root2_run c (sg := sgT d1 d2 d3 d4) (hsg := hsg) (ok := tok.ok) (pb := pb) (q6 := q6) (q8 := q8) (d6 := d6) (d8 := d8) (hb := hb))
  isplitl [HF]
  · iexact HF
  isplitl [HR0]
  · iexact HR0
  isplitl [HO]
  · iexact HO
  isplitl [H6]
  · iexact H6
  isplitl [H8]
  · iexact H8
  isplitl [HH]
  · iexact HH
  isplitl [H11]
  · iexact H11
  iintro ⟨HC, HR0, HO, H6, H8, HH, H11⟩
  iapply Hk
  isplitl [HA HPA HsA HH HN HC HR0 HR1]
  · rw [hp2, ← hp]
    isplitl [HA]
    · iexact HA
    isplitl [HPA]
    · iexact HPA
    isplitl [HsA]
    · iexact HsA
    isplitl [HH]
    · iexact HH
    isplitl [HN]
    · iapply (Entails.of_eq (show six (fB c (sgT d1 d2 d3 d4) (pW' i).toNat (qW' i).toNat ((i 0).val + 1) pb) = six (fB c (sgT d1 d2 d3 d4) (pW' i).toNat (512 * ((i 0).val + 1)) ((i 0).val + 1) pb) by rw [qW'_toNat]))
      iexact HN
    isplitl [HC]
    · iexact HC
    isplitl [HR1]
    · iexact HR1
    iexact HR0
  isplitl [H11]
  · iexact H11
  isplitl [H1]
  · iexact H1
  isplitl [H2]
  · iexact H2
  isplitl [H3]
  · iexact H3
  isplitl [H4]
  · iexact H4
  isplitl [HO]
  · iexact HO
  isplitl [H5]
  · iexact H5
  isplitl [H6]
  · iexact H6
  isplitl [H7]
  · iexact H7
  iexact H8

set_option maxHeartbeats 1000000 in
/-- The last step. -/
theorem step_last (c : Dev nD) (i : grid0.Coords) (arg1 : Memref sig .tc .smem S11 .i32) (harg1 : arg1.IsWhole) (arg2 : Memref sig .tc .smem S11 .i32) (harg2 : arg2.IsWhole) (arg3 : Memref sig .tc .smem S7 .i32) (harg3 : arg3.IsWhole) (arg4 : Memref sig .tc .smem S6 .i32) (harg4 : arg4.IsWhole) (arg5 : Memref sig .tc .smem S11 .f32) (harg5 : arg5.IsWhole) (arg6 : Memref sig .tc .vmem S128x4096 .bf16) (harg6 : arg6.IsWhole) (arg7 : Memref sig .tc .vmem S512x512 .i32) (harg7 : arg7.IsWhole) (arg8 : Memref sig .tc .vmem S128x512 .i8) (harg8 : arg8.IsWhole) (arg11 : Memref sig .tc .vmem S128x512 .bf16) (harg11 : arg11.IsWhole) (arg12 : Memref sig .tc .vmem S128x64 .bf16) (harg12 : arg12.IsWhole) (hi0 : (i 0).val ≠ 0) (hi1 : ¬ (i 0).val + 1 < 28)
    (q1 q2 q3 q4 q5 q6 q7 q8 : PosShare TreeShare) (d1 d2 : S11.Idx → Elt F .i32) (d3 : S7.Idx → Elt F .i32) (d4 : S6.Idx → Elt F .i32) (d5 : S11.Idx → Elt F .f32) (d6 : S128x4096.Idx → Elt F .bf16) (d7 : S512x512.Idx → Elt F .i32) (d8 : S128x512.Idx → Elt F .i8) (tok : TOK d1 d2 d3 d4) (pa : S900x4096.Idx → Elt F .bf16) (pb : S900x14336.Idx → Elt F .bf16) (hb : S128x512.Idx → Elt F .bf16) {Q : PUnit → sProp 𝕄} :
    iprop(InvL c (sgT d1 d2 d3 d4) pa pb hb (i 0).val ∗ (∃ d, owns (c : Thread nD τ) arg11 fullShare d) ∗ owns (c : Thread nD τ) arg1 q1 d1 ∗ owns (c : Thread nD τ) arg2 q2 d2 ∗ owns (c : Thread nD τ) arg3 q3 d3 ∗ owns (c : Thread nD τ) arg4 q4 d4 ∗ (∃ W, owes (c : Thread nD τ) 0 W) ∗ owns (c : Thread nD τ) arg5 q5 d5 ∗ owns (c : Thread nD τ) arg6 q6 d6 ∗ owns (c : Thread nD τ) arg7 q7 d7 ∗ owns (c : Thread nD τ) arg8 q8 d8
        ∗ (iprop(InvL c (sgT d1 d2 d3 d4) pa pb hb ((i 0).val + 1) ∗ owns (c : Thread nD τ) arg11 fullShare (yOf d6 d7 d8 hb (slotRd i (FB (sgT d1 d2 d3 d4) pb (i 0).val))) ∗ owns (c : Thread nD τ) arg1 q1 d1 ∗ owns (c : Thread nD τ) arg2 q2 d2 ∗ owns (c : Thread nD τ) arg3 q3 d3 ∗ owns (c : Thread nD τ) arg4 q4 d4 ∗ (∃ W, owes (c : Thread nD τ) 0 W) ∗ owns (c : Thread nD τ) arg5 q5 d5 ∗ owns (c : Thread nD τ) arg6 q6 d6 ∗ owns (c : Thread nD τ) arg7 q7 d7 ∗ owns (c : Thread nD τ) arg8 q8 d8) -∗ Q ⟨⟩))
      ⊢ wp frame (wpE (defs₀ (F := F)) Variants.none (c : Thread nD τ) none) Set.univ (cc0_mxfp4_lora (F := F) i arg1 harg1 arg2 harg2 arg3 harg3 arg4 harg4 arg5 harg5 arg6 harg6 arg7 harg7 arg8 harg8 PAm (Memref.isWhole_whole _) PBm (Memref.isWhole_whole _) arg11 harg11 arg12 harg12 Am (Memref.isWhole_whole _) Bm (Memref.isWhole_whole _) Hm (Memref.isWhole_whole _) cc0_scratch3 cc0_scratch4) Q := by
  have k0_hw1 : k0_chk1 i (at6 d4 0) := chk1_ok i _ (tok.u 0)
  have k0_hw2 : k0_chk2 i (at6 d4 1) := chk2_ok i _ (tok.u 1)
  have k0_hw3 : k0_chk3 i (at6 d4 2) := chk3_ok i _ (tok.u 2)
  have k0_hw4 : k0_chk4 i (at6 d4 3) := chk4_ok i _ (tok.u 3)
  have k0_hw5 : k0_chk5 i (at6 d4 4) := chk5_ok i _ (tok.u 4)
  have k0_hw6 : k0_chk6 i (at6 d4 5) := chk6_ok i _ (tok.u 5)
  have k0_hw7 : k0_chk7 i (at7 d3 0) (at7 d3 1) (at11 d1 (at6 d4 0).toNat) (at11 d2 (at6 d4 0).toNat) := chk7_ok i _ _ _ _ (tok.ok 0)
  have k0_hw8 : k0_chk8 i (at7 d3 0) (at7 d3 1) (at11 d1 (at6 d4 0).toNat) (at11 d2 (at6 d4 0).toNat) (at7 d3 1) (at7 d3 2) (at11 d1 (at6 d4 1).toNat) (at11 d2 (at6 d4 1).toNat) := chk8_ok i _ _ _ _ _ _ _ _ (tok.ok 0) (tok.ok 1)
  have k0_hw9 : k0_chk9 i (at7 d3 0) (at7 d3 1) (at11 d1 (at6 d4 0).toNat) (at11 d2 (at6 d4 0).toNat) (at7 d3 1) (at7 d3 2) (at11 d1 (at6 d4 1).toNat) (at11 d2 (at6 d4 1).toNat) (at7 d3 2) (at7 d3 3) (at11 d1 (at6 d4 2).toNat) (at11 d2 (at6 d4 2).toNat) := chk9_ok i _ _ _ _ _ _ _ _ _ _ _ _ (tok.ok 0) (tok.ok 1) (tok.ok 2)
  have k0_hw10 : k0_chk10 i (at7 d3 0) (at7 d3 1) (at11 d1 (at6 d4 0).toNat) (at11 d2 (at6 d4 0).toNat) (at7 d3 1) (at7 d3 2) (at11 d1 (at6 d4 1).toNat) (at11 d2 (at6 d4 1).toNat) (at7 d3 2) (at7 d3 3) (at11 d1 (at6 d4 2).toNat) (at11 d2 (at6 d4 2).toNat) (at7 d3 3) (at7 d3 4) (at11 d1 (at6 d4 3).toNat) (at11 d2 (at6 d4 3).toNat) := chk10_ok i _ _ _ _ _ _ _ _ _ _ _ _ _ _ _ _ (tok.ok 0) (tok.ok 1) (tok.ok 2) (tok.ok 3)
  have k0_hw11 : k0_chk11 i (at7 d3 0) (at7 d3 1) (at11 d1 (at6 d4 0).toNat) (at11 d2 (at6 d4 0).toNat) (at7 d3 1) (at7 d3 2) (at11 d1 (at6 d4 1).toNat) (at11 d2 (at6 d4 1).toNat) (at7 d3 2) (at7 d3 3) (at11 d1 (at6 d4 2).toNat) (at11 d2 (at6 d4 2).toNat) (at7 d3 3) (at7 d3 4) (at11 d1 (at6 d4 3).toNat) (at11 d2 (at6 d4 3).toNat) (at7 d3 4) (at7 d3 5) (at11 d1 (at6 d4 4).toNat) (at11 d2 (at6 d4 4).toNat) := chk11_ok i _ _ _ _ _ _ _ _ _ _ _ _ _ _ _ _ _ _ _ _ (tok.ok 0) (tok.ok 1) (tok.ok 2) (tok.ok 3) (tok.ok 4)
  have k0_hw12 : k0_chk12 i (at7 d3 0) (at7 d3 1) (at11 d1 (at6 d4 0).toNat) (at11 d2 (at6 d4 0).toNat) (at7 d3 1) (at7 d3 2) (at11 d1 (at6 d4 1).toNat) (at11 d2 (at6 d4 1).toNat) (at7 d3 2) (at7 d3 3) (at11 d1 (at6 d4 2).toNat) (at11 d2 (at6 d4 2).toNat) (at7 d3 3) (at7 d3 4) (at11 d1 (at6 d4 3).toNat) (at11 d2 (at6 d4 3).toNat) (at7 d3 4) (at7 d3 5) (at11 d1 (at6 d4 4).toNat) (at11 d2 (at6 d4 4).toNat) (at7 d3 5) (at7 d3 6) (at11 d1 (at6 d4 5).toNat) (at11 d2 (at6 d4 5).toNat) := chk12_ok i _ _ _ _ _ _ _ _ _ _ _ _ _ _ _ _ _ _ _ _ _ _ _ _ (tok.ok 0) (tok.ok 1) (tok.ok 2) (tok.ok 3) (tok.ok 4) (tok.ok 5)
  have hsg := sgT_eq d1 d2 d3 d4
  have hlt : (i 0).val < 28 := (i 0).isLt
  have hp : (pW i).toNat = (i 0).val % 2 := pW_toNat i
  have hp' : (pW' i).toNat = ((i 0).val + 1) % 2 := pW'_toNat i
  have hq : (qW i).toNat = 512 * (i 0).val := qW_toNat i
  have hp2 : ((i 0).val + 1 + 1) % 2 = (i 0).val % 2 := by omega
  unfold InvL
  rw [if_pos hlt, if_neg hi1, ← hp, ← hp', ← hq]
  iintro ⟨⟨HA, HPA, HsA, HH, HF, HN, HR0, HR1⟩, H11, H1, H2, H3, H4, HO, H5, H6, H7, H8, Hk⟩
  iapply (words_run c i _ _ _ _ _ _ _ _ _ _ _ _ _ _ _ _ _ _ _ _ q1 q2 q3 q4 d1 d2 d3 d4
    (at6 d4 0) (sw6 d4 0 rfl) k0_hw1 (at7 d3 0) (at7 d3 1) (at11 d1 (at6 d4 0).toNat) (at11 d2 (at6 d4 0).toNat) (sw7 d3 0 rfl) (sw7 d3 1 rfl) (sw11 d1 _ rfl) (sw11 d2 _ rfl) k0_hw7
    (at6 d4 1) (sw6 d4 1 rfl) k0_hw2 (at7 d3 1) (at7 d3 2) (at11 d1 (at6 d4 1).toNat) (at11 d2 (at6 d4 1).toNat) (sw7 d3 1 rfl) (sw7 d3 2 rfl) (sw11 d1 _ rfl) (sw11 d2 _ rfl) k0_hw8
    (at6 d4 2) (sw6 d4 2 rfl) k0_hw3 (at7 d3 2) (at7 d3 3) (at11 d1 (at6 d4 2).toNat) (at11 d2 (at6 d4 2).toNat) (sw7 d3 2 rfl) (sw7 d3 3 rfl) (sw11 d1 _ rfl) (sw11 d2 _ rfl) k0_hw9
    (at6 d4 3) (sw6 d4 3 rfl) k0_hw4 (at7 d3 3) (at7 d3 4) (at11 d1 (at6 d4 3).toNat) (at11 d2 (at6 d4 3).toNat) (sw7 d3 3 rfl) (sw7 d3 4 rfl) (sw11 d1 _ rfl) (sw11 d2 _ rfl) k0_hw10
    (at6 d4 4) (sw6 d4 4 rfl) k0_hw5 (at7 d3 4) (at7 d3 5) (at11 d1 (at6 d4 4).toNat) (at11 d2 (at6 d4 4).toNat) (sw7 d3 4 rfl) (sw7 d3 5 rfl) (sw11 d1 _ rfl) (sw11 d2 _ rfl) k0_hw11
    (at6 d4 5) (sw6 d4 5 rfl) k0_hw6 (at7 d3 5) (at7 d3 6) (at11 d1 (at6 d4 5).toNat) (at11 d2 (at6 d4 5).toNat) (sw7 d3 5 rfl) (sw7 d3 6 rfl) (sw11 d1 _ rfl) (sw11 d2 _ rfl) k0_hw12)
  isplitl [H1]
  · iexact H1
  isplitl [H2]
  · iexact H2
  isplitl [H3]
  · iexact H3
  isplitl [H4]
  · iexact H4
  iintro %v23 %v47 %v50 %v74 %v98 %v101 %v125 %v149 %v152 %v176 %v200 %v203 %v227 %v251 %v278 %v281 %v282 %c8 %a0 %v49 %v100 %v151 %v202 %v253 %v254 %v280 %hv ⟨H1, H2, H3, H4⟩
  rw [← hsg] at hv
  obtain ⟨rfl, rfl, rfl, rfl, rfl, rfl, rfl⟩ := hv
  unfold root1
  iapply (bindE c)
  iapply (part12_last c (hi0 := hi0) (hi1 := hi1) (sg := sgT d1 d2 d3 d4) (hsg := hsg) (ok := tok.ok) (pb := pb) (q7 := q7) (d7 := d7) (pa := pa))
  isplitl [HN]
  · iexact HN
  isplitl [H7]
  · iexact H7
  iintro %z ⟨HN, H7⟩
  iapply (root2_run c (sg := sgT d1 d2 d3 d4) (hsg := hsg) (ok := tok.ok) (pb := pb) (q6 := q6) (q8 := q8) (d6 := d6) (d8 := d8) (hb := hb))
  isplitl [HF]
  · iexact HF
  isplitl [HR0]
  · iexact HR0
  isplitl [HO]
  · iexact HO
  isplitl [H6]
  · iexact H6
  isplitl [H8]
  · iexact H8
  isplitl [HH]
  · iexact HH
  isplitl [H11]
  · iexact H11
  iintro ⟨HC, HR0, HO, H6, H8, HH, H11⟩
  iapply Hk
  isplitl [HA HPA HsA HH HN HC HR0 HR1]
  · rw [hp2, ← hp]
    isplitl [HA]
    · iexact HA
    isplitl [HPA]
    · iexact HPA
    isplitl [HsA]
    · iexact HsA
    isplitl [HH]
    · iexact HH
    isplitl [HN]
    · iexact HN
    isplitl [HC]
    · iexact HC
    isplitl [HR1]
    · iexact HR1
    iexact HR0
  isplitl [H11]
  · iexact H11
  isplitl [H1]
  · iexact H1
  isplitl [H2]
  · iexact H2
  isplitl [H3]
  · iexact H3
  isplitl [H4]
  · iexact H4
  isplitl [HO]
  · iexact HO
  isplitl [H5]
  · iexact H5
  isplitl [H6]
  · iexact H6
  isplitl [H7]
  · iexact H7
  iexact H8

end Cert.Kernel.Hand

end
-- ==== Proof.ISeg.lean ====
/- Hand-written, untrusted: the words a segment's transfers are sized by. Every printed condition, offset and extent of the
   run-time-sized transfers is one of a few word functions of the segment's four table words; each is given its value in
   naturals, and with these the side conditions the kernel states of its transfers are proved. -/
module

public import proofs.«01_k».proof.Proof.Gen.KernelIdeal

@[expose] public section

noncomputable section

namespace Cert.KernelIdeal.Hand

open Idealize.ShloMosaic Idealize.SL.Sem

/-- A segment's words: its first row, its end row, its adapter's first page row and its adapter's rank. -/
structure Seg where
  a : BitVec 32
  b : BitVec 32
  st : BitVec 32
  rk : BitVec 32

/-- Floor division by eight, as printed. -/
def fd8 (x : BitVec 32) : BitVec 32 :=
  Scalar.select (Scalar.andi (Scalar.cmpi .ne (Scalar.subi (Scalar.extui (Scalar.cmpi .sgt x 0#32)) (Scalar.extui (Scalar.cmpi .slt x 0#32)))
      (Scalar.subi (Scalar.extui (Scalar.cmpi .sgt 8#32 0#32)) (Scalar.extui (Scalar.cmpi .slt 8#32 0#32))))
    (Scalar.cmpi .ne (Scalar.remsi x 8#32) 0#32)) (Scalar.subi (Scalar.divsi x 8#32) 1#32) (Scalar.divsi x 8#32)

/-- The first page group. -/
def gW (st : BitVec 32) : BitVec 32 := fd8 st
/-- The adapter's first row within its first group. -/
def lW (st : BitVec 32) : BitVec 32 := Scalar.subi st (Scalar.muli (gW st) 8#32)
/-- The number of page groups the segment reads. -/
def nW (s : Seg) : BitVec 32 :=
  Scalar.select (Scalar.cmpi .sgt s.b s.a) (fd8 (Scalar.subi (Scalar.addi (Scalar.addi (lW s.st) s.rk) 8#32) 1#32)) 0#32
/-- The groups taken by the segments before. -/
def slotW (l : List Seg) : BitVec 32 := l.foldl (fun acc s => Scalar.addi acc (nW s)) 0#32
/-- The guard of a segment's transfers. -/
def guardW (s : Seg) : BitVec 1 := Scalar.cmpi .ne (Scalar.extui (Scalar.cmpi .sgt (nW s) 0#32) : BitVec 32) 0#32
/-- A word times eight. -/
def m8 (x : BitVec 32) : Nat := (Scalar.muli x 8#32).toNat

/-- The segment's words are in range: what the precondition says of its adapter. -/
def Seg.OK (s : Seg) : Prop := s.st.toNat + s.rk.toNat ≤ 896 ∧ s.rk.toNat ≤ 64
/-- The number of groups, in naturals. -/
def Seg.n (s : Seg) : Nat := if s.a.toInt < s.b.toInt then (s.st.toNat % 8 + s.rk.toNat + 7) / 8 else 0
/-- The first group, in naturals. -/
def Seg.g (s : Seg) : Nat := s.st.toNat / 8
/-- The groups of a list of segments, in naturals. -/
def slotN (l : List Seg) : Nat := (l.map Seg.n).sum

theorem fd8_ofNat : ∀ n : Fin 1000, fd8 (BitVec.ofNat 32 n.val) = BitVec.ofNat 32 (n.val / 8) := by decide +kernel

/-- Floor division by eight of a small word. -/
theorem fd8_toNat (x : BitVec 32) (h : x.toNat < 1000) : (fd8 x).toNat = x.toNat / 8 := by
  have e := fd8_ofNat ⟨x.toNat, h⟩
  rw [BitVec.ofNat_toNat, BitVec.setWidth_eq] at e
  rw [e, BitVec.toNat_ofNat]
  exact Nat.mod_eq_of_lt (by show x.toNat / 8 < 2 ^ 32; omega)

theorem toNat_muli8 (x : BitVec 32) (h : x.toNat < 2 ^ 29) : (Scalar.muli x 8#32).toNat = 8 * x.toNat := by
  show (x * 8#32).toNat = _
  rw [BitVec.toNat_mul]
  show x.toNat * 8 % 2 ^ 32 = _
  omega

theorem m8_dvd (x : BitVec 32) : 8 ∣ m8 x := by
  show 8 ∣ (x * 8#32).toNat
  rw [BitVec.toNat_mul]
  show 8 ∣ x.toNat * 8 % 2 ^ 32
  omega

theorem gW_toNat (st : BitVec 32) (h : st.toNat ≤ 896) : (gW st).toNat = st.toNat / 8 := fd8_toNat st (by omega)

theorem lW_toNat (st : BitVec 32) (h : st.toNat ≤ 896) : (lW st).toNat = st.toNat % 8 := by
  have e := gW_toNat st h
  have e2 := toNat_muli8 (gW st) (by omega)
  show (st - Scalar.muli (gW st) 8#32).toNat = _
  rw [BitVec.toNat_sub, e2, e]
  omega

theorem sgt_iff (x y : BitVec 32) : Scalar.cmpi .sgt x y = 1#1 ↔ y.toInt < x.toInt := by
  show BitVec.ofBool (y.slt x) = 1#1 ↔ _
  rw [BitVec.slt]
  by_cases h : y.toInt < x.toInt <;> simp [h]

theorem nW_toNat (s : Seg) (h : s.OK) : (nW s).toNat = s.n := by
  have hl := lW_toNat s.st (by have := h.1; omega)
  have hsum : (Scalar.subi (Scalar.addi (Scalar.addi (lW s.st) s.rk) 8#32) 1#32 : BitVec 32).toNat = s.st.toNat % 8 + s.rk.toNat + 7 := by
    show ((lW s.st + s.rk + 8#32) - 1#32).toNat = _
    have := h.2
    have h8 : (8#32 : BitVec 32).toNat = 8 := rfl
    have h1 : (1#32 : BitVec 32).toNat = 1 := rfl
    simp only [BitVec.toNat_sub, BitVec.toNat_add, hl, h8, h1]
    omega
  unfold nW Seg.n
  by_cases hc : s.a.toInt < s.b.toInt
  · rw [if_pos hc, (sgt_iff s.b s.a).2 hc]
    show (fd8 _).toNat = _
    rw [fd8_toNat _ (by rw [hsum]; have := h.2; omega), hsum]
  · rw [if_neg hc]
    have : Scalar.cmpi .sgt s.b s.a = 0#1 := by
      rcases BitVec.eq_zero_or_eq_one (Scalar.cmpi .sgt s.b s.a) with e | e
      · exact e
      · exact absurd ((sgt_iff s.b s.a).1 e) hc
    rw [this]; rfl

theorem n_le (s : Seg) (h : s.OK) : s.n ≤ 8 + 1 ∧ 8 * (s.g + s.n) ≤ 900 := by
  have := h.1; have := h.2
  unfold Seg.n Seg.g
  split <;> omega

theorem slotW_append (l : List Seg) (s : Seg) : slotW (l ++ [s]) = Scalar.addi (slotW l) (nW s) := by
  unfold slotW; rw [List.foldl_append]; rfl

theorem slot_toNat (l : List Seg) (hl : ∀ s ∈ l, s.OK) (hlen : l.length ≤ 6) :
    (slotW l).toNat = slotN l ∧ slotN l ≤ 9 * l.length := by
  induction l using List.reverseRecOn with
  | nil => exact ⟨rfl, Nat.le_refl _⟩
  | append_singleton l s ih =>
    have hs := hl s (by simp)
    have hlen' : l.length ≤ 6 := by rw [List.length_append] at hlen; omega
    obtain ⟨e, hle⟩ := ih (fun x hx => hl x (by simp [hx])) hlen'
    have hn := n_le s hs
    have : slotN (l ++ [s]) = slotN l + s.n := by simp [slotN]
    rw [slotW_append, this, List.length_append, List.length_singleton]
    refine ⟨?_, by omega⟩
    show (slotW l + nW s).toNat = _
    rw [BitVec.toNat_add, e, nW_toNat s hs]
    rw [List.length_append] at hlen
    omega

theorem m8_nW (s : Seg) (h : s.OK) : m8 (nW s) = 8 * s.n := by
  have e := nW_toNat s h; have := n_le s h
  unfold m8; rw [toNat_muli8 _ (by omega), e]
theorem m8_gW (s : Seg) (h : s.OK) : m8 (gW s.st) = 8 * s.g := by
  have e := gW_toNat s.st (by have := h.1; omega)
  unfold m8; rw [toNat_muli8 _ (by have := h.1; omega), e]; rfl
theorem m8_slot (l : List Seg) (hl : ∀ s ∈ l, s.OK) (hlen : l.length ≤ 6) : m8 (slotW l) = 8 * slotN l := by
  obtain ⟨e, h⟩ := slot_toNat l hl hlen
  unfold m8; rw [toNat_muli8 _ (by omega), e]

/-- A segment's guard holds exactly when it reads a group. -/
theorem guard_iff (s : Seg) (h : s.OK) : guardW s = 1#1 ↔ 0 < s.n := by
  have e := nW_toNat s h; have hn := n_le s h
  have hi : (nW s).toInt = (s.n : Int) := by rw [BitVec.toInt_eq_toNat_of_lt (by omega), e]
  have h1 : Scalar.cmpi .sgt (nW s) 0#32 = 1#1 ↔ 0 < s.n := by
    rw [sgt_iff, hi]; show (0 : Int) < _ ↔ _; omega
  unfold guardW
  by_cases hp : 0 < s.n
  · rw [h1.2 hp]; simp only [hp, iff_true]; decide
  · have : Scalar.cmpi .sgt (nW s) 0#32 = 0#1 := by
      rcases BitVec.eq_zero_or_eq_one (Scalar.cmpi .sgt (nW s) 0#32) with e | e
      · exact e
      · exact absurd (h1.1 e) hp
    rw [this]; simp only [hp, iff_false]; decide

/-! ## The transfers' bounds -/

theorem inbAdst (l : List Seg) (s : Seg) (hl : ∀ s ∈ l, s.OK) (hs : s.OK) (hlen : l.length ≤ 5) (a : Fin 2) :
    ![m8 (nW s), 4096] a = 0 ∨ ![m8 (slotW l), 0] a + ![m8 (nW s), 4096] a ≤ S512x4096.size a := by
  have h1 := m8_nW s hs; have h2 := m8_slot l hl (by omega); have h3 := slot_toNat l hl (by omega); have h4 := n_le s hs
  rw [h1, h2]
  refine .inr ?_
  fin_cases a
  · show 8 * slotN l + 8 * s.n ≤ 512; omega
  · show 0 + 4096 ≤ 4096; omega

theorem inbAsrc (s : Seg) (hs : s.OK) (a : Fin 2) :
    ![m8 (nW s), 4096] a = 0 ∨ ![m8 (gW s.st), 0] a + ![m8 (nW s), 4096] a ≤ S900x4096.size a := by
  have h1 := m8_nW s hs; have h2 := m8_gW s hs; have h4 := n_le s hs
  rw [h1, h2]
  refine .inr ?_
  fin_cases a
  · show 8 * s.g + 8 * s.n ≤ 900; omega
  · show 0 + 4096 ≤ 4096; omega

theorem inbBdst (p : BitVec 32) (hp : p.toNat ≤ 1) (l : List Seg) (s : Seg) (hl : ∀ s ∈ l, s.OK) (hs : s.OK) (hlen : l.length ≤ 5) (a : Fin 3) :
    ![1, m8 (nW s), 512] a = 0 ∨ ![p.toNat, m8 (slotW l), 0] a + ![1, m8 (nW s), 512] a ≤ S2x512x512.size a := by
  have h1 := m8_nW s hs; have h2 := m8_slot l hl (by omega); have h3 := slot_toNat l hl (by omega); have h4 := n_le s hs
  rw [h1, h2]
  refine .inr ?_
  fin_cases a
  · show p.toNat + 1 ≤ 2; omega
  · show 8 * slotN l + 8 * s.n ≤ 512; omega
  · show 0 + 512 ≤ 512; omega

theorem inbBsrc (q : BitVec 32) (hq : q.toNat + 512 ≤ 14336) (s : Seg) (hs : s.OK) (a : Fin 2) :
    ![m8 (nW s), 512] a = 0 ∨ ![m8 (gW s.st), q.toNat] a + ![m8 (nW s), 512] a ≤ S900x14336.size a := by
  have h1 := m8_nW s hs; have h2 := m8_gW s hs; have h4 := n_le s hs
  rw [h1, h2]
  refine .inr ?_
  fin_cases a
  · show 8 * s.g + 8 * s.n ≤ 900; omega
  · show q.toNat + 512 ≤ 14336; omega

/-- A rectangle of rank two whose rows start at and number a multiple of eight is whole words. -/
theorem words2 {R C : Nat} (x y c z : Nat) (hx : 8 ∣ x) (hy : 8 ∣ y)
    (h : ∀ a, ![y, z] a = 0 ∨ ![x, c] a + ![y, z] a ≤ (⟨2, ![R, C]⟩ : Shape).size a) :
    (Rect.unitDyn (s := (⟨2, ![R, C]⟩ : Shape)) ![x, c] ![y, z] h).WholeWords (EltTy.packing .bf16) := by
  refine .inl (.inr ⟨Nat.le_of_ble_eq_true rfl, rfl, .inl ⟨?_, ?_⟩⟩)
  · exact dvd_trans (by decide : (2 : Nat) ∣ 8) hx
  · exact dvd_trans (by decide : (2 : Nat) ∣ 8) hy

/-- … and one of rank three. -/
theorem words3 {P R C : Nat} (p x y c o z : Nat) (hx : 8 ∣ x) (hy : 8 ∣ y)
    (h : ∀ a, ![o, y, z] a = 0 ∨ ![p, x, c] a + ![o, y, z] a ≤ (⟨3, ![P, R, C]⟩ : Shape).size a) :
    (Rect.unitDyn (s := (⟨3, ![P, R, C]⟩ : Shape)) ![p, x, c] ![o, y, z] h).WholeWords (EltTy.packing .bf16) := by
  refine .inl (.inr ⟨Nat.le_of_ble_eq_true rfl, rfl, .inl ⟨?_, ?_⟩⟩)
  · exact dvd_trans (by decide : (2 : Nat) ∣ 8) hx
  · exact dvd_trans (by decide : (2 : Nat) ∣ 8) hy

theorem squeezes1 (y z : Nat) : (⟨3, ![1, y, z]⟩ : Shape).Squeezes ⟨2, ![y, z]⟩ := by
  show Shape.dropsOnes [z, y, 1] [z, y] = true
  simp [Shape.dropsOnes]

/-! ## The grid point's words -/

/-- The grid point as a word. -/
def iW (i : grid0.Coords) : BitVec 32 := BitVec.ofNat 32 (i 0).val
theorem par_val : ∀ n : Fin 28, (Scalar.remsi (BitVec.ofNat 32 n.val) 2#32 : BitVec 32).toNat = n.val % 2
    ∧ (Scalar.remsi (Scalar.addi (BitVec.ofNat 32 n.val) 1#32) 2#32 : BitVec 32).toNat = (n.val + 1) % 2
    ∧ (Scalar.muli (BitVec.ofNat 32 n.val) 512#32 : BitVec 32).toNat = 512 * n.val
    ∧ (Scalar.muli (Scalar.addi (BitVec.ofNat 32 n.val) 1#32) 512#32 : BitVec 32).toNat = 512 * (n.val + 1) := by decide +kernel
theorem par_i (i : grid0.Coords) : (Scalar.remsi (iW i) 2#32 : BitVec 32).toNat = (i 0).val % 2
    ∧ (Scalar.remsi (Scalar.addi (iW i) 1#32) 2#32 : BitVec 32).toNat = ((i 0).val + 1) % 2
    ∧ (Scalar.muli (iW i) 512#32 : BitVec 32).toNat = 512 * (i 0).val
    ∧ (Scalar.muli (Scalar.addi (iW i) 1#32) 512#32 : BitVec 32).toNat = 512 * ((i 0).val + 1) := par_val ⟨(i 0).val, (i 0).isLt⟩
theorem cond14_val : ∀ n : Fin 28, Scalar.cmpi .ne (Scalar.extui (Scalar.cmpi .slt (Scalar.addi (BitVec.ofNat 32 n.val) 1#32) 28#32) : BitVec 32) 0#32 = 1#1
    ↔ n.val + 1 < 28 := by decide +kernel
theorem cond14_iff (i : grid0.Coords) : k0_cond14 i = 1#1 ↔ (i 0).val + 1 < 28 := cond14_val ⟨(i 0).val, (i 0).isLt⟩
theorem cond1_val : ∀ n : Fin 28, Scalar.cmpi .ne (Scalar.extui (Scalar.cmpi .eq (BitVec.ofNat 32 n.val) 0#32) : BitVec 32) 0#32 = 1#1
    ↔ n.val = 0 := by decide +kernel
theorem cond1_iff (i : grid0.Coords) : k0_cond1 i = 1#1 ↔ (i 0).val = 0 := cond1_val ⟨(i 0).val, (i 0).isLt⟩
theorem cond21_iff (i : grid0.Coords) : k0_cond21 i = 1#1 ↔ (i 0).val = 0 := cond1_val ⟨(i 0).val, (i 0).isLt⟩
/-- The current slot, the next one, the current column block and the next one, as words. -/
def pW (i : grid0.Coords) : BitVec 32 := Scalar.remsi (iW i) 2#32
def pW' (i : grid0.Coords) : BitVec 32 := Scalar.remsi (Scalar.addi (iW i) 1#32) 2#32
def qW (i : grid0.Coords) : BitVec 32 := Scalar.muli (iW i) 512#32
def qW' (i : grid0.Coords) : BitVec 32 := Scalar.muli (Scalar.addi (iW i) 1#32) 512#32
theorem pW_toNat (i : grid0.Coords) : (pW i).toNat = (i 0).val % 2 := (par_i i).1
theorem pW'_toNat (i : grid0.Coords) : (pW' i).toNat = ((i 0).val + 1) % 2 := (par_i i).2.1
theorem qW_toNat (i : grid0.Coords) : (qW i).toNat = 512 * (i 0).val := (par_i i).2.2.1
theorem qW'_toNat (i : grid0.Coords) : (qW' i).toNat = 512 * ((i 0).val + 1) := (par_i i).2.2.2
theorem pW_le (i : grid0.Coords) : (pW i).toNat ≤ 1 := by rw [pW_toNat]; omega
theorem pW'_le (i : grid0.Coords) : (pW' i).toNat ≤ 1 := by rw [pW'_toNat]; omega
theorem qW_le (i : grid0.Coords) : (qW i).toNat + 512 ≤ 14336 := by rw [qW_toNat]; have : (i 0).val < 28 := (i 0).isLt; omega
theorem qW'_le (i : grid0.Coords) (h : k0_cond14 i = 1#1) : (qW' i).toNat + 512 ≤ 14336 := by
  rw [qW'_toNat]; have := (cond14_iff i).1 h; omega

/-! ## What the kernel assumes of its transfers -/

theorem chkS (v : BitVec 32) (h : v.toNat < 11) (a : Fin 1) : ![v.toNat] a + S1.size a ≤ S11.size a := by
  fin_cases a; show v.toNat + 1 ≤ 11; omega

theorem chk1_ok (i : grid0.Coords) (v : BitVec 32) (h : v.toNat < 11) : k0_chk1 i v :=
  ⟨chkS v h, fun _ => chkS v h⟩
theorem chk2_ok (i : grid0.Coords) (v : BitVec 32) (h : v.toNat < 11) : k0_chk2 i v :=
  ⟨chkS v h, fun _ => chkS v h⟩
theorem chk3_ok (i : grid0.Coords) (v : BitVec 32) (h : v.toNat < 11) : k0_chk3 i v :=
  ⟨chkS v h, fun _ => chkS v h⟩
theorem chk4_ok (i : grid0.Coords) (v : BitVec 32) (h : v.toNat < 11) : k0_chk4 i v :=
  ⟨chkS v h, fun _ => chkS v h⟩
theorem chk5_ok (i : grid0.Coords) (v : BitVec 32) (h : v.toNat < 11) : k0_chk5 i v :=
  ⟨chkS v h, fun _ => chkS v h⟩
theorem chk6_ok (i : grid0.Coords) (v : BitVec 32) (h : v.toNat < 11) : k0_chk6 i v :=
  ⟨chkS v h, fun _ => chkS v h⟩
/-- Segment 0: its transfers' multiples, bounds, whole words and squeezed shapes. -/
theorem chk7_ok (i : grid0.Coords) (v1 v2 v4 v6 : BitVec 32) (h0 : Seg.OK ⟨v1, v2, v4, v6⟩) :
    k0_chk7 i v1 v2 v4 v6 :=
  ⟨fun _ _ => m8_dvd _,
   fun _ _ => m8_dvd _,
   fun _ _ => inbAdst [] ⟨v1, v2, v4, v6⟩ (List.forall_mem_nil _) h0 (Nat.le_of_ble_eq_true rfl),
   fun _ _ => inbAsrc ⟨v1, v2, v4, v6⟩ h0,
   fun _ _ h => words2 (m8 (gW v4)) (m8 (nW ⟨v1, v2, v4, v6⟩)) 0 4096 (m8_dvd _) (m8_dvd _) h,
   fun _ _ h => words2 (m8 (slotW [])) (m8 (nW ⟨v1, v2, v4, v6⟩)) 0 4096 (m8_dvd _) (m8_dvd _) h,
   fun _ _ => m8_dvd _,
   fun _ _ => m8_dvd _,
   fun _ _ => inbBdst (pW i) (pW_le i) [] ⟨v1, v2, v4, v6⟩ (List.forall_mem_nil _) h0 (Nat.le_of_ble_eq_true rfl),
   fun _ _ => squeezes1 (m8 (nW ⟨v1, v2, v4, v6⟩)) 512,
   fun _ _ => inbBsrc (qW i) (qW_le i) ⟨v1, v2, v4, v6⟩ h0,
   fun _ _ h => words2 (m8 (gW v4)) (m8 (nW ⟨v1, v2, v4, v6⟩)) (qW i).toNat 512 (m8_dvd _) (m8_dvd _) h,
   fun _ _ h => words3 (pW i).toNat (m8 (slotW [])) (m8 (nW ⟨v1, v2, v4, v6⟩)) 0 1 512 (m8_dvd _) (m8_dvd _) h,
   fun e _ => m8_dvd _,
   fun e _ => m8_dvd _,
   fun e _ => inbBdst (pW' i) (pW'_le i) [] ⟨v1, v2, v4, v6⟩ (List.forall_mem_nil _) h0 (Nat.le_of_ble_eq_true rfl),
   fun e _ => squeezes1 (m8 (nW ⟨v1, v2, v4, v6⟩)) 512,
   fun e _ => inbBsrc (qW' i) (qW'_le i e) ⟨v1, v2, v4, v6⟩ h0,
   fun e _ h => words2 (m8 (gW v4)) (m8 (nW ⟨v1, v2, v4, v6⟩)) (qW' i).toNat 512 (m8_dvd _) (m8_dvd _) h,
   fun e _ h => words3 (pW' i).toNat (m8 (slotW [])) (m8 (nW ⟨v1, v2, v4, v6⟩)) 0 1 512 (m8_dvd _) (m8_dvd _) h,
   fun _ _ => m8_dvd _,
   fun _ _ => m8_dvd _,
   fun _ => m8_dvd _,
   fun _ => m8_dvd _,
   fun _ => squeezes1 (m8 (nW ⟨v1, v2, v4, v6⟩)) 512⟩
/-- Segment 1: its transfers' multiples, bounds, whole words and squeezed shapes. -/
theorem chk8_ok (i : grid0.Coords) (v1 v2 v4 v6 v52 v53 v55 v57 : BitVec 32) (h0 : Seg.OK ⟨v1, v2, v4, v6⟩) (h1 : Seg.OK ⟨v52, v53, v55, v57⟩) :
    k0_chk8 i v1 v2 v4 v6 v52 v53 v55 v57 :=
  ⟨fun _ _ => m8_dvd _,
   fun _ _ => m8_dvd _,
   fun _ _ => m8_dvd _,
   fun _ _ => inbAdst [⟨v1, v2, v4, v6⟩] ⟨v52, v53, v55, v57⟩ (List.forall_mem_cons.2 ⟨h0, (List.forall_mem_nil _)⟩) h1 (Nat.le_of_ble_eq_true rfl),
   fun _ _ => inbAsrc ⟨v52, v53, v55, v57⟩ h1,
   fun _ _ h => words2 (m8 (gW v55)) (m8 (nW ⟨v52, v53, v55, v57⟩)) 0 4096 (m8_dvd _) (m8_dvd _) h,
   fun _ _ h => words2 (m8 (slotW [⟨v1, v2, v4, v6⟩])) (m8 (nW ⟨v52, v53, v55, v57⟩)) 0 4096 (m8_dvd _) (m8_dvd _) h,
   fun _ _ => m8_dvd _,
   fun _ _ => m8_dvd _,
   fun _ _ => m8_dvd _,
   fun _ _ => inbBdst (pW i) (pW_le i) [⟨v1, v2, v4, v6⟩] ⟨v52, v53, v55, v57⟩ (List.forall_mem_cons.2 ⟨h0, (List.forall_mem_nil _)⟩) h1 (Nat.le_of_ble_eq_true rfl),
   fun _ _ => squeezes1 (m8 (nW ⟨v52, v53, v55, v57⟩)) 512,
   fun _ _ => inbBsrc (qW i) (qW_le i) ⟨v52, v53, v55, v57⟩ h1,
   fun _ _ h => words2 (m8 (gW v55)) (m8 (nW ⟨v52, v53, v55, v57⟩)) (qW i).toNat 512 (m8_dvd _) (m8_dvd _) h,
   fun _ _ h => words3 (pW i).toNat (m8 (slotW [⟨v1, v2, v4, v6⟩])) (m8 (nW ⟨v52, v53, v55, v57⟩)) 0 1 512 (m8_dvd _) (m8_dvd _) h,
   fun e _ => m8_dvd _,
   fun e _ => m8_dvd _,
   fun e _ => m8_dvd _,
   fun e _ => inbBdst (pW' i) (pW'_le i) [⟨v1, v2, v4, v6⟩] ⟨v52, v53, v55, v57⟩ (List.forall_mem_cons.2 ⟨h0, (List.forall_mem_nil _)⟩) h1 (Nat.le_of_ble_eq_true rfl),
   fun e _ => squeezes1 (m8 (nW ⟨v52, v53, v55, v57⟩)) 512,
   fun e _ => inbBsrc (qW' i) (qW'_le i e) ⟨v52, v53, v55, v57⟩ h1,
   fun e _ h => words2 (m8 (gW v55)) (m8 (nW ⟨v52, v53, v55, v57⟩)) (qW' i).toNat 512 (m8_dvd _) (m8_dvd _) h,
   fun e _ h => words3 (pW' i).toNat (m8 (slotW [⟨v1, v2, v4, v6⟩])) (m8 (nW ⟨v52, v53, v55, v57⟩)) 0 1 512 (m8_dvd _) (m8_dvd _) h,
   fun _ _ => m8_dvd _,
   fun _ _ => m8_dvd _,
   fun _ _ => m8_dvd _,
   fun _ => m8_dvd _,
   fun _ => m8_dvd _,
   fun _ => m8_dvd _,
   fun _ => squeezes1 (m8 (nW ⟨v52, v53, v55, v57⟩)) 512⟩
/-- Segment 2: its transfers' multiples, bounds, whole words and squeezed shapes. -/
theorem chk9_ok (i : grid0.Coords) (v1 v2 v4 v6 v52 v53 v55 v57 v103 v104 v106 v108 : BitVec 32) (h0 : Seg.OK ⟨v1, v2, v4, v6⟩) (h1 : Seg.OK ⟨v52, v53, v55, v57⟩) (h2 : Seg.OK ⟨v103, v104, v106, v108⟩) :
    k0_chk9 i v1 v2 v4 v6 v52 v53 v55 v57 v103 v104 v106 v108 :=
  ⟨fun _ _ => m8_dvd _,
   fun _ _ => m8_dvd _,
   fun _ _ => m8_dvd _,
   fun _ _ => inbAdst [⟨v1, v2, v4, v6⟩, ⟨v52, v53, v55, v57⟩] ⟨v103, v104, v106, v108⟩ (List.forall_mem_cons.2 ⟨h0, (List.forall_mem_cons.2 ⟨h1, (List.forall_mem_nil _)⟩)⟩) h2 (Nat.le_of_ble_eq_true rfl),
   fun _ _ => inbAsrc ⟨v103, v104, v106, v108⟩ h2,
   fun _ _ h => words2 (m8 (gW v106)) (m8 (nW ⟨v103, v104, v106, v108⟩)) 0 4096 (m8_dvd _) (m8_dvd _) h,
   fun _ _ h => words2 (m8 (slotW [⟨v1, v2, v4, v6⟩, ⟨v52, v53, v55, v57⟩])) (m8 (nW ⟨v103, v104, v106, v108⟩)) 0 4096 (m8_dvd _) (m8_dvd _) h,
   fun _ _ => m8_dvd _,
   fun _ _ => m8_dvd _,
   fun _ _ => m8_dvd _,
   fun _ _ => inbBdst (pW i) (pW_le i) [⟨v1, v2, v4, v6⟩, ⟨v52, v53, v55, v57⟩] ⟨v103, v104, v106, v108⟩ (List.forall_mem_cons.2 ⟨h0, (List.forall_mem_cons.2 ⟨h1, (List.forall_mem_nil _)⟩)⟩) h2 (Nat.le_of_ble_eq_true rfl),
   fun _ _ => squeezes1 (m8 (nW ⟨v103, v104, v106, v108⟩)) 512,
   fun _ _ => inbBsrc (qW i) (qW_le i) ⟨v103, v104, v106, v108⟩ h2,
   fun _ _ h => words2 (m8 (gW v106)) (m8 (nW ⟨v103, v104, v106, v108⟩)) (qW i).toNat 512 (m8_dvd _) (m8_dvd _) h,
   fun _ _ h => words3 (pW i).toNat (m8 (slotW [⟨v1, v2, v4, v6⟩, ⟨v52, v53, v55, v57⟩])) (m8 (nW ⟨v103, v104, v106, v108⟩)) 0 1 512 (m8_dvd _) (m8_dvd _) h,
   fun e _ => m8_dvd _,
   fun e _ => m8_dvd _,
   fun e _ => m8_dvd _,
   fun e _ => inbBdst (pW' i) (pW'_le i) [⟨v1, v2, v4, v6⟩, ⟨v52, v53, v55, v57⟩] ⟨v103, v104, v106, v108⟩ (List.forall_mem_cons.2 ⟨h0, (List.forall_mem_cons.2 ⟨h1, (List.forall_mem_nil _)⟩)⟩) h2 (Nat.le_of_ble_eq_true rfl),
   fun e _ => squeezes1 (m8 (nW ⟨v103, v104, v106, v108⟩)) 512,
   fun e _ => inbBsrc (qW' i) (qW'_le i e) ⟨v103, v104, v106, v108⟩ h2,
   fun e _ h => words2 (m8 (gW v106)) (m8 (nW ⟨v103, v104, v106, v108⟩)) (qW' i).toNat 512 (m8_dvd _) (m8_dvd _) h,
   fun e _ h => words3 (pW' i).toNat (m8 (slotW [⟨v1, v2, v4, v6⟩, ⟨v52, v53, v55, v57⟩])) (m8 (nW ⟨v103, v104, v106, v108⟩)) 0 1 512 (m8_dvd _) (m8_dvd _) h,
   fun _ _ => m8_dvd _,
   fun _ _ => m8_dvd _,
   fun _ _ => m8_dvd _,
   fun _ => m8_dvd _,
   fun _ => m8_dvd _,
   fun _ => m8_dvd _,
   fun _ => squeezes1 (m8 (nW ⟨v103, v104, v106, v108⟩)) 512⟩
/-- Segment 3: its transfers' multiples, bounds, whole words and squeezed shapes. -/
theorem chk10_ok (i : grid0.Coords) (v1 v2 v4 v6 v52 v53 v55 v57 v103 v104 v106 v108 v154 v155 v157 v159 : BitVec 32) (h0 : Seg.OK ⟨v1, v2, v4, v6⟩) (h1 : Seg.OK ⟨v52, v53, v55, v57⟩) (h2 : Seg.OK ⟨v103, v104, v106, v108⟩) (h3 : Seg.OK ⟨v154, v155, v157, v159⟩) :
    k0_chk10 i v1 v2 v4 v6 v52 v53 v55 v57 v103 v104 v106 v108 v154 v155 v157 v159 :=
  ⟨fun _ _ => m8_dvd _,
   fun _ _ => m8_dvd _,
   fun _ _ => m8_dvd _,
   fun _ _ => inbAdst [⟨v1, v2, v4, v6⟩, ⟨v52, v53, v55, v57⟩, ⟨v103, v104, v106, v108⟩] ⟨v154, v155, v157, v159⟩ (List.forall_mem_cons.2 ⟨h0, (List.forall_mem_cons.2 ⟨h1, (List.forall_mem_cons.2 ⟨h2, (List.forall_mem_nil _)⟩)⟩)⟩) h3 (Nat.le_of_ble_eq_true rfl),
   fun _ _ => inbAsrc ⟨v154, v155, v157, v159⟩ h3,
   fun _ _ h => words2 (m8 (gW v157)) (m8 (nW ⟨v154, v155, v157, v159⟩)) 0 4096 (m8_dvd _) (m8_dvd _) h,
   fun _ _ h => words2 (m8 (slotW [⟨v1, v2, v4, v6⟩, ⟨v52, v53, v55, v57⟩, ⟨v103, v104, v106, v108⟩])) (m8 (nW ⟨v154, v155, v157, v159⟩)) 0 4096 (m8_dvd _) (m8_dvd _) h,
   fun _ _ => m8_dvd _,
   fun _ _ => m8_dvd _,
   fun _ _ => m8_dvd _,
   fun _ _ => inbBdst (pW i) (pW_le i) [⟨v1, v2, v4, v6⟩, ⟨v52, v53, v55, v57⟩, ⟨v103, v104, v106, v108⟩] ⟨v154, v155, v157, v159⟩ (List.forall_mem_cons.2 ⟨h0, (List.forall_mem_cons.2 ⟨h1, (List.forall_mem_cons.2 ⟨h2, (List.forall_mem_nil _)⟩)⟩)⟩) h3 (Nat.le_of_ble_eq_true rfl),
   fun _ _ => squeezes1 (m8 (nW ⟨v154, v155, v157, v159⟩)) 512,
   fun _ _ => inbBsrc (qW i) (qW_le i) ⟨v154, v155, v157, v159⟩ h3,
   fun _ _ h => words2 (m8 (gW v157)) (m8 (nW ⟨v154, v155, v157, v159⟩)) (qW i).toNat 512 (m8_dvd _) (m8_dvd _) h,
   fun _ _ h => words3 (pW i).toNat (m8 (slotW [⟨v1, v2, v4, v6⟩, ⟨v52, v53, v55, v57⟩, ⟨v103, v104, v106, v108⟩])) (m8 (nW ⟨v154, v155, v157, v159⟩)) 0 1 512 (m8_dvd _) (m8_dvd _) h,
   fun e _ => m8_dvd _,
   fun e _ => m8_dvd _,
   fun e _ => m8_dvd _,
   fun e _ => inbBdst (pW' i) (pW'_le i) [⟨v1, v2, v4, v6⟩, ⟨v52, v53, v55, v57⟩, ⟨v103, v104, v106, v108⟩] ⟨v154, v155, v157, v159⟩ (List.forall_mem_cons.2 ⟨h0, (List.forall_mem_cons.2 ⟨h1, (List.forall_mem_cons.2 ⟨h2, (List.forall_mem_nil _)⟩)⟩)⟩) h3 (Nat.le_of_ble_eq_true rfl),
   fun e _ => squeezes1 (m8 (nW ⟨v154, v155, v157, v159⟩)) 512,
   fun e _ => inbBsrc (qW' i) (qW'_le i e) ⟨v154, v155, v157, v159⟩ h3,
   fun e _ h => words2 (m8 (gW v157)) (m8 (nW ⟨v154, v155, v157, v159⟩)) (qW' i).toNat 512 (m8_dvd _) (m8_dvd _) h,
   fun e _ h => words3 (pW' i).toNat (m8 (slotW [⟨v1, v2, v4, v6⟩, ⟨v52, v53, v55, v57⟩, ⟨v103, v104, v106, v108⟩])) (m8 (nW ⟨v154, v155, v157, v159⟩)) 0 1 512 (m8_dvd _) (m8_dvd _) h,
   fun _ _ => m8_dvd _,
   fun _ _ => m8_dvd _,
   fun _ _ => m8_dvd _,
   fun _ => m8_dvd _,
   fun _ => m8_dvd _,
   fun _ => m8_dvd _,
   fun _ => squeezes1 (m8 (nW ⟨v154, v155, v157, v159⟩)) 512⟩
/-- Segment 4: its transfers' multiples, bounds, whole words and squeezed shapes. -/
theorem chk11_ok (i : grid0.Coords) (v1 v2 v4 v6 v52 v53 v55 v57 v103 v104 v106 v108 v154 v155 v157 v159 v205 v206 v208 v210 : BitVec 32) (h0 : Seg.OK ⟨v1, v2, v4, v6⟩) (h1 : Seg.OK ⟨v52, v53, v55, v57⟩) (h2 : Seg.OK ⟨v103, v104, v106, v108⟩) (h3 : Seg.OK ⟨v154, v155, v157, v159⟩) (h4 : Seg.OK ⟨v205, v206, v208, v210⟩) :
    k0_chk11 i v1 v2 v4 v6 v52 v53 v55 v57 v103 v104 v106 v108 v154 v155 v157 v159 v205 v206 v208 v210 :=
  ⟨fun _ _ => m8_dvd _,
   fun _ _ => m8_dvd _,
   fun _ _ => m8_dvd _,
   fun _ _ => inbAdst [⟨v1, v2, v4, v6⟩, ⟨v52, v53, v55, v57⟩, ⟨v103, v104, v106, v108⟩, ⟨v154, v155, v157, v159⟩] ⟨v205, v206, v208, v210⟩ (List.forall_mem_cons.2 ⟨h0, (List.forall_mem_cons.2 ⟨h1, (List.forall_mem_cons.2 ⟨h2, (List.forall_mem_cons.2 ⟨h3, (List.forall_mem_nil _)⟩)⟩)⟩)⟩) h4 (Nat.le_of_ble_eq_true rfl),
   fun _ _ => inbAsrc ⟨v205, v206, v208, v210⟩ h4,
   fun _ _ h => words2 (m8 (gW v208)) (m8 (nW ⟨v205, v206, v208, v210⟩)) 0 4096 (m8_dvd _) (m8_dvd _) h,
   fun _ _ h => words2 (m8 (slotW [⟨v1, v2, v4, v6⟩, ⟨v52, v53, v55, v57⟩, ⟨v103, v104, v106, v108⟩, ⟨v154, v155, v157, v159⟩])) (m8 (nW ⟨v205, v206, v208, v210⟩)) 0 4096 (m8_dvd _) (m8_dvd _) h,
   fun _ _ => m8_dvd _,
   fun _ _ => m8_dvd _,
   fun _ _ => m8_dvd _,
   fun _ _ => inbBdst (pW i) (pW_le i) [⟨v1, v2, v4, v6⟩, ⟨v52, v53, v55, v57⟩, ⟨v103, v104, v106, v108⟩, ⟨v154, v155, v157, v159⟩] ⟨v205, v206, v208, v210⟩ (List.forall_mem_cons.2 ⟨h0, (List.forall_mem_cons.2 ⟨h1, (List.forall_mem_cons.2 ⟨h2, (List.forall_mem_cons.2 ⟨h3, (List.forall_mem_nil _)⟩)⟩)⟩)⟩) h4 (Nat.le_of_ble_eq_true rfl),
   fun _ _ => squeezes1 (m8 (nW ⟨v205, v206, v208, v210⟩)) 512,
   fun _ _ => inbBsrc (qW i) (qW_le i) ⟨v205, v206, v208, v210⟩ h4,
   fun _ _ h => words2 (m8 (gW v208)) (m8 (nW ⟨v205, v206, v208, v210⟩)) (qW i).toNat 512 (m8_dvd _) (m8_dvd _) h,
   fun _ _ h => words3 (pW i).toNat (m8 (slotW [⟨v1, v2, v4, v6⟩, ⟨v52, v53, v55, v57⟩, ⟨v103, v104, v106, v108⟩, ⟨v154, v155, v157, v159⟩])) (m8 (nW ⟨v205, v206, v208, v210⟩)) 0 1 512 (m8_dvd _) (m8_dvd _) h,
   fun e _ => m8_dvd _,
   fun e _ => m8_dvd _,
   fun e _ => m8_dvd _,
   fun e _ => inbBdst (pW' i) (pW'_le i) [⟨v1, v2, v4, v6⟩, ⟨v52, v53, v55, v57⟩, ⟨v103, v104, v106, v108⟩, ⟨v154, v155, v157, v159⟩] ⟨v205, v206, v208, v210⟩ (List.forall_mem_cons.2 ⟨h0, (List.forall_mem_cons.2 ⟨h1, (List.forall_mem_cons.2 ⟨h2, (List.forall_mem_cons.2 ⟨h3, (List.forall_mem_nil _)⟩)⟩)⟩)⟩) h4 (Nat.le_of_ble_eq_true rfl),
   fun e _ => squeezes1 (m8 (nW ⟨v205, v206, v208, v210⟩)) 512,
   fun e _ => inbBsrc (qW' i) (qW'_le i e) ⟨v205, v206, v208, v210⟩ h4,
   fun e _ h => words2 (m8 (gW v208)) (m8 (nW ⟨v205, v206, v208, v210⟩)) (qW' i).toNat 512 (m8_dvd _) (m8_dvd _) h,
   fun e _ h => words3 (pW' i).toNat (m8 (slotW [⟨v1, v2, v4, v6⟩, ⟨v52, v53, v55, v57⟩, ⟨v103, v104, v106, v108⟩, ⟨v154, v155, v157, v159⟩])) (m8 (nW ⟨v205, v206, v208, v210⟩)) 0 1 512 (m8_dvd _) (m8_dvd _) h,
   fun _ _ => m8_dvd _,
   fun _ _ => m8_dvd _,
   fun _ _ => m8_dvd _,
   fun _ => m8_dvd _,
   fun _ => m8_dvd _,
   fun _ => m8_dvd _,
   fun _ => squeezes1 (m8 (nW ⟨v205, v206, v208, v210⟩)) 512⟩
/-- Segment 5: its transfers' multiples, bounds, whole words and squeezed shapes. -/
theorem chk12_ok (i : grid0.Coords) (v1 v2 v4 v6 v52 v53 v55 v57 v103 v104 v106 v108 v154 v155 v157 v159 v205 v206 v208 v210 v256 v257 v259 v261 : BitVec 32) (h0 : Seg.OK ⟨v1, v2, v4, v6⟩) (h1 : Seg.OK ⟨v52, v53, v55, v57⟩) (h2 : Seg.OK ⟨v103, v104, v106, v108⟩) (h3 : Seg.OK ⟨v154, v155, v157, v159⟩) (h4 : Seg.OK ⟨v205, v206, v208, v210⟩) (h5 : Seg.OK ⟨v256, v257, v259, v261⟩) :
    k0_chk12 i v1 v2 v4 v6 v52 v53 v55 v57 v103 v104 v106 v108 v154 v155 v157 v159 v205 v206 v208 v210 v256 v257 v259 v261 :=
  ⟨fun _ _ => m8_dvd _,
   fun _ _ => m8_dvd _,
   fun _ _ => m8_dvd _,
   fun _ _ => inbAdst [⟨v1, v2, v4, v6⟩, ⟨v52, v53, v55, v57⟩, ⟨v103, v104, v106, v108⟩, ⟨v154, v155, v157, v159⟩, ⟨v205, v206, v208, v210⟩] ⟨v256, v257, v259, v261⟩ (List.forall_mem_cons.2 ⟨h0, (List.forall_mem_cons.2 ⟨h1, (List.forall_mem_cons.2 ⟨h2, (List.forall_mem_cons.2 ⟨h3, (List.forall_mem_cons.2 ⟨h4, (List.forall_mem_nil _)⟩)⟩)⟩)⟩)⟩) h5 (Nat.le_of_ble_eq_true rfl),
   fun _ _ => inbAsrc ⟨v256, v257, v259, v261⟩ h5,
   fun _ _ h => words2 (m8 (gW v259)) (m8 (nW ⟨v256, v257, v259, v261⟩)) 0 4096 (m8_dvd _) (m8_dvd _) h,
   fun _ _ h => words2 (m8 (slotW [⟨v1, v2, v4, v6⟩, ⟨v52, v53, v55, v57⟩, ⟨v103, v104, v106, v108⟩, ⟨v154, v155, v157, v159⟩, ⟨v205, v206, v208, v210⟩])) (m8 (nW ⟨v256, v257, v259, v261⟩)) 0 4096 (m8_dvd _) (m8_dvd _) h,
   fun _ _ => m8_dvd _,
   fun _ _ => m8_dvd _,
   fun _ _ => m8_dvd _,
   fun _ _ => inbBdst (pW i) (pW_le i) [⟨v1, v2, v4, v6⟩, ⟨v52, v53, v55, v57⟩, ⟨v103, v104, v106, v108⟩, ⟨v154, v155, v157, v159⟩, ⟨v205, v206, v208, v210⟩] ⟨v256, v257, v259, v261⟩ (List.forall_mem_cons.2 ⟨h0, (List.forall_mem_cons.2 ⟨h1, (List.forall_mem_cons.2 ⟨h2, (List.forall_mem_cons.2 ⟨h3, (List.forall_mem_cons.2 ⟨h4, (List.forall_mem_nil _)⟩)⟩)⟩)⟩)⟩) h5 (Nat.le_of_ble_eq_true rfl),
   fun _ _ => squeezes1 (m8 (nW ⟨v256, v257, v259, v261⟩)) 512,
   fun _ _ => inbBsrc (qW i) (qW_le i) ⟨v256, v257, v259, v261⟩ h5,
   fun _ _ h => words2 (m8 (gW v259)) (m8 (nW ⟨v256, v257, v259, v261⟩)) (qW i).toNat 512 (m8_dvd _) (m8_dvd _) h,
   fun _ _ h => words3 (pW i).toNat (m8 (slotW [⟨v1, v2, v4, v6⟩, ⟨v52, v53, v55, v57⟩, ⟨v103, v104, v106, v108⟩, ⟨v154, v155, v157, v159⟩, ⟨v205, v206, v208, v210⟩])) (m8 (nW ⟨v256, v257, v259, v261⟩)) 0 1 512 (m8_dvd _) (m8_dvd _) h,
   fun e _ => m8_dvd _,
   fun e _ => m8_dvd _,
   fun e _ => m8_dvd _,
   fun e _ => inbBdst (pW' i) (pW'_le i) [⟨v1, v2, v4, v6⟩, ⟨v52, v53, v55, v57⟩, ⟨v103, v104, v106, v108⟩, ⟨v154, v155, v157, v159⟩, ⟨v205, v206, v208, v210⟩] ⟨v256, v257, v259, v261⟩ (List.forall_mem_cons.2 ⟨h0, (List.forall_mem_cons.2 ⟨h1, (List.forall_mem_cons.2 ⟨h2, (List.forall_mem_cons.2 ⟨h3, (List.forall_mem_cons.2 ⟨h4, (List.forall_mem_nil _)⟩)⟩)⟩)⟩)⟩) h5 (Nat.le_of_ble_eq_true rfl),
   fun e _ => squeezes1 (m8 (nW ⟨v256, v257, v259, v261⟩)) 512,
   fun e _ => inbBsrc (qW' i) (qW'_le i e) ⟨v256, v257, v259, v261⟩ h5,
   fun e _ h => words2 (m8 (gW v259)) (m8 (nW ⟨v256, v257, v259, v261⟩)) (qW' i).toNat 512 (m8_dvd _) (m8_dvd _) h,
   fun e _ h => words3 (pW' i).toNat (m8 (slotW [⟨v1, v2, v4, v6⟩, ⟨v52, v53, v55, v57⟩, ⟨v103, v104, v106, v108⟩, ⟨v154, v155, v157, v159⟩, ⟨v205, v206, v208, v210⟩])) (m8 (nW ⟨v256, v257, v259, v261⟩)) 0 1 512 (m8_dvd _) (m8_dvd _) h,
   fun _ _ => m8_dvd _,
   fun _ _ => m8_dvd _,
   fun _ _ => m8_dvd _,
   fun _ => m8_dvd _,
   fun _ => m8_dvd _,
   fun _ => m8_dvd _,
   fun _ => squeezes1 (m8 (nW ⟨v256, v257, v259, v261⟩)) 512⟩

end Cert.KernelIdeal.Hand

end
-- ==== Proof.IFlight.lean ====
/- Hand-written, untrusted: one guarded transfer of a segment's rows and its guarded wait, each stated once for the
   adapter's input side (whole rows) and once for its output side (a block of columns), over the offsets as variables. -/
module

public import proofs.«01_k».proof.Proof.ISeg
public import proofs.«01_k».proof.Proof.Gen.KernelIdeal.Skeleton
public import proofs.«01_k».proof.Proof.Gen.KernelIdeal.Launch
public import Idealize.ShloMosaic.Lib.Transfers
public import Idealize.ShloMosaic.Lib.Pipeline.Frame

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The counters of the transfers, inside the proof's algebra. -/
abbrev EC : UEmb Counters 𝕄 := countersEmb

/-- One transfer of a part `dst` of a buffer from a part of `src`, the buffer's part afterwards holding `FD`. -/
theorem start_core (c : Dev nD) {sp sp' : Space} {s : Shape} {e : EltTy} (src : Memref sig .tc sp s e) (dst : Memref sig .tc sp' s e)
    (sm : SemLoc sig) {hsrc : src.view.WordExact} {hdst : dst.view.WordExact} {hsem : DmaTarget.Typed (nD := nD) (τ := τ) (p := .tc) sp sm (.here dst)}
    {α : Type} {k : Prog (TpuEff nD τ sig (Elt F) Λ₀ .tc) α} {Q : α → sProp 𝕄} {q : PosShare TreeShare}
    {fs : Buf (Elt F) (src.view.loc (c : Thread nD τ))} (FD : Buf (Elt F) (dst.view.loc (c : Thread nD τ)))
    (h0 : 0 < dst.view.amount sm)
    (hF : ∀ fd, ∀ i ∈ dst.view.set, dst.view.write (Elt F) fd (src.view.read (Elt F) fs) Finset.univ i = FD i) :
    (iprop((∃ g, dst.view.loc (c : Thread nD τ) ↦[dst.view.set]{fullShare} g) ∗ (src.view.loc (c : Thread nD τ) ↦[Finset.univ]{q} fs)
        ∗ semVal ((c : Thread nD τ), sm) 0) : sProp 𝕄)
      ⊢ iprop((iprop(Transfers.Flight EC (c : Thread nD τ) sm () (dst.view.amount sm)
              iprop((dst.view.loc (c : Thread nD τ) ↦[dst.view.set]{fullShare} FD) ∗ (src.view.loc (c : Thread nD τ) ↦[src.view.set]{q} fs))
            ∗ (src.view.loc (c : Thread nD τ) ↦[Finset.univ \ src.view.set]{q} fs))
          -∗ wp frame (wpE (defs₀ (F := F)) Variants.none (c : Thread nD τ) none) Set.univ k Q)
        -∗ wp frame (wpE (defs₀ (F := F)) Variants.none (c : Thread nD τ) none) Set.univ
            (.op (.enqueueDma src (.here dst) sm hsrc hdst hsem) (fun _ => k)) Q) := by
  iintro ⟨⟨%g, Hd⟩, Hs, Hv⟩ Hk
  ihave Hs2 := (pointsTo_split_subset (ℓ := src.view.loc (c : Thread nD τ)) (q := q) (f := fs) (Finset.subset_univ src.view.set)).1 $$ Hs
  icases Hs2 with ⟨Hs, Hr⟩
  iapply (Transfers.wp_dmaLocal EC Variants.none (c : Thread nD τ) none (k := fun _ => k) () (dst.view.amount sm) rfl h0 (Finset.Subset.refl _)) $$ [Hs Hd Hv]
  · isplitl [Hs]; · iexact Hs
    isplitl [Hd]; · iexact Hd
    iexact Hv
  iintro Hf
  iapply Hk
  isplitl [Hf]
  · rw [pointsTo_congr (fun i hi => hF g i hi)]
    iexact Hf
  iexact Hr

/-! ## The output side: a segment's rows of one block of columns -/

/-- The part of a slot's buffer a segment's rows land in. -/
def WB (p x y : ℕ) : Finset S2x512x512.Idx := Finset.univ.filter fun i => (i 0).val = p ∧ x ≤ (i 1).val ∧ (i 1).val < x + y
/-- The part of the pool they come from. -/
def SB (g q y : ℕ) : Finset S900x14336.Idx := Finset.univ.filter fun i => (g ≤ (i 0).val ∧ (i 0).val < g + y) ∧ q ≤ (i 1).val ∧ (i 1).val < q + 512

abbrev Bm : Memref sig .tc .vmem S2x512x512 .bf16 := Memref.whole cc0_scratch1
abbrev PBm : Memref sig .tc .hbm S900x14336 .bf16 := Memref.whole main_arg4
/-- A buffer's contents at the element type of the kernel's values. -/
abbrev BufB : Type := S2x512x512.Idx → Elt F .bf16
abbrev BufPB : Type := S900x14336.Idx → Elt F .bf16
abbrev ptB (c : Dev nD) (S : Finset S2x512x512.Idx) (f : S2x512x512.Idx → Elt F .bf16) : sProp 𝕄 :=
  (c : Thread nD τ).loc cc0_scratch1 ↦[S]{fullShare} (f : Buf (Elt F) ((c : Thread nD τ).loc cc0_scratch1))
abbrev ptPB (c : Dev nD) (S : Finset S900x14336.Idx) (q : PosShare TreeShare) (f : S900x14336.Idx → Elt F .bf16) : sProp 𝕄 :=
  (c : Thread nD τ).loc main_arg4 ↦[S]{q} (f : Buf (Elt F) ((c : Thread nD τ).loc main_arg4))

theorem set_dB (p x y : ℕ) (inb : ∀ a, ![1, y, 512] a = 0 ∨ ![p, x, 0] a + ![1, y, 512] a ≤ S2x512x512.size a)
    (sq : (⟨3, ![1, y, 512]⟩ : Shape).Squeezes ⟨2, ![y, 512]⟩) :
    ((Bm.slice (Rect.unitDyn (s := S2x512x512) ![p, x, 0] ![1, y, 512] inb) (fun _ => rfl)).squeeze ⟨2, ![y, 512]⟩ sq).view.set = WB p x y := by
  refine (View.set_reshape (Bm.view.slice (Rect.unitDyn (s := S2x512x512) ![p, x, 0] ![1, y, 512] inb)) _).trans ((View.set_slice _ _).trans ?_)
  ext i
  unfold WB
  simp only [Finset.mem_filter, Finset.mem_univ, true_and]
  constructor
  · intro h
    obtain ⟨j, hj, rfl⟩ := Finset.mem_map.1 h
    have hh := Rect.mem_set_unitDyn.1 hj
    have h0 := hh 0; have h1 := hh 1
    simp only [Matrix.cons_val_zero, Matrix.cons_val_one] at h0 h1
    refine ⟨?_, h1.1, h1.2⟩
    show (j 0).val = p
    omega
  · intro h
    refine Finset.mem_map.2 ⟨i, Rect.mem_set_unitDyn.2 ?_, rfl⟩
    intro a
    fin_cases a
    · show p ≤ (i 0).val ∧ (i 0).val < p + 1; omega
    · show x ≤ (i 1).val ∧ (i 1).val < x + y; omega
    · show 0 ≤ (i 2).val ∧ (i 2).val < 0 + 512; exact ⟨Nat.zero_le _, by have : (i 2).val < 512 := (i 2).isLt; omega⟩

theorem set_sB (g q y : ℕ) (inb : ∀ a, ![y, 512] a = 0 ∨ ![g, q] a + ![y, 512] a ≤ S900x14336.size a) :
    (PBm.slice (Rect.unitDyn (s := S900x14336) ![g, q] ![y, 512] inb) (fun _ => rfl)).view.set = SB g q y := by
  refine (View.set_slice PBm.view (Rect.unitDyn (s := S900x14336) ![g, q] ![y, 512] inb)).trans ?_
  ext i
  unfold SB
  simp only [Finset.mem_filter, Finset.mem_univ, true_and]
  constructor
  · intro h
    obtain ⟨j, hj, rfl⟩ := Finset.mem_map.1 h
    have hh := Rect.mem_set_unitDyn.1 hj
    exact ⟨hh 0, hh 1⟩
  · intro h
    refine Finset.mem_map.2 ⟨i, Rect.mem_set_unitDyn.2 ?_, rfl⟩
    intro a
    fin_cases a
    · exact h.1
    · exact h.2

/-- What lands in a segment's part of a slot is what the block function says. -/
theorem write_dB (p x y g q : ℕ) (inb : ∀ a, ![1, y, 512] a = 0 ∨ ![p, x, 0] a + ![1, y, 512] a ≤ S2x512x512.size a)
    (sq : (⟨3, ![1, y, 512]⟩ : Shape).Squeezes ⟨2, ![y, 512]⟩)
    (inbs : ∀ a, ![y, 512] a = 0 ∨ ![g, q] a + ![y, 512] a ≤ S900x14336.size a)
    (fs : S900x14336.Idx → Elt F .bf16) (FD : S2x512x512.Idx → Elt F .bf16)
    (hFD : ∀ (i : S2x512x512.Idx) (j : S900x14336.Idx), (i 0).val = p → x ≤ (i 1).val → (i 1).val < x + y →
      (j 0).val = g + ((i 1).val - x) → (j 1).val = q + (i 2).val → FD i = fs j)
    (fd : S2x512x512.Idx → Elt F .bf16) (i : S2x512x512.Idx)
    (hi : i ∈ ((Bm.slice (Rect.unitDyn (s := S2x512x512) ![p, x, 0] ![1, y, 512] inb) (fun _ => rfl)).squeeze ⟨2, ![y, 512]⟩ sq).view.set) :
    ((Bm.slice (Rect.unitDyn (s := S2x512x512) ![p, x, 0] ![1, y, 512] inb) (fun _ => rfl)).squeeze ⟨2, ![y, 512]⟩ sq).view.write (Elt F) fd
      ((PBm.slice (Rect.unitDyn (s := S900x14336) ![g, q] ![y, 512] inbs) (fun _ => rfl)).view.read (Elt F) fs) Finset.univ i = FD i := by
  obtain ⟨j, -, rfl⟩ := Finset.mem_map.1 hi
  rw [View.write_emb_of_mem _ _ (Finset.mem_univ j), View.read_apply]
  refine Eq.symm (hFD _ _ ?_ ?_ ?_ ?_ ?_)
  all_goals
    have hr := Shape.reshapeEquiv_cons_one (d := ![y, 512]) sq.numel_eq j
    have he : ((Bm.slice (Rect.unitDyn (s := S2x512x512) ![p, x, 0] ![1, y, 512] inb) (fun _ => rfl)).squeeze ⟨2, ![y, 512]⟩ sq).view.emb j
      = (Rect.unitDyn (s := S2x512x512) ![p, x, 0] ![1, y, 512] inb).emb (Shape.reshapeEquiv sq.numel_eq j) := rfl
    try rw [he]
    try rw [hr]
  · show p + 1 * 0 = p; omega
  · show x ≤ x + 1 * (j 0).val; omega
  · show x + 1 * (j 0).val < x + y; have : (j 0).val < y := (j 0).isLt; omega
  · show g + 1 * (j 0).val = g + (x + 1 * (j 0).val - x); omega
  · show q + 1 * (j 1).val = q + (0 + 1 * (j 1).val); omega

/-- The output-side semaphores. -/
def smB (p : ℕ) (s : Fin 6) : SemLoc sig := .dma ⟨15 + 6 * (p % 2) + s.val, by show _ < 27; omega⟩

/-- A segment's share of the resources, nothing under way. -/
def cellB (c : Dev nD) (p x y : ℕ) (s : Fin 6) (qs : PosShare TreeShare) (pb : S900x14336.Idx → Elt F .bf16) : sProp 𝕄 :=
  iprop((∃ g, ptB c (WB p x y) g) ∗ ptPB c Finset.univ qs pb ∗ semVal ((c : Thread nD τ), smB p s) 0)

/-- … its rows under way when it has any. -/
def flyB (c : Dev nD) (act : Prop) [Decidable act] (p x y g q : ℕ) (s : Fin 6) (qs : PosShare TreeShare)
    (pb : S900x14336.Idx → Elt F .bf16) (FD : S2x512x512.Idx → Elt F .bf16) : sProp 𝕄 :=
  if act then iprop(Transfers.Flight EC (c : Thread nD τ) (smB p s) () ((Bm.view.ref).dmaCredit ⟨2, ![y, 512]⟩ .bf16)
      iprop(ptB c (WB p x y) FD ∗ ptPB c (SB g q y) qs pb) ∗ ptPB c (Finset.univ \ SB g q y) qs pb)
  else cellB c p x y s qs pb

/-- … and with its rows landed. -/
def doneB (c : Dev nD) (p x y : ℕ) (s : Fin 6) (qs : PosShare TreeShare) (pb : S900x14336.Idx → Elt F .bf16)
    (FD : S2x512x512.Idx → Elt F .bf16) : sProp 𝕄 :=
  iprop(ptB c (WB p x y) FD ∗ ptPB c Finset.univ qs pb ∗ semVal ((c : Thread nD τ), smB p s) 0)

theorem rowMajor_S2x6 (i : S2x6.Idx) : (S2x6.rowMajor i).val = 6 * (i 0).val + (i 1).val := by
  have h := Shape.rowMajor_val_two (d := ![2, 6]) i
  have h' : (S2x6.rowMajor i).val = (i 0).val * 6 + (i 1).val := h
  omega

theorem smB_eq (s : Fin 6) (off : Fin 2 → ℕ) (p : ℕ) (hp : p ≤ 1) (h : off = ![p, s.val])
    (inb : ∀ a, off a + S1x1.size a ≤ S2x6.size a) (sq : S1x1.Squeezes S_) :
    (SemLoc.dma ((cc0_scratch4.slice (Rect.unit (s := S2x6) off S1x1.size inb)).squeeze S_ sq).sem : SemLoc sig) = smB p s := by
  subst h
  refine congrArg SemLoc.dma (Fin.ext ?_)
  have key : ∀ (j : S1x1.Idx), 15 + (S2x6.rowMajor ((Rect.unit (s := S2x6) ![p, s.val] S1x1.size inb).emb j)).val = 15 + 6 * (p % 2) + s.val := by
    intro j
    have hj0 : (j 0).val = 0 := by have : (j 0).val < 1 := (j 0).isLt; omega
    have hj1 : (j 1).val = 0 := by have : (j 1).val < 1 := (j 1).isLt; omega
    have hrm := rowMajor_S2x6 ((Rect.unit (s := S2x6) ![p, s.val] S1x1.size inb).emb j)
    have e0 : (((Rect.unit (s := S2x6) ![p, s.val] S1x1.size inb).emb j) 0).val = p := by
      show p + 1 * (j 0).val = p; omega
    have e1 : (((Rect.unit (s := S2x6) ![p, s.val] S1x1.size inb).emb j) 1).val = s.val := by
      show s.val + 1 * (j 1).val = s.val; omega
    rw [hrm, e0, e1]
    omega
  exact key _

/-- The guarded start of a segment's rows of a block. -/
theorem startB (c : Dev nD) {C : Prop} {dec : Decidable C} {p x y g q : ℕ} (s : Fin 6) (qs : PosShare TreeShare)
    (pb : S900x14336.Idx → Elt F .bf16) (FD : S2x512x512.Idx → Elt F .bf16)
    (hC : C ↔ 0 < y) (hp : p ≤ 1)
    (hFD : ∀ (i : S2x512x512.Idx) (j : S900x14336.Idx), (i 0).val = p → x ≤ (i 1).val → (i 1).val < x + y →
      (j 0).val = g + ((i 1).val - x) → (j 1).val = q + (i 2).val → FD i = pb j)
    {off sz : Fin 3 → ℕ} {soff ssz : Fin 2 → ℕ} {qoff : Fin 2 → ℕ} (hoff : off = ![p, x, 0]) (hsz : sz = ![1, y, 512])
    (hsoff : soff = ![g, q]) (hssz : ssz = ![y, 512]) (hq : qoff = ![p, s.val])
    {inb : C → ∀ a, sz a = 0 ∨ off a + sz a ≤ S2x512x512.size a} {sq : C → (⟨3, sz⟩ : Shape).Squeezes ⟨2, ssz⟩}
    {inbs : C → ∀ a, ssz a = 0 ∨ soff a + ssz a ≤ S900x14336.size a}
    {inbq : C → ∀ a, qoff a + S1x1.size a ≤ S2x6.size a} {sqq : S1x1.Squeezes S_}
    {hsrc : ∀ h : C, (PBm.slice (Rect.unitDyn (s := S900x14336) soff ssz (inbs h)) (fun _ => rfl)).view.WordExact}
    {hdst : ∀ h : C, ((Bm.slice (Rect.unitDyn (s := S2x512x512) off sz (inb h)) (fun _ => rfl)).squeeze ⟨2, ssz⟩ (sq h)).view.WordExact}
    {hsem : ∀ h : C, DmaTarget.Typed (nD := nD) (τ := τ) (p := .tc) .hbm
      (.dma ((cc0_scratch4.slice (Rect.unit (s := S2x6) qoff S1x1.size (inbq h))).squeeze S_ sqq).sem)
      (.here ((Bm.slice (Rect.unitDyn (s := S2x512x512) off sz (inb h)) (fun _ => rfl)).squeeze ⟨2, ssz⟩ (sq h)))}
    {α : Type} {k : Prog (TpuEff nD τ sig (Elt F) Λ₀ .tc) α} {Q : α → sProp 𝕄} :
    (cellB c p x y s qs pb : sProp 𝕄)
      ⊢ iprop((flyB c (0 < y) p x y g q s qs pb FD -∗ wp frame (wpE (defs₀ (F := F)) Variants.none (c : Thread nD τ) none) Set.univ k Q)
        -∗ wp frame (wpE (defs₀ (F := F)) Variants.none (c : Thread nD τ) none) Set.univ
            (if h : C then (Prog.lift (.enqueueDma (PBm.slice (Rect.unitDyn (s := S900x14336) soff ssz (inbs h)) (fun _ => rfl))
              (.here ((Bm.slice (Rect.unitDyn (s := S2x512x512) off sz (inb h)) (fun _ => rfl)).squeeze ⟨2, ssz⟩ (sq h)))
              (.dma ((cc0_scratch4.slice (Rect.unit (s := S2x6) qoff S1x1.size (inbq h))).squeeze S_ sqq).sem)
              (hsrc h) (hdst h) (hsem h)) >>= fun _ => k) else k) Q) := by
  subst hoff hsz hsoff hssz
  by_cases hc : C
  · have hy := hC.1 hc
    rw [dif_pos hc]
    unfold cellB flyB
    rw [if_pos hy]
    have hset := set_dB p x y (inb hc) (sq hc)
    have hsets := set_sB g q y (inbs hc)
    have hsm := smB_eq s qoff p hp hq (inbq hc) sqq
    rw [← hset, ← hsets, ← hsm]
    refine start_core c _ _ _ (hsrc := hsrc hc) (hdst := hdst hc) (hsem := hsem hc) FD ?_ ?_
    · show 0 < View.dmaCredit _
      exact View.dmaCredit_pos _ (by show 0 < Shape.numel ⟨2, ![y, 512]⟩; simp [Shape.numel, Fin.prod_univ_two]; exact hy)
    · intro fd i hi
      exact write_dB p x y g q (inb hc) (sq hc) (inbs hc) pb FD hFD fd i hi
  · have hy : ¬ 0 < y := fun h => hc (hC.2 h)
    rw [dif_neg hc]
    unfold flyB
    rw [if_neg hy]
    iintro H Hk
    iapply Hk $$ H

/-- The guarded wait of a segment's rows of a block. -/
theorem waitB (c : Dev nD) {C : Prop} {dec : Decidable C} {p x y g q : ℕ} (s : Fin 6) (qs : PosShare TreeShare)
    (pb : S900x14336.Idx → Elt F .bf16) (FD : S2x512x512.Idx → Elt F .bf16)
    (hC : C ↔ 0 < y) (hp : p ≤ 1) {ssz : Fin 2 → ℕ} {qoff : Fin 2 → ℕ} (hssz : ssz = ![y, 512]) (hq : qoff = ![p, s.val])
    {inbq : C → ∀ a, qoff a + S1x1.size a ≤ S2x6.size a} {sqq : S1x1.Squeezes S_}
    {hk : C → ((c : Thread nD τ).2 = .tc ∨ Bm.view.ref.HasMemref ⟨2, ssz⟩ .bf16)}
    {α : Type} {k : Prog (TpuEff nD τ sig (Elt F) Λ₀ .tc) α} {Q : α → sProp 𝕄} :
    (iprop(flyB c (0 < y) p x y g q s qs pb FD ∗ (∃ W, owes (c : Thread nD τ) 0 W)) : sProp 𝕄)
      ⊢ iprop((iprop(doneB c p x y s qs pb FD ∗ (∃ W, owes (c : Thread nD τ) 0 W))
            -∗ wp frame (wpE (defs₀ (F := F)) Variants.none (c : Thread nD τ) none) Set.univ k Q)
        -∗ wp frame (wpE (defs₀ (F := F)) Variants.none (c : Thread nD τ) none) Set.univ
            (if h : C then (Prog.lift (.waitDma ((cc0_scratch4.slice (Rect.unit (s := S2x6) qoff S1x1.size (inbq h))).squeeze S_ sqq).sem
              Bm.view.ref (⟨2, ssz⟩ : Shape) .bf16 (hk h)) >>= fun _ => k) else k) Q) := by
  subst hssz
  by_cases hc : C
  · have hy := hC.1 hc
    rw [dif_pos hc]
    unfold flyB doneB
    rw [if_pos hy]
    have hsm := smB_eq s qoff p hp hq (inbq hc) sqq
    rw [← hsm]
    iintro ⟨⟨HF, Hr⟩, %W, HO⟩ Hk
    iapply (Transfers.wp_waitLocalSized EC Variants.none (c : Thread nD τ) none (k := fun _ => k) () rfl) $$ [HF HO]
    · isplitl [HF]; · iexact HF
      iexact HO
    iintro ⟨⟨HD, HS⟩, Hv, HO⟩
    iapply Hk
    isplitl [HD HS Hr Hv]
    · isplitl [HD]; · iexact HD
      isplitl [HS Hr]
      · iapply (pointsTo_split_subset (ℓ := (c : Thread nD τ).loc main_arg4) (Finset.subset_univ (SB g q y))).2
        isplitl [HS]; · iexact HS
        iexact Hr
      iexact Hv
    iexists _
    iexact HO
  · have hy : ¬ 0 < y := fun h => hc (hC.2 h)
    have hW : WB p x y = ∅ := by
      unfold WB; apply Finset.filter_eq_empty_iff.2; intro i _; omega
    rw [dif_neg hc]
    unfold flyB cellB doneB
    rw [if_neg hy, hW]
    iintro ⟨⟨⟨%g, Hg⟩, Hp, Hv⟩, HO⟩ Hk
    iapply Hk
    isplitl [Hg Hp Hv]
    · isplitl [Hg]
      · have e : (ptB c ∅ g : sProp 𝕄) = ptB c ∅ FD := pointsTo_congr fun i hi => absurd hi (Finset.notMem_empty i)
        exact Entails.of_eq e
      isplitl [Hp]; · iexact Hp
      iexact Hv
    iexact HO

end Cert.KernelIdeal.Hand

end
-- ==== Proof.IFlightA.lean ====
/- Hand-written, untrusted: the input side's guarded transfer of a segment's rows and its wait. -/
module

public import proofs.«01_k».proof.Proof.IFlight

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The part of the buffer a segment's rows land in, and the part of the pool they come from. -/
def WA (x y : ℕ) : Finset S512x4096.Idx := Finset.univ.filter fun i => x ≤ (i 0).val ∧ (i 0).val < x + y
def SA (g y : ℕ) : Finset S900x4096.Idx := Finset.univ.filter fun i => g ≤ (i 0).val ∧ (i 0).val < g + y

abbrev Am : Memref sig .tc .vmem S512x4096 .bf16 := Memref.whole cc0_scratch0
abbrev PAm : Memref sig .tc .hbm S900x4096 .bf16 := Memref.whole main_arg3
abbrev ptA (c : Dev nD) (S : Finset S512x4096.Idx) (f : S512x4096.Idx → Elt F .bf16) : sProp 𝕄 :=
  (c : Thread nD τ).loc cc0_scratch0 ↦[S]{fullShare} (f : Buf (Elt F) ((c : Thread nD τ).loc cc0_scratch0))
abbrev ptPA (c : Dev nD) (S : Finset S900x4096.Idx) (q : PosShare TreeShare) (f : S900x4096.Idx → Elt F .bf16) : sProp 𝕄 :=
  (c : Thread nD τ).loc main_arg3 ↦[S]{q} (f : Buf (Elt F) ((c : Thread nD τ).loc main_arg3))

theorem set_dA (x y : ℕ) (inb : ∀ a, ![y, 4096] a = 0 ∨ ![x, 0] a + ![y, 4096] a ≤ S512x4096.size a) :
    (Am.slice (Rect.unitDyn (s := S512x4096) ![x, 0] ![y, 4096] inb) (fun _ => rfl)).view.set = WA x y := by
  refine (View.set_slice Am.view (Rect.unitDyn (s := S512x4096) ![x, 0] ![y, 4096] inb)).trans ?_
  ext i
  unfold WA
  simp only [Finset.mem_filter, Finset.mem_univ, true_and]
  constructor
  · intro h
    obtain ⟨j, hj, rfl⟩ := Finset.mem_map.1 h
    exact (Rect.mem_set_unitDyn.1 hj) 0
  · intro h
    refine Finset.mem_map.2 ⟨i, Rect.mem_set_unitDyn.2 ?_, rfl⟩
    intro a
    fin_cases a
    · exact h
    · exact ⟨Nat.zero_le _, by have : (i 1).val < 4096 := (i 1).isLt; show (i 1).val < 0 + 4096; omega⟩

theorem set_sA (g y : ℕ) (inb : ∀ a, ![y, 4096] a = 0 ∨ ![g, 0] a + ![y, 4096] a ≤ S900x4096.size a) :
    (PAm.slice (Rect.unitDyn (s := S900x4096) ![g, 0] ![y, 4096] inb) (fun _ => rfl)).view.set = SA g y := by
  refine (View.set_slice PAm.view (Rect.unitDyn (s := S900x4096) ![g, 0] ![y, 4096] inb)).trans ?_
  ext i
  unfold SA
  simp only [Finset.mem_filter, Finset.mem_univ, true_and]
  constructor
  · intro h
    obtain ⟨j, hj, rfl⟩ := Finset.mem_map.1 h
    exact (Rect.mem_set_unitDyn.1 hj) 0
  · intro h
    refine Finset.mem_map.2 ⟨i, Rect.mem_set_unitDyn.2 ?_, rfl⟩
    intro a
    fin_cases a
    · exact h
    · exact ⟨Nat.zero_le _, by have : (i 1).val < 4096 := (i 1).isLt; show (i 1).val < 0 + 4096; omega⟩

/-- What lands in a segment's part is what the content function says. -/
theorem write_dA (x y g : ℕ) (inb : ∀ a, ![y, 4096] a = 0 ∨ ![x, 0] a + ![y, 4096] a ≤ S512x4096.size a)
    (inbs : ∀ a, ![y, 4096] a = 0 ∨ ![g, 0] a + ![y, 4096] a ≤ S900x4096.size a)
    (fs : S900x4096.Idx → Elt F .bf16) (FD : S512x4096.Idx → Elt F .bf16)
    (hFD : ∀ (i : S512x4096.Idx) (j : S900x4096.Idx), x ≤ (i 0).val → (i 0).val < x + y →
      (j 0).val = g + ((i 0).val - x) → (j 1).val = (i 1).val → FD i = fs j)
    (fd : S512x4096.Idx → Elt F .bf16) (i : S512x4096.Idx)
    (hi : i ∈ (Am.slice (Rect.unitDyn (s := S512x4096) ![x, 0] ![y, 4096] inb) (fun _ => rfl)).view.set) :
    (Am.slice (Rect.unitDyn (s := S512x4096) ![x, 0] ![y, 4096] inb) (fun _ => rfl)).view.write (Elt F) fd
      ((PAm.slice (Rect.unitDyn (s := S900x4096) ![g, 0] ![y, 4096] inbs) (fun _ => rfl)).view.read (Elt F) fs) Finset.univ i = FD i := by
  obtain ⟨j, -, rfl⟩ := Finset.mem_map.1 hi
  rw [View.write_emb_of_mem _ _ (Finset.mem_univ j), View.read_apply]
  refine Eq.symm (hFD _ _ ?_ ?_ ?_ ?_)
  · show x ≤ x + 1 * (j 0).val; omega
  · show x + 1 * (j 0).val < x + y; have : (j 0).val < y := (j 0).isLt; omega
  · show g + 1 * (j 0).val = g + (x + 1 * (j 0).val - x); omega
  · show 0 + 1 * (j 1).val = 0 + 1 * (j 1).val; omega

/-- The input-side semaphores. -/
def smA (s : Fin 6) : SemLoc sig := .dma ⟨9 + s.val, by show _ < 27; omega⟩

def cellA (c : Dev nD) (x y : ℕ) (s : Fin 6) (qs : PosShare TreeShare) (pa : S900x4096.Idx → Elt F .bf16) : sProp 𝕄 :=
  iprop((∃ g, ptA c (WA x y) g) ∗ ptPA c Finset.univ qs pa ∗ semVal ((c : Thread nD τ), smA s) 0)

def flyA (c : Dev nD) (act : Prop) [Decidable act] (x y g : ℕ) (s : Fin 6) (qs : PosShare TreeShare)
    (pa : S900x4096.Idx → Elt F .bf16) (FD : S512x4096.Idx → Elt F .bf16) : sProp 𝕄 :=
  if act then iprop(Transfers.Flight EC (c : Thread nD τ) (smA s) () ((Am.view.ref).dmaCredit ⟨2, ![y, 4096]⟩ .bf16)
      iprop(ptA c (WA x y) FD ∗ ptPA c (SA g y) qs pa) ∗ ptPA c (Finset.univ \ SA g y) qs pa)
  else cellA c x y s qs pa

def doneA (c : Dev nD) (x y : ℕ) (s : Fin 6) (qs : PosShare TreeShare) (pa : S900x4096.Idx → Elt F .bf16)
    (FD : S512x4096.Idx → Elt F .bf16) : sProp 𝕄 :=
  iprop(ptA c (WA x y) FD ∗ ptPA c Finset.univ qs pa ∗ semVal ((c : Thread nD τ), smA s) 0)

theorem smA_eq (s : Fin 6) (off : Fin 1 → ℕ) (h : off = ![s.val])
    (inb : ∀ a, off a + S1.size a ≤ S6.size a) (sq : S1.Squeezes S_) :
    (SemLoc.dma ((cc0_scratch3.slice (Rect.unit (s := S6) off S1.size inb)).squeeze S_ sq).sem : SemLoc sig) = smA s := by
  subst h
  refine congrArg SemLoc.dma (Fin.ext ?_)
  have key : ∀ (j : S1.Idx), 9 + (S6.rowMajor ((Rect.unit (s := S6) ![s.val] S1.size inb).emb j)).val = 9 + s.val := by
    intro j
    have hj0 : (j 0).val = 0 := by have : (j 0).val < 1 := (j 0).isLt; omega
    have hrm : (S6.rowMajor ((Rect.unit (s := S6) ![s.val] S1.size inb).emb j)).val
      = (((Rect.unit (s := S6) ![s.val] S1.size inb).emb j) 0).val := Shape.rowMajor_val_one (d := ![6]) _
    have e0 : (((Rect.unit (s := S6) ![s.val] S1.size inb).emb j) 0).val = s.val := by
      show s.val + 1 * (j 0).val = s.val; omega
    rw [hrm, e0]
  exact key _

/-- The guarded start of a segment's rows. -/
theorem startA (c : Dev nD) {C : Prop} {dec : Decidable C} {x y g : ℕ} (s : Fin 6) (qs : PosShare TreeShare)
    (pa : S900x4096.Idx → Elt F .bf16) (FD : S512x4096.Idx → Elt F .bf16)
    (hC : C ↔ 0 < y)
    (hFD : ∀ (i : S512x4096.Idx) (j : S900x4096.Idx), x ≤ (i 0).val → (i 0).val < x + y →
      (j 0).val = g + ((i 0).val - x) → (j 1).val = (i 1).val → FD i = pa j)
    {off sz : Fin 2 → ℕ} {soff : Fin 2 → ℕ} {qoff : Fin 1 → ℕ} (hoff : off = ![x, 0]) (hsz : sz = ![y, 4096])
    (hsoff : soff = ![g, 0]) (hq : qoff = ![s.val])
    {inb : C → ∀ a, sz a = 0 ∨ off a + sz a ≤ S512x4096.size a}
    {inbs : C → ∀ a, sz a = 0 ∨ soff a + sz a ≤ S900x4096.size a}
    {inbq : C → ∀ a, qoff a + S1.size a ≤ S6.size a} {sqq : S1.Squeezes S_}
    {hsrc : ∀ h : C, (PAm.slice (Rect.unitDyn (s := S900x4096) soff sz (inbs h)) (fun _ => rfl)).view.WordExact}
    {hdst : ∀ h : C, (Am.slice (Rect.unitDyn (s := S512x4096) off sz (inb h)) (fun _ => rfl)).view.WordExact}
    {hsem : ∀ h : C, DmaTarget.Typed (nD := nD) (τ := τ) (p := .tc) .hbm
      (.dma ((cc0_scratch3.slice (Rect.unit (s := S6) qoff S1.size (inbq h))).squeeze S_ sqq).sem)
      (.here (Am.slice (Rect.unitDyn (s := S512x4096) off sz (inb h)) (fun _ => rfl)))}
    {α : Type} {k : Prog (TpuEff nD τ sig (Elt F) Λ₀ .tc) α} {Q : α → sProp 𝕄} :
    (cellA c x y s qs pa : sProp 𝕄)
      ⊢ iprop((flyA c (0 < y) x y g s qs pa FD -∗ wp frame (wpE (defs₀ (F := F)) Variants.none (c : Thread nD τ) none) Set.univ k Q)
        -∗ wp frame (wpE (defs₀ (F := F)) Variants.none (c : Thread nD τ) none) Set.univ
            (if h : C then (Prog.lift (.enqueueDma (PAm.slice (Rect.unitDyn (s := S900x4096) soff sz (inbs h)) (fun _ => rfl))
              (.here (Am.slice (Rect.unitDyn (s := S512x4096) off sz (inb h)) (fun _ => rfl)))
              (.dma ((cc0_scratch3.slice (Rect.unit (s := S6) qoff S1.size (inbq h))).squeeze S_ sqq).sem)
              (hsrc h) (hdst h) (hsem h)) >>= fun _ => k) else k) Q) := by
  subst hoff hsz hsoff
  by_cases hc : C
  · have hy := hC.1 hc
    rw [dif_pos hc]
    unfold cellA flyA
    rw [if_pos hy]
    have hset := set_dA x y (inb hc)
    have hsets := set_sA g y (inbs hc)
    have hsm := smA_eq s qoff hq (inbq hc) sqq
    rw [← hset, ← hsets, ← hsm]
    refine start_core c _ _ _ (hsrc := hsrc hc) (hdst := hdst hc) (hsem := hsem hc) FD ?_ ?_
    · show 0 < View.dmaCredit _
      exact View.dmaCredit_pos _ (by show 0 < Shape.numel ⟨2, ![y, 4096]⟩; simp [Shape.numel, Fin.prod_univ_two]; exact hy)
    · intro fd i hi
      exact write_dA x y g (inb hc) (inbs hc) pa FD hFD fd i hi
  · have hy : ¬ 0 < y := fun h => hc (hC.2 h)
    rw [dif_neg hc]
    unfold flyA
    rw [if_neg hy]
    iintro H Hk
    iapply Hk $$ H

/-- The guarded wait of a segment's rows. -/
theorem waitA (c : Dev nD) {C : Prop} {dec : Decidable C} {x y g : ℕ} (s : Fin 6) (qs : PosShare TreeShare)
    (pa : S900x4096.Idx → Elt F .bf16) (FD : S512x4096.Idx → Elt F .bf16)
    (hC : C ↔ 0 < y) {ssz : Fin 2 → ℕ} {qoff : Fin 1 → ℕ} (hssz : ssz = ![y, 4096]) (hq : qoff = ![s.val])
    {inbq : C → ∀ a, qoff a + S1.size a ≤ S6.size a} {sqq : S1.Squeezes S_}
    {hk : C → ((c : Thread nD τ).2 = .tc ∨ Am.view.ref.HasMemref ⟨2, ssz⟩ .bf16)}
    {α : Type} {k : Prog (TpuEff nD τ sig (Elt F) Λ₀ .tc) α} {Q : α → sProp 𝕄} :
    (iprop(flyA c (0 < y) x y g s qs pa FD ∗ (∃ W, owes (c : Thread nD τ) 0 W)) : sProp 𝕄)
      ⊢ iprop((iprop(doneA c x y s qs pa FD ∗ (∃ W, owes (c : Thread nD τ) 0 W))
            -∗ wp frame (wpE (defs₀ (F := F)) Variants.none (c : Thread nD τ) none) Set.univ k Q)
        -∗ wp frame (wpE (defs₀ (F := F)) Variants.none (c : Thread nD τ) none) Set.univ
            (if h : C then (Prog.lift (.waitDma ((cc0_scratch3.slice (Rect.unit (s := S6) qoff S1.size (inbq h))).squeeze S_ sqq).sem
              Am.view.ref (⟨2, ssz⟩ : Shape) .bf16 (hk h)) >>= fun _ => k) else k) Q) := by
  subst hssz
  by_cases hc : C
  · have hy := hC.1 hc
    rw [dif_pos hc]
    unfold flyA doneA
    rw [if_pos hy]
    have hsm := smA_eq s qoff hq (inbq hc) sqq
    rw [← hsm]
    iintro ⟨⟨HF, Hr⟩, %W, HO⟩ Hk
    iapply (Transfers.wp_waitLocalSized EC Variants.none (c : Thread nD τ) none (k := fun _ => k) () rfl) $$ [HF HO]
    · isplitl [HF]; · iexact HF
      iexact HO
    iintro ⟨⟨HD, HS⟩, Hv, HO⟩
    iapply Hk
    isplitl [HD HS Hr Hv]
    · isplitl [HD]; · iexact HD
      isplitl [HS Hr]
      · iapply (pointsTo_split_subset (ℓ := (c : Thread nD τ).loc main_arg3) (Finset.subset_univ (SA g y))).2
        isplitl [HS]; · iexact HS
        iexact Hr
      iexact Hv
    iexists _
    iexact HO
  · have hy : ¬ 0 < y := fun h => hc (hC.2 h)
    have hW : WA x y = ∅ := by
      unfold WA; apply Finset.filter_eq_empty_iff.2; intro i _; omega
    rw [dif_neg hc]
    unfold flyA cellA doneA
    rw [if_neg hy, hW]
    iintro ⟨⟨⟨%g, Hg⟩, Hp, Hv⟩, HO⟩ Hk
    iapply Hk
    isplitl [Hg Hp Hv]
    · isplitl [Hg]
      · have e : (ptA c ∅ g : sProp 𝕄) = ptA c ∅ FD := pointsTo_congr fun i hi => absurd hi (Finset.notMem_empty i)
        rw [e]
        exact Entails.of_eq rfl
      isplitl [Hp]; · iexact Hp
      iexact Hv
    iexact HO

end Cert.KernelIdeal.Hand

end
-- ==== Proof.IContents.lean ====
/- Hand-written, untrusted: where each segment's rows land in the staging buffers, what the buffers hold once they have
   landed, and the cutting of a buffer into the segments' parts and the rest. -/
module

public import proofs.«01_k».proof.Proof.IFlightA

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The segments before one. -/
def pre (sg : Fin 6 → Seg) : Fin 6 → List Seg :=
  ![[], [sg 0], [sg 0, sg 1], [sg 0, sg 1, sg 2], [sg 0, sg 1, sg 2, sg 3], [sg 0, sg 1, sg 2, sg 3, sg 4]]
/-- The first row a segment lands in, the number of its rows, and its first row in the pools. -/
def gx (sg : Fin 6 → Seg) (s : Fin 6) : ℕ := m8 (slotW (pre sg s))
def gy (sg : Fin 6 → Seg) (s : Fin 6) : ℕ := m8 (nW (sg s))
def gg (sg : Fin 6 → Seg) (s : Fin 6) : ℕ := m8 (gW (sg s).st)

theorem gy_eq (sg : Fin 6 → Seg) (ok : ∀ s, (sg s).OK) (s : Fin 6) : gy sg s = 8 * (sg s).n := m8_nW _ (ok s)
theorem gg_eq (sg : Fin 6 → Seg) (ok : ∀ s, (sg s).OK) (s : Fin 6) : gg sg s = 8 * (sg s).g := m8_gW _ (ok s)

theorem gx_eq (sg : Fin 6 → Seg) (ok : ∀ s, (sg s).OK) (s : Fin 6) : gx sg s = 8 * slotN (pre sg s) := by
  refine m8_slot _ ?_ ?_
  · have hall : ∀ s, ∀ t ∈ pre sg s, ∃ u, t = sg u := by
      intro s t ht
      fin_cases s <;> simp [pre] at ht <;> aesop
    intro t ht
    obtain ⟨u, rfl⟩ := hall s t ht
    exact ok u
  · fin_cases s <;> exact Nat.le_of_ble_eq_true rfl

/-- The parts' rows, one segment after another. -/
theorem gx_vals (sg : Fin 6 → Seg) (ok : ∀ s, (sg s).OK) :
    gx sg 0 = 0 ∧ gx sg 1 = gx sg 0 + gy sg 0 ∧ gx sg 2 = gx sg 1 + gy sg 1 ∧ gx sg 3 = gx sg 2 + gy sg 2
      ∧ gx sg 4 = gx sg 3 + gy sg 3 ∧ gx sg 5 = gx sg 4 + gy sg 4 := by
  simp only [gx_eq sg ok, gy_eq sg ok]
  simp only [pre, slotN, Matrix.cons_val, Fin.isValue, List.map_cons, List.map_nil, List.sum_cons, List.sum_nil]
  omega

theorem gy_le (sg : Fin 6 → Seg) (ok : ∀ s, (sg s).OK) (s : Fin 6) : gy sg s ≤ 72 ∧ gg sg s + gy sg s ≤ 900 := by
  rw [gy_eq sg ok, gg_eq sg ok]
  have := n_le (sg s) (ok s)
  omega

/-- Row `r` of the staging buffers is one of segment `s`'s. -/
def inSeg (sg : Fin 6 → Seg) (r : ℕ) (s : Fin 6) : Prop := gx sg s ≤ r ∧ r < gx sg s + gy sg s

theorem inSeg_unique (sg : Fin 6 → Seg) (ok : ∀ s, (sg s).OK) (r : ℕ) (s t : Fin 6) (hs : inSeg sg r s) (ht : inSeg sg r t) : s = t := by
  obtain ⟨h0, h1, h2, h3, h4, h5⟩ := gx_vals sg ok
  unfold inSeg at hs ht
  fin_cases s <;> fin_cases t <;> first | rfl | (exfalso; simp only [Fin.zero_eta, Fin.mk_one, Fin.reduceFinMk, Fin.isValue] at hs ht; omega)

open Classical in
/-- What the input-side buffer holds: each segment's rows of the pool, zero elsewhere. -/
def FA (sg : Fin 6 → Seg) (pa : S900x4096.Idx → Elt F .bf16) (i : S512x4096.Idx) : Elt F .bf16 :=
  if h : ∃ s, inSeg sg (i 0).val s then
    pa (fun a => match a with
      | 0 => ⟨(gg sg h.choose + ((i 0).val - gx sg h.choose)) % 900, by show _ < 900; omega⟩
      | 1 => ⟨(i 1).val, (i 1).isLt⟩)
  else k0_pay2 (F := F) i

open Classical in
/-- What a slot of the output-side buffer holds for a block of columns. -/
def FB (sg : Fin 6 → Seg) (pb : S900x14336.Idx → Elt F .bf16) (b : ℕ) (i : S2x512x512.Idx) : Elt F .bf16 :=
  if h : ∃ s, inSeg sg (i 1).val s then
    pb (fun a => match a with
      | 0 => ⟨(gg sg h.choose + ((i 1).val - gx sg h.choose)) % 900, by show _ < 900; omega⟩
      | 1 => ⟨(512 * b + (i 2).val) % 14336, by show _ < 14336; omega⟩)
  else k0_pay3 (F := F) i

theorem FA_at (sg : Fin 6 → Seg) (ok : ∀ s, (sg s).OK) (pa : S900x4096.Idx → Elt F .bf16) (s : Fin 6) (i : S512x4096.Idx) (j : S900x4096.Idx)
    (h1 : gx sg s ≤ (i 0).val) (h2 : (i 0).val < gx sg s + gy sg s) (h3 : (j 0).val = gg sg s + ((i 0).val - gx sg s)) (h4 : (j 1).val = (i 1).val) :
    FA sg pa i = pa j := by
  have h : ∃ s, inSeg sg (i 0).val s := ⟨s, h1, h2⟩
  have hc : h.choose = s := inSeg_unique sg ok _ _ _ h.choose_spec ⟨h1, h2⟩
  unfold FA
  rw [dif_pos h]
  refine congrArg pa (funext fun a => Fin.ext ?_)
  have hle := gy_le sg ok s
  fin_cases a
  · show (gg sg h.choose + ((i 0).val - gx sg h.choose)) % 900 = (j 0).val
    rw [hc]; omega
  · exact h4.symm

theorem FB_at (sg : Fin 6 → Seg) (ok : ∀ s, (sg s).OK) (pb : S900x14336.Idx → Elt F .bf16) (b : ℕ) (hb : b < 28) (s : Fin 6) (i : S2x512x512.Idx) (j : S900x14336.Idx)
    (h1 : gx sg s ≤ (i 1).val) (h2 : (i 1).val < gx sg s + gy sg s) (h3 : (j 0).val = gg sg s + ((i 1).val - gx sg s)) (h4 : (j 1).val = 512 * b + (i 2).val) :
    FB sg pb b i = pb j := by
  have h : ∃ s, inSeg sg (i 1).val s := ⟨s, h1, h2⟩
  have hc : h.choose = s := inSeg_unique sg ok _ _ _ h.choose_spec ⟨h1, h2⟩
  unfold FB
  rw [dif_pos h]
  refine congrArg pb (funext fun a => Fin.ext ?_)
  have hle := gy_le sg ok s
  fin_cases a
  · show (gg sg h.choose + ((i 1).val - gx sg h.choose)) % 900 = (j 0).val
    rw [hc]; omega
  · show (512 * b + (i 2).val) % 14336 = (j 1).val
    have : (i 2).val < 512 := (i 2).isLt
    omega

/-- Six assertions, side by side. -/
abbrev six (P : Fin 6 → sProp 𝕄) : sProp 𝕄 := iprop(P 0 ∗ P 1 ∗ P 2 ∗ P 3 ∗ P 4 ∗ P 5)

theorem bigSep_six (P : Fin 6 → sProp 𝕄) : bigSep Finset.univ P = six P := by
  rw [BI.bigSep_univ_eq_bigSepL [0, 1, 2, 3, 4, 5] (by decide) (by decide)]; rfl

/-- The input-side buffer's rows of no segment. -/
def restA (sg : Fin 6 → Seg) : Finset S512x4096.Idx := Finset.univ \ Finset.univ.biUnion fun s => WA (gx sg s) (gy sg s)
/-- One slot of the output-side buffer, and its rows of no segment. -/
def slotB (p : ℕ) : Finset S2x512x512.Idx := Finset.univ.filter fun i => (i 0).val = p
def restB (sg : Fin 6 → Seg) (p : ℕ) : Finset S2x512x512.Idx := slotB p \ Finset.univ.biUnion fun s => WB p (gx sg s) (gy sg s)

theorem splitA (sg : Fin 6 → Seg) (ok : ∀ s, (sg s).OK) (c : Dev nD) (f : S512x4096.Idx → Elt F .bf16) :
    (ptA c Finset.univ f : sProp 𝕄) ⊣⊢ iprop(six (fun s => ptA c (WA (gx sg s) (gy sg s)) f) ∗ ptA c (restA sg) f) := by
  have h : (ptA c Finset.univ f : sProp 𝕄) ⊣⊢ _ := pointsTo_split_subset (ℓ := (c : Thread nD τ).loc cc0_scratch0) (q := fullShare) (f := (f : Buf (Elt F) ((c : Thread nD τ).loc cc0_scratch0)))
    (Finset.subset_univ (Finset.univ.biUnion fun s => WA (gx sg s) (gy sg s)))
  have h2 : (_ : sProp 𝕄) = _ := pointsTo_biUnion (ℓ := (c : Thread nD τ).loc cc0_scratch0) (q := fullShare) (f := (f : Buf (Elt F) ((c : Thread nD τ).loc cc0_scratch0)))
    Finset.univ (fun s => WA (gx sg s) (gy sg s)) (fun s _ t _ hst => Finset.disjoint_left.2 fun i hi hj => hst
      (inSeg_unique sg ok _ _ _ (by simpa [WA, inSeg] using hi) (by simpa [WA, inSeg] using hj)))
  rw [bigSep_six] at h2
  rw [h2] at h
  exact h

theorem splitB (sg : Fin 6 → Seg) (ok : ∀ s, (sg s).OK) (c : Dev nD) (p : ℕ) (f : S2x512x512.Idx → Elt F .bf16) :
    (ptB c (slotB p) f : sProp 𝕄) ⊣⊢ iprop(six (fun s => ptB c (WB p (gx sg s) (gy sg s)) f) ∗ ptB c (restB sg p) f) := by
  have h : (ptB c (slotB p) f : sProp 𝕄) ⊣⊢ _ := pointsTo_split_subset (ℓ := (c : Thread nD τ).loc cc0_scratch1) (q := fullShare) (f := (f : Buf (Elt F) ((c : Thread nD τ).loc cc0_scratch1)))
    (S := slotB p) (I := Finset.univ.biUnion fun s => WB p (gx sg s) (gy sg s))
    (by intro i hi; simp only [Finset.mem_biUnion, WB, Finset.mem_filter] at hi; obtain ⟨s, _, hs⟩ := hi; simp [slotB, hs.2.1])
  have h2 : (_ : sProp 𝕄) = _ := pointsTo_biUnion (ℓ := (c : Thread nD τ).loc cc0_scratch1) (q := fullShare) (f := (f : Buf (Elt F) ((c : Thread nD τ).loc cc0_scratch1)))
    Finset.univ (fun s => WB p (gx sg s) (gy sg s)) (fun s _ t _ hst => Finset.disjoint_left.2 fun i hi hj => hst
      (inSeg_unique sg ok _ _ _ (by have := (Finset.mem_filter.1 hi).2; exact this.2) (by have := (Finset.mem_filter.1 hj).2; exact this.2)))
  rw [bigSep_six] at h2
  rw [h2] at h
  exact h

/-- The output-side buffer is its two slots. -/
theorem splitSlots (c : Dev nD) (f : S2x512x512.Idx → Elt F .bf16) :
    (ptB c Finset.univ f : sProp 𝕄) ⊣⊢ iprop(ptB c (slotB 0) f ∗ ptB c (slotB 1) f) := by
  have h : (_ : sProp 𝕄) ⊣⊢ _ := pointsTo_union (ℓ := (c : Thread nD τ).loc cc0_scratch1) (q := fullShare) (f := (f : Buf (Elt F) ((c : Thread nD τ).loc cc0_scratch1)))
    (I := slotB 0) (J := slotB 1) (Finset.disjoint_left.2 fun i hi hj => by
      have h1 := (Finset.mem_filter.1 hi).2; have h2 := (Finset.mem_filter.1 hj).2; omega)
  have hu : (slotB 0 ∪ slotB 1 : Finset S2x512x512.Idx) = Finset.univ := by
    ext i
    have : (i 0).val < 2 := (i 0).isLt
    simp only [slotB, Finset.mem_union, Finset.mem_filter, Finset.mem_univ, true_and, iff_true]
    omega
  rw [hu] at h
  exact h

theorem FA_rest (sg : Fin 6 → Seg) (pa : S900x4096.Idx → Elt F .bf16) (c : Dev nD) :
    (ptA c (restA sg) (k0_pay2 (F := F)) : sProp 𝕄) = ptA c (restA sg) (FA sg pa) :=
  pointsTo_congr fun i hi => by
    have h : ¬ ∃ s, inSeg sg (i 0).val s := by
      rintro ⟨s, hs⟩
      exact (Finset.mem_sdiff.1 hi).2 (Finset.mem_biUnion.2 ⟨s, Finset.mem_univ _, Finset.mem_filter.2 ⟨Finset.mem_univ _, hs⟩⟩)
    show _ = FA sg pa i
    unfold FA
    rw [dif_neg h]

theorem FB_rest (sg : Fin 6 → Seg) (pb : S900x14336.Idx → Elt F .bf16) (c : Dev nD) (p b : ℕ) :
    (ptB c (restB sg p) (k0_pay3 (F := F)) : sProp 𝕄) = ptB c (restB sg p) (FB sg pb b) :=
  pointsTo_congr fun i hi => by
    have h : ¬ ∃ s, inSeg sg (i 1).val s := by
      rintro ⟨s, hs⟩
      exact (Finset.mem_sdiff.1 hi).2 (Finset.mem_biUnion.2 ⟨s, Finset.mem_univ _, Finset.mem_filter.2
        ⟨Finset.mem_univ _, (Finset.mem_filter.1 (Finset.mem_sdiff.1 hi).1).2, hs⟩⟩)
    show _ = FB sg pb b i
    unfold FB
    rw [dif_neg h]

/-! ## The pools' shares -/

/-- The share of the input-side pool a segment's rows are read at. -/
def qA (s : Fin 6) : PosShare TreeShare := Transfers.dealOf fullShare (Finset.univ : Finset (Fin 6)) s
/-- The share of the output-side pool a slot's segment's rows are read at. -/
def qB (p : ℕ) (s : Fin 6) : PosShare TreeShare :=
  Transfers.dealOf fullShare (Finset.univ : Finset (Fin 12)) ⟨6 * (p % 2) + s.val, by omega⟩

theorem dealA (c : Dev nD) (pa : S900x4096.Idx → Elt F .bf16) :
    (ptPA c Finset.univ fullShare pa : sProp 𝕄) = six fun s => ptPA c Finset.univ (qA s) pa := by
  refine (Transfers.pointsTo_deal (Finset.univ : Finset (Fin 6)) ⟨0, Finset.mem_univ _⟩ fullShare).trans ?_
  rw [bigSep_six]; rfl

theorem bigSep_twelve (P : Fin 12 → sProp 𝕄) : bigSep Finset.univ P = iprop(P 0 ∗ P 1 ∗ P 2 ∗ P 3 ∗ P 4 ∗ P 5 ∗ P 6 ∗ P 7 ∗ P 8 ∗ P 9 ∗ P 10 ∗ P 11) := by
  rw [BI.bigSep_univ_eq_bigSepL [0, 1, 2, 3, 4, 5, 6, 7, 8, 9, 10, 11] (by decide) (by decide)]; rfl

theorem dealB (c : Dev nD) (pb : S900x14336.Idx → Elt F .bf16) :
    (ptPB c Finset.univ fullShare pb : sProp 𝕄) ⊣⊢ iprop(six (fun s => ptPB c Finset.univ (qB 0 s) pb) ∗ six fun s => ptPB c Finset.univ (qB 1 s) pb) := by
  have e : (ptPB c Finset.univ fullShare pb : sProp 𝕄) = _ := Transfers.pointsTo_deal (Finset.univ : Finset (Fin 12)) ⟨0, Finset.mem_univ _⟩ fullShare
  rw [bigSep_twelve] at e
  rw [e]
  constructor
  · iintro ⟨a, b, c, d, e, f, g, h, i, j, k, l⟩
    isplitl [a b c d e f]
    · isplitl [a]; · iexact a
      isplitl [b]; · iexact b
      isplitl [c]; · iexact c
      isplitl [d]; · iexact d
      isplitl [e]; · iexact e
      iexact f
    isplitl [g]; · iexact g
    isplitl [h]; · iexact h
    isplitl [i]; · iexact i
    isplitl [j]; · iexact j
    isplitl [k]; · iexact k
    iexact l
  · iintro ⟨⟨a, b, c, d, e, f⟩, g, h, i, j, k, l⟩
    isplitl [a]; · iexact a
    isplitl [b]; · iexact b
    isplitl [c]; · iexact c
    isplitl [d]; · iexact d
    isplitl [e]; · iexact e
    isplitl [f]; · iexact f
    isplitl [g]; · iexact g
    isplitl [h]; · iexact h
    isplitl [i]; · iexact i
    isplitl [j]; · iexact j
    isplitl [k]; · iexact k
    iexact l

end Cert.KernelIdeal.Hand

end
-- ==== Proof.ISteps.lean ====
/- Hand-written, untrusted: the resources segment by segment and the loads and stores through memrefs held whole. -/
module

public import proofs.«01_k».proof.Proof.IContents

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

abbrev Hm : Memref sig .tc .vmem S128x512 .bf16 := Memref.whole cc0_scratch2

/-- The six segments out of their words. -/
def mkSg (v1 v2 v4 v6 v52 v53 v55 v57 v103 v104 v106 v108 v154 v155 v157 v159 v205 v206 v208 v210 v256 v257 v259 v261 : BitVec 32) : Fin 6 → Seg :=
  ![⟨v1, v2, v4, v6⟩, ⟨v52, v53, v55, v57⟩, ⟨v103, v104, v106, v108⟩, ⟨v154, v155, v157, v159⟩, ⟨v205, v206, v208, v210⟩, ⟨v256, v257, v259, v261⟩]

/-- Whether a segment has rows, as its guard's word says. -/
theorem guard_gy (sg : Fin 6 → Seg) (ok : ∀ s, (sg s).OK) (s : Fin 6) : guardW (sg s) = 1#1 ↔ 0 < gy sg s := by
  rw [guard_iff _ (ok s), gy_eq sg ok]; omega

abbrev sA0 (c : Dev nD) (s : Fin 6) : sProp 𝕄 := semVal ((c : Thread nD τ), smA s) 0
abbrev sB0 (c : Dev nD) (p : ℕ) (s : Fin 6) : sProp 𝕄 := semVal ((c : Thread nD τ), smB p s) 0
abbrev cB (c : Dev nD) (sg : Fin 6 → Seg) (p : ℕ) (pb : S900x14336.Idx → Elt F .bf16) (s : Fin 6) : sProp 𝕄 :=
  cellB c p (gx sg s) (gy sg s) s (qB p s) pb
abbrev fB (c : Dev nD) (sg : Fin 6 → Seg) (p q b : ℕ) (pb : S900x14336.Idx → Elt F .bf16) (s : Fin 6) : sProp 𝕄 :=
  flyB c (0 < gy sg s) p (gx sg s) (gy sg s) (gg sg s) q s (qB p s) pb (FB sg pb b)
abbrev dB (c : Dev nD) (sg : Fin 6 → Seg) (p b : ℕ) (pb : S900x14336.Idx → Elt F .bf16) (s : Fin 6) : sProp 𝕄 :=
  doneB c p (gx sg s) (gy sg s) s (qB p s) pb (FB sg pb b)
abbrev cA (c : Dev nD) (sg : Fin 6 → Seg) (pa : S900x4096.Idx → Elt F .bf16) (s : Fin 6) : sProp 𝕄 :=
  cellA c (gx sg s) (gy sg s) s (qA s) pa
abbrev fA (c : Dev nD) (sg : Fin 6 → Seg) (pa : S900x4096.Idx → Elt F .bf16) (s : Fin 6) : sProp 𝕄 :=
  flyA c (0 < gy sg s) (gx sg s) (gy sg s) (gg sg s) s (qA s) pa (FA sg pa)
abbrev dA (c : Dev nD) (sg : Fin 6 → Seg) (pa : S900x4096.Idx → Elt F .bf16) (s : Fin 6) : sProp 𝕄 :=
  doneA c (gx sg s) (gy sg s) s (qA s) pa (FA sg pa)

/-- Three families side by side are one family of three. -/
theorem six_three (P Q R : Fin 6 → sProp 𝕄) : iprop(six P ∗ six Q ∗ six R) ⊣⊢ six (fun s => iprop(P s ∗ Q s ∗ R s)) := by
  unfold six
  constructor
  · iintro ⟨⟨a0, a1, a2, a3, a4, a5⟩, ⟨b0, b1, b2, b3, b4, b5⟩, d0, d1, d2, d3, d4, d5⟩
    isplitl [a0 b0 d0]
    · isplitl [a0]
      · iexact a0
      isplitl [b0]
      · iexact b0
      iexact d0
    isplitl [a1 b1 d1]
    · isplitl [a1]
      · iexact a1
      isplitl [b1]
      · iexact b1
      iexact d1
    isplitl [a2 b2 d2]
    · isplitl [a2]
      · iexact a2
      isplitl [b2]
      · iexact b2
      iexact d2
    isplitl [a3 b3 d3]
    · isplitl [a3]
      · iexact a3
      isplitl [b3]
      · iexact b3
      iexact d3
    isplitl [a4 b4 d4]
    · isplitl [a4]
      · iexact a4
      isplitl [b4]
      · iexact b4
      iexact d4
    isplitl [a5]
    · iexact a5
    isplitl [b5]
    · iexact b5
    iexact d5
  · iintro ⟨⟨a0, b0, d0⟩, ⟨a1, b1, d1⟩, ⟨a2, b2, d2⟩, ⟨a3, b3, d3⟩, ⟨a4, b4, d4⟩, a5, b5, d5⟩
    isplitl [a0 a1 a2 a3 a4 a5]
    · isplitl [a0]
      · iexact a0
      isplitl [a1]
      · iexact a1
      isplitl [a2]
      · iexact a2
      isplitl [a3]
      · iexact a3
      isplitl [a4]
      · iexact a4
      iexact a5
    isplitl [b0 b1 b2 b3 b4 b5]
    · isplitl [b0]
      · iexact b0
      isplitl [b1]
      · iexact b1
      isplitl [b2]
      · iexact b2
      isplitl [b3]
      · iexact b3
      isplitl [b4]
      · iexact b4
      iexact b5
    isplitl [d0]
    · iexact d0
    isplitl [d1]
    · iexact d1
    isplitl [d2]
    · iexact d2
    isplitl [d3]
    · iexact d3
    isplitl [d4]
    · iexact d4
    iexact d5

theorem six_mono {P Q : Fin 6 → sProp 𝕄} (h : ∀ s, P s ⊢ Q s) : six P ⊢ six Q :=
  BIClass.sep_mono (h 0) (BIClass.sep_mono (h 1) (BIClass.sep_mono (h 2) (BIClass.sep_mono (h 3) (BIClass.sep_mono (h 4) (h 5)))))

/-- The rows, the pools' shares and the cells at zero, segment by segment. -/
theorem mk_cA (c : Dev nD) (sg : Fin 6 → Seg) (f : S512x4096.Idx → Elt F .bf16) (pa : S900x4096.Idx → Elt F .bf16) :
    iprop(six (fun s => ptA c (WA (gx sg s) (gy sg s)) f) ∗ six (fun s => ptPA c Finset.univ (qA s) pa) ∗ six (sA0 (F := F) c)) ⊢ six (cA c sg pa) :=
  (six_three _ _ _).1.trans (six_mono fun s => sep_mono_left (exists_intro (Φ := fun g => ptA c (WA (gx sg s) (gy sg s)) g) f))

theorem mk_cB (c : Dev nD) (sg : Fin 6 → Seg) (p : ℕ) (f : S2x512x512.Idx → Elt F .bf16) (pb : S900x14336.Idx → Elt F .bf16) :
    iprop(six (fun s => ptB c (WB p (gx sg s) (gy sg s)) f) ∗ six (fun s => ptPB c Finset.univ (qB p s) pb) ∗ six (sB0 (F := F) c p)) ⊢ six (cB c sg p pb) :=
  (six_three _ _ _).1.trans (six_mono fun s => sep_mono_left (exists_intro (Φ := fun g => ptB c (WB p (gx sg s) (gy sg s)) g) f))

/-- Loading through a memref whose buffer is held whole. -/
theorem ldM (c : Dev nD) {cs : CoreSpace} {s : Shape} {e : EltTy} (m : Memref sig .tc cs s e) {q : PosShare TreeShare} (f : Buf (Elt F) (m.view.loc (c : Thread nD τ)))
    {r : LoadRect s} {hl : m.view.LoadsAt r} {α : Type}
    {k : (r.shape.Idx → Elt F e) → Prog (TpuEff nD τ sig (Elt F) Λ₀ .tc) α} {Q : α → sProp 𝕄} :
    (m.view.loc (c : Thread nD τ) ↦{q} f : sProp 𝕄)
      ⊢ iprop(((m.view.loc (c : Thread nD τ) ↦{q} f) -∗ wp frame (wpE (defs₀ (F := F)) Variants.none (c : Thread nD τ) none) Set.univ (k (m.view.readAt (Elt F) r f)) Q)
        -∗ wp frame (wpE (defs₀ (F := F)) Variants.none (c : Thread nD τ) none) Set.univ (Prog.lift (.load m r hl) >>= k) Q) :=
  wp_load (m := m) Variants.none (c : Thread nD τ) none Set.univ (S := Finset.univ) (Finset.subset_univ _)

/-- Storing through a memref whose buffer is held whole. -/
theorem stM (c : Dev nD) {cs : CoreSpace} {s : Shape} {e : EltTy} (m : Memref sig .tc cs s e) (f : Buf (Elt F) (m.view.loc (c : Thread nD τ)))
    {r : Rect s} {w : r.shape.Idx → Elt F e} {Mk : Finset r.shape.Idx} {hx : (m.access r).Stores Mk}
    {hm : Mk = Finset.univ ∨ ∀ a, r.stride a = 1} {α : Type}
    {k : PUnit → Prog (TpuEff nD τ sig (Elt F) Λ₀ .tc) α} {Q : α → sProp 𝕄} :
    (m.view.loc (c : Thread nD τ) ↦{fullShare} f : sProp 𝕄)
      ⊢ iprop(((m.view.loc (c : Thread nD τ) ↦{fullShare} ((m.access r).write (Elt F) f w Mk : Buf (Elt F) (m.view.loc (c : Thread nD τ)))) -∗ wp frame (wpE (defs₀ (F := F)) Variants.none (c : Thread nD τ) none) Set.univ (k ⟨⟩) Q)
        -∗ wp frame (wpE (defs₀ (F := F)) Variants.none (c : Thread nD τ) none) Set.univ (Prog.lift (.store m r w Mk hx hm) >>= k) Q) := by
  have h := wp_store (defs := defs₀ (F := F)) (Γ := .empty) (m := m) (r := r) (w := w) (Mk := Mk) (hx := hx) (hm := hm) (k := k) (Q := Q) (f := (f : Buf (Elt F) ((m.access r).loc (c : Thread nD τ)))) Variants.none (c : Thread nD τ) none Set.univ (S := Finset.univ) (Finset.subset_univ _)
  exact h

/-- A program that is done. -/
theorem wp_retE (c : Dev nD) {α : Type} {a : α} {Q : α → sProp 𝕄} :
    Q a ⊢ wp frame (wpE (defs₀ (F := F)) Variants.none (c : Thread nD τ) none) Set.univ (pure a : Prog (TpuEff nD τ sig (Elt F) Λ₀ .tc) α) Q := by
  rw [wp_pure]
  exact fupd_intro

end Cert.KernelIdeal.Hand

end
-- ==== Proof.IOwn.lean ====
/- Hand-written, untrusted: loads and stores through the windows' memrefs. -/
module

public import proofs.«01_k».proof.Proof.ISteps

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Reading through a window's memref, over the rectangle that is all of it. -/
theorem ldO (c : Dev nD) {cs : CoreSpace} {s : Shape} {e : EltTy} (m : Memref sig .tc cs s e) {q : PosShare TreeShare} (d : s.Idx → Elt F e)
    {off : Fin s.rank → ℕ} {inb : ∀ a, off a + s.size a ≤ s.size a} {hl : m.view.LoadsAt (Rect.unit off s.size inb).toLoadRect} {α : Type}
    {k : (s.Idx → Elt F e) → Prog (TpuEff nD τ sig (Elt F) Λ₀ .tc) α} {Q : α → sProp 𝕄} :
    (owns (c : Thread nD τ) m q d : sProp 𝕄)
      ⊢ iprop((owns (c : Thread nD τ) m q d -∗ wp frame (wpE (defs₀ (F := F)) Variants.none (c : Thread nD τ) none) Set.univ (k d) Q)
        -∗ wp frame (wpE (defs₀ (F := F)) Variants.none (c : Thread nD τ) none) Set.univ (Prog.lift (.load m (Rect.unit off s.size inb).toLoadRect hl) >>= k) Q) := by
  have e1 : (owns (c : Thread nD τ) m q d : sProp 𝕄) = iprop(∃ f, ⌜m.view.read (Elt F) f = d⌝ ∗ (m.view.loc (c : Thread nD τ) ↦[m.view.set]{q} f)) := rfl
  rw [e1]
  iintro ⟨%f, %hf, H⟩ Hk
  iapply (wp_load (defs := defs₀ (F := F)) (Γ := .empty) (m := m) (r := (Rect.unit off s.size inb).toLoadRect) (hl := hl) (k := k) (Q := Q) (f := f) Variants.none (c : Thread nD τ) none Set.univ (S := m.view.set) (m.view.setOn_subset_set _)) $$ H
  iintro H
  have e2 : m.view.readAt (Elt F) (Rect.unit off s.size inb).toLoadRect f = d := by
    rw [← hf]
    funext y
    exact congrArg (m.view.read (Elt F) f) (funext fun a => Fin.ext (by
      show off a + 1 * (y a).val = (y a).val
      have := inb a; omega))
  rw [e2]
  iapply Hk
  iexists f
  isplitr
  · ipureintro; exact hf
  iexact H

/-- Writing all of a window through its memref. -/
theorem stO (c : Dev nD) {cs : CoreSpace} {s : Shape} {e : EltTy} (m : Memref sig .tc cs s e) (d : s.Idx → Elt F e)
    {off : Fin s.rank → ℕ} {inb : ∀ a, off a + s.size a ≤ s.size a} {w : s.Idx → Elt F e} {hx : (m.access (Rect.unit off s.size inb)).Stores Finset.univ}
    {hm : (Finset.univ : Finset s.Idx) = Finset.univ ∨ ∀ a, (Rect.unit off s.size inb).stride a = 1} {α : Type}
    {k : PUnit → Prog (TpuEff nD τ sig (Elt F) Λ₀ .tc) α} {Q : α → sProp 𝕄} :
    (owns (c : Thread nD τ) m fullShare d : sProp 𝕄)
      ⊢ iprop((owns (c : Thread nD τ) m fullShare w -∗ wp frame (wpE (defs₀ (F := F)) Variants.none (c : Thread nD τ) none) Set.univ (k ⟨⟩) Q)
        -∗ wp frame (wpE (defs₀ (F := F)) Variants.none (c : Thread nD τ) none) Set.univ (Prog.lift (.store m (Rect.unit off s.size inb) w Finset.univ hx hm) >>= k) Q) := by
  have e1 : ∀ d, (owns (c : Thread nD τ) m fullShare d : sProp 𝕄) = iprop(∃ f, ⌜m.view.read (Elt F) f = d⌝ ∗ (m.view.loc (c : Thread nD τ) ↦[m.view.set]{fullShare} f)) := fun _ => rfl
  rw [e1, e1]
  iintro ⟨%f, %hf, H⟩ Hk
  iapply (wp_store (defs := defs₀ (F := F)) (Γ := .empty) (m := m) (r := Rect.unit off s.size inb) (w := w) (Mk := Finset.univ) (hx := hx) (hm := hm) (k := k) (Q := Q) (f := (f : Buf (Elt F) ((m.access (Rect.unit off s.size inb)).loc (c : Thread nD τ)))) Variants.none (c : Thread nD τ) none Set.univ (S := m.view.set) (m.view.set_slice_subset _)) $$ H
  iintro H
  iapply Hk
  iexists ((m.access (Rect.unit off s.size inb)).write (Elt F) f w Finset.univ)
  isplitr
  · ipureintro
    funext y
    have h1 := View.read_slice_write_emb (v := m.view) (Val := Elt F) (Rect.unit off s.size inb) f w (M := Finset.univ) (x := y) (Finset.mem_univ y)
    have h2 : (Rect.unit off s.size inb).emb y = y := funext fun a => Fin.ext (by
      show off a + 1 * (y a).val = (y a).val
      have := inb a; omega)
    rw [h2] at h1
    exact h1
  iexact H

/-- The word at a one-element rectangle. -/
def sw {s : Shape} {e : EltTy} (d : s.Idx → Elt F e) (r : Rect s) (h1 : r.shape.numel = 1) : Elt F e :=
  d (r.emb (Shape.Idx.first (h1.symm ▸ Nat.one_pos)))

/-- Reading one word of scalar memory. -/
theorem smO (c : Dev nD) {s : Shape} {e : EltTy} (m : Memref sig .tc .smem s e) {q : PosShare TreeShare} (d : s.Idx → Elt F e)
    {r : Rect s} {h1 : r.shape.numel = 1} {hp : e.packing = 1} {α : Type}
    {k : Elt F e → Prog (TpuEff nD τ sig (Elt F) Λ₀ .tc) α} {Q : α → sProp 𝕄} :
    (owns (c : Thread nD τ) m q d : sProp 𝕄)
      ⊢ iprop((owns (c : Thread nD τ) m q d -∗ wp frame (wpE (defs₀ (F := F)) Variants.none (c : Thread nD τ) none) Set.univ (k (sw d r h1)) Q)
        -∗ wp frame (wpE (defs₀ (F := F)) Variants.none (c : Thread nD τ) none) Set.univ (smemLoad m r h1 hp >>= k) Q) := by
  have e1 : (owns (c : Thread nD τ) m q d : sProp 𝕄) = iprop(∃ f, ⌜m.view.read (Elt F) f = d⌝ ∗ (m.view.loc (c : Thread nD τ) ↦[m.view.set]{q} f)) := rfl
  rw [e1]
  iintro ⟨%f, %hf, H⟩ Hk
  iapply (wp_smemLoadElt (defs := defs₀ (F := F)) (Γ := .empty) (m := m) (r := r) (hw := View.loads_smem_one hp h1) (x := Shape.Idx.first (h1.symm ▸ Nat.one_pos)) (k := k) (Q := Q)
    (f := (f : Buf (Elt F) ((m.access r).loc (c : Thread nD τ)))) Variants.none (c : Thread nD τ) none Set.univ (S := m.view.set) (m.view.set_slice_subset _)) $$ H
  iintro H
  have e2 : (m.access r).read (Elt F) f (Shape.Idx.first (h1.symm ▸ Nat.one_pos)) = sw d r h1 := by
    unfold sw; rw [← hf]; rfl
  rw [e2]
  iapply Hk
  iexists f
  isplitr
  · ipureintro; exact hf
  iexact H

/-- An assumption that holds. -/
theorem asE (c : Dev nD) {P : Prop} {dec : Decidable P} (h : P) {α : Type}
    {k : PLift P → Prog (TpuEff nD τ sig (Elt F) Λ₀ .tc) α} {Q : α → sProp 𝕄} :
    wp frame (wpE (defs₀ (F := F)) Variants.none (c : Thread nD τ) none) Set.univ (k ⟨h⟩) Q
      ⊢ wp frame (wpE (defs₀ (F := F)) Variants.none (c : Thread nD τ) none) Set.univ (Prog.lift (.assume P dec) >>= k) Q :=
  wp_assume Variants.none (c : Thread nD τ) none Set.univ h

end Cert.KernelIdeal.Hand

end
-- ==== Proof.IPart2.lean ====
/- Hand-written, untrusted: the first step's rank side. -/
module

public import proofs.«01_k».proof.Proof.IOwn

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 1000000 in
/-- The input-side rows have all landed; what is read of them and of the activations. -/
theorem part2_run (c : Dev nD) (i : grid0.Coords) (arg1 : Memref sig .tc .smem S11 .i32) (harg1 : arg1.IsWhole) (arg2 : Memref sig .tc .smem S11 .i32) (harg2 : arg2.IsWhole) (arg3 : Memref sig .tc .smem S7 .i32) (harg3 : arg3.IsWhole) (arg4 : Memref sig .tc .smem S6 .i32) (harg4 : arg4.IsWhole) (arg5 : Memref sig .tc .smem S11 .f32) (harg5 : arg5.IsWhole) (arg6 : Memref sig .tc .vmem S128x4096 .bf16) (harg6 : arg6.IsWhole) (arg7 : Memref sig .tc .vmem S512x512 .i32) (harg7 : arg7.IsWhole) (arg8 : Memref sig .tc .vmem S128x512 .i8) (harg8 : arg8.IsWhole) (arg11 : Memref sig .tc .vmem S128x512 .bf16) (harg11 : arg11.IsWhole) (arg12 : Memref sig .tc .vmem S128x64 .bf16) (harg12 : arg12.IsWhole) (v0 : Elt F .i32) (k0_hw1 : k0_chk1 i v0) (v1 : Elt F .i32) (v2 : Elt F .i32) (v4 : Elt F .i32) (v6 : Elt F .i32) (v23 : BitVec 32) (v47 : BitVec 32) (v50 : BitVec 32) (v52 : Elt F .i32) (v53 : Elt F .i32) (v55 : Elt F .i32) (v57 : Elt F .i32) (v74 : BitVec 32) (v98 : BitVec 32) (v101 : BitVec 32) (v103 : Elt F .i32) (v104 : Elt F .i32) (v106 : Elt F .i32) (v108 : Elt F .i32) (v125 : BitVec 32) (v149 : BitVec 32) (v152 : BitVec 32) (v154 : Elt F .i32) (v155 : Elt F .i32) (v157 : Elt F .i32) (v159 : Elt F .i32) (v176 : BitVec 32) (v200 : BitVec 32) (v203 : BitVec 32) (v205 : Elt F .i32) (v206 : Elt F .i32) (v208 : Elt F .i32) (v210 : Elt F .i32) (v227 : BitVec 32) (v251 : BitVec 32) (v254 : BitVec 32) (v256 : Elt F .i32) (v257 : Elt F .i32) (v259 : Elt F .i32) (v261 : Elt F .i32) (v278 : BitVec 32) (v302 : BitVec 32) (c0_i32_131 : BitVec 32) (k0_h21 : k0_cond21 i = 1#1)
    (sg : Fin 6 → Seg) (hsg : sg = (mkSg v1 v2 v4 v6 v52 v53 v55 v57 v103 v104 v106 v108 v154 v155 v157 v159 v205 v206 v208 v210 v256 v257 v259 v261)) (ok : ∀ s, (sg s).OK) (pa : S900x4096.Idx → Elt F .bf16)
    (q5 q6 : PosShare TreeShare) (d5 : S11.Idx → Elt F .f32) (d6 : S128x4096.Idx → Elt F .bf16) {Q : _ → sProp 𝕄} :
    iprop(six (fA c sg pa) ∗ ptA c (restA sg) (FA sg pa) ∗ (∃ W, owes (c : Thread nD τ) 0 W)
        ∗ owns (c : Thread nD τ) arg6 q6 d6 ∗ owns (c : Thread nD τ) arg5 q5 d5
        ∗ (iprop(ptA c Finset.univ (FA sg pa) ∗ ptPA c Finset.univ fullShare pa ∗ six (sA0 (F := F) c) ∗ (∃ W, owes (c : Thread nD τ) 0 W)
            ∗ owns (c : Thread nD τ) arg6 q6 d6 ∗ owns (c : Thread nD τ) arg5 q5 d5)
          -∗ Q ⟨k0_pay4 d6 (FA sg pa), iota .tc S128x512 32 [0] iota_S128x512_d0_w32, iota .tc S128x512 32 [1] iota_S128x512_d1_w32, k0_pay5 (F := F), k0_pay6 (F := F),
              k0_pay7 d6 (FA sg pa) (sw d5 (Rect.unit (s := S11) (k0_off67 v0) S1.size (k0_off67_inb i v0 k0_hw1 k0_h21)) numel1_S1), k0_pay8 v1 v2⟩))
      ⊢ wp frame (wpE (defs₀ (F := F)) Variants.none (c : Thread nD τ) none) Set.univ (k0_part2 (F := F) i arg1 harg1 arg2 harg2 arg3 harg3 arg4 harg4 arg5 harg5 arg6 harg6 arg7 harg7 arg8 harg8 PAm (Memref.isWhole_whole _) PBm (Memref.isWhole_whole _) arg11 harg11 arg12 harg12 Am (Memref.isWhole_whole _) Bm (Memref.isWhole_whole _) Hm (Memref.isWhole_whole _) cc0_scratch3 cc0_scratch4 v0 k0_hw1 v1 v2 v4 v6 v23 v47 v50 v52 v53 v55 v57 v74 v98 v101 v103 v104 v106 v108 v125 v149 v152 v154 v155 v157 v159 v176 v200 v203 v205 v206 v208 v210 v227 v251 v254 v256 v257 v259 v261 v278 v302 c0_i32_131 k0_h21) Q := by
  rw [k0_part2_eq_skeleton]; unfold k0_part2_skel
  iintro ⟨⟨A0, A1, A2, A3, A4, A5⟩, HR, HO, H6, H5, Hk⟩
  have hC0 : guardW (sg 0) = 1#1 ↔ 0 < gy sg 0 := guard_gy sg ok 0
  have hC1 : guardW (sg 1) = 1#1 ↔ 0 < gy sg 1 := guard_gy sg ok 1
  have hC2 : guardW (sg 2) = 1#1 ↔ 0 < gy sg 2 := guard_gy sg ok 2
  have hC3 : guardW (sg 3) = 1#1 ↔ 0 < gy sg 3 := guard_gy sg ok 3
  have hC4 : guardW (sg 4) = 1#1 ↔ 0 < gy sg 4 := guard_gy sg ok 4
  have hC5 : guardW (sg 5) = 1#1 ↔ 0 < gy sg 5 := guard_gy sg ok 5
  iapply (waitA c (C := k0_cond22 v1 v2 v4 v6 = 1#1) (x := gx sg 0) (y := gy sg 0) (g := gg sg 0) 0 (qA 0) pa (FA sg pa) (by rw [hsg] at hC0 ⊢; exact hC0) (by rw [hsg]; rfl) rfl) $$ [A0 HO]
  · isplitl [A0]
    · iexact A0
    iexact HO
  iintro ⟨A0, HO⟩
  iapply (waitA c (C := k0_cond23 v52 v53 v55 v57 = 1#1) (x := gx sg 1) (y := gy sg 1) (g := gg sg 1) 1 (qA 1) pa (FA sg pa) (by rw [hsg] at hC1 ⊢; exact hC1) (by rw [hsg]; rfl) rfl) $$ [A1 HO]
  · isplitl [A1]
    · iexact A1
    iexact HO
  iintro ⟨A1, HO⟩
  iapply (waitA c (C := k0_cond24 v103 v104 v106 v108 = 1#1) (x := gx sg 2) (y := gy sg 2) (g := gg sg 2) 2 (qA 2) pa (FA sg pa) (by rw [hsg] at hC2 ⊢; exact hC2) (by rw [hsg]; rfl) rfl) $$ [A2 HO]
  · isplitl [A2]
    · iexact A2
    iexact HO
  iintro ⟨A2, HO⟩
  iapply (waitA c (C := k0_cond25 v154 v155 v157 v159 = 1#1) (x := gx sg 3) (y := gy sg 3) (g := gg sg 3) 3 (qA 3) pa (FA sg pa) (by rw [hsg] at hC3 ⊢; exact hC3) (by rw [hsg]; rfl) rfl) $$ [A3 HO]
  · isplitl [A3]
    · iexact A3
    iexact HO
  iintro ⟨A3, HO⟩
  iapply (waitA c (C := k0_cond26 v205 v206 v208 v210 = 1#1) (x := gx sg 4) (y := gy sg 4) (g := gg sg 4) 4 (qA 4) pa (FA sg pa) (by rw [hsg] at hC4 ⊢; exact hC4) (by rw [hsg]; rfl) rfl) $$ [A4 HO]
  · isplitl [A4]
    · iexact A4
    iexact HO
  iintro ⟨A4, HO⟩
  iapply (waitA c (C := k0_cond27 v256 v257 v259 v261 = 1#1) (x := gx sg 5) (y := gy sg 5) (g := gg sg 5) 5 (qA 5) pa (FA sg pa) (by rw [hsg] at hC5 ⊢; exact hC5) (by rw [hsg]; rfl) rfl) $$ [A5 HO]
  · isplitl [A5]
    · iexact A5
    iexact HO
  iintro ⟨A5, HO⟩
  unfold doneA
  icases A0 with ⟨A0, P0, S0⟩
  icases A1 with ⟨A1, P1, S1⟩
  icases A2 with ⟨A2, P2, S2⟩
  icases A3 with ⟨A3, P3, S3⟩
  icases A4 with ⟨A4, P4, S4⟩
  icases A5 with ⟨A5, P5, S5⟩
  ihave HA := (splitA sg ok c (FA sg pa)).2 $$ [A0 A1 A2 A3 A4 A5 HR]
  · isplitl [A0 A1 A2 A3 A4 A5]
    · isplitl [A0]
      · iexact A0
      isplitl [A1]
      · iexact A1
      isplitl [A2]
      · iexact A2
      isplitl [A3]
      · iexact A3
      isplitl [A4]
      · iexact A4
      iexact A5
    iexact HR
  iapply (ldO c arg6 d6) $$ H6
  iintro H6
  iapply (ldM c Am (FA sg pa)) $$ HA
  iintro HA
  have eA : Am.view.readAt (Elt F) (Rect.unit (s := S512x4096) ![0, 0] S512x4096.size inb_S512x4096_S512x4096_0_0).toLoadRect (FA sg pa) = FA sg pa :=
    Memref.readAt_unit_zero (Elt F) cc0_scratch0 (by funext a; fin_cases a <;> rfl) _ _
  rw [eA]
  iapply (smO c arg5 d5) $$ H5
  iintro H5
  iapply (wp_retE c)
  iapply Hk
  isplitl [HA]
  · iexact HA
  isplitl [P0 P1 P2 P3 P4 P5]
  · iapply (Entails.of_eq (dealA c pa).symm)
    isplitl [P0]
    · iexact P0
    isplitl [P1]
    · iexact P1
    isplitl [P2]
    · iexact P2
    isplitl [P3]
    · iexact P3
    isplitl [P4]
    · iexact P4
    iexact P5
  isplitl [S0 S1 S2 S3 S4 S5]
  · isplitl [S0]
    · iexact S0
    isplitl [S1]
    · iexact S1
    isplitl [S2]
    · iexact S2
    isplitl [S3]
    · iexact S3
    isplitl [S4]
    · iexact S4
    iexact S5
  isplitl [HO]
  · iexact HO
  isplitl [H6]
  · iexact H6
  iexact H5

/-- Two more of the adapters' scales read. -/
theorem part3_run (c : Dev nD) (i : grid0.Coords) (arg1 : Memref sig .tc .smem S11 .i32) (harg1 : arg1.IsWhole) (arg2 : Memref sig .tc .smem S11 .i32) (harg2 : arg2.IsWhole) (arg3 : Memref sig .tc .smem S7 .i32) (harg3 : arg3.IsWhole) (arg4 : Memref sig .tc .smem S6 .i32) (harg4 : arg4.IsWhole) (arg5 : Memref sig .tc .smem S11 .f32) (harg5 : arg5.IsWhole) (arg6 : Memref sig .tc .vmem S128x4096 .bf16) (harg6 : arg6.IsWhole) (arg7 : Memref sig .tc .vmem S512x512 .i32) (harg7 : arg7.IsWhole) (arg8 : Memref sig .tc .vmem S128x512 .i8) (harg8 : arg8.IsWhole) (arg11 : Memref sig .tc .vmem S128x512 .bf16) (harg11 : arg11.IsWhole) (arg12 : Memref sig .tc .vmem S128x64 .bf16) (harg12 : arg12.IsWhole) (v6 : Elt F .i32) (v49 : BitVec 32) (v51 : Elt F .i32) (k0_hw2 : k0_chk2 i v51) (v52 : Elt F .i32) (v53 : Elt F .i32) (v57 : Elt F .i32) (v100 : BitVec 32) (v102 : Elt F .i32) (k0_hw3 : k0_chk3 i v102) (v103 : Elt F .i32) (v104 : Elt F .i32) (v108 : Elt F .i32) (v151 : BitVec 32) (k0_h21 : k0_cond21 i = 1#1) (v427 : FVec F S128x512 .f32) (v428 : IVec S128x512 32) (v429 : IVec S128x512 32) (v430 : FVec F S128x512 .f32) (v431 : FVec F S128x128 .f32) (v435 : FVec F S128x512 .f32) (v440 : IVec S128x512 1) (q5 : PosShare TreeShare) (d5 : S11.Idx → Elt F .f32) {Q : _ → sProp 𝕄} :
    iprop(owns (c : Thread nD τ) arg5 q5 d5 ∗ (owns (c : Thread nD τ) arg5 q5 d5 -∗ Q ⟨k0_pay11 v6 v49 v52 v53 v57 v100 v427 v428 v429 v430 v435 v440 (sw d5 (Rect.unit (s := S11) (k0_off68 v51) S1.size (k0_off68_inb i v51 k0_hw2 k0_h21)) numel1_S1), k0_pay12 v6 v49 v52 v53 v57 v100 v427 v428 v429 v431 v435 v440 (sw d5 (Rect.unit (s := S11) (k0_off68 v51) S1.size (k0_off68_inb i v51 k0_hw2 k0_h21)) numel1_S1), k0_pay13 v427 (sw d5 (Rect.unit (s := S11) (k0_off69 v102) S1.size (k0_off69_inb i v102 k0_hw3 k0_h21)) numel1_S1), k0_pay14 v103 v104 v428, k0_pay15 v103 v104 v151 v428 v429, Scalar.addi v151 v108⟩))
      ⊢ wp frame (wpE (defs₀ (F := F)) Variants.none (c : Thread nD τ) none) Set.univ (k0_part3 (F := F) i arg1 harg1 arg2 harg2 arg3 harg3 arg4 harg4 arg5 harg5 arg6 harg6 arg7 harg7 arg8 harg8 PAm (Memref.isWhole_whole _) PBm (Memref.isWhole_whole _) arg11 harg11 arg12 harg12 Am (Memref.isWhole_whole _) Bm (Memref.isWhole_whole _) Hm (Memref.isWhole_whole _) cc0_scratch3 cc0_scratch4 v6 v49 v51 k0_hw2 v52 v53 v57 v100 v102 k0_hw3 v103 v104 v108 v151 k0_h21 v427 v428 v429 v430 v431 v435 v440) Q := by
  rw [k0_part3_eq_skeleton]; unfold k0_part3_skel
  iintro ⟨H5, Hk⟩
  iapply (smO c arg5 d5) $$ H5
  iintro H5
  iapply (smO c arg5 d5) $$ H5
  iintro H5
  iapply (wp_retE c)
  iapply Hk
  iexact H5

/-- Two more of the adapters' scales read. -/
theorem part4_run (c : Dev nD) (i : grid0.Coords) (arg1 : Memref sig .tc .smem S11 .i32) (harg1 : arg1.IsWhole) (arg2 : Memref sig .tc .smem S11 .i32) (harg2 : arg2.IsWhole) (arg3 : Memref sig .tc .smem S7 .i32) (harg3 : arg3.IsWhole) (arg4 : Memref sig .tc .smem S6 .i32) (harg4 : arg4.IsWhole) (arg5 : Memref sig .tc .smem S11 .f32) (harg5 : arg5.IsWhole) (arg6 : Memref sig .tc .vmem S128x4096 .bf16) (harg6 : arg6.IsWhole) (arg7 : Memref sig .tc .vmem S512x512 .i32) (harg7 : arg7.IsWhole) (arg8 : Memref sig .tc .vmem S128x512 .i8) (harg8 : arg8.IsWhole) (arg11 : Memref sig .tc .vmem S128x512 .bf16) (harg11 : arg11.IsWhole) (arg12 : Memref sig .tc .vmem S128x64 .bf16) (harg12 : arg12.IsWhole) (v108 : Elt F .i32) (v151 : BitVec 32) (v153 : Elt F .i32) (k0_hw4 : k0_chk4 i v153) (v154 : Elt F .i32) (v155 : Elt F .i32) (v159 : Elt F .i32) (v202 : BitVec 32) (v204 : Elt F .i32) (k0_hw5 : k0_chk5 i v204) (v205 : Elt F .i32) (v206 : Elt F .i32) (v210 : Elt F .i32) (v253 : BitVec 32) (k0_h21 : k0_cond21 i = 1#1) (v427 : FVec F S128x512 .f32) (v428 : IVec S128x512 32) (v429 : IVec S128x512 32) (v474 : FVec F S128x512 .f32) (v483 : FVec F S128x128 .f32) (v487 : FVec F S128x512 .f32) (v492 : IVec S128x512 1) (v495 : IVec S128x512 1) (v496 : BitVec 32) (q5 : PosShare TreeShare) (d5 : S11.Idx → Elt F .f32) {Q : _ → sProp 𝕄} :
    iprop(owns (c : Thread nD τ) arg5 q5 d5 ∗ (owns (c : Thread nD τ) arg5 q5 d5 -∗ Q ⟨k0_pay18 v108 v151 v154 v155 v159 v202 v427 v428 v429 v483 v487 v492 (sw d5 (Rect.unit (s := S11) (k0_off70 v153) S1.size (k0_off70_inb i v153 k0_hw4 k0_h21)) numel1_S1), k0_pay19 v427 (sw d5 (Rect.unit (s := S11) (k0_off71 v204) S1.size (k0_off71_inb i v204 k0_hw5 k0_h21)) numel1_S1), k0_pay20 v205 v206 v428, k0_pay21 v154 v155 v159 v202 v205 v206 v210 v253 v427 v428 v429 v474 v487 v495 v496 (sw d5 (Rect.unit (s := S11) (k0_off70 v153) S1.size (k0_off70_inb i v153 k0_hw4 k0_h21)) numel1_S1) (sw d5 (Rect.unit (s := S11) (k0_off71 v204) S1.size (k0_off71_inb i v204 k0_hw5 k0_h21)) numel1_S1)⟩))
      ⊢ wp frame (wpE (defs₀ (F := F)) Variants.none (c : Thread nD τ) none) Set.univ (k0_part4 (F := F) i arg1 harg1 arg2 harg2 arg3 harg3 arg4 harg4 arg5 harg5 arg6 harg6 arg7 harg7 arg8 harg8 PAm (Memref.isWhole_whole _) PBm (Memref.isWhole_whole _) arg11 harg11 arg12 harg12 Am (Memref.isWhole_whole _) Bm (Memref.isWhole_whole _) Hm (Memref.isWhole_whole _) cc0_scratch3 cc0_scratch4 v108 v151 v153 k0_hw4 v154 v155 v159 v202 v204 k0_hw5 v205 v206 v210 v253 k0_h21 v427 v428 v429 v474 v483 v487 v492 v495 v496) Q := by
  rw [k0_part4_eq_skeleton]; unfold k0_part4_skel
  iintro ⟨H5, Hk⟩
  iapply (smO c arg5 d5) $$ H5
  iintro H5
  iapply (smO c arg5 d5) $$ H5
  iintro H5
  iapply (wp_retE c)
  iapply Hk
  iexact H5

end Cert.KernelIdeal.Hand

end
-- ==== Proof.IPart12.lean ====
/- Hand-written, untrusted: a later step up to its weight block, and what the first step leaves. -/
module

public import proofs.«01_k».proof.Proof.IPart2

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A branch taken. -/
theorem ifT (c : Dev nD) {C : Prop} {dec : Decidable C} (hc : C) {α : Type} {t : C → Prog (TpuEff nD τ sig (Elt F) Λ₀ .tc) α}
    {e : ¬ C → Prog (TpuEff nD τ sig (Elt F) Λ₀ .tc) α} {Q : α → sProp 𝕄} :
    wp frame (wpE (defs₀ (F := F)) Variants.none (c : Thread nD τ) none) Set.univ (t hc) Q ⊢ wp frame (wpE (defs₀ (F := F)) Variants.none (c : Thread nD τ) none) Set.univ (if h : C then t h else e h) Q := by
  rw [dif_pos hc]

/-- A branch passed over. -/
theorem ifF (c : Dev nD) {C : Prop} {dec : Decidable C} (hc : ¬ C) {α : Type} {t : C → Prog (TpuEff nD τ sig (Elt F) Λ₀ .tc) α}
    {e : ¬ C → Prog (TpuEff nD τ sig (Elt F) Λ₀ .tc) α} {Q : α → sProp 𝕄} :
    wp frame (wpE (defs₀ (F := F)) Variants.none (c : Thread nD τ) none) Set.univ (e hc) Q ⊢ wp frame (wpE (defs₀ (F := F)) Variants.none (c : Thread nD τ) none) Set.univ (if h : C then t h else e h) Q := by
  rw [dif_neg hc]

/-- A program and then another. -/
theorem bindE (c : Dev nD) {α β : Type} {p : Prog (TpuEff nD τ sig (Elt F) Λ₀ .tc) α} {k : α → Prog (TpuEff nD τ sig (Elt F) Λ₀ .tc) β} {Q : β → sProp 𝕄} :
    wp frame (wpE (defs₀ (F := F)) Variants.none (c : Thread nD τ) none) Set.univ p (fun a => wp frame (wpE (defs₀ (F := F)) Variants.none (c : Thread nD τ) none) Set.univ (k a) Q) ⊢ wp frame (wpE (defs₀ (F := F)) Variants.none (c : Thread nD τ) none) Set.univ (p >>= k) Q := by
  rw [wp_bind]

/-- The scaled rank-space activations, every segment's columns in its own slot: what the first step leaves for the others. -/
def hbigOf (v1 v2 v4 v6 v52 v53 v55 v57 v103 v104 v106 v108 v154 v155 v157 v159 v205 v206 v208 v210 v256 v257 v259 v261 : Elt F .i32) (v49 v100 v151 v202 v253 v254 v280 : BitVec 32) (s0 s1 s2 s3 s4 s5 : Elt F .f32)
    (x : S128x4096.Idx → Elt F .bf16) (a : S512x4096.Idx → Elt F .bf16) : FVec F S128x512 .bf16 :=
  let v427 := k0_pay4 x a
  let v428 := iota .tc S128x512 32 [0] iota_S128x512_d0_w32
  let v429 := iota .tc S128x512 32 [1] iota_S128x512_d1_w32
  let v430 := k0_pay5 (F := F)
  let v431 := k0_pay6 (F := F)
  let v435 := k0_pay7 x a s0
  let v440 := k0_pay8 (F := F) v1 v2
  let v474 := k0_pay11 v6 v49 v52 v53 v57 v100 v427 v428 v429 v430 v435 v440 s1
  let v483 := k0_pay12 v6 v49 v52 v53 v57 v100 v427 v428 v429 v431 v435 v440 s1
  let v487 := k0_pay13 v427 s2
  let v492 := k0_pay14 (F := F) v103 v104 v428
  let v495 := k0_pay15 (F := F) v103 v104 v151 v428 v429
  let v496 := Scalar.addi v151 v108
  let v535 := k0_pay18 v108 v151 v154 v155 v159 v202 v427 v428 v429 v483 v487 v492 s3
  let v539 := k0_pay19 v427 s4
  let v544 := k0_pay20 (F := F) v205 v206 v428
  let v552 := k0_pay21 v154 v155 v159 v202 v205 v206 v210 v253 v427 v428 v429 v474 v487 v495 v496 s3 s4
  k0_pay24 v254 v256 v257 v261 v280 v427 v428 v429 v552 s5

/-- The rank-space activations, rows by their own segment: the second result. -/
def lhOf (v1 v2 v4 v6 v52 v53 v55 v57 v103 v104 v106 v108 v154 v155 v157 v159 v205 v206 v208 v210 v256 v257 v259 v261 : Elt F .i32) (v49 v100 v151 v202 v253 v254 v280 : BitVec 32) (s0 s1 s2 s3 s4 s5 : Elt F .f32)
    (x : S128x4096.Idx → Elt F .bf16) (a : S512x4096.Idx → Elt F .bf16) : FVec F S128x64 .bf16 :=
  let v427 := k0_pay4 x a
  let v428 := iota .tc S128x512 32 [0] iota_S128x512_d0_w32
  let v429 := iota .tc S128x512 32 [1] iota_S128x512_d1_w32
  let v430 := k0_pay5 (F := F)
  let v431 := k0_pay6 (F := F)
  let v435 := k0_pay7 x a s0
  let v440 := k0_pay8 (F := F) v1 v2
  let v474 := k0_pay11 v6 v49 v52 v53 v57 v100 v427 v428 v429 v430 v435 v440 s1
  let v483 := k0_pay12 v6 v49 v52 v53 v57 v100 v427 v428 v429 v431 v435 v440 s1
  let v487 := k0_pay13 v427 s2
  let v492 := k0_pay14 (F := F) v103 v104 v428
  let v495 := k0_pay15 (F := F) v103 v104 v151 v428 v429
  let v496 := Scalar.addi v151 v108
  let v535 := k0_pay18 v108 v151 v154 v155 v159 v202 v427 v428 v429 v483 v487 v492 s3
  let v539 := k0_pay19 v427 s4
  let v544 := k0_pay20 (F := F) v205 v206 v428
  let v552 := k0_pay21 v154 v155 v159 v202 v205 v206 v210 v253 v427 v428 v429 v474 v487 v495 v496 s3 s4
  k0_pay25 v210 v253 v254 v256 v257 v261 v280 v427 v428 v429 v535 v539 v544 s5

set_option maxHeartbeats 1000000 in
/-- A later step up to its weight block, the next block's rows started. -/
theorem part12_later (c : Dev nD) (i : grid0.Coords) (arg1 : Memref sig .tc .smem S11 .i32) (harg1 : arg1.IsWhole) (arg2 : Memref sig .tc .smem S11 .i32) (harg2 : arg2.IsWhole) (arg3 : Memref sig .tc .smem S7 .i32) (harg3 : arg3.IsWhole) (arg4 : Memref sig .tc .smem S6 .i32) (harg4 : arg4.IsWhole) (arg5 : Memref sig .tc .smem S11 .f32) (harg5 : arg5.IsWhole) (arg6 : Memref sig .tc .vmem S128x4096 .bf16) (harg6 : arg6.IsWhole) (arg7 : Memref sig .tc .vmem S512x512 .i32) (harg7 : arg7.IsWhole) (arg8 : Memref sig .tc .vmem S128x512 .i8) (harg8 : arg8.IsWhole) (arg11 : Memref sig .tc .vmem S128x512 .bf16) (harg11 : arg11.IsWhole) (arg12 : Memref sig .tc .vmem S128x64 .bf16) (harg12 : arg12.IsWhole) (arg0 : BitVec 32) (v0 : Elt F .i32) (k0_hw1 : k0_chk1 i v0) (v1 : Elt F .i32) (v2 : Elt F .i32) (v4 : Elt F .i32) (v6 : Elt F .i32) (k0_hw7 : k0_chk7 i v1 v2 v4 v6) (v23 : BitVec 32) (v47 : BitVec 32) (v49 : BitVec 32) (v50 : BitVec 32) (v51 : Elt F .i32) (k0_hw2 : k0_chk2 i v51) (v52 : Elt F .i32) (v53 : Elt F .i32) (v55 : Elt F .i32) (v57 : Elt F .i32) (k0_hw8 : k0_chk8 i v1 v2 v4 v6 v52 v53 v55 v57) (v74 : BitVec 32) (v98 : BitVec 32) (v100 : BitVec 32) (v101 : BitVec 32) (v102 : Elt F .i32) (k0_hw3 : k0_chk3 i v102) (v103 : Elt F .i32) (v104 : Elt F .i32) (v106 : Elt F .i32) (v108 : Elt F .i32) (k0_hw9 : k0_chk9 i v1 v2 v4 v6 v52 v53 v55 v57 v103 v104 v106 v108) (v125 : BitVec 32) (v149 : BitVec 32) (v151 : BitVec 32) (v152 : BitVec 32) (v153 : Elt F .i32) (k0_hw4 : k0_chk4 i v153) (v154 : Elt F .i32) (v155 : Elt F .i32) (v157 : Elt F .i32) (v159 : Elt F .i32) (k0_hw10 : k0_chk10 i v1 v2 v4 v6 v52 v53 v55 v57 v103 v104 v106 v108 v154 v155 v157 v159) (v176 : BitVec 32) (v200 : BitVec 32) (v202 : BitVec 32) (v203 : BitVec 32) (v204 : Elt F .i32) (k0_hw5 : k0_chk5 i v204) (v205 : Elt F .i32) (v206 : Elt F .i32) (v208 : Elt F .i32) (v210 : Elt F .i32) (k0_hw11 : k0_chk11 i v1 v2 v4 v6 v52 v53 v55 v57 v103 v104 v106 v108 v154 v155 v157 v159 v205 v206 v208 v210) (v227 : BitVec 32) (v251 : BitVec 32) (v253 : BitVec 32) (v254 : BitVec 32) (v255 : Elt F .i32) (k0_hw6 : k0_chk6 i v255) (v256 : Elt F .i32) (v257 : Elt F .i32) (v259 : Elt F .i32) (v261 : Elt F .i32) (k0_hw12 : k0_chk12 i v1 v2 v4 v6 v52 v53 v55 v57 v103 v104 v106 v108 v154 v155 v157 v159 v205 v206 v208 v210 v256 v257 v259 v261) (v278 : BitVec 32) (v280 : BitVec 32) (v281 : BitVec 1) (v282 : BitVec 32) (c8_i32_113 : BitVec 32) (hi0 : (i 0).val ≠ 0) (hi1 : (i 0).val + 1 < 28)
    (sg : Fin 6 → Seg) (hsg : sg = (mkSg v1 v2 v4 v6 v52 v53 v55 v57 v103 v104 v106 v108 v154 v155 v157 v159 v205 v206 v208 v210 v256 v257 v259 v261)) (ok : ∀ s, (sg s).OK) (pa : S900x4096.Idx → Elt F .bf16) (pb : S900x14336.Idx → Elt F .bf16) (q7 : PosShare TreeShare) (d7 : S512x512.Idx → Elt F .i32) {Q : _ → sProp 𝕄} :
    iprop(six (cB c sg (pW' i).toNat pb) ∗ owns (c : Thread nD τ) arg7 q7 d7
        ∗ (∀ z, iprop(six (fB c sg (pW' i).toNat (qW' i).toNat ((i 0).val + 1) pb) ∗ owns (c : Thread nD τ) arg7 q7 d7) -∗ Q ⟨z, iota .tc S512x8x512 32 [1] iota_S512x8x512_d1_w32, k0_pay26 d7⟩))
      ⊢ wp frame (wpE (defs₀ (F := F)) Variants.none (c : Thread nD τ) none) Set.univ (k0_part12 (F := F) i arg1 harg1 arg2 harg2 arg3 harg3 arg4 harg4 arg5 harg5 arg6 harg6 arg7 harg7 arg8 harg8 PAm (Memref.isWhole_whole _) PBm (Memref.isWhole_whole _) arg11 harg11 arg12 harg12 Am (Memref.isWhole_whole _) Bm (Memref.isWhole_whole _) Hm (Memref.isWhole_whole _) cc0_scratch3 cc0_scratch4 arg0 v0 k0_hw1 v1 v2 v4 v6 k0_hw7 v23 v47 v49 v50 v51 k0_hw2 v52 v53 v55 v57 k0_hw8 v74 v98 v100 v101 v102 k0_hw3 v103 v104 v106 v108 k0_hw9 v125 v149 v151 v152 v153 k0_hw4 v154 v155 v157 v159 k0_hw10 v176 v200 v202 v203 v204 k0_hw5 v205 v206 v208 v210 k0_hw11 v227 v251 v253 v254 v255 k0_hw6 v256 v257 v259 v261 k0_hw12 v278 v280 v281 v282 c8_i32_113) Q := by
  have k0_h1 : ¬ k0_cond1 i = 1#1 := fun h => hi0 ((cond1_iff i).1 h)
  have k0_h21 : ¬ k0_cond21 i = 1#1 := fun h => hi0 ((cond21_iff i).1 h)
  have k0_h14 : k0_cond14 i = 1#1 := (cond14_iff i).2 hi1
  rw [k0_part12_eq_skeleton]; unfold k0_part12_skel
  iintro ⟨HD, H7, Hk⟩
  have hC0 : guardW (sg 0) = 1#1 ↔ 0 < gy sg 0 := guard_gy sg ok 0
  have hC1 : guardW (sg 1) = 1#1 ↔ 0 < gy sg 1 := guard_gy sg ok 1
  have hC2 : guardW (sg 2) = 1#1 ↔ 0 < gy sg 2 := guard_gy sg ok 2
  have hC3 : guardW (sg 3) = 1#1 ↔ 0 < gy sg 3 := guard_gy sg ok 3
  have hC4 : guardW (sg 4) = 1#1 ↔ 0 < gy sg 4 := guard_gy sg ok 4
  have hC5 : guardW (sg 5) = 1#1 ↔ 0 < gy sg 5 := guard_gy sg ok 5
  iapply (ifF c k0_h1)
  icases HD with ⟨D0, D1, D2, D3, D4, D5⟩
  iapply (ifT c k0_h14)
  iapply (startB c (C := k0_cond15 v1 v2 v4 v6 = 1#1) (p := (pW' i).toNat) (q := (qW' i).toNat) (x := gx sg 0) (y := gy sg 0) (g := gg sg 0) 0 (qB (pW' i).toNat 0) pb (FB sg pb ((i 0).val + 1)) (by rw [hsg] at hC0 ⊢; exact hC0) (pW'_le i)
    (fun i' j' _ h1 h2 h3 h4 => FB_at sg ok pb ((i 0).val + 1) (by omega) 0 i' j' h1 h2 h3 (by rw [h4, qW'_toNat])) (by rw [hsg]; rfl) (by rw [hsg]; rfl) (by rw [hsg]; rfl) (by rw [hsg]; rfl) rfl) $$ D0
  iintro D0
  iapply (startB c (C := k0_cond16 v52 v53 v55 v57 = 1#1) (p := (pW' i).toNat) (q := (qW' i).toNat) (x := gx sg 1) (y := gy sg 1) (g := gg sg 1) 1 (qB (pW' i).toNat 1) pb (FB sg pb ((i 0).val + 1)) (by rw [hsg] at hC1 ⊢; exact hC1) (pW'_le i)
    (fun i' j' _ h1 h2 h3 h4 => FB_at sg ok pb ((i 0).val + 1) (by omega) 1 i' j' h1 h2 h3 (by rw [h4, qW'_toNat])) (by rw [hsg]; rfl) (by rw [hsg]; rfl) (by rw [hsg]; rfl) (by rw [hsg]; rfl) rfl) $$ D1
  iintro D1
  iapply (startB c (C := k0_cond17 v103 v104 v106 v108 = 1#1) (p := (pW' i).toNat) (q := (qW' i).toNat) (x := gx sg 2) (y := gy sg 2) (g := gg sg 2) 2 (qB (pW' i).toNat 2) pb (FB sg pb ((i 0).val + 1)) (by rw [hsg] at hC2 ⊢; exact hC2) (pW'_le i)
    (fun i' j' _ h1 h2 h3 h4 => FB_at sg ok pb ((i 0).val + 1) (by omega) 2 i' j' h1 h2 h3 (by rw [h4, qW'_toNat])) (by rw [hsg]; rfl) (by rw [hsg]; rfl) (by rw [hsg]; rfl) (by rw [hsg]; rfl) rfl) $$ D2
  iintro D2
  iapply (startB c (C := k0_cond18 v154 v155 v157 v159 = 1#1) (p := (pW' i).toNat) (q := (qW' i).toNat) (x := gx sg 3) (y := gy sg 3) (g := gg sg 3) 3 (qB (pW' i).toNat 3) pb (FB sg pb ((i 0).val + 1)) (by rw [hsg] at hC3 ⊢; exact hC3) (pW'_le i)
    (fun i' j' _ h1 h2 h3 h4 => FB_at sg ok pb ((i 0).val + 1) (by omega) 3 i' j' h1 h2 h3 (by rw [h4, qW'_toNat])) (by rw [hsg]; rfl) (by rw [hsg]; rfl) (by rw [hsg]; rfl) (by rw [hsg]; rfl) rfl) $$ D3
  iintro D3
  iapply (startB c (C := k0_cond19 v205 v206 v208 v210 = 1#1) (p := (pW' i).toNat) (q := (qW' i).toNat) (x := gx sg 4) (y := gy sg 4) (g := gg sg 4) 4 (qB (pW' i).toNat 4) pb (FB sg pb ((i 0).val + 1)) (by rw [hsg] at hC4 ⊢; exact hC4) (pW'_le i)
    (fun i' j' _ h1 h2 h3 h4 => FB_at sg ok pb ((i 0).val + 1) (by omega) 4 i' j' h1 h2 h3 (by rw [h4, qW'_toNat])) (by rw [hsg]; rfl) (by rw [hsg]; rfl) (by rw [hsg]; rfl) (by rw [hsg]; rfl) rfl) $$ D4
  iintro D4
  iapply (startB c (C := k0_cond20 v256 v257 v259 v261 = 1#1) (p := (pW' i).toNat) (q := (qW' i).toNat) (x := gx sg 5) (y := gy sg 5) (g := gg sg 5) 5 (qB (pW' i).toNat 5) pb (FB sg pb ((i 0).val + 1)) (by rw [hsg] at hC5 ⊢; exact hC5) (pW'_le i)
    (fun i' j' _ h1 h2 h3 h4 => FB_at sg ok pb ((i 0).val + 1) (by omega) 5 i' j' h1 h2 h3 (by rw [h4, qW'_toNat])) (by rw [hsg]; rfl) (by rw [hsg]; rfl) (by rw [hsg]; rfl) (by rw [hsg]; rfl) rfl) $$ D5
  iintro D5
  iapply (ifF c k0_h21)
  iapply (ldO c arg7 d7) $$ H7
  iintro H7
  iapply (wp_retE c)
  iapply Hk
  isplitl [D0 D1 D2 D3 D4 D5]
  · isplitl [D0]
    · iexact D0
    isplitl [D1]
    · iexact D1
    isplitl [D2]
    · iexact D2
    isplitl [D3]
    · iexact D3
    isplitl [D4]
    · iexact D4
    iexact D5
  iexact H7

set_option maxHeartbeats 1000000 in
/-- A later step up to its weight block, the last: nothing to start. -/
theorem part12_last (c : Dev nD) (i : grid0.Coords) (arg1 : Memref sig .tc .smem S11 .i32) (harg1 : arg1.IsWhole) (arg2 : Memref sig .tc .smem S11 .i32) (harg2 : arg2.IsWhole) (arg3 : Memref sig .tc .smem S7 .i32) (harg3 : arg3.IsWhole) (arg4 : Memref sig .tc .smem S6 .i32) (harg4 : arg4.IsWhole) (arg5 : Memref sig .tc .smem S11 .f32) (harg5 : arg5.IsWhole) (arg6 : Memref sig .tc .vmem S128x4096 .bf16) (harg6 : arg6.IsWhole) (arg7 : Memref sig .tc .vmem S512x512 .i32) (harg7 : arg7.IsWhole) (arg8 : Memref sig .tc .vmem S128x512 .i8) (harg8 : arg8.IsWhole) (arg11 : Memref sig .tc .vmem S128x512 .bf16) (harg11 : arg11.IsWhole) (arg12 : Memref sig .tc .vmem S128x64 .bf16) (harg12 : arg12.IsWhole) (arg0 : BitVec 32) (v0 : Elt F .i32) (k0_hw1 : k0_chk1 i v0) (v1 : Elt F .i32) (v2 : Elt F .i32) (v4 : Elt F .i32) (v6 : Elt F .i32) (k0_hw7 : k0_chk7 i v1 v2 v4 v6) (v23 : BitVec 32) (v47 : BitVec 32) (v49 : BitVec 32) (v50 : BitVec 32) (v51 : Elt F .i32) (k0_hw2 : k0_chk2 i v51) (v52 : Elt F .i32) (v53 : Elt F .i32) (v55 : Elt F .i32) (v57 : Elt F .i32) (k0_hw8 : k0_chk8 i v1 v2 v4 v6 v52 v53 v55 v57) (v74 : BitVec 32) (v98 : BitVec 32) (v100 : BitVec 32) (v101 : BitVec 32) (v102 : Elt F .i32) (k0_hw3 : k0_chk3 i v102) (v103 : Elt F .i32) (v104 : Elt F .i32) (v106 : Elt F .i32) (v108 : Elt F .i32) (k0_hw9 : k0_chk9 i v1 v2 v4 v6 v52 v53 v55 v57 v103 v104 v106 v108) (v125 : BitVec 32) (v149 : BitVec 32) (v151 : BitVec 32) (v152 : BitVec 32) (v153 : Elt F .i32) (k0_hw4 : k0_chk4 i v153) (v154 : Elt F .i32) (v155 : Elt F .i32) (v157 : Elt F .i32) (v159 : Elt F .i32) (k0_hw10 : k0_chk10 i v1 v2 v4 v6 v52 v53 v55 v57 v103 v104 v106 v108 v154 v155 v157 v159) (v176 : BitVec 32) (v200 : BitVec 32) (v202 : BitVec 32) (v203 : BitVec 32) (v204 : Elt F .i32) (k0_hw5 : k0_chk5 i v204) (v205 : Elt F .i32) (v206 : Elt F .i32) (v208 : Elt F .i32) (v210 : Elt F .i32) (k0_hw11 : k0_chk11 i v1 v2 v4 v6 v52 v53 v55 v57 v103 v104 v106 v108 v154 v155 v157 v159 v205 v206 v208 v210) (v227 : BitVec 32) (v251 : BitVec 32) (v253 : BitVec 32) (v254 : BitVec 32) (v255 : Elt F .i32) (k0_hw6 : k0_chk6 i v255) (v256 : Elt F .i32) (v257 : Elt F .i32) (v259 : Elt F .i32) (v261 : Elt F .i32) (k0_hw12 : k0_chk12 i v1 v2 v4 v6 v52 v53 v55 v57 v103 v104 v106 v108 v154 v155 v157 v159 v205 v206 v208 v210 v256 v257 v259 v261) (v278 : BitVec 32) (v280 : BitVec 32) (v281 : BitVec 1) (v282 : BitVec 32) (c8_i32_113 : BitVec 32) (hi0 : (i 0).val ≠ 0) (hi1 : ¬ (i 0).val + 1 < 28)
    (sg : Fin 6 → Seg) (hsg : sg = (mkSg v1 v2 v4 v6 v52 v53 v55 v57 v103 v104 v106 v108 v154 v155 v157 v159 v205 v206 v208 v210 v256 v257 v259 v261)) (ok : ∀ s, (sg s).OK) (pa : S900x4096.Idx → Elt F .bf16) (pb : S900x14336.Idx → Elt F .bf16) (q7 : PosShare TreeShare) (d7 : S512x512.Idx → Elt F .i32) {Q : _ → sProp 𝕄} :
    iprop(six (cB c sg (pW' i).toNat pb) ∗ owns (c : Thread nD τ) arg7 q7 d7
        ∗ (∀ z, iprop(six (cB c sg (pW' i).toNat pb) ∗ owns (c : Thread nD τ) arg7 q7 d7) -∗ Q ⟨z, iota .tc S512x8x512 32 [1] iota_S512x8x512_d1_w32, k0_pay26 d7⟩))
      ⊢ wp frame (wpE (defs₀ (F := F)) Variants.none (c : Thread nD τ) none) Set.univ (k0_part12 (F := F) i arg1 harg1 arg2 harg2 arg3 harg3 arg4 harg4 arg5 harg5 arg6 harg6 arg7 harg7 arg8 harg8 PAm (Memref.isWhole_whole _) PBm (Memref.isWhole_whole _) arg11 harg11 arg12 harg12 Am (Memref.isWhole_whole _) Bm (Memref.isWhole_whole _) Hm (Memref.isWhole_whole _) cc0_scratch3 cc0_scratch4 arg0 v0 k0_hw1 v1 v2 v4 v6 k0_hw7 v23 v47 v49 v50 v51 k0_hw2 v52 v53 v55 v57 k0_hw8 v74 v98 v100 v101 v102 k0_hw3 v103 v104 v106 v108 k0_hw9 v125 v149 v151 v152 v153 k0_hw4 v154 v155 v157 v159 k0_hw10 v176 v200 v202 v203 v204 k0_hw5 v205 v206 v208 v210 k0_hw11 v227 v251 v253 v254 v255 k0_hw6 v256 v257 v259 v261 k0_hw12 v278 v280 v281 v282 c8_i32_113) Q := by
  have k0_h1 : ¬ k0_cond1 i = 1#1 := fun h => hi0 ((cond1_iff i).1 h)
  have k0_h21 : ¬ k0_cond21 i = 1#1 := fun h => hi0 ((cond21_iff i).1 h)
  have k0_h14 : ¬ k0_cond14 i = 1#1 := fun h => hi1 ((cond14_iff i).1 h)
  rw [k0_part12_eq_skeleton]; unfold k0_part12_skel
  iintro ⟨HD, H7, Hk⟩
  iapply (ifF c k0_h1)
  iapply (ifF c k0_h14)
  iapply (ifF c k0_h21)
  iapply (ldO c arg7 d7) $$ H7
  iintro H7
  iapply (wp_retE c)
  iapply Hk
  isplitl [HD]
  · iexact HD
  iexact H7

end Cert.KernelIdeal.Hand

end
-- ==== Proof.IPart14.lean ====
/- Hand-written, untrusted: a step from its weight block on. -/
module

public import proofs.«01_k».proof.Proof.IOwn

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 1000000 in
/-- The scales and the activations read, the first five segments' output-side rows landed. -/
theorem part14_run (c : Dev nD) (i : grid0.Coords) (arg1 : Memref sig .tc .smem S11 .i32) (harg1 : arg1.IsWhole) (arg2 : Memref sig .tc .smem S11 .i32) (harg2 : arg2.IsWhole) (arg3 : Memref sig .tc .smem S7 .i32) (harg3 : arg3.IsWhole) (arg4 : Memref sig .tc .smem S6 .i32) (harg4 : arg4.IsWhole) (arg5 : Memref sig .tc .smem S11 .f32) (harg5 : arg5.IsWhole) (arg6 : Memref sig .tc .vmem S128x4096 .bf16) (harg6 : arg6.IsWhole) (arg7 : Memref sig .tc .vmem S512x512 .i32) (harg7 : arg7.IsWhole) (arg8 : Memref sig .tc .vmem S128x512 .i8) (harg8 : arg8.IsWhole) (arg11 : Memref sig .tc .vmem S128x512 .bf16) (harg11 : arg11.IsWhole) (arg12 : Memref sig .tc .vmem S128x64 .bf16) (harg12 : arg12.IsWhole) (arg0 : BitVec 32) (v1 : Elt F .i32) (v2 : Elt F .i32) (v4 : Elt F .i32) (v6 : Elt F .i32) (k0_hw7 : k0_chk7 i v1 v2 v4 v6) (v23 : BitVec 32) (v47 : BitVec 32) (v50 : BitVec 32) (v52 : Elt F .i32) (v53 : Elt F .i32) (v55 : Elt F .i32) (v57 : Elt F .i32) (k0_hw8 : k0_chk8 i v1 v2 v4 v6 v52 v53 v55 v57) (v74 : BitVec 32) (v98 : BitVec 32) (v101 : BitVec 32) (v103 : Elt F .i32) (v104 : Elt F .i32) (v106 : Elt F .i32) (v108 : Elt F .i32) (k0_hw9 : k0_chk9 i v1 v2 v4 v6 v52 v53 v55 v57 v103 v104 v106 v108) (v125 : BitVec 32) (v149 : BitVec 32) (v152 : BitVec 32) (v154 : Elt F .i32) (v155 : Elt F .i32) (v157 : Elt F .i32) (v159 : Elt F .i32) (k0_hw10 : k0_chk10 i v1 v2 v4 v6 v52 v53 v55 v57 v103 v104 v106 v108 v154 v155 v157 v159) (v176 : BitVec 32) (v200 : BitVec 32) (v203 : BitVec 32) (v205 : Elt F .i32) (v206 : Elt F .i32) (v208 : Elt F .i32) (v210 : Elt F .i32) (k0_hw11 : k0_chk11 i v1 v2 v4 v6 v52 v53 v55 v57 v103 v104 v106 v108 v154 v155 v157 v159 v205 v206 v208 v210) (v227 : BitVec 32) (v251 : BitVec 32) (v354 : FVec F S4096x512 .f32) (v358 : IVec S4096x512 1) (v256 : Elt F .i32) (v257 : Elt F .i32) (v259 : Elt F .i32) (v261 : Elt F .i32)
    (sg : Fin 6 → Seg) (hsg : sg = (mkSg v1 v2 v4 v6 v52 v53 v55 v57 v103 v104 v106 v108 v154 v155 v157 v159 v205 v206 v208 v210 v256 v257 v259 v261)) (ok : ∀ s, (sg s).OK) (pb : S900x14336.Idx → Elt F .bf16)
    (q6 q8 : PosShare TreeShare) (d6 : S128x4096.Idx → Elt F .bf16) (d8 : S128x512.Idx → Elt F .i8) {Q : _ → sProp 𝕄} :
    iprop((fB c sg (pW i).toNat (qW i).toNat (i 0).val pb 0 ∗ fB c sg (pW i).toNat (qW i).toNat (i 0).val pb 1 ∗ fB c sg (pW i).toNat (qW i).toNat (i 0).val pb 2 ∗ fB c sg (pW i).toNat (qW i).toNat (i 0).val pb 3 ∗ fB c sg (pW i).toNat (qW i).toNat (i 0).val pb 4) ∗ (∃ W, owes (c : Thread nD τ) 0 W) ∗ owns (c : Thread nD τ) arg6 q6 d6 ∗ owns (c : Thread nD τ) arg8 q8 d8
        ∗ (iprop((dB c sg (pW i).toNat (i 0).val pb 0 ∗ dB c sg (pW i).toNat (i 0).val pb 1 ∗ dB c sg (pW i).toNat (i 0).val pb 2 ∗ dB c sg (pW i).toNat (i 0).val pb 3 ∗ dB c sg (pW i).toNat (i 0).val pb 4) ∗ (∃ W, owes (c : Thread nD τ) 0 W) ∗ owns (c : Thread nD τ) arg6 q6 d6 ∗ owns (c : Thread nD τ) arg8 q8 d8) -∗ Q ⟨k0_pay30 v354 v358 d8 d6, 0#32⟩))
      ⊢ wp frame (wpE (defs₀ (F := F)) Variants.none (c : Thread nD τ) none) Set.univ (k0_part14 (F := F) i arg1 harg1 arg2 harg2 arg3 harg3 arg4 harg4 arg5 harg5 arg6 harg6 arg7 harg7 arg8 harg8 PAm (Memref.isWhole_whole _) PBm (Memref.isWhole_whole _) arg11 harg11 arg12 harg12 Am (Memref.isWhole_whole _) Bm (Memref.isWhole_whole _) Hm (Memref.isWhole_whole _) cc0_scratch3 cc0_scratch4 arg0 v1 v2 v4 v6 k0_hw7 v23 v47 v50 v52 v53 v55 v57 k0_hw8 v74 v98 v101 v103 v104 v106 v108 k0_hw9 v125 v149 v152 v154 v155 v157 v159 k0_hw10 v176 v200 v203 v205 v206 v208 v210 k0_hw11 v227 v251 v354 v358) Q := by
  rw [k0_part14_eq_skeleton]; unfold k0_part14_skel
  iintro ⟨⟨B0, B1, B2, B3, B4⟩, HO, H6, H8, Hk⟩
  have hC0 : guardW (sg 0) = 1#1 ↔ 0 < gy sg 0 := guard_gy sg ok 0
  have hC1 : guardW (sg 1) = 1#1 ↔ 0 < gy sg 1 := guard_gy sg ok 1
  have hC2 : guardW (sg 2) = 1#1 ↔ 0 < gy sg 2 := guard_gy sg ok 2
  have hC3 : guardW (sg 3) = 1#1 ↔ 0 < gy sg 3 := guard_gy sg ok 3
  have hC4 : guardW (sg 4) = 1#1 ↔ 0 < gy sg 4 := guard_gy sg ok 4
  have hC5 : guardW (sg 5) = 1#1 ↔ 0 < gy sg 5 := guard_gy sg ok 5
  iapply (ldO c arg8 d8) $$ H8
  iintro H8
  iapply (ldO c arg6 d6) $$ H6
  iintro H6
  iapply (waitB c (C := k0_cond28 v1 v2 v4 v6 = 1#1) (p := (pW i).toNat) (q := (qW i).toNat) (x := gx sg 0) (y := gy sg 0) (g := gg sg 0) 0 (qB (pW i).toNat 0) pb (FB sg pb (i 0).val) (by rw [hsg] at hC0 ⊢; exact hC0) (pW_le i) (by rw [hsg]; rfl) rfl) $$ [B0 HO]
  · isplitl [B0]
    · iexact B0
    iexact HO
  iintro ⟨B0, HO⟩
  iapply (waitB c (C := k0_cond29 v52 v53 v55 v57 = 1#1) (p := (pW i).toNat) (q := (qW i).toNat) (x := gx sg 1) (y := gy sg 1) (g := gg sg 1) 1 (qB (pW i).toNat 1) pb (FB sg pb (i 0).val) (by rw [hsg] at hC1 ⊢; exact hC1) (pW_le i) (by rw [hsg]; rfl) rfl) $$ [B1 HO]
  · isplitl [B1]
    · iexact B1
    iexact HO
  iintro ⟨B1, HO⟩
  iapply (waitB c (C := k0_cond30 v103 v104 v106 v108 = 1#1) (p := (pW i).toNat) (q := (qW i).toNat) (x := gx sg 2) (y := gy sg 2) (g := gg sg 2) 2 (qB (pW i).toNat 2) pb (FB sg pb (i 0).val) (by rw [hsg] at hC2 ⊢; exact hC2) (pW_le i) (by rw [hsg]; rfl) rfl) $$ [B2 HO]
  · isplitl [B2]
    · iexact B2
    iexact HO
  iintro ⟨B2, HO⟩
  iapply (waitB c (C := k0_cond31 v154 v155 v157 v159 = 1#1) (p := (pW i).toNat) (q := (qW i).toNat) (x := gx sg 3) (y := gy sg 3) (g := gg sg 3) 3 (qB (pW i).toNat 3) pb (FB sg pb (i 0).val) (by rw [hsg] at hC3 ⊢; exact hC3) (pW_le i) (by rw [hsg]; rfl) rfl) $$ [B3 HO]
  · isplitl [B3]
    · iexact B3
    iexact HO
  iintro ⟨B3, HO⟩
  iapply (waitB c (C := k0_cond32 v205 v206 v208 v210 = 1#1) (p := (pW i).toNat) (q := (qW i).toNat) (x := gx sg 4) (y := gy sg 4) (g := gg sg 4) 4 (qB (pW i).toNat 4) pb (FB sg pb (i 0).val) (by rw [hsg] at hC4 ⊢; exact hC4) (pW_le i) (by rw [hsg]; rfl) rfl) $$ [B4 HO]
  · isplitl [B4]
    · iexact B4
    iexact HO
  iintro ⟨B4, HO⟩
  iapply (wp_retE c)
  iapply Hk
  isplitl [B0 B1 B2 B3 B4]
  · isplitl [B0]
    · iexact B0
    isplitl [B1]
    · iexact B1
    isplitl [B2]
    · iexact B2
    isplitl [B3]
    · iexact B3
    iexact B4
  isplitl [HO]
  · iexact HO
  isplitl [H6]
  · iexact H6
  iexact H8

/-- The block of the output side a step multiplies by: its slot, read as the kernel reads it. -/
def slotRd (i : grid0.Coords) (f : S2x512x512.Idx → Elt F .bf16) : S1x512x512.Idx → Elt F .bf16 :=
  Bm.view.readAt (Elt F) (Rect.unit (s := S2x512x512) (k0_off91 i) S1x512x512.size (k0_off91_inb i)).toLoadRect f

/-- Reading the slot of the output-side buffer, whose rows alone are held. -/
theorem ldSlot (c : Dev nD) (i : grid0.Coords) (f : S2x512x512.Idx → Elt F .bf16)
    {hl : Bm.view.LoadsAt (Rect.unit (s := S2x512x512) (k0_off91 i) S1x512x512.size (k0_off91_inb i)).toLoadRect} {α : Type}
    {k : (S1x512x512.Idx → Elt F .bf16) → Prog (TpuEff nD τ sig (Elt F) Λ₀ .tc) α} {Q : α → sProp 𝕄} :
    (ptB c (slotB (pW i).toNat) f : sProp 𝕄)
      ⊢ iprop((ptB c (slotB (pW i).toNat) f -∗ wp frame (wpE (defs₀ (F := F)) Variants.none (c : Thread nD τ) none) Set.univ (k (slotRd i f)) Q)
        -∗ wp frame (wpE (defs₀ (F := F)) Variants.none (c : Thread nD τ) none) Set.univ (Prog.lift (.load Bm (Rect.unit (s := S2x512x512) (k0_off91 i) S1x512x512.size (k0_off91_inb i)).toLoadRect hl) >>= k) Q) :=
  wp_load (defs := defs₀ (F := F)) (Γ := .empty) (m := Bm) (r := (Rect.unit (s := S2x512x512) (k0_off91 i) S1x512x512.size (k0_off91_inb i)).toLoadRect) (hl := hl) (k := k) (Q := Q)
    (f := (f : Buf (Elt F) (Bm.view.loc (c : Thread nD τ)))) Variants.none (c : Thread nD τ) none Set.univ (S := slotB (pW i).toNat) (by
      intro y hy
      obtain ⟨x, hx, rfl⟩ := Finset.mem_map.1 hy
      rw [← Rect.map_emb_univ] at hx
      obtain ⟨z, -, rfl⟩ := Finset.mem_map.1 hx
      refine Finset.mem_filter.2 ⟨Finset.mem_univ _, ?_⟩
      show (k0_off91 i) 0 + 1 * (z 0).val = _
      have h0 : (z 0).val < 1 := (z 0).isLt
      have h1 : (k0_off91 i) 0 = (pW i).toNat := rfl
      rw [h1]; omega)

end Cert.KernelIdeal.Hand

end
-- ==== Proof.ITail.lean ====
/- Hand-written, untrusted: a step from its weight block to its end. -/
module

public import proofs.«01_k».proof.Proof.IPart12
public import proofs.«01_k».proof.Proof.IPart14

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A step from its weight block on. -/
def root2 (i : grid0.Coords) (arg1 : Memref sig .tc .smem S11 .i32) (harg1 : arg1.IsWhole) (arg2 : Memref sig .tc .smem S11 .i32) (harg2 : arg2.IsWhole) (arg3 : Memref sig .tc .smem S7 .i32) (harg3 : arg3.IsWhole) (arg4 : Memref sig .tc .smem S6 .i32) (harg4 : arg4.IsWhole) (arg5 : Memref sig .tc .smem S11 .f32) (harg5 : arg5.IsWhole) (arg6 : Memref sig .tc .vmem S128x4096 .bf16) (harg6 : arg6.IsWhole) (arg7 : Memref sig .tc .vmem S512x512 .i32) (harg7 : arg7.IsWhole) (arg8 : Memref sig .tc .vmem S128x512 .i8) (harg8 : arg8.IsWhole) (arg11 : Memref sig .tc .vmem S128x512 .bf16) (harg11 : arg11.IsWhole) (arg12 : Memref sig .tc .vmem S128x64 .bf16) (harg12 : arg12.IsWhole) (arg0 : BitVec 32) (v1 : Elt F .i32) (v2 : Elt F .i32) (v4 : Elt F .i32) (v6 : Elt F .i32) (k0_hw7 : k0_chk7 i v1 v2 v4 v6) (v23 : BitVec 32) (v47 : BitVec 32) (v50 : BitVec 32) (v52 : Elt F .i32) (v53 : Elt F .i32) (v55 : Elt F .i32) (v57 : Elt F .i32) (k0_hw8 : k0_chk8 i v1 v2 v4 v6 v52 v53 v55 v57) (v74 : BitVec 32) (v98 : BitVec 32) (v101 : BitVec 32) (v103 : Elt F .i32) (v104 : Elt F .i32) (v106 : Elt F .i32) (v108 : Elt F .i32) (k0_hw9 : k0_chk9 i v1 v2 v4 v6 v52 v53 v55 v57 v103 v104 v106 v108) (v125 : BitVec 32) (v149 : BitVec 32) (v152 : BitVec 32) (v154 : Elt F .i32) (v155 : Elt F .i32) (v157 : Elt F .i32) (v159 : Elt F .i32) (k0_hw10 : k0_chk10 i v1 v2 v4 v6 v52 v53 v55 v57 v103 v104 v106 v108 v154 v155 v157 v159) (v176 : BitVec 32) (v200 : BitVec 32) (v203 : BitVec 32) (v205 : Elt F .i32) (v206 : Elt F .i32) (v208 : Elt F .i32) (v210 : Elt F .i32) (k0_hw11 : k0_chk11 i v1 v2 v4 v6 v52 v53 v55 v57 v103 v104 v106 v108 v154 v155 v157 v159 v205 v206 v208 v210) (v227 : BitVec 32) (v251 : BitVec 32) (v254 : BitVec 32) (v256 : Elt F .i32) (v257 : Elt F .i32) (v259 : Elt F .i32) (v261 : Elt F .i32) (k0_hw12 : k0_chk12 i v1 v2 v4 v6 v52 v53 v55 v57 v103 v104 v106 v108 v154 v155 v157 v159 v205 v206 v208 v210 v256 v257 v259 v261) (v316 : IVec S512x8x512 32) (v317 : IVec S512x1x512 32) : Prog (TpuEff nD τ sig (Elt F) Λ₀ .tc) PUnit := do
  let ⟨v354, v358⟩ : Σ' (v354 : FVec F S4096x512 .f32), IVec S4096x512 1 ← k0_part13 i arg1 harg1 arg2 harg2 arg3 harg3 arg4 harg4 arg5 harg5 arg6 harg6 arg7 harg7 arg8 harg8 PAm (Memref.isWhole_whole _) PBm (Memref.isWhole_whole _) arg11 harg11 arg12 harg12 Am (Memref.isWhole_whole _) Bm (Memref.isWhole_whole _) Hm (Memref.isWhole_whole _) cc0_scratch3 cc0_scratch4 v316 v317
  let ⟨v378, c0_i32_165⟩ : Σ' (v378 : FVec F S128x512 .f32), BitVec 32 ← k0_part14 i arg1 harg1 arg2 harg2 arg3 harg3 arg4 harg4 arg5 harg5 arg6 harg6 arg7 harg7 arg8 harg8 PAm (Memref.isWhole_whole _) PBm (Memref.isWhole_whole _) arg11 harg11 arg12 harg12 Am (Memref.isWhole_whole _) Bm (Memref.isWhole_whole _) Hm (Memref.isWhole_whole _) cc0_scratch3 cc0_scratch4 arg0 v1 v2 v4 v6 k0_hw7 v23 v47 v50 v52 v53 v55 v57 k0_hw8 v74 v98 v101 v103 v104 v106 v108 k0_hw9 v125 v149 v152 v154 v155 v157 v159 k0_hw10 v176 v200 v203 v205 v206 v208 v210 k0_hw11 v227 v251 v354 v358
  if k0_h33 : k0_cond33 v256 v257 v259 v261 = 1#1 then do
    let v415 : DmaSems sig S1x1 := cc0_scratch4.slice (Rect.unit (s := S2x6) (k0_off88 i) S1x1.size (k0_off88_inb i))
    let v416 : DmaSems sig S_ := v415.squeeze S_ squeezes_S1x1_S_
    Prog.lift (.waitDma v416.sem Bm.view.ref (⟨2, k0_sz18 v256 v257 v259 v261⟩ : Shape) .bf16 (Or.inl rfl))
    pure ⟨⟩
  else do
    pure ⟨⟩
  let v397 : Vec F S128x512 .bf16 ← Prog.lift (.load Hm (Rect.unit (s := S128x512) ![0, 0] S128x512.size inb_S128x512_S128x512_0_0).toLoadRect (View.loadsAt_vmem h_S128x512))
  let v400 : Vec F S1x512x512 .bf16 ← Prog.lift (.load Bm (Rect.unit (s := S2x512x512) (k0_off91 i) S1x512x512.size (k0_off91_inb i)).toLoadRect (View.loadsAt_vmem h_S1x512x512))
  let v405 : Vec F S128x512 .bf16 ← Prog.lift (.load arg11 (Rect.unit (s := S128x512) ![0, 0] S128x512.size inb_S128x512_S128x512_0_0).toLoadRect (View.loadsAt_vmem h_S128x512))
  Prog.lift (.store arg11 (Rect.unit (s := S128x512) ![0, 0] S128x512.size inb_S128x512_S128x512_0_0) (k0_pay1 v378 v397 v400) Finset.univ (View.stores_vmem h_S128x512 (harg11.storeExact_slice rfl _ packedbf16_S128x512_S128x512_0_0) (fun _ => rfl)) (.inl rfl))
  pure ⟨⟩

set_option maxHeartbeats 1000000 in
/-- From its weight block on, a step waits for its block's rows, and stores its output block. -/
theorem root2_run (c : Dev nD) (i : grid0.Coords) (arg1 : Memref sig .tc .smem S11 .i32) (harg1 : arg1.IsWhole) (arg2 : Memref sig .tc .smem S11 .i32) (harg2 : arg2.IsWhole) (arg3 : Memref sig .tc .smem S7 .i32) (harg3 : arg3.IsWhole) (arg4 : Memref sig .tc .smem S6 .i32) (harg4 : arg4.IsWhole) (arg5 : Memref sig .tc .smem S11 .f32) (harg5 : arg5.IsWhole) (arg6 : Memref sig .tc .vmem S128x4096 .bf16) (harg6 : arg6.IsWhole) (arg7 : Memref sig .tc .vmem S512x512 .i32) (harg7 : arg7.IsWhole) (arg8 : Memref sig .tc .vmem S128x512 .i8) (harg8 : arg8.IsWhole) (arg11 : Memref sig .tc .vmem S128x512 .bf16) (harg11 : arg11.IsWhole) (arg12 : Memref sig .tc .vmem S128x64 .bf16) (harg12 : arg12.IsWhole) (arg0 : BitVec 32) (v1 : Elt F .i32) (v2 : Elt F .i32) (v4 : Elt F .i32) (v6 : Elt F .i32) (k0_hw7 : k0_chk7 i v1 v2 v4 v6) (v23 : BitVec 32) (v47 : BitVec 32) (v50 : BitVec 32) (v52 : Elt F .i32) (v53 : Elt F .i32) (v55 : Elt F .i32) (v57 : Elt F .i32) (k0_hw8 : k0_chk8 i v1 v2 v4 v6 v52 v53 v55 v57) (v74 : BitVec 32) (v98 : BitVec 32) (v101 : BitVec 32) (v103 : Elt F .i32) (v104 : Elt F .i32) (v106 : Elt F .i32) (v108 : Elt F .i32) (k0_hw9 : k0_chk9 i v1 v2 v4 v6 v52 v53 v55 v57 v103 v104 v106 v108) (v125 : BitVec 32) (v149 : BitVec 32) (v152 : BitVec 32) (v154 : Elt F .i32) (v155 : Elt F .i32) (v157 : Elt F .i32) (v159 : Elt F .i32) (k0_hw10 : k0_chk10 i v1 v2 v4 v6 v52 v53 v55 v57 v103 v104 v106 v108 v154 v155 v157 v159) (v176 : BitVec 32) (v200 : BitVec 32) (v203 : BitVec 32) (v205 : Elt F .i32) (v206 : Elt F .i32) (v208 : Elt F .i32) (v210 : Elt F .i32) (k0_hw11 : k0_chk11 i v1 v2 v4 v6 v52 v53 v55 v57 v103 v104 v106 v108 v154 v155 v157 v159 v205 v206 v208 v210) (v227 : BitVec 32) (v251 : BitVec 32) (v254 : BitVec 32) (v256 : Elt F .i32) (v257 : Elt F .i32) (v259 : Elt F .i32) (v261 : Elt F .i32) (k0_hw12 : k0_chk12 i v1 v2 v4 v6 v52 v53 v55 v57 v103 v104 v106 v108 v154 v155 v157 v159 v205 v206 v208 v210 v256 v257 v259 v261) (v316 : IVec S512x8x512 32) (v317 : IVec S512x1x512 32)
    (sg : Fin 6 → Seg) (hsg : sg = (mkSg v1 v2 v4 v6 v52 v53 v55 v57 v103 v104 v106 v108 v154 v155 v157 v159 v205 v206 v208 v210 v256 v257 v259 v261)) (ok : ∀ s, (sg s).OK) (pb : S900x14336.Idx → Elt F .bf16)
    (q6 q8 : PosShare TreeShare) (d6 : S128x4096.Idx → Elt F .bf16) (d8 : S128x512.Idx → Elt F .i8) (hb : S128x512.Idx → Elt F .bf16) {Q : PUnit → sProp 𝕄} :
    iprop(six (fB c sg (pW i).toNat (qW i).toNat (i 0).val pb) ∗ ptB c (restB sg (pW i).toNat) (k0_pay3 (F := F)) ∗ (∃ W, owes (c : Thread nD τ) 0 W) ∗ owns (c : Thread nD τ) arg6 q6 d6 ∗ owns (c : Thread nD τ) arg8 q8 d8 ∗ owns (c : Thread nD τ) Hm fullShare hb ∗ (∃ d, owns (c : Thread nD τ) arg11 fullShare d)
        ∗ (iprop(six (cB c sg (pW i).toNat pb) ∗ ptB c (restB sg (pW i).toNat) (k0_pay3 (F := F)) ∗ (∃ W, owes (c : Thread nD τ) 0 W) ∗ owns (c : Thread nD τ) arg6 q6 d6 ∗ owns (c : Thread nD τ) arg8 q8 d8 ∗ owns (c : Thread nD τ) Hm fullShare hb
            ∗ owns (c : Thread nD τ) arg11 fullShare (k0_pay1 (k0_pay30 (k0_pay28 (F := F) v316 v317) (k0_pay29 v316 v317) d8 d6) hb (slotRd i (FB sg pb (i 0).val)))) -∗ Q ⟨⟩))
      ⊢ wp frame (wpE (defs₀ (F := F)) Variants.none (c : Thread nD τ) none) Set.univ (root2 (F := F) i arg1 harg1 arg2 harg2 arg3 harg3 arg4 harg4 arg5 harg5 arg6 harg6 arg7 harg7 arg8 harg8 arg11 harg11 arg12 harg12 arg0 v1 v2 v4 v6 k0_hw7 v23 v47 v50 v52 v53 v55 v57 k0_hw8 v74 v98 v101 v103 v104 v106 v108 k0_hw9 v125 v149 v152 v154 v155 v157 v159 k0_hw10 v176 v200 v203 v205 v206 v208 v210 k0_hw11 v227 v251 v254 v256 v257 v259 v261 k0_hw12 v316 v317) Q := by
  unfold root2
  iintro ⟨⟨B0, B1, B2, B3, B4, B5⟩, HR, HO, H6, H8, HH, ⟨%d11, H11⟩, Hk⟩
  rw [k0_part13_eq_skeleton]; unfold k0_part13_skel
  iapply (bindE c)
  iapply (wp_retE c)
  iapply (bindE c)
  iapply (part14_run c (sg := sg) (hsg := hsg) (ok := ok) (pb := pb) (q6 := q6) (q8 := q8) (d6 := d6) (d8 := d8) (v256 := v256) (v257 := v257) (v259 := v259) (v261 := v261))
  isplitl [B0 B1 B2 B3 B4]
  · isplitl [B0]
    · iexact B0
    isplitl [B1]
    · iexact B1
    isplitl [B2]
    · iexact B2
    isplitl [B3]
    · iexact B3
    iexact B4
  isplitl [HO]
  · iexact HO
  isplitl [H6]
  · iexact H6
  isplitl [H8]
  · iexact H8
  iintro ⟨⟨B0, B1, B2, B3, B4⟩, HO, H6, H8⟩
  have hC5 : guardW (sg 5) = 1#1 ↔ 0 < gy sg 5 := guard_gy sg ok 5
  iapply (waitB c (C := k0_cond33 v256 v257 v259 v261 = 1#1) (p := (pW i).toNat) (q := (qW i).toNat) (x := gx sg 5) (y := gy sg 5) (g := gg sg 5) 5 (qB (pW i).toNat 5) pb (FB sg pb (i 0).val) (by rw [hsg] at hC5 ⊢; exact hC5) (pW_le i) (by rw [hsg]; rfl) rfl) $$ [B5 HO]
  · isplitl [B5]
    · iexact B5
    iexact HO
  iintro ⟨B5, HO⟩
  iapply (ldO c Hm hb) $$ HH
  iintro HH
  unfold dB doneB
  icases B0 with ⟨B0, P0, S0⟩
  icases B1 with ⟨B1, P1, S1⟩
  icases B2 with ⟨B2, P2, S2⟩
  icases B3 with ⟨B3, P3, S3⟩
  icases B4 with ⟨B4, P4, S4⟩
  icases B5 with ⟨B5, P5, S5⟩
  ihave HR := (Entails.of_eq (FB_rest sg pb c (pW i).toNat (i 0).val)) $$ HR
  ihave HB := (splitB sg ok c (pW i).toNat (FB sg pb (i 0).val)).2 $$ [B0 B1 B2 B3 B4 B5 HR]
  · isplitl [B0 B1 B2 B3 B4 B5]
    · isplitl [B0]
      · iexact B0
      isplitl [B1]
      · iexact B1
      isplitl [B2]
      · iexact B2
      isplitl [B3]
      · iexact B3
      isplitl [B4]
      · iexact B4
      iexact B5
    iexact HR
  iapply (ldSlot c i (FB sg pb (i 0).val)) $$ HB
  iintro HB
  ihave HB := (splitB sg ok c (pW i).toNat (FB sg pb (i 0).val)).1 $$ HB
  icases HB with ⟨HBw, HR⟩
  ihave HR := (Entails.of_eq (FB_rest sg pb c (pW i).toNat (i 0).val).symm) $$ HR
  ihave HcB := (mk_cB c sg (pW i).toNat (FB sg pb (i 0).val) pb) $$ [HBw P0 P1 P2 P3 P4 P5 S0 S1 S2 S3 S4 S5]
  · isplitl [HBw]
    · iexact HBw
    isplitl [P0 P1 P2 P3 P4 P5]
    · isplitl [P0]
      · iexact P0
      isplitl [P1]
      · iexact P1
      isplitl [P2]
      · iexact P2
      isplitl [P3]
      · iexact P3
      isplitl [P4]
      · iexact P4
      iexact P5
    isplitl [S0]
    · iexact S0
    isplitl [S1]
    · iexact S1
    isplitl [S2]
    · iexact S2
    isplitl [S3]
    · iexact S3
    isplitl [S4]
    · iexact S4
    iexact S5
  iapply (ldO c arg11 d11) $$ H11
  iintro H11
  iapply (stO c arg11 d11) $$ H11
  iintro H11
  iapply (wp_retE c)
  iapply Hk
  isplitl [HcB]
  · iexact HcB
  isplitl [HR]
  · iexact HR
  isplitl [HO]
  · iexact HO
  isplitl [H6]
  · iexact H6
  isplitl [H8]
  · iexact H8
  isplitl [HH]
  · iexact HH
  iexact H11

end Cert.KernelIdeal.Hand

end
-- ==== Proof.IWords.lean ====
/- Hand-written, untrusted: the segments' words. -/
module

public import proofs.«01_k».proof.Proof.ITail

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The first rank column of a segment's slot, as the kernel computes it. -/
def colW (sg : Fin 6 → Seg) (s : Fin 6) : BitVec 32 := Scalar.addi (Scalar.muli (slotW (pre sg s)) 8#32) (lW (sg s).st)

/-- A step, its words read. -/
def root1 (i : grid0.Coords) (arg1 : Memref sig .tc .smem S11 .i32) (harg1 : arg1.IsWhole) (arg2 : Memref sig .tc .smem S11 .i32) (harg2 : arg2.IsWhole) (arg3 : Memref sig .tc .smem S7 .i32) (harg3 : arg3.IsWhole) (arg4 : Memref sig .tc .smem S6 .i32) (harg4 : arg4.IsWhole) (arg5 : Memref sig .tc .smem S11 .f32) (harg5 : arg5.IsWhole) (arg6 : Memref sig .tc .vmem S128x4096 .bf16) (harg6 : arg6.IsWhole) (arg7 : Memref sig .tc .vmem S512x512 .i32) (harg7 : arg7.IsWhole) (arg8 : Memref sig .tc .vmem S128x512 .i8) (harg8 : arg8.IsWhole) (arg11 : Memref sig .tc .vmem S128x512 .bf16) (harg11 : arg11.IsWhole) (arg12 : Memref sig .tc .vmem S128x64 .bf16) (harg12 : arg12.IsWhole) (arg0 : BitVec 32) (v0 : Elt F .i32) (k0_hw1 : k0_chk1 i v0) (v1 : Elt F .i32) (v2 : Elt F .i32) (v4 : Elt F .i32) (v6 : Elt F .i32) (k0_hw7 : k0_chk7 i v1 v2 v4 v6) (v23 : BitVec 32) (v47 : BitVec 32) (v49 : BitVec 32) (v50 : BitVec 32) (v51 : Elt F .i32) (k0_hw2 : k0_chk2 i v51) (v52 : Elt F .i32) (v53 : Elt F .i32) (v55 : Elt F .i32) (v57 : Elt F .i32) (k0_hw8 : k0_chk8 i v1 v2 v4 v6 v52 v53 v55 v57) (v74 : BitVec 32) (v98 : BitVec 32) (v100 : BitVec 32) (v101 : BitVec 32) (v102 : Elt F .i32) (k0_hw3 : k0_chk3 i v102) (v103 : Elt F .i32) (v104 : Elt F .i32) (v106 : Elt F .i32) (v108 : Elt F .i32) (k0_hw9 : k0_chk9 i v1 v2 v4 v6 v52 v53 v55 v57 v103 v104 v106 v108) (v125 : BitVec 32) (v149 : BitVec 32) (v151 : BitVec 32) (v152 : BitVec 32) (v153 : Elt F .i32) (k0_hw4 : k0_chk4 i v153) (v154 : Elt F .i32) (v155 : Elt F .i32) (v157 : Elt F .i32) (v159 : Elt F .i32) (k0_hw10 : k0_chk10 i v1 v2 v4 v6 v52 v53 v55 v57 v103 v104 v106 v108 v154 v155 v157 v159) (v176 : BitVec 32) (v200 : BitVec 32) (v202 : BitVec 32) (v203 : BitVec 32) (v204 : Elt F .i32) (k0_hw5 : k0_chk5 i v204) (v205 : Elt F .i32) (v206 : Elt F .i32) (v208 : Elt F .i32) (v210 : Elt F .i32) (k0_hw11 : k0_chk11 i v1 v2 v4 v6 v52 v53 v55 v57 v103 v104 v106 v108 v154 v155 v157 v159 v205 v206 v208 v210) (v227 : BitVec 32) (v251 : BitVec 32) (v253 : BitVec 32) (v254 : BitVec 32) (v255 : Elt F .i32) (k0_hw6 : k0_chk6 i v255) (v256 : Elt F .i32) (v257 : Elt F .i32) (v259 : Elt F .i32) (v261 : Elt F .i32) (k0_hw12 : k0_chk12 i v1 v2 v4 v6 v52 v53 v55 v57 v103 v104 v106 v108 v154 v155 v157 v159 v205 v206 v208 v210 v256 v257 v259 v261) (v278 : BitVec 32) (v280 : BitVec 32) (v281 : BitVec 1) (v282 : BitVec 32) (c8_i32_113 : BitVec 32) : Prog (TpuEff nD τ sig (Elt F) Λ₀ .tc) PUnit := do
  let ⟨v302, v316, v317⟩ : Σ' (v302 : BitVec 32) (v316 : IVec S512x8x512 32), IVec S512x1x512 32 ← k0_part12 i arg1 harg1 arg2 harg2 arg3 harg3 arg4 harg4 arg5 harg5 arg6 harg6 arg7 harg7 arg8 harg8 PAm (Memref.isWhole_whole _) PBm (Memref.isWhole_whole _) arg11 harg11 arg12 harg12 Am (Memref.isWhole_whole _) Bm (Memref.isWhole_whole _) Hm (Memref.isWhole_whole _) cc0_scratch3 cc0_scratch4 arg0 v0 k0_hw1 v1 v2 v4 v6 k0_hw7 v23 v47 v49 v50 v51 k0_hw2 v52 v53 v55 v57 k0_hw8 v74 v98 v100 v101 v102 k0_hw3 v103 v104 v106 v108 k0_hw9 v125 v149 v151 v152 v153 k0_hw4 v154 v155 v157 v159 k0_hw10 v176 v200 v202 v203 v204 k0_hw5 v205 v206 v208 v210 k0_hw11 v227 v251 v253 v254 v255 k0_hw6 v256 v257 v259 v261 k0_hw12 v278 v280 v281 v282 c8_i32_113
  root2 i arg1 harg1 arg2 harg2 arg3 harg3 arg4 harg4 arg5 harg5 arg6 harg6 arg7 harg7 arg8 harg8 arg11 harg11 arg12 harg12 arg0 v1 v2 v4 v6 k0_hw7 v23 v47 v50 v52 v53 v55 v57 k0_hw8 v74 v98 v101 v103 v104 v106 v108 k0_hw9 v125 v149 v152 v154 v155 v157 v159 k0_hw10 v176 v200 v203 v205 v206 v208 v210 k0_hw11 v227 v251 v254 v256 v257 v259 v261 k0_hw12 v316 v317

/-- A step whose words are read, as the program writes it. -/
theorem root1_eq (c : Dev nD) (i : grid0.Coords) (arg1 : Memref sig .tc .smem S11 .i32) (harg1 : arg1.IsWhole) (arg2 : Memref sig .tc .smem S11 .i32) (harg2 : arg2.IsWhole) (arg3 : Memref sig .tc .smem S7 .i32) (harg3 : arg3.IsWhole) (arg4 : Memref sig .tc .smem S6 .i32) (harg4 : arg4.IsWhole) (arg5 : Memref sig .tc .smem S11 .f32) (harg5 : arg5.IsWhole) (arg6 : Memref sig .tc .vmem S128x4096 .bf16) (harg6 : arg6.IsWhole) (arg7 : Memref sig .tc .vmem S512x512 .i32) (harg7 : arg7.IsWhole) (arg8 : Memref sig .tc .vmem S128x512 .i8) (harg8 : arg8.IsWhole) (arg11 : Memref sig .tc .vmem S128x512 .bf16) (harg11 : arg11.IsWhole) (arg12 : Memref sig .tc .vmem S128x64 .bf16) (harg12 : arg12.IsWhole) (arg0 : BitVec 32) (v0 : Elt F .i32) (k0_hw1 : k0_chk1 i v0) (v1 : Elt F .i32) (v2 : Elt F .i32) (v4 : Elt F .i32) (v6 : Elt F .i32) (k0_hw7 : k0_chk7 i v1 v2 v4 v6) (v23 : BitVec 32) (v47 : BitVec 32) (v49 : BitVec 32) (v50 : BitVec 32) (v51 : Elt F .i32) (k0_hw2 : k0_chk2 i v51) (v52 : Elt F .i32) (v53 : Elt F .i32) (v55 : Elt F .i32) (v57 : Elt F .i32) (k0_hw8 : k0_chk8 i v1 v2 v4 v6 v52 v53 v55 v57) (v74 : BitVec 32) (v98 : BitVec 32) (v100 : BitVec 32) (v101 : BitVec 32) (v102 : Elt F .i32) (k0_hw3 : k0_chk3 i v102) (v103 : Elt F .i32) (v104 : Elt F .i32) (v106 : Elt F .i32) (v108 : Elt F .i32) (k0_hw9 : k0_chk9 i v1 v2 v4 v6 v52 v53 v55 v57 v103 v104 v106 v108) (v125 : BitVec 32) (v149 : BitVec 32) (v151 : BitVec 32) (v152 : BitVec 32) (v153 : Elt F .i32) (k0_hw4 : k0_chk4 i v153) (v154 : Elt F .i32) (v155 : Elt F .i32) (v157 : Elt F .i32) (v159 : Elt F .i32) (k0_hw10 : k0_chk10 i v1 v2 v4 v6 v52 v53 v55 v57 v103 v104 v106 v108 v154 v155 v157 v159) (v176 : BitVec 32) (v200 : BitVec 32) (v202 : BitVec 32) (v203 : BitVec 32) (v204 : Elt F .i32) (k0_hw5 : k0_chk5 i v204) (v205 : Elt F .i32) (v206 : Elt F .i32) (v208 : Elt F .i32) (v210 : Elt F .i32) (k0_hw11 : k0_chk11 i v1 v2 v4 v6 v52 v53 v55 v57 v103 v104 v106 v108 v154 v155 v157 v159 v205 v206 v208 v210) (v227 : BitVec 32) (v251 : BitVec 32) (v253 : BitVec 32) (v254 : BitVec 32) (v255 : Elt F .i32) (k0_hw6 : k0_chk6 i v255) (v256 : Elt F .i32) (v257 : Elt F .i32) (v259 : Elt F .i32) (v261 : Elt F .i32) (k0_hw12 : k0_chk12 i v1 v2 v4 v6 v52 v53 v55 v57 v103 v104 v106 v108 v154 v155 v157 v159 v205 v206 v208 v210 v256 v257 v259 v261) (v278 : BitVec 32) (v280 : BitVec 32) (v281 : BitVec 1) (v282 : BitVec 32) (c8_i32_113 : BitVec 32) {Q : PUnit → sProp 𝕄} :
    wp frame (wpE (defs₀ (F := F)) Variants.none (c : Thread nD τ) none) Set.univ (root1 (F := F) i arg1 harg1 arg2 harg2 arg3 harg3 arg4 harg4 arg5 harg5 arg6 harg6 arg7 harg7 arg8 harg8 arg11 harg11 arg12 harg12 arg0 v0 k0_hw1 v1 v2 v4 v6 k0_hw7 v23 v47 v49 v50 v51 k0_hw2 v52 v53 v55 v57 k0_hw8 v74 v98 v100 v101 v102 k0_hw3 v103 v104 v106 v108 k0_hw9 v125 v149 v151 v152 v153 k0_hw4 v154 v155 v157 v159 k0_hw10 v176 v200 v202 v203 v204 k0_hw5 v205 v206 v208 v210 k0_hw11 v227 v251 v253 v254 v255 k0_hw6 v256 v257 v259 v261 k0_hw12 v278 v280 v281 v282 c8_i32_113) Q
      ⊢ wp frame (wpE (defs₀ (F := F)) Variants.none (c : Thread nD τ) none) Set.univ (do
  let ⟨v302, v316, v317⟩ : Σ' (v302 : BitVec 32) (v316 : IVec S512x8x512 32), IVec S512x1x512 32 ← k0_part12 i arg1 harg1 arg2 harg2 arg3 harg3 arg4 harg4 arg5 harg5 arg6 harg6 arg7 harg7 arg8 harg8 PAm (Memref.isWhole_whole _) PBm (Memref.isWhole_whole _) arg11 harg11 arg12 harg12 Am (Memref.isWhole_whole _) Bm (Memref.isWhole_whole _) Hm (Memref.isWhole_whole _) cc0_scratch3 cc0_scratch4 arg0 v0 k0_hw1 v1 v2 v4 v6 k0_hw7 v23 v47 v49 v50 v51 k0_hw2 v52 v53 v55 v57 k0_hw8 v74 v98 v100 v101 v102 k0_hw3 v103 v104 v106 v108 k0_hw9 v125 v149 v151 v152 v153 k0_hw4 v154 v155 v157 v159 k0_hw10 v176 v200 v202 v203 v204 k0_hw5 v205 v206 v208 v210 k0_hw11 v227 v251 v253 v254 v255 k0_hw6 v256 v257 v259 v261 k0_hw12 v278 v280 v281 v282 c8_i32_113
  let ⟨v354, v358⟩ : Σ' (v354 : FVec F S4096x512 .f32), IVec S4096x512 1 ← k0_part13 i arg1 harg1 arg2 harg2 arg3 harg3 arg4 harg4 arg5 harg5 arg6 harg6 arg7 harg7 arg8 harg8 PAm (Memref.isWhole_whole _) PBm (Memref.isWhole_whole _) arg11 harg11 arg12 harg12 Am (Memref.isWhole_whole _) Bm (Memref.isWhole_whole _) Hm (Memref.isWhole_whole _) cc0_scratch3 cc0_scratch4 v316 v317
  let ⟨v378, c0_i32_165⟩ : Σ' (v378 : FVec F S128x512 .f32), BitVec 32 ← k0_part14 i arg1 harg1 arg2 harg2 arg3 harg3 arg4 harg4 arg5 harg5 arg6 harg6 arg7 harg7 arg8 harg8 PAm (Memref.isWhole_whole _) PBm (Memref.isWhole_whole _) arg11 harg11 arg12 harg12 Am (Memref.isWhole_whole _) Bm (Memref.isWhole_whole _) Hm (Memref.isWhole_whole _) cc0_scratch3 cc0_scratch4 arg0 v1 v2 v4 v6 k0_hw7 v23 v47 v50 v52 v53 v55 v57 k0_hw8 v74 v98 v101 v103 v104 v106 v108 k0_hw9 v125 v149 v152 v154 v155 v157 v159 k0_hw10 v176 v200 v203 v205 v206 v208 v210 k0_hw11 v227 v251 v354 v358
  if k0_h33 : k0_cond33 v256 v257 v259 v261 = 1#1 then do
    let v415 : DmaSems sig S1x1 := cc0_scratch4.slice (Rect.unit (s := S2x6) (k0_off88 i) S1x1.size (k0_off88_inb i))
    let v416 : DmaSems sig S_ := v415.squeeze S_ squeezes_S1x1_S_
    Prog.lift (.waitDma v416.sem Bm.view.ref (⟨2, k0_sz18 v256 v257 v259 v261⟩ : Shape) .bf16 (Or.inl rfl))
    pure ⟨⟩
  else do
    pure ⟨⟩
  let v397 : Vec F S128x512 .bf16 ← Prog.lift (.load Hm (Rect.unit (s := S128x512) ![0, 0] S128x512.size inb_S128x512_S128x512_0_0).toLoadRect (View.loadsAt_vmem h_S128x512))
  let v400 : Vec F S1x512x512 .bf16 ← Prog.lift (.load Bm (Rect.unit (s := S2x512x512) (k0_off91 i) S1x512x512.size (k0_off91_inb i)).toLoadRect (View.loadsAt_vmem h_S1x512x512))
  let v405 : Vec F S128x512 .bf16 ← Prog.lift (.load arg11 (Rect.unit (s := S128x512) ![0, 0] S128x512.size inb_S128x512_S128x512_0_0).toLoadRect (View.loadsAt_vmem h_S128x512))
  Prog.lift (.store arg11 (Rect.unit (s := S128x512) ![0, 0] S128x512.size inb_S128x512_S128x512_0_0) (k0_pay1 v378 v397 v400) Finset.univ (View.stores_vmem h_S128x512 (harg11.storeExact_slice rfl _ packedbf16_S128x512_S128x512_0_0) (fun _ => rfl)) (.inl rfl))
  pure ⟨⟩ : Prog (TpuEff nD τ sig (Elt F) Λ₀ .tc) PUnit) Q := .rfl

/-- Reading one word of scalar memory whose value has a name. -/
theorem smV (c : Dev nD) {s : Shape} {e : EltTy} (m : Memref sig .tc .smem s e) {q : PosShare TreeShare} (d : s.Idx → Elt F e)
    {r : Rect s} {h1 : r.shape.numel = 1} {hp : e.packing = 1} {v : Elt F e} (hv : sw d r h1 = v) {α : Type}
    {k : Elt F e → Prog (TpuEff nD τ sig (Elt F) Λ₀ .tc) α} {Q : α → sProp 𝕄} :
    (owns (c : Thread nD τ) m q d : sProp 𝕄)
      ⊢ iprop((owns (c : Thread nD τ) m q d -∗ wp frame (wpE (defs₀ (F := F)) Variants.none (c : Thread nD τ) none) Set.univ (k v) Q) -∗ wp frame (wpE (defs₀ (F := F)) Variants.none (c : Thread nD τ) none) Set.univ (smemLoad m r h1 hp >>= k) Q) := by
  subst hv; exact smO c m d

set_option maxHeartbeats 1000000 in
/-- Reading the segments' words. -/
theorem words_run (c : Dev nD) (i : grid0.Coords) (arg1 : Memref sig .tc .smem S11 .i32) (harg1 : arg1.IsWhole) (arg2 : Memref sig .tc .smem S11 .i32) (harg2 : arg2.IsWhole) (arg3 : Memref sig .tc .smem S7 .i32) (harg3 : arg3.IsWhole) (arg4 : Memref sig .tc .smem S6 .i32) (harg4 : arg4.IsWhole) (arg5 : Memref sig .tc .smem S11 .f32) (harg5 : arg5.IsWhole) (arg6 : Memref sig .tc .vmem S128x4096 .bf16) (harg6 : arg6.IsWhole) (arg7 : Memref sig .tc .vmem S512x512 .i32) (harg7 : arg7.IsWhole) (arg8 : Memref sig .tc .vmem S128x512 .i8) (harg8 : arg8.IsWhole) (arg11 : Memref sig .tc .vmem S128x512 .bf16) (harg11 : arg11.IsWhole) (arg12 : Memref sig .tc .vmem S128x64 .bf16) (harg12 : arg12.IsWhole)
    (q1 q2 q3 q4 : PosShare TreeShare) (d1 : S11.Idx → Elt F .i32) (d2 : S11.Idx → Elt F .i32) (d3 : S7.Idx → Elt F .i32) (d4 : S6.Idx → Elt F .i32)
    (v0 : Elt F .i32) (ev0 : sw d4 (Rect.unit (s := S6) ![0] S1.size inb_S6_S1_0) numel1_S1 = v0) (k0_hw1 : k0_chk1 i v0) (v1 v2 v4 v6 : Elt F .i32) (ev1 : sw d3 (Rect.unit (s := S7) ![0] S1.size inb_S7_S1_0) numel1_S1 = v1) (ev2 : sw d3 (Rect.unit (s := S7) ![1] S1.size inb_S7_S1_1) numel1_S1 = v2) (ev4 : sw d1 (Rect.unit (s := S11) (k0_off1 v0) S1.size (k0_off1_inb i v0 k0_hw1)) numel1_S1 = v4) (ev6 : sw d2 (Rect.unit (s := S11) (k0_off1 v0) S1.size (k0_off1_inb i v0 k0_hw1)) numel1_S1 = v6) (k0_hw7 : k0_chk7 i v1 v2 v4 v6)
        (v51 : Elt F .i32) (ev51 : sw d4 (Rect.unit (s := S6) ![1] S1.size inb_S6_S1_1) numel1_S1 = v51) (k0_hw2 : k0_chk2 i v51) (v52 v53 v55 v57 : Elt F .i32) (ev52 : sw d3 (Rect.unit (s := S7) ![1] S1.size inb_S7_S1_1) numel1_S1 = v52) (ev53 : sw d3 (Rect.unit (s := S7) ![2] S1.size inb_S7_S1_2) numel1_S1 = v53) (ev55 : sw d1 (Rect.unit (s := S11) (k0_off2 v51) S1.size (k0_off2_inb i v51 k0_hw2)) numel1_S1 = v55) (ev57 : sw d2 (Rect.unit (s := S11) (k0_off2 v51) S1.size (k0_off2_inb i v51 k0_hw2)) numel1_S1 = v57) (k0_hw8 : k0_chk8 i v1 v2 v4 v6 v52 v53 v55 v57)
        (v102 : Elt F .i32) (ev102 : sw d4 (Rect.unit (s := S6) ![2] S1.size inb_S6_S1_2) numel1_S1 = v102) (k0_hw3 : k0_chk3 i v102) (v103 v104 v106 v108 : Elt F .i32) (ev103 : sw d3 (Rect.unit (s := S7) ![2] S1.size inb_S7_S1_2) numel1_S1 = v103) (ev104 : sw d3 (Rect.unit (s := S7) ![3] S1.size inb_S7_S1_3) numel1_S1 = v104) (ev106 : sw d1 (Rect.unit (s := S11) (k0_off3 v102) S1.size (k0_off3_inb i v102 k0_hw3)) numel1_S1 = v106) (ev108 : sw d2 (Rect.unit (s := S11) (k0_off3 v102) S1.size (k0_off3_inb i v102 k0_hw3)) numel1_S1 = v108) (k0_hw9 : k0_chk9 i v1 v2 v4 v6 v52 v53 v55 v57 v103 v104 v106 v108)
        (v153 : Elt F .i32) (ev153 : sw d4 (Rect.unit (s := S6) ![3] S1.size inb_S6_S1_3) numel1_S1 = v153) (k0_hw4 : k0_chk4 i v153) (v154 v155 v157 v159 : Elt F .i32) (ev154 : sw d3 (Rect.unit (s := S7) ![3] S1.size inb_S7_S1_3) numel1_S1 = v154) (ev155 : sw d3 (Rect.unit (s := S7) ![4] S1.size inb_S7_S1_4) numel1_S1 = v155) (ev157 : sw d1 (Rect.unit (s := S11) (k0_off4 v153) S1.size (k0_off4_inb i v153 k0_hw4)) numel1_S1 = v157) (ev159 : sw d2 (Rect.unit (s := S11) (k0_off4 v153) S1.size (k0_off4_inb i v153 k0_hw4)) numel1_S1 = v159) (k0_hw10 : k0_chk10 i v1 v2 v4 v6 v52 v53 v55 v57 v103 v104 v106 v108 v154 v155 v157 v159)
        (v204 : Elt F .i32) (ev204 : sw d4 (Rect.unit (s := S6) ![4] S1.size inb_S6_S1_4) numel1_S1 = v204) (k0_hw5 : k0_chk5 i v204) (v205 v206 v208 v210 : Elt F .i32) (ev205 : sw d3 (Rect.unit (s := S7) ![4] S1.size inb_S7_S1_4) numel1_S1 = v205) (ev206 : sw d3 (Rect.unit (s := S7) ![5] S1.size inb_S7_S1_5) numel1_S1 = v206) (ev208 : sw d1 (Rect.unit (s := S11) (k0_off5 v204) S1.size (k0_off5_inb i v204 k0_hw5)) numel1_S1 = v208) (ev210 : sw d2 (Rect.unit (s := S11) (k0_off5 v204) S1.size (k0_off5_inb i v204 k0_hw5)) numel1_S1 = v210) (k0_hw11 : k0_chk11 i v1 v2 v4 v6 v52 v53 v55 v57 v103 v104 v106 v108 v154 v155 v157 v159 v205 v206 v208 v210)
        (v255 : Elt F .i32) (ev255 : sw d4 (Rect.unit (s := S6) ![5] S1.size inb_S6_S1_5) numel1_S1 = v255) (k0_hw6 : k0_chk6 i v255) (v256 v257 v259 v261 : Elt F .i32) (ev256 : sw d3 (Rect.unit (s := S7) ![5] S1.size inb_S7_S1_5) numel1_S1 = v256) (ev257 : sw d3 (Rect.unit (s := S7) ![6] S1.size inb_S7_S1_6) numel1_S1 = v257) (ev259 : sw d1 (Rect.unit (s := S11) (k0_off6 v255) S1.size (k0_off6_inb i v255 k0_hw6)) numel1_S1 = v259) (ev261 : sw d2 (Rect.unit (s := S11) (k0_off6 v255) S1.size (k0_off6_inb i v255 k0_hw6)) numel1_S1 = v261) (k0_hw12 : k0_chk12 i v1 v2 v4 v6 v52 v53 v55 v57 v103 v104 v106 v108 v154 v155 v157 v159 v205 v206 v208 v210 v256 v257 v259 v261)
        {Q : PUnit → sProp 𝕄} :
    iprop(owns (c : Thread nD τ) arg1 q1 d1 ∗ owns (c : Thread nD τ) arg2 q2 d2 ∗ owns (c : Thread nD τ) arg3 q3 d3 ∗ owns (c : Thread nD τ) arg4 q4 d4 ∗ (∀ v23 v47 v50 v74 v98 v101 v125 v149 v152 v176 v200 v203 v227 v251 v278 v281 v282 c8_i32_113 arg0 v49 v100 v151 v202 v253 v254 v280, ⌜v49 = colW (mkSg v1 v2 v4 v6 v52 v53 v55 v57 v103 v104 v106 v108 v154 v155 v157 v159 v205 v206 v208 v210 v256 v257 v259 v261) 0 ∧ v100 = colW (mkSg v1 v2 v4 v6 v52 v53 v55 v57 v103 v104 v106 v108 v154 v155 v157 v159 v205 v206 v208 v210 v256 v257 v259 v261) 1 ∧ v151 = colW (mkSg v1 v2 v4 v6 v52 v53 v55 v57 v103 v104 v106 v108 v154 v155 v157 v159 v205 v206 v208 v210 v256 v257 v259 v261) 2 ∧ v202 = colW (mkSg v1 v2 v4 v6 v52 v53 v55 v57 v103 v104 v106 v108 v154 v155 v157 v159 v205 v206 v208 v210 v256 v257 v259 v261) 3 ∧ v253 = colW (mkSg v1 v2 v4 v6 v52 v53 v55 v57 v103 v104 v106 v108 v154 v155 v157 v159 v205 v206 v208 v210 v256 v257 v259 v261) 4 ∧ v254 = slotW (pre (mkSg v1 v2 v4 v6 v52 v53 v55 v57 v103 v104 v106 v108 v154 v155 v157 v159 v205 v206 v208 v210 v256 v257 v259 v261) 5) ∧ v280 = lW ((mkSg v1 v2 v4 v6 v52 v53 v55 v57 v103 v104 v106 v108 v154 v155 v157 v159 v205 v206 v208 v210 v256 v257 v259 v261) 5).st⌝ -∗ iprop(owns (c : Thread nD τ) arg1 q1 d1 ∗ owns (c : Thread nD τ) arg2 q2 d2 ∗ owns (c : Thread nD τ) arg3 q3 d3 ∗ owns (c : Thread nD τ) arg4 q4 d4) -∗ wp frame (wpE (defs₀ (F := F)) Variants.none (c : Thread nD τ) none) Set.univ (root1 (F := F) i arg1 harg1 arg2 harg2 arg3 harg3 arg4 harg4 arg5 harg5 arg6 harg6 arg7 harg7 arg8 harg8 arg11 harg11 arg12 harg12 arg0 v0 k0_hw1 v1 v2 v4 v6 k0_hw7 v23 v47 v49 v50 v51 k0_hw2 v52 v53 v55 v57 k0_hw8 v74 v98 v100 v101 v102 k0_hw3 v103 v104 v106 v108 k0_hw9 v125 v149 v151 v152 v153 k0_hw4 v154 v155 v157 v159 k0_hw10 v176 v200 v202 v203 v204 k0_hw5 v205 v206 v208 v210 k0_hw11 v227 v251 v253 v254 v255 k0_hw6 v256 v257 v259 v261 k0_hw12 v278 v280 v281 v282 c8_i32_113) Q))
      ⊢ wp frame (wpE (defs₀ (F := F)) Variants.none (c : Thread nD τ) none) Set.univ (cc0_mxfp4_lora (F := F) i arg1 harg1 arg2 harg2 arg3 harg3 arg4 harg4 arg5 harg5 arg6 harg6 arg7 harg7 arg8 harg8 PAm (Memref.isWhole_whole _) PBm (Memref.isWhole_whole _) arg11 harg11 arg12 harg12 Am (Memref.isWhole_whole _) Bm (Memref.isWhole_whole _) Hm (Memref.isWhole_whole _) cc0_scratch3 cc0_scratch4) Q := by
  rw [cc0_mxfp4_lora_eq_skeleton]; unfold cc0_mxfp4_lora_skel
  iintro ⟨H1, H2, H3, H4, Hk⟩
  iapply (bindE c)
  rw [k0_part5_eq_skeleton]; unfold k0_part5_skel
  iapply (smV c arg4 d4 ev0) $$ H4
  iintro H4
  iapply (asE c k0_hw1)
  iapply (smV c arg3 d3 ev1) $$ H3
  iintro H3
  iapply (smV c arg3 d3 ev2) $$ H3
  iintro H3
  iapply (smV c arg1 d1 ev4) $$ H1
  iintro H1
  iapply (smV c arg2 d2 ev6) $$ H2
  iintro H2
  iapply (asE c k0_hw7)
  iapply (wp_retE c)
  iapply (bindE c)
  rw [k0_part6_eq_skeleton]; unfold k0_part6_skel
  iapply (smV c arg4 d4 ev51) $$ H4
  iintro H4
  iapply (asE c k0_hw2)
  iapply (smV c arg3 d3 ev52) $$ H3
  iintro H3
  iapply (smV c arg3 d3 ev53) $$ H3
  iintro H3
  iapply (smV c arg1 d1 ev55) $$ H1
  iintro H1
  iapply (smV c arg2 d2 ev57) $$ H2
  iintro H2
  iapply (asE c k0_hw8)
  iapply (wp_retE c)
  iapply (bindE c)
  rw [k0_part7_eq_skeleton]; unfold k0_part7_skel
  iapply (smV c arg4 d4 ev102) $$ H4
  iintro H4
  iapply (asE c k0_hw3)
  iapply (smV c arg3 d3 ev103) $$ H3
  iintro H3
  iapply (smV c arg3 d3 ev104) $$ H3
  iintro H3
  iapply (smV c arg1 d1 ev106) $$ H1
  iintro H1
  iapply (smV c arg2 d2 ev108) $$ H2
  iintro H2
  iapply (asE c k0_hw9)
  iapply (wp_retE c)
  iapply (bindE c)
  rw [k0_part8_eq_skeleton]; unfold k0_part8_skel
  iapply (smV c arg4 d4 ev153) $$ H4
  iintro H4
  iapply (asE c k0_hw4)
  iapply (smV c arg3 d3 ev154) $$ H3
  iintro H3
  iapply (smV c arg3 d3 ev155) $$ H3
  iintro H3
  iapply (smV c arg1 d1 ev157) $$ H1
  iintro H1
  iapply (smV c arg2 d2 ev159) $$ H2
  iintro H2
  iapply (asE c k0_hw10)
  iapply (wp_retE c)
  iapply (bindE c)
  rw [k0_part9_eq_skeleton]; unfold k0_part9_skel
  iapply (wp_retE c)
  iapply (bindE c)
  rw [k0_part10_eq_skeleton]; unfold k0_part10_skel
  iapply (smV c arg4 d4 ev204) $$ H4
  iintro H4
  iapply (asE c k0_hw5)
  iapply (smV c arg3 d3 ev205) $$ H3
  iintro H3
  iapply (smV c arg3 d3 ev206) $$ H3
  iintro H3
  iapply (smV c arg1 d1 ev208) $$ H1
  iintro H1
  iapply (smV c arg2 d2 ev210) $$ H2
  iintro H2
  iapply (asE c k0_hw11)
  iapply (wp_retE c)
  iapply (bindE c)
  rw [k0_part11_eq_skeleton]; unfold k0_part11_skel
  iapply (smV c arg4 d4 ev255) $$ H4
  iintro H4
  iapply (asE c k0_hw6)
  iapply (smV c arg3 d3 ev256) $$ H3
  iintro H3
  iapply (smV c arg3 d3 ev257) $$ H3
  iintro H3
  iapply (smV c arg1 d1 ev259) $$ H1
  iintro H1
  iapply (smV c arg2 d2 ev261) $$ H2
  iintro H2
  iapply (asE c k0_hw12)
  iapply (wp_retE c)
  iapply (root1_eq c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  iapply Hk
  · ipureintro
    exact ⟨rfl, rfl, rfl, rfl, rfl, rfl, rfl⟩
  isplitl [H1]
  · iexact H1
  isplitl [H2]
  · iexact H2
  isplitl [H3]
  · iexact H3
  iexact H4

end Cert.KernelIdeal.Hand

end
-- ==== Proof.ILater.lean ====
/- Hand-written, untrusted: a whole step after the first. -/
module

public import proofs.«01_k».proof.Proof.IWords

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem lt_at {n k : ℕ} (hn : 0 < n) (a : Fin 1) : k % n < ![n] a := by
  fin_cases a; exact Nat.mod_lt _ hn

/-- Entries of the scalar tables. -/
def at6 {β : Type} (d : S6.Idx → β) (k : ℕ) : β := d fun a => ⟨k % 6, lt_at (by decide) a⟩
def at7 {β : Type} (d : S7.Idx → β) (k : ℕ) : β := d fun a => ⟨k % 7, lt_at (by decide) a⟩
def at11 {β : Type} (d : S11.Idx → β) (k : ℕ) : β := d fun a => ⟨k % 11, lt_at (by decide) a⟩

theorem sw6 {e : EltTy} (d : S6.Idx → Elt F e) {off : Fin 1 → ℕ} {inb : ∀ a, off a + S1.size a ≤ S6.size a} {h1 : (Rect.unit (s := S6) off S1.size inb).shape.numel = 1} (k : ℕ) (hk : off 0 = k) :
    sw d (Rect.unit (s := S6) off S1.size inb) h1 = at6 d k := by
  unfold sw at6
  congr 1; funext a; fin_cases a; apply Fin.ext
  have h := inb 0
  have h' : off 0 + 1 ≤ 6 := h
  show off 0 + 1 * 0 = k % 6
  rw [Nat.mod_eq_of_lt (by omega)]; omega
theorem sw7 {e : EltTy} (d : S7.Idx → Elt F e) {off : Fin 1 → ℕ} {inb : ∀ a, off a + S1.size a ≤ S7.size a} {h1 : (Rect.unit (s := S7) off S1.size inb).shape.numel = 1} (k : ℕ) (hk : off 0 = k) :
    sw d (Rect.unit (s := S7) off S1.size inb) h1 = at7 d k := by
  unfold sw at7
  congr 1; funext a; fin_cases a; apply Fin.ext
  have h := inb 0
  have h' : off 0 + 1 ≤ 7 := h
  show off 0 + 1 * 0 = k % 7
  rw [Nat.mod_eq_of_lt (by omega)]; omega
theorem sw11 {e : EltTy} (d : S11.Idx → Elt F e) {off : Fin 1 → ℕ} {inb : ∀ a, off a + S1.size a ≤ S11.size a} {h1 : (Rect.unit (s := S11) off S1.size inb).shape.numel = 1} (k : ℕ) (hk : off 0 = k) :
    sw d (Rect.unit (s := S11) off S1.size inb) h1 = at11 d k := by
  unfold sw at11
  congr 1; funext a; fin_cases a; apply Fin.ext
  have h := inb 0
  have h' : off 0 + 1 ≤ 11 := h
  show off 0 + 1 * 0 = k % 11
  rw [Nat.mod_eq_of_lt (by omega)]; omega

/-- The six segments out of the four tables: first ranks' slots, ranks, segment bounds, segments' adapters. -/
def sgT (d1 d2 : S11.Idx → BitVec 32) (d3 : S7.Idx → BitVec 32) (d4 : S6.Idx → BitVec 32) (s : Fin 6) : Seg :=
  ⟨at7 d3 s.val, at7 d3 (s.val + 1), at11 d1 (at6 d4 s.val).toNat, at11 d2 (at6 d4 s.val).toNat⟩

/-- The tables are in range. -/
structure TOK (d1 d2 : S11.Idx → BitVec 32) (d3 : S7.Idx → BitVec 32) (d4 : S6.Idx → BitVec 32) : Prop where
  u : ∀ s : Fin 6, (at6 d4 s.val).toNat < 11
  ok : ∀ s, (sgT d1 d2 d3 d4 s).OK

theorem sgT_eq (d1 d2 : S11.Idx → BitVec 32) (d3 : S7.Idx → BitVec 32) (d4 : S6.Idx → BitVec 32) :
    sgT d1 d2 d3 d4 = mkSg (at7 d3 0) (at7 d3 1) (at11 d1 (at6 d4 0).toNat) (at11 d2 (at6 d4 0).toNat) (at7 d3 1) (at7 d3 2) (at11 d1 (at6 d4 1).toNat) (at11 d2 (at6 d4 1).toNat) (at7 d3 2) (at7 d3 3) (at11 d1 (at6 d4 2).toNat) (at11 d2 (at6 d4 2).toNat) (at7 d3 3) (at7 d3 4) (at11 d1 (at6 d4 3).toNat) (at11 d2 (at6 d4 3).toNat) (at7 d3 4) (at7 d3 5) (at11 d1 (at6 d4 4).toNat) (at11 d2 (at6 d4 4).toNat) (at7 d3 5) (at7 d3 6) (at11 d1 (at6 d4 5).toNat) (at11 d2 (at6 d4 5).toNat) := by
  funext s; fin_cases s <;> rfl

/-- What the first step keeps, and its second result, out of the tables. -/
def HBd (d1 d2 : S11.Idx → Elt F .i32) (d3 : S7.Idx → Elt F .i32) (d4 : S6.Idx → Elt F .i32) (d5 : S11.Idx → Elt F .f32) (x : S128x4096.Idx → Elt F .bf16) (a : S512x4096.Idx → Elt F .bf16) : S128x512.Idx → Elt F .bf16 :=
  hbigOf (at7 d3 0) (at7 d3 1) (at11 d1 (at6 d4 0).toNat) (at11 d2 (at6 d4 0).toNat) (at7 d3 1) (at7 d3 2) (at11 d1 (at6 d4 1).toNat) (at11 d2 (at6 d4 1).toNat) (at7 d3 2) (at7 d3 3) (at11 d1 (at6 d4 2).toNat) (at11 d2 (at6 d4 2).toNat) (at7 d3 3) (at7 d3 4) (at11 d1 (at6 d4 3).toNat) (at11 d2 (at6 d4 3).toNat) (at7 d3 4) (at7 d3 5) (at11 d1 (at6 d4 4).toNat) (at11 d2 (at6 d4 4).toNat) (at7 d3 5) (at7 d3 6) (at11 d1 (at6 d4 5).toNat) (at11 d2 (at6 d4 5).toNat) (colW (sgT d1 d2 d3 d4) 0) (colW (sgT d1 d2 d3 d4) 1) (colW (sgT d1 d2 d3 d4) 2) (colW (sgT d1 d2 d3 d4) 3) (colW (sgT d1 d2 d3 d4) 4) (slotW (pre (sgT d1 d2 d3 d4) 5)) (lW ((sgT d1 d2 d3 d4) 5).st) (at11 d5 (at6 d4 0).toNat) (at11 d5 (at6 d4 1).toNat) (at11 d5 (at6 d4 2).toNat) (at11 d5 (at6 d4 3).toNat) (at11 d5 (at6 d4 4).toNat) (at11 d5 (at6 d4 5).toNat) x a
def LHd (d1 d2 : S11.Idx → Elt F .i32) (d3 : S7.Idx → Elt F .i32) (d4 : S6.Idx → Elt F .i32) (d5 : S11.Idx → Elt F .f32) (x : S128x4096.Idx → Elt F .bf16) (a : S512x4096.Idx → Elt F .bf16) : S128x64.Idx → Elt F .bf16 :=
  lhOf (at7 d3 0) (at7 d3 1) (at11 d1 (at6 d4 0).toNat) (at11 d2 (at6 d4 0).toNat) (at7 d3 1) (at7 d3 2) (at11 d1 (at6 d4 1).toNat) (at11 d2 (at6 d4 1).toNat) (at7 d3 2) (at7 d3 3) (at11 d1 (at6 d4 2).toNat) (at11 d2 (at6 d4 2).toNat) (at7 d3 3) (at7 d3 4) (at11 d1 (at6 d4 3).toNat) (at11 d2 (at6 d4 3).toNat) (at7 d3 4) (at7 d3 5) (at11 d1 (at6 d4 4).toNat) (at11 d2 (at6 d4 4).toNat) (at7 d3 5) (at7 d3 6) (at11 d1 (at6 d4 5).toNat) (at11 d2 (at6 d4 5).toNat) (colW (sgT d1 d2 d3 d4) 0) (colW (sgT d1 d2 d3 d4) 1) (colW (sgT d1 d2 d3 d4) 2) (colW (sgT d1 d2 d3 d4) 3) (colW (sgT d1 d2 d3 d4) 4) (slotW (pre (sgT d1 d2 d3 d4) 5)) (lW ((sgT d1 d2 d3 d4) 5).st) (at11 d5 (at6 d4 0).toNat) (at11 d5 (at6 d4 1).toNat) (at11 d5 (at6 d4 2).toNat) (at11 d5 (at6 d4 3).toNat) (at11 d5 (at6 d4 4).toNat) (at11 d5 (at6 d4 5).toNat) x a

/-- The block of the result a step stores. -/
def yOf (d6 : S128x4096.Idx → Elt F .bf16) (d7 : S512x512.Idx → Elt F .i32) (d8 : S128x512.Idx → Elt F .i8) (hb : S128x512.Idx → Elt F .bf16) (sl : S1x512x512.Idx → Elt F .bf16) : S128x512.Idx → Elt F .bf16 :=
  k0_pay1 (k0_pay30 (k0_pay28 (F := F) (iota .tc S512x8x512 32 [1] iota_S512x8x512_d1_w32) (k0_pay26 d7)) (k0_pay29 (iota .tc S512x8x512 32 [1] iota_S512x8x512_d1_w32) (k0_pay26 d7)) d8 d6) hb sl

/-- What is held before the first step … -/
def Inv0 (c : Dev nD) (pa : S900x4096.Idx → Elt F .bf16) (pb : S900x14336.Idx → Elt F .bf16) : sProp 𝕄 :=
  iprop((∃ f, ptA c Finset.univ f) ∗ (∃ f, ptB c Finset.univ f) ∗ (∃ d, owns (c : Thread nD τ) Hm fullShare d) ∗ ptPA c Finset.univ fullShare pa ∗ ptPB c Finset.univ fullShare pb
    ∗ six (sA0 (F := F) c) ∗ six (sB0 (F := F) c 0) ∗ six (sB0 (F := F) c 1))

/-- … and before step `t` after it: block `t`'s rows under way into their slot, the other slot's rows at rest. -/
def InvL (c : Dev nD) (sg : Fin 6 → Seg) (pa : S900x4096.Idx → Elt F .bf16) (pb : S900x14336.Idx → Elt F .bf16) (hb : S128x512.Idx → Elt F .bf16) (t : ℕ) : sProp 𝕄 :=
  iprop(ptA c Finset.univ (FA sg pa) ∗ ptPA c Finset.univ fullShare pa ∗ six (sA0 (F := F) c) ∗ owns (c : Thread nD τ) Hm fullShare hb
    ∗ (if t < 28 then six (fB c sg (t % 2) (512 * t) t pb) else six (cB c sg (t % 2) pb)) ∗ six (cB c sg ((t + 1) % 2) pb)
    ∗ ptB c (restB sg (t % 2)) (k0_pay3 (F := F)) ∗ ptB c (restB sg ((t + 1) % 2)) (k0_pay3 (F := F)))

set_option maxHeartbeats 1000000 in
/-- A later step. -/
theorem step_later (c : Dev nD) (i : grid0.Coords) (arg1 : Memref sig .tc .smem S11 .i32) (harg1 : arg1.IsWhole) (arg2 : Memref sig .tc .smem S11 .i32) (harg2 : arg2.IsWhole) (arg3 : Memref sig .tc .smem S7 .i32) (harg3 : arg3.IsWhole) (arg4 : Memref sig .tc .smem S6 .i32) (harg4 : arg4.IsWhole) (arg5 : Memref sig .tc .smem S11 .f32) (harg5 : arg5.IsWhole) (arg6 : Memref sig .tc .vmem S128x4096 .bf16) (harg6 : arg6.IsWhole) (arg7 : Memref sig .tc .vmem S512x512 .i32) (harg7 : arg7.IsWhole) (arg8 : Memref sig .tc .vmem S128x512 .i8) (harg8 : arg8.IsWhole) (arg11 : Memref sig .tc .vmem S128x512 .bf16) (harg11 : arg11.IsWhole) (arg12 : Memref sig .tc .vmem S128x64 .bf16) (harg12 : arg12.IsWhole) (hi0 : (i 0).val ≠ 0) (hi1 : (i 0).val + 1 < 28)
    (q1 q2 q3 q4 q5 q6 q7 q8 : PosShare TreeShare) (d1 d2 : S11.Idx → Elt F .i32) (d3 : S7.Idx → Elt F .i32) (d4 : S6.Idx → Elt F .i32) (d5 : S11.Idx → Elt F .f32) (d6 : S128x4096.Idx → Elt F .bf16) (d7 : S512x512.Idx → Elt F .i32) (d8 : S128x512.Idx → Elt F .i8) (tok : TOK d1 d2 d3 d4) (pa : S900x4096.Idx → Elt F .bf16) (pb : S900x14336.Idx → Elt F .bf16) (hb : S128x512.Idx → Elt F .bf16) {Q : PUnit → sProp 𝕄} :
    iprop(InvL c (sgT d1 d2 d3 d4) pa pb hb (i 0).val ∗ (∃ d, owns (c : Thread nD τ) arg11 fullShare d) ∗ owns (c : Thread nD τ) arg1 q1 d1 ∗ owns (c : Thread nD τ) arg2 q2 d2 ∗ owns (c : Thread nD τ) arg3 q3 d3 ∗ owns (c : Thread nD τ) arg4 q4 d4 ∗ (∃ W, owes (c : Thread nD τ) 0 W) ∗ owns (c : Thread nD τ) arg5 q5 d5 ∗ owns (c : Thread nD τ) arg6 q6 d6 ∗ owns (c : Thread nD τ) arg7 q7 d7 ∗ owns (c : Thread nD τ) arg8 q8 d8
        ∗ (iprop(InvL c (sgT d1 d2 d3 d4) pa pb hb ((i 0).val + 1) ∗ owns (c : Thread nD τ) arg11 fullShare (yOf d6 d7 d8 hb (slotRd i (FB (sgT d1 d2 d3 d4) pb (i 0).val))) ∗ owns (c : Thread nD τ) arg1 q1 d1 ∗ owns (c : Thread nD τ) arg2 q2 d2 ∗ owns (c : Thread nD τ) arg3 q3 d3 ∗ owns (c : Thread nD τ) arg4 q4 d4 ∗ (∃ W, owes (c : Thread nD τ) 0 W) ∗ owns (c : Thread nD τ) arg5 q5 d5 ∗ owns (c : Thread nD τ) arg6 q6 d6 ∗ owns (c : Thread nD τ) arg7 q7 d7 ∗ owns (c : Thread nD τ) arg8 q8 d8) -∗ Q ⟨⟩))
      ⊢ wp frame (wpE (defs₀ (F := F)) Variants.none (c : Thread nD τ) none) Set.univ (cc0_mxfp4_lora (F := F) i arg1 harg1 arg2 harg2 arg3 harg3 arg4 harg4 arg5 harg5 arg6 harg6 arg7 harg7 arg8 harg8 PAm (Memref.isWhole_whole _) PBm (Memref.isWhole_whole _) arg11 harg11 arg12 harg12 Am (Memref.isWhole_whole _) Bm (Memref.isWhole_whole _) Hm (Memref.isWhole_whole _) cc0_scratch3 cc0_scratch4) Q := by
  have k0_hw1 : k0_chk1 i (at6 d4 0) := chk1_ok i _ (tok.u 0)
  have k0_hw2 : k0_chk2 i (at6 d4 1) := chk2_ok i _ (tok.u 1)
  have k0_hw3 : k0_chk3 i (at6 d4 2) := chk3_ok i _ (tok.u 2)
  have k0_hw4 : k0_chk4 i (at6 d4 3) := chk4_ok i _ (tok.u 3)
  have k0_hw5 : k0_chk5 i (at6 d4 4) := chk5_ok i _ (tok.u 4)
  have k0_hw6 : k0_chk6 i (at6 d4 5) := chk6_ok i _ (tok.u 5)
  have k0_hw7 : k0_chk7 i (at7 d3 0) (at7 d3 1) (at11 d1 (at6 d4 0).toNat) (at11 d2 (at6 d4 0).toNat) := chk7_ok i _ _ _ _ (tok.ok 0)
  have k0_hw8 : k0_chk8 i (at7 d3 0) (at7 d3 1) (at11 d1 (at6 d4 0).toNat) (at11 d2 (at6 d4 0).toNat) (at7 d3 1) (at7 d3 2) (at11 d1 (at6 d4 1).toNat) (at11 d2 (at6 d4 1).toNat) := chk8_ok i _ _ _ _ _ _ _ _ (tok.ok 0) (tok.ok 1)
  have k0_hw9 : k0_chk9 i (at7 d3 0) (at7 d3 1) (at11 d1 (at6 d4 0).toNat) (at11 d2 (at6 d4 0).toNat) (at7 d3 1) (at7 d3 2) (at11 d1 (at6 d4 1).toNat) (at11 d2 (at6 d4 1).toNat) (at7 d3 2) (at7 d3 3) (at11 d1 (at6 d4 2).toNat) (at11 d2 (at6 d4 2).toNat) := chk9_ok i _ _ _ _ _ _ _ _ _ _ _ _ (tok.ok 0) (tok.ok 1) (tok.ok 2)
  have k0_hw10 : k0_chk10 i (at7 d3 0) (at7 d3 1) (at11 d1 (at6 d4 0).toNat) (at11 d2 (at6 d4 0).toNat) (at7 d3 1) (at7 d3 2) (at11 d1 (at6 d4 1).toNat) (at11 d2 (at6 d4 1).toNat) (at7 d3 2) (at7 d3 3) (at11 d1 (at6 d4 2).toNat) (at11 d2 (at6 d4 2).toNat) (at7 d3 3) (at7 d3 4) (at11 d1 (at6 d4 3).toNat) (at11 d2 (at6 d4 3).toNat) := chk10_ok i _ _ _ _ _ _ _ _ _ _ _ _ _ _ _ _ (tok.ok 0) (tok.ok 1) (tok.ok 2) (tok.ok 3)
  have k0_hw11 : k0_chk11 i (at7 d3 0) (at7 d3 1) (at11 d1 (at6 d4 0).toNat) (at11 d2 (at6 d4 0).toNat) (at7 d3 1) (at7 d3 2) (at11 d1 (at6 d4 1).toNat) (at11 d2 (at6 d4 1).toNat) (at7 d3 2) (at7 d3 3) (at11 d1 (at6 d4 2).toNat) (at11 d2 (at6 d4 2).toNat) (at7 d3 3) (at7 d3 4) (at11 d1 (at6 d4 3).toNat) (at11 d2 (at6 d4 3).toNat) (at7 d3 4) (at7 d3 5) (at11 d1 (at6 d4 4).toNat) (at11 d2 (at6 d4 4).toNat) := chk11_ok i _ _ _ _ _ _ _ _ _ _ _ _ _ _ _ _ _ _ _ _ (tok.ok 0) (tok.ok 1) (tok.ok 2) (tok.ok 3) (tok.ok 4)
  have k0_hw12 : k0_chk12 i (at7 d3 0) (at7 d3 1) (at11 d1 (at6 d4 0).toNat) (at11 d2 (at6 d4 0).toNat) (at7 d3 1) (at7 d3 2) (at11 d1 (at6 d4 1).toNat) (at11 d2 (at6 d4 1).toNat) (at7 d3 2) (at7 d3 3) (at11 d1 (at6 d4 2).toNat) (at11 d2 (at6 d4 2).toNat) (at7 d3 3) (at7 d3 4) (at11 d1 (at6 d4 3).toNat) (at11 d2 (at6 d4 3).toNat) (at7 d3 4) (at7 d3 5) (at11 d1 (at6 d4 4).toNat) (at11 d2 (at6 d4 4).toNat) (at7 d3 5) (at7 d3 6) (at11 d1 (at6 d4 5).toNat) (at11 d2 (at6 d4 5).toNat) := chk12_ok i _ _ _ _ _ _ _ _ _ _ _ _ _ _ _ _ _ _ _ _ _ _ _ _ (tok.ok 0) (tok.ok 1) (tok.ok 2) (tok.ok 3) (tok.ok 4) (tok.ok 5)
  have hsg := sgT_eq d1 d2 d3 d4
  have hlt : (i 0).val < 28 := (i 0).isLt
  have hp : (pW i).toNat = (i 0).val % 2 := pW_toNat i
  have hp' : (pW' i).toNat = ((i 0).val + 1) % 2 := pW'_toNat i
  have hq : (qW i).toNat = 512 * (i 0).val := qW_toNat i
  have hp2 : ((i 0).val + 1 + 1) % 2 = (i 0).val % 2 := by omega
  unfold InvL
  rw [if_pos hlt, if_pos hi1, ← hp, ← hp', ← hq]
  iintro ⟨⟨HA, HPA, HsA, HH, HF, HN, HR0, HR1⟩, H11, H1, H2, H3, H4, HO, H5, H6, H7, H8, Hk⟩
  iapply (words_run c i _ _ _ _ _ _ _ _ _ _ _ _ _ _ _ _ _ _ _ _ q1 q2 q3 q4 d1 d2 d3 d4
    (at6 d4 0) (sw6 d4 0 rfl) k0_hw1 (at7 d3 0) (at7 d3 1) (at11 d1 (at6 d4 0).toNat) (at11 d2 (at6 d4 0).toNat) (sw7 d3 0 rfl) (sw7 d3 1 rfl) (sw11 d1 _ rfl) (sw11 d2 _ rfl) k0_hw7
    (at6 d4 1) (sw6 d4 1 rfl) k0_hw2 (at7 d3 1) (at7 d3 2) (at11 d1 (at6 d4 1).toNat) (at11 d2 (at6 d4 1).toNat) (sw7 d3 1 rfl) (sw7 d3 2 rfl) (sw11 d1 _ rfl) (sw11 d2 _ rfl) k0_hw8
    (at6 d4 2) (sw6 d4 2 rfl) k0_hw3 (at7 d3 2) (at7 d3 3) (at11 d1 (at6 d4 2).toNat) (at11 d2 (at6 d4 2).toNat) (sw7 d3 2 rfl) (sw7 d3 3 rfl) (sw11 d1 _ rfl) (sw11 d2 _ rfl) k0_hw9
    (at6 d4 3) (sw6 d4 3 rfl) k0_hw4 (at7 d3 3) (at7 d3 4) (at11 d1 (at6 d4 3).toNat) (at11 d2 (at6 d4 3).toNat) (sw7 d3 3 rfl) (sw7 d3 4 rfl) (sw11 d1 _ rfl) (sw11 d2 _ rfl) k0_hw10
    (at6 d4 4) (sw6 d4 4 rfl) k0_hw5 (at7 d3 4) (at7 d3 5) (at11 d1 (at6 d4 4).toNat) (at11 d2 (at6 d4 4).toNat) (sw7 d3 4 rfl) (sw7 d3 5 rfl) (sw11 d1 _ rfl) (sw11 d2 _ rfl) k0_hw11
    (at6 d4 5) (sw6 d4 5 rfl) k0_hw6 (at7 d3 5) (at7 d3 6) (at11 d1 (at6 d4 5).toNat) (at11 d2 (at6 d4 5).toNat) (sw7 d3 5 rfl) (sw7 d3 6 rfl) (sw11 d1 _ rfl) (sw11 d2 _ rfl) k0_hw12)
  isplitl [H1]
  · iexact H1
  isplitl [H2]
  · iexact H2
  isplitl [H3]
  · iexact H3
  isplitl [H4]
  · iexact H4
  iintro %v23 %v47 %v50 %v74 %v98 %v101 %v125 %v149 %v152 %v176 %v200 %v203 %v227 %v251 %v278 %v281 %v282 %c8 %a0 %v49 %v100 %v151 %v202 %v253 %v254 %v280 %hv ⟨H1, H2, H3, H4⟩
  rw [← hsg] at hv
  obtain ⟨rfl, rfl, rfl, rfl, rfl, rfl, rfl⟩ := hv
  unfold root1
  iapply (bindE c)
  iapply (part12_later c (hi0 := hi0) (hi1 := hi1) (sg := sgT d1 d2 d3 d4) (hsg := hsg) (ok := tok.ok) (pb := pb) (q7 := q7) (d7 := d7) (pa := pa))
  isplitl [HN]
  · iexact HN
  isplitl [H7]
  · iexact H7
  iintro %z ⟨HN, H7⟩
  iapply (root2_run c (sg := sgT d1 d2 d3 d4) (hsg := hsg) (ok := tok.ok) (pb := pb) (q6 := q6) (q8 := q8) (d6 := d6) (d8 := d8) (hb := hb))
  isplitl [HF]
  · iexact HF
  isplitl [HR0]
  · iexact HR0
  isplitl [HO]
  · iexact HO
  isplitl [H6]
  · iexact H6
  isplitl [H8]
  · iexact H8
  isplitl [HH]
  · iexact HH
  isplitl [H11]
  · iexact H11
  iintro ⟨HC, HR0, HO, H6, H8, HH, H11⟩
  iapply Hk
  isplitl [HA HPA HsA HH HN HC HR0 HR1]
  · rw [hp2, ← hp]
    isplitl [HA]
    · iexact HA
    isplitl [HPA]
    · iexact HPA
    isplitl [HsA]
    · iexact HsA
    isplitl [HH]
    · iexact HH
    isplitl [HN]
    · iapply (Entails.of_eq (show six (fB c (sgT d1 d2 d3 d4) (pW' i).toNat (qW' i).toNat ((i 0).val + 1) pb) = six (fB c (sgT d1 d2 d3 d4) (pW' i).toNat (512 * ((i 0).val + 1)) ((i 0).val + 1) pb) by rw [qW'_toNat]))
      iexact HN
    isplitl [HC]
    · iexact HC
    isplitl [HR1]
    · iexact HR1
    iexact HR0
  isplitl [H11]
  · iexact H11
  isplitl [H1]
  · iexact H1
  isplitl [H2]
  · iexact H2
  isplitl [H3]
  · iexact H3
  isplitl [H4]
  · iexact H4
  isplitl [HO]
  · iexact HO
  isplitl [H5]
  · iexact H5
  isplitl [H6]
  · iexact H6
  isplitl [H7]
  · iexact H7
  iexact H8

set_option maxHeartbeats 1000000 in
/-- The last step. -/
theorem step_last (c : Dev nD) (i : grid0.Coords) (arg1 : Memref sig .tc .smem S11 .i32) (harg1 : arg1.IsWhole) (arg2 : Memref sig .tc .smem S11 .i32) (harg2 : arg2.IsWhole) (arg3 : Memref sig .tc .smem S7 .i32) (harg3 : arg3.IsWhole) (arg4 : Memref sig .tc .smem S6 .i32) (harg4 : arg4.IsWhole) (arg5 : Memref sig .tc .smem S11 .f32) (harg5 : arg5.IsWhole) (arg6 : Memref sig .tc .vmem S128x4096 .bf16) (harg6 : arg6.IsWhole) (arg7 : Memref sig .tc .vmem S512x512 .i32) (harg7 : arg7.IsWhole) (arg8 : Memref sig .tc .vmem S128x512 .i8) (harg8 : arg8.IsWhole) (arg11 : Memref sig .tc .vmem S128x512 .bf16) (harg11 : arg11.IsWhole) (arg12 : Memref sig .tc .vmem S128x64 .bf16) (harg12 : arg12.IsWhole) (hi0 : (i 0).val ≠ 0) (hi1 : ¬ (i 0).val + 1 < 28)
    (q1 q2 q3 q4 q5 q6 q7 q8 : PosShare TreeShare) (d1 d2 : S11.Idx → Elt F .i32) (d3 : S7.Idx → Elt F .i32) (d4 : S6.Idx → Elt F .i32) (d5 : S11.Idx → Elt F .f32) (d6 : S128x4096.Idx → Elt F .bf16) (d7 : S512x512.Idx → Elt F .i32) (d8 : S128x512.Idx → Elt F .i8) (tok : TOK d1 d2 d3 d4) (pa : S900x4096.Idx → Elt F .bf16) (pb : S900x14336.Idx → Elt F .bf16) (hb : S128x512.Idx → Elt F .bf16) {Q : PUnit → sProp 𝕄} :
    iprop(InvL c (sgT d1 d2 d3 d4) pa pb hb (i 0).val ∗ (∃ d, owns (c : Thread nD τ) arg11 fullShare d) ∗ owns (c : Thread nD τ) arg1 q1 d1 ∗ owns (c : Thread nD τ) arg2 q2 d2 ∗ owns (c : Thread nD τ) arg3 q3 d3 ∗ owns (c : Thread nD τ) arg4 q4 d4 ∗ (∃ W, owes (c : Thread nD τ) 0 W) ∗ owns (c : Thread nD τ) arg5 q5 d5 ∗ owns (c : Thread nD τ) arg6 q6 d6 ∗ owns (c : Thread nD τ) arg7 q7 d7 ∗ owns (c : Thread nD τ) arg8 q8 d8
        ∗ (iprop(InvL c (sgT d1 d2 d3 d4) pa pb hb ((i 0).val + 1) ∗ owns (c : Thread nD τ) arg11 fullShare (yOf d6 d7 d8 hb (slotRd i (FB (sgT d1 d2 d3 d4) pb (i 0).val))) ∗ owns (c : Thread nD τ) arg1 q1 d1 ∗ owns (c : Thread nD τ) arg2 q2 d2 ∗ owns (c : Thread nD τ) arg3 q3 d3 ∗ owns (c : Thread nD τ) arg4 q4 d4 ∗ (∃ W, owes (c : Thread nD τ) 0 W) ∗ owns (c : Thread nD τ) arg5 q5 d5 ∗ owns (c : Thread nD τ) arg6 q6 d6 ∗ owns (c : Thread nD τ) arg7 q7 d7 ∗ owns (c : Thread nD τ) arg8 q8 d8) -∗ Q ⟨⟩))
      ⊢ wp frame (wpE (defs₀ (F := F)) Variants.none (c : Thread nD τ) none) Set.univ (cc0_mxfp4_lora (F := F) i arg1 harg1 arg2 harg2 arg3 harg3 arg4 harg4 arg5 harg5 arg6 harg6 arg7 harg7 arg8 harg8 PAm (Memref.isWhole_whole _) PBm (Memref.isWhole_whole _) arg11 harg11 arg12 harg12 Am (Memref.isWhole_whole _) Bm (Memref.isWhole_whole _) Hm (Memref.isWhole_whole _) cc0_scratch3 cc0_scratch4) Q := by
  have k0_hw1 : k0_chk1 i (at6 d4 0) := chk1_ok i _ (tok.u 0)
  have k0_hw2 : k0_chk2 i (at6 d4 1) := chk2_ok i _ (tok.u 1)
  have k0_hw3 : k0_chk3 i (at6 d4 2) := chk3_ok i _ (tok.u 2)
  have k0_hw4 : k0_chk4 i (at6 d4 3) := chk4_ok i _ (tok.u 3)
  have k0_hw5 : k0_chk5 i (at6 d4 4) := chk5_ok i _ (tok.u 4)
  have k0_hw6 : k0_chk6 i (at6 d4 5) := chk6_ok i _ (tok.u 5)
  have k0_hw7 : k0_chk7 i (at7 d3 0) (at7 d3 1) (at11 d1 (at6 d4 0).toNat) (at11 d2 (at6 d4 0).toNat) := chk7_ok i _ _ _ _ (tok.ok 0)
  have k0_hw8 : k0_chk8 i (at7 d3 0) (at7 d3 1) (at11 d1 (at6 d4 0).toNat) (at11 d2 (at6 d4 0).toNat) (at7 d3 1) (at7 d3 2) (at11 d1 (at6 d4 1).toNat) (at11 d2 (at6 d4 1).toNat) := chk8_ok i _ _ _ _ _ _ _ _ (tok.ok 0) (tok.ok 1)
  have k0_hw9 : k0_chk9 i (at7 d3 0) (at7 d3 1) (at11 d1 (at6 d4 0).toNat) (at11 d2 (at6 d4 0).toNat) (at7 d3 1) (at7 d3 2) (at11 d1 (at6 d4 1).toNat) (at11 d2 (at6 d4 1).toNat) (at7 d3 2) (at7 d3 3) (at11 d1 (at6 d4 2).toNat) (at11 d2 (at6 d4 2).toNat) := chk9_ok i _ _ _ _ _ _ _ _ _ _ _ _ (tok.ok 0) (tok.ok 1) (tok.ok 2)
  have k0_hw10 : k0_chk10 i (at7 d3 0) (at7 d3 1) (at11 d1 (at6 d4 0).toNat) (at11 d2 (at6 d4 0).toNat) (at7 d3 1) (at7 d3 2) (at11 d1 (at6 d4 1).toNat) (at11 d2 (at6 d4 1).toNat) (at7 d3 2) (at7 d3 3) (at11 d1 (at6 d4 2).toNat) (at11 d2 (at6 d4 2).toNat) (at7 d3 3) (at7 d3 4) (at11 d1 (at6 d4 3).toNat) (at11 d2 (at6 d4 3).toNat) := chk10_ok i _ _ _ _ _ _ _ _ _ _ _ _ _ _ _ _ (tok.ok 0) (tok.ok 1) (tok.ok 2) (tok.ok 3)
  have k0_hw11 : k0_chk11 i (at7 d3 0) (at7 d3 1) (at11 d1 (at6 d4 0).toNat) (at11 d2 (at6 d4 0).toNat) (at7 d3 1) (at7 d3 2) (at11 d1 (at6 d4 1).toNat) (at11 d2 (at6 d4 1).toNat) (at7 d3 2) (at7 d3 3) (at11 d1 (at6 d4 2).toNat) (at11 d2 (at6 d4 2).toNat) (at7 d3 3) (at7 d3 4) (at11 d1 (at6 d4 3).toNat) (at11 d2 (at6 d4 3).toNat) (at7 d3 4) (at7 d3 5) (at11 d1 (at6 d4 4).toNat) (at11 d2 (at6 d4 4).toNat) := chk11_ok i _ _ _ _ _ _ _ _ _ _ _ _ _ _ _ _ _ _ _ _ (tok.ok 0) (tok.ok 1) (tok.ok 2) (tok.ok 3) (tok.ok 4)
  have k0_hw12 : k0_chk12 i (at7 d3 0) (at7 d3 1) (at11 d1 (at6 d4 0).toNat) (at11 d2 (at6 d4 0).toNat) (at7 d3 1) (at7 d3 2) (at11 d1 (at6 d4 1).toNat) (at11 d2 (at6 d4 1).toNat) (at7 d3 2) (at7 d3 3) (at11 d1 (at6 d4 2).toNat) (at11 d2 (at6 d4 2).toNat) (at7 d3 3) (at7 d3 4) (at11 d1 (at6 d4 3).toNat) (at11 d2 (at6 d4 3).toNat) (at7 d3 4) (at7 d3 5) (at11 d1 (at6 d4 4).toNat) (at11 d2 (at6 d4 4).toNat) (at7 d3 5) (at7 d3 6) (at11 d1 (at6 d4 5).toNat) (at11 d2 (at6 d4 5).toNat) := chk12_ok i _ _ _ _ _ _ _ _ _ _ _ _ _ _ _ _ _ _ _ _ _ _ _ _ (tok.ok 0) (tok.ok 1) (tok.ok 2) (tok.ok 3) (tok.ok 4) (tok.ok 5)
  have hsg := sgT_eq d1 d2 d3 d4
  have hlt : (i 0).val < 28 := (i 0).isLt
  have hp : (pW i).toNat = (i 0).val % 2 := pW_toNat i
  have hp' : (pW' i).toNat = ((i 0).val + 1) % 2 := pW'_toNat i
  have hq : (qW i).toNat = 512 * (i 0).val := qW_toNat i
  have hp2 : ((i 0).val + 1 + 1) % 2 = (i 0).val % 2 := by omega
  unfold InvL
  rw [if_pos hlt, if_neg hi1, ← hp, ← hp', ← hq]
  iintro ⟨⟨HA, HPA, HsA, HH, HF, HN, HR0, HR1⟩, H11, H1, H2, H3, H4, HO, H5, H6, H7, H8, Hk⟩
  iapply (words_run c i _ _ _ _ _ _ _ _ _ _ _ _ _ _ _ _ _ _ _ _ q1 q2 q3 q4 d1 d2 d3 d4
    (at6 d4 0) (sw6 d4 0 rfl) k0_hw1 (at7 d3 0) (at7 d3 1) (at11 d1 (at6 d4 0).toNat) (at11 d2 (at6 d4 0).toNat) (sw7 d3 0 rfl) (sw7 d3 1 rfl) (sw11 d1 _ rfl) (sw11 d2 _ rfl) k0_hw7
    (at6 d4 1) (sw6 d4 1 rfl) k0_hw2 (at7 d3 1) (at7 d3 2) (at11 d1 (at6 d4 1).toNat) (at11 d2 (at6 d4 1).toNat) (sw7 d3 1 rfl) (sw7 d3 2 rfl) (sw11 d1 _ rfl) (sw11 d2 _ rfl) k0_hw8
    (at6 d4 2) (sw6 d4 2 rfl) k0_hw3 (at7 d3 2) (at7 d3 3) (at11 d1 (at6 d4 2).toNat) (at11 d2 (at6 d4 2).toNat) (sw7 d3 2 rfl) (sw7 d3 3 rfl) (sw11 d1 _ rfl) (sw11 d2 _ rfl) k0_hw9
    (at6 d4 3) (sw6 d4 3 rfl) k0_hw4 (at7 d3 3) (at7 d3 4) (at11 d1 (at6 d4 3).toNat) (at11 d2 (at6 d4 3).toNat) (sw7 d3 3 rfl) (sw7 d3 4 rfl) (sw11 d1 _ rfl) (sw11 d2 _ rfl) k0_hw10
    (at6 d4 4) (sw6 d4 4 rfl) k0_hw5 (at7 d3 4) (at7 d3 5) (at11 d1 (at6 d4 4).toNat) (at11 d2 (at6 d4 4).toNat) (sw7 d3 4 rfl) (sw7 d3 5 rfl) (sw11 d1 _ rfl) (sw11 d2 _ rfl) k0_hw11
    (at6 d4 5) (sw6 d4 5 rfl) k0_hw6 (at7 d3 5) (at7 d3 6) (at11 d1 (at6 d4 5).toNat) (at11 d2 (at6 d4 5).toNat) (sw7 d3 5 rfl) (sw7 d3 6 rfl) (sw11 d1 _ rfl) (sw11 d2 _ rfl) k0_hw12)
  isplitl [H1]
  · iexact H1
  isplitl [H2]
  · iexact H2
  isplitl [H3]
  · iexact H3
  isplitl [H4]
  · iexact H4
  iintro %v23 %v47 %v50 %v74 %v98 %v101 %v125 %v149 %v152 %v176 %v200 %v203 %v227 %v251 %v278 %v281 %v282 %c8 %a0 %v49 %v100 %v151 %v202 %v253 %v254 %v280 %hv ⟨H1, H2, H3, H4⟩
  rw [← hsg] at hv
  obtain ⟨rfl, rfl, rfl, rfl, rfl, rfl, rfl⟩ := hv
  unfold root1
  iapply (bindE c)
  iapply (part12_last c (hi0 := hi0) (hi1 := hi1) (sg := sgT d1 d2 d3 d4) (hsg := hsg) (ok := tok.ok) (pb := pb) (q7 := q7) (d7 := d7) (pa := pa))
  isplitl [HN]
  · iexact HN
  isplitl [H7]
  · iexact H7
  iintro %z ⟨HN, H7⟩
  iapply (root2_run c (sg := sgT d1 d2 d3 d4) (hsg := hsg) (ok := tok.ok) (pb := pb) (q6 := q6) (q8 := q8) (d6 := d6) (d8 := d8) (hb := hb))
  isplitl [HF]
  · iexact HF
  isplitl [HR0]
  · iexact HR0
  isplitl [HO]
  · iexact HO
  isplitl [H6]
  · iexact H6
  isplitl [H8]
  · iexact H8
  isplitl [HH]
  · iexact HH
  isplitl [H11]
  · iexact H11
  iintro ⟨HC, HR0, HO, H6, H8, HH, H11⟩
  iapply Hk
  isplitl [HA HPA HsA HH HN HC HR0 HR1]
  · rw [hp2, ← hp]
    isplitl [HA]
    · iexact HA
    isplitl [HPA]
    · iexact HPA
    isplitl [HsA]
    · iexact HsA
    isplitl [HH]
    · iexact HH
    isplitl [HN]
    · iexact HN
    isplitl [HC]
    · iexact HC
    isplitl [HR1]
    · iexact HR1
    iexact HR0
  isplitl [H11]
  · iexact H11
  isplitl [H1]
  · iexact H1
  isplitl [H2]
  · iexact H2
  isplitl [H3]
  · iexact H3
  isplitl [H4]
  · iexact H4
  isplitl [HO]
  · iexact HO
  isplitl [H5]
  · iexact H5
  isplitl [H6]
  · iexact H6
  isplitl [H7]
  · iexact H7
  iexact H8

end Cert.KernelIdeal.Hand

end
-- ==== Proof.Ranges.lean ====
/- Hand-written, untrusted: what the precondition says of the tables' words. -/
module

public import proofs.«01_k».proof.Defs
public import proofs.«01_k».proof.Proof.Later
public import proofs.«01_k».proof.Proof.ILater

@[expose] public section

noncomputable section

namespace Cert.Ranges

open Idealize.ShloMosaic Idealize.SL.Sem

theorem and1 (a b : BitVec 1) (h : a &&& b = 1#1) : a = 1#1 ∧ b = 1#1 := by
  revert a b; decide

theorem sge0 (x : BitVec 32) (h : BitVec.ofBool (BitVec.sle 0#32 x) = 1#1) : x.toNat < 2 ^ 31 := by
  have h' : BitVec.sle 0#32 x = true := by
    cases hb : BitVec.sle 0#32 x
    · rw [hb] at h; exact absurd h (by decide)
    · rfl
  rw [BitVec.sle_eq_decide, decide_eq_true_eq] at h'
  have : (0#32 : BitVec 32).toInt = 0 := rfl
  rw [this, BitVec.toInt_eq_toNat_cond] at h'
  have := x.isLt
  split at h' <;> omega

theorem slt_of (x y : BitVec 32) (hx : x.toNat < 2 ^ 31) (hy : y.toNat < 2 ^ 31) (h : BitVec.ofBool (BitVec.slt x y) = 1#1) : x.toNat < y.toNat := by
  have h' : BitVec.slt x y = true := by
    cases hb : BitVec.slt x y
    · rw [hb] at h; exact absurd h (by decide)
    · rfl
  rw [BitVec.slt_eq_decide, decide_eq_true_eq, BitVec.toInt_eq_toNat_of_lt (by omega), BitVec.toInt_eq_toNat_of_lt (by omega)] at h'
  omega

theorem sle_of (x y : BitVec 32) (hx : x.toNat < 2 ^ 31) (hy : y.toNat < 2 ^ 31) (h : BitVec.ofBool (BitVec.sle x y) = 1#1) : x.toNat ≤ y.toNat := by
  have h' : BitVec.sle x y = true := by
    cases hb : BitVec.sle x y
    · rw [hb] at h; exact absurd h (by decide)
    · rfl
  rw [BitVec.sle_eq_decide, decide_eq_true_eq, BitVec.toInt_eq_toNat_of_lt (by omega), BitVec.toInt_eq_toNat_of_lt (by omega)] at h'
  omega

/-- The tables in naturals: every segment's adapter is one of the eleven, no rank is over 64, no adapter's rows pass the pool's. -/
structure InRange (d1 d2 : Cert.Kernel.S11.Idx → BitVec 32) (d4 : Cert.Kernel.S6.Idx → BitVec 32) : Prop where
  sad : ∀ i, (d4 i).toNat < 11
  rank : ∀ i, (d2 i).toNat ≤ 64
  start : ∀ i, (d1 i).toNat + (d2 i).toNat ≤ 896

theorem inRange_of (d1 d2 : Cert.Kernel.S11.Idx → BitVec 32) (d4 : Cert.Kernel.S6.Idx → BitVec 32)
    (h1 : ∀ i, BitVec.ofBool (BitVec.sle 0#32 (d4 i)) &&& BitVec.ofBool (BitVec.slt (d4 i) 11#32) = 1#1)
    (h2 : ∀ i, BitVec.ofBool (BitVec.sle 0#32 (d2 i)) &&& BitVec.ofBool (BitVec.sle (d2 i) 64#32) = 1#1)
    (h3 : ∀ i, BitVec.ofBool (BitVec.sle 0#32 (d1 i)) &&& BitVec.ofBool (BitVec.sle (d1 i) (896#32 - d2 i)) = 1#1) : InRange d1 d2 d4 where
  sad i := by
    obtain ⟨a, b⟩ := and1 _ _ (h1 i)
    exact slt_of _ _ (sge0 _ a) (by decide) b
  rank i := by
    obtain ⟨a, b⟩ := and1 _ _ (h2 i)
    exact sle_of _ _ (sge0 _ a) (by decide) b
  start i := by
    obtain ⟨a, b⟩ := and1 _ _ (h2 i)
    have hr : (d2 i).toNat ≤ 64 := sle_of _ _ (sge0 _ a) (by decide) b
    obtain ⟨a, b⟩ := and1 _ _ (h3 i)
    have e : (896#32 - d2 i).toNat = 896 - (d2 i).toNat := by
      rw [BitVec.toNat_sub]
      have : (896#32 : BitVec 32).toNat = 896 := rfl
      omega
    have := sle_of _ _ (sge0 _ a) (by omega) b
    omega

theorem tok {d1 d2 : Cert.Kernel.S11.Idx → BitVec 32} (d3 : Cert.Kernel.S7.Idx → BitVec 32) {d4 : Cert.Kernel.S6.Idx → BitVec 32} (h : InRange d1 d2 d4) :
    Cert.Kernel.Hand.TOK d1 d2 d3 d4 := ⟨fun s => h.sad _, fun s => ⟨h.start _, h.rank _⟩⟩
theorem itok {d1 d2 : Cert.KernelIdeal.S11.Idx → BitVec 32} (d3 : Cert.KernelIdeal.S7.Idx → BitVec 32) {d4 : Cert.KernelIdeal.S6.Idx → BitVec 32} (h : InRange d1 d2 d4) :
    Cert.KernelIdeal.Hand.TOK d1 d2 d3 d4 := ⟨fun s => h.sad _, fun s => ⟨h.start _, h.rank _⟩⟩

variable [h1 : Cert.Pre_tables_in_range.Facts] [h2 : Cert.Pre_scales_finite.Facts]

theorem of_tables (m : (ℓ : Loc Cert.Kernel.nD Cert.Kernel.τ Cert.Kernel.sig) → Buf (Elt Bits) ℓ) (h : Cert.Pre_Kernel m) :
    InRange (m (((0 : Dev Cert.Kernel.nD).tc : Thread Cert.Kernel.nD Cert.Kernel.τ).loc Cert.Kernel.main_arg5)) (m (((0 : Dev Cert.Kernel.nD).tc : Thread Cert.Kernel.nD Cert.Kernel.τ).loc Cert.Kernel.main_arg6)) (m (((0 : Dev Cert.Kernel.nD).tc : Thread Cert.Kernel.nD Cert.Kernel.τ).loc Cert.Kernel.main_arg9)) := by
  obtain ⟨a, b, c⟩ := h 0
  exact inRange_of _ _ _ (fun i => congrFun a i) (fun i => congrFun b i) (fun i => congrFun c i)

theorem of_tables_ideal (m : (ℓ : Loc Cert.KernelIdeal.nD Cert.KernelIdeal.τ Cert.KernelIdeal.sig) → Buf (Elt Ideal) ℓ) (h : Cert.Pre_KernelIdeal m) :
    InRange (m (((0 : Dev Cert.KernelIdeal.nD).tc : Thread Cert.KernelIdeal.nD Cert.KernelIdeal.τ).loc Cert.KernelIdeal.main_arg5)) (m (((0 : Dev Cert.KernelIdeal.nD).tc : Thread Cert.KernelIdeal.nD Cert.KernelIdeal.τ).loc Cert.KernelIdeal.main_arg6)) (m (((0 : Dev Cert.KernelIdeal.nD).tc : Thread Cert.KernelIdeal.nD Cert.KernelIdeal.τ).loc Cert.KernelIdeal.main_arg9)) := by
  obtain ⟨a, b, c⟩ := h 0
  exact inRange_of _ _ _ (fun i => congrFun a i) (fun i => congrFun b i) (fun i => congrFun c i)

theorem of_scales (m : (ℓ : Loc Cert.KernelIdeal.nD Cert.KernelIdeal.τ Cert.KernelIdeal.sig) → Buf (Elt Ideal) ℓ) (h : Cert.Pre_KernelIdeal_scales_finite m) :
    InRange (m (((0 : Dev Cert.KernelIdeal.nD).tc : Thread Cert.KernelIdeal.nD Cert.KernelIdeal.τ).loc Cert.KernelIdeal.main_arg5)) (m (((0 : Dev Cert.KernelIdeal.nD).tc : Thread Cert.KernelIdeal.nD Cert.KernelIdeal.τ).loc Cert.KernelIdeal.main_arg6)) (m (((0 : Dev Cert.KernelIdeal.nD).tc : Thread Cert.KernelIdeal.nD Cert.KernelIdeal.τ).loc Cert.KernelIdeal.main_arg9)) := by
  obtain ⟨a, b, c, -⟩ := h 0
  exact inRange_of _ _ _ (fun i => congrFun a i) (fun i => congrFun b i) (fun i => congrFun c i)

/-- Every block's exponent is that of a normal float. -/
theorem exp_of_scales (m : (ℓ : Loc Cert.KernelIdeal.nD Cert.KernelIdeal.τ Cert.KernelIdeal.sig) → Buf (Elt Ideal) ℓ) (h : Cert.Pre_KernelIdeal_scales_finite m)
    (i : Cert.KernelIdeal.S128x14336.Idx) :
    1 ≤ ((m (((0 : Dev Cert.KernelIdeal.nD).tc : Thread Cert.KernelIdeal.nD Cert.KernelIdeal.τ).loc Cert.KernelIdeal.main_arg2) : Cert.KernelIdeal.S128x14336.Idx → BitVec 8) i).toNat
      ∧ ((m (((0 : Dev Cert.KernelIdeal.nD).tc : Thread Cert.KernelIdeal.nD Cert.KernelIdeal.τ).loc Cert.KernelIdeal.main_arg2) : Cert.KernelIdeal.S128x14336.Idx → BitVec 8) i).toNat ≤ 254 := by
  obtain ⟨-, -, -, d⟩ := h 0
  have e : ∀ x : BitVec 8, BitVec.ofBool (BitVec.ule 1#8 x) &&& BitVec.ofBool (BitVec.ule x 254#8) = 1#1 → 1 ≤ x.toNat ∧ x.toNat ≤ 254 := by decide
  exact e _ (congrFun d i)

end Cert.Ranges

end
-- ==== Proof.Ends.lean ====
/- Hand-written, untrusted: the arrays, tables and own buffers at the ends of the region. -/
module

public import proofs.«01_k».proof.Proof.Gen.Kernel.Launch
public import Idealize.ShloMosaic.Lib.Pipeline.FrameBody
public import Idealize.ShloMosaic.Lib.StableHlo.Run
public import proofs.«01_k».proof.Proof.Later

@[expose] public section

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The arrays when the region is entered -/

/-- Core `c`'s buffers after the reshape before the region. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := rfl

theorem hmain (𝒱₀ : Variants) : Pipeline.HMainP (Ix := Unit) (Name := ℕ) (U := Pipeline.UD sig nD τ) (Lvl := ℕ) (pcfgs (F := F)) 0 defs₀ 𝒱₀ m (main (F := F)) (V m) :=
  Pipeline.hmainP_prefix pcfgs 0 defs₀ 𝒱₀ m main hostOps0 hostOps0_sub hostOps0_fresh main_chain

/-- The reshape writes its own result only. -/
theorem V_of_ne (c : Dev nD) {b : Ref sig .tc} (hb : b ≠ main_v0) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

/-- The reshape's result. -/
theorem V_v0 (c : Dev nD) : (V m c main_v0 : S128x4096.Idx → Elt F .bf16) = shapeCast S128x4096 (m ((c : Thread nD τ).loc main_arg0) : S1x128x4096.Idx → Elt F .bf16) shapeCasts_S1x128x4096_S128x4096 := rfl

/-! ## The tables -/

def tbl : pre0.Contents (Elt F) := fun j => V m (0 : Dev nD) (pre0.ref j)
theorem V_pre (c : Dev nD) (j : Fin 4) : V m c (pre0.ref j) = tbl m j := by
  obtain rfl : c = 0 := Subsingleton.elim _ _; rfl
abbrev adm : (pcfg0 (F := F)).Adm := ⟨tbl m, trivial⟩

/-- The first slots, the ranks, the segment bounds and the segments' adapters. -/
abbrev T1 : S11.Idx → Elt F .i32 := m (((0 : Dev nD) : Thread nD τ).loc main_arg5)
abbrev T2 : S11.Idx → Elt F .i32 := m (((0 : Dev nD) : Thread nD τ).loc main_arg6)
abbrev T3 : S7.Idx → Elt F .i32 := m (((0 : Dev nD) : Thread nD τ).loc main_arg8)
abbrev T4 : S6.Idx → Elt F .i32 := m (((0 : Dev nD) : Thread nD τ).loc main_arg9)
abbrev sgM : Fin 6 → Seg := sgT (T1 m) (T2 m) (T3 m) (T4 m)
/-- The pools. -/
abbrev PA (c : Dev nD) : S900x4096.Idx → Elt F .bf16 := m ((c : Thread nD τ).loc main_arg3)
abbrev PB (c : Dev nD) : S900x14336.Idx → Elt F .bf16 := m ((c : Thread nD τ).loc main_arg4)

abbrev tabs (c : Dev nD) : sProp 𝕄 :=
  iprop(owns (c : Thread nD τ) (Memref.whole main_arg5 : Memref sig .tc .smem S11 .i32) fullShare.right (T1 m) ∗ owns (c : Thread nD τ) (Memref.whole main_arg6 : Memref sig .tc .smem S11 .i32) fullShare.right (T2 m)
    ∗ owns (c : Thread nD τ) (Memref.whole main_arg8 : Memref sig .tc .smem S7 .i32) fullShare.right (T3 m) ∗ owns (c : Thread nD τ) (Memref.whole main_arg9 : Memref sig .tc .smem S6 .i32) fullShare.right (T4 m))

theorem PhiT0_eq (c : Dev nD) : (Pipeline.ΦT pre0 (tbl m) c : sProp 𝕄) = tabs m c := by
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  simp only [tabs, owns_whole]
  obtain rfl : c = 0 := Subsingleton.elim _ _
  rw [show tbl m 0 = T1 m from V_of_ne m 0 (b := main_arg5) (by decide), show tbl m 1 = T2 m from V_of_ne m 0 (b := main_arg6) (by decide),
    show tbl m 2 = T3 m from V_of_ne m 0 (b := main_arg8) (by decide), show tbl m 3 = T4 m from V_of_ne m 0 (b := main_arg9) (by decide)]
  rfl

/-! ## The kernel's own cells, buffers and pools at the region's entry and exit -/

abbrev osem0 : Fin 18 → SemLoc sig := ![smA 0, smA 1, smA 2, smA 3, smA 4, smA 5, smB 0 0, smB 0 1, smB 0 2, smB 0 3, smB 0 4, smB 0 5, smB 1 0, smB 1 1, smB 1 2, smB 1 3, smB 1 4, smB 1 5]
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), smA 0) 0 ∗ semVal ((c : Thread nD τ), smA 1) 0 ∗ semVal ((c : Thread nD τ), smA 2) 0 ∗ semVal ((c : Thread nD τ), smA 3) 0 ∗ semVal ((c : Thread nD τ), smA 4) 0 ∗ semVal ((c : Thread nD τ), smA 5) 0 ∗ semVal ((c : Thread nD τ), smB 0 0) 0 ∗ semVal ((c : Thread nD τ), smB 0 1) 0 ∗ semVal ((c : Thread nD τ), smB 0 2) 0 ∗ semVal ((c : Thread nD τ), smB 0 3) 0 ∗ semVal ((c : Thread nD τ), smB 0 4) 0 ∗ semVal ((c : Thread nD τ), smB 0 5) 0 ∗ semVal ((c : Thread nD τ), smB 1 0) 0 ∗ semVal ((c : Thread nD τ), smB 1 1) 0 ∗ semVal ((c : Thread nD τ), smB 1 2) 0 ∗ semVal ((c : Thread nD τ), smB 1 3) 0 ∗ semVal ((c : Thread nD τ), smB 1 4) 0 ∗ semVal ((c : Thread nD τ), smB 1 5) 0) := by
  rw [Pipeline.ownSems0_eq_of_list c osem0 [0, 1, 2, 3, 4, 5, 6, 7, 8, 9, 10, 11, 12, 13, 14, 15, 16, 17] (by decide) (by decide)]; rfl
def H0 : Finset (Ref sig .tc) := {main_arg3, main_arg4}
theorem H0_sub : H0 ⊆ Pipeline.restRefsP sig pre0 spec0 := by decide
theorem hbmPts0_eq (c : Dev nD) :
    (bigSep H0 (fun b => ((c : Thread nD τ).loc b) ↦{fullShare} V m c b) : sProp 𝕄)
      = iprop(ptPA c Finset.univ fullShare (PA m c) ∗ ptPB c Finset.univ fullShare (PB m c)) := by
  rw [BI.bigSep_eq_bigSepL_of_eq [main_arg3, main_arg4] (by decide) (by decide)]
  show iprop((((c : Thread nD τ).loc main_arg3) ↦{fullShare} V m c main_arg3) ∗ (((c : Thread nD τ).loc main_arg4) ↦{fullShare} V m c main_arg4)) = _
  rw [V_of_ne m c (b := main_arg3) (by decide), V_of_ne m c (b := main_arg4) (by decide)]
theorem PhiD0_eq (c : Dev nD) :
    (Pipeline.ΦD osem0 spec0 H0 (V m) c : sProp 𝕄)
      = iprop(((∃ f, ptA c Finset.univ f) ∗ (∃ f, ptB c Finset.univ f) ∗ (∃ d, owns (c : Thread nD τ) Hm fullShare d))
          ∗ (∃ r, prngReg c r)
          ∗ (semVal ((c : Thread nD τ), smA 0) 0 ∗ semVal ((c : Thread nD τ), smA 1) 0 ∗ semVal ((c : Thread nD τ), smA 2) 0 ∗ semVal ((c : Thread nD τ), smA 3) 0 ∗ semVal ((c : Thread nD τ), smA 4) 0 ∗ semVal ((c : Thread nD τ), smA 5) 0 ∗ semVal ((c : Thread nD τ), smB 0 0) 0 ∗ semVal ((c : Thread nD τ), smB 0 1) 0 ∗ semVal ((c : Thread nD τ), smB 0 2) 0 ∗ semVal ((c : Thread nD τ), smB 0 3) 0 ∗ semVal ((c : Thread nD τ), smB 0 4) 0 ∗ semVal ((c : Thread nD τ), smB 0 5) 0 ∗ semVal ((c : Thread nD τ), smB 1 0) 0 ∗ semVal ((c : Thread nD τ), smB 1 1) 0 ∗ semVal ((c : Thread nD τ), smB 1 2) 0 ∗ semVal ((c : Thread nD τ), smB 1 3) 0 ∗ semVal ((c : Thread nD τ), smB 1 4) 0 ∗ semVal ((c : Thread nD τ), smB 1 5) 0)
          ∗ (ptPA c Finset.univ fullShare (PA m c) ∗ ptPB c Finset.univ fullShare (PB m c))) := by
  rw [Pipeline.ΦD_eq, scopedRest0_eq, ownSems00_eq, hbmPts0_eq]
  simp only [Hm, owns_whole]
  rfl

theorem Inv0_of (c : Dev nD) :
    (Pipeline.ΦD osem0 spec0 H0 (V m) c : sProp 𝕄) ⊢ iprop(Inv0 c (PA m c) (PB m c) ∗ ∃ r, prngReg c r) := by
  rw [PhiD0_eq]; unfold Inv0
  iintro ⟨⟨HA, HB, HH⟩, Hr, ⟨s0, s1, s2, s3, s4, s5, s6, s7, s8, s9, s10, s11, s12, s13, s14, s15, s16, s17⟩, HPA, HPB⟩
  isplitl [HA HB HH s0 s1 s2 s3 s4 s5 s6 s7 s8 s9 s10 s11 s12 s13 s14 s15 s16 s17 HPA HPB]
  · isplitl [HA]
    · iexact HA
    isplitl [HB]
    · iexact HB
    isplitl [HH]
    · iexact HH
    isplitl [HPA]
    · iexact HPA
    isplitl [HPB]
    · iexact HPB
    isplitl [s0 s1 s2 s3 s4 s5]
    · isplitl [s0]
      · iexact s0
      isplitl [s1]
      · iexact s1
      isplitl [s2]
      · iexact s2
      isplitl [s3]
      · iexact s3
      isplitl [s4]
      · iexact s4
      iexact s5
    isplitl [s6 s7 s8 s9 s10 s11]
    · isplitl [s6]
      · iexact s6
      isplitl [s7]
      · iexact s7
      isplitl [s8]
      · iexact s8
      isplitl [s9]
      · iexact s9
      isplitl [s10]
      · iexact s10
      iexact s11
    isplitl [s12]
    · iexact s12
    isplitl [s13]
    · iexact s13
    isplitl [s14]
    · iexact s14
    isplitl [s15]
    · iexact s15
    isplitl [s16]
    · iexact s16
    iexact s17
  iexact Hr

/-- Buffers by segments and the rest are one buffer. -/
theorem joinB (sg : Fin 6 → Seg) (ok : ∀ s, (sg s).OK) (c : Dev nD) (p : ℕ) (G : Fin 6 → S2x512x512.Idx → Elt F .bf16) (r : S2x512x512.Idx → Elt F .bf16) :
    iprop(six (fun s => ptB c (WB p (gx sg s) (gy sg s)) (G s)) ∗ ptB c (restB sg p) r) ⊢ iprop(∃ f, ptB (F := F) c (slotB p) f) := by
  classical
  let f : S2x512x512.Idx → Elt F .bf16 := fun i => if h : ∃ s, inSeg sg (i 1).val s then G h.choose i else r i
  have h1 : ∀ s, (ptB c (WB p (gx sg s) (gy sg s)) (G s) : sProp 𝕄) = ptB c (WB p (gx sg s) (gy sg s)) f := fun s =>
    pointsTo_congr fun i hi => by
      have hs : inSeg sg (i 1).val s := (Finset.mem_filter.1 hi).2.2
      have h : ∃ s, inSeg sg (i 1).val s := ⟨s, hs⟩
      show _ = (if h : ∃ s, inSeg sg (i 1).val s then G h.choose i else r i)
      rw [dif_pos h, inSeg_unique sg ok _ _ _ h.choose_spec hs]
  have h2 : (ptB c (restB sg p) r : sProp 𝕄) = ptB c (restB sg p) f :=
    pointsTo_congr fun i hi => by
      have h : ¬ ∃ s, inSeg sg (i 1).val s := by
        rintro ⟨s, hs⟩
        exact (Finset.mem_sdiff.1 hi).2 (Finset.mem_biUnion.2 ⟨s, Finset.mem_univ _, Finset.mem_filter.2
          ⟨Finset.mem_univ _, (Finset.mem_filter.1 (Finset.mem_sdiff.1 hi).1).2, hs⟩⟩)
      show _ = (if h : ∃ s, inSeg sg (i 1).val s then G h.choose i else r i)
      rw [dif_neg h]
  refine BIBase.Entails.trans ?_ (exists_intro (Φ := fun f => ptB (F := F) c (slotB p) f) f)
  refine BIBase.Entails.trans ?_ (splitB sg ok c p f).2
  rw [h2]
  exact sep_mono_left (six_mono fun s => Entails.of_eq (h1 s))

theorem joinSlots (c : Dev nD) :
    iprop((∃ f, ptB (F := F) c (slotB 0) f) ∗ (∃ f, ptB (F := F) c (slotB 1) f)) ⊢ iprop(∃ f, ptB (F := F) c Finset.univ f) := by
  iintro ⟨⟨%f, H0⟩, %g, H1⟩
  iexists (fun i => if (i 0).val = 0 then f i else g i)
  iapply (splitSlots c _).2
  isplitl [H0]
  · iapply (Entails.of_eq (show (ptB c (slotB 0) f : sProp 𝕄) = ptB c (slotB 0) (fun i => if (i 0).val = 0 then f i else g i) from
      pointsTo_congr fun i hi => by
        have := (Finset.mem_filter.1 hi).2
        show _ = if (i 0).val = 0 then f i else g i
        rw [if_pos this]))
    iexact H0
  · iapply (Entails.of_eq (show (ptB c (slotB 1) g : sProp 𝕄) = ptB c (slotB 1) (fun i => if (i 0).val = 0 then f i else g i) from
      pointsTo_congr fun i hi => by
        have := (Finset.mem_filter.1 hi).2
        show _ = if (i 0).val = 0 then f i else g i
        rw [if_neg (by omega)]))
    iexact H1

/-- A slot's cells at rest and the rows of no segment: the slot, the pool's shares, the counters at zero. -/
theorem slot_of (sg : Fin 6 → Seg) (ok : ∀ s, (sg s).OK) (c : Dev nD) (p : ℕ) (pb : S900x14336.Idx → Elt F .bf16) (r : S2x512x512.Idx → Elt F .bf16) :
    iprop(six (cB c sg p pb) ∗ ptB c (restB sg p) r)
      ⊢ iprop((∃ f, ptB (F := F) c (slotB p) f) ∗ six (fun s => ptPB c Finset.univ (qB p s) pb) ∗ six (sB0 (F := F) c p)) := by
  have h : six (cB c sg p pb) ⊢ _ := (six_three (fun s => iprop(∃ g, ptB (F := F) c (WB p (gx sg s) (gy sg s)) g)) (fun s => ptPB c Finset.univ (qB p s) pb) (sB0 (F := F) c p)).2
  iintro ⟨HC, HR⟩
  icases (h) $$ HC with ⟨⟨⟨%g0, H0⟩, ⟨%g1, H1⟩, ⟨%g2, H2⟩, ⟨%g3, H3⟩, ⟨%g4, H4⟩, %g5, H5⟩, HP, HS⟩
  isplitl [H0 H1 H2 H3 H4 H5 HR]
  · iapply (joinB sg ok c p ![g0, g1, g2, g3, g4, g5] r)
    isplitl [H0 H1 H2 H3 H4 H5]
    · isplitl [H0]
      · iexact H0
      isplitl [H1]
      · iexact H1
      isplitl [H2]
      · iexact H2
      isplitl [H3]
      · iexact H3
      isplitl [H4]
      · iexact H4
      iexact H5
    · iexact HR
  isplitl [HP]
  · iexact HP
  iexact HS

theorem InvL_end (c : Dev nD) (ok : ∀ s, (sgM m s).OK) (hb : S128x512.Idx → Elt F .bf16) :
    iprop(InvL c (sgM m) (PA m c) (PB m c) hb 28 ∗ ∃ r, prngReg c r) ⊢ (Pipeline.ΦD osem0 spec0 H0 (V m) c : sProp 𝕄) := by
  rw [PhiD0_eq]; unfold InvL
  rw [if_neg (by decide : ¬ 28 < 28)]
  iintro ⟨⟨HA, HPA, ⟨s0, s1, s2, s3, s4, s5⟩, HH, HC0, HC1, HR0, HR1⟩, Hr⟩
  icases (slot_of (sgM m) ok c 0 (PB m c) (k0_pay3 (F := F))) $$ [HC0 HR0] with ⟨HB0, HP0, s6, s7, s8, s9, s10, s11⟩
  · isplitl [HC0]
    · iexact HC0
    iexact HR0
  icases (slot_of (sgM m) ok c 1 (PB m c) (k0_pay3 (F := F))) $$ [HC1 HR1] with ⟨HB1, HP1, s12, s13, s14, s15, s16, s17⟩
  · isplitl [HC1]
    · iexact HC1
    iexact HR1
  isplitl [HA HB0 HB1 HH]
  · isplitl [HA]
    · iexists _
      iexact HA
    isplitl [HB0 HB1]
    · iapply (joinSlots c)
      isplitl [HB0]
      · iexact HB0
      iexact HB1
    iexists _
    iexact HH
  isplitl [Hr]
  · iexact Hr
  isplitl [s0 s1 s2 s3 s4 s5 s6 s7 s8 s9 s10 s11 s12 s13 s14 s15 s16 s17]
  · isplitl [s0]
    · iexact s0
    isplitl [s1]
    · iexact s1
    isplitl [s2]
    · iexact s2
    isplitl [s3]
    · iexact s3
    isplitl [s4]
    · iexact s4
    isplitl [s5]
    · iexact s5
    isplitl [s6]
    · iexact s6
    isplitl [s7]
    · iexact s7
    isplitl [s8]
    · iexact s8
    isplitl [s9]
    · iexact s9
    isplitl [s10]
    · iexact s10
    isplitl [s11]
    · iexact s11
    isplitl [s12]
    · iexact s12
    isplitl [s13]
    · iexact s13
    isplitl [s14]
    · iexact s14
    isplitl [s15]
    · iexact s15
    isplitl [s16]
    · iexact s16
    iexact s17
  isplitl [HPA]
  · iexact HPA
  iapply (dealB c (PB m c)).2
  isplitl [HP0]
  · iexact HP0
  iexact HP1

end Cert.Kernel.Hand

end
-- ==== Proof.Part1.lean ====
/- Hand-written, untrusted: the first step's first part. -/
module

public import proofs.«01_k».proof.Proof.Steps

@[expose] public section

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 1000000 in
/-- The first step's first part: both staging buffers zeroed, the input-side rows' transfers and the output side's first
    segment's started. -/
theorem part1_run (c : Dev nD) (i : grid0.Coords) (arg1 : Memref sig .tc .smem S11 .i32) (harg1 : arg1.IsWhole) (arg2 : Memref sig .tc .smem S11 .i32) (harg2 : arg2.IsWhole) (arg3 : Memref sig .tc .smem S7 .i32) (harg3 : arg3.IsWhole) (arg4 : Memref sig .tc .smem S6 .i32) (harg4 : arg4.IsWhole) (arg5 : Memref sig .tc .smem S11 .f32) (harg5 : arg5.IsWhole) (arg6 : Memref sig .tc .vmem S128x4096 .bf16) (harg6 : arg6.IsWhole) (arg7 : Memref sig .tc .vmem S512x512 .i32) (harg7 : arg7.IsWhole) (arg8 : Memref sig .tc .vmem S128x512 .i8) (harg8 : arg8.IsWhole) (arg11 : Memref sig .tc .vmem S128x512 .bf16) (harg11 : arg11.IsWhole) (arg12 : Memref sig .tc .vmem S128x64 .bf16) (harg12 : arg12.IsWhole) (arg0 : BitVec 32) (v1 : Elt F .i32) (v2 : Elt F .i32) (v4 : Elt F .i32) (v6 : Elt F .i32) (k0_hw7 : k0_chk7 i v1 v2 v4 v6) (v23 : BitVec 32) (v47 : BitVec 32) (v50 : BitVec 32) (v52 : Elt F .i32) (v53 : Elt F .i32) (v55 : Elt F .i32) (v57 : Elt F .i32) (k0_hw8 : k0_chk8 i v1 v2 v4 v6 v52 v53 v55 v57) (v74 : BitVec 32) (v98 : BitVec 32) (v101 : BitVec 32) (v103 : Elt F .i32) (v104 : Elt F .i32) (v106 : Elt F .i32) (v108 : Elt F .i32) (k0_hw9 : k0_chk9 i v1 v2 v4 v6 v52 v53 v55 v57 v103 v104 v106 v108) (v125 : BitVec 32) (v149 : BitVec 32) (v152 : BitVec 32) (v154 : Elt F .i32) (v155 : Elt F .i32) (v157 : Elt F .i32) (v159 : Elt F .i32) (k0_hw10 : k0_chk10 i v1 v2 v4 v6 v52 v53 v55 v57 v103 v104 v106 v108 v154 v155 v157 v159) (v176 : BitVec 32) (v200 : BitVec 32) (v203 : BitVec 32) (v205 : Elt F .i32) (v206 : Elt F .i32) (v208 : Elt F .i32) (v210 : Elt F .i32) (k0_hw11 : k0_chk11 i v1 v2 v4 v6 v52 v53 v55 v57 v103 v104 v106 v108 v154 v155 v157 v159 v205 v206 v208 v210) (v227 : BitVec 32) (v251 : BitVec 32) (v254 : BitVec 32) (v256 : Elt F .i32) (v257 : Elt F .i32) (v259 : Elt F .i32) (v261 : Elt F .i32) (k0_hw12 : k0_chk12 i v1 v2 v4 v6 v52 v53 v55 v57 v103 v104 v106 v108 v154 v155 v157 v159 v205 v206 v208 v210 v256 v257 v259 v261) (v278 : BitVec 32) (v302 : BitVec 32) (c0_i32_125 : BitVec 32) (k0_h1 : k0_cond1 i = 1#1)
    (sg : Fin 6 → Seg) (hsg : sg = (mkSg v1 v2 v4 v6 v52 v53 v55 v57 v103 v104 v106 v108 v154 v155 v157 v159 v205 v206 v208 v210 v256 v257 v259 v261)) (ok : ∀ s, (sg s).OK) (pa : S900x4096.Idx → Elt F .bf16) (pb : S900x14336.Idx → Elt F .bf16) {Q : BitVec 32 → sProp 𝕄} :
    iprop((∃ f, ptA c Finset.univ f) ∗ (∃ f, ptB c Finset.univ f) ∗ ptPA c Finset.univ fullShare pa ∗ ptPB c Finset.univ fullShare pb
        ∗ six (sA0 (F := F) c) ∗ six (sB0 (F := F) c 0) ∗ six (sB0 (F := F) c 1)
        ∗ (iprop(six (fA c sg pa) ∗ ptA c (restA sg) (FA sg pa)
            ∗ fB c sg (pW i).toNat (qW i).toNat (i 0).val pb 0 ∗ cB c sg (pW i).toNat pb 1 ∗ cB c sg (pW i).toNat pb 2 ∗ cB c sg (pW i).toNat pb 3 ∗ cB c sg (pW i).toNat pb 4 ∗ cB c sg (pW i).toNat pb 5
            ∗ six (cB c sg 1 pb) ∗ ptB c (restB sg 0) (k0_pay3 (F := F)) ∗ ptB c (restB sg 1) (k0_pay3 (F := F))) -∗ Q 0#32))
      ⊢ wp frame (wpE (defs₀ (F := F)) Variants.none (c : Thread nD τ) none) Set.univ
          (k0_part1 (F := F) i arg1 harg1 arg2 harg2 arg3 harg3 arg4 harg4 arg5 harg5 arg6 harg6 arg7 harg7 arg8 harg8 PAm (Memref.isWhole_whole _) PBm (Memref.isWhole_whole _) arg11 harg11 arg12 harg12 Am (Memref.isWhole_whole _) Bm (Memref.isWhole_whole _) Hm (Memref.isWhole_whole _) cc0_scratch3 cc0_scratch4 arg0 v1 v2 v4 v6 k0_hw7 v23 v47 v50 v52 v53 v55 v57 k0_hw8 v74 v98 v101 v103 v104 v106 v108 k0_hw9 v125 v149 v152 v154 v155 v157 v159 k0_hw10 v176 v200 v203 v205 v206 v208 v210 k0_hw11 v227 v251 v254 v256 v257 v259 v261 k0_hw12 v278 v302 c0_i32_125 k0_h1) Q := by
  have hi : (i 0).val = 0 := (cond1_iff i).1 k0_h1
  have hP : (pW i).toNat = 0 := by rw [pW_toNat, hi]
  rw [k0_part1_eq_skeleton]; unfold k0_part1_skel
  iintro ⟨⟨%fa, HA⟩, ⟨%fb, HB⟩, HPA, HPB, HsA, HsB0, HsB1, Hk⟩
  iapply (ldM c Am fa) $$ HA
  iintro HA
  iapply (stM c Am fa) $$ HA
  iintro HA
  iapply (ldM c Bm fb) $$ HB
  iintro HB
  iapply (stM c Bm fb) $$ HB
  iintro HB
  have eA : (Am.access (Rect.unit (s := S512x4096) ![0, 0] S512x4096.size inb_S512x4096_S512x4096_0_0)).write (Elt F) fa (k0_pay2 (F := F)) Finset.univ = k0_pay2 (F := F) :=
    Memref.write_access_unit_zero_univ (Elt F) cc0_scratch0 (by funext a; fin_cases a <;> rfl) _ fa _
  have eB : (Bm.access (Rect.unit (s := S2x512x512) ![0, 0, 0] S2x512x512.size inb_S2x512x512_S2x512x512_0_0_0)).write (Elt F) fb (k0_pay3 (F := F)) Finset.univ = k0_pay3 (F := F) :=
    Memref.write_access_unit_zero_univ (Elt F) cc0_scratch1 (by funext a; fin_cases a <;> rfl) _ fb _
  rw [eA, eB]
  ihave HA := (splitA sg ok c (k0_pay2 (F := F))).1 $$ HA
  icases HA with ⟨HAw, HAr⟩
  ihave HB := (splitSlots c (k0_pay3 (F := F))).1 $$ HB
  icases HB with ⟨HB0, HB1⟩
  ihave HB0 := (splitB sg ok c 0 (k0_pay3 (F := F))).1 $$ HB0
  icases HB0 with ⟨HB0w, HB0r⟩
  ihave HB1 := (splitB sg ok c 1 (k0_pay3 (F := F))).1 $$ HB1
  icases HB1 with ⟨HB1w, HB1r⟩
  ihave HPA := (Entails.of_eq (dealA c pa)) $$ HPA
  ihave HPB := (dealB c pb).1 $$ HPB
  icases HPB with ⟨HP0, HP1⟩
  ihave HcA := (mk_cA c sg (k0_pay2 (F := F)) pa) $$ [HAw HPA HsA]
  · isplitl [HAw]; · iexact HAw
    isplitl [HPA]; · iexact HPA
    iexact HsA
  ihave HcB0 := (mk_cB c sg 0 (k0_pay3 (F := F)) pb) $$ [HB0w HP0 HsB0]
  · isplitl [HB0w]; · iexact HB0w
    isplitl [HP0]; · iexact HP0
    iexact HsB0
  ihave HcB1 := (mk_cB c sg 1 (k0_pay3 (F := F)) pb) $$ [HB1w HP1 HsB1]
  · isplitl [HB1w]; · iexact HB1w
    isplitl [HP1]; · iexact HP1
    iexact HsB1
  ihave HcB0 := (Entails.of_eq (show six (cB c sg 0 pb) = six (cB c sg (pW i).toNat pb) by rw [hP])) $$ HcB0
  icases HcA with ⟨A0, A1, A2, A3, A4, A5⟩
  icases HcB0 with ⟨B0, B1, B2, B3, B4, B5⟩
  have hC0 : guardW (sg 0) = 1#1 ↔ 0 < gy sg 0 := guard_gy sg ok 0
  have hC1 : guardW (sg 1) = 1#1 ↔ 0 < gy sg 1 := guard_gy sg ok 1
  have hC2 : guardW (sg 2) = 1#1 ↔ 0 < gy sg 2 := guard_gy sg ok 2
  have hC3 : guardW (sg 3) = 1#1 ↔ 0 < gy sg 3 := guard_gy sg ok 3
  have hC4 : guardW (sg 4) = 1#1 ↔ 0 < gy sg 4 := guard_gy sg ok 4
  have hC5 : guardW (sg 5) = 1#1 ↔ 0 < gy sg 5 := guard_gy sg ok 5
  iapply (startA c (C := k0_cond2 v1 v2 v4 v6 = 1#1) 0 (qA 0) pa (FA sg pa) (by rw [hsg] at hC0 ⊢; exact hC0) (FA_at sg ok pa 0) (by rw [hsg]; rfl) (by rw [hsg]; rfl) (by rw [hsg]; rfl) rfl) $$ A0
  iintro A0
  iapply (startA c (C := k0_cond3 v52 v53 v55 v57 = 1#1) 1 (qA 1) pa (FA sg pa) (by rw [hsg] at hC1 ⊢; exact hC1) (FA_at sg ok pa 1) (by rw [hsg]; rfl) (by rw [hsg]; rfl) (by rw [hsg]; rfl) rfl) $$ A1
  iintro A1
  iapply (startA c (C := k0_cond4 v103 v104 v106 v108 = 1#1) 2 (qA 2) pa (FA sg pa) (by rw [hsg] at hC2 ⊢; exact hC2) (FA_at sg ok pa 2) (by rw [hsg]; rfl) (by rw [hsg]; rfl) (by rw [hsg]; rfl) rfl) $$ A2
  iintro A2
  iapply (startA c (C := k0_cond5 v154 v155 v157 v159 = 1#1) 3 (qA 3) pa (FA sg pa) (by rw [hsg] at hC3 ⊢; exact hC3) (FA_at sg ok pa 3) (by rw [hsg]; rfl) (by rw [hsg]; rfl) (by rw [hsg]; rfl) rfl) $$ A3
  iintro A3
  iapply (startA c (C := k0_cond6 v205 v206 v208 v210 = 1#1) 4 (qA 4) pa (FA sg pa) (by rw [hsg] at hC4 ⊢; exact hC4) (FA_at sg ok pa 4) (by rw [hsg]; rfl) (by rw [hsg]; rfl) (by rw [hsg]; rfl) rfl) $$ A4
  iintro A4
  iapply (startA c (C := k0_cond7 v256 v257 v259 v261 = 1#1) 5 (qA 5) pa (FA sg pa) (by rw [hsg] at hC5 ⊢; exact hC5) (FA_at sg ok pa 5) (by rw [hsg]; rfl) (by rw [hsg]; rfl) (by rw [hsg]; rfl) rfl) $$ A5
  iintro A5
  iapply (startB c (C := k0_cond8 v1 v2 v4 v6 = 1#1) (p := (pW i).toNat) (q := (qW i).toNat) (x := gx sg 0) (y := gy sg 0) (g := gg sg 0) 0 (qB (pW i).toNat 0) pb (FB sg pb (i 0).val) (by rw [hsg] at hC0 ⊢; exact hC0) (pW_le i)
    (fun i' j' _ h1 h2 h3 h4 => FB_at sg ok pb (i 0).val (i 0).isLt 0 i' j' h1 h2 h3 (by rw [h4, qW_toNat])) (by rw [hsg]; rfl) (by rw [hsg]; rfl) (by rw [hsg]; rfl) (by rw [hsg]; rfl) rfl) $$ B0
  iintro B0
  iapply (wp_retE c)
  iapply Hk
  isplitl [A0 A1 A2 A3 A4 A5]
  · isplitl [A0]
    · iexact A0
    isplitl [A1]
    · iexact A1
    isplitl [A2]
    · iexact A2
    isplitl [A3]
    · iexact A3
    isplitl [A4]
    · iexact A4
    iexact A5
  isplitl [HAr]
  · iapply (Entails.of_eq (FA_rest sg pa c))
    iexact HAr
  isplitl [B0]
  · iexact B0
  isplitl [B1]
  · iexact B1
  isplitl [B2]
  · iexact B2
  isplitl [B3]
  · iexact B3
  isplitl [B4]
  · iexact B4
  isplitl [B5]
  · iexact B5
  isplitl [HcB1]
  · iexact HcB1
  isplitl [HB0r]
  · iexact HB0r
  iexact HB1r

end Cert.Kernel.Hand

end
-- ==== Proof.First.lean ====
/- Hand-written, untrusted: the first step up to its weight block. -/
module

public import proofs.«01_k».proof.Proof.Part1
public import proofs.«01_k».proof.Proof.Part12

@[expose] public section

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 4000000 in
/-- The first step up to its weight block: everything started, the rank side computed and kept. -/
theorem part12_first (c : Dev nD) (i : grid0.Coords) (arg1 : Memref sig .tc .smem S11 .i32) (harg1 : arg1.IsWhole) (arg2 : Memref sig .tc .smem S11 .i32) (harg2 : arg2.IsWhole) (arg3 : Memref sig .tc .smem S7 .i32) (harg3 : arg3.IsWhole) (arg4 : Memref sig .tc .smem S6 .i32) (harg4 : arg4.IsWhole) (arg5 : Memref sig .tc .smem S11 .f32) (harg5 : arg5.IsWhole) (arg6 : Memref sig .tc .vmem S128x4096 .bf16) (harg6 : arg6.IsWhole) (arg7 : Memref sig .tc .vmem S512x512 .i32) (harg7 : arg7.IsWhole) (arg8 : Memref sig .tc .vmem S128x512 .i8) (harg8 : arg8.IsWhole) (arg11 : Memref sig .tc .vmem S128x512 .bf16) (harg11 : arg11.IsWhole) (arg12 : Memref sig .tc .vmem S128x64 .bf16) (harg12 : arg12.IsWhole) (arg0 : BitVec 32) (v0 : Elt F .i32) (k0_hw1 : k0_chk1 i v0) (v1 : Elt F .i32) (v2 : Elt F .i32) (v4 : Elt F .i32) (v6 : Elt F .i32) (k0_hw7 : k0_chk7 i v1 v2 v4 v6) (v23 : BitVec 32) (v47 : BitVec 32) (v49 : BitVec 32) (v50 : BitVec 32) (v51 : Elt F .i32) (k0_hw2 : k0_chk2 i v51) (v52 : Elt F .i32) (v53 : Elt F .i32) (v55 : Elt F .i32) (v57 : Elt F .i32) (k0_hw8 : k0_chk8 i v1 v2 v4 v6 v52 v53 v55 v57) (v74 : BitVec 32) (v98 : BitVec 32) (v100 : BitVec 32) (v101 : BitVec 32) (v102 : Elt F .i32) (k0_hw3 : k0_chk3 i v102) (v103 : Elt F .i32) (v104 : Elt F .i32) (v106 : Elt F .i32) (v108 : Elt F .i32) (k0_hw9 : k0_chk9 i v1 v2 v4 v6 v52 v53 v55 v57 v103 v104 v106 v108) (v125 : BitVec 32) (v149 : BitVec 32) (v151 : BitVec 32) (v152 : BitVec 32) (v153 : Elt F .i32) (k0_hw4 : k0_chk4 i v153) (v154 : Elt F .i32) (v155 : Elt F .i32) (v157 : Elt F .i32) (v159 : Elt F .i32) (k0_hw10 : k0_chk10 i v1 v2 v4 v6 v52 v53 v55 v57 v103 v104 v106 v108 v154 v155 v157 v159) (v176 : BitVec 32) (v200 : BitVec 32) (v202 : BitVec 32) (v203 : BitVec 32) (v204 : Elt F .i32) (k0_hw5 : k0_chk5 i v204) (v205 : Elt F .i32) (v206 : Elt F .i32) (v208 : Elt F .i32) (v210 : Elt F .i32) (k0_hw11 : k0_chk11 i v1 v2 v4 v6 v52 v53 v55 v57 v103 v104 v106 v108 v154 v155 v157 v159 v205 v206 v208 v210) (v227 : BitVec 32) (v251 : BitVec 32) (v253 : BitVec 32) (v254 : BitVec 32) (v255 : Elt F .i32) (k0_hw6 : k0_chk6 i v255) (v256 : Elt F .i32) (v257 : Elt F .i32) (v259 : Elt F .i32) (v261 : Elt F .i32) (k0_hw12 : k0_chk12 i v1 v2 v4 v6 v52 v53 v55 v57 v103 v104 v106 v108 v154 v155 v157 v159 v205 v206 v208 v210 v256 v257 v259 v261) (v278 : BitVec 32) (v280 : BitVec 32) (v281 : BitVec 1) (v282 : BitVec 32) (c8_i32_113 : BitVec 32) (hi0 : (i 0).val = 0)
    (sg : Fin 6 → Seg) (hsg : sg = (mkSg v1 v2 v4 v6 v52 v53 v55 v57 v103 v104 v106 v108 v154 v155 v157 v159 v205 v206 v208 v210 v256 v257 v259 v261)) (ok : ∀ s, (sg s).OK) (pa : S900x4096.Idx → Elt F .bf16) (pb : S900x14336.Idx → Elt F .bf16) (q5 q6 q7 : PosShare TreeShare) (d5 : S11.Idx → Elt F .f32) (d6 : S128x4096.Idx → Elt F .bf16) (d7 : S512x512.Idx → Elt F .i32) {Q : _ → sProp 𝕄} :
    iprop((∃ f, ptA c Finset.univ f) ∗ (∃ f, ptB c Finset.univ f) ∗ (∃ d, owns (c : Thread nD τ) Hm fullShare d) ∗ ptPA c Finset.univ fullShare pa ∗ ptPB c Finset.univ fullShare pb ∗ six (sA0 (F := F) c) ∗ six (sB0 (F := F) c 0) ∗ six (sB0 (F := F) c 1)
        ∗ (∃ W, owes (c : Thread nD τ) 0 W) ∗ owns (c : Thread nD τ) arg5 q5 d5 ∗ owns (c : Thread nD τ) arg6 q6 d6 ∗ owns (c : Thread nD τ) arg7 q7 d7 ∗ (∃ d, owns (c : Thread nD τ) arg12 fullShare d)
        ∗ (∀ z, iprop(six (fB c sg (pW i).toNat (qW i).toNat (i 0).val pb) ∗ six (fB c sg (pW' i).toNat (qW' i).toNat ((i 0).val + 1) pb) ∗ ptB c (restB sg 0) (k0_pay3 (F := F)) ∗ ptB c (restB sg 1) (k0_pay3 (F := F))
            ∗ ptA c Finset.univ (FA sg pa) ∗ ptPA c Finset.univ fullShare pa ∗ six (sA0 (F := F) c) ∗ (∃ W, owes (c : Thread nD τ) 0 W) ∗ owns (c : Thread nD τ) arg5 q5 d5 ∗ owns (c : Thread nD τ) arg6 q6 d6 ∗ owns (c : Thread nD τ) arg7 q7 d7
            ∗ owns (c : Thread nD τ) Hm fullShare (hbigOf v1 v2 v4 v6 v52 v53 v55 v57 v103 v104 v106 v108 v154 v155 v157 v159 v205 v206 v208 v210 v256 v257 v259 v261 v49 v100 v151 v202 v253 v254 v280 (sw d5 (Rect.unit (s := S11) (k0_off67 v0) S1.size (k0_off67_inb i v0 k0_hw1 ((cond21_iff i).2 hi0))) numel1_S1) (sw d5 (Rect.unit (s := S11) (k0_off68 v51) S1.size (k0_off68_inb i v51 k0_hw2 ((cond21_iff i).2 hi0))) numel1_S1) (sw d5 (Rect.unit (s := S11) (k0_off69 v102) S1.size (k0_off69_inb i v102 k0_hw3 ((cond21_iff i).2 hi0))) numel1_S1) (sw d5 (Rect.unit (s := S11) (k0_off70 v153) S1.size (k0_off70_inb i v153 k0_hw4 ((cond21_iff i).2 hi0))) numel1_S1) (sw d5 (Rect.unit (s := S11) (k0_off71 v204) S1.size (k0_off71_inb i v204 k0_hw5 ((cond21_iff i).2 hi0))) numel1_S1) (sw d5 (Rect.unit (s := S11) (k0_off72 v255) S1.size (k0_off72_inb i v255 k0_hw6 ((cond21_iff i).2 hi0))) numel1_S1) d6 (FA sg pa)) ∗ owns (c : Thread nD τ) arg12 fullShare (lhOf v1 v2 v4 v6 v52 v53 v55 v57 v103 v104 v106 v108 v154 v155 v157 v159 v205 v206 v208 v210 v256 v257 v259 v261 v49 v100 v151 v202 v253 v254 v280 (sw d5 (Rect.unit (s := S11) (k0_off67 v0) S1.size (k0_off67_inb i v0 k0_hw1 ((cond21_iff i).2 hi0))) numel1_S1) (sw d5 (Rect.unit (s := S11) (k0_off68 v51) S1.size (k0_off68_inb i v51 k0_hw2 ((cond21_iff i).2 hi0))) numel1_S1) (sw d5 (Rect.unit (s := S11) (k0_off69 v102) S1.size (k0_off69_inb i v102 k0_hw3 ((cond21_iff i).2 hi0))) numel1_S1) (sw d5 (Rect.unit (s := S11) (k0_off70 v153) S1.size (k0_off70_inb i v153 k0_hw4 ((cond21_iff i).2 hi0))) numel1_S1) (sw d5 (Rect.unit (s := S11) (k0_off71 v204) S1.size (k0_off71_inb i v204 k0_hw5 ((cond21_iff i).2 hi0))) numel1_S1) (sw d5 (Rect.unit (s := S11) (k0_off72 v255) S1.size (k0_off72_inb i v255 k0_hw6 ((cond21_iff i).2 hi0))) numel1_S1) d6 (FA sg pa))) -∗ Q ⟨z, iota .tc S512x8x512 32 [1] iota_S512x8x512_d1_w32, k0_pay26 d7⟩))
      ⊢ wp frame (wpE (defs₀ (F := F)) Variants.none (c : Thread nD τ) none) Set.univ (k0_part12 (F := F) i arg1 harg1 arg2 harg2 arg3 harg3 arg4 harg4 arg5 harg5 arg6 harg6 arg7 harg7 arg8 harg8 PAm (Memref.isWhole_whole _) PBm (Memref.isWhole_whole _) arg11 harg11 arg12 harg12 Am (Memref.isWhole_whole _) Bm (Memref.isWhole_whole _) Hm (Memref.isWhole_whole _) cc0_scratch3 cc0_scratch4 arg0 v0 k0_hw1 v1 v2 v4 v6 k0_hw7 v23 v47 v49 v50 v51 k0_hw2 v52 v53 v55 v57 k0_hw8 v74 v98 v100 v101 v102 k0_hw3 v103 v104 v106 v108 k0_hw9 v125 v149 v151 v152 v153 k0_hw4 v154 v155 v157 v159 k0_hw10 v176 v200 v202 v203 v204 k0_hw5 v205 v206 v208 v210 k0_hw11 v227 v251 v253 v254 v255 k0_hw6 v256 v257 v259 v261 k0_hw12 v278 v280 v281 v282 c8_i32_113) Q := by
  have k0_h1 : k0_cond1 i = 1#1 := (cond1_iff i).2 hi0
  have k0_h14 : k0_cond14 i = 1#1 := (cond14_iff i).2 (by omega)
  have k0_h21 : k0_cond21 i = 1#1 := (cond21_iff i).2 hi0
  have hP' : (pW' i).toNat = 1 := by rw [pW'_toNat, hi0]
  rw [k0_part12_eq_skeleton]; unfold k0_part12_skel
  iintro ⟨HA, HB, ⟨%dh, HH⟩, HPA, HPB, HsA, HsB0, HsB1, HO, H5, H6, H7, ⟨%dl, H12⟩, Hk⟩
  have hC0 : guardW (sg 0) = 1#1 ↔ 0 < gy sg 0 := guard_gy sg ok 0
  have hC1 : guardW (sg 1) = 1#1 ↔ 0 < gy sg 1 := guard_gy sg ok 1
  have hC2 : guardW (sg 2) = 1#1 ↔ 0 < gy sg 2 := guard_gy sg ok 2
  have hC3 : guardW (sg 3) = 1#1 ↔ 0 < gy sg 3 := guard_gy sg ok 3
  have hC4 : guardW (sg 4) = 1#1 ↔ 0 < gy sg 4 := guard_gy sg ok 4
  have hC5 : guardW (sg 5) = 1#1 ↔ 0 < gy sg 5 := guard_gy sg ok 5
  iapply (ifT c k0_h1)
  iapply (bindE c)
  iapply (part1_run c (sg := sg) (hsg := hsg) (ok := ok) (pa := pa) (pb := pb))
  isplitl [HA]
  · iexact HA
  isplitl [HB]
  · iexact HB
  isplitl [HPA]
  · iexact HPA
  isplitl [HPB]
  · iexact HPB
  isplitl [HsA]
  · iexact HsA
  isplitl [HsB0]
  · iexact HsB0
  isplitl [HsB1]
  · iexact HsB1
  iintro ⟨HfA, HAr, B0, B1, B2, B3, B4, B5, HC1, HR0, HR1⟩
  iapply (startB c (C := k0_cond9 v52 v53 v55 v57 = 1#1) (p := (pW i).toNat) (q := (qW i).toNat) (x := gx sg 1) (y := gy sg 1) (g := gg sg 1) 1 (qB (pW i).toNat 1) pb (FB sg pb ((i 0).val)) (by rw [hsg] at hC1 ⊢; exact hC1) (pW_le i)
    (fun i' j' _ h1 h2 h3 h4 => FB_at sg ok pb ((i 0).val) (i 0).isLt 1 i' j' h1 h2 h3 (by rw [h4, qW_toNat])) (by rw [hsg]; rfl) (by rw [hsg]; rfl) (by rw [hsg]; rfl) (by rw [hsg]; rfl) rfl) $$ B1
  iintro B1
  iapply (startB c (C := k0_cond10 v103 v104 v106 v108 = 1#1) (p := (pW i).toNat) (q := (qW i).toNat) (x := gx sg 2) (y := gy sg 2) (g := gg sg 2) 2 (qB (pW i).toNat 2) pb (FB sg pb ((i 0).val)) (by rw [hsg] at hC2 ⊢; exact hC2) (pW_le i)
    (fun i' j' _ h1 h2 h3 h4 => FB_at sg ok pb ((i 0).val) (i 0).isLt 2 i' j' h1 h2 h3 (by rw [h4, qW_toNat])) (by rw [hsg]; rfl) (by rw [hsg]; rfl) (by rw [hsg]; rfl) (by rw [hsg]; rfl) rfl) $$ B2
  iintro B2
  iapply (startB c (C := k0_cond11 v154 v155 v157 v159 = 1#1) (p := (pW i).toNat) (q := (qW i).toNat) (x := gx sg 3) (y := gy sg 3) (g := gg sg 3) 3 (qB (pW i).toNat 3) pb (FB sg pb ((i 0).val)) (by rw [hsg] at hC3 ⊢; exact hC3) (pW_le i)
    (fun i' j' _ h1 h2 h3 h4 => FB_at sg ok pb ((i 0).val) (i 0).isLt 3 i' j' h1 h2 h3 (by rw [h4, qW_toNat])) (by rw [hsg]; rfl) (by rw [hsg]; rfl) (by rw [hsg]; rfl) (by rw [hsg]; rfl) rfl) $$ B3
  iintro B3
  iapply (startB c (C := k0_cond12 v205 v206 v208 v210 = 1#1) (p := (pW i).toNat) (q := (qW i).toNat) (x := gx sg 4) (y := gy sg 4) (g := gg sg 4) 4 (qB (pW i).toNat 4) pb (FB sg pb ((i 0).val)) (by rw [hsg] at hC4 ⊢; exact hC4) (pW_le i)
    (fun i' j' _ h1 h2 h3 h4 => FB_at sg ok pb ((i 0).val) (i 0).isLt 4 i' j' h1 h2 h3 (by rw [h4, qW_toNat])) (by rw [hsg]; rfl) (by rw [hsg]; rfl) (by rw [hsg]; rfl) (by rw [hsg]; rfl) rfl) $$ B4
  iintro B4
  iapply (startB c (C := k0_cond13 v256 v257 v259 v261 = 1#1) (p := (pW i).toNat) (q := (qW i).toNat) (x := gx sg 5) (y := gy sg 5) (g := gg sg 5) 5 (qB (pW i).toNat 5) pb (FB sg pb ((i 0).val)) (by rw [hsg] at hC5 ⊢; exact hC5) (pW_le i)
    (fun i' j' _ h1 h2 h3 h4 => FB_at sg ok pb ((i 0).val) (i 0).isLt 5 i' j' h1 h2 h3 (by rw [h4, qW_toNat])) (by rw [hsg]; rfl) (by rw [hsg]; rfl) (by rw [hsg]; rfl) (by rw [hsg]; rfl) rfl) $$ B5
  iintro B5
  ihave HC1 := (Entails.of_eq (show six (cB c sg 1 pb) = six (cB c sg (pW' i).toNat pb) by rw [hP'])) $$ HC1
  icases HC1 with ⟨D0, D1, D2, D3, D4, D5⟩
  iapply (ifT c k0_h14)
  iapply (startB c (C := k0_cond15 v1 v2 v4 v6 = 1#1) (p := (pW' i).toNat) (q := (qW' i).toNat) (x := gx sg 0) (y := gy sg 0) (g := gg sg 0) 0 (qB (pW' i).toNat 0) pb (FB sg pb ((i 0).val + 1)) (by rw [hsg] at hC0 ⊢; exact hC0) (pW'_le i)
    (fun i' j' _ h1 h2 h3 h4 => FB_at sg ok pb ((i 0).val + 1) (by omega) 0 i' j' h1 h2 h3 (by rw [h4, qW'_toNat])) (by rw [hsg]; rfl) (by rw [hsg]; rfl) (by rw [hsg]; rfl) (by rw [hsg]; rfl) rfl) $$ D0
  iintro D0
  iapply (startB c (C := k0_cond16 v52 v53 v55 v57 = 1#1) (p := (pW' i).toNat) (q := (qW' i).toNat) (x := gx sg 1) (y := gy sg 1) (g := gg sg 1) 1 (qB (pW' i).toNat 1) pb (FB sg pb ((i 0).val + 1)) (by rw [hsg] at hC1 ⊢; exact hC1) (pW'_le i)
    (fun i' j' _ h1 h2 h3 h4 => FB_at sg ok pb ((i 0).val + 1) (by omega) 1 i' j' h1 h2 h3 (by rw [h4, qW'_toNat])) (by rw [hsg]; rfl) (by rw [hsg]; rfl) (by rw [hsg]; rfl) (by rw [hsg]; rfl) rfl) $$ D1
  iintro D1
  iapply (startB c (C := k0_cond17 v103 v104 v106 v108 = 1#1) (p := (pW' i).toNat) (q := (qW' i).toNat) (x := gx sg 2) (y := gy sg 2) (g := gg sg 2) 2 (qB (pW' i).toNat 2) pb (FB sg pb ((i 0).val + 1)) (by rw [hsg] at hC2 ⊢; exact hC2) (pW'_le i)
    (fun i' j' _ h1 h2 h3 h4 => FB_at sg ok pb ((i 0).val + 1) (by omega) 2 i' j' h1 h2 h3 (by rw [h4, qW'_toNat])) (by rw [hsg]; rfl) (by rw [hsg]; rfl) (by rw [hsg]; rfl) (by rw [hsg]; rfl) rfl) $$ D2
  iintro D2
  iapply (startB c (C := k0_cond18 v154 v155 v157 v159 = 1#1) (p := (pW' i).toNat) (q := (qW' i).toNat) (x := gx sg 3) (y := gy sg 3) (g := gg sg 3) 3 (qB (pW' i).toNat 3) pb (FB sg pb ((i 0).val + 1)) (by rw [hsg] at hC3 ⊢; exact hC3) (pW'_le i)
    (fun i' j' _ h1 h2 h3 h4 => FB_at sg ok pb ((i 0).val + 1) (by omega) 3 i' j' h1 h2 h3 (by rw [h4, qW'_toNat])) (by rw [hsg]; rfl) (by rw [hsg]; rfl) (by rw [hsg]; rfl) (by rw [hsg]; rfl) rfl) $$ D3
  iintro D3
  iapply (startB c (C := k0_cond19 v205 v206 v208 v210 = 1#1) (p := (pW' i).toNat) (q := (qW' i).toNat) (x := gx sg 4) (y := gy sg 4) (g := gg sg 4) 4 (qB (pW' i).toNat 4) pb (FB sg pb ((i 0).val + 1)) (by rw [hsg] at hC4 ⊢; exact hC4) (pW'_le i)
    (fun i' j' _ h1 h2 h3 h4 => FB_at sg ok pb ((i 0).val + 1) (by omega) 4 i' j' h1 h2 h3 (by rw [h4, qW'_toNat])) (by rw [hsg]; rfl) (by rw [hsg]; rfl) (by rw [hsg]; rfl) (by rw [hsg]; rfl) rfl) $$ D4
  iintro D4
  iapply (startB c (C := k0_cond20 v256 v257 v259 v261 = 1#1) (p := (pW' i).toNat) (q := (qW' i).toNat) (x := gx sg 5) (y := gy sg 5) (g := gg sg 5) 5 (qB (pW' i).toNat 5) pb (FB sg pb ((i 0).val + 1)) (by rw [hsg] at hC5 ⊢; exact hC5) (pW'_le i)
    (fun i' j' _ h1 h2 h3 h4 => FB_at sg ok pb ((i 0).val + 1) (by omega) 5 i' j' h1 h2 h3 (by rw [h4, qW'_toNat])) (by rw [hsg]; rfl) (by rw [hsg]; rfl) (by rw [hsg]; rfl) (by rw [hsg]; rfl) rfl) $$ D5
  iintro D5
  iapply (ifT c k0_h21)
  iapply (bindE c)
  iapply (part2_run c (sg := sg) (hsg := hsg) (ok := ok) (pa := pa) (q5 := q5) (q6 := q6) (d5 := d5) (d6 := d6))
  isplitl [HfA]
  · iexact HfA
  isplitl [HAr]
  · iexact HAr
  isplitl [HO]
  · iexact HO
  isplitl [H6]
  · iexact H6
  isplitl [H5]
  · iexact H5
  iintro ⟨HA, HPA, HsA, HO, H6, H5⟩
  iapply (bindE c)
  iapply (part3_run c (q5 := q5) (d5 := d5))
  isplitl [H5]
  · iexact H5
  iintro H5
  iapply (bindE c)
  iapply (part4_run c (q5 := q5) (d5 := d5))
  isplitl [H5]
  · iexact H5
  iintro H5
  iapply (smO c arg5 d5) $$ H5
  iintro H5
  iapply (ldO c Hm dh) $$ HH
  iintro HH
  iapply (stO c Hm dh) $$ HH
  iintro HH
  iapply (ldO c arg12 dl) $$ H12
  iintro H12
  iapply (stO c arg12 dl) $$ H12
  iintro H12
  iapply (ldO c arg7 d7) $$ H7
  iintro H7
  iapply (wp_retE c)
  iapply Hk
  isplitl [B0 B1 B2 B3 B4 B5]
  · isplitl [B0]
    · iexact B0
    isplitl [B1]
    · iexact B1
    isplitl [B2]
    · iexact B2
    isplitl [B3]
    · iexact B3
    isplitl [B4]
    · iexact B4
    iexact B5
  isplitl [D0 D1 D2 D3 D4 D5]
  · isplitl [D0]
    · iexact D0
    isplitl [D1]
    · iexact D1
    isplitl [D2]
    · iexact D2
    isplitl [D3]
    · iexact D3
    isplitl [D4]
    · iexact D4
    iexact D5
  isplitl [HR0]
  · iexact HR0
  isplitl [HR1]
  · iexact HR1
  isplitl [HA]
  · iexact HA
  isplitl [HPA]
  · iexact HPA
  isplitl [HsA]
  · iexact HsA
  isplitl [HO]
  · iexact HO
  isplitl [H5]
  · iexact H5
  isplitl [H6]
  · iexact H6
  isplitl [H7]
  · iexact H7
  isplitl [HH]
  · iexact HH
  iexact H12

end Cert.Kernel.Hand

end
-- ==== Proof.FirstStep.lean ====
/- Hand-written, untrusted: the whole first step. -/
module

public import proofs.«01_k».proof.Proof.First
public import proofs.«01_k».proof.Proof.Later

@[expose] public section

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 1000000 in
/-- The first step. -/
theorem step_first (c : Dev nD) (i : grid0.Coords) (arg1 : Memref sig .tc .smem S11 .i32) (harg1 : arg1.IsWhole) (arg2 : Memref sig .tc .smem S11 .i32) (harg2 : arg2.IsWhole) (arg3 : Memref sig .tc .smem S7 .i32) (harg3 : arg3.IsWhole) (arg4 : Memref sig .tc .smem S6 .i32) (harg4 : arg4.IsWhole) (arg5 : Memref sig .tc .smem S11 .f32) (harg5 : arg5.IsWhole) (arg6 : Memref sig .tc .vmem S128x4096 .bf16) (harg6 : arg6.IsWhole) (arg7 : Memref sig .tc .vmem S512x512 .i32) (harg7 : arg7.IsWhole) (arg8 : Memref sig .tc .vmem S128x512 .i8) (harg8 : arg8.IsWhole) (arg11 : Memref sig .tc .vmem S128x512 .bf16) (harg11 : arg11.IsWhole) (arg12 : Memref sig .tc .vmem S128x64 .bf16) (harg12 : arg12.IsWhole) (hi0 : (i 0).val = 0)
    (q1 q2 q3 q4 q5 q6 q7 q8 : PosShare TreeShare) (d1 d2 : S11.Idx → Elt F .i32) (d3 : S7.Idx → Elt F .i32) (d4 : S6.Idx → Elt F .i32) (d5 : S11.Idx → Elt F .f32) (d6 : S128x4096.Idx → Elt F .bf16) (d7 : S512x512.Idx → Elt F .i32) (d8 : S128x512.Idx → Elt F .i8) (tok : TOK d1 d2 d3 d4) (pa : S900x4096.Idx → Elt F .bf16) (pb : S900x14336.Idx → Elt F .bf16) {Q : PUnit → sProp 𝕄} :
    iprop(Inv0 c pa pb ∗ (∃ d, owns (c : Thread nD τ) arg11 fullShare d) ∗ (∃ d, owns (c : Thread nD τ) arg12 fullShare d) ∗ owns (c : Thread nD τ) arg1 q1 d1 ∗ owns (c : Thread nD τ) arg2 q2 d2 ∗ owns (c : Thread nD τ) arg3 q3 d3 ∗ owns (c : Thread nD τ) arg4 q4 d4 ∗ (∃ W, owes (c : Thread nD τ) 0 W) ∗ owns (c : Thread nD τ) arg5 q5 d5 ∗ owns (c : Thread nD τ) arg6 q6 d6 ∗ owns (c : Thread nD τ) arg7 q7 d7 ∗ owns (c : Thread nD τ) arg8 q8 d8
        ∗ (iprop(InvL c (sgT d1 d2 d3 d4) pa pb (HBd d1 d2 d3 d4 d5 d6 (FA (sgT d1 d2 d3 d4) pa)) 1 ∗ owns (c : Thread nD τ) arg11 fullShare (yOf d6 d7 d8 (HBd d1 d2 d3 d4 d5 d6 (FA (sgT d1 d2 d3 d4) pa)) (slotRd i (FB (sgT d1 d2 d3 d4) pb (i 0).val))) ∗ owns (c : Thread nD τ) arg12 fullShare (LHd d1 d2 d3 d4 d5 d6 (FA (sgT d1 d2 d3 d4) pa)) ∗ owns (c : Thread nD τ) arg1 q1 d1 ∗ owns (c : Thread nD τ) arg2 q2 d2 ∗ owns (c : Thread nD τ) arg3 q3 d3 ∗ owns (c : Thread nD τ) arg4 q4 d4 ∗ (∃ W, owes (c : Thread nD τ) 0 W) ∗ owns (c : Thread nD τ) arg5 q5 d5 ∗ owns (c : Thread nD τ) arg6 q6 d6 ∗ owns (c : Thread nD τ) arg7 q7 d7 ∗ owns (c : Thread nD τ) arg8 q8 d8) -∗ Q ⟨⟩))
      ⊢ wp frame (wpE (defs₀ (F := F)) Variants.none (c : Thread nD τ) none) Set.univ (cc0_mxfp4_lora (F := F) i arg1 harg1 arg2 harg2 arg3 harg3 arg4 harg4 arg5 harg5 arg6 harg6 arg7 harg7 arg8 harg8 PAm (Memref.isWhole_whole _) PBm (Memref.isWhole_whole _) arg11 harg11 arg12 harg12 Am (Memref.isWhole_whole _) Bm (Memref.isWhole_whole _) Hm (Memref.isWhole_whole _) cc0_scratch3 cc0_scratch4) Q := by
  have k0_hw1 : k0_chk1 i (at6 d4 0) := chk1_ok i _ (tok.u 0)
  have k0_hw2 : k0_chk2 i (at6 d4 1) := chk2_ok i _ (tok.u 1)
  have k0_hw3 : k0_chk3 i (at6 d4 2) := chk3_ok i _ (tok.u 2)
  have k0_hw4 : k0_chk4 i (at6 d4 3) := chk4_ok i _ (tok.u 3)
  have k0_hw5 : k0_chk5 i (at6 d4 4) := chk5_ok i _ (tok.u 4)
  have k0_hw6 : k0_chk6 i (at6 d4 5) := chk6_ok i _ (tok.u 5)
  have k0_hw7 : k0_chk7 i (at7 d3 0) (at7 d3 1) (at11 d1 (at6 d4 0).toNat) (at11 d2 (at6 d4 0).toNat) := chk7_ok i _ _ _ _ (tok.ok 0)
  have k0_hw8 : k0_chk8 i (at7 d3 0) (at7 d3 1) (at11 d1 (at6 d4 0).toNat) (at11 d2 (at6 d4 0).toNat) (at7 d3 1) (at7 d3 2) (at11 d1 (at6 d4 1).toNat) (at11 d2 (at6 d4 1).toNat) := chk8_ok i _ _ _ _ _ _ _ _ (tok.ok 0) (tok.ok 1)
  have k0_hw9 : k0_chk9 i (at7 d3 0) (at7 d3 1) (at11 d1 (at6 d4 0).toNat) (at11 d2 (at6 d4 0).toNat) (at7 d3 1) (at7 d3 2) (at11 d1 (at6 d4 1).toNat) (at11 d2 (at6 d4 1).toNat) (at7 d3 2) (at7 d3 3) (at11 d1 (at6 d4 2).toNat) (at11 d2 (at6 d4 2).toNat) := chk9_ok i _ _ _ _ _ _ _ _ _ _ _ _ (tok.ok 0) (tok.ok 1) (tok.ok 2)
  have k0_hw10 : k0_chk10 i (at7 d3 0) (at7 d3 1) (at11 d1 (at6 d4 0).toNat) (at11 d2 (at6 d4 0).toNat) (at7 d3 1) (at7 d3 2) (at11 d1 (at6 d4 1).toNat) (at11 d2 (at6 d4 1).toNat) (at7 d3 2) (at7 d3 3) (at11 d1 (at6 d4 2).toNat) (at11 d2 (at6 d4 2).toNat) (at7 d3 3) (at7 d3 4) (at11 d1 (at6 d4 3).toNat) (at11 d2 (at6 d4 3).toNat) := chk10_ok i _ _ _ _ _ _ _ _ _ _ _ _ _ _ _ _ (tok.ok 0) (tok.ok 1) (tok.ok 2) (tok.ok 3)
  have k0_hw11 : k0_chk11 i (at7 d3 0) (at7 d3 1) (at11 d1 (at6 d4 0).toNat) (at11 d2 (at6 d4 0).toNat) (at7 d3 1) (at7 d3 2) (at11 d1 (at6 d4 1).toNat) (at11 d2 (at6 d4 1).toNat) (at7 d3 2) (at7 d3 3) (at11 d1 (at6 d4 2).toNat) (at11 d2 (at6 d4 2).toNat) (at7 d3 3) (at7 d3 4) (at11 d1 (at6 d4 3).toNat) (at11 d2 (at6 d4 3).toNat) (at7 d3 4) (at7 d3 5) (at11 d1 (at6 d4 4).toNat) (at11 d2 (at6 d4 4).toNat) := chk11_ok i _ _ _ _ _ _ _ _ _ _ _ _ _ _ _ _ _ _ _ _ (tok.ok 0) (tok.ok 1) (tok.ok 2) (tok.ok 3) (tok.ok 4)
  have k0_hw12 : k0_chk12 i (at7 d3 0) (at7 d3 1) (at11 d1 (at6 d4 0).toNat) (at11 d2 (at6 d4 0).toNat) (at7 d3 1) (at7 d3 2) (at11 d1 (at6 d4 1).toNat) (at11 d2 (at6 d4 1).toNat) (at7 d3 2) (at7 d3 3) (at11 d1 (at6 d4 2).toNat) (at11 d2 (at6 d4 2).toNat) (at7 d3 3) (at7 d3 4) (at11 d1 (at6 d4 3).toNat) (at11 d2 (at6 d4 3).toNat) (at7 d3 4) (at7 d3 5) (at11 d1 (at6 d4 4).toNat) (at11 d2 (at6 d4 4).toNat) (at7 d3 5) (at7 d3 6) (at11 d1 (at6 d4 5).toNat) (at11 d2 (at6 d4 5).toNat) := chk12_ok i _ _ _ _ _ _ _ _ _ _ _ _ _ _ _ _ _ _ _ _ _ _ _ _ (tok.ok 0) (tok.ok 1) (tok.ok 2) (tok.ok 3) (tok.ok 4) (tok.ok 5)
  have hsg := sgT_eq d1 d2 d3 d4
  unfold Inv0
  iintro ⟨⟨HA, HB, HH, HPA, HPB, HsA, HsB0, HsB1⟩, H11, H12, H1, H2, H3, H4, HO, H5, H6, H7, H8, Hk⟩
  iapply (words_run c i _ _ _ _ _ _ _ _ _ _ _ _ _ _ _ _ _ _ _ _ q1 q2 q3 q4 d1 d2 d3 d4
    (at6 d4 0) (sw6 d4 0 rfl) k0_hw1 (at7 d3 0) (at7 d3 1) (at11 d1 (at6 d4 0).toNat) (at11 d2 (at6 d4 0).toNat) (sw7 d3 0 rfl) (sw7 d3 1 rfl) (sw11 d1 _ rfl) (sw11 d2 _ rfl) k0_hw7
    (at6 d4 1) (sw6 d4 1 rfl) k0_hw2 (at7 d3 1) (at7 d3 2) (at11 d1 (at6 d4 1).toNat) (at11 d2 (at6 d4 1).toNat) (sw7 d3 1 rfl) (sw7 d3 2 rfl) (sw11 d1 _ rfl) (sw11 d2 _ rfl) k0_hw8
    (at6 d4 2) (sw6 d4 2 rfl) k0_hw3 (at7 d3 2) (at7 d3 3) (at11 d1 (at6 d4 2).toNat) (at11 d2 (at6 d4 2).toNat) (sw7 d3 2 rfl) (sw7 d3 3 rfl) (sw11 d1 _ rfl) (sw11 d2 _ rfl) k0_hw9
    (at6 d4 3) (sw6 d4 3 rfl) k0_hw4 (at7 d3 3) (at7 d3 4) (at11 d1 (at6 d4 3).toNat) (at11 d2 (at6 d4 3).toNat) (sw7 d3 3 rfl) (sw7 d3 4 rfl) (sw11 d1 _ rfl) (sw11 d2 _ rfl) k0_hw10
    (at6 d4 4) (sw6 d4 4 rfl) k0_hw5 (at7 d3 4) (at7 d3 5) (at11 d1 (at6 d4 4).toNat) (at11 d2 (at6 d4 4).toNat) (sw7 d3 4 rfl) (sw7 d3 5 rfl) (sw11 d1 _ rfl) (sw11 d2 _ rfl) k0_hw11
    (at6 d4 5) (sw6 d4 5 rfl) k0_hw6 (at7 d3 5) (at7 d3 6) (at11 d1 (at6 d4 5).toNat) (at11 d2 (at6 d4 5).toNat) (sw7 d3 5 rfl) (sw7 d3 6 rfl) (sw11 d1 _ rfl) (sw11 d2 _ rfl) k0_hw12)
  isplitl [H1]
  · iexact H1
  isplitl [H2]
  · iexact H2
  isplitl [H3]
  · iexact H3
  isplitl [H4]
  · iexact H4
  iintro %v23 %v47 %v50 %v74 %v98 %v101 %v125 %v149 %v152 %v176 %v200 %v203 %v227 %v251 %v278 %v281 %v282 %c8 %a0 %v49 %v100 %v151 %v202 %v253 %v254 %v280 %hv ⟨H1, H2, H3, H4⟩
  rw [← hsg] at hv
  obtain ⟨rfl, rfl, rfl, rfl, rfl, rfl, rfl⟩ := hv
  unfold root1
  iapply (bindE c)
  iapply (part12_first c (hi0 := hi0) (sg := sgT d1 d2 d3 d4) (hsg := hsg) (ok := tok.ok) (pa := pa) (pb := pb) (q5 := q5) (q6 := q6) (q7 := q7) (d5 := d5) (d6 := d6) (d7 := d7))
  isplitl [HA]
  · iexact HA
  isplitl [HB]
  · iexact HB
  isplitl [HH]
  · iexact HH
  isplitl [HPA]
  · iexact HPA
  isplitl [HPB]
  · iexact HPB
  isplitl [HsA]
  · iexact HsA
  isplitl [HsB0]
  · iexact HsB0
  isplitl [HsB1]
  · iexact HsB1
  isplitl [HO]
  · iexact HO
  isplitl [H5]
  · iexact H5
  isplitl [H6]
  · iexact H6
  isplitl [H7]
  · iexact H7
  isplitl [H12]
  · iexact H12
  iintro %z ⟨HF, HN, HR0, HR1, HA, HPA, HsA, HO, H5, H6, H7, HH, H12⟩
  have hp : (pW i).toNat = 0 := by rw [pW_toNat, hi0]
  rw [sw11 d5 (at6 d4 0).toNat rfl, sw11 d5 (at6 d4 1).toNat rfl, sw11 d5 (at6 d4 2).toNat rfl, sw11 d5 (at6 d4 3).toNat rfl, sw11 d5 (at6 d4 4).toNat rfl, sw11 d5 (at6 d4 5).toNat rfl]
  iapply (root2_run c (sg := sgT d1 d2 d3 d4) (hsg := hsg) (ok := tok.ok) (pb := pb) (q6 := q6) (q8 := q8) (d6 := d6) (d8 := d8) (hb := (HBd d1 d2 d3 d4 d5 d6 (FA (sgT d1 d2 d3 d4) pa))))
  isplitl [HF]
  · iexact HF
  isplitl [HR0]
  · iapply (Entails.of_eq (show (ptB c (restB (sgT d1 d2 d3 d4) 0) (k0_pay3 (F := F)) : sProp 𝕄) = ptB c (restB (sgT d1 d2 d3 d4) (pW i).toNat) (k0_pay3 (F := F)) by rw [hp]))
    iexact HR0
  isplitl [HO]
  · iexact HO
  isplitl [H6]
  · iexact H6
  isplitl [H8]
  · iexact H8
  isplitl [HH]
  · iexact HH
  isplitl [H11]
  · iexact H11
  iintro ⟨HC, HR0, HO, H6, H8, HH, H11⟩
  iapply Hk
  isplitl [HA HPA HsA HH HN HC HR0 HR1]
  · unfold InvL
    isplitl [HA]
    · iexact HA
    isplitl [HPA]
    · iexact HPA
    isplitl [HsA]
    · iexact HsA
    isplitl [HH]
    · iexact HH
    isplitl [HN]
    · rw [if_pos (by decide : 1 < 28)]
      iapply (Entails.of_eq (show six (fB c (sgT d1 d2 d3 d4) (pW' i).toNat (qW' i).toNat ((i 0).val + 1) pb) = six (fB c (sgT d1 d2 d3 d4) (1 % 2) (512 * 1) 1 pb) by rw [pW'_toNat, qW'_toNat, hi0]))
      iexact HN
    isplitl [HC]
    · iapply (Entails.of_eq (show six (cB c (sgT d1 d2 d3 d4) (pW i).toNat pb) = six (cB c (sgT d1 d2 d3 d4) ((1 + 1) % 2) pb) by rw [hp]))
      iexact HC
    isplitl [HR1]
    · iexact HR1
    iapply (Entails.of_eq (show (ptB c (restB (sgT d1 d2 d3 d4) (pW i).toNat) (k0_pay3 (F := F)) : sProp 𝕄) = ptB c (restB (sgT d1 d2 d3 d4) ((1 + 1) % 2)) (k0_pay3 (F := F)) by rw [hp]))
    iexact HR0
  isplitl [H11]
  · iexact H11
  isplitl [H12]
  · iexact H12
  isplitl [H1]
  · iexact H1
  isplitl [H2]
  · iexact H2
  isplitl [H3]
  · iexact H3
  isplitl [H4]
  · iexact H4
  isplitl [HO]
  · iexact HO
  isplitl [H5]
  · iexact H5
  isplitl [H6]
  · iexact H6
  isplitl [H7]
  · iexact H7
  iexact H8

end Cert.Kernel.Hand

end
-- ==== Proof.Run.lean ====
/- Hand-written, untrusted: the body at every point of the grid, and the run. -/
module

public import proofs.«01_k».proof.Proof.Ends
public import proofs.«01_k».proof.Proof.FirstStep

@[expose] public section

noncomputable section

namespace Cert.Kernel.Hand

open Cert.Kernel Cert.Kernel.Gen
open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the windows hold at a point -/

abbrev CF : Pipeline.Cfg sig Λ₀ := cfg0 (adm m)
/-- The first point. -/
abbrev t0 : Fin (CF m).N := ⟨0, by rw [show (CF m).N = 28 from N_0]; decide⟩
theorem coords0 (t : Fin (CF m).N) : (grid0.coords t 0).val = t.val := by
  have h := Pipeline.Grid.coords_val (G := grid0) t 0 (S := 1) (B := 28) (by decide) (by decide)
  have := Nat.lt_of_lt_of_eq t.isLt (show (CF m).N = 28 from N_0)
  rw [h]; omega
/-- The block of an operand at a point. -/
def inBlk (c : Dev nD) (w : Fin 6) (t : Fin (CF m).N) : (((CF m).win w).xblock ((CF m).grid.coords t)).Idx → Elt F ((CF m).win w).elt :=
  (((CF m).win w).blk t).view.read (Elt F) (V m c (Pipeline.arrRef spec0 w))
/-- What the first step keeps in its third buffer. -/
def HBm (c : Dev nD) : S128x512.Idx → Elt F .bf16 :=
  HBd (T1 m) (T2 m) (T3 m) (T4 m) (inBlk m c 0 (t0 m)) (inBlk m c 1 (t0 m)) (FA (sgM m) (PA m c))
/-- The second result. -/
def LHm (c : Dev nD) : S128x64.Idx → Elt F .bf16 :=
  LHd (T1 m) (T2 m) (T3 m) (T4 m) (inBlk m c 0 (t0 m)) (inBlk m c 1 (t0 m)) (FA (sgM m) (PA m c))
/-- A block of the first result. -/
def yBlk (c : Dev nD) (t : Fin (CF m).N) : S128x512.Idx → Elt F .bf16 :=
  yOf (inBlk m c 1 t) (inBlk m c 2 t) (inBlk m c 3 t) (HBm m c) (slotRd (grid0.coords t) (FB (sgM m) (PB m c) t.val))

/-- The state between the points. -/
def PhiN (c : Dev nD) (n : ℕ) : sProp 𝕄 :=
  if n = 0 then iprop(Pipeline.ΦD osem0 spec0 H0 (V m) c ∗ Pipeline.ΦT pre0 (tbl m) c)
  else iprop(InvL c (sgM m) (PA m c) (PB m c) (HBm m c) n ∗ (∃ r, prngReg c r) ∗ Pipeline.ΦT pre0 (tbl m) c)

def dats (_ : Fin 1) (c : Dev nD) : Dat τ (Elt F) Unit ℕ (Pipeline.UD sig nD τ) ℕ (CF m) c where
  A w := V m c (Pipeline.arrRef spec0 w)
  after w t := match w with
    | ⟨0, _⟩ => inBlk m c 0 t
    | ⟨1, _⟩ => inBlk m c 1 t
    | ⟨2, _⟩ => inBlk m c 2 t
    | ⟨3, _⟩ => inBlk m c 3 t
    | ⟨4, _⟩ => yBlk m c t
    | ⟨5, _⟩ => LHm m c
    | ⟨_ + 6, h⟩ => absurd h (Nat.not_lt.2 (Nat.le_add_left _ _))
  Φ t := PhiN m c t.val
  q _ := fullShare
  owed _ := 0

theorem A_eq (c : Dev nD) (w : Fin (CF m).W) : (dats m 0 c).A w = V m c (Pipeline.arrRef spec0 w) := rfl
theorem after0_0 (c : Dev nD) (t : Fin (CF m).N) : (dats m 0 c).after (0 : Fin 6) t = inBlk m c 0 t := rfl
theorem after0_1 (c : Dev nD) (t : Fin (CF m).N) : (dats m 0 c).after (1 : Fin 6) t = inBlk m c 1 t := rfl
theorem after0_2 (c : Dev nD) (t : Fin (CF m).N) : (dats m 0 c).after (2 : Fin 6) t = inBlk m c 2 t := rfl
theorem after0_3 (c : Dev nD) (t : Fin (CF m).N) : (dats m 0 c).after (3 : Fin 6) t = inBlk m c 3 t := rfl
theorem after0_4 (c : Dev nD) (t : Fin (CF m).N) : (dats m 0 c).after (4 : Fin 6) t = yBlk m c t := rfl
theorem after0_5 (c : Dev nD) (t : Fin (CF m).N) : (dats m 0 c).after (5 : Fin 6) t = LHm m c := rfl
theorem before0_0 (c : Dev nD) (t : Fin (CF m).N) (d) : (dats m 0 c).before (0 : Fin 6) t d = inBlk m c 0 t :=
  (dats m 0 c).before_in_eq_fetched (0 : Fin 6) rfl (fun _ => rfl) (fun _ _ _ => rfl) (fun _ => rfl) t d
theorem before0_1 (c : Dev nD) (t : Fin (CF m).N) (d) : (dats m 0 c).before (1 : Fin 6) t d = inBlk m c 1 t :=
  (dats m 0 c).before_in_eq_fetched (1 : Fin 6) rfl (fun _ => rfl) (fun _ _ _ => rfl) (fun _ => rfl) t d
theorem before0_2 (c : Dev nD) (t : Fin (CF m).N) (d) : (dats m 0 c).before (2 : Fin 6) t d = inBlk m c 2 t :=
  (dats m 0 c).before_in_eq_fetched (2 : Fin 6) rfl (fun _ => rfl) (fun _ _ _ => rfl) (fun _ => rfl) t d
theorem before0_3 (c : Dev nD) (t : Fin (CF m).N) (d) : (dats m 0 c).before (3 : Fin 6) t d = inBlk m c 3 t :=
  (dats m 0 c).before_in_eq_fetched (3 : Fin 6) rfl (fun _ => rfl) (fun _ _ _ => rfl) (fun _ => rfl) t d

/-- The second result's window is live at the first point only, and written back after the last. -/
theorem idle5_zero (t : Fin (CF m).N) (h : t.val = 0) : (CF m).idle (5 : Fin 6) ((CF m).grid.coords t) = false := by
  show (!(k0_cond21 (grid0.coords t) == 1#1)) = false
  rw [(cond21_iff _).2 ((coords0 m t).trans h)]; rfl
theorem idle5_pos (t : Fin (CF m).N) (h : t.val ≠ 0) : (CF m).idle (5 : Fin 6) ((CF m).grid.coords t) = true := by
  show (!(k0_cond21 (grid0.coords t) == 1#1)) = true
  have : k0_cond21 (grid0.coords t) ≠ 1#1 := fun e => h ((coords0 m t).symm.trans ((cond21_iff _).1 e))
  simp [this]
theorem flush5_false (t : Fin (CF m).N) (h : t.val ≠ 27) : ((CF m).win (5 : Fin 6)).flush t = false := by
  rw [← Bool.not_eq_true]
  intro hf
  rcases (((CF m).win (5 : Fin 6)).flush_out rfl t).1 hf with e | ⟨_, e⟩
  · have e' : t.val + 1 = 28 := e.trans N_0
    omega
  · exact e rfl
theorem flush5_true (t : Fin (CF m).N) (h : t.val = 27) : ((CF m).win (5 : Fin 6)).flush t = true :=
  (((CF m).win (5 : Fin 6)).flush_out rfl t).2 (Or.inl ((by omega : t.val + 1 = 28).trans N_0.symm))
theorem left5_zero (c : Dev nD) (t : Fin (CF m).N) (h : t.val = 0) (d) : (dats m 0 c).left (5 : Fin 6) t d = LHm m c := by
  unfold Dat.left; rw [idle5_zero m t h]; rfl
theorem left5_pos (c : Dev nD) (t : Fin (CF m).N) (h : t.val ≠ 0) (d) : (dats m 0 c).left (5 : Fin 6) t d = (dats m 0 c).before (5 : Fin 6) t d := by
  unfold Dat.left; rw [idle5_pos m t h]
theorem before5_aux (c : Dev nD) : ∀ (n : ℕ) (h : n + 1 < (CF m).N) (d), (dats m 0 c).before (5 : Fin 6) ⟨n + 1, h⟩ d = LHm m c
  | 0, h, d => by
    rw [(dats m 0 c).before_of_pos (5 : Fin 6) ⟨0 + 1, h⟩ (Nat.succ_ne_zero _) (((CF m).win (5 : Fin 6)).fetch_out rfl _) d,
      flush5_false m _ (by show 0 + 1 - 1 ≠ 27; decide), if_neg Bool.false_ne_true]
    exact left5_zero m c _ rfl d
  | n + 1, h, d => by
    have hN : n + 1 + 1 < 28 := by rw [← N_0]; exact h
    rw [(dats m 0 c).before_of_pos (5 : Fin 6) ⟨n + 1 + 1, h⟩ (Nat.succ_ne_zero _) (((CF m).win (5 : Fin 6)).fetch_out rfl _) d,
      flush5_false m _ (by show n + 1 + 1 - 1 ≠ 27; omega), if_neg Bool.false_ne_true]
    exact (left5_pos m c _ (Nat.succ_ne_zero n) d).trans (before5_aux c n (Nat.lt_of_succ_lt h) d)
theorem before0_5 (c : Dev nD) (t : Fin (CF m).N) (h : t.val ≠ 0) (d) : (dats m 0 c).before (5 : Fin 6) t d = LHm m c := by
  obtain ⟨n, hn⟩ := t
  obtain ⟨k, rfl⟩ := Nat.exists_eq_succ_of_ne_zero h
  exact before5_aux m c k hn d

abbrev ms0 (t : Fin (CF m).N) : Memref sig .tc .smem S11 .f32 := spec0_0.stage ((CF m).slots t (0 : Fin 6))
abbrev ms1 (t : Fin (CF m).N) : Memref sig .tc .vmem S128x4096 .bf16 := spec0_1.stage ((CF m).slots t (1 : Fin 6))
abbrev ms2 (t : Fin (CF m).N) : Memref sig .tc .vmem S512x512 .i32 := spec0_2.stage ((CF m).slots t (2 : Fin 6))
abbrev ms3 (t : Fin (CF m).N) : Memref sig .tc .vmem S128x512 .i8 := spec0_3.stage ((CF m).slots t (3 : Fin 6))
abbrev ms4 (t : Fin (CF m).N) : Memref sig .tc .vmem S128x512 .bf16 := spec0_4.stage ((CF m).slots t (4 : Fin 6))
abbrev ms5 (t : Fin (CF m).N) : Memref sig .tc .vmem S128x64 .bf16 := spec0_5.stage ((CF m).slots t (5 : Fin 6))

theorem leaves5_live (c : Dev nD) (t : Fin (CF m).N) (h : t.val = 0) :
    (dats m 0 c).leavesExact (5 : Fin 6) t = owns (c : Thread nD τ) (ms5 m t) fullShare (LHm m c) := by
  unfold Dat.leavesExact; rw [idle5_zero m t h]; rfl
theorem leaves5_idle (c : Dev nD) (t : Fin (CF m).N) (h : t.val ≠ 0) (h1 : t.val ≠ 27) :
    (dats m 0 c).leavesExact (5 : Fin 6) t = iprop(∃ d, owns (c : Thread nD τ) (ms5 m t) fullShare ((dats m 0 c).before (5 : Fin 6) t d)) := by
  unfold Dat.leavesExact; rw [idle5_pos m t h, flush5_false m t h1]
theorem leaves5_last (c : Dev nD) (t : Fin (CF m).N) (h : t.val ≠ 0) (h1 : ¬ (t.val + 1 < 28)) :
    (dats m 0 c).leavesExact (5 : Fin 6) t = owns (c : Thread nD τ) (ms5 m t) fullShare (LHm m c) := by
  have := Nat.lt_of_lt_of_eq t.isLt (show (CF m).N = 28 from N_0)
  unfold Dat.leavesExact; rw [idle5_pos m t h, flush5_true m t (by omega)]; rfl

/-! ## The body at a point -/

abbrev bodyAt0 (t : Fin (CF m).N) : Prog (TpuEff nD τ sig (Elt F) Λ₀ .tc) PUnit :=
  cc0_mxfp4_lora (grid0.coords t) (Memref.whole main_arg5) (Memref.isWhole_whole _) (Memref.whole main_arg6) (Memref.isWhole_whole _) (Memref.whole main_arg8) (Memref.isWhole_whole _) (Memref.whole main_arg9) (Memref.isWhole_whole _) (ms0 m t) (hstage0_0 (((CF m).slots t (0 : Fin 6)).cast nbuf0_0)) (ms1 m t) (hstage0_1 (((CF m).slots t (1 : Fin 6)).cast nbuf0_1)) (ms2 m t) (hstage0_2 (((CF m).slots t (2 : Fin 6)).cast nbuf0_2)) (ms3 m t) (hstage0_3 (((CF m).slots t (3 : Fin 6)).cast nbuf0_3)) PAm (Memref.isWhole_whole _) PBm (Memref.isWhole_whole _) (ms4 m t) (hstage0_4 (((CF m).slots t (4 : Fin 6)).cast nbuf0_4)) (ms5 m t) (hstage0_5 (((CF m).slots t (5 : Fin 6)).cast nbuf0_5)) Am (Memref.isWhole_whole _) Bm (Memref.isWhole_whole _) Hm (Memref.isWhole_whole _) cc0_scratch3 cc0_scratch4

theorem defs₀_row (t : Fin (CF m).N) : defs₀ (F := F) .tc (CF m).body ((CF m).bodyArgs t ((CF m).slots t)) = bodyAt0 m t := by
  unfold defs₀; rw [Defs.onTc_tc]

def bodyPre (c : Dev nD) (t : Fin (CF m).N) : sProp 𝕄 :=
  iprop((dats m 0 c).Φ t.castSucc ∗ (dats m 0 c).owesAt () t.castSucc
    ∗ (∃ d, owns (c : Thread nD τ) (ms0 m t) fullShare ((dats m 0 c).before (0 : Fin 6) t d))
    ∗ (∃ d, owns (c : Thread nD τ) (ms1 m t) fullShare ((dats m 0 c).before (1 : Fin 6) t d))
    ∗ (∃ d, owns (c : Thread nD τ) (ms2 m t) fullShare ((dats m 0 c).before (2 : Fin 6) t d))
    ∗ (∃ d, owns (c : Thread nD τ) (ms3 m t) fullShare ((dats m 0 c).before (3 : Fin 6) t d))
    ∗ (∃ d, owns (c : Thread nD τ) (ms4 m t) fullShare ((dats m 0 c).before (4 : Fin 6) t d))
    ∗ (∃ d, owns (c : Thread nD τ) (ms5 m t) fullShare ((dats m 0 c).before (5 : Fin 6) t d)))
def bodyPost (c : Dev nD) (t : Fin (CF m).N) : sProp 𝕄 :=
  iprop((dats m 0 c).Φ t.succ ∗ (dats m 0 c).owesAt () t.succ
    ∗ owns (c : Thread nD τ) (ms0 m t) fullShare ((dats m 0 c).after (0 : Fin 6) t)
    ∗ owns (c : Thread nD τ) (ms1 m t) fullShare ((dats m 0 c).after (1 : Fin 6) t)
    ∗ owns (c : Thread nD τ) (ms2 m t) fullShare ((dats m 0 c).after (2 : Fin 6) t)
    ∗ owns (c : Thread nD τ) (ms3 m t) fullShare ((dats m 0 c).after (3 : Fin 6) t)
    ∗ owns (c : Thread nD τ) (ms4 m t) fullShare ((dats m 0 c).after (4 : Fin 6) t)
    ∗ (dats m 0 c).leavesExact (5 : Fin 6) t)

theorem sound_first (tok : TOK (T1 m) (T2 m) (T3 m) (T4 m)) (c : Dev nD) (t : Fin (CF m).N) (h0 : t.val = 0) :
    bodyPre m c t ⊢ wp frame (wpE (defs₀ (F := F)) Variants.none (c : Thread nD τ) none) Set.univ (bodyAt0 m t) (fun _ => bodyPost m c t) := by
  have hc := coords0 m t
  have hs : (dats m 0 c).Φ t.succ = PhiN m c (t.val + 1) := rfl
  have hp : (dats m 0 c).Φ t.castSucc = PhiN m c t.val := rfl
  unfold bodyPre bodyPost bodyAt0
  rw [hs, hp]
  simp only [before0_0, before0_1, before0_2, before0_3, after0_0, after0_1, after0_2, after0_3, after0_4]
  have he : t = t0 m := Fin.ext h0
  rw [leaves5_live m c t h0]
  unfold PhiN
  rw [if_pos h0, if_neg (Nat.succ_ne_zero _), PhiT0_eq]
  unfold Dat.owesAt Pipeline.owesWithin
  rw [show (dats m 0 c).owed t.castSucc = 0 from rfl, show (dats m 0 c).owed t.succ = 0 from rfl]
  iintro ⟨⟨HD, Ht1, Ht2, Ht3, Ht4⟩, ⟨%W, -, HW⟩, ⟨%d0, H5⟩, ⟨%d1, H6⟩, ⟨%d2, H7⟩, ⟨%d3, H8⟩, ⟨%d4, H11⟩, ⟨%d5, H12⟩⟩
  icases (Inv0_of m c) $$ HD with ⟨HI, Hr⟩
  iapply (step_first c (grid0.coords t) (hi0 := hc.trans h0) (tok := tok) (pa := PA m c) (pb := PB m c) (d5 := inBlk m c 0 t) (d6 := inBlk m c 1 t) (d7 := inBlk m c 2 t) (d8 := inBlk m c 3 t))
  isplitl [HI]
  · iexact HI
  isplitl [H11]
  · iexists _
    iexact H11
  isplitl [H12]
  · iexists _
    iexact H12
  isplitl [Ht1]
  · iexact Ht1
  isplitl [Ht2]
  · iexact Ht2
  isplitl [Ht3]
  · iexact Ht3
  isplitl [Ht4]
  · iexact Ht4
  isplitl [HW]
  · iexists W
    iexact HW
  isplitl [H5]
  · iexact H5
  isplitl [H6]
  · iexact H6
  isplitl [H7]
  · iexact H7
  isplitl [H8]
  · iexact H8
  iintro ⟨HI, H11, H12, Ht1, Ht2, Ht3, Ht4, ⟨%W', HW⟩, H5, H6, H7, H8⟩
  isplitl [HI Hr Ht1 Ht2 Ht3 Ht4]
  · isplitl [HI]
    · iapply (Entails.of_eq (show InvL c (sgM m) (PA m c) (PB m c) (HBd (T1 m) (T2 m) (T3 m) (T4 m) (inBlk m c 0 t) (inBlk m c 1 t) (FA (sgM m) (PA m c))) 1 = InvL c (sgM m) (PA m c) (PB m c) (HBm m c) (t.val + 1) by rw [h0, he]; rfl))
      iexact HI
    isplitl [Hr]
    · iexact Hr
    isplitl [Ht1]
    · iexact Ht1
    isplitl [Ht2]
    · iexact Ht2
    isplitl [Ht3]
    · iexact Ht3
    iexact Ht4
  isplitl [HW]
  · iexists W'
    isplitr
    · ipureintro
      exact fun _ _ => Or.inl trivial
    iexact HW
  isplitl [H5]
  · iexact H5
  isplitl [H6]
  · iexact H6
  isplitl [H7]
  · iexact H7
  isplitl [H8]
  · iexact H8
  isplitl [H11]
  · iapply (Entails.of_eq (show owns (c : Thread nD τ) (ms4 m t) fullShare (yOf (inBlk m c 1 t) (inBlk m c 2 t) (inBlk m c 3 t) (HBd (T1 m) (T2 m) (T3 m) (T4 m) (inBlk m c 0 t) (inBlk m c 1 t) (FA (sgM m) (PA m c))) (slotRd (grid0.coords t) (FB (sgM m) (PB m c) (grid0.coords t 0).val))) = owns (c : Thread nD τ) (ms4 m t) fullShare (yBlk m c t) by unfold yBlk HBm; rw [hc, he]))
    iexact H11
  iapply (Entails.of_eq (show owns (c : Thread nD τ) (ms5 m t) fullShare (LHd (T1 m) (T2 m) (T3 m) (T4 m) (inBlk m c 0 t) (inBlk m c 1 t) (FA (sgM m) (PA m c))) = owns (c : Thread nD τ) (ms5 m t) fullShare (LHm m c) by unfold LHm; rw [he]))
  iexact H12

theorem sound_later (tok : TOK (T1 m) (T2 m) (T3 m) (T4 m)) (c : Dev nD) (t : Fin (CF m).N) (h0 : t.val ≠ 0) (h1 : t.val + 1 < 28) :
    bodyPre m c t ⊢ wp frame (wpE (defs₀ (F := F)) Variants.none (c : Thread nD τ) none) Set.univ (bodyAt0 m t) (fun _ => bodyPost m c t) := by
  have hc := coords0 m t
  have hs : (dats m 0 c).Φ t.succ = PhiN m c (t.val + 1) := rfl
  have hp : (dats m 0 c).Φ t.castSucc = PhiN m c t.val := rfl
  unfold bodyPre bodyPost bodyAt0
  rw [hs, hp]
  simp only [before0_0, before0_1, before0_2, before0_3, after0_0, after0_1, after0_2, after0_3, after0_4]
  unfold PhiN
  rw [if_neg h0, if_neg (Nat.succ_ne_zero _), PhiT0_eq]
  unfold Dat.owesAt Pipeline.owesWithin
  rw [show (dats m 0 c).owed t.castSucc = 0 from rfl, show (dats m 0 c).owed t.succ = 0 from rfl]
  iintro ⟨⟨HI, Hr, Ht1, Ht2, Ht3, Ht4⟩, ⟨%W, -, HW⟩, ⟨%d0, H5⟩, ⟨%d1, H6⟩, ⟨%d2, H7⟩, ⟨%d3, H8⟩, ⟨%d4, H11⟩, ⟨%d5, H12⟩⟩
  iapply (step_later c (grid0.coords t) (hi0 := by rw [hc]; exact h0) (hi1 := by rw [hc]; exact h1) (tok := tok) (pa := PA m c) (pb := PB m c) (d5 := inBlk m c 0 t) (d6 := inBlk m c 1 t) (d7 := inBlk m c 2 t) (d8 := inBlk m c 3 t) (hb := HBm m c))
  isplitl [HI]
  · iapply (Entails.of_eq (show InvL c (sgM m) (PA m c) (PB m c) (HBm m c) t.val = InvL c (sgM m) (PA m c) (PB m c) (HBm m c) (grid0.coords t 0).val by rw [hc]))
    iexact HI
  isplitl [H11]
  · iexists _
    iexact H11
  isplitl [Ht1]
  · iexact Ht1
  isplitl [Ht2]
  · iexact Ht2
  isplitl [Ht3]
  · iexact Ht3
  isplitl [Ht4]
  · iexact Ht4
  isplitl [HW]
  · iexists W
    iexact HW
  isplitl [H5]
  · iexact H5
  isplitl [H6]
  · iexact H6
  isplitl [H7]
  · iexact H7
  isplitl [H8]
  · iexact H8
  iintro ⟨HI, H11, Ht1, Ht2, Ht3, Ht4, ⟨%W', HW⟩, H5, H6, H7, H8⟩
  isplitl [HI Hr Ht1 Ht2 Ht3 Ht4]
  · isplitl [HI]
    · iapply (Entails.of_eq (show InvL c (sgM m) (PA m c) (PB m c) (HBm m c) ((grid0.coords t 0).val + 1) = InvL c (sgM m) (PA m c) (PB m c) (HBm m c) (t.val + 1) by rw [hc]))
      iexact HI
    isplitl [Hr]
    · iexact Hr
    isplitl [Ht1]
    · iexact Ht1
    isplitl [Ht2]
    · iexact Ht2
    isplitl [Ht3]
    · iexact Ht3
    iexact Ht4
  isplitl [HW]
  · iexists W'
    isplitr
    · ipureintro
      exact fun _ _ => Or.inl trivial
    iexact HW
  isplitl [H5]
  · iexact H5
  isplitl [H6]
  · iexact H6
  isplitl [H7]
  · iexact H7
  isplitl [H8]
  · iexact H8
  isplitl [H11]
  · iapply (Entails.of_eq (show owns (c : Thread nD τ) (ms4 m t) fullShare (yOf (inBlk m c 1 t) (inBlk m c 2 t) (inBlk m c 3 t) (HBm m c) (slotRd (grid0.coords t) (FB (sgM m) (PB m c) (grid0.coords t 0).val))) = owns (c : Thread nD τ) (ms4 m t) fullShare (yBlk m c t) by unfold yBlk; rw [hc]))
    iexact H11
  iapply (Entails.of_eq (leaves5_idle m c t h0 (by have := Nat.lt_of_lt_of_eq t.isLt (show (CF m).N = 28 from N_0); omega)).symm)
  iexists d5
  iexact H12

theorem sound_last (tok : TOK (T1 m) (T2 m) (T3 m) (T4 m)) (c : Dev nD) (t : Fin (CF m).N) (h0 : t.val ≠ 0) (h1 : ¬ (t.val + 1 < 28)) :
    bodyPre m c t ⊢ wp frame (wpE (defs₀ (F := F)) Variants.none (c : Thread nD τ) none) Set.univ (bodyAt0 m t) (fun _ => bodyPost m c t) := by
  have hc := coords0 m t
  have hs : (dats m 0 c).Φ t.succ = PhiN m c (t.val + 1) := rfl
  have hp : (dats m 0 c).Φ t.castSucc = PhiN m c t.val := rfl
  unfold bodyPre bodyPost bodyAt0
  rw [hs, hp]
  simp only [before0_0, before0_1, before0_2, before0_3, after0_0, after0_1, after0_2, after0_3, after0_4]
  unfold PhiN
  rw [if_neg h0, if_neg (Nat.succ_ne_zero _), PhiT0_eq]
  unfold Dat.owesAt Pipeline.owesWithin
  rw [show (dats m 0 c).owed t.castSucc = 0 from rfl, show (dats m 0 c).owed t.succ = 0 from rfl]
  iintro ⟨⟨HI, Hr, Ht1, Ht2, Ht3, Ht4⟩, ⟨%W, -, HW⟩, ⟨%d0, H5⟩, ⟨%d1, H6⟩, ⟨%d2, H7⟩, ⟨%d3, H8⟩, ⟨%d4, H11⟩, ⟨%d5, H12⟩⟩
  iapply (step_last c (grid0.coords t) (hi0 := by rw [hc]; exact h0) (hi1 := by rw [hc]; exact h1) (tok := tok) (pa := PA m c) (pb := PB m c) (d5 := inBlk m c 0 t) (d6 := inBlk m c 1 t) (d7 := inBlk m c 2 t) (d8 := inBlk m c 3 t) (hb := HBm m c))
  isplitl [HI]
  · iapply (Entails.of_eq (show InvL c (sgM m) (PA m c) (PB m c) (HBm m c) t.val = InvL c (sgM m) (PA m c) (PB m c) (HBm m c) (grid0.coords t 0).val by rw [hc]))
    iexact HI
  isplitl [H11]
  · iexists _
    iexact H11
  isplitl [Ht1]
  · iexact Ht1
  isplitl [Ht2]
  · iexact Ht2
  isplitl [Ht3]
  · iexact Ht3
  isplitl [Ht4]
  · iexact Ht4
  isplitl [HW]
  · iexists W
    iexact HW
  isplitl [H5]
  · iexact H5
  isplitl [H6]
  · iexact H6
  isplitl [H7]
  · iexact H7
  isplitl [H8]
  · iexact H8
  iintro ⟨HI, H11, Ht1, Ht2, Ht3, Ht4, ⟨%W', HW⟩, H5, H6, H7, H8⟩
  isplitl [HI Hr Ht1 Ht2 Ht3 Ht4]
  · isplitl [HI]
    · iapply (Entails.of_eq (show InvL c (sgM m) (PA m c) (PB m c) (HBm m c) ((grid0.coords t 0).val + 1) = InvL c (sgM m) (PA m c) (PB m c) (HBm m c) (t.val + 1) by rw [hc]))
      iexact HI
    isplitl [Hr]
    · iexact Hr
    isplitl [Ht1]
    · iexact Ht1
    isplitl [Ht2]
    · iexact Ht2
    isplitl [Ht3]
    · iexact Ht3
    iexact Ht4
  isplitl [HW]
  · iexists W'
    isplitr
    · ipureintro
      exact fun _ _ => Or.inl trivial
    iexact HW
  isplitl [H5]
  · iexact H5
  isplitl [H6]
  · iexact H6
  isplitl [H7]
  · iexact H7
  isplitl [H8]
  · iexact H8
  isplitl [H11]
  · iapply (Entails.of_eq (show owns (c : Thread nD τ) (ms4 m t) fullShare (yOf (inBlk m c 1 t) (inBlk m c 2 t) (inBlk m c 3 t) (HBm m c) (slotRd (grid0.coords t) (FB (sgM m) (PB m c) (grid0.coords t 0).val))) = owns (c : Thread nD τ) (ms4 m t) fullShare (yBlk m c t) by unfold yBlk; rw [hc]))
    iexact H11
  iapply (Entails.of_eq (leaves5_last m c t h0 h1).symm)
  iapply (Entails.of_eq (show owns (c : Thread nD τ) (ms5 m t) fullShare ((dats m 0 c).before 5 t d5) = owns (c : Thread nD τ) (ms5 m t) fullShare (LHm m c) by rw [before0_5 m c t h0]))
  iexact H12

theorem sound_body (tok : TOK (T1 m) (T2 m) (T3 m) (T4 m)) (c : Dev nD) (t : Fin (CF m).N) :
    bodyPre m c t ⊢ wp frame (wpE (defs₀ (F := F)) Variants.none (c : Thread nD τ) none) Set.univ (bodyAt0 m t) (fun _ => bodyPost m c t) := by
  by_cases h0 : t.val = 0
  · exact sound_first m tok c t h0
  · by_cases h1 : t.val + 1 < 28
    · exact sound_later m tok c t h0 h1
    · exact sound_last m tok c t h0 h1

theorem body_obligation (tok : TOK (T1 m) (T2 m) (T3 m) (T4 m)) (c : Dev nD) : BodyObligation (dats (F := F) m 0 c) (defs₀ (F := F)) Variants.none () Set.univ := fun t => by
  rw [bigSep_W0, bigSep_W0, defs₀_row]
  exact triple_restated (sound_body m tok c t) rfl .rfl fun _ => .rfl

/-! ## The run -/

theorem hin (c : Dev nD) : iprop(Pipeline.ΦD osem0 spec0 H0 (V m) c ∗ Pipeline.ΦT pre0 (tbl m) c) ⊢ (dats m 0 c).Φ 0 :=
  .rfl
theorem hout (tok : TOK (T1 m) (T2 m) (T3 m) (T4 m)) (c : Dev nD) : (dats m 0 c).Φ (Fin.last (CF m).N) ⊢ Pipeline.ΦD osem0 spec0 H0 (V m) c := by
  have h : (dats m 0 c).Φ (Fin.last (CF m).N) = PhiN m c 28 := congrArg (PhiN m c) N_0
  rw [h]; unfold PhiN
  rw [if_neg (by decide : ¬ (28 = 0))]
  iintro ⟨HI, Hr, -⟩
  iapply (InvL_end m c tok.ok (HBm m c))
  isplitl [HI]
  · iexact HI
  iexact Hr

set_option backward.isDefEq.respectTransparency.types false in
theorem run_main (tok : TOK (T1 m) (T2 m) (T3 m) (T4 m)) : θ_run defs (onTc (τ := τ) (main (F := F))) (s₀ m ρ)
    (fun r => Pipeline.FramePost (Pipeline.pin (pcfgs (F := F)) (fun _ => adm m)) (dats m) 0 (V m) r ∧ r.2.sem = fun _ => 0) :=
  Pipeline.θ_run_frameP_dma (Q' := _) pcfgs (fun _ => adm m) (dats m) (0 : Fin 1) launch0 osem0 defs₀ Variants.none ownSemFacts0 H0 H0_sub m ρ main
    (hbody := fun c => (body_obligation m tok c).loose) (hshare := fun c => (dats m 0 c).share_full fun _ => rfl)
    (howed := fun _ _ => rfl) (V := V m) (hmain := hmain m Variants.none) (hA := A_eq m) (hpf := V_pre m) (hin := hin m) (hout := hout m tok)

/-- THE RUN: every argument keeps its contents, the counters end at zero, and the two results are what the write-backs leave. -/
theorem run_value (tok : TOK (T1 m) (T2 m) (T3 m) (T4 m)) : θ_run defs (onTc (τ := τ) (main (F := F))) ⟨m, fun _ => 0, ρ⟩ (fun r =>
    ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0)
      ∧ ∀ c : Dev nD, r.2.mem ((c.tc : Thread nD τ).loc main_v1_0) = (dats m 0 c).arrAt (4 : Fin 6) (CF m).N
        ∧ r.2.mem ((c.tc : Thread nD τ).loc main_v1_1) = (dats m 0 c).arrAt (5 : Fin 6) (CF m).N) := by
  refine (θ_run defs _ _).mono ?_ (run_main m ρ tok)
  rintro r ⟨h, hs⟩
  have hw : ∀ (c : Dev nD) (w : Fin 6) (hin : (win0 (adm m) w).isOut = false), r.2.mem ((c.tc : Thread nD τ).loc (Pipeline.arrRef spec0 w)) = V m c (Pipeline.arrRef spec0 w) :=
    fun c w hin => ((h c).1 w).trans ((dats m 0 c).arrAt_in w hin _)
  have hr : ∀ (c : Dev nD) (b : Ref sig .tc), b ∈ Pipeline.restRefs sig spec0 → r.2.mem ((c.tc : Thread nD τ).loc b) = V m c b :=
    fun c b hb => (h c).2 b hb
  refine ⟨⟨fun c => ⟨hr c main_arg0 (Pipeline.mem_restRefs_of main_arg0 (by decide) (by decide)) |>.trans (V_of_ne m c (by decide)),
    (hw c 2 rfl).trans (V_of_ne m c (b := main_arg1) (by decide)), (hw c 3 rfl).trans (V_of_ne m c (b := main_arg2) (by decide)),
    hr c main_arg3 (Pipeline.mem_restRefs_of main_arg3 (by decide) (by decide)) |>.trans (V_of_ne m c (by decide)),
    hr c main_arg4 (Pipeline.mem_restRefs_of main_arg4 (by decide) (by decide)) |>.trans (V_of_ne m c (by decide)),
    hr c main_arg5 (Pipeline.mem_restRefs_of main_arg5 (by decide) (by decide)) |>.trans (V_of_ne m c (by decide)),
    hr c main_arg6 (Pipeline.mem_restRefs_of main_arg6 (by decide) (by decide)) |>.trans (V_of_ne m c (by decide)),
    (hw c 0 rfl).trans (V_of_ne m c (b := main_arg7) (by decide)),
    hr c main_arg8 (Pipeline.mem_restRefs_of main_arg8 (by decide) (by decide)) |>.trans (V_of_ne m c (by decide)),
    hr c main_arg9 (Pipeline.mem_restRefs_of main_arg9 (by decide) (by decide)) |>.trans (V_of_ne m c (by decide))⟩, hs⟩,
    fun c => ⟨(h c).1 (4 : Fin 6), (h c).1 (5 : Fin 6)⟩⟩

end Cert.Kernel.Hand

end
-- ==== Proof.IEnds.lean ====
/- Hand-written, untrusted: the arrays, tables and own buffers at the ends of the region. -/
module

public import proofs.«01_k».proof.Proof.Gen.KernelIdeal.Launch
public import Idealize.ShloMosaic.Lib.Pipeline.FrameBody
public import Idealize.ShloMosaic.Lib.StableHlo.Run
public import proofs.«01_k».proof.Proof.ILater

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The arrays when the region is entered -/

/-- Core `c`'s buffers after the reshape before the region. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := rfl

theorem hmain (𝒱₀ : Variants) : Pipeline.HMainP (Ix := Unit) (Name := ℕ) (U := Pipeline.UD sig nD τ) (Lvl := ℕ) (pcfgs (F := F)) 0 defs₀ 𝒱₀ m (main (F := F)) (V m) :=
  Pipeline.hmainP_prefix pcfgs 0 defs₀ 𝒱₀ m main hostOps0 hostOps0_sub hostOps0_fresh main_chain

/-- The reshape writes its own result only. -/
theorem V_of_ne (c : Dev nD) {b : Ref sig .tc} (hb : b ≠ main_v0) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

/-- The reshape's result. -/
theorem V_v0 (c : Dev nD) : (V m c main_v0 : S128x4096.Idx → Elt F .bf16) = shapeCast S128x4096 (m ((c : Thread nD τ).loc main_arg0) : S1x128x4096.Idx → Elt F .bf16) shapeCasts_S1x128x4096_S128x4096 := rfl

/-! ## The tables -/

def tbl : pre0.Contents (Elt F) := fun j => V m (0 : Dev nD) (pre0.ref j)
theorem V_pre (c : Dev nD) (j : Fin 4) : V m c (pre0.ref j) = tbl m j := by
  obtain rfl : c = 0 := Subsingleton.elim _ _; rfl
abbrev adm : (pcfg0 (F := F)).Adm := ⟨tbl m, trivial⟩

/-- The first slots, the ranks, the segment bounds and the segments' adapters. -/
abbrev T1 : S11.Idx → Elt F .i32 := m (((0 : Dev nD) : Thread nD τ).loc main_arg5)
abbrev T2 : S11.Idx → Elt F .i32 := m (((0 : Dev nD) : Thread nD τ).loc main_arg6)
abbrev T3 : S7.Idx → Elt F .i32 := m (((0 : Dev nD) : Thread nD τ).loc main_arg8)
abbrev T4 : S6.Idx → Elt F .i32 := m (((0 : Dev nD) : Thread nD τ).loc main_arg9)
abbrev sgM : Fin 6 → Seg := sgT (T1 m) (T2 m) (T3 m) (T4 m)
/-- The pools. -/
abbrev PA (c : Dev nD) : S900x4096.Idx → Elt F .bf16 := m ((c : Thread nD τ).loc main_arg3)
abbrev PB (c : Dev nD) : S900x14336.Idx → Elt F .bf16 := m ((c : Thread nD τ).loc main_arg4)

abbrev tabs (c : Dev nD) : sProp 𝕄 :=
  iprop(owns (c : Thread nD τ) (Memref.whole main_arg5 : Memref sig .tc .smem S11 .i32) fullShare.right (T1 m) ∗ owns (c : Thread nD τ) (Memref.whole main_arg6 : Memref sig .tc .smem S11 .i32) fullShare.right (T2 m)
    ∗ owns (c : Thread nD τ) (Memref.whole main_arg8 : Memref sig .tc .smem S7 .i32) fullShare.right (T3 m) ∗ owns (c : Thread nD τ) (Memref.whole main_arg9 : Memref sig .tc .smem S6 .i32) fullShare.right (T4 m))

theorem PhiT0_eq (c : Dev nD) : (Pipeline.ΦT pre0 (tbl m) c : sProp 𝕄) = tabs m c := by
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  simp only [tabs, owns_whole]
  obtain rfl : c = 0 := Subsingleton.elim _ _
  rw [show tbl m 0 = T1 m from V_of_ne m 0 (b := main_arg5) (by decide), show tbl m 1 = T2 m from V_of_ne m 0 (b := main_arg6) (by decide),
    show tbl m 2 = T3 m from V_of_ne m 0 (b := main_arg8) (by decide), show tbl m 3 = T4 m from V_of_ne m 0 (b := main_arg9) (by decide)]
  rfl

/-! ## The kernel's own cells, buffers and pools at the region's entry and exit -/

abbrev osem0 : Fin 18 → SemLoc sig := ![smA 0, smA 1, smA 2, smA 3, smA 4, smA 5, smB 0 0, smB 0 1, smB 0 2, smB 0 3, smB 0 4, smB 0 5, smB 1 0, smB 1 1, smB 1 2, smB 1 3, smB 1 4, smB 1 5]
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), smA 0) 0 ∗ semVal ((c : Thread nD τ), smA 1) 0 ∗ semVal ((c : Thread nD τ), smA 2) 0 ∗ semVal ((c : Thread nD τ), smA 3) 0 ∗ semVal ((c : Thread nD τ), smA 4) 0 ∗ semVal ((c : Thread nD τ), smA 5) 0 ∗ semVal ((c : Thread nD τ), smB 0 0) 0 ∗ semVal ((c : Thread nD τ), smB 0 1) 0 ∗ semVal ((c : Thread nD τ), smB 0 2) 0 ∗ semVal ((c : Thread nD τ), smB 0 3) 0 ∗ semVal ((c : Thread nD τ), smB 0 4) 0 ∗ semVal ((c : Thread nD τ), smB 0 5) 0 ∗ semVal ((c : Thread nD τ), smB 1 0) 0 ∗ semVal ((c : Thread nD τ), smB 1 1) 0 ∗ semVal ((c : Thread nD τ), smB 1 2) 0 ∗ semVal ((c : Thread nD τ), smB 1 3) 0 ∗ semVal ((c : Thread nD τ), smB 1 4) 0 ∗ semVal ((c : Thread nD τ), smB 1 5) 0) := by
  rw [Pipeline.ownSems0_eq_of_list c osem0 [0, 1, 2, 3, 4, 5, 6, 7, 8, 9, 10, 11, 12, 13, 14, 15, 16, 17] (by decide) (by decide)]; rfl
def H0 : Finset (Ref sig .tc) := {main_arg3, main_arg4}
theorem H0_sub : H0 ⊆ Pipeline.restRefsP sig pre0 spec0 := by decide
theorem hbmPts0_eq (c : Dev nD) :
    (bigSep H0 (fun b => ((c : Thread nD τ).loc b) ↦{fullShare} V m c b) : sProp 𝕄)
      = iprop(ptPA c Finset.univ fullShare (PA m c) ∗ ptPB c Finset.univ fullShare (PB m c)) := by
  rw [BI.bigSep_eq_bigSepL_of_eq [main_arg3, main_arg4] (by decide) (by decide)]
  show iprop((((c : Thread nD τ).loc main_arg3) ↦{fullShare} V m c main_arg3) ∗ (((c : Thread nD τ).loc main_arg4) ↦{fullShare} V m c main_arg4)) = _
  rw [V_of_ne m c (b := main_arg3) (by decide), V_of_ne m c (b := main_arg4) (by decide)]
theorem PhiD0_eq (c : Dev nD) :
    (Pipeline.ΦD osem0 spec0 H0 (V m) c : sProp 𝕄)
      = iprop(((∃ f, ptA c Finset.univ f) ∗ (∃ f, ptB c Finset.univ f) ∗ (∃ d, owns (c : Thread nD τ) Hm fullShare d))
          ∗ (∃ r, prngReg c r)
          ∗ (semVal ((c : Thread nD τ), smA 0) 0 ∗ semVal ((c : Thread nD τ), smA 1) 0 ∗ semVal ((c : Thread nD τ), smA 2) 0 ∗ semVal ((c : Thread nD τ), smA 3) 0 ∗ semVal ((c : Thread nD τ), smA 4) 0 ∗ semVal ((c : Thread nD τ), smA 5) 0 ∗ semVal ((c : Thread nD τ), smB 0 0) 0 ∗ semVal ((c : Thread nD τ), smB 0 1) 0 ∗ semVal ((c : Thread nD τ), smB 0 2) 0 ∗ semVal ((c : Thread nD τ), smB 0 3) 0 ∗ semVal ((c : Thread nD τ), smB 0 4) 0 ∗ semVal ((c : Thread nD τ), smB 0 5) 0 ∗ semVal ((c : Thread nD τ), smB 1 0) 0 ∗ semVal ((c : Thread nD τ), smB 1 1) 0 ∗ semVal ((c : Thread nD τ), smB 1 2) 0 ∗ semVal ((c : Thread nD τ), smB 1 3) 0 ∗ semVal ((c : Thread nD τ), smB 1 4) 0 ∗ semVal ((c : Thread nD τ), smB 1 5) 0)
          ∗ (ptPA c Finset.univ fullShare (PA m c) ∗ ptPB c Finset.univ fullShare (PB m c))) := by
  rw [Pipeline.ΦD_eq, scopedRest0_eq, ownSems00_eq, hbmPts0_eq]
  simp only [Hm, owns_whole]
  rfl

theorem Inv0_of (c : Dev nD) :
    (Pipeline.ΦD osem0 spec0 H0 (V m) c : sProp 𝕄) ⊢ iprop(Inv0 c (PA m c) (PB m c) ∗ ∃ r, prngReg c r) := by
  rw [PhiD0_eq]; unfold Inv0
  iintro ⟨⟨HA, HB, HH⟩, Hr, ⟨s0, s1, s2, s3, s4, s5, s6, s7, s8, s9, s10, s11, s12, s13, s14, s15, s16, s17⟩, HPA, HPB⟩
  isplitl [HA HB HH s0 s1 s2 s3 s4 s5 s6 s7 s8 s9 s10 s11 s12 s13 s14 s15 s16 s17 HPA HPB]
  · isplitl [HA]
    · iexact HA
    isplitl [HB]
    · iexact HB
    isplitl [HH]
    · iexact HH
    isplitl [HPA]
    · iexact HPA
    isplitl [HPB]
    · iexact HPB
    isplitl [s0 s1 s2 s3 s4 s5]
    · isplitl [s0]
      · iexact s0
      isplitl [s1]
      · iexact s1
      isplitl [s2]
      · iexact s2
      isplitl [s3]
      · iexact s3
      isplitl [s4]
      · iexact s4
      iexact s5
    isplitl [s6 s7 s8 s9 s10 s11]
    · isplitl [s6]
      · iexact s6
      isplitl [s7]
      · iexact s7
      isplitl [s8]
      · iexact s8
      isplitl [s9]
      · iexact s9
      isplitl [s10]
      · iexact s10
      iexact s11
    isplitl [s12]
    · iexact s12
    isplitl [s13]
    · iexact s13
    isplitl [s14]
    · iexact s14
    isplitl [s15]
    · iexact s15
    isplitl [s16]
    · iexact s16
    iexact s17
  iexact Hr

/-- Buffers by segments and the rest are one buffer. -/
theorem joinB (sg : Fin 6 → Seg) (ok : ∀ s, (sg s).OK) (c : Dev nD) (p : ℕ) (G : Fin 6 → S2x512x512.Idx → Elt F .bf16) (r : S2x512x512.Idx → Elt F .bf16) :
    iprop(six (fun s => ptB c (WB p (gx sg s) (gy sg s)) (G s)) ∗ ptB c (restB sg p) r) ⊢ iprop(∃ f, ptB (F := F) c (slotB p) f) := by
  classical
  let f : S2x512x512.Idx → Elt F .bf16 := fun i => if h : ∃ s, inSeg sg (i 1).val s then G h.choose i else r i
  have h1 : ∀ s, (ptB c (WB p (gx sg s) (gy sg s)) (G s) : sProp 𝕄) = ptB c (WB p (gx sg s) (gy sg s)) f := fun s =>
    pointsTo_congr fun i hi => by
      have hs : inSeg sg (i 1).val s := (Finset.mem_filter.1 hi).2.2
      have h : ∃ s, inSeg sg (i 1).val s := ⟨s, hs⟩
      show _ = (if h : ∃ s, inSeg sg (i 1).val s then G h.choose i else r i)
      rw [dif_pos h, inSeg_unique sg ok _ _ _ h.choose_spec hs]
  have h2 : (ptB c (restB sg p) r : sProp 𝕄) = ptB c (restB sg p) f :=
    pointsTo_congr fun i hi => by
      have h : ¬ ∃ s, inSeg sg (i 1).val s := by
        rintro ⟨s, hs⟩
        exact (Finset.mem_sdiff.1 hi).2 (Finset.mem_biUnion.2 ⟨s, Finset.mem_univ _, Finset.mem_filter.2
          ⟨Finset.mem_univ _, (Finset.mem_filter.1 (Finset.mem_sdiff.1 hi).1).2, hs⟩⟩)
      show _ = (if h : ∃ s, inSeg sg (i 1).val s then G h.choose i else r i)
      rw [dif_neg h]
  refine BIBase.Entails.trans ?_ (exists_intro (Φ := fun f => ptB (F := F) c (slotB p) f) f)
  refine BIBase.Entails.trans ?_ (splitB sg ok c p f).2
  rw [h2]
  exact sep_mono_left (six_mono fun s => Entails.of_eq (h1 s))

theorem joinSlots (c : Dev nD) :
    iprop((∃ f, ptB (F := F) c (slotB 0) f) ∗ (∃ f, ptB (F := F) c (slotB 1) f)) ⊢ iprop(∃ f, ptB (F := F) c Finset.univ f) := by
  iintro ⟨⟨%f, H0⟩, %g, H1⟩
  iexists (fun i => if (i 0).val = 0 then f i else g i)
  iapply (splitSlots c _).2
  isplitl [H0]
  · iapply (Entails.of_eq (show (ptB c (slotB 0) f : sProp 𝕄) = ptB c (slotB 0) (fun i => if (i 0).val = 0 then f i else g i) from
      pointsTo_congr fun i hi => by
        have := (Finset.mem_filter.1 hi).2
        show _ = if (i 0).val = 0 then f i else g i
        rw [if_pos this]))
    iexact H0
  · iapply (Entails.of_eq (show (ptB c (slotB 1) g : sProp 𝕄) = ptB c (slotB 1) (fun i => if (i 0).val = 0 then f i else g i) from
      pointsTo_congr fun i hi => by
        have := (Finset.mem_filter.1 hi).2
        show _ = if (i 0).val = 0 then f i else g i
        rw [if_neg (by omega)]))
    iexact H1

/-- A slot's cells at rest and the rows of no segment: the slot, the pool's shares, the counters at zero. -/
theorem slot_of (sg : Fin 6 → Seg) (ok : ∀ s, (sg s).OK) (c : Dev nD) (p : ℕ) (pb : S900x14336.Idx → Elt F .bf16) (r : S2x512x512.Idx → Elt F .bf16) :
    iprop(six (cB c sg p pb) ∗ ptB c (restB sg p) r)
      ⊢ iprop((∃ f, ptB (F := F) c (slotB p) f) ∗ six (fun s => ptPB c Finset.univ (qB p s) pb) ∗ six (sB0 (F := F) c p)) := by
  have h : six (cB c sg p pb) ⊢ _ := (six_three (fun s => iprop(∃ g, ptB (F := F) c (WB p (gx sg s) (gy sg s)) g)) (fun s => ptPB c Finset.univ (qB p s) pb) (sB0 (F := F) c p)).2
  iintro ⟨HC, HR⟩
  icases (h) $$ HC with ⟨⟨⟨%g0, H0⟩, ⟨%g1, H1⟩, ⟨%g2, H2⟩, ⟨%g3, H3⟩, ⟨%g4, H4⟩, %g5, H5⟩, HP, HS⟩
  isplitl [H0 H1 H2 H3 H4 H5 HR]
  · iapply (joinB sg ok c p ![g0, g1, g2, g3, g4, g5] r)
    isplitl [H0 H1 H2 H3 H4 H5]
    · isplitl [H0]
      · iexact H0
      isplitl [H1]
      · iexact H1
      isplitl [H2]
      · iexact H2
      isplitl [H3]
      · iexact H3
      isplitl [H4]
      · iexact H4
      iexact H5
    · iexact HR
  isplitl [HP]
  · iexact HP
  iexact HS

theorem InvL_end (c : Dev nD) (ok : ∀ s, (sgM m s).OK) (hb : S128x512.Idx → Elt F .bf16) :
    iprop(InvL c (sgM m) (PA m c) (PB m c) hb 28 ∗ ∃ r, prngReg c r) ⊢ (Pipeline.ΦD osem0 spec0 H0 (V m) c : sProp 𝕄) := by
  rw [PhiD0_eq]; unfold InvL
  rw [if_neg (by decide : ¬ 28 < 28)]
  iintro ⟨⟨HA, HPA, ⟨s0, s1, s2, s3, s4, s5⟩, HH, HC0, HC1, HR0, HR1⟩, Hr⟩
  icases (slot_of (sgM m) ok c 0 (PB m c) (k0_pay3 (F := F))) $$ [HC0 HR0] with ⟨HB0, HP0, s6, s7, s8, s9, s10, s11⟩
  · isplitl [HC0]
    · iexact HC0
    iexact HR0
  icases (slot_of (sgM m) ok c 1 (PB m c) (k0_pay3 (F := F))) $$ [HC1 HR1] with ⟨HB1, HP1, s12, s13, s14, s15, s16, s17⟩
  · isplitl [HC1]
    · iexact HC1
    iexact HR1
  isplitl [HA HB0 HB1 HH]
  · isplitl [HA]
    · iexists _
      iexact HA
    isplitl [HB0 HB1]
    · iapply (joinSlots c)
      isplitl [HB0]
      · iexact HB0
      iexact HB1
    iexists _
    iexact HH
  isplitl [Hr]
  · iexact Hr
  isplitl [s0 s1 s2 s3 s4 s5 s6 s7 s8 s9 s10 s11 s12 s13 s14 s15 s16 s17]
  · isplitl [s0]
    · iexact s0
    isplitl [s1]
    · iexact s1
    isplitl [s2]
    · iexact s2
    isplitl [s3]
    · iexact s3
    isplitl [s4]
    · iexact s4
    isplitl [s5]
    · iexact s5
    isplitl [s6]
    · iexact s6
    isplitl [s7]
    · iexact s7
    isplitl [s8]
    · iexact s8
    isplitl [s9]
    · iexact s9
    isplitl [s10]
    · iexact s10
    isplitl [s11]
    · iexact s11
    isplitl [s12]
    · iexact s12
    isplitl [s13]
    · iexact s13
    isplitl [s14]
    · iexact s14
    isplitl [s15]
    · iexact s15
    isplitl [s16]
    · iexact s16
    iexact s17
  isplitl [HPA]
  · iexact HPA
  iapply (dealB c (PB m c)).2
  isplitl [HP0]
  · iexact HP0
  iexact HP1

end Cert.KernelIdeal.Hand

end
-- ==== Proof.IPart1.lean ====
/- Hand-written, untrusted: the first step's first part. -/
module

public import proofs.«01_k».proof.Proof.ISteps

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 1000000 in
/-- The first step's first part: both staging buffers zeroed, the input-side rows' transfers and the output side's first
    segment's started. -/
theorem part1_run (c : Dev nD) (i : grid0.Coords) (arg1 : Memref sig .tc .smem S11 .i32) (harg1 : arg1.IsWhole) (arg2 : Memref sig .tc .smem S11 .i32) (harg2 : arg2.IsWhole) (arg3 : Memref sig .tc .smem S7 .i32) (harg3 : arg3.IsWhole) (arg4 : Memref sig .tc .smem S6 .i32) (harg4 : arg4.IsWhole) (arg5 : Memref sig .tc .smem S11 .f32) (harg5 : arg5.IsWhole) (arg6 : Memref sig .tc .vmem S128x4096 .bf16) (harg6 : arg6.IsWhole) (arg7 : Memref sig .tc .vmem S512x512 .i32) (harg7 : arg7.IsWhole) (arg8 : Memref sig .tc .vmem S128x512 .i8) (harg8 : arg8.IsWhole) (arg11 : Memref sig .tc .vmem S128x512 .bf16) (harg11 : arg11.IsWhole) (arg12 : Memref sig .tc .vmem S128x64 .bf16) (harg12 : arg12.IsWhole) (arg0 : BitVec 32) (v1 : Elt F .i32) (v2 : Elt F .i32) (v4 : Elt F .i32) (v6 : Elt F .i32) (k0_hw7 : k0_chk7 i v1 v2 v4 v6) (v23 : BitVec 32) (v47 : BitVec 32) (v50 : BitVec 32) (v52 : Elt F .i32) (v53 : Elt F .i32) (v55 : Elt F .i32) (v57 : Elt F .i32) (k0_hw8 : k0_chk8 i v1 v2 v4 v6 v52 v53 v55 v57) (v74 : BitVec 32) (v98 : BitVec 32) (v101 : BitVec 32) (v103 : Elt F .i32) (v104 : Elt F .i32) (v106 : Elt F .i32) (v108 : Elt F .i32) (k0_hw9 : k0_chk9 i v1 v2 v4 v6 v52 v53 v55 v57 v103 v104 v106 v108) (v125 : BitVec 32) (v149 : BitVec 32) (v152 : BitVec 32) (v154 : Elt F .i32) (v155 : Elt F .i32) (v157 : Elt F .i32) (v159 : Elt F .i32) (k0_hw10 : k0_chk10 i v1 v2 v4 v6 v52 v53 v55 v57 v103 v104 v106 v108 v154 v155 v157 v159) (v176 : BitVec 32) (v200 : BitVec 32) (v203 : BitVec 32) (v205 : Elt F .i32) (v206 : Elt F .i32) (v208 : Elt F .i32) (v210 : Elt F .i32) (k0_hw11 : k0_chk11 i v1 v2 v4 v6 v52 v53 v55 v57 v103 v104 v106 v108 v154 v155 v157 v159 v205 v206 v208 v210) (v227 : BitVec 32) (v251 : BitVec 32) (v254 : BitVec 32) (v256 : Elt F .i32) (v257 : Elt F .i32) (v259 : Elt F .i32) (v261 : Elt F .i32) (k0_hw12 : k0_chk12 i v1 v2 v4 v6 v52 v53 v55 v57 v103 v104 v106 v108 v154 v155 v157 v159 v205 v206 v208 v210 v256 v257 v259 v261) (v278 : BitVec 32) (v302 : BitVec 32) (c0_i32_125 : BitVec 32) (k0_h1 : k0_cond1 i = 1#1)
    (sg : Fin 6 → Seg) (hsg : sg = (mkSg v1 v2 v4 v6 v52 v53 v55 v57 v103 v104 v106 v108 v154 v155 v157 v159 v205 v206 v208 v210 v256 v257 v259 v261)) (ok : ∀ s, (sg s).OK) (pa : S900x4096.Idx → Elt F .bf16) (pb : S900x14336.Idx → Elt F .bf16) {Q : BitVec 32 → sProp 𝕄} :
    iprop((∃ f, ptA c Finset.univ f) ∗ (∃ f, ptB c Finset.univ f) ∗ ptPA c Finset.univ fullShare pa ∗ ptPB c Finset.univ fullShare pb
        ∗ six (sA0 (F := F) c) ∗ six (sB0 (F := F) c 0) ∗ six (sB0 (F := F) c 1)
        ∗ (iprop(six (fA c sg pa) ∗ ptA c (restA sg) (FA sg pa)
            ∗ fB c sg (pW i).toNat (qW i).toNat (i 0).val pb 0 ∗ cB c sg (pW i).toNat pb 1 ∗ cB c sg (pW i).toNat pb 2 ∗ cB c sg (pW i).toNat pb 3 ∗ cB c sg (pW i).toNat pb 4 ∗ cB c sg (pW i).toNat pb 5
            ∗ six (cB c sg 1 pb) ∗ ptB c (restB sg 0) (k0_pay3 (F := F)) ∗ ptB c (restB sg 1) (k0_pay3 (F := F))) -∗ Q 0#32))
      ⊢ wp frame (wpE (defs₀ (F := F)) Variants.none (c : Thread nD τ) none) Set.univ
          (k0_part1 (F := F) i arg1 harg1 arg2 harg2 arg3 harg3 arg4 harg4 arg5 harg5 arg6 harg6 arg7 harg7 arg8 harg8 PAm (Memref.isWhole_whole _) PBm (Memref.isWhole_whole _) arg11 harg11 arg12 harg12 Am (Memref.isWhole_whole _) Bm (Memref.isWhole_whole _) Hm (Memref.isWhole_whole _) cc0_scratch3 cc0_scratch4 arg0 v1 v2 v4 v6 k0_hw7 v23 v47 v50 v52 v53 v55 v57 k0_hw8 v74 v98 v101 v103 v104 v106 v108 k0_hw9 v125 v149 v152 v154 v155 v157 v159 k0_hw10 v176 v200 v203 v205 v206 v208 v210 k0_hw11 v227 v251 v254 v256 v257 v259 v261 k0_hw12 v278 v302 c0_i32_125 k0_h1) Q := by
  have hi : (i 0).val = 0 := (cond1_iff i).1 k0_h1
  have hP : (pW i).toNat = 0 := by rw [pW_toNat, hi]
  rw [k0_part1_eq_skeleton]; unfold k0_part1_skel
  iintro ⟨⟨%fa, HA⟩, ⟨%fb, HB⟩, HPA, HPB, HsA, HsB0, HsB1, Hk⟩
  iapply (ldM c Am fa) $$ HA
  iintro HA
  iapply (stM c Am fa) $$ HA
  iintro HA
  iapply (ldM c Bm fb) $$ HB
  iintro HB
  iapply (stM c Bm fb) $$ HB
  iintro HB
  have eA : (Am.access (Rect.unit (s := S512x4096) ![0, 0] S512x4096.size inb_S512x4096_S512x4096_0_0)).write (Elt F) fa (k0_pay2 (F := F)) Finset.univ = k0_pay2 (F := F) :=
    Memref.write_access_unit_zero_univ (Elt F) cc0_scratch0 (by funext a; fin_cases a <;> rfl) _ fa _
  have eB : (Bm.access (Rect.unit (s := S2x512x512) ![0, 0, 0] S2x512x512.size inb_S2x512x512_S2x512x512_0_0_0)).write (Elt F) fb (k0_pay3 (F := F)) Finset.univ = k0_pay3 (F := F) :=
    Memref.write_access_unit_zero_univ (Elt F) cc0_scratch1 (by funext a; fin_cases a <;> rfl) _ fb _
  rw [eA, eB]
  ihave HA := (splitA sg ok c (k0_pay2 (F := F))).1 $$ HA
  icases HA with ⟨HAw, HAr⟩
  ihave HB := (splitSlots c (k0_pay3 (F := F))).1 $$ HB
  icases HB with ⟨HB0, HB1⟩
  ihave HB0 := (splitB sg ok c 0 (k0_pay3 (F := F))).1 $$ HB0
  icases HB0 with ⟨HB0w, HB0r⟩
  ihave HB1 := (splitB sg ok c 1 (k0_pay3 (F := F))).1 $$ HB1
  icases HB1 with ⟨HB1w, HB1r⟩
  ihave HPA := (Entails.of_eq (dealA c pa)) $$ HPA
  ihave HPB := (dealB c pb).1 $$ HPB
  icases HPB with ⟨HP0, HP1⟩
  ihave HcA := (mk_cA c sg (k0_pay2 (F := F)) pa) $$ [HAw HPA HsA]
  · isplitl [HAw]; · iexact HAw
    isplitl [HPA]; · iexact HPA
    iexact HsA
  ihave HcB0 := (mk_cB c sg 0 (k0_pay3 (F := F)) pb) $$ [HB0w HP0 HsB0]
  · isplitl [HB0w]; · iexact HB0w
    isplitl [HP0]; · iexact HP0
    iexact HsB0
  ihave HcB1 := (mk_cB c sg 1 (k0_pay3 (F := F)) pb) $$ [HB1w HP1 HsB1]
  · isplitl [HB1w]; · iexact HB1w
    isplitl [HP1]; · iexact HP1
    iexact HsB1
  ihave HcB0 := (Entails.of_eq (show six (cB c sg 0 pb) = six (cB c sg (pW i).toNat pb) by rw [hP])) $$ HcB0
  icases HcA with ⟨A0, A1, A2, A3, A4, A5⟩
  icases HcB0 with ⟨B0, B1, B2, B3, B4, B5⟩
  have hC0 : guardW (sg 0) = 1#1 ↔ 0 < gy sg 0 := guard_gy sg ok 0
  have hC1 : guardW (sg 1) = 1#1 ↔ 0 < gy sg 1 := guard_gy sg ok 1
  have hC2 : guardW (sg 2) = 1#1 ↔ 0 < gy sg 2 := guard_gy sg ok 2
  have hC3 : guardW (sg 3) = 1#1 ↔ 0 < gy sg 3 := guard_gy sg ok 3
  have hC4 : guardW (sg 4) = 1#1 ↔ 0 < gy sg 4 := guard_gy sg ok 4
  have hC5 : guardW (sg 5) = 1#1 ↔ 0 < gy sg 5 := guard_gy sg ok 5
  iapply (startA c (C := k0_cond2 v1 v2 v4 v6 = 1#1) 0 (qA 0) pa (FA sg pa) (by rw [hsg] at hC0 ⊢; exact hC0) (FA_at sg ok pa 0) (by rw [hsg]; rfl) (by rw [hsg]; rfl) (by rw [hsg]; rfl) rfl) $$ A0
  iintro A0
  iapply (startA c (C := k0_cond3 v52 v53 v55 v57 = 1#1) 1 (qA 1) pa (FA sg pa) (by rw [hsg] at hC1 ⊢; exact hC1) (FA_at sg ok pa 1) (by rw [hsg]; rfl) (by rw [hsg]; rfl) (by rw [hsg]; rfl) rfl) $$ A1
  iintro A1
  iapply (startA c (C := k0_cond4 v103 v104 v106 v108 = 1#1) 2 (qA 2) pa (FA sg pa) (by rw [hsg] at hC2 ⊢; exact hC2) (FA_at sg ok pa 2) (by rw [hsg]; rfl) (by rw [hsg]; rfl) (by rw [hsg]; rfl) rfl) $$ A2
  iintro A2
  iapply (startA c (C := k0_cond5 v154 v155 v157 v159 = 1#1) 3 (qA 3) pa (FA sg pa) (by rw [hsg] at hC3 ⊢; exact hC3) (FA_at sg ok pa 3) (by rw [hsg]; rfl) (by rw [hsg]; rfl) (by rw [hsg]; rfl) rfl) $$ A3
  iintro A3
  iapply (startA c (C := k0_cond6 v205 v206 v208 v210 = 1#1) 4 (qA 4) pa (FA sg pa) (by rw [hsg] at hC4 ⊢; exact hC4) (FA_at sg ok pa 4) (by rw [hsg]; rfl) (by rw [hsg]; rfl) (by rw [hsg]; rfl) rfl) $$ A4
  iintro A4
  iapply (startA c (C := k0_cond7 v256 v257 v259 v261 = 1#1) 5 (qA 5) pa (FA sg pa) (by rw [hsg] at hC5 ⊢; exact hC5) (FA_at sg ok pa 5) (by rw [hsg]; rfl) (by rw [hsg]; rfl) (by rw [hsg]; rfl) rfl) $$ A5
  iintro A5
  iapply (startB c (C := k0_cond8 v1 v2 v4 v6 = 1#1) (p := (pW i).toNat) (q := (qW i).toNat) (x := gx sg 0) (y := gy sg 0) (g := gg sg 0) 0 (qB (pW i).toNat 0) pb (FB sg pb (i 0).val) (by rw [hsg] at hC0 ⊢; exact hC0) (pW_le i)
    (fun i' j' _ h1 h2 h3 h4 => FB_at sg ok pb (i 0).val (i 0).isLt 0 i' j' h1 h2 h3 (by rw [h4, qW_toNat])) (by rw [hsg]; rfl) (by rw [hsg]; rfl) (by rw [hsg]; rfl) (by rw [hsg]; rfl) rfl) $$ B0
  iintro B0
  iapply (wp_retE c)
  iapply Hk
  isplitl [A0 A1 A2 A3 A4 A5]
  · isplitl [A0]
    · iexact A0
    isplitl [A1]
    · iexact A1
    isplitl [A2]
    · iexact A2
    isplitl [A3]
    · iexact A3
    isplitl [A4]
    · iexact A4
    iexact A5
  isplitl [HAr]
  · iapply (Entails.of_eq (FA_rest sg pa c))
    iexact HAr
  isplitl [B0]
  · iexact B0
  isplitl [B1]
  · iexact B1
  isplitl [B2]
  · iexact B2
  isplitl [B3]
  · iexact B3
  isplitl [B4]
  · iexact B4
  isplitl [B5]
  · iexact B5
  isplitl [HcB1]
  · iexact HcB1
  isplitl [HB0r]
  · iexact HB0r
  iexact HB1r

end Cert.KernelIdeal.Hand

end
-- ==== Proof.IFirst.lean ====
/- Hand-written, untrusted: the first step up to its weight block. -/
module

public import proofs.«01_k».proof.Proof.IPart1
public import proofs.«01_k».proof.Proof.IPart12

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 4000000 in
/-- The first step up to its weight block: everything started, the rank side computed and kept. -/
theorem part12_first (c : Dev nD) (i : grid0.Coords) (arg1 : Memref sig .tc .smem S11 .i32) (harg1 : arg1.IsWhole) (arg2 : Memref sig .tc .smem S11 .i32) (harg2 : arg2.IsWhole) (arg3 : Memref sig .tc .smem S7 .i32) (harg3 : arg3.IsWhole) (arg4 : Memref sig .tc .smem S6 .i32) (harg4 : arg4.IsWhole) (arg5 : Memref sig .tc .smem S11 .f32) (harg5 : arg5.IsWhole) (arg6 : Memref sig .tc .vmem S128x4096 .bf16) (harg6 : arg6.IsWhole) (arg7 : Memref sig .tc .vmem S512x512 .i32) (harg7 : arg7.IsWhole) (arg8 : Memref sig .tc .vmem S128x512 .i8) (harg8 : arg8.IsWhole) (arg11 : Memref sig .tc .vmem S128x512 .bf16) (harg11 : arg11.IsWhole) (arg12 : Memref sig .tc .vmem S128x64 .bf16) (harg12 : arg12.IsWhole) (arg0 : BitVec 32) (v0 : Elt F .i32) (k0_hw1 : k0_chk1 i v0) (v1 : Elt F .i32) (v2 : Elt F .i32) (v4 : Elt F .i32) (v6 : Elt F .i32) (k0_hw7 : k0_chk7 i v1 v2 v4 v6) (v23 : BitVec 32) (v47 : BitVec 32) (v49 : BitVec 32) (v50 : BitVec 32) (v51 : Elt F .i32) (k0_hw2 : k0_chk2 i v51) (v52 : Elt F .i32) (v53 : Elt F .i32) (v55 : Elt F .i32) (v57 : Elt F .i32) (k0_hw8 : k0_chk8 i v1 v2 v4 v6 v52 v53 v55 v57) (v74 : BitVec 32) (v98 : BitVec 32) (v100 : BitVec 32) (v101 : BitVec 32) (v102 : Elt F .i32) (k0_hw3 : k0_chk3 i v102) (v103 : Elt F .i32) (v104 : Elt F .i32) (v106 : Elt F .i32) (v108 : Elt F .i32) (k0_hw9 : k0_chk9 i v1 v2 v4 v6 v52 v53 v55 v57 v103 v104 v106 v108) (v125 : BitVec 32) (v149 : BitVec 32) (v151 : BitVec 32) (v152 : BitVec 32) (v153 : Elt F .i32) (k0_hw4 : k0_chk4 i v153) (v154 : Elt F .i32) (v155 : Elt F .i32) (v157 : Elt F .i32) (v159 : Elt F .i32) (k0_hw10 : k0_chk10 i v1 v2 v4 v6 v52 v53 v55 v57 v103 v104 v106 v108 v154 v155 v157 v159) (v176 : BitVec 32) (v200 : BitVec 32) (v202 : BitVec 32) (v203 : BitVec 32) (v204 : Elt F .i32) (k0_hw5 : k0_chk5 i v204) (v205 : Elt F .i32) (v206 : Elt F .i32) (v208 : Elt F .i32) (v210 : Elt F .i32) (k0_hw11 : k0_chk11 i v1 v2 v4 v6 v52 v53 v55 v57 v103 v104 v106 v108 v154 v155 v157 v159 v205 v206 v208 v210) (v227 : BitVec 32) (v251 : BitVec 32) (v253 : BitVec 32) (v254 : BitVec 32) (v255 : Elt F .i32) (k0_hw6 : k0_chk6 i v255) (v256 : Elt F .i32) (v257 : Elt F .i32) (v259 : Elt F .i32) (v261 : Elt F .i32) (k0_hw12 : k0_chk12 i v1 v2 v4 v6 v52 v53 v55 v57 v103 v104 v106 v108 v154 v155 v157 v159 v205 v206 v208 v210 v256 v257 v259 v261) (v278 : BitVec 32) (v280 : BitVec 32) (v281 : BitVec 1) (v282 : BitVec 32) (c8_i32_113 : BitVec 32) (hi0 : (i 0).val = 0)
    (sg : Fin 6 → Seg) (hsg : sg = (mkSg v1 v2 v4 v6 v52 v53 v55 v57 v103 v104 v106 v108 v154 v155 v157 v159 v205 v206 v208 v210 v256 v257 v259 v261)) (ok : ∀ s, (sg s).OK) (pa : S900x4096.Idx → Elt F .bf16) (pb : S900x14336.Idx → Elt F .bf16) (q5 q6 q7 : PosShare TreeShare) (d5 : S11.Idx → Elt F .f32) (d6 : S128x4096.Idx → Elt F .bf16) (d7 : S512x512.Idx → Elt F .i32) {Q : _ → sProp 𝕄} :
    iprop((∃ f, ptA c Finset.univ f) ∗ (∃ f, ptB c Finset.univ f) ∗ (∃ d, owns (c : Thread nD τ) Hm fullShare d) ∗ ptPA c Finset.univ fullShare pa ∗ ptPB c Finset.univ fullShare pb ∗ six (sA0 (F := F) c) ∗ six (sB0 (F := F) c 0) ∗ six (sB0 (F := F) c 1)
        ∗ (∃ W, owes (c : Thread nD τ) 0 W) ∗ owns (c : Thread nD τ) arg5 q5 d5 ∗ owns (c : Thread nD τ) arg6 q6 d6 ∗ owns (c : Thread nD τ) arg7 q7 d7 ∗ (∃ d, owns (c : Thread nD τ) arg12 fullShare d)
        ∗ (∀ z, iprop(six (fB c sg (pW i).toNat (qW i).toNat (i 0).val pb) ∗ six (fB c sg (pW' i).toNat (qW' i).toNat ((i 0).val + 1) pb) ∗ ptB c (restB sg 0) (k0_pay3 (F := F)) ∗ ptB c (restB sg 1) (k0_pay3 (F := F))
            ∗ ptA c Finset.univ (FA sg pa) ∗ ptPA c Finset.univ fullShare pa ∗ six (sA0 (F := F) c) ∗ (∃ W, owes (c : Thread nD τ) 0 W) ∗ owns (c : Thread nD τ) arg5 q5 d5 ∗ owns (c : Thread nD τ) arg6 q6 d6 ∗ owns (c : Thread nD τ) arg7 q7 d7
            ∗ owns (c : Thread nD τ) Hm fullShare (hbigOf v1 v2 v4 v6 v52 v53 v55 v57 v103 v104 v106 v108 v154 v155 v157 v159 v205 v206 v208 v210 v256 v257 v259 v261 v49 v100 v151 v202 v253 v254 v280 (sw d5 (Rect.unit (s := S11) (k0_off67 v0) S1.size (k0_off67_inb i v0 k0_hw1 ((cond21_iff i).2 hi0))) numel1_S1) (sw d5 (Rect.unit (s := S11) (k0_off68 v51) S1.size (k0_off68_inb i v51 k0_hw2 ((cond21_iff i).2 hi0))) numel1_S1) (sw d5 (Rect.unit (s := S11) (k0_off69 v102) S1.size (k0_off69_inb i v102 k0_hw3 ((cond21_iff i).2 hi0))) numel1_S1) (sw d5 (Rect.unit (s := S11) (k0_off70 v153) S1.size (k0_off70_inb i v153 k0_hw4 ((cond21_iff i).2 hi0))) numel1_S1) (sw d5 (Rect.unit (s := S11) (k0_off71 v204) S1.size (k0_off71_inb i v204 k0_hw5 ((cond21_iff i).2 hi0))) numel1_S1) (sw d5 (Rect.unit (s := S11) (k0_off72 v255) S1.size (k0_off72_inb i v255 k0_hw6 ((cond21_iff i).2 hi0))) numel1_S1) d6 (FA sg pa)) ∗ owns (c : Thread nD τ) arg12 fullShare (lhOf v1 v2 v4 v6 v52 v53 v55 v57 v103 v104 v106 v108 v154 v155 v157 v159 v205 v206 v208 v210 v256 v257 v259 v261 v49 v100 v151 v202 v253 v254 v280 (sw d5 (Rect.unit (s := S11) (k0_off67 v0) S1.size (k0_off67_inb i v0 k0_hw1 ((cond21_iff i).2 hi0))) numel1_S1) (sw d5 (Rect.unit (s := S11) (k0_off68 v51) S1.size (k0_off68_inb i v51 k0_hw2 ((cond21_iff i).2 hi0))) numel1_S1) (sw d5 (Rect.unit (s := S11) (k0_off69 v102) S1.size (k0_off69_inb i v102 k0_hw3 ((cond21_iff i).2 hi0))) numel1_S1) (sw d5 (Rect.unit (s := S11) (k0_off70 v153) S1.size (k0_off70_inb i v153 k0_hw4 ((cond21_iff i).2 hi0))) numel1_S1) (sw d5 (Rect.unit (s := S11) (k0_off71 v204) S1.size (k0_off71_inb i v204 k0_hw5 ((cond21_iff i).2 hi0))) numel1_S1) (sw d5 (Rect.unit (s := S11) (k0_off72 v255) S1.size (k0_off72_inb i v255 k0_hw6 ((cond21_iff i).2 hi0))) numel1_S1) d6 (FA sg pa))) -∗ Q ⟨z, iota .tc S512x8x512 32 [1] iota_S512x8x512_d1_w32, k0_pay26 d7⟩))
      ⊢ wp frame (wpE (defs₀ (F := F)) Variants.none (c : Thread nD τ) none) Set.univ (k0_part12 (F := F) i arg1 harg1 arg2 harg2 arg3 harg3 arg4 harg4 arg5 harg5 arg6 harg6 arg7 harg7 arg8 harg8 PAm (Memref.isWhole_whole _) PBm (Memref.isWhole_whole _) arg11 harg11 arg12 harg12 Am (Memref.isWhole_whole _) Bm (Memref.isWhole_whole _) Hm (Memref.isWhole_whole _) cc0_scratch3 cc0_scratch4 arg0 v0 k0_hw1 v1 v2 v4 v6 k0_hw7 v23 v47 v49 v50 v51 k0_hw2 v52 v53 v55 v57 k0_hw8 v74 v98 v100 v101 v102 k0_hw3 v103 v104 v106 v108 k0_hw9 v125 v149 v151 v152 v153 k0_hw4 v154 v155 v157 v159 k0_hw10 v176 v200 v202 v203 v204 k0_hw5 v205 v206 v208 v210 k0_hw11 v227 v251 v253 v254 v255 k0_hw6 v256 v257 v259 v261 k0_hw12 v278 v280 v281 v282 c8_i32_113) Q := by
  have k0_h1 : k0_cond1 i = 1#1 := (cond1_iff i).2 hi0
  have k0_h14 : k0_cond14 i = 1#1 := (cond14_iff i).2 (by omega)
  have k0_h21 : k0_cond21 i = 1#1 := (cond21_iff i).2 hi0
  have hP' : (pW' i).toNat = 1 := by rw [pW'_toNat, hi0]
  rw [k0_part12_eq_skeleton]; unfold k0_part12_skel
  iintro ⟨HA, HB, ⟨%dh, HH⟩, HPA, HPB, HsA, HsB0, HsB1, HO, H5, H6, H7, ⟨%dl, H12⟩, Hk⟩
  have hC0 : guardW (sg 0) = 1#1 ↔ 0 < gy sg 0 := guard_gy sg ok 0
  have hC1 : guardW (sg 1) = 1#1 ↔ 0 < gy sg 1 := guard_gy sg ok 1
  have hC2 : guardW (sg 2) = 1#1 ↔ 0 < gy sg 2 := guard_gy sg ok 2
  have hC3 : guardW (sg 3) = 1#1 ↔ 0 < gy sg 3 := guard_gy sg ok 3
  have hC4 : guardW (sg 4) = 1#1 ↔ 0 < gy sg 4 := guard_gy sg ok 4
  have hC5 : guardW (sg 5) = 1#1 ↔ 0 < gy sg 5 := guard_gy sg ok 5
  iapply (ifT c k0_h1)
  iapply (bindE c)
  iapply (part1_run c (sg := sg) (hsg := hsg) (ok := ok) (pa := pa) (pb := pb))
  isplitl [HA]
  · iexact HA
  isplitl [HB]
  · iexact HB
  isplitl [HPA]
  · iexact HPA
  isplitl [HPB]
  · iexact HPB
  isplitl [HsA]
  · iexact HsA
  isplitl [HsB0]
  · iexact HsB0
  isplitl [HsB1]
  · iexact HsB1
  iintro ⟨HfA, HAr, B0, B1, B2, B3, B4, B5, HC1, HR0, HR1⟩
  iapply (startB c (C := k0_cond9 v52 v53 v55 v57 = 1#1) (p := (pW i).toNat) (q := (qW i).toNat) (x := gx sg 1) (y := gy sg 1) (g := gg sg 1) 1 (qB (pW i).toNat 1) pb (FB sg pb ((i 0).val)) (by rw [hsg] at hC1 ⊢; exact hC1) (pW_le i)
    (fun i' j' _ h1 h2 h3 h4 => FB_at sg ok pb ((i 0).val) (i 0).isLt 1 i' j' h1 h2 h3 (by rw [h4, qW_toNat])) (by rw [hsg]; rfl) (by rw [hsg]; rfl) (by rw [hsg]; rfl) (by rw [hsg]; rfl) rfl) $$ B1
  iintro B1
  iapply (startB c (C := k0_cond10 v103 v104 v106 v108 = 1#1) (p := (pW i).toNat) (q := (qW i).toNat) (x := gx sg 2) (y := gy sg 2) (g := gg sg 2) 2 (qB (pW i).toNat 2) pb (FB sg pb ((i 0).val)) (by rw [hsg] at hC2 ⊢; exact hC2) (pW_le i)
    (fun i' j' _ h1 h2 h3 h4 => FB_at sg ok pb ((i 0).val) (i 0).isLt 2 i' j' h1 h2 h3 (by rw [h4, qW_toNat])) (by rw [hsg]; rfl) (by rw [hsg]; rfl) (by rw [hsg]; rfl) (by rw [hsg]; rfl) rfl) $$ B2
  iintro B2
  iapply (startB c (C := k0_cond11 v154 v155 v157 v159 = 1#1) (p := (pW i).toNat) (q := (qW i).toNat) (x := gx sg 3) (y := gy sg 3) (g := gg sg 3) 3 (qB (pW i).toNat 3) pb (FB sg pb ((i 0).val)) (by rw [hsg] at hC3 ⊢; exact hC3) (pW_le i)
    (fun i' j' _ h1 h2 h3 h4 => FB_at sg ok pb ((i 0).val) (i 0).isLt 3 i' j' h1 h2 h3 (by rw [h4, qW_toNat])) (by rw [hsg]; rfl) (by rw [hsg]; rfl) (by rw [hsg]; rfl) (by rw [hsg]; rfl) rfl) $$ B3
  iintro B3
  iapply (startB c (C := k0_cond12 v205 v206 v208 v210 = 1#1) (p := (pW i).toNat) (q := (qW i).toNat) (x := gx sg 4) (y := gy sg 4) (g := gg sg 4) 4 (qB (pW i).toNat 4) pb (FB sg pb ((i 0).val)) (by rw [hsg] at hC4 ⊢; exact hC4) (pW_le i)
    (fun i' j' _ h1 h2 h3 h4 => FB_at sg ok pb ((i 0).val) (i 0).isLt 4 i' j' h1 h2 h3 (by rw [h4, qW_toNat])) (by rw [hsg]; rfl) (by rw [hsg]; rfl) (by rw [hsg]; rfl) (by rw [hsg]; rfl) rfl) $$ B4
  iintro B4
  iapply (startB c (C := k0_cond13 v256 v257 v259 v261 = 1#1) (p := (pW i).toNat) (q := (qW i).toNat) (x := gx sg 5) (y := gy sg 5) (g := gg sg 5) 5 (qB (pW i).toNat 5) pb (FB sg pb ((i 0).val)) (by rw [hsg] at hC5 ⊢; exact hC5) (pW_le i)
    (fun i' j' _ h1 h2 h3 h4 => FB_at sg ok pb ((i 0).val) (i 0).isLt 5 i' j' h1 h2 h3 (by rw [h4, qW_toNat])) (by rw [hsg]; rfl) (by rw [hsg]; rfl) (by rw [hsg]; rfl) (by rw [hsg]; rfl) rfl) $$ B5
  iintro B5
  ihave HC1 := (Entails.of_eq (show six (cB c sg 1 pb) = six (cB c sg (pW' i).toNat pb) by rw [hP'])) $$ HC1
  icases HC1 with ⟨D0, D1, D2, D3, D4, D5⟩
  iapply (ifT c k0_h14)
  iapply (startB c (C := k0_cond15 v1 v2 v4 v6 = 1#1) (p := (pW' i).toNat) (q := (qW' i).toNat) (x := gx sg 0) (y := gy sg 0) (g := gg sg 0) 0 (qB (pW' i).toNat 0) pb (FB sg pb ((i 0).val + 1)) (by rw [hsg] at hC0 ⊢; exact hC0) (pW'_le i)
    (fun i' j' _ h1 h2 h3 h4 => FB_at sg ok pb ((i 0).val + 1) (by omega) 0 i' j' h1 h2 h3 (by rw [h4, qW'_toNat])) (by rw [hsg]; rfl) (by rw [hsg]; rfl) (by rw [hsg]; rfl) (by rw [hsg]; rfl) rfl) $$ D0
  iintro D0
  iapply (startB c (C := k0_cond16 v52 v53 v55 v57 = 1#1) (p := (pW' i).toNat) (q := (qW' i).toNat) (x := gx sg 1) (y := gy sg 1) (g := gg sg 1) 1 (qB (pW' i).toNat 1) pb (FB sg pb ((i 0).val + 1)) (by rw [hsg] at hC1 ⊢; exact hC1) (pW'_le i)
    (fun i' j' _ h1 h2 h3 h4 => FB_at sg ok pb ((i 0).val + 1) (by omega) 1 i' j' h1 h2 h3 (by rw [h4, qW'_toNat])) (by rw [hsg]; rfl) (by rw [hsg]; rfl) (by rw [hsg]; rfl) (by rw [hsg]; rfl) rfl) $$ D1
  iintro D1
  iapply (startB c (C := k0_cond17 v103 v104 v106 v108 = 1#1) (p := (pW' i).toNat) (q := (qW' i).toNat) (x := gx sg 2) (y := gy sg 2) (g := gg sg 2) 2 (qB (pW' i).toNat 2) pb (FB sg pb ((i 0).val + 1)) (by rw [hsg] at hC2 ⊢; exact hC2) (pW'_le i)
    (fun i' j' _ h1 h2 h3 h4 => FB_at sg ok pb ((i 0).val + 1) (by omega) 2 i' j' h1 h2 h3 (by rw [h4, qW'_toNat])) (by rw [hsg]; rfl) (by rw [hsg]; rfl) (by rw [hsg]; rfl) (by rw [hsg]; rfl) rfl) $$ D2
  iintro D2
  iapply (startB c (C := k0_cond18 v154 v155 v157 v159 = 1#1) (p := (pW' i).toNat) (q := (qW' i).toNat) (x := gx sg 3) (y := gy sg 3) (g := gg sg 3) 3 (qB (pW' i).toNat 3) pb (FB sg pb ((i 0).val + 1)) (by rw [hsg] at hC3 ⊢; exact hC3) (pW'_le i)
    (fun i' j' _ h1 h2 h3 h4 => FB_at sg ok pb ((i 0).val + 1) (by omega) 3 i' j' h1 h2 h3 (by rw [h4, qW'_toNat])) (by rw [hsg]; rfl) (by rw [hsg]; rfl) (by rw [hsg]; rfl) (by rw [hsg]; rfl) rfl) $$ D3
  iintro D3
  iapply (startB c (C := k0_cond19 v205 v206 v208 v210 = 1#1) (p := (pW' i).toNat) (q := (qW' i).toNat) (x := gx sg 4) (y := gy sg 4) (g := gg sg 4) 4 (qB (pW' i).toNat 4) pb (FB sg pb ((i 0).val + 1)) (by rw [hsg] at hC4 ⊢; exact hC4) (pW'_le i)
    (fun i' j' _ h1 h2 h3 h4 => FB_at sg ok pb ((i 0).val + 1) (by omega) 4 i' j' h1 h2 h3 (by rw [h4, qW'_toNat])) (by rw [hsg]; rfl) (by rw [hsg]; rfl) (by rw [hsg]; rfl) (by rw [hsg]; rfl) rfl) $$ D4
  iintro D4
  iapply (startB c (C := k0_cond20 v256 v257 v259 v261 = 1#1) (p := (pW' i).toNat) (q := (qW' i).toNat) (x := gx sg 5) (y := gy sg 5) (g := gg sg 5) 5 (qB (pW' i).toNat 5) pb (FB sg pb ((i 0).val + 1)) (by rw [hsg] at hC5 ⊢; exact hC5) (pW'_le i)
    (fun i' j' _ h1 h2 h3 h4 => FB_at sg ok pb ((i 0).val + 1) (by omega) 5 i' j' h1 h2 h3 (by rw [h4, qW'_toNat])) (by rw [hsg]; rfl) (by rw [hsg]; rfl) (by rw [hsg]; rfl) (by rw [hsg]; rfl) rfl) $$ D5
  iintro D5
  iapply (ifT c k0_h21)
  iapply (bindE c)
  iapply (part2_run c (sg := sg) (hsg := hsg) (ok := ok) (pa := pa) (q5 := q5) (q6 := q6) (d5 := d5) (d6 := d6))
  isplitl [HfA]
  · iexact HfA
  isplitl [HAr]
  · iexact HAr
  isplitl [HO]
  · iexact HO
  isplitl [H6]
  · iexact H6
  isplitl [H5]
  · iexact H5
  iintro ⟨HA, HPA, HsA, HO, H6, H5⟩
  iapply (bindE c)
  iapply (part3_run c (q5 := q5) (d5 := d5))
  isplitl [H5]
  · iexact H5
  iintro H5
  iapply (bindE c)
  iapply (part4_run c (q5 := q5) (d5 := d5))
  isplitl [H5]
  · iexact H5
  iintro H5
  iapply (smO c arg5 d5) $$ H5
  iintro H5
  iapply (ldO c Hm dh) $$ HH
  iintro HH
  iapply (stO c Hm dh) $$ HH
  iintro HH
  iapply (ldO c arg12 dl) $$ H12
  iintro H12
  iapply (stO c arg12 dl) $$ H12
  iintro H12
  iapply (ldO c arg7 d7) $$ H7
  iintro H7
  iapply (wp_retE c)
  iapply Hk
  isplitl [B0 B1 B2 B3 B4 B5]
  · isplitl [B0]
    · iexact B0
    isplitl [B1]
    · iexact B1
    isplitl [B2]
    · iexact B2
    isplitl [B3]
    · iexact B3
    isplitl [B4]
    · iexact B4
    iexact B5
  isplitl [D0 D1 D2 D3 D4 D5]
  · isplitl [D0]
    · iexact D0
    isplitl [D1]
    · iexact D1
    isplitl [D2]
    · iexact D2
    isplitl [D3]
    · iexact D3
    isplitl [D4]
    · iexact D4
    iexact D5
  isplitl [HR0]
  · iexact HR0
  isplitl [HR1]
  · iexact HR1
  isplitl [HA]
  · iexact HA
  isplitl [HPA]
  · iexact HPA
  isplitl [HsA]
  · iexact HsA
  isplitl [HO]
  · iexact HO
  isplitl [H5]
  · iexact H5
  isplitl [H6]
  · iexact H6
  isplitl [H7]
  · iexact H7
  isplitl [HH]
  · iexact HH
  iexact H12

end Cert.KernelIdeal.Hand

end
-- ==== Proof.IFirstStep.lean ====
/- Hand-written, untrusted: the whole first step. -/
module

public import proofs.«01_k».proof.Proof.IFirst
public import proofs.«01_k».proof.Proof.ILater

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 1000000 in
/-- The first step. -/
theorem step_first (c : Dev nD) (i : grid0.Coords) (arg1 : Memref sig .tc .smem S11 .i32) (harg1 : arg1.IsWhole) (arg2 : Memref sig .tc .smem S11 .i32) (harg2 : arg2.IsWhole) (arg3 : Memref sig .tc .smem S7 .i32) (harg3 : arg3.IsWhole) (arg4 : Memref sig .tc .smem S6 .i32) (harg4 : arg4.IsWhole) (arg5 : Memref sig .tc .smem S11 .f32) (harg5 : arg5.IsWhole) (arg6 : Memref sig .tc .vmem S128x4096 .bf16) (harg6 : arg6.IsWhole) (arg7 : Memref sig .tc .vmem S512x512 .i32) (harg7 : arg7.IsWhole) (arg8 : Memref sig .tc .vmem S128x512 .i8) (harg8 : arg8.IsWhole) (arg11 : Memref sig .tc .vmem S128x512 .bf16) (harg11 : arg11.IsWhole) (arg12 : Memref sig .tc .vmem S128x64 .bf16) (harg12 : arg12.IsWhole) (hi0 : (i 0).val = 0)
    (q1 q2 q3 q4 q5 q6 q7 q8 : PosShare TreeShare) (d1 d2 : S11.Idx → Elt F .i32) (d3 : S7.Idx → Elt F .i32) (d4 : S6.Idx → Elt F .i32) (d5 : S11.Idx → Elt F .f32) (d6 : S128x4096.Idx → Elt F .bf16) (d7 : S512x512.Idx → Elt F .i32) (d8 : S128x512.Idx → Elt F .i8) (tok : TOK d1 d2 d3 d4) (pa : S900x4096.Idx → Elt F .bf16) (pb : S900x14336.Idx → Elt F .bf16) {Q : PUnit → sProp 𝕄} :
    iprop(Inv0 c pa pb ∗ (∃ d, owns (c : Thread nD τ) arg11 fullShare d) ∗ (∃ d, owns (c : Thread nD τ) arg12 fullShare d) ∗ owns (c : Thread nD τ) arg1 q1 d1 ∗ owns (c : Thread nD τ) arg2 q2 d2 ∗ owns (c : Thread nD τ) arg3 q3 d3 ∗ owns (c : Thread nD τ) arg4 q4 d4 ∗ (∃ W, owes (c : Thread nD τ) 0 W) ∗ owns (c : Thread nD τ) arg5 q5 d5 ∗ owns (c : Thread nD τ) arg6 q6 d6 ∗ owns (c : Thread nD τ) arg7 q7 d7 ∗ owns (c : Thread nD τ) arg8 q8 d8
        ∗ (iprop(InvL c (sgT d1 d2 d3 d4) pa pb (HBd d1 d2 d3 d4 d5 d6 (FA (sgT d1 d2 d3 d4) pa)) 1 ∗ owns (c : Thread nD τ) arg11 fullShare (yOf d6 d7 d8 (HBd d1 d2 d3 d4 d5 d6 (FA (sgT d1 d2 d3 d4) pa)) (slotRd i (FB (sgT d1 d2 d3 d4) pb (i 0).val))) ∗ owns (c : Thread nD τ) arg12 fullShare (LHd d1 d2 d3 d4 d5 d6 (FA (sgT d1 d2 d3 d4) pa)) ∗ owns (c : Thread nD τ) arg1 q1 d1 ∗ owns (c : Thread nD τ) arg2 q2 d2 ∗ owns (c : Thread nD τ) arg3 q3 d3 ∗ owns (c : Thread nD τ) arg4 q4 d4 ∗ (∃ W, owes (c : Thread nD τ) 0 W) ∗ owns (c : Thread nD τ) arg5 q5 d5 ∗ owns (c : Thread nD τ) arg6 q6 d6 ∗ owns (c : Thread nD τ) arg7 q7 d7 ∗ owns (c : Thread nD τ) arg8 q8 d8) -∗ Q ⟨⟩))
      ⊢ wp frame (wpE (defs₀ (F := F)) Variants.none (c : Thread nD τ) none) Set.univ (cc0_mxfp4_lora (F := F) i arg1 harg1 arg2 harg2 arg3 harg3 arg4 harg4 arg5 harg5 arg6 harg6 arg7 harg7 arg8 harg8 PAm (Memref.isWhole_whole _) PBm (Memref.isWhole_whole _) arg11 harg11 arg12 harg12 Am (Memref.isWhole_whole _) Bm (Memref.isWhole_whole _) Hm (Memref.isWhole_whole _) cc0_scratch3 cc0_scratch4) Q := by
  have k0_hw1 : k0_chk1 i (at6 d4 0) := chk1_ok i _ (tok.u 0)
  have k0_hw2 : k0_chk2 i (at6 d4 1) := chk2_ok i _ (tok.u 1)
  have k0_hw3 : k0_chk3 i (at6 d4 2) := chk3_ok i _ (tok.u 2)
  have k0_hw4 : k0_chk4 i (at6 d4 3) := chk4_ok i _ (tok.u 3)
  have k0_hw5 : k0_chk5 i (at6 d4 4) := chk5_ok i _ (tok.u 4)
  have k0_hw6 : k0_chk6 i (at6 d4 5) := chk6_ok i _ (tok.u 5)
  have k0_hw7 : k0_chk7 i (at7 d3 0) (at7 d3 1) (at11 d1 (at6 d4 0).toNat) (at11 d2 (at6 d4 0).toNat) := chk7_ok i _ _ _ _ (tok.ok 0)
  have k0_hw8 : k0_chk8 i (at7 d3 0) (at7 d3 1) (at11 d1 (at6 d4 0).toNat) (at11 d2 (at6 d4 0).toNat) (at7 d3 1) (at7 d3 2) (at11 d1 (at6 d4 1).toNat) (at11 d2 (at6 d4 1).toNat) := chk8_ok i _ _ _ _ _ _ _ _ (tok.ok 0) (tok.ok 1)
  have k0_hw9 : k0_chk9 i (at7 d3 0) (at7 d3 1) (at11 d1 (at6 d4 0).toNat) (at11 d2 (at6 d4 0).toNat) (at7 d3 1) (at7 d3 2) (at11 d1 (at6 d4 1).toNat) (at11 d2 (at6 d4 1).toNat) (at7 d3 2) (at7 d3 3) (at11 d1 (at6 d4 2).toNat) (at11 d2 (at6 d4 2).toNat) := chk9_ok i _ _ _ _ _ _ _ _ _ _ _ _ (tok.ok 0) (tok.ok 1) (tok.ok 2)
  have k0_hw10 : k0_chk10 i (at7 d3 0) (at7 d3 1) (at11 d1 (at6 d4 0).toNat) (at11 d2 (at6 d4 0).toNat) (at7 d3 1) (at7 d3 2) (at11 d1 (at6 d4 1).toNat) (at11 d2 (at6 d4 1).toNat) (at7 d3 2) (at7 d3 3) (at11 d1 (at6 d4 2).toNat) (at11 d2 (at6 d4 2).toNat) (at7 d3 3) (at7 d3 4) (at11 d1 (at6 d4 3).toNat) (at11 d2 (at6 d4 3).toNat) := chk10_ok i _ _ _ _ _ _ _ _ _ _ _ _ _ _ _ _ (tok.ok 0) (tok.ok 1) (tok.ok 2) (tok.ok 3)
  have k0_hw11 : k0_chk11 i (at7 d3 0) (at7 d3 1) (at11 d1 (at6 d4 0).toNat) (at11 d2 (at6 d4 0).toNat) (at7 d3 1) (at7 d3 2) (at11 d1 (at6 d4 1).toNat) (at11 d2 (at6 d4 1).toNat) (at7 d3 2) (at7 d3 3) (at11 d1 (at6 d4 2).toNat) (at11 d2 (at6 d4 2).toNat) (at7 d3 3) (at7 d3 4) (at11 d1 (at6 d4 3).toNat) (at11 d2 (at6 d4 3).toNat) (at7 d3 4) (at7 d3 5) (at11 d1 (at6 d4 4).toNat) (at11 d2 (at6 d4 4).toNat) := chk11_ok i _ _ _ _ _ _ _ _ _ _ _ _ _ _ _ _ _ _ _ _ (tok.ok 0) (tok.ok 1) (tok.ok 2) (tok.ok 3) (tok.ok 4)
  have k0_hw12 : k0_chk12 i (at7 d3 0) (at7 d3 1) (at11 d1 (at6 d4 0).toNat) (at11 d2 (at6 d4 0).toNat) (at7 d3 1) (at7 d3 2) (at11 d1 (at6 d4 1).toNat) (at11 d2 (at6 d4 1).toNat) (at7 d3 2) (at7 d3 3) (at11 d1 (at6 d4 2).toNat) (at11 d2 (at6 d4 2).toNat) (at7 d3 3) (at7 d3 4) (at11 d1 (at6 d4 3).toNat) (at11 d2 (at6 d4 3).toNat) (at7 d3 4) (at7 d3 5) (at11 d1 (at6 d4 4).toNat) (at11 d2 (at6 d4 4).toNat) (at7 d3 5) (at7 d3 6) (at11 d1 (at6 d4 5).toNat) (at11 d2 (at6 d4 5).toNat) := chk12_ok i _ _ _ _ _ _ _ _ _ _ _ _ _ _ _ _ _ _ _ _ _ _ _ _ (tok.ok 0) (tok.ok 1) (tok.ok 2) (tok.ok 3) (tok.ok 4) (tok.ok 5)
  have hsg := sgT_eq d1 d2 d3 d4
  unfold Inv0
  iintro ⟨⟨HA, HB, HH, HPA, HPB, HsA, HsB0, HsB1⟩, H11, H12, H1, H2, H3, H4, HO, H5, H6, H7, H8, Hk⟩
  iapply (words_run c i _ _ _ _ _ _ _ _ _ _ _ _ _ _ _ _ _ _ _ _ q1 q2 q3 q4 d1 d2 d3 d4
    (at6 d4 0) (sw6 d4 0 rfl) k0_hw1 (at7 d3 0) (at7 d3 1) (at11 d1 (at6 d4 0).toNat) (at11 d2 (at6 d4 0).toNat) (sw7 d3 0 rfl) (sw7 d3 1 rfl) (sw11 d1 _ rfl) (sw11 d2 _ rfl) k0_hw7
    (at6 d4 1) (sw6 d4 1 rfl) k0_hw2 (at7 d3 1) (at7 d3 2) (at11 d1 (at6 d4 1).toNat) (at11 d2 (at6 d4 1).toNat) (sw7 d3 1 rfl) (sw7 d3 2 rfl) (sw11 d1 _ rfl) (sw11 d2 _ rfl) k0_hw8
    (at6 d4 2) (sw6 d4 2 rfl) k0_hw3 (at7 d3 2) (at7 d3 3) (at11 d1 (at6 d4 2).toNat) (at11 d2 (at6 d4 2).toNat) (sw7 d3 2 rfl) (sw7 d3 3 rfl) (sw11 d1 _ rfl) (sw11 d2 _ rfl) k0_hw9
    (at6 d4 3) (sw6 d4 3 rfl) k0_hw4 (at7 d3 3) (at7 d3 4) (at11 d1 (at6 d4 3).toNat) (at11 d2 (at6 d4 3).toNat) (sw7 d3 3 rfl) (sw7 d3 4 rfl) (sw11 d1 _ rfl) (sw11 d2 _ rfl) k0_hw10
    (at6 d4 4) (sw6 d4 4 rfl) k0_hw5 (at7 d3 4) (at7 d3 5) (at11 d1 (at6 d4 4).toNat) (at11 d2 (at6 d4 4).toNat) (sw7 d3 4 rfl) (sw7 d3 5 rfl) (sw11 d1 _ rfl) (sw11 d2 _ rfl) k0_hw11
    (at6 d4 5) (sw6 d4 5 rfl) k0_hw6 (at7 d3 5) (at7 d3 6) (at11 d1 (at6 d4 5).toNat) (at11 d2 (at6 d4 5).toNat) (sw7 d3 5 rfl) (sw7 d3 6 rfl) (sw11 d1 _ rfl) (sw11 d2 _ rfl) k0_hw12)
  isplitl [H1]
  · iexact H1
  isplitl [H2]
  · iexact H2
  isplitl [H3]
  · iexact H3
  isplitl [H4]
  · iexact H4
  iintro %v23 %v47 %v50 %v74 %v98 %v101 %v125 %v149 %v152 %v176 %v200 %v203 %v227 %v251 %v278 %v281 %v282 %c8 %a0 %v49 %v100 %v151 %v202 %v253 %v254 %v280 %hv ⟨H1, H2, H3, H4⟩
  rw [← hsg] at hv
  obtain ⟨rfl, rfl, rfl, rfl, rfl, rfl, rfl⟩ := hv
  unfold root1
  iapply (bindE c)
  iapply (part12_first c (hi0 := hi0) (sg := sgT d1 d2 d3 d4) (hsg := hsg) (ok := tok.ok) (pa := pa) (pb := pb) (q5 := q5) (q6 := q6) (q7 := q7) (d5 := d5) (d6 := d6) (d7 := d7))
  isplitl [HA]
  · iexact HA
  isplitl [HB]
  · iexact HB
  isplitl [HH]
  · iexact HH
  isplitl [HPA]
  · iexact HPA
  isplitl [HPB]
  · iexact HPB
  isplitl [HsA]
  · iexact HsA
  isplitl [HsB0]
  · iexact HsB0
  isplitl [HsB1]
  · iexact HsB1
  isplitl [HO]
  · iexact HO
  isplitl [H5]
  · iexact H5
  isplitl [H6]
  · iexact H6
  isplitl [H7]
  · iexact H7
  isplitl [H12]
  · iexact H12
  iintro %z ⟨HF, HN, HR0, HR1, HA, HPA, HsA, HO, H5, H6, H7, HH, H12⟩
  have hp : (pW i).toNat = 0 := by rw [pW_toNat, hi0]
  rw [sw11 d5 (at6 d4 0).toNat rfl, sw11 d5 (at6 d4 1).toNat rfl, sw11 d5 (at6 d4 2).toNat rfl, sw11 d5 (at6 d4 3).toNat rfl, sw11 d5 (at6 d4 4).toNat rfl, sw11 d5 (at6 d4 5).toNat rfl]
  iapply (root2_run c (sg := sgT d1 d2 d3 d4) (hsg := hsg) (ok := tok.ok) (pb := pb) (q6 := q6) (q8 := q8) (d6 := d6) (d8 := d8) (hb := (HBd d1 d2 d3 d4 d5 d6 (FA (sgT d1 d2 d3 d4) pa))))
  isplitl [HF]
  · iexact HF
  isplitl [HR0]
  · iapply (Entails.of_eq (show (ptB c (restB (sgT d1 d2 d3 d4) 0) (k0_pay3 (F := F)) : sProp 𝕄) = ptB c (restB (sgT d1 d2 d3 d4) (pW i).toNat) (k0_pay3 (F := F)) by rw [hp]))
    iexact HR0
  isplitl [HO]
  · iexact HO
  isplitl [H6]
  · iexact H6
  isplitl [H8]
  · iexact H8
  isplitl [HH]
  · iexact HH
  isplitl [H11]
  · iexact H11
  iintro ⟨HC, HR0, HO, H6, H8, HH, H11⟩
  iapply Hk
  isplitl [HA HPA HsA HH HN HC HR0 HR1]
  · unfold InvL
    isplitl [HA]
    · iexact HA
    isplitl [HPA]
    · iexact HPA
    isplitl [HsA]
    · iexact HsA
    isplitl [HH]
    · iexact HH
    isplitl [HN]
    · rw [if_pos (by decide : 1 < 28)]
      iapply (Entails.of_eq (show six (fB c (sgT d1 d2 d3 d4) (pW' i).toNat (qW' i).toNat ((i 0).val + 1) pb) = six (fB c (sgT d1 d2 d3 d4) (1 % 2) (512 * 1) 1 pb) by rw [pW'_toNat, qW'_toNat, hi0]))
      iexact HN
    isplitl [HC]
    · iapply (Entails.of_eq (show six (cB c (sgT d1 d2 d3 d4) (pW i).toNat pb) = six (cB c (sgT d1 d2 d3 d4) ((1 + 1) % 2) pb) by rw [hp]))
      iexact HC
    isplitl [HR1]
    · iexact HR1
    iapply (Entails.of_eq (show (ptB c (restB (sgT d1 d2 d3 d4) (pW i).toNat) (k0_pay3 (F := F)) : sProp 𝕄) = ptB c (restB (sgT d1 d2 d3 d4) ((1 + 1) % 2)) (k0_pay3 (F := F)) by rw [hp]))
    iexact HR0
  isplitl [H11]
  · iexact H11
  isplitl [H12]
  · iexact H12
  isplitl [H1]
  · iexact H1
  isplitl [H2]
  · iexact H2
  isplitl [H3]
  · iexact H3
  isplitl [H4]
  · iexact H4
  isplitl [HO]
  · iexact HO
  isplitl [H5]
  · iexact H5
  isplitl [H6]
  · iexact H6
  isplitl [H7]
  · iexact H7
  iexact H8

end Cert.KernelIdeal.Hand

end
-- ==== Proof.IRun.lean ====
/- Hand-written, untrusted: the body at every point of the grid, and the run. -/
module

public import proofs.«01_k».proof.Proof.IEnds
public import proofs.«01_k».proof.Proof.IFirstStep

@[expose] public section

noncomputable section

namespace Cert.KernelIdeal.Hand

open Cert.KernelIdeal Cert.KernelIdeal.Gen
open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the windows hold at a point -/

abbrev CF : Pipeline.Cfg sig Λ₀ := cfg0 (adm m)
/-- The first point. -/
abbrev t0 : Fin (CF m).N := ⟨0, by rw [show (CF m).N = 28 from N_0]; decide⟩
theorem coords0 (t : Fin (CF m).N) : (grid0.coords t 0).val = t.val := by
  have h := Pipeline.Grid.coords_val (G := grid0) t 0 (S := 1) (B := 28) (by decide) (by decide)
  have := Nat.lt_of_lt_of_eq t.isLt (show (CF m).N = 28 from N_0)
  rw [h]; omega
/-- The block of an operand at a point. -/
def inBlk (c : Dev nD) (w : Fin 6) (t : Fin (CF m).N) : (((CF m).win w).xblock ((CF m).grid.coords t)).Idx → Elt F ((CF m).win w).elt :=
  (((CF m).win w).blk t).view.read (Elt F) (V m c (Pipeline.arrRef spec0 w))
/-- What the first step keeps in its third buffer. -/
def HBm (c : Dev nD) : S128x512.Idx → Elt F .bf16 :=
  HBd (T1 m) (T2 m) (T3 m) (T4 m) (inBlk m c 0 (t0 m)) (inBlk m c 1 (t0 m)) (FA (sgM m) (PA m c))
/-- The second result. -/
def LHm (c : Dev nD) : S128x64.Idx → Elt F .bf16 :=
  LHd (T1 m) (T2 m) (T3 m) (T4 m) (inBlk m c 0 (t0 m)) (inBlk m c 1 (t0 m)) (FA (sgM m) (PA m c))
/-- A block of the first result. -/
def yBlk (c : Dev nD) (t : Fin (CF m).N) : S128x512.Idx → Elt F .bf16 :=
  yOf (inBlk m c 1 t) (inBlk m c 2 t) (inBlk m c 3 t) (HBm m c) (slotRd (grid0.coords t) (FB (sgM m) (PB m c) t.val))

/-- The state between the points. -/
def PhiN (c : Dev nD) (n : ℕ) : sProp 𝕄 :=
  if n = 0 then iprop(Pipeline.ΦD osem0 spec0 H0 (V m) c ∗ Pipeline.ΦT pre0 (tbl m) c)
  else iprop(InvL c (sgM m) (PA m c) (PB m c) (HBm m c) n ∗ (∃ r, prngReg c r) ∗ Pipeline.ΦT pre0 (tbl m) c)

def dats (_ : Fin 1) (c : Dev nD) : Dat τ (Elt F) Unit ℕ (Pipeline.UD sig nD τ) ℕ (CF m) c where
  A w := V m c (Pipeline.arrRef spec0 w)
  after w t := match w with
    | ⟨0, _⟩ => inBlk m c 0 t
    | ⟨1, _⟩ => inBlk m c 1 t
    | ⟨2, _⟩ => inBlk m c 2 t
    | ⟨3, _⟩ => inBlk m c 3 t
    | ⟨4, _⟩ => yBlk m c t
    | ⟨5, _⟩ => LHm m c
    | ⟨_ + 6, h⟩ => absurd h (Nat.not_lt.2 (Nat.le_add_left _ _))
  Φ t := PhiN m c t.val
  q _ := fullShare
  owed _ := 0

theorem A_eq (c : Dev nD) (w : Fin (CF m).W) : (dats m 0 c).A w = V m c (Pipeline.arrRef spec0 w) := rfl
theorem after0_0 (c : Dev nD) (t : Fin (CF m).N) : (dats m 0 c).after (0 : Fin 6) t = inBlk m c 0 t := rfl
theorem after0_1 (c : Dev nD) (t : Fin (CF m).N) : (dats m 0 c).after (1 : Fin 6) t = inBlk m c 1 t := rfl
theorem after0_2 (c : Dev nD) (t : Fin (CF m).N) : (dats m 0 c).after (2 : Fin 6) t = inBlk m c 2 t := rfl
theorem after0_3 (c : Dev nD) (t : Fin (CF m).N) : (dats m 0 c).after (3 : Fin 6) t = inBlk m c 3 t := rfl
theorem after0_4 (c : Dev nD) (t : Fin (CF m).N) : (dats m 0 c).after (4 : Fin 6) t = yBlk m c t := rfl
theorem after0_5 (c : Dev nD) (t : Fin (CF m).N) : (dats m 0 c).after (5 : Fin 6) t = LHm m c := rfl
theorem before0_0 (c : Dev nD) (t : Fin (CF m).N) (d) : (dats m 0 c).before (0 : Fin 6) t d = inBlk m c 0 t :=
  (dats m 0 c).before_in_eq_fetched (0 : Fin 6) rfl (fun _ => rfl) (fun _ _ _ => rfl) (fun _ => rfl) t d
theorem before0_1 (c : Dev nD) (t : Fin (CF m).N) (d) : (dats m 0 c).before (1 : Fin 6) t d = inBlk m c 1 t :=
  (dats m 0 c).before_in_eq_fetched (1 : Fin 6) rfl (fun _ => rfl) (fun _ _ _ => rfl) (fun _ => rfl) t d
theorem before0_2 (c : Dev nD) (t : Fin (CF m).N) (d) : (dats m 0 c).before (2 : Fin 6) t d = inBlk m c 2 t :=
  (dats m 0 c).before_in_eq_fetched (2 : Fin 6) rfl (fun _ => rfl) (fun _ _ _ => rfl) (fun _ => rfl) t d
theorem before0_3 (c : Dev nD) (t : Fin (CF m).N) (d) : (dats m 0 c).before (3 : Fin 6) t d = inBlk m c 3 t :=
  (dats m 0 c).before_in_eq_fetched (3 : Fin 6) rfl (fun _ => rfl) (fun _ _ _ => rfl) (fun _ => rfl) t d

/-- The second result's window is live at the first point only, and written back after the last. -/
theorem idle5_zero (t : Fin (CF m).N) (h : t.val = 0) : (CF m).idle (5 : Fin 6) ((CF m).grid.coords t) = false := by
  show (!(k0_cond21 (grid0.coords t) == 1#1)) = false
  rw [(cond21_iff _).2 ((coords0 m t).trans h)]; rfl
theorem idle5_pos (t : Fin (CF m).N) (h : t.val ≠ 0) : (CF m).idle (5 : Fin 6) ((CF m).grid.coords t) = true := by
  show (!(k0_cond21 (grid0.coords t) == 1#1)) = true
  have : k0_cond21 (grid0.coords t) ≠ 1#1 := fun e => h ((coords0 m t).symm.trans ((cond21_iff _).1 e))
  simp [this]
theorem flush5_false (t : Fin (CF m).N) (h : t.val ≠ 27) : ((CF m).win (5 : Fin 6)).flush t = false := by
  rw [← Bool.not_eq_true]
  intro hf
  rcases (((CF m).win (5 : Fin 6)).flush_out rfl t).1 hf with e | ⟨_, e⟩
  · have e' : t.val + 1 = 28 := e.trans N_0
    omega
  · exact e rfl
theorem flush5_true (t : Fin (CF m).N) (h : t.val = 27) : ((CF m).win (5 : Fin 6)).flush t = true :=
  (((CF m).win (5 : Fin 6)).flush_out rfl t).2 (Or.inl ((by omega : t.val + 1 = 28).trans N_0.symm))
theorem left5_zero (c : Dev nD) (t : Fin (CF m).N) (h : t.val = 0) (d) : (dats m 0 c).left (5 : Fin 6) t d = LHm m c := by
  unfold Dat.left; rw [idle5_zero m t h]; rfl
theorem left5_pos (c : Dev nD) (t : Fin (CF m).N) (h : t.val ≠ 0) (d) : (dats m 0 c).left (5 : Fin 6) t d = (dats m 0 c).before (5 : Fin 6) t d := by
  unfold Dat.left; rw [idle5_pos m t h]
theorem before5_aux (c : Dev nD) : ∀ (n : ℕ) (h : n + 1 < (CF m).N) (d), (dats m 0 c).before (5 : Fin 6) ⟨n + 1, h⟩ d = LHm m c
  | 0, h, d => by
    rw [(dats m 0 c).before_of_pos (5 : Fin 6) ⟨0 + 1, h⟩ (Nat.succ_ne_zero _) (((CF m).win (5 : Fin 6)).fetch_out rfl _) d,
      flush5_false m _ (by show 0 + 1 - 1 ≠ 27; decide), if_neg Bool.false_ne_true]
    exact left5_zero m c _ rfl d
  | n + 1, h, d => by
    have hN : n + 1 + 1 < 28 := by rw [← N_0]; exact h
    rw [(dats m 0 c).before_of_pos (5 : Fin 6) ⟨n + 1 + 1, h⟩ (Nat.succ_ne_zero _) (((CF m).win (5 : Fin 6)).fetch_out rfl _) d,
      flush5_false m _ (by show n + 1 + 1 - 1 ≠ 27; omega), if_neg Bool.false_ne_true]
    exact (left5_pos m c _ (Nat.succ_ne_zero n) d).trans (before5_aux c n (Nat.lt_of_succ_lt h) d)
theorem before0_5 (c : Dev nD) (t : Fin (CF m).N) (h : t.val ≠ 0) (d) : (dats m 0 c).before (5 : Fin 6) t d = LHm m c := by
  obtain ⟨n, hn⟩ := t
  obtain ⟨k, rfl⟩ := Nat.exists_eq_succ_of_ne_zero h
  exact before5_aux m c k hn d

abbrev ms0 (t : Fin (CF m).N) : Memref sig .tc .smem S11 .f32 := spec0_0.stage ((CF m).slots t (0 : Fin 6))
abbrev ms1 (t : Fin (CF m).N) : Memref sig .tc .vmem S128x4096 .bf16 := spec0_1.stage ((CF m).slots t (1 : Fin 6))
abbrev ms2 (t : Fin (CF m).N) : Memref sig .tc .vmem S512x512 .i32 := spec0_2.stage ((CF m).slots t (2 : Fin 6))
abbrev ms3 (t : Fin (CF m).N) : Memref sig .tc .vmem S128x512 .i8 := spec0_3.stage ((CF m).slots t (3 : Fin 6))
abbrev ms4 (t : Fin (CF m).N) : Memref sig .tc .vmem S128x512 .bf16 := spec0_4.stage ((CF m).slots t (4 : Fin 6))
abbrev ms5 (t : Fin (CF m).N) : Memref sig .tc .vmem S128x64 .bf16 := spec0_5.stage ((CF m).slots t (5 : Fin 6))

theorem leaves5_live (c : Dev nD) (t : Fin (CF m).N) (h : t.val = 0) :
    (dats m 0 c).leavesExact (5 : Fin 6) t = owns (c : Thread nD τ) (ms5 m t) fullShare (LHm m c) := by
  unfold Dat.leavesExact; rw [idle5_zero m t h]; rfl
theorem leaves5_idle (c : Dev nD) (t : Fin (CF m).N) (h : t.val ≠ 0) (h1 : t.val ≠ 27) :
    (dats m 0 c).leavesExact (5 : Fin 6) t = iprop(∃ d, owns (c : Thread nD τ) (ms5 m t) fullShare ((dats m 0 c).before (5 : Fin 6) t d)) := by
  unfold Dat.leavesExact; rw [idle5_pos m t h, flush5_false m t h1]
theorem leaves5_last (c : Dev nD) (t : Fin (CF m).N) (h : t.val ≠ 0) (h1 : ¬ (t.val + 1 < 28)) :
    (dats m 0 c).leavesExact (5 : Fin 6) t = owns (c : Thread nD τ) (ms5 m t) fullShare (LHm m c) := by
  have := Nat.lt_of_lt_of_eq t.isLt (show (CF m).N = 28 from N_0)
  unfold Dat.leavesExact; rw [idle5_pos m t h, flush5_true m t (by omega)]; rfl

/-! ## The body at a point -/

abbrev bodyAt0 (t : Fin (CF m).N) : Prog (TpuEff nD τ sig (Elt F) Λ₀ .tc) PUnit :=
  cc0_mxfp4_lora (grid0.coords t) (Memref.whole main_arg5) (Memref.isWhole_whole _) (Memref.whole main_arg6) (Memref.isWhole_whole _) (Memref.whole main_arg8) (Memref.isWhole_whole _) (Memref.whole main_arg9) (Memref.isWhole_whole _) (ms0 m t) (hstage0_0 (((CF m).slots t (0 : Fin 6)).cast nbuf0_0)) (ms1 m t) (hstage0_1 (((CF m).slots t (1 : Fin 6)).cast nbuf0_1)) (ms2 m t) (hstage0_2 (((CF m).slots t (2 : Fin 6)).cast nbuf0_2)) (ms3 m t) (hstage0_3 (((CF m).slots t (3 : Fin 6)).cast nbuf0_3)) PAm (Memref.isWhole_whole _) PBm (Memref.isWhole_whole _) (ms4 m t) (hstage0_4 (((CF m).slots t (4 : Fin 6)).cast nbuf0_4)) (ms5 m t) (hstage0_5 (((CF m).slots t (5 : Fin 6)).cast nbuf0_5)) Am (Memref.isWhole_whole _) Bm (Memref.isWhole_whole _) Hm (Memref.isWhole_whole _) cc0_scratch3 cc0_scratch4

theorem defs₀_row (t : Fin (CF m).N) : defs₀ (F := F) .tc (CF m).body ((CF m).bodyArgs t ((CF m).slots t)) = bodyAt0 m t := by
  unfold defs₀; rw [Defs.onTc_tc]

def bodyPre (c : Dev nD) (t : Fin (CF m).N) : sProp 𝕄 :=
  iprop((dats m 0 c).Φ t.castSucc ∗ (dats m 0 c).owesAt () t.castSucc
    ∗ (∃ d, owns (c : Thread nD τ) (ms0 m t) fullShare ((dats m 0 c).before (0 : Fin 6) t d))
    ∗ (∃ d, owns (c : Thread nD τ) (ms1 m t) fullShare ((dats m 0 c).before (1 : Fin 6) t d))
    ∗ (∃ d, owns (c : Thread nD τ) (ms2 m t) fullShare ((dats m 0 c).before (2 : Fin 6) t d))
    ∗ (∃ d, owns (c : Thread nD τ) (ms3 m t) fullShare ((dats m 0 c).before (3 : Fin 6) t d))
    ∗ (∃ d, owns (c : Thread nD τ) (ms4 m t) fullShare ((dats m 0 c).before (4 : Fin 6) t d))
    ∗ (∃ d, owns (c : Thread nD τ) (ms5 m t) fullShare ((dats m 0 c).before (5 : Fin 6) t d)))
def bodyPost (c : Dev nD) (t : Fin (CF m).N) : sProp 𝕄 :=
  iprop((dats m 0 c).Φ t.succ ∗ (dats m 0 c).owesAt () t.succ
    ∗ owns (c : Thread nD τ) (ms0 m t) fullShare ((dats m 0 c).after (0 : Fin 6) t)
    ∗ owns (c : Thread nD τ) (ms1 m t) fullShare ((dats m 0 c).after (1 : Fin 6) t)
    ∗ owns (c : Thread nD τ) (ms2 m t) fullShare ((dats m 0 c).after (2 : Fin 6) t)
    ∗ owns (c : Thread nD τ) (ms3 m t) fullShare ((dats m 0 c).after (3 : Fin 6) t)
    ∗ owns (c : Thread nD τ) (ms4 m t) fullShare ((dats m 0 c).after (4 : Fin 6) t)
    ∗ (dats m 0 c).leavesExact (5 : Fin 6) t)

theorem sound_first (tok : TOK (T1 m) (T2 m) (T3 m) (T4 m)) (c : Dev nD) (t : Fin (CF m).N) (h0 : t.val = 0) :
    bodyPre m c t ⊢ wp frame (wpE (defs₀ (F := F)) Variants.none (c : Thread nD τ) none) Set.univ (bodyAt0 m t) (fun _ => bodyPost m c t) := by
  have hc := coords0 m t
  have hs : (dats m 0 c).Φ t.succ = PhiN m c (t.val + 1) := rfl
  have hp : (dats m 0 c).Φ t.castSucc = PhiN m c t.val := rfl
  unfold bodyPre bodyPost bodyAt0
  rw [hs, hp]
  simp only [before0_0, before0_1, before0_2, before0_3, after0_0, after0_1, after0_2, after0_3, after0_4]
  have he : t = t0 m := Fin.ext h0
  rw [leaves5_live m c t h0]
  unfold PhiN
  rw [if_pos h0, if_neg (Nat.succ_ne_zero _), PhiT0_eq]
  unfold Dat.owesAt Pipeline.owesWithin
  rw [show (dats m 0 c).owed t.castSucc = 0 from rfl, show (dats m 0 c).owed t.succ = 0 from rfl]
  iintro ⟨⟨HD, Ht1, Ht2, Ht3, Ht4⟩, ⟨%W, -, HW⟩, ⟨%d0, H5⟩, ⟨%d1, H6⟩, ⟨%d2, H7⟩, ⟨%d3, H8⟩, ⟨%d4, H11⟩, ⟨%d5, H12⟩⟩
  icases (Inv0_of m c) $$ HD with ⟨HI, Hr⟩
  iapply (step_first c (grid0.coords t) (hi0 := hc.trans h0) (tok := tok) (pa := PA m c) (pb := PB m c) (d5 := inBlk m c 0 t) (d6 := inBlk m c 1 t) (d7 := inBlk m c 2 t) (d8 := inBlk m c 3 t))
  isplitl [HI]
  · iexact HI
  isplitl [H11]
  · iexists _
    iexact H11
  isplitl [H12]
  · iexists _
    iexact H12
  isplitl [Ht1]
  · iexact Ht1
  isplitl [Ht2]
  · iexact Ht2
  isplitl [Ht3]
  · iexact Ht3
  isplitl [Ht4]
  · iexact Ht4
  isplitl [HW]
  · iexists W
    iexact HW
  isplitl [H5]
  · iexact H5
  isplitl [H6]
  · iexact H6
  isplitl [H7]
  · iexact H7
  isplitl [H8]
  · iexact H8
  iintro ⟨HI, H11, H12, Ht1, Ht2, Ht3, Ht4, ⟨%W', HW⟩, H5, H6, H7, H8⟩
  isplitl [HI Hr Ht1 Ht2 Ht3 Ht4]
  · isplitl [HI]
    · iapply (Entails.of_eq (show InvL c (sgM m) (PA m c) (PB m c) (HBd (T1 m) (T2 m) (T3 m) (T4 m) (inBlk m c 0 t) (inBlk m c 1 t) (FA (sgM m) (PA m c))) 1 = InvL c (sgM m) (PA m c) (PB m c) (HBm m c) (t.val + 1) by rw [h0, he]; rfl))
      iexact HI
    isplitl [Hr]
    · iexact Hr
    isplitl [Ht1]
    · iexact Ht1
    isplitl [Ht2]
    · iexact Ht2
    isplitl [Ht3]
    · iexact Ht3
    iexact Ht4
  isplitl [HW]
  · iexists W'
    isplitr
    · ipureintro
      exact fun _ _ => Or.inl trivial
    iexact HW
  isplitl [H5]
  · iexact H5
  isplitl [H6]
  · iexact H6
  isplitl [H7]
  · iexact H7
  isplitl [H8]
  · iexact H8
  isplitl [H11]
  · iapply (Entails.of_eq (show owns (c : Thread nD τ) (ms4 m t) fullShare (yOf (inBlk m c 1 t) (inBlk m c 2 t) (inBlk m c 3 t) (HBd (T1 m) (T2 m) (T3 m) (T4 m) (inBlk m c 0 t) (inBlk m c 1 t) (FA (sgM m) (PA m c))) (slotRd (grid0.coords t) (FB (sgM m) (PB m c) (grid0.coords t 0).val))) = owns (c : Thread nD τ) (ms4 m t) fullShare (yBlk m c t) by unfold yBlk HBm; rw [hc, he]))
    iexact H11
  iapply (Entails.of_eq (show owns (c : Thread nD τ) (ms5 m t) fullShare (LHd (T1 m) (T2 m) (T3 m) (T4 m) (inBlk m c 0 t) (inBlk m c 1 t) (FA (sgM m) (PA m c))) = owns (c : Thread nD τ) (ms5 m t) fullShare (LHm m c) by unfold LHm; rw [he]))
  iexact H12

theorem sound_later (tok : TOK (T1 m) (T2 m) (T3 m) (T4 m)) (c : Dev nD) (t : Fin (CF m).N) (h0 : t.val ≠ 0) (h1 : t.val + 1 < 28) :
    bodyPre m c t ⊢ wp frame (wpE (defs₀ (F := F)) Variants.none (c : Thread nD τ) none) Set.univ (bodyAt0 m t) (fun _ => bodyPost m c t) := by
  have hc := coords0 m t
  have hs : (dats m 0 c).Φ t.succ = PhiN m c (t.val + 1) := rfl
  have hp : (dats m 0 c).Φ t.castSucc = PhiN m c t.val := rfl
  unfold bodyPre bodyPost bodyAt0
  rw [hs, hp]
  simp only [before0_0, before0_1, before0_2, before0_3, after0_0, after0_1, after0_2, after0_3, after0_4]
  unfold PhiN
  rw [if_neg h0, if_neg (Nat.succ_ne_zero _), PhiT0_eq]
  unfold Dat.owesAt Pipeline.owesWithin
  rw [show (dats m 0 c).owed t.castSucc = 0 from rfl, show (dats m 0 c).owed t.succ = 0 from rfl]
  iintro ⟨⟨HI, Hr, Ht1, Ht2, Ht3, Ht4⟩, ⟨%W, -, HW⟩, ⟨%d0, H5⟩, ⟨%d1, H6⟩, ⟨%d2, H7⟩, ⟨%d3, H8⟩, ⟨%d4, H11⟩, ⟨%d5, H12⟩⟩
  iapply (step_later c (grid0.coords t) (hi0 := by rw [hc]; exact h0) (hi1 := by rw [hc]; exact h1) (tok := tok) (pa := PA m c) (pb := PB m c) (d5 := inBlk m c 0 t) (d6 := inBlk m c 1 t) (d7 := inBlk m c 2 t) (d8 := inBlk m c 3 t) (hb := HBm m c))
  isplitl [HI]
  · iapply (Entails.of_eq (show InvL c (sgM m) (PA m c) (PB m c) (HBm m c) t.val = InvL c (sgM m) (PA m c) (PB m c) (HBm m c) (grid0.coords t 0).val by rw [hc]))
    iexact HI
  isplitl [H11]
  · iexists _
    iexact H11
  isplitl [Ht1]
  · iexact Ht1
  isplitl [Ht2]
  · iexact Ht2
  isplitl [Ht3]
  · iexact Ht3
  isplitl [Ht4]
  · iexact Ht4
  isplitl [HW]
  · iexists W
    iexact HW
  isplitl [H5]
  · iexact H5
  isplitl [H6]
  · iexact H6
  isplitl [H7]
  · iexact H7
  isplitl [H8]
  · iexact H8
  iintro ⟨HI, H11, Ht1, Ht2, Ht3, Ht4, ⟨%W', HW⟩, H5, H6, H7, H8⟩
  isplitl [HI Hr Ht1 Ht2 Ht3 Ht4]
  · isplitl [HI]
    · iapply (Entails.of_eq (show InvL c (sgM m) (PA m c) (PB m c) (HBm m c) ((grid0.coords t 0).val + 1) = InvL c (sgM m) (PA m c) (PB m c) (HBm m c) (t.val + 1) by rw [hc]))
      iexact HI
    isplitl [Hr]
    · iexact Hr
    isplitl [Ht1]
    · iexact Ht1
    isplitl [Ht2]
    · iexact Ht2
    isplitl [Ht3]
    · iexact Ht3
    iexact Ht4
  isplitl [HW]
  · iexists W'
    isplitr
    · ipureintro
      exact fun _ _ => Or.inl trivial
    iexact HW
  isplitl [H5]
  · iexact H5
  isplitl [H6]
  · iexact H6
  isplitl [H7]
  · iexact H7
  isplitl [H8]
  · iexact H8
  isplitl [H11]
  · iapply (Entails.of_eq (show owns (c : Thread nD τ) (ms4 m t) fullShare (yOf (inBlk m c 1 t) (inBlk m c 2 t) (inBlk m c 3 t) (HBm m c) (slotRd (grid0.coords t) (FB (sgM m) (PB m c) (grid0.coords t 0).val))) = owns (c : Thread nD τ) (ms4 m t) fullShare (yBlk m c t) by unfold yBlk; rw [hc]))
    iexact H11
  iapply (Entails.of_eq (leaves5_idle m c t h0 (by have := Nat.lt_of_lt_of_eq t.isLt (show (CF m).N = 28 from N_0); omega)).symm)
  iexists d5
  iexact H12

theorem sound_last (tok : TOK (T1 m) (T2 m) (T3 m) (T4 m)) (c : Dev nD) (t : Fin (CF m).N) (h0 : t.val ≠ 0) (h1 : ¬ (t.val + 1 < 28)) :
    bodyPre m c t ⊢ wp frame (wpE (defs₀ (F := F)) Variants.none (c : Thread nD τ) none) Set.univ (bodyAt0 m t) (fun _ => bodyPost m c t) := by
  have hc := coords0 m t
  have hs : (dats m 0 c).Φ t.succ = PhiN m c (t.val + 1) := rfl
  have hp : (dats m 0 c).Φ t.castSucc = PhiN m c t.val := rfl
  unfold bodyPre bodyPost bodyAt0
  rw [hs, hp]
  simp only [before0_0, before0_1, before0_2, before0_3, after0_0, after0_1, after0_2, after0_3, after0_4]
  unfold PhiN
  rw [if_neg h0, if_neg (Nat.succ_ne_zero _), PhiT0_eq]
  unfold Dat.owesAt Pipeline.owesWithin
  rw [show (dats m 0 c).owed t.castSucc = 0 from rfl, show (dats m 0 c).owed t.succ = 0 from rfl]
  iintro ⟨⟨HI, Hr, Ht1, Ht2, Ht3, Ht4⟩, ⟨%W, -, HW⟩, ⟨%d0, H5⟩, ⟨%d1, H6⟩, ⟨%d2, H7⟩, ⟨%d3, H8⟩, ⟨%d4, H11⟩, ⟨%d5, H12⟩⟩
  iapply (step_last c (grid0.coords t) (hi0 := by rw [hc]; exact h0) (hi1 := by rw [hc]; exact h1) (tok := tok) (pa := PA m c) (pb := PB m c) (d5 := inBlk m c 0 t) (d6 := inBlk m c 1 t) (d7 := inBlk m c 2 t) (d8 := inBlk m c 3 t) (hb := HBm m c))
  isplitl [HI]
  · iapply (Entails.of_eq (show InvL c (sgM m) (PA m c) (PB m c) (HBm m c) t.val = InvL c (sgM m) (PA m c) (PB m c) (HBm m c) (grid0.coords t 0).val by rw [hc]))
    iexact HI
  isplitl [H11]
  · iexists _
    iexact H11
  isplitl [Ht1]
  · iexact Ht1
  isplitl [Ht2]
  · iexact Ht2
  isplitl [Ht3]
  · iexact Ht3
  isplitl [Ht4]
  · iexact Ht4
  isplitl [HW]
  · iexists W
    iexact HW
  isplitl [H5]
  · iexact H5
  isplitl [H6]
  · iexact H6
  isplitl [H7]
  · iexact H7
  isplitl [H8]
  · iexact H8
  iintro ⟨HI, H11, Ht1, Ht2, Ht3, Ht4, ⟨%W', HW⟩, H5, H6, H7, H8⟩
  isplitl [HI Hr Ht1 Ht2 Ht3 Ht4]
  · isplitl [HI]
    · iapply (Entails.of_eq (show InvL c (sgM m) (PA m c) (PB m c) (HBm m c) ((grid0.coords t 0).val + 1) = InvL c (sgM m) (PA m c) (PB m c) (HBm m c) (t.val + 1) by rw [hc]))
      iexact HI
    isplitl [Hr]
    · iexact Hr
    isplitl [Ht1]
    · iexact Ht1
    isplitl [Ht2]
    · iexact Ht2
    isplitl [Ht3]
    · iexact Ht3
    iexact Ht4
  isplitl [HW]
  · iexists W'
    isplitr
    · ipureintro
      exact fun _ _ => Or.inl trivial
    iexact HW
  isplitl [H5]
  · iexact H5
  isplitl [H6]
  · iexact H6
  isplitl [H7]
  · iexact H7
  isplitl [H8]
  · iexact H8
  isplitl [H11]
  · iapply (Entails.of_eq (show owns (c : Thread nD τ) (ms4 m t) fullShare (yOf (inBlk m c 1 t) (inBlk m c 2 t) (inBlk m c 3 t) (HBm m c) (slotRd (grid0.coords t) (FB (sgM m) (PB m c) (grid0.coords t 0).val))) = owns (c : Thread nD τ) (ms4 m t) fullShare (yBlk m c t) by unfold yBlk; rw [hc]))
    iexact H11
  iapply (Entails.of_eq (leaves5_last m c t h0 h1).symm)
  iapply (Entails.of_eq (show owns (c : Thread nD τ) (ms5 m t) fullShare ((dats m 0 c).before 5 t d5) = owns (c : Thread nD τ) (ms5 m t) fullShare (LHm m c) by rw [before0_5 m c t h0]))
  iexact H12

theorem sound_body (tok : TOK (T1 m) (T2 m) (T3 m) (T4 m)) (c : Dev nD) (t : Fin (CF m).N) :
    bodyPre m c t ⊢ wp frame (wpE (defs₀ (F := F)) Variants.none (c : Thread nD τ) none) Set.univ (bodyAt0 m t) (fun _ => bodyPost m c t) := by
  by_cases h0 : t.val = 0
  · exact sound_first m tok c t h0
  · by_cases h1 : t.val + 1 < 28
    · exact sound_later m tok c t h0 h1
    · exact sound_last m tok c t h0 h1

theorem body_obligation (tok : TOK (T1 m) (T2 m) (T3 m) (T4 m)) (c : Dev nD) : BodyObligation (dats (F := F) m 0 c) (defs₀ (F := F)) Variants.none () Set.univ := fun t => by
  rw [bigSep_W0, bigSep_W0, defs₀_row]
  exact triple_restated (sound_body m tok c t) rfl .rfl fun _ => .rfl

/-! ## The run -/

theorem hin (c : Dev nD) : iprop(Pipeline.ΦD osem0 spec0 H0 (V m) c ∗ Pipeline.ΦT pre0 (tbl m) c) ⊢ (dats m 0 c).Φ 0 :=
  .rfl
theorem hout (tok : TOK (T1 m) (T2 m) (T3 m) (T4 m)) (c : Dev nD) : (dats m 0 c).Φ (Fin.last (CF m).N) ⊢ Pipeline.ΦD osem0 spec0 H0 (V m) c := by
  have h : (dats m 0 c).Φ (Fin.last (CF m).N) = PhiN m c 28 := congrArg (PhiN m c) N_0
  rw [h]; unfold PhiN
  rw [if_neg (by decide : ¬ (28 = 0))]
  iintro ⟨HI, Hr, -⟩
  iapply (InvL_end m c tok.ok (HBm m c))
  isplitl [HI]
  · iexact HI
  iexact Hr

set_option backward.isDefEq.respectTransparency.types false in
theorem run_main (tok : TOK (T1 m) (T2 m) (T3 m) (T4 m)) : θ_run defs (onTc (τ := τ) (main (F := F))) (s₀ m ρ)
    (fun r => Pipeline.FramePost (Pipeline.pin (pcfgs (F := F)) (fun _ => adm m)) (dats m) 0 (V m) r ∧ r.2.sem = fun _ => 0) :=
  Pipeline.θ_run_frameP_dma (Q' := _) pcfgs (fun _ => adm m) (dats m) (0 : Fin 1) launch0 osem0 defs₀ Variants.none ownSemFacts0 H0 H0_sub m ρ main
    (hbody := fun c => (body_obligation m tok c).loose) (hshare := fun c => (dats m 0 c).share_full fun _ => rfl)
    (howed := fun _ _ => rfl) (V := V m) (hmain := hmain m Variants.none) (hA := A_eq m) (hpf := V_pre m) (hin := hin m) (hout := hout m tok)

/-- THE RUN: every argument keeps its contents, the counters end at zero, and the two results are what the write-backs leave. -/
theorem run_value (tok : TOK (T1 m) (T2 m) (T3 m) (T4 m)) : θ_run defs (onTc (τ := τ) (main (F := F))) ⟨m, fun _ => 0, ρ⟩ (fun r =>
    ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0)
      ∧ ∀ c : Dev nD, r.2.mem ((c.tc : Thread nD τ).loc main_v1_0) = (dats m 0 c).arrAt (4 : Fin 6) (CF m).N
        ∧ r.2.mem ((c.tc : Thread nD τ).loc main_v1_1) = (dats m 0 c).arrAt (5 : Fin 6) (CF m).N) := by
  refine (θ_run defs _ _).mono ?_ (run_main m ρ tok)
  rintro r ⟨h, hs⟩
  have hw : ∀ (c : Dev nD) (w : Fin 6) (hin : (win0 (adm m) w).isOut = false), r.2.mem ((c.tc : Thread nD τ).loc (Pipeline.arrRef spec0 w)) = V m c (Pipeline.arrRef spec0 w) :=
    fun c w hin => ((h c).1 w).trans ((dats m 0 c).arrAt_in w hin _)
  have hr : ∀ (c : Dev nD) (b : Ref sig .tc), b ∈ Pipeline.restRefs sig spec0 → r.2.mem ((c.tc : Thread nD τ).loc b) = V m c b :=
    fun c b hb => (h c).2 b hb
  refine ⟨⟨fun c => ⟨hr c main_arg0 (Pipeline.mem_restRefs_of main_arg0 (by decide) (by decide)) |>.trans (V_of_ne m c (by decide)),
    (hw c 2 rfl).trans (V_of_ne m c (b := main_arg1) (by decide)), (hw c 3 rfl).trans (V_of_ne m c (b := main_arg2) (by decide)),
    hr c main_arg3 (Pipeline.mem_restRefs_of main_arg3 (by decide) (by decide)) |>.trans (V_of_ne m c (by decide)),
    hr c main_arg4 (Pipeline.mem_restRefs_of main_arg4 (by decide) (by decide)) |>.trans (V_of_ne m c (by decide)),
    hr c main_arg5 (Pipeline.mem_restRefs_of main_arg5 (by decide) (by decide)) |>.trans (V_of_ne m c (by decide)),
    hr c main_arg6 (Pipeline.mem_restRefs_of main_arg6 (by decide) (by decide)) |>.trans (V_of_ne m c (by decide)),
    (hw c 0 rfl).trans (V_of_ne m c (b := main_arg7) (by decide)),
    hr c main_arg8 (Pipeline.mem_restRefs_of main_arg8 (by decide) (by decide)) |>.trans (V_of_ne m c (by decide)),
    hr c main_arg9 (Pipeline.mem_restRefs_of main_arg9 (by decide) (by decide)) |>.trans (V_of_ne m c (by decide))⟩, hs⟩,
    fun c => ⟨(h c).1 (4 : Fin 6), (h c).1 (5 : Fin 6)⟩⟩

end Cert.KernelIdeal.Hand

end
-- ==== Proof.Frames.lean ====
/- Hand-written, untrusted: the frames of the three programs. -/
module

public import proofs.«01_k».proof.Defs
public import proofs.«01_k».proof.Proof.Gen.ReferenceIdeal.Run
public import proofs.«01_k».proof.Proof.Ranges
public import proofs.«01_k».proof.Proof.Run
public import proofs.«01_k».proof.Proof.IRun

@[expose] public section

noncomputable section

namespace Cert.Frames

open Idealize.ShloMosaic Idealize.SL.Sem

variable [h1 : Cert.Pre_tables_in_range.Facts] [h2 : Cert.Pre_scales_finite.Facts]

theorem kernel : Cert.quiescent_Kernel := fun m ρ h =>
  (θ_run Cert.Kernel.defs _ _).mono (fun _ h => h.1) (Cert.Kernel.Hand.run_value (F := Bits) m ρ (Ranges.tok _ (Ranges.of_tables m h)))
theorem kernelIdeal : Cert.quiescent_KernelIdeal := fun m ρ h =>
  (θ_run Cert.KernelIdeal.defs _ _).mono (fun _ h => h.1) (Cert.KernelIdeal.Hand.run_value (F := Ideal) m ρ (Ranges.itok _ (Ranges.of_tables_ideal m h)))
theorem kernelIdeal_scales : Cert.quiescent_KernelIdeal_pre_scales_finite := fun m ρ h =>
  (θ_run Cert.KernelIdeal.defs _ _).mono (fun _ h => h.1) (Cert.KernelIdeal.Hand.run_value (F := Ideal) m ρ (Ranges.itok _ (Ranges.of_scales m h)))
theorem referenceIdeal : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)
theorem referenceIdeal_scales : Cert.quiescent_ReferenceIdeal_pre_scales_finite := fun m ρ _ =>
  (θ_run Cert.ReferenceIdeal.defs _ _).mono (fun r h => ⟨fun c => (h c).2.2, sem_eq_zero_of_no_sems (by decide) r.2⟩)
    (Cert.ReferenceIdeal.Value.run (F := Ideal) m ρ)

end Cert.Frames

end
-- ==== Proof.AlgW.lean ====
/- Hand-written, untrusted: one weight, as the reference and as the kernel reads it. -/
module

public import Idealize.ShloMosaic.Lib.Pointwise
public import Idealize.ShloMosaic.Lib.BitcastPair
public import Idealize.ShloMosaic.PureOps.Ideal.Laws

@[expose] public section

set_option maxRecDepth 16384

noncomputable section

namespace Cert.Alg

open Idealize.ShloMosaic Idealize.SL.Sem

/-! ## The constants, in both element types -/

theorem f_half : Ideal.ofBits .f32 0x3F000000#32 = Ideal.ofBits .bf16 0x3F00#16 := by
  simp [Ideal.ofBits, Ideal.ieee, -EReal.coe_mul]; norm_num
theorem f_one : Ideal.ofBits .f32 0x3F800000#32 = Ideal.ofBits .bf16 0x3F80#16 := by
  simp [Ideal.ofBits, Ideal.ieee, -EReal.coe_mul]; norm_num
theorem f_onehalf : Ideal.ofBits .f32 0x3FC00000#32 = Ideal.ofBits .bf16 0x3FC0#16 := by
  simp [Ideal.ofBits, Ideal.ieee, -EReal.coe_mul]; norm_num
theorem f_two : Ideal.ofBits .f32 0x40000000#32 = Ideal.ofBits .bf16 0x4000#16 := by
  simp [Ideal.ofBits, Ideal.ieee, -EReal.coe_mul]; norm_num
theorem f_three : Ideal.ofBits .f32 0x40400000#32 = Ideal.ofBits .bf16 0x4040#16 := by
  simp [Ideal.ofBits, Ideal.ieee, -EReal.coe_mul]; norm_num
theorem f_four : Ideal.ofBits .f32 0x40800000#32 = Ideal.ofBits .bf16 0x4080#16 := by
  simp [Ideal.ofBits, Ideal.ieee, -EReal.coe_mul]; norm_num
theorem f_six : Ideal.ofBits .f32 0x40C00000#32 = Ideal.ofBits .bf16 0x40C0#16 := by
  simp [Ideal.ofBits, Ideal.ieee, -EReal.coe_mul]; norm_num
theorem f_two' : Ideal.ofBits .f32 0x40000000#32 = ((2 : ℝ) : EReal) := by
  simp [Ideal.ofBits, Ideal.ieee, -EReal.coe_mul]; norm_num

/-- Either half of the doubled exponent word has the exponent's bits and nothing else. -/
theorem half_word (e : BitVec 8) (q : ℕ) (hq : q < 2) :
    let h := ((e.setWidth 32 <<< (7 : ℕ)) ||| (e.setWidth 32 <<< (23 : ℕ))).extractLsb' (16 * q) 16
    (h.extractLsb' (8 + 7) 1 == 1#1) = false ∧ (h.extractLsb' 7 8).toNat = e.toNat ∧ (h.extractLsb' 0 7).toNat = 0 := by
  have : ∀ (q : Fin 2) (e : BitVec 8), let h := ((e.setWidth 32 <<< (7 : ℕ)) ||| (e.setWidth 32 <<< (23 : ℕ))).extractLsb' (16 * q.val) 16
    (h.extractLsb' (8 + 7) 1 == 1#1) = false ∧ (h.extractLsb' 7 8).toNat = e.toNat ∧ (h.extractLsb' 0 7).toNat = 0 := by decide +kernel
  exact this ⟨q, hq⟩ e
theorem exp_int (e : BitVec 8) : (e.setWidth 32 - 127#32).toInt = (e.toNat : ℤ) - 127 := by
  revert e; decide +kernel

/-- The number either half reads as is the power of two the exponent stands for. -/
theorem scale_eq (e : BitVec 8) (q : ℕ) (hq : q < 2) (h1 : 1 ≤ e.toNat) (h2 : e.toNat ≤ 254) :
    Ideal.ofBits .bf16 (((e.setWidth 32 <<< (7 : ℕ)) ||| (e.setWidth 32 <<< (23 : ℕ))).extractLsb' (16 * q) 16)
      = Ideal.pow (Ideal.ofBits .f32 0x40000000#32) ((((e.setWidth 32 - 127#32).toInt : ℤ) : ℝ) : EReal) := by
  obtain ⟨a, b, c⟩ := half_word e q hq
  rw [f_two', Ideal.pow_coe_coe, exp_int]
  show Ideal.ieee 8 7 _ = _
  unfold Ideal.ieee
  simp only [a, b, c]
  rw [if_neg (by omega), if_neg (by omega)]
  norm_num
  have : ((e.toNat : ℝ) - 127) = (((e.toNat : ℤ) - 127 : ℤ) : ℝ) := by push_cast; ring
  rw [this, Real.rpow_intCast]
  rw [show ((e.toNat : ℤ) - 127 : ℤ) = ((e.toNat : ℤ) - 127 - 7) + 7 by ring, zpow_add₀ (by norm_num)]
  norm_num
  exact mul_comm _ _

/-! ## A code's magnitude -/

/-- The magnitude of a code, its bits tested one by one. -/
def magR (z : BitVec 32) : EReal :=
  Scalar.select (IntOp.cmpi .ne (IntOp.andi z 4#32) 0#32) (Scalar.select (IntOp.cmpi .ne (IntOp.andi z 2#32) 0#32) (Scalar.select (IntOp.cmpi .ne (IntOp.andi z 1#32) 0#32) (Ideal.ofBits .bf16 16576#16) (Ideal.ofBits .bf16 16512#16)) (Scalar.select (IntOp.cmpi .ne (IntOp.andi z 1#32) 0#32) (Ideal.ofBits .bf16 16448#16) (Ideal.ofBits .bf16 16384#16))) (Scalar.select (IntOp.cmpi .ne (IntOp.andi z 2#32) 0#32) (Scalar.select (IntOp.cmpi .ne (IntOp.andi z 1#32) 0#32) (Ideal.ofBits .bf16 16320#16) (1)) (Scalar.select (IntOp.cmpi .ne (IntOp.andi z 1#32) 0#32) (Ideal.ofBits .bf16 16128#16) (0)))

/-- The magnitude of a code, its low three bits compared with each value. -/
def magK (c : BitVec 32) : EReal :=
  Scalar.select (IntOp.cmpi .eq (IntOp.andi c 7#32) 7#32) (Ideal.ofBits .f32 1086324736#32) (Scalar.select (IntOp.cmpi .eq (IntOp.andi c 7#32) 6#32) (Ideal.ofBits .f32 1082130432#32) (Scalar.select (IntOp.cmpi .eq (IntOp.andi c 7#32) 5#32) (Ideal.ofBits .f32 1077936128#32) (Scalar.select (IntOp.cmpi .eq (IntOp.andi c 7#32) 4#32) (Ideal.ofBits .f32 1073741824#32) (Scalar.select (IntOp.cmpi .eq (IntOp.andi c 7#32) 3#32) (Ideal.ofBits .f32 1069547520#32) (Scalar.select (IntOp.cmpi .eq (IntOp.andi c 7#32) 2#32) 1 (Scalar.select (IntOp.cmpi .eq (IntOp.andi c 7#32) 1#32) (Ideal.ofBits .f32 1056964608#32) (0)))))))

/-- A code's four bits in its word. -/
def nib (w : BitVec 32) (f : ℕ) : BitVec 32 := IntOp.andi (IntOp.shrsi .host w (IntOp.muli 4#32 (BitVec.ofNat 32 f))) 15#32

/-- A code with its sign. -/
def sgnMag (z : BitVec 32) : EReal := Scalar.select (IntOp.cmpi .ne (IntOp.andi z 8#32) 0#32) (-(magR z)) (magR z)

/-- One weight: the code in place `f` of its word, times the power of two its group's exponent stands for. -/
def wt (w : BitVec 32) (e : BitVec 8) (f : ℕ) : EReal :=
  sgnMag (nib w f) * Ideal.pow (Ideal.ofBits .f32 0x40000000#32) ((((e.setWidth 32 - 127#32).toInt : ℤ) : ℝ) : EReal)

theorem code_eq (c : BitVec 32) :
    Scalar.select (IntOp.cmpi .eq (IntOp.andi c 8#32) 0#32) (magK c) (0 - magK c) = sgnMag (IntOp.andi c 15#32) := by
  have h7 : IntOp.andi c 7#32 = IntOp.andi (IntOp.andi c 15#32) 7#32 := by
    show c &&& 7#32 = (c &&& 15#32) &&& 7#32
    rw [BitVec.and_assoc]; rfl
  have h8 : IntOp.andi c 8#32 = IntOp.andi (IntOp.andi c 15#32) 8#32 := by
    show c &&& 8#32 = (c &&& 15#32) &&& 8#32
    rw [BitVec.and_assoc]; rfl
  have hz : (IntOp.andi c 15#32).toNat < 16 := by
    show (c &&& 15#32).toNat < 16
    rw [BitVec.toNat_and]
    exact Nat.lt_of_le_of_lt Nat.and_le_right (by decide)
  unfold magK
  rw [h7, h8]
  generalize IntOp.andi c 15#32 = z at hz ⊢
  obtain ⟨k, hk, rfl⟩ : ∃ k, k < 16 ∧ z = BitVec.ofNat 32 k := ⟨z.toNat, hz, by simp⟩
  unfold sgnMag magR
  have e0 : Ideal.ofBits .f32 1056964608#32 = Ideal.ofBits .bf16 16128#16 := f_half
  have e2 : Ideal.ofBits .f32 1069547520#32 = Ideal.ofBits .bf16 16320#16 := f_onehalf
  have e3 : Ideal.ofBits .f32 1073741824#32 = Ideal.ofBits .bf16 16384#16 := f_two
  have e4 : Ideal.ofBits .f32 1077936128#32 = Ideal.ofBits .bf16 16448#16 := f_three
  have e5 : Ideal.ofBits .f32 1082130432#32 = Ideal.ofBits .bf16 16512#16 := f_four
  have e6 : Ideal.ofBits .f32 1086324736#32 = Ideal.ofBits .bf16 16576#16 := f_six
  rw [e0, e2, e3, e4, e5, e6]
  clear h7 h8 hz e0 e2 e3 e4 e5 e6
  interval_cases k <;> simp [Scalar.select, IntOp.cmpi, IntOp.andi]

/-- The vector unit's shift by a code's place is the host's. -/
theorem shr_eq (w : BitVec 32) (f : ℕ) (hf : f < 8) :
    IntOp.shrsi .vector w (IntOp.muli 4#32 (BitVec.ofNat 32 f)) = IntOp.shrsi .host w (IntOp.muli 4#32 (BitVec.ofNat 32 f)) := by
  interval_cases f <;> rfl

end Cert.Alg

end
-- ==== Proof.AlgS.lean ====
/- Hand-written, untrusted: the two results as sums, and the sum over the staging columns as one over segments and ranks. -/
module

public import proofs.«01_k».proof.Proof.AlgW

@[expose] public section

noncomputable section

namespace Cert.Alg

open Idealize.ShloMosaic Idealize.SL.Sem

/-- Row `t` is one of the rows from `a` up to `b`. -/
def live (a b : BitVec 32) (t : ℕ) : Prop := a.toInt ≤ (t : ℤ) ∧ (t : ℤ) < b.toInt

open Classical in
/-- The last of six choices that holds, or zero. -/
def ch (P : Fin 6 → Prop) (v : Fin 6 → EReal) : EReal :=
  if P 5 then v 5 else if P 4 then v 4 else if P 3 then v 3 else if P 2 then v 2 else if P 1 then v 1 else if P 0 then v 0 else 0

/-- A row of a pool. -/
def prow (st : Fin 6 → ℕ) (s : Fin 6) (c : ℕ) : Fin 900 := ⟨(st s + c) % 900, Nat.mod_lt _ (by decide)⟩

/-- One rank-space activation. -/
def hv (X : Fin 128 → Fin 4096 → EReal) (PA : Fin 900 → Fin 4096 → EReal) (st : Fin 6 → ℕ) (sc : Fin 6 → EReal) (t : Fin 128) (s : Fin 6) (c : ℕ) : EReal :=
  (∑ k, X t k * PA (prow st s c) k) * sc s

open Classical in
/-- One element of the first result. -/
def ySpec (X : Fin 128 → Fin 4096 → EReal) (W : Fin 512 → Fin 14336 → BitVec 32) (E : Fin 128 → Fin 14336 → BitVec 8)
    (PA : Fin 900 → Fin 4096 → EReal) (PB : Fin 900 → Fin 14336 → EReal) (st rk : Fin 6 → ℕ) (lv : Fin 6 → ℕ → Prop) (sc : Fin 6 → EReal)
    (t : Fin 128) (n : Fin 14336) : EReal :=
  (∑ r : Fin 4096, X t r * wt (W ⟨r.val / 8, by omega⟩ n) (E ⟨r.val / 32, by omega⟩ n) (r.val % 8))
    + ∑ s : Fin 6, ∑ c : Fin 64, if lv s t.val ∧ c.val < rk s then hv X PA st sc t s c.val * PB (prow st s c.val) n else 0

/-- One element of the second result. -/
def hSpec (X : Fin 128 → Fin 4096 → EReal) (PA : Fin 900 → Fin 4096 → EReal) (st rk : Fin 6 → ℕ) (lv : Fin 6 → ℕ → Prop) (sc : Fin 6 → EReal)
    (t : Fin 128) (c : Fin 64) : EReal :=
  ch (fun s => lv s t.val ∧ c.val < rk s) (fun s => hv X PA st sc t s c.val)

/-! ## The two results out of the ten arguments -/

/-- A segment's adapter. -/
def adp (w9 : (⟨1, ![6]⟩ : Shape).Idx → BitVec 32) (s : Fin 6) : Fin 11 := ⟨(w9 (ix1 s)).toNat % 11, Nat.mod_lt _ (by decide)⟩
/-- Whether a row is one of a segment's. -/
def lvOf (w8 : (⟨1, ![7]⟩ : Shape).Idx → BitVec 32) (s : Fin 6) (t : ℕ) : Prop := live (w8 (ix1 ⟨s.val, by omega⟩)) (w8 (ix1 ⟨1 + s.val, by omega⟩)) t
/-- An entry of a table of the adapters', by segment. -/
def byS (w : (⟨1, ![11]⟩ : Shape).Idx → BitVec 32) (w9 : (⟨1, ![6]⟩ : Shape).Idx → BitVec 32) (s : Fin 6) : ℕ := (w (ix1 (adp w9 s))).toNat

def yOut (w0 : (⟨3, ![1, 128, 4096]⟩ : Shape).Idx → EReal) (w1 : (⟨2, ![512, 14336]⟩ : Shape).Idx → BitVec 32) (w2 : (⟨2, ![128, 14336]⟩ : Shape).Idx → BitVec 8)
    (w3 : (⟨2, ![900, 4096]⟩ : Shape).Idx → EReal) (w4 : (⟨2, ![900, 14336]⟩ : Shape).Idx → EReal) (w5 w6 : (⟨1, ![11]⟩ : Shape).Idx → BitVec 32)
    (w7 : (⟨1, ![11]⟩ : Shape).Idx → EReal) (w8 : (⟨1, ![7]⟩ : Shape).Idx → BitVec 32) (w9 : (⟨1, ![6]⟩ : Shape).Idx → BitVec 32) (t : Fin 128) (n : Fin 14336) : EReal :=
  ySpec (fun t k => w0 (ix3 0 t k)) (fun r n => w1 (ix2 r n)) (fun r n => w2 (ix2 r n)) (fun r k => w3 (ix2 r k)) (fun r n => w4 (ix2 r n))
    (byS w5 w9) (byS w6 w9) (lvOf w8) (fun s => w7 (ix1 (adp w9 s))) t n

def hOut (w0 : (⟨3, ![1, 128, 4096]⟩ : Shape).Idx → EReal) (w3 : (⟨2, ![900, 4096]⟩ : Shape).Idx → EReal) (w5 w6 : (⟨1, ![11]⟩ : Shape).Idx → BitVec 32)
    (w7 : (⟨1, ![11]⟩ : Shape).Idx → EReal) (w8 : (⟨1, ![7]⟩ : Shape).Idx → BitVec 32) (w9 : (⟨1, ![6]⟩ : Shape).Idx → BitVec 32) (t : Fin 128) (c : Fin 64) : EReal :=
  hSpec (fun t k => w0 (ix3 0 t k)) (fun r k => w3 (ix2 r k)) (byS w5 w9) (byS w6 w9) (lvOf w8) (fun s => w7 (ix1 (adp w9 s))) t c

/-- The tables in naturals: every segment's adapter is one of the eleven, no rank is over 64, no adapter's rows pass the pool's. -/
structure InR (w5 w6 : (⟨1, ![11]⟩ : Shape).Idx → BitVec 32) (w9 : (⟨1, ![6]⟩ : Shape).Idx → BitVec 32) : Prop where
  sad : ∀ i, (w9 i).toNat < 11
  rank : ∀ i, (w6 i).toNat ≤ 64
  start : ∀ i, (w5 i).toNat + (w6 i).toNat ≤ 896

open Classical in
/-- At most one choice holding, their sum is the choice's value. -/
theorem ch_eq_sum (P : Fin 6 → Prop) (v : Fin 6 → EReal) (y : EReal) (h : ∀ s u, P s → P u → s = u) :
    ch P v * y = ∑ s : Fin 6, if P s then v s * y else 0 := by
  by_cases hx : ∃ s, P s
  · obtain ⟨s, hs⟩ := hx
    have hne : ∀ u, u ≠ s → ¬ P u := fun u hu hp => hu (h u s hp hs)
    rw [Finset.sum_eq_single s (fun u _ hu => if_neg (hne u hu)) (fun hc => absurd (Finset.mem_univ s) hc), if_pos hs]
    congr 1
    unfold ch
    fin_cases s <;> simp only [Fin.zero_eta, Fin.mk_one, Fin.reduceFinMk, Fin.isValue] at hs hne ⊢ <;>
      simp [hs, hne]
  · have hn : ∀ s, ¬ P s := fun s hs => hx ⟨s, hs⟩
    rw [Finset.sum_eq_zero (fun s _ => if_neg (hn s))]
    unfold ch
    simp [hn]

open Classical in
/-- A sum over the columns from `c0`, the ranks of one segment, taken over the ranks. -/
theorem sum_shift (L : Prop) (c0 rk : ℕ) (g : ℕ → EReal) (h1 : L → c0 + rk ≤ 512) (h2 : rk ≤ 64) :
    (∑ j : Fin 512, if L ∧ c0 ≤ j.val ∧ j.val < c0 + rk then g j.val else 0) = ∑ c : Fin 64, if L ∧ c.val < rk then g (c0 + c.val) else 0 := by
  by_cases hL : L
  swap
  · rw [Finset.sum_eq_zero (fun j _ => if_neg (fun h => hL h.1)), Finset.sum_eq_zero (fun j _ => if_neg (fun h => hL h.1))]
  have hb := h1 hL
  rw [← Finset.sum_filter, ← Finset.sum_filter]
  symm
  refine Finset.sum_bij (fun c hc => (⟨c0 + c.val, by have := (Finset.mem_filter.1 hc).2.2; omega⟩ : Fin 512)) ?_ ?_ ?_ ?_
  · intro c hc
    have := (Finset.mem_filter.1 hc).2.2
    exact Finset.mem_filter.2 ⟨Finset.mem_univ _, hL, by show c0 ≤ c0 + c.val; omega, by show c0 + c.val < c0 + rk; omega⟩
  · intro a _ b _ e
    have e' : c0 + a.val = c0 + b.val := congrArg Fin.val e
    exact Fin.ext (by omega)
  · intro j hj
    obtain ⟨_, h3, h4⟩ := (Finset.mem_filter.1 hj).2
    exact ⟨⟨j.val - c0, by omega⟩, Finset.mem_filter.2 ⟨Finset.mem_univ _, hL, by show j.val - c0 < rk; omega⟩, Fin.ext (by show c0 + (j.val - c0) = j.val; omega)⟩
  · intro c hc; rfl

/-! ## Words' tests -/

theorem sel_iff (c : BitVec 1) (P : Prop) [Decidable P] (h : c = 1#1 ↔ P) (x y : EReal) : Scalar.select c x y = if P then x else y := by
  unfold Scalar.select
  by_cases hp : P
  · rw [if_pos hp]; exact if_pos (h.2 hp)
  · rw [if_neg hp]; exact if_neg (fun e => hp (h.1 e))

theorem and_iff (a b : BitVec 1) : IntOp.andi a b = 1#1 ↔ a = 1#1 ∧ b = 1#1 := by
  revert a b; decide

theorem ofNat_toInt (t : ℕ) (h : t < 2 ^ 31) : (BitVec.ofNat 32 t).toInt = (t : ℤ) := by
  have e : (BitVec.ofNat 32 t).toNat = t := by rw [BitVec.toNat_ofNat]; omega
  rw [BitVec.toInt_eq_toNat_of_lt (by omega), e]

theorem sge_iff (t : ℕ) (h : t < 2 ^ 31) (v : BitVec 32) : IntOp.cmpi .sge (BitVec.ofNat 32 t) v = 1#1 ↔ v.toInt ≤ (t : ℤ) := by
  show BitVec.ofBool (BitVec.sle v (BitVec.ofNat 32 t)) = 1#1 ↔ _
  rw [BitVec.sle_eq_decide, ofNat_toInt t h]
  by_cases hp : v.toInt ≤ (t : ℤ) <;> simp [hp]

theorem slt_iff (t : ℕ) (h : t < 2 ^ 31) (v : BitVec 32) : IntOp.cmpi .slt (BitVec.ofNat 32 t) v = 1#1 ↔ (t : ℤ) < v.toInt := by
  show BitVec.ofBool (BitVec.slt (BitVec.ofNat 32 t) v) = 1#1 ↔ _
  rw [BitVec.slt_eq_decide, ofNat_toInt t h]
  by_cases hp : (t : ℤ) < v.toInt <;> simp [hp]

theorem toInt_nat (v : BitVec 32) (h : v.toNat < 2 ^ 31) : v.toInt = (v.toNat : ℤ) := BitVec.toInt_eq_toNat_of_lt (by omega)

end Cert.Alg

end
-- ==== Proof.AlgG.lean ====
/- Hand-written, untrusted: the reference's reads of its tables and pools at run-time rows. -/
module

public import proofs.«01_k».proof.Proof.Gen.ReferenceIdeal.Run
public import proofs.«01_k».proof.Proof.AlgS

@[expose] public section

set_option maxRecDepth 16384

noncomputable section

namespace Cert.Alg

open Idealize.ShloMosaic Idealize.SL.Sem
open Cert.ReferenceIdeal Cert.ReferenceIdeal.Gen Cert.ReferenceIdeal.Value StableHlo

/-- An entry of a table of eleven. -/
theorem gather1_at {α : Type} (x : S11.Idx → α) (idx : IVec S6x1 32) (s : Fin 6) :
    Host.gather gather_S11_S6x1_S6_n_0_n_n_0_1_1 x idx (ix1 s) = x (ix1 ⟨min (idx (ix2 s 0)).toInt.toNat 10, by omega⟩) := by
  unfold Host.gather
  congr 1
  funext a
  obtain rfl : a = 0 := Subsingleton.elim _ _
  refine Fin.ext ?_
  show gather_S11_S6x1_S6_n_0_n_n_0_1_1.start (ix1 s) idx 0 + gather_S11_S6x1_S6_n_0_n_n_0_1_1.batchCoord (ix1 s) 0 + gather_S11_S6x1_S6_n_0_n_n_0_1_1.offCoord (ix1 s) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S11_S6x1_S6_n_0_n_n_0_1_1.startIndexMap from List.mem_singleton.mpr rfl)]
  have hsi : gather_S11_S6x1_S6_n_0_n_n_0_1_1.siIdx (ix1 s) ⟨List.idxOf (0 : Fin 1) gather_S11_S6x1_S6_n_0_n_n_0_1_1.startIndexMap,
      List.idxOf_lt_length_iff.2 (List.mem_singleton.mpr rfl)⟩ = ix2 s 0 := by
    funext b; refine Fin.ext ?_
    match b with
    | ⟨0, _⟩ => rfl
    | ⟨1, _⟩ => rfl
  rw [hsi]
  rfl

/-- A row of a pool of nine hundred. -/
theorem gather2_at {α : Type} {N : ℕ} (wf : GatherDims.WF ⟨2, ![900, N]⟩ ⟨3, ![6, 64, 1]⟩ ⟨3, ![6, 64, N]⟩ [2] [0] [] [0] [] 2 ![1, N])
    (x : (⟨2, ![900, N]⟩ : Shape).Idx → α) (idx : IVec ⟨3, ![6, 64, 1]⟩ 32) (s : Fin 6) (c : Fin 64) (k : Fin N) :
    Host.gather (⟨[2], [0], [], [], [0], 2, ![1, N], wf⟩ : GatherDims ⟨2, ![900, N]⟩ ⟨3, ![6, 64, 1]⟩ ⟨3, ![6, 64, N]⟩) x idx (ix3 s c k)
      = x (ix2 ⟨min (idx (ix3 s c 0)).toInt.toNat 899, by omega⟩ k) := by
  unfold Host.gather
  congr 1
  generalize hg : (⟨[2], [0], [], [], [0], 2, ![1, N], wf⟩ : GatherDims ⟨2, ![900, N]⟩ ⟨3, ![6, 64, 1]⟩ ⟨3, ![6, 64, N]⟩) = g
  funext a
  refine Fin.ext ?_
  show g.start (ix3 s c k) idx a + g.batchCoord (ix3 s c k) a + g.offCoord (ix3 s c k) a = _
  match a with
  | ⟨0, _⟩ =>
    subst hg
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos]
    swap
    · exact List.mem_singleton.mpr rfl
    have hsi : ∀ h, (⟨[2], [0], [], [], [0], 2, ![1, N], wf⟩ : GatherDims ⟨2, ![900, N]⟩ ⟨3, ![6, 64, 1]⟩ ⟨3, ![6, 64, N]⟩).siIdx (ix3 s c k) ⟨List.idxOf (0 : Fin 2) [0], h⟩ = ix3 s c 0 := by
      intro h
      funext b; refine Fin.ext ?_
      match b with
      | ⟨0, _⟩ => rfl
      | ⟨1, _⟩ => rfl
      | ⟨2, _⟩ => rfl
    erw [hsi]
    rfl
  | ⟨1, _⟩ =>
    subst hg
    rw [GatherDims.batchCoord_eq_zero _ _ _ List.not_mem_nil]
    unfold GatherDims.start
    rw [dif_neg]
    swap
    · exact fun h => absurd (congrArg Fin.val (List.mem_singleton.1 h)) (by decide : ¬ ((1 : ℕ) = 0))
    simp only [Nat.add_zero, Nat.zero_add]
    rfl

theorem gatherA_at {α : Type} (x : S900x4096.Idx → α) (idx : IVec S6x64x1 32) (s : Fin 6) (c : Fin 64) (k : Fin 4096) :
    Host.gather gather_S900x4096_S6x64x1_S6x64x4096_2_0_n_n_0_2_14096 x idx (ix3 s c k) = x (ix2 ⟨min (idx (ix3 s c 0)).toInt.toNat 899, by omega⟩ k) :=
  gather2_at _ x idx s c k
theorem gatherB_at {α : Type} (x : S900x14336.Idx → α) (idx : IVec S6x64x1 32) (s : Fin 6) (c : Fin 64) (k : Fin 14336) :
    Host.gather gather_S900x14336_S6x64x1_S6x64x14336_2_0_n_n_0_2_114336 x idx (ix3 s c k) = x (ix2 ⟨min (idx (ix3 s c 0)).toInt.toNat 899, by omega⟩ k) :=
  gather2_at _ x idx s c k

end Cert.Alg

end
-- ==== Proof.AlgR.lean ====
/- Hand-written, untrusted: the reference's two results, element by element. -/
module

public import proofs.«01_k».proof.Proof.AlgG

@[expose] public section

set_option maxRecDepth 16384

noncomputable section

namespace Cert.Alg

open Idealize.ShloMosaic Idealize.SL.Sem
open Cert.ReferenceIdeal Cert.ReferenceIdeal.Gen Cert.ReferenceIdeal.Value StableHlo

abbrev RV := Valuation Cert.ReferenceIdeal.τ Cert.ReferenceIdeal.sig (Elt Ideal)

/-- The reference's weights. -/
def refW (V0 : RV) : FVec Ideal S4096x14336 .bf16 := (mulf (select (cmpi .ne (andi (res_main_v18 V0) (broadcastInDim S4096x14336 ![] bcast_S_S4096x14336 (constantI S_ 32 8#32))) (broadcastInDim S4096x14336 ![] bcast_S_S4096x14336 (constantI S_ 32 0#32))) (Host.negf (res_main_v53 V0)) (res_main_v53 V0)) (shapeCast _ (broadcastInDim S128x32x14336 ![0, 2] bcast_S128x14336_S128x32x14336_0_2 (truncf .bf16 (Host.powf (broadcastInDim S128x14336 ![] bcast_S_S128x14336 (constant S_ .f32 0x40000000#32)) (sitofp .f32 (subi (extui 32 (V0 (Proc.devRef .tc main_arg2)) natLt_8_32) (broadcastInDim S128x14336 ![] bcast_S_S128x14336 (constantI S_ 32 127#32))))) bitsLt_bf16_f32)) shapeCasts_S128x32x14336_S4096x14336))
/-- The reference's output-side rows. -/
def refGB (V0 : RV) : FVec Ideal S6x64x14336 .bf16 := (Host.gather gather_S900x14336_S6x64x1_S6x64x14336_2_0_n_n_0_2_114336 (V0 (Proc.devRef .tc main_arg4)) (broadcastInDim S6x64x1 ![0, 1] bcast_S6x64_S6x64x1_0_1 (select (cmpi .slt (res_main_v76 V0) (broadcastInDim S6x64 ![] bcast_S_S6x64 (constantI S_ 32 0#32))) (addi (res_main_v76 V0) (broadcastInDim S6x64 ![] bcast_S_S6x64 (constantI S_ 32 900#32))) (res_main_v76 V0))))
/-- The reference's first result. -/
def refY (V0 : RV) : FVec Ideal S128x14336 .bf16 := truncf .bf16 (addf (Host.dotGeneral (φ₁ := .bf16) (φ₂ := .bf16) dot_S128x4096_S4096x14336_S128x14336_1_0_0_1_n_n none (res_main_v0 V0) (refW V0)) (Host.dotGeneral (φ₁ := .bf16) (φ₂ := .bf16) dot_S128x6x64_S6x64x14336_S128x14336_21_10_0_2_n_n none (select (res_main_v121 V0) (res_main_v133 V0) (broadcastInDim S128x6x64 ![] bcast_S_S128x6x64 (constant S_ .bf16 0x0000#16))) (refGB V0))) bitsLt_bf16_f32
/-- The reference's second result. -/
def refH (V0 : RV) : FVec Ideal S128x64 .bf16 := select (shapeCast _ (extractStridedSlice S128x1x64 ![0, 5, 0] (res_main_v121 V0) slices_S128x6x64_S128x1x64_0_5_0) shapeCasts_S128x1x64_S128x64) (shapeCast _ (extractStridedSlice S128x1x64 ![0, 5, 0] (res_main_v133 V0) slices_S128x6x64_S128x1x64_0_5_0) shapeCasts_S128x1x64_S128x64) (select (shapeCast _ (extractStridedSlice S128x1x64 ![0, 4, 0] (res_main_v121 V0) slices_S128x6x64_S128x1x64_0_4_0) shapeCasts_S128x1x64_S128x64) (shapeCast _ (extractStridedSlice S128x1x64 ![0, 4, 0] (res_main_v133 V0) slices_S128x6x64_S128x1x64_0_4_0) shapeCasts_S128x1x64_S128x64) (select (shapeCast _ (extractStridedSlice S128x1x64 ![0, 3, 0] (res_main_v121 V0) slices_S128x6x64_S128x1x64_0_3_0) shapeCasts_S128x1x64_S128x64) (shapeCast _ (extractStridedSlice S128x1x64 ![0, 3, 0] (res_main_v133 V0) slices_S128x6x64_S128x1x64_0_3_0) shapeCasts_S128x1x64_S128x64) (select (shapeCast _ (extractStridedSlice S128x1x64 ![0, 2, 0] (res_main_v121 V0) slices_S128x6x64_S128x1x64_0_2_0) shapeCasts_S128x1x64_S128x64) (shapeCast _ (extractStridedSlice S128x1x64 ![0, 2, 0] (res_main_v133 V0) slices_S128x6x64_S128x1x64_0_2_0) shapeCasts_S128x1x64_S128x64) (select (shapeCast _ (extractStridedSlice S128x1x64 ![0, 1, 0] (res_main_v121 V0) slices_S128x6x64_S128x1x64_0_1_0) shapeCasts_S128x1x64_S128x64) (shapeCast _ (extractStridedSlice S128x1x64 ![0, 1, 0] (res_main_v133 V0) slices_S128x6x64_S128x1x64_0_1_0) shapeCasts_S128x1x64_S128x64) (select (shapeCast _ (extractStridedSlice S128x1x64 ![0, 0, 0] (res_main_v121 V0) slices_S128x6x64_S128x1x64_0_0_0) shapeCasts_S128x1x64_S128x64) (shapeCast _ (extractStridedSlice S128x1x64 ![0, 0, 0] (res_main_v133 V0) slices_S128x6x64_S128x1x64_0_0_0) shapeCasts_S128x1x64_S128x64) (broadcastInDim S128x64 ![] bcast_S_S128x64 (constant S_ .bf16 0x0000#16)))))))

/-- A word that is no negative number is not wrapped. -/
theorem sel_neg (w a : BitVec 32) (h : w.toNat < 2 ^ 31) : Scalar.select (IntOp.cmpi .slt w 0#32) a w = w := by
  refine if_neg fun e => ?_
  have e' : BitVec.ofBool (BitVec.slt w 0#32) = 1#1 := e
  rw [BitVec.slt_eq_decide, toInt_nat w h] at e'
  have : ¬ ((w.toNat : ℤ) < (0#32 : BitVec 32).toInt) := by show ¬ ((w.toNat : ℤ) < 0); omega
  rw [decide_eq_false this] at e'
  exact absurd e' (by decide)

abbrev idxS (w9 : IVec S6 32) : IVec S6x1 32 := (broadcastInDim S6x1 ![0] bcast_S6_S6x1_0 (select (cmpi .slt w9 (broadcastInDim S6 ![] bcast_S_S6 (constantI S_ 32 0#32))) (addi w9 (broadcastInDim S6 ![] bcast_S_S6 (constantI S_ 32 11#32))) w9))
abbrev idxP (v76 : IVec S6x64 32) : IVec S6x64x1 32 := (broadcastInDim S6x64x1 ![0, 1] bcast_S6x64_S6x64x1_0_1 (select (cmpi .slt v76 (broadcastInDim S6x64 ![] bcast_S_S6x64 (constantI S_ 32 0#32))) (addi v76 (broadcastInDim S6x64 ![] bcast_S_S6x64 (constantI S_ 32 900#32))) v76))

theorem idxS_at (w9 : IVec S6 32) (h : ∀ i, (w9 i).toNat < 11) (s : Fin 6) : idxS w9 (ix2 s 0) = w9 (ix1 s) := by
  have e : idxS w9 (ix2 s 0) = Scalar.select (IntOp.cmpi .slt (w9 (ix1 s)) 0#32) (IntOp.addi (w9 (ix1 s)) 11#32) (w9 (ix1 s)) := by
    pointwise
  exact e.trans (sel_neg _ _ (by have := h (ix1 s); omega))

theorem idxP_at (v76 : IVec S6x64 32) (s : Fin 6) (c : Fin 64) (h : (v76 (ix2 s c)).toNat < 2 ^ 31) : idxP v76 (ix3 s c 0) = v76 (ix2 s c) := by
  have e : idxP v76 (ix3 s c 0) = Scalar.select (IntOp.cmpi .slt (v76 (ix2 s c)) 0#32) (IntOp.addi (v76 (ix2 s c)) 900#32) (v76 (ix2 s c)) := by
    pointwise
  exact e.trans (sel_neg _ _ h)

theorem tab_at {α : Type} (w : S11.Idx → α) (w9 : IVec S6 32) (h : ∀ i, (w9 i).toNat < 11) (s : Fin 6) :
    Host.gather gather_S11_S6x1_S6_n_0_n_n_0_1_1 w (idxS w9) (ix1 s) = w (ix1 (adp w9 s)) := by
  rw [gather1_at]
  congr 2
  refine Fin.ext ?_
  show min ((idxS w9) (ix2 s 0)).toInt.toNat 10 = (w9 (ix1 s)).toNat % 11
  have hs := h (ix1 s)
  rw [idxS_at w9 h s, toInt_nat _ (by omega), Int.toNat_natCast]
  omega

theorem v76_at (V0 : RV) (h : InR (V0 (Proc.devRef .tc main_arg5)) (V0 (Proc.devRef .tc main_arg6)) (V0 (Proc.devRef .tc main_arg9))) (s : Fin 6) (c : Fin 64) :
    (res_main_v76 V0 (ix2 s c) : BitVec 32).toNat = byS (V0 (Proc.devRef .tc main_arg5)) (V0 (Proc.devRef .tc main_arg9)) s + c.val := by
  unfold res_main_v76
  revert h
  generalize (V0 (Proc.devRef .tc main_arg5)) = w5
  generalize (V0 (Proc.devRef .tc main_arg6)) = w6
  generalize (V0 (Proc.devRef .tc main_arg9)) = w9
  intro h
  have e := tab_at w5 w9 h.sad s
  have hs := h.start (ix1 (adp w9 s))
  have hc := c.isLt
  pointwise
  refine (congrArg (fun x : BitVec 32 => (IntOp.addi x (BitVec.ofNat 32 c.val)).toNat) e).trans ?_
  unfold byS
  have key : ∀ q : BitVec 32, q.toNat ≤ 896 → (q + BitVec.ofNat 32 c.val).toNat = q.toNat + c.val := by
    intro q hq
    rw [BitVec.toNat_add, BitVec.toNat_ofNat]
    omega
  exact key _ (by omega)

/-- The row read for a rank that counts. -/
theorem row_at (V0 : RV) (h : InR (V0 (Proc.devRef .tc main_arg5)) (V0 (Proc.devRef .tc main_arg6)) (V0 (Proc.devRef .tc main_arg9))) (s : Fin 6) (c : Fin 64)
    (hc : c.val < byS (V0 (Proc.devRef .tc main_arg6)) (V0 (Proc.devRef .tc main_arg9)) s) :
    (⟨min (idxP (res_main_v76 V0) (ix3 s c 0)).toInt.toNat 899, by omega⟩ : Fin 900) = prow (byS (V0 (Proc.devRef .tc main_arg5)) (V0 (Proc.devRef .tc main_arg9))) s c.val := by
  have e := v76_at V0 h s c
  have hs : byS (V0 (Proc.devRef .tc main_arg5)) (V0 (Proc.devRef .tc main_arg9)) s + byS (V0 (Proc.devRef .tc main_arg6)) (V0 (Proc.devRef .tc main_arg9)) s ≤ 896 := h.start _
  refine Fin.ext ?_
  show min (idxP (res_main_v76 V0) (ix3 s c 0)).toInt.toNat 899 = (byS (V0 (Proc.devRef .tc main_arg5)) (V0 (Proc.devRef .tc main_arg9)) s + c.val) % 900
  rw [idxP_at (res_main_v76 V0) s c (by rw [e]; omega), toInt_nat _ (by rw [e]; omega), Int.toNat_natCast, e]
  omega

theorem v121_iff (V0 : RV) (h : InR (V0 (Proc.devRef .tc main_arg5)) (V0 (Proc.devRef .tc main_arg6)) (V0 (Proc.devRef .tc main_arg9))) (t : Fin 128) (s : Fin 6) (c : Fin 64) :
    (res_main_v121 V0 (ix3 t s c) : BitVec 1) = 1#1 ↔ lvOf (V0 (Proc.devRef .tc main_arg8)) s t.val ∧ c.val < byS (V0 (Proc.devRef .tc main_arg6)) (V0 (Proc.devRef .tc main_arg9)) s := by
  unfold res_main_v121 res_main_v92
  revert h
  generalize (V0 (Proc.devRef .tc main_arg5)) = w5
  generalize (V0 (Proc.devRef .tc main_arg6)) = w6
  generalize (V0 (Proc.devRef .tc main_arg8)) = w8
  generalize (V0 (Proc.devRef .tc main_arg9)) = w9
  intro h
  have e := tab_at w6 w9 h.sad s
  have hr := h.rank (ix1 (adp w9 s))
  pointwise
  refine (and_iff _ _).trans (and_congr ((and_iff _ _).trans (and_congr (sge_iff _ (by omega) _) (slt_iff _ (by omega) _))) ((slt_iff _ (by omega) _).trans ?_))
  have e' := congrArg (fun x : BitVec 32 => (c.val : ℤ) < x.toInt) e
  refine (Eq.to_iff e').trans ?_
  show (c.val : ℤ) < (w6 (ix1 (adp w9 s))).toInt ↔ c.val < (w6 (ix1 (adp w9 s))).toNat
  rw [toInt_nat _ (by omega)]
  omega

theorem v133_at (V0 : RV) (h : InR (V0 (Proc.devRef .tc main_arg5)) (V0 (Proc.devRef .tc main_arg6)) (V0 (Proc.devRef .tc main_arg9))) (t : Fin 128) (s : Fin 6) (c : Fin 64)
    (hc : c.val < byS (V0 (Proc.devRef .tc main_arg6)) (V0 (Proc.devRef .tc main_arg9)) s) :
    (res_main_v133 V0 (ix3 t s c) : EReal) = hv (fun t k => (V0 (Proc.devRef .tc main_arg0) : S1x128x4096.Idx → EReal) (ix3 0 t k)) (fun r k => (V0 (Proc.devRef .tc main_arg3) : S900x4096.Idx → EReal) (ix2 r k))
      (byS (V0 (Proc.devRef .tc main_arg5)) (V0 (Proc.devRef .tc main_arg9))) (fun s => (V0 (Proc.devRef .tc main_arg7) : S11.Idx → EReal) (ix1 (adp (V0 (Proc.devRef .tc main_arg9)) s))) t s c.val := by
  have hrow := row_at V0 h s c hc
  have e := tab_at (V0 (Proc.devRef .tc main_arg7) : S11.Idx → EReal) (V0 (Proc.devRef .tc main_arg9)) h.sad s
  unfold res_main_v133 res_main_v0
  revert e hrow
  clear hc h
  generalize (V0 (Proc.devRef .tc main_arg5)) = w5
  generalize (V0 (Proc.devRef .tc main_arg7)) = w7
  generalize (V0 (Proc.devRef .tc main_arg3)) = w3
  generalize (V0 (Proc.devRef .tc main_arg0)) = w0
  generalize (V0 (Proc.devRef .tc main_arg9)) = w9
  intro hrow e
  have hA : ∀ k, Host.gather gather_S900x4096_S6x64x1_S6x64x4096_2_0_n_n_0_2_14096 (w3 : S900x4096.Idx → EReal) (idxP (res_main_v76 V0)) (ix3 s c k) = w3 (ix2 (prow (byS w5 w9) s c.val) k) := by
    intro k
    rw [gatherA_at, hrow]
  pointwise
  unfold hv
  exact congrArg₂ (· * ·) (Finset.sum_congr rfl fun k _ => congrArg (fun z : EReal => @HMul.hMul EReal EReal EReal instHMul (w0 (ix3 0 t k)) z) (hA k)) e

theorem refW_at (V0 : RV) (r : Fin 4096) (n : Fin 14336) :
    (refW V0 (ix2 r n) : EReal) = wt ((V0 (Proc.devRef .tc main_arg1) : S512x14336.Idx → BitVec 32) (ix2 ⟨r.val / 8, by omega⟩ n)) ((V0 (Proc.devRef .tc main_arg2) : S128x14336.Idx → BitVec 8) (ix2 ⟨r.val / 32, by omega⟩ n)) (r.val % 8) := by
  unfold refW res_main_v53 res_main_v18 wt sgnMag magR nib
  generalize (V0 (Proc.devRef .tc main_arg2)) = w2
  generalize (V0 (Proc.devRef .tc main_arg1)) = w1
  pointwise
  rfl

theorem refGB_at (V0 : RV) (h : InR (V0 (Proc.devRef .tc main_arg5)) (V0 (Proc.devRef .tc main_arg6)) (V0 (Proc.devRef .tc main_arg9))) (s : Fin 6) (c : Fin 64)
    (hc : c.val < byS (V0 (Proc.devRef .tc main_arg6)) (V0 (Proc.devRef .tc main_arg9)) s) (n : Fin 14336) :
    (refGB V0 (ix3 s c n) : EReal) = (V0 (Proc.devRef .tc main_arg4) : S900x14336.Idx → EReal) (ix2 (prow (byS (V0 (Proc.devRef .tc main_arg5)) (V0 (Proc.devRef .tc main_arg9))) s c.val) n) := by
  rw [← row_at V0 h s c hc]
  exact gatherB_at _ _ s c n

abbrev yRef (V0 : RV) (t : Fin 128) (n : Fin 14336) : EReal :=
  yOut (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) t n
abbrev hRef (V0 : RV) (t : Fin 128) (c : Fin 64) : EReal :=
  hOut (V0 (Proc.devRef .tc main_arg0)) (V0 (Proc.devRef .tc main_arg3)) (V0 (Proc.devRef .tc main_arg5)) (V0 (Proc.devRef .tc main_arg6)) (V0 (Proc.devRef .tc main_arg7)) (V0 (Proc.devRef .tc main_arg8)) (V0 (Proc.devRef .tc main_arg9)) t c

theorem refY_at (V0 : RV) (h : InR (V0 (Proc.devRef .tc main_arg5)) (V0 (Proc.devRef .tc main_arg6)) (V0 (Proc.devRef .tc main_arg9))) (t : Fin 128) (n : Fin 14336) :
    (refY V0 (ix2 t n) : EReal) = yRef V0 t n := by
  have e : (refY V0 (ix2 t n) : EReal) = (∑ r : Fin 4096, @HMul.hMul EReal EReal EReal instHMul ((V0 (Proc.devRef .tc main_arg0) : S1x128x4096.Idx → EReal) (ix3 0 t r)) (refW V0 (ix2 r n)))
      + ∑ c : Fin 64, ∑ s : Fin 6, Scalar.select (α := EReal) (res_main_v121 V0 (ix3 t s c) : BitVec 1) (@HMul.hMul EReal EReal EReal instHMul (res_main_v133 V0 (ix3 t s c)) (refGB V0 (ix3 s c n))) 0 := by
    unfold refY
    generalize refW V0 = W
    generalize refGB V0 = GB
    generalize res_main_v121 V0 = v121
    generalize res_main_v133 V0 = v133
    unfold res_main_v0
    pointwise
  rw [e, Finset.sum_comm]
  unfold yRef yOut ySpec
  refine congrArg₂ (· + ·) (Finset.sum_congr rfl fun r _ => congrArg (fun z : EReal => @HMul.hMul EReal EReal EReal instHMul ((V0 (Proc.devRef .tc main_arg0) : S1x128x4096.Idx → EReal) (ix3 0 t r)) z) (refW_at V0 r n)) (Finset.sum_congr rfl fun s _ => Finset.sum_congr rfl fun c _ => ?_)
  classical
  rw [sel_iff _ _ (v121_iff V0 h t s c)]
  by_cases hp : lvOf (V0 (Proc.devRef .tc main_arg8)) s t.val ∧ c.val < byS (V0 (Proc.devRef .tc main_arg6)) (V0 (Proc.devRef .tc main_arg9)) s
  · rw [if_pos hp, if_pos hp, v133_at V0 h t s c hp.2, refGB_at V0 h s c hp.2]
  · rw [if_neg hp, if_neg hp]

theorem refH_at (V0 : RV) (h : InR (V0 (Proc.devRef .tc main_arg5)) (V0 (Proc.devRef .tc main_arg6)) (V0 (Proc.devRef .tc main_arg9))) (t : Fin 128) (c : Fin 64) :
    (refH V0 (ix2 t c) : EReal) = hRef V0 t c := by
  classical
  have e : ∀ s : Fin 6, ∀ y : EReal, Scalar.select (α := EReal) (res_main_v121 V0 (ix3 t s c) : BitVec 1) (res_main_v133 V0 (ix3 t s c) : EReal) y
      = if lvOf (V0 (Proc.devRef .tc main_arg8)) s t.val ∧ c.val < byS (V0 (Proc.devRef .tc main_arg6)) (V0 (Proc.devRef .tc main_arg9)) s then
          hv (fun t k => (V0 (Proc.devRef .tc main_arg0) : S1x128x4096.Idx → EReal) (ix3 0 t k)) (fun r k => (V0 (Proc.devRef .tc main_arg3) : S900x4096.Idx → EReal) (ix2 r k))
            (byS (V0 (Proc.devRef .tc main_arg5)) (V0 (Proc.devRef .tc main_arg9))) (fun s => (V0 (Proc.devRef .tc main_arg7) : S11.Idx → EReal) (ix1 (adp (V0 (Proc.devRef .tc main_arg9)) s))) t s c.val
        else y := by
    intro s y
    rw [sel_iff _ _ (v121_iff V0 h t s c)]
    by_cases hp : lvOf (V0 (Proc.devRef .tc main_arg8)) s t.val ∧ c.val < byS (V0 (Proc.devRef .tc main_arg6)) (V0 (Proc.devRef .tc main_arg9)) s
    · rw [if_pos hp, if_pos hp, v133_at V0 h t s c hp.2]
    · rw [if_neg hp, if_neg hp]
  have e2 : (refH V0 (ix2 t c) : EReal) = Scalar.select (α := EReal) (res_main_v121 V0 (ix3 t 5 c) : BitVec 1) (res_main_v133 V0 (ix3 t 5 c) : EReal)
      (Scalar.select (α := EReal) (res_main_v121 V0 (ix3 t 4 c) : BitVec 1) (res_main_v133 V0 (ix3 t 4 c) : EReal)
      (Scalar.select (α := EReal) (res_main_v121 V0 (ix3 t 3 c) : BitVec 1) (res_main_v133 V0 (ix3 t 3 c) : EReal)
      (Scalar.select (α := EReal) (res_main_v121 V0 (ix3 t 2 c) : BitVec 1) (res_main_v133 V0 (ix3 t 2 c) : EReal)
      (Scalar.select (α := EReal) (res_main_v121 V0 (ix3 t 1 c) : BitVec 1) (res_main_v133 V0 (ix3 t 1 c) : EReal)
      (Scalar.select (α := EReal) (res_main_v121 V0 (ix3 t 0 c) : BitVec 1) (res_main_v133 V0 (ix3 t 0 c) : EReal) 0))))) := by
    unfold refH
    generalize res_main_v121 V0 = v121
    generalize res_main_v133 V0 = v133
    pointwise
  rw [e2, e, e, e, e, e, e]
  unfold hRef hOut hSpec ch
  congr

end Cert.Alg

end
-- ==== Proof.AlgK.lean ====
/- Hand-written, untrusted: the elements of the kernel's blocks. -/
module

public import proofs.«01_k».proof.Proof.AlgS
public import proofs.«01_k».proof.Proof.ILater
public import Idealize.ShloMosaic.Lib.KernelVsHost

@[expose] public section

set_option maxRecDepth 16384

noncomputable section

namespace Cert.Alg

open Idealize.ShloMosaic Idealize.SL.Sem
open Cert.KernelIdeal Cert.KernelIdeal.Gen Cert.KernelIdeal.Hand

/-! ## The weights' block -/

abbrev iota8 : IVec S512x8x512 32 := iota .tc S512x8x512 32 [1] iota_S512x8x512_d1_w32

theorem pay27_at (d7 : S512x512.Idx → BitVec 32) (r : Fin 4096) (n : Fin 512) :
    (k0_pay27 iota8 (k0_pay26 (F := Ideal) d7) (ix2 r n) : BitVec 32)
      = IntOp.shrsi .vector (d7 (ix2 ⟨r.val / 8, by omega⟩ n)) (IntOp.muli 4#32 (BitVec.ofNat 32 (r.val % 8))) := by
  pointwise [k0_pay27, k0_pay26]

theorem pay28_at (d7 : S512x512.Idx → BitVec 32) (r : Fin 4096) (n : Fin 512) :
    (k0_pay28 (F := Ideal) iota8 (k0_pay26 (F := Ideal) d7) (ix2 r n) : EReal) = magK (k0_pay27 iota8 (k0_pay26 (F := Ideal) d7) (ix2 r n)) := by
  generalize k0_pay26 (F := Ideal) d7 = v
  unfold magK
  pointwise [k0_pay28]

theorem pay29_at (d7 : S512x512.Idx → BitVec 32) (r : Fin 4096) (n : Fin 512) :
    (k0_pay29 iota8 (k0_pay26 (F := Ideal) d7) (ix2 r n) : BitVec 1) = IntOp.cmpi .eq (IntOp.andi (k0_pay27 iota8 (k0_pay26 (F := Ideal) d7) (ix2 r n)) 8#32) 0#32 := by
  generalize k0_pay26 (F := Ideal) d7 = v
  pointwise [k0_pay29]

theorem bc_at (y : IVec S2048x512 32) (r : Fin 4096) (n : Fin 512) :
    bitcast S4096x512 16 y bitcasts_S2048x512_w32_S4096x512_w16 (ix2 r n) = (y (ix2 ⟨r.val / 2, by omega⟩ n)).extractLsb' (16 * (r.val % 2)) 16 := by
  rw [bitcast_32_16]
  congr 2
  funext a
  fin_cases a
  · exact Fin.ext (Shape.Bitcasts.srcIdx_row _ _ _ _ _ rfl)
  · exact Fin.ext (Shape.Bitcasts.srcIdx_other _ _ _ _ _ (by decide))

theorem sc_at (d8 : S128x512.Idx → BitVec 8) (k : Fin 2048) (n : Fin 512) :
    (shapeCast S2048x512 (broadcastTo S128x16x512 (shapeCast S128x1x512
        (ori (shli (extui 32 d8 natLt_8_32) (broadcast S128x512 7#32)) (shli (extui 32 d8 natLt_8_32) (broadcast S128x512 23#32)))
        shapeCasts_S128x512_S128x1x512) broadcasts_S128x1x512_S128x16x512) shapeCasts_S128x16x512_S2048x512) (ix2 k n)
      = ((d8 (ix2 ⟨k.val / 16, by omega⟩ n)).setWidth 32 <<< (7 : ℕ)) ||| ((d8 (ix2 ⟨k.val / 16, by omega⟩ n)).setWidth 32 <<< (23 : ℕ)) := by
  pointwise
  rfl

theorem acc_at (d6 : S128x4096.Idx → EReal) (d7 : S512x512.Idx → BitVec 32) (d8 : S128x512.Idx → BitVec 8)
    (h : ∀ i, 1 ≤ (d8 i).toNat ∧ (d8 i).toNat ≤ 254) (t : Fin 128) (n : Fin 512) :
    (k0_pay30 (F := Ideal) (k0_pay28 (F := Ideal) iota8 (k0_pay26 (F := Ideal) d7)) (k0_pay29 iota8 (k0_pay26 (F := Ideal) d7)) d8 d6 (ix2 t n) : EReal)
      = ∑ r : Fin 4096, d6 (ix2 t r) * wt (d7 (ix2 ⟨r.val / 8, by omega⟩ n)) (d8 (ix2 ⟨r.val / 32, by omega⟩ n)) (r.val % 8) := by
  have e28 := pay28_at d7
  have e29 := pay29_at d7
  have e27 := pay27_at d7
  revert e28 e29
  generalize k0_pay28 (F := Ideal) iota8 (k0_pay26 (F := Ideal) d7) = a
  generalize k0_pay29 iota8 (k0_pay26 (F := Ideal) d7) = b
  intro e28 e29
  pointwise [k0_pay30]
  refine Finset.sum_congr rfl fun r _ => congrArg (d6 (ix2 t r) * ·) ?_
  rw [e28 r n, e29 r n, e27 r n, bc_at, code_eq, shr_eq _ _ (Nat.mod_lt _ (by decide)), sc_at d8 ⟨r.val / 2, by omega⟩ n]
  unfold wt nib
  have hd : (⟨(⟨r.val / 2, by omega⟩ : Fin 2048).val / 16, by show r.val / 2 / 16 < 128; omega⟩ : Fin 128) = ⟨r.val / 32, by omega⟩ :=
    Fin.ext (by show r.val / 2 / 16 = r.val / 32; omega)
  rw [hd, scale_eq _ (r.val % 2) (Nat.mod_lt _ (by decide)) (h _).1 (h _).2]

/-! ## The rank-space activations -/

/-- Whether element `(t, j)` of the staged activations is one of a segment's. -/
abbrev colB (a b c r : BitVec 32) (t : Fin 128) (j : Fin 512) : BitVec 1 :=
  IntOp.andi (IntOp.andi (IntOp.andi (IntOp.cmpi .sge (BitVec.ofNat 32 t.val) a) (IntOp.cmpi .slt (BitVec.ofNat 32 t.val) b)) (IntOp.cmpi .sge (BitVec.ofNat 32 j.val) c))
    (IntOp.cmpi .slt (BitVec.ofNat 32 j.val) (Scalar.addi c r))
/-- Whether element `(t, j)` of the second result is one of a segment's. -/
abbrev rowB (a b r : BitVec 32) (t : Fin 128) (j : Fin 64) : BitVec 1 :=
  IntOp.andi (IntOp.andi (IntOp.cmpi .sge (BitVec.ofNat 32 t.val) a) (IntOp.cmpi .slt (BitVec.ofNat 32 t.val) b)) (IntOp.cmpi .slt (BitVec.ofNat 32 j.val) r)
/-- The column a rotation brings to column `j`. -/
abbrev rot (c : BitVec 32) (j : ℕ) : Fin 512 :=
  ⟨(j + 512 - (Scalar.remsi (Scalar.subi 512#32 c) 512#32 : BitVec 32).toNat % 512) % 512, Nat.mod_lt _ (by decide)⟩

set_option maxHeartbeats 1000000 in
theorem hbigOf_at (v1 v2 v4 v6 v52 v53 v55 v57 v103 v104 v106 v108 v154 v155 v157 v159 v205 v206 v208 v210 v256 v257 v259 v261 : BitVec 32) (v49 v100 v151 v202 v253 v254 v280 : BitVec 32) (s0 s1 s2 s3 s4 s5 : EReal)
    (x : S128x4096.Idx → EReal) (a : S512x4096.Idx → EReal) (t : Fin 128) (j : Fin 512) :
    (hbigOf (F := Ideal) v1 v2 v4 v6 v52 v53 v55 v57 v103 v104 v106 v108 v154 v155 v157 v159 v205 v206 v208 v210 v256 v257 v259 v261 v49 v100 v151 v202 v253 v254 v280 s0 s1 s2 s3 s4 s5 x a (ix2 t j) : EReal)
      = Scalar.select (colB v256 v257 (Scalar.addi (Scalar.muli v254 8#32) v280) v261 t j) ((∑ k, x (ix2 t k) * a (ix2 j k)) * s5) (Scalar.select (colB v205 v206 v253 v210 t j) ((∑ k, x (ix2 t k) * a (ix2 j k)) * s4) (Scalar.select (colB v154 v155 v202 v159 t j) ((∑ k, x (ix2 t k) * a (ix2 j k)) * s3) (Scalar.select (colB v103 v104 v151 v108 t j) ((∑ k, x (ix2 t k) * a (ix2 j k)) * s2) (Scalar.select (colB v52 v53 v100 v57 t j) ((∑ k, x (ix2 t k) * a (ix2 j k)) * s1) (Scalar.select (colB v1 v2 v49 v6 t j) ((∑ k, x (ix2 t k) * a (ix2 j k)) * s0) (0)))))) := by
  unfold hbigOf
  dsimp only
  pointwise [k0_pay4, k0_pay5, k0_pay6, k0_pay7, k0_pay8, k0_pay9, k0_pay10, k0_pay11, k0_pay13, k0_pay14, k0_pay15, k0_pay16, k0_pay17, k0_pay19, k0_pay20, k0_pay21, k0_pay22, k0_pay23, k0_pay24]

set_option maxHeartbeats 1000000 in
theorem lhOf_at (v1 v2 v4 v6 v52 v53 v55 v57 v103 v104 v106 v108 v154 v155 v157 v159 v205 v206 v208 v210 v256 v257 v259 v261 : BitVec 32) (v49 v100 v151 v202 v253 v254 v280 : BitVec 32) (s0 s1 s2 s3 s4 s5 : EReal)
    (x : S128x4096.Idx → EReal) (a : S512x4096.Idx → EReal) (t : Fin 128) (j : Fin 64) :
    (lhOf (F := Ideal) v1 v2 v4 v6 v52 v53 v55 v57 v103 v104 v106 v108 v154 v155 v157 v159 v205 v206 v208 v210 v256 v257 v259 v261 v49 v100 v151 v202 v253 v254 v280 s0 s1 s2 s3 s4 s5 x a (ix2 t j) : EReal)
      = Scalar.select (rowB v256 v257 v261 t j) ((∑ k, x (ix2 t k) * a (ix2 (rot (Scalar.addi (Scalar.muli v254 8#32) v280) j.val) k)) * s5) (Scalar.select (rowB v205 v206 v210 t j) ((∑ k, x (ix2 t k) * a (ix2 (rot v253 j.val) k)) * s4) (Scalar.select (rowB v154 v155 v159 t j) ((∑ k, x (ix2 t k) * a (ix2 (rot v202 j.val) k)) * s3) (Scalar.select (rowB v103 v104 v108 t j) ((∑ k, x (ix2 t k) * a (ix2 (rot v151 j.val) k)) * s2) (Scalar.select (rowB v52 v53 v57 t j) ((∑ k, x (ix2 t k) * a (ix2 (rot v100 j.val) k)) * s1) (Scalar.select (rowB v1 v2 v6 t j) ((∑ k, x (ix2 t k) * a (ix2 (rot v49 j.val) k)) * s0) (0)))))) := by
  unfold lhOf
  dsimp only
  pointwise [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay25]

theorem pay1_at (acc : S128x512.Idx → EReal) (hb : S128x512.Idx → EReal) (sl : S1x512x512.Idx → EReal) (t : Fin 128) (n : Fin 512) :
    (k0_pay1 (F := Ideal) acc hb sl (ix2 t n) : EReal) = acc (ix2 t n) + ∑ j : Fin 512, hb (ix2 t j) * sl (ix3 0 j n) := by
  pointwise [k0_pay1]

end Cert.Alg

end
-- ==== Proof.AlgH.lean ====
/- Hand-written, untrusted: the elements of the kernel's blocks, as the sums over segments and ranks. -/
module

public import proofs.«01_k».proof.Proof.AlgK

@[expose] public section

set_option maxRecDepth 16384

noncomputable section

namespace Cert.Alg

open Idealize.ShloMosaic Idealize.SL.Sem
open Cert.KernelIdeal Cert.KernelIdeal.Gen Cert.KernelIdeal.Hand

/-- The first staging column of a segment's ranks. -/
def c0 (sg : Fin 6 → Seg) (s : Fin 6) : ℕ := gx sg s + (sg s).st.toNat % 8
/-- A segment's first page row, its rank and whether it has a row. -/
def stS (sg : Fin 6 → Seg) (s : Fin 6) : ℕ := (sg s).st.toNat
def rkS (sg : Fin 6 → Seg) (s : Fin 6) : ℕ := (sg s).rk.toNat
def lvS (sg : Fin 6 → Seg) (s : Fin 6) (t : ℕ) : Prop := live (sg s).a (sg s).b t
/-- Whether a staging column is one of a segment's, at a row. -/
def colP (sg : Fin 6 → Seg) (t j : ℕ) (s : Fin 6) : Prop := lvS sg s t ∧ c0 sg s ≤ j ∧ j < c0 sg s + rkS sg s

theorem gx_le (sg : Fin 6 → Seg) (ok : ∀ s, (sg s).OK) (s : Fin 6) : gx sg s + gy sg s ≤ 432 := by
  obtain ⟨h0, h1, h2, h3, h4, h5⟩ := gx_vals sg ok
  have g0 := (gy_le sg ok 0).1
  have g1 := (gy_le sg ok 1).1
  have g2 := (gy_le sg ok 2).1
  have g3 := (gy_le sg ok 3).1
  have g4 := (gy_le sg ok 4).1
  have g5 := (gy_le sg ok 5).1
  fin_cases s
  · show gx sg 0 + gy sg 0 ≤ 432; omega
  · show gx sg 1 + gy sg 1 ≤ 432; omega
  · show gx sg 2 + gy sg 2 ≤ 432; omega
  · show gx sg 3 + gy sg 3 ≤ 432; omega
  · show gx sg 4 + gy sg 4 ≤ 432; omega
  · show gx sg 5 + gy sg 5 ≤ 432; omega

theorem c0_le (sg : Fin 6 → Seg) (ok : ∀ s, (sg s).OK) (s : Fin 6) : c0 sg s ≤ 439 := by
  have := gx_le sg ok s
  unfold c0; omega

theorem colW_toNat (sg : Fin 6 → Seg) (ok : ∀ s, (sg s).OK) (s : Fin 6) : (colW sg s).toNat = c0 sg s := by
  have h1 := gx_le sg ok s
  have h2 := lW_toNat (sg s).st (by have := (ok s).1; omega)
  have h3 : (Scalar.muli (slotW (pre sg s)) 8#32).toNat = gx sg s := rfl
  unfold colW c0
  show (Scalar.muli (slotW (pre sg s)) 8#32 + lW (sg s).st).toNat = _
  rw [BitVec.toNat_add, h2, h3]
  omega

/-- A segment with a row has all the columns of its ranks within its rows of the buffers. -/
theorem cols_in (sg : Fin 6 → Seg) (ok : ∀ s, (sg s).OK) (t j : ℕ) (s : Fin 6) (h : colP sg t j s) : inSeg sg j s := by
  obtain ⟨⟨l1, l2⟩, h1, h2⟩ := h
  have hg := gy_eq sg ok s
  unfold Seg.n at hg
  rw [if_pos (by omega)] at hg
  unfold c0 rkS at *
  unfold inSeg
  omega

theorem colP_unique (sg : Fin 6 → Seg) (ok : ∀ s, (sg s).OK) (t j : ℕ) (s u : Fin 6) (hs : colP sg t j s) (hu : colP sg t j u) : s = u :=
  inSeg_unique sg ok j s u (cols_in sg ok t j s hs) (cols_in sg ok t j u hu)

theorem cols_le (sg : Fin 6 → Seg) (ok : ∀ s, (sg s).OK) (t : ℕ) (s : Fin 6) (h : lvS sg s t) : c0 sg s + rkS sg s ≤ 512 := by
  have := c0_le sg ok s
  have := (ok s).2
  unfold rkS
  omega

theorem colB_iff (sg : Fin 6 → Seg) (ok : ∀ s, (sg s).OK) (s : Fin 6) (t : Fin 128) (j : Fin 512) :
    colB (sg s).a (sg s).b (colW sg s) (sg s).rk t j = 1#1 ↔ colP sg t.val j.val s := by
  have h1 := colW_toNat sg ok s
  have h2 := c0_le sg ok s
  have h3 := (ok s).2
  have h4 : (Scalar.addi (colW sg s) (sg s).rk).toNat = c0 sg s + (sg s).rk.toNat := by
    show (colW sg s + (sg s).rk).toNat = _
    rw [BitVec.toNat_add, h1]; omega
  unfold colB colP lvS live rkS
  rw [and_iff, and_iff, and_iff, sge_iff _ (by omega), slt_iff _ (by omega), sge_iff _ (by omega), slt_iff _ (by omega),
    toInt_nat (colW sg s) (by omega), toInt_nat (Scalar.addi (colW sg s) (sg s).rk) (by omega), h1, h4, and_assoc]
  refine and_congr Iff.rfl (and_congr ?_ ?_)
  · omega
  · omega

theorem rowB_iff (sg : Fin 6 → Seg) (ok : ∀ s, (sg s).OK) (s : Fin 6) (t : Fin 128) (j : Fin 64) :
    rowB (sg s).a (sg s).b (sg s).rk t j = 1#1 ↔ lvS sg s t.val ∧ j.val < rkS sg s := by
  have h3 := (ok s).2
  unfold rowB lvS live rkS
  rw [and_iff, and_iff, sge_iff _ (by omega), slt_iff _ (by omega), slt_iff _ (by omega), toInt_nat (sg s).rk (by omega)]
  refine and_congr Iff.rfl ?_
  omega

theorem rem_val : ∀ n : Fin 512, (Scalar.remsi (Scalar.subi 512#32 (BitVec.ofNat 32 n.val)) 512#32 : BitVec 32).toNat = (512 - n.val) % 512 := by decide +kernel

theorem rot_val (sg : Fin 6 → Seg) (ok : ∀ s, (sg s).OK) (s : Fin 6) (j : Fin 64) : (rot (colW sg s) j.val).val = c0 sg s + j.val := by
  have h1 := colW_toNat sg ok s
  have h2 := c0_le sg ok s
  have e := rem_val ⟨(colW sg s).toNat, by omega⟩
  rw [BitVec.ofNat_toNat, BitVec.setWidth_eq] at e
  show (j.val + 512 - (Scalar.remsi (Scalar.subi 512#32 (colW sg s)) 512#32 : BitVec 32).toNat % 512) % 512 = _
  have e' : (Scalar.remsi (Scalar.subi 512#32 (colW sg s)) 512#32 : BitVec 32).toNat = (512 - (colW sg s).toNat) % 512 := e
  rw [e', h1]
  omega

/-- A row of the rank-side buffer, at a column of a segment with a row. -/
theorem FA_row (sg : Fin 6 → Seg) (ok : ∀ s, (sg s).OK) (pa : S900x4096.Idx → EReal) (t : ℕ) (j : Fin 512) (s : Fin 6) (h : colP sg t j.val s) (k : Fin 4096) :
    (FA (F := Ideal) sg pa (ix2 j k) : EReal) = pa (ix2 (prow (stS sg) s (j.val - c0 sg s)) k) := by
  have hi := cols_in sg ok t j.val s h
  have hg := gg_eq sg ok s
  have ho := (ok s).1
  obtain ⟨-, h1, h2⟩ := h
  refine FA_at (F := Ideal) sg ok pa s (ix2 j k) (ix2 (prow (stS sg) s (j.val - c0 sg s)) k) hi.1 hi.2 ?_ rfl
  show (stS sg s + (j.val - c0 sg s)) % 900 = gg sg s + (j.val - gx sg s)
  unfold c0 rkS Seg.g stS at *
  omega

theorem FB_row (sg : Fin 6 → Seg) (ok : ∀ s, (sg s).OK) (pb : S900x14336.Idx → EReal) (b : ℕ) (hb : b < 28) (p : Fin 2) (t : ℕ) (j : Fin 512) (s : Fin 6) (h : colP sg t j.val s) (n : Fin 512) :
    (FB (F := Ideal) sg pb b (ix3 p j n) : EReal) = pb (ix2 (prow (stS sg) s (j.val - c0 sg s)) ⟨512 * b + n.val, by omega⟩) := by
  have hi := cols_in sg ok t j.val s h
  have hg := gg_eq sg ok s
  have ho := (ok s).1
  obtain ⟨-, h1, h2⟩ := h
  refine FB_at (F := Ideal) sg ok pb b hb s (ix3 p j n) (ix2 (prow (stS sg) s (j.val - c0 sg s)) ⟨512 * b + n.val, by omega⟩) hi.1 hi.2 ?_ rfl
  show (stS sg s + (j.val - c0 sg s)) % 900 = gg sg s + (j.val - gx sg s)
  unfold c0 rkS Seg.g stS at *
  omega

/-! ## The kept activations and the second result -/

/-- A segment's scaling. -/
def scT (d4 : S6.Idx → BitVec 32) (d5 : S11.Idx → EReal) (s : Fin 6) : EReal := at11 d5 (at6 d4 s.val).toNat

theorem HBd_at (d1 d2 : S11.Idx → BitVec 32) (d3 : S7.Idx → BitVec 32) (d4 : S6.Idx → BitVec 32) (d5 : S11.Idx → EReal) (ok : ∀ s, (sgT d1 d2 d3 d4 s).OK)
    (x : S128x4096.Idx → EReal) (a : S512x4096.Idx → EReal) (t : Fin 128) (j : Fin 512) :
    (HBd (F := Ideal) d1 d2 d3 d4 d5 x a (ix2 t j) : EReal) = ch (colP (sgT d1 d2 d3 d4) t.val j.val) (fun s => (∑ k, x (ix2 t k) * a (ix2 j k)) * scT d4 d5 s) := by
  classical
  unfold HBd
  refine (hbigOf_at ..).trans ?_
  have e : ∀ s, ∀ u v : EReal, Scalar.select (colB (sgT d1 d2 d3 d4 s).a (sgT d1 d2 d3 d4 s).b (colW (sgT d1 d2 d3 d4) s) (sgT d1 d2 d3 d4 s).rk t j) u v = if colP (sgT d1 d2 d3 d4) t.val j.val s then u else v :=
    fun s u v => sel_iff _ _ (colB_iff _ ok s t j) u v
  refine (e 5 _ _).trans ?_
  refine (congrArg (fun z => if colP (sgT d1 d2 d3 d4) t.val j.val 5 then _ else z) ((e 4 _ _).trans
    (congrArg (fun z => if colP (sgT d1 d2 d3 d4) t.val j.val 4 then _ else z) ((e 3 _ _).trans
    (congrArg (fun z => if colP (sgT d1 d2 d3 d4) t.val j.val 3 then _ else z) ((e 2 _ _).trans
    (congrArg (fun z => if colP (sgT d1 d2 d3 d4) t.val j.val 2 then _ else z) ((e 1 _ _).trans
    (congrArg (fun z => if colP (sgT d1 d2 d3 d4) t.val j.val 1 then _ else z) (e 0 _ _)))))))))).trans ?_
  unfold ch scT
  congr

theorem LHd_at (d1 d2 : S11.Idx → BitVec 32) (d3 : S7.Idx → BitVec 32) (d4 : S6.Idx → BitVec 32) (d5 : S11.Idx → EReal) (ok : ∀ s, (sgT d1 d2 d3 d4 s).OK)
    (x : S128x4096.Idx → EReal) (a : S512x4096.Idx → EReal) (t : Fin 128) (c : Fin 64) :
    (LHd (F := Ideal) d1 d2 d3 d4 d5 x a (ix2 t c) : EReal)
      = ch (fun s => lvS (sgT d1 d2 d3 d4) s t.val ∧ c.val < rkS (sgT d1 d2 d3 d4) s) (fun s => (∑ k, x (ix2 t k) * a (ix2 (rot (colW (sgT d1 d2 d3 d4) s) c.val) k)) * scT d4 d5 s) := by
  classical
  unfold LHd
  refine (lhOf_at ..).trans ?_
  have e : ∀ s, ∀ u v : EReal, Scalar.select (rowB (sgT d1 d2 d3 d4 s).a (sgT d1 d2 d3 d4 s).b (sgT d1 d2 d3 d4 s).rk t c) u v = if lvS (sgT d1 d2 d3 d4) s t.val ∧ c.val < rkS (sgT d1 d2 d3 d4) s then u else v :=
    fun s u v => sel_iff _ _ (rowB_iff _ ok s t c) u v
  refine (e 5 _ _).trans ?_
  refine (congrArg (fun z => if lvS (sgT d1 d2 d3 d4) 5 t.val ∧ c.val < rkS (sgT d1 d2 d3 d4) 5 then _ else z) ((e 4 _ _).trans
    (congrArg (fun z => if lvS (sgT d1 d2 d3 d4) 4 t.val ∧ c.val < rkS (sgT d1 d2 d3 d4) 4 then _ else z) ((e 3 _ _).trans
    (congrArg (fun z => if lvS (sgT d1 d2 d3 d4) 3 t.val ∧ c.val < rkS (sgT d1 d2 d3 d4) 3 then _ else z) ((e 2 _ _).trans
    (congrArg (fun z => if lvS (sgT d1 d2 d3 d4) 2 t.val ∧ c.val < rkS (sgT d1 d2 d3 d4) 2 then _ else z) ((e 1 _ _).trans
    (congrArg (fun z => if lvS (sgT d1 d2 d3 d4) 1 t.val ∧ c.val < rkS (sgT d1 d2 d3 d4) 1 then _ else z) (e 0 _ _)))))))))).trans ?_
  unfold ch scT
  congr

/-! ## The two results' elements -/

theorem ch_congr (P : Fin 6 → Prop) (v w : Fin 6 → EReal) (h : ∀ s, P s → v s = w s) : ch P v = ch P w := by
  unfold ch
  split
  · exact h _ ‹_›
  split
  · exact h _ ‹_›
  split
  · exact h _ ‹_›
  split
  · exact h _ ‹_›
  split
  · exact h _ ‹_›
  split
  · exact h _ ‹_›
  rfl

theorem lh_el (d1 d2 : S11.Idx → BitVec 32) (d3 : S7.Idx → BitVec 32) (d4 : S6.Idx → BitVec 32) (d5 : S11.Idx → EReal) (ok : ∀ s, (sgT d1 d2 d3 d4 s).OK)
    (x : S128x4096.Idx → EReal) (pa : S900x4096.Idx → EReal) (t : Fin 128) (c : Fin 64) :
    (LHd (F := Ideal) d1 d2 d3 d4 d5 x (FA (F := Ideal) (sgT d1 d2 d3 d4) pa) (ix2 t c) : EReal)
      = hSpec (fun t k => x (ix2 t k)) (fun r k => pa (ix2 r k)) (stS (sgT d1 d2 d3 d4)) (rkS (sgT d1 d2 d3 d4)) (lvS (sgT d1 d2 d3 d4)) (scT d4 d5) t c := by
  rw [LHd_at d1 d2 d3 d4 d5 ok]
  unfold hSpec hv
  refine ch_congr _ _ _ fun s hs => congrArg (· * scT d4 d5 s) (Finset.sum_congr rfl fun k _ => congrArg (x (ix2 t k) * ·) ?_)
  have hr := rot_val _ ok s c
  have hp : colP (sgT d1 d2 d3 d4) t.val (rot (colW (sgT d1 d2 d3 d4) s) c.val).val s := by
    refine ⟨hs.1, ?_, ?_⟩
    · rw [hr]; omega
    · rw [hr]; have := hs.2; omega
  rw [FA_row _ ok pa t.val _ s hp k, hr, Nat.add_sub_cancel_left]

theorem lora_el (d1 d2 : S11.Idx → BitVec 32) (d3 : S7.Idx → BitVec 32) (d4 : S6.Idx → BitVec 32) (d5 : S11.Idx → EReal) (ok : ∀ s, (sgT d1 d2 d3 d4 s).OK)
    (x : S128x4096.Idx → EReal) (pa : S900x4096.Idx → EReal) (pb : S900x14336.Idx → EReal) (b : ℕ) (hb : b < 28) (p : Fin 2) (t : Fin 128) (n : Fin 512) :
    (∑ j : Fin 512, (HBd (F := Ideal) d1 d2 d3 d4 d5 x (FA (F := Ideal) (sgT d1 d2 d3 d4) pa) (ix2 t j) : EReal) * (FB (F := Ideal) (sgT d1 d2 d3 d4) pb b (ix3 p j n) : EReal))
      = open Classical in ∑ s : Fin 6, ∑ c : Fin 64, if lvS (sgT d1 d2 d3 d4) s t.val ∧ c.val < rkS (sgT d1 d2 d3 d4) s then
          hv (fun t k => x (ix2 t k)) (fun r k => pa (ix2 r k)) (stS (sgT d1 d2 d3 d4)) (scT d4 d5) t s c.val * pb (ix2 (prow (stS (sgT d1 d2 d3 d4)) s c.val) ⟨512 * b + n.val, by omega⟩) else 0 := by
  classical
  have e : ∀ j : Fin 512, (HBd (F := Ideal) d1 d2 d3 d4 d5 x (FA (F := Ideal) (sgT d1 d2 d3 d4) pa) (ix2 t j) : EReal) * (FB (F := Ideal) (sgT d1 d2 d3 d4) pb b (ix3 p j n) : EReal)
      = ∑ s : Fin 6, if lvS (sgT d1 d2 d3 d4) s t.val ∧ c0 (sgT d1 d2 d3 d4) s ≤ j.val ∧ j.val < c0 (sgT d1 d2 d3 d4) s + rkS (sgT d1 d2 d3 d4) s then
          (fun i : ℕ => hv (fun t k => x (ix2 t k)) (fun r k => pa (ix2 r k)) (stS (sgT d1 d2 d3 d4)) (scT d4 d5) t s (i - c0 (sgT d1 d2 d3 d4) s)
            * pb (ix2 (prow (stS (sgT d1 d2 d3 d4)) s (i - c0 (sgT d1 d2 d3 d4) s)) ⟨512 * b + n.val, by omega⟩)) j.val else 0 := by
    intro j
    rw [HBd_at d1 d2 d3 d4 d5 ok, ch_eq_sum _ _ _ (fun s u => colP_unique _ ok t.val j.val s u)]
    refine Finset.sum_congr rfl fun s _ => ?_
    by_cases hp : colP (sgT d1 d2 d3 d4) t.val j.val s
    · rw [if_pos hp, if_pos (show _ ∧ _ ∧ _ from hp), FB_row _ ok pb b hb p t.val j s hp n]
      unfold hv
      refine congrArg (· * _) (congrArg (· * scT d4 d5 s) (Finset.sum_congr rfl fun k _ => congrArg (x (ix2 t k) * ·) (FA_row _ ok pa t.val j s hp k)))
    · rw [if_neg hp, if_neg (show ¬ (_ ∧ _ ∧ _) from hp)]
  rw [Finset.sum_congr rfl fun j _ => e j, Finset.sum_comm]
  refine Finset.sum_congr rfl fun s _ => ?_
  refine Eq.trans (Finset.sum_congr rfl fun j _ => if_congr Iff.rfl rfl rfl) ((sum_shift (lvS (sgT d1 d2 d3 d4) s t.val) (c0 (sgT d1 d2 d3 d4) s) (rkS (sgT d1 d2 d3 d4) s)
    (fun i : ℕ => hv (fun t k => x (ix2 t k)) (fun r k => pa (ix2 r k)) (stS (sgT d1 d2 d3 d4)) (scT d4 d5) t s (i - c0 (sgT d1 d2 d3 d4) s)
            * pb (ix2 (prow (stS (sgT d1 d2 d3 d4)) s (i - c0 (sgT d1 d2 d3 d4) s)) ⟨512 * b + n.val, by omega⟩)) (cols_le _ ok t.val s) (ok s).2).trans
    (Finset.sum_congr rfl fun c _ => if_congr Iff.rfl ?_ rfl))
  rw [Nat.add_sub_cancel_left]

theorem y_el (d1 d2 : S11.Idx → BitVec 32) (d3 : S7.Idx → BitVec 32) (d4 : S6.Idx → BitVec 32) (d5 : S11.Idx → EReal) (ok : ∀ s, (sgT d1 d2 d3 d4 s).OK)
    (x : S128x4096.Idx → EReal) (d7 : S512x512.Idx → BitVec 32) (d8 : S128x512.Idx → BitVec 8) (h8 : ∀ i, 1 ≤ (d8 i).toNat ∧ (d8 i).toNat ≤ 254)
    (pa : S900x4096.Idx → EReal) (pb : S900x14336.Idx → EReal) (b : ℕ) (hb : b < 28) (p : Fin 2) (sl : S1x512x512.Idx → EReal)
    (hsl : ∀ j n : Fin 512, sl (ix3 0 j n) = FB (F := Ideal) (sgT d1 d2 d3 d4) pb b (ix3 p j n))
    (W : Fin 512 → Fin 14336 → BitVec 32) (E : Fin 128 → Fin 14336 → BitVec 8)
    (hW : ∀ r n : Fin 512, d7 (ix2 r n) = W r ⟨512 * b + n.val, by omega⟩) (hE : ∀ (r : Fin 128) (n : Fin 512), d8 (ix2 r n) = E r ⟨512 * b + n.val, by omega⟩)
    (t : Fin 128) (n : Fin 512) :
    (yOf (F := Ideal) x d7 d8 (HBd (F := Ideal) d1 d2 d3 d4 d5 x (FA (F := Ideal) (sgT d1 d2 d3 d4) pa)) sl (ix2 t n) : EReal)
      = ySpec (fun t k => x (ix2 t k)) W E (fun r k => pa (ix2 r k)) (fun r n => pb (ix2 r n)) (stS (sgT d1 d2 d3 d4)) (rkS (sgT d1 d2 d3 d4)) (lvS (sgT d1 d2 d3 d4)) (scT d4 d5) t ⟨512 * b + n.val, by omega⟩ := by
  unfold yOf ySpec
  rw [pay1_at]
  refine congrArg₂ (· + ·) ?_ ?_
  · refine (acc_at x d7 d8 h8 t n).trans (Finset.sum_congr rfl fun r _ => congrArg (x (ix2 t r) * ·) ?_)
    rw [hW, hE]
  · refine (Finset.sum_congr rfl fun j _ => congrArg (_ * ·) (hsl j n)).trans ?_
    exact lora_el d1 d2 d3 d4 d5 ok x pa pb b hb p t n

end Cert.Alg

end
-- ==== Proof.AlgV.lean ====
/- Hand-written, untrusted: the kernel's two result arrays, element by element. -/
module

public import proofs.«01_k».proof.Proof.AlgH
public import proofs.«01_k».proof.Proof.IRun

@[expose] public section

set_option maxRecDepth 16384

noncomputable section

namespace Cert.Alg

open Cert.KernelIdeal Cert.KernelIdeal.Gen Cert.KernelIdeal.Hand
open Idealize.ShloMosaic Idealize.ShloMosaic.TcCoe Idealize.ShloMosaic.Pipeline Idealize.SL.Sem

/-! ## The tables by segment -/

theorem at6_ix {β : Type} (d : S6.Idx → β) (s : Fin 6) : at6 d s.val = d (ix1 s) :=
  congrArg d (funext fun a => Fin.ext (by obtain rfl : a = 0 := Subsingleton.elim _ _; exact Nat.mod_eq_of_lt s.isLt))
theorem at11_ix {β : Type} (d : S11.Idx → β) (k : ℕ) : at11 d k = d (ix1 ⟨k % 11, Nat.mod_lt _ (by decide)⟩) :=
  congrArg d (funext fun a => Fin.ext (by obtain rfl : a = 0 := Subsingleton.elim _ _; rfl))
theorem at7_ix {β : Type} (d : S7.Idx → β) (k : ℕ) (h : k < 7) : at7 d k = d (ix1 ⟨k, h⟩) :=
  congrArg d (funext fun a => Fin.ext (by obtain rfl : a = 0 := Subsingleton.elim _ _; exact Nat.mod_eq_of_lt h))
theorem atS {β : Type} (d : S11.Idx → β) (d4 : S6.Idx → BitVec 32) (s : Fin 6) : at11 d (at6 d4 s.val).toNat = d (ix1 (adp d4 s)) := by
  rw [at11_ix, at6_ix]; rfl

theorem stS_eq (d1 d2 : S11.Idx → BitVec 32) (d3 : S7.Idx → BitVec 32) (d4 : S6.Idx → BitVec 32) : stS (sgT d1 d2 d3 d4) = byS d1 d4 :=
  funext fun s => congrArg BitVec.toNat (atS d1 d4 s)
theorem rkS_eq (d1 d2 : S11.Idx → BitVec 32) (d3 : S7.Idx → BitVec 32) (d4 : S6.Idx → BitVec 32) : rkS (sgT d1 d2 d3 d4) = byS d2 d4 :=
  funext fun s => congrArg BitVec.toNat (atS d2 d4 s)
theorem scT_eq (d4 : S6.Idx → BitVec 32) (d5 : S11.Idx → EReal) : scT d4 d5 = fun s => d5 (ix1 (adp d4 s)) :=
  funext fun s => atS d5 d4 s
theorem lvS_eq (d1 d2 : S11.Idx → BitVec 32) (d3 : S7.Idx → BitVec 32) (d4 : S6.Idx → BitVec 32) : lvS (sgT d1 d2 d3 d4) = lvOf d3 := by
  funext s t
  have e1 := at7_ix d3 s.val (by omega)
  have e2 := (at7_ix d3 (s.val + 1) (by omega)).trans (congrArg (fun k : Fin 7 => d3 (ix1 k)) (Fin.ext (Nat.add_comm s.val 1) : (⟨s.val + 1, by omega⟩ : Fin 7) = ⟨1 + s.val, by omega⟩))
  exact congrArg₂ (fun a b => live a b t) e1 e2

/-! ## The slot a step reads -/

theorem slotRd_at (i : grid0.Coords) (f : S2x512x512.Idx → EReal) (j n : Fin 512) :
    (slotRd (F := Ideal) i f (ix3 0 j n) : EReal) = f (ix3 ⟨(i 0).val % 2, Nat.mod_lt _ (by decide)⟩ j n) := by
  refine congrArg f (funext fun a => Fin.ext ?_)
  match a with
  | ⟨0, _⟩ =>
    have e := pW_toNat i
    show k0_off91 i 0 + 1 * 0 = (i 0).val % 2
    rw [Nat.mul_zero, Nat.add_zero]
    exact e
  | ⟨1, _⟩ => show 0 + 1 * j.val = j.val; omega
  | ⟨2, _⟩ => show 0 + 1 * n.val = n.val; omega

/-! ## The operands' blocks -/

variable (m : (ℓ : Loc nD τ sig) → Buf (Elt Ideal) ℓ)

theorem coordW (t : Fin (CF m).N) : (BitVec.ofNat 32 (grid0.coords t 0).val).toNat = t.val := by
  have := Nat.lt_of_lt_of_eq t.isLt (show (CF m).N = 28 from N_0)
  rw [coords0 m t, BitVec.toNat_ofNat]; omega

theorem N28 (t : Fin (CF m).N) : t.val < 28 := Nat.lt_of_lt_of_eq t.isLt (show (CF m).N = 28 from N_0)

theorem inBlk0 (c : Dev nD) (t : Fin (CF m).N) : (inBlk m c 0 t : S11.Idx → EReal) = m ((c : Thread nD τ).loc main_arg7) := by
  funext i
  have e : ((((CF m).win 0).rect t).emb i : S11.Idx) = i := by
    funext a
    refine Fin.ext ?_
    match a with
    | ⟨0, h⟩ =>
      refine (Window.rect_emb_val ((CF m).win 0) t i ⟨0, h⟩ rfl).trans ?_
      show 0 * 11 + (i ⟨0, h⟩).val = (i ⟨0, h⟩).val
      omega
  exact (congrArg (V m c main_arg7) e).trans (congrFun (V_of_ne m c (b := main_arg7) (by decide)) i)

theorem x_at (w : S1x128x4096.Idx → EReal) (r : Fin 128) (k : Fin 4096) :
    (shapeCast S128x4096 w shapeCasts_S1x128x4096_S128x4096 : S128x4096.Idx → EReal) (ix2 r k) = w (ix3 0 r k) := by
  pointwise

theorem emb1 (t : Fin (CF m).N) (r : Fin 128) (k : Fin 4096) : ((((CF m).win 1).rect t).emb (ix2 r k) : S128x4096.Idx) = ix2 r k := by
  funext a
  refine Fin.ext ?_
  match a with
  | ⟨0, h⟩ =>
    refine (Window.rect_emb_val ((CF m).win 1) t (ix2 r k) ⟨0, h⟩ rfl).trans ?_
    show 0 * 128 + r.val = r.val
    omega
  | ⟨1, h⟩ =>
    refine (Window.rect_emb_val ((CF m).win 1) t (ix2 r k) ⟨1, h⟩ rfl).trans ?_
    show 0 * 4096 + k.val = k.val
    omega

theorem V_at (c : Dev nD) (r : Fin 128) (k : Fin 4096) :
    (V m c main_v0 : S128x4096.Idx → EReal) (ix2 r k) = (m ((c : Thread nD τ).loc main_arg0) : S1x128x4096.Idx → EReal) (ix3 0 r k) :=
  (congrFun (V_v0 m c) (ix2 r k)).trans (x_at _ r k)

theorem inBlk1 (c : Dev nD) (t : Fin (CF m).N) (r : Fin 128) (k : Fin 4096) :
    (inBlk m c 1 t : S128x4096.Idx → EReal) (ix2 r k) = (m ((c : Thread nD τ).loc main_arg0) : S1x128x4096.Idx → EReal) (ix3 0 r k) := by
  exact (congrArg (V m c main_v0) (emb1 m t r k)).trans (V_at m c r k)

theorem inBlk2 (c : Dev nD) (t : Fin (CF m).N) (r n : Fin 512) :
    (inBlk m c 2 t : S512x512.Idx → BitVec 32) (ix2 r n) = (m ((c : Thread nD τ).loc main_arg1) : S512x14336.Idx → BitVec 32) (ix2 r ⟨512 * t.val + n.val, by have := N28 m t; omega⟩) := by
  have e : ((((CF m).win 2).rect t).emb (ix2 r n) : S512x14336.Idx) = ix2 r ⟨512 * t.val + n.val, by have := N28 m t; omega⟩ := by
    funext a
    refine Fin.ext ?_
    match a with
    | ⟨0, h⟩ =>
      refine (Window.rect_emb_val ((CF m).win 2) t (ix2 r n) ⟨0, h⟩ rfl).trans ?_
      show 0 * 512 + r.val = r.val
      omega
    | ⟨1, h⟩ =>
      refine (Window.rect_emb_val ((CF m).win 2) t (ix2 r n) ⟨1, h⟩ rfl).trans ?_
      show (BitVec.ofNat 32 (grid0.coords t 0).val).toNat * 512 + n.val = 512 * t.val + n.val
      rw [coordW m t]
      omega
  exact (congrArg (V m c main_arg1) e).trans (congrFun (V_of_ne m c (b := main_arg1) (by decide)) _)

theorem inBlk3 (c : Dev nD) (t : Fin (CF m).N) (r : Fin 128) (n : Fin 512) :
    (inBlk m c 3 t : S128x512.Idx → BitVec 8) (ix2 r n) = (m ((c : Thread nD τ).loc main_arg2) : S128x14336.Idx → BitVec 8) (ix2 r ⟨512 * t.val + n.val, by have := N28 m t; omega⟩) := by
  have e : ((((CF m).win 3).rect t).emb (ix2 r n) : S128x14336.Idx) = ix2 r ⟨512 * t.val + n.val, by have := N28 m t; omega⟩ := by
    funext a
    refine Fin.ext ?_
    match a with
    | ⟨0, h⟩ =>
      refine (Window.rect_emb_val ((CF m).win 3) t (ix2 r n) ⟨0, h⟩ rfl).trans ?_
      show 0 * 128 + r.val = r.val
      omega
    | ⟨1, h⟩ =>
      refine (Window.rect_emb_val ((CF m).win 3) t (ix2 r n) ⟨1, h⟩ rfl).trans ?_
      show (BitVec.ofNat 32 (grid0.coords t 0).val).toNat * 512 + n.val = 512 * t.val + n.val
      rw [coordW m t]
      omega
  exact (congrArg (V m c main_arg2) e).trans (congrFun (V_of_ne m c (b := main_arg2) (by decide)) _)

/-! ## The results -/

/-- The first result out of the arguments' contents … -/
def yK (c : Dev nD) (t : Fin 128) (n : Fin 14336) : EReal :=
  yOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) t n
/-- … and the second. -/
def hK (c : Dev nD) (t : Fin 128) (n : Fin 64) : EReal :=
  hOut (m ((c : Thread nD τ).loc main_arg0)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) t n

theorem yBlk_at (tok : TOK (T1 m) (T2 m) (T3 m) (T4 m))
    (hE : ∀ (c : Dev nD) i, 1 ≤ ((m ((c : Thread nD τ).loc main_arg2) : S128x14336.Idx → BitVec 8) i).toNat ∧ ((m ((c : Thread nD τ).loc main_arg2) : S128x14336.Idx → BitVec 8) i).toNat ≤ 254)
    (c : Dev nD) (t : Fin (CF m).N) (r : Fin 128) (n : Fin 512) :
    (yBlk m c t (ix2 r n) : EReal) = yK m c r ⟨512 * t.val + n.val, by have := N28 m t; omega⟩ := by
  obtain rfl : c = 0 := Subsingleton.elim _ _
  have hx : inBlk m 0 1 (t0 m) = inBlk m 0 1 t := by
    funext i
    have e1 := inBlk1 m 0 (t0 m) (i 0) (i 1)
    have e2 := inBlk1 m 0 t (i 0) (i 1)
    have ei : i = ix2 (i 0) (i 1) := eq_ix2 i
    exact (congrArg (inBlk m 0 1 (t0 m)) ei).trans ((e1.trans e2.symm).trans (congrArg (inBlk m 0 1 t) ei.symm))
  unfold yBlk HBm
  rw [hx]
  have h8 : ∀ i, 1 ≤ ((inBlk m 0 3 t : S128x512.Idx → BitVec 8) i).toNat ∧ ((inBlk m 0 3 t : S128x512.Idx → BitVec 8) i).toNat ≤ 254 := by
    intro i
    have ei : i = ix2 (i 0) (i 1) := eq_ix2 i
    have e : (inBlk m 0 3 t : S128x512.Idx → BitVec 8) i = _ := (congrArg (inBlk m 0 3 t) ei).trans (inBlk3 m 0 t (i 0) (i 1))
    rw [e]
    exact hE 0 _
  refine (y_el (T1 m) (T2 m) (T3 m) (T4 m) (inBlk m 0 0 (t0 m)) tok.ok (inBlk m 0 1 t) (inBlk m 0 2 t) (inBlk m 0 3 t) h8 (PA m 0) (PB m 0) t.val (N28 m t)
    ⟨(grid0.coords t 0).val % 2, Nat.mod_lt _ (by decide)⟩ _ (fun j n => slotRd_at _ _ j n)
    (fun r n => (m (((0 : Dev nD) : Thread nD τ).loc main_arg1) : S512x14336.Idx → BitVec 32) (ix2 r n)) (fun r n => (m (((0 : Dev nD) : Thread nD τ).loc main_arg2) : S128x14336.Idx → BitVec 8) (ix2 r n))
    (fun r n => inBlk2 m 0 t r n) (fun r n => inBlk3 m 0 t r n) r n).trans ?_
  unfold yK yOut
  rw [stS_eq, rkS_eq, lvS_eq, scT_eq, inBlk0 m 0 (t0 m)]
  refine congrArg (fun X : Fin 128 → Fin 4096 → EReal => ySpec X _ _ _ _ _ _ _ _ _ _) ?_
  funext a b
  exact inBlk1 m 0 t a b

theorem LHm_at (tok : TOK (T1 m) (T2 m) (T3 m) (T4 m)) (c : Dev nD) (r : Fin 128) (n : Fin 64) : (LHm m c (ix2 r n) : EReal) = hK m c r n := by
  obtain rfl : c = 0 := Subsingleton.elim _ _
  unfold LHm
  refine (lh_el (T1 m) (T2 m) (T3 m) (T4 m) (inBlk m 0 0 (t0 m)) tok.ok (inBlk m 0 1 (t0 m)) (PA m 0) r n).trans ?_
  unfold hK hOut
  rw [stS_eq, rkS_eq, lvS_eq, scT_eq, inBlk0 m 0 (t0 m)]
  refine congrArg (fun X : Fin 128 → Fin 4096 → EReal => hSpec X _ _ _ _ _ _ _) ?_
  funext a b
  exact inBlk1 m 0 (t0 m) a b

/-! ## The arrays after the last write-back -/

theorem emb4 (t : Fin (CF m).N) (r : Fin 128) (n : Fin 512) :
    ((((CF m).win 4).rect t).emb (ix2 r n) : S128x14336.Idx) = ix2 r ⟨512 * t.val + n.val, by have := N28 m t; omega⟩ := by
  funext a
  refine Fin.ext ?_
  match a with
  | ⟨0, h⟩ =>
    refine (Window.rect_emb_val ((CF m).win 4) t (ix2 r n) ⟨0, h⟩ rfl).trans ?_
    show 0 * 128 + r.val = r.val
    omega
  | ⟨1, h⟩ =>
    refine (Window.rect_emb_val ((CF m).win 4) t (ix2 r n) ⟨1, h⟩ rfl).trans ?_
    show (BitVec.ofNat 32 (grid0.coords t 0).val).toNat * 512 + n.val = 512 * t.val + n.val
    rw [coordW m t]
    omega

theorem emb5 (t : Fin (CF m).N) (i : S128x64.Idx) : ((((CF m).win 5).rect t).emb i : S128x64.Idx) = i := by
  funext a
  refine Fin.ext ?_
  match a with
  | ⟨0, h⟩ =>
    refine (Window.rect_emb_val ((CF m).win 5) t i ⟨0, h⟩ rfl).trans ?_
    show 0 * 128 + (i 0).val = (i 0).val
    omega
  | ⟨1, h⟩ =>
    refine (Window.rect_emb_val ((CF m).win 5) t i ⟨1, h⟩ rfl).trans ?_
    show 0 * 64 + (i 1).val = (i 1).val
    omega

theorem flush4 (t : Fin (CF m).N) : ((CF m).win (4 : Fin 6)).flush t = true := by
  refine (((CF m).win (4 : Fin 6)).flush_out rfl t).2 ?_
  by_cases h : t.val + 1 = 28
  · exact Or.inl (h.trans N_0.symm)
  · have hl := N28 m t
    refine Or.inr ⟨Nat.lt_of_lt_of_eq (by omega : t.val + 1 < 28) (show (CF m).N = 28 from N_0).symm, fun e => ?_⟩
    have e1 : (BitVec.ofNat 32 (grid0.coords (⟨t.val + 1, Nat.lt_of_lt_of_eq (by omega : t.val + 1 < 28) (show (CF m).N = 28 from N_0).symm⟩ : Fin (CF m).N) 0).val).toNat
        = (BitVec.ofNat 32 (grid0.coords t 0).val).toNat := congrFun e 1
    rw [coordW m t, coordW m ⟨t.val + 1, _⟩] at e1
    exact absurd e1 (Nat.succ_ne_self _)

theorem mem4 (i : S128x14336.Idx) (t : Fin (CF m).N) (ht : t.val = (i 1).val / 512) : i ∈ ((((CF m).win (4 : Fin 6)).blk t).view.set : Finset S128x14336.Idx) := by
  let j : S128x512.Idx := ix2 (i 0) ⟨(i 1).val % 512, Nat.mod_lt _ (by decide)⟩
  have h := View.emb_mem_set (((CF m).win (4 : Fin 6)).blk t).view j
  have e : ((((CF m).win (4 : Fin 6)).blk t).view.emb j : S128x14336.Idx) = i := by
    refine (emb4 m t (i 0) ⟨(i 1).val % 512, Nat.mod_lt _ (by decide)⟩).trans ?_
    refine Eq.trans ?_ (eq_ix2 i).symm
    refine congrArg (fun k : Fin 14336 => (ix2 (i 0) k : S128x14336.Idx)) (Fin.ext ?_)
    show 512 * t.val + (i 1).val % 512 = (i 1).val
    rw [ht]
    exact Nat.div_add_mod _ 512
  generalize (((CF m).win (4 : Fin 6)).blk t).view.emb j = z at h e
  subst e
  exact h

theorem arr4 (tok : TOK (T1 m) (T2 m) (T3 m) (T4 m))
    (hE : ∀ (c : Dev nD) i, 1 ≤ ((m ((c : Thread nD τ).loc main_arg2) : S128x14336.Idx → BitVec 8) i).toNat ∧ ((m ((c : Thread nD τ).loc main_arg2) : S128x14336.Idx → BitVec 8) i).toNat ≤ 254)
    (c : Dev nD) : ((dats m 0 c).arrAt (4 : Fin 6) (CF m).N : S128x14336.Idx → EReal) = fun i => yK m c (i 0) (i 1) := by
  refine (dats m 0 c).arrAt_eq_of_cover (4 : Fin 6) (fun i : S128x14336.Idx => yK m c (i 0) (i 1)) (fun t _ => ?_) (fun i => ?_)
  · have h : (yBlk m c t : S128x512.Idx → EReal) = fun y => (fun i : S128x14336.Idx => yK m c (i 0) (i 1)) (((CF m).win 4).rect t |>.emb y) := by
      funext y
      have ey : y = ix2 (y 0) (y 1) := eq_ix2 y
      refine (congrArg (yBlk m c t) ey).trans ((yBlk_at m tok hE c t (y 0) (y 1)).trans ?_)
      refine Eq.trans ?_ (congrArg (fun z => (fun i : S128x14336.Idx => yK m c (i 0) (i 1)) (((CF m).win 4).rect t |>.emb z)) ey.symm)
      exact (congrArg (fun i : S128x14336.Idx => yK m c (i 0) (i 1)) (emb4 m t (y 0) (y 1))).symm
    exact h
  · have hi : ((i : S128x14336.Idx) 1).val < 14336 := ((i : S128x14336.Idx) 1).isLt
    refine ⟨⟨((i : S128x14336.Idx) 1).val / 512, Nat.lt_of_lt_of_eq (by omega : ((i : S128x14336.Idx) 1).val / 512 < 28) (show (CF m).N = 28 from N_0).symm⟩, flush4 m _, ?_⟩
    exact mem4 m i _ rfl

theorem mem5 (t : Fin (CF m).N) (i : S128x64.Idx) : i ∈ ((((CF m).win (5 : Fin 6)).blk t).view.set : Finset S128x64.Idx) := by
  have h := View.emb_mem_set (((CF m).win (5 : Fin 6)).blk t).view (i : S128x64.Idx)
  have e : ((((CF m).win (5 : Fin 6)).blk t).view.emb (i : S128x64.Idx) : S128x64.Idx) = i := emb5 m t i
  generalize (((CF m).win (5 : Fin 6)).blk t).view.emb (i : S128x64.Idx) = z at h e
  subst e
  exact h

theorem arr5 (tok : TOK (T1 m) (T2 m) (T3 m) (T4 m)) (c : Dev nD) : ((dats m 0 c).arrAt (5 : Fin 6) (CF m).N : S128x64.Idx → EReal) = fun i => hK m c (i 0) (i 1) := by
  refine (dats m 0 c).arrAt_eq_of_cover (5 : Fin 6) (fun i : S128x64.Idx => hK m c (i 0) (i 1)) (fun t _ => ?_) (fun i => ?_)
  · have h : (LHm m c : S128x64.Idx → EReal) = fun y => (fun i : S128x64.Idx => hK m c (i 0) (i 1)) (((CF m).win 5).rect t |>.emb y) := by
      funext y
      refine (congrArg (LHm m c) (eq_ix2 (y : S128x64.Idx))).trans ((LHm_at m tok c (y 0) (y 1)).trans ?_)
      exact (congrArg (fun i : S128x64.Idx => hK m c (i 0) (i 1)) (emb5 m t y)).symm
    exact h
  · refine ⟨⟨27, Nat.lt_of_lt_of_eq (by decide : 27 < 28) (show (CF m).N = 28 from N_0).symm⟩, flush5_true m _ rfl, ?_⟩
    exact mem5 m _ i

end Cert.Alg

end
-- ==== Proof.Algebraic.lean ====
/- Hand-written, untrusted: the kernel's two results are the reference's, over the extended reals. -/
module

public import proofs.«01_k».proof.Defs
public import proofs.«01_k».proof.Proof.Ranges
public import proofs.«01_k».proof.Proof.AlgR
public import proofs.«01_k».proof.Proof.AlgV

@[expose] public section

set_option maxRecDepth 16384

noncomputable section

namespace Cert.Algebraic

open Idealize.ShloMosaic Idealize.ShloMosaic.StableHlo Idealize.SL.Sem Cert.Alg

variable [h1 : Cert.Pre_tables_in_range.Facts] [h2 : Cert.Pre_scales_finite.Facts]

/-- The reference's first result out of arguments that are the kernel's. -/
theorem y_eq (m : (ℓ : Loc Cert.KernelIdeal.nD Cert.KernelIdeal.τ Cert.KernelIdeal.sig) → Buf (Elt Ideal) ℓ) (V0 : RV) (c : Dev Cert.KernelIdeal.nD)
    (h : InR (V0 (Proc.devRef .tc Cert.ReferenceIdeal.main_arg5)) (V0 (Proc.devRef .tc Cert.ReferenceIdeal.main_arg6)) (V0 (Proc.devRef .tc Cert.ReferenceIdeal.main_arg9)))
    (e : ∀ t n, yRef V0 t n = yK m c t n) : refY V0 = fun i => yK m c (i 0) (i 1) := by
  funext i
  exact (congrArg (refY V0) (eq_ix2 i)).trans ((refY_at V0 h (i 0) (i 1)).trans (e _ _))
theorem h_eq (m : (ℓ : Loc Cert.KernelIdeal.nD Cert.KernelIdeal.τ Cert.KernelIdeal.sig) → Buf (Elt Ideal) ℓ) (V0 : RV) (c : Dev Cert.KernelIdeal.nD)
    (h : InR (V0 (Proc.devRef .tc Cert.ReferenceIdeal.main_arg5)) (V0 (Proc.devRef .tc Cert.ReferenceIdeal.main_arg6)) (V0 (Proc.devRef .tc Cert.ReferenceIdeal.main_arg9)))
    (e : ∀ t n, hRef V0 t n = hK m c t n) : refH V0 = fun i => hK m c (i 0) (i 1) := by
  funext i
  exact (congrArg (refH V0) (eq_ix2 i)).trans ((refH_at V0 h (i 0) (i 1)).trans (e _ _))

theorem algebraic : Cert.algebraic_KernelIdeal_ReferenceIdeal_pre_scales_finite := by
  intro m g m' g' hp ha
  have hr := Ranges.of_scales m hp
  have tok := Ranges.itok (m (((0 : Dev Cert.KernelIdeal.nD).tc : Thread Cert.KernelIdeal.nD Cert.KernelIdeal.τ).loc Cert.KernelIdeal.main_arg8)) hr
  have hE : ∀ (c : Dev Cert.KernelIdeal.nD) (i : Cert.KernelIdeal.S128x14336.Idx),
      1 ≤ ((m ((c.tc : Thread Cert.KernelIdeal.nD Cert.KernelIdeal.τ).loc Cert.KernelIdeal.main_arg2) : Cert.KernelIdeal.S128x14336.Idx → BitVec 8) i).toNat
      ∧ ((m ((c.tc : Thread Cert.KernelIdeal.nD Cert.KernelIdeal.τ).loc Cert.KernelIdeal.main_arg2) : Cert.KernelIdeal.S128x14336.Idx → BitVec 8) i).toNat ≤ 254 := by
    intro c i
    obtain rfl : c = 0 := Subsingleton.elim _ _
    exact Ranges.exp_of_scales m hp i
  refine ⟨fun c => fun i : Cert.KernelIdeal.S128x14336.Idx => yK m c (i 0) (i 1), fun c => fun i : Cert.KernelIdeal.S128x64.Idx => hK m c (i 0) (i 1), ?_, ?_⟩
  · exact (θ_run Cert.KernelIdeal.defs _ _).mono (fun r h c => ⟨(h.2 c).1.trans (arr4 m tok hE c), (h.2 c).2.trans (arr5 m tok c), h.1.1 c⟩)
      (Cert.KernelIdeal.Hand.run_value (F := Ideal) m g tok)
  · refine (θ_run Cert.ReferenceIdeal.defs _ _).mono (fun r h c => ?_) (Cert.ReferenceIdeal.Value.run (F := Ideal) m' g')
    obtain rfl : c = 0 := Subsingleton.elim _ _
    obtain ⟨a0, a1, a2, a3, a4, a5, a6, a7, a8, a9⟩ := ha 0
    obtain ⟨hy, hh, hargs⟩ := h 0
    have hin : InR (launchContents m' 0 (Proc.devRef .tc Cert.ReferenceIdeal.main_arg5)) (launchContents m' 0 (Proc.devRef .tc Cert.ReferenceIdeal.main_arg6)) (launchContents m' 0 (Proc.devRef .tc Cert.ReferenceIdeal.main_arg9)) :=
      ⟨fun i => (congrArg BitVec.toNat (congrFun a9 i)).trans_lt (hr.sad i), fun i => (congrArg BitVec.toNat (congrFun a6 i)).trans_le (hr.rank i),
        fun i => (congrArg₂ (fun x y : BitVec 32 => x.toNat + y.toNat) (congrFun a5 i) (congrFun a6 i)).trans_le (hr.start i)⟩
    refine ⟨hy.trans (y_eq m (launchContents m' 0) 0 hin fun t n => ?_), hh.trans (h_eq m (launchContents m' 0) 0 hin fun t n => ?_), hargs⟩
    · show yOut (m' ((((0 : Dev Cert.ReferenceIdeal.nD)).tc : Thread Cert.ReferenceIdeal.nD Cert.ReferenceIdeal.τ).loc Cert.ReferenceIdeal.main_arg0)) (m' ((((0 : Dev Cert.ReferenceIdeal.nD)).tc : Thread Cert.ReferenceIdeal.nD Cert.ReferenceIdeal.τ).loc Cert.ReferenceIdeal.main_arg1)) (m' ((((0 : Dev Cert.ReferenceIdeal.nD)).tc : Thread Cert.ReferenceIdeal.nD Cert.ReferenceIdeal.τ).loc Cert.ReferenceIdeal.main_arg2)) (m' ((((0 : Dev Cert.ReferenceIdeal.nD)).tc : Thread Cert.ReferenceIdeal.nD Cert.ReferenceIdeal.τ).loc Cert.ReferenceIdeal.main_arg3)) (m' ((((0 : Dev Cert.ReferenceIdeal.nD)).tc : Thread Cert.ReferenceIdeal.nD Cert.ReferenceIdeal.τ).loc Cert.ReferenceIdeal.main_arg4)) (m' ((((0 : Dev Cert.ReferenceIdeal.nD)).tc : Thread Cert.ReferenceIdeal.nD Cert.ReferenceIdeal.τ).loc Cert.ReferenceIdeal.main_arg5)) (m' ((((0 : Dev Cert.ReferenceIdeal.nD)).tc : Thread Cert.ReferenceIdeal.nD Cert.ReferenceIdeal.τ).loc Cert.ReferenceIdeal.main_arg6)) (m' ((((0 : Dev Cert.ReferenceIdeal.nD)).tc : Thread Cert.ReferenceIdeal.nD Cert.ReferenceIdeal.τ).loc Cert.ReferenceIdeal.main_arg7)) (m' ((((0 : Dev Cert.ReferenceIdeal.nD)).tc : Thread Cert.ReferenceIdeal.nD Cert.ReferenceIdeal.τ).loc Cert.ReferenceIdeal.main_arg8)) (m' ((((0 : Dev Cert.ReferenceIdeal.nD)).tc : Thread Cert.ReferenceIdeal.nD Cert.ReferenceIdeal.τ).loc Cert.ReferenceIdeal.main_arg9)) t n = _
      rw [a0, a1, a2, a3, a4, a5, a6, a7, a8, a9]
      rfl
    · show hOut (m' ((((0 : Dev Cert.ReferenceIdeal.nD)).tc : Thread Cert.ReferenceIdeal.nD Cert.ReferenceIdeal.τ).loc Cert.ReferenceIdeal.main_arg0)) (m' ((((0 : Dev Cert.ReferenceIdeal.nD)).tc : Thread Cert.ReferenceIdeal.nD Cert.ReferenceIdeal.τ).loc Cert.ReferenceIdeal.main_arg3)) (m' ((((0 : Dev Cert.ReferenceIdeal.nD)).tc : Thread Cert.ReferenceIdeal.nD Cert.ReferenceIdeal.τ).loc Cert.ReferenceIdeal.main_arg5)) (m' ((((0 : Dev Cert.ReferenceIdeal.nD)).tc : Thread Cert.ReferenceIdeal.nD Cert.ReferenceIdeal.τ).loc Cert.ReferenceIdeal.main_arg6)) (m' ((((0 : Dev Cert.ReferenceIdeal.nD)).tc : Thread Cert.ReferenceIdeal.nD Cert.ReferenceIdeal.τ).loc Cert.ReferenceIdeal.main_arg7)) (m' ((((0 : Dev Cert.ReferenceIdeal.nD)).tc : Thread Cert.ReferenceIdeal.nD Cert.ReferenceIdeal.τ).loc Cert.ReferenceIdeal.main_arg8)) (m' ((((0 : Dev Cert.ReferenceIdeal.nD)).tc : Thread Cert.ReferenceIdeal.nD Cert.ReferenceIdeal.τ).loc Cert.ReferenceIdeal.main_arg9)) t n = _
      rw [a0, a3, a5, a6, a7, a8, a9]
      rfl

end Cert.Algebraic

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_tables_in_range
public import proofs.«01_k».proof.Proof.Gen.Pre_scales_finite
public import proofs.«01_k».proof.Proof.Gen.Kernel.Skeleton
public import proofs.«01_k».proof.Proof.Gen.Kernel.Launch
public import proofs.«01_k».proof.Proof.Gen.KernelIdeal.Skeleton
public import proofs.«01_k».proof.Proof.Gen.KernelIdeal.Launch
public import proofs.«01_k».proof.Proof.Gen.ReferenceIdeal.Run
public import proofs.«01_k».proof.Proof.Frames
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts, Cert.Pre_tables_in_range.Gen.facts,
    Cert.Pre_scales_finite.Gen.facts, Frames.kernel, Frames.kernelIdeal, Frames.kernelIdeal_scales, Frames.referenceIdeal,
    Frames.referenceIdeal_scales, trivial, Algebraic.algebraic⟩

end Cert.Proof

end
